-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v2123)) (v2 : (c : Dev Cert.KernelIdeal.nD) → Buf (Elt Ideal) ((c.tc : Thread Cert.KernelIdeal.nD Cert.KernelIdeal.τ).loc Cert.KernelIdeal.main_v2487)) (v3 : (c : Dev Cert.KernelIdeal.nD) → Buf (Elt Ideal) ((c.tc : Thread Cert.KernelIdeal.nD Cert.KernelIdeal.τ).loc Cert.KernelIdeal.main_v2539)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v2123) = v1 c
          ∧ r.2.mem ((c.tc : Thread Cert.KernelIdeal.nD Cert.KernelIdeal.τ).loc Cert.KernelIdeal.main_v2487) = v2 c
          ∧ r.2.mem ((c.tc : Thread Cert.KernelIdeal.nD Cert.KernelIdeal.τ).loc Cert.KernelIdeal.main_v2539) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v2123) = v1 c
          ∧ r.2.mem ((c.tc : Thread Cert.ReferenceIdeal.nD Cert.ReferenceIdeal.τ).loc Cert.ReferenceIdeal.main_v2487) = v2 c
          ∧ r.2.mem ((c.tc : Thread Cert.ReferenceIdeal.nD Cert.ReferenceIdeal.τ).loc Cert.ReferenceIdeal.main_v2539) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x3x8x256x320 : Shape := ⟨5, ![1, 3, 8, 256, 320]⟩
abbrev S1x1x8x256x320 : Shape := ⟨5, ![1, 1, 8, 256, 320]⟩
abbrev S27 : Shape := ⟨1, ![27]⟩
abbrev S3x8x256x320 : Shape := ⟨4, ![3, 8, 256, 320]⟩
abbrev S8x3x256x320 : Shape := ⟨4, ![8, 3, 256, 320]⟩
abbrev S8x6x256x320 : Shape := ⟨4, ![8, 6, 256, 320]⟩
abbrev S1x3x256x320 : Shape := ⟨4, ![1, 3, 256, 320]⟩
abbrev S1x6x256x320 : Shape := ⟨4, ![1, 6, 256, 320]⟩
abbrev S256x320 : Shape := ⟨2, ![256, 320]⟩
abbrev S1x1x256x320 : Shape := ⟨4, ![1, 1, 256, 320]⟩
abbrev S6x8x256x320 : Shape := ⟨4, ![6, 8, 256, 320]⟩
abbrev S1x6x8x256x320 : Shape := ⟨5, ![1, 6, 8, 256, 320]⟩
abbrev S1x6x655360 : Shape := ⟨3, ![1, 6, 655360]⟩
abbrev S1x655360x6 : Shape := ⟨3, ![1, 655360, 6]⟩
abbrev S655360x6 : Shape := ⟨2, ![655360, 6]⟩
abbrev S1x655360 : Shape := ⟨2, ![1, 655360]⟩
abbrev S1 : Shape := ⟨1, ![1]⟩
abbrev S1x1 : Shape := ⟨2, ![1, 1]⟩
abbrev S_ : Shape := ⟨0, ![]⟩
abbrev S655360 : Shape := ⟨1, ![655360]⟩
abbrev S520x6 : Shape := ⟨2, ![520, 6]⟩
abbrev S655360x1 : Shape := ⟨2, ![655360, 1]⟩
abbrev S520 : Shape := ⟨1, ![520]⟩
abbrev S520x1 : Shape := ⟨2, ![520, 1]⟩
abbrev S1x520x6 : Shape := ⟨3, ![1, 520, 6]⟩
abbrev S1x6x520 : Shape := ⟨3, ![1, 6, 520]⟩
abbrev S1x520 : Shape := ⟨2, ![1, 520]⟩
abbrev S1x1x655360 : Shape := ⟨3, ![1, 1, 655360]⟩
abbrev S1x27x1 : Shape := ⟨3, ![1, 27, 1]⟩
abbrev S1x27x655360 : Shape := ⟨3, ![1, 27, 655360]⟩
abbrev S1x655360x1 : Shape := ⟨3, ![1, 655360, 1]⟩
abbrev S1x16x655360 : Shape := ⟨3, ![1, 16, 655360]⟩
abbrev S1x11x655360 : Shape := ⟨3, ![1, 11, 655360]⟩
abbrev S1x27x8x256x320 : Shape := ⟨5, ![1, 27, 8, 256, 320]⟩
abbrev S1x8x256x320 : Shape := ⟨4, ![1, 8, 256, 320]⟩
abbrev S1x1x1 : Shape := ⟨3, ![1, 1, 1]⟩

abbrev nBuf : Space → Nat
  | .hbm => 5602
  | .vmem => 4
  | .smem => 0
  | _ => 0

abbrev hbmTy0_0 (i : Nat) : BufTy := match i % 128 with
  | 0 => ⟨S1x3x8x256x320, .f32⟩
  | 1 => ⟨S1x1x8x256x320, .i32⟩
  | 2 => ⟨S27, .i32⟩
  | 3 => ⟨S27, .i32⟩
  | 4 => ⟨S27, .i32⟩
  | 5 => ⟨S3x8x256x320, .f32⟩
  | 6 => ⟨S8x3x256x320, .f32⟩
  | 7 => ⟨S8x6x256x320, .f32⟩
  | 8 => ⟨S6x8x256x320, .f32⟩
  | 9 => ⟨S1x6x8x256x320, .f32⟩
  | 10 => ⟨S1x6x655360, .f32⟩
  | 11 => ⟨S1x655360x6, .f32⟩
  | 12 => ⟨S655360x6, .f32⟩
  | 13 => ⟨S1x655360, .i32⟩
  | 14 => ⟨S1, .i32⟩
  | 15 => ⟨S1x1, .i32⟩
  | 16 => ⟨S_, .i32⟩
  | 17 => ⟨S1x1, .i32⟩
  | 18 => ⟨S1x1, .i32⟩
  | 19 => ⟨S1x655360, .i32⟩
  | 20 => ⟨S1x655360, .i32⟩
  | 21 => ⟨S655360, .i32⟩
  | 22 => ⟨S_, .f32⟩
  | 23 => ⟨S520x6, .f32⟩
  | 24 => ⟨S655360x1, .i32⟩
  | 25 => ⟨S520x6, .f32⟩
  | 26 => ⟨S_, .f32⟩
  | 27 => ⟨S655360, .f32⟩
  | 28 => ⟨S_, .f32⟩
  | 29 => ⟨S520, .f32⟩
  | 30 => ⟨S655360x1, .i32⟩
  | 31 => ⟨S520, .f32⟩
  | 32 => ⟨S_, .f32⟩
  | 33 => ⟨S520, .f32⟩
  | 34 => ⟨S520, .f32⟩
  | 35 => ⟨S520x1, .f32⟩
  | 36 => ⟨S520x6, .f32⟩
  | 37 => ⟨S520x6, .f32⟩
  | 38 => ⟨S1x520x6, .f32⟩
  | 39 => ⟨S1x6x520, .f32⟩
  | 40 => ⟨S1x520, .f32⟩
  | 41 => ⟨S1x6x655360, .f32⟩
  | 42 => ⟨S1x655360x6, .f32⟩
  | 43 => ⟨S1x520x6, .f32⟩
  | 44 => ⟨S1x655360, .i32⟩
  | 45 => ⟨S_, .i32⟩
  | 46 => ⟨S_, .i32⟩
  | 47 => ⟨S1x655360, .i32⟩
  | 48 => ⟨S1x655360, .i32⟩
  | 49 => ⟨S1x655360, .i32⟩
  | 50 => ⟨S_, .i32⟩
  | 51 => ⟨S1x655360, .i32⟩
  | 52 => ⟨S1x655360, .i1⟩
  | 53 => ⟨S1x655360, .i32⟩
  | 54 => ⟨S1x655360, .i32⟩
  | 55 => ⟨S_, .i32⟩
  | 56 => ⟨S1x655360, .i32⟩
  | 57 => ⟨S1x655360, .i1⟩
  | 58 => ⟨S1x655360, .i1⟩
  | 59 => ⟨S_, .i32⟩
  | 60 => ⟨S1x655360, .i32⟩
  | 61 => ⟨S1x655360, .i32⟩
  | 62 => ⟨S1x655360, .i32⟩
  | 63 => ⟨S_, .i32⟩
  | 64 => ⟨S_, .i32⟩
  | 65 => ⟨S1x655360, .i32⟩
  | 66 => ⟨S1x655360, .i32⟩
  | 67 => ⟨S1x655360, .i32⟩
  | 68 => ⟨S_, .i32⟩
  | 69 => ⟨S1x655360, .i32⟩
  | 70 => ⟨S1x655360, .i1⟩
  | 71 => ⟨S1x655360, .i32⟩
  | 72 => ⟨S1x655360, .i32⟩
  | 73 => ⟨S_, .i32⟩
  | 74 => ⟨S1x655360, .i32⟩
  | 75 => ⟨S1x655360, .i1⟩
  | 76 => ⟨S1x655360, .i1⟩
  | 77 => ⟨S_, .i32⟩
  | 78 => ⟨S1x655360, .i32⟩
  | 79 => ⟨S1x655360, .i32⟩
  | 80 => ⟨S1x655360, .i32⟩
  | 81 => ⟨S_, .i32⟩
  | 82 => ⟨S_, .i32⟩
  | 83 => ⟨S_, .i32⟩
  | 84 => ⟨S_, .i1⟩
  | 85 => ⟨S_, .i32⟩
  | 86 => ⟨S_, .i32⟩
  | 87 => ⟨S1x655360, .i32⟩
  | 88 => ⟨S1x655360, .i32⟩
  | 89 => ⟨S_, .i32⟩
  | 90 => ⟨S1x655360, .i32⟩
  | 91 => ⟨S1x655360, .i1⟩
  | 92 => ⟨S_, .i32⟩
  | 93 => ⟨S1x655360, .i32⟩
  | 94 => ⟨S1x655360, .i1⟩
  | 95 => ⟨S_, .i32⟩
  | 96 => ⟨S_, .i1⟩
  | 97 => ⟨S1x655360, .i1⟩
  | 98 => ⟨S1x655360, .i1⟩
  | 99 => ⟨S1x655360, .i1⟩
  | 100 => ⟨S1x655360, .i32⟩
  | 101 => ⟨S1x655360, .i32⟩
  | 102 => ⟨S1x655360, .i32⟩
  | 103 => ⟨S_, .i32⟩
  | 104 => ⟨S_, .i32⟩
  | 105 => ⟨S_, .i32⟩
  | 106 => ⟨S_, .i1⟩
  | 107 => ⟨S_, .i32⟩
  | 108 => ⟨S_, .i32⟩
  | 109 => ⟨S1x655360, .i32⟩
  | 110 => ⟨S1x655360, .i32⟩
  | 111 => ⟨S_, .i32⟩
  | 112 => ⟨S1x655360, .i32⟩
  | 113 => ⟨S1x655360, .i1⟩
  | 114 => ⟨S_, .i32⟩
  | 115 => ⟨S1x655360, .i32⟩
  | 116 => ⟨S1x655360, .i1⟩
  | 117 => ⟨S_, .i32⟩
  | 118 => ⟨S_, .i1⟩
  | 119 => ⟨S1x655360, .i1⟩
  | 120 => ⟨S1x655360, .i1⟩
  | 121 => ⟨S1x655360, .i1⟩
  | 122 => ⟨S1x655360, .i32⟩
  | 123 => ⟨S1x655360, .i32⟩
  | 124 => ⟨S1x655360, .i32⟩
  | 125 => ⟨S1x1x655360, .i32⟩
  | 126 => ⟨S1x27x1, .i32⟩
  | 127 => ⟨S1x27x655360, .i32⟩
  | _ => ⟨S1x3x8x256x320, .f32⟩

abbrev hbmTy0_1 (i : Nat) : BufTy := match i % 128 with
  | 0 => ⟨S1x27x655360, .i32⟩
  | 1 => ⟨S1x27x655360, .i32⟩
  | 2 => ⟨S1x1x655360, .i32⟩
  | 3 => ⟨S1x27x1, .i32⟩
  | 4 => ⟨S1x27x655360, .i32⟩
  | 5 => ⟨S1x27x655360, .i32⟩
  | 6 => ⟨S1x27x655360, .i32⟩
  | 7 => ⟨S1x1x655360, .i32⟩
  | 8 => ⟨S1x27x1, .i32⟩
  | 9 => ⟨S1x27x655360, .i32⟩
  | 10 => ⟨S1x27x655360, .i32⟩
  | 11 => ⟨S1x27x655360, .i32⟩
  | 12 => ⟨S_, .i32⟩
  | 13 => ⟨S1x27x655360, .i32⟩
  | 14 => ⟨S1x27x655360, .i1⟩
  | 15 => ⟨S_, .i32⟩
  | 16 => ⟨S1x27x655360, .i32⟩
  | 17 => ⟨S1x27x655360, .i1⟩
  | 18 => ⟨S1x27x655360, .i1⟩
  | 19 => ⟨S_, .i32⟩
  | 20 => ⟨S1x27x655360, .i32⟩
  | 21 => ⟨S1x27x655360, .i1⟩
  | 22 => ⟨S1x27x655360, .i1⟩
  | 23 => ⟨S_, .i32⟩
  | 24 => ⟨S1x27x655360, .i32⟩
  | 25 => ⟨S1x27x655360, .i1⟩
  | 26 => ⟨S1x27x655360, .i1⟩
  | 27 => ⟨S_, .i32⟩
  | 28 => ⟨S1x27x655360, .i32⟩
  | 29 => ⟨S1x27x655360, .i1⟩
  | 30 => ⟨S1x27x655360, .i1⟩
  | 31 => ⟨S_, .i32⟩
  | 32 => ⟨S1x27x655360, .i32⟩
  | 33 => ⟨S1x27x655360, .i1⟩
  | 34 => ⟨S1x27x655360, .i1⟩
  | 35 => ⟨S_, .i32⟩
  | 36 => ⟨S_, .i32⟩
  | 37 => ⟨S_, .i32⟩
  | 38 => ⟨S1x27x655360, .i32⟩
  | 39 => ⟨S1x27x655360, .i32⟩
  | 40 => ⟨S_, .i32⟩
  | 41 => ⟨S1x27x655360, .i32⟩
  | 42 => ⟨S1x27x655360, .i32⟩
  | 43 => ⟨S_, .i32⟩
  | 44 => ⟨S1x27x655360, .i32⟩
  | 45 => ⟨S1x27x655360, .i32⟩
  | 46 => ⟨S_, .i32⟩
  | 47 => ⟨S_, .i32⟩
  | 48 => ⟨S_, .i32⟩
  | 49 => ⟨S1x27x655360, .i32⟩
  | 50 => ⟨S1x27x655360, .i32⟩
  | 51 => ⟨S_, .i32⟩
  | 52 => ⟨S1x27x655360, .i32⟩
  | 53 => ⟨S1x27x655360, .i32⟩
  | 54 => ⟨S1x27x655360, .i32⟩
  | 55 => ⟨S_, .i32⟩
  | 56 => ⟨S1x27x655360, .i32⟩
  | 57 => ⟨S1x27x655360, .i32⟩
  | 58 => ⟨S_, .i32⟩
  | 59 => ⟨S_, .i32⟩
  | 60 => ⟨S_, .i32⟩
  | 61 => ⟨S1x27x655360, .i32⟩
  | 62 => ⟨S1x27x655360, .i32⟩
  | 63 => ⟨S_, .i32⟩
  | 64 => ⟨S1x27x655360, .i32⟩
  | 65 => ⟨S1x27x655360, .i32⟩
  | 66 => ⟨S1x27x655360, .i32⟩
  | 67 => ⟨S1x1x655360, .i32⟩
  | 68 => ⟨S1x655360, .i32⟩
  | 69 => ⟨S1x655360x1, .i32⟩
  | 70 => ⟨S_, .i32⟩
  | 71 => ⟨S1x655360x1, .i32⟩
  | 72 => ⟨S1x655360x1, .i1⟩
  | 73 => ⟨S_, .i32⟩
  | 74 => ⟨S1x655360x1, .i32⟩
  | 75 => ⟨S1x655360x1, .i32⟩
  | 76 => ⟨S1x655360x1, .i32⟩
  | 77 => ⟨S655360x1, .i32⟩
  | 78 => ⟨S1, .i32⟩
  | 79 => ⟨S_, .i32⟩
  | 80 => ⟨S655360x1, .i32⟩
  | 81 => ⟨S655360x1, .i1⟩
  | 82 => ⟨S1x1, .i32⟩
  | 83 => ⟨S655360x1, .i32⟩
  | 84 => ⟨S655360x1, .i1⟩
  | 85 => ⟨S655360x1, .i1⟩
  | 86 => ⟨S_, .i1⟩
  | 87 => ⟨S655360, .i1⟩
  | 88 => ⟨S1x655360x6, .f32⟩
  | 89 => ⟨S1x655360x6, .i1⟩
  | 90 => ⟨S_, .f32⟩
  | 91 => ⟨S1x655360x6, .f32⟩
  | 92 => ⟨S1x655360x6, .f32⟩
  | 93 => ⟨S1x655360x6, .f32⟩
  | 94 => ⟨S1x655360x6, .f32⟩
  | 95 => ⟨S_, .f32⟩
  | 96 => ⟨S1x655360, .f32⟩
  | 97 => ⟨S1x1x655360, .i1⟩
  | 98 => ⟨S1x655360, .i1⟩
  | 99 => ⟨S_, .f32⟩
  | 100 => ⟨S_, .f32⟩
  | 101 => ⟨S1x655360, .f32⟩
  | 102 => ⟨S1x655360, .f32⟩
  | 103 => ⟨S1x1x655360, .i32⟩
  | 104 => ⟨S1x655360, .i32⟩
  | 105 => ⟨S1x655360x1, .i32⟩
  | 106 => ⟨S_, .i32⟩
  | 107 => ⟨S1x655360x1, .i32⟩
  | 108 => ⟨S1x655360x1, .i1⟩
  | 109 => ⟨S_, .i32⟩
  | 110 => ⟨S1x655360x1, .i32⟩
  | 111 => ⟨S1x655360x1, .i32⟩
  | 112 => ⟨S1x655360x1, .i32⟩
  | 113 => ⟨S655360x1, .i32⟩
  | 114 => ⟨S1, .i32⟩
  | 115 => ⟨S_, .i32⟩
  | 116 => ⟨S655360x1, .i32⟩
  | 117 => ⟨S655360x1, .i1⟩
  | 118 => ⟨S1x1, .i32⟩
  | 119 => ⟨S655360x1, .i32⟩
  | 120 => ⟨S655360x1, .i1⟩
  | 121 => ⟨S655360x1, .i1⟩
  | 122 => ⟨S_, .i1⟩
  | 123 => ⟨S655360, .i1⟩
  | 124 => ⟨S1x655360x6, .f32⟩
  | 125 => ⟨S1x655360x6, .i1⟩
  | 126 => ⟨S_, .f32⟩
  | 127 => ⟨S1x655360x6, .f32⟩
  | _ => ⟨S1x3x8x256x320, .f32⟩

abbrev hbmTy0_2 (i : Nat) : BufTy := match i % 128 with
  | 0 => ⟨S1x655360x6, .f32⟩
  | 1 => ⟨S1x655360x6, .f32⟩
  | 2 => ⟨S1x655360x6, .f32⟩
  | 3 => ⟨S_, .f32⟩
  | 4 => ⟨S1x655360, .f32⟩
  | 5 => ⟨S1x1x655360, .i1⟩
  | 6 => ⟨S1x655360, .i1⟩
  | 7 => ⟨S_, .f32⟩
  | 8 => ⟨S_, .f32⟩
  | 9 => ⟨S1x655360, .f32⟩
  | 10 => ⟨S1x655360, .f32⟩
  | 11 => ⟨S1x1x655360, .i32⟩
  | 12 => ⟨S1x655360, .i32⟩
  | 13 => ⟨S1x655360x1, .i32⟩
  | 14 => ⟨S_, .i32⟩
  | 15 => ⟨S1x655360x1, .i32⟩
  | 16 => ⟨S1x655360x1, .i1⟩
  | 17 => ⟨S_, .i32⟩
  | 18 => ⟨S1x655360x1, .i32⟩
  | 19 => ⟨S1x655360x1, .i32⟩
  | 20 => ⟨S1x655360x1, .i32⟩
  | 21 => ⟨S655360x1, .i32⟩
  | 22 => ⟨S1, .i32⟩
  | 23 => ⟨S_, .i32⟩
  | 24 => ⟨S655360x1, .i32⟩
  | 25 => ⟨S655360x1, .i1⟩
  | 26 => ⟨S1x1, .i32⟩
  | 27 => ⟨S655360x1, .i32⟩
  | 28 => ⟨S655360x1, .i1⟩
  | 29 => ⟨S655360x1, .i1⟩
  | 30 => ⟨S_, .i1⟩
  | 31 => ⟨S655360, .i1⟩
  | 32 => ⟨S1x655360x6, .f32⟩
  | 33 => ⟨S1x655360x6, .i1⟩
  | 34 => ⟨S_, .f32⟩
  | 35 => ⟨S1x655360x6, .f32⟩
  | 36 => ⟨S1x655360x6, .f32⟩
  | 37 => ⟨S1x655360x6, .f32⟩
  | 38 => ⟨S1x655360x6, .f32⟩
  | 39 => ⟨S_, .f32⟩
  | 40 => ⟨S1x655360, .f32⟩
  | 41 => ⟨S1x1x655360, .i1⟩
  | 42 => ⟨S1x655360, .i1⟩
  | 43 => ⟨S_, .f32⟩
  | 44 => ⟨S_, .f32⟩
  | 45 => ⟨S1x655360, .f32⟩
  | 46 => ⟨S1x655360, .f32⟩
  | 47 => ⟨S1x1x655360, .i32⟩
  | 48 => ⟨S1x655360, .i32⟩
  | 49 => ⟨S1x655360x1, .i32⟩
  | 50 => ⟨S_, .i32⟩
  | 51 => ⟨S1x655360x1, .i32⟩
  | 52 => ⟨S1x655360x1, .i1⟩
  | 53 => ⟨S_, .i32⟩
  | 54 => ⟨S1x655360x1, .i32⟩
  | 55 => ⟨S1x655360x1, .i32⟩
  | 56 => ⟨S1x655360x1, .i32⟩
  | 57 => ⟨S655360x1, .i32⟩
  | 58 => ⟨S1, .i32⟩
  | 59 => ⟨S_, .i32⟩
  | 60 => ⟨S655360x1, .i32⟩
  | 61 => ⟨S655360x1, .i1⟩
  | 62 => ⟨S1x1, .i32⟩
  | 63 => ⟨S655360x1, .i32⟩
  | 64 => ⟨S655360x1, .i1⟩
  | 65 => ⟨S655360x1, .i1⟩
  | 66 => ⟨S_, .i1⟩
  | 67 => ⟨S655360, .i1⟩
  | 68 => ⟨S1x655360x6, .f32⟩
  | 69 => ⟨S1x655360x6, .i1⟩
  | 70 => ⟨S_, .f32⟩
  | 71 => ⟨S1x655360x6, .f32⟩
  | 72 => ⟨S1x655360x6, .f32⟩
  | 73 => ⟨S1x655360x6, .f32⟩
  | 74 => ⟨S1x655360x6, .f32⟩
  | 75 => ⟨S_, .f32⟩
  | 76 => ⟨S1x655360, .f32⟩
  | 77 => ⟨S1x1x655360, .i1⟩
  | 78 => ⟨S1x655360, .i1⟩
  | 79 => ⟨S_, .f32⟩
  | 80 => ⟨S_, .f32⟩
  | 81 => ⟨S1x655360, .f32⟩
  | 82 => ⟨S1x655360, .f32⟩
  | 83 => ⟨S1x1x655360, .i32⟩
  | 84 => ⟨S1x655360, .i32⟩
  | 85 => ⟨S1x655360x1, .i32⟩
  | 86 => ⟨S_, .i32⟩
  | 87 => ⟨S1x655360x1, .i32⟩
  | 88 => ⟨S1x655360x1, .i1⟩
  | 89 => ⟨S_, .i32⟩
  | 90 => ⟨S1x655360x1, .i32⟩
  | 91 => ⟨S1x655360x1, .i32⟩
  | 92 => ⟨S1x655360x1, .i32⟩
  | 93 => ⟨S655360x1, .i32⟩
  | 94 => ⟨S1, .i32⟩
  | 95 => ⟨S_, .i32⟩
  | 96 => ⟨S655360x1, .i32⟩
  | 97 => ⟨S655360x1, .i1⟩
  | 98 => ⟨S1x1, .i32⟩
  | 99 => ⟨S655360x1, .i32⟩
  | 100 => ⟨S655360x1, .i1⟩
  | 101 => ⟨S655360x1, .i1⟩
  | 102 => ⟨S_, .i1⟩
  | 103 => ⟨S655360, .i1⟩
  | 104 => ⟨S1x655360x6, .f32⟩
  | 105 => ⟨S1x655360x6, .i1⟩
  | 106 => ⟨S_, .f32⟩
  | 107 => ⟨S1x655360x6, .f32⟩
  | 108 => ⟨S1x655360x6, .f32⟩
  | 109 => ⟨S1x655360x6, .f32⟩
  | 110 => ⟨S1x655360x6, .f32⟩
  | 111 => ⟨S_, .f32⟩
  | 112 => ⟨S1x655360, .f32⟩
  | 113 => ⟨S1x1x655360, .i1⟩
  | 114 => ⟨S1x655360, .i1⟩
  | 115 => ⟨S_, .f32⟩
  | 116 => ⟨S_, .f32⟩
  | 117 => ⟨S1x655360, .f32⟩
  | 118 => ⟨S1x655360, .f32⟩
  | 119 => ⟨S1x1x655360, .i32⟩
  | 120 => ⟨S1x655360, .i32⟩
  | 121 => ⟨S1x655360x1, .i32⟩
  | 122 => ⟨S_, .i32⟩
  | 123 => ⟨S1x655360x1, .i32⟩
  | 124 => ⟨S1x655360x1, .i1⟩
  | 125 => ⟨S_, .i32⟩
  | 126 => ⟨S1x655360x1, .i32⟩
  | 127 => ⟨S1x655360x1, .i32⟩
  | _ => ⟨S1x3x8x256x320, .f32⟩

abbrev hbmTy0_3 (i : Nat) : BufTy := match i % 128 with
  | 0 => ⟨S1x655360x1, .i32⟩
  | 1 => ⟨S655360x1, .i32⟩
  | 2 => ⟨S1, .i32⟩
  | 3 => ⟨S_, .i32⟩
  | 4 => ⟨S655360x1, .i32⟩
  | 5 => ⟨S655360x1, .i1⟩
  | 6 => ⟨S1x1, .i32⟩
  | 7 => ⟨S655360x1, .i32⟩
  | 8 => ⟨S655360x1, .i1⟩
  | 9 => ⟨S655360x1, .i1⟩
  | 10 => ⟨S_, .i1⟩
  | 11 => ⟨S655360, .i1⟩
  | 12 => ⟨S1x655360x6, .f32⟩
  | 13 => ⟨S1x655360x6, .i1⟩
  | 14 => ⟨S_, .f32⟩
  | 15 => ⟨S1x655360x6, .f32⟩
  | 16 => ⟨S1x655360x6, .f32⟩
  | 17 => ⟨S1x655360x6, .f32⟩
  | 18 => ⟨S1x655360x6, .f32⟩
  | 19 => ⟨S_, .f32⟩
  | 20 => ⟨S1x655360, .f32⟩
  | 21 => ⟨S1x1x655360, .i1⟩
  | 22 => ⟨S1x655360, .i1⟩
  | 23 => ⟨S_, .f32⟩
  | 24 => ⟨S_, .f32⟩
  | 25 => ⟨S1x655360, .f32⟩
  | 26 => ⟨S1x655360, .f32⟩
  | 27 => ⟨S1x1x655360, .i32⟩
  | 28 => ⟨S1x655360, .i32⟩
  | 29 => ⟨S1x655360x1, .i32⟩
  | 30 => ⟨S_, .i32⟩
  | 31 => ⟨S1x655360x1, .i32⟩
  | 32 => ⟨S1x655360x1, .i1⟩
  | 33 => ⟨S_, .i32⟩
  | 34 => ⟨S1x655360x1, .i32⟩
  | 35 => ⟨S1x655360x1, .i32⟩
  | 36 => ⟨S1x655360x1, .i32⟩
  | 37 => ⟨S655360x1, .i32⟩
  | 38 => ⟨S1, .i32⟩
  | 39 => ⟨S_, .i32⟩
  | 40 => ⟨S655360x1, .i32⟩
  | 41 => ⟨S655360x1, .i1⟩
  | 42 => ⟨S1x1, .i32⟩
  | 43 => ⟨S655360x1, .i32⟩
  | 44 => ⟨S655360x1, .i1⟩
  | 45 => ⟨S655360x1, .i1⟩
  | 46 => ⟨S_, .i1⟩
  | 47 => ⟨S655360, .i1⟩
  | 48 => ⟨S1x655360x6, .f32⟩
  | 49 => ⟨S1x655360x6, .i1⟩
  | 50 => ⟨S_, .f32⟩
  | 51 => ⟨S1x655360x6, .f32⟩
  | 52 => ⟨S1x655360x6, .f32⟩
  | 53 => ⟨S1x655360x6, .f32⟩
  | 54 => ⟨S1x655360x6, .f32⟩
  | 55 => ⟨S_, .f32⟩
  | 56 => ⟨S1x655360, .f32⟩
  | 57 => ⟨S1x1x655360, .i1⟩
  | 58 => ⟨S1x655360, .i1⟩
  | 59 => ⟨S_, .f32⟩
  | 60 => ⟨S_, .f32⟩
  | 61 => ⟨S1x655360, .f32⟩
  | 62 => ⟨S1x655360, .f32⟩
  | 63 => ⟨S1x1x655360, .i32⟩
  | 64 => ⟨S1x655360, .i32⟩
  | 65 => ⟨S1x655360x1, .i32⟩
  | 66 => ⟨S_, .i32⟩
  | 67 => ⟨S1x655360x1, .i32⟩
  | 68 => ⟨S1x655360x1, .i1⟩
  | 69 => ⟨S_, .i32⟩
  | 70 => ⟨S1x655360x1, .i32⟩
  | 71 => ⟨S1x655360x1, .i32⟩
  | 72 => ⟨S1x655360x1, .i32⟩
  | 73 => ⟨S655360x1, .i32⟩
  | 74 => ⟨S1, .i32⟩
  | 75 => ⟨S_, .i32⟩
  | 76 => ⟨S655360x1, .i32⟩
  | 77 => ⟨S655360x1, .i1⟩
  | 78 => ⟨S1x1, .i32⟩
  | 79 => ⟨S655360x1, .i32⟩
  | 80 => ⟨S655360x1, .i1⟩
  | 81 => ⟨S655360x1, .i1⟩
  | 82 => ⟨S_, .i1⟩
  | 83 => ⟨S655360, .i1⟩
  | 84 => ⟨S1x655360x6, .f32⟩
  | 85 => ⟨S1x655360x6, .i1⟩
  | 86 => ⟨S_, .f32⟩
  | 87 => ⟨S1x655360x6, .f32⟩
  | 88 => ⟨S1x655360x6, .f32⟩
  | 89 => ⟨S1x655360x6, .f32⟩
  | 90 => ⟨S1x655360x6, .f32⟩
  | 91 => ⟨S_, .f32⟩
  | 92 => ⟨S1x655360, .f32⟩
  | 93 => ⟨S1x1x655360, .i1⟩
  | 94 => ⟨S1x655360, .i1⟩
  | 95 => ⟨S_, .f32⟩
  | 96 => ⟨S_, .f32⟩
  | 97 => ⟨S1x655360, .f32⟩
  | 98 => ⟨S1x655360, .f32⟩
  | 99 => ⟨S1x1x655360, .i32⟩
  | 100 => ⟨S1x655360, .i32⟩
  | 101 => ⟨S1x655360x1, .i32⟩
  | 102 => ⟨S_, .i32⟩
  | 103 => ⟨S1x655360x1, .i32⟩
  | 104 => ⟨S1x655360x1, .i1⟩
  | 105 => ⟨S_, .i32⟩
  | 106 => ⟨S1x655360x1, .i32⟩
  | 107 => ⟨S1x655360x1, .i32⟩
  | 108 => ⟨S1x655360x1, .i32⟩
  | 109 => ⟨S655360x1, .i32⟩
  | 110 => ⟨S1, .i32⟩
  | 111 => ⟨S_, .i32⟩
  | 112 => ⟨S655360x1, .i32⟩
  | 113 => ⟨S655360x1, .i1⟩
  | 114 => ⟨S1x1, .i32⟩
  | 115 => ⟨S655360x1, .i32⟩
  | 116 => ⟨S655360x1, .i1⟩
  | 117 => ⟨S655360x1, .i1⟩
  | 118 => ⟨S_, .i1⟩
  | 119 => ⟨S655360, .i1⟩
  | 120 => ⟨S1x655360x6, .f32⟩
  | 121 => ⟨S1x655360x6, .i1⟩
  | 122 => ⟨S_, .f32⟩
  | 123 => ⟨S1x655360x6, .f32⟩
  | 124 => ⟨S1x655360x6, .f32⟩
  | 125 => ⟨S1x655360x6, .f32⟩
  | 126 => ⟨S1x655360x6, .f32⟩
  | 127 => ⟨S_, .f32⟩
  | _ => ⟨S1x3x8x256x320, .f32⟩

abbrev hbmTy0_4 (i : Nat) : BufTy := match i % 128 with
  | 0 => ⟨S1x655360, .f32⟩
  | 1 => ⟨S1x1x655360, .i1⟩
  | 2 => ⟨S1x655360, .i1⟩
  | 3 => ⟨S_, .f32⟩
  | 4 => ⟨S_, .f32⟩
  | 5 => ⟨S1x655360, .f32⟩
  | 6 => ⟨S1x655360, .f32⟩
  | 7 => ⟨S1x1x655360, .i32⟩
  | 8 => ⟨S1x655360, .i32⟩
  | 9 => ⟨S1x655360x1, .i32⟩
  | 10 => ⟨S_, .i32⟩
  | 11 => ⟨S1x655360x1, .i32⟩
  | 12 => ⟨S1x655360x1, .i1⟩
  | 13 => ⟨S_, .i32⟩
  | 14 => ⟨S1x655360x1, .i32⟩
  | 15 => ⟨S1x655360x1, .i32⟩
  | 16 => ⟨S1x655360x1, .i32⟩
  | 17 => ⟨S655360x1, .i32⟩
  | 18 => ⟨S1, .i32⟩
  | 19 => ⟨S_, .i32⟩
  | 20 => ⟨S655360x1, .i32⟩
  | 21 => ⟨S655360x1, .i1⟩
  | 22 => ⟨S1x1, .i32⟩
  | 23 => ⟨S655360x1, .i32⟩
  | 24 => ⟨S655360x1, .i1⟩
  | 25 => ⟨S655360x1, .i1⟩
  | 26 => ⟨S_, .i1⟩
  | 27 => ⟨S655360, .i1⟩
  | 28 => ⟨S1x655360x6, .f32⟩
  | 29 => ⟨S1x655360x6, .i1⟩
  | 30 => ⟨S_, .f32⟩
  | 31 => ⟨S1x655360x6, .f32⟩
  | 32 => ⟨S1x655360x6, .f32⟩
  | 33 => ⟨S1x655360x6, .f32⟩
  | 34 => ⟨S1x655360x6, .f32⟩
  | 35 => ⟨S_, .f32⟩
  | 36 => ⟨S1x655360, .f32⟩
  | 37 => ⟨S1x1x655360, .i1⟩
  | 38 => ⟨S1x655360, .i1⟩
  | 39 => ⟨S_, .f32⟩
  | 40 => ⟨S_, .f32⟩
  | 41 => ⟨S1x655360, .f32⟩
  | 42 => ⟨S1x655360, .f32⟩
  | 43 => ⟨S1x1x655360, .i32⟩
  | 44 => ⟨S1x655360, .i32⟩
  | 45 => ⟨S1x655360x1, .i32⟩
  | 46 => ⟨S_, .i32⟩
  | 47 => ⟨S1x655360x1, .i32⟩
  | 48 => ⟨S1x655360x1, .i1⟩
  | 49 => ⟨S_, .i32⟩
  | 50 => ⟨S1x655360x1, .i32⟩
  | 51 => ⟨S1x655360x1, .i32⟩
  | 52 => ⟨S1x655360x1, .i32⟩
  | 53 => ⟨S655360x1, .i32⟩
  | 54 => ⟨S1, .i32⟩
  | 55 => ⟨S_, .i32⟩
  | 56 => ⟨S655360x1, .i32⟩
  | 57 => ⟨S655360x1, .i1⟩
  | 58 => ⟨S1x1, .i32⟩
  | 59 => ⟨S655360x1, .i32⟩
  | 60 => ⟨S655360x1, .i1⟩
  | 61 => ⟨S655360x1, .i1⟩
  | 62 => ⟨S_, .i1⟩
  | 63 => ⟨S655360, .i1⟩
  | 64 => ⟨S1x655360x6, .f32⟩
  | 65 => ⟨S1x655360x6, .i1⟩
  | 66 => ⟨S_, .f32⟩
  | 67 => ⟨S1x655360x6, .f32⟩
  | 68 => ⟨S1x655360x6, .f32⟩
  | 69 => ⟨S1x655360x6, .f32⟩
  | 70 => ⟨S1x655360x6, .f32⟩
  | 71 => ⟨S_, .f32⟩
  | 72 => ⟨S1x655360, .f32⟩
  | 73 => ⟨S1x1x655360, .i1⟩
  | 74 => ⟨S1x655360, .i1⟩
  | 75 => ⟨S_, .f32⟩
  | 76 => ⟨S_, .f32⟩
  | 77 => ⟨S1x655360, .f32⟩
  | 78 => ⟨S1x655360, .f32⟩
  | 79 => ⟨S1x1x655360, .i32⟩
  | 80 => ⟨S1x655360, .i32⟩
  | 81 => ⟨S1x655360x1, .i32⟩
  | 82 => ⟨S_, .i32⟩
  | 83 => ⟨S1x655360x1, .i32⟩
  | 84 => ⟨S1x655360x1, .i1⟩
  | 85 => ⟨S_, .i32⟩
  | 86 => ⟨S1x655360x1, .i32⟩
  | 87 => ⟨S1x655360x1, .i32⟩
  | 88 => ⟨S1x655360x1, .i32⟩
  | 89 => ⟨S655360x1, .i32⟩
  | 90 => ⟨S1, .i32⟩
  | 91 => ⟨S_, .i32⟩
  | 92 => ⟨S655360x1, .i32⟩
  | 93 => ⟨S655360x1, .i1⟩
  | 94 => ⟨S1x1, .i32⟩
  | 95 => ⟨S655360x1, .i32⟩
  | 96 => ⟨S655360x1, .i1⟩
  | 97 => ⟨S655360x1, .i1⟩
  | 98 => ⟨S_, .i1⟩
  | 99 => ⟨S655360, .i1⟩
  | 100 => ⟨S1x655360x6, .f32⟩
  | 101 => ⟨S1x655360x6, .i1⟩
  | 102 => ⟨S_, .f32⟩
  | 103 => ⟨S1x655360x6, .f32⟩
  | 104 => ⟨S1x655360x6, .f32⟩
  | 105 => ⟨S1x655360x6, .f32⟩
  | 106 => ⟨S1x655360x6, .f32⟩
  | 107 => ⟨S_, .f32⟩
  | 108 => ⟨S1x655360, .f32⟩
  | 109 => ⟨S1x1x655360, .i1⟩
  | 110 => ⟨S1x655360, .i1⟩
  | 111 => ⟨S_, .f32⟩
  | 112 => ⟨S_, .f32⟩
  | 113 => ⟨S1x655360, .f32⟩
  | 114 => ⟨S1x655360, .f32⟩
  | 115 => ⟨S1x1x655360, .i32⟩
  | 116 => ⟨S1x655360, .i32⟩
  | 117 => ⟨S1x655360x1, .i32⟩
  | 118 => ⟨S_, .i32⟩
  | 119 => ⟨S1x655360x1, .i32⟩
  | 120 => ⟨S1x655360x1, .i1⟩
  | 121 => ⟨S_, .i32⟩
  | 122 => ⟨S1x655360x1, .i32⟩
  | 123 => ⟨S1x655360x1, .i32⟩
  | 124 => ⟨S1x655360x1, .i32⟩
  | 125 => ⟨S655360x1, .i32⟩
  | 126 => ⟨S1, .i32⟩
  | 127 => ⟨S_, .i32⟩
  | _ => ⟨S1x3x8x256x320, .f32⟩

abbrev hbmTy0_5 (i : Nat) : BufTy := match i % 128 with
  | 0 => ⟨S655360x1, .i32⟩
  | 1 => ⟨S655360x1, .i1⟩
  | 2 => ⟨S1x1, .i32⟩
  | 3 => ⟨S655360x1, .i32⟩
  | 4 => ⟨S655360x1, .i1⟩
  | 5 => ⟨S655360x1, .i1⟩
  | 6 => ⟨S_, .i1⟩
  | 7 => ⟨S655360, .i1⟩
  | 8 => ⟨S1x655360x6, .f32⟩
  | 9 => ⟨S1x655360x6, .i1⟩
  | 10 => ⟨S_, .f32⟩
  | 11 => ⟨S1x655360x6, .f32⟩
  | 12 => ⟨S1x655360x6, .f32⟩
  | 13 => ⟨S1x655360x6, .f32⟩
  | 14 => ⟨S1x655360x6, .f32⟩
  | 15 => ⟨S_, .f32⟩
  | 16 => ⟨S1x655360, .f32⟩
  | 17 => ⟨S1x1x655360, .i1⟩
  | 18 => ⟨S1x655360, .i1⟩
  | 19 => ⟨S_, .f32⟩
  | 20 => ⟨S_, .f32⟩
  | 21 => ⟨S1x655360, .f32⟩
  | 22 => ⟨S1x655360, .f32⟩
  | 23 => ⟨S1x1x655360, .i32⟩
  | 24 => ⟨S1x655360, .i32⟩
  | 25 => ⟨S1x655360x1, .i32⟩
  | 26 => ⟨S_, .i32⟩
  | 27 => ⟨S1x655360x1, .i32⟩
  | 28 => ⟨S1x655360x1, .i1⟩
  | 29 => ⟨S_, .i32⟩
  | 30 => ⟨S1x655360x1, .i32⟩
  | 31 => ⟨S1x655360x1, .i32⟩
  | 32 => ⟨S1x655360x1, .i32⟩
  | 33 => ⟨S655360x1, .i32⟩
  | 34 => ⟨S1, .i32⟩
  | 35 => ⟨S_, .i32⟩
  | 36 => ⟨S655360x1, .i32⟩
  | 37 => ⟨S655360x1, .i1⟩
  | 38 => ⟨S1x1, .i32⟩
  | 39 => ⟨S655360x1, .i32⟩
  | 40 => ⟨S655360x1, .i1⟩
  | 41 => ⟨S655360x1, .i1⟩
  | 42 => ⟨S_, .i1⟩
  | 43 => ⟨S655360, .i1⟩
  | 44 => ⟨S1x655360x6, .f32⟩
  | 45 => ⟨S1x655360x6, .i1⟩
  | 46 => ⟨S_, .f32⟩
  | 47 => ⟨S1x655360x6, .f32⟩
  | 48 => ⟨S1x655360x6, .f32⟩
  | 49 => ⟨S1x655360x6, .f32⟩
  | 50 => ⟨S1x655360x6, .f32⟩
  | 51 => ⟨S_, .f32⟩
  | 52 => ⟨S1x655360, .f32⟩
  | 53 => ⟨S1x1x655360, .i1⟩
  | 54 => ⟨S1x655360, .i1⟩
  | 55 => ⟨S_, .f32⟩
  | 56 => ⟨S_, .f32⟩
  | 57 => ⟨S1x655360, .f32⟩
  | 58 => ⟨S1x655360, .f32⟩
  | 59 => ⟨S1x1x655360, .i32⟩
  | 60 => ⟨S1x655360, .i32⟩
  | 61 => ⟨S1x655360x1, .i32⟩
  | 62 => ⟨S_, .i32⟩
  | 63 => ⟨S1x655360x1, .i32⟩
  | 64 => ⟨S1x655360x1, .i1⟩
  | 65 => ⟨S_, .i32⟩
  | 66 => ⟨S1x655360x1, .i32⟩
  | 67 => ⟨S1x655360x1, .i32⟩
  | 68 => ⟨S1x655360x1, .i32⟩
  | 69 => ⟨S655360x1, .i32⟩
  | 70 => ⟨S1, .i32⟩
  | 71 => ⟨S_, .i32⟩
  | 72 => ⟨S655360x1, .i32⟩
  | 73 => ⟨S655360x1, .i1⟩
  | 74 => ⟨S1x1, .i32⟩
  | 75 => ⟨S655360x1, .i32⟩
  | 76 => ⟨S655360x1, .i1⟩
  | 77 => ⟨S655360x1, .i1⟩
  | 78 => ⟨S_, .i1⟩
  | 79 => ⟨S655360, .i1⟩
  | 80 => ⟨S1x655360x6, .f32⟩
  | 81 => ⟨S1x655360x6, .i1⟩
  | 82 => ⟨S_, .f32⟩
  | 83 => ⟨S1x655360x6, .f32⟩
  | 84 => ⟨S1x655360x6, .f32⟩
  | 85 => ⟨S1x655360x6, .f32⟩
  | 86 => ⟨S1x655360x6, .f32⟩
  | 87 => ⟨S_, .f32⟩
  | 88 => ⟨S1x655360, .f32⟩
  | 89 => ⟨S1x1x655360, .i1⟩
  | 90 => ⟨S1x655360, .i1⟩
  | 91 => ⟨S_, .f32⟩
  | 92 => ⟨S_, .f32⟩
  | 93 => ⟨S1x655360, .f32⟩
  | 94 => ⟨S1x655360, .f32⟩
  | 95 => ⟨S1x1x655360, .i32⟩
  | 96 => ⟨S1x655360, .i32⟩
  | 97 => ⟨S1x655360x1, .i32⟩
  | 98 => ⟨S_, .i32⟩
  | 99 => ⟨S1x655360x1, .i32⟩
  | 100 => ⟨S1x655360x1, .i1⟩
  | 101 => ⟨S_, .i32⟩
  | 102 => ⟨S1x655360x1, .i32⟩
  | 103 => ⟨S1x655360x1, .i32⟩
  | 104 => ⟨S1x655360x1, .i32⟩
  | 105 => ⟨S655360x1, .i32⟩
  | 106 => ⟨S1, .i32⟩
  | 107 => ⟨S_, .i32⟩
  | 108 => ⟨S655360x1, .i32⟩
  | 109 => ⟨S655360x1, .i1⟩
  | 110 => ⟨S1x1, .i32⟩
  | 111 => ⟨S655360x1, .i32⟩
  | 112 => ⟨S655360x1, .i1⟩
  | 113 => ⟨S655360x1, .i1⟩
  | 114 => ⟨S_, .i1⟩
  | 115 => ⟨S655360, .i1⟩
  | 116 => ⟨S1x655360x6, .f32⟩
  | 117 => ⟨S1x655360x6, .i1⟩
  | 118 => ⟨S_, .f32⟩
  | 119 => ⟨S1x655360x6, .f32⟩
  | 120 => ⟨S1x655360x6, .f32⟩
  | 121 => ⟨S1x655360x6, .f32⟩
  | 122 => ⟨S1x655360x6, .f32⟩
  | 123 => ⟨S_, .f32⟩
  | 124 => ⟨S1x655360, .f32⟩
  | 125 => ⟨S1x1x655360, .i1⟩
  | 126 => ⟨S1x655360, .i1⟩
  | 127 => ⟨S_, .f32⟩
  | _ => ⟨S1x3x8x256x320, .f32⟩

abbrev hbmTy0_6 (i : Nat) : BufTy := match i % 128 with
  | 0 => ⟨S_, .f32⟩
  | 1 => ⟨S1x655360, .f32⟩
  | 2 => ⟨S1x655360, .f32⟩
  | 3 => ⟨S1x1x655360, .i32⟩
  | 4 => ⟨S1x655360, .i32⟩
  | 5 => ⟨S1x655360x1, .i32⟩
  | 6 => ⟨S_, .i32⟩
  | 7 => ⟨S1x655360x1, .i32⟩
  | 8 => ⟨S1x655360x1, .i1⟩
  | 9 => ⟨S_, .i32⟩
  | 10 => ⟨S1x655360x1, .i32⟩
  | 11 => ⟨S1x655360x1, .i32⟩
  | 12 => ⟨S1x655360x1, .i32⟩
  | 13 => ⟨S655360x1, .i32⟩
  | 14 => ⟨S1, .i32⟩
  | 15 => ⟨S_, .i32⟩
  | 16 => ⟨S655360x1, .i32⟩
  | 17 => ⟨S655360x1, .i1⟩
  | 18 => ⟨S1x1, .i32⟩
  | 19 => ⟨S655360x1, .i32⟩
  | 20 => ⟨S655360x1, .i1⟩
  | 21 => ⟨S655360x1, .i1⟩
  | 22 => ⟨S_, .i1⟩
  | 23 => ⟨S655360, .i1⟩
  | 24 => ⟨S1x655360x6, .f32⟩
  | 25 => ⟨S1x655360x6, .i1⟩
  | 26 => ⟨S_, .f32⟩
  | 27 => ⟨S1x655360x6, .f32⟩
  | 28 => ⟨S1x655360x6, .f32⟩
  | 29 => ⟨S1x655360x6, .f32⟩
  | 30 => ⟨S1x655360x6, .f32⟩
  | 31 => ⟨S_, .f32⟩
  | 32 => ⟨S1x655360, .f32⟩
  | 33 => ⟨S1x1x655360, .i1⟩
  | 34 => ⟨S1x655360, .i1⟩
  | 35 => ⟨S_, .f32⟩
  | 36 => ⟨S_, .f32⟩
  | 37 => ⟨S1x655360, .f32⟩
  | 38 => ⟨S1x655360, .f32⟩
  | 39 => ⟨S1x1x655360, .i32⟩
  | 40 => ⟨S1x655360, .i32⟩
  | 41 => ⟨S1x655360x1, .i32⟩
  | 42 => ⟨S_, .i32⟩
  | 43 => ⟨S1x655360x1, .i32⟩
  | 44 => ⟨S1x655360x1, .i1⟩
  | 45 => ⟨S_, .i32⟩
  | 46 => ⟨S1x655360x1, .i32⟩
  | 47 => ⟨S1x655360x1, .i32⟩
  | 48 => ⟨S1x655360x1, .i32⟩
  | 49 => ⟨S655360x1, .i32⟩
  | 50 => ⟨S1, .i32⟩
  | 51 => ⟨S_, .i32⟩
  | 52 => ⟨S655360x1, .i32⟩
  | 53 => ⟨S655360x1, .i1⟩
  | 54 => ⟨S1x1, .i32⟩
  | 55 => ⟨S655360x1, .i32⟩
  | 56 => ⟨S655360x1, .i1⟩
  | 57 => ⟨S655360x1, .i1⟩
  | 58 => ⟨S_, .i1⟩
  | 59 => ⟨S655360, .i1⟩
  | 60 => ⟨S1x655360x6, .f32⟩
  | 61 => ⟨S1x655360x6, .i1⟩
  | 62 => ⟨S_, .f32⟩
  | 63 => ⟨S1x655360x6, .f32⟩
  | 64 => ⟨S1x655360x6, .f32⟩
  | 65 => ⟨S1x655360x6, .f32⟩
  | 66 => ⟨S1x655360x6, .f32⟩
  | 67 => ⟨S_, .f32⟩
  | 68 => ⟨S1x655360, .f32⟩
  | 69 => ⟨S1x1x655360, .i1⟩
  | 70 => ⟨S1x655360, .i1⟩
  | 71 => ⟨S_, .f32⟩
  | 72 => ⟨S_, .f32⟩
  | 73 => ⟨S1x655360, .f32⟩
  | 74 => ⟨S1x655360, .f32⟩
  | 75 => ⟨S1x1x655360, .i32⟩
  | 76 => ⟨S1x655360, .i32⟩
  | 77 => ⟨S1x655360x1, .i32⟩
  | 78 => ⟨S_, .i32⟩
  | 79 => ⟨S1x655360x1, .i32⟩
  | 80 => ⟨S1x655360x1, .i1⟩
  | 81 => ⟨S_, .i32⟩
  | 82 => ⟨S1x655360x1, .i32⟩
  | 83 => ⟨S1x655360x1, .i32⟩
  | 84 => ⟨S1x655360x1, .i32⟩
  | 85 => ⟨S655360x1, .i32⟩
  | 86 => ⟨S1, .i32⟩
  | 87 => ⟨S_, .i32⟩
  | 88 => ⟨S655360x1, .i32⟩
  | 89 => ⟨S655360x1, .i1⟩
  | 90 => ⟨S1x1, .i32⟩
  | 91 => ⟨S655360x1, .i32⟩
  | 92 => ⟨S655360x1, .i1⟩
  | 93 => ⟨S655360x1, .i1⟩
  | 94 => ⟨S_, .i1⟩
  | 95 => ⟨S655360, .i1⟩
  | 96 => ⟨S1x655360x6, .f32⟩
  | 97 => ⟨S1x655360x6, .i1⟩
  | 98 => ⟨S_, .f32⟩
  | 99 => ⟨S1x655360x6, .f32⟩
  | 100 => ⟨S1x655360x6, .f32⟩
  | 101 => ⟨S1x655360x6, .f32⟩
  | 102 => ⟨S1x655360x6, .f32⟩
  | 103 => ⟨S_, .f32⟩
  | 104 => ⟨S1x655360, .f32⟩
  | 105 => ⟨S1x1x655360, .i1⟩
  | 106 => ⟨S1x655360, .i1⟩
  | 107 => ⟨S_, .f32⟩
  | 108 => ⟨S_, .f32⟩
  | 109 => ⟨S1x655360, .f32⟩
  | 110 => ⟨S1x655360, .f32⟩
  | 111 => ⟨S1x1x655360, .i32⟩
  | 112 => ⟨S1x655360, .i32⟩
  | 113 => ⟨S1x655360x1, .i32⟩
  | 114 => ⟨S_, .i32⟩
  | 115 => ⟨S1x655360x1, .i32⟩
  | 116 => ⟨S1x655360x1, .i1⟩
  | 117 => ⟨S_, .i32⟩
  | 118 => ⟨S1x655360x1, .i32⟩
  | 119 => ⟨S1x655360x1, .i32⟩
  | 120 => ⟨S1x655360x1, .i32⟩
  | 121 => ⟨S655360x1, .i32⟩
  | 122 => ⟨S1, .i32⟩
  | 123 => ⟨S_, .i32⟩
  | 124 => ⟨S655360x1, .i32⟩
  | 125 => ⟨S655360x1, .i1⟩
  | 126 => ⟨S1x1, .i32⟩
  | 127 => ⟨S655360x1, .i32⟩
  | _ => ⟨S1x3x8x256x320, .f32⟩

abbrev hbmTy0_7 (i : Nat) : BufTy := match i % 128 with
  | 0 => ⟨S655360x1, .i1⟩
  | 1 => ⟨S655360x1, .i1⟩
  | 2 => ⟨S_, .i1⟩
  | 3 => ⟨S655360, .i1⟩
  | 4 => ⟨S1x655360x6, .f32⟩
  | 5 => ⟨S1x655360x6, .i1⟩
  | 6 => ⟨S_, .f32⟩
  | 7 => ⟨S1x655360x6, .f32⟩
  | 8 => ⟨S1x655360x6, .f32⟩
  | 9 => ⟨S1x655360x6, .f32⟩
  | 10 => ⟨S1x655360x6, .f32⟩
  | 11 => ⟨S_, .f32⟩
  | 12 => ⟨S1x655360, .f32⟩
  | 13 => ⟨S1x1x655360, .i1⟩
  | 14 => ⟨S1x655360, .i1⟩
  | 15 => ⟨S_, .f32⟩
  | 16 => ⟨S_, .f32⟩
  | 17 => ⟨S1x655360, .f32⟩
  | 18 => ⟨S1x655360, .f32⟩
  | 19 => ⟨S1x1x655360, .i32⟩
  | 20 => ⟨S1x655360, .i32⟩
  | 21 => ⟨S1x655360x1, .i32⟩
  | 22 => ⟨S_, .i32⟩
  | 23 => ⟨S1x655360x1, .i32⟩
  | 24 => ⟨S1x655360x1, .i1⟩
  | 25 => ⟨S_, .i32⟩
  | 26 => ⟨S1x655360x1, .i32⟩
  | 27 => ⟨S1x655360x1, .i32⟩
  | 28 => ⟨S1x655360x1, .i32⟩
  | 29 => ⟨S655360x1, .i32⟩
  | 30 => ⟨S1, .i32⟩
  | 31 => ⟨S_, .i32⟩
  | 32 => ⟨S655360x1, .i32⟩
  | 33 => ⟨S655360x1, .i1⟩
  | 34 => ⟨S1x1, .i32⟩
  | 35 => ⟨S655360x1, .i32⟩
  | 36 => ⟨S655360x1, .i1⟩
  | 37 => ⟨S655360x1, .i1⟩
  | 38 => ⟨S_, .i1⟩
  | 39 => ⟨S655360, .i1⟩
  | 40 => ⟨S1x655360x6, .f32⟩
  | 41 => ⟨S1x655360x6, .i1⟩
  | 42 => ⟨S_, .f32⟩
  | 43 => ⟨S1x655360x6, .f32⟩
  | 44 => ⟨S1x655360x6, .f32⟩
  | 45 => ⟨S1x655360x6, .f32⟩
  | 46 => ⟨S1x655360x6, .f32⟩
  | 47 => ⟨S_, .f32⟩
  | 48 => ⟨S1x655360, .f32⟩
  | 49 => ⟨S1x1x655360, .i1⟩
  | 50 => ⟨S1x655360, .i1⟩
  | 51 => ⟨S_, .f32⟩
  | 52 => ⟨S_, .f32⟩
  | 53 => ⟨S1x655360, .f32⟩
  | 54 => ⟨S1x655360, .f32⟩
  | 55 => ⟨S1x1x655360, .i32⟩
  | 56 => ⟨S1x655360, .i32⟩
  | 57 => ⟨S1x655360x1, .i32⟩
  | 58 => ⟨S_, .i32⟩
  | 59 => ⟨S1x655360x1, .i32⟩
  | 60 => ⟨S1x655360x1, .i1⟩
  | 61 => ⟨S_, .i32⟩
  | 62 => ⟨S1x655360x1, .i32⟩
  | 63 => ⟨S1x655360x1, .i32⟩
  | 64 => ⟨S1x655360x1, .i32⟩
  | 65 => ⟨S655360x1, .i32⟩
  | 66 => ⟨S1, .i32⟩
  | 67 => ⟨S_, .i32⟩
  | 68 => ⟨S655360x1, .i32⟩
  | 69 => ⟨S655360x1, .i1⟩
  | 70 => ⟨S1x1, .i32⟩
  | 71 => ⟨S655360x1, .i32⟩
  | 72 => ⟨S655360x1, .i1⟩
  | 73 => ⟨S655360x1, .i1⟩
  | 74 => ⟨S_, .i1⟩
  | 75 => ⟨S655360, .i1⟩
  | 76 => ⟨S1x655360x6, .f32⟩
  | 77 => ⟨S1x655360x6, .i1⟩
  | 78 => ⟨S_, .f32⟩
  | 79 => ⟨S1x655360x6, .f32⟩
  | 80 => ⟨S1x655360x6, .f32⟩
  | 81 => ⟨S1x655360x6, .f32⟩
  | 82 => ⟨S1x655360x6, .f32⟩
  | 83 => ⟨S_, .f32⟩
  | 84 => ⟨S1x655360, .f32⟩
  | 85 => ⟨S1x1x655360, .i1⟩
  | 86 => ⟨S1x655360, .i1⟩
  | 87 => ⟨S_, .f32⟩
  | 88 => ⟨S_, .f32⟩
  | 89 => ⟨S1x655360, .f32⟩
  | 90 => ⟨S1x655360, .f32⟩
  | 91 => ⟨S1x1x655360, .i32⟩
  | 92 => ⟨S1x655360, .i32⟩
  | 93 => ⟨S1x655360x1, .i32⟩
  | 94 => ⟨S_, .i32⟩
  | 95 => ⟨S1x655360x1, .i32⟩
  | 96 => ⟨S1x655360x1, .i1⟩
  | 97 => ⟨S_, .i32⟩
  | 98 => ⟨S1x655360x1, .i32⟩
  | 99 => ⟨S1x655360x1, .i32⟩
  | 100 => ⟨S1x655360x1, .i32⟩
  | 101 => ⟨S655360x1, .i32⟩
  | 102 => ⟨S1, .i32⟩
  | 103 => ⟨S_, .i32⟩
  | 104 => ⟨S655360x1, .i32⟩
  | 105 => ⟨S655360x1, .i1⟩
  | 106 => ⟨S1x1, .i32⟩
  | 107 => ⟨S655360x1, .i32⟩
  | 108 => ⟨S655360x1, .i1⟩
  | 109 => ⟨S655360x1, .i1⟩
  | 110 => ⟨S_, .i1⟩
  | 111 => ⟨S655360, .i1⟩
  | 112 => ⟨S1x655360x6, .f32⟩
  | 113 => ⟨S1x655360x6, .i1⟩
  | 114 => ⟨S_, .f32⟩
  | 115 => ⟨S1x655360x6, .f32⟩
  | 116 => ⟨S1x655360x6, .f32⟩
  | 117 => ⟨S1x655360x6, .f32⟩
  | 118 => ⟨S1x655360x6, .f32⟩
  | 119 => ⟨S_, .f32⟩
  | 120 => ⟨S1x655360, .f32⟩
  | 121 => ⟨S1x1x655360, .i1⟩
  | 122 => ⟨S1x655360, .i1⟩
  | 123 => ⟨S_, .f32⟩
  | 124 => ⟨S_, .f32⟩
  | 125 => ⟨S1x655360, .f32⟩
  | 126 => ⟨S1x655360, .f32⟩
  | 127 => ⟨S1x1x655360, .i32⟩
  | _ => ⟨S1x3x8x256x320, .f32⟩

abbrev hbmTy0_8 (i : Nat) : BufTy := match i % 128 with
  | 0 => ⟨S1x655360, .i32⟩
  | 1 => ⟨S1x655360x1, .i32⟩
  | 2 => ⟨S_, .i32⟩
  | 3 => ⟨S1x655360x1, .i32⟩
  | 4 => ⟨S1x655360x1, .i1⟩
  | 5 => ⟨S_, .i32⟩
  | 6 => ⟨S1x655360x1, .i32⟩
  | 7 => ⟨S1x655360x1, .i32⟩
  | 8 => ⟨S1x655360x1, .i32⟩
  | 9 => ⟨S655360x1, .i32⟩
  | 10 => ⟨S1, .i32⟩
  | 11 => ⟨S_, .i32⟩
  | 12 => ⟨S655360x1, .i32⟩
  | 13 => ⟨S655360x1, .i1⟩
  | 14 => ⟨S1x1, .i32⟩
  | 15 => ⟨S655360x1, .i32⟩
  | 16 => ⟨S655360x1, .i1⟩
  | 17 => ⟨S655360x1, .i1⟩
  | 18 => ⟨S_, .i1⟩
  | 19 => ⟨S655360, .i1⟩
  | 20 => ⟨S1x655360x6, .f32⟩
  | 21 => ⟨S1x655360x6, .i1⟩
  | 22 => ⟨S_, .f32⟩
  | 23 => ⟨S1x655360x6, .f32⟩
  | 24 => ⟨S1x655360x6, .f32⟩
  | 25 => ⟨S1x655360x6, .f32⟩
  | 26 => ⟨S1x655360x6, .f32⟩
  | 27 => ⟨S_, .f32⟩
  | 28 => ⟨S1x655360, .f32⟩
  | 29 => ⟨S1x1x655360, .i1⟩
  | 30 => ⟨S1x655360, .i1⟩
  | 31 => ⟨S_, .f32⟩
  | 32 => ⟨S_, .f32⟩
  | 33 => ⟨S1x655360, .f32⟩
  | 34 => ⟨S1x655360, .f32⟩
  | 35 => ⟨S1x1x655360, .i32⟩
  | 36 => ⟨S1x655360, .i32⟩
  | 37 => ⟨S1x655360x1, .i32⟩
  | 38 => ⟨S_, .i32⟩
  | 39 => ⟨S1x655360x1, .i32⟩
  | 40 => ⟨S1x655360x1, .i1⟩
  | 41 => ⟨S_, .i32⟩
  | 42 => ⟨S1x655360x1, .i32⟩
  | 43 => ⟨S1x655360x1, .i32⟩
  | 44 => ⟨S1x655360x1, .i32⟩
  | 45 => ⟨S655360x1, .i32⟩
  | 46 => ⟨S1, .i32⟩
  | 47 => ⟨S_, .i32⟩
  | 48 => ⟨S655360x1, .i32⟩
  | 49 => ⟨S655360x1, .i1⟩
  | 50 => ⟨S1x1, .i32⟩
  | 51 => ⟨S655360x1, .i32⟩
  | 52 => ⟨S655360x1, .i1⟩
  | 53 => ⟨S655360x1, .i1⟩
  | 54 => ⟨S_, .i1⟩
  | 55 => ⟨S655360, .i1⟩
  | 56 => ⟨S1x655360x6, .f32⟩
  | 57 => ⟨S1x655360x6, .i1⟩
  | 58 => ⟨S_, .f32⟩
  | 59 => ⟨S1x655360x6, .f32⟩
  | 60 => ⟨S1x655360x6, .f32⟩
  | 61 => ⟨S1x655360x6, .f32⟩
  | 62 => ⟨S1x655360x6, .f32⟩
  | 63 => ⟨S_, .f32⟩
  | 64 => ⟨S1x655360, .f32⟩
  | 65 => ⟨S1x1x655360, .i1⟩
  | 66 => ⟨S1x655360, .i1⟩
  | 67 => ⟨S_, .f32⟩
  | 68 => ⟨S_, .f32⟩
  | 69 => ⟨S1x655360, .f32⟩
  | 70 => ⟨S1x655360, .f32⟩
  | 71 => ⟨S1x1x655360, .i32⟩
  | 72 => ⟨S1x655360, .i32⟩
  | 73 => ⟨S1x655360x1, .i32⟩
  | 74 => ⟨S_, .i32⟩
  | 75 => ⟨S1x655360x1, .i32⟩
  | 76 => ⟨S1x655360x1, .i1⟩
  | 77 => ⟨S_, .i32⟩
  | 78 => ⟨S1x655360x1, .i32⟩
  | 79 => ⟨S1x655360x1, .i32⟩
  | 80 => ⟨S1x655360x1, .i32⟩
  | 81 => ⟨S655360x1, .i32⟩
  | 82 => ⟨S1, .i32⟩
  | 83 => ⟨S_, .i32⟩
  | 84 => ⟨S655360x1, .i32⟩
  | 85 => ⟨S655360x1, .i1⟩
  | 86 => ⟨S1x1, .i32⟩
  | 87 => ⟨S655360x1, .i32⟩
  | 88 => ⟨S655360x1, .i1⟩
  | 89 => ⟨S655360x1, .i1⟩
  | 90 => ⟨S_, .i1⟩
  | 91 => ⟨S655360, .i1⟩
  | 92 => ⟨S1x655360x6, .f32⟩
  | 93 => ⟨S1x655360x6, .i1⟩
  | 94 => ⟨S_, .f32⟩
  | 95 => ⟨S1x655360x6, .f32⟩
  | 96 => ⟨S1x655360x6, .f32⟩
  | 97 => ⟨S1x655360x6, .f32⟩
  | 98 => ⟨S1x655360x6, .f32⟩
  | 99 => ⟨S_, .f32⟩
  | 100 => ⟨S1x655360, .f32⟩
  | 101 => ⟨S1x1x655360, .i1⟩
  | 102 => ⟨S1x655360, .i1⟩
  | 103 => ⟨S_, .f32⟩
  | 104 => ⟨S_, .f32⟩
  | 105 => ⟨S1x655360, .f32⟩
  | 106 => ⟨S1x655360, .f32⟩
  | 107 => ⟨S1x1x655360, .i32⟩
  | 108 => ⟨S1x655360, .i32⟩
  | 109 => ⟨S1x655360x1, .i32⟩
  | 110 => ⟨S_, .i32⟩
  | 111 => ⟨S1x655360x1, .i32⟩
  | 112 => ⟨S1x655360x1, .i1⟩
  | 113 => ⟨S_, .i32⟩
  | 114 => ⟨S1x655360x1, .i32⟩
  | 115 => ⟨S1x655360x1, .i32⟩
  | 116 => ⟨S1x655360x1, .i32⟩
  | 117 => ⟨S655360x1, .i32⟩
  | 118 => ⟨S1, .i32⟩
  | 119 => ⟨S_, .i32⟩
  | 120 => ⟨S655360x1, .i32⟩
  | 121 => ⟨S655360x1, .i1⟩
  | 122 => ⟨S1x1, .i32⟩
  | 123 => ⟨S655360x1, .i32⟩
  | 124 => ⟨S655360x1, .i1⟩
  | 125 => ⟨S655360x1, .i1⟩
  | 126 => ⟨S_, .i1⟩
  | 127 => ⟨S655360, .i1⟩
  | _ => ⟨S1x3x8x256x320, .f32⟩

abbrev hbmTy0_9 (i : Nat) : BufTy := match i % 128 with
  | 0 => ⟨S1x655360x6, .f32⟩
  | 1 => ⟨S1x655360x6, .i1⟩
  | 2 => ⟨S_, .f32⟩
  | 3 => ⟨S1x655360x6, .f32⟩
  | 4 => ⟨S1x655360x6, .f32⟩
  | 5 => ⟨S1x655360x6, .f32⟩
  | 6 => ⟨S1x655360x6, .f32⟩
  | 7 => ⟨S_, .f32⟩
  | 8 => ⟨S1x655360, .f32⟩
  | 9 => ⟨S1x1x655360, .i1⟩
  | 10 => ⟨S1x655360, .i1⟩
  | 11 => ⟨S_, .f32⟩
  | 12 => ⟨S_, .f32⟩
  | 13 => ⟨S1x655360, .f32⟩
  | 14 => ⟨S1x655360, .f32⟩
  | 15 => ⟨S1x1x655360, .f32⟩
  | 16 => ⟨S1x1x655360, .f32⟩
  | 17 => ⟨S1x1x655360, .f32⟩
  | 18 => ⟨S1x1x655360, .f32⟩
  | 19 => ⟨S1x1x655360, .f32⟩
  | 20 => ⟨S1x1x655360, .f32⟩
  | 21 => ⟨S1x1x655360, .f32⟩
  | 22 => ⟨S1x1x655360, .f32⟩
  | 23 => ⟨S1x1x655360, .f32⟩
  | 24 => ⟨S1x1x655360, .f32⟩
  | 25 => ⟨S1x1x655360, .f32⟩
  | 26 => ⟨S1x1x655360, .f32⟩
  | 27 => ⟨S1x1x655360, .f32⟩
  | 28 => ⟨S1x1x655360, .f32⟩
  | 29 => ⟨S1x1x655360, .f32⟩
  | 30 => ⟨S1x1x655360, .f32⟩
  | 31 => ⟨S1x1x655360, .f32⟩
  | 32 => ⟨S1x1x655360, .f32⟩
  | 33 => ⟨S1x1x655360, .f32⟩
  | 34 => ⟨S1x1x655360, .f32⟩
  | 35 => ⟨S1x1x655360, .f32⟩
  | 36 => ⟨S1x1x655360, .f32⟩
  | 37 => ⟨S1x1x655360, .f32⟩
  | 38 => ⟨S1x1x655360, .f32⟩
  | 39 => ⟨S1x1x655360, .f32⟩
  | 40 => ⟨S1x1x655360, .f32⟩
  | 41 => ⟨S1x1x655360, .f32⟩
  | 42 => ⟨S1x16x655360, .f32⟩
  | 43 => ⟨S1x11x655360, .f32⟩
  | 44 => ⟨S1x27x655360, .f32⟩
  | 45 => ⟨S1x27x8x256x320, .f32⟩
  | 46 => ⟨S_, .f32⟩
  | 47 => ⟨S1x27x8x256x320, .f32⟩
  | 48 => ⟨S1x27x8x256x320, .f32⟩
  | 49 => ⟨S_, .f32⟩
  | 50 => ⟨S1x8x256x320, .f32⟩
  | 51 => ⟨S_, .f32⟩
  | 52 => ⟨S1x8x256x320, .f32⟩
  | 53 => ⟨S1x8x256x320, .f32⟩
  | 54 => ⟨S1x1x8x256x320, .f32⟩
  | 55 => ⟨S1x27x8x256x320, .f32⟩
  | 56 => ⟨S1x27x8x256x320, .f32⟩
  | 57 => ⟨S1x27x8x256x320, .f32⟩
  | 58 => ⟨S_, .f32⟩
  | 59 => ⟨S1x8x256x320, .f32⟩
  | 60 => ⟨S1x1x8x256x320, .f32⟩
  | 61 => ⟨S1x27x8x256x320, .f32⟩
  | 62 => ⟨S1x27x8x256x320, .f32⟩
  | 63 => ⟨S1x6x655360, .f32⟩
  | 64 => ⟨S1x655360x6, .f32⟩
  | 65 => ⟨S1x27x655360, .f32⟩
  | 66 => ⟨S1x655360, .i32⟩
  | 67 => ⟨S_, .i32⟩
  | 68 => ⟨S_, .i32⟩
  | 69 => ⟨S1x655360, .i32⟩
  | 70 => ⟨S1x655360, .i32⟩
  | 71 => ⟨S1x655360, .i32⟩
  | 72 => ⟨S_, .i32⟩
  | 73 => ⟨S1x655360, .i32⟩
  | 74 => ⟨S1x655360, .i1⟩
  | 75 => ⟨S1x655360, .i32⟩
  | 76 => ⟨S1x655360, .i32⟩
  | 77 => ⟨S_, .i32⟩
  | 78 => ⟨S1x655360, .i32⟩
  | 79 => ⟨S1x655360, .i1⟩
  | 80 => ⟨S1x655360, .i1⟩
  | 81 => ⟨S_, .i32⟩
  | 82 => ⟨S1x655360, .i32⟩
  | 83 => ⟨S1x655360, .i32⟩
  | 84 => ⟨S1x655360, .i32⟩
  | 85 => ⟨S_, .i32⟩
  | 86 => ⟨S_, .i32⟩
  | 87 => ⟨S1x655360, .i32⟩
  | 88 => ⟨S1x655360, .i32⟩
  | 89 => ⟨S1x655360, .i32⟩
  | 90 => ⟨S_, .i32⟩
  | 91 => ⟨S1x655360, .i32⟩
  | 92 => ⟨S1x655360, .i1⟩
  | 93 => ⟨S1x655360, .i32⟩
  | 94 => ⟨S1x655360, .i32⟩
  | 95 => ⟨S_, .i32⟩
  | 96 => ⟨S1x655360, .i32⟩
  | 97 => ⟨S1x655360, .i1⟩
  | 98 => ⟨S1x655360, .i1⟩
  | 99 => ⟨S_, .i32⟩
  | 100 => ⟨S1x655360, .i32⟩
  | 101 => ⟨S1x655360, .i32⟩
  | 102 => ⟨S1x655360, .i32⟩
  | 103 => ⟨S_, .i32⟩
  | 104 => ⟨S_, .i32⟩
  | 105 => ⟨S_, .i32⟩
  | 106 => ⟨S_, .i1⟩
  | 107 => ⟨S_, .i32⟩
  | 108 => ⟨S_, .i32⟩
  | 109 => ⟨S1x655360, .i32⟩
  | 110 => ⟨S1x655360, .i32⟩
  | 111 => ⟨S_, .i32⟩
  | 112 => ⟨S1x655360, .i32⟩
  | 113 => ⟨S1x655360, .i1⟩
  | 114 => ⟨S_, .i32⟩
  | 115 => ⟨S1x655360, .i32⟩
  | 116 => ⟨S1x655360, .i1⟩
  | 117 => ⟨S_, .i32⟩
  | 118 => ⟨S_, .i1⟩
  | 119 => ⟨S1x655360, .i1⟩
  | 120 => ⟨S1x655360, .i1⟩
  | 121 => ⟨S1x655360, .i1⟩
  | 122 => ⟨S1x655360, .i32⟩
  | 123 => ⟨S1x655360, .i32⟩
  | 124 => ⟨S1x655360, .i32⟩
  | 125 => ⟨S_, .i32⟩
  | 126 => ⟨S_, .i32⟩
  | 127 => ⟨S_, .i32⟩
  | _ => ⟨S1x3x8x256x320, .f32⟩

abbrev hbmTy0_10 (i : Nat) : BufTy := match i % 128 with
  | 0 => ⟨S_, .i1⟩
  | 1 => ⟨S_, .i32⟩
  | 2 => ⟨S_, .i32⟩
  | 3 => ⟨S1x655360, .i32⟩
  | 4 => ⟨S1x655360, .i32⟩
  | 5 => ⟨S_, .i32⟩
  | 6 => ⟨S1x655360, .i32⟩
  | 7 => ⟨S1x655360, .i1⟩
  | 8 => ⟨S_, .i32⟩
  | 9 => ⟨S1x655360, .i32⟩
  | 10 => ⟨S1x655360, .i1⟩
  | 11 => ⟨S_, .i32⟩
  | 12 => ⟨S_, .i1⟩
  | 13 => ⟨S1x655360, .i1⟩
  | 14 => ⟨S1x655360, .i1⟩
  | 15 => ⟨S1x655360, .i1⟩
  | 16 => ⟨S1x655360, .i32⟩
  | 17 => ⟨S1x655360, .i32⟩
  | 18 => ⟨S1x655360, .i32⟩
  | 19 => ⟨S1x1x655360, .i32⟩
  | 20 => ⟨S1x27x1, .i32⟩
  | 21 => ⟨S1x27x655360, .i32⟩
  | 22 => ⟨S1x27x655360, .i32⟩
  | 23 => ⟨S1x27x655360, .i32⟩
  | 24 => ⟨S1x1x655360, .i32⟩
  | 25 => ⟨S1x27x1, .i32⟩
  | 26 => ⟨S1x27x655360, .i32⟩
  | 27 => ⟨S1x27x655360, .i32⟩
  | 28 => ⟨S1x27x655360, .i32⟩
  | 29 => ⟨S1x1x655360, .i32⟩
  | 30 => ⟨S1x27x1, .i32⟩
  | 31 => ⟨S1x27x655360, .i32⟩
  | 32 => ⟨S1x27x655360, .i32⟩
  | 33 => ⟨S1x27x655360, .i32⟩
  | 34 => ⟨S_, .i32⟩
  | 35 => ⟨S1x27x655360, .i32⟩
  | 36 => ⟨S1x27x655360, .i1⟩
  | 37 => ⟨S_, .i32⟩
  | 38 => ⟨S1x27x655360, .i32⟩
  | 39 => ⟨S1x27x655360, .i1⟩
  | 40 => ⟨S1x27x655360, .i1⟩
  | 41 => ⟨S_, .i32⟩
  | 42 => ⟨S1x27x655360, .i32⟩
  | 43 => ⟨S1x27x655360, .i1⟩
  | 44 => ⟨S1x27x655360, .i1⟩
  | 45 => ⟨S_, .i32⟩
  | 46 => ⟨S1x27x655360, .i32⟩
  | 47 => ⟨S1x27x655360, .i1⟩
  | 48 => ⟨S1x27x655360, .i1⟩
  | 49 => ⟨S_, .i32⟩
  | 50 => ⟨S1x27x655360, .i32⟩
  | 51 => ⟨S1x27x655360, .i1⟩
  | 52 => ⟨S1x27x655360, .i1⟩
  | 53 => ⟨S_, .i32⟩
  | 54 => ⟨S1x27x655360, .i32⟩
  | 55 => ⟨S1x27x655360, .i1⟩
  | 56 => ⟨S1x27x655360, .i1⟩
  | 57 => ⟨S_, .i32⟩
  | 58 => ⟨S_, .i32⟩
  | 59 => ⟨S_, .i32⟩
  | 60 => ⟨S1x27x655360, .i32⟩
  | 61 => ⟨S1x27x655360, .i32⟩
  | 62 => ⟨S_, .i32⟩
  | 63 => ⟨S1x27x655360, .i32⟩
  | 64 => ⟨S1x27x655360, .i32⟩
  | 65 => ⟨S_, .i32⟩
  | 66 => ⟨S1x27x655360, .i32⟩
  | 67 => ⟨S1x27x655360, .i32⟩
  | 68 => ⟨S_, .i32⟩
  | 69 => ⟨S_, .i32⟩
  | 70 => ⟨S_, .i32⟩
  | 71 => ⟨S1x27x655360, .i32⟩
  | 72 => ⟨S1x27x655360, .i32⟩
  | 73 => ⟨S_, .i32⟩
  | 74 => ⟨S1x27x655360, .i32⟩
  | 75 => ⟨S1x27x655360, .i32⟩
  | 76 => ⟨S1x27x655360, .i32⟩
  | 77 => ⟨S_, .i32⟩
  | 78 => ⟨S1x27x655360, .i32⟩
  | 79 => ⟨S1x27x655360, .i32⟩
  | 80 => ⟨S_, .i32⟩
  | 81 => ⟨S_, .i32⟩
  | 82 => ⟨S_, .i32⟩
  | 83 => ⟨S1x27x655360, .i32⟩
  | 84 => ⟨S1x27x655360, .i32⟩
  | 85 => ⟨S_, .i32⟩
  | 86 => ⟨S1x27x655360, .i32⟩
  | 87 => ⟨S1x27x655360, .i32⟩
  | 88 => ⟨S1x27x655360, .i32⟩
  | 89 => ⟨S1, .i32⟩
  | 90 => ⟨S1x1, .i32⟩
  | 91 => ⟨S_, .i32⟩
  | 92 => ⟨S1x1, .i32⟩
  | 93 => ⟨S1x1, .i32⟩
  | 94 => ⟨S_, .f32⟩
  | 95 => ⟨S520x6, .f32⟩
  | 96 => ⟨S_, .f32⟩
  | 97 => ⟨S520, .f32⟩
  | 98 => ⟨S1x1x655360, .i1⟩
  | 99 => ⟨S1x655360, .i1⟩
  | 100 => ⟨S1x1x655360, .f32⟩
  | 101 => ⟨S1x655360, .f32⟩
  | 102 => ⟨S_, .f32⟩
  | 103 => ⟨S_, .f32⟩
  | 104 => ⟨S1x655360, .f32⟩
  | 105 => ⟨S1x655360, .f32⟩
  | 106 => ⟨S1x1x655360, .i32⟩
  | 107 => ⟨S1x655360, .i32⟩
  | 108 => ⟨S1x655360, .i32⟩
  | 109 => ⟨S1x655360, .i32⟩
  | 110 => ⟨S655360, .i32⟩
  | 111 => ⟨S1x655360x1, .f32⟩
  | 112 => ⟨S1x655360x6, .f32⟩
  | 113 => ⟨S1x655360x6, .f32⟩
  | 114 => ⟨S655360x6, .f32⟩
  | 115 => ⟨S_, .f32⟩
  | 116 => ⟨S520x6, .f32⟩
  | 117 => ⟨S655360x1, .i32⟩
  | 118 => ⟨S520x6, .f32⟩
  | 119 => ⟨S520x6, .f32⟩
  | 120 => ⟨S655360, .f32⟩
  | 121 => ⟨S_, .f32⟩
  | 122 => ⟨S520, .f32⟩
  | 123 => ⟨S655360x1, .i32⟩
  | 124 => ⟨S520, .f32⟩
  | 125 => ⟨S520, .f32⟩
  | 126 => ⟨S1x1x655360, .i1⟩
  | 127 => ⟨S1x655360, .i1⟩
  | _ => ⟨S1x3x8x256x320, .f32⟩

abbrev hbmTy0_11 (i : Nat) : BufTy := match i % 128 with
  | 0 => ⟨S1x1x655360, .f32⟩
  | 1 => ⟨S1x655360, .f32⟩
  | 2 => ⟨S_, .f32⟩
  | 3 => ⟨S_, .f32⟩
  | 4 => ⟨S1x655360, .f32⟩
  | 5 => ⟨S1x655360, .f32⟩
  | 6 => ⟨S1x1x655360, .i32⟩
  | 7 => ⟨S1x655360, .i32⟩
  | 8 => ⟨S1x655360, .i32⟩
  | 9 => ⟨S1x655360, .i32⟩
  | 10 => ⟨S655360, .i32⟩
  | 11 => ⟨S1x655360x1, .f32⟩
  | 12 => ⟨S1x655360x6, .f32⟩
  | 13 => ⟨S1x655360x6, .f32⟩
  | 14 => ⟨S655360x6, .f32⟩
  | 15 => ⟨S_, .f32⟩
  | 16 => ⟨S520x6, .f32⟩
  | 17 => ⟨S655360x1, .i32⟩
  | 18 => ⟨S520x6, .f32⟩
  | 19 => ⟨S520x6, .f32⟩
  | 20 => ⟨S655360, .f32⟩
  | 21 => ⟨S_, .f32⟩
  | 22 => ⟨S520, .f32⟩
  | 23 => ⟨S655360x1, .i32⟩
  | 24 => ⟨S520, .f32⟩
  | 25 => ⟨S520, .f32⟩
  | 26 => ⟨S1x1x655360, .i1⟩
  | 27 => ⟨S1x655360, .i1⟩
  | 28 => ⟨S1x1x655360, .f32⟩
  | 29 => ⟨S1x655360, .f32⟩
  | 30 => ⟨S_, .f32⟩
  | 31 => ⟨S_, .f32⟩
  | 32 => ⟨S1x655360, .f32⟩
  | 33 => ⟨S1x655360, .f32⟩
  | 34 => ⟨S1x1x655360, .i32⟩
  | 35 => ⟨S1x655360, .i32⟩
  | 36 => ⟨S1x655360, .i32⟩
  | 37 => ⟨S1x655360, .i32⟩
  | 38 => ⟨S655360, .i32⟩
  | 39 => ⟨S1x655360x1, .f32⟩
  | 40 => ⟨S1x655360x6, .f32⟩
  | 41 => ⟨S1x655360x6, .f32⟩
  | 42 => ⟨S655360x6, .f32⟩
  | 43 => ⟨S_, .f32⟩
  | 44 => ⟨S520x6, .f32⟩
  | 45 => ⟨S655360x1, .i32⟩
  | 46 => ⟨S520x6, .f32⟩
  | 47 => ⟨S520x6, .f32⟩
  | 48 => ⟨S655360, .f32⟩
  | 49 => ⟨S_, .f32⟩
  | 50 => ⟨S520, .f32⟩
  | 51 => ⟨S655360x1, .i32⟩
  | 52 => ⟨S520, .f32⟩
  | 53 => ⟨S520, .f32⟩
  | 54 => ⟨S1x1x655360, .i1⟩
  | 55 => ⟨S1x655360, .i1⟩
  | 56 => ⟨S1x1x655360, .f32⟩
  | 57 => ⟨S1x655360, .f32⟩
  | 58 => ⟨S_, .f32⟩
  | 59 => ⟨S_, .f32⟩
  | 60 => ⟨S1x655360, .f32⟩
  | 61 => ⟨S1x655360, .f32⟩
  | 62 => ⟨S1x1x655360, .i32⟩
  | 63 => ⟨S1x655360, .i32⟩
  | 64 => ⟨S1x655360, .i32⟩
  | 65 => ⟨S1x655360, .i32⟩
  | 66 => ⟨S655360, .i32⟩
  | 67 => ⟨S1x655360x1, .f32⟩
  | 68 => ⟨S1x655360x6, .f32⟩
  | 69 => ⟨S1x655360x6, .f32⟩
  | 70 => ⟨S655360x6, .f32⟩
  | 71 => ⟨S_, .f32⟩
  | 72 => ⟨S520x6, .f32⟩
  | 73 => ⟨S655360x1, .i32⟩
  | 74 => ⟨S520x6, .f32⟩
  | 75 => ⟨S520x6, .f32⟩
  | 76 => ⟨S655360, .f32⟩
  | 77 => ⟨S_, .f32⟩
  | 78 => ⟨S520, .f32⟩
  | 79 => ⟨S655360x1, .i32⟩
  | 80 => ⟨S520, .f32⟩
  | 81 => ⟨S520, .f32⟩
  | 82 => ⟨S1x1x655360, .i1⟩
  | 83 => ⟨S1x655360, .i1⟩
  | 84 => ⟨S1x1x655360, .f32⟩
  | 85 => ⟨S1x655360, .f32⟩
  | 86 => ⟨S_, .f32⟩
  | 87 => ⟨S_, .f32⟩
  | 88 => ⟨S1x655360, .f32⟩
  | 89 => ⟨S1x655360, .f32⟩
  | 90 => ⟨S1x1x655360, .i32⟩
  | 91 => ⟨S1x655360, .i32⟩
  | 92 => ⟨S1x655360, .i32⟩
  | 93 => ⟨S1x655360, .i32⟩
  | 94 => ⟨S655360, .i32⟩
  | 95 => ⟨S1x655360x1, .f32⟩
  | 96 => ⟨S1x655360x6, .f32⟩
  | 97 => ⟨S1x655360x6, .f32⟩
  | 98 => ⟨S655360x6, .f32⟩
  | 99 => ⟨S_, .f32⟩
  | 100 => ⟨S520x6, .f32⟩
  | 101 => ⟨S655360x1, .i32⟩
  | 102 => ⟨S520x6, .f32⟩
  | 103 => ⟨S520x6, .f32⟩
  | 104 => ⟨S655360, .f32⟩
  | 105 => ⟨S_, .f32⟩
  | 106 => ⟨S520, .f32⟩
  | 107 => ⟨S655360x1, .i32⟩
  | 108 => ⟨S520, .f32⟩
  | 109 => ⟨S520, .f32⟩
  | 110 => ⟨S1x1x655360, .i1⟩
  | 111 => ⟨S1x655360, .i1⟩
  | 112 => ⟨S1x1x655360, .f32⟩
  | 113 => ⟨S1x655360, .f32⟩
  | 114 => ⟨S_, .f32⟩
  | 115 => ⟨S_, .f32⟩
  | 116 => ⟨S1x655360, .f32⟩
  | 117 => ⟨S1x655360, .f32⟩
  | 118 => ⟨S1x1x655360, .i32⟩
  | 119 => ⟨S1x655360, .i32⟩
  | 120 => ⟨S1x655360, .i32⟩
  | 121 => ⟨S1x655360, .i32⟩
  | 122 => ⟨S655360, .i32⟩
  | 123 => ⟨S1x655360x1, .f32⟩
  | 124 => ⟨S1x655360x6, .f32⟩
  | 125 => ⟨S1x655360x6, .f32⟩
  | 126 => ⟨S655360x6, .f32⟩
  | 127 => ⟨S_, .f32⟩
  | _ => ⟨S1x3x8x256x320, .f32⟩

abbrev hbmTy0_12 (i : Nat) : BufTy := match i % 128 with
  | 0 => ⟨S520x6, .f32⟩
  | 1 => ⟨S655360x1, .i32⟩
  | 2 => ⟨S520x6, .f32⟩
  | 3 => ⟨S520x6, .f32⟩
  | 4 => ⟨S655360, .f32⟩
  | 5 => ⟨S_, .f32⟩
  | 6 => ⟨S520, .f32⟩
  | 7 => ⟨S655360x1, .i32⟩
  | 8 => ⟨S520, .f32⟩
  | 9 => ⟨S520, .f32⟩
  | 10 => ⟨S1x1x655360, .i1⟩
  | 11 => ⟨S1x655360, .i1⟩
  | 12 => ⟨S1x1x655360, .f32⟩
  | 13 => ⟨S1x655360, .f32⟩
  | 14 => ⟨S_, .f32⟩
  | 15 => ⟨S_, .f32⟩
  | 16 => ⟨S1x655360, .f32⟩
  | 17 => ⟨S1x655360, .f32⟩
  | 18 => ⟨S1x1x655360, .i32⟩
  | 19 => ⟨S1x655360, .i32⟩
  | 20 => ⟨S1x655360, .i32⟩
  | 21 => ⟨S1x655360, .i32⟩
  | 22 => ⟨S655360, .i32⟩
  | 23 => ⟨S1x655360x1, .f32⟩
  | 24 => ⟨S1x655360x6, .f32⟩
  | 25 => ⟨S1x655360x6, .f32⟩
  | 26 => ⟨S655360x6, .f32⟩
  | 27 => ⟨S_, .f32⟩
  | 28 => ⟨S520x6, .f32⟩
  | 29 => ⟨S655360x1, .i32⟩
  | 30 => ⟨S520x6, .f32⟩
  | 31 => ⟨S520x6, .f32⟩
  | 32 => ⟨S655360, .f32⟩
  | 33 => ⟨S_, .f32⟩
  | 34 => ⟨S520, .f32⟩
  | 35 => ⟨S655360x1, .i32⟩
  | 36 => ⟨S520, .f32⟩
  | 37 => ⟨S520, .f32⟩
  | 38 => ⟨S1x1x655360, .i1⟩
  | 39 => ⟨S1x655360, .i1⟩
  | 40 => ⟨S1x1x655360, .f32⟩
  | 41 => ⟨S1x655360, .f32⟩
  | 42 => ⟨S_, .f32⟩
  | 43 => ⟨S_, .f32⟩
  | 44 => ⟨S1x655360, .f32⟩
  | 45 => ⟨S1x655360, .f32⟩
  | 46 => ⟨S1x1x655360, .i32⟩
  | 47 => ⟨S1x655360, .i32⟩
  | 48 => ⟨S1x655360, .i32⟩
  | 49 => ⟨S1x655360, .i32⟩
  | 50 => ⟨S655360, .i32⟩
  | 51 => ⟨S1x655360x1, .f32⟩
  | 52 => ⟨S1x655360x6, .f32⟩
  | 53 => ⟨S1x655360x6, .f32⟩
  | 54 => ⟨S655360x6, .f32⟩
  | 55 => ⟨S_, .f32⟩
  | 56 => ⟨S520x6, .f32⟩
  | 57 => ⟨S655360x1, .i32⟩
  | 58 => ⟨S520x6, .f32⟩
  | 59 => ⟨S520x6, .f32⟩
  | 60 => ⟨S655360, .f32⟩
  | 61 => ⟨S_, .f32⟩
  | 62 => ⟨S520, .f32⟩
  | 63 => ⟨S655360x1, .i32⟩
  | 64 => ⟨S520, .f32⟩
  | 65 => ⟨S520, .f32⟩
  | 66 => ⟨S1x1x655360, .i1⟩
  | 67 => ⟨S1x655360, .i1⟩
  | 68 => ⟨S1x1x655360, .f32⟩
  | 69 => ⟨S1x655360, .f32⟩
  | 70 => ⟨S_, .f32⟩
  | 71 => ⟨S_, .f32⟩
  | 72 => ⟨S1x655360, .f32⟩
  | 73 => ⟨S1x655360, .f32⟩
  | 74 => ⟨S1x1x655360, .i32⟩
  | 75 => ⟨S1x655360, .i32⟩
  | 76 => ⟨S1x655360, .i32⟩
  | 77 => ⟨S1x655360, .i32⟩
  | 78 => ⟨S655360, .i32⟩
  | 79 => ⟨S1x655360x1, .f32⟩
  | 80 => ⟨S1x655360x6, .f32⟩
  | 81 => ⟨S1x655360x6, .f32⟩
  | 82 => ⟨S655360x6, .f32⟩
  | 83 => ⟨S_, .f32⟩
  | 84 => ⟨S520x6, .f32⟩
  | 85 => ⟨S655360x1, .i32⟩
  | 86 => ⟨S520x6, .f32⟩
  | 87 => ⟨S520x6, .f32⟩
  | 88 => ⟨S655360, .f32⟩
  | 89 => ⟨S_, .f32⟩
  | 90 => ⟨S520, .f32⟩
  | 91 => ⟨S655360x1, .i32⟩
  | 92 => ⟨S520, .f32⟩
  | 93 => ⟨S520, .f32⟩
  | 94 => ⟨S1x1x655360, .i1⟩
  | 95 => ⟨S1x655360, .i1⟩
  | 96 => ⟨S1x1x655360, .f32⟩
  | 97 => ⟨S1x655360, .f32⟩
  | 98 => ⟨S_, .f32⟩
  | 99 => ⟨S_, .f32⟩
  | 100 => ⟨S1x655360, .f32⟩
  | 101 => ⟨S1x655360, .f32⟩
  | 102 => ⟨S1x1x655360, .i32⟩
  | 103 => ⟨S1x655360, .i32⟩
  | 104 => ⟨S1x655360, .i32⟩
  | 105 => ⟨S1x655360, .i32⟩
  | 106 => ⟨S655360, .i32⟩
  | 107 => ⟨S1x655360x1, .f32⟩
  | 108 => ⟨S1x655360x6, .f32⟩
  | 109 => ⟨S1x655360x6, .f32⟩
  | 110 => ⟨S655360x6, .f32⟩
  | 111 => ⟨S_, .f32⟩
  | 112 => ⟨S520x6, .f32⟩
  | 113 => ⟨S655360x1, .i32⟩
  | 114 => ⟨S520x6, .f32⟩
  | 115 => ⟨S520x6, .f32⟩
  | 116 => ⟨S655360, .f32⟩
  | 117 => ⟨S_, .f32⟩
  | 118 => ⟨S520, .f32⟩
  | 119 => ⟨S655360x1, .i32⟩
  | 120 => ⟨S520, .f32⟩
  | 121 => ⟨S520, .f32⟩
  | 122 => ⟨S1x1x655360, .i1⟩
  | 123 => ⟨S1x655360, .i1⟩
  | 124 => ⟨S1x1x655360, .f32⟩
  | 125 => ⟨S1x655360, .f32⟩
  | 126 => ⟨S_, .f32⟩
  | 127 => ⟨S_, .f32⟩
  | _ => ⟨S1x3x8x256x320, .f32⟩

abbrev hbmTy0_13 (i : Nat) : BufTy := match i % 128 with
  | 0 => ⟨S1x655360, .f32⟩
  | 1 => ⟨S1x655360, .f32⟩
  | 2 => ⟨S1x1x655360, .i32⟩
  | 3 => ⟨S1x655360, .i32⟩
  | 4 => ⟨S1x655360, .i32⟩
  | 5 => ⟨S1x655360, .i32⟩
  | 6 => ⟨S655360, .i32⟩
  | 7 => ⟨S1x655360x1, .f32⟩
  | 8 => ⟨S1x655360x6, .f32⟩
  | 9 => ⟨S1x655360x6, .f32⟩
  | 10 => ⟨S655360x6, .f32⟩
  | 11 => ⟨S_, .f32⟩
  | 12 => ⟨S520x6, .f32⟩
  | 13 => ⟨S655360x1, .i32⟩
  | 14 => ⟨S520x6, .f32⟩
  | 15 => ⟨S520x6, .f32⟩
  | 16 => ⟨S655360, .f32⟩
  | 17 => ⟨S_, .f32⟩
  | 18 => ⟨S520, .f32⟩
  | 19 => ⟨S655360x1, .i32⟩
  | 20 => ⟨S520, .f32⟩
  | 21 => ⟨S520, .f32⟩
  | 22 => ⟨S1x1x655360, .i1⟩
  | 23 => ⟨S1x655360, .i1⟩
  | 24 => ⟨S1x1x655360, .f32⟩
  | 25 => ⟨S1x655360, .f32⟩
  | 26 => ⟨S_, .f32⟩
  | 27 => ⟨S_, .f32⟩
  | 28 => ⟨S1x655360, .f32⟩
  | 29 => ⟨S1x655360, .f32⟩
  | 30 => ⟨S1x1x655360, .i32⟩
  | 31 => ⟨S1x655360, .i32⟩
  | 32 => ⟨S1x655360, .i32⟩
  | 33 => ⟨S1x655360, .i32⟩
  | 34 => ⟨S655360, .i32⟩
  | 35 => ⟨S1x655360x1, .f32⟩
  | 36 => ⟨S1x655360x6, .f32⟩
  | 37 => ⟨S1x655360x6, .f32⟩
  | 38 => ⟨S655360x6, .f32⟩
  | 39 => ⟨S_, .f32⟩
  | 40 => ⟨S520x6, .f32⟩
  | 41 => ⟨S655360x1, .i32⟩
  | 42 => ⟨S520x6, .f32⟩
  | 43 => ⟨S520x6, .f32⟩
  | 44 => ⟨S655360, .f32⟩
  | 45 => ⟨S_, .f32⟩
  | 46 => ⟨S520, .f32⟩
  | 47 => ⟨S655360x1, .i32⟩
  | 48 => ⟨S520, .f32⟩
  | 49 => ⟨S520, .f32⟩
  | 50 => ⟨S1x1x655360, .i1⟩
  | 51 => ⟨S1x655360, .i1⟩
  | 52 => ⟨S1x1x655360, .f32⟩
  | 53 => ⟨S1x655360, .f32⟩
  | 54 => ⟨S_, .f32⟩
  | 55 => ⟨S_, .f32⟩
  | 56 => ⟨S1x655360, .f32⟩
  | 57 => ⟨S1x655360, .f32⟩
  | 58 => ⟨S1x1x655360, .i32⟩
  | 59 => ⟨S1x655360, .i32⟩
  | 60 => ⟨S1x655360, .i32⟩
  | 61 => ⟨S1x655360, .i32⟩
  | 62 => ⟨S655360, .i32⟩
  | 63 => ⟨S1x655360x1, .f32⟩
  | 64 => ⟨S1x655360x6, .f32⟩
  | 65 => ⟨S1x655360x6, .f32⟩
  | 66 => ⟨S655360x6, .f32⟩
  | 67 => ⟨S_, .f32⟩
  | 68 => ⟨S520x6, .f32⟩
  | 69 => ⟨S655360x1, .i32⟩
  | 70 => ⟨S520x6, .f32⟩
  | 71 => ⟨S520x6, .f32⟩
  | 72 => ⟨S655360, .f32⟩
  | 73 => ⟨S_, .f32⟩
  | 74 => ⟨S520, .f32⟩
  | 75 => ⟨S655360x1, .i32⟩
  | 76 => ⟨S520, .f32⟩
  | 77 => ⟨S520, .f32⟩
  | 78 => ⟨S1x1x655360, .i1⟩
  | 79 => ⟨S1x655360, .i1⟩
  | 80 => ⟨S1x1x655360, .f32⟩
  | 81 => ⟨S1x655360, .f32⟩
  | 82 => ⟨S_, .f32⟩
  | 83 => ⟨S_, .f32⟩
  | 84 => ⟨S1x655360, .f32⟩
  | 85 => ⟨S1x655360, .f32⟩
  | 86 => ⟨S1x1x655360, .i32⟩
  | 87 => ⟨S1x655360, .i32⟩
  | 88 => ⟨S1x655360, .i32⟩
  | 89 => ⟨S1x655360, .i32⟩
  | 90 => ⟨S655360, .i32⟩
  | 91 => ⟨S1x655360x1, .f32⟩
  | 92 => ⟨S1x655360x6, .f32⟩
  | 93 => ⟨S1x655360x6, .f32⟩
  | 94 => ⟨S655360x6, .f32⟩
  | 95 => ⟨S_, .f32⟩
  | 96 => ⟨S520x6, .f32⟩
  | 97 => ⟨S655360x1, .i32⟩
  | 98 => ⟨S520x6, .f32⟩
  | 99 => ⟨S520x6, .f32⟩
  | 100 => ⟨S655360, .f32⟩
  | 101 => ⟨S_, .f32⟩
  | 102 => ⟨S520, .f32⟩
  | 103 => ⟨S655360x1, .i32⟩
  | 104 => ⟨S520, .f32⟩
  | 105 => ⟨S520, .f32⟩
  | 106 => ⟨S1x1x655360, .i1⟩
  | 107 => ⟨S1x655360, .i1⟩
  | 108 => ⟨S1x1x655360, .f32⟩
  | 109 => ⟨S1x655360, .f32⟩
  | 110 => ⟨S_, .f32⟩
  | 111 => ⟨S_, .f32⟩
  | 112 => ⟨S1x655360, .f32⟩
  | 113 => ⟨S1x655360, .f32⟩
  | 114 => ⟨S1x1x655360, .i32⟩
  | 115 => ⟨S1x655360, .i32⟩
  | 116 => ⟨S1x655360, .i32⟩
  | 117 => ⟨S1x655360, .i32⟩
  | 118 => ⟨S655360, .i32⟩
  | 119 => ⟨S1x655360x1, .f32⟩
  | 120 => ⟨S1x655360x6, .f32⟩
  | 121 => ⟨S1x655360x6, .f32⟩
  | 122 => ⟨S655360x6, .f32⟩
  | 123 => ⟨S_, .f32⟩
  | 124 => ⟨S520x6, .f32⟩
  | 125 => ⟨S655360x1, .i32⟩
  | 126 => ⟨S520x6, .f32⟩
  | 127 => ⟨S520x6, .f32⟩
  | _ => ⟨S1x3x8x256x320, .f32⟩

abbrev hbmTy0_14 (i : Nat) : BufTy := match i % 128 with
  | 0 => ⟨S655360, .f32⟩
  | 1 => ⟨S_, .f32⟩
  | 2 => ⟨S520, .f32⟩
  | 3 => ⟨S655360x1, .i32⟩
  | 4 => ⟨S520, .f32⟩
  | 5 => ⟨S520, .f32⟩
  | 6 => ⟨S1x1x655360, .i1⟩
  | 7 => ⟨S1x655360, .i1⟩
  | 8 => ⟨S1x1x655360, .f32⟩
  | 9 => ⟨S1x655360, .f32⟩
  | 10 => ⟨S_, .f32⟩
  | 11 => ⟨S_, .f32⟩
  | 12 => ⟨S1x655360, .f32⟩
  | 13 => ⟨S1x655360, .f32⟩
  | 14 => ⟨S1x1x655360, .i32⟩
  | 15 => ⟨S1x655360, .i32⟩
  | 16 => ⟨S1x655360, .i32⟩
  | 17 => ⟨S1x655360, .i32⟩
  | 18 => ⟨S655360, .i32⟩
  | 19 => ⟨S1x655360x1, .f32⟩
  | 20 => ⟨S1x655360x6, .f32⟩
  | 21 => ⟨S1x655360x6, .f32⟩
  | 22 => ⟨S655360x6, .f32⟩
  | 23 => ⟨S_, .f32⟩
  | 24 => ⟨S520x6, .f32⟩
  | 25 => ⟨S655360x1, .i32⟩
  | 26 => ⟨S520x6, .f32⟩
  | 27 => ⟨S520x6, .f32⟩
  | 28 => ⟨S655360, .f32⟩
  | 29 => ⟨S_, .f32⟩
  | 30 => ⟨S520, .f32⟩
  | 31 => ⟨S655360x1, .i32⟩
  | 32 => ⟨S520, .f32⟩
  | 33 => ⟨S520, .f32⟩
  | 34 => ⟨S1x1x655360, .i1⟩
  | 35 => ⟨S1x655360, .i1⟩
  | 36 => ⟨S1x1x655360, .f32⟩
  | 37 => ⟨S1x655360, .f32⟩
  | 38 => ⟨S_, .f32⟩
  | 39 => ⟨S_, .f32⟩
  | 40 => ⟨S1x655360, .f32⟩
  | 41 => ⟨S1x655360, .f32⟩
  | 42 => ⟨S1x1x655360, .i32⟩
  | 43 => ⟨S1x655360, .i32⟩
  | 44 => ⟨S1x655360, .i32⟩
  | 45 => ⟨S1x655360, .i32⟩
  | 46 => ⟨S655360, .i32⟩
  | 47 => ⟨S1x655360x1, .f32⟩
  | 48 => ⟨S1x655360x6, .f32⟩
  | 49 => ⟨S1x655360x6, .f32⟩
  | 50 => ⟨S655360x6, .f32⟩
  | 51 => ⟨S_, .f32⟩
  | 52 => ⟨S520x6, .f32⟩
  | 53 => ⟨S655360x1, .i32⟩
  | 54 => ⟨S520x6, .f32⟩
  | 55 => ⟨S520x6, .f32⟩
  | 56 => ⟨S655360, .f32⟩
  | 57 => ⟨S_, .f32⟩
  | 58 => ⟨S520, .f32⟩
  | 59 => ⟨S655360x1, .i32⟩
  | 60 => ⟨S520, .f32⟩
  | 61 => ⟨S520, .f32⟩
  | 62 => ⟨S1x1x655360, .i1⟩
  | 63 => ⟨S1x655360, .i1⟩
  | 64 => ⟨S1x1x655360, .f32⟩
  | 65 => ⟨S1x655360, .f32⟩
  | 66 => ⟨S_, .f32⟩
  | 67 => ⟨S_, .f32⟩
  | 68 => ⟨S1x655360, .f32⟩
  | 69 => ⟨S1x655360, .f32⟩
  | 70 => ⟨S1x1x655360, .i32⟩
  | 71 => ⟨S1x655360, .i32⟩
  | 72 => ⟨S1x655360, .i32⟩
  | 73 => ⟨S1x655360, .i32⟩
  | 74 => ⟨S655360, .i32⟩
  | 75 => ⟨S1x655360x1, .f32⟩
  | 76 => ⟨S1x655360x6, .f32⟩
  | 77 => ⟨S1x655360x6, .f32⟩
  | 78 => ⟨S655360x6, .f32⟩
  | 79 => ⟨S_, .f32⟩
  | 80 => ⟨S520x6, .f32⟩
  | 81 => ⟨S655360x1, .i32⟩
  | 82 => ⟨S520x6, .f32⟩
  | 83 => ⟨S520x6, .f32⟩
  | 84 => ⟨S655360, .f32⟩
  | 85 => ⟨S_, .f32⟩
  | 86 => ⟨S520, .f32⟩
  | 87 => ⟨S655360x1, .i32⟩
  | 88 => ⟨S520, .f32⟩
  | 89 => ⟨S520, .f32⟩
  | 90 => ⟨S1x1x655360, .i1⟩
  | 91 => ⟨S1x655360, .i1⟩
  | 92 => ⟨S1x1x655360, .f32⟩
  | 93 => ⟨S1x655360, .f32⟩
  | 94 => ⟨S_, .f32⟩
  | 95 => ⟨S_, .f32⟩
  | 96 => ⟨S1x655360, .f32⟩
  | 97 => ⟨S1x655360, .f32⟩
  | 98 => ⟨S1x1x655360, .i32⟩
  | 99 => ⟨S1x655360, .i32⟩
  | 100 => ⟨S1x655360, .i32⟩
  | 101 => ⟨S1x655360, .i32⟩
  | 102 => ⟨S655360, .i32⟩
  | 103 => ⟨S1x655360x1, .f32⟩
  | 104 => ⟨S1x655360x6, .f32⟩
  | 105 => ⟨S1x655360x6, .f32⟩
  | 106 => ⟨S655360x6, .f32⟩
  | 107 => ⟨S_, .f32⟩
  | 108 => ⟨S520x6, .f32⟩
  | 109 => ⟨S655360x1, .i32⟩
  | 110 => ⟨S520x6, .f32⟩
  | 111 => ⟨S520x6, .f32⟩
  | 112 => ⟨S655360, .f32⟩
  | 113 => ⟨S_, .f32⟩
  | 114 => ⟨S520, .f32⟩
  | 115 => ⟨S655360x1, .i32⟩
  | 116 => ⟨S520, .f32⟩
  | 117 => ⟨S520, .f32⟩
  | 118 => ⟨S1x1x655360, .i1⟩
  | 119 => ⟨S1x655360, .i1⟩
  | 120 => ⟨S1x1x655360, .f32⟩
  | 121 => ⟨S1x655360, .f32⟩
  | 122 => ⟨S_, .f32⟩
  | 123 => ⟨S_, .f32⟩
  | 124 => ⟨S1x655360, .f32⟩
  | 125 => ⟨S1x655360, .f32⟩
  | 126 => ⟨S1x1x655360, .i32⟩
  | 127 => ⟨S1x655360, .i32⟩
  | _ => ⟨S1x3x8x256x320, .f32⟩

abbrev hbmTy0_15 (i : Nat) : BufTy := match i % 128 with
  | 0 => ⟨S1x655360, .i32⟩
  | 1 => ⟨S1x655360, .i32⟩
  | 2 => ⟨S655360, .i32⟩
  | 3 => ⟨S1x655360x1, .f32⟩
  | 4 => ⟨S1x655360x6, .f32⟩
  | 5 => ⟨S1x655360x6, .f32⟩
  | 6 => ⟨S655360x6, .f32⟩
  | 7 => ⟨S_, .f32⟩
  | 8 => ⟨S520x6, .f32⟩
  | 9 => ⟨S655360x1, .i32⟩
  | 10 => ⟨S520x6, .f32⟩
  | 11 => ⟨S520x6, .f32⟩
  | 12 => ⟨S655360, .f32⟩
  | 13 => ⟨S_, .f32⟩
  | 14 => ⟨S520, .f32⟩
  | 15 => ⟨S655360x1, .i32⟩
  | 16 => ⟨S520, .f32⟩
  | 17 => ⟨S520, .f32⟩
  | 18 => ⟨S1x1x655360, .i1⟩
  | 19 => ⟨S1x655360, .i1⟩
  | 20 => ⟨S1x1x655360, .f32⟩
  | 21 => ⟨S1x655360, .f32⟩
  | 22 => ⟨S_, .f32⟩
  | 23 => ⟨S_, .f32⟩
  | 24 => ⟨S1x655360, .f32⟩
  | 25 => ⟨S1x655360, .f32⟩
  | 26 => ⟨S1x1x655360, .i32⟩
  | 27 => ⟨S1x655360, .i32⟩
  | 28 => ⟨S1x655360, .i32⟩
  | 29 => ⟨S1x655360, .i32⟩
  | 30 => ⟨S655360, .i32⟩
  | 31 => ⟨S1x655360x1, .f32⟩
  | 32 => ⟨S1x655360x6, .f32⟩
  | 33 => ⟨S1x655360x6, .f32⟩
  | 34 => ⟨S655360x6, .f32⟩
  | 35 => ⟨S_, .f32⟩
  | 36 => ⟨S520x6, .f32⟩
  | 37 => ⟨S655360x1, .i32⟩
  | 38 => ⟨S520x6, .f32⟩
  | 39 => ⟨S520x6, .f32⟩
  | 40 => ⟨S655360, .f32⟩
  | 41 => ⟨S_, .f32⟩
  | 42 => ⟨S520, .f32⟩
  | 43 => ⟨S655360x1, .i32⟩
  | 44 => ⟨S520, .f32⟩
  | 45 => ⟨S520, .f32⟩
  | 46 => ⟨S1x1x655360, .i1⟩
  | 47 => ⟨S1x655360, .i1⟩
  | 48 => ⟨S1x1x655360, .f32⟩
  | 49 => ⟨S1x655360, .f32⟩
  | 50 => ⟨S_, .f32⟩
  | 51 => ⟨S_, .f32⟩
  | 52 => ⟨S1x655360, .f32⟩
  | 53 => ⟨S1x655360, .f32⟩
  | 54 => ⟨S1x1x655360, .i32⟩
  | 55 => ⟨S1x655360, .i32⟩
  | 56 => ⟨S1x655360, .i32⟩
  | 57 => ⟨S1x655360, .i32⟩
  | 58 => ⟨S655360, .i32⟩
  | 59 => ⟨S1x655360x1, .f32⟩
  | 60 => ⟨S1x655360x6, .f32⟩
  | 61 => ⟨S1x655360x6, .f32⟩
  | 62 => ⟨S655360x6, .f32⟩
  | 63 => ⟨S_, .f32⟩
  | 64 => ⟨S520x6, .f32⟩
  | 65 => ⟨S655360x1, .i32⟩
  | 66 => ⟨S520x6, .f32⟩
  | 67 => ⟨S520x6, .f32⟩
  | 68 => ⟨S655360, .f32⟩
  | 69 => ⟨S_, .f32⟩
  | 70 => ⟨S520, .f32⟩
  | 71 => ⟨S655360x1, .i32⟩
  | 72 => ⟨S520, .f32⟩
  | 73 => ⟨S520, .f32⟩
  | 74 => ⟨S1x1x655360, .i1⟩
  | 75 => ⟨S1x655360, .i1⟩
  | 76 => ⟨S1x1x655360, .f32⟩
  | 77 => ⟨S1x655360, .f32⟩
  | 78 => ⟨S_, .f32⟩
  | 79 => ⟨S_, .f32⟩
  | 80 => ⟨S1x655360, .f32⟩
  | 81 => ⟨S1x655360, .f32⟩
  | 82 => ⟨S1x1x655360, .i32⟩
  | 83 => ⟨S1x655360, .i32⟩
  | 84 => ⟨S1x655360, .i32⟩
  | 85 => ⟨S1x655360, .i32⟩
  | 86 => ⟨S655360, .i32⟩
  | 87 => ⟨S1x655360x1, .f32⟩
  | 88 => ⟨S1x655360x6, .f32⟩
  | 89 => ⟨S1x655360x6, .f32⟩
  | 90 => ⟨S655360x6, .f32⟩
  | 91 => ⟨S_, .f32⟩
  | 92 => ⟨S520x6, .f32⟩
  | 93 => ⟨S655360x1, .i32⟩
  | 94 => ⟨S520x6, .f32⟩
  | 95 => ⟨S520x6, .f32⟩
  | 96 => ⟨S655360, .f32⟩
  | 97 => ⟨S_, .f32⟩
  | 98 => ⟨S520, .f32⟩
  | 99 => ⟨S655360x1, .i32⟩
  | 100 => ⟨S520, .f32⟩
  | 101 => ⟨S520, .f32⟩
  | 102 => ⟨S1x1x655360, .i1⟩
  | 103 => ⟨S1x655360, .i1⟩
  | 104 => ⟨S1x1x655360, .f32⟩
  | 105 => ⟨S1x655360, .f32⟩
  | 106 => ⟨S_, .f32⟩
  | 107 => ⟨S_, .f32⟩
  | 108 => ⟨S1x655360, .f32⟩
  | 109 => ⟨S1x655360, .f32⟩
  | 110 => ⟨S1x1x655360, .i32⟩
  | 111 => ⟨S1x655360, .i32⟩
  | 112 => ⟨S1x655360, .i32⟩
  | 113 => ⟨S1x655360, .i32⟩
  | 114 => ⟨S655360, .i32⟩
  | 115 => ⟨S1x655360x1, .f32⟩
  | 116 => ⟨S1x655360x6, .f32⟩
  | 117 => ⟨S1x655360x6, .f32⟩
  | 118 => ⟨S655360x6, .f32⟩
  | 119 => ⟨S_, .f32⟩
  | 120 => ⟨S520x6, .f32⟩
  | 121 => ⟨S655360x1, .i32⟩
  | 122 => ⟨S520x6, .f32⟩
  | 123 => ⟨S520x6, .f32⟩
  | 124 => ⟨S655360, .f32⟩
  | 125 => ⟨S_, .f32⟩
  | 126 => ⟨S520, .f32⟩
  | 127 => ⟨S655360x1, .i32⟩
  | _ => ⟨S1x3x8x256x320, .f32⟩

abbrev hbmTy0_16 (i : Nat) : BufTy := match i % 128 with
  | 0 => ⟨S520, .f32⟩
  | 1 => ⟨S520, .f32⟩
  | 2 => ⟨S1x1x655360, .i1⟩
  | 3 => ⟨S1x655360, .i1⟩
  | 4 => ⟨S1x1x655360, .f32⟩
  | 5 => ⟨S1x655360, .f32⟩
  | 6 => ⟨S_, .f32⟩
  | 7 => ⟨S_, .f32⟩
  | 8 => ⟨S1x655360, .f32⟩
  | 9 => ⟨S1x655360, .f32⟩
  | 10 => ⟨S1x1x655360, .i32⟩
  | 11 => ⟨S1x655360, .i32⟩
  | 12 => ⟨S1x655360, .i32⟩
  | 13 => ⟨S1x655360, .i32⟩
  | 14 => ⟨S655360, .i32⟩
  | 15 => ⟨S1x655360x1, .f32⟩
  | 16 => ⟨S1x655360x6, .f32⟩
  | 17 => ⟨S1x655360x6, .f32⟩
  | 18 => ⟨S655360x6, .f32⟩
  | 19 => ⟨S_, .f32⟩
  | 20 => ⟨S520x6, .f32⟩
  | 21 => ⟨S655360x1, .i32⟩
  | 22 => ⟨S520x6, .f32⟩
  | 23 => ⟨S520x6, .f32⟩
  | 24 => ⟨S655360, .f32⟩
  | 25 => ⟨S_, .f32⟩
  | 26 => ⟨S520, .f32⟩
  | 27 => ⟨S655360x1, .i32⟩
  | 28 => ⟨S520, .f32⟩
  | 29 => ⟨S520, .f32⟩
  | 30 => ⟨S1x1x655360, .i1⟩
  | 31 => ⟨S1x655360, .i1⟩
  | 32 => ⟨S1x1x655360, .f32⟩
  | 33 => ⟨S1x655360, .f32⟩
  | 34 => ⟨S_, .f32⟩
  | 35 => ⟨S_, .f32⟩
  | 36 => ⟨S1x655360, .f32⟩
  | 37 => ⟨S1x655360, .f32⟩
  | 38 => ⟨S1x1x655360, .i32⟩
  | 39 => ⟨S1x655360, .i32⟩
  | 40 => ⟨S1x655360, .i32⟩
  | 41 => ⟨S1x655360, .i32⟩
  | 42 => ⟨S655360, .i32⟩
  | 43 => ⟨S1x655360x1, .f32⟩
  | 44 => ⟨S1x655360x6, .f32⟩
  | 45 => ⟨S1x655360x6, .f32⟩
  | 46 => ⟨S655360x6, .f32⟩
  | 47 => ⟨S_, .f32⟩
  | 48 => ⟨S520x6, .f32⟩
  | 49 => ⟨S655360x1, .i32⟩
  | 50 => ⟨S520x6, .f32⟩
  | 51 => ⟨S520x6, .f32⟩
  | 52 => ⟨S655360, .f32⟩
  | 53 => ⟨S_, .f32⟩
  | 54 => ⟨S520, .f32⟩
  | 55 => ⟨S655360x1, .i32⟩
  | 56 => ⟨S520, .f32⟩
  | 57 => ⟨S520, .f32⟩
  | 58 => ⟨S1x1x655360, .i1⟩
  | 59 => ⟨S1x655360, .i1⟩
  | 60 => ⟨S1x1x655360, .f32⟩
  | 61 => ⟨S1x655360, .f32⟩
  | 62 => ⟨S_, .f32⟩
  | 63 => ⟨S_, .f32⟩
  | 64 => ⟨S1x655360, .f32⟩
  | 65 => ⟨S1x655360, .f32⟩
  | 66 => ⟨S1x1x655360, .i32⟩
  | 67 => ⟨S1x655360, .i32⟩
  | 68 => ⟨S1x655360, .i32⟩
  | 69 => ⟨S1x655360, .i32⟩
  | 70 => ⟨S655360, .i32⟩
  | 71 => ⟨S1x655360x1, .f32⟩
  | 72 => ⟨S1x655360x6, .f32⟩
  | 73 => ⟨S1x655360x6, .f32⟩
  | 74 => ⟨S655360x6, .f32⟩
  | 75 => ⟨S_, .f32⟩
  | 76 => ⟨S520x6, .f32⟩
  | 77 => ⟨S655360x1, .i32⟩
  | 78 => ⟨S520x6, .f32⟩
  | 79 => ⟨S520x6, .f32⟩
  | 80 => ⟨S655360, .f32⟩
  | 81 => ⟨S_, .f32⟩
  | 82 => ⟨S520, .f32⟩
  | 83 => ⟨S655360x1, .i32⟩
  | 84 => ⟨S520, .f32⟩
  | 85 => ⟨S520, .f32⟩
  | 86 => ⟨S_, .f32⟩
  | 87 => ⟨S520, .f32⟩
  | 88 => ⟨S520, .f32⟩
  | 89 => ⟨S520x1, .f32⟩
  | 90 => ⟨S520x6, .f32⟩
  | 91 => ⟨S520x6, .f32⟩
  | 92 => ⟨S1x520x6, .f32⟩
  | 93 => ⟨S1x6x520, .f32⟩
  | 94 => ⟨S1x520, .f32⟩
  | 95 => ⟨S1x6x655360, .f32⟩
  | 96 => ⟨S1x655360x6, .f32⟩
  | 97 => ⟨S1x520x6, .f32⟩
  | 98 => ⟨S1x655360, .i32⟩
  | 99 => ⟨S_, .i32⟩
  | 100 => ⟨S_, .i32⟩
  | 101 => ⟨S1x655360, .i32⟩
  | 102 => ⟨S1x655360, .i32⟩
  | 103 => ⟨S1x655360, .i32⟩
  | 104 => ⟨S_, .i32⟩
  | 105 => ⟨S1x655360, .i32⟩
  | 106 => ⟨S1x655360, .i1⟩
  | 107 => ⟨S1x655360, .i32⟩
  | 108 => ⟨S1x655360, .i32⟩
  | 109 => ⟨S_, .i32⟩
  | 110 => ⟨S1x655360, .i32⟩
  | 111 => ⟨S1x655360, .i1⟩
  | 112 => ⟨S1x655360, .i1⟩
  | 113 => ⟨S_, .i32⟩
  | 114 => ⟨S1x655360, .i32⟩
  | 115 => ⟨S1x655360, .i32⟩
  | 116 => ⟨S1x655360, .i32⟩
  | 117 => ⟨S_, .i32⟩
  | 118 => ⟨S_, .i32⟩
  | 119 => ⟨S1x655360, .i32⟩
  | 120 => ⟨S1x655360, .i32⟩
  | 121 => ⟨S1x655360, .i32⟩
  | 122 => ⟨S_, .i32⟩
  | 123 => ⟨S1x655360, .i32⟩
  | 124 => ⟨S1x655360, .i1⟩
  | 125 => ⟨S1x655360, .i32⟩
  | 126 => ⟨S1x655360, .i32⟩
  | 127 => ⟨S_, .i32⟩
  | _ => ⟨S1x3x8x256x320, .f32⟩

abbrev hbmTy0_17 (i : Nat) : BufTy := match i % 128 with
  | 0 => ⟨S1x655360, .i32⟩
  | 1 => ⟨S1x655360, .i1⟩
  | 2 => ⟨S1x655360, .i1⟩
  | 3 => ⟨S_, .i32⟩
  | 4 => ⟨S1x655360, .i32⟩
  | 5 => ⟨S1x655360, .i32⟩
  | 6 => ⟨S1x655360, .i32⟩
  | 7 => ⟨S_, .i32⟩
  | 8 => ⟨S_, .i32⟩
  | 9 => ⟨S_, .i32⟩
  | 10 => ⟨S_, .i1⟩
  | 11 => ⟨S_, .i32⟩
  | 12 => ⟨S_, .i32⟩
  | 13 => ⟨S1x655360, .i32⟩
  | 14 => ⟨S1x655360, .i32⟩
  | 15 => ⟨S_, .i32⟩
  | 16 => ⟨S1x655360, .i32⟩
  | 17 => ⟨S1x655360, .i1⟩
  | 18 => ⟨S_, .i32⟩
  | 19 => ⟨S1x655360, .i32⟩
  | 20 => ⟨S1x655360, .i1⟩
  | 21 => ⟨S_, .i32⟩
  | 22 => ⟨S_, .i1⟩
  | 23 => ⟨S1x655360, .i1⟩
  | 24 => ⟨S1x655360, .i1⟩
  | 25 => ⟨S1x655360, .i1⟩
  | 26 => ⟨S1x655360, .i32⟩
  | 27 => ⟨S1x655360, .i32⟩
  | 28 => ⟨S1x655360, .i32⟩
  | 29 => ⟨S_, .i32⟩
  | 30 => ⟨S_, .i32⟩
  | 31 => ⟨S_, .i32⟩
  | 32 => ⟨S_, .i1⟩
  | 33 => ⟨S_, .i32⟩
  | 34 => ⟨S_, .i32⟩
  | 35 => ⟨S1x655360, .i32⟩
  | 36 => ⟨S1x655360, .i32⟩
  | 37 => ⟨S_, .i32⟩
  | 38 => ⟨S1x655360, .i32⟩
  | 39 => ⟨S1x655360, .i1⟩
  | 40 => ⟨S_, .i32⟩
  | 41 => ⟨S1x655360, .i32⟩
  | 42 => ⟨S1x655360, .i1⟩
  | 43 => ⟨S_, .i32⟩
  | 44 => ⟨S_, .i1⟩
  | 45 => ⟨S1x655360, .i1⟩
  | 46 => ⟨S1x655360, .i1⟩
  | 47 => ⟨S1x655360, .i1⟩
  | 48 => ⟨S1x655360, .i32⟩
  | 49 => ⟨S1x655360, .i32⟩
  | 50 => ⟨S1x655360, .i32⟩
  | 51 => ⟨S1x1x655360, .i32⟩
  | 52 => ⟨S1x27x1, .i32⟩
  | 53 => ⟨S1x27x655360, .i32⟩
  | 54 => ⟨S1x27x655360, .i32⟩
  | 55 => ⟨S1x27x655360, .i32⟩
  | 56 => ⟨S1x1x655360, .i32⟩
  | 57 => ⟨S1x27x1, .i32⟩
  | 58 => ⟨S1x27x655360, .i32⟩
  | 59 => ⟨S1x27x655360, .i32⟩
  | 60 => ⟨S1x27x655360, .i32⟩
  | 61 => ⟨S1x1x655360, .i32⟩
  | 62 => ⟨S1x27x1, .i32⟩
  | 63 => ⟨S1x27x655360, .i32⟩
  | 64 => ⟨S1x27x655360, .i32⟩
  | 65 => ⟨S1x27x655360, .i32⟩
  | 66 => ⟨S_, .i32⟩
  | 67 => ⟨S1x27x655360, .i32⟩
  | 68 => ⟨S1x27x655360, .i1⟩
  | 69 => ⟨S_, .i32⟩
  | 70 => ⟨S1x27x655360, .i32⟩
  | 71 => ⟨S1x27x655360, .i1⟩
  | 72 => ⟨S1x27x655360, .i1⟩
  | 73 => ⟨S_, .i32⟩
  | 74 => ⟨S1x27x655360, .i32⟩
  | 75 => ⟨S1x27x655360, .i1⟩
  | 76 => ⟨S1x27x655360, .i1⟩
  | 77 => ⟨S_, .i32⟩
  | 78 => ⟨S1x27x655360, .i32⟩
  | 79 => ⟨S1x27x655360, .i1⟩
  | 80 => ⟨S1x27x655360, .i1⟩
  | 81 => ⟨S_, .i32⟩
  | 82 => ⟨S1x27x655360, .i32⟩
  | 83 => ⟨S1x27x655360, .i1⟩
  | 84 => ⟨S1x27x655360, .i1⟩
  | 85 => ⟨S_, .i32⟩
  | 86 => ⟨S1x27x655360, .i32⟩
  | 87 => ⟨S1x27x655360, .i1⟩
  | 88 => ⟨S1x27x655360, .i1⟩
  | 89 => ⟨S_, .i32⟩
  | 90 => ⟨S_, .i32⟩
  | 91 => ⟨S_, .i32⟩
  | 92 => ⟨S1x27x655360, .i32⟩
  | 93 => ⟨S1x27x655360, .i32⟩
  | 94 => ⟨S_, .i32⟩
  | 95 => ⟨S1x27x655360, .i32⟩
  | 96 => ⟨S1x27x655360, .i32⟩
  | 97 => ⟨S_, .i32⟩
  | 98 => ⟨S1x27x655360, .i32⟩
  | 99 => ⟨S1x27x655360, .i32⟩
  | 100 => ⟨S_, .i32⟩
  | 101 => ⟨S_, .i32⟩
  | 102 => ⟨S_, .i32⟩
  | 103 => ⟨S1x27x655360, .i32⟩
  | 104 => ⟨S1x27x655360, .i32⟩
  | 105 => ⟨S_, .i32⟩
  | 106 => ⟨S1x27x655360, .i32⟩
  | 107 => ⟨S1x27x655360, .i32⟩
  | 108 => ⟨S1x27x655360, .i32⟩
  | 109 => ⟨S_, .i32⟩
  | 110 => ⟨S1x27x655360, .i32⟩
  | 111 => ⟨S1x27x655360, .i32⟩
  | 112 => ⟨S_, .i32⟩
  | 113 => ⟨S_, .i32⟩
  | 114 => ⟨S_, .i32⟩
  | 115 => ⟨S1x27x655360, .i32⟩
  | 116 => ⟨S1x27x655360, .i32⟩
  | 117 => ⟨S_, .i32⟩
  | 118 => ⟨S1x27x655360, .i32⟩
  | 119 => ⟨S1x27x655360, .i32⟩
  | 120 => ⟨S1x27x655360, .i32⟩
  | 121 => ⟨S1x1x655360, .i32⟩
  | 122 => ⟨S1x655360, .i32⟩
  | 123 => ⟨S1x655360x1, .i32⟩
  | 124 => ⟨S_, .i32⟩
  | 125 => ⟨S1x655360x1, .i32⟩
  | 126 => ⟨S1x655360x1, .i1⟩
  | 127 => ⟨S_, .i32⟩
  | _ => ⟨S1x3x8x256x320, .f32⟩

abbrev hbmTy0_18 (i : Nat) : BufTy := match i % 128 with
  | 0 => ⟨S1x655360x1, .i32⟩
  | 1 => ⟨S1x655360x1, .i32⟩
  | 2 => ⟨S1x655360x1, .i32⟩
  | 3 => ⟨S655360x1, .i32⟩
  | 4 => ⟨S1, .i32⟩
  | 5 => ⟨S_, .i32⟩
  | 6 => ⟨S655360x1, .i32⟩
  | 7 => ⟨S655360x1, .i1⟩
  | 8 => ⟨S1x1, .i32⟩
  | 9 => ⟨S655360x1, .i32⟩
  | 10 => ⟨S655360x1, .i1⟩
  | 11 => ⟨S655360x1, .i1⟩
  | 12 => ⟨S_, .i1⟩
  | 13 => ⟨S655360, .i1⟩
  | 14 => ⟨S1x655360x6, .f32⟩
  | 15 => ⟨S1x655360x6, .i1⟩
  | 16 => ⟨S_, .f32⟩
  | 17 => ⟨S1x655360x6, .f32⟩
  | 18 => ⟨S1x655360x6, .f32⟩
  | 19 => ⟨S1x655360x6, .f32⟩
  | 20 => ⟨S1x655360x6, .f32⟩
  | 21 => ⟨S_, .f32⟩
  | 22 => ⟨S1x655360, .f32⟩
  | 23 => ⟨S1x1x655360, .i1⟩
  | 24 => ⟨S1x655360, .i1⟩
  | 25 => ⟨S_, .f32⟩
  | 26 => ⟨S_, .f32⟩
  | 27 => ⟨S1x655360, .f32⟩
  | 28 => ⟨S1x655360, .f32⟩
  | 29 => ⟨S1x1x655360, .i32⟩
  | 30 => ⟨S1x655360, .i32⟩
  | 31 => ⟨S1x655360x1, .i32⟩
  | 32 => ⟨S_, .i32⟩
  | 33 => ⟨S1x655360x1, .i32⟩
  | 34 => ⟨S1x655360x1, .i1⟩
  | 35 => ⟨S_, .i32⟩
  | 36 => ⟨S1x655360x1, .i32⟩
  | 37 => ⟨S1x655360x1, .i32⟩
  | 38 => ⟨S1x655360x1, .i32⟩
  | 39 => ⟨S655360x1, .i32⟩
  | 40 => ⟨S1, .i32⟩
  | 41 => ⟨S_, .i32⟩
  | 42 => ⟨S655360x1, .i32⟩
  | 43 => ⟨S655360x1, .i1⟩
  | 44 => ⟨S1x1, .i32⟩
  | 45 => ⟨S655360x1, .i32⟩
  | 46 => ⟨S655360x1, .i1⟩
  | 47 => ⟨S655360x1, .i1⟩
  | 48 => ⟨S_, .i1⟩
  | 49 => ⟨S655360, .i1⟩
  | 50 => ⟨S1x655360x6, .f32⟩
  | 51 => ⟨S1x655360x6, .i1⟩
  | 52 => ⟨S_, .f32⟩
  | 53 => ⟨S1x655360x6, .f32⟩
  | 54 => ⟨S1x655360x6, .f32⟩
  | 55 => ⟨S1x655360x6, .f32⟩
  | 56 => ⟨S1x655360x6, .f32⟩
  | 57 => ⟨S_, .f32⟩
  | 58 => ⟨S1x655360, .f32⟩
  | 59 => ⟨S1x1x655360, .i1⟩
  | 60 => ⟨S1x655360, .i1⟩
  | 61 => ⟨S_, .f32⟩
  | 62 => ⟨S_, .f32⟩
  | 63 => ⟨S1x655360, .f32⟩
  | 64 => ⟨S1x655360, .f32⟩
  | 65 => ⟨S1x1x655360, .i32⟩
  | 66 => ⟨S1x655360, .i32⟩
  | 67 => ⟨S1x655360x1, .i32⟩
  | 68 => ⟨S_, .i32⟩
  | 69 => ⟨S1x655360x1, .i32⟩
  | 70 => ⟨S1x655360x1, .i1⟩
  | 71 => ⟨S_, .i32⟩
  | 72 => ⟨S1x655360x1, .i32⟩
  | 73 => ⟨S1x655360x1, .i32⟩
  | 74 => ⟨S1x655360x1, .i32⟩
  | 75 => ⟨S655360x1, .i32⟩
  | 76 => ⟨S1, .i32⟩
  | 77 => ⟨S_, .i32⟩
  | 78 => ⟨S655360x1, .i32⟩
  | 79 => ⟨S655360x1, .i1⟩
  | 80 => ⟨S1x1, .i32⟩
  | 81 => ⟨S655360x1, .i32⟩
  | 82 => ⟨S655360x1, .i1⟩
  | 83 => ⟨S655360x1, .i1⟩
  | 84 => ⟨S_, .i1⟩
  | 85 => ⟨S655360, .i1⟩
  | 86 => ⟨S1x655360x6, .f32⟩
  | 87 => ⟨S1x655360x6, .i1⟩
  | 88 => ⟨S_, .f32⟩
  | 89 => ⟨S1x655360x6, .f32⟩
  | 90 => ⟨S1x655360x6, .f32⟩
  | 91 => ⟨S1x655360x6, .f32⟩
  | 92 => ⟨S1x655360x6, .f32⟩
  | 93 => ⟨S_, .f32⟩
  | 94 => ⟨S1x655360, .f32⟩
  | 95 => ⟨S1x1x655360, .i1⟩
  | 96 => ⟨S1x655360, .i1⟩
  | 97 => ⟨S_, .f32⟩
  | 98 => ⟨S_, .f32⟩
  | 99 => ⟨S1x655360, .f32⟩
  | 100 => ⟨S1x655360, .f32⟩
  | 101 => ⟨S1x1x655360, .i32⟩
  | 102 => ⟨S1x655360, .i32⟩
  | 103 => ⟨S1x655360x1, .i32⟩
  | 104 => ⟨S_, .i32⟩
  | 105 => ⟨S1x655360x1, .i32⟩
  | 106 => ⟨S1x655360x1, .i1⟩
  | 107 => ⟨S_, .i32⟩
  | 108 => ⟨S1x655360x1, .i32⟩
  | 109 => ⟨S1x655360x1, .i32⟩
  | 110 => ⟨S1x655360x1, .i32⟩
  | 111 => ⟨S655360x1, .i32⟩
  | 112 => ⟨S1, .i32⟩
  | 113 => ⟨S_, .i32⟩
  | 114 => ⟨S655360x1, .i32⟩
  | 115 => ⟨S655360x1, .i1⟩
  | 116 => ⟨S1x1, .i32⟩
  | 117 => ⟨S655360x1, .i32⟩
  | 118 => ⟨S655360x1, .i1⟩
  | 119 => ⟨S655360x1, .i1⟩
  | 120 => ⟨S_, .i1⟩
  | 121 => ⟨S655360, .i1⟩
  | 122 => ⟨S1x655360x6, .f32⟩
  | 123 => ⟨S1x655360x6, .i1⟩
  | 124 => ⟨S_, .f32⟩
  | 125 => ⟨S1x655360x6, .f32⟩
  | 126 => ⟨S1x655360x6, .f32⟩
  | 127 => ⟨S1x655360x6, .f32⟩
  | _ => ⟨S1x3x8x256x320, .f32⟩

abbrev hbmTy0_19 (i : Nat) : BufTy := match i % 128 with
  | 0 => ⟨S1x655360x6, .f32⟩
  | 1 => ⟨S_, .f32⟩
  | 2 => ⟨S1x655360, .f32⟩
  | 3 => ⟨S1x1x655360, .i1⟩
  | 4 => ⟨S1x655360, .i1⟩
  | 5 => ⟨S_, .f32⟩
  | 6 => ⟨S_, .f32⟩
  | 7 => ⟨S1x655360, .f32⟩
  | 8 => ⟨S1x655360, .f32⟩
  | 9 => ⟨S1x1x655360, .i32⟩
  | 10 => ⟨S1x655360, .i32⟩
  | 11 => ⟨S1x655360x1, .i32⟩
  | 12 => ⟨S_, .i32⟩
  | 13 => ⟨S1x655360x1, .i32⟩
  | 14 => ⟨S1x655360x1, .i1⟩
  | 15 => ⟨S_, .i32⟩
  | 16 => ⟨S1x655360x1, .i32⟩
  | 17 => ⟨S1x655360x1, .i32⟩
  | 18 => ⟨S1x655360x1, .i32⟩
  | 19 => ⟨S655360x1, .i32⟩
  | 20 => ⟨S1, .i32⟩
  | 21 => ⟨S_, .i32⟩
  | 22 => ⟨S655360x1, .i32⟩
  | 23 => ⟨S655360x1, .i1⟩
  | 24 => ⟨S1x1, .i32⟩
  | 25 => ⟨S655360x1, .i32⟩
  | 26 => ⟨S655360x1, .i1⟩
  | 27 => ⟨S655360x1, .i1⟩
  | 28 => ⟨S_, .i1⟩
  | 29 => ⟨S655360, .i1⟩
  | 30 => ⟨S1x655360x6, .f32⟩
  | 31 => ⟨S1x655360x6, .i1⟩
  | 32 => ⟨S_, .f32⟩
  | 33 => ⟨S1x655360x6, .f32⟩
  | 34 => ⟨S1x655360x6, .f32⟩
  | 35 => ⟨S1x655360x6, .f32⟩
  | 36 => ⟨S1x655360x6, .f32⟩
  | 37 => ⟨S_, .f32⟩
  | 38 => ⟨S1x655360, .f32⟩
  | 39 => ⟨S1x1x655360, .i1⟩
  | 40 => ⟨S1x655360, .i1⟩
  | 41 => ⟨S_, .f32⟩
  | 42 => ⟨S_, .f32⟩
  | 43 => ⟨S1x655360, .f32⟩
  | 44 => ⟨S1x655360, .f32⟩
  | 45 => ⟨S1x1x655360, .i32⟩
  | 46 => ⟨S1x655360, .i32⟩
  | 47 => ⟨S1x655360x1, .i32⟩
  | 48 => ⟨S_, .i32⟩
  | 49 => ⟨S1x655360x1, .i32⟩
  | 50 => ⟨S1x655360x1, .i1⟩
  | 51 => ⟨S_, .i32⟩
  | 52 => ⟨S1x655360x1, .i32⟩
  | 53 => ⟨S1x655360x1, .i32⟩
  | 54 => ⟨S1x655360x1, .i32⟩
  | 55 => ⟨S655360x1, .i32⟩
  | 56 => ⟨S1, .i32⟩
  | 57 => ⟨S_, .i32⟩
  | 58 => ⟨S655360x1, .i32⟩
  | 59 => ⟨S655360x1, .i1⟩
  | 60 => ⟨S1x1, .i32⟩
  | 61 => ⟨S655360x1, .i32⟩
  | 62 => ⟨S655360x1, .i1⟩
  | 63 => ⟨S655360x1, .i1⟩
  | 64 => ⟨S_, .i1⟩
  | 65 => ⟨S655360, .i1⟩
  | 66 => ⟨S1x655360x6, .f32⟩
  | 67 => ⟨S1x655360x6, .i1⟩
  | 68 => ⟨S_, .f32⟩
  | 69 => ⟨S1x655360x6, .f32⟩
  | 70 => ⟨S1x655360x6, .f32⟩
  | 71 => ⟨S1x655360x6, .f32⟩
  | 72 => ⟨S1x655360x6, .f32⟩
  | 73 => ⟨S_, .f32⟩
  | 74 => ⟨S1x655360, .f32⟩
  | 75 => ⟨S1x1x655360, .i1⟩
  | 76 => ⟨S1x655360, .i1⟩
  | 77 => ⟨S_, .f32⟩
  | 78 => ⟨S_, .f32⟩
  | 79 => ⟨S1x655360, .f32⟩
  | 80 => ⟨S1x655360, .f32⟩
  | 81 => ⟨S1x1x655360, .i32⟩
  | 82 => ⟨S1x655360, .i32⟩
  | 83 => ⟨S1x655360x1, .i32⟩
  | 84 => ⟨S_, .i32⟩
  | 85 => ⟨S1x655360x1, .i32⟩
  | 86 => ⟨S1x655360x1, .i1⟩
  | 87 => ⟨S_, .i32⟩
  | 88 => ⟨S1x655360x1, .i32⟩
  | 89 => ⟨S1x655360x1, .i32⟩
  | 90 => ⟨S1x655360x1, .i32⟩
  | 91 => ⟨S655360x1, .i32⟩
  | 92 => ⟨S1, .i32⟩
  | 93 => ⟨S_, .i32⟩
  | 94 => ⟨S655360x1, .i32⟩
  | 95 => ⟨S655360x1, .i1⟩
  | 96 => ⟨S1x1, .i32⟩
  | 97 => ⟨S655360x1, .i32⟩
  | 98 => ⟨S655360x1, .i1⟩
  | 99 => ⟨S655360x1, .i1⟩
  | 100 => ⟨S_, .i1⟩
  | 101 => ⟨S655360, .i1⟩
  | 102 => ⟨S1x655360x6, .f32⟩
  | 103 => ⟨S1x655360x6, .i1⟩
  | 104 => ⟨S_, .f32⟩
  | 105 => ⟨S1x655360x6, .f32⟩
  | 106 => ⟨S1x655360x6, .f32⟩
  | 107 => ⟨S1x655360x6, .f32⟩
  | 108 => ⟨S1x655360x6, .f32⟩
  | 109 => ⟨S_, .f32⟩
  | 110 => ⟨S1x655360, .f32⟩
  | 111 => ⟨S1x1x655360, .i1⟩
  | 112 => ⟨S1x655360, .i1⟩
  | 113 => ⟨S_, .f32⟩
  | 114 => ⟨S_, .f32⟩
  | 115 => ⟨S1x655360, .f32⟩
  | 116 => ⟨S1x655360, .f32⟩
  | 117 => ⟨S1x1x655360, .i32⟩
  | 118 => ⟨S1x655360, .i32⟩
  | 119 => ⟨S1x655360x1, .i32⟩
  | 120 => ⟨S_, .i32⟩
  | 121 => ⟨S1x655360x1, .i32⟩
  | 122 => ⟨S1x655360x1, .i1⟩
  | 123 => ⟨S_, .i32⟩
  | 124 => ⟨S1x655360x1, .i32⟩
  | 125 => ⟨S1x655360x1, .i32⟩
  | 126 => ⟨S1x655360x1, .i32⟩
  | 127 => ⟨S655360x1, .i32⟩
  | _ => ⟨S1x3x8x256x320, .f32⟩

abbrev hbmTy0_20 (i : Nat) : BufTy := match i % 128 with
  | 0 => ⟨S1, .i32⟩
  | 1 => ⟨S_, .i32⟩
  | 2 => ⟨S655360x1, .i32⟩
  | 3 => ⟨S655360x1, .i1⟩
  | 4 => ⟨S1x1, .i32⟩
  | 5 => ⟨S655360x1, .i32⟩
  | 6 => ⟨S655360x1, .i1⟩
  | 7 => ⟨S655360x1, .i1⟩
  | 8 => ⟨S_, .i1⟩
  | 9 => ⟨S655360, .i1⟩
  | 10 => ⟨S1x655360x6, .f32⟩
  | 11 => ⟨S1x655360x6, .i1⟩
  | 12 => ⟨S_, .f32⟩
  | 13 => ⟨S1x655360x6, .f32⟩
  | 14 => ⟨S1x655360x6, .f32⟩
  | 15 => ⟨S1x655360x6, .f32⟩
  | 16 => ⟨S1x655360x6, .f32⟩
  | 17 => ⟨S_, .f32⟩
  | 18 => ⟨S1x655360, .f32⟩
  | 19 => ⟨S1x1x655360, .i1⟩
  | 20 => ⟨S1x655360, .i1⟩
  | 21 => ⟨S_, .f32⟩
  | 22 => ⟨S_, .f32⟩
  | 23 => ⟨S1x655360, .f32⟩
  | 24 => ⟨S1x655360, .f32⟩
  | 25 => ⟨S1x1x655360, .i32⟩
  | 26 => ⟨S1x655360, .i32⟩
  | 27 => ⟨S1x655360x1, .i32⟩
  | 28 => ⟨S_, .i32⟩
  | 29 => ⟨S1x655360x1, .i32⟩
  | 30 => ⟨S1x655360x1, .i1⟩
  | 31 => ⟨S_, .i32⟩
  | 32 => ⟨S1x655360x1, .i32⟩
  | 33 => ⟨S1x655360x1, .i32⟩
  | 34 => ⟨S1x655360x1, .i32⟩
  | 35 => ⟨S655360x1, .i32⟩
  | 36 => ⟨S1, .i32⟩
  | 37 => ⟨S_, .i32⟩
  | 38 => ⟨S655360x1, .i32⟩
  | 39 => ⟨S655360x1, .i1⟩
  | 40 => ⟨S1x1, .i32⟩
  | 41 => ⟨S655360x1, .i32⟩
  | 42 => ⟨S655360x1, .i1⟩
  | 43 => ⟨S655360x1, .i1⟩
  | 44 => ⟨S_, .i1⟩
  | 45 => ⟨S655360, .i1⟩
  | 46 => ⟨S1x655360x6, .f32⟩
  | 47 => ⟨S1x655360x6, .i1⟩
  | 48 => ⟨S_, .f32⟩
  | 49 => ⟨S1x655360x6, .f32⟩
  | 50 => ⟨S1x655360x6, .f32⟩
  | 51 => ⟨S1x655360x6, .f32⟩
  | 52 => ⟨S1x655360x6, .f32⟩
  | 53 => ⟨S_, .f32⟩
  | 54 => ⟨S1x655360, .f32⟩
  | 55 => ⟨S1x1x655360, .i1⟩
  | 56 => ⟨S1x655360, .i1⟩
  | 57 => ⟨S_, .f32⟩
  | 58 => ⟨S_, .f32⟩
  | 59 => ⟨S1x655360, .f32⟩
  | 60 => ⟨S1x655360, .f32⟩
  | 61 => ⟨S1x1x655360, .i32⟩
  | 62 => ⟨S1x655360, .i32⟩
  | 63 => ⟨S1x655360x1, .i32⟩
  | 64 => ⟨S_, .i32⟩
  | 65 => ⟨S1x655360x1, .i32⟩
  | 66 => ⟨S1x655360x1, .i1⟩
  | 67 => ⟨S_, .i32⟩
  | 68 => ⟨S1x655360x1, .i32⟩
  | 69 => ⟨S1x655360x1, .i32⟩
  | 70 => ⟨S1x655360x1, .i32⟩
  | 71 => ⟨S655360x1, .i32⟩
  | 72 => ⟨S1, .i32⟩
  | 73 => ⟨S_, .i32⟩
  | 74 => ⟨S655360x1, .i32⟩
  | 75 => ⟨S655360x1, .i1⟩
  | 76 => ⟨S1x1, .i32⟩
  | 77 => ⟨S655360x1, .i32⟩
  | 78 => ⟨S655360x1, .i1⟩
  | 79 => ⟨S655360x1, .i1⟩
  | 80 => ⟨S_, .i1⟩
  | 81 => ⟨S655360, .i1⟩
  | 82 => ⟨S1x655360x6, .f32⟩
  | 83 => ⟨S1x655360x6, .i1⟩
  | 84 => ⟨S_, .f32⟩
  | 85 => ⟨S1x655360x6, .f32⟩
  | 86 => ⟨S1x655360x6, .f32⟩
  | 87 => ⟨S1x655360x6, .f32⟩
  | 88 => ⟨S1x655360x6, .f32⟩
  | 89 => ⟨S_, .f32⟩
  | 90 => ⟨S1x655360, .f32⟩
  | 91 => ⟨S1x1x655360, .i1⟩
  | 92 => ⟨S1x655360, .i1⟩
  | 93 => ⟨S_, .f32⟩
  | 94 => ⟨S_, .f32⟩
  | 95 => ⟨S1x655360, .f32⟩
  | 96 => ⟨S1x655360, .f32⟩
  | 97 => ⟨S1x1x655360, .i32⟩
  | 98 => ⟨S1x655360, .i32⟩
  | 99 => ⟨S1x655360x1, .i32⟩
  | 100 => ⟨S_, .i32⟩
  | 101 => ⟨S1x655360x1, .i32⟩
  | 102 => ⟨S1x655360x1, .i1⟩
  | 103 => ⟨S_, .i32⟩
  | 104 => ⟨S1x655360x1, .i32⟩
  | 105 => ⟨S1x655360x1, .i32⟩
  | 106 => ⟨S1x655360x1, .i32⟩
  | 107 => ⟨S655360x1, .i32⟩
  | 108 => ⟨S1, .i32⟩
  | 109 => ⟨S_, .i32⟩
  | 110 => ⟨S655360x1, .i32⟩
  | 111 => ⟨S655360x1, .i1⟩
  | 112 => ⟨S1x1, .i32⟩
  | 113 => ⟨S655360x1, .i32⟩
  | 114 => ⟨S655360x1, .i1⟩
  | 115 => ⟨S655360x1, .i1⟩
  | 116 => ⟨S_, .i1⟩
  | 117 => ⟨S655360, .i1⟩
  | 118 => ⟨S1x655360x6, .f32⟩
  | 119 => ⟨S1x655360x6, .i1⟩
  | 120 => ⟨S_, .f32⟩
  | 121 => ⟨S1x655360x6, .f32⟩
  | 122 => ⟨S1x655360x6, .f32⟩
  | 123 => ⟨S1x655360x6, .f32⟩
  | 124 => ⟨S1x655360x6, .f32⟩
  | 125 => ⟨S_, .f32⟩
  | 126 => ⟨S1x655360, .f32⟩
  | 127 => ⟨S1x1x655360, .i1⟩
  | _ => ⟨S1x3x8x256x320, .f32⟩

abbrev hbmTy0_21 (i : Nat) : BufTy := match i % 128 with
  | 0 => ⟨S1x655360, .i1⟩
  | 1 => ⟨S_, .f32⟩
  | 2 => ⟨S_, .f32⟩
  | 3 => ⟨S1x655360, .f32⟩
  | 4 => ⟨S1x655360, .f32⟩
  | 5 => ⟨S1x1x655360, .i32⟩
  | 6 => ⟨S1x655360, .i32⟩
  | 7 => ⟨S1x655360x1, .i32⟩
  | 8 => ⟨S_, .i32⟩
  | 9 => ⟨S1x655360x1, .i32⟩
  | 10 => ⟨S1x655360x1, .i1⟩
  | 11 => ⟨S_, .i32⟩
  | 12 => ⟨S1x655360x1, .i32⟩
  | 13 => ⟨S1x655360x1, .i32⟩
  | 14 => ⟨S1x655360x1, .i32⟩
  | 15 => ⟨S655360x1, .i32⟩
  | 16 => ⟨S1, .i32⟩
  | 17 => ⟨S_, .i32⟩
  | 18 => ⟨S655360x1, .i32⟩
  | 19 => ⟨S655360x1, .i1⟩
  | 20 => ⟨S1x1, .i32⟩
  | 21 => ⟨S655360x1, .i32⟩
  | 22 => ⟨S655360x1, .i1⟩
  | 23 => ⟨S655360x1, .i1⟩
  | 24 => ⟨S_, .i1⟩
  | 25 => ⟨S655360, .i1⟩
  | 26 => ⟨S1x655360x6, .f32⟩
  | 27 => ⟨S1x655360x6, .i1⟩
  | 28 => ⟨S_, .f32⟩
  | 29 => ⟨S1x655360x6, .f32⟩
  | 30 => ⟨S1x655360x6, .f32⟩
  | 31 => ⟨S1x655360x6, .f32⟩
  | 32 => ⟨S1x655360x6, .f32⟩
  | 33 => ⟨S_, .f32⟩
  | 34 => ⟨S1x655360, .f32⟩
  | 35 => ⟨S1x1x655360, .i1⟩
  | 36 => ⟨S1x655360, .i1⟩
  | 37 => ⟨S_, .f32⟩
  | 38 => ⟨S_, .f32⟩
  | 39 => ⟨S1x655360, .f32⟩
  | 40 => ⟨S1x655360, .f32⟩
  | 41 => ⟨S1x1x655360, .i32⟩
  | 42 => ⟨S1x655360, .i32⟩
  | 43 => ⟨S1x655360x1, .i32⟩
  | 44 => ⟨S_, .i32⟩
  | 45 => ⟨S1x655360x1, .i32⟩
  | 46 => ⟨S1x655360x1, .i1⟩
  | 47 => ⟨S_, .i32⟩
  | 48 => ⟨S1x655360x1, .i32⟩
  | 49 => ⟨S1x655360x1, .i32⟩
  | 50 => ⟨S1x655360x1, .i32⟩
  | 51 => ⟨S655360x1, .i32⟩
  | 52 => ⟨S1, .i32⟩
  | 53 => ⟨S_, .i32⟩
  | 54 => ⟨S655360x1, .i32⟩
  | 55 => ⟨S655360x1, .i1⟩
  | 56 => ⟨S1x1, .i32⟩
  | 57 => ⟨S655360x1, .i32⟩
  | 58 => ⟨S655360x1, .i1⟩
  | 59 => ⟨S655360x1, .i1⟩
  | 60 => ⟨S_, .i1⟩
  | 61 => ⟨S655360, .i1⟩
  | 62 => ⟨S1x655360x6, .f32⟩
  | 63 => ⟨S1x655360x6, .i1⟩
  | 64 => ⟨S_, .f32⟩
  | 65 => ⟨S1x655360x6, .f32⟩
  | 66 => ⟨S1x655360x6, .f32⟩
  | 67 => ⟨S1x655360x6, .f32⟩
  | 68 => ⟨S1x655360x6, .f32⟩
  | 69 => ⟨S_, .f32⟩
  | 70 => ⟨S1x655360, .f32⟩
  | 71 => ⟨S1x1x655360, .i1⟩
  | 72 => ⟨S1x655360, .i1⟩
  | 73 => ⟨S_, .f32⟩
  | 74 => ⟨S_, .f32⟩
  | 75 => ⟨S1x655360, .f32⟩
  | 76 => ⟨S1x655360, .f32⟩
  | 77 => ⟨S1x1x655360, .i32⟩
  | 78 => ⟨S1x655360, .i32⟩
  | 79 => ⟨S1x655360x1, .i32⟩
  | 80 => ⟨S_, .i32⟩
  | 81 => ⟨S1x655360x1, .i32⟩
  | 82 => ⟨S1x655360x1, .i1⟩
  | 83 => ⟨S_, .i32⟩
  | 84 => ⟨S1x655360x1, .i32⟩
  | 85 => ⟨S1x655360x1, .i32⟩
  | 86 => ⟨S1x655360x1, .i32⟩
  | 87 => ⟨S655360x1, .i32⟩
  | 88 => ⟨S1, .i32⟩
  | 89 => ⟨S_, .i32⟩
  | 90 => ⟨S655360x1, .i32⟩
  | 91 => ⟨S655360x1, .i1⟩
  | 92 => ⟨S1x1, .i32⟩
  | 93 => ⟨S655360x1, .i32⟩
  | 94 => ⟨S655360x1, .i1⟩
  | 95 => ⟨S655360x1, .i1⟩
  | 96 => ⟨S_, .i1⟩
  | 97 => ⟨S655360, .i1⟩
  | 98 => ⟨S1x655360x6, .f32⟩
  | 99 => ⟨S1x655360x6, .i1⟩
  | 100 => ⟨S_, .f32⟩
  | 101 => ⟨S1x655360x6, .f32⟩
  | 102 => ⟨S1x655360x6, .f32⟩
  | 103 => ⟨S1x655360x6, .f32⟩
  | 104 => ⟨S1x655360x6, .f32⟩
  | 105 => ⟨S_, .f32⟩
  | 106 => ⟨S1x655360, .f32⟩
  | 107 => ⟨S1x1x655360, .i1⟩
  | 108 => ⟨S1x655360, .i1⟩
  | 109 => ⟨S_, .f32⟩
  | 110 => ⟨S_, .f32⟩
  | 111 => ⟨S1x655360, .f32⟩
  | 112 => ⟨S1x655360, .f32⟩
  | 113 => ⟨S1x1x655360, .i32⟩
  | 114 => ⟨S1x655360, .i32⟩
  | 115 => ⟨S1x655360x1, .i32⟩
  | 116 => ⟨S_, .i32⟩
  | 117 => ⟨S1x655360x1, .i32⟩
  | 118 => ⟨S1x655360x1, .i1⟩
  | 119 => ⟨S_, .i32⟩
  | 120 => ⟨S1x655360x1, .i32⟩
  | 121 => ⟨S1x655360x1, .i32⟩
  | 122 => ⟨S1x655360x1, .i32⟩
  | 123 => ⟨S655360x1, .i32⟩
  | 124 => ⟨S1, .i32⟩
  | 125 => ⟨S_, .i32⟩
  | 126 => ⟨S655360x1, .i32⟩
  | 127 => ⟨S655360x1, .i1⟩
  | _ => ⟨S1x3x8x256x320, .f32⟩

abbrev hbmTy0_22 (i : Nat) : BufTy := match i % 128 with
  | 0 => ⟨S1x1, .i32⟩
  | 1 => ⟨S655360x1, .i32⟩
  | 2 => ⟨S655360x1, .i1⟩
  | 3 => ⟨S655360x1, .i1⟩
  | 4 => ⟨S_, .i1⟩
  | 5 => ⟨S655360, .i1⟩
  | 6 => ⟨S1x655360x6, .f32⟩
  | 7 => ⟨S1x655360x6, .i1⟩
  | 8 => ⟨S_, .f32⟩
  | 9 => ⟨S1x655360x6, .f32⟩
  | 10 => ⟨S1x655360x6, .f32⟩
  | 11 => ⟨S1x655360x6, .f32⟩
  | 12 => ⟨S1x655360x6, .f32⟩
  | 13 => ⟨S_, .f32⟩
  | 14 => ⟨S1x655360, .f32⟩
  | 15 => ⟨S1x1x655360, .i1⟩
  | 16 => ⟨S1x655360, .i1⟩
  | 17 => ⟨S_, .f32⟩
  | 18 => ⟨S_, .f32⟩
  | 19 => ⟨S1x655360, .f32⟩
  | 20 => ⟨S1x655360, .f32⟩
  | 21 => ⟨S1x1x655360, .i32⟩
  | 22 => ⟨S1x655360, .i32⟩
  | 23 => ⟨S1x655360x1, .i32⟩
  | 24 => ⟨S_, .i32⟩
  | 25 => ⟨S1x655360x1, .i32⟩
  | 26 => ⟨S1x655360x1, .i1⟩
  | 27 => ⟨S_, .i32⟩
  | 28 => ⟨S1x655360x1, .i32⟩
  | 29 => ⟨S1x655360x1, .i32⟩
  | 30 => ⟨S1x655360x1, .i32⟩
  | 31 => ⟨S655360x1, .i32⟩
  | 32 => ⟨S1, .i32⟩
  | 33 => ⟨S_, .i32⟩
  | 34 => ⟨S655360x1, .i32⟩
  | 35 => ⟨S655360x1, .i1⟩
  | 36 => ⟨S1x1, .i32⟩
  | 37 => ⟨S655360x1, .i32⟩
  | 38 => ⟨S655360x1, .i1⟩
  | 39 => ⟨S655360x1, .i1⟩
  | 40 => ⟨S_, .i1⟩
  | 41 => ⟨S655360, .i1⟩
  | 42 => ⟨S1x655360x6, .f32⟩
  | 43 => ⟨S1x655360x6, .i1⟩
  | 44 => ⟨S_, .f32⟩
  | 45 => ⟨S1x655360x6, .f32⟩
  | 46 => ⟨S1x655360x6, .f32⟩
  | 47 => ⟨S1x655360x6, .f32⟩
  | 48 => ⟨S1x655360x6, .f32⟩
  | 49 => ⟨S_, .f32⟩
  | 50 => ⟨S1x655360, .f32⟩
  | 51 => ⟨S1x1x655360, .i1⟩
  | 52 => ⟨S1x655360, .i1⟩
  | 53 => ⟨S_, .f32⟩
  | 54 => ⟨S_, .f32⟩
  | 55 => ⟨S1x655360, .f32⟩
  | 56 => ⟨S1x655360, .f32⟩
  | 57 => ⟨S1x1x655360, .i32⟩
  | 58 => ⟨S1x655360, .i32⟩
  | 59 => ⟨S1x655360x1, .i32⟩
  | 60 => ⟨S_, .i32⟩
  | 61 => ⟨S1x655360x1, .i32⟩
  | 62 => ⟨S1x655360x1, .i1⟩
  | 63 => ⟨S_, .i32⟩
  | 64 => ⟨S1x655360x1, .i32⟩
  | 65 => ⟨S1x655360x1, .i32⟩
  | 66 => ⟨S1x655360x1, .i32⟩
  | 67 => ⟨S655360x1, .i32⟩
  | 68 => ⟨S1, .i32⟩
  | 69 => ⟨S_, .i32⟩
  | 70 => ⟨S655360x1, .i32⟩
  | 71 => ⟨S655360x1, .i1⟩
  | 72 => ⟨S1x1, .i32⟩
  | 73 => ⟨S655360x1, .i32⟩
  | 74 => ⟨S655360x1, .i1⟩
  | 75 => ⟨S655360x1, .i1⟩
  | 76 => ⟨S_, .i1⟩
  | 77 => ⟨S655360, .i1⟩
  | 78 => ⟨S1x655360x6, .f32⟩
  | 79 => ⟨S1x655360x6, .i1⟩
  | 80 => ⟨S_, .f32⟩
  | 81 => ⟨S1x655360x6, .f32⟩
  | 82 => ⟨S1x655360x6, .f32⟩
  | 83 => ⟨S1x655360x6, .f32⟩
  | 84 => ⟨S1x655360x6, .f32⟩
  | 85 => ⟨S_, .f32⟩
  | 86 => ⟨S1x655360, .f32⟩
  | 87 => ⟨S1x1x655360, .i1⟩
  | 88 => ⟨S1x655360, .i1⟩
  | 89 => ⟨S_, .f32⟩
  | 90 => ⟨S_, .f32⟩
  | 91 => ⟨S1x655360, .f32⟩
  | 92 => ⟨S1x655360, .f32⟩
  | 93 => ⟨S1x1x655360, .i32⟩
  | 94 => ⟨S1x655360, .i32⟩
  | 95 => ⟨S1x655360x1, .i32⟩
  | 96 => ⟨S_, .i32⟩
  | 97 => ⟨S1x655360x1, .i32⟩
  | 98 => ⟨S1x655360x1, .i1⟩
  | 99 => ⟨S_, .i32⟩
  | 100 => ⟨S1x655360x1, .i32⟩
  | 101 => ⟨S1x655360x1, .i32⟩
  | 102 => ⟨S1x655360x1, .i32⟩
  | 103 => ⟨S655360x1, .i32⟩
  | 104 => ⟨S1, .i32⟩
  | 105 => ⟨S_, .i32⟩
  | 106 => ⟨S655360x1, .i32⟩
  | 107 => ⟨S655360x1, .i1⟩
  | 108 => ⟨S1x1, .i32⟩
  | 109 => ⟨S655360x1, .i32⟩
  | 110 => ⟨S655360x1, .i1⟩
  | 111 => ⟨S655360x1, .i1⟩
  | 112 => ⟨S_, .i1⟩
  | 113 => ⟨S655360, .i1⟩
  | 114 => ⟨S1x655360x6, .f32⟩
  | 115 => ⟨S1x655360x6, .i1⟩
  | 116 => ⟨S_, .f32⟩
  | 117 => ⟨S1x655360x6, .f32⟩
  | 118 => ⟨S1x655360x6, .f32⟩
  | 119 => ⟨S1x655360x6, .f32⟩
  | 120 => ⟨S1x655360x6, .f32⟩
  | 121 => ⟨S_, .f32⟩
  | 122 => ⟨S1x655360, .f32⟩
  | 123 => ⟨S1x1x655360, .i1⟩
  | 124 => ⟨S1x655360, .i1⟩
  | 125 => ⟨S_, .f32⟩
  | 126 => ⟨S_, .f32⟩
  | 127 => ⟨S1x655360, .f32⟩
  | _ => ⟨S1x3x8x256x320, .f32⟩

abbrev hbmTy0_23 (i : Nat) : BufTy := match i % 128 with
  | 0 => ⟨S1x655360, .f32⟩
  | 1 => ⟨S1x1x655360, .i32⟩
  | 2 => ⟨S1x655360, .i32⟩
  | 3 => ⟨S1x655360x1, .i32⟩
  | 4 => ⟨S_, .i32⟩
  | 5 => ⟨S1x655360x1, .i32⟩
  | 6 => ⟨S1x655360x1, .i1⟩
  | 7 => ⟨S_, .i32⟩
  | 8 => ⟨S1x655360x1, .i32⟩
  | 9 => ⟨S1x655360x1, .i32⟩
  | 10 => ⟨S1x655360x1, .i32⟩
  | 11 => ⟨S655360x1, .i32⟩
  | 12 => ⟨S1, .i32⟩
  | 13 => ⟨S_, .i32⟩
  | 14 => ⟨S655360x1, .i32⟩
  | 15 => ⟨S655360x1, .i1⟩
  | 16 => ⟨S1x1, .i32⟩
  | 17 => ⟨S655360x1, .i32⟩
  | 18 => ⟨S655360x1, .i1⟩
  | 19 => ⟨S655360x1, .i1⟩
  | 20 => ⟨S_, .i1⟩
  | 21 => ⟨S655360, .i1⟩
  | 22 => ⟨S1x655360x6, .f32⟩
  | 23 => ⟨S1x655360x6, .i1⟩
  | 24 => ⟨S_, .f32⟩
  | 25 => ⟨S1x655360x6, .f32⟩
  | 26 => ⟨S1x655360x6, .f32⟩
  | 27 => ⟨S1x655360x6, .f32⟩
  | 28 => ⟨S1x655360x6, .f32⟩
  | 29 => ⟨S_, .f32⟩
  | 30 => ⟨S1x655360, .f32⟩
  | 31 => ⟨S1x1x655360, .i1⟩
  | 32 => ⟨S1x655360, .i1⟩
  | 33 => ⟨S_, .f32⟩
  | 34 => ⟨S_, .f32⟩
  | 35 => ⟨S1x655360, .f32⟩
  | 36 => ⟨S1x655360, .f32⟩
  | 37 => ⟨S1x1x655360, .i32⟩
  | 38 => ⟨S1x655360, .i32⟩
  | 39 => ⟨S1x655360x1, .i32⟩
  | 40 => ⟨S_, .i32⟩
  | 41 => ⟨S1x655360x1, .i32⟩
  | 42 => ⟨S1x655360x1, .i1⟩
  | 43 => ⟨S_, .i32⟩
  | 44 => ⟨S1x655360x1, .i32⟩
  | 45 => ⟨S1x655360x1, .i32⟩
  | 46 => ⟨S1x655360x1, .i32⟩
  | 47 => ⟨S655360x1, .i32⟩
  | 48 => ⟨S1, .i32⟩
  | 49 => ⟨S_, .i32⟩
  | 50 => ⟨S655360x1, .i32⟩
  | 51 => ⟨S655360x1, .i1⟩
  | 52 => ⟨S1x1, .i32⟩
  | 53 => ⟨S655360x1, .i32⟩
  | 54 => ⟨S655360x1, .i1⟩
  | 55 => ⟨S655360x1, .i1⟩
  | 56 => ⟨S_, .i1⟩
  | 57 => ⟨S655360, .i1⟩
  | 58 => ⟨S1x655360x6, .f32⟩
  | 59 => ⟨S1x655360x6, .i1⟩
  | 60 => ⟨S_, .f32⟩
  | 61 => ⟨S1x655360x6, .f32⟩
  | 62 => ⟨S1x655360x6, .f32⟩
  | 63 => ⟨S1x655360x6, .f32⟩
  | 64 => ⟨S1x655360x6, .f32⟩
  | 65 => ⟨S_, .f32⟩
  | 66 => ⟨S1x655360, .f32⟩
  | 67 => ⟨S1x1x655360, .i1⟩
  | 68 => ⟨S1x655360, .i1⟩
  | 69 => ⟨S_, .f32⟩
  | 70 => ⟨S_, .f32⟩
  | 71 => ⟨S1x655360, .f32⟩
  | 72 => ⟨S1x655360, .f32⟩
  | 73 => ⟨S1x1x655360, .i32⟩
  | 74 => ⟨S1x655360, .i32⟩
  | 75 => ⟨S1x655360x1, .i32⟩
  | 76 => ⟨S_, .i32⟩
  | 77 => ⟨S1x655360x1, .i32⟩
  | 78 => ⟨S1x655360x1, .i1⟩
  | 79 => ⟨S_, .i32⟩
  | 80 => ⟨S1x655360x1, .i32⟩
  | 81 => ⟨S1x655360x1, .i32⟩
  | 82 => ⟨S1x655360x1, .i32⟩
  | 83 => ⟨S655360x1, .i32⟩
  | 84 => ⟨S1, .i32⟩
  | 85 => ⟨S_, .i32⟩
  | 86 => ⟨S655360x1, .i32⟩
  | 87 => ⟨S655360x1, .i1⟩
  | 88 => ⟨S1x1, .i32⟩
  | 89 => ⟨S655360x1, .i32⟩
  | 90 => ⟨S655360x1, .i1⟩
  | 91 => ⟨S655360x1, .i1⟩
  | 92 => ⟨S_, .i1⟩
  | 93 => ⟨S655360, .i1⟩
  | 94 => ⟨S1x655360x6, .f32⟩
  | 95 => ⟨S1x655360x6, .i1⟩
  | 96 => ⟨S_, .f32⟩
  | 97 => ⟨S1x655360x6, .f32⟩
  | 98 => ⟨S1x655360x6, .f32⟩
  | 99 => ⟨S1x655360x6, .f32⟩
  | 100 => ⟨S1x655360x6, .f32⟩
  | 101 => ⟨S_, .f32⟩
  | 102 => ⟨S1x655360, .f32⟩
  | 103 => ⟨S1x1x655360, .i1⟩
  | 104 => ⟨S1x655360, .i1⟩
  | 105 => ⟨S_, .f32⟩
  | 106 => ⟨S_, .f32⟩
  | 107 => ⟨S1x655360, .f32⟩
  | 108 => ⟨S1x655360, .f32⟩
  | 109 => ⟨S1x1x655360, .i32⟩
  | 110 => ⟨S1x655360, .i32⟩
  | 111 => ⟨S1x655360x1, .i32⟩
  | 112 => ⟨S_, .i32⟩
  | 113 => ⟨S1x655360x1, .i32⟩
  | 114 => ⟨S1x655360x1, .i1⟩
  | 115 => ⟨S_, .i32⟩
  | 116 => ⟨S1x655360x1, .i32⟩
  | 117 => ⟨S1x655360x1, .i32⟩
  | 118 => ⟨S1x655360x1, .i32⟩
  | 119 => ⟨S655360x1, .i32⟩
  | 120 => ⟨S1, .i32⟩
  | 121 => ⟨S_, .i32⟩
  | 122 => ⟨S655360x1, .i32⟩
  | 123 => ⟨S655360x1, .i1⟩
  | 124 => ⟨S1x1, .i32⟩
  | 125 => ⟨S655360x1, .i32⟩
  | 126 => ⟨S655360x1, .i1⟩
  | 127 => ⟨S655360x1, .i1⟩
  | _ => ⟨S1x3x8x256x320, .f32⟩

abbrev hbmTy0_24 (i : Nat) : BufTy := match i % 128 with
  | 0 => ⟨S_, .i1⟩
  | 1 => ⟨S655360, .i1⟩
  | 2 => ⟨S1x655360x6, .f32⟩
  | 3 => ⟨S1x655360x6, .i1⟩
  | 4 => ⟨S_, .f32⟩
  | 5 => ⟨S1x655360x6, .f32⟩
  | 6 => ⟨S1x655360x6, .f32⟩
  | 7 => ⟨S1x655360x6, .f32⟩
  | 8 => ⟨S1x655360x6, .f32⟩
  | 9 => ⟨S_, .f32⟩
  | 10 => ⟨S1x655360, .f32⟩
  | 11 => ⟨S1x1x655360, .i1⟩
  | 12 => ⟨S1x655360, .i1⟩
  | 13 => ⟨S_, .f32⟩
  | 14 => ⟨S_, .f32⟩
  | 15 => ⟨S1x655360, .f32⟩
  | 16 => ⟨S1x655360, .f32⟩
  | 17 => ⟨S1x1x655360, .i32⟩
  | 18 => ⟨S1x655360, .i32⟩
  | 19 => ⟨S1x655360x1, .i32⟩
  | 20 => ⟨S_, .i32⟩
  | 21 => ⟨S1x655360x1, .i32⟩
  | 22 => ⟨S1x655360x1, .i1⟩
  | 23 => ⟨S_, .i32⟩
  | 24 => ⟨S1x655360x1, .i32⟩
  | 25 => ⟨S1x655360x1, .i32⟩
  | 26 => ⟨S1x655360x1, .i32⟩
  | 27 => ⟨S655360x1, .i32⟩
  | 28 => ⟨S1, .i32⟩
  | 29 => ⟨S_, .i32⟩
  | 30 => ⟨S655360x1, .i32⟩
  | 31 => ⟨S655360x1, .i1⟩
  | 32 => ⟨S1x1, .i32⟩
  | 33 => ⟨S655360x1, .i32⟩
  | 34 => ⟨S655360x1, .i1⟩
  | 35 => ⟨S655360x1, .i1⟩
  | 36 => ⟨S_, .i1⟩
  | 37 => ⟨S655360, .i1⟩
  | 38 => ⟨S1x655360x6, .f32⟩
  | 39 => ⟨S1x655360x6, .i1⟩
  | 40 => ⟨S_, .f32⟩
  | 41 => ⟨S1x655360x6, .f32⟩
  | 42 => ⟨S1x655360x6, .f32⟩
  | 43 => ⟨S1x655360x6, .f32⟩
  | 44 => ⟨S1x655360x6, .f32⟩
  | 45 => ⟨S_, .f32⟩
  | 46 => ⟨S1x655360, .f32⟩
  | 47 => ⟨S1x1x655360, .i1⟩
  | 48 => ⟨S1x655360, .i1⟩
  | 49 => ⟨S_, .f32⟩
  | 50 => ⟨S_, .f32⟩
  | 51 => ⟨S1x655360, .f32⟩
  | 52 => ⟨S1x655360, .f32⟩
  | 53 => ⟨S1x1x655360, .i32⟩
  | 54 => ⟨S1x655360, .i32⟩
  | 55 => ⟨S1x655360x1, .i32⟩
  | 56 => ⟨S_, .i32⟩
  | 57 => ⟨S1x655360x1, .i32⟩
  | 58 => ⟨S1x655360x1, .i1⟩
  | 59 => ⟨S_, .i32⟩
  | 60 => ⟨S1x655360x1, .i32⟩
  | 61 => ⟨S1x655360x1, .i32⟩
  | 62 => ⟨S1x655360x1, .i32⟩
  | 63 => ⟨S655360x1, .i32⟩
  | 64 => ⟨S1, .i32⟩
  | 65 => ⟨S_, .i32⟩
  | 66 => ⟨S655360x1, .i32⟩
  | 67 => ⟨S655360x1, .i1⟩
  | 68 => ⟨S1x1, .i32⟩
  | 69 => ⟨S655360x1, .i32⟩
  | 70 => ⟨S655360x1, .i1⟩
  | 71 => ⟨S655360x1, .i1⟩
  | 72 => ⟨S_, .i1⟩
  | 73 => ⟨S655360, .i1⟩
  | 74 => ⟨S1x655360x6, .f32⟩
  | 75 => ⟨S1x655360x6, .i1⟩
  | 76 => ⟨S_, .f32⟩
  | 77 => ⟨S1x655360x6, .f32⟩
  | 78 => ⟨S1x655360x6, .f32⟩
  | 79 => ⟨S1x655360x6, .f32⟩
  | 80 => ⟨S1x655360x6, .f32⟩
  | 81 => ⟨S_, .f32⟩
  | 82 => ⟨S1x655360, .f32⟩
  | 83 => ⟨S1x1x655360, .i1⟩
  | 84 => ⟨S1x655360, .i1⟩
  | 85 => ⟨S_, .f32⟩
  | 86 => ⟨S_, .f32⟩
  | 87 => ⟨S1x655360, .f32⟩
  | 88 => ⟨S1x655360, .f32⟩
  | 89 => ⟨S1x1x655360, .i32⟩
  | 90 => ⟨S1x655360, .i32⟩
  | 91 => ⟨S1x655360x1, .i32⟩
  | 92 => ⟨S_, .i32⟩
  | 93 => ⟨S1x655360x1, .i32⟩
  | 94 => ⟨S1x655360x1, .i1⟩
  | 95 => ⟨S_, .i32⟩
  | 96 => ⟨S1x655360x1, .i32⟩
  | 97 => ⟨S1x655360x1, .i32⟩
  | 98 => ⟨S1x655360x1, .i32⟩
  | 99 => ⟨S655360x1, .i32⟩
  | 100 => ⟨S1, .i32⟩
  | 101 => ⟨S_, .i32⟩
  | 102 => ⟨S655360x1, .i32⟩
  | 103 => ⟨S655360x1, .i1⟩
  | 104 => ⟨S1x1, .i32⟩
  | 105 => ⟨S655360x1, .i32⟩
  | 106 => ⟨S655360x1, .i1⟩
  | 107 => ⟨S655360x1, .i1⟩
  | 108 => ⟨S_, .i1⟩
  | 109 => ⟨S655360, .i1⟩
  | 110 => ⟨S1x655360x6, .f32⟩
  | 111 => ⟨S1x655360x6, .i1⟩
  | 112 => ⟨S_, .f32⟩
  | 113 => ⟨S1x655360x6, .f32⟩
  | 114 => ⟨S1x655360x6, .f32⟩
  | 115 => ⟨S1x655360x6, .f32⟩
  | 116 => ⟨S1x655360x6, .f32⟩
  | 117 => ⟨S_, .f32⟩
  | 118 => ⟨S1x655360, .f32⟩
  | 119 => ⟨S1x1x655360, .i1⟩
  | 120 => ⟨S1x655360, .i1⟩
  | 121 => ⟨S_, .f32⟩
  | 122 => ⟨S_, .f32⟩
  | 123 => ⟨S1x655360, .f32⟩
  | 124 => ⟨S1x655360, .f32⟩
  | 125 => ⟨S1x1x655360, .i32⟩
  | 126 => ⟨S1x655360, .i32⟩
  | 127 => ⟨S1x655360x1, .i32⟩
  | _ => ⟨S1x3x8x256x320, .f32⟩

abbrev hbmTy0_25 (i : Nat) : BufTy := match i % 128 with
  | 0 => ⟨S_, .i32⟩
  | 1 => ⟨S1x655360x1, .i32⟩
  | 2 => ⟨S1x655360x1, .i1⟩
  | 3 => ⟨S_, .i32⟩
  | 4 => ⟨S1x655360x1, .i32⟩
  | 5 => ⟨S1x655360x1, .i32⟩
  | 6 => ⟨S1x655360x1, .i32⟩
  | 7 => ⟨S655360x1, .i32⟩
  | 8 => ⟨S1, .i32⟩
  | 9 => ⟨S_, .i32⟩
  | 10 => ⟨S655360x1, .i32⟩
  | 11 => ⟨S655360x1, .i1⟩
  | 12 => ⟨S1x1, .i32⟩
  | 13 => ⟨S655360x1, .i32⟩
  | 14 => ⟨S655360x1, .i1⟩
  | 15 => ⟨S655360x1, .i1⟩
  | 16 => ⟨S_, .i1⟩
  | 17 => ⟨S655360, .i1⟩
  | 18 => ⟨S1x655360x6, .f32⟩
  | 19 => ⟨S1x655360x6, .i1⟩
  | 20 => ⟨S_, .f32⟩
  | 21 => ⟨S1x655360x6, .f32⟩
  | 22 => ⟨S1x655360x6, .f32⟩
  | 23 => ⟨S1x655360x6, .f32⟩
  | 24 => ⟨S1x655360x6, .f32⟩
  | 25 => ⟨S_, .f32⟩
  | 26 => ⟨S1x655360, .f32⟩
  | 27 => ⟨S1x1x655360, .i1⟩
  | 28 => ⟨S1x655360, .i1⟩
  | 29 => ⟨S_, .f32⟩
  | 30 => ⟨S_, .f32⟩
  | 31 => ⟨S1x655360, .f32⟩
  | 32 => ⟨S1x655360, .f32⟩
  | 33 => ⟨S1x1x655360, .i32⟩
  | 34 => ⟨S1x655360, .i32⟩
  | 35 => ⟨S1x655360x1, .i32⟩
  | 36 => ⟨S_, .i32⟩
  | 37 => ⟨S1x655360x1, .i32⟩
  | 38 => ⟨S1x655360x1, .i1⟩
  | 39 => ⟨S_, .i32⟩
  | 40 => ⟨S1x655360x1, .i32⟩
  | 41 => ⟨S1x655360x1, .i32⟩
  | 42 => ⟨S1x655360x1, .i32⟩
  | 43 => ⟨S655360x1, .i32⟩
  | 44 => ⟨S1, .i32⟩
  | 45 => ⟨S_, .i32⟩
  | 46 => ⟨S655360x1, .i32⟩
  | 47 => ⟨S655360x1, .i1⟩
  | 48 => ⟨S1x1, .i32⟩
  | 49 => ⟨S655360x1, .i32⟩
  | 50 => ⟨S655360x1, .i1⟩
  | 51 => ⟨S655360x1, .i1⟩
  | 52 => ⟨S_, .i1⟩
  | 53 => ⟨S655360, .i1⟩
  | 54 => ⟨S1x655360x6, .f32⟩
  | 55 => ⟨S1x655360x6, .i1⟩
  | 56 => ⟨S_, .f32⟩
  | 57 => ⟨S1x655360x6, .f32⟩
  | 58 => ⟨S1x655360x6, .f32⟩
  | 59 => ⟨S1x655360x6, .f32⟩
  | 60 => ⟨S1x655360x6, .f32⟩
  | 61 => ⟨S_, .f32⟩
  | 62 => ⟨S1x655360, .f32⟩
  | 63 => ⟨S1x1x655360, .i1⟩
  | 64 => ⟨S1x655360, .i1⟩
  | 65 => ⟨S_, .f32⟩
  | 66 => ⟨S_, .f32⟩
  | 67 => ⟨S1x655360, .f32⟩
  | 68 => ⟨S1x655360, .f32⟩
  | 69 => ⟨S1x1x655360, .f32⟩
  | 70 => ⟨S1x1x655360, .f32⟩
  | 71 => ⟨S1x1x655360, .f32⟩
  | 72 => ⟨S1x1x655360, .f32⟩
  | 73 => ⟨S1x1x655360, .f32⟩
  | 74 => ⟨S1x1x655360, .f32⟩
  | 75 => ⟨S1x1x655360, .f32⟩
  | 76 => ⟨S1x1x655360, .f32⟩
  | 77 => ⟨S1x1x655360, .f32⟩
  | 78 => ⟨S1x1x655360, .f32⟩
  | 79 => ⟨S1x1x655360, .f32⟩
  | 80 => ⟨S1x1x655360, .f32⟩
  | 81 => ⟨S1x1x655360, .f32⟩
  | 82 => ⟨S1x1x655360, .f32⟩
  | 83 => ⟨S1x1x655360, .f32⟩
  | 84 => ⟨S1x1x655360, .f32⟩
  | 85 => ⟨S1x1x655360, .f32⟩
  | 86 => ⟨S1x1x655360, .f32⟩
  | 87 => ⟨S1x1x655360, .f32⟩
  | 88 => ⟨S1x1x655360, .f32⟩
  | 89 => ⟨S1x1x655360, .f32⟩
  | 90 => ⟨S1x1x655360, .f32⟩
  | 91 => ⟨S1x1x655360, .f32⟩
  | 92 => ⟨S1x1x655360, .f32⟩
  | 93 => ⟨S1x1x655360, .f32⟩
  | 94 => ⟨S1x1x655360, .f32⟩
  | 95 => ⟨S1x1x655360, .f32⟩
  | 96 => ⟨S1x16x655360, .f32⟩
  | 97 => ⟨S1x11x655360, .f32⟩
  | 98 => ⟨S1x27x655360, .f32⟩
  | 99 => ⟨S1x27x8x256x320, .f32⟩
  | 100 => ⟨S_, .f32⟩
  | 101 => ⟨S1x27x8x256x320, .f32⟩
  | 102 => ⟨S1x27x8x256x320, .f32⟩
  | 103 => ⟨S_, .f32⟩
  | 104 => ⟨S1x8x256x320, .f32⟩
  | 105 => ⟨S_, .f32⟩
  | 106 => ⟨S1x8x256x320, .f32⟩
  | 107 => ⟨S1x8x256x320, .f32⟩
  | 108 => ⟨S1x1x8x256x320, .f32⟩
  | 109 => ⟨S1x27x8x256x320, .f32⟩
  | 110 => ⟨S1x27x8x256x320, .f32⟩
  | 111 => ⟨S1x27x8x256x320, .f32⟩
  | 112 => ⟨S_, .f32⟩
  | 113 => ⟨S1x8x256x320, .f32⟩
  | 114 => ⟨S1x1x8x256x320, .f32⟩
  | 115 => ⟨S1x27x8x256x320, .f32⟩
  | 116 => ⟨S1x27x8x256x320, .f32⟩
  | 117 => ⟨S1x6x655360, .f32⟩
  | 118 => ⟨S1x655360x6, .f32⟩
  | 119 => ⟨S1x27x655360, .f32⟩
  | 120 => ⟨S1x655360, .i32⟩
  | 121 => ⟨S_, .i32⟩
  | 122 => ⟨S_, .i32⟩
  | 123 => ⟨S1x655360, .i32⟩
  | 124 => ⟨S1x655360, .i32⟩
  | 125 => ⟨S1x655360, .i32⟩
  | 126 => ⟨S_, .i32⟩
  | 127 => ⟨S1x655360, .i32⟩
  | _ => ⟨S1x3x8x256x320, .f32⟩

abbrev hbmTy0_26 (i : Nat) : BufTy := match i % 128 with
  | 0 => ⟨S1x655360, .i1⟩
  | 1 => ⟨S1x655360, .i32⟩
  | 2 => ⟨S1x655360, .i32⟩
  | 3 => ⟨S_, .i32⟩
  | 4 => ⟨S1x655360, .i32⟩
  | 5 => ⟨S1x655360, .i1⟩
  | 6 => ⟨S1x655360, .i1⟩
  | 7 => ⟨S_, .i32⟩
  | 8 => ⟨S1x655360, .i32⟩
  | 9 => ⟨S1x655360, .i32⟩
  | 10 => ⟨S1x655360, .i32⟩
  | 11 => ⟨S_, .i32⟩
  | 12 => ⟨S_, .i32⟩
  | 13 => ⟨S1x655360, .i32⟩
  | 14 => ⟨S1x655360, .i32⟩
  | 15 => ⟨S1x655360, .i32⟩
  | 16 => ⟨S_, .i32⟩
  | 17 => ⟨S1x655360, .i32⟩
  | 18 => ⟨S1x655360, .i1⟩
  | 19 => ⟨S1x655360, .i32⟩
  | 20 => ⟨S1x655360, .i32⟩
  | 21 => ⟨S_, .i32⟩
  | 22 => ⟨S1x655360, .i32⟩
  | 23 => ⟨S1x655360, .i1⟩
  | 24 => ⟨S1x655360, .i1⟩
  | 25 => ⟨S_, .i32⟩
  | 26 => ⟨S1x655360, .i32⟩
  | 27 => ⟨S1x655360, .i32⟩
  | 28 => ⟨S1x655360, .i32⟩
  | 29 => ⟨S_, .i32⟩
  | 30 => ⟨S_, .i32⟩
  | 31 => ⟨S_, .i32⟩
  | 32 => ⟨S_, .i1⟩
  | 33 => ⟨S_, .i32⟩
  | 34 => ⟨S_, .i32⟩
  | 35 => ⟨S1x655360, .i32⟩
  | 36 => ⟨S1x655360, .i32⟩
  | 37 => ⟨S_, .i32⟩
  | 38 => ⟨S1x655360, .i32⟩
  | 39 => ⟨S1x655360, .i1⟩
  | 40 => ⟨S_, .i32⟩
  | 41 => ⟨S1x655360, .i32⟩
  | 42 => ⟨S1x655360, .i1⟩
  | 43 => ⟨S_, .i32⟩
  | 44 => ⟨S_, .i1⟩
  | 45 => ⟨S1x655360, .i1⟩
  | 46 => ⟨S1x655360, .i1⟩
  | 47 => ⟨S1x655360, .i1⟩
  | 48 => ⟨S1x655360, .i32⟩
  | 49 => ⟨S1x655360, .i32⟩
  | 50 => ⟨S1x655360, .i32⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S1x655360, .i32⟩
  | 58 => ⟨S1x655360, .i32⟩
  | 59 => ⟨S_, .i32⟩
  | 60 => ⟨S1x655360, .i32⟩
  | 61 => ⟨S1x655360, .i1⟩
  | 62 => ⟨S_, .i32⟩
  | 63 => ⟨S1x655360, .i32⟩
  | 64 => ⟨S1x655360, .i1⟩
  | 65 => ⟨S_, .i32⟩
  | 66 => ⟨S_, .i1⟩
  | 67 => ⟨S1x655360, .i1⟩
  | 68 => ⟨S1x655360, .i1⟩
  | 69 => ⟨S1x655360, .i1⟩
  | 70 => ⟨S1x655360, .i32⟩
  | 71 => ⟨S1x655360, .i32⟩
  | 72 => ⟨S1x655360, .i32⟩
  | 73 => ⟨S1x1x655360, .i32⟩
  | 74 => ⟨S1x27x1, .i32⟩
  | 75 => ⟨S1x27x655360, .i32⟩
  | 76 => ⟨S1x27x655360, .i32⟩
  | 77 => ⟨S1x27x655360, .i32⟩
  | 78 => ⟨S1x1x655360, .i32⟩
  | 79 => ⟨S1x27x1, .i32⟩
  | 80 => ⟨S1x27x655360, .i32⟩
  | 81 => ⟨S1x27x655360, .i32⟩
  | 82 => ⟨S1x27x655360, .i32⟩
  | 83 => ⟨S1x1x655360, .i32⟩
  | 84 => ⟨S1x27x1, .i32⟩
  | 85 => ⟨S1x27x655360, .i32⟩
  | 86 => ⟨S1x27x655360, .i32⟩
  | 87 => ⟨S1x27x655360, .i32⟩
  | 88 => ⟨S_, .i32⟩
  | 89 => ⟨S1x27x655360, .i32⟩
  | 90 => ⟨S1x27x655360, .i1⟩
  | 91 => ⟨S_, .i32⟩
  | 92 => ⟨S1x27x655360, .i32⟩
  | 93 => ⟨S1x27x655360, .i1⟩
  | 94 => ⟨S1x27x655360, .i1⟩
  | 95 => ⟨S_, .i32⟩
  | 96 => ⟨S1x27x655360, .i32⟩
  | 97 => ⟨S1x27x655360, .i1⟩
  | 98 => ⟨S1x27x655360, .i1⟩
  | 99 => ⟨S_, .i32⟩
  | 100 => ⟨S1x27x655360, .i32⟩
  | 101 => ⟨S1x27x655360, .i1⟩
  | 102 => ⟨S1x27x655360, .i1⟩
  | 103 => ⟨S_, .i32⟩
  | 104 => ⟨S1x27x655360, .i32⟩
  | 105 => ⟨S1x27x655360, .i1⟩
  | 106 => ⟨S1x27x655360, .i1⟩
  | 107 => ⟨S_, .i32⟩
  | 108 => ⟨S1x27x655360, .i32⟩
  | 109 => ⟨S1x27x655360, .i1⟩
  | 110 => ⟨S1x27x655360, .i1⟩
  | 111 => ⟨S_, .i32⟩
  | 112 => ⟨S_, .i32⟩
  | 113 => ⟨S_, .i32⟩
  | 114 => ⟨S1x27x655360, .i32⟩
  | 115 => ⟨S1x27x655360, .i32⟩
  | 116 => ⟨S_, .i32⟩
  | 117 => ⟨S1x27x655360, .i32⟩
  | 118 => ⟨S1x27x655360, .i32⟩
  | 119 => ⟨S_, .i32⟩
  | 120 => ⟨S1x27x655360, .i32⟩
  | 121 => ⟨S1x27x655360, .i32⟩
  | 122 => ⟨S_, .i32⟩
  | 123 => ⟨S_, .i32⟩
  | 124 => ⟨S_, .i32⟩
  | 125 => ⟨S1x27x655360, .i32⟩
  | 126 => ⟨S1x27x655360, .i32⟩
  | 127 => ⟨S_, .i32⟩
  | _ => ⟨S1x3x8x256x320, .f32⟩

abbrev hbmTy0_27 (i : Nat) : BufTy := match i % 128 with
  | 0 => ⟨S1x27x655360, .i32⟩
  | 1 => ⟨S1x27x655360, .i32⟩
  | 2 => ⟨S1x27x655360, .i32⟩
  | 3 => ⟨S_, .i32⟩
  | 4 => ⟨S1x27x655360, .i32⟩
  | 5 => ⟨S1x27x655360, .i32⟩
  | 6 => ⟨S_, .i32⟩
  | 7 => ⟨S_, .i32⟩
  | 8 => ⟨S_, .i32⟩
  | 9 => ⟨S1x27x655360, .i32⟩
  | 10 => ⟨S1x27x655360, .i32⟩
  | 11 => ⟨S_, .i32⟩
  | 12 => ⟨S1x27x655360, .i32⟩
  | 13 => ⟨S1x27x655360, .i32⟩
  | 14 => ⟨S1x27x655360, .i32⟩
  | 15 => ⟨S1, .i32⟩
  | 16 => ⟨S1x1, .i32⟩
  | 17 => ⟨S_, .i32⟩
  | 18 => ⟨S1x1, .i32⟩
  | 19 => ⟨S1x1, .i32⟩
  | 20 => ⟨S_, .f32⟩
  | 21 => ⟨S520x6, .f32⟩
  | 22 => ⟨S_, .f32⟩
  | 23 => ⟨S520, .f32⟩
  | 24 => ⟨S1x1x655360, .i1⟩
  | 25 => ⟨S1x655360, .i1⟩
  | 26 => ⟨S1x1x655360, .f32⟩
  | 27 => ⟨S1x655360, .f32⟩
  | 28 => ⟨S_, .f32⟩
  | 29 => ⟨S_, .f32⟩
  | 30 => ⟨S1x655360, .f32⟩
  | 31 => ⟨S1x655360, .f32⟩
  | 32 => ⟨S1x1x655360, .i32⟩
  | 33 => ⟨S1x655360, .i32⟩
  | 34 => ⟨S1x655360, .i32⟩
  | 35 => ⟨S1x655360, .i32⟩
  | 36 => ⟨S655360, .i32⟩
  | 37 => ⟨S1x655360x1, .f32⟩
  | 38 => ⟨S1x655360x6, .f32⟩
  | 39 => ⟨S1x655360x6, .f32⟩
  | 40 => ⟨S655360x6, .f32⟩
  | 41 => ⟨S_, .f32⟩
  | 42 => ⟨S520x6, .f32⟩
  | 43 => ⟨S655360x1, .i32⟩
  | 44 => ⟨S520x6, .f32⟩
  | 45 => ⟨S520x6, .f32⟩
  | 46 => ⟨S655360, .f32⟩
  | 47 => ⟨S_, .f32⟩
  | 48 => ⟨S520, .f32⟩
  | 49 => ⟨S655360x1, .i32⟩
  | 50 => ⟨S520, .f32⟩
  | 51 => ⟨S520, .f32⟩
  | 52 => ⟨S1x1x655360, .i1⟩
  | 53 => ⟨S1x655360, .i1⟩
  | 54 => ⟨S1x1x655360, .f32⟩
  | 55 => ⟨S1x655360, .f32⟩
  | 56 => ⟨S_, .f32⟩
  | 57 => ⟨S_, .f32⟩
  | 58 => ⟨S1x655360, .f32⟩
  | 59 => ⟨S1x655360, .f32⟩
  | 60 => ⟨S1x1x655360, .i32⟩
  | 61 => ⟨S1x655360, .i32⟩
  | 62 => ⟨S1x655360, .i32⟩
  | 63 => ⟨S1x655360, .i32⟩
  | 64 => ⟨S655360, .i32⟩
  | 65 => ⟨S1x655360x1, .f32⟩
  | 66 => ⟨S1x655360x6, .f32⟩
  | 67 => ⟨S1x655360x6, .f32⟩
  | 68 => ⟨S655360x6, .f32⟩
  | 69 => ⟨S_, .f32⟩
  | 70 => ⟨S520x6, .f32⟩
  | 71 => ⟨S655360x1, .i32⟩
  | 72 => ⟨S520x6, .f32⟩
  | 73 => ⟨S520x6, .f32⟩
  | 74 => ⟨S655360, .f32⟩
  | 75 => ⟨S_, .f32⟩
  | 76 => ⟨S520, .f32⟩
  | 77 => ⟨S655360x1, .i32⟩
  | 78 => ⟨S520, .f32⟩
  | 79 => ⟨S520, .f32⟩
  | 80 => ⟨S1x1x655360, .i1⟩
  | 81 => ⟨S1x655360, .i1⟩
  | 82 => ⟨S1x1x655360, .f32⟩
  | 83 => ⟨S1x655360, .f32⟩
  | 84 => ⟨S_, .f32⟩
  | 85 => ⟨S_, .f32⟩
  | 86 => ⟨S1x655360, .f32⟩
  | 87 => ⟨S1x655360, .f32⟩
  | 88 => ⟨S1x1x655360, .i32⟩
  | 89 => ⟨S1x655360, .i32⟩
  | 90 => ⟨S1x655360, .i32⟩
  | 91 => ⟨S1x655360, .i32⟩
  | 92 => ⟨S655360, .i32⟩
  | 93 => ⟨S1x655360x1, .f32⟩
  | 94 => ⟨S1x655360x6, .f32⟩
  | 95 => ⟨S1x655360x6, .f32⟩
  | 96 => ⟨S655360x6, .f32⟩
  | 97 => ⟨S_, .f32⟩
  | 98 => ⟨S520x6, .f32⟩
  | 99 => ⟨S655360x1, .i32⟩
  | 100 => ⟨S520x6, .f32⟩
  | 101 => ⟨S520x6, .f32⟩
  | 102 => ⟨S655360, .f32⟩
  | 103 => ⟨S_, .f32⟩
  | 104 => ⟨S520, .f32⟩
  | 105 => ⟨S655360x1, .i32⟩
  | 106 => ⟨S520, .f32⟩
  | 107 => ⟨S520, .f32⟩
  | 108 => ⟨S1x1x655360, .i1⟩
  | 109 => ⟨S1x655360, .i1⟩
  | 110 => ⟨S1x1x655360, .f32⟩
  | 111 => ⟨S1x655360, .f32⟩
  | 112 => ⟨S_, .f32⟩
  | 113 => ⟨S_, .f32⟩
  | 114 => ⟨S1x655360, .f32⟩
  | 115 => ⟨S1x655360, .f32⟩
  | 116 => ⟨S1x1x655360, .i32⟩
  | 117 => ⟨S1x655360, .i32⟩
  | 118 => ⟨S1x655360, .i32⟩
  | 119 => ⟨S1x655360, .i32⟩
  | 120 => ⟨S655360, .i32⟩
  | 121 => ⟨S1x655360x1, .f32⟩
  | 122 => ⟨S1x655360x6, .f32⟩
  | 123 => ⟨S1x655360x6, .f32⟩
  | 124 => ⟨S655360x6, .f32⟩
  | 125 => ⟨S_, .f32⟩
  | 126 => ⟨S520x6, .f32⟩
  | 127 => ⟨S655360x1, .i32⟩
  | _ => ⟨S1x3x8x256x320, .f32⟩

abbrev hbmTy0_28 (i : Nat) : BufTy := match i % 128 with
  | 0 => ⟨S520x6, .f32⟩
  | 1 => ⟨S520x6, .f32⟩
  | 2 => ⟨S655360, .f32⟩
  | 3 => ⟨S_, .f32⟩
  | 4 => ⟨S520, .f32⟩
  | 5 => ⟨S655360x1, .i32⟩
  | 6 => ⟨S520, .f32⟩
  | 7 => ⟨S520, .f32⟩
  | 8 => ⟨S1x1x655360, .i1⟩
  | 9 => ⟨S1x655360, .i1⟩
  | 10 => ⟨S1x1x655360, .f32⟩
  | 11 => ⟨S1x655360, .f32⟩
  | 12 => ⟨S_, .f32⟩
  | 13 => ⟨S_, .f32⟩
  | 14 => ⟨S1x655360, .f32⟩
  | 15 => ⟨S1x655360, .f32⟩
  | 16 => ⟨S1x1x655360, .i32⟩
  | 17 => ⟨S1x655360, .i32⟩
  | 18 => ⟨S1x655360, .i32⟩
  | 19 => ⟨S1x655360, .i32⟩
  | 20 => ⟨S655360, .i32⟩
  | 21 => ⟨S1x655360x1, .f32⟩
  | 22 => ⟨S1x655360x6, .f32⟩
  | 23 => ⟨S1x655360x6, .f32⟩
  | 24 => ⟨S655360x6, .f32⟩
  | 25 => ⟨S_, .f32⟩
  | 26 => ⟨S520x6, .f32⟩
  | 27 => ⟨S655360x1, .i32⟩
  | 28 => ⟨S520x6, .f32⟩
  | 29 => ⟨S520x6, .f32⟩
  | 30 => ⟨S655360, .f32⟩
  | 31 => ⟨S_, .f32⟩
  | 32 => ⟨S520, .f32⟩
  | 33 => ⟨S655360x1, .i32⟩
  | 34 => ⟨S520, .f32⟩
  | 35 => ⟨S520, .f32⟩
  | 36 => ⟨S1x1x655360, .i1⟩
  | 37 => ⟨S1x655360, .i1⟩
  | 38 => ⟨S1x1x655360, .f32⟩
  | 39 => ⟨S1x655360, .f32⟩
  | 40 => ⟨S_, .f32⟩
  | 41 => ⟨S_, .f32⟩
  | 42 => ⟨S1x655360, .f32⟩
  | 43 => ⟨S1x655360, .f32⟩
  | 44 => ⟨S1x1x655360, .i32⟩
  | 45 => ⟨S1x655360, .i32⟩
  | 46 => ⟨S1x655360, .i32⟩
  | 47 => ⟨S1x655360, .i32⟩
  | 48 => ⟨S655360, .i32⟩
  | 49 => ⟨S1x655360x1, .f32⟩
  | 50 => ⟨S1x655360x6, .f32⟩
  | 51 => ⟨S1x655360x6, .f32⟩
  | 52 => ⟨S655360x6, .f32⟩
  | 53 => ⟨S_, .f32⟩
  | 54 => ⟨S520x6, .f32⟩
  | 55 => ⟨S655360x1, .i32⟩
  | 56 => ⟨S520x6, .f32⟩
  | 57 => ⟨S520x6, .f32⟩
  | 58 => ⟨S655360, .f32⟩
  | 59 => ⟨S_, .f32⟩
  | 60 => ⟨S520, .f32⟩
  | 61 => ⟨S655360x1, .i32⟩
  | 62 => ⟨S520, .f32⟩
  | 63 => ⟨S520, .f32⟩
  | 64 => ⟨S1x1x655360, .i1⟩
  | 65 => ⟨S1x655360, .i1⟩
  | 66 => ⟨S1x1x655360, .f32⟩
  | 67 => ⟨S1x655360, .f32⟩
  | 68 => ⟨S_, .f32⟩
  | 69 => ⟨S_, .f32⟩
  | 70 => ⟨S1x655360, .f32⟩
  | 71 => ⟨S1x655360, .f32⟩
  | 72 => ⟨S1x1x655360, .i32⟩
  | 73 => ⟨S1x655360, .i32⟩
  | 74 => ⟨S1x655360, .i32⟩
  | 75 => ⟨S1x655360, .i32⟩
  | 76 => ⟨S655360, .i32⟩
  | 77 => ⟨S1x655360x1, .f32⟩
  | 78 => ⟨S1x655360x6, .f32⟩
  | 79 => ⟨S1x655360x6, .f32⟩
  | 80 => ⟨S655360x6, .f32⟩
  | 81 => ⟨S_, .f32⟩
  | 82 => ⟨S520x6, .f32⟩
  | 83 => ⟨S655360x1, .i32⟩
  | 84 => ⟨S520x6, .f32⟩
  | 85 => ⟨S520x6, .f32⟩
  | 86 => ⟨S655360, .f32⟩
  | 87 => ⟨S_, .f32⟩
  | 88 => ⟨S520, .f32⟩
  | 89 => ⟨S655360x1, .i32⟩
  | 90 => ⟨S520, .f32⟩
  | 91 => ⟨S520, .f32⟩
  | 92 => ⟨S1x1x655360, .i1⟩
  | 93 => ⟨S1x655360, .i1⟩
  | 94 => ⟨S1x1x655360, .f32⟩
  | 95 => ⟨S1x655360, .f32⟩
  | 96 => ⟨S_, .f32⟩
  | 97 => ⟨S_, .f32⟩
  | 98 => ⟨S1x655360, .f32⟩
  | 99 => ⟨S1x655360, .f32⟩
  | 100 => ⟨S1x1x655360, .i32⟩
  | 101 => ⟨S1x655360, .i32⟩
  | 102 => ⟨S1x655360, .i32⟩
  | 103 => ⟨S1x655360, .i32⟩
  | 104 => ⟨S655360, .i32⟩
  | 105 => ⟨S1x655360x1, .f32⟩
  | 106 => ⟨S1x655360x6, .f32⟩
  | 107 => ⟨S1x655360x6, .f32⟩
  | 108 => ⟨S655360x6, .f32⟩
  | 109 => ⟨S_, .f32⟩
  | 110 => ⟨S520x6, .f32⟩
  | 111 => ⟨S655360x1, .i32⟩
  | 112 => ⟨S520x6, .f32⟩
  | 113 => ⟨S520x6, .f32⟩
  | 114 => ⟨S655360, .f32⟩
  | 115 => ⟨S_, .f32⟩
  | 116 => ⟨S520, .f32⟩
  | 117 => ⟨S655360x1, .i32⟩
  | 118 => ⟨S520, .f32⟩
  | 119 => ⟨S520, .f32⟩
  | 120 => ⟨S1x1x655360, .i1⟩
  | 121 => ⟨S1x655360, .i1⟩
  | 122 => ⟨S1x1x655360, .f32⟩
  | 123 => ⟨S1x655360, .f32⟩
  | 124 => ⟨S_, .f32⟩
  | 125 => ⟨S_, .f32⟩
  | 126 => ⟨S1x655360, .f32⟩
  | 127 => ⟨S1x655360, .f32⟩
  | _ => ⟨S1x3x8x256x320, .f32⟩

abbrev hbmTy0_29 (i : Nat) : BufTy := match i % 128 with
  | 0 => ⟨S1x1x655360, .i32⟩
  | 1 => ⟨S1x655360, .i32⟩
  | 2 => ⟨S1x655360, .i32⟩
  | 3 => ⟨S1x655360, .i32⟩
  | 4 => ⟨S655360, .i32⟩
  | 5 => ⟨S1x655360x1, .f32⟩
  | 6 => ⟨S1x655360x6, .f32⟩
  | 7 => ⟨S1x655360x6, .f32⟩
  | 8 => ⟨S655360x6, .f32⟩
  | 9 => ⟨S_, .f32⟩
  | 10 => ⟨S520x6, .f32⟩
  | 11 => ⟨S655360x1, .i32⟩
  | 12 => ⟨S520x6, .f32⟩
  | 13 => ⟨S520x6, .f32⟩
  | 14 => ⟨S655360, .f32⟩
  | 15 => ⟨S_, .f32⟩
  | 16 => ⟨S520, .f32⟩
  | 17 => ⟨S655360x1, .i32⟩
  | 18 => ⟨S520, .f32⟩
  | 19 => ⟨S520, .f32⟩
  | 20 => ⟨S1x1x655360, .i1⟩
  | 21 => ⟨S1x655360, .i1⟩
  | 22 => ⟨S1x1x655360, .f32⟩
  | 23 => ⟨S1x655360, .f32⟩
  | 24 => ⟨S_, .f32⟩
  | 25 => ⟨S_, .f32⟩
  | 26 => ⟨S1x655360, .f32⟩
  | 27 => ⟨S1x655360, .f32⟩
  | 28 => ⟨S1x1x655360, .i32⟩
  | 29 => ⟨S1x655360, .i32⟩
  | 30 => ⟨S1x655360, .i32⟩
  | 31 => ⟨S1x655360, .i32⟩
  | 32 => ⟨S655360, .i32⟩
  | 33 => ⟨S1x655360x1, .f32⟩
  | 34 => ⟨S1x655360x6, .f32⟩
  | 35 => ⟨S1x655360x6, .f32⟩
  | 36 => ⟨S655360x6, .f32⟩
  | 37 => ⟨S_, .f32⟩
  | 38 => ⟨S520x6, .f32⟩
  | 39 => ⟨S655360x1, .i32⟩
  | 40 => ⟨S520x6, .f32⟩
  | 41 => ⟨S520x6, .f32⟩
  | 42 => ⟨S655360, .f32⟩
  | 43 => ⟨S_, .f32⟩
  | 44 => ⟨S520, .f32⟩
  | 45 => ⟨S655360x1, .i32⟩
  | 46 => ⟨S520, .f32⟩
  | 47 => ⟨S520, .f32⟩
  | 48 => ⟨S1x1x655360, .i1⟩
  | 49 => ⟨S1x655360, .i1⟩
  | 50 => ⟨S1x1x655360, .f32⟩
  | 51 => ⟨S1x655360, .f32⟩
  | 52 => ⟨S_, .f32⟩
  | 53 => ⟨S_, .f32⟩
  | 54 => ⟨S1x655360, .f32⟩
  | 55 => ⟨S1x655360, .f32⟩
  | 56 => ⟨S1x1x655360, .i32⟩
  | 57 => ⟨S1x655360, .i32⟩
  | 58 => ⟨S1x655360, .i32⟩
  | 59 => ⟨S1x655360, .i32⟩
  | 60 => ⟨S655360, .i32⟩
  | 61 => ⟨S1x655360x1, .f32⟩
  | 62 => ⟨S1x655360x6, .f32⟩
  | 63 => ⟨S1x655360x6, .f32⟩
  | 64 => ⟨S655360x6, .f32⟩
  | 65 => ⟨S_, .f32⟩
  | 66 => ⟨S520x6, .f32⟩
  | 67 => ⟨S655360x1, .i32⟩
  | 68 => ⟨S520x6, .f32⟩
  | 69 => ⟨S520x6, .f32⟩
  | 70 => ⟨S655360, .f32⟩
  | 71 => ⟨S_, .f32⟩
  | 72 => ⟨S520, .f32⟩
  | 73 => ⟨S655360x1, .i32⟩
  | 74 => ⟨S520, .f32⟩
  | 75 => ⟨S520, .f32⟩
  | 76 => ⟨S1x1x655360, .i1⟩
  | 77 => ⟨S1x655360, .i1⟩
  | 78 => ⟨S1x1x655360, .f32⟩
  | 79 => ⟨S1x655360, .f32⟩
  | 80 => ⟨S_, .f32⟩
  | 81 => ⟨S_, .f32⟩
  | 82 => ⟨S1x655360, .f32⟩
  | 83 => ⟨S1x655360, .f32⟩
  | 84 => ⟨S1x1x655360, .i32⟩
  | 85 => ⟨S1x655360, .i32⟩
  | 86 => ⟨S1x655360, .i32⟩
  | 87 => ⟨S1x655360, .i32⟩
  | 88 => ⟨S655360, .i32⟩
  | 89 => ⟨S1x655360x1, .f32⟩
  | 90 => ⟨S1x655360x6, .f32⟩
  | 91 => ⟨S1x655360x6, .f32⟩
  | 92 => ⟨S655360x6, .f32⟩
  | 93 => ⟨S_, .f32⟩
  | 94 => ⟨S520x6, .f32⟩
  | 95 => ⟨S655360x1, .i32⟩
  | 96 => ⟨S520x6, .f32⟩
  | 97 => ⟨S520x6, .f32⟩
  | 98 => ⟨S655360, .f32⟩
  | 99 => ⟨S_, .f32⟩
  | 100 => ⟨S520, .f32⟩
  | 101 => ⟨S655360x1, .i32⟩
  | 102 => ⟨S520, .f32⟩
  | 103 => ⟨S520, .f32⟩
  | 104 => ⟨S1x1x655360, .i1⟩
  | 105 => ⟨S1x655360, .i1⟩
  | 106 => ⟨S1x1x655360, .f32⟩
  | 107 => ⟨S1x655360, .f32⟩
  | 108 => ⟨S_, .f32⟩
  | 109 => ⟨S_, .f32⟩
  | 110 => ⟨S1x655360, .f32⟩
  | 111 => ⟨S1x655360, .f32⟩
  | 112 => ⟨S1x1x655360, .i32⟩
  | 113 => ⟨S1x655360, .i32⟩
  | 114 => ⟨S1x655360, .i32⟩
  | 115 => ⟨S1x655360, .i32⟩
  | 116 => ⟨S655360, .i32⟩
  | 117 => ⟨S1x655360x1, .f32⟩
  | 118 => ⟨S1x655360x6, .f32⟩
  | 119 => ⟨S1x655360x6, .f32⟩
  | 120 => ⟨S655360x6, .f32⟩
  | 121 => ⟨S_, .f32⟩
  | 122 => ⟨S520x6, .f32⟩
  | 123 => ⟨S655360x1, .i32⟩
  | 124 => ⟨S520x6, .f32⟩
  | 125 => ⟨S520x6, .f32⟩
  | 126 => ⟨S655360, .f32⟩
  | 127 => ⟨S_, .f32⟩
  | _ => ⟨S1x3x8x256x320, .f32⟩

abbrev hbmTy0_30 (i : Nat) : BufTy := match i % 128 with
  | 0 => ⟨S520, .f32⟩
  | 1 => ⟨S655360x1, .i32⟩
  | 2 => ⟨S520, .f32⟩
  | 3 => ⟨S520, .f32⟩
  | 4 => ⟨S1x1x655360, .i1⟩
  | 5 => ⟨S1x655360, .i1⟩
  | 6 => ⟨S1x1x655360, .f32⟩
  | 7 => ⟨S1x655360, .f32⟩
  | 8 => ⟨S_, .f32⟩
  | 9 => ⟨S_, .f32⟩
  | 10 => ⟨S1x655360, .f32⟩
  | 11 => ⟨S1x655360, .f32⟩
  | 12 => ⟨S1x1x655360, .i32⟩
  | 13 => ⟨S1x655360, .i32⟩
  | 14 => ⟨S1x655360, .i32⟩
  | 15 => ⟨S1x655360, .i32⟩
  | 16 => ⟨S655360, .i32⟩
  | 17 => ⟨S1x655360x1, .f32⟩
  | 18 => ⟨S1x655360x6, .f32⟩
  | 19 => ⟨S1x655360x6, .f32⟩
  | 20 => ⟨S655360x6, .f32⟩
  | 21 => ⟨S_, .f32⟩
  | 22 => ⟨S520x6, .f32⟩
  | 23 => ⟨S655360x1, .i32⟩
  | 24 => ⟨S520x6, .f32⟩
  | 25 => ⟨S520x6, .f32⟩
  | 26 => ⟨S655360, .f32⟩
  | 27 => ⟨S_, .f32⟩
  | 28 => ⟨S520, .f32⟩
  | 29 => ⟨S655360x1, .i32⟩
  | 30 => ⟨S520, .f32⟩
  | 31 => ⟨S520, .f32⟩
  | 32 => ⟨S1x1x655360, .i1⟩
  | 33 => ⟨S1x655360, .i1⟩
  | 34 => ⟨S1x1x655360, .f32⟩
  | 35 => ⟨S1x655360, .f32⟩
  | 36 => ⟨S_, .f32⟩
  | 37 => ⟨S_, .f32⟩
  | 38 => ⟨S1x655360, .f32⟩
  | 39 => ⟨S1x655360, .f32⟩
  | 40 => ⟨S1x1x655360, .i32⟩
  | 41 => ⟨S1x655360, .i32⟩
  | 42 => ⟨S1x655360, .i32⟩
  | 43 => ⟨S1x655360, .i32⟩
  | 44 => ⟨S655360, .i32⟩
  | 45 => ⟨S1x655360x1, .f32⟩
  | 46 => ⟨S1x655360x6, .f32⟩
  | 47 => ⟨S1x655360x6, .f32⟩
  | 48 => ⟨S655360x6, .f32⟩
  | 49 => ⟨S_, .f32⟩
  | 50 => ⟨S520x6, .f32⟩
  | 51 => ⟨S655360x1, .i32⟩
  | 52 => ⟨S520x6, .f32⟩
  | 53 => ⟨S520x6, .f32⟩
  | 54 => ⟨S655360, .f32⟩
  | 55 => ⟨S_, .f32⟩
  | 56 => ⟨S520, .f32⟩
  | 57 => ⟨S655360x1, .i32⟩
  | 58 => ⟨S520, .f32⟩
  | 59 => ⟨S520, .f32⟩
  | 60 => ⟨S1x1x655360, .i1⟩
  | 61 => ⟨S1x655360, .i1⟩
  | 62 => ⟨S1x1x655360, .f32⟩
  | 63 => ⟨S1x655360, .f32⟩
  | 64 => ⟨S_, .f32⟩
  | 65 => ⟨S_, .f32⟩
  | 66 => ⟨S1x655360, .f32⟩
  | 67 => ⟨S1x655360, .f32⟩
  | 68 => ⟨S1x1x655360, .i32⟩
  | 69 => ⟨S1x655360, .i32⟩
  | 70 => ⟨S1x655360, .i32⟩
  | 71 => ⟨S1x655360, .i32⟩
  | 72 => ⟨S655360, .i32⟩
  | 73 => ⟨S1x655360x1, .f32⟩
  | 74 => ⟨S1x655360x6, .f32⟩
  | 75 => ⟨S1x655360x6, .f32⟩
  | 76 => ⟨S655360x6, .f32⟩
  | 77 => ⟨S_, .f32⟩
  | 78 => ⟨S520x6, .f32⟩
  | 79 => ⟨S655360x1, .i32⟩
  | 80 => ⟨S520x6, .f32⟩
  | 81 => ⟨S520x6, .f32⟩
  | 82 => ⟨S655360, .f32⟩
  | 83 => ⟨S_, .f32⟩
  | 84 => ⟨S520, .f32⟩
  | 85 => ⟨S655360x1, .i32⟩
  | 86 => ⟨S520, .f32⟩
  | 87 => ⟨S520, .f32⟩
  | 88 => ⟨S1x1x655360, .i1⟩
  | 89 => ⟨S1x655360, .i1⟩
  | 90 => ⟨S1x1x655360, .f32⟩
  | 91 => ⟨S1x655360, .f32⟩
  | 92 => ⟨S_, .f32⟩
  | 93 => ⟨S_, .f32⟩
  | 94 => ⟨S1x655360, .f32⟩
  | 95 => ⟨S1x655360, .f32⟩
  | 96 => ⟨S1x1x655360, .i32⟩
  | 97 => ⟨S1x655360, .i32⟩
  | 98 => ⟨S1x655360, .i32⟩
  | 99 => ⟨S1x655360, .i32⟩
  | 100 => ⟨S655360, .i32⟩
  | 101 => ⟨S1x655360x1, .f32⟩
  | 102 => ⟨S1x655360x6, .f32⟩
  | 103 => ⟨S1x655360x6, .f32⟩
  | 104 => ⟨S655360x6, .f32⟩
  | 105 => ⟨S_, .f32⟩
  | 106 => ⟨S520x6, .f32⟩
  | 107 => ⟨S655360x1, .i32⟩
  | 108 => ⟨S520x6, .f32⟩
  | 109 => ⟨S520x6, .f32⟩
  | 110 => ⟨S655360, .f32⟩
  | 111 => ⟨S_, .f32⟩
  | 112 => ⟨S520, .f32⟩
  | 113 => ⟨S655360x1, .i32⟩
  | 114 => ⟨S520, .f32⟩
  | 115 => ⟨S520, .f32⟩
  | 116 => ⟨S1x1x655360, .i1⟩
  | 117 => ⟨S1x655360, .i1⟩
  | 118 => ⟨S1x1x655360, .f32⟩
  | 119 => ⟨S1x655360, .f32⟩
  | 120 => ⟨S_, .f32⟩
  | 121 => ⟨S_, .f32⟩
  | 122 => ⟨S1x655360, .f32⟩
  | 123 => ⟨S1x655360, .f32⟩
  | 124 => ⟨S1x1x655360, .i32⟩
  | 125 => ⟨S1x655360, .i32⟩
  | 126 => ⟨S1x655360, .i32⟩
  | 127 => ⟨S1x655360, .i32⟩
  | _ => ⟨S1x3x8x256x320, .f32⟩

abbrev hbmTy0_31 (i : Nat) : BufTy := match i % 128 with
  | 0 => ⟨S655360, .i32⟩
  | 1 => ⟨S1x655360x1, .f32⟩
  | 2 => ⟨S1x655360x6, .f32⟩
  | 3 => ⟨S1x655360x6, .f32⟩
  | 4 => ⟨S655360x6, .f32⟩
  | 5 => ⟨S_, .f32⟩
  | 6 => ⟨S520x6, .f32⟩
  | 7 => ⟨S655360x1, .i32⟩
  | 8 => ⟨S520x6, .f32⟩
  | 9 => ⟨S520x6, .f32⟩
  | 10 => ⟨S655360, .f32⟩
  | 11 => ⟨S_, .f32⟩
  | 12 => ⟨S520, .f32⟩
  | 13 => ⟨S655360x1, .i32⟩
  | 14 => ⟨S520, .f32⟩
  | 15 => ⟨S520, .f32⟩
  | 16 => ⟨S1x1x655360, .i1⟩
  | 17 => ⟨S1x655360, .i1⟩
  | 18 => ⟨S1x1x655360, .f32⟩
  | 19 => ⟨S1x655360, .f32⟩
  | 20 => ⟨S_, .f32⟩
  | 21 => ⟨S_, .f32⟩
  | 22 => ⟨S1x655360, .f32⟩
  | 23 => ⟨S1x655360, .f32⟩
  | 24 => ⟨S1x1x655360, .i32⟩
  | 25 => ⟨S1x655360, .i32⟩
  | 26 => ⟨S1x655360, .i32⟩
  | 27 => ⟨S1x655360, .i32⟩
  | 28 => ⟨S655360, .i32⟩
  | 29 => ⟨S1x655360x1, .f32⟩
  | 30 => ⟨S1x655360x6, .f32⟩
  | 31 => ⟨S1x655360x6, .f32⟩
  | 32 => ⟨S655360x6, .f32⟩
  | 33 => ⟨S_, .f32⟩
  | 34 => ⟨S520x6, .f32⟩
  | 35 => ⟨S655360x1, .i32⟩
  | 36 => ⟨S520x6, .f32⟩
  | 37 => ⟨S520x6, .f32⟩
  | 38 => ⟨S655360, .f32⟩
  | 39 => ⟨S_, .f32⟩
  | 40 => ⟨S520, .f32⟩
  | 41 => ⟨S655360x1, .i32⟩
  | 42 => ⟨S520, .f32⟩
  | 43 => ⟨S520, .f32⟩
  | 44 => ⟨S1x1x655360, .i1⟩
  | 45 => ⟨S1x655360, .i1⟩
  | 46 => ⟨S1x1x655360, .f32⟩
  | 47 => ⟨S1x655360, .f32⟩
  | 48 => ⟨S_, .f32⟩
  | 49 => ⟨S_, .f32⟩
  | 50 => ⟨S1x655360, .f32⟩
  | 51 => ⟨S1x655360, .f32⟩
  | 52 => ⟨S1x1x655360, .i32⟩
  | 53 => ⟨S1x655360, .i32⟩
  | 54 => ⟨S1x655360, .i32⟩
  | 55 => ⟨S1x655360, .i32⟩
  | 56 => ⟨S655360, .i32⟩
  | 57 => ⟨S1x655360x1, .f32⟩
  | 58 => ⟨S1x655360x6, .f32⟩
  | 59 => ⟨S1x655360x6, .f32⟩
  | 60 => ⟨S655360x6, .f32⟩
  | 61 => ⟨S_, .f32⟩
  | 62 => ⟨S520x6, .f32⟩
  | 63 => ⟨S655360x1, .i32⟩
  | 64 => ⟨S520x6, .f32⟩
  | 65 => ⟨S520x6, .f32⟩
  | 66 => ⟨S655360, .f32⟩
  | 67 => ⟨S_, .f32⟩
  | 68 => ⟨S520, .f32⟩
  | 69 => ⟨S655360x1, .i32⟩
  | 70 => ⟨S520, .f32⟩
  | 71 => ⟨S520, .f32⟩
  | 72 => ⟨S1x1x655360, .i1⟩
  | 73 => ⟨S1x655360, .i1⟩
  | 74 => ⟨S1x1x655360, .f32⟩
  | 75 => ⟨S1x655360, .f32⟩
  | 76 => ⟨S_, .f32⟩
  | 77 => ⟨S_, .f32⟩
  | 78 => ⟨S1x655360, .f32⟩
  | 79 => ⟨S1x655360, .f32⟩
  | 80 => ⟨S1x1x655360, .i32⟩
  | 81 => ⟨S1x655360, .i32⟩
  | 82 => ⟨S1x655360, .i32⟩
  | 83 => ⟨S1x655360, .i32⟩
  | 84 => ⟨S655360, .i32⟩
  | 85 => ⟨S1x655360x1, .f32⟩
  | 86 => ⟨S1x655360x6, .f32⟩
  | 87 => ⟨S1x655360x6, .f32⟩
  | 88 => ⟨S655360x6, .f32⟩
  | 89 => ⟨S_, .f32⟩
  | 90 => ⟨S520x6, .f32⟩
  | 91 => ⟨S655360x1, .i32⟩
  | 92 => ⟨S520x6, .f32⟩
  | 93 => ⟨S520x6, .f32⟩
  | 94 => ⟨S655360, .f32⟩
  | 95 => ⟨S_, .f32⟩
  | 96 => ⟨S520, .f32⟩
  | 97 => ⟨S655360x1, .i32⟩
  | 98 => ⟨S520, .f32⟩
  | 99 => ⟨S520, .f32⟩
  | 100 => ⟨S1x1x655360, .i1⟩
  | 101 => ⟨S1x655360, .i1⟩
  | 102 => ⟨S1x1x655360, .f32⟩
  | 103 => ⟨S1x655360, .f32⟩
  | 104 => ⟨S_, .f32⟩
  | 105 => ⟨S_, .f32⟩
  | 106 => ⟨S1x655360, .f32⟩
  | 107 => ⟨S1x655360, .f32⟩
  | 108 => ⟨S1x1x655360, .i32⟩
  | 109 => ⟨S1x655360, .i32⟩
  | 110 => ⟨S1x655360, .i32⟩
  | 111 => ⟨S1x655360, .i32⟩
  | 112 => ⟨S655360, .i32⟩
  | 113 => ⟨S1x655360x1, .f32⟩
  | 114 => ⟨S1x655360x6, .f32⟩
  | 115 => ⟨S1x655360x6, .f32⟩
  | 116 => ⟨S655360x6, .f32⟩
  | 117 => ⟨S_, .f32⟩
  | 118 => ⟨S520x6, .f32⟩
  | 119 => ⟨S655360x1, .i32⟩
  | 120 => ⟨S520x6, .f32⟩
  | 121 => ⟨S520x6, .f32⟩
  | 122 => ⟨S655360, .f32⟩
  | 123 => ⟨S_, .f32⟩
  | 124 => ⟨S520, .f32⟩
  | 125 => ⟨S655360x1, .i32⟩
  | 126 => ⟨S520, .f32⟩
  | 127 => ⟨S520, .f32⟩
  | _ => ⟨S1x3x8x256x320, .f32⟩

abbrev hbmTy0_32 (i : Nat) : BufTy := match i % 128 with
  | 0 => ⟨S1x1x655360, .i1⟩
  | 1 => ⟨S1x655360, .i1⟩
  | 2 => ⟨S1x1x655360, .f32⟩
  | 3 => ⟨S1x655360, .f32⟩
  | 4 => ⟨S_, .f32⟩
  | 5 => ⟨S_, .f32⟩
  | 6 => ⟨S1x655360, .f32⟩
  | 7 => ⟨S1x655360, .f32⟩
  | 8 => ⟨S1x1x655360, .i32⟩
  | 9 => ⟨S1x655360, .i32⟩
  | 10 => ⟨S1x655360, .i32⟩
  | 11 => ⟨S1x655360, .i32⟩
  | 12 => ⟨S655360, .i32⟩
  | 13 => ⟨S1x655360x1, .f32⟩
  | 14 => ⟨S1x655360x6, .f32⟩
  | 15 => ⟨S1x655360x6, .f32⟩
  | 16 => ⟨S655360x6, .f32⟩
  | 17 => ⟨S_, .f32⟩
  | 18 => ⟨S520x6, .f32⟩
  | 19 => ⟨S655360x1, .i32⟩
  | 20 => ⟨S520x6, .f32⟩
  | 21 => ⟨S520x6, .f32⟩
  | 22 => ⟨S655360, .f32⟩
  | 23 => ⟨S_, .f32⟩
  | 24 => ⟨S520, .f32⟩
  | 25 => ⟨S655360x1, .i32⟩
  | 26 => ⟨S520, .f32⟩
  | 27 => ⟨S520, .f32⟩
  | 28 => ⟨S1x1x655360, .i1⟩
  | 29 => ⟨S1x655360, .i1⟩
  | 30 => ⟨S1x1x655360, .f32⟩
  | 31 => ⟨S1x655360, .f32⟩
  | 32 => ⟨S_, .f32⟩
  | 33 => ⟨S_, .f32⟩
  | 34 => ⟨S1x655360, .f32⟩
  | 35 => ⟨S1x655360, .f32⟩
  | 36 => ⟨S1x1x655360, .i32⟩
  | 37 => ⟨S1x655360, .i32⟩
  | 38 => ⟨S1x655360, .i32⟩
  | 39 => ⟨S1x655360, .i32⟩
  | 40 => ⟨S655360, .i32⟩
  | 41 => ⟨S1x655360x1, .f32⟩
  | 42 => ⟨S1x655360x6, .f32⟩
  | 43 => ⟨S1x655360x6, .f32⟩
  | 44 => ⟨S655360x6, .f32⟩
  | 45 => ⟨S_, .f32⟩
  | 46 => ⟨S520x6, .f32⟩
  | 47 => ⟨S655360x1, .i32⟩
  | 48 => ⟨S520x6, .f32⟩
  | 49 => ⟨S520x6, .f32⟩
  | 50 => ⟨S655360, .f32⟩
  | 51 => ⟨S_, .f32⟩
  | 52 => ⟨S520, .f32⟩
  | 53 => ⟨S655360x1, .i32⟩
  | 54 => ⟨S520, .f32⟩
  | 55 => ⟨S520, .f32⟩
  | 56 => ⟨S1x1x655360, .i1⟩
  | 57 => ⟨S1x655360, .i1⟩
  | 58 => ⟨S1x1x655360, .f32⟩
  | 59 => ⟨S1x655360, .f32⟩
  | 60 => ⟨S_, .f32⟩
  | 61 => ⟨S_, .f32⟩
  | 62 => ⟨S1x655360, .f32⟩
  | 63 => ⟨S1x655360, .f32⟩
  | 64 => ⟨S1x1x655360, .i32⟩
  | 65 => ⟨S1x655360, .i32⟩
  | 66 => ⟨S1x655360, .i32⟩
  | 67 => ⟨S1x655360, .i32⟩
  | 68 => ⟨S655360, .i32⟩
  | 69 => ⟨S1x655360x1, .f32⟩
  | 70 => ⟨S1x655360x6, .f32⟩
  | 71 => ⟨S1x655360x6, .f32⟩
  | 72 => ⟨S655360x6, .f32⟩
  | 73 => ⟨S_, .f32⟩
  | 74 => ⟨S520x6, .f32⟩
  | 75 => ⟨S655360x1, .i32⟩
  | 76 => ⟨S520x6, .f32⟩
  | 77 => ⟨S520x6, .f32⟩
  | 78 => ⟨S655360, .f32⟩
  | 79 => ⟨S_, .f32⟩
  | 80 => ⟨S520, .f32⟩
  | 81 => ⟨S655360x1, .i32⟩
  | 82 => ⟨S520, .f32⟩
  | 83 => ⟨S520, .f32⟩
  | 84 => ⟨S1x1x655360, .i1⟩
  | 85 => ⟨S1x655360, .i1⟩
  | 86 => ⟨S1x1x655360, .f32⟩
  | 87 => ⟨S1x655360, .f32⟩
  | 88 => ⟨S_, .f32⟩
  | 89 => ⟨S_, .f32⟩
  | 90 => ⟨S1x655360, .f32⟩
  | 91 => ⟨S1x655360, .f32⟩
  | 92 => ⟨S1x1x655360, .i32⟩
  | 93 => ⟨S1x655360, .i32⟩
  | 94 => ⟨S1x655360, .i32⟩
  | 95 => ⟨S1x655360, .i32⟩
  | 96 => ⟨S655360, .i32⟩
  | 97 => ⟨S1x655360x1, .f32⟩
  | 98 => ⟨S1x655360x6, .f32⟩
  | 99 => ⟨S1x655360x6, .f32⟩
  | 100 => ⟨S655360x6, .f32⟩
  | 101 => ⟨S_, .f32⟩
  | 102 => ⟨S520x6, .f32⟩
  | 103 => ⟨S655360x1, .i32⟩
  | 104 => ⟨S520x6, .f32⟩
  | 105 => ⟨S520x6, .f32⟩
  | 106 => ⟨S655360, .f32⟩
  | 107 => ⟨S_, .f32⟩
  | 108 => ⟨S520, .f32⟩
  | 109 => ⟨S655360x1, .i32⟩
  | 110 => ⟨S520, .f32⟩
  | 111 => ⟨S520, .f32⟩
  | 112 => ⟨S1x1x655360, .i1⟩
  | 113 => ⟨S1x655360, .i1⟩
  | 114 => ⟨S1x1x655360, .f32⟩
  | 115 => ⟨S1x655360, .f32⟩
  | 116 => ⟨S_, .f32⟩
  | 117 => ⟨S_, .f32⟩
  | 118 => ⟨S1x655360, .f32⟩
  | 119 => ⟨S1x655360, .f32⟩
  | 120 => ⟨S1x1x655360, .i32⟩
  | 121 => ⟨S1x655360, .i32⟩
  | 122 => ⟨S1x655360, .i32⟩
  | 123 => ⟨S1x655360, .i32⟩
  | 124 => ⟨S655360, .i32⟩
  | 125 => ⟨S1x655360x1, .f32⟩
  | 126 => ⟨S1x655360x6, .f32⟩
  | 127 => ⟨S1x655360x6, .f32⟩
  | _ => ⟨S1x3x8x256x320, .f32⟩

abbrev hbmTy0_33 (i : Nat) : BufTy := match i % 128 with
  | 0 => ⟨S655360x6, .f32⟩
  | 1 => ⟨S_, .f32⟩
  | 2 => ⟨S520x6, .f32⟩
  | 3 => ⟨S655360x1, .i32⟩
  | 4 => ⟨S520x6, .f32⟩
  | 5 => ⟨S520x6, .f32⟩
  | 6 => ⟨S655360, .f32⟩
  | 7 => ⟨S_, .f32⟩
  | 8 => ⟨S520, .f32⟩
  | 9 => ⟨S655360x1, .i32⟩
  | 10 => ⟨S520, .f32⟩
  | 11 => ⟨S520, .f32⟩
  | 12 => ⟨S_, .f32⟩
  | 13 => ⟨S520, .f32⟩
  | 14 => ⟨S520, .f32⟩
  | 15 => ⟨S520x1, .f32⟩
  | 16 => ⟨S520x6, .f32⟩
  | 17 => ⟨S520x6, .f32⟩
  | 18 => ⟨S1x520x6, .f32⟩
  | 19 => ⟨S1x6x520, .f32⟩
  | 20 => ⟨S1x520, .f32⟩
  | 21 => ⟨S1x6x655360, .f32⟩
  | 22 => ⟨S1x655360x6, .f32⟩
  | 23 => ⟨S1x520x6, .f32⟩
  | 24 => ⟨S1x655360, .i32⟩
  | 25 => ⟨S_, .i32⟩
  | 26 => ⟨S_, .i32⟩
  | 27 => ⟨S1x655360, .i32⟩
  | 28 => ⟨S1x655360, .i32⟩
  | 29 => ⟨S1x655360, .i32⟩
  | 30 => ⟨S_, .i32⟩
  | 31 => ⟨S1x655360, .i32⟩
  | 32 => ⟨S1x655360, .i1⟩
  | 33 => ⟨S1x655360, .i32⟩
  | 34 => ⟨S1x655360, .i32⟩
  | 35 => ⟨S_, .i32⟩
  | 36 => ⟨S1x655360, .i32⟩
  | 37 => ⟨S1x655360, .i1⟩
  | 38 => ⟨S1x655360, .i1⟩
  | 39 => ⟨S_, .i32⟩
  | 40 => ⟨S1x655360, .i32⟩
  | 41 => ⟨S1x655360, .i32⟩
  | 42 => ⟨S1x655360, .i32⟩
  | 43 => ⟨S_, .i32⟩
  | 44 => ⟨S_, .i32⟩
  | 45 => ⟨S1x655360, .i32⟩
  | 46 => ⟨S1x655360, .i32⟩
  | 47 => ⟨S1x655360, .i32⟩
  | 48 => ⟨S_, .i32⟩
  | 49 => ⟨S1x655360, .i32⟩
  | 50 => ⟨S1x655360, .i1⟩
  | 51 => ⟨S1x655360, .i32⟩
  | 52 => ⟨S1x655360, .i32⟩
  | 53 => ⟨S_, .i32⟩
  | 54 => ⟨S1x655360, .i32⟩
  | 55 => ⟨S1x655360, .i1⟩
  | 56 => ⟨S1x655360, .i1⟩
  | 57 => ⟨S_, .i32⟩
  | 58 => ⟨S1x655360, .i32⟩
  | 59 => ⟨S1x655360, .i32⟩
  | 60 => ⟨S1x655360, .i32⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S1x655360, .i32⟩
  | 68 => ⟨S1x655360, .i32⟩
  | 69 => ⟨S_, .i32⟩
  | 70 => ⟨S1x655360, .i32⟩
  | 71 => ⟨S1x655360, .i1⟩
  | 72 => ⟨S_, .i32⟩
  | 73 => ⟨S1x655360, .i32⟩
  | 74 => ⟨S1x655360, .i1⟩
  | 75 => ⟨S_, .i32⟩
  | 76 => ⟨S_, .i1⟩
  | 77 => ⟨S1x655360, .i1⟩
  | 78 => ⟨S1x655360, .i1⟩
  | 79 => ⟨S1x655360, .i1⟩
  | 80 => ⟨S1x655360, .i32⟩
  | 81 => ⟨S1x655360, .i32⟩
  | 82 => ⟨S1x655360, .i32⟩
  | 83 => ⟨S_, .i32⟩
  | 84 => ⟨S_, .i32⟩
  | 85 => ⟨S_, .i32⟩
  | 86 => ⟨S_, .i1⟩
  | 87 => ⟨S_, .i32⟩
  | 88 => ⟨S_, .i32⟩
  | 89 => ⟨S1x655360, .i32⟩
  | 90 => ⟨S1x655360, .i32⟩
  | 91 => ⟨S_, .i32⟩
  | 92 => ⟨S1x655360, .i32⟩
  | 93 => ⟨S1x655360, .i1⟩
  | 94 => ⟨S_, .i32⟩
  | 95 => ⟨S1x655360, .i32⟩
  | 96 => ⟨S1x655360, .i1⟩
  | 97 => ⟨S_, .i32⟩
  | 98 => ⟨S_, .i1⟩
  | 99 => ⟨S1x655360, .i1⟩
  | 100 => ⟨S1x655360, .i1⟩
  | 101 => ⟨S1x655360, .i1⟩
  | 102 => ⟨S1x655360, .i32⟩
  | 103 => ⟨S1x655360, .i32⟩
  | 104 => ⟨S1x655360, .i32⟩
  | 105 => ⟨S1x1x655360, .i32⟩
  | 106 => ⟨S1x27x1, .i32⟩
  | 107 => ⟨S1x27x655360, .i32⟩
  | 108 => ⟨S1x27x655360, .i32⟩
  | 109 => ⟨S1x27x655360, .i32⟩
  | 110 => ⟨S1x1x655360, .i32⟩
  | 111 => ⟨S1x27x1, .i32⟩
  | 112 => ⟨S1x27x655360, .i32⟩
  | 113 => ⟨S1x27x655360, .i32⟩
  | 114 => ⟨S1x27x655360, .i32⟩
  | 115 => ⟨S1x1x655360, .i32⟩
  | 116 => ⟨S1x27x1, .i32⟩
  | 117 => ⟨S1x27x655360, .i32⟩
  | 118 => ⟨S1x27x655360, .i32⟩
  | 119 => ⟨S1x27x655360, .i32⟩
  | 120 => ⟨S_, .i32⟩
  | 121 => ⟨S1x27x655360, .i32⟩
  | 122 => ⟨S1x27x655360, .i1⟩
  | 123 => ⟨S_, .i32⟩
  | 124 => ⟨S1x27x655360, .i32⟩
  | 125 => ⟨S1x27x655360, .i1⟩
  | 126 => ⟨S1x27x655360, .i1⟩
  | 127 => ⟨S_, .i32⟩
  | _ => ⟨S1x3x8x256x320, .f32⟩

abbrev hbmTy0_34 (i : Nat) : BufTy := match i % 128 with
  | 0 => ⟨S1x27x655360, .i32⟩
  | 1 => ⟨S1x27x655360, .i1⟩
  | 2 => ⟨S1x27x655360, .i1⟩
  | 3 => ⟨S_, .i32⟩
  | 4 => ⟨S1x27x655360, .i32⟩
  | 5 => ⟨S1x27x655360, .i1⟩
  | 6 => ⟨S1x27x655360, .i1⟩
  | 7 => ⟨S_, .i32⟩
  | 8 => ⟨S1x27x655360, .i32⟩
  | 9 => ⟨S1x27x655360, .i1⟩
  | 10 => ⟨S1x27x655360, .i1⟩
  | 11 => ⟨S_, .i32⟩
  | 12 => ⟨S1x27x655360, .i32⟩
  | 13 => ⟨S1x27x655360, .i1⟩
  | 14 => ⟨S1x27x655360, .i1⟩
  | 15 => ⟨S_, .i32⟩
  | 16 => ⟨S_, .i32⟩
  | 17 => ⟨S_, .i32⟩
  | 18 => ⟨S1x27x655360, .i32⟩
  | 19 => ⟨S1x27x655360, .i32⟩
  | 20 => ⟨S_, .i32⟩
  | 21 => ⟨S1x27x655360, .i32⟩
  | 22 => ⟨S1x27x655360, .i32⟩
  | 23 => ⟨S_, .i32⟩
  | 24 => ⟨S1x27x655360, .i32⟩
  | 25 => ⟨S1x27x655360, .i32⟩
  | 26 => ⟨S_, .i32⟩
  | 27 => ⟨S_, .i32⟩
  | 28 => ⟨S_, .i32⟩
  | 29 => ⟨S1x27x655360, .i32⟩
  | 30 => ⟨S1x27x655360, .i32⟩
  | 31 => ⟨S_, .i32⟩
  | 32 => ⟨S1x27x655360, .i32⟩
  | 33 => ⟨S1x27x655360, .i32⟩
  | 34 => ⟨S1x27x655360, .i32⟩
  | 35 => ⟨S_, .i32⟩
  | 36 => ⟨S1x27x655360, .i32⟩
  | 37 => ⟨S1x27x655360, .i32⟩
  | 38 => ⟨S_, .i32⟩
  | 39 => ⟨S_, .i32⟩
  | 40 => ⟨S_, .i32⟩
  | 41 => ⟨S1x27x655360, .i32⟩
  | 42 => ⟨S1x27x655360, .i32⟩
  | 43 => ⟨S_, .i32⟩
  | 44 => ⟨S1x27x655360, .i32⟩
  | 45 => ⟨S1x27x655360, .i32⟩
  | 46 => ⟨S1x27x655360, .i32⟩
  | 47 => ⟨S1x1x655360, .i32⟩
  | 48 => ⟨S1x655360, .i32⟩
  | 49 => ⟨S1x655360x1, .i32⟩
  | 50 => ⟨S_, .i32⟩
  | 51 => ⟨S1x655360x1, .i32⟩
  | 52 => ⟨S1x655360x1, .i1⟩
  | 53 => ⟨S_, .i32⟩
  | 54 => ⟨S1x655360x1, .i32⟩
  | 55 => ⟨S1x655360x1, .i32⟩
  | 56 => ⟨S1x655360x1, .i32⟩
  | 57 => ⟨S655360x1, .i32⟩
  | 58 => ⟨S1, .i32⟩
  | 59 => ⟨S_, .i32⟩
  | 60 => ⟨S655360x1, .i32⟩
  | 61 => ⟨S655360x1, .i1⟩
  | 62 => ⟨S1x1, .i32⟩
  | 63 => ⟨S655360x1, .i32⟩
  | 64 => ⟨S655360x1, .i1⟩
  | 65 => ⟨S655360x1, .i1⟩
  | 66 => ⟨S_, .i1⟩
  | 67 => ⟨S655360, .i1⟩
  | 68 => ⟨S1x655360x6, .f32⟩
  | 69 => ⟨S1x655360x6, .i1⟩
  | 70 => ⟨S_, .f32⟩
  | 71 => ⟨S1x655360x6, .f32⟩
  | 72 => ⟨S1x655360x6, .f32⟩
  | 73 => ⟨S1x655360x6, .f32⟩
  | 74 => ⟨S1x655360x6, .f32⟩
  | 75 => ⟨S_, .f32⟩
  | 76 => ⟨S1x655360, .f32⟩
  | 77 => ⟨S1x1x655360, .i1⟩
  | 78 => ⟨S1x655360, .i1⟩
  | 79 => ⟨S_, .f32⟩
  | 80 => ⟨S_, .f32⟩
  | 81 => ⟨S1x655360, .f32⟩
  | 82 => ⟨S1x655360, .f32⟩
  | 83 => ⟨S1x1x655360, .i32⟩
  | 84 => ⟨S1x655360, .i32⟩
  | 85 => ⟨S1x655360x1, .i32⟩
  | 86 => ⟨S_, .i32⟩
  | 87 => ⟨S1x655360x1, .i32⟩
  | 88 => ⟨S1x655360x1, .i1⟩
  | 89 => ⟨S_, .i32⟩
  | 90 => ⟨S1x655360x1, .i32⟩
  | 91 => ⟨S1x655360x1, .i32⟩
  | 92 => ⟨S1x655360x1, .i32⟩
  | 93 => ⟨S655360x1, .i32⟩
  | 94 => ⟨S1, .i32⟩
  | 95 => ⟨S_, .i32⟩
  | 96 => ⟨S655360x1, .i32⟩
  | 97 => ⟨S655360x1, .i1⟩
  | 98 => ⟨S1x1, .i32⟩
  | 99 => ⟨S655360x1, .i32⟩
  | 100 => ⟨S655360x1, .i1⟩
  | 101 => ⟨S655360x1, .i1⟩
  | 102 => ⟨S_, .i1⟩
  | 103 => ⟨S655360, .i1⟩
  | 104 => ⟨S1x655360x6, .f32⟩
  | 105 => ⟨S1x655360x6, .i1⟩
  | 106 => ⟨S_, .f32⟩
  | 107 => ⟨S1x655360x6, .f32⟩
  | 108 => ⟨S1x655360x6, .f32⟩
  | 109 => ⟨S1x655360x6, .f32⟩
  | 110 => ⟨S1x655360x6, .f32⟩
  | 111 => ⟨S_, .f32⟩
  | 112 => ⟨S1x655360, .f32⟩
  | 113 => ⟨S1x1x655360, .i1⟩
  | 114 => ⟨S1x655360, .i1⟩
  | 115 => ⟨S_, .f32⟩
  | 116 => ⟨S_, .f32⟩
  | 117 => ⟨S1x655360, .f32⟩
  | 118 => ⟨S1x655360, .f32⟩
  | 119 => ⟨S1x1x655360, .i32⟩
  | 120 => ⟨S1x655360, .i32⟩
  | 121 => ⟨S1x655360x1, .i32⟩
  | 122 => ⟨S_, .i32⟩
  | 123 => ⟨S1x655360x1, .i32⟩
  | 124 => ⟨S1x655360x1, .i1⟩
  | 125 => ⟨S_, .i32⟩
  | 126 => ⟨S1x655360x1, .i32⟩
  | 127 => ⟨S1x655360x1, .i32⟩
  | _ => ⟨S1x3x8x256x320, .f32⟩

abbrev hbmTy0_35 (i : Nat) : BufTy := match i % 128 with
  | 0 => ⟨S1x655360x1, .i32⟩
  | 1 => ⟨S655360x1, .i32⟩
  | 2 => ⟨S1, .i32⟩
  | 3 => ⟨S_, .i32⟩
  | 4 => ⟨S655360x1, .i32⟩
  | 5 => ⟨S655360x1, .i1⟩
  | 6 => ⟨S1x1, .i32⟩
  | 7 => ⟨S655360x1, .i32⟩
  | 8 => ⟨S655360x1, .i1⟩
  | 9 => ⟨S655360x1, .i1⟩
  | 10 => ⟨S_, .i1⟩
  | 11 => ⟨S655360, .i1⟩
  | 12 => ⟨S1x655360x6, .f32⟩
  | 13 => ⟨S1x655360x6, .i1⟩
  | 14 => ⟨S_, .f32⟩
  | 15 => ⟨S1x655360x6, .f32⟩
  | 16 => ⟨S1x655360x6, .f32⟩
  | 17 => ⟨S1x655360x6, .f32⟩
  | 18 => ⟨S1x655360x6, .f32⟩
  | 19 => ⟨S_, .f32⟩
  | 20 => ⟨S1x655360, .f32⟩
  | 21 => ⟨S1x1x655360, .i1⟩
  | 22 => ⟨S1x655360, .i1⟩
  | 23 => ⟨S_, .f32⟩
  | 24 => ⟨S_, .f32⟩
  | 25 => ⟨S1x655360, .f32⟩
  | 26 => ⟨S1x655360, .f32⟩
  | 27 => ⟨S1x1x655360, .i32⟩
  | 28 => ⟨S1x655360, .i32⟩
  | 29 => ⟨S1x655360x1, .i32⟩
  | 30 => ⟨S_, .i32⟩
  | 31 => ⟨S1x655360x1, .i32⟩
  | 32 => ⟨S1x655360x1, .i1⟩
  | 33 => ⟨S_, .i32⟩
  | 34 => ⟨S1x655360x1, .i32⟩
  | 35 => ⟨S1x655360x1, .i32⟩
  | 36 => ⟨S1x655360x1, .i32⟩
  | 37 => ⟨S655360x1, .i32⟩
  | 38 => ⟨S1, .i32⟩
  | 39 => ⟨S_, .i32⟩
  | 40 => ⟨S655360x1, .i32⟩
  | 41 => ⟨S655360x1, .i1⟩
  | 42 => ⟨S1x1, .i32⟩
  | 43 => ⟨S655360x1, .i32⟩
  | 44 => ⟨S655360x1, .i1⟩
  | 45 => ⟨S655360x1, .i1⟩
  | 46 => ⟨S_, .i1⟩
  | 47 => ⟨S655360, .i1⟩
  | 48 => ⟨S1x655360x6, .f32⟩
  | 49 => ⟨S1x655360x6, .i1⟩
  | 50 => ⟨S_, .f32⟩
  | 51 => ⟨S1x655360x6, .f32⟩
  | 52 => ⟨S1x655360x6, .f32⟩
  | 53 => ⟨S1x655360x6, .f32⟩
  | 54 => ⟨S1x655360x6, .f32⟩
  | 55 => ⟨S_, .f32⟩
  | 56 => ⟨S1x655360, .f32⟩
  | 57 => ⟨S1x1x655360, .i1⟩
  | 58 => ⟨S1x655360, .i1⟩
  | 59 => ⟨S_, .f32⟩
  | 60 => ⟨S_, .f32⟩
  | 61 => ⟨S1x655360, .f32⟩
  | 62 => ⟨S1x655360, .f32⟩
  | 63 => ⟨S1x1x655360, .i32⟩
  | 64 => ⟨S1x655360, .i32⟩
  | 65 => ⟨S1x655360x1, .i32⟩
  | 66 => ⟨S_, .i32⟩
  | 67 => ⟨S1x655360x1, .i32⟩
  | 68 => ⟨S1x655360x1, .i1⟩
  | 69 => ⟨S_, .i32⟩
  | 70 => ⟨S1x655360x1, .i32⟩
  | 71 => ⟨S1x655360x1, .i32⟩
  | 72 => ⟨S1x655360x1, .i32⟩
  | 73 => ⟨S655360x1, .i32⟩
  | 74 => ⟨S1, .i32⟩
  | 75 => ⟨S_, .i32⟩
  | 76 => ⟨S655360x1, .i32⟩
  | 77 => ⟨S655360x1, .i1⟩
  | 78 => ⟨S1x1, .i32⟩
  | 79 => ⟨S655360x1, .i32⟩
  | 80 => ⟨S655360x1, .i1⟩
  | 81 => ⟨S655360x1, .i1⟩
  | 82 => ⟨S_, .i1⟩
  | 83 => ⟨S655360, .i1⟩
  | 84 => ⟨S1x655360x6, .f32⟩
  | 85 => ⟨S1x655360x6, .i1⟩
  | 86 => ⟨S_, .f32⟩
  | 87 => ⟨S1x655360x6, .f32⟩
  | 88 => ⟨S1x655360x6, .f32⟩
  | 89 => ⟨S1x655360x6, .f32⟩
  | 90 => ⟨S1x655360x6, .f32⟩
  | 91 => ⟨S_, .f32⟩
  | 92 => ⟨S1x655360, .f32⟩
  | 93 => ⟨S1x1x655360, .i1⟩
  | 94 => ⟨S1x655360, .i1⟩
  | 95 => ⟨S_, .f32⟩
  | 96 => ⟨S_, .f32⟩
  | 97 => ⟨S1x655360, .f32⟩
  | 98 => ⟨S1x655360, .f32⟩
  | 99 => ⟨S1x1x655360, .i32⟩
  | 100 => ⟨S1x655360, .i32⟩
  | 101 => ⟨S1x655360x1, .i32⟩
  | 102 => ⟨S_, .i32⟩
  | 103 => ⟨S1x655360x1, .i32⟩
  | 104 => ⟨S1x655360x1, .i1⟩
  | 105 => ⟨S_, .i32⟩
  | 106 => ⟨S1x655360x1, .i32⟩
  | 107 => ⟨S1x655360x1, .i32⟩
  | 108 => ⟨S1x655360x1, .i32⟩
  | 109 => ⟨S655360x1, .i32⟩
  | 110 => ⟨S1, .i32⟩
  | 111 => ⟨S_, .i32⟩
  | 112 => ⟨S655360x1, .i32⟩
  | 113 => ⟨S655360x1, .i1⟩
  | 114 => ⟨S1x1, .i32⟩
  | 115 => ⟨S655360x1, .i32⟩
  | 116 => ⟨S655360x1, .i1⟩
  | 117 => ⟨S655360x1, .i1⟩
  | 118 => ⟨S_, .i1⟩
  | 119 => ⟨S655360, .i1⟩
  | 120 => ⟨S1x655360x6, .f32⟩
  | 121 => ⟨S1x655360x6, .i1⟩
  | 122 => ⟨S_, .f32⟩
  | 123 => ⟨S1x655360x6, .f32⟩
  | 124 => ⟨S1x655360x6, .f32⟩
  | 125 => ⟨S1x655360x6, .f32⟩
  | 126 => ⟨S1x655360x6, .f32⟩
  | 127 => ⟨S_, .f32⟩
  | _ => ⟨S1x3x8x256x320, .f32⟩

abbrev hbmTy0_36 (i : Nat) : BufTy := match i % 128 with
  | 0 => ⟨S1x655360, .f32⟩
  | 1 => ⟨S1x1x655360, .i1⟩
  | 2 => ⟨S1x655360, .i1⟩
  | 3 => ⟨S_, .f32⟩
  | 4 => ⟨S_, .f32⟩
  | 5 => ⟨S1x655360, .f32⟩
  | 6 => ⟨S1x655360, .f32⟩
  | 7 => ⟨S1x1x655360, .i32⟩
  | 8 => ⟨S1x655360, .i32⟩
  | 9 => ⟨S1x655360x1, .i32⟩
  | 10 => ⟨S_, .i32⟩
  | 11 => ⟨S1x655360x1, .i32⟩
  | 12 => ⟨S1x655360x1, .i1⟩
  | 13 => ⟨S_, .i32⟩
  | 14 => ⟨S1x655360x1, .i32⟩
  | 15 => ⟨S1x655360x1, .i32⟩
  | 16 => ⟨S1x655360x1, .i32⟩
  | 17 => ⟨S655360x1, .i32⟩
  | 18 => ⟨S1, .i32⟩
  | 19 => ⟨S_, .i32⟩
  | 20 => ⟨S655360x1, .i32⟩
  | 21 => ⟨S655360x1, .i1⟩
  | 22 => ⟨S1x1, .i32⟩
  | 23 => ⟨S655360x1, .i32⟩
  | 24 => ⟨S655360x1, .i1⟩
  | 25 => ⟨S655360x1, .i1⟩
  | 26 => ⟨S_, .i1⟩
  | 27 => ⟨S655360, .i1⟩
  | 28 => ⟨S1x655360x6, .f32⟩
  | 29 => ⟨S1x655360x6, .i1⟩
  | 30 => ⟨S_, .f32⟩
  | 31 => ⟨S1x655360x6, .f32⟩
  | 32 => ⟨S1x655360x6, .f32⟩
  | 33 => ⟨S1x655360x6, .f32⟩
  | 34 => ⟨S1x655360x6, .f32⟩
  | 35 => ⟨S_, .f32⟩
  | 36 => ⟨S1x655360, .f32⟩
  | 37 => ⟨S1x1x655360, .i1⟩
  | 38 => ⟨S1x655360, .i1⟩
  | 39 => ⟨S_, .f32⟩
  | 40 => ⟨S_, .f32⟩
  | 41 => ⟨S1x655360, .f32⟩
  | 42 => ⟨S1x655360, .f32⟩
  | 43 => ⟨S1x1x655360, .i32⟩
  | 44 => ⟨S1x655360, .i32⟩
  | 45 => ⟨S1x655360x1, .i32⟩
  | 46 => ⟨S_, .i32⟩
  | 47 => ⟨S1x655360x1, .i32⟩
  | 48 => ⟨S1x655360x1, .i1⟩
  | 49 => ⟨S_, .i32⟩
  | 50 => ⟨S1x655360x1, .i32⟩
  | 51 => ⟨S1x655360x1, .i32⟩
  | 52 => ⟨S1x655360x1, .i32⟩
  | 53 => ⟨S655360x1, .i32⟩
  | 54 => ⟨S1, .i32⟩
  | 55 => ⟨S_, .i32⟩
  | 56 => ⟨S655360x1, .i32⟩
  | 57 => ⟨S655360x1, .i1⟩
  | 58 => ⟨S1x1, .i32⟩
  | 59 => ⟨S655360x1, .i32⟩
  | 60 => ⟨S655360x1, .i1⟩
  | 61 => ⟨S655360x1, .i1⟩
  | 62 => ⟨S_, .i1⟩
  | 63 => ⟨S655360, .i1⟩
  | 64 => ⟨S1x655360x6, .f32⟩
  | 65 => ⟨S1x655360x6, .i1⟩
  | 66 => ⟨S_, .f32⟩
  | 67 => ⟨S1x655360x6, .f32⟩
  | 68 => ⟨S1x655360x6, .f32⟩
  | 69 => ⟨S1x655360x6, .f32⟩
  | 70 => ⟨S1x655360x6, .f32⟩
  | 71 => ⟨S_, .f32⟩
  | 72 => ⟨S1x655360, .f32⟩
  | 73 => ⟨S1x1x655360, .i1⟩
  | 74 => ⟨S1x655360, .i1⟩
  | 75 => ⟨S_, .f32⟩
  | 76 => ⟨S_, .f32⟩
  | 77 => ⟨S1x655360, .f32⟩
  | 78 => ⟨S1x655360, .f32⟩
  | 79 => ⟨S1x1x655360, .i32⟩
  | 80 => ⟨S1x655360, .i32⟩
  | 81 => ⟨S1x655360x1, .i32⟩
  | 82 => ⟨S_, .i32⟩
  | 83 => ⟨S1x655360x1, .i32⟩
  | 84 => ⟨S1x655360x1, .i1⟩
  | 85 => ⟨S_, .i32⟩
  | 86 => ⟨S1x655360x1, .i32⟩
  | 87 => ⟨S1x655360x1, .i32⟩
  | 88 => ⟨S1x655360x1, .i32⟩
  | 89 => ⟨S655360x1, .i32⟩
  | 90 => ⟨S1, .i32⟩
  | 91 => ⟨S_, .i32⟩
  | 92 => ⟨S655360x1, .i32⟩
  | 93 => ⟨S655360x1, .i1⟩
  | 94 => ⟨S1x1, .i32⟩
  | 95 => ⟨S655360x1, .i32⟩
  | 96 => ⟨S655360x1, .i1⟩
  | 97 => ⟨S655360x1, .i1⟩
  | 98 => ⟨S_, .i1⟩
  | 99 => ⟨S655360, .i1⟩
  | 100 => ⟨S1x655360x6, .f32⟩
  | 101 => ⟨S1x655360x6, .i1⟩
  | 102 => ⟨S_, .f32⟩
  | 103 => ⟨S1x655360x6, .f32⟩
  | 104 => ⟨S1x655360x6, .f32⟩
  | 105 => ⟨S1x655360x6, .f32⟩
  | 106 => ⟨S1x655360x6, .f32⟩
  | 107 => ⟨S_, .f32⟩
  | 108 => ⟨S1x655360, .f32⟩
  | 109 => ⟨S1x1x655360, .i1⟩
  | 110 => ⟨S1x655360, .i1⟩
  | 111 => ⟨S_, .f32⟩
  | 112 => ⟨S_, .f32⟩
  | 113 => ⟨S1x655360, .f32⟩
  | 114 => ⟨S1x655360, .f32⟩
  | 115 => ⟨S1x1x655360, .i32⟩
  | 116 => ⟨S1x655360, .i32⟩
  | 117 => ⟨S1x655360x1, .i32⟩
  | 118 => ⟨S_, .i32⟩
  | 119 => ⟨S1x655360x1, .i32⟩
  | 120 => ⟨S1x655360x1, .i1⟩
  | 121 => ⟨S_, .i32⟩
  | 122 => ⟨S1x655360x1, .i32⟩
  | 123 => ⟨S1x655360x1, .i32⟩
  | 124 => ⟨S1x655360x1, .i32⟩
  | 125 => ⟨S655360x1, .i32⟩
  | 126 => ⟨S1, .i32⟩
  | 127 => ⟨S_, .i32⟩
  | _ => ⟨S1x3x8x256x320, .f32⟩

abbrev hbmTy0_37 (i : Nat) : BufTy := match i % 128 with
  | 0 => ⟨S655360x1, .i32⟩
  | 1 => ⟨S655360x1, .i1⟩
  | 2 => ⟨S1x1, .i32⟩
  | 3 => ⟨S655360x1, .i32⟩
  | 4 => ⟨S655360x1, .i1⟩
  | 5 => ⟨S655360x1, .i1⟩
  | 6 => ⟨S_, .i1⟩
  | 7 => ⟨S655360, .i1⟩
  | 8 => ⟨S1x655360x6, .f32⟩
  | 9 => ⟨S1x655360x6, .i1⟩
  | 10 => ⟨S_, .f32⟩
  | 11 => ⟨S1x655360x6, .f32⟩
  | 12 => ⟨S1x655360x6, .f32⟩
  | 13 => ⟨S1x655360x6, .f32⟩
  | 14 => ⟨S1x655360x6, .f32⟩
  | 15 => ⟨S_, .f32⟩
  | 16 => ⟨S1x655360, .f32⟩
  | 17 => ⟨S1x1x655360, .i1⟩
  | 18 => ⟨S1x655360, .i1⟩
  | 19 => ⟨S_, .f32⟩
  | 20 => ⟨S_, .f32⟩
  | 21 => ⟨S1x655360, .f32⟩
  | 22 => ⟨S1x655360, .f32⟩
  | 23 => ⟨S1x1x655360, .i32⟩
  | 24 => ⟨S1x655360, .i32⟩
  | 25 => ⟨S1x655360x1, .i32⟩
  | 26 => ⟨S_, .i32⟩
  | 27 => ⟨S1x655360x1, .i32⟩
  | 28 => ⟨S1x655360x1, .i1⟩
  | 29 => ⟨S_, .i32⟩
  | 30 => ⟨S1x655360x1, .i32⟩
  | 31 => ⟨S1x655360x1, .i32⟩
  | 32 => ⟨S1x655360x1, .i32⟩
  | 33 => ⟨S655360x1, .i32⟩
  | 34 => ⟨S1, .i32⟩
  | 35 => ⟨S_, .i32⟩
  | 36 => ⟨S655360x1, .i32⟩
  | 37 => ⟨S655360x1, .i1⟩
  | 38 => ⟨S1x1, .i32⟩
  | 39 => ⟨S655360x1, .i32⟩
  | 40 => ⟨S655360x1, .i1⟩
  | 41 => ⟨S655360x1, .i1⟩
  | 42 => ⟨S_, .i1⟩
  | 43 => ⟨S655360, .i1⟩
  | 44 => ⟨S1x655360x6, .f32⟩
  | 45 => ⟨S1x655360x6, .i1⟩
  | 46 => ⟨S_, .f32⟩
  | 47 => ⟨S1x655360x6, .f32⟩
  | 48 => ⟨S1x655360x6, .f32⟩
  | 49 => ⟨S1x655360x6, .f32⟩
  | 50 => ⟨S1x655360x6, .f32⟩
  | 51 => ⟨S_, .f32⟩
  | 52 => ⟨S1x655360, .f32⟩
  | 53 => ⟨S1x1x655360, .i1⟩
  | 54 => ⟨S1x655360, .i1⟩
  | 55 => ⟨S_, .f32⟩
  | 56 => ⟨S_, .f32⟩
  | 57 => ⟨S1x655360, .f32⟩
  | 58 => ⟨S1x655360, .f32⟩
  | 59 => ⟨S1x1x655360, .i32⟩
  | 60 => ⟨S1x655360, .i32⟩
  | 61 => ⟨S1x655360x1, .i32⟩
  | 62 => ⟨S_, .i32⟩
  | 63 => ⟨S1x655360x1, .i32⟩
  | 64 => ⟨S1x655360x1, .i1⟩
  | 65 => ⟨S_, .i32⟩
  | 66 => ⟨S1x655360x1, .i32⟩
  | 67 => ⟨S1x655360x1, .i32⟩
  | 68 => ⟨S1x655360x1, .i32⟩
  | 69 => ⟨S655360x1, .i32⟩
  | 70 => ⟨S1, .i32⟩
  | 71 => ⟨S_, .i32⟩
  | 72 => ⟨S655360x1, .i32⟩
  | 73 => ⟨S655360x1, .i1⟩
  | 74 => ⟨S1x1, .i32⟩
  | 75 => ⟨S655360x1, .i32⟩
  | 76 => ⟨S655360x1, .i1⟩
  | 77 => ⟨S655360x1, .i1⟩
  | 78 => ⟨S_, .i1⟩
  | 79 => ⟨S655360, .i1⟩
  | 80 => ⟨S1x655360x6, .f32⟩
  | 81 => ⟨S1x655360x6, .i1⟩
  | 82 => ⟨S_, .f32⟩
  | 83 => ⟨S1x655360x6, .f32⟩
  | 84 => ⟨S1x655360x6, .f32⟩
  | 85 => ⟨S1x655360x6, .f32⟩
  | 86 => ⟨S1x655360x6, .f32⟩
  | 87 => ⟨S_, .f32⟩
  | 88 => ⟨S1x655360, .f32⟩
  | 89 => ⟨S1x1x655360, .i1⟩
  | 90 => ⟨S1x655360, .i1⟩
  | 91 => ⟨S_, .f32⟩
  | 92 => ⟨S_, .f32⟩
  | 93 => ⟨S1x655360, .f32⟩
  | 94 => ⟨S1x655360, .f32⟩
  | 95 => ⟨S1x1x655360, .i32⟩
  | 96 => ⟨S1x655360, .i32⟩
  | 97 => ⟨S1x655360x1, .i32⟩
  | 98 => ⟨S_, .i32⟩
  | 99 => ⟨S1x655360x1, .i32⟩
  | 100 => ⟨S1x655360x1, .i1⟩
  | 101 => ⟨S_, .i32⟩
  | 102 => ⟨S1x655360x1, .i32⟩
  | 103 => ⟨S1x655360x1, .i32⟩
  | 104 => ⟨S1x655360x1, .i32⟩
  | 105 => ⟨S655360x1, .i32⟩
  | 106 => ⟨S1, .i32⟩
  | 107 => ⟨S_, .i32⟩
  | 108 => ⟨S655360x1, .i32⟩
  | 109 => ⟨S655360x1, .i1⟩
  | 110 => ⟨S1x1, .i32⟩
  | 111 => ⟨S655360x1, .i32⟩
  | 112 => ⟨S655360x1, .i1⟩
  | 113 => ⟨S655360x1, .i1⟩
  | 114 => ⟨S_, .i1⟩
  | 115 => ⟨S655360, .i1⟩
  | 116 => ⟨S1x655360x6, .f32⟩
  | 117 => ⟨S1x655360x6, .i1⟩
  | 118 => ⟨S_, .f32⟩
  | 119 => ⟨S1x655360x6, .f32⟩
  | 120 => ⟨S1x655360x6, .f32⟩
  | 121 => ⟨S1x655360x6, .f32⟩
  | 122 => ⟨S1x655360x6, .f32⟩
  | 123 => ⟨S_, .f32⟩
  | 124 => ⟨S1x655360, .f32⟩
  | 125 => ⟨S1x1x655360, .i1⟩
  | 126 => ⟨S1x655360, .i1⟩
  | 127 => ⟨S_, .f32⟩
  | _ => ⟨S1x3x8x256x320, .f32⟩

abbrev hbmTy0_38 (i : Nat) : BufTy := match i % 128 with
  | 0 => ⟨S_, .f32⟩
  | 1 => ⟨S1x655360, .f32⟩
  | 2 => ⟨S1x655360, .f32⟩
  | 3 => ⟨S1x1x655360, .i32⟩
  | 4 => ⟨S1x655360, .i32⟩
  | 5 => ⟨S1x655360x1, .i32⟩
  | 6 => ⟨S_, .i32⟩
  | 7 => ⟨S1x655360x1, .i32⟩
  | 8 => ⟨S1x655360x1, .i1⟩
  | 9 => ⟨S_, .i32⟩
  | 10 => ⟨S1x655360x1, .i32⟩
  | 11 => ⟨S1x655360x1, .i32⟩
  | 12 => ⟨S1x655360x1, .i32⟩
  | 13 => ⟨S655360x1, .i32⟩
  | 14 => ⟨S1, .i32⟩
  | 15 => ⟨S_, .i32⟩
  | 16 => ⟨S655360x1, .i32⟩
  | 17 => ⟨S655360x1, .i1⟩
  | 18 => ⟨S1x1, .i32⟩
  | 19 => ⟨S655360x1, .i32⟩
  | 20 => ⟨S655360x1, .i1⟩
  | 21 => ⟨S655360x1, .i1⟩
  | 22 => ⟨S_, .i1⟩
  | 23 => ⟨S655360, .i1⟩
  | 24 => ⟨S1x655360x6, .f32⟩
  | 25 => ⟨S1x655360x6, .i1⟩
  | 26 => ⟨S_, .f32⟩
  | 27 => ⟨S1x655360x6, .f32⟩
  | 28 => ⟨S1x655360x6, .f32⟩
  | 29 => ⟨S1x655360x6, .f32⟩
  | 30 => ⟨S1x655360x6, .f32⟩
  | 31 => ⟨S_, .f32⟩
  | 32 => ⟨S1x655360, .f32⟩
  | 33 => ⟨S1x1x655360, .i1⟩
  | 34 => ⟨S1x655360, .i1⟩
  | 35 => ⟨S_, .f32⟩
  | 36 => ⟨S_, .f32⟩
  | 37 => ⟨S1x655360, .f32⟩
  | 38 => ⟨S1x655360, .f32⟩
  | 39 => ⟨S1x1x655360, .i32⟩
  | 40 => ⟨S1x655360, .i32⟩
  | 41 => ⟨S1x655360x1, .i32⟩
  | 42 => ⟨S_, .i32⟩
  | 43 => ⟨S1x655360x1, .i32⟩
  | 44 => ⟨S1x655360x1, .i1⟩
  | 45 => ⟨S_, .i32⟩
  | 46 => ⟨S1x655360x1, .i32⟩
  | 47 => ⟨S1x655360x1, .i32⟩
  | 48 => ⟨S1x655360x1, .i32⟩
  | 49 => ⟨S655360x1, .i32⟩
  | 50 => ⟨S1, .i32⟩
  | 51 => ⟨S_, .i32⟩
  | 52 => ⟨S655360x1, .i32⟩
  | 53 => ⟨S655360x1, .i1⟩
  | 54 => ⟨S1x1, .i32⟩
  | 55 => ⟨S655360x1, .i32⟩
  | 56 => ⟨S655360x1, .i1⟩
  | 57 => ⟨S655360x1, .i1⟩
  | 58 => ⟨S_, .i1⟩
  | 59 => ⟨S655360, .i1⟩
  | 60 => ⟨S1x655360x6, .f32⟩
  | 61 => ⟨S1x655360x6, .i1⟩
  | 62 => ⟨S_, .f32⟩
  | 63 => ⟨S1x655360x6, .f32⟩
  | 64 => ⟨S1x655360x6, .f32⟩
  | 65 => ⟨S1x655360x6, .f32⟩
  | 66 => ⟨S1x655360x6, .f32⟩
  | 67 => ⟨S_, .f32⟩
  | 68 => ⟨S1x655360, .f32⟩
  | 69 => ⟨S1x1x655360, .i1⟩
  | 70 => ⟨S1x655360, .i1⟩
  | 71 => ⟨S_, .f32⟩
  | 72 => ⟨S_, .f32⟩
  | 73 => ⟨S1x655360, .f32⟩
  | 74 => ⟨S1x655360, .f32⟩
  | 75 => ⟨S1x1x655360, .i32⟩
  | 76 => ⟨S1x655360, .i32⟩
  | 77 => ⟨S1x655360x1, .i32⟩
  | 78 => ⟨S_, .i32⟩
  | 79 => ⟨S1x655360x1, .i32⟩
  | 80 => ⟨S1x655360x1, .i1⟩
  | 81 => ⟨S_, .i32⟩
  | 82 => ⟨S1x655360x1, .i32⟩
  | 83 => ⟨S1x655360x1, .i32⟩
  | 84 => ⟨S1x655360x1, .i32⟩
  | 85 => ⟨S655360x1, .i32⟩
  | 86 => ⟨S1, .i32⟩
  | 87 => ⟨S_, .i32⟩
  | 88 => ⟨S655360x1, .i32⟩
  | 89 => ⟨S655360x1, .i1⟩
  | 90 => ⟨S1x1, .i32⟩
  | 91 => ⟨S655360x1, .i32⟩
  | 92 => ⟨S655360x1, .i1⟩
  | 93 => ⟨S655360x1, .i1⟩
  | 94 => ⟨S_, .i1⟩
  | 95 => ⟨S655360, .i1⟩
  | 96 => ⟨S1x655360x6, .f32⟩
  | 97 => ⟨S1x655360x6, .i1⟩
  | 98 => ⟨S_, .f32⟩
  | 99 => ⟨S1x655360x6, .f32⟩
  | 100 => ⟨S1x655360x6, .f32⟩
  | 101 => ⟨S1x655360x6, .f32⟩
  | 102 => ⟨S1x655360x6, .f32⟩
  | 103 => ⟨S_, .f32⟩
  | 104 => ⟨S1x655360, .f32⟩
  | 105 => ⟨S1x1x655360, .i1⟩
  | 106 => ⟨S1x655360, .i1⟩
  | 107 => ⟨S_, .f32⟩
  | 108 => ⟨S_, .f32⟩
  | 109 => ⟨S1x655360, .f32⟩
  | 110 => ⟨S1x655360, .f32⟩
  | 111 => ⟨S1x1x655360, .i32⟩
  | 112 => ⟨S1x655360, .i32⟩
  | 113 => ⟨S1x655360x1, .i32⟩
  | 114 => ⟨S_, .i32⟩
  | 115 => ⟨S1x655360x1, .i32⟩
  | 116 => ⟨S1x655360x1, .i1⟩
  | 117 => ⟨S_, .i32⟩
  | 118 => ⟨S1x655360x1, .i32⟩
  | 119 => ⟨S1x655360x1, .i32⟩
  | 120 => ⟨S1x655360x1, .i32⟩
  | 121 => ⟨S655360x1, .i32⟩
  | 122 => ⟨S1, .i32⟩
  | 123 => ⟨S_, .i32⟩
  | 124 => ⟨S655360x1, .i32⟩
  | 125 => ⟨S655360x1, .i1⟩
  | 126 => ⟨S1x1, .i32⟩
  | 127 => ⟨S655360x1, .i32⟩
  | _ => ⟨S1x3x8x256x320, .f32⟩

abbrev hbmTy0_39 (i : Nat) : BufTy := match i % 128 with
  | 0 => ⟨S655360x1, .i1⟩
  | 1 => ⟨S655360x1, .i1⟩
  | 2 => ⟨S_, .i1⟩
  | 3 => ⟨S655360, .i1⟩
  | 4 => ⟨S1x655360x6, .f32⟩
  | 5 => ⟨S1x655360x6, .i1⟩
  | 6 => ⟨S_, .f32⟩
  | 7 => ⟨S1x655360x6, .f32⟩
  | 8 => ⟨S1x655360x6, .f32⟩
  | 9 => ⟨S1x655360x6, .f32⟩
  | 10 => ⟨S1x655360x6, .f32⟩
  | 11 => ⟨S_, .f32⟩
  | 12 => ⟨S1x655360, .f32⟩
  | 13 => ⟨S1x1x655360, .i1⟩
  | 14 => ⟨S1x655360, .i1⟩
  | 15 => ⟨S_, .f32⟩
  | 16 => ⟨S_, .f32⟩
  | 17 => ⟨S1x655360, .f32⟩
  | 18 => ⟨S1x655360, .f32⟩
  | 19 => ⟨S1x1x655360, .i32⟩
  | 20 => ⟨S1x655360, .i32⟩
  | 21 => ⟨S1x655360x1, .i32⟩
  | 22 => ⟨S_, .i32⟩
  | 23 => ⟨S1x655360x1, .i32⟩
  | 24 => ⟨S1x655360x1, .i1⟩
  | 25 => ⟨S_, .i32⟩
  | 26 => ⟨S1x655360x1, .i32⟩
  | 27 => ⟨S1x655360x1, .i32⟩
  | 28 => ⟨S1x655360x1, .i32⟩
  | 29 => ⟨S655360x1, .i32⟩
  | 30 => ⟨S1, .i32⟩
  | 31 => ⟨S_, .i32⟩
  | 32 => ⟨S655360x1, .i32⟩
  | 33 => ⟨S655360x1, .i1⟩
  | 34 => ⟨S1x1, .i32⟩
  | 35 => ⟨S655360x1, .i32⟩
  | 36 => ⟨S655360x1, .i1⟩
  | 37 => ⟨S655360x1, .i1⟩
  | 38 => ⟨S_, .i1⟩
  | 39 => ⟨S655360, .i1⟩
  | 40 => ⟨S1x655360x6, .f32⟩
  | 41 => ⟨S1x655360x6, .i1⟩
  | 42 => ⟨S_, .f32⟩
  | 43 => ⟨S1x655360x6, .f32⟩
  | 44 => ⟨S1x655360x6, .f32⟩
  | 45 => ⟨S1x655360x6, .f32⟩
  | 46 => ⟨S1x655360x6, .f32⟩
  | 47 => ⟨S_, .f32⟩
  | 48 => ⟨S1x655360, .f32⟩
  | 49 => ⟨S1x1x655360, .i1⟩
  | 50 => ⟨S1x655360, .i1⟩
  | 51 => ⟨S_, .f32⟩
  | 52 => ⟨S_, .f32⟩
  | 53 => ⟨S1x655360, .f32⟩
  | 54 => ⟨S1x655360, .f32⟩
  | 55 => ⟨S1x1x655360, .i32⟩
  | 56 => ⟨S1x655360, .i32⟩
  | 57 => ⟨S1x655360x1, .i32⟩
  | 58 => ⟨S_, .i32⟩
  | 59 => ⟨S1x655360x1, .i32⟩
  | 60 => ⟨S1x655360x1, .i1⟩
  | 61 => ⟨S_, .i32⟩
  | 62 => ⟨S1x655360x1, .i32⟩
  | 63 => ⟨S1x655360x1, .i32⟩
  | 64 => ⟨S1x655360x1, .i32⟩
  | 65 => ⟨S655360x1, .i32⟩
  | 66 => ⟨S1, .i32⟩
  | 67 => ⟨S_, .i32⟩
  | 68 => ⟨S655360x1, .i32⟩
  | 69 => ⟨S655360x1, .i1⟩
  | 70 => ⟨S1x1, .i32⟩
  | 71 => ⟨S655360x1, .i32⟩
  | 72 => ⟨S655360x1, .i1⟩
  | 73 => ⟨S655360x1, .i1⟩
  | 74 => ⟨S_, .i1⟩
  | 75 => ⟨S655360, .i1⟩
  | 76 => ⟨S1x655360x6, .f32⟩
  | 77 => ⟨S1x655360x6, .i1⟩
  | 78 => ⟨S_, .f32⟩
  | 79 => ⟨S1x655360x6, .f32⟩
  | 80 => ⟨S1x655360x6, .f32⟩
  | 81 => ⟨S1x655360x6, .f32⟩
  | 82 => ⟨S1x655360x6, .f32⟩
  | 83 => ⟨S_, .f32⟩
  | 84 => ⟨S1x655360, .f32⟩
  | 85 => ⟨S1x1x655360, .i1⟩
  | 86 => ⟨S1x655360, .i1⟩
  | 87 => ⟨S_, .f32⟩
  | 88 => ⟨S_, .f32⟩
  | 89 => ⟨S1x655360, .f32⟩
  | 90 => ⟨S1x655360, .f32⟩
  | 91 => ⟨S1x1x655360, .i32⟩
  | 92 => ⟨S1x655360, .i32⟩
  | 93 => ⟨S1x655360x1, .i32⟩
  | 94 => ⟨S_, .i32⟩
  | 95 => ⟨S1x655360x1, .i32⟩
  | 96 => ⟨S1x655360x1, .i1⟩
  | 97 => ⟨S_, .i32⟩
  | 98 => ⟨S1x655360x1, .i32⟩
  | 99 => ⟨S1x655360x1, .i32⟩
  | 100 => ⟨S1x655360x1, .i32⟩
  | 101 => ⟨S655360x1, .i32⟩
  | 102 => ⟨S1, .i32⟩
  | 103 => ⟨S_, .i32⟩
  | 104 => ⟨S655360x1, .i32⟩
  | 105 => ⟨S655360x1, .i1⟩
  | 106 => ⟨S1x1, .i32⟩
  | 107 => ⟨S655360x1, .i32⟩
  | 108 => ⟨S655360x1, .i1⟩
  | 109 => ⟨S655360x1, .i1⟩
  | 110 => ⟨S_, .i1⟩
  | 111 => ⟨S655360, .i1⟩
  | 112 => ⟨S1x655360x6, .f32⟩
  | 113 => ⟨S1x655360x6, .i1⟩
  | 114 => ⟨S_, .f32⟩
  | 115 => ⟨S1x655360x6, .f32⟩
  | 116 => ⟨S1x655360x6, .f32⟩
  | 117 => ⟨S1x655360x6, .f32⟩
  | 118 => ⟨S1x655360x6, .f32⟩
  | 119 => ⟨S_, .f32⟩
  | 120 => ⟨S1x655360, .f32⟩
  | 121 => ⟨S1x1x655360, .i1⟩
  | 122 => ⟨S1x655360, .i1⟩
  | 123 => ⟨S_, .f32⟩
  | 124 => ⟨S_, .f32⟩
  | 125 => ⟨S1x655360, .f32⟩
  | 126 => ⟨S1x655360, .f32⟩
  | 127 => ⟨S1x1x655360, .i32⟩
  | _ => ⟨S1x3x8x256x320, .f32⟩

abbrev hbmTy0_40 (i : Nat) : BufTy := match i % 128 with
  | 0 => ⟨S1x655360, .i32⟩
  | 1 => ⟨S1x655360x1, .i32⟩
  | 2 => ⟨S_, .i32⟩
  | 3 => ⟨S1x655360x1, .i32⟩
  | 4 => ⟨S1x655360x1, .i1⟩
  | 5 => ⟨S_, .i32⟩
  | 6 => ⟨S1x655360x1, .i32⟩
  | 7 => ⟨S1x655360x1, .i32⟩
  | 8 => ⟨S1x655360x1, .i32⟩
  | 9 => ⟨S655360x1, .i32⟩
  | 10 => ⟨S1, .i32⟩
  | 11 => ⟨S_, .i32⟩
  | 12 => ⟨S655360x1, .i32⟩
  | 13 => ⟨S655360x1, .i1⟩
  | 14 => ⟨S1x1, .i32⟩
  | 15 => ⟨S655360x1, .i32⟩
  | 16 => ⟨S655360x1, .i1⟩
  | 17 => ⟨S655360x1, .i1⟩
  | 18 => ⟨S_, .i1⟩
  | 19 => ⟨S655360, .i1⟩
  | 20 => ⟨S1x655360x6, .f32⟩
  | 21 => ⟨S1x655360x6, .i1⟩
  | 22 => ⟨S_, .f32⟩
  | 23 => ⟨S1x655360x6, .f32⟩
  | 24 => ⟨S1x655360x6, .f32⟩
  | 25 => ⟨S1x655360x6, .f32⟩
  | 26 => ⟨S1x655360x6, .f32⟩
  | 27 => ⟨S_, .f32⟩
  | 28 => ⟨S1x655360, .f32⟩
  | 29 => ⟨S1x1x655360, .i1⟩
  | 30 => ⟨S1x655360, .i1⟩
  | 31 => ⟨S_, .f32⟩
  | 32 => ⟨S_, .f32⟩
  | 33 => ⟨S1x655360, .f32⟩
  | 34 => ⟨S1x655360, .f32⟩
  | 35 => ⟨S1x1x655360, .i32⟩
  | 36 => ⟨S1x655360, .i32⟩
  | 37 => ⟨S1x655360x1, .i32⟩
  | 38 => ⟨S_, .i32⟩
  | 39 => ⟨S1x655360x1, .i32⟩
  | 40 => ⟨S1x655360x1, .i1⟩
  | 41 => ⟨S_, .i32⟩
  | 42 => ⟨S1x655360x1, .i32⟩
  | 43 => ⟨S1x655360x1, .i32⟩
  | 44 => ⟨S1x655360x1, .i32⟩
  | 45 => ⟨S655360x1, .i32⟩
  | 46 => ⟨S1, .i32⟩
  | 47 => ⟨S_, .i32⟩
  | 48 => ⟨S655360x1, .i32⟩
  | 49 => ⟨S655360x1, .i1⟩
  | 50 => ⟨S1x1, .i32⟩
  | 51 => ⟨S655360x1, .i32⟩
  | 52 => ⟨S655360x1, .i1⟩
  | 53 => ⟨S655360x1, .i1⟩
  | 54 => ⟨S_, .i1⟩
  | 55 => ⟨S655360, .i1⟩
  | 56 => ⟨S1x655360x6, .f32⟩
  | 57 => ⟨S1x655360x6, .i1⟩
  | 58 => ⟨S_, .f32⟩
  | 59 => ⟨S1x655360x6, .f32⟩
  | 60 => ⟨S1x655360x6, .f32⟩
  | 61 => ⟨S1x655360x6, .f32⟩
  | 62 => ⟨S1x655360x6, .f32⟩
  | 63 => ⟨S_, .f32⟩
  | 64 => ⟨S1x655360, .f32⟩
  | 65 => ⟨S1x1x655360, .i1⟩
  | 66 => ⟨S1x655360, .i1⟩
  | 67 => ⟨S_, .f32⟩
  | 68 => ⟨S_, .f32⟩
  | 69 => ⟨S1x655360, .f32⟩
  | 70 => ⟨S1x655360, .f32⟩
  | 71 => ⟨S1x1x655360, .i32⟩
  | 72 => ⟨S1x655360, .i32⟩
  | 73 => ⟨S1x655360x1, .i32⟩
  | 74 => ⟨S_, .i32⟩
  | 75 => ⟨S1x655360x1, .i32⟩
  | 76 => ⟨S1x655360x1, .i1⟩
  | 77 => ⟨S_, .i32⟩
  | 78 => ⟨S1x655360x1, .i32⟩
  | 79 => ⟨S1x655360x1, .i32⟩
  | 80 => ⟨S1x655360x1, .i32⟩
  | 81 => ⟨S655360x1, .i32⟩
  | 82 => ⟨S1, .i32⟩
  | 83 => ⟨S_, .i32⟩
  | 84 => ⟨S655360x1, .i32⟩
  | 85 => ⟨S655360x1, .i1⟩
  | 86 => ⟨S1x1, .i32⟩
  | 87 => ⟨S655360x1, .i32⟩
  | 88 => ⟨S655360x1, .i1⟩
  | 89 => ⟨S655360x1, .i1⟩
  | 90 => ⟨S_, .i1⟩
  | 91 => ⟨S655360, .i1⟩
  | 92 => ⟨S1x655360x6, .f32⟩
  | 93 => ⟨S1x655360x6, .i1⟩
  | 94 => ⟨S_, .f32⟩
  | 95 => ⟨S1x655360x6, .f32⟩
  | 96 => ⟨S1x655360x6, .f32⟩
  | 97 => ⟨S1x655360x6, .f32⟩
  | 98 => ⟨S1x655360x6, .f32⟩
  | 99 => ⟨S_, .f32⟩
  | 100 => ⟨S1x655360, .f32⟩
  | 101 => ⟨S1x1x655360, .i1⟩
  | 102 => ⟨S1x655360, .i1⟩
  | 103 => ⟨S_, .f32⟩
  | 104 => ⟨S_, .f32⟩
  | 105 => ⟨S1x655360, .f32⟩
  | 106 => ⟨S1x655360, .f32⟩
  | 107 => ⟨S1x1x655360, .i32⟩
  | 108 => ⟨S1x655360, .i32⟩
  | 109 => ⟨S1x655360x1, .i32⟩
  | 110 => ⟨S_, .i32⟩
  | 111 => ⟨S1x655360x1, .i32⟩
  | 112 => ⟨S1x655360x1, .i1⟩
  | 113 => ⟨S_, .i32⟩
  | 114 => ⟨S1x655360x1, .i32⟩
  | 115 => ⟨S1x655360x1, .i32⟩
  | 116 => ⟨S1x655360x1, .i32⟩
  | 117 => ⟨S655360x1, .i32⟩
  | 118 => ⟨S1, .i32⟩
  | 119 => ⟨S_, .i32⟩
  | 120 => ⟨S655360x1, .i32⟩
  | 121 => ⟨S655360x1, .i1⟩
  | 122 => ⟨S1x1, .i32⟩
  | 123 => ⟨S655360x1, .i32⟩
  | 124 => ⟨S655360x1, .i1⟩
  | 125 => ⟨S655360x1, .i1⟩
  | 126 => ⟨S_, .i1⟩
  | 127 => ⟨S655360, .i1⟩
  | _ => ⟨S1x3x8x256x320, .f32⟩

abbrev hbmTy0_41 (i : Nat) : BufTy := match i % 128 with
  | 0 => ⟨S1x655360x6, .f32⟩
  | 1 => ⟨S1x655360x6, .i1⟩
  | 2 => ⟨S_, .f32⟩
  | 3 => ⟨S1x655360x6, .f32⟩
  | 4 => ⟨S1x655360x6, .f32⟩
  | 5 => ⟨S1x655360x6, .f32⟩
  | 6 => ⟨S1x655360x6, .f32⟩
  | 7 => ⟨S_, .f32⟩
  | 8 => ⟨S1x655360, .f32⟩
  | 9 => ⟨S1x1x655360, .i1⟩
  | 10 => ⟨S1x655360, .i1⟩
  | 11 => ⟨S_, .f32⟩
  | 12 => ⟨S_, .f32⟩
  | 13 => ⟨S1x655360, .f32⟩
  | 14 => ⟨S1x655360, .f32⟩
  | 15 => ⟨S1x1x655360, .i32⟩
  | 16 => ⟨S1x655360, .i32⟩
  | 17 => ⟨S1x655360x1, .i32⟩
  | 18 => ⟨S_, .i32⟩
  | 19 => ⟨S1x655360x1, .i32⟩
  | 20 => ⟨S1x655360x1, .i1⟩
  | 21 => ⟨S_, .i32⟩
  | 22 => ⟨S1x655360x1, .i32⟩
  | 23 => ⟨S1x655360x1, .i32⟩
  | 24 => ⟨S1x655360x1, .i32⟩
  | 25 => ⟨S655360x1, .i32⟩
  | 26 => ⟨S1, .i32⟩
  | 27 => ⟨S_, .i32⟩
  | 28 => ⟨S655360x1, .i32⟩
  | 29 => ⟨S655360x1, .i1⟩
  | 30 => ⟨S1x1, .i32⟩
  | 31 => ⟨S655360x1, .i32⟩
  | 32 => ⟨S655360x1, .i1⟩
  | 33 => ⟨S655360x1, .i1⟩
  | 34 => ⟨S_, .i1⟩
  | 35 => ⟨S655360, .i1⟩
  | 36 => ⟨S1x655360x6, .f32⟩
  | 37 => ⟨S1x655360x6, .i1⟩
  | 38 => ⟨S_, .f32⟩
  | 39 => ⟨S1x655360x6, .f32⟩
  | 40 => ⟨S1x655360x6, .f32⟩
  | 41 => ⟨S1x655360x6, .f32⟩
  | 42 => ⟨S1x655360x6, .f32⟩
  | 43 => ⟨S_, .f32⟩
  | 44 => ⟨S1x655360, .f32⟩
  | 45 => ⟨S1x1x655360, .i1⟩
  | 46 => ⟨S1x655360, .i1⟩
  | 47 => ⟨S_, .f32⟩
  | 48 => ⟨S_, .f32⟩
  | 49 => ⟨S1x655360, .f32⟩
  | 50 => ⟨S1x655360, .f32⟩
  | 51 => ⟨S1x1x655360, .i32⟩
  | 52 => ⟨S1x655360, .i32⟩
  | 53 => ⟨S1x655360x1, .i32⟩
  | 54 => ⟨S_, .i32⟩
  | 55 => ⟨S1x655360x1, .i32⟩
  | 56 => ⟨S1x655360x1, .i1⟩
  | 57 => ⟨S_, .i32⟩
  | 58 => ⟨S1x655360x1, .i32⟩
  | 59 => ⟨S1x655360x1, .i32⟩
  | 60 => ⟨S1x655360x1, .i32⟩
  | 61 => ⟨S655360x1, .i32⟩
  | 62 => ⟨S1, .i32⟩
  | 63 => ⟨S_, .i32⟩
  | 64 => ⟨S655360x1, .i32⟩
  | 65 => ⟨S655360x1, .i1⟩
  | 66 => ⟨S1x1, .i32⟩
  | 67 => ⟨S655360x1, .i32⟩
  | 68 => ⟨S655360x1, .i1⟩
  | 69 => ⟨S655360x1, .i1⟩
  | 70 => ⟨S_, .i1⟩
  | 71 => ⟨S655360, .i1⟩
  | 72 => ⟨S1x655360x6, .f32⟩
  | 73 => ⟨S1x655360x6, .i1⟩
  | 74 => ⟨S_, .f32⟩
  | 75 => ⟨S1x655360x6, .f32⟩
  | 76 => ⟨S1x655360x6, .f32⟩
  | 77 => ⟨S1x655360x6, .f32⟩
  | 78 => ⟨S1x655360x6, .f32⟩
  | 79 => ⟨S_, .f32⟩
  | 80 => ⟨S1x655360, .f32⟩
  | 81 => ⟨S1x1x655360, .i1⟩
  | 82 => ⟨S1x655360, .i1⟩
  | 83 => ⟨S_, .f32⟩
  | 84 => ⟨S_, .f32⟩
  | 85 => ⟨S1x655360, .f32⟩
  | 86 => ⟨S1x655360, .f32⟩
  | 87 => ⟨S1x1x655360, .i32⟩
  | 88 => ⟨S1x655360, .i32⟩
  | 89 => ⟨S1x655360x1, .i32⟩
  | 90 => ⟨S_, .i32⟩
  | 91 => ⟨S1x655360x1, .i32⟩
  | 92 => ⟨S1x655360x1, .i1⟩
  | 93 => ⟨S_, .i32⟩
  | 94 => ⟨S1x655360x1, .i32⟩
  | 95 => ⟨S1x655360x1, .i32⟩
  | 96 => ⟨S1x655360x1, .i32⟩
  | 97 => ⟨S655360x1, .i32⟩
  | 98 => ⟨S1, .i32⟩
  | 99 => ⟨S_, .i32⟩
  | 100 => ⟨S655360x1, .i32⟩
  | 101 => ⟨S655360x1, .i1⟩
  | 102 => ⟨S1x1, .i32⟩
  | 103 => ⟨S655360x1, .i32⟩
  | 104 => ⟨S655360x1, .i1⟩
  | 105 => ⟨S655360x1, .i1⟩
  | 106 => ⟨S_, .i1⟩
  | 107 => ⟨S655360, .i1⟩
  | 108 => ⟨S1x655360x6, .f32⟩
  | 109 => ⟨S1x655360x6, .i1⟩
  | 110 => ⟨S_, .f32⟩
  | 111 => ⟨S1x655360x6, .f32⟩
  | 112 => ⟨S1x655360x6, .f32⟩
  | 113 => ⟨S1x655360x6, .f32⟩
  | 114 => ⟨S1x655360x6, .f32⟩
  | 115 => ⟨S_, .f32⟩
  | 116 => ⟨S1x655360, .f32⟩
  | 117 => ⟨S1x1x655360, .i1⟩
  | 118 => ⟨S1x655360, .i1⟩
  | 119 => ⟨S_, .f32⟩
  | 120 => ⟨S_, .f32⟩
  | 121 => ⟨S1x655360, .f32⟩
  | 122 => ⟨S1x655360, .f32⟩
  | 123 => ⟨S1x1x655360, .f32⟩
  | 124 => ⟨S1x1x655360, .f32⟩
  | 125 => ⟨S1x1x655360, .f32⟩
  | 126 => ⟨S1x1x655360, .f32⟩
  | 127 => ⟨S1x1x655360, .f32⟩
  | _ => ⟨S1x3x8x256x320, .f32⟩

abbrev hbmTy0_42 (i : Nat) : BufTy := match i % 128 with
  | 0 => ⟨S1x1x655360, .f32⟩
  | 1 => ⟨S1x1x655360, .f32⟩
  | 2 => ⟨S1x1x655360, .f32⟩
  | 3 => ⟨S1x1x655360, .f32⟩
  | 4 => ⟨S1x1x655360, .f32⟩
  | 5 => ⟨S1x1x655360, .f32⟩
  | 6 => ⟨S1x1x655360, .f32⟩
  | 7 => ⟨S1x1x655360, .f32⟩
  | 8 => ⟨S1x1x655360, .f32⟩
  | 9 => ⟨S1x1x655360, .f32⟩
  | 10 => ⟨S1x1x655360, .f32⟩
  | 11 => ⟨S1x1x655360, .f32⟩
  | 12 => ⟨S1x1x655360, .f32⟩
  | 13 => ⟨S1x1x655360, .f32⟩
  | 14 => ⟨S1x1x655360, .f32⟩
  | 15 => ⟨S1x1x655360, .f32⟩
  | 16 => ⟨S1x1x655360, .f32⟩
  | 17 => ⟨S1x1x655360, .f32⟩
  | 18 => ⟨S1x1x655360, .f32⟩
  | 19 => ⟨S1x1x655360, .f32⟩
  | 20 => ⟨S1x1x655360, .f32⟩
  | 21 => ⟨S1x1x655360, .f32⟩
  | 22 => ⟨S1x16x655360, .f32⟩
  | 23 => ⟨S1x11x655360, .f32⟩
  | 24 => ⟨S1x27x655360, .f32⟩
  | 25 => ⟨S1x27x8x256x320, .f32⟩
  | 26 => ⟨S_, .f32⟩
  | 27 => ⟨S1x27x8x256x320, .f32⟩
  | 28 => ⟨S1x27x8x256x320, .f32⟩
  | 29 => ⟨S_, .f32⟩
  | 30 => ⟨S1x8x256x320, .f32⟩
  | 31 => ⟨S_, .f32⟩
  | 32 => ⟨S1x8x256x320, .f32⟩
  | 33 => ⟨S1x8x256x320, .f32⟩
  | 34 => ⟨S1x1x8x256x320, .f32⟩
  | 35 => ⟨S1x27x8x256x320, .f32⟩
  | 36 => ⟨S1x27x8x256x320, .f32⟩
  | 37 => ⟨S1x27x8x256x320, .f32⟩
  | 38 => ⟨S_, .f32⟩
  | 39 => ⟨S1x8x256x320, .f32⟩
  | 40 => ⟨S1x1x8x256x320, .f32⟩
  | 41 => ⟨S1x27x8x256x320, .f32⟩
  | 42 => ⟨S1x27x8x256x320, .f32⟩
  | 43 => ⟨S1x27x655360, .f32⟩
  | 44 => ⟨S1x27x655360, .i32⟩
  | 45 => ⟨S_, .f32⟩
  | 46 => ⟨S_, .i32⟩
  | 47 => ⟨S1x655360, .f32⟩
  | 48 => ⟨S1x655360, .i32⟩
  | 49 => ⟨S1x655360, .i32⟩
  | 50 => ⟨S_, .i32⟩
  | 51 => ⟨S_, .i32⟩
  | 52 => ⟨S1x655360, .i32⟩
  | 53 => ⟨S1x655360, .i32⟩
  | 54 => ⟨S1x655360, .i32⟩
  | 55 => ⟨S_, .i32⟩
  | 56 => ⟨S1x655360, .i32⟩
  | 57 => ⟨S1x655360, .i1⟩
  | 58 => ⟨S1x655360, .i32⟩
  | 59 => ⟨S1x655360, .i32⟩
  | 60 => ⟨S_, .i32⟩
  | 61 => ⟨S1x655360, .i32⟩
  | 62 => ⟨S1x655360, .i1⟩
  | 63 => ⟨S1x655360, .i1⟩
  | 64 => ⟨S_, .i32⟩
  | 65 => ⟨S1x655360, .i32⟩
  | 66 => ⟨S1x655360, .i32⟩
  | 67 => ⟨S1x655360, .i32⟩
  | 68 => ⟨S_, .i32⟩
  | 69 => ⟨S_, .i32⟩
  | 70 => ⟨S1x655360, .i32⟩
  | 71 => ⟨S1x655360, .i32⟩
  | 72 => ⟨S1x655360, .i32⟩
  | 73 => ⟨S_, .i32⟩
  | 74 => ⟨S1x655360, .i32⟩
  | 75 => ⟨S1x655360, .i1⟩
  | 76 => ⟨S1x655360, .i32⟩
  | 77 => ⟨S1x655360, .i32⟩
  | 78 => ⟨S_, .i32⟩
  | 79 => ⟨S1x655360, .i32⟩
  | 80 => ⟨S1x655360, .i1⟩
  | 81 => ⟨S1x655360, .i1⟩
  | 82 => ⟨S_, .i32⟩
  | 83 => ⟨S1x655360, .i32⟩
  | 84 => ⟨S1x655360, .i32⟩
  | 85 => ⟨S1x655360, .i32⟩
  | 86 => ⟨S_, .i32⟩
  | 87 => ⟨S_, .i32⟩
  | 88 => ⟨S_, .i32⟩
  | 89 => ⟨S_, .i1⟩
  | 90 => ⟨S_, .i32⟩
  | 91 => ⟨S_, .i32⟩
  | 92 => ⟨S1x655360, .i32⟩
  | 93 => ⟨S1x655360, .i32⟩
  | 94 => ⟨S_, .i32⟩
  | 95 => ⟨S1x655360, .i32⟩
  | 96 => ⟨S1x655360, .i1⟩
  | 97 => ⟨S_, .i32⟩
  | 98 => ⟨S1x655360, .i32⟩
  | 99 => ⟨S1x655360, .i1⟩
  | 100 => ⟨S_, .i32⟩
  | 101 => ⟨S_, .i1⟩
  | 102 => ⟨S1x655360, .i1⟩
  | 103 => ⟨S1x655360, .i1⟩
  | 104 => ⟨S1x655360, .i1⟩
  | 105 => ⟨S1x655360, .i32⟩
  | 106 => ⟨S1x655360, .i32⟩
  | 107 => ⟨S1x655360, .i32⟩
  | 108 => ⟨S_, .i32⟩
  | 109 => ⟨S_, .i32⟩
  | 110 => ⟨S_, .i32⟩
  | 111 => ⟨S_, .i1⟩
  | 112 => ⟨S_, .i32⟩
  | 113 => ⟨S_, .i32⟩
  | 114 => ⟨S1x655360, .i32⟩
  | 115 => ⟨S1x655360, .i32⟩
  | 116 => ⟨S_, .i32⟩
  | 117 => ⟨S1x655360, .i32⟩
  | 118 => ⟨S1x655360, .i1⟩
  | 119 => ⟨S_, .i32⟩
  | 120 => ⟨S1x655360, .i32⟩
  | 121 => ⟨S1x655360, .i1⟩
  | 122 => ⟨S_, .i32⟩
  | 123 => ⟨S_, .i1⟩
  | 124 => ⟨S1x655360, .i1⟩
  | 125 => ⟨S1x655360, .i1⟩
  | 126 => ⟨S1x655360, .i1⟩
  | 127 => ⟨S1x655360, .i32⟩
  | _ => ⟨S1x3x8x256x320, .f32⟩

abbrev hbmTy0_43 (i : Nat) : BufTy := match i % 128 with
  | 0 => ⟨S1x655360, .i32⟩
  | 1 => ⟨S1x655360, .i32⟩
  | 2 => ⟨S1x1x655360, .i32⟩
  | 3 => ⟨S1x27x1, .i32⟩
  | 4 => ⟨S1x27x655360, .i32⟩
  | 5 => ⟨S1x27x655360, .i32⟩
  | 6 => ⟨S1x27x655360, .i32⟩
  | 7 => ⟨S1x1x655360, .i32⟩
  | 8 => ⟨S1x27x1, .i32⟩
  | 9 => ⟨S1x27x655360, .i32⟩
  | 10 => ⟨S1x27x655360, .i32⟩
  | 11 => ⟨S1x27x655360, .i32⟩
  | 12 => ⟨S1x1x655360, .i32⟩
  | 13 => ⟨S1x27x1, .i32⟩
  | 14 => ⟨S1x27x655360, .i32⟩
  | 15 => ⟨S1x27x655360, .i32⟩
  | 16 => ⟨S1x27x655360, .i32⟩
  | 17 => ⟨S_, .i32⟩
  | 18 => ⟨S1x27x655360, .i32⟩
  | 19 => ⟨S1x27x655360, .i1⟩
  | 20 => ⟨S_, .i32⟩
  | 21 => ⟨S1x27x655360, .i32⟩
  | 22 => ⟨S1x27x655360, .i1⟩
  | 23 => ⟨S1x27x655360, .i1⟩
  | 24 => ⟨S_, .i32⟩
  | 25 => ⟨S1x27x655360, .i32⟩
  | 26 => ⟨S1x27x655360, .i1⟩
  | 27 => ⟨S1x27x655360, .i1⟩
  | 28 => ⟨S_, .i32⟩
  | 29 => ⟨S1x27x655360, .i32⟩
  | 30 => ⟨S1x27x655360, .i1⟩
  | 31 => ⟨S1x27x655360, .i1⟩
  | 32 => ⟨S_, .i32⟩
  | 33 => ⟨S1x27x655360, .i32⟩
  | 34 => ⟨S1x27x655360, .i1⟩
  | 35 => ⟨S1x27x655360, .i1⟩
  | 36 => ⟨S_, .i32⟩
  | 37 => ⟨S1x27x655360, .i32⟩
  | 38 => ⟨S1x27x655360, .i1⟩
  | 39 => ⟨S1x27x655360, .i1⟩
  | 40 => ⟨S_, .i32⟩
  | 41 => ⟨S_, .i32⟩
  | 42 => ⟨S_, .i32⟩
  | 43 => ⟨S1x27x655360, .i32⟩
  | 44 => ⟨S1x27x655360, .i32⟩
  | 45 => ⟨S_, .i32⟩
  | 46 => ⟨S1x27x655360, .i32⟩
  | 47 => ⟨S1x27x655360, .i32⟩
  | 48 => ⟨S_, .i32⟩
  | 49 => ⟨S1x27x655360, .i32⟩
  | 50 => ⟨S1x27x655360, .i32⟩
  | 51 => ⟨S_, .i32⟩
  | 52 => ⟨S_, .i32⟩
  | 53 => ⟨S_, .i32⟩
  | 54 => ⟨S1x27x655360, .i32⟩
  | 55 => ⟨S1x27x655360, .i32⟩
  | 56 => ⟨S_, .i32⟩
  | 57 => ⟨S1x27x655360, .i32⟩
  | 58 => ⟨S1x27x655360, .i32⟩
  | 59 => ⟨S1x27x655360, .i32⟩
  | 60 => ⟨S_, .i32⟩
  | 61 => ⟨S1x27x655360, .i32⟩
  | 62 => ⟨S1x27x655360, .i32⟩
  | 63 => ⟨S_, .i32⟩
  | 64 => ⟨S_, .i32⟩
  | 65 => ⟨S_, .i32⟩
  | 66 => ⟨S1x27x655360, .i32⟩
  | 67 => ⟨S1x27x655360, .i32⟩
  | 68 => ⟨S_, .i32⟩
  | 69 => ⟨S1x27x655360, .i32⟩
  | 70 => ⟨S1x27x655360, .i32⟩
  | 71 => ⟨S1x27x655360, .i32⟩
  | 72 => ⟨S1x1x655360, .i32⟩
  | 73 => ⟨S_, .i32⟩
  | 74 => ⟨S1x1x655360, .i32⟩
  | 75 => ⟨S1x1x655360, .i1⟩
  | 76 => ⟨S_, .i32⟩
  | 77 => ⟨S1x1x655360, .i32⟩
  | 78 => ⟨S1x1x655360, .i32⟩
  | 79 => ⟨S1x1x655360, .i32⟩
  | 80 => ⟨S1x655360x1, .i32⟩
  | 81 => ⟨S1, .i32⟩
  | 82 => ⟨S_, .i32⟩
  | 83 => ⟨S1x655360x1, .i32⟩
  | 84 => ⟨S1x655360x1, .i1⟩
  | 85 => ⟨S1x1x1, .i32⟩
  | 86 => ⟨S1x655360x1, .i32⟩
  | 87 => ⟨S1x655360x1, .i1⟩
  | 88 => ⟨S1x655360x1, .i1⟩
  | 89 => ⟨S_, .i1⟩
  | 90 => ⟨S1x655360, .i1⟩
  | 91 => ⟨S1x1x655360, .i32⟩
  | 92 => ⟨S1x1x655360, .i1⟩
  | 93 => ⟨S_, .i32⟩
  | 94 => ⟨S1x1x655360, .i32⟩
  | 95 => ⟨S1x1x655360, .i32⟩
  | 96 => ⟨S1x1x8x256x320, .i32⟩
  | 97 => ⟨S1x1x8x256x320, .f32⟩
  | _ => ⟨S1x3x8x256x320, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | 17 => hbmTy0_17 i
  | 18 => hbmTy0_18 i
  | 19 => hbmTy0_19 i
  | 20 => hbmTy0_20 i
  | 21 => hbmTy0_21 i
  | 22 => hbmTy0_22 i
  | 23 => hbmTy0_23 i
  | 24 => hbmTy0_24 i
  | 25 => hbmTy0_25 i
  | 26 => hbmTy0_26 i
  | 27 => hbmTy0_27 i
  | 28 => hbmTy0_28 i
  | 29 => hbmTy0_29 i
  | 30 => hbmTy0_30 i
  | 31 => hbmTy0_31 i
  | 32 => hbmTy0_32 i
  | 33 => hbmTy0_33 i
  | 34 => hbmTy0_34 i
  | 35 => hbmTy0_35 i
  | 36 => hbmTy0_36 i
  | 37 => hbmTy0_37 i
  | 38 => hbmTy0_38 i
  | 39 => hbmTy0_39 i
  | 40 => hbmTy0_40 i
  | 41 => hbmTy0_41 i
  | 42 => hbmTy0_42 i
  | 43 => hbmTy0_43 i
  | _ => ⟨S1x3x8x256x320, .f32⟩

abbrev bufTy : (tb : Table) → Fin (tcTables nBuf tb) → BufTy
  | .hbm, ⟨i, _⟩ => hbmTy i
  | .local _ .vmem, ⟨0, _⟩ => ⟨S1x3x256x320, .f32⟩
  | .local _ .vmem, ⟨1, _⟩ => ⟨S1x3x256x320, .f32⟩
  | .local _ .vmem, ⟨2, _⟩ => ⟨S1x6x256x320, .f32⟩
  | .local _ .vmem, ⟨3, _⟩ => ⟨S1x6x256x320, .f32⟩
  | _, _ => ⟨S1x3x8x256x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_6 : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_v5 : Ref sig .tc := ⟨.hbm, 51, rfl⟩
abbrev main_call0_v6 : Ref sig .tc := ⟨.hbm, 52, rfl⟩
abbrev main_call0_v7 : Ref sig .tc := ⟨.hbm, 53, rfl⟩
abbrev main_call0_v8 : Ref sig .tc := ⟨.hbm, 54, rfl⟩
abbrev main_call0_c : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_call0_c_0 : Ref sig .tc := ⟨.hbm, 59, rfl⟩
abbrev main_call0_v12 : Ref sig .tc := ⟨.hbm, 60, rfl⟩
abbrev main_call0_v13 : Ref sig .tc := ⟨.hbm, 61, rfl⟩
abbrev main_v35 : Ref sig .tc := ⟨.hbm, 62, rfl⟩
abbrev main_c_7 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_v6 : Ref sig .tc := ⟨.hbm, 70, rfl⟩
abbrev main_call1_v7 : Ref sig .tc := ⟨.hbm, 71, rfl⟩
abbrev main_call1_v8 : Ref sig .tc := ⟨.hbm, 72, rfl⟩
abbrev main_call1_c : Ref sig .tc := ⟨.hbm, 73, rfl⟩
abbrev main_call1_v9 : Ref sig .tc := ⟨.hbm, 74, rfl⟩
abbrev main_call1_v10 : Ref sig .tc := ⟨.hbm, 75, rfl⟩
abbrev main_call1_v11 : Ref sig .tc := ⟨.hbm, 76, rfl⟩
abbrev main_call1_c_0 : Ref sig .tc := ⟨.hbm, 77, rfl⟩
abbrev main_call1_v12 : Ref sig .tc := ⟨.hbm, 78, rfl⟩
abbrev main_call1_v13 : Ref sig .tc := ⟨.hbm, 79, rfl⟩
abbrev main_v36 : Ref sig .tc := ⟨.hbm, 80, rfl⟩
abbrev main_c_8 : Ref sig .tc := ⟨.hbm, 81, rfl⟩
abbrev main_call2_v0 : Ref sig .tc := ⟨.hbm, 82, rfl⟩
abbrev main_call2_c : Ref sig .tc := ⟨.hbm, 83, rfl⟩
abbrev main_call2_v1 : Ref sig .tc := ⟨.hbm, 84, rfl⟩
abbrev main_call2_c_0 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_call2_c_1 : Ref sig .tc := ⟨.hbm, 89, rfl⟩
abbrev main_call2_v5 : Ref sig .tc := ⟨.hbm, 90, rfl⟩
abbrev main_call2_v6 : Ref sig .tc := ⟨.hbm, 91, rfl⟩
abbrev main_call2_c_2 : Ref sig .tc := ⟨.hbm, 92, rfl⟩
abbrev main_call2_v7 : Ref sig .tc := ⟨.hbm, 93, rfl⟩
abbrev main_call2_v8 : Ref sig .tc := ⟨.hbm, 94, rfl⟩
abbrev main_call2_c_3 : Ref sig .tc := ⟨.hbm, 95, rfl⟩
abbrev main_call2_v9 : Ref sig .tc := ⟨.hbm, 96, rfl⟩
abbrev main_call2_v10 : Ref sig .tc := ⟨.hbm, 97, rfl⟩
abbrev main_call2_v11 : Ref sig .tc := ⟨.hbm, 98, rfl⟩
abbrev main_call2_v12 : Ref sig .tc := ⟨.hbm, 99, rfl⟩
abbrev main_call2_v13 : Ref sig .tc := ⟨.hbm, 100, rfl⟩
abbrev main_call2_v14 : Ref sig .tc := ⟨.hbm, 101, rfl⟩
abbrev main_v37 : Ref sig .tc := ⟨.hbm, 102, rfl⟩
abbrev main_c_9 : Ref sig .tc := ⟨.hbm, 103, rfl⟩
abbrev main_call3_v0 : Ref sig .tc := ⟨.hbm, 104, rfl⟩
abbrev main_call3_c : Ref sig .tc := ⟨.hbm, 105, rfl⟩
abbrev main_call3_v1 : Ref sig .tc := ⟨.hbm, 106, rfl⟩
abbrev main_call3_c_0 : Ref sig .tc := ⟨.hbm, 107, rfl⟩
abbrev main_call3_v2 : Ref sig .tc := ⟨.hbm, 108, rfl⟩
abbrev main_call3_v3 : Ref sig .tc := ⟨.hbm, 109, rfl⟩
abbrev main_call3_v4 : Ref sig .tc := ⟨.hbm, 110, rfl⟩
abbrev main_call3_c_1 : Ref sig .tc := ⟨.hbm, 111, rfl⟩
abbrev main_call3_v5 : Ref sig .tc := ⟨.hbm, 112, rfl⟩
abbrev main_call3_v6 : Ref sig .tc := ⟨.hbm, 113, rfl⟩
abbrev main_call3_c_2 : Ref sig .tc := ⟨.hbm, 114, rfl⟩
abbrev main_call3_v7 : Ref sig .tc := ⟨.hbm, 115, rfl⟩
abbrev main_call3_v8 : Ref sig .tc := ⟨.hbm, 116, rfl⟩
abbrev main_call3_c_3 : Ref sig .tc := ⟨.hbm, 117, rfl⟩
abbrev main_call3_v9 : Ref sig .tc := ⟨.hbm, 118, rfl⟩
abbrev main_call3_v10 : Ref sig .tc := ⟨.hbm, 119, rfl⟩
abbrev main_call3_v11 : Ref sig .tc := ⟨.hbm, 120, rfl⟩
abbrev main_call3_v12 : Ref sig .tc := ⟨.hbm, 121, rfl⟩
abbrev main_call3_v13 : Ref sig .tc := ⟨.hbm, 122, rfl⟩
abbrev main_call3_v14 : Ref sig .tc := ⟨.hbm, 123, rfl⟩
abbrev main_v38 : Ref sig .tc := ⟨.hbm, 124, rfl⟩
abbrev main_v39 : Ref sig .tc := ⟨.hbm, 125, rfl⟩
abbrev main_v40 : Ref sig .tc := ⟨.hbm, 126, rfl⟩
abbrev main_v41 : Ref sig .tc := ⟨.hbm, 127, rfl⟩
abbrev main_v42 : Ref sig .tc := ⟨.hbm, 128, rfl⟩
abbrev main_v43 : Ref sig .tc := ⟨.hbm, 129, rfl⟩
abbrev main_v44 : Ref sig .tc := ⟨.hbm, 130, rfl⟩
abbrev main_v45 : Ref sig .tc := ⟨.hbm, 131, rfl⟩
abbrev main_v46 : Ref sig .tc := ⟨.hbm, 132, rfl⟩
abbrev main_v47 : Ref sig .tc := ⟨.hbm, 133, rfl⟩
abbrev main_v48 : Ref sig .tc := ⟨.hbm, 134, rfl⟩
abbrev main_v49 : Ref sig .tc := ⟨.hbm, 135, rfl⟩
abbrev main_v50 : Ref sig .tc := ⟨.hbm, 136, rfl⟩
abbrev main_v51 : Ref sig .tc := ⟨.hbm, 137, rfl⟩
abbrev main_v52 : Ref sig .tc := ⟨.hbm, 138, rfl⟩
abbrev main_v53 : Ref sig .tc := ⟨.hbm, 139, rfl⟩
abbrev main_c_10 : Ref sig .tc := ⟨.hbm, 140, rfl⟩
abbrev main_v54 : Ref sig .tc := ⟨.hbm, 141, rfl⟩
abbrev main_v55 : Ref sig .tc := ⟨.hbm, 142, rfl⟩
abbrev main_c_11 : Ref sig .tc := ⟨.hbm, 143, rfl⟩
abbrev main_v56 : Ref sig .tc := ⟨.hbm, 144, rfl⟩
abbrev main_v57 : Ref sig .tc := ⟨.hbm, 145, rfl⟩
abbrev main_v58 : Ref sig .tc := ⟨.hbm, 146, rfl⟩
abbrev main_c_12 : Ref sig .tc := ⟨.hbm, 147, rfl⟩
abbrev main_v59 : Ref sig .tc := ⟨.hbm, 148, rfl⟩
abbrev main_v60 : Ref sig .tc := ⟨.hbm, 149, rfl⟩
abbrev main_v61 : Ref sig .tc := ⟨.hbm, 150, rfl⟩
abbrev main_c_13 : Ref sig .tc := ⟨.hbm, 151, rfl⟩
abbrev main_v62 : Ref sig .tc := ⟨.hbm, 152, rfl⟩
abbrev main_v63 : Ref sig .tc := ⟨.hbm, 153, rfl⟩
abbrev main_v64 : Ref sig .tc := ⟨.hbm, 154, rfl⟩
abbrev main_c_14 : Ref sig .tc := ⟨.hbm, 155, rfl⟩
abbrev main_v65 : Ref sig .tc := ⟨.hbm, 156, rfl⟩
abbrev main_v66 : Ref sig .tc := ⟨.hbm, 157, rfl⟩
abbrev main_v67 : Ref sig .tc := ⟨.hbm, 158, rfl⟩
abbrev main_c_15 : Ref sig .tc := ⟨.hbm, 159, rfl⟩
abbrev main_v68 : Ref sig .tc := ⟨.hbm, 160, rfl⟩
abbrev main_v69 : Ref sig .tc := ⟨.hbm, 161, rfl⟩
abbrev main_v70 : Ref sig .tc := ⟨.hbm, 162, rfl⟩
abbrev main_c_16 : Ref sig .tc := ⟨.hbm, 163, rfl⟩
abbrev main_c_17 : Ref sig .tc := ⟨.hbm, 164, rfl⟩
abbrev main_call4_v0 : Ref sig .tc := ⟨.hbm, 165, rfl⟩
abbrev main_call4_v1 : Ref sig .tc := ⟨.hbm, 166, rfl⟩
abbrev main_call4_v2 : Ref sig .tc := ⟨.hbm, 167, rfl⟩
abbrev main_call4_v3 : Ref sig .tc := ⟨.hbm, 168, rfl⟩
abbrev main_call4_v4 : Ref sig .tc := ⟨.hbm, 169, rfl⟩
abbrev main_v71 : Ref sig .tc := ⟨.hbm, 170, rfl⟩
abbrev main_c_18 : Ref sig .tc := ⟨.hbm, 171, rfl⟩
abbrev main_v72 : Ref sig .tc := ⟨.hbm, 172, rfl⟩
abbrev main_v73 : Ref sig .tc := ⟨.hbm, 173, rfl⟩
abbrev main_c_19 : Ref sig .tc := ⟨.hbm, 174, rfl⟩
abbrev main_c_20 : Ref sig .tc := ⟨.hbm, 175, rfl⟩
abbrev main_call5_v0 : Ref sig .tc := ⟨.hbm, 176, rfl⟩
abbrev main_call5_v1 : Ref sig .tc := ⟨.hbm, 177, rfl⟩
abbrev main_call5_v2 : Ref sig .tc := ⟨.hbm, 178, rfl⟩
abbrev main_call5_v3 : Ref sig .tc := ⟨.hbm, 179, rfl⟩
abbrev main_call5_v4 : Ref sig .tc := ⟨.hbm, 180, rfl⟩
abbrev main_v74 : Ref sig .tc := ⟨.hbm, 181, rfl⟩
abbrev main_v75 : Ref sig .tc := ⟨.hbm, 182, rfl⟩
abbrev main_c_21 : Ref sig .tc := ⟨.hbm, 183, rfl⟩
abbrev main_v76 : Ref sig .tc := ⟨.hbm, 184, rfl⟩
abbrev main_v77 : Ref sig .tc := ⟨.hbm, 185, rfl⟩
abbrev main_c_22 : Ref sig .tc := ⟨.hbm, 186, rfl⟩
abbrev main_c_23 : Ref sig .tc := ⟨.hbm, 187, rfl⟩
abbrev main_call6_v0 : Ref sig .tc := ⟨.hbm, 188, rfl⟩
abbrev main_call6_v1 : Ref sig .tc := ⟨.hbm, 189, rfl⟩
abbrev main_call6_v2 : Ref sig .tc := ⟨.hbm, 190, rfl⟩
abbrev main_call6_v3 : Ref sig .tc := ⟨.hbm, 191, rfl⟩
abbrev main_call6_v4 : Ref sig .tc := ⟨.hbm, 192, rfl⟩
abbrev main_v78 : Ref sig .tc := ⟨.hbm, 193, rfl⟩
abbrev main_v79 : Ref sig .tc := ⟨.hbm, 194, rfl⟩
abbrev main_v80 : Ref sig .tc := ⟨.hbm, 195, rfl⟩
abbrev main_v81 : Ref sig .tc := ⟨.hbm, 196, rfl⟩
abbrev main_v82 : Ref sig .tc := ⟨.hbm, 197, rfl⟩
abbrev main_call7_c : Ref sig .tc := ⟨.hbm, 198, rfl⟩
abbrev main_call7_v0 : Ref sig .tc := ⟨.hbm, 199, rfl⟩
abbrev main_call7_v1 : Ref sig .tc := ⟨.hbm, 200, rfl⟩
abbrev main_call7_c_0 : Ref sig .tc := ⟨.hbm, 201, rfl⟩
abbrev main_call7_v2 : Ref sig .tc := ⟨.hbm, 202, rfl⟩
abbrev main_call7_v3 : Ref sig .tc := ⟨.hbm, 203, rfl⟩
abbrev main_call7_v4 : Ref sig .tc := ⟨.hbm, 204, rfl⟩
abbrev main_call7_v5 : Ref sig .tc := ⟨.hbm, 205, rfl⟩
abbrev main_call7_c_1 : Ref sig .tc := ⟨.hbm, 206, rfl⟩
abbrev main_call7_c_2 : Ref sig .tc := ⟨.hbm, 207, rfl⟩
abbrev main_call7_v6 : Ref sig .tc := ⟨.hbm, 208, rfl⟩
abbrev main_call7_v7 : Ref sig .tc := ⟨.hbm, 209, rfl⟩
abbrev main_call7_v8 : Ref sig .tc := ⟨.hbm, 210, rfl⟩
abbrev main_call7_v9 : Ref sig .tc := ⟨.hbm, 211, rfl⟩
abbrev main_call7_v10 : Ref sig .tc := ⟨.hbm, 212, rfl⟩
abbrev main_call7_v11 : Ref sig .tc := ⟨.hbm, 213, rfl⟩
abbrev main_call7_c_3 : Ref sig .tc := ⟨.hbm, 214, rfl⟩
abbrev main_call7_v12 : Ref sig .tc := ⟨.hbm, 215, rfl⟩
abbrev main_call7_v13 : Ref sig .tc := ⟨.hbm, 216, rfl⟩
abbrev main_call7_v14 : Ref sig .tc := ⟨.hbm, 217, rfl⟩
abbrev main_call7_cst : Ref sig .tc := ⟨.hbm, 218, rfl⟩
abbrev main_call7_v15 : Ref sig .tc := ⟨.hbm, 219, rfl⟩
abbrev main_v83 : Ref sig .tc := ⟨.hbm, 220, rfl⟩
abbrev main_v84 : Ref sig .tc := ⟨.hbm, 221, rfl⟩
abbrev main_v85 : Ref sig .tc := ⟨.hbm, 222, rfl⟩
abbrev main_cst_24 : Ref sig .tc := ⟨.hbm, 223, rfl⟩
abbrev main_v86 : Ref sig .tc := ⟨.hbm, 224, rfl⟩
abbrev main_v87 : Ref sig .tc := ⟨.hbm, 225, rfl⟩
abbrev main_v88 : Ref sig .tc := ⟨.hbm, 226, rfl⟩
abbrev main_cst_25 : Ref sig .tc := ⟨.hbm, 227, rfl⟩
abbrev main_call8_v0 : Ref sig .tc := ⟨.hbm, 228, rfl⟩
abbrev main_call8_v1 : Ref sig .tc := ⟨.hbm, 229, rfl⟩
abbrev main_v89 : Ref sig .tc := ⟨.hbm, 230, rfl⟩
abbrev main_v90 : Ref sig .tc := ⟨.hbm, 231, rfl⟩
abbrev main_v91 : Ref sig .tc := ⟨.hbm, 232, rfl⟩
abbrev main_v92 : Ref sig .tc := ⟨.hbm, 233, rfl⟩
abbrev main_call9_c : Ref sig .tc := ⟨.hbm, 234, rfl⟩
abbrev main_call9_v0 : Ref sig .tc := ⟨.hbm, 235, rfl⟩
abbrev main_call9_v1 : Ref sig .tc := ⟨.hbm, 236, rfl⟩
abbrev main_call9_c_0 : Ref sig .tc := ⟨.hbm, 237, rfl⟩
abbrev main_call9_v2 : Ref sig .tc := ⟨.hbm, 238, rfl⟩
abbrev main_call9_v3 : Ref sig .tc := ⟨.hbm, 239, rfl⟩
abbrev main_call9_v4 : Ref sig .tc := ⟨.hbm, 240, rfl⟩
abbrev main_call9_v5 : Ref sig .tc := ⟨.hbm, 241, rfl⟩
abbrev main_call9_c_1 : Ref sig .tc := ⟨.hbm, 242, rfl⟩
abbrev main_call9_c_2 : Ref sig .tc := ⟨.hbm, 243, rfl⟩
abbrev main_call9_v6 : Ref sig .tc := ⟨.hbm, 244, rfl⟩
abbrev main_call9_v7 : Ref sig .tc := ⟨.hbm, 245, rfl⟩
abbrev main_call9_v8 : Ref sig .tc := ⟨.hbm, 246, rfl⟩
abbrev main_call9_v9 : Ref sig .tc := ⟨.hbm, 247, rfl⟩
abbrev main_call9_v10 : Ref sig .tc := ⟨.hbm, 248, rfl⟩
abbrev main_call9_v11 : Ref sig .tc := ⟨.hbm, 249, rfl⟩
abbrev main_call9_c_3 : Ref sig .tc := ⟨.hbm, 250, rfl⟩
abbrev main_call9_v12 : Ref sig .tc := ⟨.hbm, 251, rfl⟩
abbrev main_call9_v13 : Ref sig .tc := ⟨.hbm, 252, rfl⟩
abbrev main_call9_v14 : Ref sig .tc := ⟨.hbm, 253, rfl⟩
abbrev main_call9_cst : Ref sig .tc := ⟨.hbm, 254, rfl⟩
abbrev main_call9_v15 : Ref sig .tc := ⟨.hbm, 255, rfl⟩
abbrev main_v93 : Ref sig .tc := ⟨.hbm, 256, rfl⟩
abbrev main_v94 : Ref sig .tc := ⟨.hbm, 257, rfl⟩
abbrev main_v95 : Ref sig .tc := ⟨.hbm, 258, rfl⟩
abbrev main_cst_26 : Ref sig .tc := ⟨.hbm, 259, rfl⟩
abbrev main_v96 : Ref sig .tc := ⟨.hbm, 260, rfl⟩
abbrev main_v97 : Ref sig .tc := ⟨.hbm, 261, rfl⟩
abbrev main_v98 : Ref sig .tc := ⟨.hbm, 262, rfl⟩
abbrev main_cst_27 : Ref sig .tc := ⟨.hbm, 263, rfl⟩
abbrev main_call10_v0 : Ref sig .tc := ⟨.hbm, 264, rfl⟩
abbrev main_call10_v1 : Ref sig .tc := ⟨.hbm, 265, rfl⟩
abbrev main_v99 : Ref sig .tc := ⟨.hbm, 266, rfl⟩
abbrev main_v100 : Ref sig .tc := ⟨.hbm, 267, rfl⟩
abbrev main_v101 : Ref sig .tc := ⟨.hbm, 268, rfl⟩
abbrev main_v102 : Ref sig .tc := ⟨.hbm, 269, rfl⟩
abbrev main_call11_c : Ref sig .tc := ⟨.hbm, 270, rfl⟩
abbrev main_call11_v0 : Ref sig .tc := ⟨.hbm, 271, rfl⟩
abbrev main_call11_v1 : Ref sig .tc := ⟨.hbm, 272, rfl⟩
abbrev main_call11_c_0 : Ref sig .tc := ⟨.hbm, 273, rfl⟩
abbrev main_call11_v2 : Ref sig .tc := ⟨.hbm, 274, rfl⟩
abbrev main_call11_v3 : Ref sig .tc := ⟨.hbm, 275, rfl⟩
abbrev main_call11_v4 : Ref sig .tc := ⟨.hbm, 276, rfl⟩
abbrev main_call11_v5 : Ref sig .tc := ⟨.hbm, 277, rfl⟩
abbrev main_call11_c_1 : Ref sig .tc := ⟨.hbm, 278, rfl⟩
abbrev main_call11_c_2 : Ref sig .tc := ⟨.hbm, 279, rfl⟩
abbrev main_call11_v6 : Ref sig .tc := ⟨.hbm, 280, rfl⟩
abbrev main_call11_v7 : Ref sig .tc := ⟨.hbm, 281, rfl⟩
abbrev main_call11_v8 : Ref sig .tc := ⟨.hbm, 282, rfl⟩
abbrev main_call11_v9 : Ref sig .tc := ⟨.hbm, 283, rfl⟩
abbrev main_call11_v10 : Ref sig .tc := ⟨.hbm, 284, rfl⟩
abbrev main_call11_v11 : Ref sig .tc := ⟨.hbm, 285, rfl⟩
abbrev main_call11_c_3 : Ref sig .tc := ⟨.hbm, 286, rfl⟩
abbrev main_call11_v12 : Ref sig .tc := ⟨.hbm, 287, rfl⟩
abbrev main_call11_v13 : Ref sig .tc := ⟨.hbm, 288, rfl⟩
abbrev main_call11_v14 : Ref sig .tc := ⟨.hbm, 289, rfl⟩
abbrev main_call11_cst : Ref sig .tc := ⟨.hbm, 290, rfl⟩
abbrev main_call11_v15 : Ref sig .tc := ⟨.hbm, 291, rfl⟩
abbrev main_v103 : Ref sig .tc := ⟨.hbm, 292, rfl⟩
abbrev main_v104 : Ref sig .tc := ⟨.hbm, 293, rfl⟩
abbrev main_v105 : Ref sig .tc := ⟨.hbm, 294, rfl⟩
abbrev main_cst_28 : Ref sig .tc := ⟨.hbm, 295, rfl⟩
abbrev main_v106 : Ref sig .tc := ⟨.hbm, 296, rfl⟩
abbrev main_v107 : Ref sig .tc := ⟨.hbm, 297, rfl⟩
abbrev main_v108 : Ref sig .tc := ⟨.hbm, 298, rfl⟩
abbrev main_cst_29 : Ref sig .tc := ⟨.hbm, 299, rfl⟩
abbrev main_call12_v0 : Ref sig .tc := ⟨.hbm, 300, rfl⟩
abbrev main_call12_v1 : Ref sig .tc := ⟨.hbm, 301, rfl⟩
abbrev main_v109 : Ref sig .tc := ⟨.hbm, 302, rfl⟩
abbrev main_v110 : Ref sig .tc := ⟨.hbm, 303, rfl⟩
abbrev main_v111 : Ref sig .tc := ⟨.hbm, 304, rfl⟩
abbrev main_v112 : Ref sig .tc := ⟨.hbm, 305, rfl⟩
abbrev main_call13_c : Ref sig .tc := ⟨.hbm, 306, rfl⟩
abbrev main_call13_v0 : Ref sig .tc := ⟨.hbm, 307, rfl⟩
abbrev main_call13_v1 : Ref sig .tc := ⟨.hbm, 308, rfl⟩
abbrev main_call13_c_0 : Ref sig .tc := ⟨.hbm, 309, rfl⟩
abbrev main_call13_v2 : Ref sig .tc := ⟨.hbm, 310, rfl⟩
abbrev main_call13_v3 : Ref sig .tc := ⟨.hbm, 311, rfl⟩
abbrev main_call13_v4 : Ref sig .tc := ⟨.hbm, 312, rfl⟩
abbrev main_call13_v5 : Ref sig .tc := ⟨.hbm, 313, rfl⟩
abbrev main_call13_c_1 : Ref sig .tc := ⟨.hbm, 314, rfl⟩
abbrev main_call13_c_2 : Ref sig .tc := ⟨.hbm, 315, rfl⟩
abbrev main_call13_v6 : Ref sig .tc := ⟨.hbm, 316, rfl⟩
abbrev main_call13_v7 : Ref sig .tc := ⟨.hbm, 317, rfl⟩
abbrev main_call13_v8 : Ref sig .tc := ⟨.hbm, 318, rfl⟩
abbrev main_call13_v9 : Ref sig .tc := ⟨.hbm, 319, rfl⟩
abbrev main_call13_v10 : Ref sig .tc := ⟨.hbm, 320, rfl⟩
abbrev main_call13_v11 : Ref sig .tc := ⟨.hbm, 321, rfl⟩
abbrev main_call13_c_3 : Ref sig .tc := ⟨.hbm, 322, rfl⟩
abbrev main_call13_v12 : Ref sig .tc := ⟨.hbm, 323, rfl⟩
abbrev main_call13_v13 : Ref sig .tc := ⟨.hbm, 324, rfl⟩
abbrev main_call13_v14 : Ref sig .tc := ⟨.hbm, 325, rfl⟩
abbrev main_call13_cst : Ref sig .tc := ⟨.hbm, 326, rfl⟩
abbrev main_call13_v15 : Ref sig .tc := ⟨.hbm, 327, rfl⟩
abbrev main_v113 : Ref sig .tc := ⟨.hbm, 328, rfl⟩
abbrev main_v114 : Ref sig .tc := ⟨.hbm, 329, rfl⟩
abbrev main_v115 : Ref sig .tc := ⟨.hbm, 330, rfl⟩
abbrev main_cst_30 : Ref sig .tc := ⟨.hbm, 331, rfl⟩
abbrev main_v116 : Ref sig .tc := ⟨.hbm, 332, rfl⟩
abbrev main_v117 : Ref sig .tc := ⟨.hbm, 333, rfl⟩
abbrev main_v118 : Ref sig .tc := ⟨.hbm, 334, rfl⟩
abbrev main_cst_31 : Ref sig .tc := ⟨.hbm, 335, rfl⟩
abbrev main_call14_v0 : Ref sig .tc := ⟨.hbm, 336, rfl⟩
abbrev main_call14_v1 : Ref sig .tc := ⟨.hbm, 337, rfl⟩
abbrev main_v119 : Ref sig .tc := ⟨.hbm, 338, rfl⟩
abbrev main_v120 : Ref sig .tc := ⟨.hbm, 339, rfl⟩
abbrev main_v121 : Ref sig .tc := ⟨.hbm, 340, rfl⟩
abbrev main_v122 : Ref sig .tc := ⟨.hbm, 341, rfl⟩
abbrev main_call15_c : Ref sig .tc := ⟨.hbm, 342, rfl⟩
abbrev main_call15_v0 : Ref sig .tc := ⟨.hbm, 343, rfl⟩
abbrev main_call15_v1 : Ref sig .tc := ⟨.hbm, 344, rfl⟩
abbrev main_call15_c_0 : Ref sig .tc := ⟨.hbm, 345, rfl⟩
abbrev main_call15_v2 : Ref sig .tc := ⟨.hbm, 346, rfl⟩
abbrev main_call15_v3 : Ref sig .tc := ⟨.hbm, 347, rfl⟩
abbrev main_call15_v4 : Ref sig .tc := ⟨.hbm, 348, rfl⟩
abbrev main_call15_v5 : Ref sig .tc := ⟨.hbm, 349, rfl⟩
abbrev main_call15_c_1 : Ref sig .tc := ⟨.hbm, 350, rfl⟩
abbrev main_call15_c_2 : Ref sig .tc := ⟨.hbm, 351, rfl⟩
abbrev main_call15_v6 : Ref sig .tc := ⟨.hbm, 352, rfl⟩
abbrev main_call15_v7 : Ref sig .tc := ⟨.hbm, 353, rfl⟩
abbrev main_call15_v8 : Ref sig .tc := ⟨.hbm, 354, rfl⟩
abbrev main_call15_v9 : Ref sig .tc := ⟨.hbm, 355, rfl⟩
abbrev main_call15_v10 : Ref sig .tc := ⟨.hbm, 356, rfl⟩
abbrev main_call15_v11 : Ref sig .tc := ⟨.hbm, 357, rfl⟩
abbrev main_call15_c_3 : Ref sig .tc := ⟨.hbm, 358, rfl⟩
abbrev main_call15_v12 : Ref sig .tc := ⟨.hbm, 359, rfl⟩
abbrev main_call15_v13 : Ref sig .tc := ⟨.hbm, 360, rfl⟩
abbrev main_call15_v14 : Ref sig .tc := ⟨.hbm, 361, rfl⟩
abbrev main_call15_cst : Ref sig .tc := ⟨.hbm, 362, rfl⟩
abbrev main_call15_v15 : Ref sig .tc := ⟨.hbm, 363, rfl⟩
abbrev main_v123 : Ref sig .tc := ⟨.hbm, 364, rfl⟩
abbrev main_v124 : Ref sig .tc := ⟨.hbm, 365, rfl⟩
abbrev main_v125 : Ref sig .tc := ⟨.hbm, 366, rfl⟩
abbrev main_cst_32 : Ref sig .tc := ⟨.hbm, 367, rfl⟩
abbrev main_v126 : Ref sig .tc := ⟨.hbm, 368, rfl⟩
abbrev main_v127 : Ref sig .tc := ⟨.hbm, 369, rfl⟩
abbrev main_v128 : Ref sig .tc := ⟨.hbm, 370, rfl⟩
abbrev main_cst_33 : Ref sig .tc := ⟨.hbm, 371, rfl⟩
abbrev main_call16_v0 : Ref sig .tc := ⟨.hbm, 372, rfl⟩
abbrev main_call16_v1 : Ref sig .tc := ⟨.hbm, 373, rfl⟩
abbrev main_v129 : Ref sig .tc := ⟨.hbm, 374, rfl⟩
abbrev main_v130 : Ref sig .tc := ⟨.hbm, 375, rfl⟩
abbrev main_v131 : Ref sig .tc := ⟨.hbm, 376, rfl⟩
abbrev main_v132 : Ref sig .tc := ⟨.hbm, 377, rfl⟩
abbrev main_call17_c : Ref sig .tc := ⟨.hbm, 378, rfl⟩
abbrev main_call17_v0 : Ref sig .tc := ⟨.hbm, 379, rfl⟩
abbrev main_call17_v1 : Ref sig .tc := ⟨.hbm, 380, rfl⟩
abbrev main_call17_c_0 : Ref sig .tc := ⟨.hbm, 381, rfl⟩
abbrev main_call17_v2 : Ref sig .tc := ⟨.hbm, 382, rfl⟩
abbrev main_call17_v3 : Ref sig .tc := ⟨.hbm, 383, rfl⟩
abbrev main_call17_v4 : Ref sig .tc := ⟨.hbm, 384, rfl⟩
abbrev main_call17_v5 : Ref sig .tc := ⟨.hbm, 385, rfl⟩
abbrev main_call17_c_1 : Ref sig .tc := ⟨.hbm, 386, rfl⟩
abbrev main_call17_c_2 : Ref sig .tc := ⟨.hbm, 387, rfl⟩
abbrev main_call17_v6 : Ref sig .tc := ⟨.hbm, 388, rfl⟩
abbrev main_call17_v7 : Ref sig .tc := ⟨.hbm, 389, rfl⟩
abbrev main_call17_v8 : Ref sig .tc := ⟨.hbm, 390, rfl⟩
abbrev main_call17_v9 : Ref sig .tc := ⟨.hbm, 391, rfl⟩
abbrev main_call17_v10 : Ref sig .tc := ⟨.hbm, 392, rfl⟩
abbrev main_call17_v11 : Ref sig .tc := ⟨.hbm, 393, rfl⟩
abbrev main_call17_c_3 : Ref sig .tc := ⟨.hbm, 394, rfl⟩
abbrev main_call17_v12 : Ref sig .tc := ⟨.hbm, 395, rfl⟩
abbrev main_call17_v13 : Ref sig .tc := ⟨.hbm, 396, rfl⟩
abbrev main_call17_v14 : Ref sig .tc := ⟨.hbm, 397, rfl⟩
abbrev main_call17_cst : Ref sig .tc := ⟨.hbm, 398, rfl⟩
abbrev main_call17_v15 : Ref sig .tc := ⟨.hbm, 399, rfl⟩
abbrev main_v133 : Ref sig .tc := ⟨.hbm, 400, rfl⟩
abbrev main_v134 : Ref sig .tc := ⟨.hbm, 401, rfl⟩
abbrev main_v135 : Ref sig .tc := ⟨.hbm, 402, rfl⟩
abbrev main_cst_34 : Ref sig .tc := ⟨.hbm, 403, rfl⟩
abbrev main_v136 : Ref sig .tc := ⟨.hbm, 404, rfl⟩
abbrev main_v137 : Ref sig .tc := ⟨.hbm, 405, rfl⟩
abbrev main_v138 : Ref sig .tc := ⟨.hbm, 406, rfl⟩
abbrev main_cst_35 : Ref sig .tc := ⟨.hbm, 407, rfl⟩
abbrev main_call18_v0 : Ref sig .tc := ⟨.hbm, 408, rfl⟩
abbrev main_call18_v1 : Ref sig .tc := ⟨.hbm, 409, rfl⟩
abbrev main_v139 : Ref sig .tc := ⟨.hbm, 410, rfl⟩
abbrev main_v140 : Ref sig .tc := ⟨.hbm, 411, rfl⟩
abbrev main_v141 : Ref sig .tc := ⟨.hbm, 412, rfl⟩
abbrev main_v142 : Ref sig .tc := ⟨.hbm, 413, rfl⟩
abbrev main_call19_c : Ref sig .tc := ⟨.hbm, 414, rfl⟩
abbrev main_call19_v0 : Ref sig .tc := ⟨.hbm, 415, rfl⟩
abbrev main_call19_v1 : Ref sig .tc := ⟨.hbm, 416, rfl⟩
abbrev main_call19_c_0 : Ref sig .tc := ⟨.hbm, 417, rfl⟩
abbrev main_call19_v2 : Ref sig .tc := ⟨.hbm, 418, rfl⟩
abbrev main_call19_v3 : Ref sig .tc := ⟨.hbm, 419, rfl⟩
abbrev main_call19_v4 : Ref sig .tc := ⟨.hbm, 420, rfl⟩
abbrev main_call19_v5 : Ref sig .tc := ⟨.hbm, 421, rfl⟩
abbrev main_call19_c_1 : Ref sig .tc := ⟨.hbm, 422, rfl⟩
abbrev main_call19_c_2 : Ref sig .tc := ⟨.hbm, 423, rfl⟩
abbrev main_call19_v6 : Ref sig .tc := ⟨.hbm, 424, rfl⟩
abbrev main_call19_v7 : Ref sig .tc := ⟨.hbm, 425, rfl⟩
abbrev main_call19_v8 : Ref sig .tc := ⟨.hbm, 426, rfl⟩
abbrev main_call19_v9 : Ref sig .tc := ⟨.hbm, 427, rfl⟩
abbrev main_call19_v10 : Ref sig .tc := ⟨.hbm, 428, rfl⟩
abbrev main_call19_v11 : Ref sig .tc := ⟨.hbm, 429, rfl⟩
abbrev main_call19_c_3 : Ref sig .tc := ⟨.hbm, 430, rfl⟩
abbrev main_call19_v12 : Ref sig .tc := ⟨.hbm, 431, rfl⟩
abbrev main_call19_v13 : Ref sig .tc := ⟨.hbm, 432, rfl⟩
abbrev main_call19_v14 : Ref sig .tc := ⟨.hbm, 433, rfl⟩
abbrev main_call19_cst : Ref sig .tc := ⟨.hbm, 434, rfl⟩
abbrev main_call19_v15 : Ref sig .tc := ⟨.hbm, 435, rfl⟩
abbrev main_v143 : Ref sig .tc := ⟨.hbm, 436, rfl⟩
abbrev main_v144 : Ref sig .tc := ⟨.hbm, 437, rfl⟩
abbrev main_v145 : Ref sig .tc := ⟨.hbm, 438, rfl⟩
abbrev main_cst_36 : Ref sig .tc := ⟨.hbm, 439, rfl⟩
abbrev main_v146 : Ref sig .tc := ⟨.hbm, 440, rfl⟩
abbrev main_v147 : Ref sig .tc := ⟨.hbm, 441, rfl⟩
abbrev main_v148 : Ref sig .tc := ⟨.hbm, 442, rfl⟩
abbrev main_cst_37 : Ref sig .tc := ⟨.hbm, 443, rfl⟩
abbrev main_call20_v0 : Ref sig .tc := ⟨.hbm, 444, rfl⟩
abbrev main_call20_v1 : Ref sig .tc := ⟨.hbm, 445, rfl⟩
abbrev main_v149 : Ref sig .tc := ⟨.hbm, 446, rfl⟩
abbrev main_v150 : Ref sig .tc := ⟨.hbm, 447, rfl⟩
abbrev main_v151 : Ref sig .tc := ⟨.hbm, 448, rfl⟩
abbrev main_v152 : Ref sig .tc := ⟨.hbm, 449, rfl⟩
abbrev main_call21_c : Ref sig .tc := ⟨.hbm, 450, rfl⟩
abbrev main_call21_v0 : Ref sig .tc := ⟨.hbm, 451, rfl⟩
abbrev main_call21_v1 : Ref sig .tc := ⟨.hbm, 452, rfl⟩
abbrev main_call21_c_0 : Ref sig .tc := ⟨.hbm, 453, rfl⟩
abbrev main_call21_v2 : Ref sig .tc := ⟨.hbm, 454, rfl⟩
abbrev main_call21_v3 : Ref sig .tc := ⟨.hbm, 455, rfl⟩
abbrev main_call21_v4 : Ref sig .tc := ⟨.hbm, 456, rfl⟩
abbrev main_call21_v5 : Ref sig .tc := ⟨.hbm, 457, rfl⟩
abbrev main_call21_c_1 : Ref sig .tc := ⟨.hbm, 458, rfl⟩
abbrev main_call21_c_2 : Ref sig .tc := ⟨.hbm, 459, rfl⟩
abbrev main_call21_v6 : Ref sig .tc := ⟨.hbm, 460, rfl⟩
abbrev main_call21_v7 : Ref sig .tc := ⟨.hbm, 461, rfl⟩
abbrev main_call21_v8 : Ref sig .tc := ⟨.hbm, 462, rfl⟩
abbrev main_call21_v9 : Ref sig .tc := ⟨.hbm, 463, rfl⟩
abbrev main_call21_v10 : Ref sig .tc := ⟨.hbm, 464, rfl⟩
abbrev main_call21_v11 : Ref sig .tc := ⟨.hbm, 465, rfl⟩
abbrev main_call21_c_3 : Ref sig .tc := ⟨.hbm, 466, rfl⟩
abbrev main_call21_v12 : Ref sig .tc := ⟨.hbm, 467, rfl⟩
abbrev main_call21_v13 : Ref sig .tc := ⟨.hbm, 468, rfl⟩
abbrev main_call21_v14 : Ref sig .tc := ⟨.hbm, 469, rfl⟩
abbrev main_call21_cst : Ref sig .tc := ⟨.hbm, 470, rfl⟩
abbrev main_call21_v15 : Ref sig .tc := ⟨.hbm, 471, rfl⟩
abbrev main_v153 : Ref sig .tc := ⟨.hbm, 472, rfl⟩
abbrev main_v154 : Ref sig .tc := ⟨.hbm, 473, rfl⟩
abbrev main_v155 : Ref sig .tc := ⟨.hbm, 474, rfl⟩
abbrev main_cst_38 : Ref sig .tc := ⟨.hbm, 475, rfl⟩
abbrev main_v156 : Ref sig .tc := ⟨.hbm, 476, rfl⟩
abbrev main_v157 : Ref sig .tc := ⟨.hbm, 477, rfl⟩
abbrev main_v158 : Ref sig .tc := ⟨.hbm, 478, rfl⟩
abbrev main_cst_39 : Ref sig .tc := ⟨.hbm, 479, rfl⟩
abbrev main_call22_v0 : Ref sig .tc := ⟨.hbm, 480, rfl⟩
abbrev main_call22_v1 : Ref sig .tc := ⟨.hbm, 481, rfl⟩
abbrev main_v159 : Ref sig .tc := ⟨.hbm, 482, rfl⟩
abbrev main_v160 : Ref sig .tc := ⟨.hbm, 483, rfl⟩
abbrev main_v161 : Ref sig .tc := ⟨.hbm, 484, rfl⟩
abbrev main_v162 : Ref sig .tc := ⟨.hbm, 485, rfl⟩
abbrev main_call23_c : Ref sig .tc := ⟨.hbm, 486, rfl⟩
abbrev main_call23_v0 : Ref sig .tc := ⟨.hbm, 487, rfl⟩
abbrev main_call23_v1 : Ref sig .tc := ⟨.hbm, 488, rfl⟩
abbrev main_call23_c_0 : Ref sig .tc := ⟨.hbm, 489, rfl⟩
abbrev main_call23_v2 : Ref sig .tc := ⟨.hbm, 490, rfl⟩
abbrev main_call23_v3 : Ref sig .tc := ⟨.hbm, 491, rfl⟩
abbrev main_call23_v4 : Ref sig .tc := ⟨.hbm, 492, rfl⟩
abbrev main_call23_v5 : Ref sig .tc := ⟨.hbm, 493, rfl⟩
abbrev main_call23_c_1 : Ref sig .tc := ⟨.hbm, 494, rfl⟩
abbrev main_call23_c_2 : Ref sig .tc := ⟨.hbm, 495, rfl⟩
abbrev main_call23_v6 : Ref sig .tc := ⟨.hbm, 496, rfl⟩
abbrev main_call23_v7 : Ref sig .tc := ⟨.hbm, 497, rfl⟩
abbrev main_call23_v8 : Ref sig .tc := ⟨.hbm, 498, rfl⟩
abbrev main_call23_v9 : Ref sig .tc := ⟨.hbm, 499, rfl⟩
abbrev main_call23_v10 : Ref sig .tc := ⟨.hbm, 500, rfl⟩
abbrev main_call23_v11 : Ref sig .tc := ⟨.hbm, 501, rfl⟩
abbrev main_call23_c_3 : Ref sig .tc := ⟨.hbm, 502, rfl⟩
abbrev main_call23_v12 : Ref sig .tc := ⟨.hbm, 503, rfl⟩
abbrev main_call23_v13 : Ref sig .tc := ⟨.hbm, 504, rfl⟩
abbrev main_call23_v14 : Ref sig .tc := ⟨.hbm, 505, rfl⟩
abbrev main_call23_cst : Ref sig .tc := ⟨.hbm, 506, rfl⟩
abbrev main_call23_v15 : Ref sig .tc := ⟨.hbm, 507, rfl⟩
abbrev main_v163 : Ref sig .tc := ⟨.hbm, 508, rfl⟩
abbrev main_v164 : Ref sig .tc := ⟨.hbm, 509, rfl⟩
abbrev main_v165 : Ref sig .tc := ⟨.hbm, 510, rfl⟩
abbrev main_cst_40 : Ref sig .tc := ⟨.hbm, 511, rfl⟩
abbrev main_v166 : Ref sig .tc := ⟨.hbm, 512, rfl⟩
abbrev main_v167 : Ref sig .tc := ⟨.hbm, 513, rfl⟩
abbrev main_v168 : Ref sig .tc := ⟨.hbm, 514, rfl⟩
abbrev main_cst_41 : Ref sig .tc := ⟨.hbm, 515, rfl⟩
abbrev main_call24_v0 : Ref sig .tc := ⟨.hbm, 516, rfl⟩
abbrev main_call24_v1 : Ref sig .tc := ⟨.hbm, 517, rfl⟩
abbrev main_v169 : Ref sig .tc := ⟨.hbm, 518, rfl⟩
abbrev main_v170 : Ref sig .tc := ⟨.hbm, 519, rfl⟩
abbrev main_v171 : Ref sig .tc := ⟨.hbm, 520, rfl⟩
abbrev main_v172 : Ref sig .tc := ⟨.hbm, 521, rfl⟩
abbrev main_call25_c : Ref sig .tc := ⟨.hbm, 522, rfl⟩
abbrev main_call25_v0 : Ref sig .tc := ⟨.hbm, 523, rfl⟩
abbrev main_call25_v1 : Ref sig .tc := ⟨.hbm, 524, rfl⟩
abbrev main_call25_c_0 : Ref sig .tc := ⟨.hbm, 525, rfl⟩
abbrev main_call25_v2 : Ref sig .tc := ⟨.hbm, 526, rfl⟩
abbrev main_call25_v3 : Ref sig .tc := ⟨.hbm, 527, rfl⟩
abbrev main_call25_v4 : Ref sig .tc := ⟨.hbm, 528, rfl⟩
abbrev main_call25_v5 : Ref sig .tc := ⟨.hbm, 529, rfl⟩
abbrev main_call25_c_1 : Ref sig .tc := ⟨.hbm, 530, rfl⟩
abbrev main_call25_c_2 : Ref sig .tc := ⟨.hbm, 531, rfl⟩
abbrev main_call25_v6 : Ref sig .tc := ⟨.hbm, 532, rfl⟩
abbrev main_call25_v7 : Ref sig .tc := ⟨.hbm, 533, rfl⟩
abbrev main_call25_v8 : Ref sig .tc := ⟨.hbm, 534, rfl⟩
abbrev main_call25_v9 : Ref sig .tc := ⟨.hbm, 535, rfl⟩
abbrev main_call25_v10 : Ref sig .tc := ⟨.hbm, 536, rfl⟩
abbrev main_call25_v11 : Ref sig .tc := ⟨.hbm, 537, rfl⟩
abbrev main_call25_c_3 : Ref sig .tc := ⟨.hbm, 538, rfl⟩
abbrev main_call25_v12 : Ref sig .tc := ⟨.hbm, 539, rfl⟩
abbrev main_call25_v13 : Ref sig .tc := ⟨.hbm, 540, rfl⟩
abbrev main_call25_v14 : Ref sig .tc := ⟨.hbm, 541, rfl⟩
abbrev main_call25_cst : Ref sig .tc := ⟨.hbm, 542, rfl⟩
abbrev main_call25_v15 : Ref sig .tc := ⟨.hbm, 543, rfl⟩
abbrev main_v173 : Ref sig .tc := ⟨.hbm, 544, rfl⟩
abbrev main_v174 : Ref sig .tc := ⟨.hbm, 545, rfl⟩
abbrev main_v175 : Ref sig .tc := ⟨.hbm, 546, rfl⟩
abbrev main_cst_42 : Ref sig .tc := ⟨.hbm, 547, rfl⟩
abbrev main_v176 : Ref sig .tc := ⟨.hbm, 548, rfl⟩
abbrev main_v177 : Ref sig .tc := ⟨.hbm, 549, rfl⟩
abbrev main_v178 : Ref sig .tc := ⟨.hbm, 550, rfl⟩
abbrev main_cst_43 : Ref sig .tc := ⟨.hbm, 551, rfl⟩
abbrev main_call26_v0 : Ref sig .tc := ⟨.hbm, 552, rfl⟩
abbrev main_call26_v1 : Ref sig .tc := ⟨.hbm, 553, rfl⟩
abbrev main_v179 : Ref sig .tc := ⟨.hbm, 554, rfl⟩
abbrev main_v180 : Ref sig .tc := ⟨.hbm, 555, rfl⟩
abbrev main_v181 : Ref sig .tc := ⟨.hbm, 556, rfl⟩
abbrev main_v182 : Ref sig .tc := ⟨.hbm, 557, rfl⟩
abbrev main_call27_c : Ref sig .tc := ⟨.hbm, 558, rfl⟩
abbrev main_call27_v0 : Ref sig .tc := ⟨.hbm, 559, rfl⟩
abbrev main_call27_v1 : Ref sig .tc := ⟨.hbm, 560, rfl⟩
abbrev main_call27_c_0 : Ref sig .tc := ⟨.hbm, 561, rfl⟩
abbrev main_call27_v2 : Ref sig .tc := ⟨.hbm, 562, rfl⟩
abbrev main_call27_v3 : Ref sig .tc := ⟨.hbm, 563, rfl⟩
abbrev main_call27_v4 : Ref sig .tc := ⟨.hbm, 564, rfl⟩
abbrev main_call27_v5 : Ref sig .tc := ⟨.hbm, 565, rfl⟩
abbrev main_call27_c_1 : Ref sig .tc := ⟨.hbm, 566, rfl⟩
abbrev main_call27_c_2 : Ref sig .tc := ⟨.hbm, 567, rfl⟩
abbrev main_call27_v6 : Ref sig .tc := ⟨.hbm, 568, rfl⟩
abbrev main_call27_v7 : Ref sig .tc := ⟨.hbm, 569, rfl⟩
abbrev main_call27_v8 : Ref sig .tc := ⟨.hbm, 570, rfl⟩
abbrev main_call27_v9 : Ref sig .tc := ⟨.hbm, 571, rfl⟩
abbrev main_call27_v10 : Ref sig .tc := ⟨.hbm, 572, rfl⟩
abbrev main_call27_v11 : Ref sig .tc := ⟨.hbm, 573, rfl⟩
abbrev main_call27_c_3 : Ref sig .tc := ⟨.hbm, 574, rfl⟩
abbrev main_call27_v12 : Ref sig .tc := ⟨.hbm, 575, rfl⟩
abbrev main_call27_v13 : Ref sig .tc := ⟨.hbm, 576, rfl⟩
abbrev main_call27_v14 : Ref sig .tc := ⟨.hbm, 577, rfl⟩
abbrev main_call27_cst : Ref sig .tc := ⟨.hbm, 578, rfl⟩
abbrev main_call27_v15 : Ref sig .tc := ⟨.hbm, 579, rfl⟩
abbrev main_v183 : Ref sig .tc := ⟨.hbm, 580, rfl⟩
abbrev main_v184 : Ref sig .tc := ⟨.hbm, 581, rfl⟩
abbrev main_v185 : Ref sig .tc := ⟨.hbm, 582, rfl⟩
abbrev main_cst_44 : Ref sig .tc := ⟨.hbm, 583, rfl⟩
abbrev main_v186 : Ref sig .tc := ⟨.hbm, 584, rfl⟩
abbrev main_v187 : Ref sig .tc := ⟨.hbm, 585, rfl⟩
abbrev main_v188 : Ref sig .tc := ⟨.hbm, 586, rfl⟩
abbrev main_cst_45 : Ref sig .tc := ⟨.hbm, 587, rfl⟩
abbrev main_call28_v0 : Ref sig .tc := ⟨.hbm, 588, rfl⟩
abbrev main_call28_v1 : Ref sig .tc := ⟨.hbm, 589, rfl⟩
abbrev main_v189 : Ref sig .tc := ⟨.hbm, 590, rfl⟩
abbrev main_v190 : Ref sig .tc := ⟨.hbm, 591, rfl⟩
abbrev main_v191 : Ref sig .tc := ⟨.hbm, 592, rfl⟩
abbrev main_v192 : Ref sig .tc := ⟨.hbm, 593, rfl⟩
abbrev main_call29_c : Ref sig .tc := ⟨.hbm, 594, rfl⟩
abbrev main_call29_v0 : Ref sig .tc := ⟨.hbm, 595, rfl⟩
abbrev main_call29_v1 : Ref sig .tc := ⟨.hbm, 596, rfl⟩
abbrev main_call29_c_0 : Ref sig .tc := ⟨.hbm, 597, rfl⟩
abbrev main_call29_v2 : Ref sig .tc := ⟨.hbm, 598, rfl⟩
abbrev main_call29_v3 : Ref sig .tc := ⟨.hbm, 599, rfl⟩
abbrev main_call29_v4 : Ref sig .tc := ⟨.hbm, 600, rfl⟩
abbrev main_call29_v5 : Ref sig .tc := ⟨.hbm, 601, rfl⟩
abbrev main_call29_c_1 : Ref sig .tc := ⟨.hbm, 602, rfl⟩
abbrev main_call29_c_2 : Ref sig .tc := ⟨.hbm, 603, rfl⟩
abbrev main_call29_v6 : Ref sig .tc := ⟨.hbm, 604, rfl⟩
abbrev main_call29_v7 : Ref sig .tc := ⟨.hbm, 605, rfl⟩
abbrev main_call29_v8 : Ref sig .tc := ⟨.hbm, 606, rfl⟩
abbrev main_call29_v9 : Ref sig .tc := ⟨.hbm, 607, rfl⟩
abbrev main_call29_v10 : Ref sig .tc := ⟨.hbm, 608, rfl⟩
abbrev main_call29_v11 : Ref sig .tc := ⟨.hbm, 609, rfl⟩
abbrev main_call29_c_3 : Ref sig .tc := ⟨.hbm, 610, rfl⟩
abbrev main_call29_v12 : Ref sig .tc := ⟨.hbm, 611, rfl⟩
abbrev main_call29_v13 : Ref sig .tc := ⟨.hbm, 612, rfl⟩
abbrev main_call29_v14 : Ref sig .tc := ⟨.hbm, 613, rfl⟩
abbrev main_call29_cst : Ref sig .tc := ⟨.hbm, 614, rfl⟩
abbrev main_call29_v15 : Ref sig .tc := ⟨.hbm, 615, rfl⟩
abbrev main_v193 : Ref sig .tc := ⟨.hbm, 616, rfl⟩
abbrev main_v194 : Ref sig .tc := ⟨.hbm, 617, rfl⟩
abbrev main_v195 : Ref sig .tc := ⟨.hbm, 618, rfl⟩
abbrev main_cst_46 : Ref sig .tc := ⟨.hbm, 619, rfl⟩
abbrev main_v196 : Ref sig .tc := ⟨.hbm, 620, rfl⟩
abbrev main_v197 : Ref sig .tc := ⟨.hbm, 621, rfl⟩
abbrev main_v198 : Ref sig .tc := ⟨.hbm, 622, rfl⟩
abbrev main_cst_47 : Ref sig .tc := ⟨.hbm, 623, rfl⟩
abbrev main_call30_v0 : Ref sig .tc := ⟨.hbm, 624, rfl⟩
abbrev main_call30_v1 : Ref sig .tc := ⟨.hbm, 625, rfl⟩
abbrev main_v199 : Ref sig .tc := ⟨.hbm, 626, rfl⟩
abbrev main_v200 : Ref sig .tc := ⟨.hbm, 627, rfl⟩
abbrev main_v201 : Ref sig .tc := ⟨.hbm, 628, rfl⟩
abbrev main_v202 : Ref sig .tc := ⟨.hbm, 629, rfl⟩
abbrev main_call31_c : Ref sig .tc := ⟨.hbm, 630, rfl⟩
abbrev main_call31_v0 : Ref sig .tc := ⟨.hbm, 631, rfl⟩
abbrev main_call31_v1 : Ref sig .tc := ⟨.hbm, 632, rfl⟩
abbrev main_call31_c_0 : Ref sig .tc := ⟨.hbm, 633, rfl⟩
abbrev main_call31_v2 : Ref sig .tc := ⟨.hbm, 634, rfl⟩
abbrev main_call31_v3 : Ref sig .tc := ⟨.hbm, 635, rfl⟩
abbrev main_call31_v4 : Ref sig .tc := ⟨.hbm, 636, rfl⟩
abbrev main_call31_v5 : Ref sig .tc := ⟨.hbm, 637, rfl⟩
abbrev main_call31_c_1 : Ref sig .tc := ⟨.hbm, 638, rfl⟩
abbrev main_call31_c_2 : Ref sig .tc := ⟨.hbm, 639, rfl⟩
abbrev main_call31_v6 : Ref sig .tc := ⟨.hbm, 640, rfl⟩
abbrev main_call31_v7 : Ref sig .tc := ⟨.hbm, 641, rfl⟩
abbrev main_call31_v8 : Ref sig .tc := ⟨.hbm, 642, rfl⟩
abbrev main_call31_v9 : Ref sig .tc := ⟨.hbm, 643, rfl⟩
abbrev main_call31_v10 : Ref sig .tc := ⟨.hbm, 644, rfl⟩
abbrev main_call31_v11 : Ref sig .tc := ⟨.hbm, 645, rfl⟩
abbrev main_call31_c_3 : Ref sig .tc := ⟨.hbm, 646, rfl⟩
abbrev main_call31_v12 : Ref sig .tc := ⟨.hbm, 647, rfl⟩
abbrev main_call31_v13 : Ref sig .tc := ⟨.hbm, 648, rfl⟩
abbrev main_call31_v14 : Ref sig .tc := ⟨.hbm, 649, rfl⟩
abbrev main_call31_cst : Ref sig .tc := ⟨.hbm, 650, rfl⟩
abbrev main_call31_v15 : Ref sig .tc := ⟨.hbm, 651, rfl⟩
abbrev main_v203 : Ref sig .tc := ⟨.hbm, 652, rfl⟩
abbrev main_v204 : Ref sig .tc := ⟨.hbm, 653, rfl⟩
abbrev main_v205 : Ref sig .tc := ⟨.hbm, 654, rfl⟩
abbrev main_cst_48 : Ref sig .tc := ⟨.hbm, 655, rfl⟩
abbrev main_v206 : Ref sig .tc := ⟨.hbm, 656, rfl⟩
abbrev main_v207 : Ref sig .tc := ⟨.hbm, 657, rfl⟩
abbrev main_v208 : Ref sig .tc := ⟨.hbm, 658, rfl⟩
abbrev main_cst_49 : Ref sig .tc := ⟨.hbm, 659, rfl⟩
abbrev main_call32_v0 : Ref sig .tc := ⟨.hbm, 660, rfl⟩
abbrev main_call32_v1 : Ref sig .tc := ⟨.hbm, 661, rfl⟩
abbrev main_v209 : Ref sig .tc := ⟨.hbm, 662, rfl⟩
abbrev main_v210 : Ref sig .tc := ⟨.hbm, 663, rfl⟩
abbrev main_v211 : Ref sig .tc := ⟨.hbm, 664, rfl⟩
abbrev main_v212 : Ref sig .tc := ⟨.hbm, 665, rfl⟩
abbrev main_call33_c : Ref sig .tc := ⟨.hbm, 666, rfl⟩
abbrev main_call33_v0 : Ref sig .tc := ⟨.hbm, 667, rfl⟩
abbrev main_call33_v1 : Ref sig .tc := ⟨.hbm, 668, rfl⟩
abbrev main_call33_c_0 : Ref sig .tc := ⟨.hbm, 669, rfl⟩
abbrev main_call33_v2 : Ref sig .tc := ⟨.hbm, 670, rfl⟩
abbrev main_call33_v3 : Ref sig .tc := ⟨.hbm, 671, rfl⟩
abbrev main_call33_v4 : Ref sig .tc := ⟨.hbm, 672, rfl⟩
abbrev main_call33_v5 : Ref sig .tc := ⟨.hbm, 673, rfl⟩
abbrev main_call33_c_1 : Ref sig .tc := ⟨.hbm, 674, rfl⟩
abbrev main_call33_c_2 : Ref sig .tc := ⟨.hbm, 675, rfl⟩
abbrev main_call33_v6 : Ref sig .tc := ⟨.hbm, 676, rfl⟩
abbrev main_call33_v7 : Ref sig .tc := ⟨.hbm, 677, rfl⟩
abbrev main_call33_v8 : Ref sig .tc := ⟨.hbm, 678, rfl⟩
abbrev main_call33_v9 : Ref sig .tc := ⟨.hbm, 679, rfl⟩
abbrev main_call33_v10 : Ref sig .tc := ⟨.hbm, 680, rfl⟩
abbrev main_call33_v11 : Ref sig .tc := ⟨.hbm, 681, rfl⟩
abbrev main_call33_c_3 : Ref sig .tc := ⟨.hbm, 682, rfl⟩
abbrev main_call33_v12 : Ref sig .tc := ⟨.hbm, 683, rfl⟩
abbrev main_call33_v13 : Ref sig .tc := ⟨.hbm, 684, rfl⟩
abbrev main_call33_v14 : Ref sig .tc := ⟨.hbm, 685, rfl⟩
abbrev main_call33_cst : Ref sig .tc := ⟨.hbm, 686, rfl⟩
abbrev main_call33_v15 : Ref sig .tc := ⟨.hbm, 687, rfl⟩
abbrev main_v213 : Ref sig .tc := ⟨.hbm, 688, rfl⟩
abbrev main_v214 : Ref sig .tc := ⟨.hbm, 689, rfl⟩
abbrev main_v215 : Ref sig .tc := ⟨.hbm, 690, rfl⟩
abbrev main_cst_50 : Ref sig .tc := ⟨.hbm, 691, rfl⟩
abbrev main_v216 : Ref sig .tc := ⟨.hbm, 692, rfl⟩
abbrev main_v217 : Ref sig .tc := ⟨.hbm, 693, rfl⟩
abbrev main_v218 : Ref sig .tc := ⟨.hbm, 694, rfl⟩
abbrev main_cst_51 : Ref sig .tc := ⟨.hbm, 695, rfl⟩
abbrev main_call34_v0 : Ref sig .tc := ⟨.hbm, 696, rfl⟩
abbrev main_call34_v1 : Ref sig .tc := ⟨.hbm, 697, rfl⟩
abbrev main_v219 : Ref sig .tc := ⟨.hbm, 698, rfl⟩
abbrev main_v220 : Ref sig .tc := ⟨.hbm, 699, rfl⟩
abbrev main_v221 : Ref sig .tc := ⟨.hbm, 700, rfl⟩
abbrev main_v222 : Ref sig .tc := ⟨.hbm, 701, rfl⟩
abbrev main_call35_c : Ref sig .tc := ⟨.hbm, 702, rfl⟩
abbrev main_call35_v0 : Ref sig .tc := ⟨.hbm, 703, rfl⟩
abbrev main_call35_v1 : Ref sig .tc := ⟨.hbm, 704, rfl⟩
abbrev main_call35_c_0 : Ref sig .tc := ⟨.hbm, 705, rfl⟩
abbrev main_call35_v2 : Ref sig .tc := ⟨.hbm, 706, rfl⟩
abbrev main_call35_v3 : Ref sig .tc := ⟨.hbm, 707, rfl⟩
abbrev main_call35_v4 : Ref sig .tc := ⟨.hbm, 708, rfl⟩
abbrev main_call35_v5 : Ref sig .tc := ⟨.hbm, 709, rfl⟩
abbrev main_call35_c_1 : Ref sig .tc := ⟨.hbm, 710, rfl⟩
abbrev main_call35_c_2 : Ref sig .tc := ⟨.hbm, 711, rfl⟩
abbrev main_call35_v6 : Ref sig .tc := ⟨.hbm, 712, rfl⟩
abbrev main_call35_v7 : Ref sig .tc := ⟨.hbm, 713, rfl⟩
abbrev main_call35_v8 : Ref sig .tc := ⟨.hbm, 714, rfl⟩
abbrev main_call35_v9 : Ref sig .tc := ⟨.hbm, 715, rfl⟩
abbrev main_call35_v10 : Ref sig .tc := ⟨.hbm, 716, rfl⟩
abbrev main_call35_v11 : Ref sig .tc := ⟨.hbm, 717, rfl⟩
abbrev main_call35_c_3 : Ref sig .tc := ⟨.hbm, 718, rfl⟩
abbrev main_call35_v12 : Ref sig .tc := ⟨.hbm, 719, rfl⟩
abbrev main_call35_v13 : Ref sig .tc := ⟨.hbm, 720, rfl⟩
abbrev main_call35_v14 : Ref sig .tc := ⟨.hbm, 721, rfl⟩
abbrev main_call35_cst : Ref sig .tc := ⟨.hbm, 722, rfl⟩
abbrev main_call35_v15 : Ref sig .tc := ⟨.hbm, 723, rfl⟩
abbrev main_v223 : Ref sig .tc := ⟨.hbm, 724, rfl⟩
abbrev main_v224 : Ref sig .tc := ⟨.hbm, 725, rfl⟩
abbrev main_v225 : Ref sig .tc := ⟨.hbm, 726, rfl⟩
abbrev main_cst_52 : Ref sig .tc := ⟨.hbm, 727, rfl⟩
abbrev main_v226 : Ref sig .tc := ⟨.hbm, 728, rfl⟩
abbrev main_v227 : Ref sig .tc := ⟨.hbm, 729, rfl⟩
abbrev main_v228 : Ref sig .tc := ⟨.hbm, 730, rfl⟩
abbrev main_cst_53 : Ref sig .tc := ⟨.hbm, 731, rfl⟩
abbrev main_call36_v0 : Ref sig .tc := ⟨.hbm, 732, rfl⟩
abbrev main_call36_v1 : Ref sig .tc := ⟨.hbm, 733, rfl⟩
abbrev main_v229 : Ref sig .tc := ⟨.hbm, 734, rfl⟩
abbrev main_v230 : Ref sig .tc := ⟨.hbm, 735, rfl⟩
abbrev main_v231 : Ref sig .tc := ⟨.hbm, 736, rfl⟩
abbrev main_v232 : Ref sig .tc := ⟨.hbm, 737, rfl⟩
abbrev main_call37_c : Ref sig .tc := ⟨.hbm, 738, rfl⟩
abbrev main_call37_v0 : Ref sig .tc := ⟨.hbm, 739, rfl⟩
abbrev main_call37_v1 : Ref sig .tc := ⟨.hbm, 740, rfl⟩
abbrev main_call37_c_0 : Ref sig .tc := ⟨.hbm, 741, rfl⟩
abbrev main_call37_v2 : Ref sig .tc := ⟨.hbm, 742, rfl⟩
abbrev main_call37_v3 : Ref sig .tc := ⟨.hbm, 743, rfl⟩
abbrev main_call37_v4 : Ref sig .tc := ⟨.hbm, 744, rfl⟩
abbrev main_call37_v5 : Ref sig .tc := ⟨.hbm, 745, rfl⟩
abbrev main_call37_c_1 : Ref sig .tc := ⟨.hbm, 746, rfl⟩
abbrev main_call37_c_2 : Ref sig .tc := ⟨.hbm, 747, rfl⟩
abbrev main_call37_v6 : Ref sig .tc := ⟨.hbm, 748, rfl⟩
abbrev main_call37_v7 : Ref sig .tc := ⟨.hbm, 749, rfl⟩
abbrev main_call37_v8 : Ref sig .tc := ⟨.hbm, 750, rfl⟩
abbrev main_call37_v9 : Ref sig .tc := ⟨.hbm, 751, rfl⟩
abbrev main_call37_v10 : Ref sig .tc := ⟨.hbm, 752, rfl⟩
abbrev main_call37_v11 : Ref sig .tc := ⟨.hbm, 753, rfl⟩
abbrev main_call37_c_3 : Ref sig .tc := ⟨.hbm, 754, rfl⟩
abbrev main_call37_v12 : Ref sig .tc := ⟨.hbm, 755, rfl⟩
abbrev main_call37_v13 : Ref sig .tc := ⟨.hbm, 756, rfl⟩
abbrev main_call37_v14 : Ref sig .tc := ⟨.hbm, 757, rfl⟩
abbrev main_call37_cst : Ref sig .tc := ⟨.hbm, 758, rfl⟩
abbrev main_call37_v15 : Ref sig .tc := ⟨.hbm, 759, rfl⟩
abbrev main_v233 : Ref sig .tc := ⟨.hbm, 760, rfl⟩
abbrev main_v234 : Ref sig .tc := ⟨.hbm, 761, rfl⟩
abbrev main_v235 : Ref sig .tc := ⟨.hbm, 762, rfl⟩
abbrev main_cst_54 : Ref sig .tc := ⟨.hbm, 763, rfl⟩
abbrev main_v236 : Ref sig .tc := ⟨.hbm, 764, rfl⟩
abbrev main_v237 : Ref sig .tc := ⟨.hbm, 765, rfl⟩
abbrev main_v238 : Ref sig .tc := ⟨.hbm, 766, rfl⟩
abbrev main_cst_55 : Ref sig .tc := ⟨.hbm, 767, rfl⟩
abbrev main_call38_v0 : Ref sig .tc := ⟨.hbm, 768, rfl⟩
abbrev main_call38_v1 : Ref sig .tc := ⟨.hbm, 769, rfl⟩
abbrev main_v239 : Ref sig .tc := ⟨.hbm, 770, rfl⟩
abbrev main_v240 : Ref sig .tc := ⟨.hbm, 771, rfl⟩
abbrev main_v241 : Ref sig .tc := ⟨.hbm, 772, rfl⟩
abbrev main_v242 : Ref sig .tc := ⟨.hbm, 773, rfl⟩
abbrev main_call39_c : Ref sig .tc := ⟨.hbm, 774, rfl⟩
abbrev main_call39_v0 : Ref sig .tc := ⟨.hbm, 775, rfl⟩
abbrev main_call39_v1 : Ref sig .tc := ⟨.hbm, 776, rfl⟩
abbrev main_call39_c_0 : Ref sig .tc := ⟨.hbm, 777, rfl⟩
abbrev main_call39_v2 : Ref sig .tc := ⟨.hbm, 778, rfl⟩
abbrev main_call39_v3 : Ref sig .tc := ⟨.hbm, 779, rfl⟩
abbrev main_call39_v4 : Ref sig .tc := ⟨.hbm, 780, rfl⟩
abbrev main_call39_v5 : Ref sig .tc := ⟨.hbm, 781, rfl⟩
abbrev main_call39_c_1 : Ref sig .tc := ⟨.hbm, 782, rfl⟩
abbrev main_call39_c_2 : Ref sig .tc := ⟨.hbm, 783, rfl⟩
abbrev main_call39_v6 : Ref sig .tc := ⟨.hbm, 784, rfl⟩
abbrev main_call39_v7 : Ref sig .tc := ⟨.hbm, 785, rfl⟩
abbrev main_call39_v8 : Ref sig .tc := ⟨.hbm, 786, rfl⟩
abbrev main_call39_v9 : Ref sig .tc := ⟨.hbm, 787, rfl⟩
abbrev main_call39_v10 : Ref sig .tc := ⟨.hbm, 788, rfl⟩
abbrev main_call39_v11 : Ref sig .tc := ⟨.hbm, 789, rfl⟩
abbrev main_call39_c_3 : Ref sig .tc := ⟨.hbm, 790, rfl⟩
abbrev main_call39_v12 : Ref sig .tc := ⟨.hbm, 791, rfl⟩
abbrev main_call39_v13 : Ref sig .tc := ⟨.hbm, 792, rfl⟩
abbrev main_call39_v14 : Ref sig .tc := ⟨.hbm, 793, rfl⟩
abbrev main_call39_cst : Ref sig .tc := ⟨.hbm, 794, rfl⟩
abbrev main_call39_v15 : Ref sig .tc := ⟨.hbm, 795, rfl⟩
abbrev main_v243 : Ref sig .tc := ⟨.hbm, 796, rfl⟩
abbrev main_v244 : Ref sig .tc := ⟨.hbm, 797, rfl⟩
abbrev main_v245 : Ref sig .tc := ⟨.hbm, 798, rfl⟩
abbrev main_cst_56 : Ref sig .tc := ⟨.hbm, 799, rfl⟩
abbrev main_v246 : Ref sig .tc := ⟨.hbm, 800, rfl⟩
abbrev main_v247 : Ref sig .tc := ⟨.hbm, 801, rfl⟩
abbrev main_v248 : Ref sig .tc := ⟨.hbm, 802, rfl⟩
abbrev main_cst_57 : Ref sig .tc := ⟨.hbm, 803, rfl⟩
abbrev main_call40_v0 : Ref sig .tc := ⟨.hbm, 804, rfl⟩
abbrev main_call40_v1 : Ref sig .tc := ⟨.hbm, 805, rfl⟩
abbrev main_v249 : Ref sig .tc := ⟨.hbm, 806, rfl⟩
abbrev main_v250 : Ref sig .tc := ⟨.hbm, 807, rfl⟩
abbrev main_v251 : Ref sig .tc := ⟨.hbm, 808, rfl⟩
abbrev main_v252 : Ref sig .tc := ⟨.hbm, 809, rfl⟩
abbrev main_call41_c : Ref sig .tc := ⟨.hbm, 810, rfl⟩
abbrev main_call41_v0 : Ref sig .tc := ⟨.hbm, 811, rfl⟩
abbrev main_call41_v1 : Ref sig .tc := ⟨.hbm, 812, rfl⟩
abbrev main_call41_c_0 : Ref sig .tc := ⟨.hbm, 813, rfl⟩
abbrev main_call41_v2 : Ref sig .tc := ⟨.hbm, 814, rfl⟩
abbrev main_call41_v3 : Ref sig .tc := ⟨.hbm, 815, rfl⟩
abbrev main_call41_v4 : Ref sig .tc := ⟨.hbm, 816, rfl⟩
abbrev main_call41_v5 : Ref sig .tc := ⟨.hbm, 817, rfl⟩
abbrev main_call41_c_1 : Ref sig .tc := ⟨.hbm, 818, rfl⟩
abbrev main_call41_c_2 : Ref sig .tc := ⟨.hbm, 819, rfl⟩
abbrev main_call41_v6 : Ref sig .tc := ⟨.hbm, 820, rfl⟩
abbrev main_call41_v7 : Ref sig .tc := ⟨.hbm, 821, rfl⟩
abbrev main_call41_v8 : Ref sig .tc := ⟨.hbm, 822, rfl⟩
abbrev main_call41_v9 : Ref sig .tc := ⟨.hbm, 823, rfl⟩
abbrev main_call41_v10 : Ref sig .tc := ⟨.hbm, 824, rfl⟩
abbrev main_call41_v11 : Ref sig .tc := ⟨.hbm, 825, rfl⟩
abbrev main_call41_c_3 : Ref sig .tc := ⟨.hbm, 826, rfl⟩
abbrev main_call41_v12 : Ref sig .tc := ⟨.hbm, 827, rfl⟩
abbrev main_call41_v13 : Ref sig .tc := ⟨.hbm, 828, rfl⟩
abbrev main_call41_v14 : Ref sig .tc := ⟨.hbm, 829, rfl⟩
abbrev main_call41_cst : Ref sig .tc := ⟨.hbm, 830, rfl⟩
abbrev main_call41_v15 : Ref sig .tc := ⟨.hbm, 831, rfl⟩
abbrev main_v253 : Ref sig .tc := ⟨.hbm, 832, rfl⟩
abbrev main_v254 : Ref sig .tc := ⟨.hbm, 833, rfl⟩
abbrev main_v255 : Ref sig .tc := ⟨.hbm, 834, rfl⟩
abbrev main_cst_58 : Ref sig .tc := ⟨.hbm, 835, rfl⟩
abbrev main_v256 : Ref sig .tc := ⟨.hbm, 836, rfl⟩
abbrev main_v257 : Ref sig .tc := ⟨.hbm, 837, rfl⟩
abbrev main_v258 : Ref sig .tc := ⟨.hbm, 838, rfl⟩
abbrev main_cst_59 : Ref sig .tc := ⟨.hbm, 839, rfl⟩
abbrev main_call42_v0 : Ref sig .tc := ⟨.hbm, 840, rfl⟩
abbrev main_call42_v1 : Ref sig .tc := ⟨.hbm, 841, rfl⟩
abbrev main_v259 : Ref sig .tc := ⟨.hbm, 842, rfl⟩
abbrev main_v260 : Ref sig .tc := ⟨.hbm, 843, rfl⟩
abbrev main_v261 : Ref sig .tc := ⟨.hbm, 844, rfl⟩
abbrev main_v262 : Ref sig .tc := ⟨.hbm, 845, rfl⟩
abbrev main_call43_c : Ref sig .tc := ⟨.hbm, 846, rfl⟩
abbrev main_call43_v0 : Ref sig .tc := ⟨.hbm, 847, rfl⟩
abbrev main_call43_v1 : Ref sig .tc := ⟨.hbm, 848, rfl⟩
abbrev main_call43_c_0 : Ref sig .tc := ⟨.hbm, 849, rfl⟩
abbrev main_call43_v2 : Ref sig .tc := ⟨.hbm, 850, rfl⟩
abbrev main_call43_v3 : Ref sig .tc := ⟨.hbm, 851, rfl⟩
abbrev main_call43_v4 : Ref sig .tc := ⟨.hbm, 852, rfl⟩
abbrev main_call43_v5 : Ref sig .tc := ⟨.hbm, 853, rfl⟩
abbrev main_call43_c_1 : Ref sig .tc := ⟨.hbm, 854, rfl⟩
abbrev main_call43_c_2 : Ref sig .tc := ⟨.hbm, 855, rfl⟩
abbrev main_call43_v6 : Ref sig .tc := ⟨.hbm, 856, rfl⟩
abbrev main_call43_v7 : Ref sig .tc := ⟨.hbm, 857, rfl⟩
abbrev main_call43_v8 : Ref sig .tc := ⟨.hbm, 858, rfl⟩
abbrev main_call43_v9 : Ref sig .tc := ⟨.hbm, 859, rfl⟩
abbrev main_call43_v10 : Ref sig .tc := ⟨.hbm, 860, rfl⟩
abbrev main_call43_v11 : Ref sig .tc := ⟨.hbm, 861, rfl⟩
abbrev main_call43_c_3 : Ref sig .tc := ⟨.hbm, 862, rfl⟩
abbrev main_call43_v12 : Ref sig .tc := ⟨.hbm, 863, rfl⟩
abbrev main_call43_v13 : Ref sig .tc := ⟨.hbm, 864, rfl⟩
abbrev main_call43_v14 : Ref sig .tc := ⟨.hbm, 865, rfl⟩
abbrev main_call43_cst : Ref sig .tc := ⟨.hbm, 866, rfl⟩
abbrev main_call43_v15 : Ref sig .tc := ⟨.hbm, 867, rfl⟩
abbrev main_v263 : Ref sig .tc := ⟨.hbm, 868, rfl⟩
abbrev main_v264 : Ref sig .tc := ⟨.hbm, 869, rfl⟩
abbrev main_v265 : Ref sig .tc := ⟨.hbm, 870, rfl⟩
abbrev main_cst_60 : Ref sig .tc := ⟨.hbm, 871, rfl⟩
abbrev main_v266 : Ref sig .tc := ⟨.hbm, 872, rfl⟩
abbrev main_v267 : Ref sig .tc := ⟨.hbm, 873, rfl⟩
abbrev main_v268 : Ref sig .tc := ⟨.hbm, 874, rfl⟩
abbrev main_cst_61 : Ref sig .tc := ⟨.hbm, 875, rfl⟩
abbrev main_call44_v0 : Ref sig .tc := ⟨.hbm, 876, rfl⟩
abbrev main_call44_v1 : Ref sig .tc := ⟨.hbm, 877, rfl⟩
abbrev main_v269 : Ref sig .tc := ⟨.hbm, 878, rfl⟩
abbrev main_v270 : Ref sig .tc := ⟨.hbm, 879, rfl⟩
abbrev main_v271 : Ref sig .tc := ⟨.hbm, 880, rfl⟩
abbrev main_v272 : Ref sig .tc := ⟨.hbm, 881, rfl⟩
abbrev main_call45_c : Ref sig .tc := ⟨.hbm, 882, rfl⟩
abbrev main_call45_v0 : Ref sig .tc := ⟨.hbm, 883, rfl⟩
abbrev main_call45_v1 : Ref sig .tc := ⟨.hbm, 884, rfl⟩
abbrev main_call45_c_0 : Ref sig .tc := ⟨.hbm, 885, rfl⟩
abbrev main_call45_v2 : Ref sig .tc := ⟨.hbm, 886, rfl⟩
abbrev main_call45_v3 : Ref sig .tc := ⟨.hbm, 887, rfl⟩
abbrev main_call45_v4 : Ref sig .tc := ⟨.hbm, 888, rfl⟩
abbrev main_call45_v5 : Ref sig .tc := ⟨.hbm, 889, rfl⟩
abbrev main_call45_c_1 : Ref sig .tc := ⟨.hbm, 890, rfl⟩
abbrev main_call45_c_2 : Ref sig .tc := ⟨.hbm, 891, rfl⟩
abbrev main_call45_v6 : Ref sig .tc := ⟨.hbm, 892, rfl⟩
abbrev main_call45_v7 : Ref sig .tc := ⟨.hbm, 893, rfl⟩
abbrev main_call45_v8 : Ref sig .tc := ⟨.hbm, 894, rfl⟩
abbrev main_call45_v9 : Ref sig .tc := ⟨.hbm, 895, rfl⟩
abbrev main_call45_v10 : Ref sig .tc := ⟨.hbm, 896, rfl⟩
abbrev main_call45_v11 : Ref sig .tc := ⟨.hbm, 897, rfl⟩
abbrev main_call45_c_3 : Ref sig .tc := ⟨.hbm, 898, rfl⟩
abbrev main_call45_v12 : Ref sig .tc := ⟨.hbm, 899, rfl⟩
abbrev main_call45_v13 : Ref sig .tc := ⟨.hbm, 900, rfl⟩
abbrev main_call45_v14 : Ref sig .tc := ⟨.hbm, 901, rfl⟩
abbrev main_call45_cst : Ref sig .tc := ⟨.hbm, 902, rfl⟩
abbrev main_call45_v15 : Ref sig .tc := ⟨.hbm, 903, rfl⟩
abbrev main_v273 : Ref sig .tc := ⟨.hbm, 904, rfl⟩
abbrev main_v274 : Ref sig .tc := ⟨.hbm, 905, rfl⟩
abbrev main_v275 : Ref sig .tc := ⟨.hbm, 906, rfl⟩
abbrev main_cst_62 : Ref sig .tc := ⟨.hbm, 907, rfl⟩
abbrev main_v276 : Ref sig .tc := ⟨.hbm, 908, rfl⟩
abbrev main_v277 : Ref sig .tc := ⟨.hbm, 909, rfl⟩
abbrev main_v278 : Ref sig .tc := ⟨.hbm, 910, rfl⟩
abbrev main_cst_63 : Ref sig .tc := ⟨.hbm, 911, rfl⟩
abbrev main_call46_v0 : Ref sig .tc := ⟨.hbm, 912, rfl⟩
abbrev main_call46_v1 : Ref sig .tc := ⟨.hbm, 913, rfl⟩
abbrev main_v279 : Ref sig .tc := ⟨.hbm, 914, rfl⟩
abbrev main_v280 : Ref sig .tc := ⟨.hbm, 915, rfl⟩
abbrev main_v281 : Ref sig .tc := ⟨.hbm, 916, rfl⟩
abbrev main_v282 : Ref sig .tc := ⟨.hbm, 917, rfl⟩
abbrev main_call47_c : Ref sig .tc := ⟨.hbm, 918, rfl⟩
abbrev main_call47_v0 : Ref sig .tc := ⟨.hbm, 919, rfl⟩
abbrev main_call47_v1 : Ref sig .tc := ⟨.hbm, 920, rfl⟩
abbrev main_call47_c_0 : Ref sig .tc := ⟨.hbm, 921, rfl⟩
abbrev main_call47_v2 : Ref sig .tc := ⟨.hbm, 922, rfl⟩
abbrev main_call47_v3 : Ref sig .tc := ⟨.hbm, 923, rfl⟩
abbrev main_call47_v4 : Ref sig .tc := ⟨.hbm, 924, rfl⟩
abbrev main_call47_v5 : Ref sig .tc := ⟨.hbm, 925, rfl⟩
abbrev main_call47_c_1 : Ref sig .tc := ⟨.hbm, 926, rfl⟩
abbrev main_call47_c_2 : Ref sig .tc := ⟨.hbm, 927, rfl⟩
abbrev main_call47_v6 : Ref sig .tc := ⟨.hbm, 928, rfl⟩
abbrev main_call47_v7 : Ref sig .tc := ⟨.hbm, 929, rfl⟩
abbrev main_call47_v8 : Ref sig .tc := ⟨.hbm, 930, rfl⟩
abbrev main_call47_v9 : Ref sig .tc := ⟨.hbm, 931, rfl⟩
abbrev main_call47_v10 : Ref sig .tc := ⟨.hbm, 932, rfl⟩
abbrev main_call47_v11 : Ref sig .tc := ⟨.hbm, 933, rfl⟩
abbrev main_call47_c_3 : Ref sig .tc := ⟨.hbm, 934, rfl⟩
abbrev main_call47_v12 : Ref sig .tc := ⟨.hbm, 935, rfl⟩
abbrev main_call47_v13 : Ref sig .tc := ⟨.hbm, 936, rfl⟩
abbrev main_call47_v14 : Ref sig .tc := ⟨.hbm, 937, rfl⟩
abbrev main_call47_cst : Ref sig .tc := ⟨.hbm, 938, rfl⟩
abbrev main_call47_v15 : Ref sig .tc := ⟨.hbm, 939, rfl⟩
abbrev main_v283 : Ref sig .tc := ⟨.hbm, 940, rfl⟩
abbrev main_v284 : Ref sig .tc := ⟨.hbm, 941, rfl⟩
abbrev main_v285 : Ref sig .tc := ⟨.hbm, 942, rfl⟩
abbrev main_cst_64 : Ref sig .tc := ⟨.hbm, 943, rfl⟩
abbrev main_v286 : Ref sig .tc := ⟨.hbm, 944, rfl⟩
abbrev main_v287 : Ref sig .tc := ⟨.hbm, 945, rfl⟩
abbrev main_v288 : Ref sig .tc := ⟨.hbm, 946, rfl⟩
abbrev main_cst_65 : Ref sig .tc := ⟨.hbm, 947, rfl⟩
abbrev main_call48_v0 : Ref sig .tc := ⟨.hbm, 948, rfl⟩
abbrev main_call48_v1 : Ref sig .tc := ⟨.hbm, 949, rfl⟩
abbrev main_v289 : Ref sig .tc := ⟨.hbm, 950, rfl⟩
abbrev main_v290 : Ref sig .tc := ⟨.hbm, 951, rfl⟩
abbrev main_v291 : Ref sig .tc := ⟨.hbm, 952, rfl⟩
abbrev main_v292 : Ref sig .tc := ⟨.hbm, 953, rfl⟩
abbrev main_call49_c : Ref sig .tc := ⟨.hbm, 954, rfl⟩
abbrev main_call49_v0 : Ref sig .tc := ⟨.hbm, 955, rfl⟩
abbrev main_call49_v1 : Ref sig .tc := ⟨.hbm, 956, rfl⟩
abbrev main_call49_c_0 : Ref sig .tc := ⟨.hbm, 957, rfl⟩
abbrev main_call49_v2 : Ref sig .tc := ⟨.hbm, 958, rfl⟩
abbrev main_call49_v3 : Ref sig .tc := ⟨.hbm, 959, rfl⟩
abbrev main_call49_v4 : Ref sig .tc := ⟨.hbm, 960, rfl⟩
abbrev main_call49_v5 : Ref sig .tc := ⟨.hbm, 961, rfl⟩
abbrev main_call49_c_1 : Ref sig .tc := ⟨.hbm, 962, rfl⟩
abbrev main_call49_c_2 : Ref sig .tc := ⟨.hbm, 963, rfl⟩
abbrev main_call49_v6 : Ref sig .tc := ⟨.hbm, 964, rfl⟩
abbrev main_call49_v7 : Ref sig .tc := ⟨.hbm, 965, rfl⟩
abbrev main_call49_v8 : Ref sig .tc := ⟨.hbm, 966, rfl⟩
abbrev main_call49_v9 : Ref sig .tc := ⟨.hbm, 967, rfl⟩
abbrev main_call49_v10 : Ref sig .tc := ⟨.hbm, 968, rfl⟩
abbrev main_call49_v11 : Ref sig .tc := ⟨.hbm, 969, rfl⟩
abbrev main_call49_c_3 : Ref sig .tc := ⟨.hbm, 970, rfl⟩
abbrev main_call49_v12 : Ref sig .tc := ⟨.hbm, 971, rfl⟩
abbrev main_call49_v13 : Ref sig .tc := ⟨.hbm, 972, rfl⟩
abbrev main_call49_v14 : Ref sig .tc := ⟨.hbm, 973, rfl⟩
abbrev main_call49_cst : Ref sig .tc := ⟨.hbm, 974, rfl⟩
abbrev main_call49_v15 : Ref sig .tc := ⟨.hbm, 975, rfl⟩
abbrev main_v293 : Ref sig .tc := ⟨.hbm, 976, rfl⟩
abbrev main_v294 : Ref sig .tc := ⟨.hbm, 977, rfl⟩
abbrev main_v295 : Ref sig .tc := ⟨.hbm, 978, rfl⟩
abbrev main_cst_66 : Ref sig .tc := ⟨.hbm, 979, rfl⟩
abbrev main_v296 : Ref sig .tc := ⟨.hbm, 980, rfl⟩
abbrev main_v297 : Ref sig .tc := ⟨.hbm, 981, rfl⟩
abbrev main_v298 : Ref sig .tc := ⟨.hbm, 982, rfl⟩
abbrev main_cst_67 : Ref sig .tc := ⟨.hbm, 983, rfl⟩
abbrev main_call50_v0 : Ref sig .tc := ⟨.hbm, 984, rfl⟩
abbrev main_call50_v1 : Ref sig .tc := ⟨.hbm, 985, rfl⟩
abbrev main_v299 : Ref sig .tc := ⟨.hbm, 986, rfl⟩
abbrev main_v300 : Ref sig .tc := ⟨.hbm, 987, rfl⟩
abbrev main_v301 : Ref sig .tc := ⟨.hbm, 988, rfl⟩
abbrev main_v302 : Ref sig .tc := ⟨.hbm, 989, rfl⟩
abbrev main_call51_c : Ref sig .tc := ⟨.hbm, 990, rfl⟩
abbrev main_call51_v0 : Ref sig .tc := ⟨.hbm, 991, rfl⟩
abbrev main_call51_v1 : Ref sig .tc := ⟨.hbm, 992, rfl⟩
abbrev main_call51_c_0 : Ref sig .tc := ⟨.hbm, 993, rfl⟩
abbrev main_call51_v2 : Ref sig .tc := ⟨.hbm, 994, rfl⟩
abbrev main_call51_v3 : Ref sig .tc := ⟨.hbm, 995, rfl⟩
abbrev main_call51_v4 : Ref sig .tc := ⟨.hbm, 996, rfl⟩
abbrev main_call51_v5 : Ref sig .tc := ⟨.hbm, 997, rfl⟩
abbrev main_call51_c_1 : Ref sig .tc := ⟨.hbm, 998, rfl⟩
abbrev main_call51_c_2 : Ref sig .tc := ⟨.hbm, 999, rfl⟩
abbrev main_call51_v6 : Ref sig .tc := ⟨.hbm, 1000, rfl⟩
abbrev main_call51_v7 : Ref sig .tc := ⟨.hbm, 1001, rfl⟩
abbrev main_call51_v8 : Ref sig .tc := ⟨.hbm, 1002, rfl⟩
abbrev main_call51_v9 : Ref sig .tc := ⟨.hbm, 1003, rfl⟩
abbrev main_call51_v10 : Ref sig .tc := ⟨.hbm, 1004, rfl⟩
abbrev main_call51_v11 : Ref sig .tc := ⟨.hbm, 1005, rfl⟩
abbrev main_call51_c_3 : Ref sig .tc := ⟨.hbm, 1006, rfl⟩
abbrev main_call51_v12 : Ref sig .tc := ⟨.hbm, 1007, rfl⟩
abbrev main_call51_v13 : Ref sig .tc := ⟨.hbm, 1008, rfl⟩
abbrev main_call51_v14 : Ref sig .tc := ⟨.hbm, 1009, rfl⟩
abbrev main_call51_cst : Ref sig .tc := ⟨.hbm, 1010, rfl⟩
abbrev main_call51_v15 : Ref sig .tc := ⟨.hbm, 1011, rfl⟩
abbrev main_v303 : Ref sig .tc := ⟨.hbm, 1012, rfl⟩
abbrev main_v304 : Ref sig .tc := ⟨.hbm, 1013, rfl⟩
abbrev main_v305 : Ref sig .tc := ⟨.hbm, 1014, rfl⟩
abbrev main_cst_68 : Ref sig .tc := ⟨.hbm, 1015, rfl⟩
abbrev main_v306 : Ref sig .tc := ⟨.hbm, 1016, rfl⟩
abbrev main_v307 : Ref sig .tc := ⟨.hbm, 1017, rfl⟩
abbrev main_v308 : Ref sig .tc := ⟨.hbm, 1018, rfl⟩
abbrev main_cst_69 : Ref sig .tc := ⟨.hbm, 1019, rfl⟩
abbrev main_call52_v0 : Ref sig .tc := ⟨.hbm, 1020, rfl⟩
abbrev main_call52_v1 : Ref sig .tc := ⟨.hbm, 1021, rfl⟩
abbrev main_v309 : Ref sig .tc := ⟨.hbm, 1022, rfl⟩
abbrev main_v310 : Ref sig .tc := ⟨.hbm, 1023, rfl⟩
abbrev main_v311 : Ref sig .tc := ⟨.hbm, 1024, rfl⟩
abbrev main_v312 : Ref sig .tc := ⟨.hbm, 1025, rfl⟩
abbrev main_call53_c : Ref sig .tc := ⟨.hbm, 1026, rfl⟩
abbrev main_call53_v0 : Ref sig .tc := ⟨.hbm, 1027, rfl⟩
abbrev main_call53_v1 : Ref sig .tc := ⟨.hbm, 1028, rfl⟩
abbrev main_call53_c_0 : Ref sig .tc := ⟨.hbm, 1029, rfl⟩
abbrev main_call53_v2 : Ref sig .tc := ⟨.hbm, 1030, rfl⟩
abbrev main_call53_v3 : Ref sig .tc := ⟨.hbm, 1031, rfl⟩
abbrev main_call53_v4 : Ref sig .tc := ⟨.hbm, 1032, rfl⟩
abbrev main_call53_v5 : Ref sig .tc := ⟨.hbm, 1033, rfl⟩
abbrev main_call53_c_1 : Ref sig .tc := ⟨.hbm, 1034, rfl⟩
abbrev main_call53_c_2 : Ref sig .tc := ⟨.hbm, 1035, rfl⟩
abbrev main_call53_v6 : Ref sig .tc := ⟨.hbm, 1036, rfl⟩
abbrev main_call53_v7 : Ref sig .tc := ⟨.hbm, 1037, rfl⟩
abbrev main_call53_v8 : Ref sig .tc := ⟨.hbm, 1038, rfl⟩
abbrev main_call53_v9 : Ref sig .tc := ⟨.hbm, 1039, rfl⟩
abbrev main_call53_v10 : Ref sig .tc := ⟨.hbm, 1040, rfl⟩
abbrev main_call53_v11 : Ref sig .tc := ⟨.hbm, 1041, rfl⟩
abbrev main_call53_c_3 : Ref sig .tc := ⟨.hbm, 1042, rfl⟩
abbrev main_call53_v12 : Ref sig .tc := ⟨.hbm, 1043, rfl⟩
abbrev main_call53_v13 : Ref sig .tc := ⟨.hbm, 1044, rfl⟩
abbrev main_call53_v14 : Ref sig .tc := ⟨.hbm, 1045, rfl⟩
abbrev main_call53_cst : Ref sig .tc := ⟨.hbm, 1046, rfl⟩
abbrev main_call53_v15 : Ref sig .tc := ⟨.hbm, 1047, rfl⟩
abbrev main_v313 : Ref sig .tc := ⟨.hbm, 1048, rfl⟩
abbrev main_v314 : Ref sig .tc := ⟨.hbm, 1049, rfl⟩
abbrev main_v315 : Ref sig .tc := ⟨.hbm, 1050, rfl⟩
abbrev main_cst_70 : Ref sig .tc := ⟨.hbm, 1051, rfl⟩
abbrev main_v316 : Ref sig .tc := ⟨.hbm, 1052, rfl⟩
abbrev main_v317 : Ref sig .tc := ⟨.hbm, 1053, rfl⟩
abbrev main_v318 : Ref sig .tc := ⟨.hbm, 1054, rfl⟩
abbrev main_cst_71 : Ref sig .tc := ⟨.hbm, 1055, rfl⟩
abbrev main_call54_v0 : Ref sig .tc := ⟨.hbm, 1056, rfl⟩
abbrev main_call54_v1 : Ref sig .tc := ⟨.hbm, 1057, rfl⟩
abbrev main_v319 : Ref sig .tc := ⟨.hbm, 1058, rfl⟩
abbrev main_v320 : Ref sig .tc := ⟨.hbm, 1059, rfl⟩
abbrev main_v321 : Ref sig .tc := ⟨.hbm, 1060, rfl⟩
abbrev main_v322 : Ref sig .tc := ⟨.hbm, 1061, rfl⟩
abbrev main_call55_c : Ref sig .tc := ⟨.hbm, 1062, rfl⟩
abbrev main_call55_v0 : Ref sig .tc := ⟨.hbm, 1063, rfl⟩
abbrev main_call55_v1 : Ref sig .tc := ⟨.hbm, 1064, rfl⟩
abbrev main_call55_c_0 : Ref sig .tc := ⟨.hbm, 1065, rfl⟩
abbrev main_call55_v2 : Ref sig .tc := ⟨.hbm, 1066, rfl⟩
abbrev main_call55_v3 : Ref sig .tc := ⟨.hbm, 1067, rfl⟩
abbrev main_call55_v4 : Ref sig .tc := ⟨.hbm, 1068, rfl⟩
abbrev main_call55_v5 : Ref sig .tc := ⟨.hbm, 1069, rfl⟩
abbrev main_call55_c_1 : Ref sig .tc := ⟨.hbm, 1070, rfl⟩
abbrev main_call55_c_2 : Ref sig .tc := ⟨.hbm, 1071, rfl⟩
abbrev main_call55_v6 : Ref sig .tc := ⟨.hbm, 1072, rfl⟩
abbrev main_call55_v7 : Ref sig .tc := ⟨.hbm, 1073, rfl⟩
abbrev main_call55_v8 : Ref sig .tc := ⟨.hbm, 1074, rfl⟩
abbrev main_call55_v9 : Ref sig .tc := ⟨.hbm, 1075, rfl⟩
abbrev main_call55_v10 : Ref sig .tc := ⟨.hbm, 1076, rfl⟩
abbrev main_call55_v11 : Ref sig .tc := ⟨.hbm, 1077, rfl⟩
abbrev main_call55_c_3 : Ref sig .tc := ⟨.hbm, 1078, rfl⟩
abbrev main_call55_v12 : Ref sig .tc := ⟨.hbm, 1079, rfl⟩
abbrev main_call55_v13 : Ref sig .tc := ⟨.hbm, 1080, rfl⟩
abbrev main_call55_v14 : Ref sig .tc := ⟨.hbm, 1081, rfl⟩
abbrev main_call55_cst : Ref sig .tc := ⟨.hbm, 1082, rfl⟩
abbrev main_call55_v15 : Ref sig .tc := ⟨.hbm, 1083, rfl⟩
abbrev main_v323 : Ref sig .tc := ⟨.hbm, 1084, rfl⟩
abbrev main_v324 : Ref sig .tc := ⟨.hbm, 1085, rfl⟩
abbrev main_v325 : Ref sig .tc := ⟨.hbm, 1086, rfl⟩
abbrev main_cst_72 : Ref sig .tc := ⟨.hbm, 1087, rfl⟩
abbrev main_v326 : Ref sig .tc := ⟨.hbm, 1088, rfl⟩
abbrev main_v327 : Ref sig .tc := ⟨.hbm, 1089, rfl⟩
abbrev main_v328 : Ref sig .tc := ⟨.hbm, 1090, rfl⟩
abbrev main_cst_73 : Ref sig .tc := ⟨.hbm, 1091, rfl⟩
abbrev main_call56_v0 : Ref sig .tc := ⟨.hbm, 1092, rfl⟩
abbrev main_call56_v1 : Ref sig .tc := ⟨.hbm, 1093, rfl⟩
abbrev main_v329 : Ref sig .tc := ⟨.hbm, 1094, rfl⟩
abbrev main_v330 : Ref sig .tc := ⟨.hbm, 1095, rfl⟩
abbrev main_v331 : Ref sig .tc := ⟨.hbm, 1096, rfl⟩
abbrev main_v332 : Ref sig .tc := ⟨.hbm, 1097, rfl⟩
abbrev main_call57_c : Ref sig .tc := ⟨.hbm, 1098, rfl⟩
abbrev main_call57_v0 : Ref sig .tc := ⟨.hbm, 1099, rfl⟩
abbrev main_call57_v1 : Ref sig .tc := ⟨.hbm, 1100, rfl⟩
abbrev main_call57_c_0 : Ref sig .tc := ⟨.hbm, 1101, rfl⟩
abbrev main_call57_v2 : Ref sig .tc := ⟨.hbm, 1102, rfl⟩
abbrev main_call57_v3 : Ref sig .tc := ⟨.hbm, 1103, rfl⟩
abbrev main_call57_v4 : Ref sig .tc := ⟨.hbm, 1104, rfl⟩
abbrev main_call57_v5 : Ref sig .tc := ⟨.hbm, 1105, rfl⟩
abbrev main_call57_c_1 : Ref sig .tc := ⟨.hbm, 1106, rfl⟩
abbrev main_call57_c_2 : Ref sig .tc := ⟨.hbm, 1107, rfl⟩
abbrev main_call57_v6 : Ref sig .tc := ⟨.hbm, 1108, rfl⟩
abbrev main_call57_v7 : Ref sig .tc := ⟨.hbm, 1109, rfl⟩
abbrev main_call57_v8 : Ref sig .tc := ⟨.hbm, 1110, rfl⟩
abbrev main_call57_v9 : Ref sig .tc := ⟨.hbm, 1111, rfl⟩
abbrev main_call57_v10 : Ref sig .tc := ⟨.hbm, 1112, rfl⟩
abbrev main_call57_v11 : Ref sig .tc := ⟨.hbm, 1113, rfl⟩
abbrev main_call57_c_3 : Ref sig .tc := ⟨.hbm, 1114, rfl⟩
abbrev main_call57_v12 : Ref sig .tc := ⟨.hbm, 1115, rfl⟩
abbrev main_call57_v13 : Ref sig .tc := ⟨.hbm, 1116, rfl⟩
abbrev main_call57_v14 : Ref sig .tc := ⟨.hbm, 1117, rfl⟩
abbrev main_call57_cst : Ref sig .tc := ⟨.hbm, 1118, rfl⟩
abbrev main_call57_v15 : Ref sig .tc := ⟨.hbm, 1119, rfl⟩
abbrev main_v333 : Ref sig .tc := ⟨.hbm, 1120, rfl⟩
abbrev main_v334 : Ref sig .tc := ⟨.hbm, 1121, rfl⟩
abbrev main_v335 : Ref sig .tc := ⟨.hbm, 1122, rfl⟩
abbrev main_cst_74 : Ref sig .tc := ⟨.hbm, 1123, rfl⟩
abbrev main_v336 : Ref sig .tc := ⟨.hbm, 1124, rfl⟩
abbrev main_v337 : Ref sig .tc := ⟨.hbm, 1125, rfl⟩
abbrev main_v338 : Ref sig .tc := ⟨.hbm, 1126, rfl⟩
abbrev main_cst_75 : Ref sig .tc := ⟨.hbm, 1127, rfl⟩
abbrev main_call58_v0 : Ref sig .tc := ⟨.hbm, 1128, rfl⟩
abbrev main_call58_v1 : Ref sig .tc := ⟨.hbm, 1129, rfl⟩
abbrev main_v339 : Ref sig .tc := ⟨.hbm, 1130, rfl⟩
abbrev main_v340 : Ref sig .tc := ⟨.hbm, 1131, rfl⟩
abbrev main_v341 : Ref sig .tc := ⟨.hbm, 1132, rfl⟩
abbrev main_v342 : Ref sig .tc := ⟨.hbm, 1133, rfl⟩
abbrev main_call59_c : Ref sig .tc := ⟨.hbm, 1134, rfl⟩
abbrev main_call59_v0 : Ref sig .tc := ⟨.hbm, 1135, rfl⟩
abbrev main_call59_v1 : Ref sig .tc := ⟨.hbm, 1136, rfl⟩
abbrev main_call59_c_0 : Ref sig .tc := ⟨.hbm, 1137, rfl⟩
abbrev main_call59_v2 : Ref sig .tc := ⟨.hbm, 1138, rfl⟩
abbrev main_call59_v3 : Ref sig .tc := ⟨.hbm, 1139, rfl⟩
abbrev main_call59_v4 : Ref sig .tc := ⟨.hbm, 1140, rfl⟩
abbrev main_call59_v5 : Ref sig .tc := ⟨.hbm, 1141, rfl⟩
abbrev main_call59_c_1 : Ref sig .tc := ⟨.hbm, 1142, rfl⟩
abbrev main_call59_c_2 : Ref sig .tc := ⟨.hbm, 1143, rfl⟩
abbrev main_call59_v6 : Ref sig .tc := ⟨.hbm, 1144, rfl⟩
abbrev main_call59_v7 : Ref sig .tc := ⟨.hbm, 1145, rfl⟩
abbrev main_call59_v8 : Ref sig .tc := ⟨.hbm, 1146, rfl⟩
abbrev main_call59_v9 : Ref sig .tc := ⟨.hbm, 1147, rfl⟩
abbrev main_call59_v10 : Ref sig .tc := ⟨.hbm, 1148, rfl⟩
abbrev main_call59_v11 : Ref sig .tc := ⟨.hbm, 1149, rfl⟩
abbrev main_call59_c_3 : Ref sig .tc := ⟨.hbm, 1150, rfl⟩
abbrev main_call59_v12 : Ref sig .tc := ⟨.hbm, 1151, rfl⟩
abbrev main_call59_v13 : Ref sig .tc := ⟨.hbm, 1152, rfl⟩
abbrev main_call59_v14 : Ref sig .tc := ⟨.hbm, 1153, rfl⟩
abbrev main_call59_cst : Ref sig .tc := ⟨.hbm, 1154, rfl⟩
abbrev main_call59_v15 : Ref sig .tc := ⟨.hbm, 1155, rfl⟩
abbrev main_v343 : Ref sig .tc := ⟨.hbm, 1156, rfl⟩
abbrev main_v344 : Ref sig .tc := ⟨.hbm, 1157, rfl⟩
abbrev main_v345 : Ref sig .tc := ⟨.hbm, 1158, rfl⟩
abbrev main_cst_76 : Ref sig .tc := ⟨.hbm, 1159, rfl⟩
abbrev main_v346 : Ref sig .tc := ⟨.hbm, 1160, rfl⟩
abbrev main_v347 : Ref sig .tc := ⟨.hbm, 1161, rfl⟩
abbrev main_v348 : Ref sig .tc := ⟨.hbm, 1162, rfl⟩
abbrev main_cst_77 : Ref sig .tc := ⟨.hbm, 1163, rfl⟩
abbrev main_call60_v0 : Ref sig .tc := ⟨.hbm, 1164, rfl⟩
abbrev main_call60_v1 : Ref sig .tc := ⟨.hbm, 1165, rfl⟩
abbrev main_v349 : Ref sig .tc := ⟨.hbm, 1166, rfl⟩
abbrev main_v350 : Ref sig .tc := ⟨.hbm, 1167, rfl⟩
abbrev main_v351 : Ref sig .tc := ⟨.hbm, 1168, rfl⟩
abbrev main_v352 : Ref sig .tc := ⟨.hbm, 1169, rfl⟩
abbrev main_v353 : Ref sig .tc := ⟨.hbm, 1170, rfl⟩
abbrev main_v354 : Ref sig .tc := ⟨.hbm, 1171, rfl⟩
abbrev main_v355 : Ref sig .tc := ⟨.hbm, 1172, rfl⟩
abbrev main_v356 : Ref sig .tc := ⟨.hbm, 1173, rfl⟩
abbrev main_v357 : Ref sig .tc := ⟨.hbm, 1174, rfl⟩
abbrev main_v358 : Ref sig .tc := ⟨.hbm, 1175, rfl⟩
abbrev main_v359 : Ref sig .tc := ⟨.hbm, 1176, rfl⟩
abbrev main_v360 : Ref sig .tc := ⟨.hbm, 1177, rfl⟩
abbrev main_v361 : Ref sig .tc := ⟨.hbm, 1178, rfl⟩
abbrev main_v362 : Ref sig .tc := ⟨.hbm, 1179, rfl⟩
abbrev main_v363 : Ref sig .tc := ⟨.hbm, 1180, rfl⟩
abbrev main_v364 : Ref sig .tc := ⟨.hbm, 1181, rfl⟩
abbrev main_v365 : Ref sig .tc := ⟨.hbm, 1182, rfl⟩
abbrev main_v366 : Ref sig .tc := ⟨.hbm, 1183, rfl⟩
abbrev main_v367 : Ref sig .tc := ⟨.hbm, 1184, rfl⟩
abbrev main_v368 : Ref sig .tc := ⟨.hbm, 1185, rfl⟩
abbrev main_v369 : Ref sig .tc := ⟨.hbm, 1186, rfl⟩
abbrev main_v370 : Ref sig .tc := ⟨.hbm, 1187, rfl⟩
abbrev main_v371 : Ref sig .tc := ⟨.hbm, 1188, rfl⟩
abbrev main_v372 : Ref sig .tc := ⟨.hbm, 1189, rfl⟩
abbrev main_v373 : Ref sig .tc := ⟨.hbm, 1190, rfl⟩
abbrev main_v374 : Ref sig .tc := ⟨.hbm, 1191, rfl⟩
abbrev main_v375 : Ref sig .tc := ⟨.hbm, 1192, rfl⟩
abbrev main_v376 : Ref sig .tc := ⟨.hbm, 1193, rfl⟩
abbrev main_v377 : Ref sig .tc := ⟨.hbm, 1194, rfl⟩
abbrev main_v378 : Ref sig .tc := ⟨.hbm, 1195, rfl⟩
abbrev main_v379 : Ref sig .tc := ⟨.hbm, 1196, rfl⟩
abbrev main_v380 : Ref sig .tc := ⟨.hbm, 1197, rfl⟩
abbrev main_cst_78 : Ref sig .tc := ⟨.hbm, 1198, rfl⟩
abbrev main_v381 : Ref sig .tc := ⟨.hbm, 1199, rfl⟩
abbrev main_v382 : Ref sig .tc := ⟨.hbm, 1200, rfl⟩
abbrev main_cst_79 : Ref sig .tc := ⟨.hbm, 1201, rfl⟩
abbrev main_v383 : Ref sig .tc := ⟨.hbm, 1202, rfl⟩
abbrev main_cst_80 : Ref sig .tc := ⟨.hbm, 1203, rfl⟩
abbrev main_v384 : Ref sig .tc := ⟨.hbm, 1204, rfl⟩
abbrev main_v385 : Ref sig .tc := ⟨.hbm, 1205, rfl⟩
abbrev main_v386 : Ref sig .tc := ⟨.hbm, 1206, rfl⟩
abbrev main_v387 : Ref sig .tc := ⟨.hbm, 1207, rfl⟩
abbrev main_v388 : Ref sig .tc := ⟨.hbm, 1208, rfl⟩
abbrev main_v389 : Ref sig .tc := ⟨.hbm, 1209, rfl⟩
abbrev main_cst_81 : Ref sig .tc := ⟨.hbm, 1210, rfl⟩
abbrev main_v390 : Ref sig .tc := ⟨.hbm, 1211, rfl⟩
abbrev main_v391 : Ref sig .tc := ⟨.hbm, 1212, rfl⟩
abbrev main_v392 : Ref sig .tc := ⟨.hbm, 1213, rfl⟩
abbrev main_v393 : Ref sig .tc := ⟨.hbm, 1214, rfl⟩
abbrev main_v394 : Ref sig .tc := ⟨.hbm, 1215, rfl⟩
abbrev main_v395 : Ref sig .tc := ⟨.hbm, 1216, rfl⟩
abbrev main_v396 : Ref sig .tc := ⟨.hbm, 1217, rfl⟩
abbrev main_v397 : Ref sig .tc := ⟨.hbm, 1218, rfl⟩
abbrev main_c_82 : Ref sig .tc := ⟨.hbm, 1219, rfl⟩
abbrev main_call61_v0 : Ref sig .tc := ⟨.hbm, 1220, rfl⟩
abbrev main_call61_v1 : Ref sig .tc := ⟨.hbm, 1221, rfl⟩
abbrev main_call61_v2 : Ref sig .tc := ⟨.hbm, 1222, rfl⟩
abbrev main_call61_v3 : Ref sig .tc := ⟨.hbm, 1223, rfl⟩
abbrev main_call61_v4 : Ref sig .tc := ⟨.hbm, 1224, rfl⟩
abbrev main_call61_v5 : Ref sig .tc := ⟨.hbm, 1225, rfl⟩
abbrev main_call61_v6 : Ref sig .tc := ⟨.hbm, 1226, rfl⟩
abbrev main_call61_v7 : Ref sig .tc := ⟨.hbm, 1227, rfl⟩
abbrev main_call61_v8 : Ref sig .tc := ⟨.hbm, 1228, rfl⟩
abbrev main_call61_c : Ref sig .tc := ⟨.hbm, 1229, rfl⟩
abbrev main_call61_v9 : Ref sig .tc := ⟨.hbm, 1230, rfl⟩
abbrev main_call61_v10 : Ref sig .tc := ⟨.hbm, 1231, rfl⟩
abbrev main_call61_v11 : Ref sig .tc := ⟨.hbm, 1232, rfl⟩
abbrev main_call61_c_0 : Ref sig .tc := ⟨.hbm, 1233, rfl⟩
abbrev main_call61_v12 : Ref sig .tc := ⟨.hbm, 1234, rfl⟩
abbrev main_call61_v13 : Ref sig .tc := ⟨.hbm, 1235, rfl⟩
abbrev main_v398 : Ref sig .tc := ⟨.hbm, 1236, rfl⟩
abbrev main_c_83 : Ref sig .tc := ⟨.hbm, 1237, rfl⟩
abbrev main_call62_v0 : Ref sig .tc := ⟨.hbm, 1238, rfl⟩
abbrev main_call62_v1 : Ref sig .tc := ⟨.hbm, 1239, rfl⟩
abbrev main_call62_v2 : Ref sig .tc := ⟨.hbm, 1240, rfl⟩
abbrev main_call62_v3 : Ref sig .tc := ⟨.hbm, 1241, rfl⟩
abbrev main_call62_v4 : Ref sig .tc := ⟨.hbm, 1242, rfl⟩
abbrev main_call62_v5 : Ref sig .tc := ⟨.hbm, 1243, rfl⟩
abbrev main_call62_v6 : Ref sig .tc := ⟨.hbm, 1244, rfl⟩
abbrev main_call62_v7 : Ref sig .tc := ⟨.hbm, 1245, rfl⟩
abbrev main_call62_v8 : Ref sig .tc := ⟨.hbm, 1246, rfl⟩
abbrev main_call62_c : Ref sig .tc := ⟨.hbm, 1247, rfl⟩
abbrev main_call62_v9 : Ref sig .tc := ⟨.hbm, 1248, rfl⟩
abbrev main_call62_v10 : Ref sig .tc := ⟨.hbm, 1249, rfl⟩
abbrev main_call62_v11 : Ref sig .tc := ⟨.hbm, 1250, rfl⟩
abbrev main_call62_c_0 : Ref sig .tc := ⟨.hbm, 1251, rfl⟩
abbrev main_call62_v12 : Ref sig .tc := ⟨.hbm, 1252, rfl⟩
abbrev main_call62_v13 : Ref sig .tc := ⟨.hbm, 1253, rfl⟩
abbrev main_v399 : Ref sig .tc := ⟨.hbm, 1254, rfl⟩
abbrev main_c_84 : Ref sig .tc := ⟨.hbm, 1255, rfl⟩
abbrev main_call63_v0 : Ref sig .tc := ⟨.hbm, 1256, rfl⟩
abbrev main_call63_c : Ref sig .tc := ⟨.hbm, 1257, rfl⟩
abbrev main_call63_v1 : Ref sig .tc := ⟨.hbm, 1258, rfl⟩
abbrev main_call63_c_0 : Ref sig .tc := ⟨.hbm, 1259, rfl⟩
abbrev main_call63_v2 : Ref sig .tc := ⟨.hbm, 1260, rfl⟩
abbrev main_call63_v3 : Ref sig .tc := ⟨.hbm, 1261, rfl⟩
abbrev main_call63_v4 : Ref sig .tc := ⟨.hbm, 1262, rfl⟩
abbrev main_call63_c_1 : Ref sig .tc := ⟨.hbm, 1263, rfl⟩
abbrev main_call63_v5 : Ref sig .tc := ⟨.hbm, 1264, rfl⟩
abbrev main_call63_v6 : Ref sig .tc := ⟨.hbm, 1265, rfl⟩
abbrev main_call63_c_2 : Ref sig .tc := ⟨.hbm, 1266, rfl⟩
abbrev main_call63_v7 : Ref sig .tc := ⟨.hbm, 1267, rfl⟩
abbrev main_call63_v8 : Ref sig .tc := ⟨.hbm, 1268, rfl⟩
abbrev main_call63_c_3 : Ref sig .tc := ⟨.hbm, 1269, rfl⟩
abbrev main_call63_v9 : Ref sig .tc := ⟨.hbm, 1270, rfl⟩
abbrev main_call63_v10 : Ref sig .tc := ⟨.hbm, 1271, rfl⟩
abbrev main_call63_v11 : Ref sig .tc := ⟨.hbm, 1272, rfl⟩
abbrev main_call63_v12 : Ref sig .tc := ⟨.hbm, 1273, rfl⟩
abbrev main_call63_v13 : Ref sig .tc := ⟨.hbm, 1274, rfl⟩
abbrev main_call63_v14 : Ref sig .tc := ⟨.hbm, 1275, rfl⟩
abbrev main_v400 : Ref sig .tc := ⟨.hbm, 1276, rfl⟩
abbrev main_c_85 : Ref sig .tc := ⟨.hbm, 1277, rfl⟩
abbrev main_call64_v0 : Ref sig .tc := ⟨.hbm, 1278, rfl⟩
abbrev main_call64_c : Ref sig .tc := ⟨.hbm, 1279, rfl⟩
abbrev main_call64_v1 : Ref sig .tc := ⟨.hbm, 1280, rfl⟩
abbrev main_call64_c_0 : Ref sig .tc := ⟨.hbm, 1281, rfl⟩
abbrev main_call64_v2 : Ref sig .tc := ⟨.hbm, 1282, rfl⟩
abbrev main_call64_v3 : Ref sig .tc := ⟨.hbm, 1283, rfl⟩
abbrev main_call64_v4 : Ref sig .tc := ⟨.hbm, 1284, rfl⟩
abbrev main_call64_c_1 : Ref sig .tc := ⟨.hbm, 1285, rfl⟩
abbrev main_call64_v5 : Ref sig .tc := ⟨.hbm, 1286, rfl⟩
abbrev main_call64_v6 : Ref sig .tc := ⟨.hbm, 1287, rfl⟩
abbrev main_call64_c_2 : Ref sig .tc := ⟨.hbm, 1288, rfl⟩
abbrev main_call64_v7 : Ref sig .tc := ⟨.hbm, 1289, rfl⟩
abbrev main_call64_v8 : Ref sig .tc := ⟨.hbm, 1290, rfl⟩
abbrev main_call64_c_3 : Ref sig .tc := ⟨.hbm, 1291, rfl⟩
abbrev main_call64_v9 : Ref sig .tc := ⟨.hbm, 1292, rfl⟩
abbrev main_call64_v10 : Ref sig .tc := ⟨.hbm, 1293, rfl⟩
abbrev main_call64_v11 : Ref sig .tc := ⟨.hbm, 1294, rfl⟩
abbrev main_call64_v12 : Ref sig .tc := ⟨.hbm, 1295, rfl⟩
abbrev main_call64_v13 : Ref sig .tc := ⟨.hbm, 1296, rfl⟩
abbrev main_call64_v14 : Ref sig .tc := ⟨.hbm, 1297, rfl⟩
abbrev main_v401 : Ref sig .tc := ⟨.hbm, 1298, rfl⟩
abbrev main_v402 : Ref sig .tc := ⟨.hbm, 1299, rfl⟩
abbrev main_v403 : Ref sig .tc := ⟨.hbm, 1300, rfl⟩
abbrev main_v404 : Ref sig .tc := ⟨.hbm, 1301, rfl⟩
abbrev main_v405 : Ref sig .tc := ⟨.hbm, 1302, rfl⟩
abbrev main_v406 : Ref sig .tc := ⟨.hbm, 1303, rfl⟩
abbrev main_v407 : Ref sig .tc := ⟨.hbm, 1304, rfl⟩
abbrev main_v408 : Ref sig .tc := ⟨.hbm, 1305, rfl⟩
abbrev main_v409 : Ref sig .tc := ⟨.hbm, 1306, rfl⟩
abbrev main_v410 : Ref sig .tc := ⟨.hbm, 1307, rfl⟩
abbrev main_v411 : Ref sig .tc := ⟨.hbm, 1308, rfl⟩
abbrev main_v412 : Ref sig .tc := ⟨.hbm, 1309, rfl⟩
abbrev main_v413 : Ref sig .tc := ⟨.hbm, 1310, rfl⟩
abbrev main_v414 : Ref sig .tc := ⟨.hbm, 1311, rfl⟩
abbrev main_v415 : Ref sig .tc := ⟨.hbm, 1312, rfl⟩
abbrev main_v416 : Ref sig .tc := ⟨.hbm, 1313, rfl⟩
abbrev main_c_86 : Ref sig .tc := ⟨.hbm, 1314, rfl⟩
abbrev main_v417 : Ref sig .tc := ⟨.hbm, 1315, rfl⟩
abbrev main_v418 : Ref sig .tc := ⟨.hbm, 1316, rfl⟩
abbrev main_c_87 : Ref sig .tc := ⟨.hbm, 1317, rfl⟩
abbrev main_v419 : Ref sig .tc := ⟨.hbm, 1318, rfl⟩
abbrev main_v420 : Ref sig .tc := ⟨.hbm, 1319, rfl⟩
abbrev main_v421 : Ref sig .tc := ⟨.hbm, 1320, rfl⟩
abbrev main_c_88 : Ref sig .tc := ⟨.hbm, 1321, rfl⟩
abbrev main_v422 : Ref sig .tc := ⟨.hbm, 1322, rfl⟩
abbrev main_v423 : Ref sig .tc := ⟨.hbm, 1323, rfl⟩
abbrev main_v424 : Ref sig .tc := ⟨.hbm, 1324, rfl⟩
abbrev main_c_89 : Ref sig .tc := ⟨.hbm, 1325, rfl⟩
abbrev main_v425 : Ref sig .tc := ⟨.hbm, 1326, rfl⟩
abbrev main_v426 : Ref sig .tc := ⟨.hbm, 1327, rfl⟩
abbrev main_v427 : Ref sig .tc := ⟨.hbm, 1328, rfl⟩
abbrev main_c_90 : Ref sig .tc := ⟨.hbm, 1329, rfl⟩
abbrev main_v428 : Ref sig .tc := ⟨.hbm, 1330, rfl⟩
abbrev main_v429 : Ref sig .tc := ⟨.hbm, 1331, rfl⟩
abbrev main_v430 : Ref sig .tc := ⟨.hbm, 1332, rfl⟩
abbrev main_c_91 : Ref sig .tc := ⟨.hbm, 1333, rfl⟩
abbrev main_v431 : Ref sig .tc := ⟨.hbm, 1334, rfl⟩
abbrev main_v432 : Ref sig .tc := ⟨.hbm, 1335, rfl⟩
abbrev main_v433 : Ref sig .tc := ⟨.hbm, 1336, rfl⟩
abbrev main_c_92 : Ref sig .tc := ⟨.hbm, 1337, rfl⟩
abbrev main_c_93 : Ref sig .tc := ⟨.hbm, 1338, rfl⟩
abbrev main_call65_v0 : Ref sig .tc := ⟨.hbm, 1339, rfl⟩
abbrev main_call65_v1 : Ref sig .tc := ⟨.hbm, 1340, rfl⟩
abbrev main_call65_v2 : Ref sig .tc := ⟨.hbm, 1341, rfl⟩
abbrev main_call65_v3 : Ref sig .tc := ⟨.hbm, 1342, rfl⟩
abbrev main_call65_v4 : Ref sig .tc := ⟨.hbm, 1343, rfl⟩
abbrev main_v434 : Ref sig .tc := ⟨.hbm, 1344, rfl⟩
abbrev main_c_94 : Ref sig .tc := ⟨.hbm, 1345, rfl⟩
abbrev main_v435 : Ref sig .tc := ⟨.hbm, 1346, rfl⟩
abbrev main_v436 : Ref sig .tc := ⟨.hbm, 1347, rfl⟩
abbrev main_c_95 : Ref sig .tc := ⟨.hbm, 1348, rfl⟩
abbrev main_c_96 : Ref sig .tc := ⟨.hbm, 1349, rfl⟩
abbrev main_call66_v0 : Ref sig .tc := ⟨.hbm, 1350, rfl⟩
abbrev main_call66_v1 : Ref sig .tc := ⟨.hbm, 1351, rfl⟩
abbrev main_call66_v2 : Ref sig .tc := ⟨.hbm, 1352, rfl⟩
abbrev main_call66_v3 : Ref sig .tc := ⟨.hbm, 1353, rfl⟩
abbrev main_call66_v4 : Ref sig .tc := ⟨.hbm, 1354, rfl⟩
abbrev main_v437 : Ref sig .tc := ⟨.hbm, 1355, rfl⟩
abbrev main_v438 : Ref sig .tc := ⟨.hbm, 1356, rfl⟩
abbrev main_c_97 : Ref sig .tc := ⟨.hbm, 1357, rfl⟩
abbrev main_v439 : Ref sig .tc := ⟨.hbm, 1358, rfl⟩
abbrev main_v440 : Ref sig .tc := ⟨.hbm, 1359, rfl⟩
abbrev main_c_98 : Ref sig .tc := ⟨.hbm, 1360, rfl⟩
abbrev main_c_99 : Ref sig .tc := ⟨.hbm, 1361, rfl⟩
abbrev main_call67_v0 : Ref sig .tc := ⟨.hbm, 1362, rfl⟩
abbrev main_call67_v1 : Ref sig .tc := ⟨.hbm, 1363, rfl⟩
abbrev main_call67_v2 : Ref sig .tc := ⟨.hbm, 1364, rfl⟩
abbrev main_call67_v3 : Ref sig .tc := ⟨.hbm, 1365, rfl⟩
abbrev main_call67_v4 : Ref sig .tc := ⟨.hbm, 1366, rfl⟩
abbrev main_v441 : Ref sig .tc := ⟨.hbm, 1367, rfl⟩
abbrev main_v442 : Ref sig .tc := ⟨.hbm, 1368, rfl⟩
abbrev main_v443 : Ref sig .tc := ⟨.hbm, 1369, rfl⟩
abbrev main_v444 : Ref sig .tc := ⟨.hbm, 1370, rfl⟩
abbrev main_c_100 : Ref sig .tc := ⟨.hbm, 1371, rfl⟩
abbrev main_v445 : Ref sig .tc := ⟨.hbm, 1372, rfl⟩
abbrev main_v446 : Ref sig .tc := ⟨.hbm, 1373, rfl⟩
abbrev main_cst_101 : Ref sig .tc := ⟨.hbm, 1374, rfl⟩
abbrev main_v447 : Ref sig .tc := ⟨.hbm, 1375, rfl⟩
abbrev main_cst_102 : Ref sig .tc := ⟨.hbm, 1376, rfl⟩
abbrev main_v448 : Ref sig .tc := ⟨.hbm, 1377, rfl⟩
abbrev main_v449 : Ref sig .tc := ⟨.hbm, 1378, rfl⟩
abbrev main_v450 : Ref sig .tc := ⟨.hbm, 1379, rfl⟩
abbrev main_v451 : Ref sig .tc := ⟨.hbm, 1380, rfl⟩
abbrev main_v452 : Ref sig .tc := ⟨.hbm, 1381, rfl⟩
abbrev main_cst_103 : Ref sig .tc := ⟨.hbm, 1382, rfl⟩
abbrev main_call68_v0 : Ref sig .tc := ⟨.hbm, 1383, rfl⟩
abbrev main_call68_v1 : Ref sig .tc := ⟨.hbm, 1384, rfl⟩
abbrev main_v453 : Ref sig .tc := ⟨.hbm, 1385, rfl⟩
abbrev main_v454 : Ref sig .tc := ⟨.hbm, 1386, rfl⟩
abbrev main_v455 : Ref sig .tc := ⟨.hbm, 1387, rfl⟩
abbrev main_v456 : Ref sig .tc := ⟨.hbm, 1388, rfl⟩
abbrev main_v457 : Ref sig .tc := ⟨.hbm, 1389, rfl⟩
abbrev main_v458 : Ref sig .tc := ⟨.hbm, 1390, rfl⟩
abbrev main_v459 : Ref sig .tc := ⟨.hbm, 1391, rfl⟩
abbrev main_v460 : Ref sig .tc := ⟨.hbm, 1392, rfl⟩
abbrev main_v461 : Ref sig .tc := ⟨.hbm, 1393, rfl⟩
abbrev main_v462 : Ref sig .tc := ⟨.hbm, 1394, rfl⟩
abbrev main_cst_104 : Ref sig .tc := ⟨.hbm, 1395, rfl⟩
abbrev main_v463 : Ref sig .tc := ⟨.hbm, 1396, rfl⟩
abbrev main_v464 : Ref sig .tc := ⟨.hbm, 1397, rfl⟩
abbrev main_v465 : Ref sig .tc := ⟨.hbm, 1398, rfl⟩
abbrev main_v466 : Ref sig .tc := ⟨.hbm, 1399, rfl⟩
abbrev main_v467 : Ref sig .tc := ⟨.hbm, 1400, rfl⟩
abbrev main_cst_105 : Ref sig .tc := ⟨.hbm, 1401, rfl⟩
abbrev main_v468 : Ref sig .tc := ⟨.hbm, 1402, rfl⟩
abbrev main_v469 : Ref sig .tc := ⟨.hbm, 1403, rfl⟩
abbrev main_v470 : Ref sig .tc := ⟨.hbm, 1404, rfl⟩
abbrev main_v471 : Ref sig .tc := ⟨.hbm, 1405, rfl⟩
abbrev main_v472 : Ref sig .tc := ⟨.hbm, 1406, rfl⟩
abbrev main_v473 : Ref sig .tc := ⟨.hbm, 1407, rfl⟩
abbrev main_v474 : Ref sig .tc := ⟨.hbm, 1408, rfl⟩
abbrev main_v475 : Ref sig .tc := ⟨.hbm, 1409, rfl⟩
abbrev main_cst_106 : Ref sig .tc := ⟨.hbm, 1410, rfl⟩
abbrev main_call69_v0 : Ref sig .tc := ⟨.hbm, 1411, rfl⟩
abbrev main_call69_v1 : Ref sig .tc := ⟨.hbm, 1412, rfl⟩
abbrev main_v476 : Ref sig .tc := ⟨.hbm, 1413, rfl⟩
abbrev main_v477 : Ref sig .tc := ⟨.hbm, 1414, rfl⟩
abbrev main_v478 : Ref sig .tc := ⟨.hbm, 1415, rfl⟩
abbrev main_v479 : Ref sig .tc := ⟨.hbm, 1416, rfl⟩
abbrev main_v480 : Ref sig .tc := ⟨.hbm, 1417, rfl⟩
abbrev main_v481 : Ref sig .tc := ⟨.hbm, 1418, rfl⟩
abbrev main_v482 : Ref sig .tc := ⟨.hbm, 1419, rfl⟩
abbrev main_v483 : Ref sig .tc := ⟨.hbm, 1420, rfl⟩
abbrev main_v484 : Ref sig .tc := ⟨.hbm, 1421, rfl⟩
abbrev main_v485 : Ref sig .tc := ⟨.hbm, 1422, rfl⟩
abbrev main_cst_107 : Ref sig .tc := ⟨.hbm, 1423, rfl⟩
abbrev main_v486 : Ref sig .tc := ⟨.hbm, 1424, rfl⟩
abbrev main_v487 : Ref sig .tc := ⟨.hbm, 1425, rfl⟩
abbrev main_v488 : Ref sig .tc := ⟨.hbm, 1426, rfl⟩
abbrev main_v489 : Ref sig .tc := ⟨.hbm, 1427, rfl⟩
abbrev main_v490 : Ref sig .tc := ⟨.hbm, 1428, rfl⟩
abbrev main_cst_108 : Ref sig .tc := ⟨.hbm, 1429, rfl⟩
abbrev main_v491 : Ref sig .tc := ⟨.hbm, 1430, rfl⟩
abbrev main_v492 : Ref sig .tc := ⟨.hbm, 1431, rfl⟩
abbrev main_v493 : Ref sig .tc := ⟨.hbm, 1432, rfl⟩
abbrev main_v494 : Ref sig .tc := ⟨.hbm, 1433, rfl⟩
abbrev main_v495 : Ref sig .tc := ⟨.hbm, 1434, rfl⟩
abbrev main_v496 : Ref sig .tc := ⟨.hbm, 1435, rfl⟩
abbrev main_v497 : Ref sig .tc := ⟨.hbm, 1436, rfl⟩
abbrev main_v498 : Ref sig .tc := ⟨.hbm, 1437, rfl⟩
abbrev main_cst_109 : Ref sig .tc := ⟨.hbm, 1438, rfl⟩
abbrev main_call70_v0 : Ref sig .tc := ⟨.hbm, 1439, rfl⟩
abbrev main_call70_v1 : Ref sig .tc := ⟨.hbm, 1440, rfl⟩
abbrev main_v499 : Ref sig .tc := ⟨.hbm, 1441, rfl⟩
abbrev main_v500 : Ref sig .tc := ⟨.hbm, 1442, rfl⟩
abbrev main_v501 : Ref sig .tc := ⟨.hbm, 1443, rfl⟩
abbrev main_v502 : Ref sig .tc := ⟨.hbm, 1444, rfl⟩
abbrev main_v503 : Ref sig .tc := ⟨.hbm, 1445, rfl⟩
abbrev main_v504 : Ref sig .tc := ⟨.hbm, 1446, rfl⟩
abbrev main_v505 : Ref sig .tc := ⟨.hbm, 1447, rfl⟩
abbrev main_v506 : Ref sig .tc := ⟨.hbm, 1448, rfl⟩
abbrev main_v507 : Ref sig .tc := ⟨.hbm, 1449, rfl⟩
abbrev main_v508 : Ref sig .tc := ⟨.hbm, 1450, rfl⟩
abbrev main_cst_110 : Ref sig .tc := ⟨.hbm, 1451, rfl⟩
abbrev main_v509 : Ref sig .tc := ⟨.hbm, 1452, rfl⟩
abbrev main_v510 : Ref sig .tc := ⟨.hbm, 1453, rfl⟩
abbrev main_v511 : Ref sig .tc := ⟨.hbm, 1454, rfl⟩
abbrev main_v512 : Ref sig .tc := ⟨.hbm, 1455, rfl⟩
abbrev main_v513 : Ref sig .tc := ⟨.hbm, 1456, rfl⟩
abbrev main_cst_111 : Ref sig .tc := ⟨.hbm, 1457, rfl⟩
abbrev main_v514 : Ref sig .tc := ⟨.hbm, 1458, rfl⟩
abbrev main_v515 : Ref sig .tc := ⟨.hbm, 1459, rfl⟩
abbrev main_v516 : Ref sig .tc := ⟨.hbm, 1460, rfl⟩
abbrev main_v517 : Ref sig .tc := ⟨.hbm, 1461, rfl⟩
abbrev main_v518 : Ref sig .tc := ⟨.hbm, 1462, rfl⟩
abbrev main_v519 : Ref sig .tc := ⟨.hbm, 1463, rfl⟩
abbrev main_v520 : Ref sig .tc := ⟨.hbm, 1464, rfl⟩
abbrev main_v521 : Ref sig .tc := ⟨.hbm, 1465, rfl⟩
abbrev main_cst_112 : Ref sig .tc := ⟨.hbm, 1466, rfl⟩
abbrev main_call71_v0 : Ref sig .tc := ⟨.hbm, 1467, rfl⟩
abbrev main_call71_v1 : Ref sig .tc := ⟨.hbm, 1468, rfl⟩
abbrev main_v522 : Ref sig .tc := ⟨.hbm, 1469, rfl⟩
abbrev main_v523 : Ref sig .tc := ⟨.hbm, 1470, rfl⟩
abbrev main_v524 : Ref sig .tc := ⟨.hbm, 1471, rfl⟩
abbrev main_v525 : Ref sig .tc := ⟨.hbm, 1472, rfl⟩
abbrev main_v526 : Ref sig .tc := ⟨.hbm, 1473, rfl⟩
abbrev main_v527 : Ref sig .tc := ⟨.hbm, 1474, rfl⟩
abbrev main_v528 : Ref sig .tc := ⟨.hbm, 1475, rfl⟩
abbrev main_v529 : Ref sig .tc := ⟨.hbm, 1476, rfl⟩
abbrev main_v530 : Ref sig .tc := ⟨.hbm, 1477, rfl⟩
abbrev main_v531 : Ref sig .tc := ⟨.hbm, 1478, rfl⟩
abbrev main_cst_113 : Ref sig .tc := ⟨.hbm, 1479, rfl⟩
abbrev main_v532 : Ref sig .tc := ⟨.hbm, 1480, rfl⟩
abbrev main_v533 : Ref sig .tc := ⟨.hbm, 1481, rfl⟩
abbrev main_v534 : Ref sig .tc := ⟨.hbm, 1482, rfl⟩
abbrev main_v535 : Ref sig .tc := ⟨.hbm, 1483, rfl⟩
abbrev main_v536 : Ref sig .tc := ⟨.hbm, 1484, rfl⟩
abbrev main_cst_114 : Ref sig .tc := ⟨.hbm, 1485, rfl⟩
abbrev main_v537 : Ref sig .tc := ⟨.hbm, 1486, rfl⟩
abbrev main_v538 : Ref sig .tc := ⟨.hbm, 1487, rfl⟩
abbrev main_v539 : Ref sig .tc := ⟨.hbm, 1488, rfl⟩
abbrev main_v540 : Ref sig .tc := ⟨.hbm, 1489, rfl⟩
abbrev main_v541 : Ref sig .tc := ⟨.hbm, 1490, rfl⟩
abbrev main_v542 : Ref sig .tc := ⟨.hbm, 1491, rfl⟩
abbrev main_v543 : Ref sig .tc := ⟨.hbm, 1492, rfl⟩
abbrev main_v544 : Ref sig .tc := ⟨.hbm, 1493, rfl⟩
abbrev main_cst_115 : Ref sig .tc := ⟨.hbm, 1494, rfl⟩
abbrev main_call72_v0 : Ref sig .tc := ⟨.hbm, 1495, rfl⟩
abbrev main_call72_v1 : Ref sig .tc := ⟨.hbm, 1496, rfl⟩
abbrev main_v545 : Ref sig .tc := ⟨.hbm, 1497, rfl⟩
abbrev main_v546 : Ref sig .tc := ⟨.hbm, 1498, rfl⟩
abbrev main_v547 : Ref sig .tc := ⟨.hbm, 1499, rfl⟩
abbrev main_v548 : Ref sig .tc := ⟨.hbm, 1500, rfl⟩
abbrev main_v549 : Ref sig .tc := ⟨.hbm, 1501, rfl⟩
abbrev main_v550 : Ref sig .tc := ⟨.hbm, 1502, rfl⟩
abbrev main_v551 : Ref sig .tc := ⟨.hbm, 1503, rfl⟩
abbrev main_v552 : Ref sig .tc := ⟨.hbm, 1504, rfl⟩
abbrev main_v553 : Ref sig .tc := ⟨.hbm, 1505, rfl⟩
abbrev main_v554 : Ref sig .tc := ⟨.hbm, 1506, rfl⟩
abbrev main_cst_116 : Ref sig .tc := ⟨.hbm, 1507, rfl⟩
abbrev main_v555 : Ref sig .tc := ⟨.hbm, 1508, rfl⟩
abbrev main_v556 : Ref sig .tc := ⟨.hbm, 1509, rfl⟩
abbrev main_v557 : Ref sig .tc := ⟨.hbm, 1510, rfl⟩
abbrev main_v558 : Ref sig .tc := ⟨.hbm, 1511, rfl⟩
abbrev main_v559 : Ref sig .tc := ⟨.hbm, 1512, rfl⟩
abbrev main_cst_117 : Ref sig .tc := ⟨.hbm, 1513, rfl⟩
abbrev main_v560 : Ref sig .tc := ⟨.hbm, 1514, rfl⟩
abbrev main_v561 : Ref sig .tc := ⟨.hbm, 1515, rfl⟩
abbrev main_v562 : Ref sig .tc := ⟨.hbm, 1516, rfl⟩
abbrev main_v563 : Ref sig .tc := ⟨.hbm, 1517, rfl⟩
abbrev main_v564 : Ref sig .tc := ⟨.hbm, 1518, rfl⟩
abbrev main_v565 : Ref sig .tc := ⟨.hbm, 1519, rfl⟩
abbrev main_v566 : Ref sig .tc := ⟨.hbm, 1520, rfl⟩
abbrev main_v567 : Ref sig .tc := ⟨.hbm, 1521, rfl⟩
abbrev main_cst_118 : Ref sig .tc := ⟨.hbm, 1522, rfl⟩
abbrev main_call73_v0 : Ref sig .tc := ⟨.hbm, 1523, rfl⟩
abbrev main_call73_v1 : Ref sig .tc := ⟨.hbm, 1524, rfl⟩
abbrev main_v568 : Ref sig .tc := ⟨.hbm, 1525, rfl⟩
abbrev main_v569 : Ref sig .tc := ⟨.hbm, 1526, rfl⟩
abbrev main_v570 : Ref sig .tc := ⟨.hbm, 1527, rfl⟩
abbrev main_v571 : Ref sig .tc := ⟨.hbm, 1528, rfl⟩
abbrev main_v572 : Ref sig .tc := ⟨.hbm, 1529, rfl⟩
abbrev main_v573 : Ref sig .tc := ⟨.hbm, 1530, rfl⟩
abbrev main_v574 : Ref sig .tc := ⟨.hbm, 1531, rfl⟩
abbrev main_v575 : Ref sig .tc := ⟨.hbm, 1532, rfl⟩
abbrev main_v576 : Ref sig .tc := ⟨.hbm, 1533, rfl⟩
abbrev main_v577 : Ref sig .tc := ⟨.hbm, 1534, rfl⟩
abbrev main_cst_119 : Ref sig .tc := ⟨.hbm, 1535, rfl⟩
abbrev main_v578 : Ref sig .tc := ⟨.hbm, 1536, rfl⟩
abbrev main_v579 : Ref sig .tc := ⟨.hbm, 1537, rfl⟩
abbrev main_v580 : Ref sig .tc := ⟨.hbm, 1538, rfl⟩
abbrev main_v581 : Ref sig .tc := ⟨.hbm, 1539, rfl⟩
abbrev main_v582 : Ref sig .tc := ⟨.hbm, 1540, rfl⟩
abbrev main_cst_120 : Ref sig .tc := ⟨.hbm, 1541, rfl⟩
abbrev main_v583 : Ref sig .tc := ⟨.hbm, 1542, rfl⟩
abbrev main_v584 : Ref sig .tc := ⟨.hbm, 1543, rfl⟩
abbrev main_v585 : Ref sig .tc := ⟨.hbm, 1544, rfl⟩
abbrev main_v586 : Ref sig .tc := ⟨.hbm, 1545, rfl⟩
abbrev main_v587 : Ref sig .tc := ⟨.hbm, 1546, rfl⟩
abbrev main_v588 : Ref sig .tc := ⟨.hbm, 1547, rfl⟩
abbrev main_v589 : Ref sig .tc := ⟨.hbm, 1548, rfl⟩
abbrev main_v590 : Ref sig .tc := ⟨.hbm, 1549, rfl⟩
abbrev main_cst_121 : Ref sig .tc := ⟨.hbm, 1550, rfl⟩
abbrev main_call74_v0 : Ref sig .tc := ⟨.hbm, 1551, rfl⟩
abbrev main_call74_v1 : Ref sig .tc := ⟨.hbm, 1552, rfl⟩
abbrev main_v591 : Ref sig .tc := ⟨.hbm, 1553, rfl⟩
abbrev main_v592 : Ref sig .tc := ⟨.hbm, 1554, rfl⟩
abbrev main_v593 : Ref sig .tc := ⟨.hbm, 1555, rfl⟩
abbrev main_v594 : Ref sig .tc := ⟨.hbm, 1556, rfl⟩
abbrev main_v595 : Ref sig .tc := ⟨.hbm, 1557, rfl⟩
abbrev main_v596 : Ref sig .tc := ⟨.hbm, 1558, rfl⟩
abbrev main_v597 : Ref sig .tc := ⟨.hbm, 1559, rfl⟩
abbrev main_v598 : Ref sig .tc := ⟨.hbm, 1560, rfl⟩
abbrev main_v599 : Ref sig .tc := ⟨.hbm, 1561, rfl⟩
abbrev main_v600 : Ref sig .tc := ⟨.hbm, 1562, rfl⟩
abbrev main_cst_122 : Ref sig .tc := ⟨.hbm, 1563, rfl⟩
abbrev main_v601 : Ref sig .tc := ⟨.hbm, 1564, rfl⟩
abbrev main_v602 : Ref sig .tc := ⟨.hbm, 1565, rfl⟩
abbrev main_v603 : Ref sig .tc := ⟨.hbm, 1566, rfl⟩
abbrev main_v604 : Ref sig .tc := ⟨.hbm, 1567, rfl⟩
abbrev main_v605 : Ref sig .tc := ⟨.hbm, 1568, rfl⟩
abbrev main_cst_123 : Ref sig .tc := ⟨.hbm, 1569, rfl⟩
abbrev main_v606 : Ref sig .tc := ⟨.hbm, 1570, rfl⟩
abbrev main_v607 : Ref sig .tc := ⟨.hbm, 1571, rfl⟩
abbrev main_v608 : Ref sig .tc := ⟨.hbm, 1572, rfl⟩
abbrev main_v609 : Ref sig .tc := ⟨.hbm, 1573, rfl⟩
abbrev main_v610 : Ref sig .tc := ⟨.hbm, 1574, rfl⟩
abbrev main_v611 : Ref sig .tc := ⟨.hbm, 1575, rfl⟩
abbrev main_v612 : Ref sig .tc := ⟨.hbm, 1576, rfl⟩
abbrev main_v613 : Ref sig .tc := ⟨.hbm, 1577, rfl⟩
abbrev main_cst_124 : Ref sig .tc := ⟨.hbm, 1578, rfl⟩
abbrev main_call75_v0 : Ref sig .tc := ⟨.hbm, 1579, rfl⟩
abbrev main_call75_v1 : Ref sig .tc := ⟨.hbm, 1580, rfl⟩
abbrev main_v614 : Ref sig .tc := ⟨.hbm, 1581, rfl⟩
abbrev main_v615 : Ref sig .tc := ⟨.hbm, 1582, rfl⟩
abbrev main_v616 : Ref sig .tc := ⟨.hbm, 1583, rfl⟩
abbrev main_v617 : Ref sig .tc := ⟨.hbm, 1584, rfl⟩
abbrev main_v618 : Ref sig .tc := ⟨.hbm, 1585, rfl⟩
abbrev main_v619 : Ref sig .tc := ⟨.hbm, 1586, rfl⟩
abbrev main_v620 : Ref sig .tc := ⟨.hbm, 1587, rfl⟩
abbrev main_v621 : Ref sig .tc := ⟨.hbm, 1588, rfl⟩
abbrev main_v622 : Ref sig .tc := ⟨.hbm, 1589, rfl⟩
abbrev main_v623 : Ref sig .tc := ⟨.hbm, 1590, rfl⟩
abbrev main_cst_125 : Ref sig .tc := ⟨.hbm, 1591, rfl⟩
abbrev main_v624 : Ref sig .tc := ⟨.hbm, 1592, rfl⟩
abbrev main_v625 : Ref sig .tc := ⟨.hbm, 1593, rfl⟩
abbrev main_v626 : Ref sig .tc := ⟨.hbm, 1594, rfl⟩
abbrev main_v627 : Ref sig .tc := ⟨.hbm, 1595, rfl⟩
abbrev main_v628 : Ref sig .tc := ⟨.hbm, 1596, rfl⟩
abbrev main_cst_126 : Ref sig .tc := ⟨.hbm, 1597, rfl⟩
abbrev main_v629 : Ref sig .tc := ⟨.hbm, 1598, rfl⟩
abbrev main_v630 : Ref sig .tc := ⟨.hbm, 1599, rfl⟩
abbrev main_v631 : Ref sig .tc := ⟨.hbm, 1600, rfl⟩
abbrev main_v632 : Ref sig .tc := ⟨.hbm, 1601, rfl⟩
abbrev main_v633 : Ref sig .tc := ⟨.hbm, 1602, rfl⟩
abbrev main_v634 : Ref sig .tc := ⟨.hbm, 1603, rfl⟩
abbrev main_v635 : Ref sig .tc := ⟨.hbm, 1604, rfl⟩
abbrev main_v636 : Ref sig .tc := ⟨.hbm, 1605, rfl⟩
abbrev main_cst_127 : Ref sig .tc := ⟨.hbm, 1606, rfl⟩
abbrev main_call76_v0 : Ref sig .tc := ⟨.hbm, 1607, rfl⟩
abbrev main_call76_v1 : Ref sig .tc := ⟨.hbm, 1608, rfl⟩
abbrev main_v637 : Ref sig .tc := ⟨.hbm, 1609, rfl⟩
abbrev main_v638 : Ref sig .tc := ⟨.hbm, 1610, rfl⟩
abbrev main_v639 : Ref sig .tc := ⟨.hbm, 1611, rfl⟩
abbrev main_v640 : Ref sig .tc := ⟨.hbm, 1612, rfl⟩
abbrev main_v641 : Ref sig .tc := ⟨.hbm, 1613, rfl⟩
abbrev main_v642 : Ref sig .tc := ⟨.hbm, 1614, rfl⟩
abbrev main_v643 : Ref sig .tc := ⟨.hbm, 1615, rfl⟩
abbrev main_v644 : Ref sig .tc := ⟨.hbm, 1616, rfl⟩
abbrev main_v645 : Ref sig .tc := ⟨.hbm, 1617, rfl⟩
abbrev main_v646 : Ref sig .tc := ⟨.hbm, 1618, rfl⟩
abbrev main_cst_128 : Ref sig .tc := ⟨.hbm, 1619, rfl⟩
abbrev main_v647 : Ref sig .tc := ⟨.hbm, 1620, rfl⟩
abbrev main_v648 : Ref sig .tc := ⟨.hbm, 1621, rfl⟩
abbrev main_v649 : Ref sig .tc := ⟨.hbm, 1622, rfl⟩
abbrev main_v650 : Ref sig .tc := ⟨.hbm, 1623, rfl⟩
abbrev main_v651 : Ref sig .tc := ⟨.hbm, 1624, rfl⟩
abbrev main_cst_129 : Ref sig .tc := ⟨.hbm, 1625, rfl⟩
abbrev main_v652 : Ref sig .tc := ⟨.hbm, 1626, rfl⟩
abbrev main_v653 : Ref sig .tc := ⟨.hbm, 1627, rfl⟩
abbrev main_v654 : Ref sig .tc := ⟨.hbm, 1628, rfl⟩
abbrev main_v655 : Ref sig .tc := ⟨.hbm, 1629, rfl⟩
abbrev main_v656 : Ref sig .tc := ⟨.hbm, 1630, rfl⟩
abbrev main_v657 : Ref sig .tc := ⟨.hbm, 1631, rfl⟩
abbrev main_v658 : Ref sig .tc := ⟨.hbm, 1632, rfl⟩
abbrev main_v659 : Ref sig .tc := ⟨.hbm, 1633, rfl⟩
abbrev main_cst_130 : Ref sig .tc := ⟨.hbm, 1634, rfl⟩
abbrev main_call77_v0 : Ref sig .tc := ⟨.hbm, 1635, rfl⟩
abbrev main_call77_v1 : Ref sig .tc := ⟨.hbm, 1636, rfl⟩
abbrev main_v660 : Ref sig .tc := ⟨.hbm, 1637, rfl⟩
abbrev main_v661 : Ref sig .tc := ⟨.hbm, 1638, rfl⟩
abbrev main_v662 : Ref sig .tc := ⟨.hbm, 1639, rfl⟩
abbrev main_v663 : Ref sig .tc := ⟨.hbm, 1640, rfl⟩
abbrev main_v664 : Ref sig .tc := ⟨.hbm, 1641, rfl⟩
abbrev main_v665 : Ref sig .tc := ⟨.hbm, 1642, rfl⟩
abbrev main_v666 : Ref sig .tc := ⟨.hbm, 1643, rfl⟩
abbrev main_v667 : Ref sig .tc := ⟨.hbm, 1644, rfl⟩
abbrev main_v668 : Ref sig .tc := ⟨.hbm, 1645, rfl⟩
abbrev main_v669 : Ref sig .tc := ⟨.hbm, 1646, rfl⟩
abbrev main_cst_131 : Ref sig .tc := ⟨.hbm, 1647, rfl⟩
abbrev main_v670 : Ref sig .tc := ⟨.hbm, 1648, rfl⟩
abbrev main_v671 : Ref sig .tc := ⟨.hbm, 1649, rfl⟩
abbrev main_v672 : Ref sig .tc := ⟨.hbm, 1650, rfl⟩
abbrev main_v673 : Ref sig .tc := ⟨.hbm, 1651, rfl⟩
abbrev main_v674 : Ref sig .tc := ⟨.hbm, 1652, rfl⟩
abbrev main_cst_132 : Ref sig .tc := ⟨.hbm, 1653, rfl⟩
abbrev main_v675 : Ref sig .tc := ⟨.hbm, 1654, rfl⟩
abbrev main_v676 : Ref sig .tc := ⟨.hbm, 1655, rfl⟩
abbrev main_v677 : Ref sig .tc := ⟨.hbm, 1656, rfl⟩
abbrev main_v678 : Ref sig .tc := ⟨.hbm, 1657, rfl⟩
abbrev main_v679 : Ref sig .tc := ⟨.hbm, 1658, rfl⟩
abbrev main_v680 : Ref sig .tc := ⟨.hbm, 1659, rfl⟩
abbrev main_v681 : Ref sig .tc := ⟨.hbm, 1660, rfl⟩
abbrev main_v682 : Ref sig .tc := ⟨.hbm, 1661, rfl⟩
abbrev main_cst_133 : Ref sig .tc := ⟨.hbm, 1662, rfl⟩
abbrev main_call78_v0 : Ref sig .tc := ⟨.hbm, 1663, rfl⟩
abbrev main_call78_v1 : Ref sig .tc := ⟨.hbm, 1664, rfl⟩
abbrev main_v683 : Ref sig .tc := ⟨.hbm, 1665, rfl⟩
abbrev main_v684 : Ref sig .tc := ⟨.hbm, 1666, rfl⟩
abbrev main_v685 : Ref sig .tc := ⟨.hbm, 1667, rfl⟩
abbrev main_v686 : Ref sig .tc := ⟨.hbm, 1668, rfl⟩
abbrev main_v687 : Ref sig .tc := ⟨.hbm, 1669, rfl⟩
abbrev main_v688 : Ref sig .tc := ⟨.hbm, 1670, rfl⟩
abbrev main_v689 : Ref sig .tc := ⟨.hbm, 1671, rfl⟩
abbrev main_v690 : Ref sig .tc := ⟨.hbm, 1672, rfl⟩
abbrev main_v691 : Ref sig .tc := ⟨.hbm, 1673, rfl⟩
abbrev main_v692 : Ref sig .tc := ⟨.hbm, 1674, rfl⟩
abbrev main_cst_134 : Ref sig .tc := ⟨.hbm, 1675, rfl⟩
abbrev main_v693 : Ref sig .tc := ⟨.hbm, 1676, rfl⟩
abbrev main_v694 : Ref sig .tc := ⟨.hbm, 1677, rfl⟩
abbrev main_v695 : Ref sig .tc := ⟨.hbm, 1678, rfl⟩
abbrev main_v696 : Ref sig .tc := ⟨.hbm, 1679, rfl⟩
abbrev main_v697 : Ref sig .tc := ⟨.hbm, 1680, rfl⟩
abbrev main_cst_135 : Ref sig .tc := ⟨.hbm, 1681, rfl⟩
abbrev main_v698 : Ref sig .tc := ⟨.hbm, 1682, rfl⟩
abbrev main_v699 : Ref sig .tc := ⟨.hbm, 1683, rfl⟩
abbrev main_v700 : Ref sig .tc := ⟨.hbm, 1684, rfl⟩
abbrev main_v701 : Ref sig .tc := ⟨.hbm, 1685, rfl⟩
abbrev main_v702 : Ref sig .tc := ⟨.hbm, 1686, rfl⟩
abbrev main_v703 : Ref sig .tc := ⟨.hbm, 1687, rfl⟩
abbrev main_v704 : Ref sig .tc := ⟨.hbm, 1688, rfl⟩
abbrev main_v705 : Ref sig .tc := ⟨.hbm, 1689, rfl⟩
abbrev main_cst_136 : Ref sig .tc := ⟨.hbm, 1690, rfl⟩
abbrev main_call79_v0 : Ref sig .tc := ⟨.hbm, 1691, rfl⟩
abbrev main_call79_v1 : Ref sig .tc := ⟨.hbm, 1692, rfl⟩
abbrev main_v706 : Ref sig .tc := ⟨.hbm, 1693, rfl⟩
abbrev main_v707 : Ref sig .tc := ⟨.hbm, 1694, rfl⟩
abbrev main_v708 : Ref sig .tc := ⟨.hbm, 1695, rfl⟩
abbrev main_v709 : Ref sig .tc := ⟨.hbm, 1696, rfl⟩
abbrev main_v710 : Ref sig .tc := ⟨.hbm, 1697, rfl⟩
abbrev main_v711 : Ref sig .tc := ⟨.hbm, 1698, rfl⟩
abbrev main_v712 : Ref sig .tc := ⟨.hbm, 1699, rfl⟩
abbrev main_v713 : Ref sig .tc := ⟨.hbm, 1700, rfl⟩
abbrev main_v714 : Ref sig .tc := ⟨.hbm, 1701, rfl⟩
abbrev main_v715 : Ref sig .tc := ⟨.hbm, 1702, rfl⟩
abbrev main_cst_137 : Ref sig .tc := ⟨.hbm, 1703, rfl⟩
abbrev main_v716 : Ref sig .tc := ⟨.hbm, 1704, rfl⟩
abbrev main_v717 : Ref sig .tc := ⟨.hbm, 1705, rfl⟩
abbrev main_v718 : Ref sig .tc := ⟨.hbm, 1706, rfl⟩
abbrev main_v719 : Ref sig .tc := ⟨.hbm, 1707, rfl⟩
abbrev main_v720 : Ref sig .tc := ⟨.hbm, 1708, rfl⟩
abbrev main_cst_138 : Ref sig .tc := ⟨.hbm, 1709, rfl⟩
abbrev main_v721 : Ref sig .tc := ⟨.hbm, 1710, rfl⟩
abbrev main_v722 : Ref sig .tc := ⟨.hbm, 1711, rfl⟩
abbrev main_v723 : Ref sig .tc := ⟨.hbm, 1712, rfl⟩
abbrev main_v724 : Ref sig .tc := ⟨.hbm, 1713, rfl⟩
abbrev main_v725 : Ref sig .tc := ⟨.hbm, 1714, rfl⟩
abbrev main_v726 : Ref sig .tc := ⟨.hbm, 1715, rfl⟩
abbrev main_v727 : Ref sig .tc := ⟨.hbm, 1716, rfl⟩
abbrev main_v728 : Ref sig .tc := ⟨.hbm, 1717, rfl⟩
abbrev main_cst_139 : Ref sig .tc := ⟨.hbm, 1718, rfl⟩
abbrev main_call80_v0 : Ref sig .tc := ⟨.hbm, 1719, rfl⟩
abbrev main_call80_v1 : Ref sig .tc := ⟨.hbm, 1720, rfl⟩
abbrev main_v729 : Ref sig .tc := ⟨.hbm, 1721, rfl⟩
abbrev main_v730 : Ref sig .tc := ⟨.hbm, 1722, rfl⟩
abbrev main_v731 : Ref sig .tc := ⟨.hbm, 1723, rfl⟩
abbrev main_v732 : Ref sig .tc := ⟨.hbm, 1724, rfl⟩
abbrev main_v733 : Ref sig .tc := ⟨.hbm, 1725, rfl⟩
abbrev main_v734 : Ref sig .tc := ⟨.hbm, 1726, rfl⟩
abbrev main_v735 : Ref sig .tc := ⟨.hbm, 1727, rfl⟩
abbrev main_v736 : Ref sig .tc := ⟨.hbm, 1728, rfl⟩
abbrev main_v737 : Ref sig .tc := ⟨.hbm, 1729, rfl⟩
abbrev main_v738 : Ref sig .tc := ⟨.hbm, 1730, rfl⟩
abbrev main_cst_140 : Ref sig .tc := ⟨.hbm, 1731, rfl⟩
abbrev main_v739 : Ref sig .tc := ⟨.hbm, 1732, rfl⟩
abbrev main_v740 : Ref sig .tc := ⟨.hbm, 1733, rfl⟩
abbrev main_v741 : Ref sig .tc := ⟨.hbm, 1734, rfl⟩
abbrev main_v742 : Ref sig .tc := ⟨.hbm, 1735, rfl⟩
abbrev main_v743 : Ref sig .tc := ⟨.hbm, 1736, rfl⟩
abbrev main_cst_141 : Ref sig .tc := ⟨.hbm, 1737, rfl⟩
abbrev main_v744 : Ref sig .tc := ⟨.hbm, 1738, rfl⟩
abbrev main_v745 : Ref sig .tc := ⟨.hbm, 1739, rfl⟩
abbrev main_v746 : Ref sig .tc := ⟨.hbm, 1740, rfl⟩
abbrev main_v747 : Ref sig .tc := ⟨.hbm, 1741, rfl⟩
abbrev main_v748 : Ref sig .tc := ⟨.hbm, 1742, rfl⟩
abbrev main_v749 : Ref sig .tc := ⟨.hbm, 1743, rfl⟩
abbrev main_v750 : Ref sig .tc := ⟨.hbm, 1744, rfl⟩
abbrev main_v751 : Ref sig .tc := ⟨.hbm, 1745, rfl⟩
abbrev main_cst_142 : Ref sig .tc := ⟨.hbm, 1746, rfl⟩
abbrev main_call81_v0 : Ref sig .tc := ⟨.hbm, 1747, rfl⟩
abbrev main_call81_v1 : Ref sig .tc := ⟨.hbm, 1748, rfl⟩
abbrev main_v752 : Ref sig .tc := ⟨.hbm, 1749, rfl⟩
abbrev main_v753 : Ref sig .tc := ⟨.hbm, 1750, rfl⟩
abbrev main_v754 : Ref sig .tc := ⟨.hbm, 1751, rfl⟩
abbrev main_v755 : Ref sig .tc := ⟨.hbm, 1752, rfl⟩
abbrev main_v756 : Ref sig .tc := ⟨.hbm, 1753, rfl⟩
abbrev main_v757 : Ref sig .tc := ⟨.hbm, 1754, rfl⟩
abbrev main_v758 : Ref sig .tc := ⟨.hbm, 1755, rfl⟩
abbrev main_v759 : Ref sig .tc := ⟨.hbm, 1756, rfl⟩
abbrev main_v760 : Ref sig .tc := ⟨.hbm, 1757, rfl⟩
abbrev main_v761 : Ref sig .tc := ⟨.hbm, 1758, rfl⟩
abbrev main_cst_143 : Ref sig .tc := ⟨.hbm, 1759, rfl⟩
abbrev main_v762 : Ref sig .tc := ⟨.hbm, 1760, rfl⟩
abbrev main_v763 : Ref sig .tc := ⟨.hbm, 1761, rfl⟩
abbrev main_v764 : Ref sig .tc := ⟨.hbm, 1762, rfl⟩
abbrev main_v765 : Ref sig .tc := ⟨.hbm, 1763, rfl⟩
abbrev main_v766 : Ref sig .tc := ⟨.hbm, 1764, rfl⟩
abbrev main_cst_144 : Ref sig .tc := ⟨.hbm, 1765, rfl⟩
abbrev main_v767 : Ref sig .tc := ⟨.hbm, 1766, rfl⟩
abbrev main_v768 : Ref sig .tc := ⟨.hbm, 1767, rfl⟩
abbrev main_v769 : Ref sig .tc := ⟨.hbm, 1768, rfl⟩
abbrev main_v770 : Ref sig .tc := ⟨.hbm, 1769, rfl⟩
abbrev main_v771 : Ref sig .tc := ⟨.hbm, 1770, rfl⟩
abbrev main_v772 : Ref sig .tc := ⟨.hbm, 1771, rfl⟩
abbrev main_v773 : Ref sig .tc := ⟨.hbm, 1772, rfl⟩
abbrev main_v774 : Ref sig .tc := ⟨.hbm, 1773, rfl⟩
abbrev main_cst_145 : Ref sig .tc := ⟨.hbm, 1774, rfl⟩
abbrev main_call82_v0 : Ref sig .tc := ⟨.hbm, 1775, rfl⟩
abbrev main_call82_v1 : Ref sig .tc := ⟨.hbm, 1776, rfl⟩
abbrev main_v775 : Ref sig .tc := ⟨.hbm, 1777, rfl⟩
abbrev main_v776 : Ref sig .tc := ⟨.hbm, 1778, rfl⟩
abbrev main_v777 : Ref sig .tc := ⟨.hbm, 1779, rfl⟩
abbrev main_v778 : Ref sig .tc := ⟨.hbm, 1780, rfl⟩
abbrev main_v779 : Ref sig .tc := ⟨.hbm, 1781, rfl⟩
abbrev main_v780 : Ref sig .tc := ⟨.hbm, 1782, rfl⟩
abbrev main_v781 : Ref sig .tc := ⟨.hbm, 1783, rfl⟩
abbrev main_v782 : Ref sig .tc := ⟨.hbm, 1784, rfl⟩
abbrev main_v783 : Ref sig .tc := ⟨.hbm, 1785, rfl⟩
abbrev main_v784 : Ref sig .tc := ⟨.hbm, 1786, rfl⟩
abbrev main_cst_146 : Ref sig .tc := ⟨.hbm, 1787, rfl⟩
abbrev main_v785 : Ref sig .tc := ⟨.hbm, 1788, rfl⟩
abbrev main_v786 : Ref sig .tc := ⟨.hbm, 1789, rfl⟩
abbrev main_v787 : Ref sig .tc := ⟨.hbm, 1790, rfl⟩
abbrev main_v788 : Ref sig .tc := ⟨.hbm, 1791, rfl⟩
abbrev main_v789 : Ref sig .tc := ⟨.hbm, 1792, rfl⟩
abbrev main_cst_147 : Ref sig .tc := ⟨.hbm, 1793, rfl⟩
abbrev main_v790 : Ref sig .tc := ⟨.hbm, 1794, rfl⟩
abbrev main_v791 : Ref sig .tc := ⟨.hbm, 1795, rfl⟩
abbrev main_v792 : Ref sig .tc := ⟨.hbm, 1796, rfl⟩
abbrev main_v793 : Ref sig .tc := ⟨.hbm, 1797, rfl⟩
abbrev main_v794 : Ref sig .tc := ⟨.hbm, 1798, rfl⟩
abbrev main_v795 : Ref sig .tc := ⟨.hbm, 1799, rfl⟩
abbrev main_v796 : Ref sig .tc := ⟨.hbm, 1800, rfl⟩
abbrev main_v797 : Ref sig .tc := ⟨.hbm, 1801, rfl⟩
abbrev main_cst_148 : Ref sig .tc := ⟨.hbm, 1802, rfl⟩
abbrev main_call83_v0 : Ref sig .tc := ⟨.hbm, 1803, rfl⟩
abbrev main_call83_v1 : Ref sig .tc := ⟨.hbm, 1804, rfl⟩
abbrev main_v798 : Ref sig .tc := ⟨.hbm, 1805, rfl⟩
abbrev main_v799 : Ref sig .tc := ⟨.hbm, 1806, rfl⟩
abbrev main_v800 : Ref sig .tc := ⟨.hbm, 1807, rfl⟩
abbrev main_v801 : Ref sig .tc := ⟨.hbm, 1808, rfl⟩
abbrev main_v802 : Ref sig .tc := ⟨.hbm, 1809, rfl⟩
abbrev main_v803 : Ref sig .tc := ⟨.hbm, 1810, rfl⟩
abbrev main_v804 : Ref sig .tc := ⟨.hbm, 1811, rfl⟩
abbrev main_v805 : Ref sig .tc := ⟨.hbm, 1812, rfl⟩
abbrev main_v806 : Ref sig .tc := ⟨.hbm, 1813, rfl⟩
abbrev main_v807 : Ref sig .tc := ⟨.hbm, 1814, rfl⟩
abbrev main_cst_149 : Ref sig .tc := ⟨.hbm, 1815, rfl⟩
abbrev main_v808 : Ref sig .tc := ⟨.hbm, 1816, rfl⟩
abbrev main_v809 : Ref sig .tc := ⟨.hbm, 1817, rfl⟩
abbrev main_v810 : Ref sig .tc := ⟨.hbm, 1818, rfl⟩
abbrev main_v811 : Ref sig .tc := ⟨.hbm, 1819, rfl⟩
abbrev main_v812 : Ref sig .tc := ⟨.hbm, 1820, rfl⟩
abbrev main_cst_150 : Ref sig .tc := ⟨.hbm, 1821, rfl⟩
abbrev main_v813 : Ref sig .tc := ⟨.hbm, 1822, rfl⟩
abbrev main_v814 : Ref sig .tc := ⟨.hbm, 1823, rfl⟩
abbrev main_v815 : Ref sig .tc := ⟨.hbm, 1824, rfl⟩
abbrev main_v816 : Ref sig .tc := ⟨.hbm, 1825, rfl⟩
abbrev main_v817 : Ref sig .tc := ⟨.hbm, 1826, rfl⟩
abbrev main_v818 : Ref sig .tc := ⟨.hbm, 1827, rfl⟩
abbrev main_v819 : Ref sig .tc := ⟨.hbm, 1828, rfl⟩
abbrev main_v820 : Ref sig .tc := ⟨.hbm, 1829, rfl⟩
abbrev main_cst_151 : Ref sig .tc := ⟨.hbm, 1830, rfl⟩
abbrev main_call84_v0 : Ref sig .tc := ⟨.hbm, 1831, rfl⟩
abbrev main_call84_v1 : Ref sig .tc := ⟨.hbm, 1832, rfl⟩
abbrev main_v821 : Ref sig .tc := ⟨.hbm, 1833, rfl⟩
abbrev main_v822 : Ref sig .tc := ⟨.hbm, 1834, rfl⟩
abbrev main_v823 : Ref sig .tc := ⟨.hbm, 1835, rfl⟩
abbrev main_v824 : Ref sig .tc := ⟨.hbm, 1836, rfl⟩
abbrev main_v825 : Ref sig .tc := ⟨.hbm, 1837, rfl⟩
abbrev main_v826 : Ref sig .tc := ⟨.hbm, 1838, rfl⟩
abbrev main_v827 : Ref sig .tc := ⟨.hbm, 1839, rfl⟩
abbrev main_v828 : Ref sig .tc := ⟨.hbm, 1840, rfl⟩
abbrev main_v829 : Ref sig .tc := ⟨.hbm, 1841, rfl⟩
abbrev main_v830 : Ref sig .tc := ⟨.hbm, 1842, rfl⟩
abbrev main_cst_152 : Ref sig .tc := ⟨.hbm, 1843, rfl⟩
abbrev main_v831 : Ref sig .tc := ⟨.hbm, 1844, rfl⟩
abbrev main_v832 : Ref sig .tc := ⟨.hbm, 1845, rfl⟩
abbrev main_v833 : Ref sig .tc := ⟨.hbm, 1846, rfl⟩
abbrev main_v834 : Ref sig .tc := ⟨.hbm, 1847, rfl⟩
abbrev main_v835 : Ref sig .tc := ⟨.hbm, 1848, rfl⟩
abbrev main_cst_153 : Ref sig .tc := ⟨.hbm, 1849, rfl⟩
abbrev main_v836 : Ref sig .tc := ⟨.hbm, 1850, rfl⟩
abbrev main_v837 : Ref sig .tc := ⟨.hbm, 1851, rfl⟩
abbrev main_v838 : Ref sig .tc := ⟨.hbm, 1852, rfl⟩
abbrev main_v839 : Ref sig .tc := ⟨.hbm, 1853, rfl⟩
abbrev main_v840 : Ref sig .tc := ⟨.hbm, 1854, rfl⟩
abbrev main_v841 : Ref sig .tc := ⟨.hbm, 1855, rfl⟩
abbrev main_v842 : Ref sig .tc := ⟨.hbm, 1856, rfl⟩
abbrev main_v843 : Ref sig .tc := ⟨.hbm, 1857, rfl⟩
abbrev main_cst_154 : Ref sig .tc := ⟨.hbm, 1858, rfl⟩
abbrev main_call85_v0 : Ref sig .tc := ⟨.hbm, 1859, rfl⟩
abbrev main_call85_v1 : Ref sig .tc := ⟨.hbm, 1860, rfl⟩
abbrev main_v844 : Ref sig .tc := ⟨.hbm, 1861, rfl⟩
abbrev main_v845 : Ref sig .tc := ⟨.hbm, 1862, rfl⟩
abbrev main_v846 : Ref sig .tc := ⟨.hbm, 1863, rfl⟩
abbrev main_v847 : Ref sig .tc := ⟨.hbm, 1864, rfl⟩
abbrev main_v848 : Ref sig .tc := ⟨.hbm, 1865, rfl⟩
abbrev main_v849 : Ref sig .tc := ⟨.hbm, 1866, rfl⟩
abbrev main_v850 : Ref sig .tc := ⟨.hbm, 1867, rfl⟩
abbrev main_v851 : Ref sig .tc := ⟨.hbm, 1868, rfl⟩
abbrev main_v852 : Ref sig .tc := ⟨.hbm, 1869, rfl⟩
abbrev main_v853 : Ref sig .tc := ⟨.hbm, 1870, rfl⟩
abbrev main_cst_155 : Ref sig .tc := ⟨.hbm, 1871, rfl⟩
abbrev main_v854 : Ref sig .tc := ⟨.hbm, 1872, rfl⟩
abbrev main_v855 : Ref sig .tc := ⟨.hbm, 1873, rfl⟩
abbrev main_v856 : Ref sig .tc := ⟨.hbm, 1874, rfl⟩
abbrev main_v857 : Ref sig .tc := ⟨.hbm, 1875, rfl⟩
abbrev main_v858 : Ref sig .tc := ⟨.hbm, 1876, rfl⟩
abbrev main_cst_156 : Ref sig .tc := ⟨.hbm, 1877, rfl⟩
abbrev main_v859 : Ref sig .tc := ⟨.hbm, 1878, rfl⟩
abbrev main_v860 : Ref sig .tc := ⟨.hbm, 1879, rfl⟩
abbrev main_v861 : Ref sig .tc := ⟨.hbm, 1880, rfl⟩
abbrev main_v862 : Ref sig .tc := ⟨.hbm, 1881, rfl⟩
abbrev main_v863 : Ref sig .tc := ⟨.hbm, 1882, rfl⟩
abbrev main_v864 : Ref sig .tc := ⟨.hbm, 1883, rfl⟩
abbrev main_v865 : Ref sig .tc := ⟨.hbm, 1884, rfl⟩
abbrev main_v866 : Ref sig .tc := ⟨.hbm, 1885, rfl⟩
abbrev main_cst_157 : Ref sig .tc := ⟨.hbm, 1886, rfl⟩
abbrev main_call86_v0 : Ref sig .tc := ⟨.hbm, 1887, rfl⟩
abbrev main_call86_v1 : Ref sig .tc := ⟨.hbm, 1888, rfl⟩
abbrev main_v867 : Ref sig .tc := ⟨.hbm, 1889, rfl⟩
abbrev main_v868 : Ref sig .tc := ⟨.hbm, 1890, rfl⟩
abbrev main_v869 : Ref sig .tc := ⟨.hbm, 1891, rfl⟩
abbrev main_v870 : Ref sig .tc := ⟨.hbm, 1892, rfl⟩
abbrev main_v871 : Ref sig .tc := ⟨.hbm, 1893, rfl⟩
abbrev main_v872 : Ref sig .tc := ⟨.hbm, 1894, rfl⟩
abbrev main_v873 : Ref sig .tc := ⟨.hbm, 1895, rfl⟩
abbrev main_v874 : Ref sig .tc := ⟨.hbm, 1896, rfl⟩
abbrev main_v875 : Ref sig .tc := ⟨.hbm, 1897, rfl⟩
abbrev main_v876 : Ref sig .tc := ⟨.hbm, 1898, rfl⟩
abbrev main_cst_158 : Ref sig .tc := ⟨.hbm, 1899, rfl⟩
abbrev main_v877 : Ref sig .tc := ⟨.hbm, 1900, rfl⟩
abbrev main_v878 : Ref sig .tc := ⟨.hbm, 1901, rfl⟩
abbrev main_v879 : Ref sig .tc := ⟨.hbm, 1902, rfl⟩
abbrev main_v880 : Ref sig .tc := ⟨.hbm, 1903, rfl⟩
abbrev main_v881 : Ref sig .tc := ⟨.hbm, 1904, rfl⟩
abbrev main_cst_159 : Ref sig .tc := ⟨.hbm, 1905, rfl⟩
abbrev main_v882 : Ref sig .tc := ⟨.hbm, 1906, rfl⟩
abbrev main_v883 : Ref sig .tc := ⟨.hbm, 1907, rfl⟩
abbrev main_v884 : Ref sig .tc := ⟨.hbm, 1908, rfl⟩
abbrev main_v885 : Ref sig .tc := ⟨.hbm, 1909, rfl⟩
abbrev main_v886 : Ref sig .tc := ⟨.hbm, 1910, rfl⟩
abbrev main_v887 : Ref sig .tc := ⟨.hbm, 1911, rfl⟩
abbrev main_v888 : Ref sig .tc := ⟨.hbm, 1912, rfl⟩
abbrev main_v889 : Ref sig .tc := ⟨.hbm, 1913, rfl⟩
abbrev main_cst_160 : Ref sig .tc := ⟨.hbm, 1914, rfl⟩
abbrev main_call87_v0 : Ref sig .tc := ⟨.hbm, 1915, rfl⟩
abbrev main_call87_v1 : Ref sig .tc := ⟨.hbm, 1916, rfl⟩
abbrev main_v890 : Ref sig .tc := ⟨.hbm, 1917, rfl⟩
abbrev main_v891 : Ref sig .tc := ⟨.hbm, 1918, rfl⟩
abbrev main_v892 : Ref sig .tc := ⟨.hbm, 1919, rfl⟩
abbrev main_v893 : Ref sig .tc := ⟨.hbm, 1920, rfl⟩
abbrev main_v894 : Ref sig .tc := ⟨.hbm, 1921, rfl⟩
abbrev main_v895 : Ref sig .tc := ⟨.hbm, 1922, rfl⟩
abbrev main_v896 : Ref sig .tc := ⟨.hbm, 1923, rfl⟩
abbrev main_v897 : Ref sig .tc := ⟨.hbm, 1924, rfl⟩
abbrev main_v898 : Ref sig .tc := ⟨.hbm, 1925, rfl⟩
abbrev main_v899 : Ref sig .tc := ⟨.hbm, 1926, rfl⟩
abbrev main_cst_161 : Ref sig .tc := ⟨.hbm, 1927, rfl⟩
abbrev main_v900 : Ref sig .tc := ⟨.hbm, 1928, rfl⟩
abbrev main_v901 : Ref sig .tc := ⟨.hbm, 1929, rfl⟩
abbrev main_v902 : Ref sig .tc := ⟨.hbm, 1930, rfl⟩
abbrev main_v903 : Ref sig .tc := ⟨.hbm, 1931, rfl⟩
abbrev main_v904 : Ref sig .tc := ⟨.hbm, 1932, rfl⟩
abbrev main_cst_162 : Ref sig .tc := ⟨.hbm, 1933, rfl⟩
abbrev main_v905 : Ref sig .tc := ⟨.hbm, 1934, rfl⟩
abbrev main_v906 : Ref sig .tc := ⟨.hbm, 1935, rfl⟩
abbrev main_v907 : Ref sig .tc := ⟨.hbm, 1936, rfl⟩
abbrev main_v908 : Ref sig .tc := ⟨.hbm, 1937, rfl⟩
abbrev main_v909 : Ref sig .tc := ⟨.hbm, 1938, rfl⟩
abbrev main_v910 : Ref sig .tc := ⟨.hbm, 1939, rfl⟩
abbrev main_v911 : Ref sig .tc := ⟨.hbm, 1940, rfl⟩
abbrev main_v912 : Ref sig .tc := ⟨.hbm, 1941, rfl⟩
abbrev main_cst_163 : Ref sig .tc := ⟨.hbm, 1942, rfl⟩
abbrev main_call88_v0 : Ref sig .tc := ⟨.hbm, 1943, rfl⟩
abbrev main_call88_v1 : Ref sig .tc := ⟨.hbm, 1944, rfl⟩
abbrev main_v913 : Ref sig .tc := ⟨.hbm, 1945, rfl⟩
abbrev main_v914 : Ref sig .tc := ⟨.hbm, 1946, rfl⟩
abbrev main_v915 : Ref sig .tc := ⟨.hbm, 1947, rfl⟩
abbrev main_v916 : Ref sig .tc := ⟨.hbm, 1948, rfl⟩
abbrev main_v917 : Ref sig .tc := ⟨.hbm, 1949, rfl⟩
abbrev main_v918 : Ref sig .tc := ⟨.hbm, 1950, rfl⟩
abbrev main_v919 : Ref sig .tc := ⟨.hbm, 1951, rfl⟩
abbrev main_v920 : Ref sig .tc := ⟨.hbm, 1952, rfl⟩
abbrev main_v921 : Ref sig .tc := ⟨.hbm, 1953, rfl⟩
abbrev main_v922 : Ref sig .tc := ⟨.hbm, 1954, rfl⟩
abbrev main_cst_164 : Ref sig .tc := ⟨.hbm, 1955, rfl⟩
abbrev main_v923 : Ref sig .tc := ⟨.hbm, 1956, rfl⟩
abbrev main_v924 : Ref sig .tc := ⟨.hbm, 1957, rfl⟩
abbrev main_v925 : Ref sig .tc := ⟨.hbm, 1958, rfl⟩
abbrev main_v926 : Ref sig .tc := ⟨.hbm, 1959, rfl⟩
abbrev main_v927 : Ref sig .tc := ⟨.hbm, 1960, rfl⟩
abbrev main_cst_165 : Ref sig .tc := ⟨.hbm, 1961, rfl⟩
abbrev main_v928 : Ref sig .tc := ⟨.hbm, 1962, rfl⟩
abbrev main_v929 : Ref sig .tc := ⟨.hbm, 1963, rfl⟩
abbrev main_v930 : Ref sig .tc := ⟨.hbm, 1964, rfl⟩
abbrev main_v931 : Ref sig .tc := ⟨.hbm, 1965, rfl⟩
abbrev main_v932 : Ref sig .tc := ⟨.hbm, 1966, rfl⟩
abbrev main_v933 : Ref sig .tc := ⟨.hbm, 1967, rfl⟩
abbrev main_v934 : Ref sig .tc := ⟨.hbm, 1968, rfl⟩
abbrev main_v935 : Ref sig .tc := ⟨.hbm, 1969, rfl⟩
abbrev main_cst_166 : Ref sig .tc := ⟨.hbm, 1970, rfl⟩
abbrev main_call89_v0 : Ref sig .tc := ⟨.hbm, 1971, rfl⟩
abbrev main_call89_v1 : Ref sig .tc := ⟨.hbm, 1972, rfl⟩
abbrev main_v936 : Ref sig .tc := ⟨.hbm, 1973, rfl⟩
abbrev main_v937 : Ref sig .tc := ⟨.hbm, 1974, rfl⟩
abbrev main_v938 : Ref sig .tc := ⟨.hbm, 1975, rfl⟩
abbrev main_v939 : Ref sig .tc := ⟨.hbm, 1976, rfl⟩
abbrev main_v940 : Ref sig .tc := ⟨.hbm, 1977, rfl⟩
abbrev main_v941 : Ref sig .tc := ⟨.hbm, 1978, rfl⟩
abbrev main_v942 : Ref sig .tc := ⟨.hbm, 1979, rfl⟩
abbrev main_v943 : Ref sig .tc := ⟨.hbm, 1980, rfl⟩
abbrev main_v944 : Ref sig .tc := ⟨.hbm, 1981, rfl⟩
abbrev main_v945 : Ref sig .tc := ⟨.hbm, 1982, rfl⟩
abbrev main_cst_167 : Ref sig .tc := ⟨.hbm, 1983, rfl⟩
abbrev main_v946 : Ref sig .tc := ⟨.hbm, 1984, rfl⟩
abbrev main_v947 : Ref sig .tc := ⟨.hbm, 1985, rfl⟩
abbrev main_v948 : Ref sig .tc := ⟨.hbm, 1986, rfl⟩
abbrev main_v949 : Ref sig .tc := ⟨.hbm, 1987, rfl⟩
abbrev main_v950 : Ref sig .tc := ⟨.hbm, 1988, rfl⟩
abbrev main_cst_168 : Ref sig .tc := ⟨.hbm, 1989, rfl⟩
abbrev main_v951 : Ref sig .tc := ⟨.hbm, 1990, rfl⟩
abbrev main_v952 : Ref sig .tc := ⟨.hbm, 1991, rfl⟩
abbrev main_v953 : Ref sig .tc := ⟨.hbm, 1992, rfl⟩
abbrev main_v954 : Ref sig .tc := ⟨.hbm, 1993, rfl⟩
abbrev main_v955 : Ref sig .tc := ⟨.hbm, 1994, rfl⟩
abbrev main_v956 : Ref sig .tc := ⟨.hbm, 1995, rfl⟩
abbrev main_v957 : Ref sig .tc := ⟨.hbm, 1996, rfl⟩
abbrev main_v958 : Ref sig .tc := ⟨.hbm, 1997, rfl⟩
abbrev main_cst_169 : Ref sig .tc := ⟨.hbm, 1998, rfl⟩
abbrev main_call90_v0 : Ref sig .tc := ⟨.hbm, 1999, rfl⟩
abbrev main_call90_v1 : Ref sig .tc := ⟨.hbm, 2000, rfl⟩
abbrev main_v959 : Ref sig .tc := ⟨.hbm, 2001, rfl⟩
abbrev main_v960 : Ref sig .tc := ⟨.hbm, 2002, rfl⟩
abbrev main_v961 : Ref sig .tc := ⟨.hbm, 2003, rfl⟩
abbrev main_v962 : Ref sig .tc := ⟨.hbm, 2004, rfl⟩
abbrev main_v963 : Ref sig .tc := ⟨.hbm, 2005, rfl⟩
abbrev main_v964 : Ref sig .tc := ⟨.hbm, 2006, rfl⟩
abbrev main_v965 : Ref sig .tc := ⟨.hbm, 2007, rfl⟩
abbrev main_v966 : Ref sig .tc := ⟨.hbm, 2008, rfl⟩
abbrev main_v967 : Ref sig .tc := ⟨.hbm, 2009, rfl⟩
abbrev main_v968 : Ref sig .tc := ⟨.hbm, 2010, rfl⟩
abbrev main_cst_170 : Ref sig .tc := ⟨.hbm, 2011, rfl⟩
abbrev main_v969 : Ref sig .tc := ⟨.hbm, 2012, rfl⟩
abbrev main_v970 : Ref sig .tc := ⟨.hbm, 2013, rfl⟩
abbrev main_v971 : Ref sig .tc := ⟨.hbm, 2014, rfl⟩
abbrev main_v972 : Ref sig .tc := ⟨.hbm, 2015, rfl⟩
abbrev main_v973 : Ref sig .tc := ⟨.hbm, 2016, rfl⟩
abbrev main_cst_171 : Ref sig .tc := ⟨.hbm, 2017, rfl⟩
abbrev main_v974 : Ref sig .tc := ⟨.hbm, 2018, rfl⟩
abbrev main_v975 : Ref sig .tc := ⟨.hbm, 2019, rfl⟩
abbrev main_v976 : Ref sig .tc := ⟨.hbm, 2020, rfl⟩
abbrev main_v977 : Ref sig .tc := ⟨.hbm, 2021, rfl⟩
abbrev main_v978 : Ref sig .tc := ⟨.hbm, 2022, rfl⟩
abbrev main_v979 : Ref sig .tc := ⟨.hbm, 2023, rfl⟩
abbrev main_v980 : Ref sig .tc := ⟨.hbm, 2024, rfl⟩
abbrev main_v981 : Ref sig .tc := ⟨.hbm, 2025, rfl⟩
abbrev main_cst_172 : Ref sig .tc := ⟨.hbm, 2026, rfl⟩
abbrev main_call91_v0 : Ref sig .tc := ⟨.hbm, 2027, rfl⟩
abbrev main_call91_v1 : Ref sig .tc := ⟨.hbm, 2028, rfl⟩
abbrev main_v982 : Ref sig .tc := ⟨.hbm, 2029, rfl⟩
abbrev main_v983 : Ref sig .tc := ⟨.hbm, 2030, rfl⟩
abbrev main_v984 : Ref sig .tc := ⟨.hbm, 2031, rfl⟩
abbrev main_v985 : Ref sig .tc := ⟨.hbm, 2032, rfl⟩
abbrev main_v986 : Ref sig .tc := ⟨.hbm, 2033, rfl⟩
abbrev main_v987 : Ref sig .tc := ⟨.hbm, 2034, rfl⟩
abbrev main_v988 : Ref sig .tc := ⟨.hbm, 2035, rfl⟩
abbrev main_v989 : Ref sig .tc := ⟨.hbm, 2036, rfl⟩
abbrev main_v990 : Ref sig .tc := ⟨.hbm, 2037, rfl⟩
abbrev main_v991 : Ref sig .tc := ⟨.hbm, 2038, rfl⟩
abbrev main_cst_173 : Ref sig .tc := ⟨.hbm, 2039, rfl⟩
abbrev main_v992 : Ref sig .tc := ⟨.hbm, 2040, rfl⟩
abbrev main_v993 : Ref sig .tc := ⟨.hbm, 2041, rfl⟩
abbrev main_v994 : Ref sig .tc := ⟨.hbm, 2042, rfl⟩
abbrev main_v995 : Ref sig .tc := ⟨.hbm, 2043, rfl⟩
abbrev main_v996 : Ref sig .tc := ⟨.hbm, 2044, rfl⟩
abbrev main_cst_174 : Ref sig .tc := ⟨.hbm, 2045, rfl⟩
abbrev main_v997 : Ref sig .tc := ⟨.hbm, 2046, rfl⟩
abbrev main_v998 : Ref sig .tc := ⟨.hbm, 2047, rfl⟩
abbrev main_v999 : Ref sig .tc := ⟨.hbm, 2048, rfl⟩
abbrev main_v1000 : Ref sig .tc := ⟨.hbm, 2049, rfl⟩
abbrev main_v1001 : Ref sig .tc := ⟨.hbm, 2050, rfl⟩
abbrev main_v1002 : Ref sig .tc := ⟨.hbm, 2051, rfl⟩
abbrev main_v1003 : Ref sig .tc := ⟨.hbm, 2052, rfl⟩
abbrev main_v1004 : Ref sig .tc := ⟨.hbm, 2053, rfl⟩
abbrev main_cst_175 : Ref sig .tc := ⟨.hbm, 2054, rfl⟩
abbrev main_call92_v0 : Ref sig .tc := ⟨.hbm, 2055, rfl⟩
abbrev main_call92_v1 : Ref sig .tc := ⟨.hbm, 2056, rfl⟩
abbrev main_v1005 : Ref sig .tc := ⟨.hbm, 2057, rfl⟩
abbrev main_v1006 : Ref sig .tc := ⟨.hbm, 2058, rfl⟩
abbrev main_v1007 : Ref sig .tc := ⟨.hbm, 2059, rfl⟩
abbrev main_v1008 : Ref sig .tc := ⟨.hbm, 2060, rfl⟩
abbrev main_v1009 : Ref sig .tc := ⟨.hbm, 2061, rfl⟩
abbrev main_v1010 : Ref sig .tc := ⟨.hbm, 2062, rfl⟩
abbrev main_v1011 : Ref sig .tc := ⟨.hbm, 2063, rfl⟩
abbrev main_v1012 : Ref sig .tc := ⟨.hbm, 2064, rfl⟩
abbrev main_v1013 : Ref sig .tc := ⟨.hbm, 2065, rfl⟩
abbrev main_v1014 : Ref sig .tc := ⟨.hbm, 2066, rfl⟩
abbrev main_cst_176 : Ref sig .tc := ⟨.hbm, 2067, rfl⟩
abbrev main_v1015 : Ref sig .tc := ⟨.hbm, 2068, rfl⟩
abbrev main_v1016 : Ref sig .tc := ⟨.hbm, 2069, rfl⟩
abbrev main_v1017 : Ref sig .tc := ⟨.hbm, 2070, rfl⟩
abbrev main_v1018 : Ref sig .tc := ⟨.hbm, 2071, rfl⟩
abbrev main_v1019 : Ref sig .tc := ⟨.hbm, 2072, rfl⟩
abbrev main_cst_177 : Ref sig .tc := ⟨.hbm, 2073, rfl⟩
abbrev main_v1020 : Ref sig .tc := ⟨.hbm, 2074, rfl⟩
abbrev main_v1021 : Ref sig .tc := ⟨.hbm, 2075, rfl⟩
abbrev main_v1022 : Ref sig .tc := ⟨.hbm, 2076, rfl⟩
abbrev main_v1023 : Ref sig .tc := ⟨.hbm, 2077, rfl⟩
abbrev main_v1024 : Ref sig .tc := ⟨.hbm, 2078, rfl⟩
abbrev main_v1025 : Ref sig .tc := ⟨.hbm, 2079, rfl⟩
abbrev main_v1026 : Ref sig .tc := ⟨.hbm, 2080, rfl⟩
abbrev main_v1027 : Ref sig .tc := ⟨.hbm, 2081, rfl⟩
abbrev main_cst_178 : Ref sig .tc := ⟨.hbm, 2082, rfl⟩
abbrev main_call93_v0 : Ref sig .tc := ⟨.hbm, 2083, rfl⟩
abbrev main_call93_v1 : Ref sig .tc := ⟨.hbm, 2084, rfl⟩
abbrev main_v1028 : Ref sig .tc := ⟨.hbm, 2085, rfl⟩
abbrev main_v1029 : Ref sig .tc := ⟨.hbm, 2086, rfl⟩
abbrev main_v1030 : Ref sig .tc := ⟨.hbm, 2087, rfl⟩
abbrev main_v1031 : Ref sig .tc := ⟨.hbm, 2088, rfl⟩
abbrev main_v1032 : Ref sig .tc := ⟨.hbm, 2089, rfl⟩
abbrev main_v1033 : Ref sig .tc := ⟨.hbm, 2090, rfl⟩
abbrev main_v1034 : Ref sig .tc := ⟨.hbm, 2091, rfl⟩
abbrev main_v1035 : Ref sig .tc := ⟨.hbm, 2092, rfl⟩
abbrev main_v1036 : Ref sig .tc := ⟨.hbm, 2093, rfl⟩
abbrev main_v1037 : Ref sig .tc := ⟨.hbm, 2094, rfl⟩
abbrev main_cst_179 : Ref sig .tc := ⟨.hbm, 2095, rfl⟩
abbrev main_v1038 : Ref sig .tc := ⟨.hbm, 2096, rfl⟩
abbrev main_v1039 : Ref sig .tc := ⟨.hbm, 2097, rfl⟩
abbrev main_v1040 : Ref sig .tc := ⟨.hbm, 2098, rfl⟩
abbrev main_v1041 : Ref sig .tc := ⟨.hbm, 2099, rfl⟩
abbrev main_v1042 : Ref sig .tc := ⟨.hbm, 2100, rfl⟩
abbrev main_cst_180 : Ref sig .tc := ⟨.hbm, 2101, rfl⟩
abbrev main_v1043 : Ref sig .tc := ⟨.hbm, 2102, rfl⟩
abbrev main_v1044 : Ref sig .tc := ⟨.hbm, 2103, rfl⟩
abbrev main_v1045 : Ref sig .tc := ⟨.hbm, 2104, rfl⟩
abbrev main_v1046 : Ref sig .tc := ⟨.hbm, 2105, rfl⟩
abbrev main_v1047 : Ref sig .tc := ⟨.hbm, 2106, rfl⟩
abbrev main_v1048 : Ref sig .tc := ⟨.hbm, 2107, rfl⟩
abbrev main_v1049 : Ref sig .tc := ⟨.hbm, 2108, rfl⟩
abbrev main_v1050 : Ref sig .tc := ⟨.hbm, 2109, rfl⟩
abbrev main_cst_181 : Ref sig .tc := ⟨.hbm, 2110, rfl⟩
abbrev main_call94_v0 : Ref sig .tc := ⟨.hbm, 2111, rfl⟩
abbrev main_call94_v1 : Ref sig .tc := ⟨.hbm, 2112, rfl⟩
abbrev main_v1051 : Ref sig .tc := ⟨.hbm, 2113, rfl⟩
abbrev main_v1052 : Ref sig .tc := ⟨.hbm, 2114, rfl⟩
abbrev main_v1053 : Ref sig .tc := ⟨.hbm, 2115, rfl⟩
abbrev main_v1054 : Ref sig .tc := ⟨.hbm, 2116, rfl⟩
abbrev main_v1055 : Ref sig .tc := ⟨.hbm, 2117, rfl⟩
abbrev main_v1056 : Ref sig .tc := ⟨.hbm, 2118, rfl⟩
abbrev main_v1057 : Ref sig .tc := ⟨.hbm, 2119, rfl⟩
abbrev main_v1058 : Ref sig .tc := ⟨.hbm, 2120, rfl⟩
abbrev main_v1059 : Ref sig .tc := ⟨.hbm, 2121, rfl⟩
abbrev main_v1060 : Ref sig .tc := ⟨.hbm, 2122, rfl⟩
abbrev main_cst_182 : Ref sig .tc := ⟨.hbm, 2123, rfl⟩
abbrev main_v1061 : Ref sig .tc := ⟨.hbm, 2124, rfl⟩
abbrev main_v1062 : Ref sig .tc := ⟨.hbm, 2125, rfl⟩
abbrev main_v1063 : Ref sig .tc := ⟨.hbm, 2126, rfl⟩
abbrev main_v1064 : Ref sig .tc := ⟨.hbm, 2127, rfl⟩
abbrev main_v1065 : Ref sig .tc := ⟨.hbm, 2128, rfl⟩
abbrev main_cst_183 : Ref sig .tc := ⟨.hbm, 2129, rfl⟩
abbrev main_v1066 : Ref sig .tc := ⟨.hbm, 2130, rfl⟩
abbrev main_v1067 : Ref sig .tc := ⟨.hbm, 2131, rfl⟩
abbrev main_v1068 : Ref sig .tc := ⟨.hbm, 2132, rfl⟩
abbrev main_v1069 : Ref sig .tc := ⟨.hbm, 2133, rfl⟩
abbrev main_cst_184 : Ref sig .tc := ⟨.hbm, 2134, rfl⟩
abbrev main_v1070 : Ref sig .tc := ⟨.hbm, 2135, rfl⟩
abbrev main_v1071 : Ref sig .tc := ⟨.hbm, 2136, rfl⟩
abbrev main_v1072 : Ref sig .tc := ⟨.hbm, 2137, rfl⟩
abbrev main_v1073 : Ref sig .tc := ⟨.hbm, 2138, rfl⟩
abbrev main_v1074 : Ref sig .tc := ⟨.hbm, 2139, rfl⟩
abbrev main_v1075 : Ref sig .tc := ⟨.hbm, 2140, rfl⟩
abbrev main_v1076 : Ref sig .tc := ⟨.hbm, 2141, rfl⟩
abbrev main_v1077 : Ref sig .tc := ⟨.hbm, 2142, rfl⟩
abbrev main_v1078 : Ref sig .tc := ⟨.hbm, 2143, rfl⟩
abbrev main_v1079 : Ref sig .tc := ⟨.hbm, 2144, rfl⟩
abbrev main_v1080 : Ref sig .tc := ⟨.hbm, 2145, rfl⟩
abbrev main_v1081 : Ref sig .tc := ⟨.hbm, 2146, rfl⟩
abbrev main_c_185 : Ref sig .tc := ⟨.hbm, 2147, rfl⟩
abbrev main_call95_v0 : Ref sig .tc := ⟨.hbm, 2148, rfl⟩
abbrev main_call95_v1 : Ref sig .tc := ⟨.hbm, 2149, rfl⟩
abbrev main_call95_v2 : Ref sig .tc := ⟨.hbm, 2150, rfl⟩
abbrev main_call95_v3 : Ref sig .tc := ⟨.hbm, 2151, rfl⟩
abbrev main_call95_v4 : Ref sig .tc := ⟨.hbm, 2152, rfl⟩
abbrev main_call95_v5 : Ref sig .tc := ⟨.hbm, 2153, rfl⟩
abbrev main_call95_v6 : Ref sig .tc := ⟨.hbm, 2154, rfl⟩
abbrev main_call95_v7 : Ref sig .tc := ⟨.hbm, 2155, rfl⟩
abbrev main_call95_v8 : Ref sig .tc := ⟨.hbm, 2156, rfl⟩
abbrev main_call95_c : Ref sig .tc := ⟨.hbm, 2157, rfl⟩
abbrev main_call95_v9 : Ref sig .tc := ⟨.hbm, 2158, rfl⟩
abbrev main_call95_v10 : Ref sig .tc := ⟨.hbm, 2159, rfl⟩
abbrev main_call95_v11 : Ref sig .tc := ⟨.hbm, 2160, rfl⟩
abbrev main_call95_c_0 : Ref sig .tc := ⟨.hbm, 2161, rfl⟩
abbrev main_call95_v12 : Ref sig .tc := ⟨.hbm, 2162, rfl⟩
abbrev main_call95_v13 : Ref sig .tc := ⟨.hbm, 2163, rfl⟩
abbrev main_v1082 : Ref sig .tc := ⟨.hbm, 2164, rfl⟩
abbrev main_c_186 : Ref sig .tc := ⟨.hbm, 2165, rfl⟩
abbrev main_call96_v0 : Ref sig .tc := ⟨.hbm, 2166, rfl⟩
abbrev main_call96_v1 : Ref sig .tc := ⟨.hbm, 2167, rfl⟩
abbrev main_call96_v2 : Ref sig .tc := ⟨.hbm, 2168, rfl⟩
abbrev main_call96_v3 : Ref sig .tc := ⟨.hbm, 2169, rfl⟩
abbrev main_call96_v4 : Ref sig .tc := ⟨.hbm, 2170, rfl⟩
abbrev main_call96_v5 : Ref sig .tc := ⟨.hbm, 2171, rfl⟩
abbrev main_call96_v6 : Ref sig .tc := ⟨.hbm, 2172, rfl⟩
abbrev main_call96_v7 : Ref sig .tc := ⟨.hbm, 2173, rfl⟩
abbrev main_call96_v8 : Ref sig .tc := ⟨.hbm, 2174, rfl⟩
abbrev main_call96_c : Ref sig .tc := ⟨.hbm, 2175, rfl⟩
abbrev main_call96_v9 : Ref sig .tc := ⟨.hbm, 2176, rfl⟩
abbrev main_call96_v10 : Ref sig .tc := ⟨.hbm, 2177, rfl⟩
abbrev main_call96_v11 : Ref sig .tc := ⟨.hbm, 2178, rfl⟩
abbrev main_call96_c_0 : Ref sig .tc := ⟨.hbm, 2179, rfl⟩
abbrev main_call96_v12 : Ref sig .tc := ⟨.hbm, 2180, rfl⟩
abbrev main_call96_v13 : Ref sig .tc := ⟨.hbm, 2181, rfl⟩
abbrev main_v1083 : Ref sig .tc := ⟨.hbm, 2182, rfl⟩
abbrev main_c_187 : Ref sig .tc := ⟨.hbm, 2183, rfl⟩
abbrev main_call97_v0 : Ref sig .tc := ⟨.hbm, 2184, rfl⟩
abbrev main_call97_c : Ref sig .tc := ⟨.hbm, 2185, rfl⟩
abbrev main_call97_v1 : Ref sig .tc := ⟨.hbm, 2186, rfl⟩
abbrev main_call97_c_0 : Ref sig .tc := ⟨.hbm, 2187, rfl⟩
abbrev main_call97_v2 : Ref sig .tc := ⟨.hbm, 2188, rfl⟩
abbrev main_call97_v3 : Ref sig .tc := ⟨.hbm, 2189, rfl⟩
abbrev main_call97_v4 : Ref sig .tc := ⟨.hbm, 2190, rfl⟩
abbrev main_call97_c_1 : Ref sig .tc := ⟨.hbm, 2191, rfl⟩
abbrev main_call97_v5 : Ref sig .tc := ⟨.hbm, 2192, rfl⟩
abbrev main_call97_v6 : Ref sig .tc := ⟨.hbm, 2193, rfl⟩
abbrev main_call97_c_2 : Ref sig .tc := ⟨.hbm, 2194, rfl⟩
abbrev main_call97_v7 : Ref sig .tc := ⟨.hbm, 2195, rfl⟩
abbrev main_call97_v8 : Ref sig .tc := ⟨.hbm, 2196, rfl⟩
abbrev main_call97_c_3 : Ref sig .tc := ⟨.hbm, 2197, rfl⟩
abbrev main_call97_v9 : Ref sig .tc := ⟨.hbm, 2198, rfl⟩
abbrev main_call97_v10 : Ref sig .tc := ⟨.hbm, 2199, rfl⟩
abbrev main_call97_v11 : Ref sig .tc := ⟨.hbm, 2200, rfl⟩
abbrev main_call97_v12 : Ref sig .tc := ⟨.hbm, 2201, rfl⟩
abbrev main_call97_v13 : Ref sig .tc := ⟨.hbm, 2202, rfl⟩
abbrev main_call97_v14 : Ref sig .tc := ⟨.hbm, 2203, rfl⟩
abbrev main_v1084 : Ref sig .tc := ⟨.hbm, 2204, rfl⟩
abbrev main_c_188 : Ref sig .tc := ⟨.hbm, 2205, rfl⟩
abbrev main_call98_v0 : Ref sig .tc := ⟨.hbm, 2206, rfl⟩
abbrev main_call98_c : Ref sig .tc := ⟨.hbm, 2207, rfl⟩
abbrev main_call98_v1 : Ref sig .tc := ⟨.hbm, 2208, rfl⟩
abbrev main_call98_c_0 : Ref sig .tc := ⟨.hbm, 2209, rfl⟩
abbrev main_call98_v2 : Ref sig .tc := ⟨.hbm, 2210, rfl⟩
abbrev main_call98_v3 : Ref sig .tc := ⟨.hbm, 2211, rfl⟩
abbrev main_call98_v4 : Ref sig .tc := ⟨.hbm, 2212, rfl⟩
abbrev main_call98_c_1 : Ref sig .tc := ⟨.hbm, 2213, rfl⟩
abbrev main_call98_v5 : Ref sig .tc := ⟨.hbm, 2214, rfl⟩
abbrev main_call98_v6 : Ref sig .tc := ⟨.hbm, 2215, rfl⟩
abbrev main_call98_c_2 : Ref sig .tc := ⟨.hbm, 2216, rfl⟩
abbrev main_call98_v7 : Ref sig .tc := ⟨.hbm, 2217, rfl⟩
abbrev main_call98_v8 : Ref sig .tc := ⟨.hbm, 2218, rfl⟩
abbrev main_call98_c_3 : Ref sig .tc := ⟨.hbm, 2219, rfl⟩
abbrev main_call98_v9 : Ref sig .tc := ⟨.hbm, 2220, rfl⟩
abbrev main_call98_v10 : Ref sig .tc := ⟨.hbm, 2221, rfl⟩
abbrev main_call98_v11 : Ref sig .tc := ⟨.hbm, 2222, rfl⟩
abbrev main_call98_v12 : Ref sig .tc := ⟨.hbm, 2223, rfl⟩
abbrev main_call98_v13 : Ref sig .tc := ⟨.hbm, 2224, rfl⟩
abbrev main_call98_v14 : Ref sig .tc := ⟨.hbm, 2225, rfl⟩
abbrev main_v1085 : Ref sig .tc := ⟨.hbm, 2226, rfl⟩
abbrev main_v1086 : Ref sig .tc := ⟨.hbm, 2227, rfl⟩
abbrev main_v1087 : Ref sig .tc := ⟨.hbm, 2228, rfl⟩
abbrev main_v1088 : Ref sig .tc := ⟨.hbm, 2229, rfl⟩
abbrev main_v1089 : Ref sig .tc := ⟨.hbm, 2230, rfl⟩
abbrev main_v1090 : Ref sig .tc := ⟨.hbm, 2231, rfl⟩
abbrev main_v1091 : Ref sig .tc := ⟨.hbm, 2232, rfl⟩
abbrev main_v1092 : Ref sig .tc := ⟨.hbm, 2233, rfl⟩
abbrev main_v1093 : Ref sig .tc := ⟨.hbm, 2234, rfl⟩
abbrev main_v1094 : Ref sig .tc := ⟨.hbm, 2235, rfl⟩
abbrev main_v1095 : Ref sig .tc := ⟨.hbm, 2236, rfl⟩
abbrev main_v1096 : Ref sig .tc := ⟨.hbm, 2237, rfl⟩
abbrev main_v1097 : Ref sig .tc := ⟨.hbm, 2238, rfl⟩
abbrev main_v1098 : Ref sig .tc := ⟨.hbm, 2239, rfl⟩
abbrev main_v1099 : Ref sig .tc := ⟨.hbm, 2240, rfl⟩
abbrev main_v1100 : Ref sig .tc := ⟨.hbm, 2241, rfl⟩
abbrev main_c_189 : Ref sig .tc := ⟨.hbm, 2242, rfl⟩
abbrev main_v1101 : Ref sig .tc := ⟨.hbm, 2243, rfl⟩
abbrev main_v1102 : Ref sig .tc := ⟨.hbm, 2244, rfl⟩
abbrev main_c_190 : Ref sig .tc := ⟨.hbm, 2245, rfl⟩
abbrev main_v1103 : Ref sig .tc := ⟨.hbm, 2246, rfl⟩
abbrev main_v1104 : Ref sig .tc := ⟨.hbm, 2247, rfl⟩
abbrev main_v1105 : Ref sig .tc := ⟨.hbm, 2248, rfl⟩
abbrev main_c_191 : Ref sig .tc := ⟨.hbm, 2249, rfl⟩
abbrev main_v1106 : Ref sig .tc := ⟨.hbm, 2250, rfl⟩
abbrev main_v1107 : Ref sig .tc := ⟨.hbm, 2251, rfl⟩
abbrev main_v1108 : Ref sig .tc := ⟨.hbm, 2252, rfl⟩
abbrev main_c_192 : Ref sig .tc := ⟨.hbm, 2253, rfl⟩
abbrev main_v1109 : Ref sig .tc := ⟨.hbm, 2254, rfl⟩
abbrev main_v1110 : Ref sig .tc := ⟨.hbm, 2255, rfl⟩
abbrev main_v1111 : Ref sig .tc := ⟨.hbm, 2256, rfl⟩
abbrev main_c_193 : Ref sig .tc := ⟨.hbm, 2257, rfl⟩
abbrev main_v1112 : Ref sig .tc := ⟨.hbm, 2258, rfl⟩
abbrev main_v1113 : Ref sig .tc := ⟨.hbm, 2259, rfl⟩
abbrev main_v1114 : Ref sig .tc := ⟨.hbm, 2260, rfl⟩
abbrev main_c_194 : Ref sig .tc := ⟨.hbm, 2261, rfl⟩
abbrev main_v1115 : Ref sig .tc := ⟨.hbm, 2262, rfl⟩
abbrev main_v1116 : Ref sig .tc := ⟨.hbm, 2263, rfl⟩
abbrev main_v1117 : Ref sig .tc := ⟨.hbm, 2264, rfl⟩
abbrev main_c_195 : Ref sig .tc := ⟨.hbm, 2265, rfl⟩
abbrev main_c_196 : Ref sig .tc := ⟨.hbm, 2266, rfl⟩
abbrev main_call99_v0 : Ref sig .tc := ⟨.hbm, 2267, rfl⟩
abbrev main_call99_v1 : Ref sig .tc := ⟨.hbm, 2268, rfl⟩
abbrev main_call99_v2 : Ref sig .tc := ⟨.hbm, 2269, rfl⟩
abbrev main_call99_v3 : Ref sig .tc := ⟨.hbm, 2270, rfl⟩
abbrev main_call99_v4 : Ref sig .tc := ⟨.hbm, 2271, rfl⟩
abbrev main_v1118 : Ref sig .tc := ⟨.hbm, 2272, rfl⟩
abbrev main_c_197 : Ref sig .tc := ⟨.hbm, 2273, rfl⟩
abbrev main_v1119 : Ref sig .tc := ⟨.hbm, 2274, rfl⟩
abbrev main_v1120 : Ref sig .tc := ⟨.hbm, 2275, rfl⟩
abbrev main_c_198 : Ref sig .tc := ⟨.hbm, 2276, rfl⟩
abbrev main_c_199 : Ref sig .tc := ⟨.hbm, 2277, rfl⟩
abbrev main_call100_v0 : Ref sig .tc := ⟨.hbm, 2278, rfl⟩
abbrev main_call100_v1 : Ref sig .tc := ⟨.hbm, 2279, rfl⟩
abbrev main_call100_v2 : Ref sig .tc := ⟨.hbm, 2280, rfl⟩
abbrev main_call100_v3 : Ref sig .tc := ⟨.hbm, 2281, rfl⟩
abbrev main_call100_v4 : Ref sig .tc := ⟨.hbm, 2282, rfl⟩
abbrev main_v1121 : Ref sig .tc := ⟨.hbm, 2283, rfl⟩
abbrev main_v1122 : Ref sig .tc := ⟨.hbm, 2284, rfl⟩
abbrev main_c_200 : Ref sig .tc := ⟨.hbm, 2285, rfl⟩
abbrev main_v1123 : Ref sig .tc := ⟨.hbm, 2286, rfl⟩
abbrev main_v1124 : Ref sig .tc := ⟨.hbm, 2287, rfl⟩
abbrev main_c_201 : Ref sig .tc := ⟨.hbm, 2288, rfl⟩
abbrev main_c_202 : Ref sig .tc := ⟨.hbm, 2289, rfl⟩
abbrev main_call101_v0 : Ref sig .tc := ⟨.hbm, 2290, rfl⟩
abbrev main_call101_v1 : Ref sig .tc := ⟨.hbm, 2291, rfl⟩
abbrev main_call101_v2 : Ref sig .tc := ⟨.hbm, 2292, rfl⟩
abbrev main_call101_v3 : Ref sig .tc := ⟨.hbm, 2293, rfl⟩
abbrev main_call101_v4 : Ref sig .tc := ⟨.hbm, 2294, rfl⟩
abbrev main_v1125 : Ref sig .tc := ⟨.hbm, 2295, rfl⟩
abbrev main_v1126 : Ref sig .tc := ⟨.hbm, 2296, rfl⟩
abbrev main_v1127 : Ref sig .tc := ⟨.hbm, 2297, rfl⟩
abbrev main_v1128 : Ref sig .tc := ⟨.hbm, 2298, rfl⟩
abbrev main_v1129 : Ref sig .tc := ⟨.hbm, 2299, rfl⟩
abbrev main_call102_c : Ref sig .tc := ⟨.hbm, 2300, rfl⟩
abbrev main_call102_v0 : Ref sig .tc := ⟨.hbm, 2301, rfl⟩
abbrev main_call102_v1 : Ref sig .tc := ⟨.hbm, 2302, rfl⟩
abbrev main_call102_c_0 : Ref sig .tc := ⟨.hbm, 2303, rfl⟩
abbrev main_call102_v2 : Ref sig .tc := ⟨.hbm, 2304, rfl⟩
abbrev main_call102_v3 : Ref sig .tc := ⟨.hbm, 2305, rfl⟩
abbrev main_call102_v4 : Ref sig .tc := ⟨.hbm, 2306, rfl⟩
abbrev main_call102_v5 : Ref sig .tc := ⟨.hbm, 2307, rfl⟩
abbrev main_call102_c_1 : Ref sig .tc := ⟨.hbm, 2308, rfl⟩
abbrev main_call102_c_2 : Ref sig .tc := ⟨.hbm, 2309, rfl⟩
abbrev main_call102_v6 : Ref sig .tc := ⟨.hbm, 2310, rfl⟩
abbrev main_call102_v7 : Ref sig .tc := ⟨.hbm, 2311, rfl⟩
abbrev main_call102_v8 : Ref sig .tc := ⟨.hbm, 2312, rfl⟩
abbrev main_call102_v9 : Ref sig .tc := ⟨.hbm, 2313, rfl⟩
abbrev main_call102_v10 : Ref sig .tc := ⟨.hbm, 2314, rfl⟩
abbrev main_call102_v11 : Ref sig .tc := ⟨.hbm, 2315, rfl⟩
abbrev main_call102_c_3 : Ref sig .tc := ⟨.hbm, 2316, rfl⟩
abbrev main_call102_v12 : Ref sig .tc := ⟨.hbm, 2317, rfl⟩
abbrev main_call102_v13 : Ref sig .tc := ⟨.hbm, 2318, rfl⟩
abbrev main_call102_v14 : Ref sig .tc := ⟨.hbm, 2319, rfl⟩
abbrev main_call102_cst : Ref sig .tc := ⟨.hbm, 2320, rfl⟩
abbrev main_call102_v15 : Ref sig .tc := ⟨.hbm, 2321, rfl⟩
abbrev main_v1130 : Ref sig .tc := ⟨.hbm, 2322, rfl⟩
abbrev main_v1131 : Ref sig .tc := ⟨.hbm, 2323, rfl⟩
abbrev main_v1132 : Ref sig .tc := ⟨.hbm, 2324, rfl⟩
abbrev main_cst_203 : Ref sig .tc := ⟨.hbm, 2325, rfl⟩
abbrev main_v1133 : Ref sig .tc := ⟨.hbm, 2326, rfl⟩
abbrev main_v1134 : Ref sig .tc := ⟨.hbm, 2327, rfl⟩
abbrev main_v1135 : Ref sig .tc := ⟨.hbm, 2328, rfl⟩
abbrev main_cst_204 : Ref sig .tc := ⟨.hbm, 2329, rfl⟩
abbrev main_call103_v0 : Ref sig .tc := ⟨.hbm, 2330, rfl⟩
abbrev main_call103_v1 : Ref sig .tc := ⟨.hbm, 2331, rfl⟩
abbrev main_v1136 : Ref sig .tc := ⟨.hbm, 2332, rfl⟩
abbrev main_v1137 : Ref sig .tc := ⟨.hbm, 2333, rfl⟩
abbrev main_v1138 : Ref sig .tc := ⟨.hbm, 2334, rfl⟩
abbrev main_v1139 : Ref sig .tc := ⟨.hbm, 2335, rfl⟩
abbrev main_call104_c : Ref sig .tc := ⟨.hbm, 2336, rfl⟩
abbrev main_call104_v0 : Ref sig .tc := ⟨.hbm, 2337, rfl⟩
abbrev main_call104_v1 : Ref sig .tc := ⟨.hbm, 2338, rfl⟩
abbrev main_call104_c_0 : Ref sig .tc := ⟨.hbm, 2339, rfl⟩
abbrev main_call104_v2 : Ref sig .tc := ⟨.hbm, 2340, rfl⟩
abbrev main_call104_v3 : Ref sig .tc := ⟨.hbm, 2341, rfl⟩
abbrev main_call104_v4 : Ref sig .tc := ⟨.hbm, 2342, rfl⟩
abbrev main_call104_v5 : Ref sig .tc := ⟨.hbm, 2343, rfl⟩
abbrev main_call104_c_1 : Ref sig .tc := ⟨.hbm, 2344, rfl⟩
abbrev main_call104_c_2 : Ref sig .tc := ⟨.hbm, 2345, rfl⟩
abbrev main_call104_v6 : Ref sig .tc := ⟨.hbm, 2346, rfl⟩
abbrev main_call104_v7 : Ref sig .tc := ⟨.hbm, 2347, rfl⟩
abbrev main_call104_v8 : Ref sig .tc := ⟨.hbm, 2348, rfl⟩
abbrev main_call104_v9 : Ref sig .tc := ⟨.hbm, 2349, rfl⟩
abbrev main_call104_v10 : Ref sig .tc := ⟨.hbm, 2350, rfl⟩
abbrev main_call104_v11 : Ref sig .tc := ⟨.hbm, 2351, rfl⟩
abbrev main_call104_c_3 : Ref sig .tc := ⟨.hbm, 2352, rfl⟩
abbrev main_call104_v12 : Ref sig .tc := ⟨.hbm, 2353, rfl⟩
abbrev main_call104_v13 : Ref sig .tc := ⟨.hbm, 2354, rfl⟩
abbrev main_call104_v14 : Ref sig .tc := ⟨.hbm, 2355, rfl⟩
abbrev main_call104_cst : Ref sig .tc := ⟨.hbm, 2356, rfl⟩
abbrev main_call104_v15 : Ref sig .tc := ⟨.hbm, 2357, rfl⟩
abbrev main_v1140 : Ref sig .tc := ⟨.hbm, 2358, rfl⟩
abbrev main_v1141 : Ref sig .tc := ⟨.hbm, 2359, rfl⟩
abbrev main_v1142 : Ref sig .tc := ⟨.hbm, 2360, rfl⟩
abbrev main_cst_205 : Ref sig .tc := ⟨.hbm, 2361, rfl⟩
abbrev main_v1143 : Ref sig .tc := ⟨.hbm, 2362, rfl⟩
abbrev main_v1144 : Ref sig .tc := ⟨.hbm, 2363, rfl⟩
abbrev main_v1145 : Ref sig .tc := ⟨.hbm, 2364, rfl⟩
abbrev main_cst_206 : Ref sig .tc := ⟨.hbm, 2365, rfl⟩
abbrev main_call105_v0 : Ref sig .tc := ⟨.hbm, 2366, rfl⟩
abbrev main_call105_v1 : Ref sig .tc := ⟨.hbm, 2367, rfl⟩
abbrev main_v1146 : Ref sig .tc := ⟨.hbm, 2368, rfl⟩
abbrev main_v1147 : Ref sig .tc := ⟨.hbm, 2369, rfl⟩
abbrev main_v1148 : Ref sig .tc := ⟨.hbm, 2370, rfl⟩
abbrev main_v1149 : Ref sig .tc := ⟨.hbm, 2371, rfl⟩
abbrev main_call106_c : Ref sig .tc := ⟨.hbm, 2372, rfl⟩
abbrev main_call106_v0 : Ref sig .tc := ⟨.hbm, 2373, rfl⟩
abbrev main_call106_v1 : Ref sig .tc := ⟨.hbm, 2374, rfl⟩
abbrev main_call106_c_0 : Ref sig .tc := ⟨.hbm, 2375, rfl⟩
abbrev main_call106_v2 : Ref sig .tc := ⟨.hbm, 2376, rfl⟩
abbrev main_call106_v3 : Ref sig .tc := ⟨.hbm, 2377, rfl⟩
abbrev main_call106_v4 : Ref sig .tc := ⟨.hbm, 2378, rfl⟩
abbrev main_call106_v5 : Ref sig .tc := ⟨.hbm, 2379, rfl⟩
abbrev main_call106_c_1 : Ref sig .tc := ⟨.hbm, 2380, rfl⟩
abbrev main_call106_c_2 : Ref sig .tc := ⟨.hbm, 2381, rfl⟩
abbrev main_call106_v6 : Ref sig .tc := ⟨.hbm, 2382, rfl⟩
abbrev main_call106_v7 : Ref sig .tc := ⟨.hbm, 2383, rfl⟩
abbrev main_call106_v8 : Ref sig .tc := ⟨.hbm, 2384, rfl⟩
abbrev main_call106_v9 : Ref sig .tc := ⟨.hbm, 2385, rfl⟩
abbrev main_call106_v10 : Ref sig .tc := ⟨.hbm, 2386, rfl⟩
abbrev main_call106_v11 : Ref sig .tc := ⟨.hbm, 2387, rfl⟩
abbrev main_call106_c_3 : Ref sig .tc := ⟨.hbm, 2388, rfl⟩
abbrev main_call106_v12 : Ref sig .tc := ⟨.hbm, 2389, rfl⟩
abbrev main_call106_v13 : Ref sig .tc := ⟨.hbm, 2390, rfl⟩
abbrev main_call106_v14 : Ref sig .tc := ⟨.hbm, 2391, rfl⟩
abbrev main_call106_cst : Ref sig .tc := ⟨.hbm, 2392, rfl⟩
abbrev main_call106_v15 : Ref sig .tc := ⟨.hbm, 2393, rfl⟩
abbrev main_v1150 : Ref sig .tc := ⟨.hbm, 2394, rfl⟩
abbrev main_v1151 : Ref sig .tc := ⟨.hbm, 2395, rfl⟩
abbrev main_v1152 : Ref sig .tc := ⟨.hbm, 2396, rfl⟩
abbrev main_cst_207 : Ref sig .tc := ⟨.hbm, 2397, rfl⟩
abbrev main_v1153 : Ref sig .tc := ⟨.hbm, 2398, rfl⟩
abbrev main_v1154 : Ref sig .tc := ⟨.hbm, 2399, rfl⟩
abbrev main_v1155 : Ref sig .tc := ⟨.hbm, 2400, rfl⟩
abbrev main_cst_208 : Ref sig .tc := ⟨.hbm, 2401, rfl⟩
abbrev main_call107_v0 : Ref sig .tc := ⟨.hbm, 2402, rfl⟩
abbrev main_call107_v1 : Ref sig .tc := ⟨.hbm, 2403, rfl⟩
abbrev main_v1156 : Ref sig .tc := ⟨.hbm, 2404, rfl⟩
abbrev main_v1157 : Ref sig .tc := ⟨.hbm, 2405, rfl⟩
abbrev main_v1158 : Ref sig .tc := ⟨.hbm, 2406, rfl⟩
abbrev main_v1159 : Ref sig .tc := ⟨.hbm, 2407, rfl⟩
abbrev main_call108_c : Ref sig .tc := ⟨.hbm, 2408, rfl⟩
abbrev main_call108_v0 : Ref sig .tc := ⟨.hbm, 2409, rfl⟩
abbrev main_call108_v1 : Ref sig .tc := ⟨.hbm, 2410, rfl⟩
abbrev main_call108_c_0 : Ref sig .tc := ⟨.hbm, 2411, rfl⟩
abbrev main_call108_v2 : Ref sig .tc := ⟨.hbm, 2412, rfl⟩
abbrev main_call108_v3 : Ref sig .tc := ⟨.hbm, 2413, rfl⟩
abbrev main_call108_v4 : Ref sig .tc := ⟨.hbm, 2414, rfl⟩
abbrev main_call108_v5 : Ref sig .tc := ⟨.hbm, 2415, rfl⟩
abbrev main_call108_c_1 : Ref sig .tc := ⟨.hbm, 2416, rfl⟩
abbrev main_call108_c_2 : Ref sig .tc := ⟨.hbm, 2417, rfl⟩
abbrev main_call108_v6 : Ref sig .tc := ⟨.hbm, 2418, rfl⟩
abbrev main_call108_v7 : Ref sig .tc := ⟨.hbm, 2419, rfl⟩
abbrev main_call108_v8 : Ref sig .tc := ⟨.hbm, 2420, rfl⟩
abbrev main_call108_v9 : Ref sig .tc := ⟨.hbm, 2421, rfl⟩
abbrev main_call108_v10 : Ref sig .tc := ⟨.hbm, 2422, rfl⟩
abbrev main_call108_v11 : Ref sig .tc := ⟨.hbm, 2423, rfl⟩
abbrev main_call108_c_3 : Ref sig .tc := ⟨.hbm, 2424, rfl⟩
abbrev main_call108_v12 : Ref sig .tc := ⟨.hbm, 2425, rfl⟩
abbrev main_call108_v13 : Ref sig .tc := ⟨.hbm, 2426, rfl⟩
abbrev main_call108_v14 : Ref sig .tc := ⟨.hbm, 2427, rfl⟩
abbrev main_call108_cst : Ref sig .tc := ⟨.hbm, 2428, rfl⟩
abbrev main_call108_v15 : Ref sig .tc := ⟨.hbm, 2429, rfl⟩
abbrev main_v1160 : Ref sig .tc := ⟨.hbm, 2430, rfl⟩
abbrev main_v1161 : Ref sig .tc := ⟨.hbm, 2431, rfl⟩
abbrev main_v1162 : Ref sig .tc := ⟨.hbm, 2432, rfl⟩
abbrev main_cst_209 : Ref sig .tc := ⟨.hbm, 2433, rfl⟩
abbrev main_v1163 : Ref sig .tc := ⟨.hbm, 2434, rfl⟩
abbrev main_v1164 : Ref sig .tc := ⟨.hbm, 2435, rfl⟩
abbrev main_v1165 : Ref sig .tc := ⟨.hbm, 2436, rfl⟩
abbrev main_cst_210 : Ref sig .tc := ⟨.hbm, 2437, rfl⟩
abbrev main_call109_v0 : Ref sig .tc := ⟨.hbm, 2438, rfl⟩
abbrev main_call109_v1 : Ref sig .tc := ⟨.hbm, 2439, rfl⟩
abbrev main_v1166 : Ref sig .tc := ⟨.hbm, 2440, rfl⟩
abbrev main_v1167 : Ref sig .tc := ⟨.hbm, 2441, rfl⟩
abbrev main_v1168 : Ref sig .tc := ⟨.hbm, 2442, rfl⟩
abbrev main_v1169 : Ref sig .tc := ⟨.hbm, 2443, rfl⟩
abbrev main_call110_c : Ref sig .tc := ⟨.hbm, 2444, rfl⟩
abbrev main_call110_v0 : Ref sig .tc := ⟨.hbm, 2445, rfl⟩
abbrev main_call110_v1 : Ref sig .tc := ⟨.hbm, 2446, rfl⟩
abbrev main_call110_c_0 : Ref sig .tc := ⟨.hbm, 2447, rfl⟩
abbrev main_call110_v2 : Ref sig .tc := ⟨.hbm, 2448, rfl⟩
abbrev main_call110_v3 : Ref sig .tc := ⟨.hbm, 2449, rfl⟩
abbrev main_call110_v4 : Ref sig .tc := ⟨.hbm, 2450, rfl⟩
abbrev main_call110_v5 : Ref sig .tc := ⟨.hbm, 2451, rfl⟩
abbrev main_call110_c_1 : Ref sig .tc := ⟨.hbm, 2452, rfl⟩
abbrev main_call110_c_2 : Ref sig .tc := ⟨.hbm, 2453, rfl⟩
abbrev main_call110_v6 : Ref sig .tc := ⟨.hbm, 2454, rfl⟩
abbrev main_call110_v7 : Ref sig .tc := ⟨.hbm, 2455, rfl⟩
abbrev main_call110_v8 : Ref sig .tc := ⟨.hbm, 2456, rfl⟩
abbrev main_call110_v9 : Ref sig .tc := ⟨.hbm, 2457, rfl⟩
abbrev main_call110_v10 : Ref sig .tc := ⟨.hbm, 2458, rfl⟩
abbrev main_call110_v11 : Ref sig .tc := ⟨.hbm, 2459, rfl⟩
abbrev main_call110_c_3 : Ref sig .tc := ⟨.hbm, 2460, rfl⟩
abbrev main_call110_v12 : Ref sig .tc := ⟨.hbm, 2461, rfl⟩
abbrev main_call110_v13 : Ref sig .tc := ⟨.hbm, 2462, rfl⟩
abbrev main_call110_v14 : Ref sig .tc := ⟨.hbm, 2463, rfl⟩
abbrev main_call110_cst : Ref sig .tc := ⟨.hbm, 2464, rfl⟩
abbrev main_call110_v15 : Ref sig .tc := ⟨.hbm, 2465, rfl⟩
abbrev main_v1170 : Ref sig .tc := ⟨.hbm, 2466, rfl⟩
abbrev main_v1171 : Ref sig .tc := ⟨.hbm, 2467, rfl⟩
abbrev main_v1172 : Ref sig .tc := ⟨.hbm, 2468, rfl⟩
abbrev main_cst_211 : Ref sig .tc := ⟨.hbm, 2469, rfl⟩
abbrev main_v1173 : Ref sig .tc := ⟨.hbm, 2470, rfl⟩
abbrev main_v1174 : Ref sig .tc := ⟨.hbm, 2471, rfl⟩
abbrev main_v1175 : Ref sig .tc := ⟨.hbm, 2472, rfl⟩
abbrev main_cst_212 : Ref sig .tc := ⟨.hbm, 2473, rfl⟩
abbrev main_call111_v0 : Ref sig .tc := ⟨.hbm, 2474, rfl⟩
abbrev main_call111_v1 : Ref sig .tc := ⟨.hbm, 2475, rfl⟩
abbrev main_v1176 : Ref sig .tc := ⟨.hbm, 2476, rfl⟩
abbrev main_v1177 : Ref sig .tc := ⟨.hbm, 2477, rfl⟩
abbrev main_v1178 : Ref sig .tc := ⟨.hbm, 2478, rfl⟩
abbrev main_v1179 : Ref sig .tc := ⟨.hbm, 2479, rfl⟩
abbrev main_call112_c : Ref sig .tc := ⟨.hbm, 2480, rfl⟩
abbrev main_call112_v0 : Ref sig .tc := ⟨.hbm, 2481, rfl⟩
abbrev main_call112_v1 : Ref sig .tc := ⟨.hbm, 2482, rfl⟩
abbrev main_call112_c_0 : Ref sig .tc := ⟨.hbm, 2483, rfl⟩
abbrev main_call112_v2 : Ref sig .tc := ⟨.hbm, 2484, rfl⟩
abbrev main_call112_v3 : Ref sig .tc := ⟨.hbm, 2485, rfl⟩
abbrev main_call112_v4 : Ref sig .tc := ⟨.hbm, 2486, rfl⟩
abbrev main_call112_v5 : Ref sig .tc := ⟨.hbm, 2487, rfl⟩
abbrev main_call112_c_1 : Ref sig .tc := ⟨.hbm, 2488, rfl⟩
abbrev main_call112_c_2 : Ref sig .tc := ⟨.hbm, 2489, rfl⟩
abbrev main_call112_v6 : Ref sig .tc := ⟨.hbm, 2490, rfl⟩
abbrev main_call112_v7 : Ref sig .tc := ⟨.hbm, 2491, rfl⟩
abbrev main_call112_v8 : Ref sig .tc := ⟨.hbm, 2492, rfl⟩
abbrev main_call112_v9 : Ref sig .tc := ⟨.hbm, 2493, rfl⟩
abbrev main_call112_v10 : Ref sig .tc := ⟨.hbm, 2494, rfl⟩
abbrev main_call112_v11 : Ref sig .tc := ⟨.hbm, 2495, rfl⟩
abbrev main_call112_c_3 : Ref sig .tc := ⟨.hbm, 2496, rfl⟩
abbrev main_call112_v12 : Ref sig .tc := ⟨.hbm, 2497, rfl⟩
abbrev main_call112_v13 : Ref sig .tc := ⟨.hbm, 2498, rfl⟩
abbrev main_call112_v14 : Ref sig .tc := ⟨.hbm, 2499, rfl⟩
abbrev main_call112_cst : Ref sig .tc := ⟨.hbm, 2500, rfl⟩
abbrev main_call112_v15 : Ref sig .tc := ⟨.hbm, 2501, rfl⟩
abbrev main_v1180 : Ref sig .tc := ⟨.hbm, 2502, rfl⟩
abbrev main_v1181 : Ref sig .tc := ⟨.hbm, 2503, rfl⟩
abbrev main_v1182 : Ref sig .tc := ⟨.hbm, 2504, rfl⟩
abbrev main_cst_213 : Ref sig .tc := ⟨.hbm, 2505, rfl⟩
abbrev main_v1183 : Ref sig .tc := ⟨.hbm, 2506, rfl⟩
abbrev main_v1184 : Ref sig .tc := ⟨.hbm, 2507, rfl⟩
abbrev main_v1185 : Ref sig .tc := ⟨.hbm, 2508, rfl⟩
abbrev main_cst_214 : Ref sig .tc := ⟨.hbm, 2509, rfl⟩
abbrev main_call113_v0 : Ref sig .tc := ⟨.hbm, 2510, rfl⟩
abbrev main_call113_v1 : Ref sig .tc := ⟨.hbm, 2511, rfl⟩
abbrev main_v1186 : Ref sig .tc := ⟨.hbm, 2512, rfl⟩
abbrev main_v1187 : Ref sig .tc := ⟨.hbm, 2513, rfl⟩
abbrev main_v1188 : Ref sig .tc := ⟨.hbm, 2514, rfl⟩
abbrev main_v1189 : Ref sig .tc := ⟨.hbm, 2515, rfl⟩
abbrev main_call114_c : Ref sig .tc := ⟨.hbm, 2516, rfl⟩
abbrev main_call114_v0 : Ref sig .tc := ⟨.hbm, 2517, rfl⟩
abbrev main_call114_v1 : Ref sig .tc := ⟨.hbm, 2518, rfl⟩
abbrev main_call114_c_0 : Ref sig .tc := ⟨.hbm, 2519, rfl⟩
abbrev main_call114_v2 : Ref sig .tc := ⟨.hbm, 2520, rfl⟩
abbrev main_call114_v3 : Ref sig .tc := ⟨.hbm, 2521, rfl⟩
abbrev main_call114_v4 : Ref sig .tc := ⟨.hbm, 2522, rfl⟩
abbrev main_call114_v5 : Ref sig .tc := ⟨.hbm, 2523, rfl⟩
abbrev main_call114_c_1 : Ref sig .tc := ⟨.hbm, 2524, rfl⟩
abbrev main_call114_c_2 : Ref sig .tc := ⟨.hbm, 2525, rfl⟩
abbrev main_call114_v6 : Ref sig .tc := ⟨.hbm, 2526, rfl⟩
abbrev main_call114_v7 : Ref sig .tc := ⟨.hbm, 2527, rfl⟩
abbrev main_call114_v8 : Ref sig .tc := ⟨.hbm, 2528, rfl⟩
abbrev main_call114_v9 : Ref sig .tc := ⟨.hbm, 2529, rfl⟩
abbrev main_call114_v10 : Ref sig .tc := ⟨.hbm, 2530, rfl⟩
abbrev main_call114_v11 : Ref sig .tc := ⟨.hbm, 2531, rfl⟩
abbrev main_call114_c_3 : Ref sig .tc := ⟨.hbm, 2532, rfl⟩
abbrev main_call114_v12 : Ref sig .tc := ⟨.hbm, 2533, rfl⟩
abbrev main_call114_v13 : Ref sig .tc := ⟨.hbm, 2534, rfl⟩
abbrev main_call114_v14 : Ref sig .tc := ⟨.hbm, 2535, rfl⟩
abbrev main_call114_cst : Ref sig .tc := ⟨.hbm, 2536, rfl⟩
abbrev main_call114_v15 : Ref sig .tc := ⟨.hbm, 2537, rfl⟩
abbrev main_v1190 : Ref sig .tc := ⟨.hbm, 2538, rfl⟩
abbrev main_v1191 : Ref sig .tc := ⟨.hbm, 2539, rfl⟩
abbrev main_v1192 : Ref sig .tc := ⟨.hbm, 2540, rfl⟩
abbrev main_cst_215 : Ref sig .tc := ⟨.hbm, 2541, rfl⟩
abbrev main_v1193 : Ref sig .tc := ⟨.hbm, 2542, rfl⟩
abbrev main_v1194 : Ref sig .tc := ⟨.hbm, 2543, rfl⟩
abbrev main_v1195 : Ref sig .tc := ⟨.hbm, 2544, rfl⟩
abbrev main_cst_216 : Ref sig .tc := ⟨.hbm, 2545, rfl⟩
abbrev main_call115_v0 : Ref sig .tc := ⟨.hbm, 2546, rfl⟩
abbrev main_call115_v1 : Ref sig .tc := ⟨.hbm, 2547, rfl⟩
abbrev main_v1196 : Ref sig .tc := ⟨.hbm, 2548, rfl⟩
abbrev main_v1197 : Ref sig .tc := ⟨.hbm, 2549, rfl⟩
abbrev main_v1198 : Ref sig .tc := ⟨.hbm, 2550, rfl⟩
abbrev main_v1199 : Ref sig .tc := ⟨.hbm, 2551, rfl⟩
abbrev main_call116_c : Ref sig .tc := ⟨.hbm, 2552, rfl⟩
abbrev main_call116_v0 : Ref sig .tc := ⟨.hbm, 2553, rfl⟩
abbrev main_call116_v1 : Ref sig .tc := ⟨.hbm, 2554, rfl⟩
abbrev main_call116_c_0 : Ref sig .tc := ⟨.hbm, 2555, rfl⟩
abbrev main_call116_v2 : Ref sig .tc := ⟨.hbm, 2556, rfl⟩
abbrev main_call116_v3 : Ref sig .tc := ⟨.hbm, 2557, rfl⟩
abbrev main_call116_v4 : Ref sig .tc := ⟨.hbm, 2558, rfl⟩
abbrev main_call116_v5 : Ref sig .tc := ⟨.hbm, 2559, rfl⟩
abbrev main_call116_c_1 : Ref sig .tc := ⟨.hbm, 2560, rfl⟩
abbrev main_call116_c_2 : Ref sig .tc := ⟨.hbm, 2561, rfl⟩
abbrev main_call116_v6 : Ref sig .tc := ⟨.hbm, 2562, rfl⟩
abbrev main_call116_v7 : Ref sig .tc := ⟨.hbm, 2563, rfl⟩
abbrev main_call116_v8 : Ref sig .tc := ⟨.hbm, 2564, rfl⟩
abbrev main_call116_v9 : Ref sig .tc := ⟨.hbm, 2565, rfl⟩
abbrev main_call116_v10 : Ref sig .tc := ⟨.hbm, 2566, rfl⟩
abbrev main_call116_v11 : Ref sig .tc := ⟨.hbm, 2567, rfl⟩
abbrev main_call116_c_3 : Ref sig .tc := ⟨.hbm, 2568, rfl⟩
abbrev main_call116_v12 : Ref sig .tc := ⟨.hbm, 2569, rfl⟩
abbrev main_call116_v13 : Ref sig .tc := ⟨.hbm, 2570, rfl⟩
abbrev main_call116_v14 : Ref sig .tc := ⟨.hbm, 2571, rfl⟩
abbrev main_call116_cst : Ref sig .tc := ⟨.hbm, 2572, rfl⟩
abbrev main_call116_v15 : Ref sig .tc := ⟨.hbm, 2573, rfl⟩
abbrev main_v1200 : Ref sig .tc := ⟨.hbm, 2574, rfl⟩
abbrev main_v1201 : Ref sig .tc := ⟨.hbm, 2575, rfl⟩
abbrev main_v1202 : Ref sig .tc := ⟨.hbm, 2576, rfl⟩
abbrev main_cst_217 : Ref sig .tc := ⟨.hbm, 2577, rfl⟩
abbrev main_v1203 : Ref sig .tc := ⟨.hbm, 2578, rfl⟩
abbrev main_v1204 : Ref sig .tc := ⟨.hbm, 2579, rfl⟩
abbrev main_v1205 : Ref sig .tc := ⟨.hbm, 2580, rfl⟩
abbrev main_cst_218 : Ref sig .tc := ⟨.hbm, 2581, rfl⟩
abbrev main_call117_v0 : Ref sig .tc := ⟨.hbm, 2582, rfl⟩
abbrev main_call117_v1 : Ref sig .tc := ⟨.hbm, 2583, rfl⟩
abbrev main_v1206 : Ref sig .tc := ⟨.hbm, 2584, rfl⟩
abbrev main_v1207 : Ref sig .tc := ⟨.hbm, 2585, rfl⟩
abbrev main_v1208 : Ref sig .tc := ⟨.hbm, 2586, rfl⟩
abbrev main_v1209 : Ref sig .tc := ⟨.hbm, 2587, rfl⟩
abbrev main_call118_c : Ref sig .tc := ⟨.hbm, 2588, rfl⟩
abbrev main_call118_v0 : Ref sig .tc := ⟨.hbm, 2589, rfl⟩
abbrev main_call118_v1 : Ref sig .tc := ⟨.hbm, 2590, rfl⟩
abbrev main_call118_c_0 : Ref sig .tc := ⟨.hbm, 2591, rfl⟩
abbrev main_call118_v2 : Ref sig .tc := ⟨.hbm, 2592, rfl⟩
abbrev main_call118_v3 : Ref sig .tc := ⟨.hbm, 2593, rfl⟩
abbrev main_call118_v4 : Ref sig .tc := ⟨.hbm, 2594, rfl⟩
abbrev main_call118_v5 : Ref sig .tc := ⟨.hbm, 2595, rfl⟩
abbrev main_call118_c_1 : Ref sig .tc := ⟨.hbm, 2596, rfl⟩
abbrev main_call118_c_2 : Ref sig .tc := ⟨.hbm, 2597, rfl⟩
abbrev main_call118_v6 : Ref sig .tc := ⟨.hbm, 2598, rfl⟩
abbrev main_call118_v7 : Ref sig .tc := ⟨.hbm, 2599, rfl⟩
abbrev main_call118_v8 : Ref sig .tc := ⟨.hbm, 2600, rfl⟩
abbrev main_call118_v9 : Ref sig .tc := ⟨.hbm, 2601, rfl⟩
abbrev main_call118_v10 : Ref sig .tc := ⟨.hbm, 2602, rfl⟩
abbrev main_call118_v11 : Ref sig .tc := ⟨.hbm, 2603, rfl⟩
abbrev main_call118_c_3 : Ref sig .tc := ⟨.hbm, 2604, rfl⟩
abbrev main_call118_v12 : Ref sig .tc := ⟨.hbm, 2605, rfl⟩
abbrev main_call118_v13 : Ref sig .tc := ⟨.hbm, 2606, rfl⟩
abbrev main_call118_v14 : Ref sig .tc := ⟨.hbm, 2607, rfl⟩
abbrev main_call118_cst : Ref sig .tc := ⟨.hbm, 2608, rfl⟩
abbrev main_call118_v15 : Ref sig .tc := ⟨.hbm, 2609, rfl⟩
abbrev main_v1210 : Ref sig .tc := ⟨.hbm, 2610, rfl⟩
abbrev main_v1211 : Ref sig .tc := ⟨.hbm, 2611, rfl⟩
abbrev main_v1212 : Ref sig .tc := ⟨.hbm, 2612, rfl⟩
abbrev main_cst_219 : Ref sig .tc := ⟨.hbm, 2613, rfl⟩
abbrev main_v1213 : Ref sig .tc := ⟨.hbm, 2614, rfl⟩
abbrev main_v1214 : Ref sig .tc := ⟨.hbm, 2615, rfl⟩
abbrev main_v1215 : Ref sig .tc := ⟨.hbm, 2616, rfl⟩
abbrev main_cst_220 : Ref sig .tc := ⟨.hbm, 2617, rfl⟩
abbrev main_call119_v0 : Ref sig .tc := ⟨.hbm, 2618, rfl⟩
abbrev main_call119_v1 : Ref sig .tc := ⟨.hbm, 2619, rfl⟩
abbrev main_v1216 : Ref sig .tc := ⟨.hbm, 2620, rfl⟩
abbrev main_v1217 : Ref sig .tc := ⟨.hbm, 2621, rfl⟩
abbrev main_v1218 : Ref sig .tc := ⟨.hbm, 2622, rfl⟩
abbrev main_v1219 : Ref sig .tc := ⟨.hbm, 2623, rfl⟩
abbrev main_call120_c : Ref sig .tc := ⟨.hbm, 2624, rfl⟩
abbrev main_call120_v0 : Ref sig .tc := ⟨.hbm, 2625, rfl⟩
abbrev main_call120_v1 : Ref sig .tc := ⟨.hbm, 2626, rfl⟩
abbrev main_call120_c_0 : Ref sig .tc := ⟨.hbm, 2627, rfl⟩
abbrev main_call120_v2 : Ref sig .tc := ⟨.hbm, 2628, rfl⟩
abbrev main_call120_v3 : Ref sig .tc := ⟨.hbm, 2629, rfl⟩
abbrev main_call120_v4 : Ref sig .tc := ⟨.hbm, 2630, rfl⟩
abbrev main_call120_v5 : Ref sig .tc := ⟨.hbm, 2631, rfl⟩
abbrev main_call120_c_1 : Ref sig .tc := ⟨.hbm, 2632, rfl⟩
abbrev main_call120_c_2 : Ref sig .tc := ⟨.hbm, 2633, rfl⟩
abbrev main_call120_v6 : Ref sig .tc := ⟨.hbm, 2634, rfl⟩
abbrev main_call120_v7 : Ref sig .tc := ⟨.hbm, 2635, rfl⟩
abbrev main_call120_v8 : Ref sig .tc := ⟨.hbm, 2636, rfl⟩
abbrev main_call120_v9 : Ref sig .tc := ⟨.hbm, 2637, rfl⟩
abbrev main_call120_v10 : Ref sig .tc := ⟨.hbm, 2638, rfl⟩
abbrev main_call120_v11 : Ref sig .tc := ⟨.hbm, 2639, rfl⟩
abbrev main_call120_c_3 : Ref sig .tc := ⟨.hbm, 2640, rfl⟩
abbrev main_call120_v12 : Ref sig .tc := ⟨.hbm, 2641, rfl⟩
abbrev main_call120_v13 : Ref sig .tc := ⟨.hbm, 2642, rfl⟩
abbrev main_call120_v14 : Ref sig .tc := ⟨.hbm, 2643, rfl⟩
abbrev main_call120_cst : Ref sig .tc := ⟨.hbm, 2644, rfl⟩
abbrev main_call120_v15 : Ref sig .tc := ⟨.hbm, 2645, rfl⟩
abbrev main_v1220 : Ref sig .tc := ⟨.hbm, 2646, rfl⟩
abbrev main_v1221 : Ref sig .tc := ⟨.hbm, 2647, rfl⟩
abbrev main_v1222 : Ref sig .tc := ⟨.hbm, 2648, rfl⟩
abbrev main_cst_221 : Ref sig .tc := ⟨.hbm, 2649, rfl⟩
abbrev main_v1223 : Ref sig .tc := ⟨.hbm, 2650, rfl⟩
abbrev main_v1224 : Ref sig .tc := ⟨.hbm, 2651, rfl⟩
abbrev main_v1225 : Ref sig .tc := ⟨.hbm, 2652, rfl⟩
abbrev main_cst_222 : Ref sig .tc := ⟨.hbm, 2653, rfl⟩
abbrev main_call121_v0 : Ref sig .tc := ⟨.hbm, 2654, rfl⟩
abbrev main_call121_v1 : Ref sig .tc := ⟨.hbm, 2655, rfl⟩
abbrev main_v1226 : Ref sig .tc := ⟨.hbm, 2656, rfl⟩
abbrev main_v1227 : Ref sig .tc := ⟨.hbm, 2657, rfl⟩
abbrev main_v1228 : Ref sig .tc := ⟨.hbm, 2658, rfl⟩
abbrev main_v1229 : Ref sig .tc := ⟨.hbm, 2659, rfl⟩
abbrev main_call122_c : Ref sig .tc := ⟨.hbm, 2660, rfl⟩
abbrev main_call122_v0 : Ref sig .tc := ⟨.hbm, 2661, rfl⟩
abbrev main_call122_v1 : Ref sig .tc := ⟨.hbm, 2662, rfl⟩
abbrev main_call122_c_0 : Ref sig .tc := ⟨.hbm, 2663, rfl⟩
abbrev main_call122_v2 : Ref sig .tc := ⟨.hbm, 2664, rfl⟩
abbrev main_call122_v3 : Ref sig .tc := ⟨.hbm, 2665, rfl⟩
abbrev main_call122_v4 : Ref sig .tc := ⟨.hbm, 2666, rfl⟩
abbrev main_call122_v5 : Ref sig .tc := ⟨.hbm, 2667, rfl⟩
abbrev main_call122_c_1 : Ref sig .tc := ⟨.hbm, 2668, rfl⟩
abbrev main_call122_c_2 : Ref sig .tc := ⟨.hbm, 2669, rfl⟩
abbrev main_call122_v6 : Ref sig .tc := ⟨.hbm, 2670, rfl⟩
abbrev main_call122_v7 : Ref sig .tc := ⟨.hbm, 2671, rfl⟩
abbrev main_call122_v8 : Ref sig .tc := ⟨.hbm, 2672, rfl⟩
abbrev main_call122_v9 : Ref sig .tc := ⟨.hbm, 2673, rfl⟩
abbrev main_call122_v10 : Ref sig .tc := ⟨.hbm, 2674, rfl⟩
abbrev main_call122_v11 : Ref sig .tc := ⟨.hbm, 2675, rfl⟩
abbrev main_call122_c_3 : Ref sig .tc := ⟨.hbm, 2676, rfl⟩
abbrev main_call122_v12 : Ref sig .tc := ⟨.hbm, 2677, rfl⟩
abbrev main_call122_v13 : Ref sig .tc := ⟨.hbm, 2678, rfl⟩
abbrev main_call122_v14 : Ref sig .tc := ⟨.hbm, 2679, rfl⟩
abbrev main_call122_cst : Ref sig .tc := ⟨.hbm, 2680, rfl⟩
abbrev main_call122_v15 : Ref sig .tc := ⟨.hbm, 2681, rfl⟩
abbrev main_v1230 : Ref sig .tc := ⟨.hbm, 2682, rfl⟩
abbrev main_v1231 : Ref sig .tc := ⟨.hbm, 2683, rfl⟩
abbrev main_v1232 : Ref sig .tc := ⟨.hbm, 2684, rfl⟩
abbrev main_cst_223 : Ref sig .tc := ⟨.hbm, 2685, rfl⟩
abbrev main_v1233 : Ref sig .tc := ⟨.hbm, 2686, rfl⟩
abbrev main_v1234 : Ref sig .tc := ⟨.hbm, 2687, rfl⟩
abbrev main_v1235 : Ref sig .tc := ⟨.hbm, 2688, rfl⟩
abbrev main_cst_224 : Ref sig .tc := ⟨.hbm, 2689, rfl⟩
abbrev main_call123_v0 : Ref sig .tc := ⟨.hbm, 2690, rfl⟩
abbrev main_call123_v1 : Ref sig .tc := ⟨.hbm, 2691, rfl⟩
abbrev main_v1236 : Ref sig .tc := ⟨.hbm, 2692, rfl⟩
abbrev main_v1237 : Ref sig .tc := ⟨.hbm, 2693, rfl⟩
abbrev main_v1238 : Ref sig .tc := ⟨.hbm, 2694, rfl⟩
abbrev main_v1239 : Ref sig .tc := ⟨.hbm, 2695, rfl⟩
abbrev main_call124_c : Ref sig .tc := ⟨.hbm, 2696, rfl⟩
abbrev main_call124_v0 : Ref sig .tc := ⟨.hbm, 2697, rfl⟩
abbrev main_call124_v1 : Ref sig .tc := ⟨.hbm, 2698, rfl⟩
abbrev main_call124_c_0 : Ref sig .tc := ⟨.hbm, 2699, rfl⟩
abbrev main_call124_v2 : Ref sig .tc := ⟨.hbm, 2700, rfl⟩
abbrev main_call124_v3 : Ref sig .tc := ⟨.hbm, 2701, rfl⟩
abbrev main_call124_v4 : Ref sig .tc := ⟨.hbm, 2702, rfl⟩
abbrev main_call124_v5 : Ref sig .tc := ⟨.hbm, 2703, rfl⟩
abbrev main_call124_c_1 : Ref sig .tc := ⟨.hbm, 2704, rfl⟩
abbrev main_call124_c_2 : Ref sig .tc := ⟨.hbm, 2705, rfl⟩
abbrev main_call124_v6 : Ref sig .tc := ⟨.hbm, 2706, rfl⟩
abbrev main_call124_v7 : Ref sig .tc := ⟨.hbm, 2707, rfl⟩
abbrev main_call124_v8 : Ref sig .tc := ⟨.hbm, 2708, rfl⟩
abbrev main_call124_v9 : Ref sig .tc := ⟨.hbm, 2709, rfl⟩
abbrev main_call124_v10 : Ref sig .tc := ⟨.hbm, 2710, rfl⟩
abbrev main_call124_v11 : Ref sig .tc := ⟨.hbm, 2711, rfl⟩
abbrev main_call124_c_3 : Ref sig .tc := ⟨.hbm, 2712, rfl⟩
abbrev main_call124_v12 : Ref sig .tc := ⟨.hbm, 2713, rfl⟩
abbrev main_call124_v13 : Ref sig .tc := ⟨.hbm, 2714, rfl⟩
abbrev main_call124_v14 : Ref sig .tc := ⟨.hbm, 2715, rfl⟩
abbrev main_call124_cst : Ref sig .tc := ⟨.hbm, 2716, rfl⟩
abbrev main_call124_v15 : Ref sig .tc := ⟨.hbm, 2717, rfl⟩
abbrev main_v1240 : Ref sig .tc := ⟨.hbm, 2718, rfl⟩
abbrev main_v1241 : Ref sig .tc := ⟨.hbm, 2719, rfl⟩
abbrev main_v1242 : Ref sig .tc := ⟨.hbm, 2720, rfl⟩
abbrev main_cst_225 : Ref sig .tc := ⟨.hbm, 2721, rfl⟩
abbrev main_v1243 : Ref sig .tc := ⟨.hbm, 2722, rfl⟩
abbrev main_v1244 : Ref sig .tc := ⟨.hbm, 2723, rfl⟩
abbrev main_v1245 : Ref sig .tc := ⟨.hbm, 2724, rfl⟩
abbrev main_cst_226 : Ref sig .tc := ⟨.hbm, 2725, rfl⟩
abbrev main_call125_v0 : Ref sig .tc := ⟨.hbm, 2726, rfl⟩
abbrev main_call125_v1 : Ref sig .tc := ⟨.hbm, 2727, rfl⟩
abbrev main_v1246 : Ref sig .tc := ⟨.hbm, 2728, rfl⟩
abbrev main_v1247 : Ref sig .tc := ⟨.hbm, 2729, rfl⟩
abbrev main_v1248 : Ref sig .tc := ⟨.hbm, 2730, rfl⟩
abbrev main_v1249 : Ref sig .tc := ⟨.hbm, 2731, rfl⟩
abbrev main_call126_c : Ref sig .tc := ⟨.hbm, 2732, rfl⟩
abbrev main_call126_v0 : Ref sig .tc := ⟨.hbm, 2733, rfl⟩
abbrev main_call126_v1 : Ref sig .tc := ⟨.hbm, 2734, rfl⟩
abbrev main_call126_c_0 : Ref sig .tc := ⟨.hbm, 2735, rfl⟩
abbrev main_call126_v2 : Ref sig .tc := ⟨.hbm, 2736, rfl⟩
abbrev main_call126_v3 : Ref sig .tc := ⟨.hbm, 2737, rfl⟩
abbrev main_call126_v4 : Ref sig .tc := ⟨.hbm, 2738, rfl⟩
abbrev main_call126_v5 : Ref sig .tc := ⟨.hbm, 2739, rfl⟩
abbrev main_call126_c_1 : Ref sig .tc := ⟨.hbm, 2740, rfl⟩
abbrev main_call126_c_2 : Ref sig .tc := ⟨.hbm, 2741, rfl⟩
abbrev main_call126_v6 : Ref sig .tc := ⟨.hbm, 2742, rfl⟩
abbrev main_call126_v7 : Ref sig .tc := ⟨.hbm, 2743, rfl⟩
abbrev main_call126_v8 : Ref sig .tc := ⟨.hbm, 2744, rfl⟩
abbrev main_call126_v9 : Ref sig .tc := ⟨.hbm, 2745, rfl⟩
abbrev main_call126_v10 : Ref sig .tc := ⟨.hbm, 2746, rfl⟩
abbrev main_call126_v11 : Ref sig .tc := ⟨.hbm, 2747, rfl⟩
abbrev main_call126_c_3 : Ref sig .tc := ⟨.hbm, 2748, rfl⟩
abbrev main_call126_v12 : Ref sig .tc := ⟨.hbm, 2749, rfl⟩
abbrev main_call126_v13 : Ref sig .tc := ⟨.hbm, 2750, rfl⟩
abbrev main_call126_v14 : Ref sig .tc := ⟨.hbm, 2751, rfl⟩
abbrev main_call126_cst : Ref sig .tc := ⟨.hbm, 2752, rfl⟩
abbrev main_call126_v15 : Ref sig .tc := ⟨.hbm, 2753, rfl⟩
abbrev main_v1250 : Ref sig .tc := ⟨.hbm, 2754, rfl⟩
abbrev main_v1251 : Ref sig .tc := ⟨.hbm, 2755, rfl⟩
abbrev main_v1252 : Ref sig .tc := ⟨.hbm, 2756, rfl⟩
abbrev main_cst_227 : Ref sig .tc := ⟨.hbm, 2757, rfl⟩
abbrev main_v1253 : Ref sig .tc := ⟨.hbm, 2758, rfl⟩
abbrev main_v1254 : Ref sig .tc := ⟨.hbm, 2759, rfl⟩
abbrev main_v1255 : Ref sig .tc := ⟨.hbm, 2760, rfl⟩
abbrev main_cst_228 : Ref sig .tc := ⟨.hbm, 2761, rfl⟩
abbrev main_call127_v0 : Ref sig .tc := ⟨.hbm, 2762, rfl⟩
abbrev main_call127_v1 : Ref sig .tc := ⟨.hbm, 2763, rfl⟩
abbrev main_v1256 : Ref sig .tc := ⟨.hbm, 2764, rfl⟩
abbrev main_v1257 : Ref sig .tc := ⟨.hbm, 2765, rfl⟩
abbrev main_v1258 : Ref sig .tc := ⟨.hbm, 2766, rfl⟩
abbrev main_v1259 : Ref sig .tc := ⟨.hbm, 2767, rfl⟩
abbrev main_call128_c : Ref sig .tc := ⟨.hbm, 2768, rfl⟩
abbrev main_call128_v0 : Ref sig .tc := ⟨.hbm, 2769, rfl⟩
abbrev main_call128_v1 : Ref sig .tc := ⟨.hbm, 2770, rfl⟩
abbrev main_call128_c_0 : Ref sig .tc := ⟨.hbm, 2771, rfl⟩
abbrev main_call128_v2 : Ref sig .tc := ⟨.hbm, 2772, rfl⟩
abbrev main_call128_v3 : Ref sig .tc := ⟨.hbm, 2773, rfl⟩
abbrev main_call128_v4 : Ref sig .tc := ⟨.hbm, 2774, rfl⟩
abbrev main_call128_v5 : Ref sig .tc := ⟨.hbm, 2775, rfl⟩
abbrev main_call128_c_1 : Ref sig .tc := ⟨.hbm, 2776, rfl⟩
abbrev main_call128_c_2 : Ref sig .tc := ⟨.hbm, 2777, rfl⟩
abbrev main_call128_v6 : Ref sig .tc := ⟨.hbm, 2778, rfl⟩
abbrev main_call128_v7 : Ref sig .tc := ⟨.hbm, 2779, rfl⟩
abbrev main_call128_v8 : Ref sig .tc := ⟨.hbm, 2780, rfl⟩
abbrev main_call128_v9 : Ref sig .tc := ⟨.hbm, 2781, rfl⟩
abbrev main_call128_v10 : Ref sig .tc := ⟨.hbm, 2782, rfl⟩
abbrev main_call128_v11 : Ref sig .tc := ⟨.hbm, 2783, rfl⟩
abbrev main_call128_c_3 : Ref sig .tc := ⟨.hbm, 2784, rfl⟩
abbrev main_call128_v12 : Ref sig .tc := ⟨.hbm, 2785, rfl⟩
abbrev main_call128_v13 : Ref sig .tc := ⟨.hbm, 2786, rfl⟩
abbrev main_call128_v14 : Ref sig .tc := ⟨.hbm, 2787, rfl⟩
abbrev main_call128_cst : Ref sig .tc := ⟨.hbm, 2788, rfl⟩
abbrev main_call128_v15 : Ref sig .tc := ⟨.hbm, 2789, rfl⟩
abbrev main_v1260 : Ref sig .tc := ⟨.hbm, 2790, rfl⟩
abbrev main_v1261 : Ref sig .tc := ⟨.hbm, 2791, rfl⟩
abbrev main_v1262 : Ref sig .tc := ⟨.hbm, 2792, rfl⟩
abbrev main_cst_229 : Ref sig .tc := ⟨.hbm, 2793, rfl⟩
abbrev main_v1263 : Ref sig .tc := ⟨.hbm, 2794, rfl⟩
abbrev main_v1264 : Ref sig .tc := ⟨.hbm, 2795, rfl⟩
abbrev main_v1265 : Ref sig .tc := ⟨.hbm, 2796, rfl⟩
abbrev main_cst_230 : Ref sig .tc := ⟨.hbm, 2797, rfl⟩
abbrev main_call129_v0 : Ref sig .tc := ⟨.hbm, 2798, rfl⟩
abbrev main_call129_v1 : Ref sig .tc := ⟨.hbm, 2799, rfl⟩
abbrev main_v1266 : Ref sig .tc := ⟨.hbm, 2800, rfl⟩
abbrev main_v1267 : Ref sig .tc := ⟨.hbm, 2801, rfl⟩
abbrev main_v1268 : Ref sig .tc := ⟨.hbm, 2802, rfl⟩
abbrev main_v1269 : Ref sig .tc := ⟨.hbm, 2803, rfl⟩
abbrev main_call130_c : Ref sig .tc := ⟨.hbm, 2804, rfl⟩
abbrev main_call130_v0 : Ref sig .tc := ⟨.hbm, 2805, rfl⟩
abbrev main_call130_v1 : Ref sig .tc := ⟨.hbm, 2806, rfl⟩
abbrev main_call130_c_0 : Ref sig .tc := ⟨.hbm, 2807, rfl⟩
abbrev main_call130_v2 : Ref sig .tc := ⟨.hbm, 2808, rfl⟩
abbrev main_call130_v3 : Ref sig .tc := ⟨.hbm, 2809, rfl⟩
abbrev main_call130_v4 : Ref sig .tc := ⟨.hbm, 2810, rfl⟩
abbrev main_call130_v5 : Ref sig .tc := ⟨.hbm, 2811, rfl⟩
abbrev main_call130_c_1 : Ref sig .tc := ⟨.hbm, 2812, rfl⟩
abbrev main_call130_c_2 : Ref sig .tc := ⟨.hbm, 2813, rfl⟩
abbrev main_call130_v6 : Ref sig .tc := ⟨.hbm, 2814, rfl⟩
abbrev main_call130_v7 : Ref sig .tc := ⟨.hbm, 2815, rfl⟩
abbrev main_call130_v8 : Ref sig .tc := ⟨.hbm, 2816, rfl⟩
abbrev main_call130_v9 : Ref sig .tc := ⟨.hbm, 2817, rfl⟩
abbrev main_call130_v10 : Ref sig .tc := ⟨.hbm, 2818, rfl⟩
abbrev main_call130_v11 : Ref sig .tc := ⟨.hbm, 2819, rfl⟩
abbrev main_call130_c_3 : Ref sig .tc := ⟨.hbm, 2820, rfl⟩
abbrev main_call130_v12 : Ref sig .tc := ⟨.hbm, 2821, rfl⟩
abbrev main_call130_v13 : Ref sig .tc := ⟨.hbm, 2822, rfl⟩
abbrev main_call130_v14 : Ref sig .tc := ⟨.hbm, 2823, rfl⟩
abbrev main_call130_cst : Ref sig .tc := ⟨.hbm, 2824, rfl⟩
abbrev main_call130_v15 : Ref sig .tc := ⟨.hbm, 2825, rfl⟩
abbrev main_v1270 : Ref sig .tc := ⟨.hbm, 2826, rfl⟩
abbrev main_v1271 : Ref sig .tc := ⟨.hbm, 2827, rfl⟩
abbrev main_v1272 : Ref sig .tc := ⟨.hbm, 2828, rfl⟩
abbrev main_cst_231 : Ref sig .tc := ⟨.hbm, 2829, rfl⟩
abbrev main_v1273 : Ref sig .tc := ⟨.hbm, 2830, rfl⟩
abbrev main_v1274 : Ref sig .tc := ⟨.hbm, 2831, rfl⟩
abbrev main_v1275 : Ref sig .tc := ⟨.hbm, 2832, rfl⟩
abbrev main_cst_232 : Ref sig .tc := ⟨.hbm, 2833, rfl⟩
abbrev main_call131_v0 : Ref sig .tc := ⟨.hbm, 2834, rfl⟩
abbrev main_call131_v1 : Ref sig .tc := ⟨.hbm, 2835, rfl⟩
abbrev main_v1276 : Ref sig .tc := ⟨.hbm, 2836, rfl⟩
abbrev main_v1277 : Ref sig .tc := ⟨.hbm, 2837, rfl⟩
abbrev main_v1278 : Ref sig .tc := ⟨.hbm, 2838, rfl⟩
abbrev main_v1279 : Ref sig .tc := ⟨.hbm, 2839, rfl⟩
abbrev main_call132_c : Ref sig .tc := ⟨.hbm, 2840, rfl⟩
abbrev main_call132_v0 : Ref sig .tc := ⟨.hbm, 2841, rfl⟩
abbrev main_call132_v1 : Ref sig .tc := ⟨.hbm, 2842, rfl⟩
abbrev main_call132_c_0 : Ref sig .tc := ⟨.hbm, 2843, rfl⟩
abbrev main_call132_v2 : Ref sig .tc := ⟨.hbm, 2844, rfl⟩
abbrev main_call132_v3 : Ref sig .tc := ⟨.hbm, 2845, rfl⟩
abbrev main_call132_v4 : Ref sig .tc := ⟨.hbm, 2846, rfl⟩
abbrev main_call132_v5 : Ref sig .tc := ⟨.hbm, 2847, rfl⟩
abbrev main_call132_c_1 : Ref sig .tc := ⟨.hbm, 2848, rfl⟩
abbrev main_call132_c_2 : Ref sig .tc := ⟨.hbm, 2849, rfl⟩
abbrev main_call132_v6 : Ref sig .tc := ⟨.hbm, 2850, rfl⟩
abbrev main_call132_v7 : Ref sig .tc := ⟨.hbm, 2851, rfl⟩
abbrev main_call132_v8 : Ref sig .tc := ⟨.hbm, 2852, rfl⟩
abbrev main_call132_v9 : Ref sig .tc := ⟨.hbm, 2853, rfl⟩
abbrev main_call132_v10 : Ref sig .tc := ⟨.hbm, 2854, rfl⟩
abbrev main_call132_v11 : Ref sig .tc := ⟨.hbm, 2855, rfl⟩
abbrev main_call132_c_3 : Ref sig .tc := ⟨.hbm, 2856, rfl⟩
abbrev main_call132_v12 : Ref sig .tc := ⟨.hbm, 2857, rfl⟩
abbrev main_call132_v13 : Ref sig .tc := ⟨.hbm, 2858, rfl⟩
abbrev main_call132_v14 : Ref sig .tc := ⟨.hbm, 2859, rfl⟩
abbrev main_call132_cst : Ref sig .tc := ⟨.hbm, 2860, rfl⟩
abbrev main_call132_v15 : Ref sig .tc := ⟨.hbm, 2861, rfl⟩
abbrev main_v1280 : Ref sig .tc := ⟨.hbm, 2862, rfl⟩
abbrev main_v1281 : Ref sig .tc := ⟨.hbm, 2863, rfl⟩
abbrev main_v1282 : Ref sig .tc := ⟨.hbm, 2864, rfl⟩
abbrev main_cst_233 : Ref sig .tc := ⟨.hbm, 2865, rfl⟩
abbrev main_v1283 : Ref sig .tc := ⟨.hbm, 2866, rfl⟩
abbrev main_v1284 : Ref sig .tc := ⟨.hbm, 2867, rfl⟩
abbrev main_v1285 : Ref sig .tc := ⟨.hbm, 2868, rfl⟩
abbrev main_cst_234 : Ref sig .tc := ⟨.hbm, 2869, rfl⟩
abbrev main_call133_v0 : Ref sig .tc := ⟨.hbm, 2870, rfl⟩
abbrev main_call133_v1 : Ref sig .tc := ⟨.hbm, 2871, rfl⟩
abbrev main_v1286 : Ref sig .tc := ⟨.hbm, 2872, rfl⟩
abbrev main_v1287 : Ref sig .tc := ⟨.hbm, 2873, rfl⟩
abbrev main_v1288 : Ref sig .tc := ⟨.hbm, 2874, rfl⟩
abbrev main_v1289 : Ref sig .tc := ⟨.hbm, 2875, rfl⟩
abbrev main_call134_c : Ref sig .tc := ⟨.hbm, 2876, rfl⟩
abbrev main_call134_v0 : Ref sig .tc := ⟨.hbm, 2877, rfl⟩
abbrev main_call134_v1 : Ref sig .tc := ⟨.hbm, 2878, rfl⟩
abbrev main_call134_c_0 : Ref sig .tc := ⟨.hbm, 2879, rfl⟩
abbrev main_call134_v2 : Ref sig .tc := ⟨.hbm, 2880, rfl⟩
abbrev main_call134_v3 : Ref sig .tc := ⟨.hbm, 2881, rfl⟩
abbrev main_call134_v4 : Ref sig .tc := ⟨.hbm, 2882, rfl⟩
abbrev main_call134_v5 : Ref sig .tc := ⟨.hbm, 2883, rfl⟩
abbrev main_call134_c_1 : Ref sig .tc := ⟨.hbm, 2884, rfl⟩
abbrev main_call134_c_2 : Ref sig .tc := ⟨.hbm, 2885, rfl⟩
abbrev main_call134_v6 : Ref sig .tc := ⟨.hbm, 2886, rfl⟩
abbrev main_call134_v7 : Ref sig .tc := ⟨.hbm, 2887, rfl⟩
abbrev main_call134_v8 : Ref sig .tc := ⟨.hbm, 2888, rfl⟩
abbrev main_call134_v9 : Ref sig .tc := ⟨.hbm, 2889, rfl⟩
abbrev main_call134_v10 : Ref sig .tc := ⟨.hbm, 2890, rfl⟩
abbrev main_call134_v11 : Ref sig .tc := ⟨.hbm, 2891, rfl⟩
abbrev main_call134_c_3 : Ref sig .tc := ⟨.hbm, 2892, rfl⟩
abbrev main_call134_v12 : Ref sig .tc := ⟨.hbm, 2893, rfl⟩
abbrev main_call134_v13 : Ref sig .tc := ⟨.hbm, 2894, rfl⟩
abbrev main_call134_v14 : Ref sig .tc := ⟨.hbm, 2895, rfl⟩
abbrev main_call134_cst : Ref sig .tc := ⟨.hbm, 2896, rfl⟩
abbrev main_call134_v15 : Ref sig .tc := ⟨.hbm, 2897, rfl⟩
abbrev main_v1290 : Ref sig .tc := ⟨.hbm, 2898, rfl⟩
abbrev main_v1291 : Ref sig .tc := ⟨.hbm, 2899, rfl⟩
abbrev main_v1292 : Ref sig .tc := ⟨.hbm, 2900, rfl⟩
abbrev main_cst_235 : Ref sig .tc := ⟨.hbm, 2901, rfl⟩
abbrev main_v1293 : Ref sig .tc := ⟨.hbm, 2902, rfl⟩
abbrev main_v1294 : Ref sig .tc := ⟨.hbm, 2903, rfl⟩
abbrev main_v1295 : Ref sig .tc := ⟨.hbm, 2904, rfl⟩
abbrev main_cst_236 : Ref sig .tc := ⟨.hbm, 2905, rfl⟩
abbrev main_call135_v0 : Ref sig .tc := ⟨.hbm, 2906, rfl⟩
abbrev main_call135_v1 : Ref sig .tc := ⟨.hbm, 2907, rfl⟩
abbrev main_v1296 : Ref sig .tc := ⟨.hbm, 2908, rfl⟩
abbrev main_v1297 : Ref sig .tc := ⟨.hbm, 2909, rfl⟩
abbrev main_v1298 : Ref sig .tc := ⟨.hbm, 2910, rfl⟩
abbrev main_v1299 : Ref sig .tc := ⟨.hbm, 2911, rfl⟩
abbrev main_call136_c : Ref sig .tc := ⟨.hbm, 2912, rfl⟩
abbrev main_call136_v0 : Ref sig .tc := ⟨.hbm, 2913, rfl⟩
abbrev main_call136_v1 : Ref sig .tc := ⟨.hbm, 2914, rfl⟩
abbrev main_call136_c_0 : Ref sig .tc := ⟨.hbm, 2915, rfl⟩
abbrev main_call136_v2 : Ref sig .tc := ⟨.hbm, 2916, rfl⟩
abbrev main_call136_v3 : Ref sig .tc := ⟨.hbm, 2917, rfl⟩
abbrev main_call136_v4 : Ref sig .tc := ⟨.hbm, 2918, rfl⟩
abbrev main_call136_v5 : Ref sig .tc := ⟨.hbm, 2919, rfl⟩
abbrev main_call136_c_1 : Ref sig .tc := ⟨.hbm, 2920, rfl⟩
abbrev main_call136_c_2 : Ref sig .tc := ⟨.hbm, 2921, rfl⟩
abbrev main_call136_v6 : Ref sig .tc := ⟨.hbm, 2922, rfl⟩
abbrev main_call136_v7 : Ref sig .tc := ⟨.hbm, 2923, rfl⟩
abbrev main_call136_v8 : Ref sig .tc := ⟨.hbm, 2924, rfl⟩
abbrev main_call136_v9 : Ref sig .tc := ⟨.hbm, 2925, rfl⟩
abbrev main_call136_v10 : Ref sig .tc := ⟨.hbm, 2926, rfl⟩
abbrev main_call136_v11 : Ref sig .tc := ⟨.hbm, 2927, rfl⟩
abbrev main_call136_c_3 : Ref sig .tc := ⟨.hbm, 2928, rfl⟩
abbrev main_call136_v12 : Ref sig .tc := ⟨.hbm, 2929, rfl⟩
abbrev main_call136_v13 : Ref sig .tc := ⟨.hbm, 2930, rfl⟩
abbrev main_call136_v14 : Ref sig .tc := ⟨.hbm, 2931, rfl⟩
abbrev main_call136_cst : Ref sig .tc := ⟨.hbm, 2932, rfl⟩
abbrev main_call136_v15 : Ref sig .tc := ⟨.hbm, 2933, rfl⟩
abbrev main_v1300 : Ref sig .tc := ⟨.hbm, 2934, rfl⟩
abbrev main_v1301 : Ref sig .tc := ⟨.hbm, 2935, rfl⟩
abbrev main_v1302 : Ref sig .tc := ⟨.hbm, 2936, rfl⟩
abbrev main_cst_237 : Ref sig .tc := ⟨.hbm, 2937, rfl⟩
abbrev main_v1303 : Ref sig .tc := ⟨.hbm, 2938, rfl⟩
abbrev main_v1304 : Ref sig .tc := ⟨.hbm, 2939, rfl⟩
abbrev main_v1305 : Ref sig .tc := ⟨.hbm, 2940, rfl⟩
abbrev main_cst_238 : Ref sig .tc := ⟨.hbm, 2941, rfl⟩
abbrev main_call137_v0 : Ref sig .tc := ⟨.hbm, 2942, rfl⟩
abbrev main_call137_v1 : Ref sig .tc := ⟨.hbm, 2943, rfl⟩
abbrev main_v1306 : Ref sig .tc := ⟨.hbm, 2944, rfl⟩
abbrev main_v1307 : Ref sig .tc := ⟨.hbm, 2945, rfl⟩
abbrev main_v1308 : Ref sig .tc := ⟨.hbm, 2946, rfl⟩
abbrev main_v1309 : Ref sig .tc := ⟨.hbm, 2947, rfl⟩
abbrev main_call138_c : Ref sig .tc := ⟨.hbm, 2948, rfl⟩
abbrev main_call138_v0 : Ref sig .tc := ⟨.hbm, 2949, rfl⟩
abbrev main_call138_v1 : Ref sig .tc := ⟨.hbm, 2950, rfl⟩
abbrev main_call138_c_0 : Ref sig .tc := ⟨.hbm, 2951, rfl⟩
abbrev main_call138_v2 : Ref sig .tc := ⟨.hbm, 2952, rfl⟩
abbrev main_call138_v3 : Ref sig .tc := ⟨.hbm, 2953, rfl⟩
abbrev main_call138_v4 : Ref sig .tc := ⟨.hbm, 2954, rfl⟩
abbrev main_call138_v5 : Ref sig .tc := ⟨.hbm, 2955, rfl⟩
abbrev main_call138_c_1 : Ref sig .tc := ⟨.hbm, 2956, rfl⟩
abbrev main_call138_c_2 : Ref sig .tc := ⟨.hbm, 2957, rfl⟩
abbrev main_call138_v6 : Ref sig .tc := ⟨.hbm, 2958, rfl⟩
abbrev main_call138_v7 : Ref sig .tc := ⟨.hbm, 2959, rfl⟩
abbrev main_call138_v8 : Ref sig .tc := ⟨.hbm, 2960, rfl⟩
abbrev main_call138_v9 : Ref sig .tc := ⟨.hbm, 2961, rfl⟩
abbrev main_call138_v10 : Ref sig .tc := ⟨.hbm, 2962, rfl⟩
abbrev main_call138_v11 : Ref sig .tc := ⟨.hbm, 2963, rfl⟩
abbrev main_call138_c_3 : Ref sig .tc := ⟨.hbm, 2964, rfl⟩
abbrev main_call138_v12 : Ref sig .tc := ⟨.hbm, 2965, rfl⟩
abbrev main_call138_v13 : Ref sig .tc := ⟨.hbm, 2966, rfl⟩
abbrev main_call138_v14 : Ref sig .tc := ⟨.hbm, 2967, rfl⟩
abbrev main_call138_cst : Ref sig .tc := ⟨.hbm, 2968, rfl⟩
abbrev main_call138_v15 : Ref sig .tc := ⟨.hbm, 2969, rfl⟩
abbrev main_v1310 : Ref sig .tc := ⟨.hbm, 2970, rfl⟩
abbrev main_v1311 : Ref sig .tc := ⟨.hbm, 2971, rfl⟩
abbrev main_v1312 : Ref sig .tc := ⟨.hbm, 2972, rfl⟩
abbrev main_cst_239 : Ref sig .tc := ⟨.hbm, 2973, rfl⟩
abbrev main_v1313 : Ref sig .tc := ⟨.hbm, 2974, rfl⟩
abbrev main_v1314 : Ref sig .tc := ⟨.hbm, 2975, rfl⟩
abbrev main_v1315 : Ref sig .tc := ⟨.hbm, 2976, rfl⟩
abbrev main_cst_240 : Ref sig .tc := ⟨.hbm, 2977, rfl⟩
abbrev main_call139_v0 : Ref sig .tc := ⟨.hbm, 2978, rfl⟩
abbrev main_call139_v1 : Ref sig .tc := ⟨.hbm, 2979, rfl⟩
abbrev main_v1316 : Ref sig .tc := ⟨.hbm, 2980, rfl⟩
abbrev main_v1317 : Ref sig .tc := ⟨.hbm, 2981, rfl⟩
abbrev main_v1318 : Ref sig .tc := ⟨.hbm, 2982, rfl⟩
abbrev main_v1319 : Ref sig .tc := ⟨.hbm, 2983, rfl⟩
abbrev main_call140_c : Ref sig .tc := ⟨.hbm, 2984, rfl⟩
abbrev main_call140_v0 : Ref sig .tc := ⟨.hbm, 2985, rfl⟩
abbrev main_call140_v1 : Ref sig .tc := ⟨.hbm, 2986, rfl⟩
abbrev main_call140_c_0 : Ref sig .tc := ⟨.hbm, 2987, rfl⟩
abbrev main_call140_v2 : Ref sig .tc := ⟨.hbm, 2988, rfl⟩
abbrev main_call140_v3 : Ref sig .tc := ⟨.hbm, 2989, rfl⟩
abbrev main_call140_v4 : Ref sig .tc := ⟨.hbm, 2990, rfl⟩
abbrev main_call140_v5 : Ref sig .tc := ⟨.hbm, 2991, rfl⟩
abbrev main_call140_c_1 : Ref sig .tc := ⟨.hbm, 2992, rfl⟩
abbrev main_call140_c_2 : Ref sig .tc := ⟨.hbm, 2993, rfl⟩
abbrev main_call140_v6 : Ref sig .tc := ⟨.hbm, 2994, rfl⟩
abbrev main_call140_v7 : Ref sig .tc := ⟨.hbm, 2995, rfl⟩
abbrev main_call140_v8 : Ref sig .tc := ⟨.hbm, 2996, rfl⟩
abbrev main_call140_v9 : Ref sig .tc := ⟨.hbm, 2997, rfl⟩
abbrev main_call140_v10 : Ref sig .tc := ⟨.hbm, 2998, rfl⟩
abbrev main_call140_v11 : Ref sig .tc := ⟨.hbm, 2999, rfl⟩
abbrev main_call140_c_3 : Ref sig .tc := ⟨.hbm, 3000, rfl⟩
abbrev main_call140_v12 : Ref sig .tc := ⟨.hbm, 3001, rfl⟩
abbrev main_call140_v13 : Ref sig .tc := ⟨.hbm, 3002, rfl⟩
abbrev main_call140_v14 : Ref sig .tc := ⟨.hbm, 3003, rfl⟩
abbrev main_call140_cst : Ref sig .tc := ⟨.hbm, 3004, rfl⟩
abbrev main_call140_v15 : Ref sig .tc := ⟨.hbm, 3005, rfl⟩
abbrev main_v1320 : Ref sig .tc := ⟨.hbm, 3006, rfl⟩
abbrev main_v1321 : Ref sig .tc := ⟨.hbm, 3007, rfl⟩
abbrev main_v1322 : Ref sig .tc := ⟨.hbm, 3008, rfl⟩
abbrev main_cst_241 : Ref sig .tc := ⟨.hbm, 3009, rfl⟩
abbrev main_v1323 : Ref sig .tc := ⟨.hbm, 3010, rfl⟩
abbrev main_v1324 : Ref sig .tc := ⟨.hbm, 3011, rfl⟩
abbrev main_v1325 : Ref sig .tc := ⟨.hbm, 3012, rfl⟩
abbrev main_cst_242 : Ref sig .tc := ⟨.hbm, 3013, rfl⟩
abbrev main_call141_v0 : Ref sig .tc := ⟨.hbm, 3014, rfl⟩
abbrev main_call141_v1 : Ref sig .tc := ⟨.hbm, 3015, rfl⟩
abbrev main_v1326 : Ref sig .tc := ⟨.hbm, 3016, rfl⟩
abbrev main_v1327 : Ref sig .tc := ⟨.hbm, 3017, rfl⟩
abbrev main_v1328 : Ref sig .tc := ⟨.hbm, 3018, rfl⟩
abbrev main_v1329 : Ref sig .tc := ⟨.hbm, 3019, rfl⟩
abbrev main_call142_c : Ref sig .tc := ⟨.hbm, 3020, rfl⟩
abbrev main_call142_v0 : Ref sig .tc := ⟨.hbm, 3021, rfl⟩
abbrev main_call142_v1 : Ref sig .tc := ⟨.hbm, 3022, rfl⟩
abbrev main_call142_c_0 : Ref sig .tc := ⟨.hbm, 3023, rfl⟩
abbrev main_call142_v2 : Ref sig .tc := ⟨.hbm, 3024, rfl⟩
abbrev main_call142_v3 : Ref sig .tc := ⟨.hbm, 3025, rfl⟩
abbrev main_call142_v4 : Ref sig .tc := ⟨.hbm, 3026, rfl⟩
abbrev main_call142_v5 : Ref sig .tc := ⟨.hbm, 3027, rfl⟩
abbrev main_call142_c_1 : Ref sig .tc := ⟨.hbm, 3028, rfl⟩
abbrev main_call142_c_2 : Ref sig .tc := ⟨.hbm, 3029, rfl⟩
abbrev main_call142_v6 : Ref sig .tc := ⟨.hbm, 3030, rfl⟩
abbrev main_call142_v7 : Ref sig .tc := ⟨.hbm, 3031, rfl⟩
abbrev main_call142_v8 : Ref sig .tc := ⟨.hbm, 3032, rfl⟩
abbrev main_call142_v9 : Ref sig .tc := ⟨.hbm, 3033, rfl⟩
abbrev main_call142_v10 : Ref sig .tc := ⟨.hbm, 3034, rfl⟩
abbrev main_call142_v11 : Ref sig .tc := ⟨.hbm, 3035, rfl⟩
abbrev main_call142_c_3 : Ref sig .tc := ⟨.hbm, 3036, rfl⟩
abbrev main_call142_v12 : Ref sig .tc := ⟨.hbm, 3037, rfl⟩
abbrev main_call142_v13 : Ref sig .tc := ⟨.hbm, 3038, rfl⟩
abbrev main_call142_v14 : Ref sig .tc := ⟨.hbm, 3039, rfl⟩
abbrev main_call142_cst : Ref sig .tc := ⟨.hbm, 3040, rfl⟩
abbrev main_call142_v15 : Ref sig .tc := ⟨.hbm, 3041, rfl⟩
abbrev main_v1330 : Ref sig .tc := ⟨.hbm, 3042, rfl⟩
abbrev main_v1331 : Ref sig .tc := ⟨.hbm, 3043, rfl⟩
abbrev main_v1332 : Ref sig .tc := ⟨.hbm, 3044, rfl⟩
abbrev main_cst_243 : Ref sig .tc := ⟨.hbm, 3045, rfl⟩
abbrev main_v1333 : Ref sig .tc := ⟨.hbm, 3046, rfl⟩
abbrev main_v1334 : Ref sig .tc := ⟨.hbm, 3047, rfl⟩
abbrev main_v1335 : Ref sig .tc := ⟨.hbm, 3048, rfl⟩
abbrev main_cst_244 : Ref sig .tc := ⟨.hbm, 3049, rfl⟩
abbrev main_call143_v0 : Ref sig .tc := ⟨.hbm, 3050, rfl⟩
abbrev main_call143_v1 : Ref sig .tc := ⟨.hbm, 3051, rfl⟩
abbrev main_v1336 : Ref sig .tc := ⟨.hbm, 3052, rfl⟩
abbrev main_v1337 : Ref sig .tc := ⟨.hbm, 3053, rfl⟩
abbrev main_v1338 : Ref sig .tc := ⟨.hbm, 3054, rfl⟩
abbrev main_v1339 : Ref sig .tc := ⟨.hbm, 3055, rfl⟩
abbrev main_call144_c : Ref sig .tc := ⟨.hbm, 3056, rfl⟩
abbrev main_call144_v0 : Ref sig .tc := ⟨.hbm, 3057, rfl⟩
abbrev main_call144_v1 : Ref sig .tc := ⟨.hbm, 3058, rfl⟩
abbrev main_call144_c_0 : Ref sig .tc := ⟨.hbm, 3059, rfl⟩
abbrev main_call144_v2 : Ref sig .tc := ⟨.hbm, 3060, rfl⟩
abbrev main_call144_v3 : Ref sig .tc := ⟨.hbm, 3061, rfl⟩
abbrev main_call144_v4 : Ref sig .tc := ⟨.hbm, 3062, rfl⟩
abbrev main_call144_v5 : Ref sig .tc := ⟨.hbm, 3063, rfl⟩
abbrev main_call144_c_1 : Ref sig .tc := ⟨.hbm, 3064, rfl⟩
abbrev main_call144_c_2 : Ref sig .tc := ⟨.hbm, 3065, rfl⟩
abbrev main_call144_v6 : Ref sig .tc := ⟨.hbm, 3066, rfl⟩
abbrev main_call144_v7 : Ref sig .tc := ⟨.hbm, 3067, rfl⟩
abbrev main_call144_v8 : Ref sig .tc := ⟨.hbm, 3068, rfl⟩
abbrev main_call144_v9 : Ref sig .tc := ⟨.hbm, 3069, rfl⟩
abbrev main_call144_v10 : Ref sig .tc := ⟨.hbm, 3070, rfl⟩
abbrev main_call144_v11 : Ref sig .tc := ⟨.hbm, 3071, rfl⟩
abbrev main_call144_c_3 : Ref sig .tc := ⟨.hbm, 3072, rfl⟩
abbrev main_call144_v12 : Ref sig .tc := ⟨.hbm, 3073, rfl⟩
abbrev main_call144_v13 : Ref sig .tc := ⟨.hbm, 3074, rfl⟩
abbrev main_call144_v14 : Ref sig .tc := ⟨.hbm, 3075, rfl⟩
abbrev main_call144_cst : Ref sig .tc := ⟨.hbm, 3076, rfl⟩
abbrev main_call144_v15 : Ref sig .tc := ⟨.hbm, 3077, rfl⟩
abbrev main_v1340 : Ref sig .tc := ⟨.hbm, 3078, rfl⟩
abbrev main_v1341 : Ref sig .tc := ⟨.hbm, 3079, rfl⟩
abbrev main_v1342 : Ref sig .tc := ⟨.hbm, 3080, rfl⟩
abbrev main_cst_245 : Ref sig .tc := ⟨.hbm, 3081, rfl⟩
abbrev main_v1343 : Ref sig .tc := ⟨.hbm, 3082, rfl⟩
abbrev main_v1344 : Ref sig .tc := ⟨.hbm, 3083, rfl⟩
abbrev main_v1345 : Ref sig .tc := ⟨.hbm, 3084, rfl⟩
abbrev main_cst_246 : Ref sig .tc := ⟨.hbm, 3085, rfl⟩
abbrev main_call145_v0 : Ref sig .tc := ⟨.hbm, 3086, rfl⟩
abbrev main_call145_v1 : Ref sig .tc := ⟨.hbm, 3087, rfl⟩
abbrev main_v1346 : Ref sig .tc := ⟨.hbm, 3088, rfl⟩
abbrev main_v1347 : Ref sig .tc := ⟨.hbm, 3089, rfl⟩
abbrev main_v1348 : Ref sig .tc := ⟨.hbm, 3090, rfl⟩
abbrev main_v1349 : Ref sig .tc := ⟨.hbm, 3091, rfl⟩
abbrev main_call146_c : Ref sig .tc := ⟨.hbm, 3092, rfl⟩
abbrev main_call146_v0 : Ref sig .tc := ⟨.hbm, 3093, rfl⟩
abbrev main_call146_v1 : Ref sig .tc := ⟨.hbm, 3094, rfl⟩
abbrev main_call146_c_0 : Ref sig .tc := ⟨.hbm, 3095, rfl⟩
abbrev main_call146_v2 : Ref sig .tc := ⟨.hbm, 3096, rfl⟩
abbrev main_call146_v3 : Ref sig .tc := ⟨.hbm, 3097, rfl⟩
abbrev main_call146_v4 : Ref sig .tc := ⟨.hbm, 3098, rfl⟩
abbrev main_call146_v5 : Ref sig .tc := ⟨.hbm, 3099, rfl⟩
abbrev main_call146_c_1 : Ref sig .tc := ⟨.hbm, 3100, rfl⟩
abbrev main_call146_c_2 : Ref sig .tc := ⟨.hbm, 3101, rfl⟩
abbrev main_call146_v6 : Ref sig .tc := ⟨.hbm, 3102, rfl⟩
abbrev main_call146_v7 : Ref sig .tc := ⟨.hbm, 3103, rfl⟩
abbrev main_call146_v8 : Ref sig .tc := ⟨.hbm, 3104, rfl⟩
abbrev main_call146_v9 : Ref sig .tc := ⟨.hbm, 3105, rfl⟩
abbrev main_call146_v10 : Ref sig .tc := ⟨.hbm, 3106, rfl⟩
abbrev main_call146_v11 : Ref sig .tc := ⟨.hbm, 3107, rfl⟩
abbrev main_call146_c_3 : Ref sig .tc := ⟨.hbm, 3108, rfl⟩
abbrev main_call146_v12 : Ref sig .tc := ⟨.hbm, 3109, rfl⟩
abbrev main_call146_v13 : Ref sig .tc := ⟨.hbm, 3110, rfl⟩
abbrev main_call146_v14 : Ref sig .tc := ⟨.hbm, 3111, rfl⟩
abbrev main_call146_cst : Ref sig .tc := ⟨.hbm, 3112, rfl⟩
abbrev main_call146_v15 : Ref sig .tc := ⟨.hbm, 3113, rfl⟩
abbrev main_v1350 : Ref sig .tc := ⟨.hbm, 3114, rfl⟩
abbrev main_v1351 : Ref sig .tc := ⟨.hbm, 3115, rfl⟩
abbrev main_v1352 : Ref sig .tc := ⟨.hbm, 3116, rfl⟩
abbrev main_cst_247 : Ref sig .tc := ⟨.hbm, 3117, rfl⟩
abbrev main_v1353 : Ref sig .tc := ⟨.hbm, 3118, rfl⟩
abbrev main_v1354 : Ref sig .tc := ⟨.hbm, 3119, rfl⟩
abbrev main_v1355 : Ref sig .tc := ⟨.hbm, 3120, rfl⟩
abbrev main_cst_248 : Ref sig .tc := ⟨.hbm, 3121, rfl⟩
abbrev main_call147_v0 : Ref sig .tc := ⟨.hbm, 3122, rfl⟩
abbrev main_call147_v1 : Ref sig .tc := ⟨.hbm, 3123, rfl⟩
abbrev main_v1356 : Ref sig .tc := ⟨.hbm, 3124, rfl⟩
abbrev main_v1357 : Ref sig .tc := ⟨.hbm, 3125, rfl⟩
abbrev main_v1358 : Ref sig .tc := ⟨.hbm, 3126, rfl⟩
abbrev main_v1359 : Ref sig .tc := ⟨.hbm, 3127, rfl⟩
abbrev main_call148_c : Ref sig .tc := ⟨.hbm, 3128, rfl⟩
abbrev main_call148_v0 : Ref sig .tc := ⟨.hbm, 3129, rfl⟩
abbrev main_call148_v1 : Ref sig .tc := ⟨.hbm, 3130, rfl⟩
abbrev main_call148_c_0 : Ref sig .tc := ⟨.hbm, 3131, rfl⟩
abbrev main_call148_v2 : Ref sig .tc := ⟨.hbm, 3132, rfl⟩
abbrev main_call148_v3 : Ref sig .tc := ⟨.hbm, 3133, rfl⟩
abbrev main_call148_v4 : Ref sig .tc := ⟨.hbm, 3134, rfl⟩
abbrev main_call148_v5 : Ref sig .tc := ⟨.hbm, 3135, rfl⟩
abbrev main_call148_c_1 : Ref sig .tc := ⟨.hbm, 3136, rfl⟩
abbrev main_call148_c_2 : Ref sig .tc := ⟨.hbm, 3137, rfl⟩
abbrev main_call148_v6 : Ref sig .tc := ⟨.hbm, 3138, rfl⟩
abbrev main_call148_v7 : Ref sig .tc := ⟨.hbm, 3139, rfl⟩
abbrev main_call148_v8 : Ref sig .tc := ⟨.hbm, 3140, rfl⟩
abbrev main_call148_v9 : Ref sig .tc := ⟨.hbm, 3141, rfl⟩
abbrev main_call148_v10 : Ref sig .tc := ⟨.hbm, 3142, rfl⟩
abbrev main_call148_v11 : Ref sig .tc := ⟨.hbm, 3143, rfl⟩
abbrev main_call148_c_3 : Ref sig .tc := ⟨.hbm, 3144, rfl⟩
abbrev main_call148_v12 : Ref sig .tc := ⟨.hbm, 3145, rfl⟩
abbrev main_call148_v13 : Ref sig .tc := ⟨.hbm, 3146, rfl⟩
abbrev main_call148_v14 : Ref sig .tc := ⟨.hbm, 3147, rfl⟩
abbrev main_call148_cst : Ref sig .tc := ⟨.hbm, 3148, rfl⟩
abbrev main_call148_v15 : Ref sig .tc := ⟨.hbm, 3149, rfl⟩
abbrev main_v1360 : Ref sig .tc := ⟨.hbm, 3150, rfl⟩
abbrev main_v1361 : Ref sig .tc := ⟨.hbm, 3151, rfl⟩
abbrev main_v1362 : Ref sig .tc := ⟨.hbm, 3152, rfl⟩
abbrev main_cst_249 : Ref sig .tc := ⟨.hbm, 3153, rfl⟩
abbrev main_v1363 : Ref sig .tc := ⟨.hbm, 3154, rfl⟩
abbrev main_v1364 : Ref sig .tc := ⟨.hbm, 3155, rfl⟩
abbrev main_v1365 : Ref sig .tc := ⟨.hbm, 3156, rfl⟩
abbrev main_cst_250 : Ref sig .tc := ⟨.hbm, 3157, rfl⟩
abbrev main_call149_v0 : Ref sig .tc := ⟨.hbm, 3158, rfl⟩
abbrev main_call149_v1 : Ref sig .tc := ⟨.hbm, 3159, rfl⟩
abbrev main_v1366 : Ref sig .tc := ⟨.hbm, 3160, rfl⟩
abbrev main_v1367 : Ref sig .tc := ⟨.hbm, 3161, rfl⟩
abbrev main_v1368 : Ref sig .tc := ⟨.hbm, 3162, rfl⟩
abbrev main_v1369 : Ref sig .tc := ⟨.hbm, 3163, rfl⟩
abbrev main_call150_c : Ref sig .tc := ⟨.hbm, 3164, rfl⟩
abbrev main_call150_v0 : Ref sig .tc := ⟨.hbm, 3165, rfl⟩
abbrev main_call150_v1 : Ref sig .tc := ⟨.hbm, 3166, rfl⟩
abbrev main_call150_c_0 : Ref sig .tc := ⟨.hbm, 3167, rfl⟩
abbrev main_call150_v2 : Ref sig .tc := ⟨.hbm, 3168, rfl⟩
abbrev main_call150_v3 : Ref sig .tc := ⟨.hbm, 3169, rfl⟩
abbrev main_call150_v4 : Ref sig .tc := ⟨.hbm, 3170, rfl⟩
abbrev main_call150_v5 : Ref sig .tc := ⟨.hbm, 3171, rfl⟩
abbrev main_call150_c_1 : Ref sig .tc := ⟨.hbm, 3172, rfl⟩
abbrev main_call150_c_2 : Ref sig .tc := ⟨.hbm, 3173, rfl⟩
abbrev main_call150_v6 : Ref sig .tc := ⟨.hbm, 3174, rfl⟩
abbrev main_call150_v7 : Ref sig .tc := ⟨.hbm, 3175, rfl⟩
abbrev main_call150_v8 : Ref sig .tc := ⟨.hbm, 3176, rfl⟩
abbrev main_call150_v9 : Ref sig .tc := ⟨.hbm, 3177, rfl⟩
abbrev main_call150_v10 : Ref sig .tc := ⟨.hbm, 3178, rfl⟩
abbrev main_call150_v11 : Ref sig .tc := ⟨.hbm, 3179, rfl⟩
abbrev main_call150_c_3 : Ref sig .tc := ⟨.hbm, 3180, rfl⟩
abbrev main_call150_v12 : Ref sig .tc := ⟨.hbm, 3181, rfl⟩
abbrev main_call150_v13 : Ref sig .tc := ⟨.hbm, 3182, rfl⟩
abbrev main_call150_v14 : Ref sig .tc := ⟨.hbm, 3183, rfl⟩
abbrev main_call150_cst : Ref sig .tc := ⟨.hbm, 3184, rfl⟩
abbrev main_call150_v15 : Ref sig .tc := ⟨.hbm, 3185, rfl⟩
abbrev main_v1370 : Ref sig .tc := ⟨.hbm, 3186, rfl⟩
abbrev main_v1371 : Ref sig .tc := ⟨.hbm, 3187, rfl⟩
abbrev main_v1372 : Ref sig .tc := ⟨.hbm, 3188, rfl⟩
abbrev main_cst_251 : Ref sig .tc := ⟨.hbm, 3189, rfl⟩
abbrev main_v1373 : Ref sig .tc := ⟨.hbm, 3190, rfl⟩
abbrev main_v1374 : Ref sig .tc := ⟨.hbm, 3191, rfl⟩
abbrev main_v1375 : Ref sig .tc := ⟨.hbm, 3192, rfl⟩
abbrev main_cst_252 : Ref sig .tc := ⟨.hbm, 3193, rfl⟩
abbrev main_call151_v0 : Ref sig .tc := ⟨.hbm, 3194, rfl⟩
abbrev main_call151_v1 : Ref sig .tc := ⟨.hbm, 3195, rfl⟩
abbrev main_v1376 : Ref sig .tc := ⟨.hbm, 3196, rfl⟩
abbrev main_v1377 : Ref sig .tc := ⟨.hbm, 3197, rfl⟩
abbrev main_v1378 : Ref sig .tc := ⟨.hbm, 3198, rfl⟩
abbrev main_v1379 : Ref sig .tc := ⟨.hbm, 3199, rfl⟩
abbrev main_call152_c : Ref sig .tc := ⟨.hbm, 3200, rfl⟩
abbrev main_call152_v0 : Ref sig .tc := ⟨.hbm, 3201, rfl⟩
abbrev main_call152_v1 : Ref sig .tc := ⟨.hbm, 3202, rfl⟩
abbrev main_call152_c_0 : Ref sig .tc := ⟨.hbm, 3203, rfl⟩
abbrev main_call152_v2 : Ref sig .tc := ⟨.hbm, 3204, rfl⟩
abbrev main_call152_v3 : Ref sig .tc := ⟨.hbm, 3205, rfl⟩
abbrev main_call152_v4 : Ref sig .tc := ⟨.hbm, 3206, rfl⟩
abbrev main_call152_v5 : Ref sig .tc := ⟨.hbm, 3207, rfl⟩
abbrev main_call152_c_1 : Ref sig .tc := ⟨.hbm, 3208, rfl⟩
abbrev main_call152_c_2 : Ref sig .tc := ⟨.hbm, 3209, rfl⟩
abbrev main_call152_v6 : Ref sig .tc := ⟨.hbm, 3210, rfl⟩
abbrev main_call152_v7 : Ref sig .tc := ⟨.hbm, 3211, rfl⟩
abbrev main_call152_v8 : Ref sig .tc := ⟨.hbm, 3212, rfl⟩
abbrev main_call152_v9 : Ref sig .tc := ⟨.hbm, 3213, rfl⟩
abbrev main_call152_v10 : Ref sig .tc := ⟨.hbm, 3214, rfl⟩
abbrev main_call152_v11 : Ref sig .tc := ⟨.hbm, 3215, rfl⟩
abbrev main_call152_c_3 : Ref sig .tc := ⟨.hbm, 3216, rfl⟩
abbrev main_call152_v12 : Ref sig .tc := ⟨.hbm, 3217, rfl⟩
abbrev main_call152_v13 : Ref sig .tc := ⟨.hbm, 3218, rfl⟩
abbrev main_call152_v14 : Ref sig .tc := ⟨.hbm, 3219, rfl⟩
abbrev main_call152_cst : Ref sig .tc := ⟨.hbm, 3220, rfl⟩
abbrev main_call152_v15 : Ref sig .tc := ⟨.hbm, 3221, rfl⟩
abbrev main_v1380 : Ref sig .tc := ⟨.hbm, 3222, rfl⟩
abbrev main_v1381 : Ref sig .tc := ⟨.hbm, 3223, rfl⟩
abbrev main_v1382 : Ref sig .tc := ⟨.hbm, 3224, rfl⟩
abbrev main_cst_253 : Ref sig .tc := ⟨.hbm, 3225, rfl⟩
abbrev main_v1383 : Ref sig .tc := ⟨.hbm, 3226, rfl⟩
abbrev main_v1384 : Ref sig .tc := ⟨.hbm, 3227, rfl⟩
abbrev main_v1385 : Ref sig .tc := ⟨.hbm, 3228, rfl⟩
abbrev main_cst_254 : Ref sig .tc := ⟨.hbm, 3229, rfl⟩
abbrev main_call153_v0 : Ref sig .tc := ⟨.hbm, 3230, rfl⟩
abbrev main_call153_v1 : Ref sig .tc := ⟨.hbm, 3231, rfl⟩
abbrev main_v1386 : Ref sig .tc := ⟨.hbm, 3232, rfl⟩
abbrev main_v1387 : Ref sig .tc := ⟨.hbm, 3233, rfl⟩
abbrev main_v1388 : Ref sig .tc := ⟨.hbm, 3234, rfl⟩
abbrev main_v1389 : Ref sig .tc := ⟨.hbm, 3235, rfl⟩
abbrev main_call154_c : Ref sig .tc := ⟨.hbm, 3236, rfl⟩
abbrev main_call154_v0 : Ref sig .tc := ⟨.hbm, 3237, rfl⟩
abbrev main_call154_v1 : Ref sig .tc := ⟨.hbm, 3238, rfl⟩
abbrev main_call154_c_0 : Ref sig .tc := ⟨.hbm, 3239, rfl⟩
abbrev main_call154_v2 : Ref sig .tc := ⟨.hbm, 3240, rfl⟩
abbrev main_call154_v3 : Ref sig .tc := ⟨.hbm, 3241, rfl⟩
abbrev main_call154_v4 : Ref sig .tc := ⟨.hbm, 3242, rfl⟩
abbrev main_call154_v5 : Ref sig .tc := ⟨.hbm, 3243, rfl⟩
abbrev main_call154_c_1 : Ref sig .tc := ⟨.hbm, 3244, rfl⟩
abbrev main_call154_c_2 : Ref sig .tc := ⟨.hbm, 3245, rfl⟩
abbrev main_call154_v6 : Ref sig .tc := ⟨.hbm, 3246, rfl⟩
abbrev main_call154_v7 : Ref sig .tc := ⟨.hbm, 3247, rfl⟩
abbrev main_call154_v8 : Ref sig .tc := ⟨.hbm, 3248, rfl⟩
abbrev main_call154_v9 : Ref sig .tc := ⟨.hbm, 3249, rfl⟩
abbrev main_call154_v10 : Ref sig .tc := ⟨.hbm, 3250, rfl⟩
abbrev main_call154_v11 : Ref sig .tc := ⟨.hbm, 3251, rfl⟩
abbrev main_call154_c_3 : Ref sig .tc := ⟨.hbm, 3252, rfl⟩
abbrev main_call154_v12 : Ref sig .tc := ⟨.hbm, 3253, rfl⟩
abbrev main_call154_v13 : Ref sig .tc := ⟨.hbm, 3254, rfl⟩
abbrev main_call154_v14 : Ref sig .tc := ⟨.hbm, 3255, rfl⟩
abbrev main_call154_cst : Ref sig .tc := ⟨.hbm, 3256, rfl⟩
abbrev main_call154_v15 : Ref sig .tc := ⟨.hbm, 3257, rfl⟩
abbrev main_v1390 : Ref sig .tc := ⟨.hbm, 3258, rfl⟩
abbrev main_v1391 : Ref sig .tc := ⟨.hbm, 3259, rfl⟩
abbrev main_v1392 : Ref sig .tc := ⟨.hbm, 3260, rfl⟩
abbrev main_cst_255 : Ref sig .tc := ⟨.hbm, 3261, rfl⟩
abbrev main_v1393 : Ref sig .tc := ⟨.hbm, 3262, rfl⟩
abbrev main_v1394 : Ref sig .tc := ⟨.hbm, 3263, rfl⟩
abbrev main_v1395 : Ref sig .tc := ⟨.hbm, 3264, rfl⟩
abbrev main_cst_256 : Ref sig .tc := ⟨.hbm, 3265, rfl⟩
abbrev main_call155_v0 : Ref sig .tc := ⟨.hbm, 3266, rfl⟩
abbrev main_call155_v1 : Ref sig .tc := ⟨.hbm, 3267, rfl⟩
abbrev main_v1396 : Ref sig .tc := ⟨.hbm, 3268, rfl⟩
abbrev main_v1397 : Ref sig .tc := ⟨.hbm, 3269, rfl⟩
abbrev main_v1398 : Ref sig .tc := ⟨.hbm, 3270, rfl⟩
abbrev main_v1399 : Ref sig .tc := ⟨.hbm, 3271, rfl⟩
abbrev main_v1400 : Ref sig .tc := ⟨.hbm, 3272, rfl⟩
abbrev main_v1401 : Ref sig .tc := ⟨.hbm, 3273, rfl⟩
abbrev main_v1402 : Ref sig .tc := ⟨.hbm, 3274, rfl⟩
abbrev main_v1403 : Ref sig .tc := ⟨.hbm, 3275, rfl⟩
abbrev main_v1404 : Ref sig .tc := ⟨.hbm, 3276, rfl⟩
abbrev main_v1405 : Ref sig .tc := ⟨.hbm, 3277, rfl⟩
abbrev main_v1406 : Ref sig .tc := ⟨.hbm, 3278, rfl⟩
abbrev main_v1407 : Ref sig .tc := ⟨.hbm, 3279, rfl⟩
abbrev main_v1408 : Ref sig .tc := ⟨.hbm, 3280, rfl⟩
abbrev main_v1409 : Ref sig .tc := ⟨.hbm, 3281, rfl⟩
abbrev main_v1410 : Ref sig .tc := ⟨.hbm, 3282, rfl⟩
abbrev main_v1411 : Ref sig .tc := ⟨.hbm, 3283, rfl⟩
abbrev main_v1412 : Ref sig .tc := ⟨.hbm, 3284, rfl⟩
abbrev main_v1413 : Ref sig .tc := ⟨.hbm, 3285, rfl⟩
abbrev main_v1414 : Ref sig .tc := ⟨.hbm, 3286, rfl⟩
abbrev main_v1415 : Ref sig .tc := ⟨.hbm, 3287, rfl⟩
abbrev main_v1416 : Ref sig .tc := ⟨.hbm, 3288, rfl⟩
abbrev main_v1417 : Ref sig .tc := ⟨.hbm, 3289, rfl⟩
abbrev main_v1418 : Ref sig .tc := ⟨.hbm, 3290, rfl⟩
abbrev main_v1419 : Ref sig .tc := ⟨.hbm, 3291, rfl⟩
abbrev main_v1420 : Ref sig .tc := ⟨.hbm, 3292, rfl⟩
abbrev main_v1421 : Ref sig .tc := ⟨.hbm, 3293, rfl⟩
abbrev main_v1422 : Ref sig .tc := ⟨.hbm, 3294, rfl⟩
abbrev main_v1423 : Ref sig .tc := ⟨.hbm, 3295, rfl⟩
abbrev main_v1424 : Ref sig .tc := ⟨.hbm, 3296, rfl⟩
abbrev main_v1425 : Ref sig .tc := ⟨.hbm, 3297, rfl⟩
abbrev main_v1426 : Ref sig .tc := ⟨.hbm, 3298, rfl⟩
abbrev main_v1427 : Ref sig .tc := ⟨.hbm, 3299, rfl⟩
abbrev main_cst_257 : Ref sig .tc := ⟨.hbm, 3300, rfl⟩
abbrev main_v1428 : Ref sig .tc := ⟨.hbm, 3301, rfl⟩
abbrev main_v1429 : Ref sig .tc := ⟨.hbm, 3302, rfl⟩
abbrev main_cst_258 : Ref sig .tc := ⟨.hbm, 3303, rfl⟩
abbrev main_v1430 : Ref sig .tc := ⟨.hbm, 3304, rfl⟩
abbrev main_cst_259 : Ref sig .tc := ⟨.hbm, 3305, rfl⟩
abbrev main_v1431 : Ref sig .tc := ⟨.hbm, 3306, rfl⟩
abbrev main_v1432 : Ref sig .tc := ⟨.hbm, 3307, rfl⟩
abbrev main_v1433 : Ref sig .tc := ⟨.hbm, 3308, rfl⟩
abbrev main_v1434 : Ref sig .tc := ⟨.hbm, 3309, rfl⟩
abbrev main_v1435 : Ref sig .tc := ⟨.hbm, 3310, rfl⟩
abbrev main_v1436 : Ref sig .tc := ⟨.hbm, 3311, rfl⟩
abbrev main_cst_260 : Ref sig .tc := ⟨.hbm, 3312, rfl⟩
abbrev main_v1437 : Ref sig .tc := ⟨.hbm, 3313, rfl⟩
abbrev main_v1438 : Ref sig .tc := ⟨.hbm, 3314, rfl⟩
abbrev main_v1439 : Ref sig .tc := ⟨.hbm, 3315, rfl⟩
abbrev main_v1440 : Ref sig .tc := ⟨.hbm, 3316, rfl⟩
abbrev main_v1441 : Ref sig .tc := ⟨.hbm, 3317, rfl⟩
abbrev main_v1442 : Ref sig .tc := ⟨.hbm, 3318, rfl⟩
abbrev main_v1443 : Ref sig .tc := ⟨.hbm, 3319, rfl⟩
abbrev main_v1444 : Ref sig .tc := ⟨.hbm, 3320, rfl⟩
abbrev main_c_261 : Ref sig .tc := ⟨.hbm, 3321, rfl⟩
abbrev main_call156_v0 : Ref sig .tc := ⟨.hbm, 3322, rfl⟩
abbrev main_call156_v1 : Ref sig .tc := ⟨.hbm, 3323, rfl⟩
abbrev main_call156_v2 : Ref sig .tc := ⟨.hbm, 3324, rfl⟩
abbrev main_call156_v3 : Ref sig .tc := ⟨.hbm, 3325, rfl⟩
abbrev main_call156_v4 : Ref sig .tc := ⟨.hbm, 3326, rfl⟩
abbrev main_call156_v5 : Ref sig .tc := ⟨.hbm, 3327, rfl⟩
abbrev main_call156_v6 : Ref sig .tc := ⟨.hbm, 3328, rfl⟩
abbrev main_call156_v7 : Ref sig .tc := ⟨.hbm, 3329, rfl⟩
abbrev main_call156_v8 : Ref sig .tc := ⟨.hbm, 3330, rfl⟩
abbrev main_call156_c : Ref sig .tc := ⟨.hbm, 3331, rfl⟩
abbrev main_call156_v9 : Ref sig .tc := ⟨.hbm, 3332, rfl⟩
abbrev main_call156_v10 : Ref sig .tc := ⟨.hbm, 3333, rfl⟩
abbrev main_call156_v11 : Ref sig .tc := ⟨.hbm, 3334, rfl⟩
abbrev main_call156_c_0 : Ref sig .tc := ⟨.hbm, 3335, rfl⟩
abbrev main_call156_v12 : Ref sig .tc := ⟨.hbm, 3336, rfl⟩
abbrev main_call156_v13 : Ref sig .tc := ⟨.hbm, 3337, rfl⟩
abbrev main_v1445 : Ref sig .tc := ⟨.hbm, 3338, rfl⟩
abbrev main_c_262 : Ref sig .tc := ⟨.hbm, 3339, rfl⟩
abbrev main_call157_v0 : Ref sig .tc := ⟨.hbm, 3340, rfl⟩
abbrev main_call157_v1 : Ref sig .tc := ⟨.hbm, 3341, rfl⟩
abbrev main_call157_v2 : Ref sig .tc := ⟨.hbm, 3342, rfl⟩
abbrev main_call157_v3 : Ref sig .tc := ⟨.hbm, 3343, rfl⟩
abbrev main_call157_v4 : Ref sig .tc := ⟨.hbm, 3344, rfl⟩
abbrev main_call157_v5 : Ref sig .tc := ⟨.hbm, 3345, rfl⟩
abbrev main_call157_v6 : Ref sig .tc := ⟨.hbm, 3346, rfl⟩
abbrev main_call157_v7 : Ref sig .tc := ⟨.hbm, 3347, rfl⟩
abbrev main_call157_v8 : Ref sig .tc := ⟨.hbm, 3348, rfl⟩
abbrev main_call157_c : Ref sig .tc := ⟨.hbm, 3349, rfl⟩
abbrev main_call157_v9 : Ref sig .tc := ⟨.hbm, 3350, rfl⟩
abbrev main_call157_v10 : Ref sig .tc := ⟨.hbm, 3351, rfl⟩
abbrev main_call157_v11 : Ref sig .tc := ⟨.hbm, 3352, rfl⟩
abbrev main_call157_c_0 : Ref sig .tc := ⟨.hbm, 3353, rfl⟩
abbrev main_call157_v12 : Ref sig .tc := ⟨.hbm, 3354, rfl⟩
abbrev main_call157_v13 : Ref sig .tc := ⟨.hbm, 3355, rfl⟩
abbrev main_v1446 : Ref sig .tc := ⟨.hbm, 3356, rfl⟩
abbrev main_c_263 : Ref sig .tc := ⟨.hbm, 3357, rfl⟩
abbrev main_call158_v0 : Ref sig .tc := ⟨.hbm, 3358, rfl⟩
abbrev main_call158_c : Ref sig .tc := ⟨.hbm, 3359, rfl⟩
abbrev main_call158_v1 : Ref sig .tc := ⟨.hbm, 3360, rfl⟩
abbrev main_call158_c_0 : Ref sig .tc := ⟨.hbm, 3361, rfl⟩
abbrev main_call158_v2 : Ref sig .tc := ⟨.hbm, 3362, rfl⟩
abbrev main_call158_v3 : Ref sig .tc := ⟨.hbm, 3363, rfl⟩
abbrev main_call158_v4 : Ref sig .tc := ⟨.hbm, 3364, rfl⟩
abbrev main_call158_c_1 : Ref sig .tc := ⟨.hbm, 3365, rfl⟩
abbrev main_call158_v5 : Ref sig .tc := ⟨.hbm, 3366, rfl⟩
abbrev main_call158_v6 : Ref sig .tc := ⟨.hbm, 3367, rfl⟩
abbrev main_call158_c_2 : Ref sig .tc := ⟨.hbm, 3368, rfl⟩
abbrev main_call158_v7 : Ref sig .tc := ⟨.hbm, 3369, rfl⟩
abbrev main_call158_v8 : Ref sig .tc := ⟨.hbm, 3370, rfl⟩
abbrev main_call158_c_3 : Ref sig .tc := ⟨.hbm, 3371, rfl⟩
abbrev main_call158_v9 : Ref sig .tc := ⟨.hbm, 3372, rfl⟩
abbrev main_call158_v10 : Ref sig .tc := ⟨.hbm, 3373, rfl⟩
abbrev main_call158_v11 : Ref sig .tc := ⟨.hbm, 3374, rfl⟩
abbrev main_call158_v12 : Ref sig .tc := ⟨.hbm, 3375, rfl⟩
abbrev main_call158_v13 : Ref sig .tc := ⟨.hbm, 3376, rfl⟩
abbrev main_call158_v14 : Ref sig .tc := ⟨.hbm, 3377, rfl⟩
abbrev main_v1447 : Ref sig .tc := ⟨.hbm, 3378, rfl⟩
abbrev main_c_264 : Ref sig .tc := ⟨.hbm, 3379, rfl⟩
abbrev main_call159_v0 : Ref sig .tc := ⟨.hbm, 3380, rfl⟩
abbrev main_call159_c : Ref sig .tc := ⟨.hbm, 3381, rfl⟩
abbrev main_call159_v1 : Ref sig .tc := ⟨.hbm, 3382, rfl⟩
abbrev main_call159_c_0 : Ref sig .tc := ⟨.hbm, 3383, rfl⟩
abbrev main_call159_v2 : Ref sig .tc := ⟨.hbm, 3384, rfl⟩
abbrev main_call159_v3 : Ref sig .tc := ⟨.hbm, 3385, rfl⟩
abbrev main_call159_v4 : Ref sig .tc := ⟨.hbm, 3386, rfl⟩
abbrev main_call159_c_1 : Ref sig .tc := ⟨.hbm, 3387, rfl⟩
abbrev main_call159_v5 : Ref sig .tc := ⟨.hbm, 3388, rfl⟩
abbrev main_call159_v6 : Ref sig .tc := ⟨.hbm, 3389, rfl⟩
abbrev main_call159_c_2 : Ref sig .tc := ⟨.hbm, 3390, rfl⟩
abbrev main_call159_v7 : Ref sig .tc := ⟨.hbm, 3391, rfl⟩
abbrev main_call159_v8 : Ref sig .tc := ⟨.hbm, 3392, rfl⟩
abbrev main_call159_c_3 : Ref sig .tc := ⟨.hbm, 3393, rfl⟩
abbrev main_call159_v9 : Ref sig .tc := ⟨.hbm, 3394, rfl⟩
abbrev main_call159_v10 : Ref sig .tc := ⟨.hbm, 3395, rfl⟩
abbrev main_call159_v11 : Ref sig .tc := ⟨.hbm, 3396, rfl⟩
abbrev main_call159_v12 : Ref sig .tc := ⟨.hbm, 3397, rfl⟩
abbrev main_call159_v13 : Ref sig .tc := ⟨.hbm, 3398, rfl⟩
abbrev main_call159_v14 : Ref sig .tc := ⟨.hbm, 3399, rfl⟩
abbrev main_v1448 : Ref sig .tc := ⟨.hbm, 3400, rfl⟩
abbrev main_v1449 : Ref sig .tc := ⟨.hbm, 3401, rfl⟩
abbrev main_v1450 : Ref sig .tc := ⟨.hbm, 3402, rfl⟩
abbrev main_v1451 : Ref sig .tc := ⟨.hbm, 3403, rfl⟩
abbrev main_v1452 : Ref sig .tc := ⟨.hbm, 3404, rfl⟩
abbrev main_v1453 : Ref sig .tc := ⟨.hbm, 3405, rfl⟩
abbrev main_v1454 : Ref sig .tc := ⟨.hbm, 3406, rfl⟩
abbrev main_v1455 : Ref sig .tc := ⟨.hbm, 3407, rfl⟩
abbrev main_v1456 : Ref sig .tc := ⟨.hbm, 3408, rfl⟩
abbrev main_v1457 : Ref sig .tc := ⟨.hbm, 3409, rfl⟩
abbrev main_v1458 : Ref sig .tc := ⟨.hbm, 3410, rfl⟩
abbrev main_v1459 : Ref sig .tc := ⟨.hbm, 3411, rfl⟩
abbrev main_v1460 : Ref sig .tc := ⟨.hbm, 3412, rfl⟩
abbrev main_v1461 : Ref sig .tc := ⟨.hbm, 3413, rfl⟩
abbrev main_v1462 : Ref sig .tc := ⟨.hbm, 3414, rfl⟩
abbrev main_v1463 : Ref sig .tc := ⟨.hbm, 3415, rfl⟩
abbrev main_c_265 : Ref sig .tc := ⟨.hbm, 3416, rfl⟩
abbrev main_v1464 : Ref sig .tc := ⟨.hbm, 3417, rfl⟩
abbrev main_v1465 : Ref sig .tc := ⟨.hbm, 3418, rfl⟩
abbrev main_c_266 : Ref sig .tc := ⟨.hbm, 3419, rfl⟩
abbrev main_v1466 : Ref sig .tc := ⟨.hbm, 3420, rfl⟩
abbrev main_v1467 : Ref sig .tc := ⟨.hbm, 3421, rfl⟩
abbrev main_v1468 : Ref sig .tc := ⟨.hbm, 3422, rfl⟩
abbrev main_c_267 : Ref sig .tc := ⟨.hbm, 3423, rfl⟩
abbrev main_v1469 : Ref sig .tc := ⟨.hbm, 3424, rfl⟩
abbrev main_v1470 : Ref sig .tc := ⟨.hbm, 3425, rfl⟩
abbrev main_v1471 : Ref sig .tc := ⟨.hbm, 3426, rfl⟩
abbrev main_c_268 : Ref sig .tc := ⟨.hbm, 3427, rfl⟩
abbrev main_v1472 : Ref sig .tc := ⟨.hbm, 3428, rfl⟩
abbrev main_v1473 : Ref sig .tc := ⟨.hbm, 3429, rfl⟩
abbrev main_v1474 : Ref sig .tc := ⟨.hbm, 3430, rfl⟩
abbrev main_c_269 : Ref sig .tc := ⟨.hbm, 3431, rfl⟩
abbrev main_v1475 : Ref sig .tc := ⟨.hbm, 3432, rfl⟩
abbrev main_v1476 : Ref sig .tc := ⟨.hbm, 3433, rfl⟩
abbrev main_v1477 : Ref sig .tc := ⟨.hbm, 3434, rfl⟩
abbrev main_c_270 : Ref sig .tc := ⟨.hbm, 3435, rfl⟩
abbrev main_v1478 : Ref sig .tc := ⟨.hbm, 3436, rfl⟩
abbrev main_v1479 : Ref sig .tc := ⟨.hbm, 3437, rfl⟩
abbrev main_v1480 : Ref sig .tc := ⟨.hbm, 3438, rfl⟩
abbrev main_c_271 : Ref sig .tc := ⟨.hbm, 3439, rfl⟩
abbrev main_c_272 : Ref sig .tc := ⟨.hbm, 3440, rfl⟩
abbrev main_call160_v0 : Ref sig .tc := ⟨.hbm, 3441, rfl⟩
abbrev main_call160_v1 : Ref sig .tc := ⟨.hbm, 3442, rfl⟩
abbrev main_call160_v2 : Ref sig .tc := ⟨.hbm, 3443, rfl⟩
abbrev main_call160_v3 : Ref sig .tc := ⟨.hbm, 3444, rfl⟩
abbrev main_call160_v4 : Ref sig .tc := ⟨.hbm, 3445, rfl⟩
abbrev main_v1481 : Ref sig .tc := ⟨.hbm, 3446, rfl⟩
abbrev main_c_273 : Ref sig .tc := ⟨.hbm, 3447, rfl⟩
abbrev main_v1482 : Ref sig .tc := ⟨.hbm, 3448, rfl⟩
abbrev main_v1483 : Ref sig .tc := ⟨.hbm, 3449, rfl⟩
abbrev main_c_274 : Ref sig .tc := ⟨.hbm, 3450, rfl⟩
abbrev main_c_275 : Ref sig .tc := ⟨.hbm, 3451, rfl⟩
abbrev main_call161_v0 : Ref sig .tc := ⟨.hbm, 3452, rfl⟩
abbrev main_call161_v1 : Ref sig .tc := ⟨.hbm, 3453, rfl⟩
abbrev main_call161_v2 : Ref sig .tc := ⟨.hbm, 3454, rfl⟩
abbrev main_call161_v3 : Ref sig .tc := ⟨.hbm, 3455, rfl⟩
abbrev main_call161_v4 : Ref sig .tc := ⟨.hbm, 3456, rfl⟩
abbrev main_v1484 : Ref sig .tc := ⟨.hbm, 3457, rfl⟩
abbrev main_v1485 : Ref sig .tc := ⟨.hbm, 3458, rfl⟩
abbrev main_c_276 : Ref sig .tc := ⟨.hbm, 3459, rfl⟩
abbrev main_v1486 : Ref sig .tc := ⟨.hbm, 3460, rfl⟩
abbrev main_v1487 : Ref sig .tc := ⟨.hbm, 3461, rfl⟩
abbrev main_c_277 : Ref sig .tc := ⟨.hbm, 3462, rfl⟩
abbrev main_c_278 : Ref sig .tc := ⟨.hbm, 3463, rfl⟩
abbrev main_call162_v0 : Ref sig .tc := ⟨.hbm, 3464, rfl⟩
abbrev main_call162_v1 : Ref sig .tc := ⟨.hbm, 3465, rfl⟩
abbrev main_call162_v2 : Ref sig .tc := ⟨.hbm, 3466, rfl⟩
abbrev main_call162_v3 : Ref sig .tc := ⟨.hbm, 3467, rfl⟩
abbrev main_call162_v4 : Ref sig .tc := ⟨.hbm, 3468, rfl⟩
abbrev main_v1488 : Ref sig .tc := ⟨.hbm, 3469, rfl⟩
abbrev main_v1489 : Ref sig .tc := ⟨.hbm, 3470, rfl⟩
abbrev main_v1490 : Ref sig .tc := ⟨.hbm, 3471, rfl⟩
abbrev main_v1491 : Ref sig .tc := ⟨.hbm, 3472, rfl⟩
abbrev main_c_279 : Ref sig .tc := ⟨.hbm, 3473, rfl⟩
abbrev main_v1492 : Ref sig .tc := ⟨.hbm, 3474, rfl⟩
abbrev main_v1493 : Ref sig .tc := ⟨.hbm, 3475, rfl⟩
abbrev main_cst_280 : Ref sig .tc := ⟨.hbm, 3476, rfl⟩
abbrev main_v1494 : Ref sig .tc := ⟨.hbm, 3477, rfl⟩
abbrev main_cst_281 : Ref sig .tc := ⟨.hbm, 3478, rfl⟩
abbrev main_v1495 : Ref sig .tc := ⟨.hbm, 3479, rfl⟩
abbrev main_v1496 : Ref sig .tc := ⟨.hbm, 3480, rfl⟩
abbrev main_v1497 : Ref sig .tc := ⟨.hbm, 3481, rfl⟩
abbrev main_v1498 : Ref sig .tc := ⟨.hbm, 3482, rfl⟩
abbrev main_v1499 : Ref sig .tc := ⟨.hbm, 3483, rfl⟩
abbrev main_cst_282 : Ref sig .tc := ⟨.hbm, 3484, rfl⟩
abbrev main_call163_v0 : Ref sig .tc := ⟨.hbm, 3485, rfl⟩
abbrev main_call163_v1 : Ref sig .tc := ⟨.hbm, 3486, rfl⟩
abbrev main_v1500 : Ref sig .tc := ⟨.hbm, 3487, rfl⟩
abbrev main_v1501 : Ref sig .tc := ⟨.hbm, 3488, rfl⟩
abbrev main_v1502 : Ref sig .tc := ⟨.hbm, 3489, rfl⟩
abbrev main_v1503 : Ref sig .tc := ⟨.hbm, 3490, rfl⟩
abbrev main_v1504 : Ref sig .tc := ⟨.hbm, 3491, rfl⟩
abbrev main_v1505 : Ref sig .tc := ⟨.hbm, 3492, rfl⟩
abbrev main_v1506 : Ref sig .tc := ⟨.hbm, 3493, rfl⟩
abbrev main_v1507 : Ref sig .tc := ⟨.hbm, 3494, rfl⟩
abbrev main_v1508 : Ref sig .tc := ⟨.hbm, 3495, rfl⟩
abbrev main_v1509 : Ref sig .tc := ⟨.hbm, 3496, rfl⟩
abbrev main_cst_283 : Ref sig .tc := ⟨.hbm, 3497, rfl⟩
abbrev main_v1510 : Ref sig .tc := ⟨.hbm, 3498, rfl⟩
abbrev main_v1511 : Ref sig .tc := ⟨.hbm, 3499, rfl⟩
abbrev main_v1512 : Ref sig .tc := ⟨.hbm, 3500, rfl⟩
abbrev main_v1513 : Ref sig .tc := ⟨.hbm, 3501, rfl⟩
abbrev main_v1514 : Ref sig .tc := ⟨.hbm, 3502, rfl⟩
abbrev main_cst_284 : Ref sig .tc := ⟨.hbm, 3503, rfl⟩
abbrev main_v1515 : Ref sig .tc := ⟨.hbm, 3504, rfl⟩
abbrev main_v1516 : Ref sig .tc := ⟨.hbm, 3505, rfl⟩
abbrev main_v1517 : Ref sig .tc := ⟨.hbm, 3506, rfl⟩
abbrev main_v1518 : Ref sig .tc := ⟨.hbm, 3507, rfl⟩
abbrev main_v1519 : Ref sig .tc := ⟨.hbm, 3508, rfl⟩
abbrev main_v1520 : Ref sig .tc := ⟨.hbm, 3509, rfl⟩
abbrev main_v1521 : Ref sig .tc := ⟨.hbm, 3510, rfl⟩
abbrev main_v1522 : Ref sig .tc := ⟨.hbm, 3511, rfl⟩
abbrev main_cst_285 : Ref sig .tc := ⟨.hbm, 3512, rfl⟩
abbrev main_call164_v0 : Ref sig .tc := ⟨.hbm, 3513, rfl⟩
abbrev main_call164_v1 : Ref sig .tc := ⟨.hbm, 3514, rfl⟩
abbrev main_v1523 : Ref sig .tc := ⟨.hbm, 3515, rfl⟩
abbrev main_v1524 : Ref sig .tc := ⟨.hbm, 3516, rfl⟩
abbrev main_v1525 : Ref sig .tc := ⟨.hbm, 3517, rfl⟩
abbrev main_v1526 : Ref sig .tc := ⟨.hbm, 3518, rfl⟩
abbrev main_v1527 : Ref sig .tc := ⟨.hbm, 3519, rfl⟩
abbrev main_v1528 : Ref sig .tc := ⟨.hbm, 3520, rfl⟩
abbrev main_v1529 : Ref sig .tc := ⟨.hbm, 3521, rfl⟩
abbrev main_v1530 : Ref sig .tc := ⟨.hbm, 3522, rfl⟩
abbrev main_v1531 : Ref sig .tc := ⟨.hbm, 3523, rfl⟩
abbrev main_v1532 : Ref sig .tc := ⟨.hbm, 3524, rfl⟩
abbrev main_cst_286 : Ref sig .tc := ⟨.hbm, 3525, rfl⟩
abbrev main_v1533 : Ref sig .tc := ⟨.hbm, 3526, rfl⟩
abbrev main_v1534 : Ref sig .tc := ⟨.hbm, 3527, rfl⟩
abbrev main_v1535 : Ref sig .tc := ⟨.hbm, 3528, rfl⟩
abbrev main_v1536 : Ref sig .tc := ⟨.hbm, 3529, rfl⟩
abbrev main_v1537 : Ref sig .tc := ⟨.hbm, 3530, rfl⟩
abbrev main_cst_287 : Ref sig .tc := ⟨.hbm, 3531, rfl⟩
abbrev main_v1538 : Ref sig .tc := ⟨.hbm, 3532, rfl⟩
abbrev main_v1539 : Ref sig .tc := ⟨.hbm, 3533, rfl⟩
abbrev main_v1540 : Ref sig .tc := ⟨.hbm, 3534, rfl⟩
abbrev main_v1541 : Ref sig .tc := ⟨.hbm, 3535, rfl⟩
abbrev main_v1542 : Ref sig .tc := ⟨.hbm, 3536, rfl⟩
abbrev main_v1543 : Ref sig .tc := ⟨.hbm, 3537, rfl⟩
abbrev main_v1544 : Ref sig .tc := ⟨.hbm, 3538, rfl⟩
abbrev main_v1545 : Ref sig .tc := ⟨.hbm, 3539, rfl⟩
abbrev main_cst_288 : Ref sig .tc := ⟨.hbm, 3540, rfl⟩
abbrev main_call165_v0 : Ref sig .tc := ⟨.hbm, 3541, rfl⟩
abbrev main_call165_v1 : Ref sig .tc := ⟨.hbm, 3542, rfl⟩
abbrev main_v1546 : Ref sig .tc := ⟨.hbm, 3543, rfl⟩
abbrev main_v1547 : Ref sig .tc := ⟨.hbm, 3544, rfl⟩
abbrev main_v1548 : Ref sig .tc := ⟨.hbm, 3545, rfl⟩
abbrev main_v1549 : Ref sig .tc := ⟨.hbm, 3546, rfl⟩
abbrev main_v1550 : Ref sig .tc := ⟨.hbm, 3547, rfl⟩
abbrev main_v1551 : Ref sig .tc := ⟨.hbm, 3548, rfl⟩
abbrev main_v1552 : Ref sig .tc := ⟨.hbm, 3549, rfl⟩
abbrev main_v1553 : Ref sig .tc := ⟨.hbm, 3550, rfl⟩
abbrev main_v1554 : Ref sig .tc := ⟨.hbm, 3551, rfl⟩
abbrev main_v1555 : Ref sig .tc := ⟨.hbm, 3552, rfl⟩
abbrev main_cst_289 : Ref sig .tc := ⟨.hbm, 3553, rfl⟩
abbrev main_v1556 : Ref sig .tc := ⟨.hbm, 3554, rfl⟩
abbrev main_v1557 : Ref sig .tc := ⟨.hbm, 3555, rfl⟩
abbrev main_v1558 : Ref sig .tc := ⟨.hbm, 3556, rfl⟩
abbrev main_v1559 : Ref sig .tc := ⟨.hbm, 3557, rfl⟩
abbrev main_v1560 : Ref sig .tc := ⟨.hbm, 3558, rfl⟩
abbrev main_cst_290 : Ref sig .tc := ⟨.hbm, 3559, rfl⟩
abbrev main_v1561 : Ref sig .tc := ⟨.hbm, 3560, rfl⟩
abbrev main_v1562 : Ref sig .tc := ⟨.hbm, 3561, rfl⟩
abbrev main_v1563 : Ref sig .tc := ⟨.hbm, 3562, rfl⟩
abbrev main_v1564 : Ref sig .tc := ⟨.hbm, 3563, rfl⟩
abbrev main_v1565 : Ref sig .tc := ⟨.hbm, 3564, rfl⟩
abbrev main_v1566 : Ref sig .tc := ⟨.hbm, 3565, rfl⟩
abbrev main_v1567 : Ref sig .tc := ⟨.hbm, 3566, rfl⟩
abbrev main_v1568 : Ref sig .tc := ⟨.hbm, 3567, rfl⟩
abbrev main_cst_291 : Ref sig .tc := ⟨.hbm, 3568, rfl⟩
abbrev main_call166_v0 : Ref sig .tc := ⟨.hbm, 3569, rfl⟩
abbrev main_call166_v1 : Ref sig .tc := ⟨.hbm, 3570, rfl⟩
abbrev main_v1569 : Ref sig .tc := ⟨.hbm, 3571, rfl⟩
abbrev main_v1570 : Ref sig .tc := ⟨.hbm, 3572, rfl⟩
abbrev main_v1571 : Ref sig .tc := ⟨.hbm, 3573, rfl⟩
abbrev main_v1572 : Ref sig .tc := ⟨.hbm, 3574, rfl⟩
abbrev main_v1573 : Ref sig .tc := ⟨.hbm, 3575, rfl⟩
abbrev main_v1574 : Ref sig .tc := ⟨.hbm, 3576, rfl⟩
abbrev main_v1575 : Ref sig .tc := ⟨.hbm, 3577, rfl⟩
abbrev main_v1576 : Ref sig .tc := ⟨.hbm, 3578, rfl⟩
abbrev main_v1577 : Ref sig .tc := ⟨.hbm, 3579, rfl⟩
abbrev main_v1578 : Ref sig .tc := ⟨.hbm, 3580, rfl⟩
abbrev main_cst_292 : Ref sig .tc := ⟨.hbm, 3581, rfl⟩
abbrev main_v1579 : Ref sig .tc := ⟨.hbm, 3582, rfl⟩
abbrev main_v1580 : Ref sig .tc := ⟨.hbm, 3583, rfl⟩
abbrev main_v1581 : Ref sig .tc := ⟨.hbm, 3584, rfl⟩
abbrev main_v1582 : Ref sig .tc := ⟨.hbm, 3585, rfl⟩
abbrev main_v1583 : Ref sig .tc := ⟨.hbm, 3586, rfl⟩
abbrev main_cst_293 : Ref sig .tc := ⟨.hbm, 3587, rfl⟩
abbrev main_v1584 : Ref sig .tc := ⟨.hbm, 3588, rfl⟩
abbrev main_v1585 : Ref sig .tc := ⟨.hbm, 3589, rfl⟩
abbrev main_v1586 : Ref sig .tc := ⟨.hbm, 3590, rfl⟩
abbrev main_v1587 : Ref sig .tc := ⟨.hbm, 3591, rfl⟩
abbrev main_v1588 : Ref sig .tc := ⟨.hbm, 3592, rfl⟩
abbrev main_v1589 : Ref sig .tc := ⟨.hbm, 3593, rfl⟩
abbrev main_v1590 : Ref sig .tc := ⟨.hbm, 3594, rfl⟩
abbrev main_v1591 : Ref sig .tc := ⟨.hbm, 3595, rfl⟩
abbrev main_cst_294 : Ref sig .tc := ⟨.hbm, 3596, rfl⟩
abbrev main_call167_v0 : Ref sig .tc := ⟨.hbm, 3597, rfl⟩
abbrev main_call167_v1 : Ref sig .tc := ⟨.hbm, 3598, rfl⟩
abbrev main_v1592 : Ref sig .tc := ⟨.hbm, 3599, rfl⟩
abbrev main_v1593 : Ref sig .tc := ⟨.hbm, 3600, rfl⟩
abbrev main_v1594 : Ref sig .tc := ⟨.hbm, 3601, rfl⟩
abbrev main_v1595 : Ref sig .tc := ⟨.hbm, 3602, rfl⟩
abbrev main_v1596 : Ref sig .tc := ⟨.hbm, 3603, rfl⟩
abbrev main_v1597 : Ref sig .tc := ⟨.hbm, 3604, rfl⟩
abbrev main_v1598 : Ref sig .tc := ⟨.hbm, 3605, rfl⟩
abbrev main_v1599 : Ref sig .tc := ⟨.hbm, 3606, rfl⟩
abbrev main_v1600 : Ref sig .tc := ⟨.hbm, 3607, rfl⟩
abbrev main_v1601 : Ref sig .tc := ⟨.hbm, 3608, rfl⟩
abbrev main_cst_295 : Ref sig .tc := ⟨.hbm, 3609, rfl⟩
abbrev main_v1602 : Ref sig .tc := ⟨.hbm, 3610, rfl⟩
abbrev main_v1603 : Ref sig .tc := ⟨.hbm, 3611, rfl⟩
abbrev main_v1604 : Ref sig .tc := ⟨.hbm, 3612, rfl⟩
abbrev main_v1605 : Ref sig .tc := ⟨.hbm, 3613, rfl⟩
abbrev main_v1606 : Ref sig .tc := ⟨.hbm, 3614, rfl⟩
abbrev main_cst_296 : Ref sig .tc := ⟨.hbm, 3615, rfl⟩
abbrev main_v1607 : Ref sig .tc := ⟨.hbm, 3616, rfl⟩
abbrev main_v1608 : Ref sig .tc := ⟨.hbm, 3617, rfl⟩
abbrev main_v1609 : Ref sig .tc := ⟨.hbm, 3618, rfl⟩
abbrev main_v1610 : Ref sig .tc := ⟨.hbm, 3619, rfl⟩
abbrev main_v1611 : Ref sig .tc := ⟨.hbm, 3620, rfl⟩
abbrev main_v1612 : Ref sig .tc := ⟨.hbm, 3621, rfl⟩
abbrev main_v1613 : Ref sig .tc := ⟨.hbm, 3622, rfl⟩
abbrev main_v1614 : Ref sig .tc := ⟨.hbm, 3623, rfl⟩
abbrev main_cst_297 : Ref sig .tc := ⟨.hbm, 3624, rfl⟩
abbrev main_call168_v0 : Ref sig .tc := ⟨.hbm, 3625, rfl⟩
abbrev main_call168_v1 : Ref sig .tc := ⟨.hbm, 3626, rfl⟩
abbrev main_v1615 : Ref sig .tc := ⟨.hbm, 3627, rfl⟩
abbrev main_v1616 : Ref sig .tc := ⟨.hbm, 3628, rfl⟩
abbrev main_v1617 : Ref sig .tc := ⟨.hbm, 3629, rfl⟩
abbrev main_v1618 : Ref sig .tc := ⟨.hbm, 3630, rfl⟩
abbrev main_v1619 : Ref sig .tc := ⟨.hbm, 3631, rfl⟩
abbrev main_v1620 : Ref sig .tc := ⟨.hbm, 3632, rfl⟩
abbrev main_v1621 : Ref sig .tc := ⟨.hbm, 3633, rfl⟩
abbrev main_v1622 : Ref sig .tc := ⟨.hbm, 3634, rfl⟩
abbrev main_v1623 : Ref sig .tc := ⟨.hbm, 3635, rfl⟩
abbrev main_v1624 : Ref sig .tc := ⟨.hbm, 3636, rfl⟩
abbrev main_cst_298 : Ref sig .tc := ⟨.hbm, 3637, rfl⟩
abbrev main_v1625 : Ref sig .tc := ⟨.hbm, 3638, rfl⟩
abbrev main_v1626 : Ref sig .tc := ⟨.hbm, 3639, rfl⟩
abbrev main_v1627 : Ref sig .tc := ⟨.hbm, 3640, rfl⟩
abbrev main_v1628 : Ref sig .tc := ⟨.hbm, 3641, rfl⟩
abbrev main_v1629 : Ref sig .tc := ⟨.hbm, 3642, rfl⟩
abbrev main_cst_299 : Ref sig .tc := ⟨.hbm, 3643, rfl⟩
abbrev main_v1630 : Ref sig .tc := ⟨.hbm, 3644, rfl⟩
abbrev main_v1631 : Ref sig .tc := ⟨.hbm, 3645, rfl⟩
abbrev main_v1632 : Ref sig .tc := ⟨.hbm, 3646, rfl⟩
abbrev main_v1633 : Ref sig .tc := ⟨.hbm, 3647, rfl⟩
abbrev main_v1634 : Ref sig .tc := ⟨.hbm, 3648, rfl⟩
abbrev main_v1635 : Ref sig .tc := ⟨.hbm, 3649, rfl⟩
abbrev main_v1636 : Ref sig .tc := ⟨.hbm, 3650, rfl⟩
abbrev main_v1637 : Ref sig .tc := ⟨.hbm, 3651, rfl⟩
abbrev main_cst_300 : Ref sig .tc := ⟨.hbm, 3652, rfl⟩
abbrev main_call169_v0 : Ref sig .tc := ⟨.hbm, 3653, rfl⟩
abbrev main_call169_v1 : Ref sig .tc := ⟨.hbm, 3654, rfl⟩
abbrev main_v1638 : Ref sig .tc := ⟨.hbm, 3655, rfl⟩
abbrev main_v1639 : Ref sig .tc := ⟨.hbm, 3656, rfl⟩
abbrev main_v1640 : Ref sig .tc := ⟨.hbm, 3657, rfl⟩
abbrev main_v1641 : Ref sig .tc := ⟨.hbm, 3658, rfl⟩
abbrev main_v1642 : Ref sig .tc := ⟨.hbm, 3659, rfl⟩
abbrev main_v1643 : Ref sig .tc := ⟨.hbm, 3660, rfl⟩
abbrev main_v1644 : Ref sig .tc := ⟨.hbm, 3661, rfl⟩
abbrev main_v1645 : Ref sig .tc := ⟨.hbm, 3662, rfl⟩
abbrev main_v1646 : Ref sig .tc := ⟨.hbm, 3663, rfl⟩
abbrev main_v1647 : Ref sig .tc := ⟨.hbm, 3664, rfl⟩
abbrev main_cst_301 : Ref sig .tc := ⟨.hbm, 3665, rfl⟩
abbrev main_v1648 : Ref sig .tc := ⟨.hbm, 3666, rfl⟩
abbrev main_v1649 : Ref sig .tc := ⟨.hbm, 3667, rfl⟩
abbrev main_v1650 : Ref sig .tc := ⟨.hbm, 3668, rfl⟩
abbrev main_v1651 : Ref sig .tc := ⟨.hbm, 3669, rfl⟩
abbrev main_v1652 : Ref sig .tc := ⟨.hbm, 3670, rfl⟩
abbrev main_cst_302 : Ref sig .tc := ⟨.hbm, 3671, rfl⟩
abbrev main_v1653 : Ref sig .tc := ⟨.hbm, 3672, rfl⟩
abbrev main_v1654 : Ref sig .tc := ⟨.hbm, 3673, rfl⟩
abbrev main_v1655 : Ref sig .tc := ⟨.hbm, 3674, rfl⟩
abbrev main_v1656 : Ref sig .tc := ⟨.hbm, 3675, rfl⟩
abbrev main_v1657 : Ref sig .tc := ⟨.hbm, 3676, rfl⟩
abbrev main_v1658 : Ref sig .tc := ⟨.hbm, 3677, rfl⟩
abbrev main_v1659 : Ref sig .tc := ⟨.hbm, 3678, rfl⟩
abbrev main_v1660 : Ref sig .tc := ⟨.hbm, 3679, rfl⟩
abbrev main_cst_303 : Ref sig .tc := ⟨.hbm, 3680, rfl⟩
abbrev main_call170_v0 : Ref sig .tc := ⟨.hbm, 3681, rfl⟩
abbrev main_call170_v1 : Ref sig .tc := ⟨.hbm, 3682, rfl⟩
abbrev main_v1661 : Ref sig .tc := ⟨.hbm, 3683, rfl⟩
abbrev main_v1662 : Ref sig .tc := ⟨.hbm, 3684, rfl⟩
abbrev main_v1663 : Ref sig .tc := ⟨.hbm, 3685, rfl⟩
abbrev main_v1664 : Ref sig .tc := ⟨.hbm, 3686, rfl⟩
abbrev main_v1665 : Ref sig .tc := ⟨.hbm, 3687, rfl⟩
abbrev main_v1666 : Ref sig .tc := ⟨.hbm, 3688, rfl⟩
abbrev main_v1667 : Ref sig .tc := ⟨.hbm, 3689, rfl⟩
abbrev main_v1668 : Ref sig .tc := ⟨.hbm, 3690, rfl⟩
abbrev main_v1669 : Ref sig .tc := ⟨.hbm, 3691, rfl⟩
abbrev main_v1670 : Ref sig .tc := ⟨.hbm, 3692, rfl⟩
abbrev main_cst_304 : Ref sig .tc := ⟨.hbm, 3693, rfl⟩
abbrev main_v1671 : Ref sig .tc := ⟨.hbm, 3694, rfl⟩
abbrev main_v1672 : Ref sig .tc := ⟨.hbm, 3695, rfl⟩
abbrev main_v1673 : Ref sig .tc := ⟨.hbm, 3696, rfl⟩
abbrev main_v1674 : Ref sig .tc := ⟨.hbm, 3697, rfl⟩
abbrev main_v1675 : Ref sig .tc := ⟨.hbm, 3698, rfl⟩
abbrev main_cst_305 : Ref sig .tc := ⟨.hbm, 3699, rfl⟩
abbrev main_v1676 : Ref sig .tc := ⟨.hbm, 3700, rfl⟩
abbrev main_v1677 : Ref sig .tc := ⟨.hbm, 3701, rfl⟩
abbrev main_v1678 : Ref sig .tc := ⟨.hbm, 3702, rfl⟩
abbrev main_v1679 : Ref sig .tc := ⟨.hbm, 3703, rfl⟩
abbrev main_v1680 : Ref sig .tc := ⟨.hbm, 3704, rfl⟩
abbrev main_v1681 : Ref sig .tc := ⟨.hbm, 3705, rfl⟩
abbrev main_v1682 : Ref sig .tc := ⟨.hbm, 3706, rfl⟩
abbrev main_v1683 : Ref sig .tc := ⟨.hbm, 3707, rfl⟩
abbrev main_cst_306 : Ref sig .tc := ⟨.hbm, 3708, rfl⟩
abbrev main_call171_v0 : Ref sig .tc := ⟨.hbm, 3709, rfl⟩
abbrev main_call171_v1 : Ref sig .tc := ⟨.hbm, 3710, rfl⟩
abbrev main_v1684 : Ref sig .tc := ⟨.hbm, 3711, rfl⟩
abbrev main_v1685 : Ref sig .tc := ⟨.hbm, 3712, rfl⟩
abbrev main_v1686 : Ref sig .tc := ⟨.hbm, 3713, rfl⟩
abbrev main_v1687 : Ref sig .tc := ⟨.hbm, 3714, rfl⟩
abbrev main_v1688 : Ref sig .tc := ⟨.hbm, 3715, rfl⟩
abbrev main_v1689 : Ref sig .tc := ⟨.hbm, 3716, rfl⟩
abbrev main_v1690 : Ref sig .tc := ⟨.hbm, 3717, rfl⟩
abbrev main_v1691 : Ref sig .tc := ⟨.hbm, 3718, rfl⟩
abbrev main_v1692 : Ref sig .tc := ⟨.hbm, 3719, rfl⟩
abbrev main_v1693 : Ref sig .tc := ⟨.hbm, 3720, rfl⟩
abbrev main_cst_307 : Ref sig .tc := ⟨.hbm, 3721, rfl⟩
abbrev main_v1694 : Ref sig .tc := ⟨.hbm, 3722, rfl⟩
abbrev main_v1695 : Ref sig .tc := ⟨.hbm, 3723, rfl⟩
abbrev main_v1696 : Ref sig .tc := ⟨.hbm, 3724, rfl⟩
abbrev main_v1697 : Ref sig .tc := ⟨.hbm, 3725, rfl⟩
abbrev main_v1698 : Ref sig .tc := ⟨.hbm, 3726, rfl⟩
abbrev main_cst_308 : Ref sig .tc := ⟨.hbm, 3727, rfl⟩
abbrev main_v1699 : Ref sig .tc := ⟨.hbm, 3728, rfl⟩
abbrev main_v1700 : Ref sig .tc := ⟨.hbm, 3729, rfl⟩
abbrev main_v1701 : Ref sig .tc := ⟨.hbm, 3730, rfl⟩
abbrev main_v1702 : Ref sig .tc := ⟨.hbm, 3731, rfl⟩
abbrev main_v1703 : Ref sig .tc := ⟨.hbm, 3732, rfl⟩
abbrev main_v1704 : Ref sig .tc := ⟨.hbm, 3733, rfl⟩
abbrev main_v1705 : Ref sig .tc := ⟨.hbm, 3734, rfl⟩
abbrev main_v1706 : Ref sig .tc := ⟨.hbm, 3735, rfl⟩
abbrev main_cst_309 : Ref sig .tc := ⟨.hbm, 3736, rfl⟩
abbrev main_call172_v0 : Ref sig .tc := ⟨.hbm, 3737, rfl⟩
abbrev main_call172_v1 : Ref sig .tc := ⟨.hbm, 3738, rfl⟩
abbrev main_v1707 : Ref sig .tc := ⟨.hbm, 3739, rfl⟩
abbrev main_v1708 : Ref sig .tc := ⟨.hbm, 3740, rfl⟩
abbrev main_v1709 : Ref sig .tc := ⟨.hbm, 3741, rfl⟩
abbrev main_v1710 : Ref sig .tc := ⟨.hbm, 3742, rfl⟩
abbrev main_v1711 : Ref sig .tc := ⟨.hbm, 3743, rfl⟩
abbrev main_v1712 : Ref sig .tc := ⟨.hbm, 3744, rfl⟩
abbrev main_v1713 : Ref sig .tc := ⟨.hbm, 3745, rfl⟩
abbrev main_v1714 : Ref sig .tc := ⟨.hbm, 3746, rfl⟩
abbrev main_v1715 : Ref sig .tc := ⟨.hbm, 3747, rfl⟩
abbrev main_v1716 : Ref sig .tc := ⟨.hbm, 3748, rfl⟩
abbrev main_cst_310 : Ref sig .tc := ⟨.hbm, 3749, rfl⟩
abbrev main_v1717 : Ref sig .tc := ⟨.hbm, 3750, rfl⟩
abbrev main_v1718 : Ref sig .tc := ⟨.hbm, 3751, rfl⟩
abbrev main_v1719 : Ref sig .tc := ⟨.hbm, 3752, rfl⟩
abbrev main_v1720 : Ref sig .tc := ⟨.hbm, 3753, rfl⟩
abbrev main_v1721 : Ref sig .tc := ⟨.hbm, 3754, rfl⟩
abbrev main_cst_311 : Ref sig .tc := ⟨.hbm, 3755, rfl⟩
abbrev main_v1722 : Ref sig .tc := ⟨.hbm, 3756, rfl⟩
abbrev main_v1723 : Ref sig .tc := ⟨.hbm, 3757, rfl⟩
abbrev main_v1724 : Ref sig .tc := ⟨.hbm, 3758, rfl⟩
abbrev main_v1725 : Ref sig .tc := ⟨.hbm, 3759, rfl⟩
abbrev main_v1726 : Ref sig .tc := ⟨.hbm, 3760, rfl⟩
abbrev main_v1727 : Ref sig .tc := ⟨.hbm, 3761, rfl⟩
abbrev main_v1728 : Ref sig .tc := ⟨.hbm, 3762, rfl⟩
abbrev main_v1729 : Ref sig .tc := ⟨.hbm, 3763, rfl⟩
abbrev main_cst_312 : Ref sig .tc := ⟨.hbm, 3764, rfl⟩
abbrev main_call173_v0 : Ref sig .tc := ⟨.hbm, 3765, rfl⟩
abbrev main_call173_v1 : Ref sig .tc := ⟨.hbm, 3766, rfl⟩
abbrev main_v1730 : Ref sig .tc := ⟨.hbm, 3767, rfl⟩
abbrev main_v1731 : Ref sig .tc := ⟨.hbm, 3768, rfl⟩
abbrev main_v1732 : Ref sig .tc := ⟨.hbm, 3769, rfl⟩
abbrev main_v1733 : Ref sig .tc := ⟨.hbm, 3770, rfl⟩
abbrev main_v1734 : Ref sig .tc := ⟨.hbm, 3771, rfl⟩
abbrev main_v1735 : Ref sig .tc := ⟨.hbm, 3772, rfl⟩
abbrev main_v1736 : Ref sig .tc := ⟨.hbm, 3773, rfl⟩
abbrev main_v1737 : Ref sig .tc := ⟨.hbm, 3774, rfl⟩
abbrev main_v1738 : Ref sig .tc := ⟨.hbm, 3775, rfl⟩
abbrev main_v1739 : Ref sig .tc := ⟨.hbm, 3776, rfl⟩
abbrev main_cst_313 : Ref sig .tc := ⟨.hbm, 3777, rfl⟩
abbrev main_v1740 : Ref sig .tc := ⟨.hbm, 3778, rfl⟩
abbrev main_v1741 : Ref sig .tc := ⟨.hbm, 3779, rfl⟩
abbrev main_v1742 : Ref sig .tc := ⟨.hbm, 3780, rfl⟩
abbrev main_v1743 : Ref sig .tc := ⟨.hbm, 3781, rfl⟩
abbrev main_v1744 : Ref sig .tc := ⟨.hbm, 3782, rfl⟩
abbrev main_cst_314 : Ref sig .tc := ⟨.hbm, 3783, rfl⟩
abbrev main_v1745 : Ref sig .tc := ⟨.hbm, 3784, rfl⟩
abbrev main_v1746 : Ref sig .tc := ⟨.hbm, 3785, rfl⟩
abbrev main_v1747 : Ref sig .tc := ⟨.hbm, 3786, rfl⟩
abbrev main_v1748 : Ref sig .tc := ⟨.hbm, 3787, rfl⟩
abbrev main_v1749 : Ref sig .tc := ⟨.hbm, 3788, rfl⟩
abbrev main_v1750 : Ref sig .tc := ⟨.hbm, 3789, rfl⟩
abbrev main_v1751 : Ref sig .tc := ⟨.hbm, 3790, rfl⟩
abbrev main_v1752 : Ref sig .tc := ⟨.hbm, 3791, rfl⟩
abbrev main_cst_315 : Ref sig .tc := ⟨.hbm, 3792, rfl⟩
abbrev main_call174_v0 : Ref sig .tc := ⟨.hbm, 3793, rfl⟩
abbrev main_call174_v1 : Ref sig .tc := ⟨.hbm, 3794, rfl⟩
abbrev main_v1753 : Ref sig .tc := ⟨.hbm, 3795, rfl⟩
abbrev main_v1754 : Ref sig .tc := ⟨.hbm, 3796, rfl⟩
abbrev main_v1755 : Ref sig .tc := ⟨.hbm, 3797, rfl⟩
abbrev main_v1756 : Ref sig .tc := ⟨.hbm, 3798, rfl⟩
abbrev main_v1757 : Ref sig .tc := ⟨.hbm, 3799, rfl⟩
abbrev main_v1758 : Ref sig .tc := ⟨.hbm, 3800, rfl⟩
abbrev main_v1759 : Ref sig .tc := ⟨.hbm, 3801, rfl⟩
abbrev main_v1760 : Ref sig .tc := ⟨.hbm, 3802, rfl⟩
abbrev main_v1761 : Ref sig .tc := ⟨.hbm, 3803, rfl⟩
abbrev main_v1762 : Ref sig .tc := ⟨.hbm, 3804, rfl⟩
abbrev main_cst_316 : Ref sig .tc := ⟨.hbm, 3805, rfl⟩
abbrev main_v1763 : Ref sig .tc := ⟨.hbm, 3806, rfl⟩
abbrev main_v1764 : Ref sig .tc := ⟨.hbm, 3807, rfl⟩
abbrev main_v1765 : Ref sig .tc := ⟨.hbm, 3808, rfl⟩
abbrev main_v1766 : Ref sig .tc := ⟨.hbm, 3809, rfl⟩
abbrev main_v1767 : Ref sig .tc := ⟨.hbm, 3810, rfl⟩
abbrev main_cst_317 : Ref sig .tc := ⟨.hbm, 3811, rfl⟩
abbrev main_v1768 : Ref sig .tc := ⟨.hbm, 3812, rfl⟩
abbrev main_v1769 : Ref sig .tc := ⟨.hbm, 3813, rfl⟩
abbrev main_v1770 : Ref sig .tc := ⟨.hbm, 3814, rfl⟩
abbrev main_v1771 : Ref sig .tc := ⟨.hbm, 3815, rfl⟩
abbrev main_v1772 : Ref sig .tc := ⟨.hbm, 3816, rfl⟩
abbrev main_v1773 : Ref sig .tc := ⟨.hbm, 3817, rfl⟩
abbrev main_v1774 : Ref sig .tc := ⟨.hbm, 3818, rfl⟩
abbrev main_v1775 : Ref sig .tc := ⟨.hbm, 3819, rfl⟩
abbrev main_cst_318 : Ref sig .tc := ⟨.hbm, 3820, rfl⟩
abbrev main_call175_v0 : Ref sig .tc := ⟨.hbm, 3821, rfl⟩
abbrev main_call175_v1 : Ref sig .tc := ⟨.hbm, 3822, rfl⟩
abbrev main_v1776 : Ref sig .tc := ⟨.hbm, 3823, rfl⟩
abbrev main_v1777 : Ref sig .tc := ⟨.hbm, 3824, rfl⟩
abbrev main_v1778 : Ref sig .tc := ⟨.hbm, 3825, rfl⟩
abbrev main_v1779 : Ref sig .tc := ⟨.hbm, 3826, rfl⟩
abbrev main_v1780 : Ref sig .tc := ⟨.hbm, 3827, rfl⟩
abbrev main_v1781 : Ref sig .tc := ⟨.hbm, 3828, rfl⟩
abbrev main_v1782 : Ref sig .tc := ⟨.hbm, 3829, rfl⟩
abbrev main_v1783 : Ref sig .tc := ⟨.hbm, 3830, rfl⟩
abbrev main_v1784 : Ref sig .tc := ⟨.hbm, 3831, rfl⟩
abbrev main_v1785 : Ref sig .tc := ⟨.hbm, 3832, rfl⟩
abbrev main_cst_319 : Ref sig .tc := ⟨.hbm, 3833, rfl⟩
abbrev main_v1786 : Ref sig .tc := ⟨.hbm, 3834, rfl⟩
abbrev main_v1787 : Ref sig .tc := ⟨.hbm, 3835, rfl⟩
abbrev main_v1788 : Ref sig .tc := ⟨.hbm, 3836, rfl⟩
abbrev main_v1789 : Ref sig .tc := ⟨.hbm, 3837, rfl⟩
abbrev main_v1790 : Ref sig .tc := ⟨.hbm, 3838, rfl⟩
abbrev main_cst_320 : Ref sig .tc := ⟨.hbm, 3839, rfl⟩
abbrev main_v1791 : Ref sig .tc := ⟨.hbm, 3840, rfl⟩
abbrev main_v1792 : Ref sig .tc := ⟨.hbm, 3841, rfl⟩
abbrev main_v1793 : Ref sig .tc := ⟨.hbm, 3842, rfl⟩
abbrev main_v1794 : Ref sig .tc := ⟨.hbm, 3843, rfl⟩
abbrev main_v1795 : Ref sig .tc := ⟨.hbm, 3844, rfl⟩
abbrev main_v1796 : Ref sig .tc := ⟨.hbm, 3845, rfl⟩
abbrev main_v1797 : Ref sig .tc := ⟨.hbm, 3846, rfl⟩
abbrev main_v1798 : Ref sig .tc := ⟨.hbm, 3847, rfl⟩
abbrev main_cst_321 : Ref sig .tc := ⟨.hbm, 3848, rfl⟩
abbrev main_call176_v0 : Ref sig .tc := ⟨.hbm, 3849, rfl⟩
abbrev main_call176_v1 : Ref sig .tc := ⟨.hbm, 3850, rfl⟩
abbrev main_v1799 : Ref sig .tc := ⟨.hbm, 3851, rfl⟩
abbrev main_v1800 : Ref sig .tc := ⟨.hbm, 3852, rfl⟩
abbrev main_v1801 : Ref sig .tc := ⟨.hbm, 3853, rfl⟩
abbrev main_v1802 : Ref sig .tc := ⟨.hbm, 3854, rfl⟩
abbrev main_v1803 : Ref sig .tc := ⟨.hbm, 3855, rfl⟩
abbrev main_v1804 : Ref sig .tc := ⟨.hbm, 3856, rfl⟩
abbrev main_v1805 : Ref sig .tc := ⟨.hbm, 3857, rfl⟩
abbrev main_v1806 : Ref sig .tc := ⟨.hbm, 3858, rfl⟩
abbrev main_v1807 : Ref sig .tc := ⟨.hbm, 3859, rfl⟩
abbrev main_v1808 : Ref sig .tc := ⟨.hbm, 3860, rfl⟩
abbrev main_cst_322 : Ref sig .tc := ⟨.hbm, 3861, rfl⟩
abbrev main_v1809 : Ref sig .tc := ⟨.hbm, 3862, rfl⟩
abbrev main_v1810 : Ref sig .tc := ⟨.hbm, 3863, rfl⟩
abbrev main_v1811 : Ref sig .tc := ⟨.hbm, 3864, rfl⟩
abbrev main_v1812 : Ref sig .tc := ⟨.hbm, 3865, rfl⟩
abbrev main_v1813 : Ref sig .tc := ⟨.hbm, 3866, rfl⟩
abbrev main_cst_323 : Ref sig .tc := ⟨.hbm, 3867, rfl⟩
abbrev main_v1814 : Ref sig .tc := ⟨.hbm, 3868, rfl⟩
abbrev main_v1815 : Ref sig .tc := ⟨.hbm, 3869, rfl⟩
abbrev main_v1816 : Ref sig .tc := ⟨.hbm, 3870, rfl⟩
abbrev main_v1817 : Ref sig .tc := ⟨.hbm, 3871, rfl⟩
abbrev main_v1818 : Ref sig .tc := ⟨.hbm, 3872, rfl⟩
abbrev main_v1819 : Ref sig .tc := ⟨.hbm, 3873, rfl⟩
abbrev main_v1820 : Ref sig .tc := ⟨.hbm, 3874, rfl⟩
abbrev main_v1821 : Ref sig .tc := ⟨.hbm, 3875, rfl⟩
abbrev main_cst_324 : Ref sig .tc := ⟨.hbm, 3876, rfl⟩
abbrev main_call177_v0 : Ref sig .tc := ⟨.hbm, 3877, rfl⟩
abbrev main_call177_v1 : Ref sig .tc := ⟨.hbm, 3878, rfl⟩
abbrev main_v1822 : Ref sig .tc := ⟨.hbm, 3879, rfl⟩
abbrev main_v1823 : Ref sig .tc := ⟨.hbm, 3880, rfl⟩
abbrev main_v1824 : Ref sig .tc := ⟨.hbm, 3881, rfl⟩
abbrev main_v1825 : Ref sig .tc := ⟨.hbm, 3882, rfl⟩
abbrev main_v1826 : Ref sig .tc := ⟨.hbm, 3883, rfl⟩
abbrev main_v1827 : Ref sig .tc := ⟨.hbm, 3884, rfl⟩
abbrev main_v1828 : Ref sig .tc := ⟨.hbm, 3885, rfl⟩
abbrev main_v1829 : Ref sig .tc := ⟨.hbm, 3886, rfl⟩
abbrev main_v1830 : Ref sig .tc := ⟨.hbm, 3887, rfl⟩
abbrev main_v1831 : Ref sig .tc := ⟨.hbm, 3888, rfl⟩
abbrev main_cst_325 : Ref sig .tc := ⟨.hbm, 3889, rfl⟩
abbrev main_v1832 : Ref sig .tc := ⟨.hbm, 3890, rfl⟩
abbrev main_v1833 : Ref sig .tc := ⟨.hbm, 3891, rfl⟩
abbrev main_v1834 : Ref sig .tc := ⟨.hbm, 3892, rfl⟩
abbrev main_v1835 : Ref sig .tc := ⟨.hbm, 3893, rfl⟩
abbrev main_v1836 : Ref sig .tc := ⟨.hbm, 3894, rfl⟩
abbrev main_cst_326 : Ref sig .tc := ⟨.hbm, 3895, rfl⟩
abbrev main_v1837 : Ref sig .tc := ⟨.hbm, 3896, rfl⟩
abbrev main_v1838 : Ref sig .tc := ⟨.hbm, 3897, rfl⟩
abbrev main_v1839 : Ref sig .tc := ⟨.hbm, 3898, rfl⟩
abbrev main_v1840 : Ref sig .tc := ⟨.hbm, 3899, rfl⟩
abbrev main_v1841 : Ref sig .tc := ⟨.hbm, 3900, rfl⟩
abbrev main_v1842 : Ref sig .tc := ⟨.hbm, 3901, rfl⟩
abbrev main_v1843 : Ref sig .tc := ⟨.hbm, 3902, rfl⟩
abbrev main_v1844 : Ref sig .tc := ⟨.hbm, 3903, rfl⟩
abbrev main_cst_327 : Ref sig .tc := ⟨.hbm, 3904, rfl⟩
abbrev main_call178_v0 : Ref sig .tc := ⟨.hbm, 3905, rfl⟩
abbrev main_call178_v1 : Ref sig .tc := ⟨.hbm, 3906, rfl⟩
abbrev main_v1845 : Ref sig .tc := ⟨.hbm, 3907, rfl⟩
abbrev main_v1846 : Ref sig .tc := ⟨.hbm, 3908, rfl⟩
abbrev main_v1847 : Ref sig .tc := ⟨.hbm, 3909, rfl⟩
abbrev main_v1848 : Ref sig .tc := ⟨.hbm, 3910, rfl⟩
abbrev main_v1849 : Ref sig .tc := ⟨.hbm, 3911, rfl⟩
abbrev main_v1850 : Ref sig .tc := ⟨.hbm, 3912, rfl⟩
abbrev main_v1851 : Ref sig .tc := ⟨.hbm, 3913, rfl⟩
abbrev main_v1852 : Ref sig .tc := ⟨.hbm, 3914, rfl⟩
abbrev main_v1853 : Ref sig .tc := ⟨.hbm, 3915, rfl⟩
abbrev main_v1854 : Ref sig .tc := ⟨.hbm, 3916, rfl⟩
abbrev main_cst_328 : Ref sig .tc := ⟨.hbm, 3917, rfl⟩
abbrev main_v1855 : Ref sig .tc := ⟨.hbm, 3918, rfl⟩
abbrev main_v1856 : Ref sig .tc := ⟨.hbm, 3919, rfl⟩
abbrev main_v1857 : Ref sig .tc := ⟨.hbm, 3920, rfl⟩
abbrev main_v1858 : Ref sig .tc := ⟨.hbm, 3921, rfl⟩
abbrev main_v1859 : Ref sig .tc := ⟨.hbm, 3922, rfl⟩
abbrev main_cst_329 : Ref sig .tc := ⟨.hbm, 3923, rfl⟩
abbrev main_v1860 : Ref sig .tc := ⟨.hbm, 3924, rfl⟩
abbrev main_v1861 : Ref sig .tc := ⟨.hbm, 3925, rfl⟩
abbrev main_v1862 : Ref sig .tc := ⟨.hbm, 3926, rfl⟩
abbrev main_v1863 : Ref sig .tc := ⟨.hbm, 3927, rfl⟩
abbrev main_v1864 : Ref sig .tc := ⟨.hbm, 3928, rfl⟩
abbrev main_v1865 : Ref sig .tc := ⟨.hbm, 3929, rfl⟩
abbrev main_v1866 : Ref sig .tc := ⟨.hbm, 3930, rfl⟩
abbrev main_v1867 : Ref sig .tc := ⟨.hbm, 3931, rfl⟩
abbrev main_cst_330 : Ref sig .tc := ⟨.hbm, 3932, rfl⟩
abbrev main_call179_v0 : Ref sig .tc := ⟨.hbm, 3933, rfl⟩
abbrev main_call179_v1 : Ref sig .tc := ⟨.hbm, 3934, rfl⟩
abbrev main_v1868 : Ref sig .tc := ⟨.hbm, 3935, rfl⟩
abbrev main_v1869 : Ref sig .tc := ⟨.hbm, 3936, rfl⟩
abbrev main_v1870 : Ref sig .tc := ⟨.hbm, 3937, rfl⟩
abbrev main_v1871 : Ref sig .tc := ⟨.hbm, 3938, rfl⟩
abbrev main_v1872 : Ref sig .tc := ⟨.hbm, 3939, rfl⟩
abbrev main_v1873 : Ref sig .tc := ⟨.hbm, 3940, rfl⟩
abbrev main_v1874 : Ref sig .tc := ⟨.hbm, 3941, rfl⟩
abbrev main_v1875 : Ref sig .tc := ⟨.hbm, 3942, rfl⟩
abbrev main_v1876 : Ref sig .tc := ⟨.hbm, 3943, rfl⟩
abbrev main_v1877 : Ref sig .tc := ⟨.hbm, 3944, rfl⟩
abbrev main_cst_331 : Ref sig .tc := ⟨.hbm, 3945, rfl⟩
abbrev main_v1878 : Ref sig .tc := ⟨.hbm, 3946, rfl⟩
abbrev main_v1879 : Ref sig .tc := ⟨.hbm, 3947, rfl⟩
abbrev main_v1880 : Ref sig .tc := ⟨.hbm, 3948, rfl⟩
abbrev main_v1881 : Ref sig .tc := ⟨.hbm, 3949, rfl⟩
abbrev main_v1882 : Ref sig .tc := ⟨.hbm, 3950, rfl⟩
abbrev main_cst_332 : Ref sig .tc := ⟨.hbm, 3951, rfl⟩
abbrev main_v1883 : Ref sig .tc := ⟨.hbm, 3952, rfl⟩
abbrev main_v1884 : Ref sig .tc := ⟨.hbm, 3953, rfl⟩
abbrev main_v1885 : Ref sig .tc := ⟨.hbm, 3954, rfl⟩
abbrev main_v1886 : Ref sig .tc := ⟨.hbm, 3955, rfl⟩
abbrev main_v1887 : Ref sig .tc := ⟨.hbm, 3956, rfl⟩
abbrev main_v1888 : Ref sig .tc := ⟨.hbm, 3957, rfl⟩
abbrev main_v1889 : Ref sig .tc := ⟨.hbm, 3958, rfl⟩
abbrev main_v1890 : Ref sig .tc := ⟨.hbm, 3959, rfl⟩
abbrev main_cst_333 : Ref sig .tc := ⟨.hbm, 3960, rfl⟩
abbrev main_call180_v0 : Ref sig .tc := ⟨.hbm, 3961, rfl⟩
abbrev main_call180_v1 : Ref sig .tc := ⟨.hbm, 3962, rfl⟩
abbrev main_v1891 : Ref sig .tc := ⟨.hbm, 3963, rfl⟩
abbrev main_v1892 : Ref sig .tc := ⟨.hbm, 3964, rfl⟩
abbrev main_v1893 : Ref sig .tc := ⟨.hbm, 3965, rfl⟩
abbrev main_v1894 : Ref sig .tc := ⟨.hbm, 3966, rfl⟩
abbrev main_v1895 : Ref sig .tc := ⟨.hbm, 3967, rfl⟩
abbrev main_v1896 : Ref sig .tc := ⟨.hbm, 3968, rfl⟩
abbrev main_v1897 : Ref sig .tc := ⟨.hbm, 3969, rfl⟩
abbrev main_v1898 : Ref sig .tc := ⟨.hbm, 3970, rfl⟩
abbrev main_v1899 : Ref sig .tc := ⟨.hbm, 3971, rfl⟩
abbrev main_v1900 : Ref sig .tc := ⟨.hbm, 3972, rfl⟩
abbrev main_cst_334 : Ref sig .tc := ⟨.hbm, 3973, rfl⟩
abbrev main_v1901 : Ref sig .tc := ⟨.hbm, 3974, rfl⟩
abbrev main_v1902 : Ref sig .tc := ⟨.hbm, 3975, rfl⟩
abbrev main_v1903 : Ref sig .tc := ⟨.hbm, 3976, rfl⟩
abbrev main_v1904 : Ref sig .tc := ⟨.hbm, 3977, rfl⟩
abbrev main_v1905 : Ref sig .tc := ⟨.hbm, 3978, rfl⟩
abbrev main_cst_335 : Ref sig .tc := ⟨.hbm, 3979, rfl⟩
abbrev main_v1906 : Ref sig .tc := ⟨.hbm, 3980, rfl⟩
abbrev main_v1907 : Ref sig .tc := ⟨.hbm, 3981, rfl⟩
abbrev main_v1908 : Ref sig .tc := ⟨.hbm, 3982, rfl⟩
abbrev main_v1909 : Ref sig .tc := ⟨.hbm, 3983, rfl⟩
abbrev main_v1910 : Ref sig .tc := ⟨.hbm, 3984, rfl⟩
abbrev main_v1911 : Ref sig .tc := ⟨.hbm, 3985, rfl⟩
abbrev main_v1912 : Ref sig .tc := ⟨.hbm, 3986, rfl⟩
abbrev main_v1913 : Ref sig .tc := ⟨.hbm, 3987, rfl⟩
abbrev main_cst_336 : Ref sig .tc := ⟨.hbm, 3988, rfl⟩
abbrev main_call181_v0 : Ref sig .tc := ⟨.hbm, 3989, rfl⟩
abbrev main_call181_v1 : Ref sig .tc := ⟨.hbm, 3990, rfl⟩
abbrev main_v1914 : Ref sig .tc := ⟨.hbm, 3991, rfl⟩
abbrev main_v1915 : Ref sig .tc := ⟨.hbm, 3992, rfl⟩
abbrev main_v1916 : Ref sig .tc := ⟨.hbm, 3993, rfl⟩
abbrev main_v1917 : Ref sig .tc := ⟨.hbm, 3994, rfl⟩
abbrev main_v1918 : Ref sig .tc := ⟨.hbm, 3995, rfl⟩
abbrev main_v1919 : Ref sig .tc := ⟨.hbm, 3996, rfl⟩
abbrev main_v1920 : Ref sig .tc := ⟨.hbm, 3997, rfl⟩
abbrev main_v1921 : Ref sig .tc := ⟨.hbm, 3998, rfl⟩
abbrev main_v1922 : Ref sig .tc := ⟨.hbm, 3999, rfl⟩
abbrev main_v1923 : Ref sig .tc := ⟨.hbm, 4000, rfl⟩
abbrev main_cst_337 : Ref sig .tc := ⟨.hbm, 4001, rfl⟩
abbrev main_v1924 : Ref sig .tc := ⟨.hbm, 4002, rfl⟩
abbrev main_v1925 : Ref sig .tc := ⟨.hbm, 4003, rfl⟩
abbrev main_v1926 : Ref sig .tc := ⟨.hbm, 4004, rfl⟩
abbrev main_v1927 : Ref sig .tc := ⟨.hbm, 4005, rfl⟩
abbrev main_v1928 : Ref sig .tc := ⟨.hbm, 4006, rfl⟩
abbrev main_cst_338 : Ref sig .tc := ⟨.hbm, 4007, rfl⟩
abbrev main_v1929 : Ref sig .tc := ⟨.hbm, 4008, rfl⟩
abbrev main_v1930 : Ref sig .tc := ⟨.hbm, 4009, rfl⟩
abbrev main_v1931 : Ref sig .tc := ⟨.hbm, 4010, rfl⟩
abbrev main_v1932 : Ref sig .tc := ⟨.hbm, 4011, rfl⟩
abbrev main_v1933 : Ref sig .tc := ⟨.hbm, 4012, rfl⟩
abbrev main_v1934 : Ref sig .tc := ⟨.hbm, 4013, rfl⟩
abbrev main_v1935 : Ref sig .tc := ⟨.hbm, 4014, rfl⟩
abbrev main_v1936 : Ref sig .tc := ⟨.hbm, 4015, rfl⟩
abbrev main_cst_339 : Ref sig .tc := ⟨.hbm, 4016, rfl⟩
abbrev main_call182_v0 : Ref sig .tc := ⟨.hbm, 4017, rfl⟩
abbrev main_call182_v1 : Ref sig .tc := ⟨.hbm, 4018, rfl⟩
abbrev main_v1937 : Ref sig .tc := ⟨.hbm, 4019, rfl⟩
abbrev main_v1938 : Ref sig .tc := ⟨.hbm, 4020, rfl⟩
abbrev main_v1939 : Ref sig .tc := ⟨.hbm, 4021, rfl⟩
abbrev main_v1940 : Ref sig .tc := ⟨.hbm, 4022, rfl⟩
abbrev main_v1941 : Ref sig .tc := ⟨.hbm, 4023, rfl⟩
abbrev main_v1942 : Ref sig .tc := ⟨.hbm, 4024, rfl⟩
abbrev main_v1943 : Ref sig .tc := ⟨.hbm, 4025, rfl⟩
abbrev main_v1944 : Ref sig .tc := ⟨.hbm, 4026, rfl⟩
abbrev main_v1945 : Ref sig .tc := ⟨.hbm, 4027, rfl⟩
abbrev main_v1946 : Ref sig .tc := ⟨.hbm, 4028, rfl⟩
abbrev main_cst_340 : Ref sig .tc := ⟨.hbm, 4029, rfl⟩
abbrev main_v1947 : Ref sig .tc := ⟨.hbm, 4030, rfl⟩
abbrev main_v1948 : Ref sig .tc := ⟨.hbm, 4031, rfl⟩
abbrev main_v1949 : Ref sig .tc := ⟨.hbm, 4032, rfl⟩
abbrev main_v1950 : Ref sig .tc := ⟨.hbm, 4033, rfl⟩
abbrev main_v1951 : Ref sig .tc := ⟨.hbm, 4034, rfl⟩
abbrev main_cst_341 : Ref sig .tc := ⟨.hbm, 4035, rfl⟩
abbrev main_v1952 : Ref sig .tc := ⟨.hbm, 4036, rfl⟩
abbrev main_v1953 : Ref sig .tc := ⟨.hbm, 4037, rfl⟩
abbrev main_v1954 : Ref sig .tc := ⟨.hbm, 4038, rfl⟩
abbrev main_v1955 : Ref sig .tc := ⟨.hbm, 4039, rfl⟩
abbrev main_v1956 : Ref sig .tc := ⟨.hbm, 4040, rfl⟩
abbrev main_v1957 : Ref sig .tc := ⟨.hbm, 4041, rfl⟩
abbrev main_v1958 : Ref sig .tc := ⟨.hbm, 4042, rfl⟩
abbrev main_v1959 : Ref sig .tc := ⟨.hbm, 4043, rfl⟩
abbrev main_cst_342 : Ref sig .tc := ⟨.hbm, 4044, rfl⟩
abbrev main_call183_v0 : Ref sig .tc := ⟨.hbm, 4045, rfl⟩
abbrev main_call183_v1 : Ref sig .tc := ⟨.hbm, 4046, rfl⟩
abbrev main_v1960 : Ref sig .tc := ⟨.hbm, 4047, rfl⟩
abbrev main_v1961 : Ref sig .tc := ⟨.hbm, 4048, rfl⟩
abbrev main_v1962 : Ref sig .tc := ⟨.hbm, 4049, rfl⟩
abbrev main_v1963 : Ref sig .tc := ⟨.hbm, 4050, rfl⟩
abbrev main_v1964 : Ref sig .tc := ⟨.hbm, 4051, rfl⟩
abbrev main_v1965 : Ref sig .tc := ⟨.hbm, 4052, rfl⟩
abbrev main_v1966 : Ref sig .tc := ⟨.hbm, 4053, rfl⟩
abbrev main_v1967 : Ref sig .tc := ⟨.hbm, 4054, rfl⟩
abbrev main_v1968 : Ref sig .tc := ⟨.hbm, 4055, rfl⟩
abbrev main_v1969 : Ref sig .tc := ⟨.hbm, 4056, rfl⟩
abbrev main_cst_343 : Ref sig .tc := ⟨.hbm, 4057, rfl⟩
abbrev main_v1970 : Ref sig .tc := ⟨.hbm, 4058, rfl⟩
abbrev main_v1971 : Ref sig .tc := ⟨.hbm, 4059, rfl⟩
abbrev main_v1972 : Ref sig .tc := ⟨.hbm, 4060, rfl⟩
abbrev main_v1973 : Ref sig .tc := ⟨.hbm, 4061, rfl⟩
abbrev main_v1974 : Ref sig .tc := ⟨.hbm, 4062, rfl⟩
abbrev main_cst_344 : Ref sig .tc := ⟨.hbm, 4063, rfl⟩
abbrev main_v1975 : Ref sig .tc := ⟨.hbm, 4064, rfl⟩
abbrev main_v1976 : Ref sig .tc := ⟨.hbm, 4065, rfl⟩
abbrev main_v1977 : Ref sig .tc := ⟨.hbm, 4066, rfl⟩
abbrev main_v1978 : Ref sig .tc := ⟨.hbm, 4067, rfl⟩
abbrev main_v1979 : Ref sig .tc := ⟨.hbm, 4068, rfl⟩
abbrev main_v1980 : Ref sig .tc := ⟨.hbm, 4069, rfl⟩
abbrev main_v1981 : Ref sig .tc := ⟨.hbm, 4070, rfl⟩
abbrev main_v1982 : Ref sig .tc := ⟨.hbm, 4071, rfl⟩
abbrev main_cst_345 : Ref sig .tc := ⟨.hbm, 4072, rfl⟩
abbrev main_call184_v0 : Ref sig .tc := ⟨.hbm, 4073, rfl⟩
abbrev main_call184_v1 : Ref sig .tc := ⟨.hbm, 4074, rfl⟩
abbrev main_v1983 : Ref sig .tc := ⟨.hbm, 4075, rfl⟩
abbrev main_v1984 : Ref sig .tc := ⟨.hbm, 4076, rfl⟩
abbrev main_v1985 : Ref sig .tc := ⟨.hbm, 4077, rfl⟩
abbrev main_v1986 : Ref sig .tc := ⟨.hbm, 4078, rfl⟩
abbrev main_v1987 : Ref sig .tc := ⟨.hbm, 4079, rfl⟩
abbrev main_v1988 : Ref sig .tc := ⟨.hbm, 4080, rfl⟩
abbrev main_v1989 : Ref sig .tc := ⟨.hbm, 4081, rfl⟩
abbrev main_v1990 : Ref sig .tc := ⟨.hbm, 4082, rfl⟩
abbrev main_v1991 : Ref sig .tc := ⟨.hbm, 4083, rfl⟩
abbrev main_v1992 : Ref sig .tc := ⟨.hbm, 4084, rfl⟩
abbrev main_cst_346 : Ref sig .tc := ⟨.hbm, 4085, rfl⟩
abbrev main_v1993 : Ref sig .tc := ⟨.hbm, 4086, rfl⟩
abbrev main_v1994 : Ref sig .tc := ⟨.hbm, 4087, rfl⟩
abbrev main_v1995 : Ref sig .tc := ⟨.hbm, 4088, rfl⟩
abbrev main_v1996 : Ref sig .tc := ⟨.hbm, 4089, rfl⟩
abbrev main_v1997 : Ref sig .tc := ⟨.hbm, 4090, rfl⟩
abbrev main_cst_347 : Ref sig .tc := ⟨.hbm, 4091, rfl⟩
abbrev main_v1998 : Ref sig .tc := ⟨.hbm, 4092, rfl⟩
abbrev main_v1999 : Ref sig .tc := ⟨.hbm, 4093, rfl⟩
abbrev main_v2000 : Ref sig .tc := ⟨.hbm, 4094, rfl⟩
abbrev main_v2001 : Ref sig .tc := ⟨.hbm, 4095, rfl⟩
abbrev main_v2002 : Ref sig .tc := ⟨.hbm, 4096, rfl⟩
abbrev main_v2003 : Ref sig .tc := ⟨.hbm, 4097, rfl⟩
abbrev main_v2004 : Ref sig .tc := ⟨.hbm, 4098, rfl⟩
abbrev main_v2005 : Ref sig .tc := ⟨.hbm, 4099, rfl⟩
abbrev main_cst_348 : Ref sig .tc := ⟨.hbm, 4100, rfl⟩
abbrev main_call185_v0 : Ref sig .tc := ⟨.hbm, 4101, rfl⟩
abbrev main_call185_v1 : Ref sig .tc := ⟨.hbm, 4102, rfl⟩
abbrev main_v2006 : Ref sig .tc := ⟨.hbm, 4103, rfl⟩
abbrev main_v2007 : Ref sig .tc := ⟨.hbm, 4104, rfl⟩
abbrev main_v2008 : Ref sig .tc := ⟨.hbm, 4105, rfl⟩
abbrev main_v2009 : Ref sig .tc := ⟨.hbm, 4106, rfl⟩
abbrev main_v2010 : Ref sig .tc := ⟨.hbm, 4107, rfl⟩
abbrev main_v2011 : Ref sig .tc := ⟨.hbm, 4108, rfl⟩
abbrev main_v2012 : Ref sig .tc := ⟨.hbm, 4109, rfl⟩
abbrev main_v2013 : Ref sig .tc := ⟨.hbm, 4110, rfl⟩
abbrev main_v2014 : Ref sig .tc := ⟨.hbm, 4111, rfl⟩
abbrev main_v2015 : Ref sig .tc := ⟨.hbm, 4112, rfl⟩
abbrev main_cst_349 : Ref sig .tc := ⟨.hbm, 4113, rfl⟩
abbrev main_v2016 : Ref sig .tc := ⟨.hbm, 4114, rfl⟩
abbrev main_v2017 : Ref sig .tc := ⟨.hbm, 4115, rfl⟩
abbrev main_v2018 : Ref sig .tc := ⟨.hbm, 4116, rfl⟩
abbrev main_v2019 : Ref sig .tc := ⟨.hbm, 4117, rfl⟩
abbrev main_v2020 : Ref sig .tc := ⟨.hbm, 4118, rfl⟩
abbrev main_cst_350 : Ref sig .tc := ⟨.hbm, 4119, rfl⟩
abbrev main_v2021 : Ref sig .tc := ⟨.hbm, 4120, rfl⟩
abbrev main_v2022 : Ref sig .tc := ⟨.hbm, 4121, rfl⟩
abbrev main_v2023 : Ref sig .tc := ⟨.hbm, 4122, rfl⟩
abbrev main_v2024 : Ref sig .tc := ⟨.hbm, 4123, rfl⟩
abbrev main_v2025 : Ref sig .tc := ⟨.hbm, 4124, rfl⟩
abbrev main_v2026 : Ref sig .tc := ⟨.hbm, 4125, rfl⟩
abbrev main_v2027 : Ref sig .tc := ⟨.hbm, 4126, rfl⟩
abbrev main_v2028 : Ref sig .tc := ⟨.hbm, 4127, rfl⟩
abbrev main_cst_351 : Ref sig .tc := ⟨.hbm, 4128, rfl⟩
abbrev main_call186_v0 : Ref sig .tc := ⟨.hbm, 4129, rfl⟩
abbrev main_call186_v1 : Ref sig .tc := ⟨.hbm, 4130, rfl⟩
abbrev main_v2029 : Ref sig .tc := ⟨.hbm, 4131, rfl⟩
abbrev main_v2030 : Ref sig .tc := ⟨.hbm, 4132, rfl⟩
abbrev main_v2031 : Ref sig .tc := ⟨.hbm, 4133, rfl⟩
abbrev main_v2032 : Ref sig .tc := ⟨.hbm, 4134, rfl⟩
abbrev main_v2033 : Ref sig .tc := ⟨.hbm, 4135, rfl⟩
abbrev main_v2034 : Ref sig .tc := ⟨.hbm, 4136, rfl⟩
abbrev main_v2035 : Ref sig .tc := ⟨.hbm, 4137, rfl⟩
abbrev main_v2036 : Ref sig .tc := ⟨.hbm, 4138, rfl⟩
abbrev main_v2037 : Ref sig .tc := ⟨.hbm, 4139, rfl⟩
abbrev main_v2038 : Ref sig .tc := ⟨.hbm, 4140, rfl⟩
abbrev main_cst_352 : Ref sig .tc := ⟨.hbm, 4141, rfl⟩
abbrev main_v2039 : Ref sig .tc := ⟨.hbm, 4142, rfl⟩
abbrev main_v2040 : Ref sig .tc := ⟨.hbm, 4143, rfl⟩
abbrev main_v2041 : Ref sig .tc := ⟨.hbm, 4144, rfl⟩
abbrev main_v2042 : Ref sig .tc := ⟨.hbm, 4145, rfl⟩
abbrev main_v2043 : Ref sig .tc := ⟨.hbm, 4146, rfl⟩
abbrev main_cst_353 : Ref sig .tc := ⟨.hbm, 4147, rfl⟩
abbrev main_v2044 : Ref sig .tc := ⟨.hbm, 4148, rfl⟩
abbrev main_v2045 : Ref sig .tc := ⟨.hbm, 4149, rfl⟩
abbrev main_v2046 : Ref sig .tc := ⟨.hbm, 4150, rfl⟩
abbrev main_v2047 : Ref sig .tc := ⟨.hbm, 4151, rfl⟩
abbrev main_v2048 : Ref sig .tc := ⟨.hbm, 4152, rfl⟩
abbrev main_v2049 : Ref sig .tc := ⟨.hbm, 4153, rfl⟩
abbrev main_v2050 : Ref sig .tc := ⟨.hbm, 4154, rfl⟩
abbrev main_v2051 : Ref sig .tc := ⟨.hbm, 4155, rfl⟩
abbrev main_cst_354 : Ref sig .tc := ⟨.hbm, 4156, rfl⟩
abbrev main_call187_v0 : Ref sig .tc := ⟨.hbm, 4157, rfl⟩
abbrev main_call187_v1 : Ref sig .tc := ⟨.hbm, 4158, rfl⟩
abbrev main_v2052 : Ref sig .tc := ⟨.hbm, 4159, rfl⟩
abbrev main_v2053 : Ref sig .tc := ⟨.hbm, 4160, rfl⟩
abbrev main_v2054 : Ref sig .tc := ⟨.hbm, 4161, rfl⟩
abbrev main_v2055 : Ref sig .tc := ⟨.hbm, 4162, rfl⟩
abbrev main_v2056 : Ref sig .tc := ⟨.hbm, 4163, rfl⟩
abbrev main_v2057 : Ref sig .tc := ⟨.hbm, 4164, rfl⟩
abbrev main_v2058 : Ref sig .tc := ⟨.hbm, 4165, rfl⟩
abbrev main_v2059 : Ref sig .tc := ⟨.hbm, 4166, rfl⟩
abbrev main_v2060 : Ref sig .tc := ⟨.hbm, 4167, rfl⟩
abbrev main_v2061 : Ref sig .tc := ⟨.hbm, 4168, rfl⟩
abbrev main_cst_355 : Ref sig .tc := ⟨.hbm, 4169, rfl⟩
abbrev main_v2062 : Ref sig .tc := ⟨.hbm, 4170, rfl⟩
abbrev main_v2063 : Ref sig .tc := ⟨.hbm, 4171, rfl⟩
abbrev main_v2064 : Ref sig .tc := ⟨.hbm, 4172, rfl⟩
abbrev main_v2065 : Ref sig .tc := ⟨.hbm, 4173, rfl⟩
abbrev main_v2066 : Ref sig .tc := ⟨.hbm, 4174, rfl⟩
abbrev main_cst_356 : Ref sig .tc := ⟨.hbm, 4175, rfl⟩
abbrev main_v2067 : Ref sig .tc := ⟨.hbm, 4176, rfl⟩
abbrev main_v2068 : Ref sig .tc := ⟨.hbm, 4177, rfl⟩
abbrev main_v2069 : Ref sig .tc := ⟨.hbm, 4178, rfl⟩
abbrev main_v2070 : Ref sig .tc := ⟨.hbm, 4179, rfl⟩
abbrev main_v2071 : Ref sig .tc := ⟨.hbm, 4180, rfl⟩
abbrev main_v2072 : Ref sig .tc := ⟨.hbm, 4181, rfl⟩
abbrev main_v2073 : Ref sig .tc := ⟨.hbm, 4182, rfl⟩
abbrev main_v2074 : Ref sig .tc := ⟨.hbm, 4183, rfl⟩
abbrev main_cst_357 : Ref sig .tc := ⟨.hbm, 4184, rfl⟩
abbrev main_call188_v0 : Ref sig .tc := ⟨.hbm, 4185, rfl⟩
abbrev main_call188_v1 : Ref sig .tc := ⟨.hbm, 4186, rfl⟩
abbrev main_v2075 : Ref sig .tc := ⟨.hbm, 4187, rfl⟩
abbrev main_v2076 : Ref sig .tc := ⟨.hbm, 4188, rfl⟩
abbrev main_v2077 : Ref sig .tc := ⟨.hbm, 4189, rfl⟩
abbrev main_v2078 : Ref sig .tc := ⟨.hbm, 4190, rfl⟩
abbrev main_v2079 : Ref sig .tc := ⟨.hbm, 4191, rfl⟩
abbrev main_v2080 : Ref sig .tc := ⟨.hbm, 4192, rfl⟩
abbrev main_v2081 : Ref sig .tc := ⟨.hbm, 4193, rfl⟩
abbrev main_v2082 : Ref sig .tc := ⟨.hbm, 4194, rfl⟩
abbrev main_v2083 : Ref sig .tc := ⟨.hbm, 4195, rfl⟩
abbrev main_v2084 : Ref sig .tc := ⟨.hbm, 4196, rfl⟩
abbrev main_cst_358 : Ref sig .tc := ⟨.hbm, 4197, rfl⟩
abbrev main_v2085 : Ref sig .tc := ⟨.hbm, 4198, rfl⟩
abbrev main_v2086 : Ref sig .tc := ⟨.hbm, 4199, rfl⟩
abbrev main_v2087 : Ref sig .tc := ⟨.hbm, 4200, rfl⟩
abbrev main_v2088 : Ref sig .tc := ⟨.hbm, 4201, rfl⟩
abbrev main_v2089 : Ref sig .tc := ⟨.hbm, 4202, rfl⟩
abbrev main_cst_359 : Ref sig .tc := ⟨.hbm, 4203, rfl⟩
abbrev main_v2090 : Ref sig .tc := ⟨.hbm, 4204, rfl⟩
abbrev main_v2091 : Ref sig .tc := ⟨.hbm, 4205, rfl⟩
abbrev main_v2092 : Ref sig .tc := ⟨.hbm, 4206, rfl⟩
abbrev main_v2093 : Ref sig .tc := ⟨.hbm, 4207, rfl⟩
abbrev main_v2094 : Ref sig .tc := ⟨.hbm, 4208, rfl⟩
abbrev main_v2095 : Ref sig .tc := ⟨.hbm, 4209, rfl⟩
abbrev main_v2096 : Ref sig .tc := ⟨.hbm, 4210, rfl⟩
abbrev main_v2097 : Ref sig .tc := ⟨.hbm, 4211, rfl⟩
abbrev main_cst_360 : Ref sig .tc := ⟨.hbm, 4212, rfl⟩
abbrev main_call189_v0 : Ref sig .tc := ⟨.hbm, 4213, rfl⟩
abbrev main_call189_v1 : Ref sig .tc := ⟨.hbm, 4214, rfl⟩
abbrev main_v2098 : Ref sig .tc := ⟨.hbm, 4215, rfl⟩
abbrev main_v2099 : Ref sig .tc := ⟨.hbm, 4216, rfl⟩
abbrev main_v2100 : Ref sig .tc := ⟨.hbm, 4217, rfl⟩
abbrev main_v2101 : Ref sig .tc := ⟨.hbm, 4218, rfl⟩
abbrev main_v2102 : Ref sig .tc := ⟨.hbm, 4219, rfl⟩
abbrev main_v2103 : Ref sig .tc := ⟨.hbm, 4220, rfl⟩
abbrev main_v2104 : Ref sig .tc := ⟨.hbm, 4221, rfl⟩
abbrev main_v2105 : Ref sig .tc := ⟨.hbm, 4222, rfl⟩
abbrev main_v2106 : Ref sig .tc := ⟨.hbm, 4223, rfl⟩
abbrev main_v2107 : Ref sig .tc := ⟨.hbm, 4224, rfl⟩
abbrev main_cst_361 : Ref sig .tc := ⟨.hbm, 4225, rfl⟩
abbrev main_v2108 : Ref sig .tc := ⟨.hbm, 4226, rfl⟩
abbrev main_v2109 : Ref sig .tc := ⟨.hbm, 4227, rfl⟩
abbrev main_v2110 : Ref sig .tc := ⟨.hbm, 4228, rfl⟩
abbrev main_v2111 : Ref sig .tc := ⟨.hbm, 4229, rfl⟩
abbrev main_v2112 : Ref sig .tc := ⟨.hbm, 4230, rfl⟩
abbrev main_cst_362 : Ref sig .tc := ⟨.hbm, 4231, rfl⟩
abbrev main_v2113 : Ref sig .tc := ⟨.hbm, 4232, rfl⟩
abbrev main_v2114 : Ref sig .tc := ⟨.hbm, 4233, rfl⟩
abbrev main_v2115 : Ref sig .tc := ⟨.hbm, 4234, rfl⟩
abbrev main_v2116 : Ref sig .tc := ⟨.hbm, 4235, rfl⟩
abbrev main_cst_363 : Ref sig .tc := ⟨.hbm, 4236, rfl⟩
abbrev main_v2117 : Ref sig .tc := ⟨.hbm, 4237, rfl⟩
abbrev main_v2118 : Ref sig .tc := ⟨.hbm, 4238, rfl⟩
abbrev main_v2119 : Ref sig .tc := ⟨.hbm, 4239, rfl⟩
abbrev main_v2120 : Ref sig .tc := ⟨.hbm, 4240, rfl⟩
abbrev main_v2121 : Ref sig .tc := ⟨.hbm, 4241, rfl⟩
abbrev main_v2122 : Ref sig .tc := ⟨.hbm, 4242, rfl⟩
abbrev main_v2123 : Ref sig .tc := ⟨.hbm, 4243, rfl⟩
abbrev main_v2124 : Ref sig .tc := ⟨.hbm, 4244, rfl⟩
abbrev main_v2125 : Ref sig .tc := ⟨.hbm, 4245, rfl⟩
abbrev main_v2126 : Ref sig .tc := ⟨.hbm, 4246, rfl⟩
abbrev main_v2127 : Ref sig .tc := ⟨.hbm, 4247, rfl⟩
abbrev main_v2128 : Ref sig .tc := ⟨.hbm, 4248, rfl⟩
abbrev main_c_364 : Ref sig .tc := ⟨.hbm, 4249, rfl⟩
abbrev main_call190_v0 : Ref sig .tc := ⟨.hbm, 4250, rfl⟩
abbrev main_call190_v1 : Ref sig .tc := ⟨.hbm, 4251, rfl⟩
abbrev main_call190_v2 : Ref sig .tc := ⟨.hbm, 4252, rfl⟩
abbrev main_call190_v3 : Ref sig .tc := ⟨.hbm, 4253, rfl⟩
abbrev main_call190_v4 : Ref sig .tc := ⟨.hbm, 4254, rfl⟩
abbrev main_call190_v5 : Ref sig .tc := ⟨.hbm, 4255, rfl⟩
abbrev main_call190_v6 : Ref sig .tc := ⟨.hbm, 4256, rfl⟩
abbrev main_call190_v7 : Ref sig .tc := ⟨.hbm, 4257, rfl⟩
abbrev main_call190_v8 : Ref sig .tc := ⟨.hbm, 4258, rfl⟩
abbrev main_call190_c : Ref sig .tc := ⟨.hbm, 4259, rfl⟩
abbrev main_call190_v9 : Ref sig .tc := ⟨.hbm, 4260, rfl⟩
abbrev main_call190_v10 : Ref sig .tc := ⟨.hbm, 4261, rfl⟩
abbrev main_call190_v11 : Ref sig .tc := ⟨.hbm, 4262, rfl⟩
abbrev main_call190_c_0 : Ref sig .tc := ⟨.hbm, 4263, rfl⟩
abbrev main_call190_v12 : Ref sig .tc := ⟨.hbm, 4264, rfl⟩
abbrev main_call190_v13 : Ref sig .tc := ⟨.hbm, 4265, rfl⟩
abbrev main_v2129 : Ref sig .tc := ⟨.hbm, 4266, rfl⟩
abbrev main_c_365 : Ref sig .tc := ⟨.hbm, 4267, rfl⟩
abbrev main_call191_v0 : Ref sig .tc := ⟨.hbm, 4268, rfl⟩
abbrev main_call191_v1 : Ref sig .tc := ⟨.hbm, 4269, rfl⟩
abbrev main_call191_v2 : Ref sig .tc := ⟨.hbm, 4270, rfl⟩
abbrev main_call191_v3 : Ref sig .tc := ⟨.hbm, 4271, rfl⟩
abbrev main_call191_v4 : Ref sig .tc := ⟨.hbm, 4272, rfl⟩
abbrev main_call191_v5 : Ref sig .tc := ⟨.hbm, 4273, rfl⟩
abbrev main_call191_v6 : Ref sig .tc := ⟨.hbm, 4274, rfl⟩
abbrev main_call191_v7 : Ref sig .tc := ⟨.hbm, 4275, rfl⟩
abbrev main_call191_v8 : Ref sig .tc := ⟨.hbm, 4276, rfl⟩
abbrev main_call191_c : Ref sig .tc := ⟨.hbm, 4277, rfl⟩
abbrev main_call191_v9 : Ref sig .tc := ⟨.hbm, 4278, rfl⟩
abbrev main_call191_v10 : Ref sig .tc := ⟨.hbm, 4279, rfl⟩
abbrev main_call191_v11 : Ref sig .tc := ⟨.hbm, 4280, rfl⟩
abbrev main_call191_c_0 : Ref sig .tc := ⟨.hbm, 4281, rfl⟩
abbrev main_call191_v12 : Ref sig .tc := ⟨.hbm, 4282, rfl⟩
abbrev main_call191_v13 : Ref sig .tc := ⟨.hbm, 4283, rfl⟩
abbrev main_v2130 : Ref sig .tc := ⟨.hbm, 4284, rfl⟩
abbrev main_c_366 : Ref sig .tc := ⟨.hbm, 4285, rfl⟩
abbrev main_call192_v0 : Ref sig .tc := ⟨.hbm, 4286, rfl⟩
abbrev main_call192_c : Ref sig .tc := ⟨.hbm, 4287, rfl⟩
abbrev main_call192_v1 : Ref sig .tc := ⟨.hbm, 4288, rfl⟩
abbrev main_call192_c_0 : Ref sig .tc := ⟨.hbm, 4289, rfl⟩
abbrev main_call192_v2 : Ref sig .tc := ⟨.hbm, 4290, rfl⟩
abbrev main_call192_v3 : Ref sig .tc := ⟨.hbm, 4291, rfl⟩
abbrev main_call192_v4 : Ref sig .tc := ⟨.hbm, 4292, rfl⟩
abbrev main_call192_c_1 : Ref sig .tc := ⟨.hbm, 4293, rfl⟩
abbrev main_call192_v5 : Ref sig .tc := ⟨.hbm, 4294, rfl⟩
abbrev main_call192_v6 : Ref sig .tc := ⟨.hbm, 4295, rfl⟩
abbrev main_call192_c_2 : Ref sig .tc := ⟨.hbm, 4296, rfl⟩
abbrev main_call192_v7 : Ref sig .tc := ⟨.hbm, 4297, rfl⟩
abbrev main_call192_v8 : Ref sig .tc := ⟨.hbm, 4298, rfl⟩
abbrev main_call192_c_3 : Ref sig .tc := ⟨.hbm, 4299, rfl⟩
abbrev main_call192_v9 : Ref sig .tc := ⟨.hbm, 4300, rfl⟩
abbrev main_call192_v10 : Ref sig .tc := ⟨.hbm, 4301, rfl⟩
abbrev main_call192_v11 : Ref sig .tc := ⟨.hbm, 4302, rfl⟩
abbrev main_call192_v12 : Ref sig .tc := ⟨.hbm, 4303, rfl⟩
abbrev main_call192_v13 : Ref sig .tc := ⟨.hbm, 4304, rfl⟩
abbrev main_call192_v14 : Ref sig .tc := ⟨.hbm, 4305, rfl⟩
abbrev main_v2131 : Ref sig .tc := ⟨.hbm, 4306, rfl⟩
abbrev main_c_367 : Ref sig .tc := ⟨.hbm, 4307, rfl⟩
abbrev main_call193_v0 : Ref sig .tc := ⟨.hbm, 4308, rfl⟩
abbrev main_call193_c : Ref sig .tc := ⟨.hbm, 4309, rfl⟩
abbrev main_call193_v1 : Ref sig .tc := ⟨.hbm, 4310, rfl⟩
abbrev main_call193_c_0 : Ref sig .tc := ⟨.hbm, 4311, rfl⟩
abbrev main_call193_v2 : Ref sig .tc := ⟨.hbm, 4312, rfl⟩
abbrev main_call193_v3 : Ref sig .tc := ⟨.hbm, 4313, rfl⟩
abbrev main_call193_v4 : Ref sig .tc := ⟨.hbm, 4314, rfl⟩
abbrev main_call193_c_1 : Ref sig .tc := ⟨.hbm, 4315, rfl⟩
abbrev main_call193_v5 : Ref sig .tc := ⟨.hbm, 4316, rfl⟩
abbrev main_call193_v6 : Ref sig .tc := ⟨.hbm, 4317, rfl⟩
abbrev main_call193_c_2 : Ref sig .tc := ⟨.hbm, 4318, rfl⟩
abbrev main_call193_v7 : Ref sig .tc := ⟨.hbm, 4319, rfl⟩
abbrev main_call193_v8 : Ref sig .tc := ⟨.hbm, 4320, rfl⟩
abbrev main_call193_c_3 : Ref sig .tc := ⟨.hbm, 4321, rfl⟩
abbrev main_call193_v9 : Ref sig .tc := ⟨.hbm, 4322, rfl⟩
abbrev main_call193_v10 : Ref sig .tc := ⟨.hbm, 4323, rfl⟩
abbrev main_call193_v11 : Ref sig .tc := ⟨.hbm, 4324, rfl⟩
abbrev main_call193_v12 : Ref sig .tc := ⟨.hbm, 4325, rfl⟩
abbrev main_call193_v13 : Ref sig .tc := ⟨.hbm, 4326, rfl⟩
abbrev main_call193_v14 : Ref sig .tc := ⟨.hbm, 4327, rfl⟩
abbrev main_v2132 : Ref sig .tc := ⟨.hbm, 4328, rfl⟩
abbrev main_v2133 : Ref sig .tc := ⟨.hbm, 4329, rfl⟩
abbrev main_v2134 : Ref sig .tc := ⟨.hbm, 4330, rfl⟩
abbrev main_v2135 : Ref sig .tc := ⟨.hbm, 4331, rfl⟩
abbrev main_v2136 : Ref sig .tc := ⟨.hbm, 4332, rfl⟩
abbrev main_v2137 : Ref sig .tc := ⟨.hbm, 4333, rfl⟩
abbrev main_v2138 : Ref sig .tc := ⟨.hbm, 4334, rfl⟩
abbrev main_v2139 : Ref sig .tc := ⟨.hbm, 4335, rfl⟩
abbrev main_v2140 : Ref sig .tc := ⟨.hbm, 4336, rfl⟩
abbrev main_v2141 : Ref sig .tc := ⟨.hbm, 4337, rfl⟩
abbrev main_v2142 : Ref sig .tc := ⟨.hbm, 4338, rfl⟩
abbrev main_v2143 : Ref sig .tc := ⟨.hbm, 4339, rfl⟩
abbrev main_v2144 : Ref sig .tc := ⟨.hbm, 4340, rfl⟩
abbrev main_v2145 : Ref sig .tc := ⟨.hbm, 4341, rfl⟩
abbrev main_v2146 : Ref sig .tc := ⟨.hbm, 4342, rfl⟩
abbrev main_v2147 : Ref sig .tc := ⟨.hbm, 4343, rfl⟩
abbrev main_c_368 : Ref sig .tc := ⟨.hbm, 4344, rfl⟩
abbrev main_v2148 : Ref sig .tc := ⟨.hbm, 4345, rfl⟩
abbrev main_v2149 : Ref sig .tc := ⟨.hbm, 4346, rfl⟩
abbrev main_c_369 : Ref sig .tc := ⟨.hbm, 4347, rfl⟩
abbrev main_v2150 : Ref sig .tc := ⟨.hbm, 4348, rfl⟩
abbrev main_v2151 : Ref sig .tc := ⟨.hbm, 4349, rfl⟩
abbrev main_v2152 : Ref sig .tc := ⟨.hbm, 4350, rfl⟩
abbrev main_c_370 : Ref sig .tc := ⟨.hbm, 4351, rfl⟩
abbrev main_v2153 : Ref sig .tc := ⟨.hbm, 4352, rfl⟩
abbrev main_v2154 : Ref sig .tc := ⟨.hbm, 4353, rfl⟩
abbrev main_v2155 : Ref sig .tc := ⟨.hbm, 4354, rfl⟩
abbrev main_c_371 : Ref sig .tc := ⟨.hbm, 4355, rfl⟩
abbrev main_v2156 : Ref sig .tc := ⟨.hbm, 4356, rfl⟩
abbrev main_v2157 : Ref sig .tc := ⟨.hbm, 4357, rfl⟩
abbrev main_v2158 : Ref sig .tc := ⟨.hbm, 4358, rfl⟩
abbrev main_c_372 : Ref sig .tc := ⟨.hbm, 4359, rfl⟩
abbrev main_v2159 : Ref sig .tc := ⟨.hbm, 4360, rfl⟩
abbrev main_v2160 : Ref sig .tc := ⟨.hbm, 4361, rfl⟩
abbrev main_v2161 : Ref sig .tc := ⟨.hbm, 4362, rfl⟩
abbrev main_c_373 : Ref sig .tc := ⟨.hbm, 4363, rfl⟩
abbrev main_v2162 : Ref sig .tc := ⟨.hbm, 4364, rfl⟩
abbrev main_v2163 : Ref sig .tc := ⟨.hbm, 4365, rfl⟩
abbrev main_v2164 : Ref sig .tc := ⟨.hbm, 4366, rfl⟩
abbrev main_c_374 : Ref sig .tc := ⟨.hbm, 4367, rfl⟩
abbrev main_c_375 : Ref sig .tc := ⟨.hbm, 4368, rfl⟩
abbrev main_call194_v0 : Ref sig .tc := ⟨.hbm, 4369, rfl⟩
abbrev main_call194_v1 : Ref sig .tc := ⟨.hbm, 4370, rfl⟩
abbrev main_call194_v2 : Ref sig .tc := ⟨.hbm, 4371, rfl⟩
abbrev main_call194_v3 : Ref sig .tc := ⟨.hbm, 4372, rfl⟩
abbrev main_call194_v4 : Ref sig .tc := ⟨.hbm, 4373, rfl⟩
abbrev main_v2165 : Ref sig .tc := ⟨.hbm, 4374, rfl⟩
abbrev main_c_376 : Ref sig .tc := ⟨.hbm, 4375, rfl⟩
abbrev main_v2166 : Ref sig .tc := ⟨.hbm, 4376, rfl⟩
abbrev main_v2167 : Ref sig .tc := ⟨.hbm, 4377, rfl⟩
abbrev main_c_377 : Ref sig .tc := ⟨.hbm, 4378, rfl⟩
abbrev main_c_378 : Ref sig .tc := ⟨.hbm, 4379, rfl⟩
abbrev main_call195_v0 : Ref sig .tc := ⟨.hbm, 4380, rfl⟩
abbrev main_call195_v1 : Ref sig .tc := ⟨.hbm, 4381, rfl⟩
abbrev main_call195_v2 : Ref sig .tc := ⟨.hbm, 4382, rfl⟩
abbrev main_call195_v3 : Ref sig .tc := ⟨.hbm, 4383, rfl⟩
abbrev main_call195_v4 : Ref sig .tc := ⟨.hbm, 4384, rfl⟩
abbrev main_v2168 : Ref sig .tc := ⟨.hbm, 4385, rfl⟩
abbrev main_v2169 : Ref sig .tc := ⟨.hbm, 4386, rfl⟩
abbrev main_c_379 : Ref sig .tc := ⟨.hbm, 4387, rfl⟩
abbrev main_v2170 : Ref sig .tc := ⟨.hbm, 4388, rfl⟩
abbrev main_v2171 : Ref sig .tc := ⟨.hbm, 4389, rfl⟩
abbrev main_c_380 : Ref sig .tc := ⟨.hbm, 4390, rfl⟩
abbrev main_c_381 : Ref sig .tc := ⟨.hbm, 4391, rfl⟩
abbrev main_call196_v0 : Ref sig .tc := ⟨.hbm, 4392, rfl⟩
abbrev main_call196_v1 : Ref sig .tc := ⟨.hbm, 4393, rfl⟩
abbrev main_call196_v2 : Ref sig .tc := ⟨.hbm, 4394, rfl⟩
abbrev main_call196_v3 : Ref sig .tc := ⟨.hbm, 4395, rfl⟩
abbrev main_call196_v4 : Ref sig .tc := ⟨.hbm, 4396, rfl⟩
abbrev main_v2172 : Ref sig .tc := ⟨.hbm, 4397, rfl⟩
abbrev main_v2173 : Ref sig .tc := ⟨.hbm, 4398, rfl⟩
abbrev main_v2174 : Ref sig .tc := ⟨.hbm, 4399, rfl⟩
abbrev main_v2175 : Ref sig .tc := ⟨.hbm, 4400, rfl⟩
abbrev main_v2176 : Ref sig .tc := ⟨.hbm, 4401, rfl⟩
abbrev main_call197_c : Ref sig .tc := ⟨.hbm, 4402, rfl⟩
abbrev main_call197_v0 : Ref sig .tc := ⟨.hbm, 4403, rfl⟩
abbrev main_call197_v1 : Ref sig .tc := ⟨.hbm, 4404, rfl⟩
abbrev main_call197_c_0 : Ref sig .tc := ⟨.hbm, 4405, rfl⟩
abbrev main_call197_v2 : Ref sig .tc := ⟨.hbm, 4406, rfl⟩
abbrev main_call197_v3 : Ref sig .tc := ⟨.hbm, 4407, rfl⟩
abbrev main_call197_v4 : Ref sig .tc := ⟨.hbm, 4408, rfl⟩
abbrev main_call197_v5 : Ref sig .tc := ⟨.hbm, 4409, rfl⟩
abbrev main_call197_c_1 : Ref sig .tc := ⟨.hbm, 4410, rfl⟩
abbrev main_call197_c_2 : Ref sig .tc := ⟨.hbm, 4411, rfl⟩
abbrev main_call197_v6 : Ref sig .tc := ⟨.hbm, 4412, rfl⟩
abbrev main_call197_v7 : Ref sig .tc := ⟨.hbm, 4413, rfl⟩
abbrev main_call197_v8 : Ref sig .tc := ⟨.hbm, 4414, rfl⟩
abbrev main_call197_v9 : Ref sig .tc := ⟨.hbm, 4415, rfl⟩
abbrev main_call197_v10 : Ref sig .tc := ⟨.hbm, 4416, rfl⟩
abbrev main_call197_v11 : Ref sig .tc := ⟨.hbm, 4417, rfl⟩
abbrev main_call197_c_3 : Ref sig .tc := ⟨.hbm, 4418, rfl⟩
abbrev main_call197_v12 : Ref sig .tc := ⟨.hbm, 4419, rfl⟩
abbrev main_call197_v13 : Ref sig .tc := ⟨.hbm, 4420, rfl⟩
abbrev main_call197_v14 : Ref sig .tc := ⟨.hbm, 4421, rfl⟩
abbrev main_call197_cst : Ref sig .tc := ⟨.hbm, 4422, rfl⟩
abbrev main_call197_v15 : Ref sig .tc := ⟨.hbm, 4423, rfl⟩
abbrev main_v2177 : Ref sig .tc := ⟨.hbm, 4424, rfl⟩
abbrev main_v2178 : Ref sig .tc := ⟨.hbm, 4425, rfl⟩
abbrev main_v2179 : Ref sig .tc := ⟨.hbm, 4426, rfl⟩
abbrev main_cst_382 : Ref sig .tc := ⟨.hbm, 4427, rfl⟩
abbrev main_v2180 : Ref sig .tc := ⟨.hbm, 4428, rfl⟩
abbrev main_v2181 : Ref sig .tc := ⟨.hbm, 4429, rfl⟩
abbrev main_v2182 : Ref sig .tc := ⟨.hbm, 4430, rfl⟩
abbrev main_cst_383 : Ref sig .tc := ⟨.hbm, 4431, rfl⟩
abbrev main_call198_v0 : Ref sig .tc := ⟨.hbm, 4432, rfl⟩
abbrev main_call198_v1 : Ref sig .tc := ⟨.hbm, 4433, rfl⟩
abbrev main_v2183 : Ref sig .tc := ⟨.hbm, 4434, rfl⟩
abbrev main_v2184 : Ref sig .tc := ⟨.hbm, 4435, rfl⟩
abbrev main_v2185 : Ref sig .tc := ⟨.hbm, 4436, rfl⟩
abbrev main_v2186 : Ref sig .tc := ⟨.hbm, 4437, rfl⟩
abbrev main_call199_c : Ref sig .tc := ⟨.hbm, 4438, rfl⟩
abbrev main_call199_v0 : Ref sig .tc := ⟨.hbm, 4439, rfl⟩
abbrev main_call199_v1 : Ref sig .tc := ⟨.hbm, 4440, rfl⟩
abbrev main_call199_c_0 : Ref sig .tc := ⟨.hbm, 4441, rfl⟩
abbrev main_call199_v2 : Ref sig .tc := ⟨.hbm, 4442, rfl⟩
abbrev main_call199_v3 : Ref sig .tc := ⟨.hbm, 4443, rfl⟩
abbrev main_call199_v4 : Ref sig .tc := ⟨.hbm, 4444, rfl⟩
abbrev main_call199_v5 : Ref sig .tc := ⟨.hbm, 4445, rfl⟩
abbrev main_call199_c_1 : Ref sig .tc := ⟨.hbm, 4446, rfl⟩
abbrev main_call199_c_2 : Ref sig .tc := ⟨.hbm, 4447, rfl⟩
abbrev main_call199_v6 : Ref sig .tc := ⟨.hbm, 4448, rfl⟩
abbrev main_call199_v7 : Ref sig .tc := ⟨.hbm, 4449, rfl⟩
abbrev main_call199_v8 : Ref sig .tc := ⟨.hbm, 4450, rfl⟩
abbrev main_call199_v9 : Ref sig .tc := ⟨.hbm, 4451, rfl⟩
abbrev main_call199_v10 : Ref sig .tc := ⟨.hbm, 4452, rfl⟩
abbrev main_call199_v11 : Ref sig .tc := ⟨.hbm, 4453, rfl⟩
abbrev main_call199_c_3 : Ref sig .tc := ⟨.hbm, 4454, rfl⟩
abbrev main_call199_v12 : Ref sig .tc := ⟨.hbm, 4455, rfl⟩
abbrev main_call199_v13 : Ref sig .tc := ⟨.hbm, 4456, rfl⟩
abbrev main_call199_v14 : Ref sig .tc := ⟨.hbm, 4457, rfl⟩
abbrev main_call199_cst : Ref sig .tc := ⟨.hbm, 4458, rfl⟩
abbrev main_call199_v15 : Ref sig .tc := ⟨.hbm, 4459, rfl⟩
abbrev main_v2187 : Ref sig .tc := ⟨.hbm, 4460, rfl⟩
abbrev main_v2188 : Ref sig .tc := ⟨.hbm, 4461, rfl⟩
abbrev main_v2189 : Ref sig .tc := ⟨.hbm, 4462, rfl⟩
abbrev main_cst_384 : Ref sig .tc := ⟨.hbm, 4463, rfl⟩
abbrev main_v2190 : Ref sig .tc := ⟨.hbm, 4464, rfl⟩
abbrev main_v2191 : Ref sig .tc := ⟨.hbm, 4465, rfl⟩
abbrev main_v2192 : Ref sig .tc := ⟨.hbm, 4466, rfl⟩
abbrev main_cst_385 : Ref sig .tc := ⟨.hbm, 4467, rfl⟩
abbrev main_call200_v0 : Ref sig .tc := ⟨.hbm, 4468, rfl⟩
abbrev main_call200_v1 : Ref sig .tc := ⟨.hbm, 4469, rfl⟩
abbrev main_v2193 : Ref sig .tc := ⟨.hbm, 4470, rfl⟩
abbrev main_v2194 : Ref sig .tc := ⟨.hbm, 4471, rfl⟩
abbrev main_v2195 : Ref sig .tc := ⟨.hbm, 4472, rfl⟩
abbrev main_v2196 : Ref sig .tc := ⟨.hbm, 4473, rfl⟩
abbrev main_call201_c : Ref sig .tc := ⟨.hbm, 4474, rfl⟩
abbrev main_call201_v0 : Ref sig .tc := ⟨.hbm, 4475, rfl⟩
abbrev main_call201_v1 : Ref sig .tc := ⟨.hbm, 4476, rfl⟩
abbrev main_call201_c_0 : Ref sig .tc := ⟨.hbm, 4477, rfl⟩
abbrev main_call201_v2 : Ref sig .tc := ⟨.hbm, 4478, rfl⟩
abbrev main_call201_v3 : Ref sig .tc := ⟨.hbm, 4479, rfl⟩
abbrev main_call201_v4 : Ref sig .tc := ⟨.hbm, 4480, rfl⟩
abbrev main_call201_v5 : Ref sig .tc := ⟨.hbm, 4481, rfl⟩
abbrev main_call201_c_1 : Ref sig .tc := ⟨.hbm, 4482, rfl⟩
abbrev main_call201_c_2 : Ref sig .tc := ⟨.hbm, 4483, rfl⟩
abbrev main_call201_v6 : Ref sig .tc := ⟨.hbm, 4484, rfl⟩
abbrev main_call201_v7 : Ref sig .tc := ⟨.hbm, 4485, rfl⟩
abbrev main_call201_v8 : Ref sig .tc := ⟨.hbm, 4486, rfl⟩
abbrev main_call201_v9 : Ref sig .tc := ⟨.hbm, 4487, rfl⟩
abbrev main_call201_v10 : Ref sig .tc := ⟨.hbm, 4488, rfl⟩
abbrev main_call201_v11 : Ref sig .tc := ⟨.hbm, 4489, rfl⟩
abbrev main_call201_c_3 : Ref sig .tc := ⟨.hbm, 4490, rfl⟩
abbrev main_call201_v12 : Ref sig .tc := ⟨.hbm, 4491, rfl⟩
abbrev main_call201_v13 : Ref sig .tc := ⟨.hbm, 4492, rfl⟩
abbrev main_call201_v14 : Ref sig .tc := ⟨.hbm, 4493, rfl⟩
abbrev main_call201_cst : Ref sig .tc := ⟨.hbm, 4494, rfl⟩
abbrev main_call201_v15 : Ref sig .tc := ⟨.hbm, 4495, rfl⟩
abbrev main_v2197 : Ref sig .tc := ⟨.hbm, 4496, rfl⟩
abbrev main_v2198 : Ref sig .tc := ⟨.hbm, 4497, rfl⟩
abbrev main_v2199 : Ref sig .tc := ⟨.hbm, 4498, rfl⟩
abbrev main_cst_386 : Ref sig .tc := ⟨.hbm, 4499, rfl⟩
abbrev main_v2200 : Ref sig .tc := ⟨.hbm, 4500, rfl⟩
abbrev main_v2201 : Ref sig .tc := ⟨.hbm, 4501, rfl⟩
abbrev main_v2202 : Ref sig .tc := ⟨.hbm, 4502, rfl⟩
abbrev main_cst_387 : Ref sig .tc := ⟨.hbm, 4503, rfl⟩
abbrev main_call202_v0 : Ref sig .tc := ⟨.hbm, 4504, rfl⟩
abbrev main_call202_v1 : Ref sig .tc := ⟨.hbm, 4505, rfl⟩
abbrev main_v2203 : Ref sig .tc := ⟨.hbm, 4506, rfl⟩
abbrev main_v2204 : Ref sig .tc := ⟨.hbm, 4507, rfl⟩
abbrev main_v2205 : Ref sig .tc := ⟨.hbm, 4508, rfl⟩
abbrev main_v2206 : Ref sig .tc := ⟨.hbm, 4509, rfl⟩
abbrev main_call203_c : Ref sig .tc := ⟨.hbm, 4510, rfl⟩
abbrev main_call203_v0 : Ref sig .tc := ⟨.hbm, 4511, rfl⟩
abbrev main_call203_v1 : Ref sig .tc := ⟨.hbm, 4512, rfl⟩
abbrev main_call203_c_0 : Ref sig .tc := ⟨.hbm, 4513, rfl⟩
abbrev main_call203_v2 : Ref sig .tc := ⟨.hbm, 4514, rfl⟩
abbrev main_call203_v3 : Ref sig .tc := ⟨.hbm, 4515, rfl⟩
abbrev main_call203_v4 : Ref sig .tc := ⟨.hbm, 4516, rfl⟩
abbrev main_call203_v5 : Ref sig .tc := ⟨.hbm, 4517, rfl⟩
abbrev main_call203_c_1 : Ref sig .tc := ⟨.hbm, 4518, rfl⟩
abbrev main_call203_c_2 : Ref sig .tc := ⟨.hbm, 4519, rfl⟩
abbrev main_call203_v6 : Ref sig .tc := ⟨.hbm, 4520, rfl⟩
abbrev main_call203_v7 : Ref sig .tc := ⟨.hbm, 4521, rfl⟩
abbrev main_call203_v8 : Ref sig .tc := ⟨.hbm, 4522, rfl⟩
abbrev main_call203_v9 : Ref sig .tc := ⟨.hbm, 4523, rfl⟩
abbrev main_call203_v10 : Ref sig .tc := ⟨.hbm, 4524, rfl⟩
abbrev main_call203_v11 : Ref sig .tc := ⟨.hbm, 4525, rfl⟩
abbrev main_call203_c_3 : Ref sig .tc := ⟨.hbm, 4526, rfl⟩
abbrev main_call203_v12 : Ref sig .tc := ⟨.hbm, 4527, rfl⟩
abbrev main_call203_v13 : Ref sig .tc := ⟨.hbm, 4528, rfl⟩
abbrev main_call203_v14 : Ref sig .tc := ⟨.hbm, 4529, rfl⟩
abbrev main_call203_cst : Ref sig .tc := ⟨.hbm, 4530, rfl⟩
abbrev main_call203_v15 : Ref sig .tc := ⟨.hbm, 4531, rfl⟩
abbrev main_v2207 : Ref sig .tc := ⟨.hbm, 4532, rfl⟩
abbrev main_v2208 : Ref sig .tc := ⟨.hbm, 4533, rfl⟩
abbrev main_v2209 : Ref sig .tc := ⟨.hbm, 4534, rfl⟩
abbrev main_cst_388 : Ref sig .tc := ⟨.hbm, 4535, rfl⟩
abbrev main_v2210 : Ref sig .tc := ⟨.hbm, 4536, rfl⟩
abbrev main_v2211 : Ref sig .tc := ⟨.hbm, 4537, rfl⟩
abbrev main_v2212 : Ref sig .tc := ⟨.hbm, 4538, rfl⟩
abbrev main_cst_389 : Ref sig .tc := ⟨.hbm, 4539, rfl⟩
abbrev main_call204_v0 : Ref sig .tc := ⟨.hbm, 4540, rfl⟩
abbrev main_call204_v1 : Ref sig .tc := ⟨.hbm, 4541, rfl⟩
abbrev main_v2213 : Ref sig .tc := ⟨.hbm, 4542, rfl⟩
abbrev main_v2214 : Ref sig .tc := ⟨.hbm, 4543, rfl⟩
abbrev main_v2215 : Ref sig .tc := ⟨.hbm, 4544, rfl⟩
abbrev main_v2216 : Ref sig .tc := ⟨.hbm, 4545, rfl⟩
abbrev main_call205_c : Ref sig .tc := ⟨.hbm, 4546, rfl⟩
abbrev main_call205_v0 : Ref sig .tc := ⟨.hbm, 4547, rfl⟩
abbrev main_call205_v1 : Ref sig .tc := ⟨.hbm, 4548, rfl⟩
abbrev main_call205_c_0 : Ref sig .tc := ⟨.hbm, 4549, rfl⟩
abbrev main_call205_v2 : Ref sig .tc := ⟨.hbm, 4550, rfl⟩
abbrev main_call205_v3 : Ref sig .tc := ⟨.hbm, 4551, rfl⟩
abbrev main_call205_v4 : Ref sig .tc := ⟨.hbm, 4552, rfl⟩
abbrev main_call205_v5 : Ref sig .tc := ⟨.hbm, 4553, rfl⟩
abbrev main_call205_c_1 : Ref sig .tc := ⟨.hbm, 4554, rfl⟩
abbrev main_call205_c_2 : Ref sig .tc := ⟨.hbm, 4555, rfl⟩
abbrev main_call205_v6 : Ref sig .tc := ⟨.hbm, 4556, rfl⟩
abbrev main_call205_v7 : Ref sig .tc := ⟨.hbm, 4557, rfl⟩
abbrev main_call205_v8 : Ref sig .tc := ⟨.hbm, 4558, rfl⟩
abbrev main_call205_v9 : Ref sig .tc := ⟨.hbm, 4559, rfl⟩
abbrev main_call205_v10 : Ref sig .tc := ⟨.hbm, 4560, rfl⟩
abbrev main_call205_v11 : Ref sig .tc := ⟨.hbm, 4561, rfl⟩
abbrev main_call205_c_3 : Ref sig .tc := ⟨.hbm, 4562, rfl⟩
abbrev main_call205_v12 : Ref sig .tc := ⟨.hbm, 4563, rfl⟩
abbrev main_call205_v13 : Ref sig .tc := ⟨.hbm, 4564, rfl⟩
abbrev main_call205_v14 : Ref sig .tc := ⟨.hbm, 4565, rfl⟩
abbrev main_call205_cst : Ref sig .tc := ⟨.hbm, 4566, rfl⟩
abbrev main_call205_v15 : Ref sig .tc := ⟨.hbm, 4567, rfl⟩
abbrev main_v2217 : Ref sig .tc := ⟨.hbm, 4568, rfl⟩
abbrev main_v2218 : Ref sig .tc := ⟨.hbm, 4569, rfl⟩
abbrev main_v2219 : Ref sig .tc := ⟨.hbm, 4570, rfl⟩
abbrev main_cst_390 : Ref sig .tc := ⟨.hbm, 4571, rfl⟩
abbrev main_v2220 : Ref sig .tc := ⟨.hbm, 4572, rfl⟩
abbrev main_v2221 : Ref sig .tc := ⟨.hbm, 4573, rfl⟩
abbrev main_v2222 : Ref sig .tc := ⟨.hbm, 4574, rfl⟩
abbrev main_cst_391 : Ref sig .tc := ⟨.hbm, 4575, rfl⟩
abbrev main_call206_v0 : Ref sig .tc := ⟨.hbm, 4576, rfl⟩
abbrev main_call206_v1 : Ref sig .tc := ⟨.hbm, 4577, rfl⟩
abbrev main_v2223 : Ref sig .tc := ⟨.hbm, 4578, rfl⟩
abbrev main_v2224 : Ref sig .tc := ⟨.hbm, 4579, rfl⟩
abbrev main_v2225 : Ref sig .tc := ⟨.hbm, 4580, rfl⟩
abbrev main_v2226 : Ref sig .tc := ⟨.hbm, 4581, rfl⟩
abbrev main_call207_c : Ref sig .tc := ⟨.hbm, 4582, rfl⟩
abbrev main_call207_v0 : Ref sig .tc := ⟨.hbm, 4583, rfl⟩
abbrev main_call207_v1 : Ref sig .tc := ⟨.hbm, 4584, rfl⟩
abbrev main_call207_c_0 : Ref sig .tc := ⟨.hbm, 4585, rfl⟩
abbrev main_call207_v2 : Ref sig .tc := ⟨.hbm, 4586, rfl⟩
abbrev main_call207_v3 : Ref sig .tc := ⟨.hbm, 4587, rfl⟩
abbrev main_call207_v4 : Ref sig .tc := ⟨.hbm, 4588, rfl⟩
abbrev main_call207_v5 : Ref sig .tc := ⟨.hbm, 4589, rfl⟩
abbrev main_call207_c_1 : Ref sig .tc := ⟨.hbm, 4590, rfl⟩
abbrev main_call207_c_2 : Ref sig .tc := ⟨.hbm, 4591, rfl⟩
abbrev main_call207_v6 : Ref sig .tc := ⟨.hbm, 4592, rfl⟩
abbrev main_call207_v7 : Ref sig .tc := ⟨.hbm, 4593, rfl⟩
abbrev main_call207_v8 : Ref sig .tc := ⟨.hbm, 4594, rfl⟩
abbrev main_call207_v9 : Ref sig .tc := ⟨.hbm, 4595, rfl⟩
abbrev main_call207_v10 : Ref sig .tc := ⟨.hbm, 4596, rfl⟩
abbrev main_call207_v11 : Ref sig .tc := ⟨.hbm, 4597, rfl⟩
abbrev main_call207_c_3 : Ref sig .tc := ⟨.hbm, 4598, rfl⟩
abbrev main_call207_v12 : Ref sig .tc := ⟨.hbm, 4599, rfl⟩
abbrev main_call207_v13 : Ref sig .tc := ⟨.hbm, 4600, rfl⟩
abbrev main_call207_v14 : Ref sig .tc := ⟨.hbm, 4601, rfl⟩
abbrev main_call207_cst : Ref sig .tc := ⟨.hbm, 4602, rfl⟩
abbrev main_call207_v15 : Ref sig .tc := ⟨.hbm, 4603, rfl⟩
abbrev main_v2227 : Ref sig .tc := ⟨.hbm, 4604, rfl⟩
abbrev main_v2228 : Ref sig .tc := ⟨.hbm, 4605, rfl⟩
abbrev main_v2229 : Ref sig .tc := ⟨.hbm, 4606, rfl⟩
abbrev main_cst_392 : Ref sig .tc := ⟨.hbm, 4607, rfl⟩
abbrev main_v2230 : Ref sig .tc := ⟨.hbm, 4608, rfl⟩
abbrev main_v2231 : Ref sig .tc := ⟨.hbm, 4609, rfl⟩
abbrev main_v2232 : Ref sig .tc := ⟨.hbm, 4610, rfl⟩
abbrev main_cst_393 : Ref sig .tc := ⟨.hbm, 4611, rfl⟩
abbrev main_call208_v0 : Ref sig .tc := ⟨.hbm, 4612, rfl⟩
abbrev main_call208_v1 : Ref sig .tc := ⟨.hbm, 4613, rfl⟩
abbrev main_v2233 : Ref sig .tc := ⟨.hbm, 4614, rfl⟩
abbrev main_v2234 : Ref sig .tc := ⟨.hbm, 4615, rfl⟩
abbrev main_v2235 : Ref sig .tc := ⟨.hbm, 4616, rfl⟩
abbrev main_v2236 : Ref sig .tc := ⟨.hbm, 4617, rfl⟩
abbrev main_call209_c : Ref sig .tc := ⟨.hbm, 4618, rfl⟩
abbrev main_call209_v0 : Ref sig .tc := ⟨.hbm, 4619, rfl⟩
abbrev main_call209_v1 : Ref sig .tc := ⟨.hbm, 4620, rfl⟩
abbrev main_call209_c_0 : Ref sig .tc := ⟨.hbm, 4621, rfl⟩
abbrev main_call209_v2 : Ref sig .tc := ⟨.hbm, 4622, rfl⟩
abbrev main_call209_v3 : Ref sig .tc := ⟨.hbm, 4623, rfl⟩
abbrev main_call209_v4 : Ref sig .tc := ⟨.hbm, 4624, rfl⟩
abbrev main_call209_v5 : Ref sig .tc := ⟨.hbm, 4625, rfl⟩
abbrev main_call209_c_1 : Ref sig .tc := ⟨.hbm, 4626, rfl⟩
abbrev main_call209_c_2 : Ref sig .tc := ⟨.hbm, 4627, rfl⟩
abbrev main_call209_v6 : Ref sig .tc := ⟨.hbm, 4628, rfl⟩
abbrev main_call209_v7 : Ref sig .tc := ⟨.hbm, 4629, rfl⟩
abbrev main_call209_v8 : Ref sig .tc := ⟨.hbm, 4630, rfl⟩
abbrev main_call209_v9 : Ref sig .tc := ⟨.hbm, 4631, rfl⟩
abbrev main_call209_v10 : Ref sig .tc := ⟨.hbm, 4632, rfl⟩
abbrev main_call209_v11 : Ref sig .tc := ⟨.hbm, 4633, rfl⟩
abbrev main_call209_c_3 : Ref sig .tc := ⟨.hbm, 4634, rfl⟩
abbrev main_call209_v12 : Ref sig .tc := ⟨.hbm, 4635, rfl⟩
abbrev main_call209_v13 : Ref sig .tc := ⟨.hbm, 4636, rfl⟩
abbrev main_call209_v14 : Ref sig .tc := ⟨.hbm, 4637, rfl⟩
abbrev main_call209_cst : Ref sig .tc := ⟨.hbm, 4638, rfl⟩
abbrev main_call209_v15 : Ref sig .tc := ⟨.hbm, 4639, rfl⟩
abbrev main_v2237 : Ref sig .tc := ⟨.hbm, 4640, rfl⟩
abbrev main_v2238 : Ref sig .tc := ⟨.hbm, 4641, rfl⟩
abbrev main_v2239 : Ref sig .tc := ⟨.hbm, 4642, rfl⟩
abbrev main_cst_394 : Ref sig .tc := ⟨.hbm, 4643, rfl⟩
abbrev main_v2240 : Ref sig .tc := ⟨.hbm, 4644, rfl⟩
abbrev main_v2241 : Ref sig .tc := ⟨.hbm, 4645, rfl⟩
abbrev main_v2242 : Ref sig .tc := ⟨.hbm, 4646, rfl⟩
abbrev main_cst_395 : Ref sig .tc := ⟨.hbm, 4647, rfl⟩
abbrev main_call210_v0 : Ref sig .tc := ⟨.hbm, 4648, rfl⟩
abbrev main_call210_v1 : Ref sig .tc := ⟨.hbm, 4649, rfl⟩
abbrev main_v2243 : Ref sig .tc := ⟨.hbm, 4650, rfl⟩
abbrev main_v2244 : Ref sig .tc := ⟨.hbm, 4651, rfl⟩
abbrev main_v2245 : Ref sig .tc := ⟨.hbm, 4652, rfl⟩
abbrev main_v2246 : Ref sig .tc := ⟨.hbm, 4653, rfl⟩
abbrev main_call211_c : Ref sig .tc := ⟨.hbm, 4654, rfl⟩
abbrev main_call211_v0 : Ref sig .tc := ⟨.hbm, 4655, rfl⟩
abbrev main_call211_v1 : Ref sig .tc := ⟨.hbm, 4656, rfl⟩
abbrev main_call211_c_0 : Ref sig .tc := ⟨.hbm, 4657, rfl⟩
abbrev main_call211_v2 : Ref sig .tc := ⟨.hbm, 4658, rfl⟩
abbrev main_call211_v3 : Ref sig .tc := ⟨.hbm, 4659, rfl⟩
abbrev main_call211_v4 : Ref sig .tc := ⟨.hbm, 4660, rfl⟩
abbrev main_call211_v5 : Ref sig .tc := ⟨.hbm, 4661, rfl⟩
abbrev main_call211_c_1 : Ref sig .tc := ⟨.hbm, 4662, rfl⟩
abbrev main_call211_c_2 : Ref sig .tc := ⟨.hbm, 4663, rfl⟩
abbrev main_call211_v6 : Ref sig .tc := ⟨.hbm, 4664, rfl⟩
abbrev main_call211_v7 : Ref sig .tc := ⟨.hbm, 4665, rfl⟩
abbrev main_call211_v8 : Ref sig .tc := ⟨.hbm, 4666, rfl⟩
abbrev main_call211_v9 : Ref sig .tc := ⟨.hbm, 4667, rfl⟩
abbrev main_call211_v10 : Ref sig .tc := ⟨.hbm, 4668, rfl⟩
abbrev main_call211_v11 : Ref sig .tc := ⟨.hbm, 4669, rfl⟩
abbrev main_call211_c_3 : Ref sig .tc := ⟨.hbm, 4670, rfl⟩
abbrev main_call211_v12 : Ref sig .tc := ⟨.hbm, 4671, rfl⟩
abbrev main_call211_v13 : Ref sig .tc := ⟨.hbm, 4672, rfl⟩
abbrev main_call211_v14 : Ref sig .tc := ⟨.hbm, 4673, rfl⟩
abbrev main_call211_cst : Ref sig .tc := ⟨.hbm, 4674, rfl⟩
abbrev main_call211_v15 : Ref sig .tc := ⟨.hbm, 4675, rfl⟩
abbrev main_v2247 : Ref sig .tc := ⟨.hbm, 4676, rfl⟩
abbrev main_v2248 : Ref sig .tc := ⟨.hbm, 4677, rfl⟩
abbrev main_v2249 : Ref sig .tc := ⟨.hbm, 4678, rfl⟩
abbrev main_cst_396 : Ref sig .tc := ⟨.hbm, 4679, rfl⟩
abbrev main_v2250 : Ref sig .tc := ⟨.hbm, 4680, rfl⟩
abbrev main_v2251 : Ref sig .tc := ⟨.hbm, 4681, rfl⟩
abbrev main_v2252 : Ref sig .tc := ⟨.hbm, 4682, rfl⟩
abbrev main_cst_397 : Ref sig .tc := ⟨.hbm, 4683, rfl⟩
abbrev main_call212_v0 : Ref sig .tc := ⟨.hbm, 4684, rfl⟩
abbrev main_call212_v1 : Ref sig .tc := ⟨.hbm, 4685, rfl⟩
abbrev main_v2253 : Ref sig .tc := ⟨.hbm, 4686, rfl⟩
abbrev main_v2254 : Ref sig .tc := ⟨.hbm, 4687, rfl⟩
abbrev main_v2255 : Ref sig .tc := ⟨.hbm, 4688, rfl⟩
abbrev main_v2256 : Ref sig .tc := ⟨.hbm, 4689, rfl⟩
abbrev main_call213_c : Ref sig .tc := ⟨.hbm, 4690, rfl⟩
abbrev main_call213_v0 : Ref sig .tc := ⟨.hbm, 4691, rfl⟩
abbrev main_call213_v1 : Ref sig .tc := ⟨.hbm, 4692, rfl⟩
abbrev main_call213_c_0 : Ref sig .tc := ⟨.hbm, 4693, rfl⟩
abbrev main_call213_v2 : Ref sig .tc := ⟨.hbm, 4694, rfl⟩
abbrev main_call213_v3 : Ref sig .tc := ⟨.hbm, 4695, rfl⟩
abbrev main_call213_v4 : Ref sig .tc := ⟨.hbm, 4696, rfl⟩
abbrev main_call213_v5 : Ref sig .tc := ⟨.hbm, 4697, rfl⟩
abbrev main_call213_c_1 : Ref sig .tc := ⟨.hbm, 4698, rfl⟩
abbrev main_call213_c_2 : Ref sig .tc := ⟨.hbm, 4699, rfl⟩
abbrev main_call213_v6 : Ref sig .tc := ⟨.hbm, 4700, rfl⟩
abbrev main_call213_v7 : Ref sig .tc := ⟨.hbm, 4701, rfl⟩
abbrev main_call213_v8 : Ref sig .tc := ⟨.hbm, 4702, rfl⟩
abbrev main_call213_v9 : Ref sig .tc := ⟨.hbm, 4703, rfl⟩
abbrev main_call213_v10 : Ref sig .tc := ⟨.hbm, 4704, rfl⟩
abbrev main_call213_v11 : Ref sig .tc := ⟨.hbm, 4705, rfl⟩
abbrev main_call213_c_3 : Ref sig .tc := ⟨.hbm, 4706, rfl⟩
abbrev main_call213_v12 : Ref sig .tc := ⟨.hbm, 4707, rfl⟩
abbrev main_call213_v13 : Ref sig .tc := ⟨.hbm, 4708, rfl⟩
abbrev main_call213_v14 : Ref sig .tc := ⟨.hbm, 4709, rfl⟩
abbrev main_call213_cst : Ref sig .tc := ⟨.hbm, 4710, rfl⟩
abbrev main_call213_v15 : Ref sig .tc := ⟨.hbm, 4711, rfl⟩
abbrev main_v2257 : Ref sig .tc := ⟨.hbm, 4712, rfl⟩
abbrev main_v2258 : Ref sig .tc := ⟨.hbm, 4713, rfl⟩
abbrev main_v2259 : Ref sig .tc := ⟨.hbm, 4714, rfl⟩
abbrev main_cst_398 : Ref sig .tc := ⟨.hbm, 4715, rfl⟩
abbrev main_v2260 : Ref sig .tc := ⟨.hbm, 4716, rfl⟩
abbrev main_v2261 : Ref sig .tc := ⟨.hbm, 4717, rfl⟩
abbrev main_v2262 : Ref sig .tc := ⟨.hbm, 4718, rfl⟩
abbrev main_cst_399 : Ref sig .tc := ⟨.hbm, 4719, rfl⟩
abbrev main_call214_v0 : Ref sig .tc := ⟨.hbm, 4720, rfl⟩
abbrev main_call214_v1 : Ref sig .tc := ⟨.hbm, 4721, rfl⟩
abbrev main_v2263 : Ref sig .tc := ⟨.hbm, 4722, rfl⟩
abbrev main_v2264 : Ref sig .tc := ⟨.hbm, 4723, rfl⟩
abbrev main_v2265 : Ref sig .tc := ⟨.hbm, 4724, rfl⟩
abbrev main_v2266 : Ref sig .tc := ⟨.hbm, 4725, rfl⟩
abbrev main_call215_c : Ref sig .tc := ⟨.hbm, 4726, rfl⟩
abbrev main_call215_v0 : Ref sig .tc := ⟨.hbm, 4727, rfl⟩
abbrev main_call215_v1 : Ref sig .tc := ⟨.hbm, 4728, rfl⟩
abbrev main_call215_c_0 : Ref sig .tc := ⟨.hbm, 4729, rfl⟩
abbrev main_call215_v2 : Ref sig .tc := ⟨.hbm, 4730, rfl⟩
abbrev main_call215_v3 : Ref sig .tc := ⟨.hbm, 4731, rfl⟩
abbrev main_call215_v4 : Ref sig .tc := ⟨.hbm, 4732, rfl⟩
abbrev main_call215_v5 : Ref sig .tc := ⟨.hbm, 4733, rfl⟩
abbrev main_call215_c_1 : Ref sig .tc := ⟨.hbm, 4734, rfl⟩
abbrev main_call215_c_2 : Ref sig .tc := ⟨.hbm, 4735, rfl⟩
abbrev main_call215_v6 : Ref sig .tc := ⟨.hbm, 4736, rfl⟩
abbrev main_call215_v7 : Ref sig .tc := ⟨.hbm, 4737, rfl⟩
abbrev main_call215_v8 : Ref sig .tc := ⟨.hbm, 4738, rfl⟩
abbrev main_call215_v9 : Ref sig .tc := ⟨.hbm, 4739, rfl⟩
abbrev main_call215_v10 : Ref sig .tc := ⟨.hbm, 4740, rfl⟩
abbrev main_call215_v11 : Ref sig .tc := ⟨.hbm, 4741, rfl⟩
abbrev main_call215_c_3 : Ref sig .tc := ⟨.hbm, 4742, rfl⟩
abbrev main_call215_v12 : Ref sig .tc := ⟨.hbm, 4743, rfl⟩
abbrev main_call215_v13 : Ref sig .tc := ⟨.hbm, 4744, rfl⟩
abbrev main_call215_v14 : Ref sig .tc := ⟨.hbm, 4745, rfl⟩
abbrev main_call215_cst : Ref sig .tc := ⟨.hbm, 4746, rfl⟩
abbrev main_call215_v15 : Ref sig .tc := ⟨.hbm, 4747, rfl⟩
abbrev main_v2267 : Ref sig .tc := ⟨.hbm, 4748, rfl⟩
abbrev main_v2268 : Ref sig .tc := ⟨.hbm, 4749, rfl⟩
abbrev main_v2269 : Ref sig .tc := ⟨.hbm, 4750, rfl⟩
abbrev main_cst_400 : Ref sig .tc := ⟨.hbm, 4751, rfl⟩
abbrev main_v2270 : Ref sig .tc := ⟨.hbm, 4752, rfl⟩
abbrev main_v2271 : Ref sig .tc := ⟨.hbm, 4753, rfl⟩
abbrev main_v2272 : Ref sig .tc := ⟨.hbm, 4754, rfl⟩
abbrev main_cst_401 : Ref sig .tc := ⟨.hbm, 4755, rfl⟩
abbrev main_call216_v0 : Ref sig .tc := ⟨.hbm, 4756, rfl⟩
abbrev main_call216_v1 : Ref sig .tc := ⟨.hbm, 4757, rfl⟩
abbrev main_v2273 : Ref sig .tc := ⟨.hbm, 4758, rfl⟩
abbrev main_v2274 : Ref sig .tc := ⟨.hbm, 4759, rfl⟩
abbrev main_v2275 : Ref sig .tc := ⟨.hbm, 4760, rfl⟩
abbrev main_v2276 : Ref sig .tc := ⟨.hbm, 4761, rfl⟩
abbrev main_call217_c : Ref sig .tc := ⟨.hbm, 4762, rfl⟩
abbrev main_call217_v0 : Ref sig .tc := ⟨.hbm, 4763, rfl⟩
abbrev main_call217_v1 : Ref sig .tc := ⟨.hbm, 4764, rfl⟩
abbrev main_call217_c_0 : Ref sig .tc := ⟨.hbm, 4765, rfl⟩
abbrev main_call217_v2 : Ref sig .tc := ⟨.hbm, 4766, rfl⟩
abbrev main_call217_v3 : Ref sig .tc := ⟨.hbm, 4767, rfl⟩
abbrev main_call217_v4 : Ref sig .tc := ⟨.hbm, 4768, rfl⟩
abbrev main_call217_v5 : Ref sig .tc := ⟨.hbm, 4769, rfl⟩
abbrev main_call217_c_1 : Ref sig .tc := ⟨.hbm, 4770, rfl⟩
abbrev main_call217_c_2 : Ref sig .tc := ⟨.hbm, 4771, rfl⟩
abbrev main_call217_v6 : Ref sig .tc := ⟨.hbm, 4772, rfl⟩
abbrev main_call217_v7 : Ref sig .tc := ⟨.hbm, 4773, rfl⟩
abbrev main_call217_v8 : Ref sig .tc := ⟨.hbm, 4774, rfl⟩
abbrev main_call217_v9 : Ref sig .tc := ⟨.hbm, 4775, rfl⟩
abbrev main_call217_v10 : Ref sig .tc := ⟨.hbm, 4776, rfl⟩
abbrev main_call217_v11 : Ref sig .tc := ⟨.hbm, 4777, rfl⟩
abbrev main_call217_c_3 : Ref sig .tc := ⟨.hbm, 4778, rfl⟩
abbrev main_call217_v12 : Ref sig .tc := ⟨.hbm, 4779, rfl⟩
abbrev main_call217_v13 : Ref sig .tc := ⟨.hbm, 4780, rfl⟩
abbrev main_call217_v14 : Ref sig .tc := ⟨.hbm, 4781, rfl⟩
abbrev main_call217_cst : Ref sig .tc := ⟨.hbm, 4782, rfl⟩
abbrev main_call217_v15 : Ref sig .tc := ⟨.hbm, 4783, rfl⟩
abbrev main_v2277 : Ref sig .tc := ⟨.hbm, 4784, rfl⟩
abbrev main_v2278 : Ref sig .tc := ⟨.hbm, 4785, rfl⟩
abbrev main_v2279 : Ref sig .tc := ⟨.hbm, 4786, rfl⟩
abbrev main_cst_402 : Ref sig .tc := ⟨.hbm, 4787, rfl⟩
abbrev main_v2280 : Ref sig .tc := ⟨.hbm, 4788, rfl⟩
abbrev main_v2281 : Ref sig .tc := ⟨.hbm, 4789, rfl⟩
abbrev main_v2282 : Ref sig .tc := ⟨.hbm, 4790, rfl⟩
abbrev main_cst_403 : Ref sig .tc := ⟨.hbm, 4791, rfl⟩
abbrev main_call218_v0 : Ref sig .tc := ⟨.hbm, 4792, rfl⟩
abbrev main_call218_v1 : Ref sig .tc := ⟨.hbm, 4793, rfl⟩
abbrev main_v2283 : Ref sig .tc := ⟨.hbm, 4794, rfl⟩
abbrev main_v2284 : Ref sig .tc := ⟨.hbm, 4795, rfl⟩
abbrev main_v2285 : Ref sig .tc := ⟨.hbm, 4796, rfl⟩
abbrev main_v2286 : Ref sig .tc := ⟨.hbm, 4797, rfl⟩
abbrev main_call219_c : Ref sig .tc := ⟨.hbm, 4798, rfl⟩
abbrev main_call219_v0 : Ref sig .tc := ⟨.hbm, 4799, rfl⟩
abbrev main_call219_v1 : Ref sig .tc := ⟨.hbm, 4800, rfl⟩
abbrev main_call219_c_0 : Ref sig .tc := ⟨.hbm, 4801, rfl⟩
abbrev main_call219_v2 : Ref sig .tc := ⟨.hbm, 4802, rfl⟩
abbrev main_call219_v3 : Ref sig .tc := ⟨.hbm, 4803, rfl⟩
abbrev main_call219_v4 : Ref sig .tc := ⟨.hbm, 4804, rfl⟩
abbrev main_call219_v5 : Ref sig .tc := ⟨.hbm, 4805, rfl⟩
abbrev main_call219_c_1 : Ref sig .tc := ⟨.hbm, 4806, rfl⟩
abbrev main_call219_c_2 : Ref sig .tc := ⟨.hbm, 4807, rfl⟩
abbrev main_call219_v6 : Ref sig .tc := ⟨.hbm, 4808, rfl⟩
abbrev main_call219_v7 : Ref sig .tc := ⟨.hbm, 4809, rfl⟩
abbrev main_call219_v8 : Ref sig .tc := ⟨.hbm, 4810, rfl⟩
abbrev main_call219_v9 : Ref sig .tc := ⟨.hbm, 4811, rfl⟩
abbrev main_call219_v10 : Ref sig .tc := ⟨.hbm, 4812, rfl⟩
abbrev main_call219_v11 : Ref sig .tc := ⟨.hbm, 4813, rfl⟩
abbrev main_call219_c_3 : Ref sig .tc := ⟨.hbm, 4814, rfl⟩
abbrev main_call219_v12 : Ref sig .tc := ⟨.hbm, 4815, rfl⟩
abbrev main_call219_v13 : Ref sig .tc := ⟨.hbm, 4816, rfl⟩
abbrev main_call219_v14 : Ref sig .tc := ⟨.hbm, 4817, rfl⟩
abbrev main_call219_cst : Ref sig .tc := ⟨.hbm, 4818, rfl⟩
abbrev main_call219_v15 : Ref sig .tc := ⟨.hbm, 4819, rfl⟩
abbrev main_v2287 : Ref sig .tc := ⟨.hbm, 4820, rfl⟩
abbrev main_v2288 : Ref sig .tc := ⟨.hbm, 4821, rfl⟩
abbrev main_v2289 : Ref sig .tc := ⟨.hbm, 4822, rfl⟩
abbrev main_cst_404 : Ref sig .tc := ⟨.hbm, 4823, rfl⟩
abbrev main_v2290 : Ref sig .tc := ⟨.hbm, 4824, rfl⟩
abbrev main_v2291 : Ref sig .tc := ⟨.hbm, 4825, rfl⟩
abbrev main_v2292 : Ref sig .tc := ⟨.hbm, 4826, rfl⟩
abbrev main_cst_405 : Ref sig .tc := ⟨.hbm, 4827, rfl⟩
abbrev main_call220_v0 : Ref sig .tc := ⟨.hbm, 4828, rfl⟩
abbrev main_call220_v1 : Ref sig .tc := ⟨.hbm, 4829, rfl⟩
abbrev main_v2293 : Ref sig .tc := ⟨.hbm, 4830, rfl⟩
abbrev main_v2294 : Ref sig .tc := ⟨.hbm, 4831, rfl⟩
abbrev main_v2295 : Ref sig .tc := ⟨.hbm, 4832, rfl⟩
abbrev main_v2296 : Ref sig .tc := ⟨.hbm, 4833, rfl⟩
abbrev main_call221_c : Ref sig .tc := ⟨.hbm, 4834, rfl⟩
abbrev main_call221_v0 : Ref sig .tc := ⟨.hbm, 4835, rfl⟩
abbrev main_call221_v1 : Ref sig .tc := ⟨.hbm, 4836, rfl⟩
abbrev main_call221_c_0 : Ref sig .tc := ⟨.hbm, 4837, rfl⟩
abbrev main_call221_v2 : Ref sig .tc := ⟨.hbm, 4838, rfl⟩
abbrev main_call221_v3 : Ref sig .tc := ⟨.hbm, 4839, rfl⟩
abbrev main_call221_v4 : Ref sig .tc := ⟨.hbm, 4840, rfl⟩
abbrev main_call221_v5 : Ref sig .tc := ⟨.hbm, 4841, rfl⟩
abbrev main_call221_c_1 : Ref sig .tc := ⟨.hbm, 4842, rfl⟩
abbrev main_call221_c_2 : Ref sig .tc := ⟨.hbm, 4843, rfl⟩
abbrev main_call221_v6 : Ref sig .tc := ⟨.hbm, 4844, rfl⟩
abbrev main_call221_v7 : Ref sig .tc := ⟨.hbm, 4845, rfl⟩
abbrev main_call221_v8 : Ref sig .tc := ⟨.hbm, 4846, rfl⟩
abbrev main_call221_v9 : Ref sig .tc := ⟨.hbm, 4847, rfl⟩
abbrev main_call221_v10 : Ref sig .tc := ⟨.hbm, 4848, rfl⟩
abbrev main_call221_v11 : Ref sig .tc := ⟨.hbm, 4849, rfl⟩
abbrev main_call221_c_3 : Ref sig .tc := ⟨.hbm, 4850, rfl⟩
abbrev main_call221_v12 : Ref sig .tc := ⟨.hbm, 4851, rfl⟩
abbrev main_call221_v13 : Ref sig .tc := ⟨.hbm, 4852, rfl⟩
abbrev main_call221_v14 : Ref sig .tc := ⟨.hbm, 4853, rfl⟩
abbrev main_call221_cst : Ref sig .tc := ⟨.hbm, 4854, rfl⟩
abbrev main_call221_v15 : Ref sig .tc := ⟨.hbm, 4855, rfl⟩
abbrev main_v2297 : Ref sig .tc := ⟨.hbm, 4856, rfl⟩
abbrev main_v2298 : Ref sig .tc := ⟨.hbm, 4857, rfl⟩
abbrev main_v2299 : Ref sig .tc := ⟨.hbm, 4858, rfl⟩
abbrev main_cst_406 : Ref sig .tc := ⟨.hbm, 4859, rfl⟩
abbrev main_v2300 : Ref sig .tc := ⟨.hbm, 4860, rfl⟩
abbrev main_v2301 : Ref sig .tc := ⟨.hbm, 4861, rfl⟩
abbrev main_v2302 : Ref sig .tc := ⟨.hbm, 4862, rfl⟩
abbrev main_cst_407 : Ref sig .tc := ⟨.hbm, 4863, rfl⟩
abbrev main_call222_v0 : Ref sig .tc := ⟨.hbm, 4864, rfl⟩
abbrev main_call222_v1 : Ref sig .tc := ⟨.hbm, 4865, rfl⟩
abbrev main_v2303 : Ref sig .tc := ⟨.hbm, 4866, rfl⟩
abbrev main_v2304 : Ref sig .tc := ⟨.hbm, 4867, rfl⟩
abbrev main_v2305 : Ref sig .tc := ⟨.hbm, 4868, rfl⟩
abbrev main_v2306 : Ref sig .tc := ⟨.hbm, 4869, rfl⟩
abbrev main_call223_c : Ref sig .tc := ⟨.hbm, 4870, rfl⟩
abbrev main_call223_v0 : Ref sig .tc := ⟨.hbm, 4871, rfl⟩
abbrev main_call223_v1 : Ref sig .tc := ⟨.hbm, 4872, rfl⟩
abbrev main_call223_c_0 : Ref sig .tc := ⟨.hbm, 4873, rfl⟩
abbrev main_call223_v2 : Ref sig .tc := ⟨.hbm, 4874, rfl⟩
abbrev main_call223_v3 : Ref sig .tc := ⟨.hbm, 4875, rfl⟩
abbrev main_call223_v4 : Ref sig .tc := ⟨.hbm, 4876, rfl⟩
abbrev main_call223_v5 : Ref sig .tc := ⟨.hbm, 4877, rfl⟩
abbrev main_call223_c_1 : Ref sig .tc := ⟨.hbm, 4878, rfl⟩
abbrev main_call223_c_2 : Ref sig .tc := ⟨.hbm, 4879, rfl⟩
abbrev main_call223_v6 : Ref sig .tc := ⟨.hbm, 4880, rfl⟩
abbrev main_call223_v7 : Ref sig .tc := ⟨.hbm, 4881, rfl⟩
abbrev main_call223_v8 : Ref sig .tc := ⟨.hbm, 4882, rfl⟩
abbrev main_call223_v9 : Ref sig .tc := ⟨.hbm, 4883, rfl⟩
abbrev main_call223_v10 : Ref sig .tc := ⟨.hbm, 4884, rfl⟩
abbrev main_call223_v11 : Ref sig .tc := ⟨.hbm, 4885, rfl⟩
abbrev main_call223_c_3 : Ref sig .tc := ⟨.hbm, 4886, rfl⟩
abbrev main_call223_v12 : Ref sig .tc := ⟨.hbm, 4887, rfl⟩
abbrev main_call223_v13 : Ref sig .tc := ⟨.hbm, 4888, rfl⟩
abbrev main_call223_v14 : Ref sig .tc := ⟨.hbm, 4889, rfl⟩
abbrev main_call223_cst : Ref sig .tc := ⟨.hbm, 4890, rfl⟩
abbrev main_call223_v15 : Ref sig .tc := ⟨.hbm, 4891, rfl⟩
abbrev main_v2307 : Ref sig .tc := ⟨.hbm, 4892, rfl⟩
abbrev main_v2308 : Ref sig .tc := ⟨.hbm, 4893, rfl⟩
abbrev main_v2309 : Ref sig .tc := ⟨.hbm, 4894, rfl⟩
abbrev main_cst_408 : Ref sig .tc := ⟨.hbm, 4895, rfl⟩
abbrev main_v2310 : Ref sig .tc := ⟨.hbm, 4896, rfl⟩
abbrev main_v2311 : Ref sig .tc := ⟨.hbm, 4897, rfl⟩
abbrev main_v2312 : Ref sig .tc := ⟨.hbm, 4898, rfl⟩
abbrev main_cst_409 : Ref sig .tc := ⟨.hbm, 4899, rfl⟩
abbrev main_call224_v0 : Ref sig .tc := ⟨.hbm, 4900, rfl⟩
abbrev main_call224_v1 : Ref sig .tc := ⟨.hbm, 4901, rfl⟩
abbrev main_v2313 : Ref sig .tc := ⟨.hbm, 4902, rfl⟩
abbrev main_v2314 : Ref sig .tc := ⟨.hbm, 4903, rfl⟩
abbrev main_v2315 : Ref sig .tc := ⟨.hbm, 4904, rfl⟩
abbrev main_v2316 : Ref sig .tc := ⟨.hbm, 4905, rfl⟩
abbrev main_call225_c : Ref sig .tc := ⟨.hbm, 4906, rfl⟩
abbrev main_call225_v0 : Ref sig .tc := ⟨.hbm, 4907, rfl⟩
abbrev main_call225_v1 : Ref sig .tc := ⟨.hbm, 4908, rfl⟩
abbrev main_call225_c_0 : Ref sig .tc := ⟨.hbm, 4909, rfl⟩
abbrev main_call225_v2 : Ref sig .tc := ⟨.hbm, 4910, rfl⟩
abbrev main_call225_v3 : Ref sig .tc := ⟨.hbm, 4911, rfl⟩
abbrev main_call225_v4 : Ref sig .tc := ⟨.hbm, 4912, rfl⟩
abbrev main_call225_v5 : Ref sig .tc := ⟨.hbm, 4913, rfl⟩
abbrev main_call225_c_1 : Ref sig .tc := ⟨.hbm, 4914, rfl⟩
abbrev main_call225_c_2 : Ref sig .tc := ⟨.hbm, 4915, rfl⟩
abbrev main_call225_v6 : Ref sig .tc := ⟨.hbm, 4916, rfl⟩
abbrev main_call225_v7 : Ref sig .tc := ⟨.hbm, 4917, rfl⟩
abbrev main_call225_v8 : Ref sig .tc := ⟨.hbm, 4918, rfl⟩
abbrev main_call225_v9 : Ref sig .tc := ⟨.hbm, 4919, rfl⟩
abbrev main_call225_v10 : Ref sig .tc := ⟨.hbm, 4920, rfl⟩
abbrev main_call225_v11 : Ref sig .tc := ⟨.hbm, 4921, rfl⟩
abbrev main_call225_c_3 : Ref sig .tc := ⟨.hbm, 4922, rfl⟩
abbrev main_call225_v12 : Ref sig .tc := ⟨.hbm, 4923, rfl⟩
abbrev main_call225_v13 : Ref sig .tc := ⟨.hbm, 4924, rfl⟩
abbrev main_call225_v14 : Ref sig .tc := ⟨.hbm, 4925, rfl⟩
abbrev main_call225_cst : Ref sig .tc := ⟨.hbm, 4926, rfl⟩
abbrev main_call225_v15 : Ref sig .tc := ⟨.hbm, 4927, rfl⟩
abbrev main_v2317 : Ref sig .tc := ⟨.hbm, 4928, rfl⟩
abbrev main_v2318 : Ref sig .tc := ⟨.hbm, 4929, rfl⟩
abbrev main_v2319 : Ref sig .tc := ⟨.hbm, 4930, rfl⟩
abbrev main_cst_410 : Ref sig .tc := ⟨.hbm, 4931, rfl⟩
abbrev main_v2320 : Ref sig .tc := ⟨.hbm, 4932, rfl⟩
abbrev main_v2321 : Ref sig .tc := ⟨.hbm, 4933, rfl⟩
abbrev main_v2322 : Ref sig .tc := ⟨.hbm, 4934, rfl⟩
abbrev main_cst_411 : Ref sig .tc := ⟨.hbm, 4935, rfl⟩
abbrev main_call226_v0 : Ref sig .tc := ⟨.hbm, 4936, rfl⟩
abbrev main_call226_v1 : Ref sig .tc := ⟨.hbm, 4937, rfl⟩
abbrev main_v2323 : Ref sig .tc := ⟨.hbm, 4938, rfl⟩
abbrev main_v2324 : Ref sig .tc := ⟨.hbm, 4939, rfl⟩
abbrev main_v2325 : Ref sig .tc := ⟨.hbm, 4940, rfl⟩
abbrev main_v2326 : Ref sig .tc := ⟨.hbm, 4941, rfl⟩
abbrev main_call227_c : Ref sig .tc := ⟨.hbm, 4942, rfl⟩
abbrev main_call227_v0 : Ref sig .tc := ⟨.hbm, 4943, rfl⟩
abbrev main_call227_v1 : Ref sig .tc := ⟨.hbm, 4944, rfl⟩
abbrev main_call227_c_0 : Ref sig .tc := ⟨.hbm, 4945, rfl⟩
abbrev main_call227_v2 : Ref sig .tc := ⟨.hbm, 4946, rfl⟩
abbrev main_call227_v3 : Ref sig .tc := ⟨.hbm, 4947, rfl⟩
abbrev main_call227_v4 : Ref sig .tc := ⟨.hbm, 4948, rfl⟩
abbrev main_call227_v5 : Ref sig .tc := ⟨.hbm, 4949, rfl⟩
abbrev main_call227_c_1 : Ref sig .tc := ⟨.hbm, 4950, rfl⟩
abbrev main_call227_c_2 : Ref sig .tc := ⟨.hbm, 4951, rfl⟩
abbrev main_call227_v6 : Ref sig .tc := ⟨.hbm, 4952, rfl⟩
abbrev main_call227_v7 : Ref sig .tc := ⟨.hbm, 4953, rfl⟩
abbrev main_call227_v8 : Ref sig .tc := ⟨.hbm, 4954, rfl⟩
abbrev main_call227_v9 : Ref sig .tc := ⟨.hbm, 4955, rfl⟩
abbrev main_call227_v10 : Ref sig .tc := ⟨.hbm, 4956, rfl⟩
abbrev main_call227_v11 : Ref sig .tc := ⟨.hbm, 4957, rfl⟩
abbrev main_call227_c_3 : Ref sig .tc := ⟨.hbm, 4958, rfl⟩
abbrev main_call227_v12 : Ref sig .tc := ⟨.hbm, 4959, rfl⟩
abbrev main_call227_v13 : Ref sig .tc := ⟨.hbm, 4960, rfl⟩
abbrev main_call227_v14 : Ref sig .tc := ⟨.hbm, 4961, rfl⟩
abbrev main_call227_cst : Ref sig .tc := ⟨.hbm, 4962, rfl⟩
abbrev main_call227_v15 : Ref sig .tc := ⟨.hbm, 4963, rfl⟩
abbrev main_v2327 : Ref sig .tc := ⟨.hbm, 4964, rfl⟩
abbrev main_v2328 : Ref sig .tc := ⟨.hbm, 4965, rfl⟩
abbrev main_v2329 : Ref sig .tc := ⟨.hbm, 4966, rfl⟩
abbrev main_cst_412 : Ref sig .tc := ⟨.hbm, 4967, rfl⟩
abbrev main_v2330 : Ref sig .tc := ⟨.hbm, 4968, rfl⟩
abbrev main_v2331 : Ref sig .tc := ⟨.hbm, 4969, rfl⟩
abbrev main_v2332 : Ref sig .tc := ⟨.hbm, 4970, rfl⟩
abbrev main_cst_413 : Ref sig .tc := ⟨.hbm, 4971, rfl⟩
abbrev main_call228_v0 : Ref sig .tc := ⟨.hbm, 4972, rfl⟩
abbrev main_call228_v1 : Ref sig .tc := ⟨.hbm, 4973, rfl⟩
abbrev main_v2333 : Ref sig .tc := ⟨.hbm, 4974, rfl⟩
abbrev main_v2334 : Ref sig .tc := ⟨.hbm, 4975, rfl⟩
abbrev main_v2335 : Ref sig .tc := ⟨.hbm, 4976, rfl⟩
abbrev main_v2336 : Ref sig .tc := ⟨.hbm, 4977, rfl⟩
abbrev main_call229_c : Ref sig .tc := ⟨.hbm, 4978, rfl⟩
abbrev main_call229_v0 : Ref sig .tc := ⟨.hbm, 4979, rfl⟩
abbrev main_call229_v1 : Ref sig .tc := ⟨.hbm, 4980, rfl⟩
abbrev main_call229_c_0 : Ref sig .tc := ⟨.hbm, 4981, rfl⟩
abbrev main_call229_v2 : Ref sig .tc := ⟨.hbm, 4982, rfl⟩
abbrev main_call229_v3 : Ref sig .tc := ⟨.hbm, 4983, rfl⟩
abbrev main_call229_v4 : Ref sig .tc := ⟨.hbm, 4984, rfl⟩
abbrev main_call229_v5 : Ref sig .tc := ⟨.hbm, 4985, rfl⟩
abbrev main_call229_c_1 : Ref sig .tc := ⟨.hbm, 4986, rfl⟩
abbrev main_call229_c_2 : Ref sig .tc := ⟨.hbm, 4987, rfl⟩
abbrev main_call229_v6 : Ref sig .tc := ⟨.hbm, 4988, rfl⟩
abbrev main_call229_v7 : Ref sig .tc := ⟨.hbm, 4989, rfl⟩
abbrev main_call229_v8 : Ref sig .tc := ⟨.hbm, 4990, rfl⟩
abbrev main_call229_v9 : Ref sig .tc := ⟨.hbm, 4991, rfl⟩
abbrev main_call229_v10 : Ref sig .tc := ⟨.hbm, 4992, rfl⟩
abbrev main_call229_v11 : Ref sig .tc := ⟨.hbm, 4993, rfl⟩
abbrev main_call229_c_3 : Ref sig .tc := ⟨.hbm, 4994, rfl⟩
abbrev main_call229_v12 : Ref sig .tc := ⟨.hbm, 4995, rfl⟩
abbrev main_call229_v13 : Ref sig .tc := ⟨.hbm, 4996, rfl⟩
abbrev main_call229_v14 : Ref sig .tc := ⟨.hbm, 4997, rfl⟩
abbrev main_call229_cst : Ref sig .tc := ⟨.hbm, 4998, rfl⟩
abbrev main_call229_v15 : Ref sig .tc := ⟨.hbm, 4999, rfl⟩
abbrev main_v2337 : Ref sig .tc := ⟨.hbm, 5000, rfl⟩
abbrev main_v2338 : Ref sig .tc := ⟨.hbm, 5001, rfl⟩
abbrev main_v2339 : Ref sig .tc := ⟨.hbm, 5002, rfl⟩
abbrev main_cst_414 : Ref sig .tc := ⟨.hbm, 5003, rfl⟩
abbrev main_v2340 : Ref sig .tc := ⟨.hbm, 5004, rfl⟩
abbrev main_v2341 : Ref sig .tc := ⟨.hbm, 5005, rfl⟩
abbrev main_v2342 : Ref sig .tc := ⟨.hbm, 5006, rfl⟩
abbrev main_cst_415 : Ref sig .tc := ⟨.hbm, 5007, rfl⟩
abbrev main_call230_v0 : Ref sig .tc := ⟨.hbm, 5008, rfl⟩
abbrev main_call230_v1 : Ref sig .tc := ⟨.hbm, 5009, rfl⟩
abbrev main_v2343 : Ref sig .tc := ⟨.hbm, 5010, rfl⟩
abbrev main_v2344 : Ref sig .tc := ⟨.hbm, 5011, rfl⟩
abbrev main_v2345 : Ref sig .tc := ⟨.hbm, 5012, rfl⟩
abbrev main_v2346 : Ref sig .tc := ⟨.hbm, 5013, rfl⟩
abbrev main_call231_c : Ref sig .tc := ⟨.hbm, 5014, rfl⟩
abbrev main_call231_v0 : Ref sig .tc := ⟨.hbm, 5015, rfl⟩
abbrev main_call231_v1 : Ref sig .tc := ⟨.hbm, 5016, rfl⟩
abbrev main_call231_c_0 : Ref sig .tc := ⟨.hbm, 5017, rfl⟩
abbrev main_call231_v2 : Ref sig .tc := ⟨.hbm, 5018, rfl⟩
abbrev main_call231_v3 : Ref sig .tc := ⟨.hbm, 5019, rfl⟩
abbrev main_call231_v4 : Ref sig .tc := ⟨.hbm, 5020, rfl⟩
abbrev main_call231_v5 : Ref sig .tc := ⟨.hbm, 5021, rfl⟩
abbrev main_call231_c_1 : Ref sig .tc := ⟨.hbm, 5022, rfl⟩
abbrev main_call231_c_2 : Ref sig .tc := ⟨.hbm, 5023, rfl⟩
abbrev main_call231_v6 : Ref sig .tc := ⟨.hbm, 5024, rfl⟩
abbrev main_call231_v7 : Ref sig .tc := ⟨.hbm, 5025, rfl⟩
abbrev main_call231_v8 : Ref sig .tc := ⟨.hbm, 5026, rfl⟩
abbrev main_call231_v9 : Ref sig .tc := ⟨.hbm, 5027, rfl⟩
abbrev main_call231_v10 : Ref sig .tc := ⟨.hbm, 5028, rfl⟩
abbrev main_call231_v11 : Ref sig .tc := ⟨.hbm, 5029, rfl⟩
abbrev main_call231_c_3 : Ref sig .tc := ⟨.hbm, 5030, rfl⟩
abbrev main_call231_v12 : Ref sig .tc := ⟨.hbm, 5031, rfl⟩
abbrev main_call231_v13 : Ref sig .tc := ⟨.hbm, 5032, rfl⟩
abbrev main_call231_v14 : Ref sig .tc := ⟨.hbm, 5033, rfl⟩
abbrev main_call231_cst : Ref sig .tc := ⟨.hbm, 5034, rfl⟩
abbrev main_call231_v15 : Ref sig .tc := ⟨.hbm, 5035, rfl⟩
abbrev main_v2347 : Ref sig .tc := ⟨.hbm, 5036, rfl⟩
abbrev main_v2348 : Ref sig .tc := ⟨.hbm, 5037, rfl⟩
abbrev main_v2349 : Ref sig .tc := ⟨.hbm, 5038, rfl⟩
abbrev main_cst_416 : Ref sig .tc := ⟨.hbm, 5039, rfl⟩
abbrev main_v2350 : Ref sig .tc := ⟨.hbm, 5040, rfl⟩
abbrev main_v2351 : Ref sig .tc := ⟨.hbm, 5041, rfl⟩
abbrev main_v2352 : Ref sig .tc := ⟨.hbm, 5042, rfl⟩
abbrev main_cst_417 : Ref sig .tc := ⟨.hbm, 5043, rfl⟩
abbrev main_call232_v0 : Ref sig .tc := ⟨.hbm, 5044, rfl⟩
abbrev main_call232_v1 : Ref sig .tc := ⟨.hbm, 5045, rfl⟩
abbrev main_v2353 : Ref sig .tc := ⟨.hbm, 5046, rfl⟩
abbrev main_v2354 : Ref sig .tc := ⟨.hbm, 5047, rfl⟩
abbrev main_v2355 : Ref sig .tc := ⟨.hbm, 5048, rfl⟩
abbrev main_v2356 : Ref sig .tc := ⟨.hbm, 5049, rfl⟩
abbrev main_call233_c : Ref sig .tc := ⟨.hbm, 5050, rfl⟩
abbrev main_call233_v0 : Ref sig .tc := ⟨.hbm, 5051, rfl⟩
abbrev main_call233_v1 : Ref sig .tc := ⟨.hbm, 5052, rfl⟩
abbrev main_call233_c_0 : Ref sig .tc := ⟨.hbm, 5053, rfl⟩
abbrev main_call233_v2 : Ref sig .tc := ⟨.hbm, 5054, rfl⟩
abbrev main_call233_v3 : Ref sig .tc := ⟨.hbm, 5055, rfl⟩
abbrev main_call233_v4 : Ref sig .tc := ⟨.hbm, 5056, rfl⟩
abbrev main_call233_v5 : Ref sig .tc := ⟨.hbm, 5057, rfl⟩
abbrev main_call233_c_1 : Ref sig .tc := ⟨.hbm, 5058, rfl⟩
abbrev main_call233_c_2 : Ref sig .tc := ⟨.hbm, 5059, rfl⟩
abbrev main_call233_v6 : Ref sig .tc := ⟨.hbm, 5060, rfl⟩
abbrev main_call233_v7 : Ref sig .tc := ⟨.hbm, 5061, rfl⟩
abbrev main_call233_v8 : Ref sig .tc := ⟨.hbm, 5062, rfl⟩
abbrev main_call233_v9 : Ref sig .tc := ⟨.hbm, 5063, rfl⟩
abbrev main_call233_v10 : Ref sig .tc := ⟨.hbm, 5064, rfl⟩
abbrev main_call233_v11 : Ref sig .tc := ⟨.hbm, 5065, rfl⟩
abbrev main_call233_c_3 : Ref sig .tc := ⟨.hbm, 5066, rfl⟩
abbrev main_call233_v12 : Ref sig .tc := ⟨.hbm, 5067, rfl⟩
abbrev main_call233_v13 : Ref sig .tc := ⟨.hbm, 5068, rfl⟩
abbrev main_call233_v14 : Ref sig .tc := ⟨.hbm, 5069, rfl⟩
abbrev main_call233_cst : Ref sig .tc := ⟨.hbm, 5070, rfl⟩
abbrev main_call233_v15 : Ref sig .tc := ⟨.hbm, 5071, rfl⟩
abbrev main_v2357 : Ref sig .tc := ⟨.hbm, 5072, rfl⟩
abbrev main_v2358 : Ref sig .tc := ⟨.hbm, 5073, rfl⟩
abbrev main_v2359 : Ref sig .tc := ⟨.hbm, 5074, rfl⟩
abbrev main_cst_418 : Ref sig .tc := ⟨.hbm, 5075, rfl⟩
abbrev main_v2360 : Ref sig .tc := ⟨.hbm, 5076, rfl⟩
abbrev main_v2361 : Ref sig .tc := ⟨.hbm, 5077, rfl⟩
abbrev main_v2362 : Ref sig .tc := ⟨.hbm, 5078, rfl⟩
abbrev main_cst_419 : Ref sig .tc := ⟨.hbm, 5079, rfl⟩
abbrev main_call234_v0 : Ref sig .tc := ⟨.hbm, 5080, rfl⟩
abbrev main_call234_v1 : Ref sig .tc := ⟨.hbm, 5081, rfl⟩
abbrev main_v2363 : Ref sig .tc := ⟨.hbm, 5082, rfl⟩
abbrev main_v2364 : Ref sig .tc := ⟨.hbm, 5083, rfl⟩
abbrev main_v2365 : Ref sig .tc := ⟨.hbm, 5084, rfl⟩
abbrev main_v2366 : Ref sig .tc := ⟨.hbm, 5085, rfl⟩
abbrev main_call235_c : Ref sig .tc := ⟨.hbm, 5086, rfl⟩
abbrev main_call235_v0 : Ref sig .tc := ⟨.hbm, 5087, rfl⟩
abbrev main_call235_v1 : Ref sig .tc := ⟨.hbm, 5088, rfl⟩
abbrev main_call235_c_0 : Ref sig .tc := ⟨.hbm, 5089, rfl⟩
abbrev main_call235_v2 : Ref sig .tc := ⟨.hbm, 5090, rfl⟩
abbrev main_call235_v3 : Ref sig .tc := ⟨.hbm, 5091, rfl⟩
abbrev main_call235_v4 : Ref sig .tc := ⟨.hbm, 5092, rfl⟩
abbrev main_call235_v5 : Ref sig .tc := ⟨.hbm, 5093, rfl⟩
abbrev main_call235_c_1 : Ref sig .tc := ⟨.hbm, 5094, rfl⟩
abbrev main_call235_c_2 : Ref sig .tc := ⟨.hbm, 5095, rfl⟩
abbrev main_call235_v6 : Ref sig .tc := ⟨.hbm, 5096, rfl⟩
abbrev main_call235_v7 : Ref sig .tc := ⟨.hbm, 5097, rfl⟩
abbrev main_call235_v8 : Ref sig .tc := ⟨.hbm, 5098, rfl⟩
abbrev main_call235_v9 : Ref sig .tc := ⟨.hbm, 5099, rfl⟩
abbrev main_call235_v10 : Ref sig .tc := ⟨.hbm, 5100, rfl⟩
abbrev main_call235_v11 : Ref sig .tc := ⟨.hbm, 5101, rfl⟩
abbrev main_call235_c_3 : Ref sig .tc := ⟨.hbm, 5102, rfl⟩
abbrev main_call235_v12 : Ref sig .tc := ⟨.hbm, 5103, rfl⟩
abbrev main_call235_v13 : Ref sig .tc := ⟨.hbm, 5104, rfl⟩
abbrev main_call235_v14 : Ref sig .tc := ⟨.hbm, 5105, rfl⟩
abbrev main_call235_cst : Ref sig .tc := ⟨.hbm, 5106, rfl⟩
abbrev main_call235_v15 : Ref sig .tc := ⟨.hbm, 5107, rfl⟩
abbrev main_v2367 : Ref sig .tc := ⟨.hbm, 5108, rfl⟩
abbrev main_v2368 : Ref sig .tc := ⟨.hbm, 5109, rfl⟩
abbrev main_v2369 : Ref sig .tc := ⟨.hbm, 5110, rfl⟩
abbrev main_cst_420 : Ref sig .tc := ⟨.hbm, 5111, rfl⟩
abbrev main_v2370 : Ref sig .tc := ⟨.hbm, 5112, rfl⟩
abbrev main_v2371 : Ref sig .tc := ⟨.hbm, 5113, rfl⟩
abbrev main_v2372 : Ref sig .tc := ⟨.hbm, 5114, rfl⟩
abbrev main_cst_421 : Ref sig .tc := ⟨.hbm, 5115, rfl⟩
abbrev main_call236_v0 : Ref sig .tc := ⟨.hbm, 5116, rfl⟩
abbrev main_call236_v1 : Ref sig .tc := ⟨.hbm, 5117, rfl⟩
abbrev main_v2373 : Ref sig .tc := ⟨.hbm, 5118, rfl⟩
abbrev main_v2374 : Ref sig .tc := ⟨.hbm, 5119, rfl⟩
abbrev main_v2375 : Ref sig .tc := ⟨.hbm, 5120, rfl⟩
abbrev main_v2376 : Ref sig .tc := ⟨.hbm, 5121, rfl⟩
abbrev main_call237_c : Ref sig .tc := ⟨.hbm, 5122, rfl⟩
abbrev main_call237_v0 : Ref sig .tc := ⟨.hbm, 5123, rfl⟩
abbrev main_call237_v1 : Ref sig .tc := ⟨.hbm, 5124, rfl⟩
abbrev main_call237_c_0 : Ref sig .tc := ⟨.hbm, 5125, rfl⟩
abbrev main_call237_v2 : Ref sig .tc := ⟨.hbm, 5126, rfl⟩
abbrev main_call237_v3 : Ref sig .tc := ⟨.hbm, 5127, rfl⟩
abbrev main_call237_v4 : Ref sig .tc := ⟨.hbm, 5128, rfl⟩
abbrev main_call237_v5 : Ref sig .tc := ⟨.hbm, 5129, rfl⟩
abbrev main_call237_c_1 : Ref sig .tc := ⟨.hbm, 5130, rfl⟩
abbrev main_call237_c_2 : Ref sig .tc := ⟨.hbm, 5131, rfl⟩
abbrev main_call237_v6 : Ref sig .tc := ⟨.hbm, 5132, rfl⟩
abbrev main_call237_v7 : Ref sig .tc := ⟨.hbm, 5133, rfl⟩
abbrev main_call237_v8 : Ref sig .tc := ⟨.hbm, 5134, rfl⟩
abbrev main_call237_v9 : Ref sig .tc := ⟨.hbm, 5135, rfl⟩
abbrev main_call237_v10 : Ref sig .tc := ⟨.hbm, 5136, rfl⟩
abbrev main_call237_v11 : Ref sig .tc := ⟨.hbm, 5137, rfl⟩
abbrev main_call237_c_3 : Ref sig .tc := ⟨.hbm, 5138, rfl⟩
abbrev main_call237_v12 : Ref sig .tc := ⟨.hbm, 5139, rfl⟩
abbrev main_call237_v13 : Ref sig .tc := ⟨.hbm, 5140, rfl⟩
abbrev main_call237_v14 : Ref sig .tc := ⟨.hbm, 5141, rfl⟩
abbrev main_call237_cst : Ref sig .tc := ⟨.hbm, 5142, rfl⟩
abbrev main_call237_v15 : Ref sig .tc := ⟨.hbm, 5143, rfl⟩
abbrev main_v2377 : Ref sig .tc := ⟨.hbm, 5144, rfl⟩
abbrev main_v2378 : Ref sig .tc := ⟨.hbm, 5145, rfl⟩
abbrev main_v2379 : Ref sig .tc := ⟨.hbm, 5146, rfl⟩
abbrev main_cst_422 : Ref sig .tc := ⟨.hbm, 5147, rfl⟩
abbrev main_v2380 : Ref sig .tc := ⟨.hbm, 5148, rfl⟩
abbrev main_v2381 : Ref sig .tc := ⟨.hbm, 5149, rfl⟩
abbrev main_v2382 : Ref sig .tc := ⟨.hbm, 5150, rfl⟩
abbrev main_cst_423 : Ref sig .tc := ⟨.hbm, 5151, rfl⟩
abbrev main_call238_v0 : Ref sig .tc := ⟨.hbm, 5152, rfl⟩
abbrev main_call238_v1 : Ref sig .tc := ⟨.hbm, 5153, rfl⟩
abbrev main_v2383 : Ref sig .tc := ⟨.hbm, 5154, rfl⟩
abbrev main_v2384 : Ref sig .tc := ⟨.hbm, 5155, rfl⟩
abbrev main_v2385 : Ref sig .tc := ⟨.hbm, 5156, rfl⟩
abbrev main_v2386 : Ref sig .tc := ⟨.hbm, 5157, rfl⟩
abbrev main_call239_c : Ref sig .tc := ⟨.hbm, 5158, rfl⟩
abbrev main_call239_v0 : Ref sig .tc := ⟨.hbm, 5159, rfl⟩
abbrev main_call239_v1 : Ref sig .tc := ⟨.hbm, 5160, rfl⟩
abbrev main_call239_c_0 : Ref sig .tc := ⟨.hbm, 5161, rfl⟩
abbrev main_call239_v2 : Ref sig .tc := ⟨.hbm, 5162, rfl⟩
abbrev main_call239_v3 : Ref sig .tc := ⟨.hbm, 5163, rfl⟩
abbrev main_call239_v4 : Ref sig .tc := ⟨.hbm, 5164, rfl⟩
abbrev main_call239_v5 : Ref sig .tc := ⟨.hbm, 5165, rfl⟩
abbrev main_call239_c_1 : Ref sig .tc := ⟨.hbm, 5166, rfl⟩
abbrev main_call239_c_2 : Ref sig .tc := ⟨.hbm, 5167, rfl⟩
abbrev main_call239_v6 : Ref sig .tc := ⟨.hbm, 5168, rfl⟩
abbrev main_call239_v7 : Ref sig .tc := ⟨.hbm, 5169, rfl⟩
abbrev main_call239_v8 : Ref sig .tc := ⟨.hbm, 5170, rfl⟩
abbrev main_call239_v9 : Ref sig .tc := ⟨.hbm, 5171, rfl⟩
abbrev main_call239_v10 : Ref sig .tc := ⟨.hbm, 5172, rfl⟩
abbrev main_call239_v11 : Ref sig .tc := ⟨.hbm, 5173, rfl⟩
abbrev main_call239_c_3 : Ref sig .tc := ⟨.hbm, 5174, rfl⟩
abbrev main_call239_v12 : Ref sig .tc := ⟨.hbm, 5175, rfl⟩
abbrev main_call239_v13 : Ref sig .tc := ⟨.hbm, 5176, rfl⟩
abbrev main_call239_v14 : Ref sig .tc := ⟨.hbm, 5177, rfl⟩
abbrev main_call239_cst : Ref sig .tc := ⟨.hbm, 5178, rfl⟩
abbrev main_call239_v15 : Ref sig .tc := ⟨.hbm, 5179, rfl⟩
abbrev main_v2387 : Ref sig .tc := ⟨.hbm, 5180, rfl⟩
abbrev main_v2388 : Ref sig .tc := ⟨.hbm, 5181, rfl⟩
abbrev main_v2389 : Ref sig .tc := ⟨.hbm, 5182, rfl⟩
abbrev main_cst_424 : Ref sig .tc := ⟨.hbm, 5183, rfl⟩
abbrev main_v2390 : Ref sig .tc := ⟨.hbm, 5184, rfl⟩
abbrev main_v2391 : Ref sig .tc := ⟨.hbm, 5185, rfl⟩
abbrev main_v2392 : Ref sig .tc := ⟨.hbm, 5186, rfl⟩
abbrev main_cst_425 : Ref sig .tc := ⟨.hbm, 5187, rfl⟩
abbrev main_call240_v0 : Ref sig .tc := ⟨.hbm, 5188, rfl⟩
abbrev main_call240_v1 : Ref sig .tc := ⟨.hbm, 5189, rfl⟩
abbrev main_v2393 : Ref sig .tc := ⟨.hbm, 5190, rfl⟩
abbrev main_v2394 : Ref sig .tc := ⟨.hbm, 5191, rfl⟩
abbrev main_v2395 : Ref sig .tc := ⟨.hbm, 5192, rfl⟩
abbrev main_v2396 : Ref sig .tc := ⟨.hbm, 5193, rfl⟩
abbrev main_call241_c : Ref sig .tc := ⟨.hbm, 5194, rfl⟩
abbrev main_call241_v0 : Ref sig .tc := ⟨.hbm, 5195, rfl⟩
abbrev main_call241_v1 : Ref sig .tc := ⟨.hbm, 5196, rfl⟩
abbrev main_call241_c_0 : Ref sig .tc := ⟨.hbm, 5197, rfl⟩
abbrev main_call241_v2 : Ref sig .tc := ⟨.hbm, 5198, rfl⟩
abbrev main_call241_v3 : Ref sig .tc := ⟨.hbm, 5199, rfl⟩
abbrev main_call241_v4 : Ref sig .tc := ⟨.hbm, 5200, rfl⟩
abbrev main_call241_v5 : Ref sig .tc := ⟨.hbm, 5201, rfl⟩
abbrev main_call241_c_1 : Ref sig .tc := ⟨.hbm, 5202, rfl⟩
abbrev main_call241_c_2 : Ref sig .tc := ⟨.hbm, 5203, rfl⟩
abbrev main_call241_v6 : Ref sig .tc := ⟨.hbm, 5204, rfl⟩
abbrev main_call241_v7 : Ref sig .tc := ⟨.hbm, 5205, rfl⟩
abbrev main_call241_v8 : Ref sig .tc := ⟨.hbm, 5206, rfl⟩
abbrev main_call241_v9 : Ref sig .tc := ⟨.hbm, 5207, rfl⟩
abbrev main_call241_v10 : Ref sig .tc := ⟨.hbm, 5208, rfl⟩
abbrev main_call241_v11 : Ref sig .tc := ⟨.hbm, 5209, rfl⟩
abbrev main_call241_c_3 : Ref sig .tc := ⟨.hbm, 5210, rfl⟩
abbrev main_call241_v12 : Ref sig .tc := ⟨.hbm, 5211, rfl⟩
abbrev main_call241_v13 : Ref sig .tc := ⟨.hbm, 5212, rfl⟩
abbrev main_call241_v14 : Ref sig .tc := ⟨.hbm, 5213, rfl⟩
abbrev main_call241_cst : Ref sig .tc := ⟨.hbm, 5214, rfl⟩
abbrev main_call241_v15 : Ref sig .tc := ⟨.hbm, 5215, rfl⟩
abbrev main_v2397 : Ref sig .tc := ⟨.hbm, 5216, rfl⟩
abbrev main_v2398 : Ref sig .tc := ⟨.hbm, 5217, rfl⟩
abbrev main_v2399 : Ref sig .tc := ⟨.hbm, 5218, rfl⟩
abbrev main_cst_426 : Ref sig .tc := ⟨.hbm, 5219, rfl⟩
abbrev main_v2400 : Ref sig .tc := ⟨.hbm, 5220, rfl⟩
abbrev main_v2401 : Ref sig .tc := ⟨.hbm, 5221, rfl⟩
abbrev main_v2402 : Ref sig .tc := ⟨.hbm, 5222, rfl⟩
abbrev main_cst_427 : Ref sig .tc := ⟨.hbm, 5223, rfl⟩
abbrev main_call242_v0 : Ref sig .tc := ⟨.hbm, 5224, rfl⟩
abbrev main_call242_v1 : Ref sig .tc := ⟨.hbm, 5225, rfl⟩
abbrev main_v2403 : Ref sig .tc := ⟨.hbm, 5226, rfl⟩
abbrev main_v2404 : Ref sig .tc := ⟨.hbm, 5227, rfl⟩
abbrev main_v2405 : Ref sig .tc := ⟨.hbm, 5228, rfl⟩
abbrev main_v2406 : Ref sig .tc := ⟨.hbm, 5229, rfl⟩
abbrev main_call243_c : Ref sig .tc := ⟨.hbm, 5230, rfl⟩
abbrev main_call243_v0 : Ref sig .tc := ⟨.hbm, 5231, rfl⟩
abbrev main_call243_v1 : Ref sig .tc := ⟨.hbm, 5232, rfl⟩
abbrev main_call243_c_0 : Ref sig .tc := ⟨.hbm, 5233, rfl⟩
abbrev main_call243_v2 : Ref sig .tc := ⟨.hbm, 5234, rfl⟩
abbrev main_call243_v3 : Ref sig .tc := ⟨.hbm, 5235, rfl⟩
abbrev main_call243_v4 : Ref sig .tc := ⟨.hbm, 5236, rfl⟩
abbrev main_call243_v5 : Ref sig .tc := ⟨.hbm, 5237, rfl⟩
abbrev main_call243_c_1 : Ref sig .tc := ⟨.hbm, 5238, rfl⟩
abbrev main_call243_c_2 : Ref sig .tc := ⟨.hbm, 5239, rfl⟩
abbrev main_call243_v6 : Ref sig .tc := ⟨.hbm, 5240, rfl⟩
abbrev main_call243_v7 : Ref sig .tc := ⟨.hbm, 5241, rfl⟩
abbrev main_call243_v8 : Ref sig .tc := ⟨.hbm, 5242, rfl⟩
abbrev main_call243_v9 : Ref sig .tc := ⟨.hbm, 5243, rfl⟩
abbrev main_call243_v10 : Ref sig .tc := ⟨.hbm, 5244, rfl⟩
abbrev main_call243_v11 : Ref sig .tc := ⟨.hbm, 5245, rfl⟩
abbrev main_call243_c_3 : Ref sig .tc := ⟨.hbm, 5246, rfl⟩
abbrev main_call243_v12 : Ref sig .tc := ⟨.hbm, 5247, rfl⟩
abbrev main_call243_v13 : Ref sig .tc := ⟨.hbm, 5248, rfl⟩
abbrev main_call243_v14 : Ref sig .tc := ⟨.hbm, 5249, rfl⟩
abbrev main_call243_cst : Ref sig .tc := ⟨.hbm, 5250, rfl⟩
abbrev main_call243_v15 : Ref sig .tc := ⟨.hbm, 5251, rfl⟩
abbrev main_v2407 : Ref sig .tc := ⟨.hbm, 5252, rfl⟩
abbrev main_v2408 : Ref sig .tc := ⟨.hbm, 5253, rfl⟩
abbrev main_v2409 : Ref sig .tc := ⟨.hbm, 5254, rfl⟩
abbrev main_cst_428 : Ref sig .tc := ⟨.hbm, 5255, rfl⟩
abbrev main_v2410 : Ref sig .tc := ⟨.hbm, 5256, rfl⟩
abbrev main_v2411 : Ref sig .tc := ⟨.hbm, 5257, rfl⟩
abbrev main_v2412 : Ref sig .tc := ⟨.hbm, 5258, rfl⟩
abbrev main_cst_429 : Ref sig .tc := ⟨.hbm, 5259, rfl⟩
abbrev main_call244_v0 : Ref sig .tc := ⟨.hbm, 5260, rfl⟩
abbrev main_call244_v1 : Ref sig .tc := ⟨.hbm, 5261, rfl⟩
abbrev main_v2413 : Ref sig .tc := ⟨.hbm, 5262, rfl⟩
abbrev main_v2414 : Ref sig .tc := ⟨.hbm, 5263, rfl⟩
abbrev main_v2415 : Ref sig .tc := ⟨.hbm, 5264, rfl⟩
abbrev main_v2416 : Ref sig .tc := ⟨.hbm, 5265, rfl⟩
abbrev main_call245_c : Ref sig .tc := ⟨.hbm, 5266, rfl⟩
abbrev main_call245_v0 : Ref sig .tc := ⟨.hbm, 5267, rfl⟩
abbrev main_call245_v1 : Ref sig .tc := ⟨.hbm, 5268, rfl⟩
abbrev main_call245_c_0 : Ref sig .tc := ⟨.hbm, 5269, rfl⟩
abbrev main_call245_v2 : Ref sig .tc := ⟨.hbm, 5270, rfl⟩
abbrev main_call245_v3 : Ref sig .tc := ⟨.hbm, 5271, rfl⟩
abbrev main_call245_v4 : Ref sig .tc := ⟨.hbm, 5272, rfl⟩
abbrev main_call245_v5 : Ref sig .tc := ⟨.hbm, 5273, rfl⟩
abbrev main_call245_c_1 : Ref sig .tc := ⟨.hbm, 5274, rfl⟩
abbrev main_call245_c_2 : Ref sig .tc := ⟨.hbm, 5275, rfl⟩
abbrev main_call245_v6 : Ref sig .tc := ⟨.hbm, 5276, rfl⟩
abbrev main_call245_v7 : Ref sig .tc := ⟨.hbm, 5277, rfl⟩
abbrev main_call245_v8 : Ref sig .tc := ⟨.hbm, 5278, rfl⟩
abbrev main_call245_v9 : Ref sig .tc := ⟨.hbm, 5279, rfl⟩
abbrev main_call245_v10 : Ref sig .tc := ⟨.hbm, 5280, rfl⟩
abbrev main_call245_v11 : Ref sig .tc := ⟨.hbm, 5281, rfl⟩
abbrev main_call245_c_3 : Ref sig .tc := ⟨.hbm, 5282, rfl⟩
abbrev main_call245_v12 : Ref sig .tc := ⟨.hbm, 5283, rfl⟩
abbrev main_call245_v13 : Ref sig .tc := ⟨.hbm, 5284, rfl⟩
abbrev main_call245_v14 : Ref sig .tc := ⟨.hbm, 5285, rfl⟩
abbrev main_call245_cst : Ref sig .tc := ⟨.hbm, 5286, rfl⟩
abbrev main_call245_v15 : Ref sig .tc := ⟨.hbm, 5287, rfl⟩
abbrev main_v2417 : Ref sig .tc := ⟨.hbm, 5288, rfl⟩
abbrev main_v2418 : Ref sig .tc := ⟨.hbm, 5289, rfl⟩
abbrev main_v2419 : Ref sig .tc := ⟨.hbm, 5290, rfl⟩
abbrev main_cst_430 : Ref sig .tc := ⟨.hbm, 5291, rfl⟩
abbrev main_v2420 : Ref sig .tc := ⟨.hbm, 5292, rfl⟩
abbrev main_v2421 : Ref sig .tc := ⟨.hbm, 5293, rfl⟩
abbrev main_v2422 : Ref sig .tc := ⟨.hbm, 5294, rfl⟩
abbrev main_cst_431 : Ref sig .tc := ⟨.hbm, 5295, rfl⟩
abbrev main_call246_v0 : Ref sig .tc := ⟨.hbm, 5296, rfl⟩
abbrev main_call246_v1 : Ref sig .tc := ⟨.hbm, 5297, rfl⟩
abbrev main_v2423 : Ref sig .tc := ⟨.hbm, 5298, rfl⟩
abbrev main_v2424 : Ref sig .tc := ⟨.hbm, 5299, rfl⟩
abbrev main_v2425 : Ref sig .tc := ⟨.hbm, 5300, rfl⟩
abbrev main_v2426 : Ref sig .tc := ⟨.hbm, 5301, rfl⟩
abbrev main_call247_c : Ref sig .tc := ⟨.hbm, 5302, rfl⟩
abbrev main_call247_v0 : Ref sig .tc := ⟨.hbm, 5303, rfl⟩
abbrev main_call247_v1 : Ref sig .tc := ⟨.hbm, 5304, rfl⟩
abbrev main_call247_c_0 : Ref sig .tc := ⟨.hbm, 5305, rfl⟩
abbrev main_call247_v2 : Ref sig .tc := ⟨.hbm, 5306, rfl⟩
abbrev main_call247_v3 : Ref sig .tc := ⟨.hbm, 5307, rfl⟩
abbrev main_call247_v4 : Ref sig .tc := ⟨.hbm, 5308, rfl⟩
abbrev main_call247_v5 : Ref sig .tc := ⟨.hbm, 5309, rfl⟩
abbrev main_call247_c_1 : Ref sig .tc := ⟨.hbm, 5310, rfl⟩
abbrev main_call247_c_2 : Ref sig .tc := ⟨.hbm, 5311, rfl⟩
abbrev main_call247_v6 : Ref sig .tc := ⟨.hbm, 5312, rfl⟩
abbrev main_call247_v7 : Ref sig .tc := ⟨.hbm, 5313, rfl⟩
abbrev main_call247_v8 : Ref sig .tc := ⟨.hbm, 5314, rfl⟩
abbrev main_call247_v9 : Ref sig .tc := ⟨.hbm, 5315, rfl⟩
abbrev main_call247_v10 : Ref sig .tc := ⟨.hbm, 5316, rfl⟩
abbrev main_call247_v11 : Ref sig .tc := ⟨.hbm, 5317, rfl⟩
abbrev main_call247_c_3 : Ref sig .tc := ⟨.hbm, 5318, rfl⟩
abbrev main_call247_v12 : Ref sig .tc := ⟨.hbm, 5319, rfl⟩
abbrev main_call247_v13 : Ref sig .tc := ⟨.hbm, 5320, rfl⟩
abbrev main_call247_v14 : Ref sig .tc := ⟨.hbm, 5321, rfl⟩
abbrev main_call247_cst : Ref sig .tc := ⟨.hbm, 5322, rfl⟩
abbrev main_call247_v15 : Ref sig .tc := ⟨.hbm, 5323, rfl⟩
abbrev main_v2427 : Ref sig .tc := ⟨.hbm, 5324, rfl⟩
abbrev main_v2428 : Ref sig .tc := ⟨.hbm, 5325, rfl⟩
abbrev main_v2429 : Ref sig .tc := ⟨.hbm, 5326, rfl⟩
abbrev main_cst_432 : Ref sig .tc := ⟨.hbm, 5327, rfl⟩
abbrev main_v2430 : Ref sig .tc := ⟨.hbm, 5328, rfl⟩
abbrev main_v2431 : Ref sig .tc := ⟨.hbm, 5329, rfl⟩
abbrev main_v2432 : Ref sig .tc := ⟨.hbm, 5330, rfl⟩
abbrev main_cst_433 : Ref sig .tc := ⟨.hbm, 5331, rfl⟩
abbrev main_call248_v0 : Ref sig .tc := ⟨.hbm, 5332, rfl⟩
abbrev main_call248_v1 : Ref sig .tc := ⟨.hbm, 5333, rfl⟩
abbrev main_v2433 : Ref sig .tc := ⟨.hbm, 5334, rfl⟩
abbrev main_v2434 : Ref sig .tc := ⟨.hbm, 5335, rfl⟩
abbrev main_v2435 : Ref sig .tc := ⟨.hbm, 5336, rfl⟩
abbrev main_v2436 : Ref sig .tc := ⟨.hbm, 5337, rfl⟩
abbrev main_call249_c : Ref sig .tc := ⟨.hbm, 5338, rfl⟩
abbrev main_call249_v0 : Ref sig .tc := ⟨.hbm, 5339, rfl⟩
abbrev main_call249_v1 : Ref sig .tc := ⟨.hbm, 5340, rfl⟩
abbrev main_call249_c_0 : Ref sig .tc := ⟨.hbm, 5341, rfl⟩
abbrev main_call249_v2 : Ref sig .tc := ⟨.hbm, 5342, rfl⟩
abbrev main_call249_v3 : Ref sig .tc := ⟨.hbm, 5343, rfl⟩
abbrev main_call249_v4 : Ref sig .tc := ⟨.hbm, 5344, rfl⟩
abbrev main_call249_v5 : Ref sig .tc := ⟨.hbm, 5345, rfl⟩
abbrev main_call249_c_1 : Ref sig .tc := ⟨.hbm, 5346, rfl⟩
abbrev main_call249_c_2 : Ref sig .tc := ⟨.hbm, 5347, rfl⟩
abbrev main_call249_v6 : Ref sig .tc := ⟨.hbm, 5348, rfl⟩
abbrev main_call249_v7 : Ref sig .tc := ⟨.hbm, 5349, rfl⟩
abbrev main_call249_v8 : Ref sig .tc := ⟨.hbm, 5350, rfl⟩
abbrev main_call249_v9 : Ref sig .tc := ⟨.hbm, 5351, rfl⟩
abbrev main_call249_v10 : Ref sig .tc := ⟨.hbm, 5352, rfl⟩
abbrev main_call249_v11 : Ref sig .tc := ⟨.hbm, 5353, rfl⟩
abbrev main_call249_c_3 : Ref sig .tc := ⟨.hbm, 5354, rfl⟩
abbrev main_call249_v12 : Ref sig .tc := ⟨.hbm, 5355, rfl⟩
abbrev main_call249_v13 : Ref sig .tc := ⟨.hbm, 5356, rfl⟩
abbrev main_call249_v14 : Ref sig .tc := ⟨.hbm, 5357, rfl⟩
abbrev main_call249_cst : Ref sig .tc := ⟨.hbm, 5358, rfl⟩
abbrev main_call249_v15 : Ref sig .tc := ⟨.hbm, 5359, rfl⟩
abbrev main_v2437 : Ref sig .tc := ⟨.hbm, 5360, rfl⟩
abbrev main_v2438 : Ref sig .tc := ⟨.hbm, 5361, rfl⟩
abbrev main_v2439 : Ref sig .tc := ⟨.hbm, 5362, rfl⟩
abbrev main_cst_434 : Ref sig .tc := ⟨.hbm, 5363, rfl⟩
abbrev main_v2440 : Ref sig .tc := ⟨.hbm, 5364, rfl⟩
abbrev main_v2441 : Ref sig .tc := ⟨.hbm, 5365, rfl⟩
abbrev main_v2442 : Ref sig .tc := ⟨.hbm, 5366, rfl⟩
abbrev main_cst_435 : Ref sig .tc := ⟨.hbm, 5367, rfl⟩
abbrev main_call250_v0 : Ref sig .tc := ⟨.hbm, 5368, rfl⟩
abbrev main_call250_v1 : Ref sig .tc := ⟨.hbm, 5369, rfl⟩
abbrev main_v2443 : Ref sig .tc := ⟨.hbm, 5370, rfl⟩
abbrev main_v2444 : Ref sig .tc := ⟨.hbm, 5371, rfl⟩
abbrev main_v2445 : Ref sig .tc := ⟨.hbm, 5372, rfl⟩
abbrev main_v2446 : Ref sig .tc := ⟨.hbm, 5373, rfl⟩
abbrev main_v2447 : Ref sig .tc := ⟨.hbm, 5374, rfl⟩
abbrev main_v2448 : Ref sig .tc := ⟨.hbm, 5375, rfl⟩
abbrev main_v2449 : Ref sig .tc := ⟨.hbm, 5376, rfl⟩
abbrev main_v2450 : Ref sig .tc := ⟨.hbm, 5377, rfl⟩
abbrev main_v2451 : Ref sig .tc := ⟨.hbm, 5378, rfl⟩
abbrev main_v2452 : Ref sig .tc := ⟨.hbm, 5379, rfl⟩
abbrev main_v2453 : Ref sig .tc := ⟨.hbm, 5380, rfl⟩
abbrev main_v2454 : Ref sig .tc := ⟨.hbm, 5381, rfl⟩
abbrev main_v2455 : Ref sig .tc := ⟨.hbm, 5382, rfl⟩
abbrev main_v2456 : Ref sig .tc := ⟨.hbm, 5383, rfl⟩
abbrev main_v2457 : Ref sig .tc := ⟨.hbm, 5384, rfl⟩
abbrev main_v2458 : Ref sig .tc := ⟨.hbm, 5385, rfl⟩
abbrev main_v2459 : Ref sig .tc := ⟨.hbm, 5386, rfl⟩
abbrev main_v2460 : Ref sig .tc := ⟨.hbm, 5387, rfl⟩
abbrev main_v2461 : Ref sig .tc := ⟨.hbm, 5388, rfl⟩
abbrev main_v2462 : Ref sig .tc := ⟨.hbm, 5389, rfl⟩
abbrev main_v2463 : Ref sig .tc := ⟨.hbm, 5390, rfl⟩
abbrev main_v2464 : Ref sig .tc := ⟨.hbm, 5391, rfl⟩
abbrev main_v2465 : Ref sig .tc := ⟨.hbm, 5392, rfl⟩
abbrev main_v2466 : Ref sig .tc := ⟨.hbm, 5393, rfl⟩
abbrev main_v2467 : Ref sig .tc := ⟨.hbm, 5394, rfl⟩
abbrev main_v2468 : Ref sig .tc := ⟨.hbm, 5395, rfl⟩
abbrev main_v2469 : Ref sig .tc := ⟨.hbm, 5396, rfl⟩
abbrev main_v2470 : Ref sig .tc := ⟨.hbm, 5397, rfl⟩
abbrev main_v2471 : Ref sig .tc := ⟨.hbm, 5398, rfl⟩
abbrev main_v2472 : Ref sig .tc := ⟨.hbm, 5399, rfl⟩
abbrev main_v2473 : Ref sig .tc := ⟨.hbm, 5400, rfl⟩
abbrev main_v2474 : Ref sig .tc := ⟨.hbm, 5401, rfl⟩
abbrev main_cst_436 : Ref sig .tc := ⟨.hbm, 5402, rfl⟩
abbrev main_v2475 : Ref sig .tc := ⟨.hbm, 5403, rfl⟩
abbrev main_v2476 : Ref sig .tc := ⟨.hbm, 5404, rfl⟩
abbrev main_cst_437 : Ref sig .tc := ⟨.hbm, 5405, rfl⟩
abbrev main_v2477 : Ref sig .tc := ⟨.hbm, 5406, rfl⟩
abbrev main_cst_438 : Ref sig .tc := ⟨.hbm, 5407, rfl⟩
abbrev main_v2478 : Ref sig .tc := ⟨.hbm, 5408, rfl⟩
abbrev main_v2479 : Ref sig .tc := ⟨.hbm, 5409, rfl⟩
abbrev main_v2480 : Ref sig .tc := ⟨.hbm, 5410, rfl⟩
abbrev main_v2481 : Ref sig .tc := ⟨.hbm, 5411, rfl⟩
abbrev main_v2482 : Ref sig .tc := ⟨.hbm, 5412, rfl⟩
abbrev main_v2483 : Ref sig .tc := ⟨.hbm, 5413, rfl⟩
abbrev main_cst_439 : Ref sig .tc := ⟨.hbm, 5414, rfl⟩
abbrev main_v2484 : Ref sig .tc := ⟨.hbm, 5415, rfl⟩
abbrev main_v2485 : Ref sig .tc := ⟨.hbm, 5416, rfl⟩
abbrev main_v2486 : Ref sig .tc := ⟨.hbm, 5417, rfl⟩
abbrev main_v2487 : Ref sig .tc := ⟨.hbm, 5418, rfl⟩
abbrev main_v2488 : Ref sig .tc := ⟨.hbm, 5419, rfl⟩
abbrev main_call251_v0 : Ref sig .tc := ⟨.hbm, 5420, rfl⟩
abbrev main_call251_cst : Ref sig .tc := ⟨.hbm, 5421, rfl⟩
abbrev main_call251_c : Ref sig .tc := ⟨.hbm, 5422, rfl⟩
abbrev main_call251_v1_0 : Ref sig .tc := ⟨.hbm, 5423, rfl⟩
abbrev main_v2489 : Ref sig .tc := ⟨.hbm, 5424, rfl⟩
abbrev main_v2490 : Ref sig .tc := ⟨.hbm, 5425, rfl⟩
abbrev main_c_440 : Ref sig .tc := ⟨.hbm, 5426, rfl⟩
abbrev main_call252_v0 : Ref sig .tc := ⟨.hbm, 5427, rfl⟩
abbrev main_call252_v1 : Ref sig .tc := ⟨.hbm, 5428, rfl⟩
abbrev main_call252_v2 : Ref sig .tc := ⟨.hbm, 5429, rfl⟩
abbrev main_call252_v3 : Ref sig .tc := ⟨.hbm, 5430, rfl⟩
abbrev main_call252_v4 : Ref sig .tc := ⟨.hbm, 5431, rfl⟩
abbrev main_call252_v5 : Ref sig .tc := ⟨.hbm, 5432, rfl⟩
abbrev main_call252_v6 : Ref sig .tc := ⟨.hbm, 5433, rfl⟩
abbrev main_call252_v7 : Ref sig .tc := ⟨.hbm, 5434, rfl⟩
abbrev main_call252_v8 : Ref sig .tc := ⟨.hbm, 5435, rfl⟩
abbrev main_call252_c : Ref sig .tc := ⟨.hbm, 5436, rfl⟩
abbrev main_call252_v9 : Ref sig .tc := ⟨.hbm, 5437, rfl⟩
abbrev main_call252_v10 : Ref sig .tc := ⟨.hbm, 5438, rfl⟩
abbrev main_call252_v11 : Ref sig .tc := ⟨.hbm, 5439, rfl⟩
abbrev main_call252_c_0 : Ref sig .tc := ⟨.hbm, 5440, rfl⟩
abbrev main_call252_v12 : Ref sig .tc := ⟨.hbm, 5441, rfl⟩
abbrev main_call252_v13 : Ref sig .tc := ⟨.hbm, 5442, rfl⟩
abbrev main_v2491 : Ref sig .tc := ⟨.hbm, 5443, rfl⟩
abbrev main_c_441 : Ref sig .tc := ⟨.hbm, 5444, rfl⟩
abbrev main_call253_v0 : Ref sig .tc := ⟨.hbm, 5445, rfl⟩
abbrev main_call253_v1 : Ref sig .tc := ⟨.hbm, 5446, rfl⟩
abbrev main_call253_v2 : Ref sig .tc := ⟨.hbm, 5447, rfl⟩
abbrev main_call253_v3 : Ref sig .tc := ⟨.hbm, 5448, rfl⟩
abbrev main_call253_v4 : Ref sig .tc := ⟨.hbm, 5449, rfl⟩
abbrev main_call253_v5 : Ref sig .tc := ⟨.hbm, 5450, rfl⟩
abbrev main_call253_v6 : Ref sig .tc := ⟨.hbm, 5451, rfl⟩
abbrev main_call253_v7 : Ref sig .tc := ⟨.hbm, 5452, rfl⟩
abbrev main_call253_v8 : Ref sig .tc := ⟨.hbm, 5453, rfl⟩
abbrev main_call253_c : Ref sig .tc := ⟨.hbm, 5454, rfl⟩
abbrev main_call253_v9 : Ref sig .tc := ⟨.hbm, 5455, rfl⟩
abbrev main_call253_v10 : Ref sig .tc := ⟨.hbm, 5456, rfl⟩
abbrev main_call253_v11 : Ref sig .tc := ⟨.hbm, 5457, rfl⟩
abbrev main_call253_c_0 : Ref sig .tc := ⟨.hbm, 5458, rfl⟩
abbrev main_call253_v12 : Ref sig .tc := ⟨.hbm, 5459, rfl⟩
abbrev main_call253_v13 : Ref sig .tc := ⟨.hbm, 5460, rfl⟩
abbrev main_v2492 : Ref sig .tc := ⟨.hbm, 5461, rfl⟩
abbrev main_c_442 : Ref sig .tc := ⟨.hbm, 5462, rfl⟩
abbrev main_call254_v0 : Ref sig .tc := ⟨.hbm, 5463, rfl⟩
abbrev main_call254_c : Ref sig .tc := ⟨.hbm, 5464, rfl⟩
abbrev main_call254_v1 : Ref sig .tc := ⟨.hbm, 5465, rfl⟩
abbrev main_call254_c_0 : Ref sig .tc := ⟨.hbm, 5466, rfl⟩
abbrev main_call254_v2 : Ref sig .tc := ⟨.hbm, 5467, rfl⟩
abbrev main_call254_v3 : Ref sig .tc := ⟨.hbm, 5468, rfl⟩
abbrev main_call254_v4 : Ref sig .tc := ⟨.hbm, 5469, rfl⟩
abbrev main_call254_c_1 : Ref sig .tc := ⟨.hbm, 5470, rfl⟩
abbrev main_call254_v5 : Ref sig .tc := ⟨.hbm, 5471, rfl⟩
abbrev main_call254_v6 : Ref sig .tc := ⟨.hbm, 5472, rfl⟩
abbrev main_call254_c_2 : Ref sig .tc := ⟨.hbm, 5473, rfl⟩
abbrev main_call254_v7 : Ref sig .tc := ⟨.hbm, 5474, rfl⟩
abbrev main_call254_v8 : Ref sig .tc := ⟨.hbm, 5475, rfl⟩
abbrev main_call254_c_3 : Ref sig .tc := ⟨.hbm, 5476, rfl⟩
abbrev main_call254_v9 : Ref sig .tc := ⟨.hbm, 5477, rfl⟩
abbrev main_call254_v10 : Ref sig .tc := ⟨.hbm, 5478, rfl⟩
abbrev main_call254_v11 : Ref sig .tc := ⟨.hbm, 5479, rfl⟩
abbrev main_call254_v12 : Ref sig .tc := ⟨.hbm, 5480, rfl⟩
abbrev main_call254_v13 : Ref sig .tc := ⟨.hbm, 5481, rfl⟩
abbrev main_call254_v14 : Ref sig .tc := ⟨.hbm, 5482, rfl⟩
abbrev main_v2493 : Ref sig .tc := ⟨.hbm, 5483, rfl⟩
abbrev main_c_443 : Ref sig .tc := ⟨.hbm, 5484, rfl⟩
abbrev main_call255_v0 : Ref sig .tc := ⟨.hbm, 5485, rfl⟩
abbrev main_call255_c : Ref sig .tc := ⟨.hbm, 5486, rfl⟩
abbrev main_call255_v1 : Ref sig .tc := ⟨.hbm, 5487, rfl⟩
abbrev main_call255_c_0 : Ref sig .tc := ⟨.hbm, 5488, rfl⟩
abbrev main_call255_v2 : Ref sig .tc := ⟨.hbm, 5489, rfl⟩
abbrev main_call255_v3 : Ref sig .tc := ⟨.hbm, 5490, rfl⟩
abbrev main_call255_v4 : Ref sig .tc := ⟨.hbm, 5491, rfl⟩
abbrev main_call255_c_1 : Ref sig .tc := ⟨.hbm, 5492, rfl⟩
abbrev main_call255_v5 : Ref sig .tc := ⟨.hbm, 5493, rfl⟩
abbrev main_call255_v6 : Ref sig .tc := ⟨.hbm, 5494, rfl⟩
abbrev main_call255_c_2 : Ref sig .tc := ⟨.hbm, 5495, rfl⟩
abbrev main_call255_v7 : Ref sig .tc := ⟨.hbm, 5496, rfl⟩
abbrev main_call255_v8 : Ref sig .tc := ⟨.hbm, 5497, rfl⟩
abbrev main_call255_c_3 : Ref sig .tc := ⟨.hbm, 5498, rfl⟩
abbrev main_call255_v9 : Ref sig .tc := ⟨.hbm, 5499, rfl⟩
abbrev main_call255_v10 : Ref sig .tc := ⟨.hbm, 5500, rfl⟩
abbrev main_call255_v11 : Ref sig .tc := ⟨.hbm, 5501, rfl⟩
abbrev main_call255_v12 : Ref sig .tc := ⟨.hbm, 5502, rfl⟩
abbrev main_call255_v13 : Ref sig .tc := ⟨.hbm, 5503, rfl⟩
abbrev main_call255_v14 : Ref sig .tc := ⟨.hbm, 5504, rfl⟩
abbrev main_v2494 : Ref sig .tc := ⟨.hbm, 5505, rfl⟩
abbrev main_v2495 : Ref sig .tc := ⟨.hbm, 5506, rfl⟩
abbrev main_v2496 : Ref sig .tc := ⟨.hbm, 5507, rfl⟩
abbrev main_v2497 : Ref sig .tc := ⟨.hbm, 5508, rfl⟩
abbrev main_v2498 : Ref sig .tc := ⟨.hbm, 5509, rfl⟩
abbrev main_v2499 : Ref sig .tc := ⟨.hbm, 5510, rfl⟩
abbrev main_v2500 : Ref sig .tc := ⟨.hbm, 5511, rfl⟩
abbrev main_v2501 : Ref sig .tc := ⟨.hbm, 5512, rfl⟩
abbrev main_v2502 : Ref sig .tc := ⟨.hbm, 5513, rfl⟩
abbrev main_v2503 : Ref sig .tc := ⟨.hbm, 5514, rfl⟩
abbrev main_v2504 : Ref sig .tc := ⟨.hbm, 5515, rfl⟩
abbrev main_v2505 : Ref sig .tc := ⟨.hbm, 5516, rfl⟩
abbrev main_v2506 : Ref sig .tc := ⟨.hbm, 5517, rfl⟩
abbrev main_v2507 : Ref sig .tc := ⟨.hbm, 5518, rfl⟩
abbrev main_v2508 : Ref sig .tc := ⟨.hbm, 5519, rfl⟩
abbrev main_v2509 : Ref sig .tc := ⟨.hbm, 5520, rfl⟩
abbrev main_c_444 : Ref sig .tc := ⟨.hbm, 5521, rfl⟩
abbrev main_v2510 : Ref sig .tc := ⟨.hbm, 5522, rfl⟩
abbrev main_v2511 : Ref sig .tc := ⟨.hbm, 5523, rfl⟩
abbrev main_c_445 : Ref sig .tc := ⟨.hbm, 5524, rfl⟩
abbrev main_v2512 : Ref sig .tc := ⟨.hbm, 5525, rfl⟩
abbrev main_v2513 : Ref sig .tc := ⟨.hbm, 5526, rfl⟩
abbrev main_v2514 : Ref sig .tc := ⟨.hbm, 5527, rfl⟩
abbrev main_c_446 : Ref sig .tc := ⟨.hbm, 5528, rfl⟩
abbrev main_v2515 : Ref sig .tc := ⟨.hbm, 5529, rfl⟩
abbrev main_v2516 : Ref sig .tc := ⟨.hbm, 5530, rfl⟩
abbrev main_v2517 : Ref sig .tc := ⟨.hbm, 5531, rfl⟩
abbrev main_c_447 : Ref sig .tc := ⟨.hbm, 5532, rfl⟩
abbrev main_v2518 : Ref sig .tc := ⟨.hbm, 5533, rfl⟩
abbrev main_v2519 : Ref sig .tc := ⟨.hbm, 5534, rfl⟩
abbrev main_v2520 : Ref sig .tc := ⟨.hbm, 5535, rfl⟩
abbrev main_c_448 : Ref sig .tc := ⟨.hbm, 5536, rfl⟩
abbrev main_v2521 : Ref sig .tc := ⟨.hbm, 5537, rfl⟩
abbrev main_v2522 : Ref sig .tc := ⟨.hbm, 5538, rfl⟩
abbrev main_v2523 : Ref sig .tc := ⟨.hbm, 5539, rfl⟩
abbrev main_c_449 : Ref sig .tc := ⟨.hbm, 5540, rfl⟩
abbrev main_v2524 : Ref sig .tc := ⟨.hbm, 5541, rfl⟩
abbrev main_v2525 : Ref sig .tc := ⟨.hbm, 5542, rfl⟩
abbrev main_v2526 : Ref sig .tc := ⟨.hbm, 5543, rfl⟩
abbrev main_c_450 : Ref sig .tc := ⟨.hbm, 5544, rfl⟩
abbrev main_c_451 : Ref sig .tc := ⟨.hbm, 5545, rfl⟩
abbrev main_call256_v0 : Ref sig .tc := ⟨.hbm, 5546, rfl⟩
abbrev main_call256_v1 : Ref sig .tc := ⟨.hbm, 5547, rfl⟩
abbrev main_call256_v2 : Ref sig .tc := ⟨.hbm, 5548, rfl⟩
abbrev main_call256_v3 : Ref sig .tc := ⟨.hbm, 5549, rfl⟩
abbrev main_call256_v4 : Ref sig .tc := ⟨.hbm, 5550, rfl⟩
abbrev main_v2527 : Ref sig .tc := ⟨.hbm, 5551, rfl⟩
abbrev main_c_452 : Ref sig .tc := ⟨.hbm, 5552, rfl⟩
abbrev main_v2528 : Ref sig .tc := ⟨.hbm, 5553, rfl⟩
abbrev main_v2529 : Ref sig .tc := ⟨.hbm, 5554, rfl⟩
abbrev main_c_453 : Ref sig .tc := ⟨.hbm, 5555, rfl⟩
abbrev main_c_454 : Ref sig .tc := ⟨.hbm, 5556, rfl⟩
abbrev main_call257_v0 : Ref sig .tc := ⟨.hbm, 5557, rfl⟩
abbrev main_call257_v1 : Ref sig .tc := ⟨.hbm, 5558, rfl⟩
abbrev main_call257_v2 : Ref sig .tc := ⟨.hbm, 5559, rfl⟩
abbrev main_call257_v3 : Ref sig .tc := ⟨.hbm, 5560, rfl⟩
abbrev main_call257_v4 : Ref sig .tc := ⟨.hbm, 5561, rfl⟩
abbrev main_v2530 : Ref sig .tc := ⟨.hbm, 5562, rfl⟩
abbrev main_v2531 : Ref sig .tc := ⟨.hbm, 5563, rfl⟩
abbrev main_c_455 : Ref sig .tc := ⟨.hbm, 5564, rfl⟩
abbrev main_v2532 : Ref sig .tc := ⟨.hbm, 5565, rfl⟩
abbrev main_v2533 : Ref sig .tc := ⟨.hbm, 5566, rfl⟩
abbrev main_c_456 : Ref sig .tc := ⟨.hbm, 5567, rfl⟩
abbrev main_c_457 : Ref sig .tc := ⟨.hbm, 5568, rfl⟩
abbrev main_call258_v0 : Ref sig .tc := ⟨.hbm, 5569, rfl⟩
abbrev main_call258_v1 : Ref sig .tc := ⟨.hbm, 5570, rfl⟩
abbrev main_call258_v2 : Ref sig .tc := ⟨.hbm, 5571, rfl⟩
abbrev main_call258_v3 : Ref sig .tc := ⟨.hbm, 5572, rfl⟩
abbrev main_call258_v4 : Ref sig .tc := ⟨.hbm, 5573, rfl⟩
abbrev main_v2534 : Ref sig .tc := ⟨.hbm, 5574, rfl⟩
abbrev main_v2535 : Ref sig .tc := ⟨.hbm, 5575, rfl⟩
abbrev main_v2536 : Ref sig .tc := ⟨.hbm, 5576, rfl⟩
abbrev main_call259_c : Ref sig .tc := ⟨.hbm, 5577, rfl⟩
abbrev main_call259_v0 : Ref sig .tc := ⟨.hbm, 5578, rfl⟩
abbrev main_call259_v1 : Ref sig .tc := ⟨.hbm, 5579, rfl⟩
abbrev main_call259_c_0 : Ref sig .tc := ⟨.hbm, 5580, rfl⟩
abbrev main_call259_v2 : Ref sig .tc := ⟨.hbm, 5581, rfl⟩
abbrev main_call259_v3 : Ref sig .tc := ⟨.hbm, 5582, rfl⟩
abbrev main_call259_v4 : Ref sig .tc := ⟨.hbm, 5583, rfl⟩
abbrev main_call259_v5 : Ref sig .tc := ⟨.hbm, 5584, rfl⟩
abbrev main_call259_c_1 : Ref sig .tc := ⟨.hbm, 5585, rfl⟩
abbrev main_call259_c_2 : Ref sig .tc := ⟨.hbm, 5586, rfl⟩
abbrev main_call259_v6 : Ref sig .tc := ⟨.hbm, 5587, rfl⟩
abbrev main_call259_v7 : Ref sig .tc := ⟨.hbm, 5588, rfl⟩
abbrev main_call259_v8 : Ref sig .tc := ⟨.hbm, 5589, rfl⟩
abbrev main_call259_v9 : Ref sig .tc := ⟨.hbm, 5590, rfl⟩
abbrev main_call259_v10 : Ref sig .tc := ⟨.hbm, 5591, rfl⟩
abbrev main_call259_v11 : Ref sig .tc := ⟨.hbm, 5592, rfl⟩
abbrev main_call259_c_3 : Ref sig .tc := ⟨.hbm, 5593, rfl⟩
abbrev main_call259_v12 : Ref sig .tc := ⟨.hbm, 5594, rfl⟩
abbrev main_call259_v13 : Ref sig .tc := ⟨.hbm, 5595, rfl⟩
abbrev main_call259_v14 : Ref sig .tc := ⟨.hbm, 5596, rfl⟩
abbrev main_call259_c_4 : Ref sig .tc := ⟨.hbm, 5597, rfl⟩
abbrev main_call259_v15 : Ref sig .tc := ⟨.hbm, 5598, rfl⟩
abbrev main_v2537 : Ref sig .tc := ⟨.hbm, 5599, rfl⟩
abbrev main_v2538 : Ref sig .tc := ⟨.hbm, 5600, rfl⟩
abbrev main_v2539 : Ref sig .tc := ⟨.hbm, 5601, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x3x256x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x256x320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S1x3x8x256x320 : Shape := ⟨5, ![1, 3, 8, 256, 320]⟩
abbrev S1x1x8x256x320 : Shape := ⟨5, ![1, 1, 8, 256, 320]⟩
abbrev S1x6x1x1x1 : Shape := ⟨5, ![1, 6, 1, 1, 1]⟩
abbrev S27 : Shape := ⟨1, ![27]⟩
abbrev S8 : Shape := ⟨1, ![8]⟩
abbrev S1x1x8x1x1 : Shape := ⟨5, ![1, 1, 8, 1, 1]⟩
abbrev S256 : Shape := ⟨1, ![256]⟩
abbrev S1x1x1x256x1 : Shape := ⟨5, ![1, 1, 1, 256, 1]⟩
abbrev S320 : Shape := ⟨1, ![320]⟩
abbrev S1x1x1x1x320 : Shape := ⟨5, ![1, 1, 1, 1, 320]⟩
abbrev S1x6x8x256x320 : Shape := ⟨5, ![1, 6, 8, 256, 320]⟩
abbrev S1x6x655360 : Shape := ⟨3, ![1, 6, 655360]⟩
abbrev S1x655360x6 : Shape := ⟨3, ![1, 655360, 6]⟩
abbrev S655360x6 : Shape := ⟨2, ![655360, 6]⟩
abbrev S655360 : Shape := ⟨1, ![655360]⟩
abbrev S_ : Shape := ⟨0, ![]⟩
abbrev S520x6 : Shape := ⟨2, ![520, 6]⟩
abbrev S655360x1 : Shape := ⟨2, ![655360, 1]⟩
abbrev S520 : Shape := ⟨1, ![520]⟩
abbrev S520x1 : Shape := ⟨2, ![520, 1]⟩
abbrev S1x520x6 : Shape := ⟨3, ![1, 520, 6]⟩
abbrev S1x6x520 : Shape := ⟨3, ![1, 6, 520]⟩
abbrev S1x520 : Shape := ⟨2, ![1, 520]⟩
abbrev S1x655360 : Shape := ⟨2, ![1, 655360]⟩
abbrev S1x1x655360 : Shape := ⟨3, ![1, 1, 655360]⟩
abbrev S1x27x1 : Shape := ⟨3, ![1, 27, 1]⟩
abbrev S1x27x655360 : Shape := ⟨3, ![1, 27, 655360]⟩
abbrev S1x655360x1 : Shape := ⟨3, ![1, 655360, 1]⟩
abbrev S1 : Shape := ⟨1, ![1]⟩
abbrev S1x1 : Shape := ⟨2, ![1, 1]⟩
abbrev S1x16x655360 : Shape := ⟨3, ![1, 16, 655360]⟩
abbrev S1x11x655360 : Shape := ⟨3, ![1, 11, 655360]⟩
abbrev S1x27x8x256x320 : Shape := ⟨5, ![1, 27, 8, 256, 320]⟩
abbrev S1x8x256x320 : Shape := ⟨4, ![1, 8, 256, 320]⟩
abbrev S1x1x1 : Shape := ⟨3, ![1, 1, 1]⟩

abbrev nBuf : Space → Nat
  | .hbm => 5602
  | .vmem => 0
  | .smem => 0
  | _ => 0

abbrev hbmTy0_0 (i : Nat) : BufTy := match i % 128 with
  | 0 => ⟨S1x3x8x256x320, .f32⟩
  | 1 => ⟨S1x1x8x256x320, .i32⟩
  | 2 => ⟨S1x6x1x1x1, .f32⟩
  | 3 => ⟨S27, .i32⟩
  | 4 => ⟨S27, .i32⟩
  | 5 => ⟨S27, .i32⟩
  | 6 => ⟨S8, .f32⟩
  | 7 => ⟨S1x1x8x1x1, .f32⟩
  | 8 => ⟨S1x1x8x256x320, .f32⟩
  | 9 => ⟨S256, .f32⟩
  | 10 => ⟨S1x1x1x256x1, .f32⟩
  | 11 => ⟨S1x1x8x256x320, .f32⟩
  | 12 => ⟨S320, .f32⟩
  | 13 => ⟨S1x1x1x1x320, .f32⟩
  | 14 => ⟨S1x1x8x256x320, .f32⟩
  | 15 => ⟨S1x6x8x256x320, .f32⟩
  | 16 => ⟨S1x6x8x256x320, .f32⟩
  | 17 => ⟨S1x6x8x256x320, .f32⟩
  | 18 => ⟨S1x6x655360, .f32⟩
  | 19 => ⟨S1x655360x6, .f32⟩
  | 20 => ⟨S655360x6, .f32⟩
  | 21 => ⟨S655360, .i32⟩
  | 22 => ⟨S_, .f32⟩
  | 23 => ⟨S520x6, .f32⟩
  | 24 => ⟨S655360x1, .i32⟩
  | 25 => ⟨S520x6, .f32⟩
  | 26 => ⟨S_, .f32⟩
  | 27 => ⟨S655360, .f32⟩
  | 28 => ⟨S_, .f32⟩
  | 29 => ⟨S520, .f32⟩
  | 30 => ⟨S655360x1, .i32⟩
  | 31 => ⟨S520, .f32⟩
  | 32 => ⟨S_, .f32⟩
  | 33 => ⟨S520, .f32⟩
  | 34 => ⟨S520, .f32⟩
  | 35 => ⟨S520x1, .f32⟩
  | 36 => ⟨S520x6, .f32⟩
  | 37 => ⟨S520x6, .f32⟩
  | 38 => ⟨S1x520x6, .f32⟩
  | 39 => ⟨S1x6x520, .f32⟩
  | 40 => ⟨S1x520, .f32⟩
  | 41 => ⟨S1x6x655360, .f32⟩
  | 42 => ⟨S1x655360x6, .f32⟩
  | 43 => ⟨S1x520x6, .f32⟩
  | 44 => ⟨S1x655360, .i32⟩
  | 45 => ⟨S_, .i32⟩
  | 46 => ⟨S_, .i32⟩
  | 47 => ⟨S1x655360, .i32⟩
  | 48 => ⟨S1x655360, .i32⟩
  | 49 => ⟨S1x655360, .i32⟩
  | 50 => ⟨S_, .i32⟩
  | 51 => ⟨S1x655360, .i32⟩
  | 52 => ⟨S1x655360, .i1⟩
  | 53 => ⟨S1x655360, .i32⟩
  | 54 => ⟨S1x655360, .i32⟩
  | 55 => ⟨S_, .i32⟩
  | 56 => ⟨S1x655360, .i32⟩
  | 57 => ⟨S1x655360, .i1⟩
  | 58 => ⟨S1x655360, .i1⟩
  | 59 => ⟨S_, .i32⟩
  | 60 => ⟨S1x655360, .i32⟩
  | 61 => ⟨S1x655360, .i32⟩
  | 62 => ⟨S1x655360, .i32⟩
  | 63 => ⟨S_, .i32⟩
  | 64 => ⟨S_, .i32⟩
  | 65 => ⟨S1x655360, .i32⟩
  | 66 => ⟨S1x655360, .i32⟩
  | 67 => ⟨S1x655360, .i32⟩
  | 68 => ⟨S_, .i32⟩
  | 69 => ⟨S1x655360, .i32⟩
  | 70 => ⟨S1x655360, .i1⟩
  | 71 => ⟨S1x655360, .i32⟩
  | 72 => ⟨S1x655360, .i32⟩
  | 73 => ⟨S_, .i32⟩
  | 74 => ⟨S1x655360, .i32⟩
  | 75 => ⟨S1x655360, .i1⟩
  | 76 => ⟨S1x655360, .i1⟩
  | 77 => ⟨S_, .i32⟩
  | 78 => ⟨S1x655360, .i32⟩
  | 79 => ⟨S1x655360, .i32⟩
  | 80 => ⟨S1x655360, .i32⟩
  | 81 => ⟨S_, .i32⟩
  | 82 => ⟨S_, .i32⟩
  | 83 => ⟨S_, .i32⟩
  | 84 => ⟨S_, .i1⟩
  | 85 => ⟨S_, .i32⟩
  | 86 => ⟨S_, .i32⟩
  | 87 => ⟨S1x655360, .i32⟩
  | 88 => ⟨S1x655360, .i32⟩
  | 89 => ⟨S_, .i32⟩
  | 90 => ⟨S1x655360, .i32⟩
  | 91 => ⟨S1x655360, .i1⟩
  | 92 => ⟨S_, .i32⟩
  | 93 => ⟨S1x655360, .i32⟩
  | 94 => ⟨S1x655360, .i1⟩
  | 95 => ⟨S_, .i32⟩
  | 96 => ⟨S_, .i1⟩
  | 97 => ⟨S1x655360, .i1⟩
  | 98 => ⟨S1x655360, .i1⟩
  | 99 => ⟨S1x655360, .i1⟩
  | 100 => ⟨S1x655360, .i32⟩
  | 101 => ⟨S1x655360, .i32⟩
  | 102 => ⟨S1x655360, .i32⟩
  | 103 => ⟨S_, .i32⟩
  | 104 => ⟨S_, .i32⟩
  | 105 => ⟨S_, .i32⟩
  | 106 => ⟨S_, .i1⟩
  | 107 => ⟨S_, .i32⟩
  | 108 => ⟨S_, .i32⟩
  | 109 => ⟨S1x655360, .i32⟩
  | 110 => ⟨S1x655360, .i32⟩
  | 111 => ⟨S_, .i32⟩
  | 112 => ⟨S1x655360, .i32⟩
  | 113 => ⟨S1x655360, .i1⟩
  | 114 => ⟨S_, .i32⟩
  | 115 => ⟨S1x655360, .i32⟩
  | 116 => ⟨S1x655360, .i1⟩
  | 117 => ⟨S_, .i32⟩
  | 118 => ⟨S_, .i1⟩
  | 119 => ⟨S1x655360, .i1⟩
  | 120 => ⟨S1x655360, .i1⟩
  | 121 => ⟨S1x655360, .i1⟩
  | 122 => ⟨S1x655360, .i32⟩
  | 123 => ⟨S1x655360, .i32⟩
  | 124 => ⟨S1x655360, .i32⟩
  | 125 => ⟨S1x1x655360, .i32⟩
  | 126 => ⟨S1x27x1, .i32⟩
  | 127 => ⟨S1x27x655360, .i32⟩
  | _ => ⟨S1x3x8x256x320, .f32⟩

abbrev hbmTy0_1 (i : Nat) : BufTy := match i % 128 with
  | 0 => ⟨S1x27x655360, .i32⟩
  | 1 => ⟨S1x27x655360, .i32⟩
  | 2 => ⟨S1x1x655360, .i32⟩
  | 3 => ⟨S1x27x1, .i32⟩
  | 4 => ⟨S1x27x655360, .i32⟩
  | 5 => ⟨S1x27x655360, .i32⟩
  | 6 => ⟨S1x27x655360, .i32⟩
  | 7 => ⟨S1x1x655360, .i32⟩
  | 8 => ⟨S1x27x1, .i32⟩
  | 9 => ⟨S1x27x655360, .i32⟩
  | 10 => ⟨S1x27x655360, .i32⟩
  | 11 => ⟨S1x27x655360, .i32⟩
  | 12 => ⟨S_, .i32⟩
  | 13 => ⟨S1x27x655360, .i32⟩
  | 14 => ⟨S1x27x655360, .i1⟩
  | 15 => ⟨S_, .i32⟩
  | 16 => ⟨S1x27x655360, .i32⟩
  | 17 => ⟨S1x27x655360, .i1⟩
  | 18 => ⟨S1x27x655360, .i1⟩
  | 19 => ⟨S_, .i32⟩
  | 20 => ⟨S1x27x655360, .i32⟩
  | 21 => ⟨S1x27x655360, .i1⟩
  | 22 => ⟨S1x27x655360, .i1⟩
  | 23 => ⟨S_, .i32⟩
  | 24 => ⟨S1x27x655360, .i32⟩
  | 25 => ⟨S1x27x655360, .i1⟩
  | 26 => ⟨S1x27x655360, .i1⟩
  | 27 => ⟨S_, .i32⟩
  | 28 => ⟨S1x27x655360, .i32⟩
  | 29 => ⟨S1x27x655360, .i1⟩
  | 30 => ⟨S1x27x655360, .i1⟩
  | 31 => ⟨S_, .i32⟩
  | 32 => ⟨S1x27x655360, .i32⟩
  | 33 => ⟨S1x27x655360, .i1⟩
  | 34 => ⟨S1x27x655360, .i1⟩
  | 35 => ⟨S_, .i32⟩
  | 36 => ⟨S_, .i32⟩
  | 37 => ⟨S_, .i32⟩
  | 38 => ⟨S1x27x655360, .i32⟩
  | 39 => ⟨S1x27x655360, .i32⟩
  | 40 => ⟨S_, .i32⟩
  | 41 => ⟨S1x27x655360, .i32⟩
  | 42 => ⟨S1x27x655360, .i32⟩
  | 43 => ⟨S_, .i32⟩
  | 44 => ⟨S1x27x655360, .i32⟩
  | 45 => ⟨S1x27x655360, .i32⟩
  | 46 => ⟨S_, .i32⟩
  | 47 => ⟨S_, .i32⟩
  | 48 => ⟨S_, .i32⟩
  | 49 => ⟨S1x27x655360, .i32⟩
  | 50 => ⟨S1x27x655360, .i32⟩
  | 51 => ⟨S_, .i32⟩
  | 52 => ⟨S1x27x655360, .i32⟩
  | 53 => ⟨S1x27x655360, .i32⟩
  | 54 => ⟨S1x27x655360, .i32⟩
  | 55 => ⟨S_, .i32⟩
  | 56 => ⟨S1x27x655360, .i32⟩
  | 57 => ⟨S1x27x655360, .i32⟩
  | 58 => ⟨S_, .i32⟩
  | 59 => ⟨S_, .i32⟩
  | 60 => ⟨S_, .i32⟩
  | 61 => ⟨S1x27x655360, .i32⟩
  | 62 => ⟨S1x27x655360, .i32⟩
  | 63 => ⟨S_, .i32⟩
  | 64 => ⟨S1x27x655360, .i32⟩
  | 65 => ⟨S1x27x655360, .i32⟩
  | 66 => ⟨S1x27x655360, .i32⟩
  | 67 => ⟨S1x1x655360, .i32⟩
  | 68 => ⟨S1x655360, .i32⟩
  | 69 => ⟨S1x655360x1, .i32⟩
  | 70 => ⟨S_, .i32⟩
  | 71 => ⟨S1x655360x1, .i32⟩
  | 72 => ⟨S1x655360x1, .i1⟩
  | 73 => ⟨S_, .i32⟩
  | 74 => ⟨S1x655360x1, .i32⟩
  | 75 => ⟨S1x655360x1, .i32⟩
  | 76 => ⟨S1x655360x1, .i32⟩
  | 77 => ⟨S655360x1, .i32⟩
  | 78 => ⟨S1, .i32⟩
  | 79 => ⟨S_, .i32⟩
  | 80 => ⟨S655360x1, .i32⟩
  | 81 => ⟨S655360x1, .i1⟩
  | 82 => ⟨S1x1, .i32⟩
  | 83 => ⟨S655360x1, .i32⟩
  | 84 => ⟨S655360x1, .i1⟩
  | 85 => ⟨S655360x1, .i1⟩
  | 86 => ⟨S_, .i1⟩
  | 87 => ⟨S655360, .i1⟩
  | 88 => ⟨S1x655360x6, .f32⟩
  | 89 => ⟨S1x655360x6, .i1⟩
  | 90 => ⟨S_, .f32⟩
  | 91 => ⟨S1x655360x6, .f32⟩
  | 92 => ⟨S1x655360x6, .f32⟩
  | 93 => ⟨S1x655360x6, .f32⟩
  | 94 => ⟨S1x655360x6, .f32⟩
  | 95 => ⟨S_, .f32⟩
  | 96 => ⟨S1x655360, .f32⟩
  | 97 => ⟨S1x1x655360, .i1⟩
  | 98 => ⟨S1x655360, .i1⟩
  | 99 => ⟨S_, .f32⟩
  | 100 => ⟨S_, .f32⟩
  | 101 => ⟨S1x655360, .f32⟩
  | 102 => ⟨S1x655360, .f32⟩
  | 103 => ⟨S1x1x655360, .i32⟩
  | 104 => ⟨S1x655360, .i32⟩
  | 105 => ⟨S1x655360x1, .i32⟩
  | 106 => ⟨S_, .i32⟩
  | 107 => ⟨S1x655360x1, .i32⟩
  | 108 => ⟨S1x655360x1, .i1⟩
  | 109 => ⟨S_, .i32⟩
  | 110 => ⟨S1x655360x1, .i32⟩
  | 111 => ⟨S1x655360x1, .i32⟩
  | 112 => ⟨S1x655360x1, .i32⟩
  | 113 => ⟨S655360x1, .i32⟩
  | 114 => ⟨S1, .i32⟩
  | 115 => ⟨S_, .i32⟩
  | 116 => ⟨S655360x1, .i32⟩
  | 117 => ⟨S655360x1, .i1⟩
  | 118 => ⟨S1x1, .i32⟩
  | 119 => ⟨S655360x1, .i32⟩
  | 120 => ⟨S655360x1, .i1⟩
  | 121 => ⟨S655360x1, .i1⟩
  | 122 => ⟨S_, .i1⟩
  | 123 => ⟨S655360, .i1⟩
  | 124 => ⟨S1x655360x6, .f32⟩
  | 125 => ⟨S1x655360x6, .i1⟩
  | 126 => ⟨S_, .f32⟩
  | 127 => ⟨S1x655360x6, .f32⟩
  | _ => ⟨S1x3x8x256x320, .f32⟩

abbrev hbmTy0_2 (i : Nat) : BufTy := match i % 128 with
  | 0 => ⟨S1x655360x6, .f32⟩
  | 1 => ⟨S1x655360x6, .f32⟩
  | 2 => ⟨S1x655360x6, .f32⟩
  | 3 => ⟨S_, .f32⟩
  | 4 => ⟨S1x655360, .f32⟩
  | 5 => ⟨S1x1x655360, .i1⟩
  | 6 => ⟨S1x655360, .i1⟩
  | 7 => ⟨S_, .f32⟩
  | 8 => ⟨S_, .f32⟩
  | 9 => ⟨S1x655360, .f32⟩
  | 10 => ⟨S1x655360, .f32⟩
  | 11 => ⟨S1x1x655360, .i32⟩
  | 12 => ⟨S1x655360, .i32⟩
  | 13 => ⟨S1x655360x1, .i32⟩
  | 14 => ⟨S_, .i32⟩
  | 15 => ⟨S1x655360x1, .i32⟩
  | 16 => ⟨S1x655360x1, .i1⟩
  | 17 => ⟨S_, .i32⟩
  | 18 => ⟨S1x655360x1, .i32⟩
  | 19 => ⟨S1x655360x1, .i32⟩
  | 20 => ⟨S1x655360x1, .i32⟩
  | 21 => ⟨S655360x1, .i32⟩
  | 22 => ⟨S1, .i32⟩
  | 23 => ⟨S_, .i32⟩
  | 24 => ⟨S655360x1, .i32⟩
  | 25 => ⟨S655360x1, .i1⟩
  | 26 => ⟨S1x1, .i32⟩
  | 27 => ⟨S655360x1, .i32⟩
  | 28 => ⟨S655360x1, .i1⟩
  | 29 => ⟨S655360x1, .i1⟩
  | 30 => ⟨S_, .i1⟩
  | 31 => ⟨S655360, .i1⟩
  | 32 => ⟨S1x655360x6, .f32⟩
  | 33 => ⟨S1x655360x6, .i1⟩
  | 34 => ⟨S_, .f32⟩
  | 35 => ⟨S1x655360x6, .f32⟩
  | 36 => ⟨S1x655360x6, .f32⟩
  | 37 => ⟨S1x655360x6, .f32⟩
  | 38 => ⟨S1x655360x6, .f32⟩
  | 39 => ⟨S_, .f32⟩
  | 40 => ⟨S1x655360, .f32⟩
  | 41 => ⟨S1x1x655360, .i1⟩
  | 42 => ⟨S1x655360, .i1⟩
  | 43 => ⟨S_, .f32⟩
  | 44 => ⟨S_, .f32⟩
  | 45 => ⟨S1x655360, .f32⟩
  | 46 => ⟨S1x655360, .f32⟩
  | 47 => ⟨S1x1x655360, .i32⟩
  | 48 => ⟨S1x655360, .i32⟩
  | 49 => ⟨S1x655360x1, .i32⟩
  | 50 => ⟨S_, .i32⟩
  | 51 => ⟨S1x655360x1, .i32⟩
  | 52 => ⟨S1x655360x1, .i1⟩
  | 53 => ⟨S_, .i32⟩
  | 54 => ⟨S1x655360x1, .i32⟩
  | 55 => ⟨S1x655360x1, .i32⟩
  | 56 => ⟨S1x655360x1, .i32⟩
  | 57 => ⟨S655360x1, .i32⟩
  | 58 => ⟨S1, .i32⟩
  | 59 => ⟨S_, .i32⟩
  | 60 => ⟨S655360x1, .i32⟩
  | 61 => ⟨S655360x1, .i1⟩
  | 62 => ⟨S1x1, .i32⟩
  | 63 => ⟨S655360x1, .i32⟩
  | 64 => ⟨S655360x1, .i1⟩
  | 65 => ⟨S655360x1, .i1⟩
  | 66 => ⟨S_, .i1⟩
  | 67 => ⟨S655360, .i1⟩
  | 68 => ⟨S1x655360x6, .f32⟩
  | 69 => ⟨S1x655360x6, .i1⟩
  | 70 => ⟨S_, .f32⟩
  | 71 => ⟨S1x655360x6, .f32⟩
  | 72 => ⟨S1x655360x6, .f32⟩
  | 73 => ⟨S1x655360x6, .f32⟩
  | 74 => ⟨S1x655360x6, .f32⟩
  | 75 => ⟨S_, .f32⟩
  | 76 => ⟨S1x655360, .f32⟩
  | 77 => ⟨S1x1x655360, .i1⟩
  | 78 => ⟨S1x655360, .i1⟩
  | 79 => ⟨S_, .f32⟩
  | 80 => ⟨S_, .f32⟩
  | 81 => ⟨S1x655360, .f32⟩
  | 82 => ⟨S1x655360, .f32⟩
  | 83 => ⟨S1x1x655360, .i32⟩
  | 84 => ⟨S1x655360, .i32⟩
  | 85 => ⟨S1x655360x1, .i32⟩
  | 86 => ⟨S_, .i32⟩
  | 87 => ⟨S1x655360x1, .i32⟩
  | 88 => ⟨S1x655360x1, .i1⟩
  | 89 => ⟨S_, .i32⟩
  | 90 => ⟨S1x655360x1, .i32⟩
  | 91 => ⟨S1x655360x1, .i32⟩
  | 92 => ⟨S1x655360x1, .i32⟩
  | 93 => ⟨S655360x1, .i32⟩
  | 94 => ⟨S1, .i32⟩
  | 95 => ⟨S_, .i32⟩
  | 96 => ⟨S655360x1, .i32⟩
  | 97 => ⟨S655360x1, .i1⟩
  | 98 => ⟨S1x1, .i32⟩
  | 99 => ⟨S655360x1, .i32⟩
  | 100 => ⟨S655360x1, .i1⟩
  | 101 => ⟨S655360x1, .i1⟩
  | 102 => ⟨S_, .i1⟩
  | 103 => ⟨S655360, .i1⟩
  | 104 => ⟨S1x655360x6, .f32⟩
  | 105 => ⟨S1x655360x6, .i1⟩
  | 106 => ⟨S_, .f32⟩
  | 107 => ⟨S1x655360x6, .f32⟩
  | 108 => ⟨S1x655360x6, .f32⟩
  | 109 => ⟨S1x655360x6, .f32⟩
  | 110 => ⟨S1x655360x6, .f32⟩
  | 111 => ⟨S_, .f32⟩
  | 112 => ⟨S1x655360, .f32⟩
  | 113 => ⟨S1x1x655360, .i1⟩
  | 114 => ⟨S1x655360, .i1⟩
  | 115 => ⟨S_, .f32⟩
  | 116 => ⟨S_, .f32⟩
  | 117 => ⟨S1x655360, .f32⟩
  | 118 => ⟨S1x655360, .f32⟩
  | 119 => ⟨S1x1x655360, .i32⟩
  | 120 => ⟨S1x655360, .i32⟩
  | 121 => ⟨S1x655360x1, .i32⟩
  | 122 => ⟨S_, .i32⟩
  | 123 => ⟨S1x655360x1, .i32⟩
  | 124 => ⟨S1x655360x1, .i1⟩
  | 125 => ⟨S_, .i32⟩
  | 126 => ⟨S1x655360x1, .i32⟩
  | 127 => ⟨S1x655360x1, .i32⟩
  | _ => ⟨S1x3x8x256x320, .f32⟩

abbrev hbmTy0_3 (i : Nat) : BufTy := match i % 128 with
  | 0 => ⟨S1x655360x1, .i32⟩
  | 1 => ⟨S655360x1, .i32⟩
  | 2 => ⟨S1, .i32⟩
  | 3 => ⟨S_, .i32⟩
  | 4 => ⟨S655360x1, .i32⟩
  | 5 => ⟨S655360x1, .i1⟩
  | 6 => ⟨S1x1, .i32⟩
  | 7 => ⟨S655360x1, .i32⟩
  | 8 => ⟨S655360x1, .i1⟩
  | 9 => ⟨S655360x1, .i1⟩
  | 10 => ⟨S_, .i1⟩
  | 11 => ⟨S655360, .i1⟩
  | 12 => ⟨S1x655360x6, .f32⟩
  | 13 => ⟨S1x655360x6, .i1⟩
  | 14 => ⟨S_, .f32⟩
  | 15 => ⟨S1x655360x6, .f32⟩
  | 16 => ⟨S1x655360x6, .f32⟩
  | 17 => ⟨S1x655360x6, .f32⟩
  | 18 => ⟨S1x655360x6, .f32⟩
  | 19 => ⟨S_, .f32⟩
  | 20 => ⟨S1x655360, .f32⟩
  | 21 => ⟨S1x1x655360, .i1⟩
  | 22 => ⟨S1x655360, .i1⟩
  | 23 => ⟨S_, .f32⟩
  | 24 => ⟨S_, .f32⟩
  | 25 => ⟨S1x655360, .f32⟩
  | 26 => ⟨S1x655360, .f32⟩
  | 27 => ⟨S1x1x655360, .i32⟩
  | 28 => ⟨S1x655360, .i32⟩
  | 29 => ⟨S1x655360x1, .i32⟩
  | 30 => ⟨S_, .i32⟩
  | 31 => ⟨S1x655360x1, .i32⟩
  | 32 => ⟨S1x655360x1, .i1⟩
  | 33 => ⟨S_, .i32⟩
  | 34 => ⟨S1x655360x1, .i32⟩
  | 35 => ⟨S1x655360x1, .i32⟩
  | 36 => ⟨S1x655360x1, .i32⟩
  | 37 => ⟨S655360x1, .i32⟩
  | 38 => ⟨S1, .i32⟩
  | 39 => ⟨S_, .i32⟩
  | 40 => ⟨S655360x1, .i32⟩
  | 41 => ⟨S655360x1, .i1⟩
  | 42 => ⟨S1x1, .i32⟩
  | 43 => ⟨S655360x1, .i32⟩
  | 44 => ⟨S655360x1, .i1⟩
  | 45 => ⟨S655360x1, .i1⟩
  | 46 => ⟨S_, .i1⟩
  | 47 => ⟨S655360, .i1⟩
  | 48 => ⟨S1x655360x6, .f32⟩
  | 49 => ⟨S1x655360x6, .i1⟩
  | 50 => ⟨S_, .f32⟩
  | 51 => ⟨S1x655360x6, .f32⟩
  | 52 => ⟨S1x655360x6, .f32⟩
  | 53 => ⟨S1x655360x6, .f32⟩
  | 54 => ⟨S1x655360x6, .f32⟩
  | 55 => ⟨S_, .f32⟩
  | 56 => ⟨S1x655360, .f32⟩
  | 57 => ⟨S1x1x655360, .i1⟩
  | 58 => ⟨S1x655360, .i1⟩
  | 59 => ⟨S_, .f32⟩
  | 60 => ⟨S_, .f32⟩
  | 61 => ⟨S1x655360, .f32⟩
  | 62 => ⟨S1x655360, .f32⟩
  | 63 => ⟨S1x1x655360, .i32⟩
  | 64 => ⟨S1x655360, .i32⟩
  | 65 => ⟨S1x655360x1, .i32⟩
  | 66 => ⟨S_, .i32⟩
  | 67 => ⟨S1x655360x1, .i32⟩
  | 68 => ⟨S1x655360x1, .i1⟩
  | 69 => ⟨S_, .i32⟩
  | 70 => ⟨S1x655360x1, .i32⟩
  | 71 => ⟨S1x655360x1, .i32⟩
  | 72 => ⟨S1x655360x1, .i32⟩
  | 73 => ⟨S655360x1, .i32⟩
  | 74 => ⟨S1, .i32⟩
  | 75 => ⟨S_, .i32⟩
  | 76 => ⟨S655360x1, .i32⟩
  | 77 => ⟨S655360x1, .i1⟩
  | 78 => ⟨S1x1, .i32⟩
  | 79 => ⟨S655360x1, .i32⟩
  | 80 => ⟨S655360x1, .i1⟩
  | 81 => ⟨S655360x1, .i1⟩
  | 82 => ⟨S_, .i1⟩
  | 83 => ⟨S655360, .i1⟩
  | 84 => ⟨S1x655360x6, .f32⟩
  | 85 => ⟨S1x655360x6, .i1⟩
  | 86 => ⟨S_, .f32⟩
  | 87 => ⟨S1x655360x6, .f32⟩
  | 88 => ⟨S1x655360x6, .f32⟩
  | 89 => ⟨S1x655360x6, .f32⟩
  | 90 => ⟨S1x655360x6, .f32⟩
  | 91 => ⟨S_, .f32⟩
  | 92 => ⟨S1x655360, .f32⟩
  | 93 => ⟨S1x1x655360, .i1⟩
  | 94 => ⟨S1x655360, .i1⟩
  | 95 => ⟨S_, .f32⟩
  | 96 => ⟨S_, .f32⟩
  | 97 => ⟨S1x655360, .f32⟩
  | 98 => ⟨S1x655360, .f32⟩
  | 99 => ⟨S1x1x655360, .i32⟩
  | 100 => ⟨S1x655360, .i32⟩
  | 101 => ⟨S1x655360x1, .i32⟩
  | 102 => ⟨S_, .i32⟩
  | 103 => ⟨S1x655360x1, .i32⟩
  | 104 => ⟨S1x655360x1, .i1⟩
  | 105 => ⟨S_, .i32⟩
  | 106 => ⟨S1x655360x1, .i32⟩
  | 107 => ⟨S1x655360x1, .i32⟩
  | 108 => ⟨S1x655360x1, .i32⟩
  | 109 => ⟨S655360x1, .i32⟩
  | 110 => ⟨S1, .i32⟩
  | 111 => ⟨S_, .i32⟩
  | 112 => ⟨S655360x1, .i32⟩
  | 113 => ⟨S655360x1, .i1⟩
  | 114 => ⟨S1x1, .i32⟩
  | 115 => ⟨S655360x1, .i32⟩
  | 116 => ⟨S655360x1, .i1⟩
  | 117 => ⟨S655360x1, .i1⟩
  | 118 => ⟨S_, .i1⟩
  | 119 => ⟨S655360, .i1⟩
  | 120 => ⟨S1x655360x6, .f32⟩
  | 121 => ⟨S1x655360x6, .i1⟩
  | 122 => ⟨S_, .f32⟩
  | 123 => ⟨S1x655360x6, .f32⟩
  | 124 => ⟨S1x655360x6, .f32⟩
  | 125 => ⟨S1x655360x6, .f32⟩
  | 126 => ⟨S1x655360x6, .f32⟩
  | 127 => ⟨S_, .f32⟩
  | _ => ⟨S1x3x8x256x320, .f32⟩

abbrev hbmTy0_4 (i : Nat) : BufTy := match i % 128 with
  | 0 => ⟨S1x655360, .f32⟩
  | 1 => ⟨S1x1x655360, .i1⟩
  | 2 => ⟨S1x655360, .i1⟩
  | 3 => ⟨S_, .f32⟩
  | 4 => ⟨S_, .f32⟩
  | 5 => ⟨S1x655360, .f32⟩
  | 6 => ⟨S1x655360, .f32⟩
  | 7 => ⟨S1x1x655360, .i32⟩
  | 8 => ⟨S1x655360, .i32⟩
  | 9 => ⟨S1x655360x1, .i32⟩
  | 10 => ⟨S_, .i32⟩
  | 11 => ⟨S1x655360x1, .i32⟩
  | 12 => ⟨S1x655360x1, .i1⟩
  | 13 => ⟨S_, .i32⟩
  | 14 => ⟨S1x655360x1, .i32⟩
  | 15 => ⟨S1x655360x1, .i32⟩
  | 16 => ⟨S1x655360x1, .i32⟩
  | 17 => ⟨S655360x1, .i32⟩
  | 18 => ⟨S1, .i32⟩
  | 19 => ⟨S_, .i32⟩
  | 20 => ⟨S655360x1, .i32⟩
  | 21 => ⟨S655360x1, .i1⟩
  | 22 => ⟨S1x1, .i32⟩
  | 23 => ⟨S655360x1, .i32⟩
  | 24 => ⟨S655360x1, .i1⟩
  | 25 => ⟨S655360x1, .i1⟩
  | 26 => ⟨S_, .i1⟩
  | 27 => ⟨S655360, .i1⟩
  | 28 => ⟨S1x655360x6, .f32⟩
  | 29 => ⟨S1x655360x6, .i1⟩
  | 30 => ⟨S_, .f32⟩
  | 31 => ⟨S1x655360x6, .f32⟩
  | 32 => ⟨S1x655360x6, .f32⟩
  | 33 => ⟨S1x655360x6, .f32⟩
  | 34 => ⟨S1x655360x6, .f32⟩
  | 35 => ⟨S_, .f32⟩
  | 36 => ⟨S1x655360, .f32⟩
  | 37 => ⟨S1x1x655360, .i1⟩
  | 38 => ⟨S1x655360, .i1⟩
  | 39 => ⟨S_, .f32⟩
  | 40 => ⟨S_, .f32⟩
  | 41 => ⟨S1x655360, .f32⟩
  | 42 => ⟨S1x655360, .f32⟩
  | 43 => ⟨S1x1x655360, .i32⟩
  | 44 => ⟨S1x655360, .i32⟩
  | 45 => ⟨S1x655360x1, .i32⟩
  | 46 => ⟨S_, .i32⟩
  | 47 => ⟨S1x655360x1, .i32⟩
  | 48 => ⟨S1x655360x1, .i1⟩
  | 49 => ⟨S_, .i32⟩
  | 50 => ⟨S1x655360x1, .i32⟩
  | 51 => ⟨S1x655360x1, .i32⟩
  | 52 => ⟨S1x655360x1, .i32⟩
  | 53 => ⟨S655360x1, .i32⟩
  | 54 => ⟨S1, .i32⟩
  | 55 => ⟨S_, .i32⟩
  | 56 => ⟨S655360x1, .i32⟩
  | 57 => ⟨S655360x1, .i1⟩
  | 58 => ⟨S1x1, .i32⟩
  | 59 => ⟨S655360x1, .i32⟩
  | 60 => ⟨S655360x1, .i1⟩
  | 61 => ⟨S655360x1, .i1⟩
  | 62 => ⟨S_, .i1⟩
  | 63 => ⟨S655360, .i1⟩
  | 64 => ⟨S1x655360x6, .f32⟩
  | 65 => ⟨S1x655360x6, .i1⟩
  | 66 => ⟨S_, .f32⟩
  | 67 => ⟨S1x655360x6, .f32⟩
  | 68 => ⟨S1x655360x6, .f32⟩
  | 69 => ⟨S1x655360x6, .f32⟩
  | 70 => ⟨S1x655360x6, .f32⟩
  | 71 => ⟨S_, .f32⟩
  | 72 => ⟨S1x655360, .f32⟩
  | 73 => ⟨S1x1x655360, .i1⟩
  | 74 => ⟨S1x655360, .i1⟩
  | 75 => ⟨S_, .f32⟩
  | 76 => ⟨S_, .f32⟩
  | 77 => ⟨S1x655360, .f32⟩
  | 78 => ⟨S1x655360, .f32⟩
  | 79 => ⟨S1x1x655360, .i32⟩
  | 80 => ⟨S1x655360, .i32⟩
  | 81 => ⟨S1x655360x1, .i32⟩
  | 82 => ⟨S_, .i32⟩
  | 83 => ⟨S1x655360x1, .i32⟩
  | 84 => ⟨S1x655360x1, .i1⟩
  | 85 => ⟨S_, .i32⟩
  | 86 => ⟨S1x655360x1, .i32⟩
  | 87 => ⟨S1x655360x1, .i32⟩
  | 88 => ⟨S1x655360x1, .i32⟩
  | 89 => ⟨S655360x1, .i32⟩
  | 90 => ⟨S1, .i32⟩
  | 91 => ⟨S_, .i32⟩
  | 92 => ⟨S655360x1, .i32⟩
  | 93 => ⟨S655360x1, .i1⟩
  | 94 => ⟨S1x1, .i32⟩
  | 95 => ⟨S655360x1, .i32⟩
  | 96 => ⟨S655360x1, .i1⟩
  | 97 => ⟨S655360x1, .i1⟩
  | 98 => ⟨S_, .i1⟩
  | 99 => ⟨S655360, .i1⟩
  | 100 => ⟨S1x655360x6, .f32⟩
  | 101 => ⟨S1x655360x6, .i1⟩
  | 102 => ⟨S_, .f32⟩
  | 103 => ⟨S1x655360x6, .f32⟩
  | 104 => ⟨S1x655360x6, .f32⟩
  | 105 => ⟨S1x655360x6, .f32⟩
  | 106 => ⟨S1x655360x6, .f32⟩
  | 107 => ⟨S_, .f32⟩
  | 108 => ⟨S1x655360, .f32⟩
  | 109 => ⟨S1x1x655360, .i1⟩
  | 110 => ⟨S1x655360, .i1⟩
  | 111 => ⟨S_, .f32⟩
  | 112 => ⟨S_, .f32⟩
  | 113 => ⟨S1x655360, .f32⟩
  | 114 => ⟨S1x655360, .f32⟩
  | 115 => ⟨S1x1x655360, .i32⟩
  | 116 => ⟨S1x655360, .i32⟩
  | 117 => ⟨S1x655360x1, .i32⟩
  | 118 => ⟨S_, .i32⟩
  | 119 => ⟨S1x655360x1, .i32⟩
  | 120 => ⟨S1x655360x1, .i1⟩
  | 121 => ⟨S_, .i32⟩
  | 122 => ⟨S1x655360x1, .i32⟩
  | 123 => ⟨S1x655360x1, .i32⟩
  | 124 => ⟨S1x655360x1, .i32⟩
  | 125 => ⟨S655360x1, .i32⟩
  | 126 => ⟨S1, .i32⟩
  | 127 => ⟨S_, .i32⟩
  | _ => ⟨S1x3x8x256x320, .f32⟩

abbrev hbmTy0_5 (i : Nat) : BufTy := match i % 128 with
  | 0 => ⟨S655360x1, .i32⟩
  | 1 => ⟨S655360x1, .i1⟩
  | 2 => ⟨S1x1, .i32⟩
  | 3 => ⟨S655360x1, .i32⟩
  | 4 => ⟨S655360x1, .i1⟩
  | 5 => ⟨S655360x1, .i1⟩
  | 6 => ⟨S_, .i1⟩
  | 7 => ⟨S655360, .i1⟩
  | 8 => ⟨S1x655360x6, .f32⟩
  | 9 => ⟨S1x655360x6, .i1⟩
  | 10 => ⟨S_, .f32⟩
  | 11 => ⟨S1x655360x6, .f32⟩
  | 12 => ⟨S1x655360x6, .f32⟩
  | 13 => ⟨S1x655360x6, .f32⟩
  | 14 => ⟨S1x655360x6, .f32⟩
  | 15 => ⟨S_, .f32⟩
  | 16 => ⟨S1x655360, .f32⟩
  | 17 => ⟨S1x1x655360, .i1⟩
  | 18 => ⟨S1x655360, .i1⟩
  | 19 => ⟨S_, .f32⟩
  | 20 => ⟨S_, .f32⟩
  | 21 => ⟨S1x655360, .f32⟩
  | 22 => ⟨S1x655360, .f32⟩
  | 23 => ⟨S1x1x655360, .i32⟩
  | 24 => ⟨S1x655360, .i32⟩
  | 25 => ⟨S1x655360x1, .i32⟩
  | 26 => ⟨S_, .i32⟩
  | 27 => ⟨S1x655360x1, .i32⟩
  | 28 => ⟨S1x655360x1, .i1⟩
  | 29 => ⟨S_, .i32⟩
  | 30 => ⟨S1x655360x1, .i32⟩
  | 31 => ⟨S1x655360x1, .i32⟩
  | 32 => ⟨S1x655360x1, .i32⟩
  | 33 => ⟨S655360x1, .i32⟩
  | 34 => ⟨S1, .i32⟩
  | 35 => ⟨S_, .i32⟩
  | 36 => ⟨S655360x1, .i32⟩
  | 37 => ⟨S655360x1, .i1⟩
  | 38 => ⟨S1x1, .i32⟩
  | 39 => ⟨S655360x1, .i32⟩
  | 40 => ⟨S655360x1, .i1⟩
  | 41 => ⟨S655360x1, .i1⟩
  | 42 => ⟨S_, .i1⟩
  | 43 => ⟨S655360, .i1⟩
  | 44 => ⟨S1x655360x6, .f32⟩
  | 45 => ⟨S1x655360x6, .i1⟩
  | 46 => ⟨S_, .f32⟩
  | 47 => ⟨S1x655360x6, .f32⟩
  | 48 => ⟨S1x655360x6, .f32⟩
  | 49 => ⟨S1x655360x6, .f32⟩
  | 50 => ⟨S1x655360x6, .f32⟩
  | 51 => ⟨S_, .f32⟩
  | 52 => ⟨S1x655360, .f32⟩
  | 53 => ⟨S1x1x655360, .i1⟩
  | 54 => ⟨S1x655360, .i1⟩
  | 55 => ⟨S_, .f32⟩
  | 56 => ⟨S_, .f32⟩
  | 57 => ⟨S1x655360, .f32⟩
  | 58 => ⟨S1x655360, .f32⟩
  | 59 => ⟨S1x1x655360, .i32⟩
  | 60 => ⟨S1x655360, .i32⟩
  | 61 => ⟨S1x655360x1, .i32⟩
  | 62 => ⟨S_, .i32⟩
  | 63 => ⟨S1x655360x1, .i32⟩
  | 64 => ⟨S1x655360x1, .i1⟩
  | 65 => ⟨S_, .i32⟩
  | 66 => ⟨S1x655360x1, .i32⟩
  | 67 => ⟨S1x655360x1, .i32⟩
  | 68 => ⟨S1x655360x1, .i32⟩
  | 69 => ⟨S655360x1, .i32⟩
  | 70 => ⟨S1, .i32⟩
  | 71 => ⟨S_, .i32⟩
  | 72 => ⟨S655360x1, .i32⟩
  | 73 => ⟨S655360x1, .i1⟩
  | 74 => ⟨S1x1, .i32⟩
  | 75 => ⟨S655360x1, .i32⟩
  | 76 => ⟨S655360x1, .i1⟩
  | 77 => ⟨S655360x1, .i1⟩
  | 78 => ⟨S_, .i1⟩
  | 79 => ⟨S655360, .i1⟩
  | 80 => ⟨S1x655360x6, .f32⟩
  | 81 => ⟨S1x655360x6, .i1⟩
  | 82 => ⟨S_, .f32⟩
  | 83 => ⟨S1x655360x6, .f32⟩
  | 84 => ⟨S1x655360x6, .f32⟩
  | 85 => ⟨S1x655360x6, .f32⟩
  | 86 => ⟨S1x655360x6, .f32⟩
  | 87 => ⟨S_, .f32⟩
  | 88 => ⟨S1x655360, .f32⟩
  | 89 => ⟨S1x1x655360, .i1⟩
  | 90 => ⟨S1x655360, .i1⟩
  | 91 => ⟨S_, .f32⟩
  | 92 => ⟨S_, .f32⟩
  | 93 => ⟨S1x655360, .f32⟩
  | 94 => ⟨S1x655360, .f32⟩
  | 95 => ⟨S1x1x655360, .i32⟩
  | 96 => ⟨S1x655360, .i32⟩
  | 97 => ⟨S1x655360x1, .i32⟩
  | 98 => ⟨S_, .i32⟩
  | 99 => ⟨S1x655360x1, .i32⟩
  | 100 => ⟨S1x655360x1, .i1⟩
  | 101 => ⟨S_, .i32⟩
  | 102 => ⟨S1x655360x1, .i32⟩
  | 103 => ⟨S1x655360x1, .i32⟩
  | 104 => ⟨S1x655360x1, .i32⟩
  | 105 => ⟨S655360x1, .i32⟩
  | 106 => ⟨S1, .i32⟩
  | 107 => ⟨S_, .i32⟩
  | 108 => ⟨S655360x1, .i32⟩
  | 109 => ⟨S655360x1, .i1⟩
  | 110 => ⟨S1x1, .i32⟩
  | 111 => ⟨S655360x1, .i32⟩
  | 112 => ⟨S655360x1, .i1⟩
  | 113 => ⟨S655360x1, .i1⟩
  | 114 => ⟨S_, .i1⟩
  | 115 => ⟨S655360, .i1⟩
  | 116 => ⟨S1x655360x6, .f32⟩
  | 117 => ⟨S1x655360x6, .i1⟩
  | 118 => ⟨S_, .f32⟩
  | 119 => ⟨S1x655360x6, .f32⟩
  | 120 => ⟨S1x655360x6, .f32⟩
  | 121 => ⟨S1x655360x6, .f32⟩
  | 122 => ⟨S1x655360x6, .f32⟩
  | 123 => ⟨S_, .f32⟩
  | 124 => ⟨S1x655360, .f32⟩
  | 125 => ⟨S1x1x655360, .i1⟩
  | 126 => ⟨S1x655360, .i1⟩
  | 127 => ⟨S_, .f32⟩
  | _ => ⟨S1x3x8x256x320, .f32⟩

abbrev hbmTy0_6 (i : Nat) : BufTy := match i % 128 with
  | 0 => ⟨S_, .f32⟩
  | 1 => ⟨S1x655360, .f32⟩
  | 2 => ⟨S1x655360, .f32⟩
  | 3 => ⟨S1x1x655360, .i32⟩
  | 4 => ⟨S1x655360, .i32⟩
  | 5 => ⟨S1x655360x1, .i32⟩
  | 6 => ⟨S_, .i32⟩
  | 7 => ⟨S1x655360x1, .i32⟩
  | 8 => ⟨S1x655360x1, .i1⟩
  | 9 => ⟨S_, .i32⟩
  | 10 => ⟨S1x655360x1, .i32⟩
  | 11 => ⟨S1x655360x1, .i32⟩
  | 12 => ⟨S1x655360x1, .i32⟩
  | 13 => ⟨S655360x1, .i32⟩
  | 14 => ⟨S1, .i32⟩
  | 15 => ⟨S_, .i32⟩
  | 16 => ⟨S655360x1, .i32⟩
  | 17 => ⟨S655360x1, .i1⟩
  | 18 => ⟨S1x1, .i32⟩
  | 19 => ⟨S655360x1, .i32⟩
  | 20 => ⟨S655360x1, .i1⟩
  | 21 => ⟨S655360x1, .i1⟩
  | 22 => ⟨S_, .i1⟩
  | 23 => ⟨S655360, .i1⟩
  | 24 => ⟨S1x655360x6, .f32⟩
  | 25 => ⟨S1x655360x6, .i1⟩
  | 26 => ⟨S_, .f32⟩
  | 27 => ⟨S1x655360x6, .f32⟩
  | 28 => ⟨S1x655360x6, .f32⟩
  | 29 => ⟨S1x655360x6, .f32⟩
  | 30 => ⟨S1x655360x6, .f32⟩
  | 31 => ⟨S_, .f32⟩
  | 32 => ⟨S1x655360, .f32⟩
  | 33 => ⟨S1x1x655360, .i1⟩
  | 34 => ⟨S1x655360, .i1⟩
  | 35 => ⟨S_, .f32⟩
  | 36 => ⟨S_, .f32⟩
  | 37 => ⟨S1x655360, .f32⟩
  | 38 => ⟨S1x655360, .f32⟩
  | 39 => ⟨S1x1x655360, .i32⟩
  | 40 => ⟨S1x655360, .i32⟩
  | 41 => ⟨S1x655360x1, .i32⟩
  | 42 => ⟨S_, .i32⟩
  | 43 => ⟨S1x655360x1, .i32⟩
  | 44 => ⟨S1x655360x1, .i1⟩
  | 45 => ⟨S_, .i32⟩
  | 46 => ⟨S1x655360x1, .i32⟩
  | 47 => ⟨S1x655360x1, .i32⟩
  | 48 => ⟨S1x655360x1, .i32⟩
  | 49 => ⟨S655360x1, .i32⟩
  | 50 => ⟨S1, .i32⟩
  | 51 => ⟨S_, .i32⟩
  | 52 => ⟨S655360x1, .i32⟩
  | 53 => ⟨S655360x1, .i1⟩
  | 54 => ⟨S1x1, .i32⟩
  | 55 => ⟨S655360x1, .i32⟩
  | 56 => ⟨S655360x1, .i1⟩
  | 57 => ⟨S655360x1, .i1⟩
  | 58 => ⟨S_, .i1⟩
  | 59 => ⟨S655360, .i1⟩
  | 60 => ⟨S1x655360x6, .f32⟩
  | 61 => ⟨S1x655360x6, .i1⟩
  | 62 => ⟨S_, .f32⟩
  | 63 => ⟨S1x655360x6, .f32⟩
  | 64 => ⟨S1x655360x6, .f32⟩
  | 65 => ⟨S1x655360x6, .f32⟩
  | 66 => ⟨S1x655360x6, .f32⟩
  | 67 => ⟨S_, .f32⟩
  | 68 => ⟨S1x655360, .f32⟩
  | 69 => ⟨S1x1x655360, .i1⟩
  | 70 => ⟨S1x655360, .i1⟩
  | 71 => ⟨S_, .f32⟩
  | 72 => ⟨S_, .f32⟩
  | 73 => ⟨S1x655360, .f32⟩
  | 74 => ⟨S1x655360, .f32⟩
  | 75 => ⟨S1x1x655360, .i32⟩
  | 76 => ⟨S1x655360, .i32⟩
  | 77 => ⟨S1x655360x1, .i32⟩
  | 78 => ⟨S_, .i32⟩
  | 79 => ⟨S1x655360x1, .i32⟩
  | 80 => ⟨S1x655360x1, .i1⟩
  | 81 => ⟨S_, .i32⟩
  | 82 => ⟨S1x655360x1, .i32⟩
  | 83 => ⟨S1x655360x1, .i32⟩
  | 84 => ⟨S1x655360x1, .i32⟩
  | 85 => ⟨S655360x1, .i32⟩
  | 86 => ⟨S1, .i32⟩
  | 87 => ⟨S_, .i32⟩
  | 88 => ⟨S655360x1, .i32⟩
  | 89 => ⟨S655360x1, .i1⟩
  | 90 => ⟨S1x1, .i32⟩
  | 91 => ⟨S655360x1, .i32⟩
  | 92 => ⟨S655360x1, .i1⟩
  | 93 => ⟨S655360x1, .i1⟩
  | 94 => ⟨S_, .i1⟩
  | 95 => ⟨S655360, .i1⟩
  | 96 => ⟨S1x655360x6, .f32⟩
  | 97 => ⟨S1x655360x6, .i1⟩
  | 98 => ⟨S_, .f32⟩
  | 99 => ⟨S1x655360x6, .f32⟩
  | 100 => ⟨S1x655360x6, .f32⟩
  | 101 => ⟨S1x655360x6, .f32⟩
  | 102 => ⟨S1x655360x6, .f32⟩
  | 103 => ⟨S_, .f32⟩
  | 104 => ⟨S1x655360, .f32⟩
  | 105 => ⟨S1x1x655360, .i1⟩
  | 106 => ⟨S1x655360, .i1⟩
  | 107 => ⟨S_, .f32⟩
  | 108 => ⟨S_, .f32⟩
  | 109 => ⟨S1x655360, .f32⟩
  | 110 => ⟨S1x655360, .f32⟩
  | 111 => ⟨S1x1x655360, .i32⟩
  | 112 => ⟨S1x655360, .i32⟩
  | 113 => ⟨S1x655360x1, .i32⟩
  | 114 => ⟨S_, .i32⟩
  | 115 => ⟨S1x655360x1, .i32⟩
  | 116 => ⟨S1x655360x1, .i1⟩
  | 117 => ⟨S_, .i32⟩
  | 118 => ⟨S1x655360x1, .i32⟩
  | 119 => ⟨S1x655360x1, .i32⟩
  | 120 => ⟨S1x655360x1, .i32⟩
  | 121 => ⟨S655360x1, .i32⟩
  | 122 => ⟨S1, .i32⟩
  | 123 => ⟨S_, .i32⟩
  | 124 => ⟨S655360x1, .i32⟩
  | 125 => ⟨S655360x1, .i1⟩
  | 126 => ⟨S1x1, .i32⟩
  | 127 => ⟨S655360x1, .i32⟩
  | _ => ⟨S1x3x8x256x320, .f32⟩

abbrev hbmTy0_7 (i : Nat) : BufTy := match i % 128 with
  | 0 => ⟨S655360x1, .i1⟩
  | 1 => ⟨S655360x1, .i1⟩
  | 2 => ⟨S_, .i1⟩
  | 3 => ⟨S655360, .i1⟩
  | 4 => ⟨S1x655360x6, .f32⟩
  | 5 => ⟨S1x655360x6, .i1⟩
  | 6 => ⟨S_, .f32⟩
  | 7 => ⟨S1x655360x6, .f32⟩
  | 8 => ⟨S1x655360x6, .f32⟩
  | 9 => ⟨S1x655360x6, .f32⟩
  | 10 => ⟨S1x655360x6, .f32⟩
  | 11 => ⟨S_, .f32⟩
  | 12 => ⟨S1x655360, .f32⟩
  | 13 => ⟨S1x1x655360, .i1⟩
  | 14 => ⟨S1x655360, .i1⟩
  | 15 => ⟨S_, .f32⟩
  | 16 => ⟨S_, .f32⟩
  | 17 => ⟨S1x655360, .f32⟩
  | 18 => ⟨S1x655360, .f32⟩
  | 19 => ⟨S1x1x655360, .i32⟩
  | 20 => ⟨S1x655360, .i32⟩
  | 21 => ⟨S1x655360x1, .i32⟩
  | 22 => ⟨S_, .i32⟩
  | 23 => ⟨S1x655360x1, .i32⟩
  | 24 => ⟨S1x655360x1, .i1⟩
  | 25 => ⟨S_, .i32⟩
  | 26 => ⟨S1x655360x1, .i32⟩
  | 27 => ⟨S1x655360x1, .i32⟩
  | 28 => ⟨S1x655360x1, .i32⟩
  | 29 => ⟨S655360x1, .i32⟩
  | 30 => ⟨S1, .i32⟩
  | 31 => ⟨S_, .i32⟩
  | 32 => ⟨S655360x1, .i32⟩
  | 33 => ⟨S655360x1, .i1⟩
  | 34 => ⟨S1x1, .i32⟩
  | 35 => ⟨S655360x1, .i32⟩
  | 36 => ⟨S655360x1, .i1⟩
  | 37 => ⟨S655360x1, .i1⟩
  | 38 => ⟨S_, .i1⟩
  | 39 => ⟨S655360, .i1⟩
  | 40 => ⟨S1x655360x6, .f32⟩
  | 41 => ⟨S1x655360x6, .i1⟩
  | 42 => ⟨S_, .f32⟩
  | 43 => ⟨S1x655360x6, .f32⟩
  | 44 => ⟨S1x655360x6, .f32⟩
  | 45 => ⟨S1x655360x6, .f32⟩
  | 46 => ⟨S1x655360x6, .f32⟩
  | 47 => ⟨S_, .f32⟩
  | 48 => ⟨S1x655360, .f32⟩
  | 49 => ⟨S1x1x655360, .i1⟩
  | 50 => ⟨S1x655360, .i1⟩
  | 51 => ⟨S_, .f32⟩
  | 52 => ⟨S_, .f32⟩
  | 53 => ⟨S1x655360, .f32⟩
  | 54 => ⟨S1x655360, .f32⟩
  | 55 => ⟨S1x1x655360, .i32⟩
  | 56 => ⟨S1x655360, .i32⟩
  | 57 => ⟨S1x655360x1, .i32⟩
  | 58 => ⟨S_, .i32⟩
  | 59 => ⟨S1x655360x1, .i32⟩
  | 60 => ⟨S1x655360x1, .i1⟩
  | 61 => ⟨S_, .i32⟩
  | 62 => ⟨S1x655360x1, .i32⟩
  | 63 => ⟨S1x655360x1, .i32⟩
  | 64 => ⟨S1x655360x1, .i32⟩
  | 65 => ⟨S655360x1, .i32⟩
  | 66 => ⟨S1, .i32⟩
  | 67 => ⟨S_, .i32⟩
  | 68 => ⟨S655360x1, .i32⟩
  | 69 => ⟨S655360x1, .i1⟩
  | 70 => ⟨S1x1, .i32⟩
  | 71 => ⟨S655360x1, .i32⟩
  | 72 => ⟨S655360x1, .i1⟩
  | 73 => ⟨S655360x1, .i1⟩
  | 74 => ⟨S_, .i1⟩
  | 75 => ⟨S655360, .i1⟩
  | 76 => ⟨S1x655360x6, .f32⟩
  | 77 => ⟨S1x655360x6, .i1⟩
  | 78 => ⟨S_, .f32⟩
  | 79 => ⟨S1x655360x6, .f32⟩
  | 80 => ⟨S1x655360x6, .f32⟩
  | 81 => ⟨S1x655360x6, .f32⟩
  | 82 => ⟨S1x655360x6, .f32⟩
  | 83 => ⟨S_, .f32⟩
  | 84 => ⟨S1x655360, .f32⟩
  | 85 => ⟨S1x1x655360, .i1⟩
  | 86 => ⟨S1x655360, .i1⟩
  | 87 => ⟨S_, .f32⟩
  | 88 => ⟨S_, .f32⟩
  | 89 => ⟨S1x655360, .f32⟩
  | 90 => ⟨S1x655360, .f32⟩
  | 91 => ⟨S1x1x655360, .i32⟩
  | 92 => ⟨S1x655360, .i32⟩
  | 93 => ⟨S1x655360x1, .i32⟩
  | 94 => ⟨S_, .i32⟩
  | 95 => ⟨S1x655360x1, .i32⟩
  | 96 => ⟨S1x655360x1, .i1⟩
  | 97 => ⟨S_, .i32⟩
  | 98 => ⟨S1x655360x1, .i32⟩
  | 99 => ⟨S1x655360x1, .i32⟩
  | 100 => ⟨S1x655360x1, .i32⟩
  | 101 => ⟨S655360x1, .i32⟩
  | 102 => ⟨S1, .i32⟩
  | 103 => ⟨S_, .i32⟩
  | 104 => ⟨S655360x1, .i32⟩
  | 105 => ⟨S655360x1, .i1⟩
  | 106 => ⟨S1x1, .i32⟩
  | 107 => ⟨S655360x1, .i32⟩
  | 108 => ⟨S655360x1, .i1⟩
  | 109 => ⟨S655360x1, .i1⟩
  | 110 => ⟨S_, .i1⟩
  | 111 => ⟨S655360, .i1⟩
  | 112 => ⟨S1x655360x6, .f32⟩
  | 113 => ⟨S1x655360x6, .i1⟩
  | 114 => ⟨S_, .f32⟩
  | 115 => ⟨S1x655360x6, .f32⟩
  | 116 => ⟨S1x655360x6, .f32⟩
  | 117 => ⟨S1x655360x6, .f32⟩
  | 118 => ⟨S1x655360x6, .f32⟩
  | 119 => ⟨S_, .f32⟩
  | 120 => ⟨S1x655360, .f32⟩
  | 121 => ⟨S1x1x655360, .i1⟩
  | 122 => ⟨S1x655360, .i1⟩
  | 123 => ⟨S_, .f32⟩
  | 124 => ⟨S_, .f32⟩
  | 125 => ⟨S1x655360, .f32⟩
  | 126 => ⟨S1x655360, .f32⟩
  | 127 => ⟨S1x1x655360, .i32⟩
  | _ => ⟨S1x3x8x256x320, .f32⟩

abbrev hbmTy0_8 (i : Nat) : BufTy := match i % 128 with
  | 0 => ⟨S1x655360, .i32⟩
  | 1 => ⟨S1x655360x1, .i32⟩
  | 2 => ⟨S_, .i32⟩
  | 3 => ⟨S1x655360x1, .i32⟩
  | 4 => ⟨S1x655360x1, .i1⟩
  | 5 => ⟨S_, .i32⟩
  | 6 => ⟨S1x655360x1, .i32⟩
  | 7 => ⟨S1x655360x1, .i32⟩
  | 8 => ⟨S1x655360x1, .i32⟩
  | 9 => ⟨S655360x1, .i32⟩
  | 10 => ⟨S1, .i32⟩
  | 11 => ⟨S_, .i32⟩
  | 12 => ⟨S655360x1, .i32⟩
  | 13 => ⟨S655360x1, .i1⟩
  | 14 => ⟨S1x1, .i32⟩
  | 15 => ⟨S655360x1, .i32⟩
  | 16 => ⟨S655360x1, .i1⟩
  | 17 => ⟨S655360x1, .i1⟩
  | 18 => ⟨S_, .i1⟩
  | 19 => ⟨S655360, .i1⟩
  | 20 => ⟨S1x655360x6, .f32⟩
  | 21 => ⟨S1x655360x6, .i1⟩
  | 22 => ⟨S_, .f32⟩
  | 23 => ⟨S1x655360x6, .f32⟩
  | 24 => ⟨S1x655360x6, .f32⟩
  | 25 => ⟨S1x655360x6, .f32⟩
  | 26 => ⟨S1x655360x6, .f32⟩
  | 27 => ⟨S_, .f32⟩
  | 28 => ⟨S1x655360, .f32⟩
  | 29 => ⟨S1x1x655360, .i1⟩
  | 30 => ⟨S1x655360, .i1⟩
  | 31 => ⟨S_, .f32⟩
  | 32 => ⟨S_, .f32⟩
  | 33 => ⟨S1x655360, .f32⟩
  | 34 => ⟨S1x655360, .f32⟩
  | 35 => ⟨S1x1x655360, .i32⟩
  | 36 => ⟨S1x655360, .i32⟩
  | 37 => ⟨S1x655360x1, .i32⟩
  | 38 => ⟨S_, .i32⟩
  | 39 => ⟨S1x655360x1, .i32⟩
  | 40 => ⟨S1x655360x1, .i1⟩
  | 41 => ⟨S_, .i32⟩
  | 42 => ⟨S1x655360x1, .i32⟩
  | 43 => ⟨S1x655360x1, .i32⟩
  | 44 => ⟨S1x655360x1, .i32⟩
  | 45 => ⟨S655360x1, .i32⟩
  | 46 => ⟨S1, .i32⟩
  | 47 => ⟨S_, .i32⟩
  | 48 => ⟨S655360x1, .i32⟩
  | 49 => ⟨S655360x1, .i1⟩
  | 50 => ⟨S1x1, .i32⟩
  | 51 => ⟨S655360x1, .i32⟩
  | 52 => ⟨S655360x1, .i1⟩
  | 53 => ⟨S655360x1, .i1⟩
  | 54 => ⟨S_, .i1⟩
  | 55 => ⟨S655360, .i1⟩
  | 56 => ⟨S1x655360x6, .f32⟩
  | 57 => ⟨S1x655360x6, .i1⟩
  | 58 => ⟨S_, .f32⟩
  | 59 => ⟨S1x655360x6, .f32⟩
  | 60 => ⟨S1x655360x6, .f32⟩
  | 61 => ⟨S1x655360x6, .f32⟩
  | 62 => ⟨S1x655360x6, .f32⟩
  | 63 => ⟨S_, .f32⟩
  | 64 => ⟨S1x655360, .f32⟩
  | 65 => ⟨S1x1x655360, .i1⟩
  | 66 => ⟨S1x655360, .i1⟩
  | 67 => ⟨S_, .f32⟩
  | 68 => ⟨S_, .f32⟩
  | 69 => ⟨S1x655360, .f32⟩
  | 70 => ⟨S1x655360, .f32⟩
  | 71 => ⟨S1x1x655360, .i32⟩
  | 72 => ⟨S1x655360, .i32⟩
  | 73 => ⟨S1x655360x1, .i32⟩
  | 74 => ⟨S_, .i32⟩
  | 75 => ⟨S1x655360x1, .i32⟩
  | 76 => ⟨S1x655360x1, .i1⟩
  | 77 => ⟨S_, .i32⟩
  | 78 => ⟨S1x655360x1, .i32⟩
  | 79 => ⟨S1x655360x1, .i32⟩
  | 80 => ⟨S1x655360x1, .i32⟩
  | 81 => ⟨S655360x1, .i32⟩
  | 82 => ⟨S1, .i32⟩
  | 83 => ⟨S_, .i32⟩
  | 84 => ⟨S655360x1, .i32⟩
  | 85 => ⟨S655360x1, .i1⟩
  | 86 => ⟨S1x1, .i32⟩
  | 87 => ⟨S655360x1, .i32⟩
  | 88 => ⟨S655360x1, .i1⟩
  | 89 => ⟨S655360x1, .i1⟩
  | 90 => ⟨S_, .i1⟩
  | 91 => ⟨S655360, .i1⟩
  | 92 => ⟨S1x655360x6, .f32⟩
  | 93 => ⟨S1x655360x6, .i1⟩
  | 94 => ⟨S_, .f32⟩
  | 95 => ⟨S1x655360x6, .f32⟩
  | 96 => ⟨S1x655360x6, .f32⟩
  | 97 => ⟨S1x655360x6, .f32⟩
  | 98 => ⟨S1x655360x6, .f32⟩
  | 99 => ⟨S_, .f32⟩
  | 100 => ⟨S1x655360, .f32⟩
  | 101 => ⟨S1x1x655360, .i1⟩
  | 102 => ⟨S1x655360, .i1⟩
  | 103 => ⟨S_, .f32⟩
  | 104 => ⟨S_, .f32⟩
  | 105 => ⟨S1x655360, .f32⟩
  | 106 => ⟨S1x655360, .f32⟩
  | 107 => ⟨S1x1x655360, .i32⟩
  | 108 => ⟨S1x655360, .i32⟩
  | 109 => ⟨S1x655360x1, .i32⟩
  | 110 => ⟨S_, .i32⟩
  | 111 => ⟨S1x655360x1, .i32⟩
  | 112 => ⟨S1x655360x1, .i1⟩
  | 113 => ⟨S_, .i32⟩
  | 114 => ⟨S1x655360x1, .i32⟩
  | 115 => ⟨S1x655360x1, .i32⟩
  | 116 => ⟨S1x655360x1, .i32⟩
  | 117 => ⟨S655360x1, .i32⟩
  | 118 => ⟨S1, .i32⟩
  | 119 => ⟨S_, .i32⟩
  | 120 => ⟨S655360x1, .i32⟩
  | 121 => ⟨S655360x1, .i1⟩
  | 122 => ⟨S1x1, .i32⟩
  | 123 => ⟨S655360x1, .i32⟩
  | 124 => ⟨S655360x1, .i1⟩
  | 125 => ⟨S655360x1, .i1⟩
  | 126 => ⟨S_, .i1⟩
  | 127 => ⟨S655360, .i1⟩
  | _ => ⟨S1x3x8x256x320, .f32⟩

abbrev hbmTy0_9 (i : Nat) : BufTy := match i % 128 with
  | 0 => ⟨S1x655360x6, .f32⟩
  | 1 => ⟨S1x655360x6, .i1⟩
  | 2 => ⟨S_, .f32⟩
  | 3 => ⟨S1x655360x6, .f32⟩
  | 4 => ⟨S1x655360x6, .f32⟩
  | 5 => ⟨S1x655360x6, .f32⟩
  | 6 => ⟨S1x655360x6, .f32⟩
  | 7 => ⟨S_, .f32⟩
  | 8 => ⟨S1x655360, .f32⟩
  | 9 => ⟨S1x1x655360, .i1⟩
  | 10 => ⟨S1x655360, .i1⟩
  | 11 => ⟨S_, .f32⟩
  | 12 => ⟨S_, .f32⟩
  | 13 => ⟨S1x655360, .f32⟩
  | 14 => ⟨S1x655360, .f32⟩
  | 15 => ⟨S1x1x655360, .f32⟩
  | 16 => ⟨S1x1x655360, .f32⟩
  | 17 => ⟨S1x1x655360, .f32⟩
  | 18 => ⟨S1x1x655360, .f32⟩
  | 19 => ⟨S1x1x655360, .f32⟩
  | 20 => ⟨S1x1x655360, .f32⟩
  | 21 => ⟨S1x1x655360, .f32⟩
  | 22 => ⟨S1x1x655360, .f32⟩
  | 23 => ⟨S1x1x655360, .f32⟩
  | 24 => ⟨S1x1x655360, .f32⟩
  | 25 => ⟨S1x1x655360, .f32⟩
  | 26 => ⟨S1x1x655360, .f32⟩
  | 27 => ⟨S1x1x655360, .f32⟩
  | 28 => ⟨S1x1x655360, .f32⟩
  | 29 => ⟨S1x1x655360, .f32⟩
  | 30 => ⟨S1x1x655360, .f32⟩
  | 31 => ⟨S1x1x655360, .f32⟩
  | 32 => ⟨S1x1x655360, .f32⟩
  | 33 => ⟨S1x1x655360, .f32⟩
  | 34 => ⟨S1x1x655360, .f32⟩
  | 35 => ⟨S1x1x655360, .f32⟩
  | 36 => ⟨S1x1x655360, .f32⟩
  | 37 => ⟨S1x1x655360, .f32⟩
  | 38 => ⟨S1x1x655360, .f32⟩
  | 39 => ⟨S1x1x655360, .f32⟩
  | 40 => ⟨S1x1x655360, .f32⟩
  | 41 => ⟨S1x1x655360, .f32⟩
  | 42 => ⟨S1x16x655360, .f32⟩
  | 43 => ⟨S1x11x655360, .f32⟩
  | 44 => ⟨S1x27x655360, .f32⟩
  | 45 => ⟨S1x27x8x256x320, .f32⟩
  | 46 => ⟨S_, .f32⟩
  | 47 => ⟨S1x27x8x256x320, .f32⟩
  | 48 => ⟨S1x27x8x256x320, .f32⟩
  | 49 => ⟨S_, .f32⟩
  | 50 => ⟨S1x8x256x320, .f32⟩
  | 51 => ⟨S_, .f32⟩
  | 52 => ⟨S1x8x256x320, .f32⟩
  | 53 => ⟨S1x8x256x320, .f32⟩
  | 54 => ⟨S1x1x8x256x320, .f32⟩
  | 55 => ⟨S1x27x8x256x320, .f32⟩
  | 56 => ⟨S1x27x8x256x320, .f32⟩
  | 57 => ⟨S1x27x8x256x320, .f32⟩
  | 58 => ⟨S_, .f32⟩
  | 59 => ⟨S1x8x256x320, .f32⟩
  | 60 => ⟨S1x1x8x256x320, .f32⟩
  | 61 => ⟨S1x27x8x256x320, .f32⟩
  | 62 => ⟨S1x27x8x256x320, .f32⟩
  | 63 => ⟨S1x6x655360, .f32⟩
  | 64 => ⟨S1x655360x6, .f32⟩
  | 65 => ⟨S1x27x655360, .f32⟩
  | 66 => ⟨S1x655360, .i32⟩
  | 67 => ⟨S_, .i32⟩
  | 68 => ⟨S_, .i32⟩
  | 69 => ⟨S1x655360, .i32⟩
  | 70 => ⟨S1x655360, .i32⟩
  | 71 => ⟨S1x655360, .i32⟩
  | 72 => ⟨S_, .i32⟩
  | 73 => ⟨S1x655360, .i32⟩
  | 74 => ⟨S1x655360, .i1⟩
  | 75 => ⟨S1x655360, .i32⟩
  | 76 => ⟨S1x655360, .i32⟩
  | 77 => ⟨S_, .i32⟩
  | 78 => ⟨S1x655360, .i32⟩
  | 79 => ⟨S1x655360, .i1⟩
  | 80 => ⟨S1x655360, .i1⟩
  | 81 => ⟨S_, .i32⟩
  | 82 => ⟨S1x655360, .i32⟩
  | 83 => ⟨S1x655360, .i32⟩
  | 84 => ⟨S1x655360, .i32⟩
  | 85 => ⟨S_, .i32⟩
  | 86 => ⟨S_, .i32⟩
  | 87 => ⟨S1x655360, .i32⟩
  | 88 => ⟨S1x655360, .i32⟩
  | 89 => ⟨S1x655360, .i32⟩
  | 90 => ⟨S_, .i32⟩
  | 91 => ⟨S1x655360, .i32⟩
  | 92 => ⟨S1x655360, .i1⟩
  | 93 => ⟨S1x655360, .i32⟩
  | 94 => ⟨S1x655360, .i32⟩
  | 95 => ⟨S_, .i32⟩
  | 96 => ⟨S1x655360, .i32⟩
  | 97 => ⟨S1x655360, .i1⟩
  | 98 => ⟨S1x655360, .i1⟩
  | 99 => ⟨S_, .i32⟩
  | 100 => ⟨S1x655360, .i32⟩
  | 101 => ⟨S1x655360, .i32⟩
  | 102 => ⟨S1x655360, .i32⟩
  | 103 => ⟨S_, .i32⟩
  | 104 => ⟨S_, .i32⟩
  | 105 => ⟨S_, .i32⟩
  | 106 => ⟨S_, .i1⟩
  | 107 => ⟨S_, .i32⟩
  | 108 => ⟨S_, .i32⟩
  | 109 => ⟨S1x655360, .i32⟩
  | 110 => ⟨S1x655360, .i32⟩
  | 111 => ⟨S_, .i32⟩
  | 112 => ⟨S1x655360, .i32⟩
  | 113 => ⟨S1x655360, .i1⟩
  | 114 => ⟨S_, .i32⟩
  | 115 => ⟨S1x655360, .i32⟩
  | 116 => ⟨S1x655360, .i1⟩
  | 117 => ⟨S_, .i32⟩
  | 118 => ⟨S_, .i1⟩
  | 119 => ⟨S1x655360, .i1⟩
  | 120 => ⟨S1x655360, .i1⟩
  | 121 => ⟨S1x655360, .i1⟩
  | 122 => ⟨S1x655360, .i32⟩
  | 123 => ⟨S1x655360, .i32⟩
  | 124 => ⟨S1x655360, .i32⟩
  | 125 => ⟨S_, .i32⟩
  | 126 => ⟨S_, .i32⟩
  | 127 => ⟨S_, .i32⟩
  | _ => ⟨S1x3x8x256x320, .f32⟩

abbrev hbmTy0_10 (i : Nat) : BufTy := match i % 128 with
  | 0 => ⟨S_, .i1⟩
  | 1 => ⟨S_, .i32⟩
  | 2 => ⟨S_, .i32⟩
  | 3 => ⟨S1x655360, .i32⟩
  | 4 => ⟨S1x655360, .i32⟩
  | 5 => ⟨S_, .i32⟩
  | 6 => ⟨S1x655360, .i32⟩
  | 7 => ⟨S1x655360, .i1⟩
  | 8 => ⟨S_, .i32⟩
  | 9 => ⟨S1x655360, .i32⟩
  | 10 => ⟨S1x655360, .i1⟩
  | 11 => ⟨S_, .i32⟩
  | 12 => ⟨S_, .i1⟩
  | 13 => ⟨S1x655360, .i1⟩
  | 14 => ⟨S1x655360, .i1⟩
  | 15 => ⟨S1x655360, .i1⟩
  | 16 => ⟨S1x655360, .i32⟩
  | 17 => ⟨S1x655360, .i32⟩
  | 18 => ⟨S1x655360, .i32⟩
  | 19 => ⟨S1x1x655360, .i32⟩
  | 20 => ⟨S1x27x1, .i32⟩
  | 21 => ⟨S1x27x655360, .i32⟩
  | 22 => ⟨S1x27x655360, .i32⟩
  | 23 => ⟨S1x27x655360, .i32⟩
  | 24 => ⟨S1x1x655360, .i32⟩
  | 25 => ⟨S1x27x1, .i32⟩
  | 26 => ⟨S1x27x655360, .i32⟩
  | 27 => ⟨S1x27x655360, .i32⟩
  | 28 => ⟨S1x27x655360, .i32⟩
  | 29 => ⟨S1x1x655360, .i32⟩
  | 30 => ⟨S1x27x1, .i32⟩
  | 31 => ⟨S1x27x655360, .i32⟩
  | 32 => ⟨S1x27x655360, .i32⟩
  | 33 => ⟨S1x27x655360, .i32⟩
  | 34 => ⟨S_, .i32⟩
  | 35 => ⟨S1x27x655360, .i32⟩
  | 36 => ⟨S1x27x655360, .i1⟩
  | 37 => ⟨S_, .i32⟩
  | 38 => ⟨S1x27x655360, .i32⟩
  | 39 => ⟨S1x27x655360, .i1⟩
  | 40 => ⟨S1x27x655360, .i1⟩
  | 41 => ⟨S_, .i32⟩
  | 42 => ⟨S1x27x655360, .i32⟩
  | 43 => ⟨S1x27x655360, .i1⟩
  | 44 => ⟨S1x27x655360, .i1⟩
  | 45 => ⟨S_, .i32⟩
  | 46 => ⟨S1x27x655360, .i32⟩
  | 47 => ⟨S1x27x655360, .i1⟩
  | 48 => ⟨S1x27x655360, .i1⟩
  | 49 => ⟨S_, .i32⟩
  | 50 => ⟨S1x27x655360, .i32⟩
  | 51 => ⟨S1x27x655360, .i1⟩
  | 52 => ⟨S1x27x655360, .i1⟩
  | 53 => ⟨S_, .i32⟩
  | 54 => ⟨S1x27x655360, .i32⟩
  | 55 => ⟨S1x27x655360, .i1⟩
  | 56 => ⟨S1x27x655360, .i1⟩
  | 57 => ⟨S_, .i32⟩
  | 58 => ⟨S_, .i32⟩
  | 59 => ⟨S_, .i32⟩
  | 60 => ⟨S1x27x655360, .i32⟩
  | 61 => ⟨S1x27x655360, .i32⟩
  | 62 => ⟨S_, .i32⟩
  | 63 => ⟨S1x27x655360, .i32⟩
  | 64 => ⟨S1x27x655360, .i32⟩
  | 65 => ⟨S_, .i32⟩
  | 66 => ⟨S1x27x655360, .i32⟩
  | 67 => ⟨S1x27x655360, .i32⟩
  | 68 => ⟨S_, .i32⟩
  | 69 => ⟨S_, .i32⟩
  | 70 => ⟨S_, .i32⟩
  | 71 => ⟨S1x27x655360, .i32⟩
  | 72 => ⟨S1x27x655360, .i32⟩
  | 73 => ⟨S_, .i32⟩
  | 74 => ⟨S1x27x655360, .i32⟩
  | 75 => ⟨S1x27x655360, .i32⟩
  | 76 => ⟨S1x27x655360, .i32⟩
  | 77 => ⟨S_, .i32⟩
  | 78 => ⟨S1x27x655360, .i32⟩
  | 79 => ⟨S1x27x655360, .i32⟩
  | 80 => ⟨S_, .i32⟩
  | 81 => ⟨S_, .i32⟩
  | 82 => ⟨S_, .i32⟩
  | 83 => ⟨S1x27x655360, .i32⟩
  | 84 => ⟨S1x27x655360, .i32⟩
  | 85 => ⟨S_, .i32⟩
  | 86 => ⟨S1x27x655360, .i32⟩
  | 87 => ⟨S1x27x655360, .i32⟩
  | 88 => ⟨S1x27x655360, .i32⟩
  | 89 => ⟨S1, .i32⟩
  | 90 => ⟨S1x1, .i32⟩
  | 91 => ⟨S_, .i32⟩
  | 92 => ⟨S1x1, .i32⟩
  | 93 => ⟨S1x1, .i32⟩
  | 94 => ⟨S_, .f32⟩
  | 95 => ⟨S520x6, .f32⟩
  | 96 => ⟨S_, .f32⟩
  | 97 => ⟨S520, .f32⟩
  | 98 => ⟨S1x1x655360, .i1⟩
  | 99 => ⟨S1x655360, .i1⟩
  | 100 => ⟨S1x1x655360, .f32⟩
  | 101 => ⟨S1x655360, .f32⟩
  | 102 => ⟨S_, .f32⟩
  | 103 => ⟨S_, .f32⟩
  | 104 => ⟨S1x655360, .f32⟩
  | 105 => ⟨S1x655360, .f32⟩
  | 106 => ⟨S1x1x655360, .i32⟩
  | 107 => ⟨S1x655360, .i32⟩
  | 108 => ⟨S1x655360, .i32⟩
  | 109 => ⟨S1x655360, .i32⟩
  | 110 => ⟨S655360, .i32⟩
  | 111 => ⟨S1x655360x1, .f32⟩
  | 112 => ⟨S1x655360x6, .f32⟩
  | 113 => ⟨S1x655360x6, .f32⟩
  | 114 => ⟨S655360x6, .f32⟩
  | 115 => ⟨S_, .f32⟩
  | 116 => ⟨S520x6, .f32⟩
  | 117 => ⟨S655360x1, .i32⟩
  | 118 => ⟨S520x6, .f32⟩
  | 119 => ⟨S520x6, .f32⟩
  | 120 => ⟨S655360, .f32⟩
  | 121 => ⟨S_, .f32⟩
  | 122 => ⟨S520, .f32⟩
  | 123 => ⟨S655360x1, .i32⟩
  | 124 => ⟨S520, .f32⟩
  | 125 => ⟨S520, .f32⟩
  | 126 => ⟨S1x1x655360, .i1⟩
  | 127 => ⟨S1x655360, .i1⟩
  | _ => ⟨S1x3x8x256x320, .f32⟩

abbrev hbmTy0_11 (i : Nat) : BufTy := match i % 128 with
  | 0 => ⟨S1x1x655360, .f32⟩
  | 1 => ⟨S1x655360, .f32⟩
  | 2 => ⟨S_, .f32⟩
  | 3 => ⟨S_, .f32⟩
  | 4 => ⟨S1x655360, .f32⟩
  | 5 => ⟨S1x655360, .f32⟩
  | 6 => ⟨S1x1x655360, .i32⟩
  | 7 => ⟨S1x655360, .i32⟩
  | 8 => ⟨S1x655360, .i32⟩
  | 9 => ⟨S1x655360, .i32⟩
  | 10 => ⟨S655360, .i32⟩
  | 11 => ⟨S1x655360x1, .f32⟩
  | 12 => ⟨S1x655360x6, .f32⟩
  | 13 => ⟨S1x655360x6, .f32⟩
  | 14 => ⟨S655360x6, .f32⟩
  | 15 => ⟨S_, .f32⟩
  | 16 => ⟨S520x6, .f32⟩
  | 17 => ⟨S655360x1, .i32⟩
  | 18 => ⟨S520x6, .f32⟩
  | 19 => ⟨S520x6, .f32⟩
  | 20 => ⟨S655360, .f32⟩
  | 21 => ⟨S_, .f32⟩
  | 22 => ⟨S520, .f32⟩
  | 23 => ⟨S655360x1, .i32⟩
  | 24 => ⟨S520, .f32⟩
  | 25 => ⟨S520, .f32⟩
  | 26 => ⟨S1x1x655360, .i1⟩
  | 27 => ⟨S1x655360, .i1⟩
  | 28 => ⟨S1x1x655360, .f32⟩
  | 29 => ⟨S1x655360, .f32⟩
  | 30 => ⟨S_, .f32⟩
  | 31 => ⟨S_, .f32⟩
  | 32 => ⟨S1x655360, .f32⟩
  | 33 => ⟨S1x655360, .f32⟩
  | 34 => ⟨S1x1x655360, .i32⟩
  | 35 => ⟨S1x655360, .i32⟩
  | 36 => ⟨S1x655360, .i32⟩
  | 37 => ⟨S1x655360, .i32⟩
  | 38 => ⟨S655360, .i32⟩
  | 39 => ⟨S1x655360x1, .f32⟩
  | 40 => ⟨S1x655360x6, .f32⟩
  | 41 => ⟨S1x655360x6, .f32⟩
  | 42 => ⟨S655360x6, .f32⟩
  | 43 => ⟨S_, .f32⟩
  | 44 => ⟨S520x6, .f32⟩
  | 45 => ⟨S655360x1, .i32⟩
  | 46 => ⟨S520x6, .f32⟩
  | 47 => ⟨S520x6, .f32⟩
  | 48 => ⟨S655360, .f32⟩
  | 49 => ⟨S_, .f32⟩
  | 50 => ⟨S520, .f32⟩
  | 51 => ⟨S655360x1, .i32⟩
  | 52 => ⟨S520, .f32⟩
  | 53 => ⟨S520, .f32⟩
  | 54 => ⟨S1x1x655360, .i1⟩
  | 55 => ⟨S1x655360, .i1⟩
  | 56 => ⟨S1x1x655360, .f32⟩
  | 57 => ⟨S1x655360, .f32⟩
  | 58 => ⟨S_, .f32⟩
  | 59 => ⟨S_, .f32⟩
  | 60 => ⟨S1x655360, .f32⟩
  | 61 => ⟨S1x655360, .f32⟩
  | 62 => ⟨S1x1x655360, .i32⟩
  | 63 => ⟨S1x655360, .i32⟩
  | 64 => ⟨S1x655360, .i32⟩
  | 65 => ⟨S1x655360, .i32⟩
  | 66 => ⟨S655360, .i32⟩
  | 67 => ⟨S1x655360x1, .f32⟩
  | 68 => ⟨S1x655360x6, .f32⟩
  | 69 => ⟨S1x655360x6, .f32⟩
  | 70 => ⟨S655360x6, .f32⟩
  | 71 => ⟨S_, .f32⟩
  | 72 => ⟨S520x6, .f32⟩
  | 73 => ⟨S655360x1, .i32⟩
  | 74 => ⟨S520x6, .f32⟩
  | 75 => ⟨S520x6, .f32⟩
  | 76 => ⟨S655360, .f32⟩
  | 77 => ⟨S_, .f32⟩
  | 78 => ⟨S520, .f32⟩
  | 79 => ⟨S655360x1, .i32⟩
  | 80 => ⟨S520, .f32⟩
  | 81 => ⟨S520, .f32⟩
  | 82 => ⟨S1x1x655360, .i1⟩
  | 83 => ⟨S1x655360, .i1⟩
  | 84 => ⟨S1x1x655360, .f32⟩
  | 85 => ⟨S1x655360, .f32⟩
  | 86 => ⟨S_, .f32⟩
  | 87 => ⟨S_, .f32⟩
  | 88 => ⟨S1x655360, .f32⟩
  | 89 => ⟨S1x655360, .f32⟩
  | 90 => ⟨S1x1x655360, .i32⟩
  | 91 => ⟨S1x655360, .i32⟩
  | 92 => ⟨S1x655360, .i32⟩
  | 93 => ⟨S1x655360, .i32⟩
  | 94 => ⟨S655360, .i32⟩
  | 95 => ⟨S1x655360x1, .f32⟩
  | 96 => ⟨S1x655360x6, .f32⟩
  | 97 => ⟨S1x655360x6, .f32⟩
  | 98 => ⟨S655360x6, .f32⟩
  | 99 => ⟨S_, .f32⟩
  | 100 => ⟨S520x6, .f32⟩
  | 101 => ⟨S655360x1, .i32⟩
  | 102 => ⟨S520x6, .f32⟩
  | 103 => ⟨S520x6, .f32⟩
  | 104 => ⟨S655360, .f32⟩
  | 105 => ⟨S_, .f32⟩
  | 106 => ⟨S520, .f32⟩
  | 107 => ⟨S655360x1, .i32⟩
  | 108 => ⟨S520, .f32⟩
  | 109 => ⟨S520, .f32⟩
  | 110 => ⟨S1x1x655360, .i1⟩
  | 111 => ⟨S1x655360, .i1⟩
  | 112 => ⟨S1x1x655360, .f32⟩
  | 113 => ⟨S1x655360, .f32⟩
  | 114 => ⟨S_, .f32⟩
  | 115 => ⟨S_, .f32⟩
  | 116 => ⟨S1x655360, .f32⟩
  | 117 => ⟨S1x655360, .f32⟩
  | 118 => ⟨S1x1x655360, .i32⟩
  | 119 => ⟨S1x655360, .i32⟩
  | 120 => ⟨S1x655360, .i32⟩
  | 121 => ⟨S1x655360, .i32⟩
  | 122 => ⟨S655360, .i32⟩
  | 123 => ⟨S1x655360x1, .f32⟩
  | 124 => ⟨S1x655360x6, .f32⟩
  | 125 => ⟨S1x655360x6, .f32⟩
  | 126 => ⟨S655360x6, .f32⟩
  | 127 => ⟨S_, .f32⟩
  | _ => ⟨S1x3x8x256x320, .f32⟩

abbrev hbmTy0_12 (i : Nat) : BufTy := match i % 128 with
  | 0 => ⟨S520x6, .f32⟩
  | 1 => ⟨S655360x1, .i32⟩
  | 2 => ⟨S520x6, .f32⟩
  | 3 => ⟨S520x6, .f32⟩
  | 4 => ⟨S655360, .f32⟩
  | 5 => ⟨S_, .f32⟩
  | 6 => ⟨S520, .f32⟩
  | 7 => ⟨S655360x1, .i32⟩
  | 8 => ⟨S520, .f32⟩
  | 9 => ⟨S520, .f32⟩
  | 10 => ⟨S1x1x655360, .i1⟩
  | 11 => ⟨S1x655360, .i1⟩
  | 12 => ⟨S1x1x655360, .f32⟩
  | 13 => ⟨S1x655360, .f32⟩
  | 14 => ⟨S_, .f32⟩
  | 15 => ⟨S_, .f32⟩
  | 16 => ⟨S1x655360, .f32⟩
  | 17 => ⟨S1x655360, .f32⟩
  | 18 => ⟨S1x1x655360, .i32⟩
  | 19 => ⟨S1x655360, .i32⟩
  | 20 => ⟨S1x655360, .i32⟩
  | 21 => ⟨S1x655360, .i32⟩
  | 22 => ⟨S655360, .i32⟩
  | 23 => ⟨S1x655360x1, .f32⟩
  | 24 => ⟨S1x655360x6, .f32⟩
  | 25 => ⟨S1x655360x6, .f32⟩
  | 26 => ⟨S655360x6, .f32⟩
  | 27 => ⟨S_, .f32⟩
  | 28 => ⟨S520x6, .f32⟩
  | 29 => ⟨S655360x1, .i32⟩
  | 30 => ⟨S520x6, .f32⟩
  | 31 => ⟨S520x6, .f32⟩
  | 32 => ⟨S655360, .f32⟩
  | 33 => ⟨S_, .f32⟩
  | 34 => ⟨S520, .f32⟩
  | 35 => ⟨S655360x1, .i32⟩
  | 36 => ⟨S520, .f32⟩
  | 37 => ⟨S520, .f32⟩
  | 38 => ⟨S1x1x655360, .i1⟩
  | 39 => ⟨S1x655360, .i1⟩
  | 40 => ⟨S1x1x655360, .f32⟩
  | 41 => ⟨S1x655360, .f32⟩
  | 42 => ⟨S_, .f32⟩
  | 43 => ⟨S_, .f32⟩
  | 44 => ⟨S1x655360, .f32⟩
  | 45 => ⟨S1x655360, .f32⟩
  | 46 => ⟨S1x1x655360, .i32⟩
  | 47 => ⟨S1x655360, .i32⟩
  | 48 => ⟨S1x655360, .i32⟩
  | 49 => ⟨S1x655360, .i32⟩
  | 50 => ⟨S655360, .i32⟩
  | 51 => ⟨S1x655360x1, .f32⟩
  | 52 => ⟨S1x655360x6, .f32⟩
  | 53 => ⟨S1x655360x6, .f32⟩
  | 54 => ⟨S655360x6, .f32⟩
  | 55 => ⟨S_, .f32⟩
  | 56 => ⟨S520x6, .f32⟩
  | 57 => ⟨S655360x1, .i32⟩
  | 58 => ⟨S520x6, .f32⟩
  | 59 => ⟨S520x6, .f32⟩
  | 60 => ⟨S655360, .f32⟩
  | 61 => ⟨S_, .f32⟩
  | 62 => ⟨S520, .f32⟩
  | 63 => ⟨S655360x1, .i32⟩
  | 64 => ⟨S520, .f32⟩
  | 65 => ⟨S520, .f32⟩
  | 66 => ⟨S1x1x655360, .i1⟩
  | 67 => ⟨S1x655360, .i1⟩
  | 68 => ⟨S1x1x655360, .f32⟩
  | 69 => ⟨S1x655360, .f32⟩
  | 70 => ⟨S_, .f32⟩
  | 71 => ⟨S_, .f32⟩
  | 72 => ⟨S1x655360, .f32⟩
  | 73 => ⟨S1x655360, .f32⟩
  | 74 => ⟨S1x1x655360, .i32⟩
  | 75 => ⟨S1x655360, .i32⟩
  | 76 => ⟨S1x655360, .i32⟩
  | 77 => ⟨S1x655360, .i32⟩
  | 78 => ⟨S655360, .i32⟩
  | 79 => ⟨S1x655360x1, .f32⟩
  | 80 => ⟨S1x655360x6, .f32⟩
  | 81 => ⟨S1x655360x6, .f32⟩
  | 82 => ⟨S655360x6, .f32⟩
  | 83 => ⟨S_, .f32⟩
  | 84 => ⟨S520x6, .f32⟩
  | 85 => ⟨S655360x1, .i32⟩
  | 86 => ⟨S520x6, .f32⟩
  | 87 => ⟨S520x6, .f32⟩
  | 88 => ⟨S655360, .f32⟩
  | 89 => ⟨S_, .f32⟩
  | 90 => ⟨S520, .f32⟩
  | 91 => ⟨S655360x1, .i32⟩
  | 92 => ⟨S520, .f32⟩
  | 93 => ⟨S520, .f32⟩
  | 94 => ⟨S1x1x655360, .i1⟩
  | 95 => ⟨S1x655360, .i1⟩
  | 96 => ⟨S1x1x655360, .f32⟩
  | 97 => ⟨S1x655360, .f32⟩
  | 98 => ⟨S_, .f32⟩
  | 99 => ⟨S_, .f32⟩
  | 100 => ⟨S1x655360, .f32⟩
  | 101 => ⟨S1x655360, .f32⟩
  | 102 => ⟨S1x1x655360, .i32⟩
  | 103 => ⟨S1x655360, .i32⟩
  | 104 => ⟨S1x655360, .i32⟩
  | 105 => ⟨S1x655360, .i32⟩
  | 106 => ⟨S655360, .i32⟩
  | 107 => ⟨S1x655360x1, .f32⟩
  | 108 => ⟨S1x655360x6, .f32⟩
  | 109 => ⟨S1x655360x6, .f32⟩
  | 110 => ⟨S655360x6, .f32⟩
  | 111 => ⟨S_, .f32⟩
  | 112 => ⟨S520x6, .f32⟩
  | 113 => ⟨S655360x1, .i32⟩
  | 114 => ⟨S520x6, .f32⟩
  | 115 => ⟨S520x6, .f32⟩
  | 116 => ⟨S655360, .f32⟩
  | 117 => ⟨S_, .f32⟩
  | 118 => ⟨S520, .f32⟩
  | 119 => ⟨S655360x1, .i32⟩
  | 120 => ⟨S520, .f32⟩
  | 121 => ⟨S520, .f32⟩
  | 122 => ⟨S1x1x655360, .i1⟩
  | 123 => ⟨S1x655360, .i1⟩
  | 124 => ⟨S1x1x655360, .f32⟩
  | 125 => ⟨S1x655360, .f32⟩
  | 126 => ⟨S_, .f32⟩
  | 127 => ⟨S_, .f32⟩
  | _ => ⟨S1x3x8x256x320, .f32⟩

abbrev hbmTy0_13 (i : Nat) : BufTy := match i % 128 with
  | 0 => ⟨S1x655360, .f32⟩
  | 1 => ⟨S1x655360, .f32⟩
  | 2 => ⟨S1x1x655360, .i32⟩
  | 3 => ⟨S1x655360, .i32⟩
  | 4 => ⟨S1x655360, .i32⟩
  | 5 => ⟨S1x655360, .i32⟩
  | 6 => ⟨S655360, .i32⟩
  | 7 => ⟨S1x655360x1, .f32⟩
  | 8 => ⟨S1x655360x6, .f32⟩
  | 9 => ⟨S1x655360x6, .f32⟩
  | 10 => ⟨S655360x6, .f32⟩
  | 11 => ⟨S_, .f32⟩
  | 12 => ⟨S520x6, .f32⟩
  | 13 => ⟨S655360x1, .i32⟩
  | 14 => ⟨S520x6, .f32⟩
  | 15 => ⟨S520x6, .f32⟩
  | 16 => ⟨S655360, .f32⟩
  | 17 => ⟨S_, .f32⟩
  | 18 => ⟨S520, .f32⟩
  | 19 => ⟨S655360x1, .i32⟩
  | 20 => ⟨S520, .f32⟩
  | 21 => ⟨S520, .f32⟩
  | 22 => ⟨S1x1x655360, .i1⟩
  | 23 => ⟨S1x655360, .i1⟩
  | 24 => ⟨S1x1x655360, .f32⟩
  | 25 => ⟨S1x655360, .f32⟩
  | 26 => ⟨S_, .f32⟩
  | 27 => ⟨S_, .f32⟩
  | 28 => ⟨S1x655360, .f32⟩
  | 29 => ⟨S1x655360, .f32⟩
  | 30 => ⟨S1x1x655360, .i32⟩
  | 31 => ⟨S1x655360, .i32⟩
  | 32 => ⟨S1x655360, .i32⟩
  | 33 => ⟨S1x655360, .i32⟩
  | 34 => ⟨S655360, .i32⟩
  | 35 => ⟨S1x655360x1, .f32⟩
  | 36 => ⟨S1x655360x6, .f32⟩
  | 37 => ⟨S1x655360x6, .f32⟩
  | 38 => ⟨S655360x6, .f32⟩
  | 39 => ⟨S_, .f32⟩
  | 40 => ⟨S520x6, .f32⟩
  | 41 => ⟨S655360x1, .i32⟩
  | 42 => ⟨S520x6, .f32⟩
  | 43 => ⟨S520x6, .f32⟩
  | 44 => ⟨S655360, .f32⟩
  | 45 => ⟨S_, .f32⟩
  | 46 => ⟨S520, .f32⟩
  | 47 => ⟨S655360x1, .i32⟩
  | 48 => ⟨S520, .f32⟩
  | 49 => ⟨S520, .f32⟩
  | 50 => ⟨S1x1x655360, .i1⟩
  | 51 => ⟨S1x655360, .i1⟩
  | 52 => ⟨S1x1x655360, .f32⟩
  | 53 => ⟨S1x655360, .f32⟩
  | 54 => ⟨S_, .f32⟩
  | 55 => ⟨S_, .f32⟩
  | 56 => ⟨S1x655360, .f32⟩
  | 57 => ⟨S1x655360, .f32⟩
  | 58 => ⟨S1x1x655360, .i32⟩
  | 59 => ⟨S1x655360, .i32⟩
  | 60 => ⟨S1x655360, .i32⟩
  | 61 => ⟨S1x655360, .i32⟩
  | 62 => ⟨S655360, .i32⟩
  | 63 => ⟨S1x655360x1, .f32⟩
  | 64 => ⟨S1x655360x6, .f32⟩
  | 65 => ⟨S1x655360x6, .f32⟩
  | 66 => ⟨S655360x6, .f32⟩
  | 67 => ⟨S_, .f32⟩
  | 68 => ⟨S520x6, .f32⟩
  | 69 => ⟨S655360x1, .i32⟩
  | 70 => ⟨S520x6, .f32⟩
  | 71 => ⟨S520x6, .f32⟩
  | 72 => ⟨S655360, .f32⟩
  | 73 => ⟨S_, .f32⟩
  | 74 => ⟨S520, .f32⟩
  | 75 => ⟨S655360x1, .i32⟩
  | 76 => ⟨S520, .f32⟩
  | 77 => ⟨S520, .f32⟩
  | 78 => ⟨S1x1x655360, .i1⟩
  | 79 => ⟨S1x655360, .i1⟩
  | 80 => ⟨S1x1x655360, .f32⟩
  | 81 => ⟨S1x655360, .f32⟩
  | 82 => ⟨S_, .f32⟩
  | 83 => ⟨S_, .f32⟩
  | 84 => ⟨S1x655360, .f32⟩
  | 85 => ⟨S1x655360, .f32⟩
  | 86 => ⟨S1x1x655360, .i32⟩
  | 87 => ⟨S1x655360, .i32⟩
  | 88 => ⟨S1x655360, .i32⟩
  | 89 => ⟨S1x655360, .i32⟩
  | 90 => ⟨S655360, .i32⟩
  | 91 => ⟨S1x655360x1, .f32⟩
  | 92 => ⟨S1x655360x6, .f32⟩
  | 93 => ⟨S1x655360x6, .f32⟩
  | 94 => ⟨S655360x6, .f32⟩
  | 95 => ⟨S_, .f32⟩
  | 96 => ⟨S520x6, .f32⟩
  | 97 => ⟨S655360x1, .i32⟩
  | 98 => ⟨S520x6, .f32⟩
  | 99 => ⟨S520x6, .f32⟩
  | 100 => ⟨S655360, .f32⟩
  | 101 => ⟨S_, .f32⟩
  | 102 => ⟨S520, .f32⟩
  | 103 => ⟨S655360x1, .i32⟩
  | 104 => ⟨S520, .f32⟩
  | 105 => ⟨S520, .f32⟩
  | 106 => ⟨S1x1x655360, .i1⟩
  | 107 => ⟨S1x655360, .i1⟩
  | 108 => ⟨S1x1x655360, .f32⟩
  | 109 => ⟨S1x655360, .f32⟩
  | 110 => ⟨S_, .f32⟩
  | 111 => ⟨S_, .f32⟩
  | 112 => ⟨S1x655360, .f32⟩
  | 113 => ⟨S1x655360, .f32⟩
  | 114 => ⟨S1x1x655360, .i32⟩
  | 115 => ⟨S1x655360, .i32⟩
  | 116 => ⟨S1x655360, .i32⟩
  | 117 => ⟨S1x655360, .i32⟩
  | 118 => ⟨S655360, .i32⟩
  | 119 => ⟨S1x655360x1, .f32⟩
  | 120 => ⟨S1x655360x6, .f32⟩
  | 121 => ⟨S1x655360x6, .f32⟩
  | 122 => ⟨S655360x6, .f32⟩
  | 123 => ⟨S_, .f32⟩
  | 124 => ⟨S520x6, .f32⟩
  | 125 => ⟨S655360x1, .i32⟩
  | 126 => ⟨S520x6, .f32⟩
  | 127 => ⟨S520x6, .f32⟩
  | _ => ⟨S1x3x8x256x320, .f32⟩

abbrev hbmTy0_14 (i : Nat) : BufTy := match i % 128 with
  | 0 => ⟨S655360, .f32⟩
  | 1 => ⟨S_, .f32⟩
  | 2 => ⟨S520, .f32⟩
  | 3 => ⟨S655360x1, .i32⟩
  | 4 => ⟨S520, .f32⟩
  | 5 => ⟨S520, .f32⟩
  | 6 => ⟨S1x1x655360, .i1⟩
  | 7 => ⟨S1x655360, .i1⟩
  | 8 => ⟨S1x1x655360, .f32⟩
  | 9 => ⟨S1x655360, .f32⟩
  | 10 => ⟨S_, .f32⟩
  | 11 => ⟨S_, .f32⟩
  | 12 => ⟨S1x655360, .f32⟩
  | 13 => ⟨S1x655360, .f32⟩
  | 14 => ⟨S1x1x655360, .i32⟩
  | 15 => ⟨S1x655360, .i32⟩
  | 16 => ⟨S1x655360, .i32⟩
  | 17 => ⟨S1x655360, .i32⟩
  | 18 => ⟨S655360, .i32⟩
  | 19 => ⟨S1x655360x1, .f32⟩
  | 20 => ⟨S1x655360x6, .f32⟩
  | 21 => ⟨S1x655360x6, .f32⟩
  | 22 => ⟨S655360x6, .f32⟩
  | 23 => ⟨S_, .f32⟩
  | 24 => ⟨S520x6, .f32⟩
  | 25 => ⟨S655360x1, .i32⟩
  | 26 => ⟨S520x6, .f32⟩
  | 27 => ⟨S520x6, .f32⟩
  | 28 => ⟨S655360, .f32⟩
  | 29 => ⟨S_, .f32⟩
  | 30 => ⟨S520, .f32⟩
  | 31 => ⟨S655360x1, .i32⟩
  | 32 => ⟨S520, .f32⟩
  | 33 => ⟨S520, .f32⟩
  | 34 => ⟨S1x1x655360, .i1⟩
  | 35 => ⟨S1x655360, .i1⟩
  | 36 => ⟨S1x1x655360, .f32⟩
  | 37 => ⟨S1x655360, .f32⟩
  | 38 => ⟨S_, .f32⟩
  | 39 => ⟨S_, .f32⟩
  | 40 => ⟨S1x655360, .f32⟩
  | 41 => ⟨S1x655360, .f32⟩
  | 42 => ⟨S1x1x655360, .i32⟩
  | 43 => ⟨S1x655360, .i32⟩
  | 44 => ⟨S1x655360, .i32⟩
  | 45 => ⟨S1x655360, .i32⟩
  | 46 => ⟨S655360, .i32⟩
  | 47 => ⟨S1x655360x1, .f32⟩
  | 48 => ⟨S1x655360x6, .f32⟩
  | 49 => ⟨S1x655360x6, .f32⟩
  | 50 => ⟨S655360x6, .f32⟩
  | 51 => ⟨S_, .f32⟩
  | 52 => ⟨S520x6, .f32⟩
  | 53 => ⟨S655360x1, .i32⟩
  | 54 => ⟨S520x6, .f32⟩
  | 55 => ⟨S520x6, .f32⟩
  | 56 => ⟨S655360, .f32⟩
  | 57 => ⟨S_, .f32⟩
  | 58 => ⟨S520, .f32⟩
  | 59 => ⟨S655360x1, .i32⟩
  | 60 => ⟨S520, .f32⟩
  | 61 => ⟨S520, .f32⟩
  | 62 => ⟨S1x1x655360, .i1⟩
  | 63 => ⟨S1x655360, .i1⟩
  | 64 => ⟨S1x1x655360, .f32⟩
  | 65 => ⟨S1x655360, .f32⟩
  | 66 => ⟨S_, .f32⟩
  | 67 => ⟨S_, .f32⟩
  | 68 => ⟨S1x655360, .f32⟩
  | 69 => ⟨S1x655360, .f32⟩
  | 70 => ⟨S1x1x655360, .i32⟩
  | 71 => ⟨S1x655360, .i32⟩
  | 72 => ⟨S1x655360, .i32⟩
  | 73 => ⟨S1x655360, .i32⟩
  | 74 => ⟨S655360, .i32⟩
  | 75 => ⟨S1x655360x1, .f32⟩
  | 76 => ⟨S1x655360x6, .f32⟩
  | 77 => ⟨S1x655360x6, .f32⟩
  | 78 => ⟨S655360x6, .f32⟩
  | 79 => ⟨S_, .f32⟩
  | 80 => ⟨S520x6, .f32⟩
  | 81 => ⟨S655360x1, .i32⟩
  | 82 => ⟨S520x6, .f32⟩
  | 83 => ⟨S520x6, .f32⟩
  | 84 => ⟨S655360, .f32⟩
  | 85 => ⟨S_, .f32⟩
  | 86 => ⟨S520, .f32⟩
  | 87 => ⟨S655360x1, .i32⟩
  | 88 => ⟨S520, .f32⟩
  | 89 => ⟨S520, .f32⟩
  | 90 => ⟨S1x1x655360, .i1⟩
  | 91 => ⟨S1x655360, .i1⟩
  | 92 => ⟨S1x1x655360, .f32⟩
  | 93 => ⟨S1x655360, .f32⟩
  | 94 => ⟨S_, .f32⟩
  | 95 => ⟨S_, .f32⟩
  | 96 => ⟨S1x655360, .f32⟩
  | 97 => ⟨S1x655360, .f32⟩
  | 98 => ⟨S1x1x655360, .i32⟩
  | 99 => ⟨S1x655360, .i32⟩
  | 100 => ⟨S1x655360, .i32⟩
  | 101 => ⟨S1x655360, .i32⟩
  | 102 => ⟨S655360, .i32⟩
  | 103 => ⟨S1x655360x1, .f32⟩
  | 104 => ⟨S1x655360x6, .f32⟩
  | 105 => ⟨S1x655360x6, .f32⟩
  | 106 => ⟨S655360x6, .f32⟩
  | 107 => ⟨S_, .f32⟩
  | 108 => ⟨S520x6, .f32⟩
  | 109 => ⟨S655360x1, .i32⟩
  | 110 => ⟨S520x6, .f32⟩
  | 111 => ⟨S520x6, .f32⟩
  | 112 => ⟨S655360, .f32⟩
  | 113 => ⟨S_, .f32⟩
  | 114 => ⟨S520, .f32⟩
  | 115 => ⟨S655360x1, .i32⟩
  | 116 => ⟨S520, .f32⟩
  | 117 => ⟨S520, .f32⟩
  | 118 => ⟨S1x1x655360, .i1⟩
  | 119 => ⟨S1x655360, .i1⟩
  | 120 => ⟨S1x1x655360, .f32⟩
  | 121 => ⟨S1x655360, .f32⟩
  | 122 => ⟨S_, .f32⟩
  | 123 => ⟨S_, .f32⟩
  | 124 => ⟨S1x655360, .f32⟩
  | 125 => ⟨S1x655360, .f32⟩
  | 126 => ⟨S1x1x655360, .i32⟩
  | 127 => ⟨S1x655360, .i32⟩
  | _ => ⟨S1x3x8x256x320, .f32⟩

abbrev hbmTy0_15 (i : Nat) : BufTy := match i % 128 with
  | 0 => ⟨S1x655360, .i32⟩
  | 1 => ⟨S1x655360, .i32⟩
  | 2 => ⟨S655360, .i32⟩
  | 3 => ⟨S1x655360x1, .f32⟩
  | 4 => ⟨S1x655360x6, .f32⟩
  | 5 => ⟨S1x655360x6, .f32⟩
  | 6 => ⟨S655360x6, .f32⟩
  | 7 => ⟨S_, .f32⟩
  | 8 => ⟨S520x6, .f32⟩
  | 9 => ⟨S655360x1, .i32⟩
  | 10 => ⟨S520x6, .f32⟩
  | 11 => ⟨S520x6, .f32⟩
  | 12 => ⟨S655360, .f32⟩
  | 13 => ⟨S_, .f32⟩
  | 14 => ⟨S520, .f32⟩
  | 15 => ⟨S655360x1, .i32⟩
  | 16 => ⟨S520, .f32⟩
  | 17 => ⟨S520, .f32⟩
  | 18 => ⟨S1x1x655360, .i1⟩
  | 19 => ⟨S1x655360, .i1⟩
  | 20 => ⟨S1x1x655360, .f32⟩
  | 21 => ⟨S1x655360, .f32⟩
  | 22 => ⟨S_, .f32⟩
  | 23 => ⟨S_, .f32⟩
  | 24 => ⟨S1x655360, .f32⟩
  | 25 => ⟨S1x655360, .f32⟩
  | 26 => ⟨S1x1x655360, .i32⟩
  | 27 => ⟨S1x655360, .i32⟩
  | 28 => ⟨S1x655360, .i32⟩
  | 29 => ⟨S1x655360, .i32⟩
  | 30 => ⟨S655360, .i32⟩
  | 31 => ⟨S1x655360x1, .f32⟩
  | 32 => ⟨S1x655360x6, .f32⟩
  | 33 => ⟨S1x655360x6, .f32⟩
  | 34 => ⟨S655360x6, .f32⟩
  | 35 => ⟨S_, .f32⟩
  | 36 => ⟨S520x6, .f32⟩
  | 37 => ⟨S655360x1, .i32⟩
  | 38 => ⟨S520x6, .f32⟩
  | 39 => ⟨S520x6, .f32⟩
  | 40 => ⟨S655360, .f32⟩
  | 41 => ⟨S_, .f32⟩
  | 42 => ⟨S520, .f32⟩
  | 43 => ⟨S655360x1, .i32⟩
  | 44 => ⟨S520, .f32⟩
  | 45 => ⟨S520, .f32⟩
  | 46 => ⟨S1x1x655360, .i1⟩
  | 47 => ⟨S1x655360, .i1⟩
  | 48 => ⟨S1x1x655360, .f32⟩
  | 49 => ⟨S1x655360, .f32⟩
  | 50 => ⟨S_, .f32⟩
  | 51 => ⟨S_, .f32⟩
  | 52 => ⟨S1x655360, .f32⟩
  | 53 => ⟨S1x655360, .f32⟩
  | 54 => ⟨S1x1x655360, .i32⟩
  | 55 => ⟨S1x655360, .i32⟩
  | 56 => ⟨S1x655360, .i32⟩
  | 57 => ⟨S1x655360, .i32⟩
  | 58 => ⟨S655360, .i32⟩
  | 59 => ⟨S1x655360x1, .f32⟩
  | 60 => ⟨S1x655360x6, .f32⟩
  | 61 => ⟨S1x655360x6, .f32⟩
  | 62 => ⟨S655360x6, .f32⟩
  | 63 => ⟨S_, .f32⟩
  | 64 => ⟨S520x6, .f32⟩
  | 65 => ⟨S655360x1, .i32⟩
  | 66 => ⟨S520x6, .f32⟩
  | 67 => ⟨S520x6, .f32⟩
  | 68 => ⟨S655360, .f32⟩
  | 69 => ⟨S_, .f32⟩
  | 70 => ⟨S520, .f32⟩
  | 71 => ⟨S655360x1, .i32⟩
  | 72 => ⟨S520, .f32⟩
  | 73 => ⟨S520, .f32⟩
  | 74 => ⟨S1x1x655360, .i1⟩
  | 75 => ⟨S1x655360, .i1⟩
  | 76 => ⟨S1x1x655360, .f32⟩
  | 77 => ⟨S1x655360, .f32⟩
  | 78 => ⟨S_, .f32⟩
  | 79 => ⟨S_, .f32⟩
  | 80 => ⟨S1x655360, .f32⟩
  | 81 => ⟨S1x655360, .f32⟩
  | 82 => ⟨S1x1x655360, .i32⟩
  | 83 => ⟨S1x655360, .i32⟩
  | 84 => ⟨S1x655360, .i32⟩
  | 85 => ⟨S1x655360, .i32⟩
  | 86 => ⟨S655360, .i32⟩
  | 87 => ⟨S1x655360x1, .f32⟩
  | 88 => ⟨S1x655360x6, .f32⟩
  | 89 => ⟨S1x655360x6, .f32⟩
  | 90 => ⟨S655360x6, .f32⟩
  | 91 => ⟨S_, .f32⟩
  | 92 => ⟨S520x6, .f32⟩
  | 93 => ⟨S655360x1, .i32⟩
  | 94 => ⟨S520x6, .f32⟩
  | 95 => ⟨S520x6, .f32⟩
  | 96 => ⟨S655360, .f32⟩
  | 97 => ⟨S_, .f32⟩
  | 98 => ⟨S520, .f32⟩
  | 99 => ⟨S655360x1, .i32⟩
  | 100 => ⟨S520, .f32⟩
  | 101 => ⟨S520, .f32⟩
  | 102 => ⟨S1x1x655360, .i1⟩
  | 103 => ⟨S1x655360, .i1⟩
  | 104 => ⟨S1x1x655360, .f32⟩
  | 105 => ⟨S1x655360, .f32⟩
  | 106 => ⟨S_, .f32⟩
  | 107 => ⟨S_, .f32⟩
  | 108 => ⟨S1x655360, .f32⟩
  | 109 => ⟨S1x655360, .f32⟩
  | 110 => ⟨S1x1x655360, .i32⟩
  | 111 => ⟨S1x655360, .i32⟩
  | 112 => ⟨S1x655360, .i32⟩
  | 113 => ⟨S1x655360, .i32⟩
  | 114 => ⟨S655360, .i32⟩
  | 115 => ⟨S1x655360x1, .f32⟩
  | 116 => ⟨S1x655360x6, .f32⟩
  | 117 => ⟨S1x655360x6, .f32⟩
  | 118 => ⟨S655360x6, .f32⟩
  | 119 => ⟨S_, .f32⟩
  | 120 => ⟨S520x6, .f32⟩
  | 121 => ⟨S655360x1, .i32⟩
  | 122 => ⟨S520x6, .f32⟩
  | 123 => ⟨S520x6, .f32⟩
  | 124 => ⟨S655360, .f32⟩
  | 125 => ⟨S_, .f32⟩
  | 126 => ⟨S520, .f32⟩
  | 127 => ⟨S655360x1, .i32⟩
  | _ => ⟨S1x3x8x256x320, .f32⟩

abbrev hbmTy0_16 (i : Nat) : BufTy := match i % 128 with
  | 0 => ⟨S520, .f32⟩
  | 1 => ⟨S520, .f32⟩
  | 2 => ⟨S1x1x655360, .i1⟩
  | 3 => ⟨S1x655360, .i1⟩
  | 4 => ⟨S1x1x655360, .f32⟩
  | 5 => ⟨S1x655360, .f32⟩
  | 6 => ⟨S_, .f32⟩
  | 7 => ⟨S_, .f32⟩
  | 8 => ⟨S1x655360, .f32⟩
  | 9 => ⟨S1x655360, .f32⟩
  | 10 => ⟨S1x1x655360, .i32⟩
  | 11 => ⟨S1x655360, .i32⟩
  | 12 => ⟨S1x655360, .i32⟩
  | 13 => ⟨S1x655360, .i32⟩
  | 14 => ⟨S655360, .i32⟩
  | 15 => ⟨S1x655360x1, .f32⟩
  | 16 => ⟨S1x655360x6, .f32⟩
  | 17 => ⟨S1x655360x6, .f32⟩
  | 18 => ⟨S655360x6, .f32⟩
  | 19 => ⟨S_, .f32⟩
  | 20 => ⟨S520x6, .f32⟩
  | 21 => ⟨S655360x1, .i32⟩
  | 22 => ⟨S520x6, .f32⟩
  | 23 => ⟨S520x6, .f32⟩
  | 24 => ⟨S655360, .f32⟩
  | 25 => ⟨S_, .f32⟩
  | 26 => ⟨S520, .f32⟩
  | 27 => ⟨S655360x1, .i32⟩
  | 28 => ⟨S520, .f32⟩
  | 29 => ⟨S520, .f32⟩
  | 30 => ⟨S1x1x655360, .i1⟩
  | 31 => ⟨S1x655360, .i1⟩
  | 32 => ⟨S1x1x655360, .f32⟩
  | 33 => ⟨S1x655360, .f32⟩
  | 34 => ⟨S_, .f32⟩
  | 35 => ⟨S_, .f32⟩
  | 36 => ⟨S1x655360, .f32⟩
  | 37 => ⟨S1x655360, .f32⟩
  | 38 => ⟨S1x1x655360, .i32⟩
  | 39 => ⟨S1x655360, .i32⟩
  | 40 => ⟨S1x655360, .i32⟩
  | 41 => ⟨S1x655360, .i32⟩
  | 42 => ⟨S655360, .i32⟩
  | 43 => ⟨S1x655360x1, .f32⟩
  | 44 => ⟨S1x655360x6, .f32⟩
  | 45 => ⟨S1x655360x6, .f32⟩
  | 46 => ⟨S655360x6, .f32⟩
  | 47 => ⟨S_, .f32⟩
  | 48 => ⟨S520x6, .f32⟩
  | 49 => ⟨S655360x1, .i32⟩
  | 50 => ⟨S520x6, .f32⟩
  | 51 => ⟨S520x6, .f32⟩
  | 52 => ⟨S655360, .f32⟩
  | 53 => ⟨S_, .f32⟩
  | 54 => ⟨S520, .f32⟩
  | 55 => ⟨S655360x1, .i32⟩
  | 56 => ⟨S520, .f32⟩
  | 57 => ⟨S520, .f32⟩
  | 58 => ⟨S1x1x655360, .i1⟩
  | 59 => ⟨S1x655360, .i1⟩
  | 60 => ⟨S1x1x655360, .f32⟩
  | 61 => ⟨S1x655360, .f32⟩
  | 62 => ⟨S_, .f32⟩
  | 63 => ⟨S_, .f32⟩
  | 64 => ⟨S1x655360, .f32⟩
  | 65 => ⟨S1x655360, .f32⟩
  | 66 => ⟨S1x1x655360, .i32⟩
  | 67 => ⟨S1x655360, .i32⟩
  | 68 => ⟨S1x655360, .i32⟩
  | 69 => ⟨S1x655360, .i32⟩
  | 70 => ⟨S655360, .i32⟩
  | 71 => ⟨S1x655360x1, .f32⟩
  | 72 => ⟨S1x655360x6, .f32⟩
  | 73 => ⟨S1x655360x6, .f32⟩
  | 74 => ⟨S655360x6, .f32⟩
  | 75 => ⟨S_, .f32⟩
  | 76 => ⟨S520x6, .f32⟩
  | 77 => ⟨S655360x1, .i32⟩
  | 78 => ⟨S520x6, .f32⟩
  | 79 => ⟨S520x6, .f32⟩
  | 80 => ⟨S655360, .f32⟩
  | 81 => ⟨S_, .f32⟩
  | 82 => ⟨S520, .f32⟩
  | 83 => ⟨S655360x1, .i32⟩
  | 84 => ⟨S520, .f32⟩
  | 85 => ⟨S520, .f32⟩
  | 86 => ⟨S_, .f32⟩
  | 87 => ⟨S520, .f32⟩
  | 88 => ⟨S520, .f32⟩
  | 89 => ⟨S520x1, .f32⟩
  | 90 => ⟨S520x6, .f32⟩
  | 91 => ⟨S520x6, .f32⟩
  | 92 => ⟨S1x520x6, .f32⟩
  | 93 => ⟨S1x6x520, .f32⟩
  | 94 => ⟨S1x520, .f32⟩
  | 95 => ⟨S1x6x655360, .f32⟩
  | 96 => ⟨S1x655360x6, .f32⟩
  | 97 => ⟨S1x520x6, .f32⟩
  | 98 => ⟨S1x655360, .i32⟩
  | 99 => ⟨S_, .i32⟩
  | 100 => ⟨S_, .i32⟩
  | 101 => ⟨S1x655360, .i32⟩
  | 102 => ⟨S1x655360, .i32⟩
  | 103 => ⟨S1x655360, .i32⟩
  | 104 => ⟨S_, .i32⟩
  | 105 => ⟨S1x655360, .i32⟩
  | 106 => ⟨S1x655360, .i1⟩
  | 107 => ⟨S1x655360, .i32⟩
  | 108 => ⟨S1x655360, .i32⟩
  | 109 => ⟨S_, .i32⟩
  | 110 => ⟨S1x655360, .i32⟩
  | 111 => ⟨S1x655360, .i1⟩
  | 112 => ⟨S1x655360, .i1⟩
  | 113 => ⟨S_, .i32⟩
  | 114 => ⟨S1x655360, .i32⟩
  | 115 => ⟨S1x655360, .i32⟩
  | 116 => ⟨S1x655360, .i32⟩
  | 117 => ⟨S_, .i32⟩
  | 118 => ⟨S_, .i32⟩
  | 119 => ⟨S1x655360, .i32⟩
  | 120 => ⟨S1x655360, .i32⟩
  | 121 => ⟨S1x655360, .i32⟩
  | 122 => ⟨S_, .i32⟩
  | 123 => ⟨S1x655360, .i32⟩
  | 124 => ⟨S1x655360, .i1⟩
  | 125 => ⟨S1x655360, .i32⟩
  | 126 => ⟨S1x655360, .i32⟩
  | 127 => ⟨S_, .i32⟩
  | _ => ⟨S1x3x8x256x320, .f32⟩

abbrev hbmTy0_17 (i : Nat) : BufTy := match i % 128 with
  | 0 => ⟨S1x655360, .i32⟩
  | 1 => ⟨S1x655360, .i1⟩
  | 2 => ⟨S1x655360, .i1⟩
  | 3 => ⟨S_, .i32⟩
  | 4 => ⟨S1x655360, .i32⟩
  | 5 => ⟨S1x655360, .i32⟩
  | 6 => ⟨S1x655360, .i32⟩
  | 7 => ⟨S_, .i32⟩
  | 8 => ⟨S_, .i32⟩
  | 9 => ⟨S_, .i32⟩
  | 10 => ⟨S_, .i1⟩
  | 11 => ⟨S_, .i32⟩
  | 12 => ⟨S_, .i32⟩
  | 13 => ⟨S1x655360, .i32⟩
  | 14 => ⟨S1x655360, .i32⟩
  | 15 => ⟨S_, .i32⟩
  | 16 => ⟨S1x655360, .i32⟩
  | 17 => ⟨S1x655360, .i1⟩
  | 18 => ⟨S_, .i32⟩
  | 19 => ⟨S1x655360, .i32⟩
  | 20 => ⟨S1x655360, .i1⟩
  | 21 => ⟨S_, .i32⟩
  | 22 => ⟨S_, .i1⟩
  | 23 => ⟨S1x655360, .i1⟩
  | 24 => ⟨S1x655360, .i1⟩
  | 25 => ⟨S1x655360, .i1⟩
  | 26 => ⟨S1x655360, .i32⟩
  | 27 => ⟨S1x655360, .i32⟩
  | 28 => ⟨S1x655360, .i32⟩
  | 29 => ⟨S_, .i32⟩
  | 30 => ⟨S_, .i32⟩
  | 31 => ⟨S_, .i32⟩
  | 32 => ⟨S_, .i1⟩
  | 33 => ⟨S_, .i32⟩
  | 34 => ⟨S_, .i32⟩
  | 35 => ⟨S1x655360, .i32⟩
  | 36 => ⟨S1x655360, .i32⟩
  | 37 => ⟨S_, .i32⟩
  | 38 => ⟨S1x655360, .i32⟩
  | 39 => ⟨S1x655360, .i1⟩
  | 40 => ⟨S_, .i32⟩
  | 41 => ⟨S1x655360, .i32⟩
  | 42 => ⟨S1x655360, .i1⟩
  | 43 => ⟨S_, .i32⟩
  | 44 => ⟨S_, .i1⟩
  | 45 => ⟨S1x655360, .i1⟩
  | 46 => ⟨S1x655360, .i1⟩
  | 47 => ⟨S1x655360, .i1⟩
  | 48 => ⟨S1x655360, .i32⟩
  | 49 => ⟨S1x655360, .i32⟩
  | 50 => ⟨S1x655360, .i32⟩
  | 51 => ⟨S1x1x655360, .i32⟩
  | 52 => ⟨S1x27x1, .i32⟩
  | 53 => ⟨S1x27x655360, .i32⟩
  | 54 => ⟨S1x27x655360, .i32⟩
  | 55 => ⟨S1x27x655360, .i32⟩
  | 56 => ⟨S1x1x655360, .i32⟩
  | 57 => ⟨S1x27x1, .i32⟩
  | 58 => ⟨S1x27x655360, .i32⟩
  | 59 => ⟨S1x27x655360, .i32⟩
  | 60 => ⟨S1x27x655360, .i32⟩
  | 61 => ⟨S1x1x655360, .i32⟩
  | 62 => ⟨S1x27x1, .i32⟩
  | 63 => ⟨S1x27x655360, .i32⟩
  | 64 => ⟨S1x27x655360, .i32⟩
  | 65 => ⟨S1x27x655360, .i32⟩
  | 66 => ⟨S_, .i32⟩
  | 67 => ⟨S1x27x655360, .i32⟩
  | 68 => ⟨S1x27x655360, .i1⟩
  | 69 => ⟨S_, .i32⟩
  | 70 => ⟨S1x27x655360, .i32⟩
  | 71 => ⟨S1x27x655360, .i1⟩
  | 72 => ⟨S1x27x655360, .i1⟩
  | 73 => ⟨S_, .i32⟩
  | 74 => ⟨S1x27x655360, .i32⟩
  | 75 => ⟨S1x27x655360, .i1⟩
  | 76 => ⟨S1x27x655360, .i1⟩
  | 77 => ⟨S_, .i32⟩
  | 78 => ⟨S1x27x655360, .i32⟩
  | 79 => ⟨S1x27x655360, .i1⟩
  | 80 => ⟨S1x27x655360, .i1⟩
  | 81 => ⟨S_, .i32⟩
  | 82 => ⟨S1x27x655360, .i32⟩
  | 83 => ⟨S1x27x655360, .i1⟩
  | 84 => ⟨S1x27x655360, .i1⟩
  | 85 => ⟨S_, .i32⟩
  | 86 => ⟨S1x27x655360, .i32⟩
  | 87 => ⟨S1x27x655360, .i1⟩
  | 88 => ⟨S1x27x655360, .i1⟩
  | 89 => ⟨S_, .i32⟩
  | 90 => ⟨S_, .i32⟩
  | 91 => ⟨S_, .i32⟩
  | 92 => ⟨S1x27x655360, .i32⟩
  | 93 => ⟨S1x27x655360, .i32⟩
  | 94 => ⟨S_, .i32⟩
  | 95 => ⟨S1x27x655360, .i32⟩
  | 96 => ⟨S1x27x655360, .i32⟩
  | 97 => ⟨S_, .i32⟩
  | 98 => ⟨S1x27x655360, .i32⟩
  | 99 => ⟨S1x27x655360, .i32⟩
  | 100 => ⟨S_, .i32⟩
  | 101 => ⟨S_, .i32⟩
  | 102 => ⟨S_, .i32⟩
  | 103 => ⟨S1x27x655360, .i32⟩
  | 104 => ⟨S1x27x655360, .i32⟩
  | 105 => ⟨S_, .i32⟩
  | 106 => ⟨S1x27x655360, .i32⟩
  | 107 => ⟨S1x27x655360, .i32⟩
  | 108 => ⟨S1x27x655360, .i32⟩
  | 109 => ⟨S_, .i32⟩
  | 110 => ⟨S1x27x655360, .i32⟩
  | 111 => ⟨S1x27x655360, .i32⟩
  | 112 => ⟨S_, .i32⟩
  | 113 => ⟨S_, .i32⟩
  | 114 => ⟨S_, .i32⟩
  | 115 => ⟨S1x27x655360, .i32⟩
  | 116 => ⟨S1x27x655360, .i32⟩
  | 117 => ⟨S_, .i32⟩
  | 118 => ⟨S1x27x655360, .i32⟩
  | 119 => ⟨S1x27x655360, .i32⟩
  | 120 => ⟨S1x27x655360, .i32⟩
  | 121 => ⟨S1x1x655360, .i32⟩
  | 122 => ⟨S1x655360, .i32⟩
  | 123 => ⟨S1x655360x1, .i32⟩
  | 124 => ⟨S_, .i32⟩
  | 125 => ⟨S1x655360x1, .i32⟩
  | 126 => ⟨S1x655360x1, .i1⟩
  | 127 => ⟨S_, .i32⟩
  | _ => ⟨S1x3x8x256x320, .f32⟩

abbrev hbmTy0_18 (i : Nat) : BufTy := match i % 128 with
  | 0 => ⟨S1x655360x1, .i32⟩
  | 1 => ⟨S1x655360x1, .i32⟩
  | 2 => ⟨S1x655360x1, .i32⟩
  | 3 => ⟨S655360x1, .i32⟩
  | 4 => ⟨S1, .i32⟩
  | 5 => ⟨S_, .i32⟩
  | 6 => ⟨S655360x1, .i32⟩
  | 7 => ⟨S655360x1, .i1⟩
  | 8 => ⟨S1x1, .i32⟩
  | 9 => ⟨S655360x1, .i32⟩
  | 10 => ⟨S655360x1, .i1⟩
  | 11 => ⟨S655360x1, .i1⟩
  | 12 => ⟨S_, .i1⟩
  | 13 => ⟨S655360, .i1⟩
  | 14 => ⟨S1x655360x6, .f32⟩
  | 15 => ⟨S1x655360x6, .i1⟩
  | 16 => ⟨S_, .f32⟩
  | 17 => ⟨S1x655360x6, .f32⟩
  | 18 => ⟨S1x655360x6, .f32⟩
  | 19 => ⟨S1x655360x6, .f32⟩
  | 20 => ⟨S1x655360x6, .f32⟩
  | 21 => ⟨S_, .f32⟩
  | 22 => ⟨S1x655360, .f32⟩
  | 23 => ⟨S1x1x655360, .i1⟩
  | 24 => ⟨S1x655360, .i1⟩
  | 25 => ⟨S_, .f32⟩
  | 26 => ⟨S_, .f32⟩
  | 27 => ⟨S1x655360, .f32⟩
  | 28 => ⟨S1x655360, .f32⟩
  | 29 => ⟨S1x1x655360, .i32⟩
  | 30 => ⟨S1x655360, .i32⟩
  | 31 => ⟨S1x655360x1, .i32⟩
  | 32 => ⟨S_, .i32⟩
  | 33 => ⟨S1x655360x1, .i32⟩
  | 34 => ⟨S1x655360x1, .i1⟩
  | 35 => ⟨S_, .i32⟩
  | 36 => ⟨S1x655360x1, .i32⟩
  | 37 => ⟨S1x655360x1, .i32⟩
  | 38 => ⟨S1x655360x1, .i32⟩
  | 39 => ⟨S655360x1, .i32⟩
  | 40 => ⟨S1, .i32⟩
  | 41 => ⟨S_, .i32⟩
  | 42 => ⟨S655360x1, .i32⟩
  | 43 => ⟨S655360x1, .i1⟩
  | 44 => ⟨S1x1, .i32⟩
  | 45 => ⟨S655360x1, .i32⟩
  | 46 => ⟨S655360x1, .i1⟩
  | 47 => ⟨S655360x1, .i1⟩
  | 48 => ⟨S_, .i1⟩
  | 49 => ⟨S655360, .i1⟩
  | 50 => ⟨S1x655360x6, .f32⟩
  | 51 => ⟨S1x655360x6, .i1⟩
  | 52 => ⟨S_, .f32⟩
  | 53 => ⟨S1x655360x6, .f32⟩
  | 54 => ⟨S1x655360x6, .f32⟩
  | 55 => ⟨S1x655360x6, .f32⟩
  | 56 => ⟨S1x655360x6, .f32⟩
  | 57 => ⟨S_, .f32⟩
  | 58 => ⟨S1x655360, .f32⟩
  | 59 => ⟨S1x1x655360, .i1⟩
  | 60 => ⟨S1x655360, .i1⟩
  | 61 => ⟨S_, .f32⟩
  | 62 => ⟨S_, .f32⟩
  | 63 => ⟨S1x655360, .f32⟩
  | 64 => ⟨S1x655360, .f32⟩
  | 65 => ⟨S1x1x655360, .i32⟩
  | 66 => ⟨S1x655360, .i32⟩
  | 67 => ⟨S1x655360x1, .i32⟩
  | 68 => ⟨S_, .i32⟩
  | 69 => ⟨S1x655360x1, .i32⟩
  | 70 => ⟨S1x655360x1, .i1⟩
  | 71 => ⟨S_, .i32⟩
  | 72 => ⟨S1x655360x1, .i32⟩
  | 73 => ⟨S1x655360x1, .i32⟩
  | 74 => ⟨S1x655360x1, .i32⟩
  | 75 => ⟨S655360x1, .i32⟩
  | 76 => ⟨S1, .i32⟩
  | 77 => ⟨S_, .i32⟩
  | 78 => ⟨S655360x1, .i32⟩
  | 79 => ⟨S655360x1, .i1⟩
  | 80 => ⟨S1x1, .i32⟩
  | 81 => ⟨S655360x1, .i32⟩
  | 82 => ⟨S655360x1, .i1⟩
  | 83 => ⟨S655360x1, .i1⟩
  | 84 => ⟨S_, .i1⟩
  | 85 => ⟨S655360, .i1⟩
  | 86 => ⟨S1x655360x6, .f32⟩
  | 87 => ⟨S1x655360x6, .i1⟩
  | 88 => ⟨S_, .f32⟩
  | 89 => ⟨S1x655360x6, .f32⟩
  | 90 => ⟨S1x655360x6, .f32⟩
  | 91 => ⟨S1x655360x6, .f32⟩
  | 92 => ⟨S1x655360x6, .f32⟩
  | 93 => ⟨S_, .f32⟩
  | 94 => ⟨S1x655360, .f32⟩
  | 95 => ⟨S1x1x655360, .i1⟩
  | 96 => ⟨S1x655360, .i1⟩
  | 97 => ⟨S_, .f32⟩
  | 98 => ⟨S_, .f32⟩
  | 99 => ⟨S1x655360, .f32⟩
  | 100 => ⟨S1x655360, .f32⟩
  | 101 => ⟨S1x1x655360, .i32⟩
  | 102 => ⟨S1x655360, .i32⟩
  | 103 => ⟨S1x655360x1, .i32⟩
  | 104 => ⟨S_, .i32⟩
  | 105 => ⟨S1x655360x1, .i32⟩
  | 106 => ⟨S1x655360x1, .i1⟩
  | 107 => ⟨S_, .i32⟩
  | 108 => ⟨S1x655360x1, .i32⟩
  | 109 => ⟨S1x655360x1, .i32⟩
  | 110 => ⟨S1x655360x1, .i32⟩
  | 111 => ⟨S655360x1, .i32⟩
  | 112 => ⟨S1, .i32⟩
  | 113 => ⟨S_, .i32⟩
  | 114 => ⟨S655360x1, .i32⟩
  | 115 => ⟨S655360x1, .i1⟩
  | 116 => ⟨S1x1, .i32⟩
  | 117 => ⟨S655360x1, .i32⟩
  | 118 => ⟨S655360x1, .i1⟩
  | 119 => ⟨S655360x1, .i1⟩
  | 120 => ⟨S_, .i1⟩
  | 121 => ⟨S655360, .i1⟩
  | 122 => ⟨S1x655360x6, .f32⟩
  | 123 => ⟨S1x655360x6, .i1⟩
  | 124 => ⟨S_, .f32⟩
  | 125 => ⟨S1x655360x6, .f32⟩
  | 126 => ⟨S1x655360x6, .f32⟩
  | 127 => ⟨S1x655360x6, .f32⟩
  | _ => ⟨S1x3x8x256x320, .f32⟩

abbrev hbmTy0_19 (i : Nat) : BufTy := match i % 128 with
  | 0 => ⟨S1x655360x6, .f32⟩
  | 1 => ⟨S_, .f32⟩
  | 2 => ⟨S1x655360, .f32⟩
  | 3 => ⟨S1x1x655360, .i1⟩
  | 4 => ⟨S1x655360, .i1⟩
  | 5 => ⟨S_, .f32⟩
  | 6 => ⟨S_, .f32⟩
  | 7 => ⟨S1x655360, .f32⟩
  | 8 => ⟨S1x655360, .f32⟩
  | 9 => ⟨S1x1x655360, .i32⟩
  | 10 => ⟨S1x655360, .i32⟩
  | 11 => ⟨S1x655360x1, .i32⟩
  | 12 => ⟨S_, .i32⟩
  | 13 => ⟨S1x655360x1, .i32⟩
  | 14 => ⟨S1x655360x1, .i1⟩
  | 15 => ⟨S_, .i32⟩
  | 16 => ⟨S1x655360x1, .i32⟩
  | 17 => ⟨S1x655360x1, .i32⟩
  | 18 => ⟨S1x655360x1, .i32⟩
  | 19 => ⟨S655360x1, .i32⟩
  | 20 => ⟨S1, .i32⟩
  | 21 => ⟨S_, .i32⟩
  | 22 => ⟨S655360x1, .i32⟩
  | 23 => ⟨S655360x1, .i1⟩
  | 24 => ⟨S1x1, .i32⟩
  | 25 => ⟨S655360x1, .i32⟩
  | 26 => ⟨S655360x1, .i1⟩
  | 27 => ⟨S655360x1, .i1⟩
  | 28 => ⟨S_, .i1⟩
  | 29 => ⟨S655360, .i1⟩
  | 30 => ⟨S1x655360x6, .f32⟩
  | 31 => ⟨S1x655360x6, .i1⟩
  | 32 => ⟨S_, .f32⟩
  | 33 => ⟨S1x655360x6, .f32⟩
  | 34 => ⟨S1x655360x6, .f32⟩
  | 35 => ⟨S1x655360x6, .f32⟩
  | 36 => ⟨S1x655360x6, .f32⟩
  | 37 => ⟨S_, .f32⟩
  | 38 => ⟨S1x655360, .f32⟩
  | 39 => ⟨S1x1x655360, .i1⟩
  | 40 => ⟨S1x655360, .i1⟩
  | 41 => ⟨S_, .f32⟩
  | 42 => ⟨S_, .f32⟩
  | 43 => ⟨S1x655360, .f32⟩
  | 44 => ⟨S1x655360, .f32⟩
  | 45 => ⟨S1x1x655360, .i32⟩
  | 46 => ⟨S1x655360, .i32⟩
  | 47 => ⟨S1x655360x1, .i32⟩
  | 48 => ⟨S_, .i32⟩
  | 49 => ⟨S1x655360x1, .i32⟩
  | 50 => ⟨S1x655360x1, .i1⟩
  | 51 => ⟨S_, .i32⟩
  | 52 => ⟨S1x655360x1, .i32⟩
  | 53 => ⟨S1x655360x1, .i32⟩
  | 54 => ⟨S1x655360x1, .i32⟩
  | 55 => ⟨S655360x1, .i32⟩
  | 56 => ⟨S1, .i32⟩
  | 57 => ⟨S_, .i32⟩
  | 58 => ⟨S655360x1, .i32⟩
  | 59 => ⟨S655360x1, .i1⟩
  | 60 => ⟨S1x1, .i32⟩
  | 61 => ⟨S655360x1, .i32⟩
  | 62 => ⟨S655360x1, .i1⟩
  | 63 => ⟨S655360x1, .i1⟩
  | 64 => ⟨S_, .i1⟩
  | 65 => ⟨S655360, .i1⟩
  | 66 => ⟨S1x655360x6, .f32⟩
  | 67 => ⟨S1x655360x6, .i1⟩
  | 68 => ⟨S_, .f32⟩
  | 69 => ⟨S1x655360x6, .f32⟩
  | 70 => ⟨S1x655360x6, .f32⟩
  | 71 => ⟨S1x655360x6, .f32⟩
  | 72 => ⟨S1x655360x6, .f32⟩
  | 73 => ⟨S_, .f32⟩
  | 74 => ⟨S1x655360, .f32⟩
  | 75 => ⟨S1x1x655360, .i1⟩
  | 76 => ⟨S1x655360, .i1⟩
  | 77 => ⟨S_, .f32⟩
  | 78 => ⟨S_, .f32⟩
  | 79 => ⟨S1x655360, .f32⟩
  | 80 => ⟨S1x655360, .f32⟩
  | 81 => ⟨S1x1x655360, .i32⟩
  | 82 => ⟨S1x655360, .i32⟩
  | 83 => ⟨S1x655360x1, .i32⟩
  | 84 => ⟨S_, .i32⟩
  | 85 => ⟨S1x655360x1, .i32⟩
  | 86 => ⟨S1x655360x1, .i1⟩
  | 87 => ⟨S_, .i32⟩
  | 88 => ⟨S1x655360x1, .i32⟩
  | 89 => ⟨S1x655360x1, .i32⟩
  | 90 => ⟨S1x655360x1, .i32⟩
  | 91 => ⟨S655360x1, .i32⟩
  | 92 => ⟨S1, .i32⟩
  | 93 => ⟨S_, .i32⟩
  | 94 => ⟨S655360x1, .i32⟩
  | 95 => ⟨S655360x1, .i1⟩
  | 96 => ⟨S1x1, .i32⟩
  | 97 => ⟨S655360x1, .i32⟩
  | 98 => ⟨S655360x1, .i1⟩
  | 99 => ⟨S655360x1, .i1⟩
  | 100 => ⟨S_, .i1⟩
  | 101 => ⟨S655360, .i1⟩
  | 102 => ⟨S1x655360x6, .f32⟩
  | 103 => ⟨S1x655360x6, .i1⟩
  | 104 => ⟨S_, .f32⟩
  | 105 => ⟨S1x655360x6, .f32⟩
  | 106 => ⟨S1x655360x6, .f32⟩
  | 107 => ⟨S1x655360x6, .f32⟩
  | 108 => ⟨S1x655360x6, .f32⟩
  | 109 => ⟨S_, .f32⟩
  | 110 => ⟨S1x655360, .f32⟩
  | 111 => ⟨S1x1x655360, .i1⟩
  | 112 => ⟨S1x655360, .i1⟩
  | 113 => ⟨S_, .f32⟩
  | 114 => ⟨S_, .f32⟩
  | 115 => ⟨S1x655360, .f32⟩
  | 116 => ⟨S1x655360, .f32⟩
  | 117 => ⟨S1x1x655360, .i32⟩
  | 118 => ⟨S1x655360, .i32⟩
  | 119 => ⟨S1x655360x1, .i32⟩
  | 120 => ⟨S_, .i32⟩
  | 121 => ⟨S1x655360x1, .i32⟩
  | 122 => ⟨S1x655360x1, .i1⟩
  | 123 => ⟨S_, .i32⟩
  | 124 => ⟨S1x655360x1, .i32⟩
  | 125 => ⟨S1x655360x1, .i32⟩
  | 126 => ⟨S1x655360x1, .i32⟩
  | 127 => ⟨S655360x1, .i32⟩
  | _ => ⟨S1x3x8x256x320, .f32⟩

abbrev hbmTy0_20 (i : Nat) : BufTy := match i % 128 with
  | 0 => ⟨S1, .i32⟩
  | 1 => ⟨S_, .i32⟩
  | 2 => ⟨S655360x1, .i32⟩
  | 3 => ⟨S655360x1, .i1⟩
  | 4 => ⟨S1x1, .i32⟩
  | 5 => ⟨S655360x1, .i32⟩
  | 6 => ⟨S655360x1, .i1⟩
  | 7 => ⟨S655360x1, .i1⟩
  | 8 => ⟨S_, .i1⟩
  | 9 => ⟨S655360, .i1⟩
  | 10 => ⟨S1x655360x6, .f32⟩
  | 11 => ⟨S1x655360x6, .i1⟩
  | 12 => ⟨S_, .f32⟩
  | 13 => ⟨S1x655360x6, .f32⟩
  | 14 => ⟨S1x655360x6, .f32⟩
  | 15 => ⟨S1x655360x6, .f32⟩
  | 16 => ⟨S1x655360x6, .f32⟩
  | 17 => ⟨S_, .f32⟩
  | 18 => ⟨S1x655360, .f32⟩
  | 19 => ⟨S1x1x655360, .i1⟩
  | 20 => ⟨S1x655360, .i1⟩
  | 21 => ⟨S_, .f32⟩
  | 22 => ⟨S_, .f32⟩
  | 23 => ⟨S1x655360, .f32⟩
  | 24 => ⟨S1x655360, .f32⟩
  | 25 => ⟨S1x1x655360, .i32⟩
  | 26 => ⟨S1x655360, .i32⟩
  | 27 => ⟨S1x655360x1, .i32⟩
  | 28 => ⟨S_, .i32⟩
  | 29 => ⟨S1x655360x1, .i32⟩
  | 30 => ⟨S1x655360x1, .i1⟩
  | 31 => ⟨S_, .i32⟩
  | 32 => ⟨S1x655360x1, .i32⟩
  | 33 => ⟨S1x655360x1, .i32⟩
  | 34 => ⟨S1x655360x1, .i32⟩
  | 35 => ⟨S655360x1, .i32⟩
  | 36 => ⟨S1, .i32⟩
  | 37 => ⟨S_, .i32⟩
  | 38 => ⟨S655360x1, .i32⟩
  | 39 => ⟨S655360x1, .i1⟩
  | 40 => ⟨S1x1, .i32⟩
  | 41 => ⟨S655360x1, .i32⟩
  | 42 => ⟨S655360x1, .i1⟩
  | 43 => ⟨S655360x1, .i1⟩
  | 44 => ⟨S_, .i1⟩
  | 45 => ⟨S655360, .i1⟩
  | 46 => ⟨S1x655360x6, .f32⟩
  | 47 => ⟨S1x655360x6, .i1⟩
  | 48 => ⟨S_, .f32⟩
  | 49 => ⟨S1x655360x6, .f32⟩
  | 50 => ⟨S1x655360x6, .f32⟩
  | 51 => ⟨S1x655360x6, .f32⟩
  | 52 => ⟨S1x655360x6, .f32⟩
  | 53 => ⟨S_, .f32⟩
  | 54 => ⟨S1x655360, .f32⟩
  | 55 => ⟨S1x1x655360, .i1⟩
  | 56 => ⟨S1x655360, .i1⟩
  | 57 => ⟨S_, .f32⟩
  | 58 => ⟨S_, .f32⟩
  | 59 => ⟨S1x655360, .f32⟩
  | 60 => ⟨S1x655360, .f32⟩
  | 61 => ⟨S1x1x655360, .i32⟩
  | 62 => ⟨S1x655360, .i32⟩
  | 63 => ⟨S1x655360x1, .i32⟩
  | 64 => ⟨S_, .i32⟩
  | 65 => ⟨S1x655360x1, .i32⟩
  | 66 => ⟨S1x655360x1, .i1⟩
  | 67 => ⟨S_, .i32⟩
  | 68 => ⟨S1x655360x1, .i32⟩
  | 69 => ⟨S1x655360x1, .i32⟩
  | 70 => ⟨S1x655360x1, .i32⟩
  | 71 => ⟨S655360x1, .i32⟩
  | 72 => ⟨S1, .i32⟩
  | 73 => ⟨S_, .i32⟩
  | 74 => ⟨S655360x1, .i32⟩
  | 75 => ⟨S655360x1, .i1⟩
  | 76 => ⟨S1x1, .i32⟩
  | 77 => ⟨S655360x1, .i32⟩
  | 78 => ⟨S655360x1, .i1⟩
  | 79 => ⟨S655360x1, .i1⟩
  | 80 => ⟨S_, .i1⟩
  | 81 => ⟨S655360, .i1⟩
  | 82 => ⟨S1x655360x6, .f32⟩
  | 83 => ⟨S1x655360x6, .i1⟩
  | 84 => ⟨S_, .f32⟩
  | 85 => ⟨S1x655360x6, .f32⟩
  | 86 => ⟨S1x655360x6, .f32⟩
  | 87 => ⟨S1x655360x6, .f32⟩
  | 88 => ⟨S1x655360x6, .f32⟩
  | 89 => ⟨S_, .f32⟩
  | 90 => ⟨S1x655360, .f32⟩
  | 91 => ⟨S1x1x655360, .i1⟩
  | 92 => ⟨S1x655360, .i1⟩
  | 93 => ⟨S_, .f32⟩
  | 94 => ⟨S_, .f32⟩
  | 95 => ⟨S1x655360, .f32⟩
  | 96 => ⟨S1x655360, .f32⟩
  | 97 => ⟨S1x1x655360, .i32⟩
  | 98 => ⟨S1x655360, .i32⟩
  | 99 => ⟨S1x655360x1, .i32⟩
  | 100 => ⟨S_, .i32⟩
  | 101 => ⟨S1x655360x1, .i32⟩
  | 102 => ⟨S1x655360x1, .i1⟩
  | 103 => ⟨S_, .i32⟩
  | 104 => ⟨S1x655360x1, .i32⟩
  | 105 => ⟨S1x655360x1, .i32⟩
  | 106 => ⟨S1x655360x1, .i32⟩
  | 107 => ⟨S655360x1, .i32⟩
  | 108 => ⟨S1, .i32⟩
  | 109 => ⟨S_, .i32⟩
  | 110 => ⟨S655360x1, .i32⟩
  | 111 => ⟨S655360x1, .i1⟩
  | 112 => ⟨S1x1, .i32⟩
  | 113 => ⟨S655360x1, .i32⟩
  | 114 => ⟨S655360x1, .i1⟩
  | 115 => ⟨S655360x1, .i1⟩
  | 116 => ⟨S_, .i1⟩
  | 117 => ⟨S655360, .i1⟩
  | 118 => ⟨S1x655360x6, .f32⟩
  | 119 => ⟨S1x655360x6, .i1⟩
  | 120 => ⟨S_, .f32⟩
  | 121 => ⟨S1x655360x6, .f32⟩
  | 122 => ⟨S1x655360x6, .f32⟩
  | 123 => ⟨S1x655360x6, .f32⟩
  | 124 => ⟨S1x655360x6, .f32⟩
  | 125 => ⟨S_, .f32⟩
  | 126 => ⟨S1x655360, .f32⟩
  | 127 => ⟨S1x1x655360, .i1⟩
  | _ => ⟨S1x3x8x256x320, .f32⟩

abbrev hbmTy0_21 (i : Nat) : BufTy := match i % 128 with
  | 0 => ⟨S1x655360, .i1⟩
  | 1 => ⟨S_, .f32⟩
  | 2 => ⟨S_, .f32⟩
  | 3 => ⟨S1x655360, .f32⟩
  | 4 => ⟨S1x655360, .f32⟩
  | 5 => ⟨S1x1x655360, .i32⟩
  | 6 => ⟨S1x655360, .i32⟩
  | 7 => ⟨S1x655360x1, .i32⟩
  | 8 => ⟨S_, .i32⟩
  | 9 => ⟨S1x655360x1, .i32⟩
  | 10 => ⟨S1x655360x1, .i1⟩
  | 11 => ⟨S_, .i32⟩
  | 12 => ⟨S1x655360x1, .i32⟩
  | 13 => ⟨S1x655360x1, .i32⟩
  | 14 => ⟨S1x655360x1, .i32⟩
  | 15 => ⟨S655360x1, .i32⟩
  | 16 => ⟨S1, .i32⟩
  | 17 => ⟨S_, .i32⟩
  | 18 => ⟨S655360x1, .i32⟩
  | 19 => ⟨S655360x1, .i1⟩
  | 20 => ⟨S1x1, .i32⟩
  | 21 => ⟨S655360x1, .i32⟩
  | 22 => ⟨S655360x1, .i1⟩
  | 23 => ⟨S655360x1, .i1⟩
  | 24 => ⟨S_, .i1⟩
  | 25 => ⟨S655360, .i1⟩
  | 26 => ⟨S1x655360x6, .f32⟩
  | 27 => ⟨S1x655360x6, .i1⟩
  | 28 => ⟨S_, .f32⟩
  | 29 => ⟨S1x655360x6, .f32⟩
  | 30 => ⟨S1x655360x6, .f32⟩
  | 31 => ⟨S1x655360x6, .f32⟩
  | 32 => ⟨S1x655360x6, .f32⟩
  | 33 => ⟨S_, .f32⟩
  | 34 => ⟨S1x655360, .f32⟩
  | 35 => ⟨S1x1x655360, .i1⟩
  | 36 => ⟨S1x655360, .i1⟩
  | 37 => ⟨S_, .f32⟩
  | 38 => ⟨S_, .f32⟩
  | 39 => ⟨S1x655360, .f32⟩
  | 40 => ⟨S1x655360, .f32⟩
  | 41 => ⟨S1x1x655360, .i32⟩
  | 42 => ⟨S1x655360, .i32⟩
  | 43 => ⟨S1x655360x1, .i32⟩
  | 44 => ⟨S_, .i32⟩
  | 45 => ⟨S1x655360x1, .i32⟩
  | 46 => ⟨S1x655360x1, .i1⟩
  | 47 => ⟨S_, .i32⟩
  | 48 => ⟨S1x655360x1, .i32⟩
  | 49 => ⟨S1x655360x1, .i32⟩
  | 50 => ⟨S1x655360x1, .i32⟩
  | 51 => ⟨S655360x1, .i32⟩
  | 52 => ⟨S1, .i32⟩
  | 53 => ⟨S_, .i32⟩
  | 54 => ⟨S655360x1, .i32⟩
  | 55 => ⟨S655360x1, .i1⟩
  | 56 => ⟨S1x1, .i32⟩
  | 57 => ⟨S655360x1, .i32⟩
  | 58 => ⟨S655360x1, .i1⟩
  | 59 => ⟨S655360x1, .i1⟩
  | 60 => ⟨S_, .i1⟩
  | 61 => ⟨S655360, .i1⟩
  | 62 => ⟨S1x655360x6, .f32⟩
  | 63 => ⟨S1x655360x6, .i1⟩
  | 64 => ⟨S_, .f32⟩
  | 65 => ⟨S1x655360x6, .f32⟩
  | 66 => ⟨S1x655360x6, .f32⟩
  | 67 => ⟨S1x655360x6, .f32⟩
  | 68 => ⟨S1x655360x6, .f32⟩
  | 69 => ⟨S_, .f32⟩
  | 70 => ⟨S1x655360, .f32⟩
  | 71 => ⟨S1x1x655360, .i1⟩
  | 72 => ⟨S1x655360, .i1⟩
  | 73 => ⟨S_, .f32⟩
  | 74 => ⟨S_, .f32⟩
  | 75 => ⟨S1x655360, .f32⟩
  | 76 => ⟨S1x655360, .f32⟩
  | 77 => ⟨S1x1x655360, .i32⟩
  | 78 => ⟨S1x655360, .i32⟩
  | 79 => ⟨S1x655360x1, .i32⟩
  | 80 => ⟨S_, .i32⟩
  | 81 => ⟨S1x655360x1, .i32⟩
  | 82 => ⟨S1x655360x1, .i1⟩
  | 83 => ⟨S_, .i32⟩
  | 84 => ⟨S1x655360x1, .i32⟩
  | 85 => ⟨S1x655360x1, .i32⟩
  | 86 => ⟨S1x655360x1, .i32⟩
  | 87 => ⟨S655360x1, .i32⟩
  | 88 => ⟨S1, .i32⟩
  | 89 => ⟨S_, .i32⟩
  | 90 => ⟨S655360x1, .i32⟩
  | 91 => ⟨S655360x1, .i1⟩
  | 92 => ⟨S1x1, .i32⟩
  | 93 => ⟨S655360x1, .i32⟩
  | 94 => ⟨S655360x1, .i1⟩
  | 95 => ⟨S655360x1, .i1⟩
  | 96 => ⟨S_, .i1⟩
  | 97 => ⟨S655360, .i1⟩
  | 98 => ⟨S1x655360x6, .f32⟩
  | 99 => ⟨S1x655360x6, .i1⟩
  | 100 => ⟨S_, .f32⟩
  | 101 => ⟨S1x655360x6, .f32⟩
  | 102 => ⟨S1x655360x6, .f32⟩
  | 103 => ⟨S1x655360x6, .f32⟩
  | 104 => ⟨S1x655360x6, .f32⟩
  | 105 => ⟨S_, .f32⟩
  | 106 => ⟨S1x655360, .f32⟩
  | 107 => ⟨S1x1x655360, .i1⟩
  | 108 => ⟨S1x655360, .i1⟩
  | 109 => ⟨S_, .f32⟩
  | 110 => ⟨S_, .f32⟩
  | 111 => ⟨S1x655360, .f32⟩
  | 112 => ⟨S1x655360, .f32⟩
  | 113 => ⟨S1x1x655360, .i32⟩
  | 114 => ⟨S1x655360, .i32⟩
  | 115 => ⟨S1x655360x1, .i32⟩
  | 116 => ⟨S_, .i32⟩
  | 117 => ⟨S1x655360x1, .i32⟩
  | 118 => ⟨S1x655360x1, .i1⟩
  | 119 => ⟨S_, .i32⟩
  | 120 => ⟨S1x655360x1, .i32⟩
  | 121 => ⟨S1x655360x1, .i32⟩
  | 122 => ⟨S1x655360x1, .i32⟩
  | 123 => ⟨S655360x1, .i32⟩
  | 124 => ⟨S1, .i32⟩
  | 125 => ⟨S_, .i32⟩
  | 126 => ⟨S655360x1, .i32⟩
  | 127 => ⟨S655360x1, .i1⟩
  | _ => ⟨S1x3x8x256x320, .f32⟩

abbrev hbmTy0_22 (i : Nat) : BufTy := match i % 128 with
  | 0 => ⟨S1x1, .i32⟩
  | 1 => ⟨S655360x1, .i32⟩
  | 2 => ⟨S655360x1, .i1⟩
  | 3 => ⟨S655360x1, .i1⟩
  | 4 => ⟨S_, .i1⟩
  | 5 => ⟨S655360, .i1⟩
  | 6 => ⟨S1x655360x6, .f32⟩
  | 7 => ⟨S1x655360x6, .i1⟩
  | 8 => ⟨S_, .f32⟩
  | 9 => ⟨S1x655360x6, .f32⟩
  | 10 => ⟨S1x655360x6, .f32⟩
  | 11 => ⟨S1x655360x6, .f32⟩
  | 12 => ⟨S1x655360x6, .f32⟩
  | 13 => ⟨S_, .f32⟩
  | 14 => ⟨S1x655360, .f32⟩
  | 15 => ⟨S1x1x655360, .i1⟩
  | 16 => ⟨S1x655360, .i1⟩
  | 17 => ⟨S_, .f32⟩
  | 18 => ⟨S_, .f32⟩
  | 19 => ⟨S1x655360, .f32⟩
  | 20 => ⟨S1x655360, .f32⟩
  | 21 => ⟨S1x1x655360, .i32⟩
  | 22 => ⟨S1x655360, .i32⟩
  | 23 => ⟨S1x655360x1, .i32⟩
  | 24 => ⟨S_, .i32⟩
  | 25 => ⟨S1x655360x1, .i32⟩
  | 26 => ⟨S1x655360x1, .i1⟩
  | 27 => ⟨S_, .i32⟩
  | 28 => ⟨S1x655360x1, .i32⟩
  | 29 => ⟨S1x655360x1, .i32⟩
  | 30 => ⟨S1x655360x1, .i32⟩
  | 31 => ⟨S655360x1, .i32⟩
  | 32 => ⟨S1, .i32⟩
  | 33 => ⟨S_, .i32⟩
  | 34 => ⟨S655360x1, .i32⟩
  | 35 => ⟨S655360x1, .i1⟩
  | 36 => ⟨S1x1, .i32⟩
  | 37 => ⟨S655360x1, .i32⟩
  | 38 => ⟨S655360x1, .i1⟩
  | 39 => ⟨S655360x1, .i1⟩
  | 40 => ⟨S_, .i1⟩
  | 41 => ⟨S655360, .i1⟩
  | 42 => ⟨S1x655360x6, .f32⟩
  | 43 => ⟨S1x655360x6, .i1⟩
  | 44 => ⟨S_, .f32⟩
  | 45 => ⟨S1x655360x6, .f32⟩
  | 46 => ⟨S1x655360x6, .f32⟩
  | 47 => ⟨S1x655360x6, .f32⟩
  | 48 => ⟨S1x655360x6, .f32⟩
  | 49 => ⟨S_, .f32⟩
  | 50 => ⟨S1x655360, .f32⟩
  | 51 => ⟨S1x1x655360, .i1⟩
  | 52 => ⟨S1x655360, .i1⟩
  | 53 => ⟨S_, .f32⟩
  | 54 => ⟨S_, .f32⟩
  | 55 => ⟨S1x655360, .f32⟩
  | 56 => ⟨S1x655360, .f32⟩
  | 57 => ⟨S1x1x655360, .i32⟩
  | 58 => ⟨S1x655360, .i32⟩
  | 59 => ⟨S1x655360x1, .i32⟩
  | 60 => ⟨S_, .i32⟩
  | 61 => ⟨S1x655360x1, .i32⟩
  | 62 => ⟨S1x655360x1, .i1⟩
  | 63 => ⟨S_, .i32⟩
  | 64 => ⟨S1x655360x1, .i32⟩
  | 65 => ⟨S1x655360x1, .i32⟩
  | 66 => ⟨S1x655360x1, .i32⟩
  | 67 => ⟨S655360x1, .i32⟩
  | 68 => ⟨S1, .i32⟩
  | 69 => ⟨S_, .i32⟩
  | 70 => ⟨S655360x1, .i32⟩
  | 71 => ⟨S655360x1, .i1⟩
  | 72 => ⟨S1x1, .i32⟩
  | 73 => ⟨S655360x1, .i32⟩
  | 74 => ⟨S655360x1, .i1⟩
  | 75 => ⟨S655360x1, .i1⟩
  | 76 => ⟨S_, .i1⟩
  | 77 => ⟨S655360, .i1⟩
  | 78 => ⟨S1x655360x6, .f32⟩
  | 79 => ⟨S1x655360x6, .i1⟩
  | 80 => ⟨S_, .f32⟩
  | 81 => ⟨S1x655360x6, .f32⟩
  | 82 => ⟨S1x655360x6, .f32⟩
  | 83 => ⟨S1x655360x6, .f32⟩
  | 84 => ⟨S1x655360x6, .f32⟩
  | 85 => ⟨S_, .f32⟩
  | 86 => ⟨S1x655360, .f32⟩
  | 87 => ⟨S1x1x655360, .i1⟩
  | 88 => ⟨S1x655360, .i1⟩
  | 89 => ⟨S_, .f32⟩
  | 90 => ⟨S_, .f32⟩
  | 91 => ⟨S1x655360, .f32⟩
  | 92 => ⟨S1x655360, .f32⟩
  | 93 => ⟨S1x1x655360, .i32⟩
  | 94 => ⟨S1x655360, .i32⟩
  | 95 => ⟨S1x655360x1, .i32⟩
  | 96 => ⟨S_, .i32⟩
  | 97 => ⟨S1x655360x1, .i32⟩
  | 98 => ⟨S1x655360x1, .i1⟩
  | 99 => ⟨S_, .i32⟩
  | 100 => ⟨S1x655360x1, .i32⟩
  | 101 => ⟨S1x655360x1, .i32⟩
  | 102 => ⟨S1x655360x1, .i32⟩
  | 103 => ⟨S655360x1, .i32⟩
  | 104 => ⟨S1, .i32⟩
  | 105 => ⟨S_, .i32⟩
  | 106 => ⟨S655360x1, .i32⟩
  | 107 => ⟨S655360x1, .i1⟩
  | 108 => ⟨S1x1, .i32⟩
  | 109 => ⟨S655360x1, .i32⟩
  | 110 => ⟨S655360x1, .i1⟩
  | 111 => ⟨S655360x1, .i1⟩
  | 112 => ⟨S_, .i1⟩
  | 113 => ⟨S655360, .i1⟩
  | 114 => ⟨S1x655360x6, .f32⟩
  | 115 => ⟨S1x655360x6, .i1⟩
  | 116 => ⟨S_, .f32⟩
  | 117 => ⟨S1x655360x6, .f32⟩
  | 118 => ⟨S1x655360x6, .f32⟩
  | 119 => ⟨S1x655360x6, .f32⟩
  | 120 => ⟨S1x655360x6, .f32⟩
  | 121 => ⟨S_, .f32⟩
  | 122 => ⟨S1x655360, .f32⟩
  | 123 => ⟨S1x1x655360, .i1⟩
  | 124 => ⟨S1x655360, .i1⟩
  | 125 => ⟨S_, .f32⟩
  | 126 => ⟨S_, .f32⟩
  | 127 => ⟨S1x655360, .f32⟩
  | _ => ⟨S1x3x8x256x320, .f32⟩

abbrev hbmTy0_23 (i : Nat) : BufTy := match i % 128 with
  | 0 => ⟨S1x655360, .f32⟩
  | 1 => ⟨S1x1x655360, .i32⟩
  | 2 => ⟨S1x655360, .i32⟩
  | 3 => ⟨S1x655360x1, .i32⟩
  | 4 => ⟨S_, .i32⟩
  | 5 => ⟨S1x655360x1, .i32⟩
  | 6 => ⟨S1x655360x1, .i1⟩
  | 7 => ⟨S_, .i32⟩
  | 8 => ⟨S1x655360x1, .i32⟩
  | 9 => ⟨S1x655360x1, .i32⟩
  | 10 => ⟨S1x655360x1, .i32⟩
  | 11 => ⟨S655360x1, .i32⟩
  | 12 => ⟨S1, .i32⟩
  | 13 => ⟨S_, .i32⟩
  | 14 => ⟨S655360x1, .i32⟩
  | 15 => ⟨S655360x1, .i1⟩
  | 16 => ⟨S1x1, .i32⟩
  | 17 => ⟨S655360x1, .i32⟩
  | 18 => ⟨S655360x1, .i1⟩
  | 19 => ⟨S655360x1, .i1⟩
  | 20 => ⟨S_, .i1⟩
  | 21 => ⟨S655360, .i1⟩
  | 22 => ⟨S1x655360x6, .f32⟩
  | 23 => ⟨S1x655360x6, .i1⟩
  | 24 => ⟨S_, .f32⟩
  | 25 => ⟨S1x655360x6, .f32⟩
  | 26 => ⟨S1x655360x6, .f32⟩
  | 27 => ⟨S1x655360x6, .f32⟩
  | 28 => ⟨S1x655360x6, .f32⟩
  | 29 => ⟨S_, .f32⟩
  | 30 => ⟨S1x655360, .f32⟩
  | 31 => ⟨S1x1x655360, .i1⟩
  | 32 => ⟨S1x655360, .i1⟩
  | 33 => ⟨S_, .f32⟩
  | 34 => ⟨S_, .f32⟩
  | 35 => ⟨S1x655360, .f32⟩
  | 36 => ⟨S1x655360, .f32⟩
  | 37 => ⟨S1x1x655360, .i32⟩
  | 38 => ⟨S1x655360, .i32⟩
  | 39 => ⟨S1x655360x1, .i32⟩
  | 40 => ⟨S_, .i32⟩
  | 41 => ⟨S1x655360x1, .i32⟩
  | 42 => ⟨S1x655360x1, .i1⟩
  | 43 => ⟨S_, .i32⟩
  | 44 => ⟨S1x655360x1, .i32⟩
  | 45 => ⟨S1x655360x1, .i32⟩
  | 46 => ⟨S1x655360x1, .i32⟩
  | 47 => ⟨S655360x1, .i32⟩
  | 48 => ⟨S1, .i32⟩
  | 49 => ⟨S_, .i32⟩
  | 50 => ⟨S655360x1, .i32⟩
  | 51 => ⟨S655360x1, .i1⟩
  | 52 => ⟨S1x1, .i32⟩
  | 53 => ⟨S655360x1, .i32⟩
  | 54 => ⟨S655360x1, .i1⟩
  | 55 => ⟨S655360x1, .i1⟩
  | 56 => ⟨S_, .i1⟩
  | 57 => ⟨S655360, .i1⟩
  | 58 => ⟨S1x655360x6, .f32⟩
  | 59 => ⟨S1x655360x6, .i1⟩
  | 60 => ⟨S_, .f32⟩
  | 61 => ⟨S1x655360x6, .f32⟩
  | 62 => ⟨S1x655360x6, .f32⟩
  | 63 => ⟨S1x655360x6, .f32⟩
  | 64 => ⟨S1x655360x6, .f32⟩
  | 65 => ⟨S_, .f32⟩
  | 66 => ⟨S1x655360, .f32⟩
  | 67 => ⟨S1x1x655360, .i1⟩
  | 68 => ⟨S1x655360, .i1⟩
  | 69 => ⟨S_, .f32⟩
  | 70 => ⟨S_, .f32⟩
  | 71 => ⟨S1x655360, .f32⟩
  | 72 => ⟨S1x655360, .f32⟩
  | 73 => ⟨S1x1x655360, .i32⟩
  | 74 => ⟨S1x655360, .i32⟩
  | 75 => ⟨S1x655360x1, .i32⟩
  | 76 => ⟨S_, .i32⟩
  | 77 => ⟨S1x655360x1, .i32⟩
  | 78 => ⟨S1x655360x1, .i1⟩
  | 79 => ⟨S_, .i32⟩
  | 80 => ⟨S1x655360x1, .i32⟩
  | 81 => ⟨S1x655360x1, .i32⟩
  | 82 => ⟨S1x655360x1, .i32⟩
  | 83 => ⟨S655360x1, .i32⟩
  | 84 => ⟨S1, .i32⟩
  | 85 => ⟨S_, .i32⟩
  | 86 => ⟨S655360x1, .i32⟩
  | 87 => ⟨S655360x1, .i1⟩
  | 88 => ⟨S1x1, .i32⟩
  | 89 => ⟨S655360x1, .i32⟩
  | 90 => ⟨S655360x1, .i1⟩
  | 91 => ⟨S655360x1, .i1⟩
  | 92 => ⟨S_, .i1⟩
  | 93 => ⟨S655360, .i1⟩
  | 94 => ⟨S1x655360x6, .f32⟩
  | 95 => ⟨S1x655360x6, .i1⟩
  | 96 => ⟨S_, .f32⟩
  | 97 => ⟨S1x655360x6, .f32⟩
  | 98 => ⟨S1x655360x6, .f32⟩
  | 99 => ⟨S1x655360x6, .f32⟩
  | 100 => ⟨S1x655360x6, .f32⟩
  | 101 => ⟨S_, .f32⟩
  | 102 => ⟨S1x655360, .f32⟩
  | 103 => ⟨S1x1x655360, .i1⟩
  | 104 => ⟨S1x655360, .i1⟩
  | 105 => ⟨S_, .f32⟩
  | 106 => ⟨S_, .f32⟩
  | 107 => ⟨S1x655360, .f32⟩
  | 108 => ⟨S1x655360, .f32⟩
  | 109 => ⟨S1x1x655360, .i32⟩
  | 110 => ⟨S1x655360, .i32⟩
  | 111 => ⟨S1x655360x1, .i32⟩
  | 112 => ⟨S_, .i32⟩
  | 113 => ⟨S1x655360x1, .i32⟩
  | 114 => ⟨S1x655360x1, .i1⟩
  | 115 => ⟨S_, .i32⟩
  | 116 => ⟨S1x655360x1, .i32⟩
  | 117 => ⟨S1x655360x1, .i32⟩
  | 118 => ⟨S1x655360x1, .i32⟩
  | 119 => ⟨S655360x1, .i32⟩
  | 120 => ⟨S1, .i32⟩
  | 121 => ⟨S_, .i32⟩
  | 122 => ⟨S655360x1, .i32⟩
  | 123 => ⟨S655360x1, .i1⟩
  | 124 => ⟨S1x1, .i32⟩
  | 125 => ⟨S655360x1, .i32⟩
  | 126 => ⟨S655360x1, .i1⟩
  | 127 => ⟨S655360x1, .i1⟩
  | _ => ⟨S1x3x8x256x320, .f32⟩

abbrev hbmTy0_24 (i : Nat) : BufTy := match i % 128 with
  | 0 => ⟨S_, .i1⟩
  | 1 => ⟨S655360, .i1⟩
  | 2 => ⟨S1x655360x6, .f32⟩
  | 3 => ⟨S1x655360x6, .i1⟩
  | 4 => ⟨S_, .f32⟩
  | 5 => ⟨S1x655360x6, .f32⟩
  | 6 => ⟨S1x655360x6, .f32⟩
  | 7 => ⟨S1x655360x6, .f32⟩
  | 8 => ⟨S1x655360x6, .f32⟩
  | 9 => ⟨S_, .f32⟩
  | 10 => ⟨S1x655360, .f32⟩
  | 11 => ⟨S1x1x655360, .i1⟩
  | 12 => ⟨S1x655360, .i1⟩
  | 13 => ⟨S_, .f32⟩
  | 14 => ⟨S_, .f32⟩
  | 15 => ⟨S1x655360, .f32⟩
  | 16 => ⟨S1x655360, .f32⟩
  | 17 => ⟨S1x1x655360, .i32⟩
  | 18 => ⟨S1x655360, .i32⟩
  | 19 => ⟨S1x655360x1, .i32⟩
  | 20 => ⟨S_, .i32⟩
  | 21 => ⟨S1x655360x1, .i32⟩
  | 22 => ⟨S1x655360x1, .i1⟩
  | 23 => ⟨S_, .i32⟩
  | 24 => ⟨S1x655360x1, .i32⟩
  | 25 => ⟨S1x655360x1, .i32⟩
  | 26 => ⟨S1x655360x1, .i32⟩
  | 27 => ⟨S655360x1, .i32⟩
  | 28 => ⟨S1, .i32⟩
  | 29 => ⟨S_, .i32⟩
  | 30 => ⟨S655360x1, .i32⟩
  | 31 => ⟨S655360x1, .i1⟩
  | 32 => ⟨S1x1, .i32⟩
  | 33 => ⟨S655360x1, .i32⟩
  | 34 => ⟨S655360x1, .i1⟩
  | 35 => ⟨S655360x1, .i1⟩
  | 36 => ⟨S_, .i1⟩
  | 37 => ⟨S655360, .i1⟩
  | 38 => ⟨S1x655360x6, .f32⟩
  | 39 => ⟨S1x655360x6, .i1⟩
  | 40 => ⟨S_, .f32⟩
  | 41 => ⟨S1x655360x6, .f32⟩
  | 42 => ⟨S1x655360x6, .f32⟩
  | 43 => ⟨S1x655360x6, .f32⟩
  | 44 => ⟨S1x655360x6, .f32⟩
  | 45 => ⟨S_, .f32⟩
  | 46 => ⟨S1x655360, .f32⟩
  | 47 => ⟨S1x1x655360, .i1⟩
  | 48 => ⟨S1x655360, .i1⟩
  | 49 => ⟨S_, .f32⟩
  | 50 => ⟨S_, .f32⟩
  | 51 => ⟨S1x655360, .f32⟩
  | 52 => ⟨S1x655360, .f32⟩
  | 53 => ⟨S1x1x655360, .i32⟩
  | 54 => ⟨S1x655360, .i32⟩
  | 55 => ⟨S1x655360x1, .i32⟩
  | 56 => ⟨S_, .i32⟩
  | 57 => ⟨S1x655360x1, .i32⟩
  | 58 => ⟨S1x655360x1, .i1⟩
  | 59 => ⟨S_, .i32⟩
  | 60 => ⟨S1x655360x1, .i32⟩
  | 61 => ⟨S1x655360x1, .i32⟩
  | 62 => ⟨S1x655360x1, .i32⟩
  | 63 => ⟨S655360x1, .i32⟩
  | 64 => ⟨S1, .i32⟩
  | 65 => ⟨S_, .i32⟩
  | 66 => ⟨S655360x1, .i32⟩
  | 67 => ⟨S655360x1, .i1⟩
  | 68 => ⟨S1x1, .i32⟩
  | 69 => ⟨S655360x1, .i32⟩
  | 70 => ⟨S655360x1, .i1⟩
  | 71 => ⟨S655360x1, .i1⟩
  | 72 => ⟨S_, .i1⟩
  | 73 => ⟨S655360, .i1⟩
  | 74 => ⟨S1x655360x6, .f32⟩
  | 75 => ⟨S1x655360x6, .i1⟩
  | 76 => ⟨S_, .f32⟩
  | 77 => ⟨S1x655360x6, .f32⟩
  | 78 => ⟨S1x655360x6, .f32⟩
  | 79 => ⟨S1x655360x6, .f32⟩
  | 80 => ⟨S1x655360x6, .f32⟩
  | 81 => ⟨S_, .f32⟩
  | 82 => ⟨S1x655360, .f32⟩
  | 83 => ⟨S1x1x655360, .i1⟩
  | 84 => ⟨S1x655360, .i1⟩
  | 85 => ⟨S_, .f32⟩
  | 86 => ⟨S_, .f32⟩
  | 87 => ⟨S1x655360, .f32⟩
  | 88 => ⟨S1x655360, .f32⟩
  | 89 => ⟨S1x1x655360, .i32⟩
  | 90 => ⟨S1x655360, .i32⟩
  | 91 => ⟨S1x655360x1, .i32⟩
  | 92 => ⟨S_, .i32⟩
  | 93 => ⟨S1x655360x1, .i32⟩
  | 94 => ⟨S1x655360x1, .i1⟩
  | 95 => ⟨S_, .i32⟩
  | 96 => ⟨S1x655360x1, .i32⟩
  | 97 => ⟨S1x655360x1, .i32⟩
  | 98 => ⟨S1x655360x1, .i32⟩
  | 99 => ⟨S655360x1, .i32⟩
  | 100 => ⟨S1, .i32⟩
  | 101 => ⟨S_, .i32⟩
  | 102 => ⟨S655360x1, .i32⟩
  | 103 => ⟨S655360x1, .i1⟩
  | 104 => ⟨S1x1, .i32⟩
  | 105 => ⟨S655360x1, .i32⟩
  | 106 => ⟨S655360x1, .i1⟩
  | 107 => ⟨S655360x1, .i1⟩
  | 108 => ⟨S_, .i1⟩
  | 109 => ⟨S655360, .i1⟩
  | 110 => ⟨S1x655360x6, .f32⟩
  | 111 => ⟨S1x655360x6, .i1⟩
  | 112 => ⟨S_, .f32⟩
  | 113 => ⟨S1x655360x6, .f32⟩
  | 114 => ⟨S1x655360x6, .f32⟩
  | 115 => ⟨S1x655360x6, .f32⟩
  | 116 => ⟨S1x655360x6, .f32⟩
  | 117 => ⟨S_, .f32⟩
  | 118 => ⟨S1x655360, .f32⟩
  | 119 => ⟨S1x1x655360, .i1⟩
  | 120 => ⟨S1x655360, .i1⟩
  | 121 => ⟨S_, .f32⟩
  | 122 => ⟨S_, .f32⟩
  | 123 => ⟨S1x655360, .f32⟩
  | 124 => ⟨S1x655360, .f32⟩
  | 125 => ⟨S1x1x655360, .i32⟩
  | 126 => ⟨S1x655360, .i32⟩
  | 127 => ⟨S1x655360x1, .i32⟩
  | _ => ⟨S1x3x8x256x320, .f32⟩

abbrev hbmTy0_25 (i : Nat) : BufTy := match i % 128 with
  | 0 => ⟨S_, .i32⟩
  | 1 => ⟨S1x655360x1, .i32⟩
  | 2 => ⟨S1x655360x1, .i1⟩
  | 3 => ⟨S_, .i32⟩
  | 4 => ⟨S1x655360x1, .i32⟩
  | 5 => ⟨S1x655360x1, .i32⟩
  | 6 => ⟨S1x655360x1, .i32⟩
  | 7 => ⟨S655360x1, .i32⟩
  | 8 => ⟨S1, .i32⟩
  | 9 => ⟨S_, .i32⟩
  | 10 => ⟨S655360x1, .i32⟩
  | 11 => ⟨S655360x1, .i1⟩
  | 12 => ⟨S1x1, .i32⟩
  | 13 => ⟨S655360x1, .i32⟩
  | 14 => ⟨S655360x1, .i1⟩
  | 15 => ⟨S655360x1, .i1⟩
  | 16 => ⟨S_, .i1⟩
  | 17 => ⟨S655360, .i1⟩
  | 18 => ⟨S1x655360x6, .f32⟩
  | 19 => ⟨S1x655360x6, .i1⟩
  | 20 => ⟨S_, .f32⟩
  | 21 => ⟨S1x655360x6, .f32⟩
  | 22 => ⟨S1x655360x6, .f32⟩
  | 23 => ⟨S1x655360x6, .f32⟩
  | 24 => ⟨S1x655360x6, .f32⟩
  | 25 => ⟨S_, .f32⟩
  | 26 => ⟨S1x655360, .f32⟩
  | 27 => ⟨S1x1x655360, .i1⟩
  | 28 => ⟨S1x655360, .i1⟩
  | 29 => ⟨S_, .f32⟩
  | 30 => ⟨S_, .f32⟩
  | 31 => ⟨S1x655360, .f32⟩
  | 32 => ⟨S1x655360, .f32⟩
  | 33 => ⟨S1x1x655360, .i32⟩
  | 34 => ⟨S1x655360, .i32⟩
  | 35 => ⟨S1x655360x1, .i32⟩
  | 36 => ⟨S_, .i32⟩
  | 37 => ⟨S1x655360x1, .i32⟩
  | 38 => ⟨S1x655360x1, .i1⟩
  | 39 => ⟨S_, .i32⟩
  | 40 => ⟨S1x655360x1, .i32⟩
  | 41 => ⟨S1x655360x1, .i32⟩
  | 42 => ⟨S1x655360x1, .i32⟩
  | 43 => ⟨S655360x1, .i32⟩
  | 44 => ⟨S1, .i32⟩
  | 45 => ⟨S_, .i32⟩
  | 46 => ⟨S655360x1, .i32⟩
  | 47 => ⟨S655360x1, .i1⟩
  | 48 => ⟨S1x1, .i32⟩
  | 49 => ⟨S655360x1, .i32⟩
  | 50 => ⟨S655360x1, .i1⟩
  | 51 => ⟨S655360x1, .i1⟩
  | 52 => ⟨S_, .i1⟩
  | 53 => ⟨S655360, .i1⟩
  | 54 => ⟨S1x655360x6, .f32⟩
  | 55 => ⟨S1x655360x6, .i1⟩
  | 56 => ⟨S_, .f32⟩
  | 57 => ⟨S1x655360x6, .f32⟩
  | 58 => ⟨S1x655360x6, .f32⟩
  | 59 => ⟨S1x655360x6, .f32⟩
  | 60 => ⟨S1x655360x6, .f32⟩
  | 61 => ⟨S_, .f32⟩
  | 62 => ⟨S1x655360, .f32⟩
  | 63 => ⟨S1x1x655360, .i1⟩
  | 64 => ⟨S1x655360, .i1⟩
  | 65 => ⟨S_, .f32⟩
  | 66 => ⟨S_, .f32⟩
  | 67 => ⟨S1x655360, .f32⟩
  | 68 => ⟨S1x655360, .f32⟩
  | 69 => ⟨S1x1x655360, .f32⟩
  | 70 => ⟨S1x1x655360, .f32⟩
  | 71 => ⟨S1x1x655360, .f32⟩
  | 72 => ⟨S1x1x655360, .f32⟩
  | 73 => ⟨S1x1x655360, .f32⟩
  | 74 => ⟨S1x1x655360, .f32⟩
  | 75 => ⟨S1x1x655360, .f32⟩
  | 76 => ⟨S1x1x655360, .f32⟩
  | 77 => ⟨S1x1x655360, .f32⟩
  | 78 => ⟨S1x1x655360, .f32⟩
  | 79 => ⟨S1x1x655360, .f32⟩
  | 80 => ⟨S1x1x655360, .f32⟩
  | 81 => ⟨S1x1x655360, .f32⟩
  | 82 => ⟨S1x1x655360, .f32⟩
  | 83 => ⟨S1x1x655360, .f32⟩
  | 84 => ⟨S1x1x655360, .f32⟩
  | 85 => ⟨S1x1x655360, .f32⟩
  | 86 => ⟨S1x1x655360, .f32⟩
  | 87 => ⟨S1x1x655360, .f32⟩
  | 88 => ⟨S1x1x655360, .f32⟩
  | 89 => ⟨S1x1x655360, .f32⟩
  | 90 => ⟨S1x1x655360, .f32⟩
  | 91 => ⟨S1x1x655360, .f32⟩
  | 92 => ⟨S1x1x655360, .f32⟩
  | 93 => ⟨S1x1x655360, .f32⟩
  | 94 => ⟨S1x1x655360, .f32⟩
  | 95 => ⟨S1x1x655360, .f32⟩
  | 96 => ⟨S1x16x655360, .f32⟩
  | 97 => ⟨S1x11x655360, .f32⟩
  | 98 => ⟨S1x27x655360, .f32⟩
  | 99 => ⟨S1x27x8x256x320, .f32⟩
  | 100 => ⟨S_, .f32⟩
  | 101 => ⟨S1x27x8x256x320, .f32⟩
  | 102 => ⟨S1x27x8x256x320, .f32⟩
  | 103 => ⟨S_, .f32⟩
  | 104 => ⟨S1x8x256x320, .f32⟩
  | 105 => ⟨S_, .f32⟩
  | 106 => ⟨S1x8x256x320, .f32⟩
  | 107 => ⟨S1x8x256x320, .f32⟩
  | 108 => ⟨S1x1x8x256x320, .f32⟩
  | 109 => ⟨S1x27x8x256x320, .f32⟩
  | 110 => ⟨S1x27x8x256x320, .f32⟩
  | 111 => ⟨S1x27x8x256x320, .f32⟩
  | 112 => ⟨S_, .f32⟩
  | 113 => ⟨S1x8x256x320, .f32⟩
  | 114 => ⟨S1x1x8x256x320, .f32⟩
  | 115 => ⟨S1x27x8x256x320, .f32⟩
  | 116 => ⟨S1x27x8x256x320, .f32⟩
  | 117 => ⟨S1x6x655360, .f32⟩
  | 118 => ⟨S1x655360x6, .f32⟩
  | 119 => ⟨S1x27x655360, .f32⟩
  | 120 => ⟨S1x655360, .i32⟩
  | 121 => ⟨S_, .i32⟩
  | 122 => ⟨S_, .i32⟩
  | 123 => ⟨S1x655360, .i32⟩
  | 124 => ⟨S1x655360, .i32⟩
  | 125 => ⟨S1x655360, .i32⟩
  | 126 => ⟨S_, .i32⟩
  | 127 => ⟨S1x655360, .i32⟩
  | _ => ⟨S1x3x8x256x320, .f32⟩

abbrev hbmTy0_26 (i : Nat) : BufTy := match i % 128 with
  | 0 => ⟨S1x655360, .i1⟩
  | 1 => ⟨S1x655360, .i32⟩
  | 2 => ⟨S1x655360, .i32⟩
  | 3 => ⟨S_, .i32⟩
  | 4 => ⟨S1x655360, .i32⟩
  | 5 => ⟨S1x655360, .i1⟩
  | 6 => ⟨S1x655360, .i1⟩
  | 7 => ⟨S_, .i32⟩
  | 8 => ⟨S1x655360, .i32⟩
  | 9 => ⟨S1x655360, .i32⟩
  | 10 => ⟨S1x655360, .i32⟩
  | 11 => ⟨S_, .i32⟩
  | 12 => ⟨S_, .i32⟩
  | 13 => ⟨S1x655360, .i32⟩
  | 14 => ⟨S1x655360, .i32⟩
  | 15 => ⟨S1x655360, .i32⟩
  | 16 => ⟨S_, .i32⟩
  | 17 => ⟨S1x655360, .i32⟩
  | 18 => ⟨S1x655360, .i1⟩
  | 19 => ⟨S1x655360, .i32⟩
  | 20 => ⟨S1x655360, .i32⟩
  | 21 => ⟨S_, .i32⟩
  | 22 => ⟨S1x655360, .i32⟩
  | 23 => ⟨S1x655360, .i1⟩
  | 24 => ⟨S1x655360, .i1⟩
  | 25 => ⟨S_, .i32⟩
  | 26 => ⟨S1x655360, .i32⟩
  | 27 => ⟨S1x655360, .i32⟩
  | 28 => ⟨S1x655360, .i32⟩
  | 29 => ⟨S_, .i32⟩
  | 30 => ⟨S_, .i32⟩
  | 31 => ⟨S_, .i32⟩
  | 32 => ⟨S_, .i1⟩
  | 33 => ⟨S_, .i32⟩
  | 34 => ⟨S_, .i32⟩
  | 35 => ⟨S1x655360, .i32⟩
  | 36 => ⟨S1x655360, .i32⟩
  | 37 => ⟨S_, .i32⟩
  | 38 => ⟨S1x655360, .i32⟩
  | 39 => ⟨S1x655360, .i1⟩
  | 40 => ⟨S_, .i32⟩
  | 41 => ⟨S1x655360, .i32⟩
  | 42 => ⟨S1x655360, .i1⟩
  | 43 => ⟨S_, .i32⟩
  | 44 => ⟨S_, .i1⟩
  | 45 => ⟨S1x655360, .i1⟩
  | 46 => ⟨S1x655360, .i1⟩
  | 47 => ⟨S1x655360, .i1⟩
  | 48 => ⟨S1x655360, .i32⟩
  | 49 => ⟨S1x655360, .i32⟩
  | 50 => ⟨S1x655360, .i32⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S1x655360, .i32⟩
  | 58 => ⟨S1x655360, .i32⟩
  | 59 => ⟨S_, .i32⟩
  | 60 => ⟨S1x655360, .i32⟩
  | 61 => ⟨S1x655360, .i1⟩
  | 62 => ⟨S_, .i32⟩
  | 63 => ⟨S1x655360, .i32⟩
  | 64 => ⟨S1x655360, .i1⟩
  | 65 => ⟨S_, .i32⟩
  | 66 => ⟨S_, .i1⟩
  | 67 => ⟨S1x655360, .i1⟩
  | 68 => ⟨S1x655360, .i1⟩
  | 69 => ⟨S1x655360, .i1⟩
  | 70 => ⟨S1x655360, .i32⟩
  | 71 => ⟨S1x655360, .i32⟩
  | 72 => ⟨S1x655360, .i32⟩
  | 73 => ⟨S1x1x655360, .i32⟩
  | 74 => ⟨S1x27x1, .i32⟩
  | 75 => ⟨S1x27x655360, .i32⟩
  | 76 => ⟨S1x27x655360, .i32⟩
  | 77 => ⟨S1x27x655360, .i32⟩
  | 78 => ⟨S1x1x655360, .i32⟩
  | 79 => ⟨S1x27x1, .i32⟩
  | 80 => ⟨S1x27x655360, .i32⟩
  | 81 => ⟨S1x27x655360, .i32⟩
  | 82 => ⟨S1x27x655360, .i32⟩
  | 83 => ⟨S1x1x655360, .i32⟩
  | 84 => ⟨S1x27x1, .i32⟩
  | 85 => ⟨S1x27x655360, .i32⟩
  | 86 => ⟨S1x27x655360, .i32⟩
  | 87 => ⟨S1x27x655360, .i32⟩
  | 88 => ⟨S_, .i32⟩
  | 89 => ⟨S1x27x655360, .i32⟩
  | 90 => ⟨S1x27x655360, .i1⟩
  | 91 => ⟨S_, .i32⟩
  | 92 => ⟨S1x27x655360, .i32⟩
  | 93 => ⟨S1x27x655360, .i1⟩
  | 94 => ⟨S1x27x655360, .i1⟩
  | 95 => ⟨S_, .i32⟩
  | 96 => ⟨S1x27x655360, .i32⟩
  | 97 => ⟨S1x27x655360, .i1⟩
  | 98 => ⟨S1x27x655360, .i1⟩
  | 99 => ⟨S_, .i32⟩
  | 100 => ⟨S1x27x655360, .i32⟩
  | 101 => ⟨S1x27x655360, .i1⟩
  | 102 => ⟨S1x27x655360, .i1⟩
  | 103 => ⟨S_, .i32⟩
  | 104 => ⟨S1x27x655360, .i32⟩
  | 105 => ⟨S1x27x655360, .i1⟩
  | 106 => ⟨S1x27x655360, .i1⟩
  | 107 => ⟨S_, .i32⟩
  | 108 => ⟨S1x27x655360, .i32⟩
  | 109 => ⟨S1x27x655360, .i1⟩
  | 110 => ⟨S1x27x655360, .i1⟩
  | 111 => ⟨S_, .i32⟩
  | 112 => ⟨S_, .i32⟩
  | 113 => ⟨S_, .i32⟩
  | 114 => ⟨S1x27x655360, .i32⟩
  | 115 => ⟨S1x27x655360, .i32⟩
  | 116 => ⟨S_, .i32⟩
  | 117 => ⟨S1x27x655360, .i32⟩
  | 118 => ⟨S1x27x655360, .i32⟩
  | 119 => ⟨S_, .i32⟩
  | 120 => ⟨S1x27x655360, .i32⟩
  | 121 => ⟨S1x27x655360, .i32⟩
  | 122 => ⟨S_, .i32⟩
  | 123 => ⟨S_, .i32⟩
  | 124 => ⟨S_, .i32⟩
  | 125 => ⟨S1x27x655360, .i32⟩
  | 126 => ⟨S1x27x655360, .i32⟩
  | 127 => ⟨S_, .i32⟩
  | _ => ⟨S1x3x8x256x320, .f32⟩

abbrev hbmTy0_27 (i : Nat) : BufTy := match i % 128 with
  | 0 => ⟨S1x27x655360, .i32⟩
  | 1 => ⟨S1x27x655360, .i32⟩
  | 2 => ⟨S1x27x655360, .i32⟩
  | 3 => ⟨S_, .i32⟩
  | 4 => ⟨S1x27x655360, .i32⟩
  | 5 => ⟨S1x27x655360, .i32⟩
  | 6 => ⟨S_, .i32⟩
  | 7 => ⟨S_, .i32⟩
  | 8 => ⟨S_, .i32⟩
  | 9 => ⟨S1x27x655360, .i32⟩
  | 10 => ⟨S1x27x655360, .i32⟩
  | 11 => ⟨S_, .i32⟩
  | 12 => ⟨S1x27x655360, .i32⟩
  | 13 => ⟨S1x27x655360, .i32⟩
  | 14 => ⟨S1x27x655360, .i32⟩
  | 15 => ⟨S1, .i32⟩
  | 16 => ⟨S1x1, .i32⟩
  | 17 => ⟨S_, .i32⟩
  | 18 => ⟨S1x1, .i32⟩
  | 19 => ⟨S1x1, .i32⟩
  | 20 => ⟨S_, .f32⟩
  | 21 => ⟨S520x6, .f32⟩
  | 22 => ⟨S_, .f32⟩
  | 23 => ⟨S520, .f32⟩
  | 24 => ⟨S1x1x655360, .i1⟩
  | 25 => ⟨S1x655360, .i1⟩
  | 26 => ⟨S1x1x655360, .f32⟩
  | 27 => ⟨S1x655360, .f32⟩
  | 28 => ⟨S_, .f32⟩
  | 29 => ⟨S_, .f32⟩
  | 30 => ⟨S1x655360, .f32⟩
  | 31 => ⟨S1x655360, .f32⟩
  | 32 => ⟨S1x1x655360, .i32⟩
  | 33 => ⟨S1x655360, .i32⟩
  | 34 => ⟨S1x655360, .i32⟩
  | 35 => ⟨S1x655360, .i32⟩
  | 36 => ⟨S655360, .i32⟩
  | 37 => ⟨S1x655360x1, .f32⟩
  | 38 => ⟨S1x655360x6, .f32⟩
  | 39 => ⟨S1x655360x6, .f32⟩
  | 40 => ⟨S655360x6, .f32⟩
  | 41 => ⟨S_, .f32⟩
  | 42 => ⟨S520x6, .f32⟩
  | 43 => ⟨S655360x1, .i32⟩
  | 44 => ⟨S520x6, .f32⟩
  | 45 => ⟨S520x6, .f32⟩
  | 46 => ⟨S655360, .f32⟩
  | 47 => ⟨S_, .f32⟩
  | 48 => ⟨S520, .f32⟩
  | 49 => ⟨S655360x1, .i32⟩
  | 50 => ⟨S520, .f32⟩
  | 51 => ⟨S520, .f32⟩
  | 52 => ⟨S1x1x655360, .i1⟩
  | 53 => ⟨S1x655360, .i1⟩
  | 54 => ⟨S1x1x655360, .f32⟩
  | 55 => ⟨S1x655360, .f32⟩
  | 56 => ⟨S_, .f32⟩
  | 57 => ⟨S_, .f32⟩
  | 58 => ⟨S1x655360, .f32⟩
  | 59 => ⟨S1x655360, .f32⟩
  | 60 => ⟨S1x1x655360, .i32⟩
  | 61 => ⟨S1x655360, .i32⟩
  | 62 => ⟨S1x655360, .i32⟩
  | 63 => ⟨S1x655360, .i32⟩
  | 64 => ⟨S655360, .i32⟩
  | 65 => ⟨S1x655360x1, .f32⟩
  | 66 => ⟨S1x655360x6, .f32⟩
  | 67 => ⟨S1x655360x6, .f32⟩
  | 68 => ⟨S655360x6, .f32⟩
  | 69 => ⟨S_, .f32⟩
  | 70 => ⟨S520x6, .f32⟩
  | 71 => ⟨S655360x1, .i32⟩
  | 72 => ⟨S520x6, .f32⟩
  | 73 => ⟨S520x6, .f32⟩
  | 74 => ⟨S655360, .f32⟩
  | 75 => ⟨S_, .f32⟩
  | 76 => ⟨S520, .f32⟩
  | 77 => ⟨S655360x1, .i32⟩
  | 78 => ⟨S520, .f32⟩
  | 79 => ⟨S520, .f32⟩
  | 80 => ⟨S1x1x655360, .i1⟩
  | 81 => ⟨S1x655360, .i1⟩
  | 82 => ⟨S1x1x655360, .f32⟩
  | 83 => ⟨S1x655360, .f32⟩
  | 84 => ⟨S_, .f32⟩
  | 85 => ⟨S_, .f32⟩
  | 86 => ⟨S1x655360, .f32⟩
  | 87 => ⟨S1x655360, .f32⟩
  | 88 => ⟨S1x1x655360, .i32⟩
  | 89 => ⟨S1x655360, .i32⟩
  | 90 => ⟨S1x655360, .i32⟩
  | 91 => ⟨S1x655360, .i32⟩
  | 92 => ⟨S655360, .i32⟩
  | 93 => ⟨S1x655360x1, .f32⟩
  | 94 => ⟨S1x655360x6, .f32⟩
  | 95 => ⟨S1x655360x6, .f32⟩
  | 96 => ⟨S655360x6, .f32⟩
  | 97 => ⟨S_, .f32⟩
  | 98 => ⟨S520x6, .f32⟩
  | 99 => ⟨S655360x1, .i32⟩
  | 100 => ⟨S520x6, .f32⟩
  | 101 => ⟨S520x6, .f32⟩
  | 102 => ⟨S655360, .f32⟩
  | 103 => ⟨S_, .f32⟩
  | 104 => ⟨S520, .f32⟩
  | 105 => ⟨S655360x1, .i32⟩
  | 106 => ⟨S520, .f32⟩
  | 107 => ⟨S520, .f32⟩
  | 108 => ⟨S1x1x655360, .i1⟩
  | 109 => ⟨S1x655360, .i1⟩
  | 110 => ⟨S1x1x655360, .f32⟩
  | 111 => ⟨S1x655360, .f32⟩
  | 112 => ⟨S_, .f32⟩
  | 113 => ⟨S_, .f32⟩
  | 114 => ⟨S1x655360, .f32⟩
  | 115 => ⟨S1x655360, .f32⟩
  | 116 => ⟨S1x1x655360, .i32⟩
  | 117 => ⟨S1x655360, .i32⟩
  | 118 => ⟨S1x655360, .i32⟩
  | 119 => ⟨S1x655360, .i32⟩
  | 120 => ⟨S655360, .i32⟩
  | 121 => ⟨S1x655360x1, .f32⟩
  | 122 => ⟨S1x655360x6, .f32⟩
  | 123 => ⟨S1x655360x6, .f32⟩
  | 124 => ⟨S655360x6, .f32⟩
  | 125 => ⟨S_, .f32⟩
  | 126 => ⟨S520x6, .f32⟩
  | 127 => ⟨S655360x1, .i32⟩
  | _ => ⟨S1x3x8x256x320, .f32⟩

abbrev hbmTy0_28 (i : Nat) : BufTy := match i % 128 with
  | 0 => ⟨S520x6, .f32⟩
  | 1 => ⟨S520x6, .f32⟩
  | 2 => ⟨S655360, .f32⟩
  | 3 => ⟨S_, .f32⟩
  | 4 => ⟨S520, .f32⟩
  | 5 => ⟨S655360x1, .i32⟩
  | 6 => ⟨S520, .f32⟩
  | 7 => ⟨S520, .f32⟩
  | 8 => ⟨S1x1x655360, .i1⟩
  | 9 => ⟨S1x655360, .i1⟩
  | 10 => ⟨S1x1x655360, .f32⟩
  | 11 => ⟨S1x655360, .f32⟩
  | 12 => ⟨S_, .f32⟩
  | 13 => ⟨S_, .f32⟩
  | 14 => ⟨S1x655360, .f32⟩
  | 15 => ⟨S1x655360, .f32⟩
  | 16 => ⟨S1x1x655360, .i32⟩
  | 17 => ⟨S1x655360, .i32⟩
  | 18 => ⟨S1x655360, .i32⟩
  | 19 => ⟨S1x655360, .i32⟩
  | 20 => ⟨S655360, .i32⟩
  | 21 => ⟨S1x655360x1, .f32⟩
  | 22 => ⟨S1x655360x6, .f32⟩
  | 23 => ⟨S1x655360x6, .f32⟩
  | 24 => ⟨S655360x6, .f32⟩
  | 25 => ⟨S_, .f32⟩
  | 26 => ⟨S520x6, .f32⟩
  | 27 => ⟨S655360x1, .i32⟩
  | 28 => ⟨S520x6, .f32⟩
  | 29 => ⟨S520x6, .f32⟩
  | 30 => ⟨S655360, .f32⟩
  | 31 => ⟨S_, .f32⟩
  | 32 => ⟨S520, .f32⟩
  | 33 => ⟨S655360x1, .i32⟩
  | 34 => ⟨S520, .f32⟩
  | 35 => ⟨S520, .f32⟩
  | 36 => ⟨S1x1x655360, .i1⟩
  | 37 => ⟨S1x655360, .i1⟩
  | 38 => ⟨S1x1x655360, .f32⟩
  | 39 => ⟨S1x655360, .f32⟩
  | 40 => ⟨S_, .f32⟩
  | 41 => ⟨S_, .f32⟩
  | 42 => ⟨S1x655360, .f32⟩
  | 43 => ⟨S1x655360, .f32⟩
  | 44 => ⟨S1x1x655360, .i32⟩
  | 45 => ⟨S1x655360, .i32⟩
  | 46 => ⟨S1x655360, .i32⟩
  | 47 => ⟨S1x655360, .i32⟩
  | 48 => ⟨S655360, .i32⟩
  | 49 => ⟨S1x655360x1, .f32⟩
  | 50 => ⟨S1x655360x6, .f32⟩
  | 51 => ⟨S1x655360x6, .f32⟩
  | 52 => ⟨S655360x6, .f32⟩
  | 53 => ⟨S_, .f32⟩
  | 54 => ⟨S520x6, .f32⟩
  | 55 => ⟨S655360x1, .i32⟩
  | 56 => ⟨S520x6, .f32⟩
  | 57 => ⟨S520x6, .f32⟩
  | 58 => ⟨S655360, .f32⟩
  | 59 => ⟨S_, .f32⟩
  | 60 => ⟨S520, .f32⟩
  | 61 => ⟨S655360x1, .i32⟩
  | 62 => ⟨S520, .f32⟩
  | 63 => ⟨S520, .f32⟩
  | 64 => ⟨S1x1x655360, .i1⟩
  | 65 => ⟨S1x655360, .i1⟩
  | 66 => ⟨S1x1x655360, .f32⟩
  | 67 => ⟨S1x655360, .f32⟩
  | 68 => ⟨S_, .f32⟩
  | 69 => ⟨S_, .f32⟩
  | 70 => ⟨S1x655360, .f32⟩
  | 71 => ⟨S1x655360, .f32⟩
  | 72 => ⟨S1x1x655360, .i32⟩
  | 73 => ⟨S1x655360, .i32⟩
  | 74 => ⟨S1x655360, .i32⟩
  | 75 => ⟨S1x655360, .i32⟩
  | 76 => ⟨S655360, .i32⟩
  | 77 => ⟨S1x655360x1, .f32⟩
  | 78 => ⟨S1x655360x6, .f32⟩
  | 79 => ⟨S1x655360x6, .f32⟩
  | 80 => ⟨S655360x6, .f32⟩
  | 81 => ⟨S_, .f32⟩
  | 82 => ⟨S520x6, .f32⟩
  | 83 => ⟨S655360x1, .i32⟩
  | 84 => ⟨S520x6, .f32⟩
  | 85 => ⟨S520x6, .f32⟩
  | 86 => ⟨S655360, .f32⟩
  | 87 => ⟨S_, .f32⟩
  | 88 => ⟨S520, .f32⟩
  | 89 => ⟨S655360x1, .i32⟩
  | 90 => ⟨S520, .f32⟩
  | 91 => ⟨S520, .f32⟩
  | 92 => ⟨S1x1x655360, .i1⟩
  | 93 => ⟨S1x655360, .i1⟩
  | 94 => ⟨S1x1x655360, .f32⟩
  | 95 => ⟨S1x655360, .f32⟩
  | 96 => ⟨S_, .f32⟩
  | 97 => ⟨S_, .f32⟩
  | 98 => ⟨S1x655360, .f32⟩
  | 99 => ⟨S1x655360, .f32⟩
  | 100 => ⟨S1x1x655360, .i32⟩
  | 101 => ⟨S1x655360, .i32⟩
  | 102 => ⟨S1x655360, .i32⟩
  | 103 => ⟨S1x655360, .i32⟩
  | 104 => ⟨S655360, .i32⟩
  | 105 => ⟨S1x655360x1, .f32⟩
  | 106 => ⟨S1x655360x6, .f32⟩
  | 107 => ⟨S1x655360x6, .f32⟩
  | 108 => ⟨S655360x6, .f32⟩
  | 109 => ⟨S_, .f32⟩
  | 110 => ⟨S520x6, .f32⟩
  | 111 => ⟨S655360x1, .i32⟩
  | 112 => ⟨S520x6, .f32⟩
  | 113 => ⟨S520x6, .f32⟩
  | 114 => ⟨S655360, .f32⟩
  | 115 => ⟨S_, .f32⟩
  | 116 => ⟨S520, .f32⟩
  | 117 => ⟨S655360x1, .i32⟩
  | 118 => ⟨S520, .f32⟩
  | 119 => ⟨S520, .f32⟩
  | 120 => ⟨S1x1x655360, .i1⟩
  | 121 => ⟨S1x655360, .i1⟩
  | 122 => ⟨S1x1x655360, .f32⟩
  | 123 => ⟨S1x655360, .f32⟩
  | 124 => ⟨S_, .f32⟩
  | 125 => ⟨S_, .f32⟩
  | 126 => ⟨S1x655360, .f32⟩
  | 127 => ⟨S1x655360, .f32⟩
  | _ => ⟨S1x3x8x256x320, .f32⟩

abbrev hbmTy0_29 (i : Nat) : BufTy := match i % 128 with
  | 0 => ⟨S1x1x655360, .i32⟩
  | 1 => ⟨S1x655360, .i32⟩
  | 2 => ⟨S1x655360, .i32⟩
  | 3 => ⟨S1x655360, .i32⟩
  | 4 => ⟨S655360, .i32⟩
  | 5 => ⟨S1x655360x1, .f32⟩
  | 6 => ⟨S1x655360x6, .f32⟩
  | 7 => ⟨S1x655360x6, .f32⟩
  | 8 => ⟨S655360x6, .f32⟩
  | 9 => ⟨S_, .f32⟩
  | 10 => ⟨S520x6, .f32⟩
  | 11 => ⟨S655360x1, .i32⟩
  | 12 => ⟨S520x6, .f32⟩
  | 13 => ⟨S520x6, .f32⟩
  | 14 => ⟨S655360, .f32⟩
  | 15 => ⟨S_, .f32⟩
  | 16 => ⟨S520, .f32⟩
  | 17 => ⟨S655360x1, .i32⟩
  | 18 => ⟨S520, .f32⟩
  | 19 => ⟨S520, .f32⟩
  | 20 => ⟨S1x1x655360, .i1⟩
  | 21 => ⟨S1x655360, .i1⟩
  | 22 => ⟨S1x1x655360, .f32⟩
  | 23 => ⟨S1x655360, .f32⟩
  | 24 => ⟨S_, .f32⟩
  | 25 => ⟨S_, .f32⟩
  | 26 => ⟨S1x655360, .f32⟩
  | 27 => ⟨S1x655360, .f32⟩
  | 28 => ⟨S1x1x655360, .i32⟩
  | 29 => ⟨S1x655360, .i32⟩
  | 30 => ⟨S1x655360, .i32⟩
  | 31 => ⟨S1x655360, .i32⟩
  | 32 => ⟨S655360, .i32⟩
  | 33 => ⟨S1x655360x1, .f32⟩
  | 34 => ⟨S1x655360x6, .f32⟩
  | 35 => ⟨S1x655360x6, .f32⟩
  | 36 => ⟨S655360x6, .f32⟩
  | 37 => ⟨S_, .f32⟩
  | 38 => ⟨S520x6, .f32⟩
  | 39 => ⟨S655360x1, .i32⟩
  | 40 => ⟨S520x6, .f32⟩
  | 41 => ⟨S520x6, .f32⟩
  | 42 => ⟨S655360, .f32⟩
  | 43 => ⟨S_, .f32⟩
  | 44 => ⟨S520, .f32⟩
  | 45 => ⟨S655360x1, .i32⟩
  | 46 => ⟨S520, .f32⟩
  | 47 => ⟨S520, .f32⟩
  | 48 => ⟨S1x1x655360, .i1⟩
  | 49 => ⟨S1x655360, .i1⟩
  | 50 => ⟨S1x1x655360, .f32⟩
  | 51 => ⟨S1x655360, .f32⟩
  | 52 => ⟨S_, .f32⟩
  | 53 => ⟨S_, .f32⟩
  | 54 => ⟨S1x655360, .f32⟩
  | 55 => ⟨S1x655360, .f32⟩
  | 56 => ⟨S1x1x655360, .i32⟩
  | 57 => ⟨S1x655360, .i32⟩
  | 58 => ⟨S1x655360, .i32⟩
  | 59 => ⟨S1x655360, .i32⟩
  | 60 => ⟨S655360, .i32⟩
  | 61 => ⟨S1x655360x1, .f32⟩
  | 62 => ⟨S1x655360x6, .f32⟩
  | 63 => ⟨S1x655360x6, .f32⟩
  | 64 => ⟨S655360x6, .f32⟩
  | 65 => ⟨S_, .f32⟩
  | 66 => ⟨S520x6, .f32⟩
  | 67 => ⟨S655360x1, .i32⟩
  | 68 => ⟨S520x6, .f32⟩
  | 69 => ⟨S520x6, .f32⟩
  | 70 => ⟨S655360, .f32⟩
  | 71 => ⟨S_, .f32⟩
  | 72 => ⟨S520, .f32⟩
  | 73 => ⟨S655360x1, .i32⟩
  | 74 => ⟨S520, .f32⟩
  | 75 => ⟨S520, .f32⟩
  | 76 => ⟨S1x1x655360, .i1⟩
  | 77 => ⟨S1x655360, .i1⟩
  | 78 => ⟨S1x1x655360, .f32⟩
  | 79 => ⟨S1x655360, .f32⟩
  | 80 => ⟨S_, .f32⟩
  | 81 => ⟨S_, .f32⟩
  | 82 => ⟨S1x655360, .f32⟩
  | 83 => ⟨S1x655360, .f32⟩
  | 84 => ⟨S1x1x655360, .i32⟩
  | 85 => ⟨S1x655360, .i32⟩
  | 86 => ⟨S1x655360, .i32⟩
  | 87 => ⟨S1x655360, .i32⟩
  | 88 => ⟨S655360, .i32⟩
  | 89 => ⟨S1x655360x1, .f32⟩
  | 90 => ⟨S1x655360x6, .f32⟩
  | 91 => ⟨S1x655360x6, .f32⟩
  | 92 => ⟨S655360x6, .f32⟩
  | 93 => ⟨S_, .f32⟩
  | 94 => ⟨S520x6, .f32⟩
  | 95 => ⟨S655360x1, .i32⟩
  | 96 => ⟨S520x6, .f32⟩
  | 97 => ⟨S520x6, .f32⟩
  | 98 => ⟨S655360, .f32⟩
  | 99 => ⟨S_, .f32⟩
  | 100 => ⟨S520, .f32⟩
  | 101 => ⟨S655360x1, .i32⟩
  | 102 => ⟨S520, .f32⟩
  | 103 => ⟨S520, .f32⟩
  | 104 => ⟨S1x1x655360, .i1⟩
  | 105 => ⟨S1x655360, .i1⟩
  | 106 => ⟨S1x1x655360, .f32⟩
  | 107 => ⟨S1x655360, .f32⟩
  | 108 => ⟨S_, .f32⟩
  | 109 => ⟨S_, .f32⟩
  | 110 => ⟨S1x655360, .f32⟩
  | 111 => ⟨S1x655360, .f32⟩
  | 112 => ⟨S1x1x655360, .i32⟩
  | 113 => ⟨S1x655360, .i32⟩
  | 114 => ⟨S1x655360, .i32⟩
  | 115 => ⟨S1x655360, .i32⟩
  | 116 => ⟨S655360, .i32⟩
  | 117 => ⟨S1x655360x1, .f32⟩
  | 118 => ⟨S1x655360x6, .f32⟩
  | 119 => ⟨S1x655360x6, .f32⟩
  | 120 => ⟨S655360x6, .f32⟩
  | 121 => ⟨S_, .f32⟩
  | 122 => ⟨S520x6, .f32⟩
  | 123 => ⟨S655360x1, .i32⟩
  | 124 => ⟨S520x6, .f32⟩
  | 125 => ⟨S520x6, .f32⟩
  | 126 => ⟨S655360, .f32⟩
  | 127 => ⟨S_, .f32⟩
  | _ => ⟨S1x3x8x256x320, .f32⟩

abbrev hbmTy0_30 (i : Nat) : BufTy := match i % 128 with
  | 0 => ⟨S520, .f32⟩
  | 1 => ⟨S655360x1, .i32⟩
  | 2 => ⟨S520, .f32⟩
  | 3 => ⟨S520, .f32⟩
  | 4 => ⟨S1x1x655360, .i1⟩
  | 5 => ⟨S1x655360, .i1⟩
  | 6 => ⟨S1x1x655360, .f32⟩
  | 7 => ⟨S1x655360, .f32⟩
  | 8 => ⟨S_, .f32⟩
  | 9 => ⟨S_, .f32⟩
  | 10 => ⟨S1x655360, .f32⟩
  | 11 => ⟨S1x655360, .f32⟩
  | 12 => ⟨S1x1x655360, .i32⟩
  | 13 => ⟨S1x655360, .i32⟩
  | 14 => ⟨S1x655360, .i32⟩
  | 15 => ⟨S1x655360, .i32⟩
  | 16 => ⟨S655360, .i32⟩
  | 17 => ⟨S1x655360x1, .f32⟩
  | 18 => ⟨S1x655360x6, .f32⟩
  | 19 => ⟨S1x655360x6, .f32⟩
  | 20 => ⟨S655360x6, .f32⟩
  | 21 => ⟨S_, .f32⟩
  | 22 => ⟨S520x6, .f32⟩
  | 23 => ⟨S655360x1, .i32⟩
  | 24 => ⟨S520x6, .f32⟩
  | 25 => ⟨S520x6, .f32⟩
  | 26 => ⟨S655360, .f32⟩
  | 27 => ⟨S_, .f32⟩
  | 28 => ⟨S520, .f32⟩
  | 29 => ⟨S655360x1, .i32⟩
  | 30 => ⟨S520, .f32⟩
  | 31 => ⟨S520, .f32⟩
  | 32 => ⟨S1x1x655360, .i1⟩
  | 33 => ⟨S1x655360, .i1⟩
  | 34 => ⟨S1x1x655360, .f32⟩
  | 35 => ⟨S1x655360, .f32⟩
  | 36 => ⟨S_, .f32⟩
  | 37 => ⟨S_, .f32⟩
  | 38 => ⟨S1x655360, .f32⟩
  | 39 => ⟨S1x655360, .f32⟩
  | 40 => ⟨S1x1x655360, .i32⟩
  | 41 => ⟨S1x655360, .i32⟩
  | 42 => ⟨S1x655360, .i32⟩
  | 43 => ⟨S1x655360, .i32⟩
  | 44 => ⟨S655360, .i32⟩
  | 45 => ⟨S1x655360x1, .f32⟩
  | 46 => ⟨S1x655360x6, .f32⟩
  | 47 => ⟨S1x655360x6, .f32⟩
  | 48 => ⟨S655360x6, .f32⟩
  | 49 => ⟨S_, .f32⟩
  | 50 => ⟨S520x6, .f32⟩
  | 51 => ⟨S655360x1, .i32⟩
  | 52 => ⟨S520x6, .f32⟩
  | 53 => ⟨S520x6, .f32⟩
  | 54 => ⟨S655360, .f32⟩
  | 55 => ⟨S_, .f32⟩
  | 56 => ⟨S520, .f32⟩
  | 57 => ⟨S655360x1, .i32⟩
  | 58 => ⟨S520, .f32⟩
  | 59 => ⟨S520, .f32⟩
  | 60 => ⟨S1x1x655360, .i1⟩
  | 61 => ⟨S1x655360, .i1⟩
  | 62 => ⟨S1x1x655360, .f32⟩
  | 63 => ⟨S1x655360, .f32⟩
  | 64 => ⟨S_, .f32⟩
  | 65 => ⟨S_, .f32⟩
  | 66 => ⟨S1x655360, .f32⟩
  | 67 => ⟨S1x655360, .f32⟩
  | 68 => ⟨S1x1x655360, .i32⟩
  | 69 => ⟨S1x655360, .i32⟩
  | 70 => ⟨S1x655360, .i32⟩
  | 71 => ⟨S1x655360, .i32⟩
  | 72 => ⟨S655360, .i32⟩
  | 73 => ⟨S1x655360x1, .f32⟩
  | 74 => ⟨S1x655360x6, .f32⟩
  | 75 => ⟨S1x655360x6, .f32⟩
  | 76 => ⟨S655360x6, .f32⟩
  | 77 => ⟨S_, .f32⟩
  | 78 => ⟨S520x6, .f32⟩
  | 79 => ⟨S655360x1, .i32⟩
  | 80 => ⟨S520x6, .f32⟩
  | 81 => ⟨S520x6, .f32⟩
  | 82 => ⟨S655360, .f32⟩
  | 83 => ⟨S_, .f32⟩
  | 84 => ⟨S520, .f32⟩
  | 85 => ⟨S655360x1, .i32⟩
  | 86 => ⟨S520, .f32⟩
  | 87 => ⟨S520, .f32⟩
  | 88 => ⟨S1x1x655360, .i1⟩
  | 89 => ⟨S1x655360, .i1⟩
  | 90 => ⟨S1x1x655360, .f32⟩
  | 91 => ⟨S1x655360, .f32⟩
  | 92 => ⟨S_, .f32⟩
  | 93 => ⟨S_, .f32⟩
  | 94 => ⟨S1x655360, .f32⟩
  | 95 => ⟨S1x655360, .f32⟩
  | 96 => ⟨S1x1x655360, .i32⟩
  | 97 => ⟨S1x655360, .i32⟩
  | 98 => ⟨S1x655360, .i32⟩
  | 99 => ⟨S1x655360, .i32⟩
  | 100 => ⟨S655360, .i32⟩
  | 101 => ⟨S1x655360x1, .f32⟩
  | 102 => ⟨S1x655360x6, .f32⟩
  | 103 => ⟨S1x655360x6, .f32⟩
  | 104 => ⟨S655360x6, .f32⟩
  | 105 => ⟨S_, .f32⟩
  | 106 => ⟨S520x6, .f32⟩
  | 107 => ⟨S655360x1, .i32⟩
  | 108 => ⟨S520x6, .f32⟩
  | 109 => ⟨S520x6, .f32⟩
  | 110 => ⟨S655360, .f32⟩
  | 111 => ⟨S_, .f32⟩
  | 112 => ⟨S520, .f32⟩
  | 113 => ⟨S655360x1, .i32⟩
  | 114 => ⟨S520, .f32⟩
  | 115 => ⟨S520, .f32⟩
  | 116 => ⟨S1x1x655360, .i1⟩
  | 117 => ⟨S1x655360, .i1⟩
  | 118 => ⟨S1x1x655360, .f32⟩
  | 119 => ⟨S1x655360, .f32⟩
  | 120 => ⟨S_, .f32⟩
  | 121 => ⟨S_, .f32⟩
  | 122 => ⟨S1x655360, .f32⟩
  | 123 => ⟨S1x655360, .f32⟩
  | 124 => ⟨S1x1x655360, .i32⟩
  | 125 => ⟨S1x655360, .i32⟩
  | 126 => ⟨S1x655360, .i32⟩
  | 127 => ⟨S1x655360, .i32⟩
  | _ => ⟨S1x3x8x256x320, .f32⟩

abbrev hbmTy0_31 (i : Nat) : BufTy := match i % 128 with
  | 0 => ⟨S655360, .i32⟩
  | 1 => ⟨S1x655360x1, .f32⟩
  | 2 => ⟨S1x655360x6, .f32⟩
  | 3 => ⟨S1x655360x6, .f32⟩
  | 4 => ⟨S655360x6, .f32⟩
  | 5 => ⟨S_, .f32⟩
  | 6 => ⟨S520x6, .f32⟩
  | 7 => ⟨S655360x1, .i32⟩
  | 8 => ⟨S520x6, .f32⟩
  | 9 => ⟨S520x6, .f32⟩
  | 10 => ⟨S655360, .f32⟩
  | 11 => ⟨S_, .f32⟩
  | 12 => ⟨S520, .f32⟩
  | 13 => ⟨S655360x1, .i32⟩
  | 14 => ⟨S520, .f32⟩
  | 15 => ⟨S520, .f32⟩
  | 16 => ⟨S1x1x655360, .i1⟩
  | 17 => ⟨S1x655360, .i1⟩
  | 18 => ⟨S1x1x655360, .f32⟩
  | 19 => ⟨S1x655360, .f32⟩
  | 20 => ⟨S_, .f32⟩
  | 21 => ⟨S_, .f32⟩
  | 22 => ⟨S1x655360, .f32⟩
  | 23 => ⟨S1x655360, .f32⟩
  | 24 => ⟨S1x1x655360, .i32⟩
  | 25 => ⟨S1x655360, .i32⟩
  | 26 => ⟨S1x655360, .i32⟩
  | 27 => ⟨S1x655360, .i32⟩
  | 28 => ⟨S655360, .i32⟩
  | 29 => ⟨S1x655360x1, .f32⟩
  | 30 => ⟨S1x655360x6, .f32⟩
  | 31 => ⟨S1x655360x6, .f32⟩
  | 32 => ⟨S655360x6, .f32⟩
  | 33 => ⟨S_, .f32⟩
  | 34 => ⟨S520x6, .f32⟩
  | 35 => ⟨S655360x1, .i32⟩
  | 36 => ⟨S520x6, .f32⟩
  | 37 => ⟨S520x6, .f32⟩
  | 38 => ⟨S655360, .f32⟩
  | 39 => ⟨S_, .f32⟩
  | 40 => ⟨S520, .f32⟩
  | 41 => ⟨S655360x1, .i32⟩
  | 42 => ⟨S520, .f32⟩
  | 43 => ⟨S520, .f32⟩
  | 44 => ⟨S1x1x655360, .i1⟩
  | 45 => ⟨S1x655360, .i1⟩
  | 46 => ⟨S1x1x655360, .f32⟩
  | 47 => ⟨S1x655360, .f32⟩
  | 48 => ⟨S_, .f32⟩
  | 49 => ⟨S_, .f32⟩
  | 50 => ⟨S1x655360, .f32⟩
  | 51 => ⟨S1x655360, .f32⟩
  | 52 => ⟨S1x1x655360, .i32⟩
  | 53 => ⟨S1x655360, .i32⟩
  | 54 => ⟨S1x655360, .i32⟩
  | 55 => ⟨S1x655360, .i32⟩
  | 56 => ⟨S655360, .i32⟩
  | 57 => ⟨S1x655360x1, .f32⟩
  | 58 => ⟨S1x655360x6, .f32⟩
  | 59 => ⟨S1x655360x6, .f32⟩
  | 60 => ⟨S655360x6, .f32⟩
  | 61 => ⟨S_, .f32⟩
  | 62 => ⟨S520x6, .f32⟩
  | 63 => ⟨S655360x1, .i32⟩
  | 64 => ⟨S520x6, .f32⟩
  | 65 => ⟨S520x6, .f32⟩
  | 66 => ⟨S655360, .f32⟩
  | 67 => ⟨S_, .f32⟩
  | 68 => ⟨S520, .f32⟩
  | 69 => ⟨S655360x1, .i32⟩
  | 70 => ⟨S520, .f32⟩
  | 71 => ⟨S520, .f32⟩
  | 72 => ⟨S1x1x655360, .i1⟩
  | 73 => ⟨S1x655360, .i1⟩
  | 74 => ⟨S1x1x655360, .f32⟩
  | 75 => ⟨S1x655360, .f32⟩
  | 76 => ⟨S_, .f32⟩
  | 77 => ⟨S_, .f32⟩
  | 78 => ⟨S1x655360, .f32⟩
  | 79 => ⟨S1x655360, .f32⟩
  | 80 => ⟨S1x1x655360, .i32⟩
  | 81 => ⟨S1x655360, .i32⟩
  | 82 => ⟨S1x655360, .i32⟩
  | 83 => ⟨S1x655360, .i32⟩
  | 84 => ⟨S655360, .i32⟩
  | 85 => ⟨S1x655360x1, .f32⟩
  | 86 => ⟨S1x655360x6, .f32⟩
  | 87 => ⟨S1x655360x6, .f32⟩
  | 88 => ⟨S655360x6, .f32⟩
  | 89 => ⟨S_, .f32⟩
  | 90 => ⟨S520x6, .f32⟩
  | 91 => ⟨S655360x1, .i32⟩
  | 92 => ⟨S520x6, .f32⟩
  | 93 => ⟨S520x6, .f32⟩
  | 94 => ⟨S655360, .f32⟩
  | 95 => ⟨S_, .f32⟩
  | 96 => ⟨S520, .f32⟩
  | 97 => ⟨S655360x1, .i32⟩
  | 98 => ⟨S520, .f32⟩
  | 99 => ⟨S520, .f32⟩
  | 100 => ⟨S1x1x655360, .i1⟩
  | 101 => ⟨S1x655360, .i1⟩
  | 102 => ⟨S1x1x655360, .f32⟩
  | 103 => ⟨S1x655360, .f32⟩
  | 104 => ⟨S_, .f32⟩
  | 105 => ⟨S_, .f32⟩
  | 106 => ⟨S1x655360, .f32⟩
  | 107 => ⟨S1x655360, .f32⟩
  | 108 => ⟨S1x1x655360, .i32⟩
  | 109 => ⟨S1x655360, .i32⟩
  | 110 => ⟨S1x655360, .i32⟩
  | 111 => ⟨S1x655360, .i32⟩
  | 112 => ⟨S655360, .i32⟩
  | 113 => ⟨S1x655360x1, .f32⟩
  | 114 => ⟨S1x655360x6, .f32⟩
  | 115 => ⟨S1x655360x6, .f32⟩
  | 116 => ⟨S655360x6, .f32⟩
  | 117 => ⟨S_, .f32⟩
  | 118 => ⟨S520x6, .f32⟩
  | 119 => ⟨S655360x1, .i32⟩
  | 120 => ⟨S520x6, .f32⟩
  | 121 => ⟨S520x6, .f32⟩
  | 122 => ⟨S655360, .f32⟩
  | 123 => ⟨S_, .f32⟩
  | 124 => ⟨S520, .f32⟩
  | 125 => ⟨S655360x1, .i32⟩
  | 126 => ⟨S520, .f32⟩
  | 127 => ⟨S520, .f32⟩
  | _ => ⟨S1x3x8x256x320, .f32⟩

abbrev hbmTy0_32 (i : Nat) : BufTy := match i % 128 with
  | 0 => ⟨S1x1x655360, .i1⟩
  | 1 => ⟨S1x655360, .i1⟩
  | 2 => ⟨S1x1x655360, .f32⟩
  | 3 => ⟨S1x655360, .f32⟩
  | 4 => ⟨S_, .f32⟩
  | 5 => ⟨S_, .f32⟩
  | 6 => ⟨S1x655360, .f32⟩
  | 7 => ⟨S1x655360, .f32⟩
  | 8 => ⟨S1x1x655360, .i32⟩
  | 9 => ⟨S1x655360, .i32⟩
  | 10 => ⟨S1x655360, .i32⟩
  | 11 => ⟨S1x655360, .i32⟩
  | 12 => ⟨S655360, .i32⟩
  | 13 => ⟨S1x655360x1, .f32⟩
  | 14 => ⟨S1x655360x6, .f32⟩
  | 15 => ⟨S1x655360x6, .f32⟩
  | 16 => ⟨S655360x6, .f32⟩
  | 17 => ⟨S_, .f32⟩
  | 18 => ⟨S520x6, .f32⟩
  | 19 => ⟨S655360x1, .i32⟩
  | 20 => ⟨S520x6, .f32⟩
  | 21 => ⟨S520x6, .f32⟩
  | 22 => ⟨S655360, .f32⟩
  | 23 => ⟨S_, .f32⟩
  | 24 => ⟨S520, .f32⟩
  | 25 => ⟨S655360x1, .i32⟩
  | 26 => ⟨S520, .f32⟩
  | 27 => ⟨S520, .f32⟩
  | 28 => ⟨S1x1x655360, .i1⟩
  | 29 => ⟨S1x655360, .i1⟩
  | 30 => ⟨S1x1x655360, .f32⟩
  | 31 => ⟨S1x655360, .f32⟩
  | 32 => ⟨S_, .f32⟩
  | 33 => ⟨S_, .f32⟩
  | 34 => ⟨S1x655360, .f32⟩
  | 35 => ⟨S1x655360, .f32⟩
  | 36 => ⟨S1x1x655360, .i32⟩
  | 37 => ⟨S1x655360, .i32⟩
  | 38 => ⟨S1x655360, .i32⟩
  | 39 => ⟨S1x655360, .i32⟩
  | 40 => ⟨S655360, .i32⟩
  | 41 => ⟨S1x655360x1, .f32⟩
  | 42 => ⟨S1x655360x6, .f32⟩
  | 43 => ⟨S1x655360x6, .f32⟩
  | 44 => ⟨S655360x6, .f32⟩
  | 45 => ⟨S_, .f32⟩
  | 46 => ⟨S520x6, .f32⟩
  | 47 => ⟨S655360x1, .i32⟩
  | 48 => ⟨S520x6, .f32⟩
  | 49 => ⟨S520x6, .f32⟩
  | 50 => ⟨S655360, .f32⟩
  | 51 => ⟨S_, .f32⟩
  | 52 => ⟨S520, .f32⟩
  | 53 => ⟨S655360x1, .i32⟩
  | 54 => ⟨S520, .f32⟩
  | 55 => ⟨S520, .f32⟩
  | 56 => ⟨S1x1x655360, .i1⟩
  | 57 => ⟨S1x655360, .i1⟩
  | 58 => ⟨S1x1x655360, .f32⟩
  | 59 => ⟨S1x655360, .f32⟩
  | 60 => ⟨S_, .f32⟩
  | 61 => ⟨S_, .f32⟩
  | 62 => ⟨S1x655360, .f32⟩
  | 63 => ⟨S1x655360, .f32⟩
  | 64 => ⟨S1x1x655360, .i32⟩
  | 65 => ⟨S1x655360, .i32⟩
  | 66 => ⟨S1x655360, .i32⟩
  | 67 => ⟨S1x655360, .i32⟩
  | 68 => ⟨S655360, .i32⟩
  | 69 => ⟨S1x655360x1, .f32⟩
  | 70 => ⟨S1x655360x6, .f32⟩
  | 71 => ⟨S1x655360x6, .f32⟩
  | 72 => ⟨S655360x6, .f32⟩
  | 73 => ⟨S_, .f32⟩
  | 74 => ⟨S520x6, .f32⟩
  | 75 => ⟨S655360x1, .i32⟩
  | 76 => ⟨S520x6, .f32⟩
  | 77 => ⟨S520x6, .f32⟩
  | 78 => ⟨S655360, .f32⟩
  | 79 => ⟨S_, .f32⟩
  | 80 => ⟨S520, .f32⟩
  | 81 => ⟨S655360x1, .i32⟩
  | 82 => ⟨S520, .f32⟩
  | 83 => ⟨S520, .f32⟩
  | 84 => ⟨S1x1x655360, .i1⟩
  | 85 => ⟨S1x655360, .i1⟩
  | 86 => ⟨S1x1x655360, .f32⟩
  | 87 => ⟨S1x655360, .f32⟩
  | 88 => ⟨S_, .f32⟩
  | 89 => ⟨S_, .f32⟩
  | 90 => ⟨S1x655360, .f32⟩
  | 91 => ⟨S1x655360, .f32⟩
  | 92 => ⟨S1x1x655360, .i32⟩
  | 93 => ⟨S1x655360, .i32⟩
  | 94 => ⟨S1x655360, .i32⟩
  | 95 => ⟨S1x655360, .i32⟩
  | 96 => ⟨S655360, .i32⟩
  | 97 => ⟨S1x655360x1, .f32⟩
  | 98 => ⟨S1x655360x6, .f32⟩
  | 99 => ⟨S1x655360x6, .f32⟩
  | 100 => ⟨S655360x6, .f32⟩
  | 101 => ⟨S_, .f32⟩
  | 102 => ⟨S520x6, .f32⟩
  | 103 => ⟨S655360x1, .i32⟩
  | 104 => ⟨S520x6, .f32⟩
  | 105 => ⟨S520x6, .f32⟩
  | 106 => ⟨S655360, .f32⟩
  | 107 => ⟨S_, .f32⟩
  | 108 => ⟨S520, .f32⟩
  | 109 => ⟨S655360x1, .i32⟩
  | 110 => ⟨S520, .f32⟩
  | 111 => ⟨S520, .f32⟩
  | 112 => ⟨S1x1x655360, .i1⟩
  | 113 => ⟨S1x655360, .i1⟩
  | 114 => ⟨S1x1x655360, .f32⟩
  | 115 => ⟨S1x655360, .f32⟩
  | 116 => ⟨S_, .f32⟩
  | 117 => ⟨S_, .f32⟩
  | 118 => ⟨S1x655360, .f32⟩
  | 119 => ⟨S1x655360, .f32⟩
  | 120 => ⟨S1x1x655360, .i32⟩
  | 121 => ⟨S1x655360, .i32⟩
  | 122 => ⟨S1x655360, .i32⟩
  | 123 => ⟨S1x655360, .i32⟩
  | 124 => ⟨S655360, .i32⟩
  | 125 => ⟨S1x655360x1, .f32⟩
  | 126 => ⟨S1x655360x6, .f32⟩
  | 127 => ⟨S1x655360x6, .f32⟩
  | _ => ⟨S1x3x8x256x320, .f32⟩

abbrev hbmTy0_33 (i : Nat) : BufTy := match i % 128 with
  | 0 => ⟨S655360x6, .f32⟩
  | 1 => ⟨S_, .f32⟩
  | 2 => ⟨S520x6, .f32⟩
  | 3 => ⟨S655360x1, .i32⟩
  | 4 => ⟨S520x6, .f32⟩
  | 5 => ⟨S520x6, .f32⟩
  | 6 => ⟨S655360, .f32⟩
  | 7 => ⟨S_, .f32⟩
  | 8 => ⟨S520, .f32⟩
  | 9 => ⟨S655360x1, .i32⟩
  | 10 => ⟨S520, .f32⟩
  | 11 => ⟨S520, .f32⟩
  | 12 => ⟨S_, .f32⟩
  | 13 => ⟨S520, .f32⟩
  | 14 => ⟨S520, .f32⟩
  | 15 => ⟨S520x1, .f32⟩
  | 16 => ⟨S520x6, .f32⟩
  | 17 => ⟨S520x6, .f32⟩
  | 18 => ⟨S1x520x6, .f32⟩
  | 19 => ⟨S1x6x520, .f32⟩
  | 20 => ⟨S1x520, .f32⟩
  | 21 => ⟨S1x6x655360, .f32⟩
  | 22 => ⟨S1x655360x6, .f32⟩
  | 23 => ⟨S1x520x6, .f32⟩
  | 24 => ⟨S1x655360, .i32⟩
  | 25 => ⟨S_, .i32⟩
  | 26 => ⟨S_, .i32⟩
  | 27 => ⟨S1x655360, .i32⟩
  | 28 => ⟨S1x655360, .i32⟩
  | 29 => ⟨S1x655360, .i32⟩
  | 30 => ⟨S_, .i32⟩
  | 31 => ⟨S1x655360, .i32⟩
  | 32 => ⟨S1x655360, .i1⟩
  | 33 => ⟨S1x655360, .i32⟩
  | 34 => ⟨S1x655360, .i32⟩
  | 35 => ⟨S_, .i32⟩
  | 36 => ⟨S1x655360, .i32⟩
  | 37 => ⟨S1x655360, .i1⟩
  | 38 => ⟨S1x655360, .i1⟩
  | 39 => ⟨S_, .i32⟩
  | 40 => ⟨S1x655360, .i32⟩
  | 41 => ⟨S1x655360, .i32⟩
  | 42 => ⟨S1x655360, .i32⟩
  | 43 => ⟨S_, .i32⟩
  | 44 => ⟨S_, .i32⟩
  | 45 => ⟨S1x655360, .i32⟩
  | 46 => ⟨S1x655360, .i32⟩
  | 47 => ⟨S1x655360, .i32⟩
  | 48 => ⟨S_, .i32⟩
  | 49 => ⟨S1x655360, .i32⟩
  | 50 => ⟨S1x655360, .i1⟩
  | 51 => ⟨S1x655360, .i32⟩
  | 52 => ⟨S1x655360, .i32⟩
  | 53 => ⟨S_, .i32⟩
  | 54 => ⟨S1x655360, .i32⟩
  | 55 => ⟨S1x655360, .i1⟩
  | 56 => ⟨S1x655360, .i1⟩
  | 57 => ⟨S_, .i32⟩
  | 58 => ⟨S1x655360, .i32⟩
  | 59 => ⟨S1x655360, .i32⟩
  | 60 => ⟨S1x655360, .i32⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S1x655360, .i32⟩
  | 68 => ⟨S1x655360, .i32⟩
  | 69 => ⟨S_, .i32⟩
  | 70 => ⟨S1x655360, .i32⟩
  | 71 => ⟨S1x655360, .i1⟩
  | 72 => ⟨S_, .i32⟩
  | 73 => ⟨S1x655360, .i32⟩
  | 74 => ⟨S1x655360, .i1⟩
  | 75 => ⟨S_, .i32⟩
  | 76 => ⟨S_, .i1⟩
  | 77 => ⟨S1x655360, .i1⟩
  | 78 => ⟨S1x655360, .i1⟩
  | 79 => ⟨S1x655360, .i1⟩
  | 80 => ⟨S1x655360, .i32⟩
  | 81 => ⟨S1x655360, .i32⟩
  | 82 => ⟨S1x655360, .i32⟩
  | 83 => ⟨S_, .i32⟩
  | 84 => ⟨S_, .i32⟩
  | 85 => ⟨S_, .i32⟩
  | 86 => ⟨S_, .i1⟩
  | 87 => ⟨S_, .i32⟩
  | 88 => ⟨S_, .i32⟩
  | 89 => ⟨S1x655360, .i32⟩
  | 90 => ⟨S1x655360, .i32⟩
  | 91 => ⟨S_, .i32⟩
  | 92 => ⟨S1x655360, .i32⟩
  | 93 => ⟨S1x655360, .i1⟩
  | 94 => ⟨S_, .i32⟩
  | 95 => ⟨S1x655360, .i32⟩
  | 96 => ⟨S1x655360, .i1⟩
  | 97 => ⟨S_, .i32⟩
  | 98 => ⟨S_, .i1⟩
  | 99 => ⟨S1x655360, .i1⟩
  | 100 => ⟨S1x655360, .i1⟩
  | 101 => ⟨S1x655360, .i1⟩
  | 102 => ⟨S1x655360, .i32⟩
  | 103 => ⟨S1x655360, .i32⟩
  | 104 => ⟨S1x655360, .i32⟩
  | 105 => ⟨S1x1x655360, .i32⟩
  | 106 => ⟨S1x27x1, .i32⟩
  | 107 => ⟨S1x27x655360, .i32⟩
  | 108 => ⟨S1x27x655360, .i32⟩
  | 109 => ⟨S1x27x655360, .i32⟩
  | 110 => ⟨S1x1x655360, .i32⟩
  | 111 => ⟨S1x27x1, .i32⟩
  | 112 => ⟨S1x27x655360, .i32⟩
  | 113 => ⟨S1x27x655360, .i32⟩
  | 114 => ⟨S1x27x655360, .i32⟩
  | 115 => ⟨S1x1x655360, .i32⟩
  | 116 => ⟨S1x27x1, .i32⟩
  | 117 => ⟨S1x27x655360, .i32⟩
  | 118 => ⟨S1x27x655360, .i32⟩
  | 119 => ⟨S1x27x655360, .i32⟩
  | 120 => ⟨S_, .i32⟩
  | 121 => ⟨S1x27x655360, .i32⟩
  | 122 => ⟨S1x27x655360, .i1⟩
  | 123 => ⟨S_, .i32⟩
  | 124 => ⟨S1x27x655360, .i32⟩
  | 125 => ⟨S1x27x655360, .i1⟩
  | 126 => ⟨S1x27x655360, .i1⟩
  | 127 => ⟨S_, .i32⟩
  | _ => ⟨S1x3x8x256x320, .f32⟩

abbrev hbmTy0_34 (i : Nat) : BufTy := match i % 128 with
  | 0 => ⟨S1x27x655360, .i32⟩
  | 1 => ⟨S1x27x655360, .i1⟩
  | 2 => ⟨S1x27x655360, .i1⟩
  | 3 => ⟨S_, .i32⟩
  | 4 => ⟨S1x27x655360, .i32⟩
  | 5 => ⟨S1x27x655360, .i1⟩
  | 6 => ⟨S1x27x655360, .i1⟩
  | 7 => ⟨S_, .i32⟩
  | 8 => ⟨S1x27x655360, .i32⟩
  | 9 => ⟨S1x27x655360, .i1⟩
  | 10 => ⟨S1x27x655360, .i1⟩
  | 11 => ⟨S_, .i32⟩
  | 12 => ⟨S1x27x655360, .i32⟩
  | 13 => ⟨S1x27x655360, .i1⟩
  | 14 => ⟨S1x27x655360, .i1⟩
  | 15 => ⟨S_, .i32⟩
  | 16 => ⟨S_, .i32⟩
  | 17 => ⟨S_, .i32⟩
  | 18 => ⟨S1x27x655360, .i32⟩
  | 19 => ⟨S1x27x655360, .i32⟩
  | 20 => ⟨S_, .i32⟩
  | 21 => ⟨S1x27x655360, .i32⟩
  | 22 => ⟨S1x27x655360, .i32⟩
  | 23 => ⟨S_, .i32⟩
  | 24 => ⟨S1x27x655360, .i32⟩
  | 25 => ⟨S1x27x655360, .i32⟩
  | 26 => ⟨S_, .i32⟩
  | 27 => ⟨S_, .i32⟩
  | 28 => ⟨S_, .i32⟩
  | 29 => ⟨S1x27x655360, .i32⟩
  | 30 => ⟨S1x27x655360, .i32⟩
  | 31 => ⟨S_, .i32⟩
  | 32 => ⟨S1x27x655360, .i32⟩
  | 33 => ⟨S1x27x655360, .i32⟩
  | 34 => ⟨S1x27x655360, .i32⟩
  | 35 => ⟨S_, .i32⟩
  | 36 => ⟨S1x27x655360, .i32⟩
  | 37 => ⟨S1x27x655360, .i32⟩
  | 38 => ⟨S_, .i32⟩
  | 39 => ⟨S_, .i32⟩
  | 40 => ⟨S_, .i32⟩
  | 41 => ⟨S1x27x655360, .i32⟩
  | 42 => ⟨S1x27x655360, .i32⟩
  | 43 => ⟨S_, .i32⟩
  | 44 => ⟨S1x27x655360, .i32⟩
  | 45 => ⟨S1x27x655360, .i32⟩
  | 46 => ⟨S1x27x655360, .i32⟩
  | 47 => ⟨S1x1x655360, .i32⟩
  | 48 => ⟨S1x655360, .i32⟩
  | 49 => ⟨S1x655360x1, .i32⟩
  | 50 => ⟨S_, .i32⟩
  | 51 => ⟨S1x655360x1, .i32⟩
  | 52 => ⟨S1x655360x1, .i1⟩
  | 53 => ⟨S_, .i32⟩
  | 54 => ⟨S1x655360x1, .i32⟩
  | 55 => ⟨S1x655360x1, .i32⟩
  | 56 => ⟨S1x655360x1, .i32⟩
  | 57 => ⟨S655360x1, .i32⟩
  | 58 => ⟨S1, .i32⟩
  | 59 => ⟨S_, .i32⟩
  | 60 => ⟨S655360x1, .i32⟩
  | 61 => ⟨S655360x1, .i1⟩
  | 62 => ⟨S1x1, .i32⟩
  | 63 => ⟨S655360x1, .i32⟩
  | 64 => ⟨S655360x1, .i1⟩
  | 65 => ⟨S655360x1, .i1⟩
  | 66 => ⟨S_, .i1⟩
  | 67 => ⟨S655360, .i1⟩
  | 68 => ⟨S1x655360x6, .f32⟩
  | 69 => ⟨S1x655360x6, .i1⟩
  | 70 => ⟨S_, .f32⟩
  | 71 => ⟨S1x655360x6, .f32⟩
  | 72 => ⟨S1x655360x6, .f32⟩
  | 73 => ⟨S1x655360x6, .f32⟩
  | 74 => ⟨S1x655360x6, .f32⟩
  | 75 => ⟨S_, .f32⟩
  | 76 => ⟨S1x655360, .f32⟩
  | 77 => ⟨S1x1x655360, .i1⟩
  | 78 => ⟨S1x655360, .i1⟩
  | 79 => ⟨S_, .f32⟩
  | 80 => ⟨S_, .f32⟩
  | 81 => ⟨S1x655360, .f32⟩
  | 82 => ⟨S1x655360, .f32⟩
  | 83 => ⟨S1x1x655360, .i32⟩
  | 84 => ⟨S1x655360, .i32⟩
  | 85 => ⟨S1x655360x1, .i32⟩
  | 86 => ⟨S_, .i32⟩
  | 87 => ⟨S1x655360x1, .i32⟩
  | 88 => ⟨S1x655360x1, .i1⟩
  | 89 => ⟨S_, .i32⟩
  | 90 => ⟨S1x655360x1, .i32⟩
  | 91 => ⟨S1x655360x1, .i32⟩
  | 92 => ⟨S1x655360x1, .i32⟩
  | 93 => ⟨S655360x1, .i32⟩
  | 94 => ⟨S1, .i32⟩
  | 95 => ⟨S_, .i32⟩
  | 96 => ⟨S655360x1, .i32⟩
  | 97 => ⟨S655360x1, .i1⟩
  | 98 => ⟨S1x1, .i32⟩
  | 99 => ⟨S655360x1, .i32⟩
  | 100 => ⟨S655360x1, .i1⟩
  | 101 => ⟨S655360x1, .i1⟩
  | 102 => ⟨S_, .i1⟩
  | 103 => ⟨S655360, .i1⟩
  | 104 => ⟨S1x655360x6, .f32⟩
  | 105 => ⟨S1x655360x6, .i1⟩
  | 106 => ⟨S_, .f32⟩
  | 107 => ⟨S1x655360x6, .f32⟩
  | 108 => ⟨S1x655360x6, .f32⟩
  | 109 => ⟨S1x655360x6, .f32⟩
  | 110 => ⟨S1x655360x6, .f32⟩
  | 111 => ⟨S_, .f32⟩
  | 112 => ⟨S1x655360, .f32⟩
  | 113 => ⟨S1x1x655360, .i1⟩
  | 114 => ⟨S1x655360, .i1⟩
  | 115 => ⟨S_, .f32⟩
  | 116 => ⟨S_, .f32⟩
  | 117 => ⟨S1x655360, .f32⟩
  | 118 => ⟨S1x655360, .f32⟩
  | 119 => ⟨S1x1x655360, .i32⟩
  | 120 => ⟨S1x655360, .i32⟩
  | 121 => ⟨S1x655360x1, .i32⟩
  | 122 => ⟨S_, .i32⟩
  | 123 => ⟨S1x655360x1, .i32⟩
  | 124 => ⟨S1x655360x1, .i1⟩
  | 125 => ⟨S_, .i32⟩
  | 126 => ⟨S1x655360x1, .i32⟩
  | 127 => ⟨S1x655360x1, .i32⟩
  | _ => ⟨S1x3x8x256x320, .f32⟩

abbrev hbmTy0_35 (i : Nat) : BufTy := match i % 128 with
  | 0 => ⟨S1x655360x1, .i32⟩
  | 1 => ⟨S655360x1, .i32⟩
  | 2 => ⟨S1, .i32⟩
  | 3 => ⟨S_, .i32⟩
  | 4 => ⟨S655360x1, .i32⟩
  | 5 => ⟨S655360x1, .i1⟩
  | 6 => ⟨S1x1, .i32⟩
  | 7 => ⟨S655360x1, .i32⟩
  | 8 => ⟨S655360x1, .i1⟩
  | 9 => ⟨S655360x1, .i1⟩
  | 10 => ⟨S_, .i1⟩
  | 11 => ⟨S655360, .i1⟩
  | 12 => ⟨S1x655360x6, .f32⟩
  | 13 => ⟨S1x655360x6, .i1⟩
  | 14 => ⟨S_, .f32⟩
  | 15 => ⟨S1x655360x6, .f32⟩
  | 16 => ⟨S1x655360x6, .f32⟩
  | 17 => ⟨S1x655360x6, .f32⟩
  | 18 => ⟨S1x655360x6, .f32⟩
  | 19 => ⟨S_, .f32⟩
  | 20 => ⟨S1x655360, .f32⟩
  | 21 => ⟨S1x1x655360, .i1⟩
  | 22 => ⟨S1x655360, .i1⟩
  | 23 => ⟨S_, .f32⟩
  | 24 => ⟨S_, .f32⟩
  | 25 => ⟨S1x655360, .f32⟩
  | 26 => ⟨S1x655360, .f32⟩
  | 27 => ⟨S1x1x655360, .i32⟩
  | 28 => ⟨S1x655360, .i32⟩
  | 29 => ⟨S1x655360x1, .i32⟩
  | 30 => ⟨S_, .i32⟩
  | 31 => ⟨S1x655360x1, .i32⟩
  | 32 => ⟨S1x655360x1, .i1⟩
  | 33 => ⟨S_, .i32⟩
  | 34 => ⟨S1x655360x1, .i32⟩
  | 35 => ⟨S1x655360x1, .i32⟩
  | 36 => ⟨S1x655360x1, .i32⟩
  | 37 => ⟨S655360x1, .i32⟩
  | 38 => ⟨S1, .i32⟩
  | 39 => ⟨S_, .i32⟩
  | 40 => ⟨S655360x1, .i32⟩
  | 41 => ⟨S655360x1, .i1⟩
  | 42 => ⟨S1x1, .i32⟩
  | 43 => ⟨S655360x1, .i32⟩
  | 44 => ⟨S655360x1, .i1⟩
  | 45 => ⟨S655360x1, .i1⟩
  | 46 => ⟨S_, .i1⟩
  | 47 => ⟨S655360, .i1⟩
  | 48 => ⟨S1x655360x6, .f32⟩
  | 49 => ⟨S1x655360x6, .i1⟩
  | 50 => ⟨S_, .f32⟩
  | 51 => ⟨S1x655360x6, .f32⟩
  | 52 => ⟨S1x655360x6, .f32⟩
  | 53 => ⟨S1x655360x6, .f32⟩
  | 54 => ⟨S1x655360x6, .f32⟩
  | 55 => ⟨S_, .f32⟩
  | 56 => ⟨S1x655360, .f32⟩
  | 57 => ⟨S1x1x655360, .i1⟩
  | 58 => ⟨S1x655360, .i1⟩
  | 59 => ⟨S_, .f32⟩
  | 60 => ⟨S_, .f32⟩
  | 61 => ⟨S1x655360, .f32⟩
  | 62 => ⟨S1x655360, .f32⟩
  | 63 => ⟨S1x1x655360, .i32⟩
  | 64 => ⟨S1x655360, .i32⟩
  | 65 => ⟨S1x655360x1, .i32⟩
  | 66 => ⟨S_, .i32⟩
  | 67 => ⟨S1x655360x1, .i32⟩
  | 68 => ⟨S1x655360x1, .i1⟩
  | 69 => ⟨S_, .i32⟩
  | 70 => ⟨S1x655360x1, .i32⟩
  | 71 => ⟨S1x655360x1, .i32⟩
  | 72 => ⟨S1x655360x1, .i32⟩
  | 73 => ⟨S655360x1, .i32⟩
  | 74 => ⟨S1, .i32⟩
  | 75 => ⟨S_, .i32⟩
  | 76 => ⟨S655360x1, .i32⟩
  | 77 => ⟨S655360x1, .i1⟩
  | 78 => ⟨S1x1, .i32⟩
  | 79 => ⟨S655360x1, .i32⟩
  | 80 => ⟨S655360x1, .i1⟩
  | 81 => ⟨S655360x1, .i1⟩
  | 82 => ⟨S_, .i1⟩
  | 83 => ⟨S655360, .i1⟩
  | 84 => ⟨S1x655360x6, .f32⟩
  | 85 => ⟨S1x655360x6, .i1⟩
  | 86 => ⟨S_, .f32⟩
  | 87 => ⟨S1x655360x6, .f32⟩
  | 88 => ⟨S1x655360x6, .f32⟩
  | 89 => ⟨S1x655360x6, .f32⟩
  | 90 => ⟨S1x655360x6, .f32⟩
  | 91 => ⟨S_, .f32⟩
  | 92 => ⟨S1x655360, .f32⟩
  | 93 => ⟨S1x1x655360, .i1⟩
  | 94 => ⟨S1x655360, .i1⟩
  | 95 => ⟨S_, .f32⟩
  | 96 => ⟨S_, .f32⟩
  | 97 => ⟨S1x655360, .f32⟩
  | 98 => ⟨S1x655360, .f32⟩
  | 99 => ⟨S1x1x655360, .i32⟩
  | 100 => ⟨S1x655360, .i32⟩
  | 101 => ⟨S1x655360x1, .i32⟩
  | 102 => ⟨S_, .i32⟩
  | 103 => ⟨S1x655360x1, .i32⟩
  | 104 => ⟨S1x655360x1, .i1⟩
  | 105 => ⟨S_, .i32⟩
  | 106 => ⟨S1x655360x1, .i32⟩
  | 107 => ⟨S1x655360x1, .i32⟩
  | 108 => ⟨S1x655360x1, .i32⟩
  | 109 => ⟨S655360x1, .i32⟩
  | 110 => ⟨S1, .i32⟩
  | 111 => ⟨S_, .i32⟩
  | 112 => ⟨S655360x1, .i32⟩
  | 113 => ⟨S655360x1, .i1⟩
  | 114 => ⟨S1x1, .i32⟩
  | 115 => ⟨S655360x1, .i32⟩
  | 116 => ⟨S655360x1, .i1⟩
  | 117 => ⟨S655360x1, .i1⟩
  | 118 => ⟨S_, .i1⟩
  | 119 => ⟨S655360, .i1⟩
  | 120 => ⟨S1x655360x6, .f32⟩
  | 121 => ⟨S1x655360x6, .i1⟩
  | 122 => ⟨S_, .f32⟩
  | 123 => ⟨S1x655360x6, .f32⟩
  | 124 => ⟨S1x655360x6, .f32⟩
  | 125 => ⟨S1x655360x6, .f32⟩
  | 126 => ⟨S1x655360x6, .f32⟩
  | 127 => ⟨S_, .f32⟩
  | _ => ⟨S1x3x8x256x320, .f32⟩

abbrev hbmTy0_36 (i : Nat) : BufTy := match i % 128 with
  | 0 => ⟨S1x655360, .f32⟩
  | 1 => ⟨S1x1x655360, .i1⟩
  | 2 => ⟨S1x655360, .i1⟩
  | 3 => ⟨S_, .f32⟩
  | 4 => ⟨S_, .f32⟩
  | 5 => ⟨S1x655360, .f32⟩
  | 6 => ⟨S1x655360, .f32⟩
  | 7 => ⟨S1x1x655360, .i32⟩
  | 8 => ⟨S1x655360, .i32⟩
  | 9 => ⟨S1x655360x1, .i32⟩
  | 10 => ⟨S_, .i32⟩
  | 11 => ⟨S1x655360x1, .i32⟩
  | 12 => ⟨S1x655360x1, .i1⟩
  | 13 => ⟨S_, .i32⟩
  | 14 => ⟨S1x655360x1, .i32⟩
  | 15 => ⟨S1x655360x1, .i32⟩
  | 16 => ⟨S1x655360x1, .i32⟩
  | 17 => ⟨S655360x1, .i32⟩
  | 18 => ⟨S1, .i32⟩
  | 19 => ⟨S_, .i32⟩
  | 20 => ⟨S655360x1, .i32⟩
  | 21 => ⟨S655360x1, .i1⟩
  | 22 => ⟨S1x1, .i32⟩
  | 23 => ⟨S655360x1, .i32⟩
  | 24 => ⟨S655360x1, .i1⟩
  | 25 => ⟨S655360x1, .i1⟩
  | 26 => ⟨S_, .i1⟩
  | 27 => ⟨S655360, .i1⟩
  | 28 => ⟨S1x655360x6, .f32⟩
  | 29 => ⟨S1x655360x6, .i1⟩
  | 30 => ⟨S_, .f32⟩
  | 31 => ⟨S1x655360x6, .f32⟩
  | 32 => ⟨S1x655360x6, .f32⟩
  | 33 => ⟨S1x655360x6, .f32⟩
  | 34 => ⟨S1x655360x6, .f32⟩
  | 35 => ⟨S_, .f32⟩
  | 36 => ⟨S1x655360, .f32⟩
  | 37 => ⟨S1x1x655360, .i1⟩
  | 38 => ⟨S1x655360, .i1⟩
  | 39 => ⟨S_, .f32⟩
  | 40 => ⟨S_, .f32⟩
  | 41 => ⟨S1x655360, .f32⟩
  | 42 => ⟨S1x655360, .f32⟩
  | 43 => ⟨S1x1x655360, .i32⟩
  | 44 => ⟨S1x655360, .i32⟩
  | 45 => ⟨S1x655360x1, .i32⟩
  | 46 => ⟨S_, .i32⟩
  | 47 => ⟨S1x655360x1, .i32⟩
  | 48 => ⟨S1x655360x1, .i1⟩
  | 49 => ⟨S_, .i32⟩
  | 50 => ⟨S1x655360x1, .i32⟩
  | 51 => ⟨S1x655360x1, .i32⟩
  | 52 => ⟨S1x655360x1, .i32⟩
  | 53 => ⟨S655360x1, .i32⟩
  | 54 => ⟨S1, .i32⟩
  | 55 => ⟨S_, .i32⟩
  | 56 => ⟨S655360x1, .i32⟩
  | 57 => ⟨S655360x1, .i1⟩
  | 58 => ⟨S1x1, .i32⟩
  | 59 => ⟨S655360x1, .i32⟩
  | 60 => ⟨S655360x1, .i1⟩
  | 61 => ⟨S655360x1, .i1⟩
  | 62 => ⟨S_, .i1⟩
  | 63 => ⟨S655360, .i1⟩
  | 64 => ⟨S1x655360x6, .f32⟩
  | 65 => ⟨S1x655360x6, .i1⟩
  | 66 => ⟨S_, .f32⟩
  | 67 => ⟨S1x655360x6, .f32⟩
  | 68 => ⟨S1x655360x6, .f32⟩
  | 69 => ⟨S1x655360x6, .f32⟩
  | 70 => ⟨S1x655360x6, .f32⟩
  | 71 => ⟨S_, .f32⟩
  | 72 => ⟨S1x655360, .f32⟩
  | 73 => ⟨S1x1x655360, .i1⟩
  | 74 => ⟨S1x655360, .i1⟩
  | 75 => ⟨S_, .f32⟩
  | 76 => ⟨S_, .f32⟩
  | 77 => ⟨S1x655360, .f32⟩
  | 78 => ⟨S1x655360, .f32⟩
  | 79 => ⟨S1x1x655360, .i32⟩
  | 80 => ⟨S1x655360, .i32⟩
  | 81 => ⟨S1x655360x1, .i32⟩
  | 82 => ⟨S_, .i32⟩
  | 83 => ⟨S1x655360x1, .i32⟩
  | 84 => ⟨S1x655360x1, .i1⟩
  | 85 => ⟨S_, .i32⟩
  | 86 => ⟨S1x655360x1, .i32⟩
  | 87 => ⟨S1x655360x1, .i32⟩
  | 88 => ⟨S1x655360x1, .i32⟩
  | 89 => ⟨S655360x1, .i32⟩
  | 90 => ⟨S1, .i32⟩
  | 91 => ⟨S_, .i32⟩
  | 92 => ⟨S655360x1, .i32⟩
  | 93 => ⟨S655360x1, .i1⟩
  | 94 => ⟨S1x1, .i32⟩
  | 95 => ⟨S655360x1, .i32⟩
  | 96 => ⟨S655360x1, .i1⟩
  | 97 => ⟨S655360x1, .i1⟩
  | 98 => ⟨S_, .i1⟩
  | 99 => ⟨S655360, .i1⟩
  | 100 => ⟨S1x655360x6, .f32⟩
  | 101 => ⟨S1x655360x6, .i1⟩
  | 102 => ⟨S_, .f32⟩
  | 103 => ⟨S1x655360x6, .f32⟩
  | 104 => ⟨S1x655360x6, .f32⟩
  | 105 => ⟨S1x655360x6, .f32⟩
  | 106 => ⟨S1x655360x6, .f32⟩
  | 107 => ⟨S_, .f32⟩
  | 108 => ⟨S1x655360, .f32⟩
  | 109 => ⟨S1x1x655360, .i1⟩
  | 110 => ⟨S1x655360, .i1⟩
  | 111 => ⟨S_, .f32⟩
  | 112 => ⟨S_, .f32⟩
  | 113 => ⟨S1x655360, .f32⟩
  | 114 => ⟨S1x655360, .f32⟩
  | 115 => ⟨S1x1x655360, .i32⟩
  | 116 => ⟨S1x655360, .i32⟩
  | 117 => ⟨S1x655360x1, .i32⟩
  | 118 => ⟨S_, .i32⟩
  | 119 => ⟨S1x655360x1, .i32⟩
  | 120 => ⟨S1x655360x1, .i1⟩
  | 121 => ⟨S_, .i32⟩
  | 122 => ⟨S1x655360x1, .i32⟩
  | 123 => ⟨S1x655360x1, .i32⟩
  | 124 => ⟨S1x655360x1, .i32⟩
  | 125 => ⟨S655360x1, .i32⟩
  | 126 => ⟨S1, .i32⟩
  | 127 => ⟨S_, .i32⟩
  | _ => ⟨S1x3x8x256x320, .f32⟩

abbrev hbmTy0_37 (i : Nat) : BufTy := match i % 128 with
  | 0 => ⟨S655360x1, .i32⟩
  | 1 => ⟨S655360x1, .i1⟩
  | 2 => ⟨S1x1, .i32⟩
  | 3 => ⟨S655360x1, .i32⟩
  | 4 => ⟨S655360x1, .i1⟩
  | 5 => ⟨S655360x1, .i1⟩
  | 6 => ⟨S_, .i1⟩
  | 7 => ⟨S655360, .i1⟩
  | 8 => ⟨S1x655360x6, .f32⟩
  | 9 => ⟨S1x655360x6, .i1⟩
  | 10 => ⟨S_, .f32⟩
  | 11 => ⟨S1x655360x6, .f32⟩
  | 12 => ⟨S1x655360x6, .f32⟩
  | 13 => ⟨S1x655360x6, .f32⟩
  | 14 => ⟨S1x655360x6, .f32⟩
  | 15 => ⟨S_, .f32⟩
  | 16 => ⟨S1x655360, .f32⟩
  | 17 => ⟨S1x1x655360, .i1⟩
  | 18 => ⟨S1x655360, .i1⟩
  | 19 => ⟨S_, .f32⟩
  | 20 => ⟨S_, .f32⟩
  | 21 => ⟨S1x655360, .f32⟩
  | 22 => ⟨S1x655360, .f32⟩
  | 23 => ⟨S1x1x655360, .i32⟩
  | 24 => ⟨S1x655360, .i32⟩
  | 25 => ⟨S1x655360x1, .i32⟩
  | 26 => ⟨S_, .i32⟩
  | 27 => ⟨S1x655360x1, .i32⟩
  | 28 => ⟨S1x655360x1, .i1⟩
  | 29 => ⟨S_, .i32⟩
  | 30 => ⟨S1x655360x1, .i32⟩
  | 31 => ⟨S1x655360x1, .i32⟩
  | 32 => ⟨S1x655360x1, .i32⟩
  | 33 => ⟨S655360x1, .i32⟩
  | 34 => ⟨S1, .i32⟩
  | 35 => ⟨S_, .i32⟩
  | 36 => ⟨S655360x1, .i32⟩
  | 37 => ⟨S655360x1, .i1⟩
  | 38 => ⟨S1x1, .i32⟩
  | 39 => ⟨S655360x1, .i32⟩
  | 40 => ⟨S655360x1, .i1⟩
  | 41 => ⟨S655360x1, .i1⟩
  | 42 => ⟨S_, .i1⟩
  | 43 => ⟨S655360, .i1⟩
  | 44 => ⟨S1x655360x6, .f32⟩
  | 45 => ⟨S1x655360x6, .i1⟩
  | 46 => ⟨S_, .f32⟩
  | 47 => ⟨S1x655360x6, .f32⟩
  | 48 => ⟨S1x655360x6, .f32⟩
  | 49 => ⟨S1x655360x6, .f32⟩
  | 50 => ⟨S1x655360x6, .f32⟩
  | 51 => ⟨S_, .f32⟩
  | 52 => ⟨S1x655360, .f32⟩
  | 53 => ⟨S1x1x655360, .i1⟩
  | 54 => ⟨S1x655360, .i1⟩
  | 55 => ⟨S_, .f32⟩
  | 56 => ⟨S_, .f32⟩
  | 57 => ⟨S1x655360, .f32⟩
  | 58 => ⟨S1x655360, .f32⟩
  | 59 => ⟨S1x1x655360, .i32⟩
  | 60 => ⟨S1x655360, .i32⟩
  | 61 => ⟨S1x655360x1, .i32⟩
  | 62 => ⟨S_, .i32⟩
  | 63 => ⟨S1x655360x1, .i32⟩
  | 64 => ⟨S1x655360x1, .i1⟩
  | 65 => ⟨S_, .i32⟩
  | 66 => ⟨S1x655360x1, .i32⟩
  | 67 => ⟨S1x655360x1, .i32⟩
  | 68 => ⟨S1x655360x1, .i32⟩
  | 69 => ⟨S655360x1, .i32⟩
  | 70 => ⟨S1, .i32⟩
  | 71 => ⟨S_, .i32⟩
  | 72 => ⟨S655360x1, .i32⟩
  | 73 => ⟨S655360x1, .i1⟩
  | 74 => ⟨S1x1, .i32⟩
  | 75 => ⟨S655360x1, .i32⟩
  | 76 => ⟨S655360x1, .i1⟩
  | 77 => ⟨S655360x1, .i1⟩
  | 78 => ⟨S_, .i1⟩
  | 79 => ⟨S655360, .i1⟩
  | 80 => ⟨S1x655360x6, .f32⟩
  | 81 => ⟨S1x655360x6, .i1⟩
  | 82 => ⟨S_, .f32⟩
  | 83 => ⟨S1x655360x6, .f32⟩
  | 84 => ⟨S1x655360x6, .f32⟩
  | 85 => ⟨S1x655360x6, .f32⟩
  | 86 => ⟨S1x655360x6, .f32⟩
  | 87 => ⟨S_, .f32⟩
  | 88 => ⟨S1x655360, .f32⟩
  | 89 => ⟨S1x1x655360, .i1⟩
  | 90 => ⟨S1x655360, .i1⟩
  | 91 => ⟨S_, .f32⟩
  | 92 => ⟨S_, .f32⟩
  | 93 => ⟨S1x655360, .f32⟩
  | 94 => ⟨S1x655360, .f32⟩
  | 95 => ⟨S1x1x655360, .i32⟩
  | 96 => ⟨S1x655360, .i32⟩
  | 97 => ⟨S1x655360x1, .i32⟩
  | 98 => ⟨S_, .i32⟩
  | 99 => ⟨S1x655360x1, .i32⟩
  | 100 => ⟨S1x655360x1, .i1⟩
  | 101 => ⟨S_, .i32⟩
  | 102 => ⟨S1x655360x1, .i32⟩
  | 103 => ⟨S1x655360x1, .i32⟩
  | 104 => ⟨S1x655360x1, .i32⟩
  | 105 => ⟨S655360x1, .i32⟩
  | 106 => ⟨S1, .i32⟩
  | 107 => ⟨S_, .i32⟩
  | 108 => ⟨S655360x1, .i32⟩
  | 109 => ⟨S655360x1, .i1⟩
  | 110 => ⟨S1x1, .i32⟩
  | 111 => ⟨S655360x1, .i32⟩
  | 112 => ⟨S655360x1, .i1⟩
  | 113 => ⟨S655360x1, .i1⟩
  | 114 => ⟨S_, .i1⟩
  | 115 => ⟨S655360, .i1⟩
  | 116 => ⟨S1x655360x6, .f32⟩
  | 117 => ⟨S1x655360x6, .i1⟩
  | 118 => ⟨S_, .f32⟩
  | 119 => ⟨S1x655360x6, .f32⟩
  | 120 => ⟨S1x655360x6, .f32⟩
  | 121 => ⟨S1x655360x6, .f32⟩
  | 122 => ⟨S1x655360x6, .f32⟩
  | 123 => ⟨S_, .f32⟩
  | 124 => ⟨S1x655360, .f32⟩
  | 125 => ⟨S1x1x655360, .i1⟩
  | 126 => ⟨S1x655360, .i1⟩
  | 127 => ⟨S_, .f32⟩
  | _ => ⟨S1x3x8x256x320, .f32⟩

abbrev hbmTy0_38 (i : Nat) : BufTy := match i % 128 with
  | 0 => ⟨S_, .f32⟩
  | 1 => ⟨S1x655360, .f32⟩
  | 2 => ⟨S1x655360, .f32⟩
  | 3 => ⟨S1x1x655360, .i32⟩
  | 4 => ⟨S1x655360, .i32⟩
  | 5 => ⟨S1x655360x1, .i32⟩
  | 6 => ⟨S_, .i32⟩
  | 7 => ⟨S1x655360x1, .i32⟩
  | 8 => ⟨S1x655360x1, .i1⟩
  | 9 => ⟨S_, .i32⟩
  | 10 => ⟨S1x655360x1, .i32⟩
  | 11 => ⟨S1x655360x1, .i32⟩
  | 12 => ⟨S1x655360x1, .i32⟩
  | 13 => ⟨S655360x1, .i32⟩
  | 14 => ⟨S1, .i32⟩
  | 15 => ⟨S_, .i32⟩
  | 16 => ⟨S655360x1, .i32⟩
  | 17 => ⟨S655360x1, .i1⟩
  | 18 => ⟨S1x1, .i32⟩
  | 19 => ⟨S655360x1, .i32⟩
  | 20 => ⟨S655360x1, .i1⟩
  | 21 => ⟨S655360x1, .i1⟩
  | 22 => ⟨S_, .i1⟩
  | 23 => ⟨S655360, .i1⟩
  | 24 => ⟨S1x655360x6, .f32⟩
  | 25 => ⟨S1x655360x6, .i1⟩
  | 26 => ⟨S_, .f32⟩
  | 27 => ⟨S1x655360x6, .f32⟩
  | 28 => ⟨S1x655360x6, .f32⟩
  | 29 => ⟨S1x655360x6, .f32⟩
  | 30 => ⟨S1x655360x6, .f32⟩
  | 31 => ⟨S_, .f32⟩
  | 32 => ⟨S1x655360, .f32⟩
  | 33 => ⟨S1x1x655360, .i1⟩
  | 34 => ⟨S1x655360, .i1⟩
  | 35 => ⟨S_, .f32⟩
  | 36 => ⟨S_, .f32⟩
  | 37 => ⟨S1x655360, .f32⟩
  | 38 => ⟨S1x655360, .f32⟩
  | 39 => ⟨S1x1x655360, .i32⟩
  | 40 => ⟨S1x655360, .i32⟩
  | 41 => ⟨S1x655360x1, .i32⟩
  | 42 => ⟨S_, .i32⟩
  | 43 => ⟨S1x655360x1, .i32⟩
  | 44 => ⟨S1x655360x1, .i1⟩
  | 45 => ⟨S_, .i32⟩
  | 46 => ⟨S1x655360x1, .i32⟩
  | 47 => ⟨S1x655360x1, .i32⟩
  | 48 => ⟨S1x655360x1, .i32⟩
  | 49 => ⟨S655360x1, .i32⟩
  | 50 => ⟨S1, .i32⟩
  | 51 => ⟨S_, .i32⟩
  | 52 => ⟨S655360x1, .i32⟩
  | 53 => ⟨S655360x1, .i1⟩
  | 54 => ⟨S1x1, .i32⟩
  | 55 => ⟨S655360x1, .i32⟩
  | 56 => ⟨S655360x1, .i1⟩
  | 57 => ⟨S655360x1, .i1⟩
  | 58 => ⟨S_, .i1⟩
  | 59 => ⟨S655360, .i1⟩
  | 60 => ⟨S1x655360x6, .f32⟩
  | 61 => ⟨S1x655360x6, .i1⟩
  | 62 => ⟨S_, .f32⟩
  | 63 => ⟨S1x655360x6, .f32⟩
  | 64 => ⟨S1x655360x6, .f32⟩
  | 65 => ⟨S1x655360x6, .f32⟩
  | 66 => ⟨S1x655360x6, .f32⟩
  | 67 => ⟨S_, .f32⟩
  | 68 => ⟨S1x655360, .f32⟩
  | 69 => ⟨S1x1x655360, .i1⟩
  | 70 => ⟨S1x655360, .i1⟩
  | 71 => ⟨S_, .f32⟩
  | 72 => ⟨S_, .f32⟩
  | 73 => ⟨S1x655360, .f32⟩
  | 74 => ⟨S1x655360, .f32⟩
  | 75 => ⟨S1x1x655360, .i32⟩
  | 76 => ⟨S1x655360, .i32⟩
  | 77 => ⟨S1x655360x1, .i32⟩
  | 78 => ⟨S_, .i32⟩
  | 79 => ⟨S1x655360x1, .i32⟩
  | 80 => ⟨S1x655360x1, .i1⟩
  | 81 => ⟨S_, .i32⟩
  | 82 => ⟨S1x655360x1, .i32⟩
  | 83 => ⟨S1x655360x1, .i32⟩
  | 84 => ⟨S1x655360x1, .i32⟩
  | 85 => ⟨S655360x1, .i32⟩
  | 86 => ⟨S1, .i32⟩
  | 87 => ⟨S_, .i32⟩
  | 88 => ⟨S655360x1, .i32⟩
  | 89 => ⟨S655360x1, .i1⟩
  | 90 => ⟨S1x1, .i32⟩
  | 91 => ⟨S655360x1, .i32⟩
  | 92 => ⟨S655360x1, .i1⟩
  | 93 => ⟨S655360x1, .i1⟩
  | 94 => ⟨S_, .i1⟩
  | 95 => ⟨S655360, .i1⟩
  | 96 => ⟨S1x655360x6, .f32⟩
  | 97 => ⟨S1x655360x6, .i1⟩
  | 98 => ⟨S_, .f32⟩
  | 99 => ⟨S1x655360x6, .f32⟩
  | 100 => ⟨S1x655360x6, .f32⟩
  | 101 => ⟨S1x655360x6, .f32⟩
  | 102 => ⟨S1x655360x6, .f32⟩
  | 103 => ⟨S_, .f32⟩
  | 104 => ⟨S1x655360, .f32⟩
  | 105 => ⟨S1x1x655360, .i1⟩
  | 106 => ⟨S1x655360, .i1⟩
  | 107 => ⟨S_, .f32⟩
  | 108 => ⟨S_, .f32⟩
  | 109 => ⟨S1x655360, .f32⟩
  | 110 => ⟨S1x655360, .f32⟩
  | 111 => ⟨S1x1x655360, .i32⟩
  | 112 => ⟨S1x655360, .i32⟩
  | 113 => ⟨S1x655360x1, .i32⟩
  | 114 => ⟨S_, .i32⟩
  | 115 => ⟨S1x655360x1, .i32⟩
  | 116 => ⟨S1x655360x1, .i1⟩
  | 117 => ⟨S_, .i32⟩
  | 118 => ⟨S1x655360x1, .i32⟩
  | 119 => ⟨S1x655360x1, .i32⟩
  | 120 => ⟨S1x655360x1, .i32⟩
  | 121 => ⟨S655360x1, .i32⟩
  | 122 => ⟨S1, .i32⟩
  | 123 => ⟨S_, .i32⟩
  | 124 => ⟨S655360x1, .i32⟩
  | 125 => ⟨S655360x1, .i1⟩
  | 126 => ⟨S1x1, .i32⟩
  | 127 => ⟨S655360x1, .i32⟩
  | _ => ⟨S1x3x8x256x320, .f32⟩

abbrev hbmTy0_39 (i : Nat) : BufTy := match i % 128 with
  | 0 => ⟨S655360x1, .i1⟩
  | 1 => ⟨S655360x1, .i1⟩
  | 2 => ⟨S_, .i1⟩
  | 3 => ⟨S655360, .i1⟩
  | 4 => ⟨S1x655360x6, .f32⟩
  | 5 => ⟨S1x655360x6, .i1⟩
  | 6 => ⟨S_, .f32⟩
  | 7 => ⟨S1x655360x6, .f32⟩
  | 8 => ⟨S1x655360x6, .f32⟩
  | 9 => ⟨S1x655360x6, .f32⟩
  | 10 => ⟨S1x655360x6, .f32⟩
  | 11 => ⟨S_, .f32⟩
  | 12 => ⟨S1x655360, .f32⟩
  | 13 => ⟨S1x1x655360, .i1⟩
  | 14 => ⟨S1x655360, .i1⟩
  | 15 => ⟨S_, .f32⟩
  | 16 => ⟨S_, .f32⟩
  | 17 => ⟨S1x655360, .f32⟩
  | 18 => ⟨S1x655360, .f32⟩
  | 19 => ⟨S1x1x655360, .i32⟩
  | 20 => ⟨S1x655360, .i32⟩
  | 21 => ⟨S1x655360x1, .i32⟩
  | 22 => ⟨S_, .i32⟩
  | 23 => ⟨S1x655360x1, .i32⟩
  | 24 => ⟨S1x655360x1, .i1⟩
  | 25 => ⟨S_, .i32⟩
  | 26 => ⟨S1x655360x1, .i32⟩
  | 27 => ⟨S1x655360x1, .i32⟩
  | 28 => ⟨S1x655360x1, .i32⟩
  | 29 => ⟨S655360x1, .i32⟩
  | 30 => ⟨S1, .i32⟩
  | 31 => ⟨S_, .i32⟩
  | 32 => ⟨S655360x1, .i32⟩
  | 33 => ⟨S655360x1, .i1⟩
  | 34 => ⟨S1x1, .i32⟩
  | 35 => ⟨S655360x1, .i32⟩
  | 36 => ⟨S655360x1, .i1⟩
  | 37 => ⟨S655360x1, .i1⟩
  | 38 => ⟨S_, .i1⟩
  | 39 => ⟨S655360, .i1⟩
  | 40 => ⟨S1x655360x6, .f32⟩
  | 41 => ⟨S1x655360x6, .i1⟩
  | 42 => ⟨S_, .f32⟩
  | 43 => ⟨S1x655360x6, .f32⟩
  | 44 => ⟨S1x655360x6, .f32⟩
  | 45 => ⟨S1x655360x6, .f32⟩
  | 46 => ⟨S1x655360x6, .f32⟩
  | 47 => ⟨S_, .f32⟩
  | 48 => ⟨S1x655360, .f32⟩
  | 49 => ⟨S1x1x655360, .i1⟩
  | 50 => ⟨S1x655360, .i1⟩
  | 51 => ⟨S_, .f32⟩
  | 52 => ⟨S_, .f32⟩
  | 53 => ⟨S1x655360, .f32⟩
  | 54 => ⟨S1x655360, .f32⟩
  | 55 => ⟨S1x1x655360, .i32⟩
  | 56 => ⟨S1x655360, .i32⟩
  | 57 => ⟨S1x655360x1, .i32⟩
  | 58 => ⟨S_, .i32⟩
  | 59 => ⟨S1x655360x1, .i32⟩
  | 60 => ⟨S1x655360x1, .i1⟩
  | 61 => ⟨S_, .i32⟩
  | 62 => ⟨S1x655360x1, .i32⟩
  | 63 => ⟨S1x655360x1, .i32⟩
  | 64 => ⟨S1x655360x1, .i32⟩
  | 65 => ⟨S655360x1, .i32⟩
  | 66 => ⟨S1, .i32⟩
  | 67 => ⟨S_, .i32⟩
  | 68 => ⟨S655360x1, .i32⟩
  | 69 => ⟨S655360x1, .i1⟩
  | 70 => ⟨S1x1, .i32⟩
  | 71 => ⟨S655360x1, .i32⟩
  | 72 => ⟨S655360x1, .i1⟩
  | 73 => ⟨S655360x1, .i1⟩
  | 74 => ⟨S_, .i1⟩
  | 75 => ⟨S655360, .i1⟩
  | 76 => ⟨S1x655360x6, .f32⟩
  | 77 => ⟨S1x655360x6, .i1⟩
  | 78 => ⟨S_, .f32⟩
  | 79 => ⟨S1x655360x6, .f32⟩
  | 80 => ⟨S1x655360x6, .f32⟩
  | 81 => ⟨S1x655360x6, .f32⟩
  | 82 => ⟨S1x655360x6, .f32⟩
  | 83 => ⟨S_, .f32⟩
  | 84 => ⟨S1x655360, .f32⟩
  | 85 => ⟨S1x1x655360, .i1⟩
  | 86 => ⟨S1x655360, .i1⟩
  | 87 => ⟨S_, .f32⟩
  | 88 => ⟨S_, .f32⟩
  | 89 => ⟨S1x655360, .f32⟩
  | 90 => ⟨S1x655360, .f32⟩
  | 91 => ⟨S1x1x655360, .i32⟩
  | 92 => ⟨S1x655360, .i32⟩
  | 93 => ⟨S1x655360x1, .i32⟩
  | 94 => ⟨S_, .i32⟩
  | 95 => ⟨S1x655360x1, .i32⟩
  | 96 => ⟨S1x655360x1, .i1⟩
  | 97 => ⟨S_, .i32⟩
  | 98 => ⟨S1x655360x1, .i32⟩
  | 99 => ⟨S1x655360x1, .i32⟩
  | 100 => ⟨S1x655360x1, .i32⟩
  | 101 => ⟨S655360x1, .i32⟩
  | 102 => ⟨S1, .i32⟩
  | 103 => ⟨S_, .i32⟩
  | 104 => ⟨S655360x1, .i32⟩
  | 105 => ⟨S655360x1, .i1⟩
  | 106 => ⟨S1x1, .i32⟩
  | 107 => ⟨S655360x1, .i32⟩
  | 108 => ⟨S655360x1, .i1⟩
  | 109 => ⟨S655360x1, .i1⟩
  | 110 => ⟨S_, .i1⟩
  | 111 => ⟨S655360, .i1⟩
  | 112 => ⟨S1x655360x6, .f32⟩
  | 113 => ⟨S1x655360x6, .i1⟩
  | 114 => ⟨S_, .f32⟩
  | 115 => ⟨S1x655360x6, .f32⟩
  | 116 => ⟨S1x655360x6, .f32⟩
  | 117 => ⟨S1x655360x6, .f32⟩
  | 118 => ⟨S1x655360x6, .f32⟩
  | 119 => ⟨S_, .f32⟩
  | 120 => ⟨S1x655360, .f32⟩
  | 121 => ⟨S1x1x655360, .i1⟩
  | 122 => ⟨S1x655360, .i1⟩
  | 123 => ⟨S_, .f32⟩
  | 124 => ⟨S_, .f32⟩
  | 125 => ⟨S1x655360, .f32⟩
  | 126 => ⟨S1x655360, .f32⟩
  | 127 => ⟨S1x1x655360, .i32⟩
  | _ => ⟨S1x3x8x256x320, .f32⟩

abbrev hbmTy0_40 (i : Nat) : BufTy := match i % 128 with
  | 0 => ⟨S1x655360, .i32⟩
  | 1 => ⟨S1x655360x1, .i32⟩
  | 2 => ⟨S_, .i32⟩
  | 3 => ⟨S1x655360x1, .i32⟩
  | 4 => ⟨S1x655360x1, .i1⟩
  | 5 => ⟨S_, .i32⟩
  | 6 => ⟨S1x655360x1, .i32⟩
  | 7 => ⟨S1x655360x1, .i32⟩
  | 8 => ⟨S1x655360x1, .i32⟩
  | 9 => ⟨S655360x1, .i32⟩
  | 10 => ⟨S1, .i32⟩
  | 11 => ⟨S_, .i32⟩
  | 12 => ⟨S655360x1, .i32⟩
  | 13 => ⟨S655360x1, .i1⟩
  | 14 => ⟨S1x1, .i32⟩
  | 15 => ⟨S655360x1, .i32⟩
  | 16 => ⟨S655360x1, .i1⟩
  | 17 => ⟨S655360x1, .i1⟩
  | 18 => ⟨S_, .i1⟩
  | 19 => ⟨S655360, .i1⟩
  | 20 => ⟨S1x655360x6, .f32⟩
  | 21 => ⟨S1x655360x6, .i1⟩
  | 22 => ⟨S_, .f32⟩
  | 23 => ⟨S1x655360x6, .f32⟩
  | 24 => ⟨S1x655360x6, .f32⟩
  | 25 => ⟨S1x655360x6, .f32⟩
  | 26 => ⟨S1x655360x6, .f32⟩
  | 27 => ⟨S_, .f32⟩
  | 28 => ⟨S1x655360, .f32⟩
  | 29 => ⟨S1x1x655360, .i1⟩
  | 30 => ⟨S1x655360, .i1⟩
  | 31 => ⟨S_, .f32⟩
  | 32 => ⟨S_, .f32⟩
  | 33 => ⟨S1x655360, .f32⟩
  | 34 => ⟨S1x655360, .f32⟩
  | 35 => ⟨S1x1x655360, .i32⟩
  | 36 => ⟨S1x655360, .i32⟩
  | 37 => ⟨S1x655360x1, .i32⟩
  | 38 => ⟨S_, .i32⟩
  | 39 => ⟨S1x655360x1, .i32⟩
  | 40 => ⟨S1x655360x1, .i1⟩
  | 41 => ⟨S_, .i32⟩
  | 42 => ⟨S1x655360x1, .i32⟩
  | 43 => ⟨S1x655360x1, .i32⟩
  | 44 => ⟨S1x655360x1, .i32⟩
  | 45 => ⟨S655360x1, .i32⟩
  | 46 => ⟨S1, .i32⟩
  | 47 => ⟨S_, .i32⟩
  | 48 => ⟨S655360x1, .i32⟩
  | 49 => ⟨S655360x1, .i1⟩
  | 50 => ⟨S1x1, .i32⟩
  | 51 => ⟨S655360x1, .i32⟩
  | 52 => ⟨S655360x1, .i1⟩
  | 53 => ⟨S655360x1, .i1⟩
  | 54 => ⟨S_, .i1⟩
  | 55 => ⟨S655360, .i1⟩
  | 56 => ⟨S1x655360x6, .f32⟩
  | 57 => ⟨S1x655360x6, .i1⟩
  | 58 => ⟨S_, .f32⟩
  | 59 => ⟨S1x655360x6, .f32⟩
  | 60 => ⟨S1x655360x6, .f32⟩
  | 61 => ⟨S1x655360x6, .f32⟩
  | 62 => ⟨S1x655360x6, .f32⟩
  | 63 => ⟨S_, .f32⟩
  | 64 => ⟨S1x655360, .f32⟩
  | 65 => ⟨S1x1x655360, .i1⟩
  | 66 => ⟨S1x655360, .i1⟩
  | 67 => ⟨S_, .f32⟩
  | 68 => ⟨S_, .f32⟩
  | 69 => ⟨S1x655360, .f32⟩
  | 70 => ⟨S1x655360, .f32⟩
  | 71 => ⟨S1x1x655360, .i32⟩
  | 72 => ⟨S1x655360, .i32⟩
  | 73 => ⟨S1x655360x1, .i32⟩
  | 74 => ⟨S_, .i32⟩
  | 75 => ⟨S1x655360x1, .i32⟩
  | 76 => ⟨S1x655360x1, .i1⟩
  | 77 => ⟨S_, .i32⟩
  | 78 => ⟨S1x655360x1, .i32⟩
  | 79 => ⟨S1x655360x1, .i32⟩
  | 80 => ⟨S1x655360x1, .i32⟩
  | 81 => ⟨S655360x1, .i32⟩
  | 82 => ⟨S1, .i32⟩
  | 83 => ⟨S_, .i32⟩
  | 84 => ⟨S655360x1, .i32⟩
  | 85 => ⟨S655360x1, .i1⟩
  | 86 => ⟨S1x1, .i32⟩
  | 87 => ⟨S655360x1, .i32⟩
  | 88 => ⟨S655360x1, .i1⟩
  | 89 => ⟨S655360x1, .i1⟩
  | 90 => ⟨S_, .i1⟩
  | 91 => ⟨S655360, .i1⟩
  | 92 => ⟨S1x655360x6, .f32⟩
  | 93 => ⟨S1x655360x6, .i1⟩
  | 94 => ⟨S_, .f32⟩
  | 95 => ⟨S1x655360x6, .f32⟩
  | 96 => ⟨S1x655360x6, .f32⟩
  | 97 => ⟨S1x655360x6, .f32⟩
  | 98 => ⟨S1x655360x6, .f32⟩
  | 99 => ⟨S_, .f32⟩
  | 100 => ⟨S1x655360, .f32⟩
  | 101 => ⟨S1x1x655360, .i1⟩
  | 102 => ⟨S1x655360, .i1⟩
  | 103 => ⟨S_, .f32⟩
  | 104 => ⟨S_, .f32⟩
  | 105 => ⟨S1x655360, .f32⟩
  | 106 => ⟨S1x655360, .f32⟩
  | 107 => ⟨S1x1x655360, .i32⟩
  | 108 => ⟨S1x655360, .i32⟩
  | 109 => ⟨S1x655360x1, .i32⟩
  | 110 => ⟨S_, .i32⟩
  | 111 => ⟨S1x655360x1, .i32⟩
  | 112 => ⟨S1x655360x1, .i1⟩
  | 113 => ⟨S_, .i32⟩
  | 114 => ⟨S1x655360x1, .i32⟩
  | 115 => ⟨S1x655360x1, .i32⟩
  | 116 => ⟨S1x655360x1, .i32⟩
  | 117 => ⟨S655360x1, .i32⟩
  | 118 => ⟨S1, .i32⟩
  | 119 => ⟨S_, .i32⟩
  | 120 => ⟨S655360x1, .i32⟩
  | 121 => ⟨S655360x1, .i1⟩
  | 122 => ⟨S1x1, .i32⟩
  | 123 => ⟨S655360x1, .i32⟩
  | 124 => ⟨S655360x1, .i1⟩
  | 125 => ⟨S655360x1, .i1⟩
  | 126 => ⟨S_, .i1⟩
  | 127 => ⟨S655360, .i1⟩
  | _ => ⟨S1x3x8x256x320, .f32⟩

abbrev hbmTy0_41 (i : Nat) : BufTy := match i % 128 with
  | 0 => ⟨S1x655360x6, .f32⟩
  | 1 => ⟨S1x655360x6, .i1⟩
  | 2 => ⟨S_, .f32⟩
  | 3 => ⟨S1x655360x6, .f32⟩
  | 4 => ⟨S1x655360x6, .f32⟩
  | 5 => ⟨S1x655360x6, .f32⟩
  | 6 => ⟨S1x655360x6, .f32⟩
  | 7 => ⟨S_, .f32⟩
  | 8 => ⟨S1x655360, .f32⟩
  | 9 => ⟨S1x1x655360, .i1⟩
  | 10 => ⟨S1x655360, .i1⟩
  | 11 => ⟨S_, .f32⟩
  | 12 => ⟨S_, .f32⟩
  | 13 => ⟨S1x655360, .f32⟩
  | 14 => ⟨S1x655360, .f32⟩
  | 15 => ⟨S1x1x655360, .i32⟩
  | 16 => ⟨S1x655360, .i32⟩
  | 17 => ⟨S1x655360x1, .i32⟩
  | 18 => ⟨S_, .i32⟩
  | 19 => ⟨S1x655360x1, .i32⟩
  | 20 => ⟨S1x655360x1, .i1⟩
  | 21 => ⟨S_, .i32⟩
  | 22 => ⟨S1x655360x1, .i32⟩
  | 23 => ⟨S1x655360x1, .i32⟩
  | 24 => ⟨S1x655360x1, .i32⟩
  | 25 => ⟨S655360x1, .i32⟩
  | 26 => ⟨S1, .i32⟩
  | 27 => ⟨S_, .i32⟩
  | 28 => ⟨S655360x1, .i32⟩
  | 29 => ⟨S655360x1, .i1⟩
  | 30 => ⟨S1x1, .i32⟩
  | 31 => ⟨S655360x1, .i32⟩
  | 32 => ⟨S655360x1, .i1⟩
  | 33 => ⟨S655360x1, .i1⟩
  | 34 => ⟨S_, .i1⟩
  | 35 => ⟨S655360, .i1⟩
  | 36 => ⟨S1x655360x6, .f32⟩
  | 37 => ⟨S1x655360x6, .i1⟩
  | 38 => ⟨S_, .f32⟩
  | 39 => ⟨S1x655360x6, .f32⟩
  | 40 => ⟨S1x655360x6, .f32⟩
  | 41 => ⟨S1x655360x6, .f32⟩
  | 42 => ⟨S1x655360x6, .f32⟩
  | 43 => ⟨S_, .f32⟩
  | 44 => ⟨S1x655360, .f32⟩
  | 45 => ⟨S1x1x655360, .i1⟩
  | 46 => ⟨S1x655360, .i1⟩
  | 47 => ⟨S_, .f32⟩
  | 48 => ⟨S_, .f32⟩
  | 49 => ⟨S1x655360, .f32⟩
  | 50 => ⟨S1x655360, .f32⟩
  | 51 => ⟨S1x1x655360, .i32⟩
  | 52 => ⟨S1x655360, .i32⟩
  | 53 => ⟨S1x655360x1, .i32⟩
  | 54 => ⟨S_, .i32⟩
  | 55 => ⟨S1x655360x1, .i32⟩
  | 56 => ⟨S1x655360x1, .i1⟩
  | 57 => ⟨S_, .i32⟩
  | 58 => ⟨S1x655360x1, .i32⟩
  | 59 => ⟨S1x655360x1, .i32⟩
  | 60 => ⟨S1x655360x1, .i32⟩
  | 61 => ⟨S655360x1, .i32⟩
  | 62 => ⟨S1, .i32⟩
  | 63 => ⟨S_, .i32⟩
  | 64 => ⟨S655360x1, .i32⟩
  | 65 => ⟨S655360x1, .i1⟩
  | 66 => ⟨S1x1, .i32⟩
  | 67 => ⟨S655360x1, .i32⟩
  | 68 => ⟨S655360x1, .i1⟩
  | 69 => ⟨S655360x1, .i1⟩
  | 70 => ⟨S_, .i1⟩
  | 71 => ⟨S655360, .i1⟩
  | 72 => ⟨S1x655360x6, .f32⟩
  | 73 => ⟨S1x655360x6, .i1⟩
  | 74 => ⟨S_, .f32⟩
  | 75 => ⟨S1x655360x6, .f32⟩
  | 76 => ⟨S1x655360x6, .f32⟩
  | 77 => ⟨S1x655360x6, .f32⟩
  | 78 => ⟨S1x655360x6, .f32⟩
  | 79 => ⟨S_, .f32⟩
  | 80 => ⟨S1x655360, .f32⟩
  | 81 => ⟨S1x1x655360, .i1⟩
  | 82 => ⟨S1x655360, .i1⟩
  | 83 => ⟨S_, .f32⟩
  | 84 => ⟨S_, .f32⟩
  | 85 => ⟨S1x655360, .f32⟩
  | 86 => ⟨S1x655360, .f32⟩
  | 87 => ⟨S1x1x655360, .i32⟩
  | 88 => ⟨S1x655360, .i32⟩
  | 89 => ⟨S1x655360x1, .i32⟩
  | 90 => ⟨S_, .i32⟩
  | 91 => ⟨S1x655360x1, .i32⟩
  | 92 => ⟨S1x655360x1, .i1⟩
  | 93 => ⟨S_, .i32⟩
  | 94 => ⟨S1x655360x1, .i32⟩
  | 95 => ⟨S1x655360x1, .i32⟩
  | 96 => ⟨S1x655360x1, .i32⟩
  | 97 => ⟨S655360x1, .i32⟩
  | 98 => ⟨S1, .i32⟩
  | 99 => ⟨S_, .i32⟩
  | 100 => ⟨S655360x1, .i32⟩
  | 101 => ⟨S655360x1, .i1⟩
  | 102 => ⟨S1x1, .i32⟩
  | 103 => ⟨S655360x1, .i32⟩
  | 104 => ⟨S655360x1, .i1⟩
  | 105 => ⟨S655360x1, .i1⟩
  | 106 => ⟨S_, .i1⟩
  | 107 => ⟨S655360, .i1⟩
  | 108 => ⟨S1x655360x6, .f32⟩
  | 109 => ⟨S1x655360x6, .i1⟩
  | 110 => ⟨S_, .f32⟩
  | 111 => ⟨S1x655360x6, .f32⟩
  | 112 => ⟨S1x655360x6, .f32⟩
  | 113 => ⟨S1x655360x6, .f32⟩
  | 114 => ⟨S1x655360x6, .f32⟩
  | 115 => ⟨S_, .f32⟩
  | 116 => ⟨S1x655360, .f32⟩
  | 117 => ⟨S1x1x655360, .i1⟩
  | 118 => ⟨S1x655360, .i1⟩
  | 119 => ⟨S_, .f32⟩
  | 120 => ⟨S_, .f32⟩
  | 121 => ⟨S1x655360, .f32⟩
  | 122 => ⟨S1x655360, .f32⟩
  | 123 => ⟨S1x1x655360, .f32⟩
  | 124 => ⟨S1x1x655360, .f32⟩
  | 125 => ⟨S1x1x655360, .f32⟩
  | 126 => ⟨S1x1x655360, .f32⟩
  | 127 => ⟨S1x1x655360, .f32⟩
  | _ => ⟨S1x3x8x256x320, .f32⟩

abbrev hbmTy0_42 (i : Nat) : BufTy := match i % 128 with
  | 0 => ⟨S1x1x655360, .f32⟩
  | 1 => ⟨S1x1x655360, .f32⟩
  | 2 => ⟨S1x1x655360, .f32⟩
  | 3 => ⟨S1x1x655360, .f32⟩
  | 4 => ⟨S1x1x655360, .f32⟩
  | 5 => ⟨S1x1x655360, .f32⟩
  | 6 => ⟨S1x1x655360, .f32⟩
  | 7 => ⟨S1x1x655360, .f32⟩
  | 8 => ⟨S1x1x655360, .f32⟩
  | 9 => ⟨S1x1x655360, .f32⟩
  | 10 => ⟨S1x1x655360, .f32⟩
  | 11 => ⟨S1x1x655360, .f32⟩
  | 12 => ⟨S1x1x655360, .f32⟩
  | 13 => ⟨S1x1x655360, .f32⟩
  | 14 => ⟨S1x1x655360, .f32⟩
  | 15 => ⟨S1x1x655360, .f32⟩
  | 16 => ⟨S1x1x655360, .f32⟩
  | 17 => ⟨S1x1x655360, .f32⟩
  | 18 => ⟨S1x1x655360, .f32⟩
  | 19 => ⟨S1x1x655360, .f32⟩
  | 20 => ⟨S1x1x655360, .f32⟩
  | 21 => ⟨S1x1x655360, .f32⟩
  | 22 => ⟨S1x16x655360, .f32⟩
  | 23 => ⟨S1x11x655360, .f32⟩
  | 24 => ⟨S1x27x655360, .f32⟩
  | 25 => ⟨S1x27x8x256x320, .f32⟩
  | 26 => ⟨S_, .f32⟩
  | 27 => ⟨S1x27x8x256x320, .f32⟩
  | 28 => ⟨S1x27x8x256x320, .f32⟩
  | 29 => ⟨S_, .f32⟩
  | 30 => ⟨S1x8x256x320, .f32⟩
  | 31 => ⟨S_, .f32⟩
  | 32 => ⟨S1x8x256x320, .f32⟩
  | 33 => ⟨S1x8x256x320, .f32⟩
  | 34 => ⟨S1x1x8x256x320, .f32⟩
  | 35 => ⟨S1x27x8x256x320, .f32⟩
  | 36 => ⟨S1x27x8x256x320, .f32⟩
  | 37 => ⟨S1x27x8x256x320, .f32⟩
  | 38 => ⟨S_, .f32⟩
  | 39 => ⟨S1x8x256x320, .f32⟩
  | 40 => ⟨S1x1x8x256x320, .f32⟩
  | 41 => ⟨S1x27x8x256x320, .f32⟩
  | 42 => ⟨S1x27x8x256x320, .f32⟩
  | 43 => ⟨S1x27x655360, .f32⟩
  | 44 => ⟨S1x27x655360, .i32⟩
  | 45 => ⟨S_, .f32⟩
  | 46 => ⟨S_, .i32⟩
  | 47 => ⟨S1x655360, .f32⟩
  | 48 => ⟨S1x655360, .i32⟩
  | 49 => ⟨S1x655360, .i32⟩
  | 50 => ⟨S_, .i32⟩
  | 51 => ⟨S_, .i32⟩
  | 52 => ⟨S1x655360, .i32⟩
  | 53 => ⟨S1x655360, .i32⟩
  | 54 => ⟨S1x655360, .i32⟩
  | 55 => ⟨S_, .i32⟩
  | 56 => ⟨S1x655360, .i32⟩
  | 57 => ⟨S1x655360, .i1⟩
  | 58 => ⟨S1x655360, .i32⟩
  | 59 => ⟨S1x655360, .i32⟩
  | 60 => ⟨S_, .i32⟩
  | 61 => ⟨S1x655360, .i32⟩
  | 62 => ⟨S1x655360, .i1⟩
  | 63 => ⟨S1x655360, .i1⟩
  | 64 => ⟨S_, .i32⟩
  | 65 => ⟨S1x655360, .i32⟩
  | 66 => ⟨S1x655360, .i32⟩
  | 67 => ⟨S1x655360, .i32⟩
  | 68 => ⟨S_, .i32⟩
  | 69 => ⟨S_, .i32⟩
  | 70 => ⟨S1x655360, .i32⟩
  | 71 => ⟨S1x655360, .i32⟩
  | 72 => ⟨S1x655360, .i32⟩
  | 73 => ⟨S_, .i32⟩
  | 74 => ⟨S1x655360, .i32⟩
  | 75 => ⟨S1x655360, .i1⟩
  | 76 => ⟨S1x655360, .i32⟩
  | 77 => ⟨S1x655360, .i32⟩
  | 78 => ⟨S_, .i32⟩
  | 79 => ⟨S1x655360, .i32⟩
  | 80 => ⟨S1x655360, .i1⟩
  | 81 => ⟨S1x655360, .i1⟩
  | 82 => ⟨S_, .i32⟩
  | 83 => ⟨S1x655360, .i32⟩
  | 84 => ⟨S1x655360, .i32⟩
  | 85 => ⟨S1x655360, .i32⟩
  | 86 => ⟨S_, .i32⟩
  | 87 => ⟨S_, .i32⟩
  | 88 => ⟨S_, .i32⟩
  | 89 => ⟨S_, .i1⟩
  | 90 => ⟨S_, .i32⟩
  | 91 => ⟨S_, .i32⟩
  | 92 => ⟨S1x655360, .i32⟩
  | 93 => ⟨S1x655360, .i32⟩
  | 94 => ⟨S_, .i32⟩
  | 95 => ⟨S1x655360, .i32⟩
  | 96 => ⟨S1x655360, .i1⟩
  | 97 => ⟨S_, .i32⟩
  | 98 => ⟨S1x655360, .i32⟩
  | 99 => ⟨S1x655360, .i1⟩
  | 100 => ⟨S_, .i32⟩
  | 101 => ⟨S_, .i1⟩
  | 102 => ⟨S1x655360, .i1⟩
  | 103 => ⟨S1x655360, .i1⟩
  | 104 => ⟨S1x655360, .i1⟩
  | 105 => ⟨S1x655360, .i32⟩
  | 106 => ⟨S1x655360, .i32⟩
  | 107 => ⟨S1x655360, .i32⟩
  | 108 => ⟨S_, .i32⟩
  | 109 => ⟨S_, .i32⟩
  | 110 => ⟨S_, .i32⟩
  | 111 => ⟨S_, .i1⟩
  | 112 => ⟨S_, .i32⟩
  | 113 => ⟨S_, .i32⟩
  | 114 => ⟨S1x655360, .i32⟩
  | 115 => ⟨S1x655360, .i32⟩
  | 116 => ⟨S_, .i32⟩
  | 117 => ⟨S1x655360, .i32⟩
  | 118 => ⟨S1x655360, .i1⟩
  | 119 => ⟨S_, .i32⟩
  | 120 => ⟨S1x655360, .i32⟩
  | 121 => ⟨S1x655360, .i1⟩
  | 122 => ⟨S_, .i32⟩
  | 123 => ⟨S_, .i1⟩
  | 124 => ⟨S1x655360, .i1⟩
  | 125 => ⟨S1x655360, .i1⟩
  | 126 => ⟨S1x655360, .i1⟩
  | 127 => ⟨S1x655360, .i32⟩
  | _ => ⟨S1x3x8x256x320, .f32⟩

abbrev hbmTy0_43 (i : Nat) : BufTy := match i % 128 with
  | 0 => ⟨S1x655360, .i32⟩
  | 1 => ⟨S1x655360, .i32⟩
  | 2 => ⟨S1x1x655360, .i32⟩
  | 3 => ⟨S1x27x1, .i32⟩
  | 4 => ⟨S1x27x655360, .i32⟩
  | 5 => ⟨S1x27x655360, .i32⟩
  | 6 => ⟨S1x27x655360, .i32⟩
  | 7 => ⟨S1x1x655360, .i32⟩
  | 8 => ⟨S1x27x1, .i32⟩
  | 9 => ⟨S1x27x655360, .i32⟩
  | 10 => ⟨S1x27x655360, .i32⟩
  | 11 => ⟨S1x27x655360, .i32⟩
  | 12 => ⟨S1x1x655360, .i32⟩
  | 13 => ⟨S1x27x1, .i32⟩
  | 14 => ⟨S1x27x655360, .i32⟩
  | 15 => ⟨S1x27x655360, .i32⟩
  | 16 => ⟨S1x27x655360, .i32⟩
  | 17 => ⟨S_, .i32⟩
  | 18 => ⟨S1x27x655360, .i32⟩
  | 19 => ⟨S1x27x655360, .i1⟩
  | 20 => ⟨S_, .i32⟩
  | 21 => ⟨S1x27x655360, .i32⟩
  | 22 => ⟨S1x27x655360, .i1⟩
  | 23 => ⟨S1x27x655360, .i1⟩
  | 24 => ⟨S_, .i32⟩
  | 25 => ⟨S1x27x655360, .i32⟩
  | 26 => ⟨S1x27x655360, .i1⟩
  | 27 => ⟨S1x27x655360, .i1⟩
  | 28 => ⟨S_, .i32⟩
  | 29 => ⟨S1x27x655360, .i32⟩
  | 30 => ⟨S1x27x655360, .i1⟩
  | 31 => ⟨S1x27x655360, .i1⟩
  | 32 => ⟨S_, .i32⟩
  | 33 => ⟨S1x27x655360, .i32⟩
  | 34 => ⟨S1x27x655360, .i1⟩
  | 35 => ⟨S1x27x655360, .i1⟩
  | 36 => ⟨S_, .i32⟩
  | 37 => ⟨S1x27x655360, .i32⟩
  | 38 => ⟨S1x27x655360, .i1⟩
  | 39 => ⟨S1x27x655360, .i1⟩
  | 40 => ⟨S_, .i32⟩
  | 41 => ⟨S_, .i32⟩
  | 42 => ⟨S_, .i32⟩
  | 43 => ⟨S1x27x655360, .i32⟩
  | 44 => ⟨S1x27x655360, .i32⟩
  | 45 => ⟨S_, .i32⟩
  | 46 => ⟨S1x27x655360, .i32⟩
  | 47 => ⟨S1x27x655360, .i32⟩
  | 48 => ⟨S_, .i32⟩
  | 49 => ⟨S1x27x655360, .i32⟩
  | 50 => ⟨S1x27x655360, .i32⟩
  | 51 => ⟨S_, .i32⟩
  | 52 => ⟨S_, .i32⟩
  | 53 => ⟨S_, .i32⟩
  | 54 => ⟨S1x27x655360, .i32⟩
  | 55 => ⟨S1x27x655360, .i32⟩
  | 56 => ⟨S_, .i32⟩
  | 57 => ⟨S1x27x655360, .i32⟩
  | 58 => ⟨S1x27x655360, .i32⟩
  | 59 => ⟨S1x27x655360, .i32⟩
  | 60 => ⟨S_, .i32⟩
  | 61 => ⟨S1x27x655360, .i32⟩
  | 62 => ⟨S1x27x655360, .i32⟩
  | 63 => ⟨S_, .i32⟩
  | 64 => ⟨S_, .i32⟩
  | 65 => ⟨S_, .i32⟩
  | 66 => ⟨S1x27x655360, .i32⟩
  | 67 => ⟨S1x27x655360, .i32⟩
  | 68 => ⟨S_, .i32⟩
  | 69 => ⟨S1x27x655360, .i32⟩
  | 70 => ⟨S1x27x655360, .i32⟩
  | 71 => ⟨S1x27x655360, .i32⟩
  | 72 => ⟨S1x1x655360, .i32⟩
  | 73 => ⟨S_, .i32⟩
  | 74 => ⟨S1x1x655360, .i32⟩
  | 75 => ⟨S1x1x655360, .i1⟩
  | 76 => ⟨S_, .i32⟩
  | 77 => ⟨S1x1x655360, .i32⟩
  | 78 => ⟨S1x1x655360, .i32⟩
  | 79 => ⟨S1x1x655360, .i32⟩
  | 80 => ⟨S1x655360x1, .i32⟩
  | 81 => ⟨S1, .i32⟩
  | 82 => ⟨S_, .i32⟩
  | 83 => ⟨S1x655360x1, .i32⟩
  | 84 => ⟨S1x655360x1, .i1⟩
  | 85 => ⟨S1x1x1, .i32⟩
  | 86 => ⟨S1x655360x1, .i32⟩
  | 87 => ⟨S1x655360x1, .i1⟩
  | 88 => ⟨S1x655360x1, .i1⟩
  | 89 => ⟨S_, .i1⟩
  | 90 => ⟨S1x655360, .i1⟩
  | 91 => ⟨S1x1x655360, .i32⟩
  | 92 => ⟨S1x1x655360, .i1⟩
  | 93 => ⟨S_, .i32⟩
  | 94 => ⟨S1x1x655360, .i32⟩
  | 95 => ⟨S1x1x655360, .i32⟩
  | 96 => ⟨S1x1x8x256x320, .i32⟩
  | 97 => ⟨S1x1x8x256x320, .f32⟩
  | _ => ⟨S1x3x8x256x320, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | 17 => hbmTy0_17 i
  | 18 => hbmTy0_18 i
  | 19 => hbmTy0_19 i
  | 20 => hbmTy0_20 i
  | 21 => hbmTy0_21 i
  | 22 => hbmTy0_22 i
  | 23 => hbmTy0_23 i
  | 24 => hbmTy0_24 i
  | 25 => hbmTy0_25 i
  | 26 => hbmTy0_26 i
  | 27 => hbmTy0_27 i
  | 28 => hbmTy0_28 i
  | 29 => hbmTy0_29 i
  | 30 => hbmTy0_30 i
  | 31 => hbmTy0_31 i
  | 32 => hbmTy0_32 i
  | 33 => hbmTy0_33 i
  | 34 => hbmTy0_34 i
  | 35 => hbmTy0_35 i
  | 36 => hbmTy0_36 i
  | 37 => hbmTy0_37 i
  | 38 => hbmTy0_38 i
  | 39 => hbmTy0_39 i
  | 40 => hbmTy0_40 i
  | 41 => hbmTy0_41 i
  | 42 => hbmTy0_42 i
  | 43 => hbmTy0_43 i
  | _ => ⟨S1x3x8x256x320, .f32⟩

abbrev bufTy : (tb : Table) → Fin (tcTables nBuf tb) → BufTy
  | .hbm, ⟨i, _⟩ => hbmTy i
  | _, _ => ⟨S1x3x8x256x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_6 : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_v5 : Ref sig .tc := ⟨.hbm, 51, rfl⟩
abbrev main_call0_v6 : Ref sig .tc := ⟨.hbm, 52, rfl⟩
abbrev main_call0_v7 : Ref sig .tc := ⟨.hbm, 53, rfl⟩
abbrev main_call0_v8 : Ref sig .tc := ⟨.hbm, 54, rfl⟩
abbrev main_call0_c : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_call0_c_0 : Ref sig .tc := ⟨.hbm, 59, rfl⟩
abbrev main_call0_v12 : Ref sig .tc := ⟨.hbm, 60, rfl⟩
abbrev main_call0_v13 : Ref sig .tc := ⟨.hbm, 61, rfl⟩
abbrev main_v35 : Ref sig .tc := ⟨.hbm, 62, rfl⟩
abbrev main_c_7 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_v6 : Ref sig .tc := ⟨.hbm, 70, rfl⟩
abbrev main_call1_v7 : Ref sig .tc := ⟨.hbm, 71, rfl⟩
abbrev main_call1_v8 : Ref sig .tc := ⟨.hbm, 72, rfl⟩
abbrev main_call1_c : Ref sig .tc := ⟨.hbm, 73, rfl⟩
abbrev main_call1_v9 : Ref sig .tc := ⟨.hbm, 74, rfl⟩
abbrev main_call1_v10 : Ref sig .tc := ⟨.hbm, 75, rfl⟩
abbrev main_call1_v11 : Ref sig .tc := ⟨.hbm, 76, rfl⟩
abbrev main_call1_c_0 : Ref sig .tc := ⟨.hbm, 77, rfl⟩
abbrev main_call1_v12 : Ref sig .tc := ⟨.hbm, 78, rfl⟩
abbrev main_call1_v13 : Ref sig .tc := ⟨.hbm, 79, rfl⟩
abbrev main_v36 : Ref sig .tc := ⟨.hbm, 80, rfl⟩
abbrev main_c_8 : Ref sig .tc := ⟨.hbm, 81, rfl⟩
abbrev main_call2_v0 : Ref sig .tc := ⟨.hbm, 82, rfl⟩
abbrev main_call2_c : Ref sig .tc := ⟨.hbm, 83, rfl⟩
abbrev main_call2_v1 : Ref sig .tc := ⟨.hbm, 84, rfl⟩
abbrev main_call2_c_0 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_call2_c_1 : Ref sig .tc := ⟨.hbm, 89, rfl⟩
abbrev main_call2_v5 : Ref sig .tc := ⟨.hbm, 90, rfl⟩
abbrev main_call2_v6 : Ref sig .tc := ⟨.hbm, 91, rfl⟩
abbrev main_call2_c_2 : Ref sig .tc := ⟨.hbm, 92, rfl⟩
abbrev main_call2_v7 : Ref sig .tc := ⟨.hbm, 93, rfl⟩
abbrev main_call2_v8 : Ref sig .tc := ⟨.hbm, 94, rfl⟩
abbrev main_call2_c_3 : Ref sig .tc := ⟨.hbm, 95, rfl⟩
abbrev main_call2_v9 : Ref sig .tc := ⟨.hbm, 96, rfl⟩
abbrev main_call2_v10 : Ref sig .tc := ⟨.hbm, 97, rfl⟩
abbrev main_call2_v11 : Ref sig .tc := ⟨.hbm, 98, rfl⟩
abbrev main_call2_v12 : Ref sig .tc := ⟨.hbm, 99, rfl⟩
abbrev main_call2_v13 : Ref sig .tc := ⟨.hbm, 100, rfl⟩
abbrev main_call2_v14 : Ref sig .tc := ⟨.hbm, 101, rfl⟩
abbrev main_v37 : Ref sig .tc := ⟨.hbm, 102, rfl⟩
abbrev main_c_9 : Ref sig .tc := ⟨.hbm, 103, rfl⟩
abbrev main_call3_v0 : Ref sig .tc := ⟨.hbm, 104, rfl⟩
abbrev main_call3_c : Ref sig .tc := ⟨.hbm, 105, rfl⟩
abbrev main_call3_v1 : Ref sig .tc := ⟨.hbm, 106, rfl⟩
abbrev main_call3_c_0 : Ref sig .tc := ⟨.hbm, 107, rfl⟩
abbrev main_call3_v2 : Ref sig .tc := ⟨.hbm, 108, rfl⟩
abbrev main_call3_v3 : Ref sig .tc := ⟨.hbm, 109, rfl⟩
abbrev main_call3_v4 : Ref sig .tc := ⟨.hbm, 110, rfl⟩
abbrev main_call3_c_1 : Ref sig .tc := ⟨.hbm, 111, rfl⟩
abbrev main_call3_v5 : Ref sig .tc := ⟨.hbm, 112, rfl⟩
abbrev main_call3_v6 : Ref sig .tc := ⟨.hbm, 113, rfl⟩
abbrev main_call3_c_2 : Ref sig .tc := ⟨.hbm, 114, rfl⟩
abbrev main_call3_v7 : Ref sig .tc := ⟨.hbm, 115, rfl⟩
abbrev main_call3_v8 : Ref sig .tc := ⟨.hbm, 116, rfl⟩
abbrev main_call3_c_3 : Ref sig .tc := ⟨.hbm, 117, rfl⟩
abbrev main_call3_v9 : Ref sig .tc := ⟨.hbm, 118, rfl⟩
abbrev main_call3_v10 : Ref sig .tc := ⟨.hbm, 119, rfl⟩
abbrev main_call3_v11 : Ref sig .tc := ⟨.hbm, 120, rfl⟩
abbrev main_call3_v12 : Ref sig .tc := ⟨.hbm, 121, rfl⟩
abbrev main_call3_v13 : Ref sig .tc := ⟨.hbm, 122, rfl⟩
abbrev main_call3_v14 : Ref sig .tc := ⟨.hbm, 123, rfl⟩
abbrev main_v38 : Ref sig .tc := ⟨.hbm, 124, rfl⟩
abbrev main_v39 : Ref sig .tc := ⟨.hbm, 125, rfl⟩
abbrev main_v40 : Ref sig .tc := ⟨.hbm, 126, rfl⟩
abbrev main_v41 : Ref sig .tc := ⟨.hbm, 127, rfl⟩
abbrev main_v42 : Ref sig .tc := ⟨.hbm, 128, rfl⟩
abbrev main_v43 : Ref sig .tc := ⟨.hbm, 129, rfl⟩
abbrev main_v44 : Ref sig .tc := ⟨.hbm, 130, rfl⟩
abbrev main_v45 : Ref sig .tc := ⟨.hbm, 131, rfl⟩
abbrev main_v46 : Ref sig .tc := ⟨.hbm, 132, rfl⟩
abbrev main_v47 : Ref sig .tc := ⟨.hbm, 133, rfl⟩
abbrev main_v48 : Ref sig .tc := ⟨.hbm, 134, rfl⟩
abbrev main_v49 : Ref sig .tc := ⟨.hbm, 135, rfl⟩
abbrev main_v50 : Ref sig .tc := ⟨.hbm, 136, rfl⟩
abbrev main_v51 : Ref sig .tc := ⟨.hbm, 137, rfl⟩
abbrev main_v52 : Ref sig .tc := ⟨.hbm, 138, rfl⟩
abbrev main_v53 : Ref sig .tc := ⟨.hbm, 139, rfl⟩
abbrev main_c_10 : Ref sig .tc := ⟨.hbm, 140, rfl⟩
abbrev main_v54 : Ref sig .tc := ⟨.hbm, 141, rfl⟩
abbrev main_v55 : Ref sig .tc := ⟨.hbm, 142, rfl⟩
abbrev main_c_11 : Ref sig .tc := ⟨.hbm, 143, rfl⟩
abbrev main_v56 : Ref sig .tc := ⟨.hbm, 144, rfl⟩
abbrev main_v57 : Ref sig .tc := ⟨.hbm, 145, rfl⟩
abbrev main_v58 : Ref sig .tc := ⟨.hbm, 146, rfl⟩
abbrev main_c_12 : Ref sig .tc := ⟨.hbm, 147, rfl⟩
abbrev main_v59 : Ref sig .tc := ⟨.hbm, 148, rfl⟩
abbrev main_v60 : Ref sig .tc := ⟨.hbm, 149, rfl⟩
abbrev main_v61 : Ref sig .tc := ⟨.hbm, 150, rfl⟩
abbrev main_c_13 : Ref sig .tc := ⟨.hbm, 151, rfl⟩
abbrev main_v62 : Ref sig .tc := ⟨.hbm, 152, rfl⟩
abbrev main_v63 : Ref sig .tc := ⟨.hbm, 153, rfl⟩
abbrev main_v64 : Ref sig .tc := ⟨.hbm, 154, rfl⟩
abbrev main_c_14 : Ref sig .tc := ⟨.hbm, 155, rfl⟩
abbrev main_v65 : Ref sig .tc := ⟨.hbm, 156, rfl⟩
abbrev main_v66 : Ref sig .tc := ⟨.hbm, 157, rfl⟩
abbrev main_v67 : Ref sig .tc := ⟨.hbm, 158, rfl⟩
abbrev main_c_15 : Ref sig .tc := ⟨.hbm, 159, rfl⟩
abbrev main_v68 : Ref sig .tc := ⟨.hbm, 160, rfl⟩
abbrev main_v69 : Ref sig .tc := ⟨.hbm, 161, rfl⟩
abbrev main_v70 : Ref sig .tc := ⟨.hbm, 162, rfl⟩
abbrev main_c_16 : Ref sig .tc := ⟨.hbm, 163, rfl⟩
abbrev main_c_17 : Ref sig .tc := ⟨.hbm, 164, rfl⟩
abbrev main_call4_v0 : Ref sig .tc := ⟨.hbm, 165, rfl⟩
abbrev main_call4_v1 : Ref sig .tc := ⟨.hbm, 166, rfl⟩
abbrev main_call4_v2 : Ref sig .tc := ⟨.hbm, 167, rfl⟩
abbrev main_call4_v3 : Ref sig .tc := ⟨.hbm, 168, rfl⟩
abbrev main_call4_v4 : Ref sig .tc := ⟨.hbm, 169, rfl⟩
abbrev main_v71 : Ref sig .tc := ⟨.hbm, 170, rfl⟩
abbrev main_c_18 : Ref sig .tc := ⟨.hbm, 171, rfl⟩
abbrev main_v72 : Ref sig .tc := ⟨.hbm, 172, rfl⟩
abbrev main_v73 : Ref sig .tc := ⟨.hbm, 173, rfl⟩
abbrev main_c_19 : Ref sig .tc := ⟨.hbm, 174, rfl⟩
abbrev main_c_20 : Ref sig .tc := ⟨.hbm, 175, rfl⟩
abbrev main_call5_v0 : Ref sig .tc := ⟨.hbm, 176, rfl⟩
abbrev main_call5_v1 : Ref sig .tc := ⟨.hbm, 177, rfl⟩
abbrev main_call5_v2 : Ref sig .tc := ⟨.hbm, 178, rfl⟩
abbrev main_call5_v3 : Ref sig .tc := ⟨.hbm, 179, rfl⟩
abbrev main_call5_v4 : Ref sig .tc := ⟨.hbm, 180, rfl⟩
abbrev main_v74 : Ref sig .tc := ⟨.hbm, 181, rfl⟩
abbrev main_v75 : Ref sig .tc := ⟨.hbm, 182, rfl⟩
abbrev main_c_21 : Ref sig .tc := ⟨.hbm, 183, rfl⟩
abbrev main_v76 : Ref sig .tc := ⟨.hbm, 184, rfl⟩
abbrev main_v77 : Ref sig .tc := ⟨.hbm, 185, rfl⟩
abbrev main_c_22 : Ref sig .tc := ⟨.hbm, 186, rfl⟩
abbrev main_c_23 : Ref sig .tc := ⟨.hbm, 187, rfl⟩
abbrev main_call6_v0 : Ref sig .tc := ⟨.hbm, 188, rfl⟩
abbrev main_call6_v1 : Ref sig .tc := ⟨.hbm, 189, rfl⟩
abbrev main_call6_v2 : Ref sig .tc := ⟨.hbm, 190, rfl⟩
abbrev main_call6_v3 : Ref sig .tc := ⟨.hbm, 191, rfl⟩
abbrev main_call6_v4 : Ref sig .tc := ⟨.hbm, 192, rfl⟩
abbrev main_v78 : Ref sig .tc := ⟨.hbm, 193, rfl⟩
abbrev main_v79 : Ref sig .tc := ⟨.hbm, 194, rfl⟩
abbrev main_v80 : Ref sig .tc := ⟨.hbm, 195, rfl⟩
abbrev main_v81 : Ref sig .tc := ⟨.hbm, 196, rfl⟩
abbrev main_v82 : Ref sig .tc := ⟨.hbm, 197, rfl⟩
abbrev main_call7_c : Ref sig .tc := ⟨.hbm, 198, rfl⟩
abbrev main_call7_v0 : Ref sig .tc := ⟨.hbm, 199, rfl⟩
abbrev main_call7_v1 : Ref sig .tc := ⟨.hbm, 200, rfl⟩
abbrev main_call7_c_0 : Ref sig .tc := ⟨.hbm, 201, rfl⟩
abbrev main_call7_v2 : Ref sig .tc := ⟨.hbm, 202, rfl⟩
abbrev main_call7_v3 : Ref sig .tc := ⟨.hbm, 203, rfl⟩
abbrev main_call7_v4 : Ref sig .tc := ⟨.hbm, 204, rfl⟩
abbrev main_call7_v5 : Ref sig .tc := ⟨.hbm, 205, rfl⟩
abbrev main_call7_c_1 : Ref sig .tc := ⟨.hbm, 206, rfl⟩
abbrev main_call7_c_2 : Ref sig .tc := ⟨.hbm, 207, rfl⟩
abbrev main_call7_v6 : Ref sig .tc := ⟨.hbm, 208, rfl⟩
abbrev main_call7_v7 : Ref sig .tc := ⟨.hbm, 209, rfl⟩
abbrev main_call7_v8 : Ref sig .tc := ⟨.hbm, 210, rfl⟩
abbrev main_call7_v9 : Ref sig .tc := ⟨.hbm, 211, rfl⟩
abbrev main_call7_v10 : Ref sig .tc := ⟨.hbm, 212, rfl⟩
abbrev main_call7_v11 : Ref sig .tc := ⟨.hbm, 213, rfl⟩
abbrev main_call7_c_3 : Ref sig .tc := ⟨.hbm, 214, rfl⟩
abbrev main_call7_v12 : Ref sig .tc := ⟨.hbm, 215, rfl⟩
abbrev main_call7_v13 : Ref sig .tc := ⟨.hbm, 216, rfl⟩
abbrev main_call7_v14 : Ref sig .tc := ⟨.hbm, 217, rfl⟩
abbrev main_call7_cst : Ref sig .tc := ⟨.hbm, 218, rfl⟩
abbrev main_call7_v15 : Ref sig .tc := ⟨.hbm, 219, rfl⟩
abbrev main_v83 : Ref sig .tc := ⟨.hbm, 220, rfl⟩
abbrev main_v84 : Ref sig .tc := ⟨.hbm, 221, rfl⟩
abbrev main_v85 : Ref sig .tc := ⟨.hbm, 222, rfl⟩
abbrev main_cst_24 : Ref sig .tc := ⟨.hbm, 223, rfl⟩
abbrev main_v86 : Ref sig .tc := ⟨.hbm, 224, rfl⟩
abbrev main_v87 : Ref sig .tc := ⟨.hbm, 225, rfl⟩
abbrev main_v88 : Ref sig .tc := ⟨.hbm, 226, rfl⟩
abbrev main_cst_25 : Ref sig .tc := ⟨.hbm, 227, rfl⟩
abbrev main_call8_v0 : Ref sig .tc := ⟨.hbm, 228, rfl⟩
abbrev main_call8_v1 : Ref sig .tc := ⟨.hbm, 229, rfl⟩
abbrev main_v89 : Ref sig .tc := ⟨.hbm, 230, rfl⟩
abbrev main_v90 : Ref sig .tc := ⟨.hbm, 231, rfl⟩
abbrev main_v91 : Ref sig .tc := ⟨.hbm, 232, rfl⟩
abbrev main_v92 : Ref sig .tc := ⟨.hbm, 233, rfl⟩
abbrev main_call9_c : Ref sig .tc := ⟨.hbm, 234, rfl⟩
abbrev main_call9_v0 : Ref sig .tc := ⟨.hbm, 235, rfl⟩
abbrev main_call9_v1 : Ref sig .tc := ⟨.hbm, 236, rfl⟩
abbrev main_call9_c_0 : Ref sig .tc := ⟨.hbm, 237, rfl⟩
abbrev main_call9_v2 : Ref sig .tc := ⟨.hbm, 238, rfl⟩
abbrev main_call9_v3 : Ref sig .tc := ⟨.hbm, 239, rfl⟩
abbrev main_call9_v4 : Ref sig .tc := ⟨.hbm, 240, rfl⟩
abbrev main_call9_v5 : Ref sig .tc := ⟨.hbm, 241, rfl⟩
abbrev main_call9_c_1 : Ref sig .tc := ⟨.hbm, 242, rfl⟩
abbrev main_call9_c_2 : Ref sig .tc := ⟨.hbm, 243, rfl⟩
abbrev main_call9_v6 : Ref sig .tc := ⟨.hbm, 244, rfl⟩
abbrev main_call9_v7 : Ref sig .tc := ⟨.hbm, 245, rfl⟩
abbrev main_call9_v8 : Ref sig .tc := ⟨.hbm, 246, rfl⟩
abbrev main_call9_v9 : Ref sig .tc := ⟨.hbm, 247, rfl⟩
abbrev main_call9_v10 : Ref sig .tc := ⟨.hbm, 248, rfl⟩
abbrev main_call9_v11 : Ref sig .tc := ⟨.hbm, 249, rfl⟩
abbrev main_call9_c_3 : Ref sig .tc := ⟨.hbm, 250, rfl⟩
abbrev main_call9_v12 : Ref sig .tc := ⟨.hbm, 251, rfl⟩
abbrev main_call9_v13 : Ref sig .tc := ⟨.hbm, 252, rfl⟩
abbrev main_call9_v14 : Ref sig .tc := ⟨.hbm, 253, rfl⟩
abbrev main_call9_cst : Ref sig .tc := ⟨.hbm, 254, rfl⟩
abbrev main_call9_v15 : Ref sig .tc := ⟨.hbm, 255, rfl⟩
abbrev main_v93 : Ref sig .tc := ⟨.hbm, 256, rfl⟩
abbrev main_v94 : Ref sig .tc := ⟨.hbm, 257, rfl⟩
abbrev main_v95 : Ref sig .tc := ⟨.hbm, 258, rfl⟩
abbrev main_cst_26 : Ref sig .tc := ⟨.hbm, 259, rfl⟩
abbrev main_v96 : Ref sig .tc := ⟨.hbm, 260, rfl⟩
abbrev main_v97 : Ref sig .tc := ⟨.hbm, 261, rfl⟩
abbrev main_v98 : Ref sig .tc := ⟨.hbm, 262, rfl⟩
abbrev main_cst_27 : Ref sig .tc := ⟨.hbm, 263, rfl⟩
abbrev main_call10_v0 : Ref sig .tc := ⟨.hbm, 264, rfl⟩
abbrev main_call10_v1 : Ref sig .tc := ⟨.hbm, 265, rfl⟩
abbrev main_v99 : Ref sig .tc := ⟨.hbm, 266, rfl⟩
abbrev main_v100 : Ref sig .tc := ⟨.hbm, 267, rfl⟩
abbrev main_v101 : Ref sig .tc := ⟨.hbm, 268, rfl⟩
abbrev main_v102 : Ref sig .tc := ⟨.hbm, 269, rfl⟩
abbrev main_call11_c : Ref sig .tc := ⟨.hbm, 270, rfl⟩
abbrev main_call11_v0 : Ref sig .tc := ⟨.hbm, 271, rfl⟩
abbrev main_call11_v1 : Ref sig .tc := ⟨.hbm, 272, rfl⟩
abbrev main_call11_c_0 : Ref sig .tc := ⟨.hbm, 273, rfl⟩
abbrev main_call11_v2 : Ref sig .tc := ⟨.hbm, 274, rfl⟩
abbrev main_call11_v3 : Ref sig .tc := ⟨.hbm, 275, rfl⟩
abbrev main_call11_v4 : Ref sig .tc := ⟨.hbm, 276, rfl⟩
abbrev main_call11_v5 : Ref sig .tc := ⟨.hbm, 277, rfl⟩
abbrev main_call11_c_1 : Ref sig .tc := ⟨.hbm, 278, rfl⟩
abbrev main_call11_c_2 : Ref sig .tc := ⟨.hbm, 279, rfl⟩
abbrev main_call11_v6 : Ref sig .tc := ⟨.hbm, 280, rfl⟩
abbrev main_call11_v7 : Ref sig .tc := ⟨.hbm, 281, rfl⟩
abbrev main_call11_v8 : Ref sig .tc := ⟨.hbm, 282, rfl⟩
abbrev main_call11_v9 : Ref sig .tc := ⟨.hbm, 283, rfl⟩
abbrev main_call11_v10 : Ref sig .tc := ⟨.hbm, 284, rfl⟩
abbrev main_call11_v11 : Ref sig .tc := ⟨.hbm, 285, rfl⟩
abbrev main_call11_c_3 : Ref sig .tc := ⟨.hbm, 286, rfl⟩
abbrev main_call11_v12 : Ref sig .tc := ⟨.hbm, 287, rfl⟩
abbrev main_call11_v13 : Ref sig .tc := ⟨.hbm, 288, rfl⟩
abbrev main_call11_v14 : Ref sig .tc := ⟨.hbm, 289, rfl⟩
abbrev main_call11_cst : Ref sig .tc := ⟨.hbm, 290, rfl⟩
abbrev main_call11_v15 : Ref sig .tc := ⟨.hbm, 291, rfl⟩
abbrev main_v103 : Ref sig .tc := ⟨.hbm, 292, rfl⟩
abbrev main_v104 : Ref sig .tc := ⟨.hbm, 293, rfl⟩
abbrev main_v105 : Ref sig .tc := ⟨.hbm, 294, rfl⟩
abbrev main_cst_28 : Ref sig .tc := ⟨.hbm, 295, rfl⟩
abbrev main_v106 : Ref sig .tc := ⟨.hbm, 296, rfl⟩
abbrev main_v107 : Ref sig .tc := ⟨.hbm, 297, rfl⟩
abbrev main_v108 : Ref sig .tc := ⟨.hbm, 298, rfl⟩
abbrev main_cst_29 : Ref sig .tc := ⟨.hbm, 299, rfl⟩
abbrev main_call12_v0 : Ref sig .tc := ⟨.hbm, 300, rfl⟩
abbrev main_call12_v1 : Ref sig .tc := ⟨.hbm, 301, rfl⟩
abbrev main_v109 : Ref sig .tc := ⟨.hbm, 302, rfl⟩
abbrev main_v110 : Ref sig .tc := ⟨.hbm, 303, rfl⟩
abbrev main_v111 : Ref sig .tc := ⟨.hbm, 304, rfl⟩
abbrev main_v112 : Ref sig .tc := ⟨.hbm, 305, rfl⟩
abbrev main_call13_c : Ref sig .tc := ⟨.hbm, 306, rfl⟩
abbrev main_call13_v0 : Ref sig .tc := ⟨.hbm, 307, rfl⟩
abbrev main_call13_v1 : Ref sig .tc := ⟨.hbm, 308, rfl⟩
abbrev main_call13_c_0 : Ref sig .tc := ⟨.hbm, 309, rfl⟩
abbrev main_call13_v2 : Ref sig .tc := ⟨.hbm, 310, rfl⟩
abbrev main_call13_v3 : Ref sig .tc := ⟨.hbm, 311, rfl⟩
abbrev main_call13_v4 : Ref sig .tc := ⟨.hbm, 312, rfl⟩
abbrev main_call13_v5 : Ref sig .tc := ⟨.hbm, 313, rfl⟩
abbrev main_call13_c_1 : Ref sig .tc := ⟨.hbm, 314, rfl⟩
abbrev main_call13_c_2 : Ref sig .tc := ⟨.hbm, 315, rfl⟩
abbrev main_call13_v6 : Ref sig .tc := ⟨.hbm, 316, rfl⟩
abbrev main_call13_v7 : Ref sig .tc := ⟨.hbm, 317, rfl⟩
abbrev main_call13_v8 : Ref sig .tc := ⟨.hbm, 318, rfl⟩
abbrev main_call13_v9 : Ref sig .tc := ⟨.hbm, 319, rfl⟩
abbrev main_call13_v10 : Ref sig .tc := ⟨.hbm, 320, rfl⟩
abbrev main_call13_v11 : Ref sig .tc := ⟨.hbm, 321, rfl⟩
abbrev main_call13_c_3 : Ref sig .tc := ⟨.hbm, 322, rfl⟩
abbrev main_call13_v12 : Ref sig .tc := ⟨.hbm, 323, rfl⟩
abbrev main_call13_v13 : Ref sig .tc := ⟨.hbm, 324, rfl⟩
abbrev main_call13_v14 : Ref sig .tc := ⟨.hbm, 325, rfl⟩
abbrev main_call13_cst : Ref sig .tc := ⟨.hbm, 326, rfl⟩
abbrev main_call13_v15 : Ref sig .tc := ⟨.hbm, 327, rfl⟩
abbrev main_v113 : Ref sig .tc := ⟨.hbm, 328, rfl⟩
abbrev main_v114 : Ref sig .tc := ⟨.hbm, 329, rfl⟩
abbrev main_v115 : Ref sig .tc := ⟨.hbm, 330, rfl⟩
abbrev main_cst_30 : Ref sig .tc := ⟨.hbm, 331, rfl⟩
abbrev main_v116 : Ref sig .tc := ⟨.hbm, 332, rfl⟩
abbrev main_v117 : Ref sig .tc := ⟨.hbm, 333, rfl⟩
abbrev main_v118 : Ref sig .tc := ⟨.hbm, 334, rfl⟩
abbrev main_cst_31 : Ref sig .tc := ⟨.hbm, 335, rfl⟩
abbrev main_call14_v0 : Ref sig .tc := ⟨.hbm, 336, rfl⟩
abbrev main_call14_v1 : Ref sig .tc := ⟨.hbm, 337, rfl⟩
abbrev main_v119 : Ref sig .tc := ⟨.hbm, 338, rfl⟩
abbrev main_v120 : Ref sig .tc := ⟨.hbm, 339, rfl⟩
abbrev main_v121 : Ref sig .tc := ⟨.hbm, 340, rfl⟩
abbrev main_v122 : Ref sig .tc := ⟨.hbm, 341, rfl⟩
abbrev main_call15_c : Ref sig .tc := ⟨.hbm, 342, rfl⟩
abbrev main_call15_v0 : Ref sig .tc := ⟨.hbm, 343, rfl⟩
abbrev main_call15_v1 : Ref sig .tc := ⟨.hbm, 344, rfl⟩
abbrev main_call15_c_0 : Ref sig .tc := ⟨.hbm, 345, rfl⟩
abbrev main_call15_v2 : Ref sig .tc := ⟨.hbm, 346, rfl⟩
abbrev main_call15_v3 : Ref sig .tc := ⟨.hbm, 347, rfl⟩
abbrev main_call15_v4 : Ref sig .tc := ⟨.hbm, 348, rfl⟩
abbrev main_call15_v5 : Ref sig .tc := ⟨.hbm, 349, rfl⟩
abbrev main_call15_c_1 : Ref sig .tc := ⟨.hbm, 350, rfl⟩
abbrev main_call15_c_2 : Ref sig .tc := ⟨.hbm, 351, rfl⟩
abbrev main_call15_v6 : Ref sig .tc := ⟨.hbm, 352, rfl⟩
abbrev main_call15_v7 : Ref sig .tc := ⟨.hbm, 353, rfl⟩
abbrev main_call15_v8 : Ref sig .tc := ⟨.hbm, 354, rfl⟩
abbrev main_call15_v9 : Ref sig .tc := ⟨.hbm, 355, rfl⟩
abbrev main_call15_v10 : Ref sig .tc := ⟨.hbm, 356, rfl⟩
abbrev main_call15_v11 : Ref sig .tc := ⟨.hbm, 357, rfl⟩
abbrev main_call15_c_3 : Ref sig .tc := ⟨.hbm, 358, rfl⟩
abbrev main_call15_v12 : Ref sig .tc := ⟨.hbm, 359, rfl⟩
abbrev main_call15_v13 : Ref sig .tc := ⟨.hbm, 360, rfl⟩
abbrev main_call15_v14 : Ref sig .tc := ⟨.hbm, 361, rfl⟩
abbrev main_call15_cst : Ref sig .tc := ⟨.hbm, 362, rfl⟩
abbrev main_call15_v15 : Ref sig .tc := ⟨.hbm, 363, rfl⟩
abbrev main_v123 : Ref sig .tc := ⟨.hbm, 364, rfl⟩
abbrev main_v124 : Ref sig .tc := ⟨.hbm, 365, rfl⟩
abbrev main_v125 : Ref sig .tc := ⟨.hbm, 366, rfl⟩
abbrev main_cst_32 : Ref sig .tc := ⟨.hbm, 367, rfl⟩
abbrev main_v126 : Ref sig .tc := ⟨.hbm, 368, rfl⟩
abbrev main_v127 : Ref sig .tc := ⟨.hbm, 369, rfl⟩
abbrev main_v128 : Ref sig .tc := ⟨.hbm, 370, rfl⟩
abbrev main_cst_33 : Ref sig .tc := ⟨.hbm, 371, rfl⟩
abbrev main_call16_v0 : Ref sig .tc := ⟨.hbm, 372, rfl⟩
abbrev main_call16_v1 : Ref sig .tc := ⟨.hbm, 373, rfl⟩
abbrev main_v129 : Ref sig .tc := ⟨.hbm, 374, rfl⟩
abbrev main_v130 : Ref sig .tc := ⟨.hbm, 375, rfl⟩
abbrev main_v131 : Ref sig .tc := ⟨.hbm, 376, rfl⟩
abbrev main_v132 : Ref sig .tc := ⟨.hbm, 377, rfl⟩
abbrev main_call17_c : Ref sig .tc := ⟨.hbm, 378, rfl⟩
abbrev main_call17_v0 : Ref sig .tc := ⟨.hbm, 379, rfl⟩
abbrev main_call17_v1 : Ref sig .tc := ⟨.hbm, 380, rfl⟩
abbrev main_call17_c_0 : Ref sig .tc := ⟨.hbm, 381, rfl⟩
abbrev main_call17_v2 : Ref sig .tc := ⟨.hbm, 382, rfl⟩
abbrev main_call17_v3 : Ref sig .tc := ⟨.hbm, 383, rfl⟩
abbrev main_call17_v4 : Ref sig .tc := ⟨.hbm, 384, rfl⟩
abbrev main_call17_v5 : Ref sig .tc := ⟨.hbm, 385, rfl⟩
abbrev main_call17_c_1 : Ref sig .tc := ⟨.hbm, 386, rfl⟩
abbrev main_call17_c_2 : Ref sig .tc := ⟨.hbm, 387, rfl⟩
abbrev main_call17_v6 : Ref sig .tc := ⟨.hbm, 388, rfl⟩
abbrev main_call17_v7 : Ref sig .tc := ⟨.hbm, 389, rfl⟩
abbrev main_call17_v8 : Ref sig .tc := ⟨.hbm, 390, rfl⟩
abbrev main_call17_v9 : Ref sig .tc := ⟨.hbm, 391, rfl⟩
abbrev main_call17_v10 : Ref sig .tc := ⟨.hbm, 392, rfl⟩
abbrev main_call17_v11 : Ref sig .tc := ⟨.hbm, 393, rfl⟩
abbrev main_call17_c_3 : Ref sig .tc := ⟨.hbm, 394, rfl⟩
abbrev main_call17_v12 : Ref sig .tc := ⟨.hbm, 395, rfl⟩
abbrev main_call17_v13 : Ref sig .tc := ⟨.hbm, 396, rfl⟩
abbrev main_call17_v14 : Ref sig .tc := ⟨.hbm, 397, rfl⟩
abbrev main_call17_cst : Ref sig .tc := ⟨.hbm, 398, rfl⟩
abbrev main_call17_v15 : Ref sig .tc := ⟨.hbm, 399, rfl⟩
abbrev main_v133 : Ref sig .tc := ⟨.hbm, 400, rfl⟩
abbrev main_v134 : Ref sig .tc := ⟨.hbm, 401, rfl⟩
abbrev main_v135 : Ref sig .tc := ⟨.hbm, 402, rfl⟩
abbrev main_cst_34 : Ref sig .tc := ⟨.hbm, 403, rfl⟩
abbrev main_v136 : Ref sig .tc := ⟨.hbm, 404, rfl⟩
abbrev main_v137 : Ref sig .tc := ⟨.hbm, 405, rfl⟩
abbrev main_v138 : Ref sig .tc := ⟨.hbm, 406, rfl⟩
abbrev main_cst_35 : Ref sig .tc := ⟨.hbm, 407, rfl⟩
abbrev main_call18_v0 : Ref sig .tc := ⟨.hbm, 408, rfl⟩
abbrev main_call18_v1 : Ref sig .tc := ⟨.hbm, 409, rfl⟩
abbrev main_v139 : Ref sig .tc := ⟨.hbm, 410, rfl⟩
abbrev main_v140 : Ref sig .tc := ⟨.hbm, 411, rfl⟩
abbrev main_v141 : Ref sig .tc := ⟨.hbm, 412, rfl⟩
abbrev main_v142 : Ref sig .tc := ⟨.hbm, 413, rfl⟩
abbrev main_call19_c : Ref sig .tc := ⟨.hbm, 414, rfl⟩
abbrev main_call19_v0 : Ref sig .tc := ⟨.hbm, 415, rfl⟩
abbrev main_call19_v1 : Ref sig .tc := ⟨.hbm, 416, rfl⟩
abbrev main_call19_c_0 : Ref sig .tc := ⟨.hbm, 417, rfl⟩
abbrev main_call19_v2 : Ref sig .tc := ⟨.hbm, 418, rfl⟩
abbrev main_call19_v3 : Ref sig .tc := ⟨.hbm, 419, rfl⟩
abbrev main_call19_v4 : Ref sig .tc := ⟨.hbm, 420, rfl⟩
abbrev main_call19_v5 : Ref sig .tc := ⟨.hbm, 421, rfl⟩
abbrev main_call19_c_1 : Ref sig .tc := ⟨.hbm, 422, rfl⟩
abbrev main_call19_c_2 : Ref sig .tc := ⟨.hbm, 423, rfl⟩
abbrev main_call19_v6 : Ref sig .tc := ⟨.hbm, 424, rfl⟩
abbrev main_call19_v7 : Ref sig .tc := ⟨.hbm, 425, rfl⟩
abbrev main_call19_v8 : Ref sig .tc := ⟨.hbm, 426, rfl⟩
abbrev main_call19_v9 : Ref sig .tc := ⟨.hbm, 427, rfl⟩
abbrev main_call19_v10 : Ref sig .tc := ⟨.hbm, 428, rfl⟩
abbrev main_call19_v11 : Ref sig .tc := ⟨.hbm, 429, rfl⟩
abbrev main_call19_c_3 : Ref sig .tc := ⟨.hbm, 430, rfl⟩
abbrev main_call19_v12 : Ref sig .tc := ⟨.hbm, 431, rfl⟩
abbrev main_call19_v13 : Ref sig .tc := ⟨.hbm, 432, rfl⟩
abbrev main_call19_v14 : Ref sig .tc := ⟨.hbm, 433, rfl⟩
abbrev main_call19_cst : Ref sig .tc := ⟨.hbm, 434, rfl⟩
abbrev main_call19_v15 : Ref sig .tc := ⟨.hbm, 435, rfl⟩
abbrev main_v143 : Ref sig .tc := ⟨.hbm, 436, rfl⟩
abbrev main_v144 : Ref sig .tc := ⟨.hbm, 437, rfl⟩
abbrev main_v145 : Ref sig .tc := ⟨.hbm, 438, rfl⟩
abbrev main_cst_36 : Ref sig .tc := ⟨.hbm, 439, rfl⟩
abbrev main_v146 : Ref sig .tc := ⟨.hbm, 440, rfl⟩
abbrev main_v147 : Ref sig .tc := ⟨.hbm, 441, rfl⟩
abbrev main_v148 : Ref sig .tc := ⟨.hbm, 442, rfl⟩
abbrev main_cst_37 : Ref sig .tc := ⟨.hbm, 443, rfl⟩
abbrev main_call20_v0 : Ref sig .tc := ⟨.hbm, 444, rfl⟩
abbrev main_call20_v1 : Ref sig .tc := ⟨.hbm, 445, rfl⟩
abbrev main_v149 : Ref sig .tc := ⟨.hbm, 446, rfl⟩
abbrev main_v150 : Ref sig .tc := ⟨.hbm, 447, rfl⟩
abbrev main_v151 : Ref sig .tc := ⟨.hbm, 448, rfl⟩
abbrev main_v152 : Ref sig .tc := ⟨.hbm, 449, rfl⟩
abbrev main_call21_c : Ref sig .tc := ⟨.hbm, 450, rfl⟩
abbrev main_call21_v0 : Ref sig .tc := ⟨.hbm, 451, rfl⟩
abbrev main_call21_v1 : Ref sig .tc := ⟨.hbm, 452, rfl⟩
abbrev main_call21_c_0 : Ref sig .tc := ⟨.hbm, 453, rfl⟩
abbrev main_call21_v2 : Ref sig .tc := ⟨.hbm, 454, rfl⟩
abbrev main_call21_v3 : Ref sig .tc := ⟨.hbm, 455, rfl⟩
abbrev main_call21_v4 : Ref sig .tc := ⟨.hbm, 456, rfl⟩
abbrev main_call21_v5 : Ref sig .tc := ⟨.hbm, 457, rfl⟩
abbrev main_call21_c_1 : Ref sig .tc := ⟨.hbm, 458, rfl⟩
abbrev main_call21_c_2 : Ref sig .tc := ⟨.hbm, 459, rfl⟩
abbrev main_call21_v6 : Ref sig .tc := ⟨.hbm, 460, rfl⟩
abbrev main_call21_v7 : Ref sig .tc := ⟨.hbm, 461, rfl⟩
abbrev main_call21_v8 : Ref sig .tc := ⟨.hbm, 462, rfl⟩
abbrev main_call21_v9 : Ref sig .tc := ⟨.hbm, 463, rfl⟩
abbrev main_call21_v10 : Ref sig .tc := ⟨.hbm, 464, rfl⟩
abbrev main_call21_v11 : Ref sig .tc := ⟨.hbm, 465, rfl⟩
abbrev main_call21_c_3 : Ref sig .tc := ⟨.hbm, 466, rfl⟩
abbrev main_call21_v12 : Ref sig .tc := ⟨.hbm, 467, rfl⟩
abbrev main_call21_v13 : Ref sig .tc := ⟨.hbm, 468, rfl⟩
abbrev main_call21_v14 : Ref sig .tc := ⟨.hbm, 469, rfl⟩
abbrev main_call21_cst : Ref sig .tc := ⟨.hbm, 470, rfl⟩
abbrev main_call21_v15 : Ref sig .tc := ⟨.hbm, 471, rfl⟩
abbrev main_v153 : Ref sig .tc := ⟨.hbm, 472, rfl⟩
abbrev main_v154 : Ref sig .tc := ⟨.hbm, 473, rfl⟩
abbrev main_v155 : Ref sig .tc := ⟨.hbm, 474, rfl⟩
abbrev main_cst_38 : Ref sig .tc := ⟨.hbm, 475, rfl⟩
abbrev main_v156 : Ref sig .tc := ⟨.hbm, 476, rfl⟩
abbrev main_v157 : Ref sig .tc := ⟨.hbm, 477, rfl⟩
abbrev main_v158 : Ref sig .tc := ⟨.hbm, 478, rfl⟩
abbrev main_cst_39 : Ref sig .tc := ⟨.hbm, 479, rfl⟩
abbrev main_call22_v0 : Ref sig .tc := ⟨.hbm, 480, rfl⟩
abbrev main_call22_v1 : Ref sig .tc := ⟨.hbm, 481, rfl⟩
abbrev main_v159 : Ref sig .tc := ⟨.hbm, 482, rfl⟩
abbrev main_v160 : Ref sig .tc := ⟨.hbm, 483, rfl⟩
abbrev main_v161 : Ref sig .tc := ⟨.hbm, 484, rfl⟩
abbrev main_v162 : Ref sig .tc := ⟨.hbm, 485, rfl⟩
abbrev main_call23_c : Ref sig .tc := ⟨.hbm, 486, rfl⟩
abbrev main_call23_v0 : Ref sig .tc := ⟨.hbm, 487, rfl⟩
abbrev main_call23_v1 : Ref sig .tc := ⟨.hbm, 488, rfl⟩
abbrev main_call23_c_0 : Ref sig .tc := ⟨.hbm, 489, rfl⟩
abbrev main_call23_v2 : Ref sig .tc := ⟨.hbm, 490, rfl⟩
abbrev main_call23_v3 : Ref sig .tc := ⟨.hbm, 491, rfl⟩
abbrev main_call23_v4 : Ref sig .tc := ⟨.hbm, 492, rfl⟩
abbrev main_call23_v5 : Ref sig .tc := ⟨.hbm, 493, rfl⟩
abbrev main_call23_c_1 : Ref sig .tc := ⟨.hbm, 494, rfl⟩
abbrev main_call23_c_2 : Ref sig .tc := ⟨.hbm, 495, rfl⟩
abbrev main_call23_v6 : Ref sig .tc := ⟨.hbm, 496, rfl⟩
abbrev main_call23_v7 : Ref sig .tc := ⟨.hbm, 497, rfl⟩
abbrev main_call23_v8 : Ref sig .tc := ⟨.hbm, 498, rfl⟩
abbrev main_call23_v9 : Ref sig .tc := ⟨.hbm, 499, rfl⟩
abbrev main_call23_v10 : Ref sig .tc := ⟨.hbm, 500, rfl⟩
abbrev main_call23_v11 : Ref sig .tc := ⟨.hbm, 501, rfl⟩
abbrev main_call23_c_3 : Ref sig .tc := ⟨.hbm, 502, rfl⟩
abbrev main_call23_v12 : Ref sig .tc := ⟨.hbm, 503, rfl⟩
abbrev main_call23_v13 : Ref sig .tc := ⟨.hbm, 504, rfl⟩
abbrev main_call23_v14 : Ref sig .tc := ⟨.hbm, 505, rfl⟩
abbrev main_call23_cst : Ref sig .tc := ⟨.hbm, 506, rfl⟩
abbrev main_call23_v15 : Ref sig .tc := ⟨.hbm, 507, rfl⟩
abbrev main_v163 : Ref sig .tc := ⟨.hbm, 508, rfl⟩
abbrev main_v164 : Ref sig .tc := ⟨.hbm, 509, rfl⟩
abbrev main_v165 : Ref sig .tc := ⟨.hbm, 510, rfl⟩
abbrev main_cst_40 : Ref sig .tc := ⟨.hbm, 511, rfl⟩
abbrev main_v166 : Ref sig .tc := ⟨.hbm, 512, rfl⟩
abbrev main_v167 : Ref sig .tc := ⟨.hbm, 513, rfl⟩
abbrev main_v168 : Ref sig .tc := ⟨.hbm, 514, rfl⟩
abbrev main_cst_41 : Ref sig .tc := ⟨.hbm, 515, rfl⟩
abbrev main_call24_v0 : Ref sig .tc := ⟨.hbm, 516, rfl⟩
abbrev main_call24_v1 : Ref sig .tc := ⟨.hbm, 517, rfl⟩
abbrev main_v169 : Ref sig .tc := ⟨.hbm, 518, rfl⟩
abbrev main_v170 : Ref sig .tc := ⟨.hbm, 519, rfl⟩
abbrev main_v171 : Ref sig .tc := ⟨.hbm, 520, rfl⟩
abbrev main_v172 : Ref sig .tc := ⟨.hbm, 521, rfl⟩
abbrev main_call25_c : Ref sig .tc := ⟨.hbm, 522, rfl⟩
abbrev main_call25_v0 : Ref sig .tc := ⟨.hbm, 523, rfl⟩
abbrev main_call25_v1 : Ref sig .tc := ⟨.hbm, 524, rfl⟩
abbrev main_call25_c_0 : Ref sig .tc := ⟨.hbm, 525, rfl⟩
abbrev main_call25_v2 : Ref sig .tc := ⟨.hbm, 526, rfl⟩
abbrev main_call25_v3 : Ref sig .tc := ⟨.hbm, 527, rfl⟩
abbrev main_call25_v4 : Ref sig .tc := ⟨.hbm, 528, rfl⟩
abbrev main_call25_v5 : Ref sig .tc := ⟨.hbm, 529, rfl⟩
abbrev main_call25_c_1 : Ref sig .tc := ⟨.hbm, 530, rfl⟩
abbrev main_call25_c_2 : Ref sig .tc := ⟨.hbm, 531, rfl⟩
abbrev main_call25_v6 : Ref sig .tc := ⟨.hbm, 532, rfl⟩
abbrev main_call25_v7 : Ref sig .tc := ⟨.hbm, 533, rfl⟩
abbrev main_call25_v8 : Ref sig .tc := ⟨.hbm, 534, rfl⟩
abbrev main_call25_v9 : Ref sig .tc := ⟨.hbm, 535, rfl⟩
abbrev main_call25_v10 : Ref sig .tc := ⟨.hbm, 536, rfl⟩
abbrev main_call25_v11 : Ref sig .tc := ⟨.hbm, 537, rfl⟩
abbrev main_call25_c_3 : Ref sig .tc := ⟨.hbm, 538, rfl⟩
abbrev main_call25_v12 : Ref sig .tc := ⟨.hbm, 539, rfl⟩
abbrev main_call25_v13 : Ref sig .tc := ⟨.hbm, 540, rfl⟩
abbrev main_call25_v14 : Ref sig .tc := ⟨.hbm, 541, rfl⟩
abbrev main_call25_cst : Ref sig .tc := ⟨.hbm, 542, rfl⟩
abbrev main_call25_v15 : Ref sig .tc := ⟨.hbm, 543, rfl⟩
abbrev main_v173 : Ref sig .tc := ⟨.hbm, 544, rfl⟩
abbrev main_v174 : Ref sig .tc := ⟨.hbm, 545, rfl⟩
abbrev main_v175 : Ref sig .tc := ⟨.hbm, 546, rfl⟩
abbrev main_cst_42 : Ref sig .tc := ⟨.hbm, 547, rfl⟩
abbrev main_v176 : Ref sig .tc := ⟨.hbm, 548, rfl⟩
abbrev main_v177 : Ref sig .tc := ⟨.hbm, 549, rfl⟩
abbrev main_v178 : Ref sig .tc := ⟨.hbm, 550, rfl⟩
abbrev main_cst_43 : Ref sig .tc := ⟨.hbm, 551, rfl⟩
abbrev main_call26_v0 : Ref sig .tc := ⟨.hbm, 552, rfl⟩
abbrev main_call26_v1 : Ref sig .tc := ⟨.hbm, 553, rfl⟩
abbrev main_v179 : Ref sig .tc := ⟨.hbm, 554, rfl⟩
abbrev main_v180 : Ref sig .tc := ⟨.hbm, 555, rfl⟩
abbrev main_v181 : Ref sig .tc := ⟨.hbm, 556, rfl⟩
abbrev main_v182 : Ref sig .tc := ⟨.hbm, 557, rfl⟩
abbrev main_call27_c : Ref sig .tc := ⟨.hbm, 558, rfl⟩
abbrev main_call27_v0 : Ref sig .tc := ⟨.hbm, 559, rfl⟩
abbrev main_call27_v1 : Ref sig .tc := ⟨.hbm, 560, rfl⟩
abbrev main_call27_c_0 : Ref sig .tc := ⟨.hbm, 561, rfl⟩
abbrev main_call27_v2 : Ref sig .tc := ⟨.hbm, 562, rfl⟩
abbrev main_call27_v3 : Ref sig .tc := ⟨.hbm, 563, rfl⟩
abbrev main_call27_v4 : Ref sig .tc := ⟨.hbm, 564, rfl⟩
abbrev main_call27_v5 : Ref sig .tc := ⟨.hbm, 565, rfl⟩
abbrev main_call27_c_1 : Ref sig .tc := ⟨.hbm, 566, rfl⟩
abbrev main_call27_c_2 : Ref sig .tc := ⟨.hbm, 567, rfl⟩
abbrev main_call27_v6 : Ref sig .tc := ⟨.hbm, 568, rfl⟩
abbrev main_call27_v7 : Ref sig .tc := ⟨.hbm, 569, rfl⟩
abbrev main_call27_v8 : Ref sig .tc := ⟨.hbm, 570, rfl⟩
abbrev main_call27_v9 : Ref sig .tc := ⟨.hbm, 571, rfl⟩
abbrev main_call27_v10 : Ref sig .tc := ⟨.hbm, 572, rfl⟩
abbrev main_call27_v11 : Ref sig .tc := ⟨.hbm, 573, rfl⟩
abbrev main_call27_c_3 : Ref sig .tc := ⟨.hbm, 574, rfl⟩
abbrev main_call27_v12 : Ref sig .tc := ⟨.hbm, 575, rfl⟩
abbrev main_call27_v13 : Ref sig .tc := ⟨.hbm, 576, rfl⟩
abbrev main_call27_v14 : Ref sig .tc := ⟨.hbm, 577, rfl⟩
abbrev main_call27_cst : Ref sig .tc := ⟨.hbm, 578, rfl⟩
abbrev main_call27_v15 : Ref sig .tc := ⟨.hbm, 579, rfl⟩
abbrev main_v183 : Ref sig .tc := ⟨.hbm, 580, rfl⟩
abbrev main_v184 : Ref sig .tc := ⟨.hbm, 581, rfl⟩
abbrev main_v185 : Ref sig .tc := ⟨.hbm, 582, rfl⟩
abbrev main_cst_44 : Ref sig .tc := ⟨.hbm, 583, rfl⟩
abbrev main_v186 : Ref sig .tc := ⟨.hbm, 584, rfl⟩
abbrev main_v187 : Ref sig .tc := ⟨.hbm, 585, rfl⟩
abbrev main_v188 : Ref sig .tc := ⟨.hbm, 586, rfl⟩
abbrev main_cst_45 : Ref sig .tc := ⟨.hbm, 587, rfl⟩
abbrev main_call28_v0 : Ref sig .tc := ⟨.hbm, 588, rfl⟩
abbrev main_call28_v1 : Ref sig .tc := ⟨.hbm, 589, rfl⟩
abbrev main_v189 : Ref sig .tc := ⟨.hbm, 590, rfl⟩
abbrev main_v190 : Ref sig .tc := ⟨.hbm, 591, rfl⟩
abbrev main_v191 : Ref sig .tc := ⟨.hbm, 592, rfl⟩
abbrev main_v192 : Ref sig .tc := ⟨.hbm, 593, rfl⟩
abbrev main_call29_c : Ref sig .tc := ⟨.hbm, 594, rfl⟩
abbrev main_call29_v0 : Ref sig .tc := ⟨.hbm, 595, rfl⟩
abbrev main_call29_v1 : Ref sig .tc := ⟨.hbm, 596, rfl⟩
abbrev main_call29_c_0 : Ref sig .tc := ⟨.hbm, 597, rfl⟩
abbrev main_call29_v2 : Ref sig .tc := ⟨.hbm, 598, rfl⟩
abbrev main_call29_v3 : Ref sig .tc := ⟨.hbm, 599, rfl⟩
abbrev main_call29_v4 : Ref sig .tc := ⟨.hbm, 600, rfl⟩
abbrev main_call29_v5 : Ref sig .tc := ⟨.hbm, 601, rfl⟩
abbrev main_call29_c_1 : Ref sig .tc := ⟨.hbm, 602, rfl⟩
abbrev main_call29_c_2 : Ref sig .tc := ⟨.hbm, 603, rfl⟩
abbrev main_call29_v6 : Ref sig .tc := ⟨.hbm, 604, rfl⟩
abbrev main_call29_v7 : Ref sig .tc := ⟨.hbm, 605, rfl⟩
abbrev main_call29_v8 : Ref sig .tc := ⟨.hbm, 606, rfl⟩
abbrev main_call29_v9 : Ref sig .tc := ⟨.hbm, 607, rfl⟩
abbrev main_call29_v10 : Ref sig .tc := ⟨.hbm, 608, rfl⟩
abbrev main_call29_v11 : Ref sig .tc := ⟨.hbm, 609, rfl⟩
abbrev main_call29_c_3 : Ref sig .tc := ⟨.hbm, 610, rfl⟩
abbrev main_call29_v12 : Ref sig .tc := ⟨.hbm, 611, rfl⟩
abbrev main_call29_v13 : Ref sig .tc := ⟨.hbm, 612, rfl⟩
abbrev main_call29_v14 : Ref sig .tc := ⟨.hbm, 613, rfl⟩
abbrev main_call29_cst : Ref sig .tc := ⟨.hbm, 614, rfl⟩
abbrev main_call29_v15 : Ref sig .tc := ⟨.hbm, 615, rfl⟩
abbrev main_v193 : Ref sig .tc := ⟨.hbm, 616, rfl⟩
abbrev main_v194 : Ref sig .tc := ⟨.hbm, 617, rfl⟩
abbrev main_v195 : Ref sig .tc := ⟨.hbm, 618, rfl⟩
abbrev main_cst_46 : Ref sig .tc := ⟨.hbm, 619, rfl⟩
abbrev main_v196 : Ref sig .tc := ⟨.hbm, 620, rfl⟩
abbrev main_v197 : Ref sig .tc := ⟨.hbm, 621, rfl⟩
abbrev main_v198 : Ref sig .tc := ⟨.hbm, 622, rfl⟩
abbrev main_cst_47 : Ref sig .tc := ⟨.hbm, 623, rfl⟩
abbrev main_call30_v0 : Ref sig .tc := ⟨.hbm, 624, rfl⟩
abbrev main_call30_v1 : Ref sig .tc := ⟨.hbm, 625, rfl⟩
abbrev main_v199 : Ref sig .tc := ⟨.hbm, 626, rfl⟩
abbrev main_v200 : Ref sig .tc := ⟨.hbm, 627, rfl⟩
abbrev main_v201 : Ref sig .tc := ⟨.hbm, 628, rfl⟩
abbrev main_v202 : Ref sig .tc := ⟨.hbm, 629, rfl⟩
abbrev main_call31_c : Ref sig .tc := ⟨.hbm, 630, rfl⟩
abbrev main_call31_v0 : Ref sig .tc := ⟨.hbm, 631, rfl⟩
abbrev main_call31_v1 : Ref sig .tc := ⟨.hbm, 632, rfl⟩
abbrev main_call31_c_0 : Ref sig .tc := ⟨.hbm, 633, rfl⟩
abbrev main_call31_v2 : Ref sig .tc := ⟨.hbm, 634, rfl⟩
abbrev main_call31_v3 : Ref sig .tc := ⟨.hbm, 635, rfl⟩
abbrev main_call31_v4 : Ref sig .tc := ⟨.hbm, 636, rfl⟩
abbrev main_call31_v5 : Ref sig .tc := ⟨.hbm, 637, rfl⟩
abbrev main_call31_c_1 : Ref sig .tc := ⟨.hbm, 638, rfl⟩
abbrev main_call31_c_2 : Ref sig .tc := ⟨.hbm, 639, rfl⟩
abbrev main_call31_v6 : Ref sig .tc := ⟨.hbm, 640, rfl⟩
abbrev main_call31_v7 : Ref sig .tc := ⟨.hbm, 641, rfl⟩
abbrev main_call31_v8 : Ref sig .tc := ⟨.hbm, 642, rfl⟩
abbrev main_call31_v9 : Ref sig .tc := ⟨.hbm, 643, rfl⟩
abbrev main_call31_v10 : Ref sig .tc := ⟨.hbm, 644, rfl⟩
abbrev main_call31_v11 : Ref sig .tc := ⟨.hbm, 645, rfl⟩
abbrev main_call31_c_3 : Ref sig .tc := ⟨.hbm, 646, rfl⟩
abbrev main_call31_v12 : Ref sig .tc := ⟨.hbm, 647, rfl⟩
abbrev main_call31_v13 : Ref sig .tc := ⟨.hbm, 648, rfl⟩
abbrev main_call31_v14 : Ref sig .tc := ⟨.hbm, 649, rfl⟩
abbrev main_call31_cst : Ref sig .tc := ⟨.hbm, 650, rfl⟩
abbrev main_call31_v15 : Ref sig .tc := ⟨.hbm, 651, rfl⟩
abbrev main_v203 : Ref sig .tc := ⟨.hbm, 652, rfl⟩
abbrev main_v204 : Ref sig .tc := ⟨.hbm, 653, rfl⟩
abbrev main_v205 : Ref sig .tc := ⟨.hbm, 654, rfl⟩
abbrev main_cst_48 : Ref sig .tc := ⟨.hbm, 655, rfl⟩
abbrev main_v206 : Ref sig .tc := ⟨.hbm, 656, rfl⟩
abbrev main_v207 : Ref sig .tc := ⟨.hbm, 657, rfl⟩
abbrev main_v208 : Ref sig .tc := ⟨.hbm, 658, rfl⟩
abbrev main_cst_49 : Ref sig .tc := ⟨.hbm, 659, rfl⟩
abbrev main_call32_v0 : Ref sig .tc := ⟨.hbm, 660, rfl⟩
abbrev main_call32_v1 : Ref sig .tc := ⟨.hbm, 661, rfl⟩
abbrev main_v209 : Ref sig .tc := ⟨.hbm, 662, rfl⟩
abbrev main_v210 : Ref sig .tc := ⟨.hbm, 663, rfl⟩
abbrev main_v211 : Ref sig .tc := ⟨.hbm, 664, rfl⟩
abbrev main_v212 : Ref sig .tc := ⟨.hbm, 665, rfl⟩
abbrev main_call33_c : Ref sig .tc := ⟨.hbm, 666, rfl⟩
abbrev main_call33_v0 : Ref sig .tc := ⟨.hbm, 667, rfl⟩
abbrev main_call33_v1 : Ref sig .tc := ⟨.hbm, 668, rfl⟩
abbrev main_call33_c_0 : Ref sig .tc := ⟨.hbm, 669, rfl⟩
abbrev main_call33_v2 : Ref sig .tc := ⟨.hbm, 670, rfl⟩
abbrev main_call33_v3 : Ref sig .tc := ⟨.hbm, 671, rfl⟩
abbrev main_call33_v4 : Ref sig .tc := ⟨.hbm, 672, rfl⟩
abbrev main_call33_v5 : Ref sig .tc := ⟨.hbm, 673, rfl⟩
abbrev main_call33_c_1 : Ref sig .tc := ⟨.hbm, 674, rfl⟩
abbrev main_call33_c_2 : Ref sig .tc := ⟨.hbm, 675, rfl⟩
abbrev main_call33_v6 : Ref sig .tc := ⟨.hbm, 676, rfl⟩
abbrev main_call33_v7 : Ref sig .tc := ⟨.hbm, 677, rfl⟩
abbrev main_call33_v8 : Ref sig .tc := ⟨.hbm, 678, rfl⟩
abbrev main_call33_v9 : Ref sig .tc := ⟨.hbm, 679, rfl⟩
abbrev main_call33_v10 : Ref sig .tc := ⟨.hbm, 680, rfl⟩
abbrev main_call33_v11 : Ref sig .tc := ⟨.hbm, 681, rfl⟩
abbrev main_call33_c_3 : Ref sig .tc := ⟨.hbm, 682, rfl⟩
abbrev main_call33_v12 : Ref sig .tc := ⟨.hbm, 683, rfl⟩
abbrev main_call33_v13 : Ref sig .tc := ⟨.hbm, 684, rfl⟩
abbrev main_call33_v14 : Ref sig .tc := ⟨.hbm, 685, rfl⟩
abbrev main_call33_cst : Ref sig .tc := ⟨.hbm, 686, rfl⟩
abbrev main_call33_v15 : Ref sig .tc := ⟨.hbm, 687, rfl⟩
abbrev main_v213 : Ref sig .tc := ⟨.hbm, 688, rfl⟩
abbrev main_v214 : Ref sig .tc := ⟨.hbm, 689, rfl⟩
abbrev main_v215 : Ref sig .tc := ⟨.hbm, 690, rfl⟩
abbrev main_cst_50 : Ref sig .tc := ⟨.hbm, 691, rfl⟩
abbrev main_v216 : Ref sig .tc := ⟨.hbm, 692, rfl⟩
abbrev main_v217 : Ref sig .tc := ⟨.hbm, 693, rfl⟩
abbrev main_v218 : Ref sig .tc := ⟨.hbm, 694, rfl⟩
abbrev main_cst_51 : Ref sig .tc := ⟨.hbm, 695, rfl⟩
abbrev main_call34_v0 : Ref sig .tc := ⟨.hbm, 696, rfl⟩
abbrev main_call34_v1 : Ref sig .tc := ⟨.hbm, 697, rfl⟩
abbrev main_v219 : Ref sig .tc := ⟨.hbm, 698, rfl⟩
abbrev main_v220 : Ref sig .tc := ⟨.hbm, 699, rfl⟩
abbrev main_v221 : Ref sig .tc := ⟨.hbm, 700, rfl⟩
abbrev main_v222 : Ref sig .tc := ⟨.hbm, 701, rfl⟩
abbrev main_call35_c : Ref sig .tc := ⟨.hbm, 702, rfl⟩
abbrev main_call35_v0 : Ref sig .tc := ⟨.hbm, 703, rfl⟩
abbrev main_call35_v1 : Ref sig .tc := ⟨.hbm, 704, rfl⟩
abbrev main_call35_c_0 : Ref sig .tc := ⟨.hbm, 705, rfl⟩
abbrev main_call35_v2 : Ref sig .tc := ⟨.hbm, 706, rfl⟩
abbrev main_call35_v3 : Ref sig .tc := ⟨.hbm, 707, rfl⟩
abbrev main_call35_v4 : Ref sig .tc := ⟨.hbm, 708, rfl⟩
abbrev main_call35_v5 : Ref sig .tc := ⟨.hbm, 709, rfl⟩
abbrev main_call35_c_1 : Ref sig .tc := ⟨.hbm, 710, rfl⟩
abbrev main_call35_c_2 : Ref sig .tc := ⟨.hbm, 711, rfl⟩
abbrev main_call35_v6 : Ref sig .tc := ⟨.hbm, 712, rfl⟩
abbrev main_call35_v7 : Ref sig .tc := ⟨.hbm, 713, rfl⟩
abbrev main_call35_v8 : Ref sig .tc := ⟨.hbm, 714, rfl⟩
abbrev main_call35_v9 : Ref sig .tc := ⟨.hbm, 715, rfl⟩
abbrev main_call35_v10 : Ref sig .tc := ⟨.hbm, 716, rfl⟩
abbrev main_call35_v11 : Ref sig .tc := ⟨.hbm, 717, rfl⟩
abbrev main_call35_c_3 : Ref sig .tc := ⟨.hbm, 718, rfl⟩
abbrev main_call35_v12 : Ref sig .tc := ⟨.hbm, 719, rfl⟩
abbrev main_call35_v13 : Ref sig .tc := ⟨.hbm, 720, rfl⟩
abbrev main_call35_v14 : Ref sig .tc := ⟨.hbm, 721, rfl⟩
abbrev main_call35_cst : Ref sig .tc := ⟨.hbm, 722, rfl⟩
abbrev main_call35_v15 : Ref sig .tc := ⟨.hbm, 723, rfl⟩
abbrev main_v223 : Ref sig .tc := ⟨.hbm, 724, rfl⟩
abbrev main_v224 : Ref sig .tc := ⟨.hbm, 725, rfl⟩
abbrev main_v225 : Ref sig .tc := ⟨.hbm, 726, rfl⟩
abbrev main_cst_52 : Ref sig .tc := ⟨.hbm, 727, rfl⟩
abbrev main_v226 : Ref sig .tc := ⟨.hbm, 728, rfl⟩
abbrev main_v227 : Ref sig .tc := ⟨.hbm, 729, rfl⟩
abbrev main_v228 : Ref sig .tc := ⟨.hbm, 730, rfl⟩
abbrev main_cst_53 : Ref sig .tc := ⟨.hbm, 731, rfl⟩
abbrev main_call36_v0 : Ref sig .tc := ⟨.hbm, 732, rfl⟩
abbrev main_call36_v1 : Ref sig .tc := ⟨.hbm, 733, rfl⟩
abbrev main_v229 : Ref sig .tc := ⟨.hbm, 734, rfl⟩
abbrev main_v230 : Ref sig .tc := ⟨.hbm, 735, rfl⟩
abbrev main_v231 : Ref sig .tc := ⟨.hbm, 736, rfl⟩
abbrev main_v232 : Ref sig .tc := ⟨.hbm, 737, rfl⟩
abbrev main_call37_c : Ref sig .tc := ⟨.hbm, 738, rfl⟩
abbrev main_call37_v0 : Ref sig .tc := ⟨.hbm, 739, rfl⟩
abbrev main_call37_v1 : Ref sig .tc := ⟨.hbm, 740, rfl⟩
abbrev main_call37_c_0 : Ref sig .tc := ⟨.hbm, 741, rfl⟩
abbrev main_call37_v2 : Ref sig .tc := ⟨.hbm, 742, rfl⟩
abbrev main_call37_v3 : Ref sig .tc := ⟨.hbm, 743, rfl⟩
abbrev main_call37_v4 : Ref sig .tc := ⟨.hbm, 744, rfl⟩
abbrev main_call37_v5 : Ref sig .tc := ⟨.hbm, 745, rfl⟩
abbrev main_call37_c_1 : Ref sig .tc := ⟨.hbm, 746, rfl⟩
abbrev main_call37_c_2 : Ref sig .tc := ⟨.hbm, 747, rfl⟩
abbrev main_call37_v6 : Ref sig .tc := ⟨.hbm, 748, rfl⟩
abbrev main_call37_v7 : Ref sig .tc := ⟨.hbm, 749, rfl⟩
abbrev main_call37_v8 : Ref sig .tc := ⟨.hbm, 750, rfl⟩
abbrev main_call37_v9 : Ref sig .tc := ⟨.hbm, 751, rfl⟩
abbrev main_call37_v10 : Ref sig .tc := ⟨.hbm, 752, rfl⟩
abbrev main_call37_v11 : Ref sig .tc := ⟨.hbm, 753, rfl⟩
abbrev main_call37_c_3 : Ref sig .tc := ⟨.hbm, 754, rfl⟩
abbrev main_call37_v12 : Ref sig .tc := ⟨.hbm, 755, rfl⟩
abbrev main_call37_v13 : Ref sig .tc := ⟨.hbm, 756, rfl⟩
abbrev main_call37_v14 : Ref sig .tc := ⟨.hbm, 757, rfl⟩
abbrev main_call37_cst : Ref sig .tc := ⟨.hbm, 758, rfl⟩
abbrev main_call37_v15 : Ref sig .tc := ⟨.hbm, 759, rfl⟩
abbrev main_v233 : Ref sig .tc := ⟨.hbm, 760, rfl⟩
abbrev main_v234 : Ref sig .tc := ⟨.hbm, 761, rfl⟩
abbrev main_v235 : Ref sig .tc := ⟨.hbm, 762, rfl⟩
abbrev main_cst_54 : Ref sig .tc := ⟨.hbm, 763, rfl⟩
abbrev main_v236 : Ref sig .tc := ⟨.hbm, 764, rfl⟩
abbrev main_v237 : Ref sig .tc := ⟨.hbm, 765, rfl⟩
abbrev main_v238 : Ref sig .tc := ⟨.hbm, 766, rfl⟩
abbrev main_cst_55 : Ref sig .tc := ⟨.hbm, 767, rfl⟩
abbrev main_call38_v0 : Ref sig .tc := ⟨.hbm, 768, rfl⟩
abbrev main_call38_v1 : Ref sig .tc := ⟨.hbm, 769, rfl⟩
abbrev main_v239 : Ref sig .tc := ⟨.hbm, 770, rfl⟩
abbrev main_v240 : Ref sig .tc := ⟨.hbm, 771, rfl⟩
abbrev main_v241 : Ref sig .tc := ⟨.hbm, 772, rfl⟩
abbrev main_v242 : Ref sig .tc := ⟨.hbm, 773, rfl⟩
abbrev main_call39_c : Ref sig .tc := ⟨.hbm, 774, rfl⟩
abbrev main_call39_v0 : Ref sig .tc := ⟨.hbm, 775, rfl⟩
abbrev main_call39_v1 : Ref sig .tc := ⟨.hbm, 776, rfl⟩
abbrev main_call39_c_0 : Ref sig .tc := ⟨.hbm, 777, rfl⟩
abbrev main_call39_v2 : Ref sig .tc := ⟨.hbm, 778, rfl⟩
abbrev main_call39_v3 : Ref sig .tc := ⟨.hbm, 779, rfl⟩
abbrev main_call39_v4 : Ref sig .tc := ⟨.hbm, 780, rfl⟩
abbrev main_call39_v5 : Ref sig .tc := ⟨.hbm, 781, rfl⟩
abbrev main_call39_c_1 : Ref sig .tc := ⟨.hbm, 782, rfl⟩
abbrev main_call39_c_2 : Ref sig .tc := ⟨.hbm, 783, rfl⟩
abbrev main_call39_v6 : Ref sig .tc := ⟨.hbm, 784, rfl⟩
abbrev main_call39_v7 : Ref sig .tc := ⟨.hbm, 785, rfl⟩
abbrev main_call39_v8 : Ref sig .tc := ⟨.hbm, 786, rfl⟩
abbrev main_call39_v9 : Ref sig .tc := ⟨.hbm, 787, rfl⟩
abbrev main_call39_v10 : Ref sig .tc := ⟨.hbm, 788, rfl⟩
abbrev main_call39_v11 : Ref sig .tc := ⟨.hbm, 789, rfl⟩
abbrev main_call39_c_3 : Ref sig .tc := ⟨.hbm, 790, rfl⟩
abbrev main_call39_v12 : Ref sig .tc := ⟨.hbm, 791, rfl⟩
abbrev main_call39_v13 : Ref sig .tc := ⟨.hbm, 792, rfl⟩
abbrev main_call39_v14 : Ref sig .tc := ⟨.hbm, 793, rfl⟩
abbrev main_call39_cst : Ref sig .tc := ⟨.hbm, 794, rfl⟩
abbrev main_call39_v15 : Ref sig .tc := ⟨.hbm, 795, rfl⟩
abbrev main_v243 : Ref sig .tc := ⟨.hbm, 796, rfl⟩
abbrev main_v244 : Ref sig .tc := ⟨.hbm, 797, rfl⟩
abbrev main_v245 : Ref sig .tc := ⟨.hbm, 798, rfl⟩
abbrev main_cst_56 : Ref sig .tc := ⟨.hbm, 799, rfl⟩
abbrev main_v246 : Ref sig .tc := ⟨.hbm, 800, rfl⟩
abbrev main_v247 : Ref sig .tc := ⟨.hbm, 801, rfl⟩
abbrev main_v248 : Ref sig .tc := ⟨.hbm, 802, rfl⟩
abbrev main_cst_57 : Ref sig .tc := ⟨.hbm, 803, rfl⟩
abbrev main_call40_v0 : Ref sig .tc := ⟨.hbm, 804, rfl⟩
abbrev main_call40_v1 : Ref sig .tc := ⟨.hbm, 805, rfl⟩
abbrev main_v249 : Ref sig .tc := ⟨.hbm, 806, rfl⟩
abbrev main_v250 : Ref sig .tc := ⟨.hbm, 807, rfl⟩
abbrev main_v251 : Ref sig .tc := ⟨.hbm, 808, rfl⟩
abbrev main_v252 : Ref sig .tc := ⟨.hbm, 809, rfl⟩
abbrev main_call41_c : Ref sig .tc := ⟨.hbm, 810, rfl⟩
abbrev main_call41_v0 : Ref sig .tc := ⟨.hbm, 811, rfl⟩
abbrev main_call41_v1 : Ref sig .tc := ⟨.hbm, 812, rfl⟩
abbrev main_call41_c_0 : Ref sig .tc := ⟨.hbm, 813, rfl⟩
abbrev main_call41_v2 : Ref sig .tc := ⟨.hbm, 814, rfl⟩
abbrev main_call41_v3 : Ref sig .tc := ⟨.hbm, 815, rfl⟩
abbrev main_call41_v4 : Ref sig .tc := ⟨.hbm, 816, rfl⟩
abbrev main_call41_v5 : Ref sig .tc := ⟨.hbm, 817, rfl⟩
abbrev main_call41_c_1 : Ref sig .tc := ⟨.hbm, 818, rfl⟩
abbrev main_call41_c_2 : Ref sig .tc := ⟨.hbm, 819, rfl⟩
abbrev main_call41_v6 : Ref sig .tc := ⟨.hbm, 820, rfl⟩
abbrev main_call41_v7 : Ref sig .tc := ⟨.hbm, 821, rfl⟩
abbrev main_call41_v8 : Ref sig .tc := ⟨.hbm, 822, rfl⟩
abbrev main_call41_v9 : Ref sig .tc := ⟨.hbm, 823, rfl⟩
abbrev main_call41_v10 : Ref sig .tc := ⟨.hbm, 824, rfl⟩
abbrev main_call41_v11 : Ref sig .tc := ⟨.hbm, 825, rfl⟩
abbrev main_call41_c_3 : Ref sig .tc := ⟨.hbm, 826, rfl⟩
abbrev main_call41_v12 : Ref sig .tc := ⟨.hbm, 827, rfl⟩
abbrev main_call41_v13 : Ref sig .tc := ⟨.hbm, 828, rfl⟩
abbrev main_call41_v14 : Ref sig .tc := ⟨.hbm, 829, rfl⟩
abbrev main_call41_cst : Ref sig .tc := ⟨.hbm, 830, rfl⟩
abbrev main_call41_v15 : Ref sig .tc := ⟨.hbm, 831, rfl⟩
abbrev main_v253 : Ref sig .tc := ⟨.hbm, 832, rfl⟩
abbrev main_v254 : Ref sig .tc := ⟨.hbm, 833, rfl⟩
abbrev main_v255 : Ref sig .tc := ⟨.hbm, 834, rfl⟩
abbrev main_cst_58 : Ref sig .tc := ⟨.hbm, 835, rfl⟩
abbrev main_v256 : Ref sig .tc := ⟨.hbm, 836, rfl⟩
abbrev main_v257 : Ref sig .tc := ⟨.hbm, 837, rfl⟩
abbrev main_v258 : Ref sig .tc := ⟨.hbm, 838, rfl⟩
abbrev main_cst_59 : Ref sig .tc := ⟨.hbm, 839, rfl⟩
abbrev main_call42_v0 : Ref sig .tc := ⟨.hbm, 840, rfl⟩
abbrev main_call42_v1 : Ref sig .tc := ⟨.hbm, 841, rfl⟩
abbrev main_v259 : Ref sig .tc := ⟨.hbm, 842, rfl⟩
abbrev main_v260 : Ref sig .tc := ⟨.hbm, 843, rfl⟩
abbrev main_v261 : Ref sig .tc := ⟨.hbm, 844, rfl⟩
abbrev main_v262 : Ref sig .tc := ⟨.hbm, 845, rfl⟩
abbrev main_call43_c : Ref sig .tc := ⟨.hbm, 846, rfl⟩
abbrev main_call43_v0 : Ref sig .tc := ⟨.hbm, 847, rfl⟩
abbrev main_call43_v1 : Ref sig .tc := ⟨.hbm, 848, rfl⟩
abbrev main_call43_c_0 : Ref sig .tc := ⟨.hbm, 849, rfl⟩
abbrev main_call43_v2 : Ref sig .tc := ⟨.hbm, 850, rfl⟩
abbrev main_call43_v3 : Ref sig .tc := ⟨.hbm, 851, rfl⟩
abbrev main_call43_v4 : Ref sig .tc := ⟨.hbm, 852, rfl⟩
abbrev main_call43_v5 : Ref sig .tc := ⟨.hbm, 853, rfl⟩
abbrev main_call43_c_1 : Ref sig .tc := ⟨.hbm, 854, rfl⟩
abbrev main_call43_c_2 : Ref sig .tc := ⟨.hbm, 855, rfl⟩
abbrev main_call43_v6 : Ref sig .tc := ⟨.hbm, 856, rfl⟩
abbrev main_call43_v7 : Ref sig .tc := ⟨.hbm, 857, rfl⟩
abbrev main_call43_v8 : Ref sig .tc := ⟨.hbm, 858, rfl⟩
abbrev main_call43_v9 : Ref sig .tc := ⟨.hbm, 859, rfl⟩
abbrev main_call43_v10 : Ref sig .tc := ⟨.hbm, 860, rfl⟩
abbrev main_call43_v11 : Ref sig .tc := ⟨.hbm, 861, rfl⟩
abbrev main_call43_c_3 : Ref sig .tc := ⟨.hbm, 862, rfl⟩
abbrev main_call43_v12 : Ref sig .tc := ⟨.hbm, 863, rfl⟩
abbrev main_call43_v13 : Ref sig .tc := ⟨.hbm, 864, rfl⟩
abbrev main_call43_v14 : Ref sig .tc := ⟨.hbm, 865, rfl⟩
abbrev main_call43_cst : Ref sig .tc := ⟨.hbm, 866, rfl⟩
abbrev main_call43_v15 : Ref sig .tc := ⟨.hbm, 867, rfl⟩
abbrev main_v263 : Ref sig .tc := ⟨.hbm, 868, rfl⟩
abbrev main_v264 : Ref sig .tc := ⟨.hbm, 869, rfl⟩
abbrev main_v265 : Ref sig .tc := ⟨.hbm, 870, rfl⟩
abbrev main_cst_60 : Ref sig .tc := ⟨.hbm, 871, rfl⟩
abbrev main_v266 : Ref sig .tc := ⟨.hbm, 872, rfl⟩
abbrev main_v267 : Ref sig .tc := ⟨.hbm, 873, rfl⟩
abbrev main_v268 : Ref sig .tc := ⟨.hbm, 874, rfl⟩
abbrev main_cst_61 : Ref sig .tc := ⟨.hbm, 875, rfl⟩
abbrev main_call44_v0 : Ref sig .tc := ⟨.hbm, 876, rfl⟩
abbrev main_call44_v1 : Ref sig .tc := ⟨.hbm, 877, rfl⟩
abbrev main_v269 : Ref sig .tc := ⟨.hbm, 878, rfl⟩
abbrev main_v270 : Ref sig .tc := ⟨.hbm, 879, rfl⟩
abbrev main_v271 : Ref sig .tc := ⟨.hbm, 880, rfl⟩
abbrev main_v272 : Ref sig .tc := ⟨.hbm, 881, rfl⟩
abbrev main_call45_c : Ref sig .tc := ⟨.hbm, 882, rfl⟩
abbrev main_call45_v0 : Ref sig .tc := ⟨.hbm, 883, rfl⟩
abbrev main_call45_v1 : Ref sig .tc := ⟨.hbm, 884, rfl⟩
abbrev main_call45_c_0 : Ref sig .tc := ⟨.hbm, 885, rfl⟩
abbrev main_call45_v2 : Ref sig .tc := ⟨.hbm, 886, rfl⟩
abbrev main_call45_v3 : Ref sig .tc := ⟨.hbm, 887, rfl⟩
abbrev main_call45_v4 : Ref sig .tc := ⟨.hbm, 888, rfl⟩
abbrev main_call45_v5 : Ref sig .tc := ⟨.hbm, 889, rfl⟩
abbrev main_call45_c_1 : Ref sig .tc := ⟨.hbm, 890, rfl⟩
abbrev main_call45_c_2 : Ref sig .tc := ⟨.hbm, 891, rfl⟩
abbrev main_call45_v6 : Ref sig .tc := ⟨.hbm, 892, rfl⟩
abbrev main_call45_v7 : Ref sig .tc := ⟨.hbm, 893, rfl⟩
abbrev main_call45_v8 : Ref sig .tc := ⟨.hbm, 894, rfl⟩
abbrev main_call45_v9 : Ref sig .tc := ⟨.hbm, 895, rfl⟩
abbrev main_call45_v10 : Ref sig .tc := ⟨.hbm, 896, rfl⟩
abbrev main_call45_v11 : Ref sig .tc := ⟨.hbm, 897, rfl⟩
abbrev main_call45_c_3 : Ref sig .tc := ⟨.hbm, 898, rfl⟩
abbrev main_call45_v12 : Ref sig .tc := ⟨.hbm, 899, rfl⟩
abbrev main_call45_v13 : Ref sig .tc := ⟨.hbm, 900, rfl⟩
abbrev main_call45_v14 : Ref sig .tc := ⟨.hbm, 901, rfl⟩
abbrev main_call45_cst : Ref sig .tc := ⟨.hbm, 902, rfl⟩
abbrev main_call45_v15 : Ref sig .tc := ⟨.hbm, 903, rfl⟩
abbrev main_v273 : Ref sig .tc := ⟨.hbm, 904, rfl⟩
abbrev main_v274 : Ref sig .tc := ⟨.hbm, 905, rfl⟩
abbrev main_v275 : Ref sig .tc := ⟨.hbm, 906, rfl⟩
abbrev main_cst_62 : Ref sig .tc := ⟨.hbm, 907, rfl⟩
abbrev main_v276 : Ref sig .tc := ⟨.hbm, 908, rfl⟩
abbrev main_v277 : Ref sig .tc := ⟨.hbm, 909, rfl⟩
abbrev main_v278 : Ref sig .tc := ⟨.hbm, 910, rfl⟩
abbrev main_cst_63 : Ref sig .tc := ⟨.hbm, 911, rfl⟩
abbrev main_call46_v0 : Ref sig .tc := ⟨.hbm, 912, rfl⟩
abbrev main_call46_v1 : Ref sig .tc := ⟨.hbm, 913, rfl⟩
abbrev main_v279 : Ref sig .tc := ⟨.hbm, 914, rfl⟩
abbrev main_v280 : Ref sig .tc := ⟨.hbm, 915, rfl⟩
abbrev main_v281 : Ref sig .tc := ⟨.hbm, 916, rfl⟩
abbrev main_v282 : Ref sig .tc := ⟨.hbm, 917, rfl⟩
abbrev main_call47_c : Ref sig .tc := ⟨.hbm, 918, rfl⟩
abbrev main_call47_v0 : Ref sig .tc := ⟨.hbm, 919, rfl⟩
abbrev main_call47_v1 : Ref sig .tc := ⟨.hbm, 920, rfl⟩
abbrev main_call47_c_0 : Ref sig .tc := ⟨.hbm, 921, rfl⟩
abbrev main_call47_v2 : Ref sig .tc := ⟨.hbm, 922, rfl⟩
abbrev main_call47_v3 : Ref sig .tc := ⟨.hbm, 923, rfl⟩
abbrev main_call47_v4 : Ref sig .tc := ⟨.hbm, 924, rfl⟩
abbrev main_call47_v5 : Ref sig .tc := ⟨.hbm, 925, rfl⟩
abbrev main_call47_c_1 : Ref sig .tc := ⟨.hbm, 926, rfl⟩
abbrev main_call47_c_2 : Ref sig .tc := ⟨.hbm, 927, rfl⟩
abbrev main_call47_v6 : Ref sig .tc := ⟨.hbm, 928, rfl⟩
abbrev main_call47_v7 : Ref sig .tc := ⟨.hbm, 929, rfl⟩
abbrev main_call47_v8 : Ref sig .tc := ⟨.hbm, 930, rfl⟩
abbrev main_call47_v9 : Ref sig .tc := ⟨.hbm, 931, rfl⟩
abbrev main_call47_v10 : Ref sig .tc := ⟨.hbm, 932, rfl⟩
abbrev main_call47_v11 : Ref sig .tc := ⟨.hbm, 933, rfl⟩
abbrev main_call47_c_3 : Ref sig .tc := ⟨.hbm, 934, rfl⟩
abbrev main_call47_v12 : Ref sig .tc := ⟨.hbm, 935, rfl⟩
abbrev main_call47_v13 : Ref sig .tc := ⟨.hbm, 936, rfl⟩
abbrev main_call47_v14 : Ref sig .tc := ⟨.hbm, 937, rfl⟩
abbrev main_call47_cst : Ref sig .tc := ⟨.hbm, 938, rfl⟩
abbrev main_call47_v15 : Ref sig .tc := ⟨.hbm, 939, rfl⟩
abbrev main_v283 : Ref sig .tc := ⟨.hbm, 940, rfl⟩
abbrev main_v284 : Ref sig .tc := ⟨.hbm, 941, rfl⟩
abbrev main_v285 : Ref sig .tc := ⟨.hbm, 942, rfl⟩
abbrev main_cst_64 : Ref sig .tc := ⟨.hbm, 943, rfl⟩
abbrev main_v286 : Ref sig .tc := ⟨.hbm, 944, rfl⟩
abbrev main_v287 : Ref sig .tc := ⟨.hbm, 945, rfl⟩
abbrev main_v288 : Ref sig .tc := ⟨.hbm, 946, rfl⟩
abbrev main_cst_65 : Ref sig .tc := ⟨.hbm, 947, rfl⟩
abbrev main_call48_v0 : Ref sig .tc := ⟨.hbm, 948, rfl⟩
abbrev main_call48_v1 : Ref sig .tc := ⟨.hbm, 949, rfl⟩
abbrev main_v289 : Ref sig .tc := ⟨.hbm, 950, rfl⟩
abbrev main_v290 : Ref sig .tc := ⟨.hbm, 951, rfl⟩
abbrev main_v291 : Ref sig .tc := ⟨.hbm, 952, rfl⟩
abbrev main_v292 : Ref sig .tc := ⟨.hbm, 953, rfl⟩
abbrev main_call49_c : Ref sig .tc := ⟨.hbm, 954, rfl⟩
abbrev main_call49_v0 : Ref sig .tc := ⟨.hbm, 955, rfl⟩
abbrev main_call49_v1 : Ref sig .tc := ⟨.hbm, 956, rfl⟩
abbrev main_call49_c_0 : Ref sig .tc := ⟨.hbm, 957, rfl⟩
abbrev main_call49_v2 : Ref sig .tc := ⟨.hbm, 958, rfl⟩
abbrev main_call49_v3 : Ref sig .tc := ⟨.hbm, 959, rfl⟩
abbrev main_call49_v4 : Ref sig .tc := ⟨.hbm, 960, rfl⟩
abbrev main_call49_v5 : Ref sig .tc := ⟨.hbm, 961, rfl⟩
abbrev main_call49_c_1 : Ref sig .tc := ⟨.hbm, 962, rfl⟩
abbrev main_call49_c_2 : Ref sig .tc := ⟨.hbm, 963, rfl⟩
abbrev main_call49_v6 : Ref sig .tc := ⟨.hbm, 964, rfl⟩
abbrev main_call49_v7 : Ref sig .tc := ⟨.hbm, 965, rfl⟩
abbrev main_call49_v8 : Ref sig .tc := ⟨.hbm, 966, rfl⟩
abbrev main_call49_v9 : Ref sig .tc := ⟨.hbm, 967, rfl⟩
abbrev main_call49_v10 : Ref sig .tc := ⟨.hbm, 968, rfl⟩
abbrev main_call49_v11 : Ref sig .tc := ⟨.hbm, 969, rfl⟩
abbrev main_call49_c_3 : Ref sig .tc := ⟨.hbm, 970, rfl⟩
abbrev main_call49_v12 : Ref sig .tc := ⟨.hbm, 971, rfl⟩
abbrev main_call49_v13 : Ref sig .tc := ⟨.hbm, 972, rfl⟩
abbrev main_call49_v14 : Ref sig .tc := ⟨.hbm, 973, rfl⟩
abbrev main_call49_cst : Ref sig .tc := ⟨.hbm, 974, rfl⟩
abbrev main_call49_v15 : Ref sig .tc := ⟨.hbm, 975, rfl⟩
abbrev main_v293 : Ref sig .tc := ⟨.hbm, 976, rfl⟩
abbrev main_v294 : Ref sig .tc := ⟨.hbm, 977, rfl⟩
abbrev main_v295 : Ref sig .tc := ⟨.hbm, 978, rfl⟩
abbrev main_cst_66 : Ref sig .tc := ⟨.hbm, 979, rfl⟩
abbrev main_v296 : Ref sig .tc := ⟨.hbm, 980, rfl⟩
abbrev main_v297 : Ref sig .tc := ⟨.hbm, 981, rfl⟩
abbrev main_v298 : Ref sig .tc := ⟨.hbm, 982, rfl⟩
abbrev main_cst_67 : Ref sig .tc := ⟨.hbm, 983, rfl⟩
abbrev main_call50_v0 : Ref sig .tc := ⟨.hbm, 984, rfl⟩
abbrev main_call50_v1 : Ref sig .tc := ⟨.hbm, 985, rfl⟩
abbrev main_v299 : Ref sig .tc := ⟨.hbm, 986, rfl⟩
abbrev main_v300 : Ref sig .tc := ⟨.hbm, 987, rfl⟩
abbrev main_v301 : Ref sig .tc := ⟨.hbm, 988, rfl⟩
abbrev main_v302 : Ref sig .tc := ⟨.hbm, 989, rfl⟩
abbrev main_call51_c : Ref sig .tc := ⟨.hbm, 990, rfl⟩
abbrev main_call51_v0 : Ref sig .tc := ⟨.hbm, 991, rfl⟩
abbrev main_call51_v1 : Ref sig .tc := ⟨.hbm, 992, rfl⟩
abbrev main_call51_c_0 : Ref sig .tc := ⟨.hbm, 993, rfl⟩
abbrev main_call51_v2 : Ref sig .tc := ⟨.hbm, 994, rfl⟩
abbrev main_call51_v3 : Ref sig .tc := ⟨.hbm, 995, rfl⟩
abbrev main_call51_v4 : Ref sig .tc := ⟨.hbm, 996, rfl⟩
abbrev main_call51_v5 : Ref sig .tc := ⟨.hbm, 997, rfl⟩
abbrev main_call51_c_1 : Ref sig .tc := ⟨.hbm, 998, rfl⟩
abbrev main_call51_c_2 : Ref sig .tc := ⟨.hbm, 999, rfl⟩
abbrev main_call51_v6 : Ref sig .tc := ⟨.hbm, 1000, rfl⟩
abbrev main_call51_v7 : Ref sig .tc := ⟨.hbm, 1001, rfl⟩
abbrev main_call51_v8 : Ref sig .tc := ⟨.hbm, 1002, rfl⟩
abbrev main_call51_v9 : Ref sig .tc := ⟨.hbm, 1003, rfl⟩
abbrev main_call51_v10 : Ref sig .tc := ⟨.hbm, 1004, rfl⟩
abbrev main_call51_v11 : Ref sig .tc := ⟨.hbm, 1005, rfl⟩
abbrev main_call51_c_3 : Ref sig .tc := ⟨.hbm, 1006, rfl⟩
abbrev main_call51_v12 : Ref sig .tc := ⟨.hbm, 1007, rfl⟩
abbrev main_call51_v13 : Ref sig .tc := ⟨.hbm, 1008, rfl⟩
abbrev main_call51_v14 : Ref sig .tc := ⟨.hbm, 1009, rfl⟩
abbrev main_call51_cst : Ref sig .tc := ⟨.hbm, 1010, rfl⟩
abbrev main_call51_v15 : Ref sig .tc := ⟨.hbm, 1011, rfl⟩
abbrev main_v303 : Ref sig .tc := ⟨.hbm, 1012, rfl⟩
abbrev main_v304 : Ref sig .tc := ⟨.hbm, 1013, rfl⟩
abbrev main_v305 : Ref sig .tc := ⟨.hbm, 1014, rfl⟩
abbrev main_cst_68 : Ref sig .tc := ⟨.hbm, 1015, rfl⟩
abbrev main_v306 : Ref sig .tc := ⟨.hbm, 1016, rfl⟩
abbrev main_v307 : Ref sig .tc := ⟨.hbm, 1017, rfl⟩
abbrev main_v308 : Ref sig .tc := ⟨.hbm, 1018, rfl⟩
abbrev main_cst_69 : Ref sig .tc := ⟨.hbm, 1019, rfl⟩
abbrev main_call52_v0 : Ref sig .tc := ⟨.hbm, 1020, rfl⟩
abbrev main_call52_v1 : Ref sig .tc := ⟨.hbm, 1021, rfl⟩
abbrev main_v309 : Ref sig .tc := ⟨.hbm, 1022, rfl⟩
abbrev main_v310 : Ref sig .tc := ⟨.hbm, 1023, rfl⟩
abbrev main_v311 : Ref sig .tc := ⟨.hbm, 1024, rfl⟩
abbrev main_v312 : Ref sig .tc := ⟨.hbm, 1025, rfl⟩
abbrev main_call53_c : Ref sig .tc := ⟨.hbm, 1026, rfl⟩
abbrev main_call53_v0 : Ref sig .tc := ⟨.hbm, 1027, rfl⟩
abbrev main_call53_v1 : Ref sig .tc := ⟨.hbm, 1028, rfl⟩
abbrev main_call53_c_0 : Ref sig .tc := ⟨.hbm, 1029, rfl⟩
abbrev main_call53_v2 : Ref sig .tc := ⟨.hbm, 1030, rfl⟩
abbrev main_call53_v3 : Ref sig .tc := ⟨.hbm, 1031, rfl⟩
abbrev main_call53_v4 : Ref sig .tc := ⟨.hbm, 1032, rfl⟩
abbrev main_call53_v5 : Ref sig .tc := ⟨.hbm, 1033, rfl⟩
abbrev main_call53_c_1 : Ref sig .tc := ⟨.hbm, 1034, rfl⟩
abbrev main_call53_c_2 : Ref sig .tc := ⟨.hbm, 1035, rfl⟩
abbrev main_call53_v6 : Ref sig .tc := ⟨.hbm, 1036, rfl⟩
abbrev main_call53_v7 : Ref sig .tc := ⟨.hbm, 1037, rfl⟩
abbrev main_call53_v8 : Ref sig .tc := ⟨.hbm, 1038, rfl⟩
abbrev main_call53_v9 : Ref sig .tc := ⟨.hbm, 1039, rfl⟩
abbrev main_call53_v10 : Ref sig .tc := ⟨.hbm, 1040, rfl⟩
abbrev main_call53_v11 : Ref sig .tc := ⟨.hbm, 1041, rfl⟩
abbrev main_call53_c_3 : Ref sig .tc := ⟨.hbm, 1042, rfl⟩
abbrev main_call53_v12 : Ref sig .tc := ⟨.hbm, 1043, rfl⟩
abbrev main_call53_v13 : Ref sig .tc := ⟨.hbm, 1044, rfl⟩
abbrev main_call53_v14 : Ref sig .tc := ⟨.hbm, 1045, rfl⟩
abbrev main_call53_cst : Ref sig .tc := ⟨.hbm, 1046, rfl⟩
abbrev main_call53_v15 : Ref sig .tc := ⟨.hbm, 1047, rfl⟩
abbrev main_v313 : Ref sig .tc := ⟨.hbm, 1048, rfl⟩
abbrev main_v314 : Ref sig .tc := ⟨.hbm, 1049, rfl⟩
abbrev main_v315 : Ref sig .tc := ⟨.hbm, 1050, rfl⟩
abbrev main_cst_70 : Ref sig .tc := ⟨.hbm, 1051, rfl⟩
abbrev main_v316 : Ref sig .tc := ⟨.hbm, 1052, rfl⟩
abbrev main_v317 : Ref sig .tc := ⟨.hbm, 1053, rfl⟩
abbrev main_v318 : Ref sig .tc := ⟨.hbm, 1054, rfl⟩
abbrev main_cst_71 : Ref sig .tc := ⟨.hbm, 1055, rfl⟩
abbrev main_call54_v0 : Ref sig .tc := ⟨.hbm, 1056, rfl⟩
abbrev main_call54_v1 : Ref sig .tc := ⟨.hbm, 1057, rfl⟩
abbrev main_v319 : Ref sig .tc := ⟨.hbm, 1058, rfl⟩
abbrev main_v320 : Ref sig .tc := ⟨.hbm, 1059, rfl⟩
abbrev main_v321 : Ref sig .tc := ⟨.hbm, 1060, rfl⟩
abbrev main_v322 : Ref sig .tc := ⟨.hbm, 1061, rfl⟩
abbrev main_call55_c : Ref sig .tc := ⟨.hbm, 1062, rfl⟩
abbrev main_call55_v0 : Ref sig .tc := ⟨.hbm, 1063, rfl⟩
abbrev main_call55_v1 : Ref sig .tc := ⟨.hbm, 1064, rfl⟩
abbrev main_call55_c_0 : Ref sig .tc := ⟨.hbm, 1065, rfl⟩
abbrev main_call55_v2 : Ref sig .tc := ⟨.hbm, 1066, rfl⟩
abbrev main_call55_v3 : Ref sig .tc := ⟨.hbm, 1067, rfl⟩
abbrev main_call55_v4 : Ref sig .tc := ⟨.hbm, 1068, rfl⟩
abbrev main_call55_v5 : Ref sig .tc := ⟨.hbm, 1069, rfl⟩
abbrev main_call55_c_1 : Ref sig .tc := ⟨.hbm, 1070, rfl⟩
abbrev main_call55_c_2 : Ref sig .tc := ⟨.hbm, 1071, rfl⟩
abbrev main_call55_v6 : Ref sig .tc := ⟨.hbm, 1072, rfl⟩
abbrev main_call55_v7 : Ref sig .tc := ⟨.hbm, 1073, rfl⟩
abbrev main_call55_v8 : Ref sig .tc := ⟨.hbm, 1074, rfl⟩
abbrev main_call55_v9 : Ref sig .tc := ⟨.hbm, 1075, rfl⟩
abbrev main_call55_v10 : Ref sig .tc := ⟨.hbm, 1076, rfl⟩
abbrev main_call55_v11 : Ref sig .tc := ⟨.hbm, 1077, rfl⟩
abbrev main_call55_c_3 : Ref sig .tc := ⟨.hbm, 1078, rfl⟩
abbrev main_call55_v12 : Ref sig .tc := ⟨.hbm, 1079, rfl⟩
abbrev main_call55_v13 : Ref sig .tc := ⟨.hbm, 1080, rfl⟩
abbrev main_call55_v14 : Ref sig .tc := ⟨.hbm, 1081, rfl⟩
abbrev main_call55_cst : Ref sig .tc := ⟨.hbm, 1082, rfl⟩
abbrev main_call55_v15 : Ref sig .tc := ⟨.hbm, 1083, rfl⟩
abbrev main_v323 : Ref sig .tc := ⟨.hbm, 1084, rfl⟩
abbrev main_v324 : Ref sig .tc := ⟨.hbm, 1085, rfl⟩
abbrev main_v325 : Ref sig .tc := ⟨.hbm, 1086, rfl⟩
abbrev main_cst_72 : Ref sig .tc := ⟨.hbm, 1087, rfl⟩
abbrev main_v326 : Ref sig .tc := ⟨.hbm, 1088, rfl⟩
abbrev main_v327 : Ref sig .tc := ⟨.hbm, 1089, rfl⟩
abbrev main_v328 : Ref sig .tc := ⟨.hbm, 1090, rfl⟩
abbrev main_cst_73 : Ref sig .tc := ⟨.hbm, 1091, rfl⟩
abbrev main_call56_v0 : Ref sig .tc := ⟨.hbm, 1092, rfl⟩
abbrev main_call56_v1 : Ref sig .tc := ⟨.hbm, 1093, rfl⟩
abbrev main_v329 : Ref sig .tc := ⟨.hbm, 1094, rfl⟩
abbrev main_v330 : Ref sig .tc := ⟨.hbm, 1095, rfl⟩
abbrev main_v331 : Ref sig .tc := ⟨.hbm, 1096, rfl⟩
abbrev main_v332 : Ref sig .tc := ⟨.hbm, 1097, rfl⟩
abbrev main_call57_c : Ref sig .tc := ⟨.hbm, 1098, rfl⟩
abbrev main_call57_v0 : Ref sig .tc := ⟨.hbm, 1099, rfl⟩
abbrev main_call57_v1 : Ref sig .tc := ⟨.hbm, 1100, rfl⟩
abbrev main_call57_c_0 : Ref sig .tc := ⟨.hbm, 1101, rfl⟩
abbrev main_call57_v2 : Ref sig .tc := ⟨.hbm, 1102, rfl⟩
abbrev main_call57_v3 : Ref sig .tc := ⟨.hbm, 1103, rfl⟩
abbrev main_call57_v4 : Ref sig .tc := ⟨.hbm, 1104, rfl⟩
abbrev main_call57_v5 : Ref sig .tc := ⟨.hbm, 1105, rfl⟩
abbrev main_call57_c_1 : Ref sig .tc := ⟨.hbm, 1106, rfl⟩
abbrev main_call57_c_2 : Ref sig .tc := ⟨.hbm, 1107, rfl⟩
abbrev main_call57_v6 : Ref sig .tc := ⟨.hbm, 1108, rfl⟩
abbrev main_call57_v7 : Ref sig .tc := ⟨.hbm, 1109, rfl⟩
abbrev main_call57_v8 : Ref sig .tc := ⟨.hbm, 1110, rfl⟩
abbrev main_call57_v9 : Ref sig .tc := ⟨.hbm, 1111, rfl⟩
abbrev main_call57_v10 : Ref sig .tc := ⟨.hbm, 1112, rfl⟩
abbrev main_call57_v11 : Ref sig .tc := ⟨.hbm, 1113, rfl⟩
abbrev main_call57_c_3 : Ref sig .tc := ⟨.hbm, 1114, rfl⟩
abbrev main_call57_v12 : Ref sig .tc := ⟨.hbm, 1115, rfl⟩
abbrev main_call57_v13 : Ref sig .tc := ⟨.hbm, 1116, rfl⟩
abbrev main_call57_v14 : Ref sig .tc := ⟨.hbm, 1117, rfl⟩
abbrev main_call57_cst : Ref sig .tc := ⟨.hbm, 1118, rfl⟩
abbrev main_call57_v15 : Ref sig .tc := ⟨.hbm, 1119, rfl⟩
abbrev main_v333 : Ref sig .tc := ⟨.hbm, 1120, rfl⟩
abbrev main_v334 : Ref sig .tc := ⟨.hbm, 1121, rfl⟩
abbrev main_v335 : Ref sig .tc := ⟨.hbm, 1122, rfl⟩
abbrev main_cst_74 : Ref sig .tc := ⟨.hbm, 1123, rfl⟩
abbrev main_v336 : Ref sig .tc := ⟨.hbm, 1124, rfl⟩
abbrev main_v337 : Ref sig .tc := ⟨.hbm, 1125, rfl⟩
abbrev main_v338 : Ref sig .tc := ⟨.hbm, 1126, rfl⟩
abbrev main_cst_75 : Ref sig .tc := ⟨.hbm, 1127, rfl⟩
abbrev main_call58_v0 : Ref sig .tc := ⟨.hbm, 1128, rfl⟩
abbrev main_call58_v1 : Ref sig .tc := ⟨.hbm, 1129, rfl⟩
abbrev main_v339 : Ref sig .tc := ⟨.hbm, 1130, rfl⟩
abbrev main_v340 : Ref sig .tc := ⟨.hbm, 1131, rfl⟩
abbrev main_v341 : Ref sig .tc := ⟨.hbm, 1132, rfl⟩
abbrev main_v342 : Ref sig .tc := ⟨.hbm, 1133, rfl⟩
abbrev main_call59_c : Ref sig .tc := ⟨.hbm, 1134, rfl⟩
abbrev main_call59_v0 : Ref sig .tc := ⟨.hbm, 1135, rfl⟩
abbrev main_call59_v1 : Ref sig .tc := ⟨.hbm, 1136, rfl⟩
abbrev main_call59_c_0 : Ref sig .tc := ⟨.hbm, 1137, rfl⟩
abbrev main_call59_v2 : Ref sig .tc := ⟨.hbm, 1138, rfl⟩
abbrev main_call59_v3 : Ref sig .tc := ⟨.hbm, 1139, rfl⟩
abbrev main_call59_v4 : Ref sig .tc := ⟨.hbm, 1140, rfl⟩
abbrev main_call59_v5 : Ref sig .tc := ⟨.hbm, 1141, rfl⟩
abbrev main_call59_c_1 : Ref sig .tc := ⟨.hbm, 1142, rfl⟩
abbrev main_call59_c_2 : Ref sig .tc := ⟨.hbm, 1143, rfl⟩
abbrev main_call59_v6 : Ref sig .tc := ⟨.hbm, 1144, rfl⟩
abbrev main_call59_v7 : Ref sig .tc := ⟨.hbm, 1145, rfl⟩
abbrev main_call59_v8 : Ref sig .tc := ⟨.hbm, 1146, rfl⟩
abbrev main_call59_v9 : Ref sig .tc := ⟨.hbm, 1147, rfl⟩
abbrev main_call59_v10 : Ref sig .tc := ⟨.hbm, 1148, rfl⟩
abbrev main_call59_v11 : Ref sig .tc := ⟨.hbm, 1149, rfl⟩
abbrev main_call59_c_3 : Ref sig .tc := ⟨.hbm, 1150, rfl⟩
abbrev main_call59_v12 : Ref sig .tc := ⟨.hbm, 1151, rfl⟩
abbrev main_call59_v13 : Ref sig .tc := ⟨.hbm, 1152, rfl⟩
abbrev main_call59_v14 : Ref sig .tc := ⟨.hbm, 1153, rfl⟩
abbrev main_call59_cst : Ref sig .tc := ⟨.hbm, 1154, rfl⟩
abbrev main_call59_v15 : Ref sig .tc := ⟨.hbm, 1155, rfl⟩
abbrev main_v343 : Ref sig .tc := ⟨.hbm, 1156, rfl⟩
abbrev main_v344 : Ref sig .tc := ⟨.hbm, 1157, rfl⟩
abbrev main_v345 : Ref sig .tc := ⟨.hbm, 1158, rfl⟩
abbrev main_cst_76 : Ref sig .tc := ⟨.hbm, 1159, rfl⟩
abbrev main_v346 : Ref sig .tc := ⟨.hbm, 1160, rfl⟩
abbrev main_v347 : Ref sig .tc := ⟨.hbm, 1161, rfl⟩
abbrev main_v348 : Ref sig .tc := ⟨.hbm, 1162, rfl⟩
abbrev main_cst_77 : Ref sig .tc := ⟨.hbm, 1163, rfl⟩
abbrev main_call60_v0 : Ref sig .tc := ⟨.hbm, 1164, rfl⟩
abbrev main_call60_v1 : Ref sig .tc := ⟨.hbm, 1165, rfl⟩
abbrev main_v349 : Ref sig .tc := ⟨.hbm, 1166, rfl⟩
abbrev main_v350 : Ref sig .tc := ⟨.hbm, 1167, rfl⟩
abbrev main_v351 : Ref sig .tc := ⟨.hbm, 1168, rfl⟩
abbrev main_v352 : Ref sig .tc := ⟨.hbm, 1169, rfl⟩
abbrev main_v353 : Ref sig .tc := ⟨.hbm, 1170, rfl⟩
abbrev main_v354 : Ref sig .tc := ⟨.hbm, 1171, rfl⟩
abbrev main_v355 : Ref sig .tc := ⟨.hbm, 1172, rfl⟩
abbrev main_v356 : Ref sig .tc := ⟨.hbm, 1173, rfl⟩
abbrev main_v357 : Ref sig .tc := ⟨.hbm, 1174, rfl⟩
abbrev main_v358 : Ref sig .tc := ⟨.hbm, 1175, rfl⟩
abbrev main_v359 : Ref sig .tc := ⟨.hbm, 1176, rfl⟩
abbrev main_v360 : Ref sig .tc := ⟨.hbm, 1177, rfl⟩
abbrev main_v361 : Ref sig .tc := ⟨.hbm, 1178, rfl⟩
abbrev main_v362 : Ref sig .tc := ⟨.hbm, 1179, rfl⟩
abbrev main_v363 : Ref sig .tc := ⟨.hbm, 1180, rfl⟩
abbrev main_v364 : Ref sig .tc := ⟨.hbm, 1181, rfl⟩
abbrev main_v365 : Ref sig .tc := ⟨.hbm, 1182, rfl⟩
abbrev main_v366 : Ref sig .tc := ⟨.hbm, 1183, rfl⟩
abbrev main_v367 : Ref sig .tc := ⟨.hbm, 1184, rfl⟩
abbrev main_v368 : Ref sig .tc := ⟨.hbm, 1185, rfl⟩
abbrev main_v369 : Ref sig .tc := ⟨.hbm, 1186, rfl⟩
abbrev main_v370 : Ref sig .tc := ⟨.hbm, 1187, rfl⟩
abbrev main_v371 : Ref sig .tc := ⟨.hbm, 1188, rfl⟩
abbrev main_v372 : Ref sig .tc := ⟨.hbm, 1189, rfl⟩
abbrev main_v373 : Ref sig .tc := ⟨.hbm, 1190, rfl⟩
abbrev main_v374 : Ref sig .tc := ⟨.hbm, 1191, rfl⟩
abbrev main_v375 : Ref sig .tc := ⟨.hbm, 1192, rfl⟩
abbrev main_v376 : Ref sig .tc := ⟨.hbm, 1193, rfl⟩
abbrev main_v377 : Ref sig .tc := ⟨.hbm, 1194, rfl⟩
abbrev main_v378 : Ref sig .tc := ⟨.hbm, 1195, rfl⟩
abbrev main_v379 : Ref sig .tc := ⟨.hbm, 1196, rfl⟩
abbrev main_v380 : Ref sig .tc := ⟨.hbm, 1197, rfl⟩
abbrev main_cst_78 : Ref sig .tc := ⟨.hbm, 1198, rfl⟩
abbrev main_v381 : Ref sig .tc := ⟨.hbm, 1199, rfl⟩
abbrev main_v382 : Ref sig .tc := ⟨.hbm, 1200, rfl⟩
abbrev main_cst_79 : Ref sig .tc := ⟨.hbm, 1201, rfl⟩
abbrev main_v383 : Ref sig .tc := ⟨.hbm, 1202, rfl⟩
abbrev main_cst_80 : Ref sig .tc := ⟨.hbm, 1203, rfl⟩
abbrev main_v384 : Ref sig .tc := ⟨.hbm, 1204, rfl⟩
abbrev main_v385 : Ref sig .tc := ⟨.hbm, 1205, rfl⟩
abbrev main_v386 : Ref sig .tc := ⟨.hbm, 1206, rfl⟩
abbrev main_v387 : Ref sig .tc := ⟨.hbm, 1207, rfl⟩
abbrev main_v388 : Ref sig .tc := ⟨.hbm, 1208, rfl⟩
abbrev main_v389 : Ref sig .tc := ⟨.hbm, 1209, rfl⟩
abbrev main_cst_81 : Ref sig .tc := ⟨.hbm, 1210, rfl⟩
abbrev main_v390 : Ref sig .tc := ⟨.hbm, 1211, rfl⟩
abbrev main_v391 : Ref sig .tc := ⟨.hbm, 1212, rfl⟩
abbrev main_v392 : Ref sig .tc := ⟨.hbm, 1213, rfl⟩
abbrev main_v393 : Ref sig .tc := ⟨.hbm, 1214, rfl⟩
abbrev main_v394 : Ref sig .tc := ⟨.hbm, 1215, rfl⟩
abbrev main_v395 : Ref sig .tc := ⟨.hbm, 1216, rfl⟩
abbrev main_v396 : Ref sig .tc := ⟨.hbm, 1217, rfl⟩
abbrev main_v397 : Ref sig .tc := ⟨.hbm, 1218, rfl⟩
abbrev main_c_82 : Ref sig .tc := ⟨.hbm, 1219, rfl⟩
abbrev main_call61_v0 : Ref sig .tc := ⟨.hbm, 1220, rfl⟩
abbrev main_call61_v1 : Ref sig .tc := ⟨.hbm, 1221, rfl⟩
abbrev main_call61_v2 : Ref sig .tc := ⟨.hbm, 1222, rfl⟩
abbrev main_call61_v3 : Ref sig .tc := ⟨.hbm, 1223, rfl⟩
abbrev main_call61_v4 : Ref sig .tc := ⟨.hbm, 1224, rfl⟩
abbrev main_call61_v5 : Ref sig .tc := ⟨.hbm, 1225, rfl⟩
abbrev main_call61_v6 : Ref sig .tc := ⟨.hbm, 1226, rfl⟩
abbrev main_call61_v7 : Ref sig .tc := ⟨.hbm, 1227, rfl⟩
abbrev main_call61_v8 : Ref sig .tc := ⟨.hbm, 1228, rfl⟩
abbrev main_call61_c : Ref sig .tc := ⟨.hbm, 1229, rfl⟩
abbrev main_call61_v9 : Ref sig .tc := ⟨.hbm, 1230, rfl⟩
abbrev main_call61_v10 : Ref sig .tc := ⟨.hbm, 1231, rfl⟩
abbrev main_call61_v11 : Ref sig .tc := ⟨.hbm, 1232, rfl⟩
abbrev main_call61_c_0 : Ref sig .tc := ⟨.hbm, 1233, rfl⟩
abbrev main_call61_v12 : Ref sig .tc := ⟨.hbm, 1234, rfl⟩
abbrev main_call61_v13 : Ref sig .tc := ⟨.hbm, 1235, rfl⟩
abbrev main_v398 : Ref sig .tc := ⟨.hbm, 1236, rfl⟩
abbrev main_c_83 : Ref sig .tc := ⟨.hbm, 1237, rfl⟩
abbrev main_call62_v0 : Ref sig .tc := ⟨.hbm, 1238, rfl⟩
abbrev main_call62_v1 : Ref sig .tc := ⟨.hbm, 1239, rfl⟩
abbrev main_call62_v2 : Ref sig .tc := ⟨.hbm, 1240, rfl⟩
abbrev main_call62_v3 : Ref sig .tc := ⟨.hbm, 1241, rfl⟩
abbrev main_call62_v4 : Ref sig .tc := ⟨.hbm, 1242, rfl⟩
abbrev main_call62_v5 : Ref sig .tc := ⟨.hbm, 1243, rfl⟩
abbrev main_call62_v6 : Ref sig .tc := ⟨.hbm, 1244, rfl⟩
abbrev main_call62_v7 : Ref sig .tc := ⟨.hbm, 1245, rfl⟩
abbrev main_call62_v8 : Ref sig .tc := ⟨.hbm, 1246, rfl⟩
abbrev main_call62_c : Ref sig .tc := ⟨.hbm, 1247, rfl⟩
abbrev main_call62_v9 : Ref sig .tc := ⟨.hbm, 1248, rfl⟩
abbrev main_call62_v10 : Ref sig .tc := ⟨.hbm, 1249, rfl⟩
abbrev main_call62_v11 : Ref sig .tc := ⟨.hbm, 1250, rfl⟩
abbrev main_call62_c_0 : Ref sig .tc := ⟨.hbm, 1251, rfl⟩
abbrev main_call62_v12 : Ref sig .tc := ⟨.hbm, 1252, rfl⟩
abbrev main_call62_v13 : Ref sig .tc := ⟨.hbm, 1253, rfl⟩
abbrev main_v399 : Ref sig .tc := ⟨.hbm, 1254, rfl⟩
abbrev main_c_84 : Ref sig .tc := ⟨.hbm, 1255, rfl⟩
abbrev main_call63_v0 : Ref sig .tc := ⟨.hbm, 1256, rfl⟩
abbrev main_call63_c : Ref sig .tc := ⟨.hbm, 1257, rfl⟩
abbrev main_call63_v1 : Ref sig .tc := ⟨.hbm, 1258, rfl⟩
abbrev main_call63_c_0 : Ref sig .tc := ⟨.hbm, 1259, rfl⟩
abbrev main_call63_v2 : Ref sig .tc := ⟨.hbm, 1260, rfl⟩
abbrev main_call63_v3 : Ref sig .tc := ⟨.hbm, 1261, rfl⟩
abbrev main_call63_v4 : Ref sig .tc := ⟨.hbm, 1262, rfl⟩
abbrev main_call63_c_1 : Ref sig .tc := ⟨.hbm, 1263, rfl⟩
abbrev main_call63_v5 : Ref sig .tc := ⟨.hbm, 1264, rfl⟩
abbrev main_call63_v6 : Ref sig .tc := ⟨.hbm, 1265, rfl⟩
abbrev main_call63_c_2 : Ref sig .tc := ⟨.hbm, 1266, rfl⟩
abbrev main_call63_v7 : Ref sig .tc := ⟨.hbm, 1267, rfl⟩
abbrev main_call63_v8 : Ref sig .tc := ⟨.hbm, 1268, rfl⟩
abbrev main_call63_c_3 : Ref sig .tc := ⟨.hbm, 1269, rfl⟩
abbrev main_call63_v9 : Ref sig .tc := ⟨.hbm, 1270, rfl⟩
abbrev main_call63_v10 : Ref sig .tc := ⟨.hbm, 1271, rfl⟩
abbrev main_call63_v11 : Ref sig .tc := ⟨.hbm, 1272, rfl⟩
abbrev main_call63_v12 : Ref sig .tc := ⟨.hbm, 1273, rfl⟩
abbrev main_call63_v13 : Ref sig .tc := ⟨.hbm, 1274, rfl⟩
abbrev main_call63_v14 : Ref sig .tc := ⟨.hbm, 1275, rfl⟩
abbrev main_v400 : Ref sig .tc := ⟨.hbm, 1276, rfl⟩
abbrev main_c_85 : Ref sig .tc := ⟨.hbm, 1277, rfl⟩
abbrev main_call64_v0 : Ref sig .tc := ⟨.hbm, 1278, rfl⟩
abbrev main_call64_c : Ref sig .tc := ⟨.hbm, 1279, rfl⟩
abbrev main_call64_v1 : Ref sig .tc := ⟨.hbm, 1280, rfl⟩
abbrev main_call64_c_0 : Ref sig .tc := ⟨.hbm, 1281, rfl⟩
abbrev main_call64_v2 : Ref sig .tc := ⟨.hbm, 1282, rfl⟩
abbrev main_call64_v3 : Ref sig .tc := ⟨.hbm, 1283, rfl⟩
abbrev main_call64_v4 : Ref sig .tc := ⟨.hbm, 1284, rfl⟩
abbrev main_call64_c_1 : Ref sig .tc := ⟨.hbm, 1285, rfl⟩
abbrev main_call64_v5 : Ref sig .tc := ⟨.hbm, 1286, rfl⟩
abbrev main_call64_v6 : Ref sig .tc := ⟨.hbm, 1287, rfl⟩
abbrev main_call64_c_2 : Ref sig .tc := ⟨.hbm, 1288, rfl⟩
abbrev main_call64_v7 : Ref sig .tc := ⟨.hbm, 1289, rfl⟩
abbrev main_call64_v8 : Ref sig .tc := ⟨.hbm, 1290, rfl⟩
abbrev main_call64_c_3 : Ref sig .tc := ⟨.hbm, 1291, rfl⟩
abbrev main_call64_v9 : Ref sig .tc := ⟨.hbm, 1292, rfl⟩
abbrev main_call64_v10 : Ref sig .tc := ⟨.hbm, 1293, rfl⟩
abbrev main_call64_v11 : Ref sig .tc := ⟨.hbm, 1294, rfl⟩
abbrev main_call64_v12 : Ref sig .tc := ⟨.hbm, 1295, rfl⟩
abbrev main_call64_v13 : Ref sig .tc := ⟨.hbm, 1296, rfl⟩
abbrev main_call64_v14 : Ref sig .tc := ⟨.hbm, 1297, rfl⟩
abbrev main_v401 : Ref sig .tc := ⟨.hbm, 1298, rfl⟩
abbrev main_v402 : Ref sig .tc := ⟨.hbm, 1299, rfl⟩
abbrev main_v403 : Ref sig .tc := ⟨.hbm, 1300, rfl⟩
abbrev main_v404 : Ref sig .tc := ⟨.hbm, 1301, rfl⟩
abbrev main_v405 : Ref sig .tc := ⟨.hbm, 1302, rfl⟩
abbrev main_v406 : Ref sig .tc := ⟨.hbm, 1303, rfl⟩
abbrev main_v407 : Ref sig .tc := ⟨.hbm, 1304, rfl⟩
abbrev main_v408 : Ref sig .tc := ⟨.hbm, 1305, rfl⟩
abbrev main_v409 : Ref sig .tc := ⟨.hbm, 1306, rfl⟩
abbrev main_v410 : Ref sig .tc := ⟨.hbm, 1307, rfl⟩
abbrev main_v411 : Ref sig .tc := ⟨.hbm, 1308, rfl⟩
abbrev main_v412 : Ref sig .tc := ⟨.hbm, 1309, rfl⟩
abbrev main_v413 : Ref sig .tc := ⟨.hbm, 1310, rfl⟩
abbrev main_v414 : Ref sig .tc := ⟨.hbm, 1311, rfl⟩
abbrev main_v415 : Ref sig .tc := ⟨.hbm, 1312, rfl⟩
abbrev main_v416 : Ref sig .tc := ⟨.hbm, 1313, rfl⟩
abbrev main_c_86 : Ref sig .tc := ⟨.hbm, 1314, rfl⟩
abbrev main_v417 : Ref sig .tc := ⟨.hbm, 1315, rfl⟩
abbrev main_v418 : Ref sig .tc := ⟨.hbm, 1316, rfl⟩
abbrev main_c_87 : Ref sig .tc := ⟨.hbm, 1317, rfl⟩
abbrev main_v419 : Ref sig .tc := ⟨.hbm, 1318, rfl⟩
abbrev main_v420 : Ref sig .tc := ⟨.hbm, 1319, rfl⟩
abbrev main_v421 : Ref sig .tc := ⟨.hbm, 1320, rfl⟩
abbrev main_c_88 : Ref sig .tc := ⟨.hbm, 1321, rfl⟩
abbrev main_v422 : Ref sig .tc := ⟨.hbm, 1322, rfl⟩
abbrev main_v423 : Ref sig .tc := ⟨.hbm, 1323, rfl⟩
abbrev main_v424 : Ref sig .tc := ⟨.hbm, 1324, rfl⟩
abbrev main_c_89 : Ref sig .tc := ⟨.hbm, 1325, rfl⟩
abbrev main_v425 : Ref sig .tc := ⟨.hbm, 1326, rfl⟩
abbrev main_v426 : Ref sig .tc := ⟨.hbm, 1327, rfl⟩
abbrev main_v427 : Ref sig .tc := ⟨.hbm, 1328, rfl⟩
abbrev main_c_90 : Ref sig .tc := ⟨.hbm, 1329, rfl⟩
abbrev main_v428 : Ref sig .tc := ⟨.hbm, 1330, rfl⟩
abbrev main_v429 : Ref sig .tc := ⟨.hbm, 1331, rfl⟩
abbrev main_v430 : Ref sig .tc := ⟨.hbm, 1332, rfl⟩
abbrev main_c_91 : Ref sig .tc := ⟨.hbm, 1333, rfl⟩
abbrev main_v431 : Ref sig .tc := ⟨.hbm, 1334, rfl⟩
abbrev main_v432 : Ref sig .tc := ⟨.hbm, 1335, rfl⟩
abbrev main_v433 : Ref sig .tc := ⟨.hbm, 1336, rfl⟩
abbrev main_c_92 : Ref sig .tc := ⟨.hbm, 1337, rfl⟩
abbrev main_c_93 : Ref sig .tc := ⟨.hbm, 1338, rfl⟩
abbrev main_call65_v0 : Ref sig .tc := ⟨.hbm, 1339, rfl⟩
abbrev main_call65_v1 : Ref sig .tc := ⟨.hbm, 1340, rfl⟩
abbrev main_call65_v2 : Ref sig .tc := ⟨.hbm, 1341, rfl⟩
abbrev main_call65_v3 : Ref sig .tc := ⟨.hbm, 1342, rfl⟩
abbrev main_call65_v4 : Ref sig .tc := ⟨.hbm, 1343, rfl⟩
abbrev main_v434 : Ref sig .tc := ⟨.hbm, 1344, rfl⟩
abbrev main_c_94 : Ref sig .tc := ⟨.hbm, 1345, rfl⟩
abbrev main_v435 : Ref sig .tc := ⟨.hbm, 1346, rfl⟩
abbrev main_v436 : Ref sig .tc := ⟨.hbm, 1347, rfl⟩
abbrev main_c_95 : Ref sig .tc := ⟨.hbm, 1348, rfl⟩
abbrev main_c_96 : Ref sig .tc := ⟨.hbm, 1349, rfl⟩
abbrev main_call66_v0 : Ref sig .tc := ⟨.hbm, 1350, rfl⟩
abbrev main_call66_v1 : Ref sig .tc := ⟨.hbm, 1351, rfl⟩
abbrev main_call66_v2 : Ref sig .tc := ⟨.hbm, 1352, rfl⟩
abbrev main_call66_v3 : Ref sig .tc := ⟨.hbm, 1353, rfl⟩
abbrev main_call66_v4 : Ref sig .tc := ⟨.hbm, 1354, rfl⟩
abbrev main_v437 : Ref sig .tc := ⟨.hbm, 1355, rfl⟩
abbrev main_v438 : Ref sig .tc := ⟨.hbm, 1356, rfl⟩
abbrev main_c_97 : Ref sig .tc := ⟨.hbm, 1357, rfl⟩
abbrev main_v439 : Ref sig .tc := ⟨.hbm, 1358, rfl⟩
abbrev main_v440 : Ref sig .tc := ⟨.hbm, 1359, rfl⟩
abbrev main_c_98 : Ref sig .tc := ⟨.hbm, 1360, rfl⟩
abbrev main_c_99 : Ref sig .tc := ⟨.hbm, 1361, rfl⟩
abbrev main_call67_v0 : Ref sig .tc := ⟨.hbm, 1362, rfl⟩
abbrev main_call67_v1 : Ref sig .tc := ⟨.hbm, 1363, rfl⟩
abbrev main_call67_v2 : Ref sig .tc := ⟨.hbm, 1364, rfl⟩
abbrev main_call67_v3 : Ref sig .tc := ⟨.hbm, 1365, rfl⟩
abbrev main_call67_v4 : Ref sig .tc := ⟨.hbm, 1366, rfl⟩
abbrev main_v441 : Ref sig .tc := ⟨.hbm, 1367, rfl⟩
abbrev main_v442 : Ref sig .tc := ⟨.hbm, 1368, rfl⟩
abbrev main_v443 : Ref sig .tc := ⟨.hbm, 1369, rfl⟩
abbrev main_v444 : Ref sig .tc := ⟨.hbm, 1370, rfl⟩
abbrev main_c_100 : Ref sig .tc := ⟨.hbm, 1371, rfl⟩
abbrev main_v445 : Ref sig .tc := ⟨.hbm, 1372, rfl⟩
abbrev main_v446 : Ref sig .tc := ⟨.hbm, 1373, rfl⟩
abbrev main_cst_101 : Ref sig .tc := ⟨.hbm, 1374, rfl⟩
abbrev main_v447 : Ref sig .tc := ⟨.hbm, 1375, rfl⟩
abbrev main_cst_102 : Ref sig .tc := ⟨.hbm, 1376, rfl⟩
abbrev main_v448 : Ref sig .tc := ⟨.hbm, 1377, rfl⟩
abbrev main_v449 : Ref sig .tc := ⟨.hbm, 1378, rfl⟩
abbrev main_v450 : Ref sig .tc := ⟨.hbm, 1379, rfl⟩
abbrev main_v451 : Ref sig .tc := ⟨.hbm, 1380, rfl⟩
abbrev main_v452 : Ref sig .tc := ⟨.hbm, 1381, rfl⟩
abbrev main_cst_103 : Ref sig .tc := ⟨.hbm, 1382, rfl⟩
abbrev main_call68_v0 : Ref sig .tc := ⟨.hbm, 1383, rfl⟩
abbrev main_call68_v1 : Ref sig .tc := ⟨.hbm, 1384, rfl⟩
abbrev main_v453 : Ref sig .tc := ⟨.hbm, 1385, rfl⟩
abbrev main_v454 : Ref sig .tc := ⟨.hbm, 1386, rfl⟩
abbrev main_v455 : Ref sig .tc := ⟨.hbm, 1387, rfl⟩
abbrev main_v456 : Ref sig .tc := ⟨.hbm, 1388, rfl⟩
abbrev main_v457 : Ref sig .tc := ⟨.hbm, 1389, rfl⟩
abbrev main_v458 : Ref sig .tc := ⟨.hbm, 1390, rfl⟩
abbrev main_v459 : Ref sig .tc := ⟨.hbm, 1391, rfl⟩
abbrev main_v460 : Ref sig .tc := ⟨.hbm, 1392, rfl⟩
abbrev main_v461 : Ref sig .tc := ⟨.hbm, 1393, rfl⟩
abbrev main_v462 : Ref sig .tc := ⟨.hbm, 1394, rfl⟩
abbrev main_cst_104 : Ref sig .tc := ⟨.hbm, 1395, rfl⟩
abbrev main_v463 : Ref sig .tc := ⟨.hbm, 1396, rfl⟩
abbrev main_v464 : Ref sig .tc := ⟨.hbm, 1397, rfl⟩
abbrev main_v465 : Ref sig .tc := ⟨.hbm, 1398, rfl⟩
abbrev main_v466 : Ref sig .tc := ⟨.hbm, 1399, rfl⟩
abbrev main_v467 : Ref sig .tc := ⟨.hbm, 1400, rfl⟩
abbrev main_cst_105 : Ref sig .tc := ⟨.hbm, 1401, rfl⟩
abbrev main_v468 : Ref sig .tc := ⟨.hbm, 1402, rfl⟩
abbrev main_v469 : Ref sig .tc := ⟨.hbm, 1403, rfl⟩
abbrev main_v470 : Ref sig .tc := ⟨.hbm, 1404, rfl⟩
abbrev main_v471 : Ref sig .tc := ⟨.hbm, 1405, rfl⟩
abbrev main_v472 : Ref sig .tc := ⟨.hbm, 1406, rfl⟩
abbrev main_v473 : Ref sig .tc := ⟨.hbm, 1407, rfl⟩
abbrev main_v474 : Ref sig .tc := ⟨.hbm, 1408, rfl⟩
abbrev main_v475 : Ref sig .tc := ⟨.hbm, 1409, rfl⟩
abbrev main_cst_106 : Ref sig .tc := ⟨.hbm, 1410, rfl⟩
abbrev main_call69_v0 : Ref sig .tc := ⟨.hbm, 1411, rfl⟩
abbrev main_call69_v1 : Ref sig .tc := ⟨.hbm, 1412, rfl⟩
abbrev main_v476 : Ref sig .tc := ⟨.hbm, 1413, rfl⟩
abbrev main_v477 : Ref sig .tc := ⟨.hbm, 1414, rfl⟩
abbrev main_v478 : Ref sig .tc := ⟨.hbm, 1415, rfl⟩
abbrev main_v479 : Ref sig .tc := ⟨.hbm, 1416, rfl⟩
abbrev main_v480 : Ref sig .tc := ⟨.hbm, 1417, rfl⟩
abbrev main_v481 : Ref sig .tc := ⟨.hbm, 1418, rfl⟩
abbrev main_v482 : Ref sig .tc := ⟨.hbm, 1419, rfl⟩
abbrev main_v483 : Ref sig .tc := ⟨.hbm, 1420, rfl⟩
abbrev main_v484 : Ref sig .tc := ⟨.hbm, 1421, rfl⟩
abbrev main_v485 : Ref sig .tc := ⟨.hbm, 1422, rfl⟩
abbrev main_cst_107 : Ref sig .tc := ⟨.hbm, 1423, rfl⟩
abbrev main_v486 : Ref sig .tc := ⟨.hbm, 1424, rfl⟩
abbrev main_v487 : Ref sig .tc := ⟨.hbm, 1425, rfl⟩
abbrev main_v488 : Ref sig .tc := ⟨.hbm, 1426, rfl⟩
abbrev main_v489 : Ref sig .tc := ⟨.hbm, 1427, rfl⟩
abbrev main_v490 : Ref sig .tc := ⟨.hbm, 1428, rfl⟩
abbrev main_cst_108 : Ref sig .tc := ⟨.hbm, 1429, rfl⟩
abbrev main_v491 : Ref sig .tc := ⟨.hbm, 1430, rfl⟩
abbrev main_v492 : Ref sig .tc := ⟨.hbm, 1431, rfl⟩
abbrev main_v493 : Ref sig .tc := ⟨.hbm, 1432, rfl⟩
abbrev main_v494 : Ref sig .tc := ⟨.hbm, 1433, rfl⟩
abbrev main_v495 : Ref sig .tc := ⟨.hbm, 1434, rfl⟩
abbrev main_v496 : Ref sig .tc := ⟨.hbm, 1435, rfl⟩
abbrev main_v497 : Ref sig .tc := ⟨.hbm, 1436, rfl⟩
abbrev main_v498 : Ref sig .tc := ⟨.hbm, 1437, rfl⟩
abbrev main_cst_109 : Ref sig .tc := ⟨.hbm, 1438, rfl⟩
abbrev main_call70_v0 : Ref sig .tc := ⟨.hbm, 1439, rfl⟩
abbrev main_call70_v1 : Ref sig .tc := ⟨.hbm, 1440, rfl⟩
abbrev main_v499 : Ref sig .tc := ⟨.hbm, 1441, rfl⟩
abbrev main_v500 : Ref sig .tc := ⟨.hbm, 1442, rfl⟩
abbrev main_v501 : Ref sig .tc := ⟨.hbm, 1443, rfl⟩
abbrev main_v502 : Ref sig .tc := ⟨.hbm, 1444, rfl⟩
abbrev main_v503 : Ref sig .tc := ⟨.hbm, 1445, rfl⟩
abbrev main_v504 : Ref sig .tc := ⟨.hbm, 1446, rfl⟩
abbrev main_v505 : Ref sig .tc := ⟨.hbm, 1447, rfl⟩
abbrev main_v506 : Ref sig .tc := ⟨.hbm, 1448, rfl⟩
abbrev main_v507 : Ref sig .tc := ⟨.hbm, 1449, rfl⟩
abbrev main_v508 : Ref sig .tc := ⟨.hbm, 1450, rfl⟩
abbrev main_cst_110 : Ref sig .tc := ⟨.hbm, 1451, rfl⟩
abbrev main_v509 : Ref sig .tc := ⟨.hbm, 1452, rfl⟩
abbrev main_v510 : Ref sig .tc := ⟨.hbm, 1453, rfl⟩
abbrev main_v511 : Ref sig .tc := ⟨.hbm, 1454, rfl⟩
abbrev main_v512 : Ref sig .tc := ⟨.hbm, 1455, rfl⟩
abbrev main_v513 : Ref sig .tc := ⟨.hbm, 1456, rfl⟩
abbrev main_cst_111 : Ref sig .tc := ⟨.hbm, 1457, rfl⟩
abbrev main_v514 : Ref sig .tc := ⟨.hbm, 1458, rfl⟩
abbrev main_v515 : Ref sig .tc := ⟨.hbm, 1459, rfl⟩
abbrev main_v516 : Ref sig .tc := ⟨.hbm, 1460, rfl⟩
abbrev main_v517 : Ref sig .tc := ⟨.hbm, 1461, rfl⟩
abbrev main_v518 : Ref sig .tc := ⟨.hbm, 1462, rfl⟩
abbrev main_v519 : Ref sig .tc := ⟨.hbm, 1463, rfl⟩
abbrev main_v520 : Ref sig .tc := ⟨.hbm, 1464, rfl⟩
abbrev main_v521 : Ref sig .tc := ⟨.hbm, 1465, rfl⟩
abbrev main_cst_112 : Ref sig .tc := ⟨.hbm, 1466, rfl⟩
abbrev main_call71_v0 : Ref sig .tc := ⟨.hbm, 1467, rfl⟩
abbrev main_call71_v1 : Ref sig .tc := ⟨.hbm, 1468, rfl⟩
abbrev main_v522 : Ref sig .tc := ⟨.hbm, 1469, rfl⟩
abbrev main_v523 : Ref sig .tc := ⟨.hbm, 1470, rfl⟩
abbrev main_v524 : Ref sig .tc := ⟨.hbm, 1471, rfl⟩
abbrev main_v525 : Ref sig .tc := ⟨.hbm, 1472, rfl⟩
abbrev main_v526 : Ref sig .tc := ⟨.hbm, 1473, rfl⟩
abbrev main_v527 : Ref sig .tc := ⟨.hbm, 1474, rfl⟩
abbrev main_v528 : Ref sig .tc := ⟨.hbm, 1475, rfl⟩
abbrev main_v529 : Ref sig .tc := ⟨.hbm, 1476, rfl⟩
abbrev main_v530 : Ref sig .tc := ⟨.hbm, 1477, rfl⟩
abbrev main_v531 : Ref sig .tc := ⟨.hbm, 1478, rfl⟩
abbrev main_cst_113 : Ref sig .tc := ⟨.hbm, 1479, rfl⟩
abbrev main_v532 : Ref sig .tc := ⟨.hbm, 1480, rfl⟩
abbrev main_v533 : Ref sig .tc := ⟨.hbm, 1481, rfl⟩
abbrev main_v534 : Ref sig .tc := ⟨.hbm, 1482, rfl⟩
abbrev main_v535 : Ref sig .tc := ⟨.hbm, 1483, rfl⟩
abbrev main_v536 : Ref sig .tc := ⟨.hbm, 1484, rfl⟩
abbrev main_cst_114 : Ref sig .tc := ⟨.hbm, 1485, rfl⟩
abbrev main_v537 : Ref sig .tc := ⟨.hbm, 1486, rfl⟩
abbrev main_v538 : Ref sig .tc := ⟨.hbm, 1487, rfl⟩
abbrev main_v539 : Ref sig .tc := ⟨.hbm, 1488, rfl⟩
abbrev main_v540 : Ref sig .tc := ⟨.hbm, 1489, rfl⟩
abbrev main_v541 : Ref sig .tc := ⟨.hbm, 1490, rfl⟩
abbrev main_v542 : Ref sig .tc := ⟨.hbm, 1491, rfl⟩
abbrev main_v543 : Ref sig .tc := ⟨.hbm, 1492, rfl⟩
abbrev main_v544 : Ref sig .tc := ⟨.hbm, 1493, rfl⟩
abbrev main_cst_115 : Ref sig .tc := ⟨.hbm, 1494, rfl⟩
abbrev main_call72_v0 : Ref sig .tc := ⟨.hbm, 1495, rfl⟩
abbrev main_call72_v1 : Ref sig .tc := ⟨.hbm, 1496, rfl⟩
abbrev main_v545 : Ref sig .tc := ⟨.hbm, 1497, rfl⟩
abbrev main_v546 : Ref sig .tc := ⟨.hbm, 1498, rfl⟩
abbrev main_v547 : Ref sig .tc := ⟨.hbm, 1499, rfl⟩
abbrev main_v548 : Ref sig .tc := ⟨.hbm, 1500, rfl⟩
abbrev main_v549 : Ref sig .tc := ⟨.hbm, 1501, rfl⟩
abbrev main_v550 : Ref sig .tc := ⟨.hbm, 1502, rfl⟩
abbrev main_v551 : Ref sig .tc := ⟨.hbm, 1503, rfl⟩
abbrev main_v552 : Ref sig .tc := ⟨.hbm, 1504, rfl⟩
abbrev main_v553 : Ref sig .tc := ⟨.hbm, 1505, rfl⟩
abbrev main_v554 : Ref sig .tc := ⟨.hbm, 1506, rfl⟩
abbrev main_cst_116 : Ref sig .tc := ⟨.hbm, 1507, rfl⟩
abbrev main_v555 : Ref sig .tc := ⟨.hbm, 1508, rfl⟩
abbrev main_v556 : Ref sig .tc := ⟨.hbm, 1509, rfl⟩
abbrev main_v557 : Ref sig .tc := ⟨.hbm, 1510, rfl⟩
abbrev main_v558 : Ref sig .tc := ⟨.hbm, 1511, rfl⟩
abbrev main_v559 : Ref sig .tc := ⟨.hbm, 1512, rfl⟩
abbrev main_cst_117 : Ref sig .tc := ⟨.hbm, 1513, rfl⟩
abbrev main_v560 : Ref sig .tc := ⟨.hbm, 1514, rfl⟩
abbrev main_v561 : Ref sig .tc := ⟨.hbm, 1515, rfl⟩
abbrev main_v562 : Ref sig .tc := ⟨.hbm, 1516, rfl⟩
abbrev main_v563 : Ref sig .tc := ⟨.hbm, 1517, rfl⟩
abbrev main_v564 : Ref sig .tc := ⟨.hbm, 1518, rfl⟩
abbrev main_v565 : Ref sig .tc := ⟨.hbm, 1519, rfl⟩
abbrev main_v566 : Ref sig .tc := ⟨.hbm, 1520, rfl⟩
abbrev main_v567 : Ref sig .tc := ⟨.hbm, 1521, rfl⟩
abbrev main_cst_118 : Ref sig .tc := ⟨.hbm, 1522, rfl⟩
abbrev main_call73_v0 : Ref sig .tc := ⟨.hbm, 1523, rfl⟩
abbrev main_call73_v1 : Ref sig .tc := ⟨.hbm, 1524, rfl⟩
abbrev main_v568 : Ref sig .tc := ⟨.hbm, 1525, rfl⟩
abbrev main_v569 : Ref sig .tc := ⟨.hbm, 1526, rfl⟩
abbrev main_v570 : Ref sig .tc := ⟨.hbm, 1527, rfl⟩
abbrev main_v571 : Ref sig .tc := ⟨.hbm, 1528, rfl⟩
abbrev main_v572 : Ref sig .tc := ⟨.hbm, 1529, rfl⟩
abbrev main_v573 : Ref sig .tc := ⟨.hbm, 1530, rfl⟩
abbrev main_v574 : Ref sig .tc := ⟨.hbm, 1531, rfl⟩
abbrev main_v575 : Ref sig .tc := ⟨.hbm, 1532, rfl⟩
abbrev main_v576 : Ref sig .tc := ⟨.hbm, 1533, rfl⟩
abbrev main_v577 : Ref sig .tc := ⟨.hbm, 1534, rfl⟩
abbrev main_cst_119 : Ref sig .tc := ⟨.hbm, 1535, rfl⟩
abbrev main_v578 : Ref sig .tc := ⟨.hbm, 1536, rfl⟩
abbrev main_v579 : Ref sig .tc := ⟨.hbm, 1537, rfl⟩
abbrev main_v580 : Ref sig .tc := ⟨.hbm, 1538, rfl⟩
abbrev main_v581 : Ref sig .tc := ⟨.hbm, 1539, rfl⟩
abbrev main_v582 : Ref sig .tc := ⟨.hbm, 1540, rfl⟩
abbrev main_cst_120 : Ref sig .tc := ⟨.hbm, 1541, rfl⟩
abbrev main_v583 : Ref sig .tc := ⟨.hbm, 1542, rfl⟩
abbrev main_v584 : Ref sig .tc := ⟨.hbm, 1543, rfl⟩
abbrev main_v585 : Ref sig .tc := ⟨.hbm, 1544, rfl⟩
abbrev main_v586 : Ref sig .tc := ⟨.hbm, 1545, rfl⟩
abbrev main_v587 : Ref sig .tc := ⟨.hbm, 1546, rfl⟩
abbrev main_v588 : Ref sig .tc := ⟨.hbm, 1547, rfl⟩
abbrev main_v589 : Ref sig .tc := ⟨.hbm, 1548, rfl⟩
abbrev main_v590 : Ref sig .tc := ⟨.hbm, 1549, rfl⟩
abbrev main_cst_121 : Ref sig .tc := ⟨.hbm, 1550, rfl⟩
abbrev main_call74_v0 : Ref sig .tc := ⟨.hbm, 1551, rfl⟩
abbrev main_call74_v1 : Ref sig .tc := ⟨.hbm, 1552, rfl⟩
abbrev main_v591 : Ref sig .tc := ⟨.hbm, 1553, rfl⟩
abbrev main_v592 : Ref sig .tc := ⟨.hbm, 1554, rfl⟩
abbrev main_v593 : Ref sig .tc := ⟨.hbm, 1555, rfl⟩
abbrev main_v594 : Ref sig .tc := ⟨.hbm, 1556, rfl⟩
abbrev main_v595 : Ref sig .tc := ⟨.hbm, 1557, rfl⟩
abbrev main_v596 : Ref sig .tc := ⟨.hbm, 1558, rfl⟩
abbrev main_v597 : Ref sig .tc := ⟨.hbm, 1559, rfl⟩
abbrev main_v598 : Ref sig .tc := ⟨.hbm, 1560, rfl⟩
abbrev main_v599 : Ref sig .tc := ⟨.hbm, 1561, rfl⟩
abbrev main_v600 : Ref sig .tc := ⟨.hbm, 1562, rfl⟩
abbrev main_cst_122 : Ref sig .tc := ⟨.hbm, 1563, rfl⟩
abbrev main_v601 : Ref sig .tc := ⟨.hbm, 1564, rfl⟩
abbrev main_v602 : Ref sig .tc := ⟨.hbm, 1565, rfl⟩
abbrev main_v603 : Ref sig .tc := ⟨.hbm, 1566, rfl⟩
abbrev main_v604 : Ref sig .tc := ⟨.hbm, 1567, rfl⟩
abbrev main_v605 : Ref sig .tc := ⟨.hbm, 1568, rfl⟩
abbrev main_cst_123 : Ref sig .tc := ⟨.hbm, 1569, rfl⟩
abbrev main_v606 : Ref sig .tc := ⟨.hbm, 1570, rfl⟩
abbrev main_v607 : Ref sig .tc := ⟨.hbm, 1571, rfl⟩
abbrev main_v608 : Ref sig .tc := ⟨.hbm, 1572, rfl⟩
abbrev main_v609 : Ref sig .tc := ⟨.hbm, 1573, rfl⟩
abbrev main_v610 : Ref sig .tc := ⟨.hbm, 1574, rfl⟩
abbrev main_v611 : Ref sig .tc := ⟨.hbm, 1575, rfl⟩
abbrev main_v612 : Ref sig .tc := ⟨.hbm, 1576, rfl⟩
abbrev main_v613 : Ref sig .tc := ⟨.hbm, 1577, rfl⟩
abbrev main_cst_124 : Ref sig .tc := ⟨.hbm, 1578, rfl⟩
abbrev main_call75_v0 : Ref sig .tc := ⟨.hbm, 1579, rfl⟩
abbrev main_call75_v1 : Ref sig .tc := ⟨.hbm, 1580, rfl⟩
abbrev main_v614 : Ref sig .tc := ⟨.hbm, 1581, rfl⟩
abbrev main_v615 : Ref sig .tc := ⟨.hbm, 1582, rfl⟩
abbrev main_v616 : Ref sig .tc := ⟨.hbm, 1583, rfl⟩
abbrev main_v617 : Ref sig .tc := ⟨.hbm, 1584, rfl⟩
abbrev main_v618 : Ref sig .tc := ⟨.hbm, 1585, rfl⟩
abbrev main_v619 : Ref sig .tc := ⟨.hbm, 1586, rfl⟩
abbrev main_v620 : Ref sig .tc := ⟨.hbm, 1587, rfl⟩
abbrev main_v621 : Ref sig .tc := ⟨.hbm, 1588, rfl⟩
abbrev main_v622 : Ref sig .tc := ⟨.hbm, 1589, rfl⟩
abbrev main_v623 : Ref sig .tc := ⟨.hbm, 1590, rfl⟩
abbrev main_cst_125 : Ref sig .tc := ⟨.hbm, 1591, rfl⟩
abbrev main_v624 : Ref sig .tc := ⟨.hbm, 1592, rfl⟩
abbrev main_v625 : Ref sig .tc := ⟨.hbm, 1593, rfl⟩
abbrev main_v626 : Ref sig .tc := ⟨.hbm, 1594, rfl⟩
abbrev main_v627 : Ref sig .tc := ⟨.hbm, 1595, rfl⟩
abbrev main_v628 : Ref sig .tc := ⟨.hbm, 1596, rfl⟩
abbrev main_cst_126 : Ref sig .tc := ⟨.hbm, 1597, rfl⟩
abbrev main_v629 : Ref sig .tc := ⟨.hbm, 1598, rfl⟩
abbrev main_v630 : Ref sig .tc := ⟨.hbm, 1599, rfl⟩
abbrev main_v631 : Ref sig .tc := ⟨.hbm, 1600, rfl⟩
abbrev main_v632 : Ref sig .tc := ⟨.hbm, 1601, rfl⟩
abbrev main_v633 : Ref sig .tc := ⟨.hbm, 1602, rfl⟩
abbrev main_v634 : Ref sig .tc := ⟨.hbm, 1603, rfl⟩
abbrev main_v635 : Ref sig .tc := ⟨.hbm, 1604, rfl⟩
abbrev main_v636 : Ref sig .tc := ⟨.hbm, 1605, rfl⟩
abbrev main_cst_127 : Ref sig .tc := ⟨.hbm, 1606, rfl⟩
abbrev main_call76_v0 : Ref sig .tc := ⟨.hbm, 1607, rfl⟩
abbrev main_call76_v1 : Ref sig .tc := ⟨.hbm, 1608, rfl⟩
abbrev main_v637 : Ref sig .tc := ⟨.hbm, 1609, rfl⟩
abbrev main_v638 : Ref sig .tc := ⟨.hbm, 1610, rfl⟩
abbrev main_v639 : Ref sig .tc := ⟨.hbm, 1611, rfl⟩
abbrev main_v640 : Ref sig .tc := ⟨.hbm, 1612, rfl⟩
abbrev main_v641 : Ref sig .tc := ⟨.hbm, 1613, rfl⟩
abbrev main_v642 : Ref sig .tc := ⟨.hbm, 1614, rfl⟩
abbrev main_v643 : Ref sig .tc := ⟨.hbm, 1615, rfl⟩
abbrev main_v644 : Ref sig .tc := ⟨.hbm, 1616, rfl⟩
abbrev main_v645 : Ref sig .tc := ⟨.hbm, 1617, rfl⟩
abbrev main_v646 : Ref sig .tc := ⟨.hbm, 1618, rfl⟩
abbrev main_cst_128 : Ref sig .tc := ⟨.hbm, 1619, rfl⟩
abbrev main_v647 : Ref sig .tc := ⟨.hbm, 1620, rfl⟩
abbrev main_v648 : Ref sig .tc := ⟨.hbm, 1621, rfl⟩
abbrev main_v649 : Ref sig .tc := ⟨.hbm, 1622, rfl⟩
abbrev main_v650 : Ref sig .tc := ⟨.hbm, 1623, rfl⟩
abbrev main_v651 : Ref sig .tc := ⟨.hbm, 1624, rfl⟩
abbrev main_cst_129 : Ref sig .tc := ⟨.hbm, 1625, rfl⟩
abbrev main_v652 : Ref sig .tc := ⟨.hbm, 1626, rfl⟩
abbrev main_v653 : Ref sig .tc := ⟨.hbm, 1627, rfl⟩
abbrev main_v654 : Ref sig .tc := ⟨.hbm, 1628, rfl⟩
abbrev main_v655 : Ref sig .tc := ⟨.hbm, 1629, rfl⟩
abbrev main_v656 : Ref sig .tc := ⟨.hbm, 1630, rfl⟩
abbrev main_v657 : Ref sig .tc := ⟨.hbm, 1631, rfl⟩
abbrev main_v658 : Ref sig .tc := ⟨.hbm, 1632, rfl⟩
abbrev main_v659 : Ref sig .tc := ⟨.hbm, 1633, rfl⟩
abbrev main_cst_130 : Ref sig .tc := ⟨.hbm, 1634, rfl⟩
abbrev main_call77_v0 : Ref sig .tc := ⟨.hbm, 1635, rfl⟩
abbrev main_call77_v1 : Ref sig .tc := ⟨.hbm, 1636, rfl⟩
abbrev main_v660 : Ref sig .tc := ⟨.hbm, 1637, rfl⟩
abbrev main_v661 : Ref sig .tc := ⟨.hbm, 1638, rfl⟩
abbrev main_v662 : Ref sig .tc := ⟨.hbm, 1639, rfl⟩
abbrev main_v663 : Ref sig .tc := ⟨.hbm, 1640, rfl⟩
abbrev main_v664 : Ref sig .tc := ⟨.hbm, 1641, rfl⟩
abbrev main_v665 : Ref sig .tc := ⟨.hbm, 1642, rfl⟩
abbrev main_v666 : Ref sig .tc := ⟨.hbm, 1643, rfl⟩
abbrev main_v667 : Ref sig .tc := ⟨.hbm, 1644, rfl⟩
abbrev main_v668 : Ref sig .tc := ⟨.hbm, 1645, rfl⟩
abbrev main_v669 : Ref sig .tc := ⟨.hbm, 1646, rfl⟩
abbrev main_cst_131 : Ref sig .tc := ⟨.hbm, 1647, rfl⟩
abbrev main_v670 : Ref sig .tc := ⟨.hbm, 1648, rfl⟩
abbrev main_v671 : Ref sig .tc := ⟨.hbm, 1649, rfl⟩
abbrev main_v672 : Ref sig .tc := ⟨.hbm, 1650, rfl⟩
abbrev main_v673 : Ref sig .tc := ⟨.hbm, 1651, rfl⟩
abbrev main_v674 : Ref sig .tc := ⟨.hbm, 1652, rfl⟩
abbrev main_cst_132 : Ref sig .tc := ⟨.hbm, 1653, rfl⟩
abbrev main_v675 : Ref sig .tc := ⟨.hbm, 1654, rfl⟩
abbrev main_v676 : Ref sig .tc := ⟨.hbm, 1655, rfl⟩
abbrev main_v677 : Ref sig .tc := ⟨.hbm, 1656, rfl⟩
abbrev main_v678 : Ref sig .tc := ⟨.hbm, 1657, rfl⟩
abbrev main_v679 : Ref sig .tc := ⟨.hbm, 1658, rfl⟩
abbrev main_v680 : Ref sig .tc := ⟨.hbm, 1659, rfl⟩
abbrev main_v681 : Ref sig .tc := ⟨.hbm, 1660, rfl⟩
abbrev main_v682 : Ref sig .tc := ⟨.hbm, 1661, rfl⟩
abbrev main_cst_133 : Ref sig .tc := ⟨.hbm, 1662, rfl⟩
abbrev main_call78_v0 : Ref sig .tc := ⟨.hbm, 1663, rfl⟩
abbrev main_call78_v1 : Ref sig .tc := ⟨.hbm, 1664, rfl⟩
abbrev main_v683 : Ref sig .tc := ⟨.hbm, 1665, rfl⟩
abbrev main_v684 : Ref sig .tc := ⟨.hbm, 1666, rfl⟩
abbrev main_v685 : Ref sig .tc := ⟨.hbm, 1667, rfl⟩
abbrev main_v686 : Ref sig .tc := ⟨.hbm, 1668, rfl⟩
abbrev main_v687 : Ref sig .tc := ⟨.hbm, 1669, rfl⟩
abbrev main_v688 : Ref sig .tc := ⟨.hbm, 1670, rfl⟩
abbrev main_v689 : Ref sig .tc := ⟨.hbm, 1671, rfl⟩
abbrev main_v690 : Ref sig .tc := ⟨.hbm, 1672, rfl⟩
abbrev main_v691 : Ref sig .tc := ⟨.hbm, 1673, rfl⟩
abbrev main_v692 : Ref sig .tc := ⟨.hbm, 1674, rfl⟩
abbrev main_cst_134 : Ref sig .tc := ⟨.hbm, 1675, rfl⟩
abbrev main_v693 : Ref sig .tc := ⟨.hbm, 1676, rfl⟩
abbrev main_v694 : Ref sig .tc := ⟨.hbm, 1677, rfl⟩
abbrev main_v695 : Ref sig .tc := ⟨.hbm, 1678, rfl⟩
abbrev main_v696 : Ref sig .tc := ⟨.hbm, 1679, rfl⟩
abbrev main_v697 : Ref sig .tc := ⟨.hbm, 1680, rfl⟩
abbrev main_cst_135 : Ref sig .tc := ⟨.hbm, 1681, rfl⟩
abbrev main_v698 : Ref sig .tc := ⟨.hbm, 1682, rfl⟩
abbrev main_v699 : Ref sig .tc := ⟨.hbm, 1683, rfl⟩
abbrev main_v700 : Ref sig .tc := ⟨.hbm, 1684, rfl⟩
abbrev main_v701 : Ref sig .tc := ⟨.hbm, 1685, rfl⟩
abbrev main_v702 : Ref sig .tc := ⟨.hbm, 1686, rfl⟩
abbrev main_v703 : Ref sig .tc := ⟨.hbm, 1687, rfl⟩
abbrev main_v704 : Ref sig .tc := ⟨.hbm, 1688, rfl⟩
abbrev main_v705 : Ref sig .tc := ⟨.hbm, 1689, rfl⟩
abbrev main_cst_136 : Ref sig .tc := ⟨.hbm, 1690, rfl⟩
abbrev main_call79_v0 : Ref sig .tc := ⟨.hbm, 1691, rfl⟩
abbrev main_call79_v1 : Ref sig .tc := ⟨.hbm, 1692, rfl⟩
abbrev main_v706 : Ref sig .tc := ⟨.hbm, 1693, rfl⟩
abbrev main_v707 : Ref sig .tc := ⟨.hbm, 1694, rfl⟩
abbrev main_v708 : Ref sig .tc := ⟨.hbm, 1695, rfl⟩
abbrev main_v709 : Ref sig .tc := ⟨.hbm, 1696, rfl⟩
abbrev main_v710 : Ref sig .tc := ⟨.hbm, 1697, rfl⟩
abbrev main_v711 : Ref sig .tc := ⟨.hbm, 1698, rfl⟩
abbrev main_v712 : Ref sig .tc := ⟨.hbm, 1699, rfl⟩
abbrev main_v713 : Ref sig .tc := ⟨.hbm, 1700, rfl⟩
abbrev main_v714 : Ref sig .tc := ⟨.hbm, 1701, rfl⟩
abbrev main_v715 : Ref sig .tc := ⟨.hbm, 1702, rfl⟩
abbrev main_cst_137 : Ref sig .tc := ⟨.hbm, 1703, rfl⟩
abbrev main_v716 : Ref sig .tc := ⟨.hbm, 1704, rfl⟩
abbrev main_v717 : Ref sig .tc := ⟨.hbm, 1705, rfl⟩
abbrev main_v718 : Ref sig .tc := ⟨.hbm, 1706, rfl⟩
abbrev main_v719 : Ref sig .tc := ⟨.hbm, 1707, rfl⟩
abbrev main_v720 : Ref sig .tc := ⟨.hbm, 1708, rfl⟩
abbrev main_cst_138 : Ref sig .tc := ⟨.hbm, 1709, rfl⟩
abbrev main_v721 : Ref sig .tc := ⟨.hbm, 1710, rfl⟩
abbrev main_v722 : Ref sig .tc := ⟨.hbm, 1711, rfl⟩
abbrev main_v723 : Ref sig .tc := ⟨.hbm, 1712, rfl⟩
abbrev main_v724 : Ref sig .tc := ⟨.hbm, 1713, rfl⟩
abbrev main_v725 : Ref sig .tc := ⟨.hbm, 1714, rfl⟩
abbrev main_v726 : Ref sig .tc := ⟨.hbm, 1715, rfl⟩
abbrev main_v727 : Ref sig .tc := ⟨.hbm, 1716, rfl⟩
abbrev main_v728 : Ref sig .tc := ⟨.hbm, 1717, rfl⟩
abbrev main_cst_139 : Ref sig .tc := ⟨.hbm, 1718, rfl⟩
abbrev main_call80_v0 : Ref sig .tc := ⟨.hbm, 1719, rfl⟩
abbrev main_call80_v1 : Ref sig .tc := ⟨.hbm, 1720, rfl⟩
abbrev main_v729 : Ref sig .tc := ⟨.hbm, 1721, rfl⟩
abbrev main_v730 : Ref sig .tc := ⟨.hbm, 1722, rfl⟩
abbrev main_v731 : Ref sig .tc := ⟨.hbm, 1723, rfl⟩
abbrev main_v732 : Ref sig .tc := ⟨.hbm, 1724, rfl⟩
abbrev main_v733 : Ref sig .tc := ⟨.hbm, 1725, rfl⟩
abbrev main_v734 : Ref sig .tc := ⟨.hbm, 1726, rfl⟩
abbrev main_v735 : Ref sig .tc := ⟨.hbm, 1727, rfl⟩
abbrev main_v736 : Ref sig .tc := ⟨.hbm, 1728, rfl⟩
abbrev main_v737 : Ref sig .tc := ⟨.hbm, 1729, rfl⟩
abbrev main_v738 : Ref sig .tc := ⟨.hbm, 1730, rfl⟩
abbrev main_cst_140 : Ref sig .tc := ⟨.hbm, 1731, rfl⟩
abbrev main_v739 : Ref sig .tc := ⟨.hbm, 1732, rfl⟩
abbrev main_v740 : Ref sig .tc := ⟨.hbm, 1733, rfl⟩
abbrev main_v741 : Ref sig .tc := ⟨.hbm, 1734, rfl⟩
abbrev main_v742 : Ref sig .tc := ⟨.hbm, 1735, rfl⟩
abbrev main_v743 : Ref sig .tc := ⟨.hbm, 1736, rfl⟩
abbrev main_cst_141 : Ref sig .tc := ⟨.hbm, 1737, rfl⟩
abbrev main_v744 : Ref sig .tc := ⟨.hbm, 1738, rfl⟩
abbrev main_v745 : Ref sig .tc := ⟨.hbm, 1739, rfl⟩
abbrev main_v746 : Ref sig .tc := ⟨.hbm, 1740, rfl⟩
abbrev main_v747 : Ref sig .tc := ⟨.hbm, 1741, rfl⟩
abbrev main_v748 : Ref sig .tc := ⟨.hbm, 1742, rfl⟩
abbrev main_v749 : Ref sig .tc := ⟨.hbm, 1743, rfl⟩
abbrev main_v750 : Ref sig .tc := ⟨.hbm, 1744, rfl⟩
abbrev main_v751 : Ref sig .tc := ⟨.hbm, 1745, rfl⟩
abbrev main_cst_142 : Ref sig .tc := ⟨.hbm, 1746, rfl⟩
abbrev main_call81_v0 : Ref sig .tc := ⟨.hbm, 1747, rfl⟩
abbrev main_call81_v1 : Ref sig .tc := ⟨.hbm, 1748, rfl⟩
abbrev main_v752 : Ref sig .tc := ⟨.hbm, 1749, rfl⟩
abbrev main_v753 : Ref sig .tc := ⟨.hbm, 1750, rfl⟩
abbrev main_v754 : Ref sig .tc := ⟨.hbm, 1751, rfl⟩
abbrev main_v755 : Ref sig .tc := ⟨.hbm, 1752, rfl⟩
abbrev main_v756 : Ref sig .tc := ⟨.hbm, 1753, rfl⟩
abbrev main_v757 : Ref sig .tc := ⟨.hbm, 1754, rfl⟩
abbrev main_v758 : Ref sig .tc := ⟨.hbm, 1755, rfl⟩
abbrev main_v759 : Ref sig .tc := ⟨.hbm, 1756, rfl⟩
abbrev main_v760 : Ref sig .tc := ⟨.hbm, 1757, rfl⟩
abbrev main_v761 : Ref sig .tc := ⟨.hbm, 1758, rfl⟩
abbrev main_cst_143 : Ref sig .tc := ⟨.hbm, 1759, rfl⟩
abbrev main_v762 : Ref sig .tc := ⟨.hbm, 1760, rfl⟩
abbrev main_v763 : Ref sig .tc := ⟨.hbm, 1761, rfl⟩
abbrev main_v764 : Ref sig .tc := ⟨.hbm, 1762, rfl⟩
abbrev main_v765 : Ref sig .tc := ⟨.hbm, 1763, rfl⟩
abbrev main_v766 : Ref sig .tc := ⟨.hbm, 1764, rfl⟩
abbrev main_cst_144 : Ref sig .tc := ⟨.hbm, 1765, rfl⟩
abbrev main_v767 : Ref sig .tc := ⟨.hbm, 1766, rfl⟩
abbrev main_v768 : Ref sig .tc := ⟨.hbm, 1767, rfl⟩
abbrev main_v769 : Ref sig .tc := ⟨.hbm, 1768, rfl⟩
abbrev main_v770 : Ref sig .tc := ⟨.hbm, 1769, rfl⟩
abbrev main_v771 : Ref sig .tc := ⟨.hbm, 1770, rfl⟩
abbrev main_v772 : Ref sig .tc := ⟨.hbm, 1771, rfl⟩
abbrev main_v773 : Ref sig .tc := ⟨.hbm, 1772, rfl⟩
abbrev main_v774 : Ref sig .tc := ⟨.hbm, 1773, rfl⟩
abbrev main_cst_145 : Ref sig .tc := ⟨.hbm, 1774, rfl⟩
abbrev main_call82_v0 : Ref sig .tc := ⟨.hbm, 1775, rfl⟩
abbrev main_call82_v1 : Ref sig .tc := ⟨.hbm, 1776, rfl⟩
abbrev main_v775 : Ref sig .tc := ⟨.hbm, 1777, rfl⟩
abbrev main_v776 : Ref sig .tc := ⟨.hbm, 1778, rfl⟩
abbrev main_v777 : Ref sig .tc := ⟨.hbm, 1779, rfl⟩
abbrev main_v778 : Ref sig .tc := ⟨.hbm, 1780, rfl⟩
abbrev main_v779 : Ref sig .tc := ⟨.hbm, 1781, rfl⟩
abbrev main_v780 : Ref sig .tc := ⟨.hbm, 1782, rfl⟩
abbrev main_v781 : Ref sig .tc := ⟨.hbm, 1783, rfl⟩
abbrev main_v782 : Ref sig .tc := ⟨.hbm, 1784, rfl⟩
abbrev main_v783 : Ref sig .tc := ⟨.hbm, 1785, rfl⟩
abbrev main_v784 : Ref sig .tc := ⟨.hbm, 1786, rfl⟩
abbrev main_cst_146 : Ref sig .tc := ⟨.hbm, 1787, rfl⟩
abbrev main_v785 : Ref sig .tc := ⟨.hbm, 1788, rfl⟩
abbrev main_v786 : Ref sig .tc := ⟨.hbm, 1789, rfl⟩
abbrev main_v787 : Ref sig .tc := ⟨.hbm, 1790, rfl⟩
abbrev main_v788 : Ref sig .tc := ⟨.hbm, 1791, rfl⟩
abbrev main_v789 : Ref sig .tc := ⟨.hbm, 1792, rfl⟩
abbrev main_cst_147 : Ref sig .tc := ⟨.hbm, 1793, rfl⟩
abbrev main_v790 : Ref sig .tc := ⟨.hbm, 1794, rfl⟩
abbrev main_v791 : Ref sig .tc := ⟨.hbm, 1795, rfl⟩
abbrev main_v792 : Ref sig .tc := ⟨.hbm, 1796, rfl⟩
abbrev main_v793 : Ref sig .tc := ⟨.hbm, 1797, rfl⟩
abbrev main_v794 : Ref sig .tc := ⟨.hbm, 1798, rfl⟩
abbrev main_v795 : Ref sig .tc := ⟨.hbm, 1799, rfl⟩
abbrev main_v796 : Ref sig .tc := ⟨.hbm, 1800, rfl⟩
abbrev main_v797 : Ref sig .tc := ⟨.hbm, 1801, rfl⟩
abbrev main_cst_148 : Ref sig .tc := ⟨.hbm, 1802, rfl⟩
abbrev main_call83_v0 : Ref sig .tc := ⟨.hbm, 1803, rfl⟩
abbrev main_call83_v1 : Ref sig .tc := ⟨.hbm, 1804, rfl⟩
abbrev main_v798 : Ref sig .tc := ⟨.hbm, 1805, rfl⟩
abbrev main_v799 : Ref sig .tc := ⟨.hbm, 1806, rfl⟩
abbrev main_v800 : Ref sig .tc := ⟨.hbm, 1807, rfl⟩
abbrev main_v801 : Ref sig .tc := ⟨.hbm, 1808, rfl⟩
abbrev main_v802 : Ref sig .tc := ⟨.hbm, 1809, rfl⟩
abbrev main_v803 : Ref sig .tc := ⟨.hbm, 1810, rfl⟩
abbrev main_v804 : Ref sig .tc := ⟨.hbm, 1811, rfl⟩
abbrev main_v805 : Ref sig .tc := ⟨.hbm, 1812, rfl⟩
abbrev main_v806 : Ref sig .tc := ⟨.hbm, 1813, rfl⟩
abbrev main_v807 : Ref sig .tc := ⟨.hbm, 1814, rfl⟩
abbrev main_cst_149 : Ref sig .tc := ⟨.hbm, 1815, rfl⟩
abbrev main_v808 : Ref sig .tc := ⟨.hbm, 1816, rfl⟩
abbrev main_v809 : Ref sig .tc := ⟨.hbm, 1817, rfl⟩
abbrev main_v810 : Ref sig .tc := ⟨.hbm, 1818, rfl⟩
abbrev main_v811 : Ref sig .tc := ⟨.hbm, 1819, rfl⟩
abbrev main_v812 : Ref sig .tc := ⟨.hbm, 1820, rfl⟩
abbrev main_cst_150 : Ref sig .tc := ⟨.hbm, 1821, rfl⟩
abbrev main_v813 : Ref sig .tc := ⟨.hbm, 1822, rfl⟩
abbrev main_v814 : Ref sig .tc := ⟨.hbm, 1823, rfl⟩
abbrev main_v815 : Ref sig .tc := ⟨.hbm, 1824, rfl⟩
abbrev main_v816 : Ref sig .tc := ⟨.hbm, 1825, rfl⟩
abbrev main_v817 : Ref sig .tc := ⟨.hbm, 1826, rfl⟩
abbrev main_v818 : Ref sig .tc := ⟨.hbm, 1827, rfl⟩
abbrev main_v819 : Ref sig .tc := ⟨.hbm, 1828, rfl⟩
abbrev main_v820 : Ref sig .tc := ⟨.hbm, 1829, rfl⟩
abbrev main_cst_151 : Ref sig .tc := ⟨.hbm, 1830, rfl⟩
abbrev main_call84_v0 : Ref sig .tc := ⟨.hbm, 1831, rfl⟩
abbrev main_call84_v1 : Ref sig .tc := ⟨.hbm, 1832, rfl⟩
abbrev main_v821 : Ref sig .tc := ⟨.hbm, 1833, rfl⟩
abbrev main_v822 : Ref sig .tc := ⟨.hbm, 1834, rfl⟩
abbrev main_v823 : Ref sig .tc := ⟨.hbm, 1835, rfl⟩
abbrev main_v824 : Ref sig .tc := ⟨.hbm, 1836, rfl⟩
abbrev main_v825 : Ref sig .tc := ⟨.hbm, 1837, rfl⟩
abbrev main_v826 : Ref sig .tc := ⟨.hbm, 1838, rfl⟩
abbrev main_v827 : Ref sig .tc := ⟨.hbm, 1839, rfl⟩
abbrev main_v828 : Ref sig .tc := ⟨.hbm, 1840, rfl⟩
abbrev main_v829 : Ref sig .tc := ⟨.hbm, 1841, rfl⟩
abbrev main_v830 : Ref sig .tc := ⟨.hbm, 1842, rfl⟩
abbrev main_cst_152 : Ref sig .tc := ⟨.hbm, 1843, rfl⟩
abbrev main_v831 : Ref sig .tc := ⟨.hbm, 1844, rfl⟩
abbrev main_v832 : Ref sig .tc := ⟨.hbm, 1845, rfl⟩
abbrev main_v833 : Ref sig .tc := ⟨.hbm, 1846, rfl⟩
abbrev main_v834 : Ref sig .tc := ⟨.hbm, 1847, rfl⟩
abbrev main_v835 : Ref sig .tc := ⟨.hbm, 1848, rfl⟩
abbrev main_cst_153 : Ref sig .tc := ⟨.hbm, 1849, rfl⟩
abbrev main_v836 : Ref sig .tc := ⟨.hbm, 1850, rfl⟩
abbrev main_v837 : Ref sig .tc := ⟨.hbm, 1851, rfl⟩
abbrev main_v838 : Ref sig .tc := ⟨.hbm, 1852, rfl⟩
abbrev main_v839 : Ref sig .tc := ⟨.hbm, 1853, rfl⟩
abbrev main_v840 : Ref sig .tc := ⟨.hbm, 1854, rfl⟩
abbrev main_v841 : Ref sig .tc := ⟨.hbm, 1855, rfl⟩
abbrev main_v842 : Ref sig .tc := ⟨.hbm, 1856, rfl⟩
abbrev main_v843 : Ref sig .tc := ⟨.hbm, 1857, rfl⟩
abbrev main_cst_154 : Ref sig .tc := ⟨.hbm, 1858, rfl⟩
abbrev main_call85_v0 : Ref sig .tc := ⟨.hbm, 1859, rfl⟩
abbrev main_call85_v1 : Ref sig .tc := ⟨.hbm, 1860, rfl⟩
abbrev main_v844 : Ref sig .tc := ⟨.hbm, 1861, rfl⟩
abbrev main_v845 : Ref sig .tc := ⟨.hbm, 1862, rfl⟩
abbrev main_v846 : Ref sig .tc := ⟨.hbm, 1863, rfl⟩
abbrev main_v847 : Ref sig .tc := ⟨.hbm, 1864, rfl⟩
abbrev main_v848 : Ref sig .tc := ⟨.hbm, 1865, rfl⟩
abbrev main_v849 : Ref sig .tc := ⟨.hbm, 1866, rfl⟩
abbrev main_v850 : Ref sig .tc := ⟨.hbm, 1867, rfl⟩
abbrev main_v851 : Ref sig .tc := ⟨.hbm, 1868, rfl⟩
abbrev main_v852 : Ref sig .tc := ⟨.hbm, 1869, rfl⟩
abbrev main_v853 : Ref sig .tc := ⟨.hbm, 1870, rfl⟩
abbrev main_cst_155 : Ref sig .tc := ⟨.hbm, 1871, rfl⟩
abbrev main_v854 : Ref sig .tc := ⟨.hbm, 1872, rfl⟩
abbrev main_v855 : Ref sig .tc := ⟨.hbm, 1873, rfl⟩
abbrev main_v856 : Ref sig .tc := ⟨.hbm, 1874, rfl⟩
abbrev main_v857 : Ref sig .tc := ⟨.hbm, 1875, rfl⟩
abbrev main_v858 : Ref sig .tc := ⟨.hbm, 1876, rfl⟩
abbrev main_cst_156 : Ref sig .tc := ⟨.hbm, 1877, rfl⟩
abbrev main_v859 : Ref sig .tc := ⟨.hbm, 1878, rfl⟩
abbrev main_v860 : Ref sig .tc := ⟨.hbm, 1879, rfl⟩
abbrev main_v861 : Ref sig .tc := ⟨.hbm, 1880, rfl⟩
abbrev main_v862 : Ref sig .tc := ⟨.hbm, 1881, rfl⟩
abbrev main_v863 : Ref sig .tc := ⟨.hbm, 1882, rfl⟩
abbrev main_v864 : Ref sig .tc := ⟨.hbm, 1883, rfl⟩
abbrev main_v865 : Ref sig .tc := ⟨.hbm, 1884, rfl⟩
abbrev main_v866 : Ref sig .tc := ⟨.hbm, 1885, rfl⟩
abbrev main_cst_157 : Ref sig .tc := ⟨.hbm, 1886, rfl⟩
abbrev main_call86_v0 : Ref sig .tc := ⟨.hbm, 1887, rfl⟩
abbrev main_call86_v1 : Ref sig .tc := ⟨.hbm, 1888, rfl⟩
abbrev main_v867 : Ref sig .tc := ⟨.hbm, 1889, rfl⟩
abbrev main_v868 : Ref sig .tc := ⟨.hbm, 1890, rfl⟩
abbrev main_v869 : Ref sig .tc := ⟨.hbm, 1891, rfl⟩
abbrev main_v870 : Ref sig .tc := ⟨.hbm, 1892, rfl⟩
abbrev main_v871 : Ref sig .tc := ⟨.hbm, 1893, rfl⟩
abbrev main_v872 : Ref sig .tc := ⟨.hbm, 1894, rfl⟩
abbrev main_v873 : Ref sig .tc := ⟨.hbm, 1895, rfl⟩
abbrev main_v874 : Ref sig .tc := ⟨.hbm, 1896, rfl⟩
abbrev main_v875 : Ref sig .tc := ⟨.hbm, 1897, rfl⟩
abbrev main_v876 : Ref sig .tc := ⟨.hbm, 1898, rfl⟩
abbrev main_cst_158 : Ref sig .tc := ⟨.hbm, 1899, rfl⟩
abbrev main_v877 : Ref sig .tc := ⟨.hbm, 1900, rfl⟩
abbrev main_v878 : Ref sig .tc := ⟨.hbm, 1901, rfl⟩
abbrev main_v879 : Ref sig .tc := ⟨.hbm, 1902, rfl⟩
abbrev main_v880 : Ref sig .tc := ⟨.hbm, 1903, rfl⟩
abbrev main_v881 : Ref sig .tc := ⟨.hbm, 1904, rfl⟩
abbrev main_cst_159 : Ref sig .tc := ⟨.hbm, 1905, rfl⟩
abbrev main_v882 : Ref sig .tc := ⟨.hbm, 1906, rfl⟩
abbrev main_v883 : Ref sig .tc := ⟨.hbm, 1907, rfl⟩
abbrev main_v884 : Ref sig .tc := ⟨.hbm, 1908, rfl⟩
abbrev main_v885 : Ref sig .tc := ⟨.hbm, 1909, rfl⟩
abbrev main_v886 : Ref sig .tc := ⟨.hbm, 1910, rfl⟩
abbrev main_v887 : Ref sig .tc := ⟨.hbm, 1911, rfl⟩
abbrev main_v888 : Ref sig .tc := ⟨.hbm, 1912, rfl⟩
abbrev main_v889 : Ref sig .tc := ⟨.hbm, 1913, rfl⟩
abbrev main_cst_160 : Ref sig .tc := ⟨.hbm, 1914, rfl⟩
abbrev main_call87_v0 : Ref sig .tc := ⟨.hbm, 1915, rfl⟩
abbrev main_call87_v1 : Ref sig .tc := ⟨.hbm, 1916, rfl⟩
abbrev main_v890 : Ref sig .tc := ⟨.hbm, 1917, rfl⟩
abbrev main_v891 : Ref sig .tc := ⟨.hbm, 1918, rfl⟩
abbrev main_v892 : Ref sig .tc := ⟨.hbm, 1919, rfl⟩
abbrev main_v893 : Ref sig .tc := ⟨.hbm, 1920, rfl⟩
abbrev main_v894 : Ref sig .tc := ⟨.hbm, 1921, rfl⟩
abbrev main_v895 : Ref sig .tc := ⟨.hbm, 1922, rfl⟩
abbrev main_v896 : Ref sig .tc := ⟨.hbm, 1923, rfl⟩
abbrev main_v897 : Ref sig .tc := ⟨.hbm, 1924, rfl⟩
abbrev main_v898 : Ref sig .tc := ⟨.hbm, 1925, rfl⟩
abbrev main_v899 : Ref sig .tc := ⟨.hbm, 1926, rfl⟩
abbrev main_cst_161 : Ref sig .tc := ⟨.hbm, 1927, rfl⟩
abbrev main_v900 : Ref sig .tc := ⟨.hbm, 1928, rfl⟩
abbrev main_v901 : Ref sig .tc := ⟨.hbm, 1929, rfl⟩
abbrev main_v902 : Ref sig .tc := ⟨.hbm, 1930, rfl⟩
abbrev main_v903 : Ref sig .tc := ⟨.hbm, 1931, rfl⟩
abbrev main_v904 : Ref sig .tc := ⟨.hbm, 1932, rfl⟩
abbrev main_cst_162 : Ref sig .tc := ⟨.hbm, 1933, rfl⟩
abbrev main_v905 : Ref sig .tc := ⟨.hbm, 1934, rfl⟩
abbrev main_v906 : Ref sig .tc := ⟨.hbm, 1935, rfl⟩
abbrev main_v907 : Ref sig .tc := ⟨.hbm, 1936, rfl⟩
abbrev main_v908 : Ref sig .tc := ⟨.hbm, 1937, rfl⟩
abbrev main_v909 : Ref sig .tc := ⟨.hbm, 1938, rfl⟩
abbrev main_v910 : Ref sig .tc := ⟨.hbm, 1939, rfl⟩
abbrev main_v911 : Ref sig .tc := ⟨.hbm, 1940, rfl⟩
abbrev main_v912 : Ref sig .tc := ⟨.hbm, 1941, rfl⟩
abbrev main_cst_163 : Ref sig .tc := ⟨.hbm, 1942, rfl⟩
abbrev main_call88_v0 : Ref sig .tc := ⟨.hbm, 1943, rfl⟩
abbrev main_call88_v1 : Ref sig .tc := ⟨.hbm, 1944, rfl⟩
abbrev main_v913 : Ref sig .tc := ⟨.hbm, 1945, rfl⟩
abbrev main_v914 : Ref sig .tc := ⟨.hbm, 1946, rfl⟩
abbrev main_v915 : Ref sig .tc := ⟨.hbm, 1947, rfl⟩
abbrev main_v916 : Ref sig .tc := ⟨.hbm, 1948, rfl⟩
abbrev main_v917 : Ref sig .tc := ⟨.hbm, 1949, rfl⟩
abbrev main_v918 : Ref sig .tc := ⟨.hbm, 1950, rfl⟩
abbrev main_v919 : Ref sig .tc := ⟨.hbm, 1951, rfl⟩
abbrev main_v920 : Ref sig .tc := ⟨.hbm, 1952, rfl⟩
abbrev main_v921 : Ref sig .tc := ⟨.hbm, 1953, rfl⟩
abbrev main_v922 : Ref sig .tc := ⟨.hbm, 1954, rfl⟩
abbrev main_cst_164 : Ref sig .tc := ⟨.hbm, 1955, rfl⟩
abbrev main_v923 : Ref sig .tc := ⟨.hbm, 1956, rfl⟩
abbrev main_v924 : Ref sig .tc := ⟨.hbm, 1957, rfl⟩
abbrev main_v925 : Ref sig .tc := ⟨.hbm, 1958, rfl⟩
abbrev main_v926 : Ref sig .tc := ⟨.hbm, 1959, rfl⟩
abbrev main_v927 : Ref sig .tc := ⟨.hbm, 1960, rfl⟩
abbrev main_cst_165 : Ref sig .tc := ⟨.hbm, 1961, rfl⟩
abbrev main_v928 : Ref sig .tc := ⟨.hbm, 1962, rfl⟩
abbrev main_v929 : Ref sig .tc := ⟨.hbm, 1963, rfl⟩
abbrev main_v930 : Ref sig .tc := ⟨.hbm, 1964, rfl⟩
abbrev main_v931 : Ref sig .tc := ⟨.hbm, 1965, rfl⟩
abbrev main_v932 : Ref sig .tc := ⟨.hbm, 1966, rfl⟩
abbrev main_v933 : Ref sig .tc := ⟨.hbm, 1967, rfl⟩
abbrev main_v934 : Ref sig .tc := ⟨.hbm, 1968, rfl⟩
abbrev main_v935 : Ref sig .tc := ⟨.hbm, 1969, rfl⟩
abbrev main_cst_166 : Ref sig .tc := ⟨.hbm, 1970, rfl⟩
abbrev main_call89_v0 : Ref sig .tc := ⟨.hbm, 1971, rfl⟩
abbrev main_call89_v1 : Ref sig .tc := ⟨.hbm, 1972, rfl⟩
abbrev main_v936 : Ref sig .tc := ⟨.hbm, 1973, rfl⟩
abbrev main_v937 : Ref sig .tc := ⟨.hbm, 1974, rfl⟩
abbrev main_v938 : Ref sig .tc := ⟨.hbm, 1975, rfl⟩
abbrev main_v939 : Ref sig .tc := ⟨.hbm, 1976, rfl⟩
abbrev main_v940 : Ref sig .tc := ⟨.hbm, 1977, rfl⟩
abbrev main_v941 : Ref sig .tc := ⟨.hbm, 1978, rfl⟩
abbrev main_v942 : Ref sig .tc := ⟨.hbm, 1979, rfl⟩
abbrev main_v943 : Ref sig .tc := ⟨.hbm, 1980, rfl⟩
abbrev main_v944 : Ref sig .tc := ⟨.hbm, 1981, rfl⟩
abbrev main_v945 : Ref sig .tc := ⟨.hbm, 1982, rfl⟩
abbrev main_cst_167 : Ref sig .tc := ⟨.hbm, 1983, rfl⟩
abbrev main_v946 : Ref sig .tc := ⟨.hbm, 1984, rfl⟩
abbrev main_v947 : Ref sig .tc := ⟨.hbm, 1985, rfl⟩
abbrev main_v948 : Ref sig .tc := ⟨.hbm, 1986, rfl⟩
abbrev main_v949 : Ref sig .tc := ⟨.hbm, 1987, rfl⟩
abbrev main_v950 : Ref sig .tc := ⟨.hbm, 1988, rfl⟩
abbrev main_cst_168 : Ref sig .tc := ⟨.hbm, 1989, rfl⟩
abbrev main_v951 : Ref sig .tc := ⟨.hbm, 1990, rfl⟩
abbrev main_v952 : Ref sig .tc := ⟨.hbm, 1991, rfl⟩
abbrev main_v953 : Ref sig .tc := ⟨.hbm, 1992, rfl⟩
abbrev main_v954 : Ref sig .tc := ⟨.hbm, 1993, rfl⟩
abbrev main_v955 : Ref sig .tc := ⟨.hbm, 1994, rfl⟩
abbrev main_v956 : Ref sig .tc := ⟨.hbm, 1995, rfl⟩
abbrev main_v957 : Ref sig .tc := ⟨.hbm, 1996, rfl⟩
abbrev main_v958 : Ref sig .tc := ⟨.hbm, 1997, rfl⟩
abbrev main_cst_169 : Ref sig .tc := ⟨.hbm, 1998, rfl⟩
abbrev main_call90_v0 : Ref sig .tc := ⟨.hbm, 1999, rfl⟩
abbrev main_call90_v1 : Ref sig .tc := ⟨.hbm, 2000, rfl⟩
abbrev main_v959 : Ref sig .tc := ⟨.hbm, 2001, rfl⟩
abbrev main_v960 : Ref sig .tc := ⟨.hbm, 2002, rfl⟩
abbrev main_v961 : Ref sig .tc := ⟨.hbm, 2003, rfl⟩
abbrev main_v962 : Ref sig .tc := ⟨.hbm, 2004, rfl⟩
abbrev main_v963 : Ref sig .tc := ⟨.hbm, 2005, rfl⟩
abbrev main_v964 : Ref sig .tc := ⟨.hbm, 2006, rfl⟩
abbrev main_v965 : Ref sig .tc := ⟨.hbm, 2007, rfl⟩
abbrev main_v966 : Ref sig .tc := ⟨.hbm, 2008, rfl⟩
abbrev main_v967 : Ref sig .tc := ⟨.hbm, 2009, rfl⟩
abbrev main_v968 : Ref sig .tc := ⟨.hbm, 2010, rfl⟩
abbrev main_cst_170 : Ref sig .tc := ⟨.hbm, 2011, rfl⟩
abbrev main_v969 : Ref sig .tc := ⟨.hbm, 2012, rfl⟩
abbrev main_v970 : Ref sig .tc := ⟨.hbm, 2013, rfl⟩
abbrev main_v971 : Ref sig .tc := ⟨.hbm, 2014, rfl⟩
abbrev main_v972 : Ref sig .tc := ⟨.hbm, 2015, rfl⟩
abbrev main_v973 : Ref sig .tc := ⟨.hbm, 2016, rfl⟩
abbrev main_cst_171 : Ref sig .tc := ⟨.hbm, 2017, rfl⟩
abbrev main_v974 : Ref sig .tc := ⟨.hbm, 2018, rfl⟩
abbrev main_v975 : Ref sig .tc := ⟨.hbm, 2019, rfl⟩
abbrev main_v976 : Ref sig .tc := ⟨.hbm, 2020, rfl⟩
abbrev main_v977 : Ref sig .tc := ⟨.hbm, 2021, rfl⟩
abbrev main_v978 : Ref sig .tc := ⟨.hbm, 2022, rfl⟩
abbrev main_v979 : Ref sig .tc := ⟨.hbm, 2023, rfl⟩
abbrev main_v980 : Ref sig .tc := ⟨.hbm, 2024, rfl⟩
abbrev main_v981 : Ref sig .tc := ⟨.hbm, 2025, rfl⟩
abbrev main_cst_172 : Ref sig .tc := ⟨.hbm, 2026, rfl⟩
abbrev main_call91_v0 : Ref sig .tc := ⟨.hbm, 2027, rfl⟩
abbrev main_call91_v1 : Ref sig .tc := ⟨.hbm, 2028, rfl⟩
abbrev main_v982 : Ref sig .tc := ⟨.hbm, 2029, rfl⟩
abbrev main_v983 : Ref sig .tc := ⟨.hbm, 2030, rfl⟩
abbrev main_v984 : Ref sig .tc := ⟨.hbm, 2031, rfl⟩
abbrev main_v985 : Ref sig .tc := ⟨.hbm, 2032, rfl⟩
abbrev main_v986 : Ref sig .tc := ⟨.hbm, 2033, rfl⟩
abbrev main_v987 : Ref sig .tc := ⟨.hbm, 2034, rfl⟩
abbrev main_v988 : Ref sig .tc := ⟨.hbm, 2035, rfl⟩
abbrev main_v989 : Ref sig .tc := ⟨.hbm, 2036, rfl⟩
abbrev main_v990 : Ref sig .tc := ⟨.hbm, 2037, rfl⟩
abbrev main_v991 : Ref sig .tc := ⟨.hbm, 2038, rfl⟩
abbrev main_cst_173 : Ref sig .tc := ⟨.hbm, 2039, rfl⟩
abbrev main_v992 : Ref sig .tc := ⟨.hbm, 2040, rfl⟩
abbrev main_v993 : Ref sig .tc := ⟨.hbm, 2041, rfl⟩
abbrev main_v994 : Ref sig .tc := ⟨.hbm, 2042, rfl⟩
abbrev main_v995 : Ref sig .tc := ⟨.hbm, 2043, rfl⟩
abbrev main_v996 : Ref sig .tc := ⟨.hbm, 2044, rfl⟩
abbrev main_cst_174 : Ref sig .tc := ⟨.hbm, 2045, rfl⟩
abbrev main_v997 : Ref sig .tc := ⟨.hbm, 2046, rfl⟩
abbrev main_v998 : Ref sig .tc := ⟨.hbm, 2047, rfl⟩
abbrev main_v999 : Ref sig .tc := ⟨.hbm, 2048, rfl⟩
abbrev main_v1000 : Ref sig .tc := ⟨.hbm, 2049, rfl⟩
abbrev main_v1001 : Ref sig .tc := ⟨.hbm, 2050, rfl⟩
abbrev main_v1002 : Ref sig .tc := ⟨.hbm, 2051, rfl⟩
abbrev main_v1003 : Ref sig .tc := ⟨.hbm, 2052, rfl⟩
abbrev main_v1004 : Ref sig .tc := ⟨.hbm, 2053, rfl⟩
abbrev main_cst_175 : Ref sig .tc := ⟨.hbm, 2054, rfl⟩
abbrev main_call92_v0 : Ref sig .tc := ⟨.hbm, 2055, rfl⟩
abbrev main_call92_v1 : Ref sig .tc := ⟨.hbm, 2056, rfl⟩
abbrev main_v1005 : Ref sig .tc := ⟨.hbm, 2057, rfl⟩
abbrev main_v1006 : Ref sig .tc := ⟨.hbm, 2058, rfl⟩
abbrev main_v1007 : Ref sig .tc := ⟨.hbm, 2059, rfl⟩
abbrev main_v1008 : Ref sig .tc := ⟨.hbm, 2060, rfl⟩
abbrev main_v1009 : Ref sig .tc := ⟨.hbm, 2061, rfl⟩
abbrev main_v1010 : Ref sig .tc := ⟨.hbm, 2062, rfl⟩
abbrev main_v1011 : Ref sig .tc := ⟨.hbm, 2063, rfl⟩
abbrev main_v1012 : Ref sig .tc := ⟨.hbm, 2064, rfl⟩
abbrev main_v1013 : Ref sig .tc := ⟨.hbm, 2065, rfl⟩
abbrev main_v1014 : Ref sig .tc := ⟨.hbm, 2066, rfl⟩
abbrev main_cst_176 : Ref sig .tc := ⟨.hbm, 2067, rfl⟩
abbrev main_v1015 : Ref sig .tc := ⟨.hbm, 2068, rfl⟩
abbrev main_v1016 : Ref sig .tc := ⟨.hbm, 2069, rfl⟩
abbrev main_v1017 : Ref sig .tc := ⟨.hbm, 2070, rfl⟩
abbrev main_v1018 : Ref sig .tc := ⟨.hbm, 2071, rfl⟩
abbrev main_v1019 : Ref sig .tc := ⟨.hbm, 2072, rfl⟩
abbrev main_cst_177 : Ref sig .tc := ⟨.hbm, 2073, rfl⟩
abbrev main_v1020 : Ref sig .tc := ⟨.hbm, 2074, rfl⟩
abbrev main_v1021 : Ref sig .tc := ⟨.hbm, 2075, rfl⟩
abbrev main_v1022 : Ref sig .tc := ⟨.hbm, 2076, rfl⟩
abbrev main_v1023 : Ref sig .tc := ⟨.hbm, 2077, rfl⟩
abbrev main_v1024 : Ref sig .tc := ⟨.hbm, 2078, rfl⟩
abbrev main_v1025 : Ref sig .tc := ⟨.hbm, 2079, rfl⟩
abbrev main_v1026 : Ref sig .tc := ⟨.hbm, 2080, rfl⟩
abbrev main_v1027 : Ref sig .tc := ⟨.hbm, 2081, rfl⟩
abbrev main_cst_178 : Ref sig .tc := ⟨.hbm, 2082, rfl⟩
abbrev main_call93_v0 : Ref sig .tc := ⟨.hbm, 2083, rfl⟩
abbrev main_call93_v1 : Ref sig .tc := ⟨.hbm, 2084, rfl⟩
abbrev main_v1028 : Ref sig .tc := ⟨.hbm, 2085, rfl⟩
abbrev main_v1029 : Ref sig .tc := ⟨.hbm, 2086, rfl⟩
abbrev main_v1030 : Ref sig .tc := ⟨.hbm, 2087, rfl⟩
abbrev main_v1031 : Ref sig .tc := ⟨.hbm, 2088, rfl⟩
abbrev main_v1032 : Ref sig .tc := ⟨.hbm, 2089, rfl⟩
abbrev main_v1033 : Ref sig .tc := ⟨.hbm, 2090, rfl⟩
abbrev main_v1034 : Ref sig .tc := ⟨.hbm, 2091, rfl⟩
abbrev main_v1035 : Ref sig .tc := ⟨.hbm, 2092, rfl⟩
abbrev main_v1036 : Ref sig .tc := ⟨.hbm, 2093, rfl⟩
abbrev main_v1037 : Ref sig .tc := ⟨.hbm, 2094, rfl⟩
abbrev main_cst_179 : Ref sig .tc := ⟨.hbm, 2095, rfl⟩
abbrev main_v1038 : Ref sig .tc := ⟨.hbm, 2096, rfl⟩
abbrev main_v1039 : Ref sig .tc := ⟨.hbm, 2097, rfl⟩
abbrev main_v1040 : Ref sig .tc := ⟨.hbm, 2098, rfl⟩
abbrev main_v1041 : Ref sig .tc := ⟨.hbm, 2099, rfl⟩
abbrev main_v1042 : Ref sig .tc := ⟨.hbm, 2100, rfl⟩
abbrev main_cst_180 : Ref sig .tc := ⟨.hbm, 2101, rfl⟩
abbrev main_v1043 : Ref sig .tc := ⟨.hbm, 2102, rfl⟩
abbrev main_v1044 : Ref sig .tc := ⟨.hbm, 2103, rfl⟩
abbrev main_v1045 : Ref sig .tc := ⟨.hbm, 2104, rfl⟩
abbrev main_v1046 : Ref sig .tc := ⟨.hbm, 2105, rfl⟩
abbrev main_v1047 : Ref sig .tc := ⟨.hbm, 2106, rfl⟩
abbrev main_v1048 : Ref sig .tc := ⟨.hbm, 2107, rfl⟩
abbrev main_v1049 : Ref sig .tc := ⟨.hbm, 2108, rfl⟩
abbrev main_v1050 : Ref sig .tc := ⟨.hbm, 2109, rfl⟩
abbrev main_cst_181 : Ref sig .tc := ⟨.hbm, 2110, rfl⟩
abbrev main_call94_v0 : Ref sig .tc := ⟨.hbm, 2111, rfl⟩
abbrev main_call94_v1 : Ref sig .tc := ⟨.hbm, 2112, rfl⟩
abbrev main_v1051 : Ref sig .tc := ⟨.hbm, 2113, rfl⟩
abbrev main_v1052 : Ref sig .tc := ⟨.hbm, 2114, rfl⟩
abbrev main_v1053 : Ref sig .tc := ⟨.hbm, 2115, rfl⟩
abbrev main_v1054 : Ref sig .tc := ⟨.hbm, 2116, rfl⟩
abbrev main_v1055 : Ref sig .tc := ⟨.hbm, 2117, rfl⟩
abbrev main_v1056 : Ref sig .tc := ⟨.hbm, 2118, rfl⟩
abbrev main_v1057 : Ref sig .tc := ⟨.hbm, 2119, rfl⟩
abbrev main_v1058 : Ref sig .tc := ⟨.hbm, 2120, rfl⟩
abbrev main_v1059 : Ref sig .tc := ⟨.hbm, 2121, rfl⟩
abbrev main_v1060 : Ref sig .tc := ⟨.hbm, 2122, rfl⟩
abbrev main_cst_182 : Ref sig .tc := ⟨.hbm, 2123, rfl⟩
abbrev main_v1061 : Ref sig .tc := ⟨.hbm, 2124, rfl⟩
abbrev main_v1062 : Ref sig .tc := ⟨.hbm, 2125, rfl⟩
abbrev main_v1063 : Ref sig .tc := ⟨.hbm, 2126, rfl⟩
abbrev main_v1064 : Ref sig .tc := ⟨.hbm, 2127, rfl⟩
abbrev main_v1065 : Ref sig .tc := ⟨.hbm, 2128, rfl⟩
abbrev main_cst_183 : Ref sig .tc := ⟨.hbm, 2129, rfl⟩
abbrev main_v1066 : Ref sig .tc := ⟨.hbm, 2130, rfl⟩
abbrev main_v1067 : Ref sig .tc := ⟨.hbm, 2131, rfl⟩
abbrev main_v1068 : Ref sig .tc := ⟨.hbm, 2132, rfl⟩
abbrev main_v1069 : Ref sig .tc := ⟨.hbm, 2133, rfl⟩
abbrev main_cst_184 : Ref sig .tc := ⟨.hbm, 2134, rfl⟩
abbrev main_v1070 : Ref sig .tc := ⟨.hbm, 2135, rfl⟩
abbrev main_v1071 : Ref sig .tc := ⟨.hbm, 2136, rfl⟩
abbrev main_v1072 : Ref sig .tc := ⟨.hbm, 2137, rfl⟩
abbrev main_v1073 : Ref sig .tc := ⟨.hbm, 2138, rfl⟩
abbrev main_v1074 : Ref sig .tc := ⟨.hbm, 2139, rfl⟩
abbrev main_v1075 : Ref sig .tc := ⟨.hbm, 2140, rfl⟩
abbrev main_v1076 : Ref sig .tc := ⟨.hbm, 2141, rfl⟩
abbrev main_v1077 : Ref sig .tc := ⟨.hbm, 2142, rfl⟩
abbrev main_v1078 : Ref sig .tc := ⟨.hbm, 2143, rfl⟩
abbrev main_v1079 : Ref sig .tc := ⟨.hbm, 2144, rfl⟩
abbrev main_v1080 : Ref sig .tc := ⟨.hbm, 2145, rfl⟩
abbrev main_v1081 : Ref sig .tc := ⟨.hbm, 2146, rfl⟩
abbrev main_c_185 : Ref sig .tc := ⟨.hbm, 2147, rfl⟩
abbrev main_call95_v0 : Ref sig .tc := ⟨.hbm, 2148, rfl⟩
abbrev main_call95_v1 : Ref sig .tc := ⟨.hbm, 2149, rfl⟩
abbrev main_call95_v2 : Ref sig .tc := ⟨.hbm, 2150, rfl⟩
abbrev main_call95_v3 : Ref sig .tc := ⟨.hbm, 2151, rfl⟩
abbrev main_call95_v4 : Ref sig .tc := ⟨.hbm, 2152, rfl⟩
abbrev main_call95_v5 : Ref sig .tc := ⟨.hbm, 2153, rfl⟩
abbrev main_call95_v6 : Ref sig .tc := ⟨.hbm, 2154, rfl⟩
abbrev main_call95_v7 : Ref sig .tc := ⟨.hbm, 2155, rfl⟩
abbrev main_call95_v8 : Ref sig .tc := ⟨.hbm, 2156, rfl⟩
abbrev main_call95_c : Ref sig .tc := ⟨.hbm, 2157, rfl⟩
abbrev main_call95_v9 : Ref sig .tc := ⟨.hbm, 2158, rfl⟩
abbrev main_call95_v10 : Ref sig .tc := ⟨.hbm, 2159, rfl⟩
abbrev main_call95_v11 : Ref sig .tc := ⟨.hbm, 2160, rfl⟩
abbrev main_call95_c_0 : Ref sig .tc := ⟨.hbm, 2161, rfl⟩
abbrev main_call95_v12 : Ref sig .tc := ⟨.hbm, 2162, rfl⟩
abbrev main_call95_v13 : Ref sig .tc := ⟨.hbm, 2163, rfl⟩
abbrev main_v1082 : Ref sig .tc := ⟨.hbm, 2164, rfl⟩
abbrev main_c_186 : Ref sig .tc := ⟨.hbm, 2165, rfl⟩
abbrev main_call96_v0 : Ref sig .tc := ⟨.hbm, 2166, rfl⟩
abbrev main_call96_v1 : Ref sig .tc := ⟨.hbm, 2167, rfl⟩
abbrev main_call96_v2 : Ref sig .tc := ⟨.hbm, 2168, rfl⟩
abbrev main_call96_v3 : Ref sig .tc := ⟨.hbm, 2169, rfl⟩
abbrev main_call96_v4 : Ref sig .tc := ⟨.hbm, 2170, rfl⟩
abbrev main_call96_v5 : Ref sig .tc := ⟨.hbm, 2171, rfl⟩
abbrev main_call96_v6 : Ref sig .tc := ⟨.hbm, 2172, rfl⟩
abbrev main_call96_v7 : Ref sig .tc := ⟨.hbm, 2173, rfl⟩
abbrev main_call96_v8 : Ref sig .tc := ⟨.hbm, 2174, rfl⟩
abbrev main_call96_c : Ref sig .tc := ⟨.hbm, 2175, rfl⟩
abbrev main_call96_v9 : Ref sig .tc := ⟨.hbm, 2176, rfl⟩
abbrev main_call96_v10 : Ref sig .tc := ⟨.hbm, 2177, rfl⟩
abbrev main_call96_v11 : Ref sig .tc := ⟨.hbm, 2178, rfl⟩
abbrev main_call96_c_0 : Ref sig .tc := ⟨.hbm, 2179, rfl⟩
abbrev main_call96_v12 : Ref sig .tc := ⟨.hbm, 2180, rfl⟩
abbrev main_call96_v13 : Ref sig .tc := ⟨.hbm, 2181, rfl⟩
abbrev main_v1083 : Ref sig .tc := ⟨.hbm, 2182, rfl⟩
abbrev main_c_187 : Ref sig .tc := ⟨.hbm, 2183, rfl⟩
abbrev main_call97_v0 : Ref sig .tc := ⟨.hbm, 2184, rfl⟩
abbrev main_call97_c : Ref sig .tc := ⟨.hbm, 2185, rfl⟩
abbrev main_call97_v1 : Ref sig .tc := ⟨.hbm, 2186, rfl⟩
abbrev main_call97_c_0 : Ref sig .tc := ⟨.hbm, 2187, rfl⟩
abbrev main_call97_v2 : Ref sig .tc := ⟨.hbm, 2188, rfl⟩
abbrev main_call97_v3 : Ref sig .tc := ⟨.hbm, 2189, rfl⟩
abbrev main_call97_v4 : Ref sig .tc := ⟨.hbm, 2190, rfl⟩
abbrev main_call97_c_1 : Ref sig .tc := ⟨.hbm, 2191, rfl⟩
abbrev main_call97_v5 : Ref sig .tc := ⟨.hbm, 2192, rfl⟩
abbrev main_call97_v6 : Ref sig .tc := ⟨.hbm, 2193, rfl⟩
abbrev main_call97_c_2 : Ref sig .tc := ⟨.hbm, 2194, rfl⟩
abbrev main_call97_v7 : Ref sig .tc := ⟨.hbm, 2195, rfl⟩
abbrev main_call97_v8 : Ref sig .tc := ⟨.hbm, 2196, rfl⟩
abbrev main_call97_c_3 : Ref sig .tc := ⟨.hbm, 2197, rfl⟩
abbrev main_call97_v9 : Ref sig .tc := ⟨.hbm, 2198, rfl⟩
abbrev main_call97_v10 : Ref sig .tc := ⟨.hbm, 2199, rfl⟩
abbrev main_call97_v11 : Ref sig .tc := ⟨.hbm, 2200, rfl⟩
abbrev main_call97_v12 : Ref sig .tc := ⟨.hbm, 2201, rfl⟩
abbrev main_call97_v13 : Ref sig .tc := ⟨.hbm, 2202, rfl⟩
abbrev main_call97_v14 : Ref sig .tc := ⟨.hbm, 2203, rfl⟩
abbrev main_v1084 : Ref sig .tc := ⟨.hbm, 2204, rfl⟩
abbrev main_c_188 : Ref sig .tc := ⟨.hbm, 2205, rfl⟩
abbrev main_call98_v0 : Ref sig .tc := ⟨.hbm, 2206, rfl⟩
abbrev main_call98_c : Ref sig .tc := ⟨.hbm, 2207, rfl⟩
abbrev main_call98_v1 : Ref sig .tc := ⟨.hbm, 2208, rfl⟩
abbrev main_call98_c_0 : Ref sig .tc := ⟨.hbm, 2209, rfl⟩
abbrev main_call98_v2 : Ref sig .tc := ⟨.hbm, 2210, rfl⟩
abbrev main_call98_v3 : Ref sig .tc := ⟨.hbm, 2211, rfl⟩
abbrev main_call98_v4 : Ref sig .tc := ⟨.hbm, 2212, rfl⟩
abbrev main_call98_c_1 : Ref sig .tc := ⟨.hbm, 2213, rfl⟩
abbrev main_call98_v5 : Ref sig .tc := ⟨.hbm, 2214, rfl⟩
abbrev main_call98_v6 : Ref sig .tc := ⟨.hbm, 2215, rfl⟩
abbrev main_call98_c_2 : Ref sig .tc := ⟨.hbm, 2216, rfl⟩
abbrev main_call98_v7 : Ref sig .tc := ⟨.hbm, 2217, rfl⟩
abbrev main_call98_v8 : Ref sig .tc := ⟨.hbm, 2218, rfl⟩
abbrev main_call98_c_3 : Ref sig .tc := ⟨.hbm, 2219, rfl⟩
abbrev main_call98_v9 : Ref sig .tc := ⟨.hbm, 2220, rfl⟩
abbrev main_call98_v10 : Ref sig .tc := ⟨.hbm, 2221, rfl⟩
abbrev main_call98_v11 : Ref sig .tc := ⟨.hbm, 2222, rfl⟩
abbrev main_call98_v12 : Ref sig .tc := ⟨.hbm, 2223, rfl⟩
abbrev main_call98_v13 : Ref sig .tc := ⟨.hbm, 2224, rfl⟩
abbrev main_call98_v14 : Ref sig .tc := ⟨.hbm, 2225, rfl⟩
abbrev main_v1085 : Ref sig .tc := ⟨.hbm, 2226, rfl⟩
abbrev main_v1086 : Ref sig .tc := ⟨.hbm, 2227, rfl⟩
abbrev main_v1087 : Ref sig .tc := ⟨.hbm, 2228, rfl⟩
abbrev main_v1088 : Ref sig .tc := ⟨.hbm, 2229, rfl⟩
abbrev main_v1089 : Ref sig .tc := ⟨.hbm, 2230, rfl⟩
abbrev main_v1090 : Ref sig .tc := ⟨.hbm, 2231, rfl⟩
abbrev main_v1091 : Ref sig .tc := ⟨.hbm, 2232, rfl⟩
abbrev main_v1092 : Ref sig .tc := ⟨.hbm, 2233, rfl⟩
abbrev main_v1093 : Ref sig .tc := ⟨.hbm, 2234, rfl⟩
abbrev main_v1094 : Ref sig .tc := ⟨.hbm, 2235, rfl⟩
abbrev main_v1095 : Ref sig .tc := ⟨.hbm, 2236, rfl⟩
abbrev main_v1096 : Ref sig .tc := ⟨.hbm, 2237, rfl⟩
abbrev main_v1097 : Ref sig .tc := ⟨.hbm, 2238, rfl⟩
abbrev main_v1098 : Ref sig .tc := ⟨.hbm, 2239, rfl⟩
abbrev main_v1099 : Ref sig .tc := ⟨.hbm, 2240, rfl⟩
abbrev main_v1100 : Ref sig .tc := ⟨.hbm, 2241, rfl⟩
abbrev main_c_189 : Ref sig .tc := ⟨.hbm, 2242, rfl⟩
abbrev main_v1101 : Ref sig .tc := ⟨.hbm, 2243, rfl⟩
abbrev main_v1102 : Ref sig .tc := ⟨.hbm, 2244, rfl⟩
abbrev main_c_190 : Ref sig .tc := ⟨.hbm, 2245, rfl⟩
abbrev main_v1103 : Ref sig .tc := ⟨.hbm, 2246, rfl⟩
abbrev main_v1104 : Ref sig .tc := ⟨.hbm, 2247, rfl⟩
abbrev main_v1105 : Ref sig .tc := ⟨.hbm, 2248, rfl⟩
abbrev main_c_191 : Ref sig .tc := ⟨.hbm, 2249, rfl⟩
abbrev main_v1106 : Ref sig .tc := ⟨.hbm, 2250, rfl⟩
abbrev main_v1107 : Ref sig .tc := ⟨.hbm, 2251, rfl⟩
abbrev main_v1108 : Ref sig .tc := ⟨.hbm, 2252, rfl⟩
abbrev main_c_192 : Ref sig .tc := ⟨.hbm, 2253, rfl⟩
abbrev main_v1109 : Ref sig .tc := ⟨.hbm, 2254, rfl⟩
abbrev main_v1110 : Ref sig .tc := ⟨.hbm, 2255, rfl⟩
abbrev main_v1111 : Ref sig .tc := ⟨.hbm, 2256, rfl⟩
abbrev main_c_193 : Ref sig .tc := ⟨.hbm, 2257, rfl⟩
abbrev main_v1112 : Ref sig .tc := ⟨.hbm, 2258, rfl⟩
abbrev main_v1113 : Ref sig .tc := ⟨.hbm, 2259, rfl⟩
abbrev main_v1114 : Ref sig .tc := ⟨.hbm, 2260, rfl⟩
abbrev main_c_194 : Ref sig .tc := ⟨.hbm, 2261, rfl⟩
abbrev main_v1115 : Ref sig .tc := ⟨.hbm, 2262, rfl⟩
abbrev main_v1116 : Ref sig .tc := ⟨.hbm, 2263, rfl⟩
abbrev main_v1117 : Ref sig .tc := ⟨.hbm, 2264, rfl⟩
abbrev main_c_195 : Ref sig .tc := ⟨.hbm, 2265, rfl⟩
abbrev main_c_196 : Ref sig .tc := ⟨.hbm, 2266, rfl⟩
abbrev main_call99_v0 : Ref sig .tc := ⟨.hbm, 2267, rfl⟩
abbrev main_call99_v1 : Ref sig .tc := ⟨.hbm, 2268, rfl⟩
abbrev main_call99_v2 : Ref sig .tc := ⟨.hbm, 2269, rfl⟩
abbrev main_call99_v3 : Ref sig .tc := ⟨.hbm, 2270, rfl⟩
abbrev main_call99_v4 : Ref sig .tc := ⟨.hbm, 2271, rfl⟩
abbrev main_v1118 : Ref sig .tc := ⟨.hbm, 2272, rfl⟩
abbrev main_c_197 : Ref sig .tc := ⟨.hbm, 2273, rfl⟩
abbrev main_v1119 : Ref sig .tc := ⟨.hbm, 2274, rfl⟩
abbrev main_v1120 : Ref sig .tc := ⟨.hbm, 2275, rfl⟩
abbrev main_c_198 : Ref sig .tc := ⟨.hbm, 2276, rfl⟩
abbrev main_c_199 : Ref sig .tc := ⟨.hbm, 2277, rfl⟩
abbrev main_call100_v0 : Ref sig .tc := ⟨.hbm, 2278, rfl⟩
abbrev main_call100_v1 : Ref sig .tc := ⟨.hbm, 2279, rfl⟩
abbrev main_call100_v2 : Ref sig .tc := ⟨.hbm, 2280, rfl⟩
abbrev main_call100_v3 : Ref sig .tc := ⟨.hbm, 2281, rfl⟩
abbrev main_call100_v4 : Ref sig .tc := ⟨.hbm, 2282, rfl⟩
abbrev main_v1121 : Ref sig .tc := ⟨.hbm, 2283, rfl⟩
abbrev main_v1122 : Ref sig .tc := ⟨.hbm, 2284, rfl⟩
abbrev main_c_200 : Ref sig .tc := ⟨.hbm, 2285, rfl⟩
abbrev main_v1123 : Ref sig .tc := ⟨.hbm, 2286, rfl⟩
abbrev main_v1124 : Ref sig .tc := ⟨.hbm, 2287, rfl⟩
abbrev main_c_201 : Ref sig .tc := ⟨.hbm, 2288, rfl⟩
abbrev main_c_202 : Ref sig .tc := ⟨.hbm, 2289, rfl⟩
abbrev main_call101_v0 : Ref sig .tc := ⟨.hbm, 2290, rfl⟩
abbrev main_call101_v1 : Ref sig .tc := ⟨.hbm, 2291, rfl⟩
abbrev main_call101_v2 : Ref sig .tc := ⟨.hbm, 2292, rfl⟩
abbrev main_call101_v3 : Ref sig .tc := ⟨.hbm, 2293, rfl⟩
abbrev main_call101_v4 : Ref sig .tc := ⟨.hbm, 2294, rfl⟩
abbrev main_v1125 : Ref sig .tc := ⟨.hbm, 2295, rfl⟩
abbrev main_v1126 : Ref sig .tc := ⟨.hbm, 2296, rfl⟩
abbrev main_v1127 : Ref sig .tc := ⟨.hbm, 2297, rfl⟩
abbrev main_v1128 : Ref sig .tc := ⟨.hbm, 2298, rfl⟩
abbrev main_v1129 : Ref sig .tc := ⟨.hbm, 2299, rfl⟩
abbrev main_call102_c : Ref sig .tc := ⟨.hbm, 2300, rfl⟩
abbrev main_call102_v0 : Ref sig .tc := ⟨.hbm, 2301, rfl⟩
abbrev main_call102_v1 : Ref sig .tc := ⟨.hbm, 2302, rfl⟩
abbrev main_call102_c_0 : Ref sig .tc := ⟨.hbm, 2303, rfl⟩
abbrev main_call102_v2 : Ref sig .tc := ⟨.hbm, 2304, rfl⟩
abbrev main_call102_v3 : Ref sig .tc := ⟨.hbm, 2305, rfl⟩
abbrev main_call102_v4 : Ref sig .tc := ⟨.hbm, 2306, rfl⟩
abbrev main_call102_v5 : Ref sig .tc := ⟨.hbm, 2307, rfl⟩
abbrev main_call102_c_1 : Ref sig .tc := ⟨.hbm, 2308, rfl⟩
abbrev main_call102_c_2 : Ref sig .tc := ⟨.hbm, 2309, rfl⟩
abbrev main_call102_v6 : Ref sig .tc := ⟨.hbm, 2310, rfl⟩
abbrev main_call102_v7 : Ref sig .tc := ⟨.hbm, 2311, rfl⟩
abbrev main_call102_v8 : Ref sig .tc := ⟨.hbm, 2312, rfl⟩
abbrev main_call102_v9 : Ref sig .tc := ⟨.hbm, 2313, rfl⟩
abbrev main_call102_v10 : Ref sig .tc := ⟨.hbm, 2314, rfl⟩
abbrev main_call102_v11 : Ref sig .tc := ⟨.hbm, 2315, rfl⟩
abbrev main_call102_c_3 : Ref sig .tc := ⟨.hbm, 2316, rfl⟩
abbrev main_call102_v12 : Ref sig .tc := ⟨.hbm, 2317, rfl⟩
abbrev main_call102_v13 : Ref sig .tc := ⟨.hbm, 2318, rfl⟩
abbrev main_call102_v14 : Ref sig .tc := ⟨.hbm, 2319, rfl⟩
abbrev main_call102_cst : Ref sig .tc := ⟨.hbm, 2320, rfl⟩
abbrev main_call102_v15 : Ref sig .tc := ⟨.hbm, 2321, rfl⟩
abbrev main_v1130 : Ref sig .tc := ⟨.hbm, 2322, rfl⟩
abbrev main_v1131 : Ref sig .tc := ⟨.hbm, 2323, rfl⟩
abbrev main_v1132 : Ref sig .tc := ⟨.hbm, 2324, rfl⟩
abbrev main_cst_203 : Ref sig .tc := ⟨.hbm, 2325, rfl⟩
abbrev main_v1133 : Ref sig .tc := ⟨.hbm, 2326, rfl⟩
abbrev main_v1134 : Ref sig .tc := ⟨.hbm, 2327, rfl⟩
abbrev main_v1135 : Ref sig .tc := ⟨.hbm, 2328, rfl⟩
abbrev main_cst_204 : Ref sig .tc := ⟨.hbm, 2329, rfl⟩
abbrev main_call103_v0 : Ref sig .tc := ⟨.hbm, 2330, rfl⟩
abbrev main_call103_v1 : Ref sig .tc := ⟨.hbm, 2331, rfl⟩
abbrev main_v1136 : Ref sig .tc := ⟨.hbm, 2332, rfl⟩
abbrev main_v1137 : Ref sig .tc := ⟨.hbm, 2333, rfl⟩
abbrev main_v1138 : Ref sig .tc := ⟨.hbm, 2334, rfl⟩
abbrev main_v1139 : Ref sig .tc := ⟨.hbm, 2335, rfl⟩
abbrev main_call104_c : Ref sig .tc := ⟨.hbm, 2336, rfl⟩
abbrev main_call104_v0 : Ref sig .tc := ⟨.hbm, 2337, rfl⟩
abbrev main_call104_v1 : Ref sig .tc := ⟨.hbm, 2338, rfl⟩
abbrev main_call104_c_0 : Ref sig .tc := ⟨.hbm, 2339, rfl⟩
abbrev main_call104_v2 : Ref sig .tc := ⟨.hbm, 2340, rfl⟩
abbrev main_call104_v3 : Ref sig .tc := ⟨.hbm, 2341, rfl⟩
abbrev main_call104_v4 : Ref sig .tc := ⟨.hbm, 2342, rfl⟩
abbrev main_call104_v5 : Ref sig .tc := ⟨.hbm, 2343, rfl⟩
abbrev main_call104_c_1 : Ref sig .tc := ⟨.hbm, 2344, rfl⟩
abbrev main_call104_c_2 : Ref sig .tc := ⟨.hbm, 2345, rfl⟩
abbrev main_call104_v6 : Ref sig .tc := ⟨.hbm, 2346, rfl⟩
abbrev main_call104_v7 : Ref sig .tc := ⟨.hbm, 2347, rfl⟩
abbrev main_call104_v8 : Ref sig .tc := ⟨.hbm, 2348, rfl⟩
abbrev main_call104_v9 : Ref sig .tc := ⟨.hbm, 2349, rfl⟩
abbrev main_call104_v10 : Ref sig .tc := ⟨.hbm, 2350, rfl⟩
abbrev main_call104_v11 : Ref sig .tc := ⟨.hbm, 2351, rfl⟩
abbrev main_call104_c_3 : Ref sig .tc := ⟨.hbm, 2352, rfl⟩
abbrev main_call104_v12 : Ref sig .tc := ⟨.hbm, 2353, rfl⟩
abbrev main_call104_v13 : Ref sig .tc := ⟨.hbm, 2354, rfl⟩
abbrev main_call104_v14 : Ref sig .tc := ⟨.hbm, 2355, rfl⟩
abbrev main_call104_cst : Ref sig .tc := ⟨.hbm, 2356, rfl⟩
abbrev main_call104_v15 : Ref sig .tc := ⟨.hbm, 2357, rfl⟩
abbrev main_v1140 : Ref sig .tc := ⟨.hbm, 2358, rfl⟩
abbrev main_v1141 : Ref sig .tc := ⟨.hbm, 2359, rfl⟩
abbrev main_v1142 : Ref sig .tc := ⟨.hbm, 2360, rfl⟩
abbrev main_cst_205 : Ref sig .tc := ⟨.hbm, 2361, rfl⟩
abbrev main_v1143 : Ref sig .tc := ⟨.hbm, 2362, rfl⟩
abbrev main_v1144 : Ref sig .tc := ⟨.hbm, 2363, rfl⟩
abbrev main_v1145 : Ref sig .tc := ⟨.hbm, 2364, rfl⟩
abbrev main_cst_206 : Ref sig .tc := ⟨.hbm, 2365, rfl⟩
abbrev main_call105_v0 : Ref sig .tc := ⟨.hbm, 2366, rfl⟩
abbrev main_call105_v1 : Ref sig .tc := ⟨.hbm, 2367, rfl⟩
abbrev main_v1146 : Ref sig .tc := ⟨.hbm, 2368, rfl⟩
abbrev main_v1147 : Ref sig .tc := ⟨.hbm, 2369, rfl⟩
abbrev main_v1148 : Ref sig .tc := ⟨.hbm, 2370, rfl⟩
abbrev main_v1149 : Ref sig .tc := ⟨.hbm, 2371, rfl⟩
abbrev main_call106_c : Ref sig .tc := ⟨.hbm, 2372, rfl⟩
abbrev main_call106_v0 : Ref sig .tc := ⟨.hbm, 2373, rfl⟩
abbrev main_call106_v1 : Ref sig .tc := ⟨.hbm, 2374, rfl⟩
abbrev main_call106_c_0 : Ref sig .tc := ⟨.hbm, 2375, rfl⟩
abbrev main_call106_v2 : Ref sig .tc := ⟨.hbm, 2376, rfl⟩
abbrev main_call106_v3 : Ref sig .tc := ⟨.hbm, 2377, rfl⟩
abbrev main_call106_v4 : Ref sig .tc := ⟨.hbm, 2378, rfl⟩
abbrev main_call106_v5 : Ref sig .tc := ⟨.hbm, 2379, rfl⟩
abbrev main_call106_c_1 : Ref sig .tc := ⟨.hbm, 2380, rfl⟩
abbrev main_call106_c_2 : Ref sig .tc := ⟨.hbm, 2381, rfl⟩
abbrev main_call106_v6 : Ref sig .tc := ⟨.hbm, 2382, rfl⟩
abbrev main_call106_v7 : Ref sig .tc := ⟨.hbm, 2383, rfl⟩
abbrev main_call106_v8 : Ref sig .tc := ⟨.hbm, 2384, rfl⟩
abbrev main_call106_v9 : Ref sig .tc := ⟨.hbm, 2385, rfl⟩
abbrev main_call106_v10 : Ref sig .tc := ⟨.hbm, 2386, rfl⟩
abbrev main_call106_v11 : Ref sig .tc := ⟨.hbm, 2387, rfl⟩
abbrev main_call106_c_3 : Ref sig .tc := ⟨.hbm, 2388, rfl⟩
abbrev main_call106_v12 : Ref sig .tc := ⟨.hbm, 2389, rfl⟩
abbrev main_call106_v13 : Ref sig .tc := ⟨.hbm, 2390, rfl⟩
abbrev main_call106_v14 : Ref sig .tc := ⟨.hbm, 2391, rfl⟩
abbrev main_call106_cst : Ref sig .tc := ⟨.hbm, 2392, rfl⟩
abbrev main_call106_v15 : Ref sig .tc := ⟨.hbm, 2393, rfl⟩
abbrev main_v1150 : Ref sig .tc := ⟨.hbm, 2394, rfl⟩
abbrev main_v1151 : Ref sig .tc := ⟨.hbm, 2395, rfl⟩
abbrev main_v1152 : Ref sig .tc := ⟨.hbm, 2396, rfl⟩
abbrev main_cst_207 : Ref sig .tc := ⟨.hbm, 2397, rfl⟩
abbrev main_v1153 : Ref sig .tc := ⟨.hbm, 2398, rfl⟩
abbrev main_v1154 : Ref sig .tc := ⟨.hbm, 2399, rfl⟩
abbrev main_v1155 : Ref sig .tc := ⟨.hbm, 2400, rfl⟩
abbrev main_cst_208 : Ref sig .tc := ⟨.hbm, 2401, rfl⟩
abbrev main_call107_v0 : Ref sig .tc := ⟨.hbm, 2402, rfl⟩
abbrev main_call107_v1 : Ref sig .tc := ⟨.hbm, 2403, rfl⟩
abbrev main_v1156 : Ref sig .tc := ⟨.hbm, 2404, rfl⟩
abbrev main_v1157 : Ref sig .tc := ⟨.hbm, 2405, rfl⟩
abbrev main_v1158 : Ref sig .tc := ⟨.hbm, 2406, rfl⟩
abbrev main_v1159 : Ref sig .tc := ⟨.hbm, 2407, rfl⟩
abbrev main_call108_c : Ref sig .tc := ⟨.hbm, 2408, rfl⟩
abbrev main_call108_v0 : Ref sig .tc := ⟨.hbm, 2409, rfl⟩
abbrev main_call108_v1 : Ref sig .tc := ⟨.hbm, 2410, rfl⟩
abbrev main_call108_c_0 : Ref sig .tc := ⟨.hbm, 2411, rfl⟩
abbrev main_call108_v2 : Ref sig .tc := ⟨.hbm, 2412, rfl⟩
abbrev main_call108_v3 : Ref sig .tc := ⟨.hbm, 2413, rfl⟩
abbrev main_call108_v4 : Ref sig .tc := ⟨.hbm, 2414, rfl⟩
abbrev main_call108_v5 : Ref sig .tc := ⟨.hbm, 2415, rfl⟩
abbrev main_call108_c_1 : Ref sig .tc := ⟨.hbm, 2416, rfl⟩
abbrev main_call108_c_2 : Ref sig .tc := ⟨.hbm, 2417, rfl⟩
abbrev main_call108_v6 : Ref sig .tc := ⟨.hbm, 2418, rfl⟩
abbrev main_call108_v7 : Ref sig .tc := ⟨.hbm, 2419, rfl⟩
abbrev main_call108_v8 : Ref sig .tc := ⟨.hbm, 2420, rfl⟩
abbrev main_call108_v9 : Ref sig .tc := ⟨.hbm, 2421, rfl⟩
abbrev main_call108_v10 : Ref sig .tc := ⟨.hbm, 2422, rfl⟩
abbrev main_call108_v11 : Ref sig .tc := ⟨.hbm, 2423, rfl⟩
abbrev main_call108_c_3 : Ref sig .tc := ⟨.hbm, 2424, rfl⟩
abbrev main_call108_v12 : Ref sig .tc := ⟨.hbm, 2425, rfl⟩
abbrev main_call108_v13 : Ref sig .tc := ⟨.hbm, 2426, rfl⟩
abbrev main_call108_v14 : Ref sig .tc := ⟨.hbm, 2427, rfl⟩
abbrev main_call108_cst : Ref sig .tc := ⟨.hbm, 2428, rfl⟩
abbrev main_call108_v15 : Ref sig .tc := ⟨.hbm, 2429, rfl⟩
abbrev main_v1160 : Ref sig .tc := ⟨.hbm, 2430, rfl⟩
abbrev main_v1161 : Ref sig .tc := ⟨.hbm, 2431, rfl⟩
abbrev main_v1162 : Ref sig .tc := ⟨.hbm, 2432, rfl⟩
abbrev main_cst_209 : Ref sig .tc := ⟨.hbm, 2433, rfl⟩
abbrev main_v1163 : Ref sig .tc := ⟨.hbm, 2434, rfl⟩
abbrev main_v1164 : Ref sig .tc := ⟨.hbm, 2435, rfl⟩
abbrev main_v1165 : Ref sig .tc := ⟨.hbm, 2436, rfl⟩
abbrev main_cst_210 : Ref sig .tc := ⟨.hbm, 2437, rfl⟩
abbrev main_call109_v0 : Ref sig .tc := ⟨.hbm, 2438, rfl⟩
abbrev main_call109_v1 : Ref sig .tc := ⟨.hbm, 2439, rfl⟩
abbrev main_v1166 : Ref sig .tc := ⟨.hbm, 2440, rfl⟩
abbrev main_v1167 : Ref sig .tc := ⟨.hbm, 2441, rfl⟩
abbrev main_v1168 : Ref sig .tc := ⟨.hbm, 2442, rfl⟩
abbrev main_v1169 : Ref sig .tc := ⟨.hbm, 2443, rfl⟩
abbrev main_call110_c : Ref sig .tc := ⟨.hbm, 2444, rfl⟩
abbrev main_call110_v0 : Ref sig .tc := ⟨.hbm, 2445, rfl⟩
abbrev main_call110_v1 : Ref sig .tc := ⟨.hbm, 2446, rfl⟩
abbrev main_call110_c_0 : Ref sig .tc := ⟨.hbm, 2447, rfl⟩
abbrev main_call110_v2 : Ref sig .tc := ⟨.hbm, 2448, rfl⟩
abbrev main_call110_v3 : Ref sig .tc := ⟨.hbm, 2449, rfl⟩
abbrev main_call110_v4 : Ref sig .tc := ⟨.hbm, 2450, rfl⟩
abbrev main_call110_v5 : Ref sig .tc := ⟨.hbm, 2451, rfl⟩
abbrev main_call110_c_1 : Ref sig .tc := ⟨.hbm, 2452, rfl⟩
abbrev main_call110_c_2 : Ref sig .tc := ⟨.hbm, 2453, rfl⟩
abbrev main_call110_v6 : Ref sig .tc := ⟨.hbm, 2454, rfl⟩
abbrev main_call110_v7 : Ref sig .tc := ⟨.hbm, 2455, rfl⟩
abbrev main_call110_v8 : Ref sig .tc := ⟨.hbm, 2456, rfl⟩
abbrev main_call110_v9 : Ref sig .tc := ⟨.hbm, 2457, rfl⟩
abbrev main_call110_v10 : Ref sig .tc := ⟨.hbm, 2458, rfl⟩
abbrev main_call110_v11 : Ref sig .tc := ⟨.hbm, 2459, rfl⟩
abbrev main_call110_c_3 : Ref sig .tc := ⟨.hbm, 2460, rfl⟩
abbrev main_call110_v12 : Ref sig .tc := ⟨.hbm, 2461, rfl⟩
abbrev main_call110_v13 : Ref sig .tc := ⟨.hbm, 2462, rfl⟩
abbrev main_call110_v14 : Ref sig .tc := ⟨.hbm, 2463, rfl⟩
abbrev main_call110_cst : Ref sig .tc := ⟨.hbm, 2464, rfl⟩
abbrev main_call110_v15 : Ref sig .tc := ⟨.hbm, 2465, rfl⟩
abbrev main_v1170 : Ref sig .tc := ⟨.hbm, 2466, rfl⟩
abbrev main_v1171 : Ref sig .tc := ⟨.hbm, 2467, rfl⟩
abbrev main_v1172 : Ref sig .tc := ⟨.hbm, 2468, rfl⟩
abbrev main_cst_211 : Ref sig .tc := ⟨.hbm, 2469, rfl⟩
abbrev main_v1173 : Ref sig .tc := ⟨.hbm, 2470, rfl⟩
abbrev main_v1174 : Ref sig .tc := ⟨.hbm, 2471, rfl⟩
abbrev main_v1175 : Ref sig .tc := ⟨.hbm, 2472, rfl⟩
abbrev main_cst_212 : Ref sig .tc := ⟨.hbm, 2473, rfl⟩
abbrev main_call111_v0 : Ref sig .tc := ⟨.hbm, 2474, rfl⟩
abbrev main_call111_v1 : Ref sig .tc := ⟨.hbm, 2475, rfl⟩
abbrev main_v1176 : Ref sig .tc := ⟨.hbm, 2476, rfl⟩
abbrev main_v1177 : Ref sig .tc := ⟨.hbm, 2477, rfl⟩
abbrev main_v1178 : Ref sig .tc := ⟨.hbm, 2478, rfl⟩
abbrev main_v1179 : Ref sig .tc := ⟨.hbm, 2479, rfl⟩
abbrev main_call112_c : Ref sig .tc := ⟨.hbm, 2480, rfl⟩
abbrev main_call112_v0 : Ref sig .tc := ⟨.hbm, 2481, rfl⟩
abbrev main_call112_v1 : Ref sig .tc := ⟨.hbm, 2482, rfl⟩
abbrev main_call112_c_0 : Ref sig .tc := ⟨.hbm, 2483, rfl⟩
abbrev main_call112_v2 : Ref sig .tc := ⟨.hbm, 2484, rfl⟩
abbrev main_call112_v3 : Ref sig .tc := ⟨.hbm, 2485, rfl⟩
abbrev main_call112_v4 : Ref sig .tc := ⟨.hbm, 2486, rfl⟩
abbrev main_call112_v5 : Ref sig .tc := ⟨.hbm, 2487, rfl⟩
abbrev main_call112_c_1 : Ref sig .tc := ⟨.hbm, 2488, rfl⟩
abbrev main_call112_c_2 : Ref sig .tc := ⟨.hbm, 2489, rfl⟩
abbrev main_call112_v6 : Ref sig .tc := ⟨.hbm, 2490, rfl⟩
abbrev main_call112_v7 : Ref sig .tc := ⟨.hbm, 2491, rfl⟩
abbrev main_call112_v8 : Ref sig .tc := ⟨.hbm, 2492, rfl⟩
abbrev main_call112_v9 : Ref sig .tc := ⟨.hbm, 2493, rfl⟩
abbrev main_call112_v10 : Ref sig .tc := ⟨.hbm, 2494, rfl⟩
abbrev main_call112_v11 : Ref sig .tc := ⟨.hbm, 2495, rfl⟩
abbrev main_call112_c_3 : Ref sig .tc := ⟨.hbm, 2496, rfl⟩
abbrev main_call112_v12 : Ref sig .tc := ⟨.hbm, 2497, rfl⟩
abbrev main_call112_v13 : Ref sig .tc := ⟨.hbm, 2498, rfl⟩
abbrev main_call112_v14 : Ref sig .tc := ⟨.hbm, 2499, rfl⟩
abbrev main_call112_cst : Ref sig .tc := ⟨.hbm, 2500, rfl⟩
abbrev main_call112_v15 : Ref sig .tc := ⟨.hbm, 2501, rfl⟩
abbrev main_v1180 : Ref sig .tc := ⟨.hbm, 2502, rfl⟩
abbrev main_v1181 : Ref sig .tc := ⟨.hbm, 2503, rfl⟩
abbrev main_v1182 : Ref sig .tc := ⟨.hbm, 2504, rfl⟩
abbrev main_cst_213 : Ref sig .tc := ⟨.hbm, 2505, rfl⟩
abbrev main_v1183 : Ref sig .tc := ⟨.hbm, 2506, rfl⟩
abbrev main_v1184 : Ref sig .tc := ⟨.hbm, 2507, rfl⟩
abbrev main_v1185 : Ref sig .tc := ⟨.hbm, 2508, rfl⟩
abbrev main_cst_214 : Ref sig .tc := ⟨.hbm, 2509, rfl⟩
abbrev main_call113_v0 : Ref sig .tc := ⟨.hbm, 2510, rfl⟩
abbrev main_call113_v1 : Ref sig .tc := ⟨.hbm, 2511, rfl⟩
abbrev main_v1186 : Ref sig .tc := ⟨.hbm, 2512, rfl⟩
abbrev main_v1187 : Ref sig .tc := ⟨.hbm, 2513, rfl⟩
abbrev main_v1188 : Ref sig .tc := ⟨.hbm, 2514, rfl⟩
abbrev main_v1189 : Ref sig .tc := ⟨.hbm, 2515, rfl⟩
abbrev main_call114_c : Ref sig .tc := ⟨.hbm, 2516, rfl⟩
abbrev main_call114_v0 : Ref sig .tc := ⟨.hbm, 2517, rfl⟩
abbrev main_call114_v1 : Ref sig .tc := ⟨.hbm, 2518, rfl⟩
abbrev main_call114_c_0 : Ref sig .tc := ⟨.hbm, 2519, rfl⟩
abbrev main_call114_v2 : Ref sig .tc := ⟨.hbm, 2520, rfl⟩
abbrev main_call114_v3 : Ref sig .tc := ⟨.hbm, 2521, rfl⟩
abbrev main_call114_v4 : Ref sig .tc := ⟨.hbm, 2522, rfl⟩
abbrev main_call114_v5 : Ref sig .tc := ⟨.hbm, 2523, rfl⟩
abbrev main_call114_c_1 : Ref sig .tc := ⟨.hbm, 2524, rfl⟩
abbrev main_call114_c_2 : Ref sig .tc := ⟨.hbm, 2525, rfl⟩
abbrev main_call114_v6 : Ref sig .tc := ⟨.hbm, 2526, rfl⟩
abbrev main_call114_v7 : Ref sig .tc := ⟨.hbm, 2527, rfl⟩
abbrev main_call114_v8 : Ref sig .tc := ⟨.hbm, 2528, rfl⟩
abbrev main_call114_v9 : Ref sig .tc := ⟨.hbm, 2529, rfl⟩
abbrev main_call114_v10 : Ref sig .tc := ⟨.hbm, 2530, rfl⟩
abbrev main_call114_v11 : Ref sig .tc := ⟨.hbm, 2531, rfl⟩
abbrev main_call114_c_3 : Ref sig .tc := ⟨.hbm, 2532, rfl⟩
abbrev main_call114_v12 : Ref sig .tc := ⟨.hbm, 2533, rfl⟩
abbrev main_call114_v13 : Ref sig .tc := ⟨.hbm, 2534, rfl⟩
abbrev main_call114_v14 : Ref sig .tc := ⟨.hbm, 2535, rfl⟩
abbrev main_call114_cst : Ref sig .tc := ⟨.hbm, 2536, rfl⟩
abbrev main_call114_v15 : Ref sig .tc := ⟨.hbm, 2537, rfl⟩
abbrev main_v1190 : Ref sig .tc := ⟨.hbm, 2538, rfl⟩
abbrev main_v1191 : Ref sig .tc := ⟨.hbm, 2539, rfl⟩
abbrev main_v1192 : Ref sig .tc := ⟨.hbm, 2540, rfl⟩
abbrev main_cst_215 : Ref sig .tc := ⟨.hbm, 2541, rfl⟩
abbrev main_v1193 : Ref sig .tc := ⟨.hbm, 2542, rfl⟩
abbrev main_v1194 : Ref sig .tc := ⟨.hbm, 2543, rfl⟩
abbrev main_v1195 : Ref sig .tc := ⟨.hbm, 2544, rfl⟩
abbrev main_cst_216 : Ref sig .tc := ⟨.hbm, 2545, rfl⟩
abbrev main_call115_v0 : Ref sig .tc := ⟨.hbm, 2546, rfl⟩
abbrev main_call115_v1 : Ref sig .tc := ⟨.hbm, 2547, rfl⟩
abbrev main_v1196 : Ref sig .tc := ⟨.hbm, 2548, rfl⟩
abbrev main_v1197 : Ref sig .tc := ⟨.hbm, 2549, rfl⟩
abbrev main_v1198 : Ref sig .tc := ⟨.hbm, 2550, rfl⟩
abbrev main_v1199 : Ref sig .tc := ⟨.hbm, 2551, rfl⟩
abbrev main_call116_c : Ref sig .tc := ⟨.hbm, 2552, rfl⟩
abbrev main_call116_v0 : Ref sig .tc := ⟨.hbm, 2553, rfl⟩
abbrev main_call116_v1 : Ref sig .tc := ⟨.hbm, 2554, rfl⟩
abbrev main_call116_c_0 : Ref sig .tc := ⟨.hbm, 2555, rfl⟩
abbrev main_call116_v2 : Ref sig .tc := ⟨.hbm, 2556, rfl⟩
abbrev main_call116_v3 : Ref sig .tc := ⟨.hbm, 2557, rfl⟩
abbrev main_call116_v4 : Ref sig .tc := ⟨.hbm, 2558, rfl⟩
abbrev main_call116_v5 : Ref sig .tc := ⟨.hbm, 2559, rfl⟩
abbrev main_call116_c_1 : Ref sig .tc := ⟨.hbm, 2560, rfl⟩
abbrev main_call116_c_2 : Ref sig .tc := ⟨.hbm, 2561, rfl⟩
abbrev main_call116_v6 : Ref sig .tc := ⟨.hbm, 2562, rfl⟩
abbrev main_call116_v7 : Ref sig .tc := ⟨.hbm, 2563, rfl⟩
abbrev main_call116_v8 : Ref sig .tc := ⟨.hbm, 2564, rfl⟩
abbrev main_call116_v9 : Ref sig .tc := ⟨.hbm, 2565, rfl⟩
abbrev main_call116_v10 : Ref sig .tc := ⟨.hbm, 2566, rfl⟩
abbrev main_call116_v11 : Ref sig .tc := ⟨.hbm, 2567, rfl⟩
abbrev main_call116_c_3 : Ref sig .tc := ⟨.hbm, 2568, rfl⟩
abbrev main_call116_v12 : Ref sig .tc := ⟨.hbm, 2569, rfl⟩
abbrev main_call116_v13 : Ref sig .tc := ⟨.hbm, 2570, rfl⟩
abbrev main_call116_v14 : Ref sig .tc := ⟨.hbm, 2571, rfl⟩
abbrev main_call116_cst : Ref sig .tc := ⟨.hbm, 2572, rfl⟩
abbrev main_call116_v15 : Ref sig .tc := ⟨.hbm, 2573, rfl⟩
abbrev main_v1200 : Ref sig .tc := ⟨.hbm, 2574, rfl⟩
abbrev main_v1201 : Ref sig .tc := ⟨.hbm, 2575, rfl⟩
abbrev main_v1202 : Ref sig .tc := ⟨.hbm, 2576, rfl⟩
abbrev main_cst_217 : Ref sig .tc := ⟨.hbm, 2577, rfl⟩
abbrev main_v1203 : Ref sig .tc := ⟨.hbm, 2578, rfl⟩
abbrev main_v1204 : Ref sig .tc := ⟨.hbm, 2579, rfl⟩
abbrev main_v1205 : Ref sig .tc := ⟨.hbm, 2580, rfl⟩
abbrev main_cst_218 : Ref sig .tc := ⟨.hbm, 2581, rfl⟩
abbrev main_call117_v0 : Ref sig .tc := ⟨.hbm, 2582, rfl⟩
abbrev main_call117_v1 : Ref sig .tc := ⟨.hbm, 2583, rfl⟩
abbrev main_v1206 : Ref sig .tc := ⟨.hbm, 2584, rfl⟩
abbrev main_v1207 : Ref sig .tc := ⟨.hbm, 2585, rfl⟩
abbrev main_v1208 : Ref sig .tc := ⟨.hbm, 2586, rfl⟩
abbrev main_v1209 : Ref sig .tc := ⟨.hbm, 2587, rfl⟩
abbrev main_call118_c : Ref sig .tc := ⟨.hbm, 2588, rfl⟩
abbrev main_call118_v0 : Ref sig .tc := ⟨.hbm, 2589, rfl⟩
abbrev main_call118_v1 : Ref sig .tc := ⟨.hbm, 2590, rfl⟩
abbrev main_call118_c_0 : Ref sig .tc := ⟨.hbm, 2591, rfl⟩
abbrev main_call118_v2 : Ref sig .tc := ⟨.hbm, 2592, rfl⟩
abbrev main_call118_v3 : Ref sig .tc := ⟨.hbm, 2593, rfl⟩
abbrev main_call118_v4 : Ref sig .tc := ⟨.hbm, 2594, rfl⟩
abbrev main_call118_v5 : Ref sig .tc := ⟨.hbm, 2595, rfl⟩
abbrev main_call118_c_1 : Ref sig .tc := ⟨.hbm, 2596, rfl⟩
abbrev main_call118_c_2 : Ref sig .tc := ⟨.hbm, 2597, rfl⟩
abbrev main_call118_v6 : Ref sig .tc := ⟨.hbm, 2598, rfl⟩
abbrev main_call118_v7 : Ref sig .tc := ⟨.hbm, 2599, rfl⟩
abbrev main_call118_v8 : Ref sig .tc := ⟨.hbm, 2600, rfl⟩
abbrev main_call118_v9 : Ref sig .tc := ⟨.hbm, 2601, rfl⟩
abbrev main_call118_v10 : Ref sig .tc := ⟨.hbm, 2602, rfl⟩
abbrev main_call118_v11 : Ref sig .tc := ⟨.hbm, 2603, rfl⟩
abbrev main_call118_c_3 : Ref sig .tc := ⟨.hbm, 2604, rfl⟩
abbrev main_call118_v12 : Ref sig .tc := ⟨.hbm, 2605, rfl⟩
abbrev main_call118_v13 : Ref sig .tc := ⟨.hbm, 2606, rfl⟩
abbrev main_call118_v14 : Ref sig .tc := ⟨.hbm, 2607, rfl⟩
abbrev main_call118_cst : Ref sig .tc := ⟨.hbm, 2608, rfl⟩
abbrev main_call118_v15 : Ref sig .tc := ⟨.hbm, 2609, rfl⟩
abbrev main_v1210 : Ref sig .tc := ⟨.hbm, 2610, rfl⟩
abbrev main_v1211 : Ref sig .tc := ⟨.hbm, 2611, rfl⟩
abbrev main_v1212 : Ref sig .tc := ⟨.hbm, 2612, rfl⟩
abbrev main_cst_219 : Ref sig .tc := ⟨.hbm, 2613, rfl⟩
abbrev main_v1213 : Ref sig .tc := ⟨.hbm, 2614, rfl⟩
abbrev main_v1214 : Ref sig .tc := ⟨.hbm, 2615, rfl⟩
abbrev main_v1215 : Ref sig .tc := ⟨.hbm, 2616, rfl⟩
abbrev main_cst_220 : Ref sig .tc := ⟨.hbm, 2617, rfl⟩
abbrev main_call119_v0 : Ref sig .tc := ⟨.hbm, 2618, rfl⟩
abbrev main_call119_v1 : Ref sig .tc := ⟨.hbm, 2619, rfl⟩
abbrev main_v1216 : Ref sig .tc := ⟨.hbm, 2620, rfl⟩
abbrev main_v1217 : Ref sig .tc := ⟨.hbm, 2621, rfl⟩
abbrev main_v1218 : Ref sig .tc := ⟨.hbm, 2622, rfl⟩
abbrev main_v1219 : Ref sig .tc := ⟨.hbm, 2623, rfl⟩
abbrev main_call120_c : Ref sig .tc := ⟨.hbm, 2624, rfl⟩
abbrev main_call120_v0 : Ref sig .tc := ⟨.hbm, 2625, rfl⟩
abbrev main_call120_v1 : Ref sig .tc := ⟨.hbm, 2626, rfl⟩
abbrev main_call120_c_0 : Ref sig .tc := ⟨.hbm, 2627, rfl⟩
abbrev main_call120_v2 : Ref sig .tc := ⟨.hbm, 2628, rfl⟩
abbrev main_call120_v3 : Ref sig .tc := ⟨.hbm, 2629, rfl⟩
abbrev main_call120_v4 : Ref sig .tc := ⟨.hbm, 2630, rfl⟩
abbrev main_call120_v5 : Ref sig .tc := ⟨.hbm, 2631, rfl⟩
abbrev main_call120_c_1 : Ref sig .tc := ⟨.hbm, 2632, rfl⟩
abbrev main_call120_c_2 : Ref sig .tc := ⟨.hbm, 2633, rfl⟩
abbrev main_call120_v6 : Ref sig .tc := ⟨.hbm, 2634, rfl⟩
abbrev main_call120_v7 : Ref sig .tc := ⟨.hbm, 2635, rfl⟩
abbrev main_call120_v8 : Ref sig .tc := ⟨.hbm, 2636, rfl⟩
abbrev main_call120_v9 : Ref sig .tc := ⟨.hbm, 2637, rfl⟩
abbrev main_call120_v10 : Ref sig .tc := ⟨.hbm, 2638, rfl⟩
abbrev main_call120_v11 : Ref sig .tc := ⟨.hbm, 2639, rfl⟩
abbrev main_call120_c_3 : Ref sig .tc := ⟨.hbm, 2640, rfl⟩
abbrev main_call120_v12 : Ref sig .tc := ⟨.hbm, 2641, rfl⟩
abbrev main_call120_v13 : Ref sig .tc := ⟨.hbm, 2642, rfl⟩
abbrev main_call120_v14 : Ref sig .tc := ⟨.hbm, 2643, rfl⟩
abbrev main_call120_cst : Ref sig .tc := ⟨.hbm, 2644, rfl⟩
abbrev main_call120_v15 : Ref sig .tc := ⟨.hbm, 2645, rfl⟩
abbrev main_v1220 : Ref sig .tc := ⟨.hbm, 2646, rfl⟩
abbrev main_v1221 : Ref sig .tc := ⟨.hbm, 2647, rfl⟩
abbrev main_v1222 : Ref sig .tc := ⟨.hbm, 2648, rfl⟩
abbrev main_cst_221 : Ref sig .tc := ⟨.hbm, 2649, rfl⟩
abbrev main_v1223 : Ref sig .tc := ⟨.hbm, 2650, rfl⟩
abbrev main_v1224 : Ref sig .tc := ⟨.hbm, 2651, rfl⟩
abbrev main_v1225 : Ref sig .tc := ⟨.hbm, 2652, rfl⟩
abbrev main_cst_222 : Ref sig .tc := ⟨.hbm, 2653, rfl⟩
abbrev main_call121_v0 : Ref sig .tc := ⟨.hbm, 2654, rfl⟩
abbrev main_call121_v1 : Ref sig .tc := ⟨.hbm, 2655, rfl⟩
abbrev main_v1226 : Ref sig .tc := ⟨.hbm, 2656, rfl⟩
abbrev main_v1227 : Ref sig .tc := ⟨.hbm, 2657, rfl⟩
abbrev main_v1228 : Ref sig .tc := ⟨.hbm, 2658, rfl⟩
abbrev main_v1229 : Ref sig .tc := ⟨.hbm, 2659, rfl⟩
abbrev main_call122_c : Ref sig .tc := ⟨.hbm, 2660, rfl⟩
abbrev main_call122_v0 : Ref sig .tc := ⟨.hbm, 2661, rfl⟩
abbrev main_call122_v1 : Ref sig .tc := ⟨.hbm, 2662, rfl⟩
abbrev main_call122_c_0 : Ref sig .tc := ⟨.hbm, 2663, rfl⟩
abbrev main_call122_v2 : Ref sig .tc := ⟨.hbm, 2664, rfl⟩
abbrev main_call122_v3 : Ref sig .tc := ⟨.hbm, 2665, rfl⟩
abbrev main_call122_v4 : Ref sig .tc := ⟨.hbm, 2666, rfl⟩
abbrev main_call122_v5 : Ref sig .tc := ⟨.hbm, 2667, rfl⟩
abbrev main_call122_c_1 : Ref sig .tc := ⟨.hbm, 2668, rfl⟩
abbrev main_call122_c_2 : Ref sig .tc := ⟨.hbm, 2669, rfl⟩
abbrev main_call122_v6 : Ref sig .tc := ⟨.hbm, 2670, rfl⟩
abbrev main_call122_v7 : Ref sig .tc := ⟨.hbm, 2671, rfl⟩
abbrev main_call122_v8 : Ref sig .tc := ⟨.hbm, 2672, rfl⟩
abbrev main_call122_v9 : Ref sig .tc := ⟨.hbm, 2673, rfl⟩
abbrev main_call122_v10 : Ref sig .tc := ⟨.hbm, 2674, rfl⟩
abbrev main_call122_v11 : Ref sig .tc := ⟨.hbm, 2675, rfl⟩
abbrev main_call122_c_3 : Ref sig .tc := ⟨.hbm, 2676, rfl⟩
abbrev main_call122_v12 : Ref sig .tc := ⟨.hbm, 2677, rfl⟩
abbrev main_call122_v13 : Ref sig .tc := ⟨.hbm, 2678, rfl⟩
abbrev main_call122_v14 : Ref sig .tc := ⟨.hbm, 2679, rfl⟩
abbrev main_call122_cst : Ref sig .tc := ⟨.hbm, 2680, rfl⟩
abbrev main_call122_v15 : Ref sig .tc := ⟨.hbm, 2681, rfl⟩
abbrev main_v1230 : Ref sig .tc := ⟨.hbm, 2682, rfl⟩
abbrev main_v1231 : Ref sig .tc := ⟨.hbm, 2683, rfl⟩
abbrev main_v1232 : Ref sig .tc := ⟨.hbm, 2684, rfl⟩
abbrev main_cst_223 : Ref sig .tc := ⟨.hbm, 2685, rfl⟩
abbrev main_v1233 : Ref sig .tc := ⟨.hbm, 2686, rfl⟩
abbrev main_v1234 : Ref sig .tc := ⟨.hbm, 2687, rfl⟩
abbrev main_v1235 : Ref sig .tc := ⟨.hbm, 2688, rfl⟩
abbrev main_cst_224 : Ref sig .tc := ⟨.hbm, 2689, rfl⟩
abbrev main_call123_v0 : Ref sig .tc := ⟨.hbm, 2690, rfl⟩
abbrev main_call123_v1 : Ref sig .tc := ⟨.hbm, 2691, rfl⟩
abbrev main_v1236 : Ref sig .tc := ⟨.hbm, 2692, rfl⟩
abbrev main_v1237 : Ref sig .tc := ⟨.hbm, 2693, rfl⟩
abbrev main_v1238 : Ref sig .tc := ⟨.hbm, 2694, rfl⟩
abbrev main_v1239 : Ref sig .tc := ⟨.hbm, 2695, rfl⟩
abbrev main_call124_c : Ref sig .tc := ⟨.hbm, 2696, rfl⟩
abbrev main_call124_v0 : Ref sig .tc := ⟨.hbm, 2697, rfl⟩
abbrev main_call124_v1 : Ref sig .tc := ⟨.hbm, 2698, rfl⟩
abbrev main_call124_c_0 : Ref sig .tc := ⟨.hbm, 2699, rfl⟩
abbrev main_call124_v2 : Ref sig .tc := ⟨.hbm, 2700, rfl⟩
abbrev main_call124_v3 : Ref sig .tc := ⟨.hbm, 2701, rfl⟩
abbrev main_call124_v4 : Ref sig .tc := ⟨.hbm, 2702, rfl⟩
abbrev main_call124_v5 : Ref sig .tc := ⟨.hbm, 2703, rfl⟩
abbrev main_call124_c_1 : Ref sig .tc := ⟨.hbm, 2704, rfl⟩
abbrev main_call124_c_2 : Ref sig .tc := ⟨.hbm, 2705, rfl⟩
abbrev main_call124_v6 : Ref sig .tc := ⟨.hbm, 2706, rfl⟩
abbrev main_call124_v7 : Ref sig .tc := ⟨.hbm, 2707, rfl⟩
abbrev main_call124_v8 : Ref sig .tc := ⟨.hbm, 2708, rfl⟩
abbrev main_call124_v9 : Ref sig .tc := ⟨.hbm, 2709, rfl⟩
abbrev main_call124_v10 : Ref sig .tc := ⟨.hbm, 2710, rfl⟩
abbrev main_call124_v11 : Ref sig .tc := ⟨.hbm, 2711, rfl⟩
abbrev main_call124_c_3 : Ref sig .tc := ⟨.hbm, 2712, rfl⟩
abbrev main_call124_v12 : Ref sig .tc := ⟨.hbm, 2713, rfl⟩
abbrev main_call124_v13 : Ref sig .tc := ⟨.hbm, 2714, rfl⟩
abbrev main_call124_v14 : Ref sig .tc := ⟨.hbm, 2715, rfl⟩
abbrev main_call124_cst : Ref sig .tc := ⟨.hbm, 2716, rfl⟩
abbrev main_call124_v15 : Ref sig .tc := ⟨.hbm, 2717, rfl⟩
abbrev main_v1240 : Ref sig .tc := ⟨.hbm, 2718, rfl⟩
abbrev main_v1241 : Ref sig .tc := ⟨.hbm, 2719, rfl⟩
abbrev main_v1242 : Ref sig .tc := ⟨.hbm, 2720, rfl⟩
abbrev main_cst_225 : Ref sig .tc := ⟨.hbm, 2721, rfl⟩
abbrev main_v1243 : Ref sig .tc := ⟨.hbm, 2722, rfl⟩
abbrev main_v1244 : Ref sig .tc := ⟨.hbm, 2723, rfl⟩
abbrev main_v1245 : Ref sig .tc := ⟨.hbm, 2724, rfl⟩
abbrev main_cst_226 : Ref sig .tc := ⟨.hbm, 2725, rfl⟩
abbrev main_call125_v0 : Ref sig .tc := ⟨.hbm, 2726, rfl⟩
abbrev main_call125_v1 : Ref sig .tc := ⟨.hbm, 2727, rfl⟩
abbrev main_v1246 : Ref sig .tc := ⟨.hbm, 2728, rfl⟩
abbrev main_v1247 : Ref sig .tc := ⟨.hbm, 2729, rfl⟩
abbrev main_v1248 : Ref sig .tc := ⟨.hbm, 2730, rfl⟩
abbrev main_v1249 : Ref sig .tc := ⟨.hbm, 2731, rfl⟩
abbrev main_call126_c : Ref sig .tc := ⟨.hbm, 2732, rfl⟩
abbrev main_call126_v0 : Ref sig .tc := ⟨.hbm, 2733, rfl⟩
abbrev main_call126_v1 : Ref sig .tc := ⟨.hbm, 2734, rfl⟩
abbrev main_call126_c_0 : Ref sig .tc := ⟨.hbm, 2735, rfl⟩
abbrev main_call126_v2 : Ref sig .tc := ⟨.hbm, 2736, rfl⟩
abbrev main_call126_v3 : Ref sig .tc := ⟨.hbm, 2737, rfl⟩
abbrev main_call126_v4 : Ref sig .tc := ⟨.hbm, 2738, rfl⟩
abbrev main_call126_v5 : Ref sig .tc := ⟨.hbm, 2739, rfl⟩
abbrev main_call126_c_1 : Ref sig .tc := ⟨.hbm, 2740, rfl⟩
abbrev main_call126_c_2 : Ref sig .tc := ⟨.hbm, 2741, rfl⟩
abbrev main_call126_v6 : Ref sig .tc := ⟨.hbm, 2742, rfl⟩
abbrev main_call126_v7 : Ref sig .tc := ⟨.hbm, 2743, rfl⟩
abbrev main_call126_v8 : Ref sig .tc := ⟨.hbm, 2744, rfl⟩
abbrev main_call126_v9 : Ref sig .tc := ⟨.hbm, 2745, rfl⟩
abbrev main_call126_v10 : Ref sig .tc := ⟨.hbm, 2746, rfl⟩
abbrev main_call126_v11 : Ref sig .tc := ⟨.hbm, 2747, rfl⟩
abbrev main_call126_c_3 : Ref sig .tc := ⟨.hbm, 2748, rfl⟩
abbrev main_call126_v12 : Ref sig .tc := ⟨.hbm, 2749, rfl⟩
abbrev main_call126_v13 : Ref sig .tc := ⟨.hbm, 2750, rfl⟩
abbrev main_call126_v14 : Ref sig .tc := ⟨.hbm, 2751, rfl⟩
abbrev main_call126_cst : Ref sig .tc := ⟨.hbm, 2752, rfl⟩
abbrev main_call126_v15 : Ref sig .tc := ⟨.hbm, 2753, rfl⟩
abbrev main_v1250 : Ref sig .tc := ⟨.hbm, 2754, rfl⟩
abbrev main_v1251 : Ref sig .tc := ⟨.hbm, 2755, rfl⟩
abbrev main_v1252 : Ref sig .tc := ⟨.hbm, 2756, rfl⟩
abbrev main_cst_227 : Ref sig .tc := ⟨.hbm, 2757, rfl⟩
abbrev main_v1253 : Ref sig .tc := ⟨.hbm, 2758, rfl⟩
abbrev main_v1254 : Ref sig .tc := ⟨.hbm, 2759, rfl⟩
abbrev main_v1255 : Ref sig .tc := ⟨.hbm, 2760, rfl⟩
abbrev main_cst_228 : Ref sig .tc := ⟨.hbm, 2761, rfl⟩
abbrev main_call127_v0 : Ref sig .tc := ⟨.hbm, 2762, rfl⟩
abbrev main_call127_v1 : Ref sig .tc := ⟨.hbm, 2763, rfl⟩
abbrev main_v1256 : Ref sig .tc := ⟨.hbm, 2764, rfl⟩
abbrev main_v1257 : Ref sig .tc := ⟨.hbm, 2765, rfl⟩
abbrev main_v1258 : Ref sig .tc := ⟨.hbm, 2766, rfl⟩
abbrev main_v1259 : Ref sig .tc := ⟨.hbm, 2767, rfl⟩
abbrev main_call128_c : Ref sig .tc := ⟨.hbm, 2768, rfl⟩
abbrev main_call128_v0 : Ref sig .tc := ⟨.hbm, 2769, rfl⟩
abbrev main_call128_v1 : Ref sig .tc := ⟨.hbm, 2770, rfl⟩
abbrev main_call128_c_0 : Ref sig .tc := ⟨.hbm, 2771, rfl⟩
abbrev main_call128_v2 : Ref sig .tc := ⟨.hbm, 2772, rfl⟩
abbrev main_call128_v3 : Ref sig .tc := ⟨.hbm, 2773, rfl⟩
abbrev main_call128_v4 : Ref sig .tc := ⟨.hbm, 2774, rfl⟩
abbrev main_call128_v5 : Ref sig .tc := ⟨.hbm, 2775, rfl⟩
abbrev main_call128_c_1 : Ref sig .tc := ⟨.hbm, 2776, rfl⟩
abbrev main_call128_c_2 : Ref sig .tc := ⟨.hbm, 2777, rfl⟩
abbrev main_call128_v6 : Ref sig .tc := ⟨.hbm, 2778, rfl⟩
abbrev main_call128_v7 : Ref sig .tc := ⟨.hbm, 2779, rfl⟩
abbrev main_call128_v8 : Ref sig .tc := ⟨.hbm, 2780, rfl⟩
abbrev main_call128_v9 : Ref sig .tc := ⟨.hbm, 2781, rfl⟩
abbrev main_call128_v10 : Ref sig .tc := ⟨.hbm, 2782, rfl⟩
abbrev main_call128_v11 : Ref sig .tc := ⟨.hbm, 2783, rfl⟩
abbrev main_call128_c_3 : Ref sig .tc := ⟨.hbm, 2784, rfl⟩
abbrev main_call128_v12 : Ref sig .tc := ⟨.hbm, 2785, rfl⟩
abbrev main_call128_v13 : Ref sig .tc := ⟨.hbm, 2786, rfl⟩
abbrev main_call128_v14 : Ref sig .tc := ⟨.hbm, 2787, rfl⟩
abbrev main_call128_cst : Ref sig .tc := ⟨.hbm, 2788, rfl⟩
abbrev main_call128_v15 : Ref sig .tc := ⟨.hbm, 2789, rfl⟩
abbrev main_v1260 : Ref sig .tc := ⟨.hbm, 2790, rfl⟩
abbrev main_v1261 : Ref sig .tc := ⟨.hbm, 2791, rfl⟩
abbrev main_v1262 : Ref sig .tc := ⟨.hbm, 2792, rfl⟩
abbrev main_cst_229 : Ref sig .tc := ⟨.hbm, 2793, rfl⟩
abbrev main_v1263 : Ref sig .tc := ⟨.hbm, 2794, rfl⟩
abbrev main_v1264 : Ref sig .tc := ⟨.hbm, 2795, rfl⟩
abbrev main_v1265 : Ref sig .tc := ⟨.hbm, 2796, rfl⟩
abbrev main_cst_230 : Ref sig .tc := ⟨.hbm, 2797, rfl⟩
abbrev main_call129_v0 : Ref sig .tc := ⟨.hbm, 2798, rfl⟩
abbrev main_call129_v1 : Ref sig .tc := ⟨.hbm, 2799, rfl⟩
abbrev main_v1266 : Ref sig .tc := ⟨.hbm, 2800, rfl⟩
abbrev main_v1267 : Ref sig .tc := ⟨.hbm, 2801, rfl⟩
abbrev main_v1268 : Ref sig .tc := ⟨.hbm, 2802, rfl⟩
abbrev main_v1269 : Ref sig .tc := ⟨.hbm, 2803, rfl⟩
abbrev main_call130_c : Ref sig .tc := ⟨.hbm, 2804, rfl⟩
abbrev main_call130_v0 : Ref sig .tc := ⟨.hbm, 2805, rfl⟩
abbrev main_call130_v1 : Ref sig .tc := ⟨.hbm, 2806, rfl⟩
abbrev main_call130_c_0 : Ref sig .tc := ⟨.hbm, 2807, rfl⟩
abbrev main_call130_v2 : Ref sig .tc := ⟨.hbm, 2808, rfl⟩
abbrev main_call130_v3 : Ref sig .tc := ⟨.hbm, 2809, rfl⟩
abbrev main_call130_v4 : Ref sig .tc := ⟨.hbm, 2810, rfl⟩
abbrev main_call130_v5 : Ref sig .tc := ⟨.hbm, 2811, rfl⟩
abbrev main_call130_c_1 : Ref sig .tc := ⟨.hbm, 2812, rfl⟩
abbrev main_call130_c_2 : Ref sig .tc := ⟨.hbm, 2813, rfl⟩
abbrev main_call130_v6 : Ref sig .tc := ⟨.hbm, 2814, rfl⟩
abbrev main_call130_v7 : Ref sig .tc := ⟨.hbm, 2815, rfl⟩
abbrev main_call130_v8 : Ref sig .tc := ⟨.hbm, 2816, rfl⟩
abbrev main_call130_v9 : Ref sig .tc := ⟨.hbm, 2817, rfl⟩
abbrev main_call130_v10 : Ref sig .tc := ⟨.hbm, 2818, rfl⟩
abbrev main_call130_v11 : Ref sig .tc := ⟨.hbm, 2819, rfl⟩
abbrev main_call130_c_3 : Ref sig .tc := ⟨.hbm, 2820, rfl⟩
abbrev main_call130_v12 : Ref sig .tc := ⟨.hbm, 2821, rfl⟩
abbrev main_call130_v13 : Ref sig .tc := ⟨.hbm, 2822, rfl⟩
abbrev main_call130_v14 : Ref sig .tc := ⟨.hbm, 2823, rfl⟩
abbrev main_call130_cst : Ref sig .tc := ⟨.hbm, 2824, rfl⟩
abbrev main_call130_v15 : Ref sig .tc := ⟨.hbm, 2825, rfl⟩
abbrev main_v1270 : Ref sig .tc := ⟨.hbm, 2826, rfl⟩
abbrev main_v1271 : Ref sig .tc := ⟨.hbm, 2827, rfl⟩
abbrev main_v1272 : Ref sig .tc := ⟨.hbm, 2828, rfl⟩
abbrev main_cst_231 : Ref sig .tc := ⟨.hbm, 2829, rfl⟩
abbrev main_v1273 : Ref sig .tc := ⟨.hbm, 2830, rfl⟩
abbrev main_v1274 : Ref sig .tc := ⟨.hbm, 2831, rfl⟩
abbrev main_v1275 : Ref sig .tc := ⟨.hbm, 2832, rfl⟩
abbrev main_cst_232 : Ref sig .tc := ⟨.hbm, 2833, rfl⟩
abbrev main_call131_v0 : Ref sig .tc := ⟨.hbm, 2834, rfl⟩
abbrev main_call131_v1 : Ref sig .tc := ⟨.hbm, 2835, rfl⟩
abbrev main_v1276 : Ref sig .tc := ⟨.hbm, 2836, rfl⟩
abbrev main_v1277 : Ref sig .tc := ⟨.hbm, 2837, rfl⟩
abbrev main_v1278 : Ref sig .tc := ⟨.hbm, 2838, rfl⟩
abbrev main_v1279 : Ref sig .tc := ⟨.hbm, 2839, rfl⟩
abbrev main_call132_c : Ref sig .tc := ⟨.hbm, 2840, rfl⟩
abbrev main_call132_v0 : Ref sig .tc := ⟨.hbm, 2841, rfl⟩
abbrev main_call132_v1 : Ref sig .tc := ⟨.hbm, 2842, rfl⟩
abbrev main_call132_c_0 : Ref sig .tc := ⟨.hbm, 2843, rfl⟩
abbrev main_call132_v2 : Ref sig .tc := ⟨.hbm, 2844, rfl⟩
abbrev main_call132_v3 : Ref sig .tc := ⟨.hbm, 2845, rfl⟩
abbrev main_call132_v4 : Ref sig .tc := ⟨.hbm, 2846, rfl⟩
abbrev main_call132_v5 : Ref sig .tc := ⟨.hbm, 2847, rfl⟩
abbrev main_call132_c_1 : Ref sig .tc := ⟨.hbm, 2848, rfl⟩
abbrev main_call132_c_2 : Ref sig .tc := ⟨.hbm, 2849, rfl⟩
abbrev main_call132_v6 : Ref sig .tc := ⟨.hbm, 2850, rfl⟩
abbrev main_call132_v7 : Ref sig .tc := ⟨.hbm, 2851, rfl⟩
abbrev main_call132_v8 : Ref sig .tc := ⟨.hbm, 2852, rfl⟩
abbrev main_call132_v9 : Ref sig .tc := ⟨.hbm, 2853, rfl⟩
abbrev main_call132_v10 : Ref sig .tc := ⟨.hbm, 2854, rfl⟩
abbrev main_call132_v11 : Ref sig .tc := ⟨.hbm, 2855, rfl⟩
abbrev main_call132_c_3 : Ref sig .tc := ⟨.hbm, 2856, rfl⟩
abbrev main_call132_v12 : Ref sig .tc := ⟨.hbm, 2857, rfl⟩
abbrev main_call132_v13 : Ref sig .tc := ⟨.hbm, 2858, rfl⟩
abbrev main_call132_v14 : Ref sig .tc := ⟨.hbm, 2859, rfl⟩
abbrev main_call132_cst : Ref sig .tc := ⟨.hbm, 2860, rfl⟩
abbrev main_call132_v15 : Ref sig .tc := ⟨.hbm, 2861, rfl⟩
abbrev main_v1280 : Ref sig .tc := ⟨.hbm, 2862, rfl⟩
abbrev main_v1281 : Ref sig .tc := ⟨.hbm, 2863, rfl⟩
abbrev main_v1282 : Ref sig .tc := ⟨.hbm, 2864, rfl⟩
abbrev main_cst_233 : Ref sig .tc := ⟨.hbm, 2865, rfl⟩
abbrev main_v1283 : Ref sig .tc := ⟨.hbm, 2866, rfl⟩
abbrev main_v1284 : Ref sig .tc := ⟨.hbm, 2867, rfl⟩
abbrev main_v1285 : Ref sig .tc := ⟨.hbm, 2868, rfl⟩
abbrev main_cst_234 : Ref sig .tc := ⟨.hbm, 2869, rfl⟩
abbrev main_call133_v0 : Ref sig .tc := ⟨.hbm, 2870, rfl⟩
abbrev main_call133_v1 : Ref sig .tc := ⟨.hbm, 2871, rfl⟩
abbrev main_v1286 : Ref sig .tc := ⟨.hbm, 2872, rfl⟩
abbrev main_v1287 : Ref sig .tc := ⟨.hbm, 2873, rfl⟩
abbrev main_v1288 : Ref sig .tc := ⟨.hbm, 2874, rfl⟩
abbrev main_v1289 : Ref sig .tc := ⟨.hbm, 2875, rfl⟩
abbrev main_call134_c : Ref sig .tc := ⟨.hbm, 2876, rfl⟩
abbrev main_call134_v0 : Ref sig .tc := ⟨.hbm, 2877, rfl⟩
abbrev main_call134_v1 : Ref sig .tc := ⟨.hbm, 2878, rfl⟩
abbrev main_call134_c_0 : Ref sig .tc := ⟨.hbm, 2879, rfl⟩
abbrev main_call134_v2 : Ref sig .tc := ⟨.hbm, 2880, rfl⟩
abbrev main_call134_v3 : Ref sig .tc := ⟨.hbm, 2881, rfl⟩
abbrev main_call134_v4 : Ref sig .tc := ⟨.hbm, 2882, rfl⟩
abbrev main_call134_v5 : Ref sig .tc := ⟨.hbm, 2883, rfl⟩
abbrev main_call134_c_1 : Ref sig .tc := ⟨.hbm, 2884, rfl⟩
abbrev main_call134_c_2 : Ref sig .tc := ⟨.hbm, 2885, rfl⟩
abbrev main_call134_v6 : Ref sig .tc := ⟨.hbm, 2886, rfl⟩
abbrev main_call134_v7 : Ref sig .tc := ⟨.hbm, 2887, rfl⟩
abbrev main_call134_v8 : Ref sig .tc := ⟨.hbm, 2888, rfl⟩
abbrev main_call134_v9 : Ref sig .tc := ⟨.hbm, 2889, rfl⟩
abbrev main_call134_v10 : Ref sig .tc := ⟨.hbm, 2890, rfl⟩
abbrev main_call134_v11 : Ref sig .tc := ⟨.hbm, 2891, rfl⟩
abbrev main_call134_c_3 : Ref sig .tc := ⟨.hbm, 2892, rfl⟩
abbrev main_call134_v12 : Ref sig .tc := ⟨.hbm, 2893, rfl⟩
abbrev main_call134_v13 : Ref sig .tc := ⟨.hbm, 2894, rfl⟩
abbrev main_call134_v14 : Ref sig .tc := ⟨.hbm, 2895, rfl⟩
abbrev main_call134_cst : Ref sig .tc := ⟨.hbm, 2896, rfl⟩
abbrev main_call134_v15 : Ref sig .tc := ⟨.hbm, 2897, rfl⟩
abbrev main_v1290 : Ref sig .tc := ⟨.hbm, 2898, rfl⟩
abbrev main_v1291 : Ref sig .tc := ⟨.hbm, 2899, rfl⟩
abbrev main_v1292 : Ref sig .tc := ⟨.hbm, 2900, rfl⟩
abbrev main_cst_235 : Ref sig .tc := ⟨.hbm, 2901, rfl⟩
abbrev main_v1293 : Ref sig .tc := ⟨.hbm, 2902, rfl⟩
abbrev main_v1294 : Ref sig .tc := ⟨.hbm, 2903, rfl⟩
abbrev main_v1295 : Ref sig .tc := ⟨.hbm, 2904, rfl⟩
abbrev main_cst_236 : Ref sig .tc := ⟨.hbm, 2905, rfl⟩
abbrev main_call135_v0 : Ref sig .tc := ⟨.hbm, 2906, rfl⟩
abbrev main_call135_v1 : Ref sig .tc := ⟨.hbm, 2907, rfl⟩
abbrev main_v1296 : Ref sig .tc := ⟨.hbm, 2908, rfl⟩
abbrev main_v1297 : Ref sig .tc := ⟨.hbm, 2909, rfl⟩
abbrev main_v1298 : Ref sig .tc := ⟨.hbm, 2910, rfl⟩
abbrev main_v1299 : Ref sig .tc := ⟨.hbm, 2911, rfl⟩
abbrev main_call136_c : Ref sig .tc := ⟨.hbm, 2912, rfl⟩
abbrev main_call136_v0 : Ref sig .tc := ⟨.hbm, 2913, rfl⟩
abbrev main_call136_v1 : Ref sig .tc := ⟨.hbm, 2914, rfl⟩
abbrev main_call136_c_0 : Ref sig .tc := ⟨.hbm, 2915, rfl⟩
abbrev main_call136_v2 : Ref sig .tc := ⟨.hbm, 2916, rfl⟩
abbrev main_call136_v3 : Ref sig .tc := ⟨.hbm, 2917, rfl⟩
abbrev main_call136_v4 : Ref sig .tc := ⟨.hbm, 2918, rfl⟩
abbrev main_call136_v5 : Ref sig .tc := ⟨.hbm, 2919, rfl⟩
abbrev main_call136_c_1 : Ref sig .tc := ⟨.hbm, 2920, rfl⟩
abbrev main_call136_c_2 : Ref sig .tc := ⟨.hbm, 2921, rfl⟩
abbrev main_call136_v6 : Ref sig .tc := ⟨.hbm, 2922, rfl⟩
abbrev main_call136_v7 : Ref sig .tc := ⟨.hbm, 2923, rfl⟩
abbrev main_call136_v8 : Ref sig .tc := ⟨.hbm, 2924, rfl⟩
abbrev main_call136_v9 : Ref sig .tc := ⟨.hbm, 2925, rfl⟩
abbrev main_call136_v10 : Ref sig .tc := ⟨.hbm, 2926, rfl⟩
abbrev main_call136_v11 : Ref sig .tc := ⟨.hbm, 2927, rfl⟩
abbrev main_call136_c_3 : Ref sig .tc := ⟨.hbm, 2928, rfl⟩
abbrev main_call136_v12 : Ref sig .tc := ⟨.hbm, 2929, rfl⟩
abbrev main_call136_v13 : Ref sig .tc := ⟨.hbm, 2930, rfl⟩
abbrev main_call136_v14 : Ref sig .tc := ⟨.hbm, 2931, rfl⟩
abbrev main_call136_cst : Ref sig .tc := ⟨.hbm, 2932, rfl⟩
abbrev main_call136_v15 : Ref sig .tc := ⟨.hbm, 2933, rfl⟩
abbrev main_v1300 : Ref sig .tc := ⟨.hbm, 2934, rfl⟩
abbrev main_v1301 : Ref sig .tc := ⟨.hbm, 2935, rfl⟩
abbrev main_v1302 : Ref sig .tc := ⟨.hbm, 2936, rfl⟩
abbrev main_cst_237 : Ref sig .tc := ⟨.hbm, 2937, rfl⟩
abbrev main_v1303 : Ref sig .tc := ⟨.hbm, 2938, rfl⟩
abbrev main_v1304 : Ref sig .tc := ⟨.hbm, 2939, rfl⟩
abbrev main_v1305 : Ref sig .tc := ⟨.hbm, 2940, rfl⟩
abbrev main_cst_238 : Ref sig .tc := ⟨.hbm, 2941, rfl⟩
abbrev main_call137_v0 : Ref sig .tc := ⟨.hbm, 2942, rfl⟩
abbrev main_call137_v1 : Ref sig .tc := ⟨.hbm, 2943, rfl⟩
abbrev main_v1306 : Ref sig .tc := ⟨.hbm, 2944, rfl⟩
abbrev main_v1307 : Ref sig .tc := ⟨.hbm, 2945, rfl⟩
abbrev main_v1308 : Ref sig .tc := ⟨.hbm, 2946, rfl⟩
abbrev main_v1309 : Ref sig .tc := ⟨.hbm, 2947, rfl⟩
abbrev main_call138_c : Ref sig .tc := ⟨.hbm, 2948, rfl⟩
abbrev main_call138_v0 : Ref sig .tc := ⟨.hbm, 2949, rfl⟩
abbrev main_call138_v1 : Ref sig .tc := ⟨.hbm, 2950, rfl⟩
abbrev main_call138_c_0 : Ref sig .tc := ⟨.hbm, 2951, rfl⟩
abbrev main_call138_v2 : Ref sig .tc := ⟨.hbm, 2952, rfl⟩
abbrev main_call138_v3 : Ref sig .tc := ⟨.hbm, 2953, rfl⟩
abbrev main_call138_v4 : Ref sig .tc := ⟨.hbm, 2954, rfl⟩
abbrev main_call138_v5 : Ref sig .tc := ⟨.hbm, 2955, rfl⟩
abbrev main_call138_c_1 : Ref sig .tc := ⟨.hbm, 2956, rfl⟩
abbrev main_call138_c_2 : Ref sig .tc := ⟨.hbm, 2957, rfl⟩
abbrev main_call138_v6 : Ref sig .tc := ⟨.hbm, 2958, rfl⟩
abbrev main_call138_v7 : Ref sig .tc := ⟨.hbm, 2959, rfl⟩
abbrev main_call138_v8 : Ref sig .tc := ⟨.hbm, 2960, rfl⟩
abbrev main_call138_v9 : Ref sig .tc := ⟨.hbm, 2961, rfl⟩
abbrev main_call138_v10 : Ref sig .tc := ⟨.hbm, 2962, rfl⟩
abbrev main_call138_v11 : Ref sig .tc := ⟨.hbm, 2963, rfl⟩
abbrev main_call138_c_3 : Ref sig .tc := ⟨.hbm, 2964, rfl⟩
abbrev main_call138_v12 : Ref sig .tc := ⟨.hbm, 2965, rfl⟩
abbrev main_call138_v13 : Ref sig .tc := ⟨.hbm, 2966, rfl⟩
abbrev main_call138_v14 : Ref sig .tc := ⟨.hbm, 2967, rfl⟩
abbrev main_call138_cst : Ref sig .tc := ⟨.hbm, 2968, rfl⟩
abbrev main_call138_v15 : Ref sig .tc := ⟨.hbm, 2969, rfl⟩
abbrev main_v1310 : Ref sig .tc := ⟨.hbm, 2970, rfl⟩
abbrev main_v1311 : Ref sig .tc := ⟨.hbm, 2971, rfl⟩
abbrev main_v1312 : Ref sig .tc := ⟨.hbm, 2972, rfl⟩
abbrev main_cst_239 : Ref sig .tc := ⟨.hbm, 2973, rfl⟩
abbrev main_v1313 : Ref sig .tc := ⟨.hbm, 2974, rfl⟩
abbrev main_v1314 : Ref sig .tc := ⟨.hbm, 2975, rfl⟩
abbrev main_v1315 : Ref sig .tc := ⟨.hbm, 2976, rfl⟩
abbrev main_cst_240 : Ref sig .tc := ⟨.hbm, 2977, rfl⟩
abbrev main_call139_v0 : Ref sig .tc := ⟨.hbm, 2978, rfl⟩
abbrev main_call139_v1 : Ref sig .tc := ⟨.hbm, 2979, rfl⟩
abbrev main_v1316 : Ref sig .tc := ⟨.hbm, 2980, rfl⟩
abbrev main_v1317 : Ref sig .tc := ⟨.hbm, 2981, rfl⟩
abbrev main_v1318 : Ref sig .tc := ⟨.hbm, 2982, rfl⟩
abbrev main_v1319 : Ref sig .tc := ⟨.hbm, 2983, rfl⟩
abbrev main_call140_c : Ref sig .tc := ⟨.hbm, 2984, rfl⟩
abbrev main_call140_v0 : Ref sig .tc := ⟨.hbm, 2985, rfl⟩
abbrev main_call140_v1 : Ref sig .tc := ⟨.hbm, 2986, rfl⟩
abbrev main_call140_c_0 : Ref sig .tc := ⟨.hbm, 2987, rfl⟩
abbrev main_call140_v2 : Ref sig .tc := ⟨.hbm, 2988, rfl⟩
abbrev main_call140_v3 : Ref sig .tc := ⟨.hbm, 2989, rfl⟩
abbrev main_call140_v4 : Ref sig .tc := ⟨.hbm, 2990, rfl⟩
abbrev main_call140_v5 : Ref sig .tc := ⟨.hbm, 2991, rfl⟩
abbrev main_call140_c_1 : Ref sig .tc := ⟨.hbm, 2992, rfl⟩
abbrev main_call140_c_2 : Ref sig .tc := ⟨.hbm, 2993, rfl⟩
abbrev main_call140_v6 : Ref sig .tc := ⟨.hbm, 2994, rfl⟩
abbrev main_call140_v7 : Ref sig .tc := ⟨.hbm, 2995, rfl⟩
abbrev main_call140_v8 : Ref sig .tc := ⟨.hbm, 2996, rfl⟩
abbrev main_call140_v9 : Ref sig .tc := ⟨.hbm, 2997, rfl⟩
abbrev main_call140_v10 : Ref sig .tc := ⟨.hbm, 2998, rfl⟩
abbrev main_call140_v11 : Ref sig .tc := ⟨.hbm, 2999, rfl⟩
abbrev main_call140_c_3 : Ref sig .tc := ⟨.hbm, 3000, rfl⟩
abbrev main_call140_v12 : Ref sig .tc := ⟨.hbm, 3001, rfl⟩
abbrev main_call140_v13 : Ref sig .tc := ⟨.hbm, 3002, rfl⟩
abbrev main_call140_v14 : Ref sig .tc := ⟨.hbm, 3003, rfl⟩
abbrev main_call140_cst : Ref sig .tc := ⟨.hbm, 3004, rfl⟩
abbrev main_call140_v15 : Ref sig .tc := ⟨.hbm, 3005, rfl⟩
abbrev main_v1320 : Ref sig .tc := ⟨.hbm, 3006, rfl⟩
abbrev main_v1321 : Ref sig .tc := ⟨.hbm, 3007, rfl⟩
abbrev main_v1322 : Ref sig .tc := ⟨.hbm, 3008, rfl⟩
abbrev main_cst_241 : Ref sig .tc := ⟨.hbm, 3009, rfl⟩
abbrev main_v1323 : Ref sig .tc := ⟨.hbm, 3010, rfl⟩
abbrev main_v1324 : Ref sig .tc := ⟨.hbm, 3011, rfl⟩
abbrev main_v1325 : Ref sig .tc := ⟨.hbm, 3012, rfl⟩
abbrev main_cst_242 : Ref sig .tc := ⟨.hbm, 3013, rfl⟩
abbrev main_call141_v0 : Ref sig .tc := ⟨.hbm, 3014, rfl⟩
abbrev main_call141_v1 : Ref sig .tc := ⟨.hbm, 3015, rfl⟩
abbrev main_v1326 : Ref sig .tc := ⟨.hbm, 3016, rfl⟩
abbrev main_v1327 : Ref sig .tc := ⟨.hbm, 3017, rfl⟩
abbrev main_v1328 : Ref sig .tc := ⟨.hbm, 3018, rfl⟩
abbrev main_v1329 : Ref sig .tc := ⟨.hbm, 3019, rfl⟩
abbrev main_call142_c : Ref sig .tc := ⟨.hbm, 3020, rfl⟩
abbrev main_call142_v0 : Ref sig .tc := ⟨.hbm, 3021, rfl⟩
abbrev main_call142_v1 : Ref sig .tc := ⟨.hbm, 3022, rfl⟩
abbrev main_call142_c_0 : Ref sig .tc := ⟨.hbm, 3023, rfl⟩
abbrev main_call142_v2 : Ref sig .tc := ⟨.hbm, 3024, rfl⟩
abbrev main_call142_v3 : Ref sig .tc := ⟨.hbm, 3025, rfl⟩
abbrev main_call142_v4 : Ref sig .tc := ⟨.hbm, 3026, rfl⟩
abbrev main_call142_v5 : Ref sig .tc := ⟨.hbm, 3027, rfl⟩
abbrev main_call142_c_1 : Ref sig .tc := ⟨.hbm, 3028, rfl⟩
abbrev main_call142_c_2 : Ref sig .tc := ⟨.hbm, 3029, rfl⟩
abbrev main_call142_v6 : Ref sig .tc := ⟨.hbm, 3030, rfl⟩
abbrev main_call142_v7 : Ref sig .tc := ⟨.hbm, 3031, rfl⟩
abbrev main_call142_v8 : Ref sig .tc := ⟨.hbm, 3032, rfl⟩
abbrev main_call142_v9 : Ref sig .tc := ⟨.hbm, 3033, rfl⟩
abbrev main_call142_v10 : Ref sig .tc := ⟨.hbm, 3034, rfl⟩
abbrev main_call142_v11 : Ref sig .tc := ⟨.hbm, 3035, rfl⟩
abbrev main_call142_c_3 : Ref sig .tc := ⟨.hbm, 3036, rfl⟩
abbrev main_call142_v12 : Ref sig .tc := ⟨.hbm, 3037, rfl⟩
abbrev main_call142_v13 : Ref sig .tc := ⟨.hbm, 3038, rfl⟩
abbrev main_call142_v14 : Ref sig .tc := ⟨.hbm, 3039, rfl⟩
abbrev main_call142_cst : Ref sig .tc := ⟨.hbm, 3040, rfl⟩
abbrev main_call142_v15 : Ref sig .tc := ⟨.hbm, 3041, rfl⟩
abbrev main_v1330 : Ref sig .tc := ⟨.hbm, 3042, rfl⟩
abbrev main_v1331 : Ref sig .tc := ⟨.hbm, 3043, rfl⟩
abbrev main_v1332 : Ref sig .tc := ⟨.hbm, 3044, rfl⟩
abbrev main_cst_243 : Ref sig .tc := ⟨.hbm, 3045, rfl⟩
abbrev main_v1333 : Ref sig .tc := ⟨.hbm, 3046, rfl⟩
abbrev main_v1334 : Ref sig .tc := ⟨.hbm, 3047, rfl⟩
abbrev main_v1335 : Ref sig .tc := ⟨.hbm, 3048, rfl⟩
abbrev main_cst_244 : Ref sig .tc := ⟨.hbm, 3049, rfl⟩
abbrev main_call143_v0 : Ref sig .tc := ⟨.hbm, 3050, rfl⟩
abbrev main_call143_v1 : Ref sig .tc := ⟨.hbm, 3051, rfl⟩
abbrev main_v1336 : Ref sig .tc := ⟨.hbm, 3052, rfl⟩
abbrev main_v1337 : Ref sig .tc := ⟨.hbm, 3053, rfl⟩
abbrev main_v1338 : Ref sig .tc := ⟨.hbm, 3054, rfl⟩
abbrev main_v1339 : Ref sig .tc := ⟨.hbm, 3055, rfl⟩
abbrev main_call144_c : Ref sig .tc := ⟨.hbm, 3056, rfl⟩
abbrev main_call144_v0 : Ref sig .tc := ⟨.hbm, 3057, rfl⟩
abbrev main_call144_v1 : Ref sig .tc := ⟨.hbm, 3058, rfl⟩
abbrev main_call144_c_0 : Ref sig .tc := ⟨.hbm, 3059, rfl⟩
abbrev main_call144_v2 : Ref sig .tc := ⟨.hbm, 3060, rfl⟩
abbrev main_call144_v3 : Ref sig .tc := ⟨.hbm, 3061, rfl⟩
abbrev main_call144_v4 : Ref sig .tc := ⟨.hbm, 3062, rfl⟩
abbrev main_call144_v5 : Ref sig .tc := ⟨.hbm, 3063, rfl⟩
abbrev main_call144_c_1 : Ref sig .tc := ⟨.hbm, 3064, rfl⟩
abbrev main_call144_c_2 : Ref sig .tc := ⟨.hbm, 3065, rfl⟩
abbrev main_call144_v6 : Ref sig .tc := ⟨.hbm, 3066, rfl⟩
abbrev main_call144_v7 : Ref sig .tc := ⟨.hbm, 3067, rfl⟩
abbrev main_call144_v8 : Ref sig .tc := ⟨.hbm, 3068, rfl⟩
abbrev main_call144_v9 : Ref sig .tc := ⟨.hbm, 3069, rfl⟩
abbrev main_call144_v10 : Ref sig .tc := ⟨.hbm, 3070, rfl⟩
abbrev main_call144_v11 : Ref sig .tc := ⟨.hbm, 3071, rfl⟩
abbrev main_call144_c_3 : Ref sig .tc := ⟨.hbm, 3072, rfl⟩
abbrev main_call144_v12 : Ref sig .tc := ⟨.hbm, 3073, rfl⟩
abbrev main_call144_v13 : Ref sig .tc := ⟨.hbm, 3074, rfl⟩
abbrev main_call144_v14 : Ref sig .tc := ⟨.hbm, 3075, rfl⟩
abbrev main_call144_cst : Ref sig .tc := ⟨.hbm, 3076, rfl⟩
abbrev main_call144_v15 : Ref sig .tc := ⟨.hbm, 3077, rfl⟩
abbrev main_v1340 : Ref sig .tc := ⟨.hbm, 3078, rfl⟩
abbrev main_v1341 : Ref sig .tc := ⟨.hbm, 3079, rfl⟩
abbrev main_v1342 : Ref sig .tc := ⟨.hbm, 3080, rfl⟩
abbrev main_cst_245 : Ref sig .tc := ⟨.hbm, 3081, rfl⟩
abbrev main_v1343 : Ref sig .tc := ⟨.hbm, 3082, rfl⟩
abbrev main_v1344 : Ref sig .tc := ⟨.hbm, 3083, rfl⟩
abbrev main_v1345 : Ref sig .tc := ⟨.hbm, 3084, rfl⟩
abbrev main_cst_246 : Ref sig .tc := ⟨.hbm, 3085, rfl⟩
abbrev main_call145_v0 : Ref sig .tc := ⟨.hbm, 3086, rfl⟩
abbrev main_call145_v1 : Ref sig .tc := ⟨.hbm, 3087, rfl⟩
abbrev main_v1346 : Ref sig .tc := ⟨.hbm, 3088, rfl⟩
abbrev main_v1347 : Ref sig .tc := ⟨.hbm, 3089, rfl⟩
abbrev main_v1348 : Ref sig .tc := ⟨.hbm, 3090, rfl⟩
abbrev main_v1349 : Ref sig .tc := ⟨.hbm, 3091, rfl⟩
abbrev main_call146_c : Ref sig .tc := ⟨.hbm, 3092, rfl⟩
abbrev main_call146_v0 : Ref sig .tc := ⟨.hbm, 3093, rfl⟩
abbrev main_call146_v1 : Ref sig .tc := ⟨.hbm, 3094, rfl⟩
abbrev main_call146_c_0 : Ref sig .tc := ⟨.hbm, 3095, rfl⟩
abbrev main_call146_v2 : Ref sig .tc := ⟨.hbm, 3096, rfl⟩
abbrev main_call146_v3 : Ref sig .tc := ⟨.hbm, 3097, rfl⟩
abbrev main_call146_v4 : Ref sig .tc := ⟨.hbm, 3098, rfl⟩
abbrev main_call146_v5 : Ref sig .tc := ⟨.hbm, 3099, rfl⟩
abbrev main_call146_c_1 : Ref sig .tc := ⟨.hbm, 3100, rfl⟩
abbrev main_call146_c_2 : Ref sig .tc := ⟨.hbm, 3101, rfl⟩
abbrev main_call146_v6 : Ref sig .tc := ⟨.hbm, 3102, rfl⟩
abbrev main_call146_v7 : Ref sig .tc := ⟨.hbm, 3103, rfl⟩
abbrev main_call146_v8 : Ref sig .tc := ⟨.hbm, 3104, rfl⟩
abbrev main_call146_v9 : Ref sig .tc := ⟨.hbm, 3105, rfl⟩
abbrev main_call146_v10 : Ref sig .tc := ⟨.hbm, 3106, rfl⟩
abbrev main_call146_v11 : Ref sig .tc := ⟨.hbm, 3107, rfl⟩
abbrev main_call146_c_3 : Ref sig .tc := ⟨.hbm, 3108, rfl⟩
abbrev main_call146_v12 : Ref sig .tc := ⟨.hbm, 3109, rfl⟩
abbrev main_call146_v13 : Ref sig .tc := ⟨.hbm, 3110, rfl⟩
abbrev main_call146_v14 : Ref sig .tc := ⟨.hbm, 3111, rfl⟩
abbrev main_call146_cst : Ref sig .tc := ⟨.hbm, 3112, rfl⟩
abbrev main_call146_v15 : Ref sig .tc := ⟨.hbm, 3113, rfl⟩
abbrev main_v1350 : Ref sig .tc := ⟨.hbm, 3114, rfl⟩
abbrev main_v1351 : Ref sig .tc := ⟨.hbm, 3115, rfl⟩
abbrev main_v1352 : Ref sig .tc := ⟨.hbm, 3116, rfl⟩
abbrev main_cst_247 : Ref sig .tc := ⟨.hbm, 3117, rfl⟩
abbrev main_v1353 : Ref sig .tc := ⟨.hbm, 3118, rfl⟩
abbrev main_v1354 : Ref sig .tc := ⟨.hbm, 3119, rfl⟩
abbrev main_v1355 : Ref sig .tc := ⟨.hbm, 3120, rfl⟩
abbrev main_cst_248 : Ref sig .tc := ⟨.hbm, 3121, rfl⟩
abbrev main_call147_v0 : Ref sig .tc := ⟨.hbm, 3122, rfl⟩
abbrev main_call147_v1 : Ref sig .tc := ⟨.hbm, 3123, rfl⟩
abbrev main_v1356 : Ref sig .tc := ⟨.hbm, 3124, rfl⟩
abbrev main_v1357 : Ref sig .tc := ⟨.hbm, 3125, rfl⟩
abbrev main_v1358 : Ref sig .tc := ⟨.hbm, 3126, rfl⟩
abbrev main_v1359 : Ref sig .tc := ⟨.hbm, 3127, rfl⟩
abbrev main_call148_c : Ref sig .tc := ⟨.hbm, 3128, rfl⟩
abbrev main_call148_v0 : Ref sig .tc := ⟨.hbm, 3129, rfl⟩
abbrev main_call148_v1 : Ref sig .tc := ⟨.hbm, 3130, rfl⟩
abbrev main_call148_c_0 : Ref sig .tc := ⟨.hbm, 3131, rfl⟩
abbrev main_call148_v2 : Ref sig .tc := ⟨.hbm, 3132, rfl⟩
abbrev main_call148_v3 : Ref sig .tc := ⟨.hbm, 3133, rfl⟩
abbrev main_call148_v4 : Ref sig .tc := ⟨.hbm, 3134, rfl⟩
abbrev main_call148_v5 : Ref sig .tc := ⟨.hbm, 3135, rfl⟩
abbrev main_call148_c_1 : Ref sig .tc := ⟨.hbm, 3136, rfl⟩
abbrev main_call148_c_2 : Ref sig .tc := ⟨.hbm, 3137, rfl⟩
abbrev main_call148_v6 : Ref sig .tc := ⟨.hbm, 3138, rfl⟩
abbrev main_call148_v7 : Ref sig .tc := ⟨.hbm, 3139, rfl⟩
abbrev main_call148_v8 : Ref sig .tc := ⟨.hbm, 3140, rfl⟩
abbrev main_call148_v9 : Ref sig .tc := ⟨.hbm, 3141, rfl⟩
abbrev main_call148_v10 : Ref sig .tc := ⟨.hbm, 3142, rfl⟩
abbrev main_call148_v11 : Ref sig .tc := ⟨.hbm, 3143, rfl⟩
abbrev main_call148_c_3 : Ref sig .tc := ⟨.hbm, 3144, rfl⟩
abbrev main_call148_v12 : Ref sig .tc := ⟨.hbm, 3145, rfl⟩
abbrev main_call148_v13 : Ref sig .tc := ⟨.hbm, 3146, rfl⟩
abbrev main_call148_v14 : Ref sig .tc := ⟨.hbm, 3147, rfl⟩
abbrev main_call148_cst : Ref sig .tc := ⟨.hbm, 3148, rfl⟩
abbrev main_call148_v15 : Ref sig .tc := ⟨.hbm, 3149, rfl⟩
abbrev main_v1360 : Ref sig .tc := ⟨.hbm, 3150, rfl⟩
abbrev main_v1361 : Ref sig .tc := ⟨.hbm, 3151, rfl⟩
abbrev main_v1362 : Ref sig .tc := ⟨.hbm, 3152, rfl⟩
abbrev main_cst_249 : Ref sig .tc := ⟨.hbm, 3153, rfl⟩
abbrev main_v1363 : Ref sig .tc := ⟨.hbm, 3154, rfl⟩
abbrev main_v1364 : Ref sig .tc := ⟨.hbm, 3155, rfl⟩
abbrev main_v1365 : Ref sig .tc := ⟨.hbm, 3156, rfl⟩
abbrev main_cst_250 : Ref sig .tc := ⟨.hbm, 3157, rfl⟩
abbrev main_call149_v0 : Ref sig .tc := ⟨.hbm, 3158, rfl⟩
abbrev main_call149_v1 : Ref sig .tc := ⟨.hbm, 3159, rfl⟩
abbrev main_v1366 : Ref sig .tc := ⟨.hbm, 3160, rfl⟩
abbrev main_v1367 : Ref sig .tc := ⟨.hbm, 3161, rfl⟩
abbrev main_v1368 : Ref sig .tc := ⟨.hbm, 3162, rfl⟩
abbrev main_v1369 : Ref sig .tc := ⟨.hbm, 3163, rfl⟩
abbrev main_call150_c : Ref sig .tc := ⟨.hbm, 3164, rfl⟩
abbrev main_call150_v0 : Ref sig .tc := ⟨.hbm, 3165, rfl⟩
abbrev main_call150_v1 : Ref sig .tc := ⟨.hbm, 3166, rfl⟩
abbrev main_call150_c_0 : Ref sig .tc := ⟨.hbm, 3167, rfl⟩
abbrev main_call150_v2 : Ref sig .tc := ⟨.hbm, 3168, rfl⟩
abbrev main_call150_v3 : Ref sig .tc := ⟨.hbm, 3169, rfl⟩
abbrev main_call150_v4 : Ref sig .tc := ⟨.hbm, 3170, rfl⟩
abbrev main_call150_v5 : Ref sig .tc := ⟨.hbm, 3171, rfl⟩
abbrev main_call150_c_1 : Ref sig .tc := ⟨.hbm, 3172, rfl⟩
abbrev main_call150_c_2 : Ref sig .tc := ⟨.hbm, 3173, rfl⟩
abbrev main_call150_v6 : Ref sig .tc := ⟨.hbm, 3174, rfl⟩
abbrev main_call150_v7 : Ref sig .tc := ⟨.hbm, 3175, rfl⟩
abbrev main_call150_v8 : Ref sig .tc := ⟨.hbm, 3176, rfl⟩
abbrev main_call150_v9 : Ref sig .tc := ⟨.hbm, 3177, rfl⟩
abbrev main_call150_v10 : Ref sig .tc := ⟨.hbm, 3178, rfl⟩
abbrev main_call150_v11 : Ref sig .tc := ⟨.hbm, 3179, rfl⟩
abbrev main_call150_c_3 : Ref sig .tc := ⟨.hbm, 3180, rfl⟩
abbrev main_call150_v12 : Ref sig .tc := ⟨.hbm, 3181, rfl⟩
abbrev main_call150_v13 : Ref sig .tc := ⟨.hbm, 3182, rfl⟩
abbrev main_call150_v14 : Ref sig .tc := ⟨.hbm, 3183, rfl⟩
abbrev main_call150_cst : Ref sig .tc := ⟨.hbm, 3184, rfl⟩
abbrev main_call150_v15 : Ref sig .tc := ⟨.hbm, 3185, rfl⟩
abbrev main_v1370 : Ref sig .tc := ⟨.hbm, 3186, rfl⟩
abbrev main_v1371 : Ref sig .tc := ⟨.hbm, 3187, rfl⟩
abbrev main_v1372 : Ref sig .tc := ⟨.hbm, 3188, rfl⟩
abbrev main_cst_251 : Ref sig .tc := ⟨.hbm, 3189, rfl⟩
abbrev main_v1373 : Ref sig .tc := ⟨.hbm, 3190, rfl⟩
abbrev main_v1374 : Ref sig .tc := ⟨.hbm, 3191, rfl⟩
abbrev main_v1375 : Ref sig .tc := ⟨.hbm, 3192, rfl⟩
abbrev main_cst_252 : Ref sig .tc := ⟨.hbm, 3193, rfl⟩
abbrev main_call151_v0 : Ref sig .tc := ⟨.hbm, 3194, rfl⟩
abbrev main_call151_v1 : Ref sig .tc := ⟨.hbm, 3195, rfl⟩
abbrev main_v1376 : Ref sig .tc := ⟨.hbm, 3196, rfl⟩
abbrev main_v1377 : Ref sig .tc := ⟨.hbm, 3197, rfl⟩
abbrev main_v1378 : Ref sig .tc := ⟨.hbm, 3198, rfl⟩
abbrev main_v1379 : Ref sig .tc := ⟨.hbm, 3199, rfl⟩
abbrev main_call152_c : Ref sig .tc := ⟨.hbm, 3200, rfl⟩
abbrev main_call152_v0 : Ref sig .tc := ⟨.hbm, 3201, rfl⟩
abbrev main_call152_v1 : Ref sig .tc := ⟨.hbm, 3202, rfl⟩
abbrev main_call152_c_0 : Ref sig .tc := ⟨.hbm, 3203, rfl⟩
abbrev main_call152_v2 : Ref sig .tc := ⟨.hbm, 3204, rfl⟩
abbrev main_call152_v3 : Ref sig .tc := ⟨.hbm, 3205, rfl⟩
abbrev main_call152_v4 : Ref sig .tc := ⟨.hbm, 3206, rfl⟩
abbrev main_call152_v5 : Ref sig .tc := ⟨.hbm, 3207, rfl⟩
abbrev main_call152_c_1 : Ref sig .tc := ⟨.hbm, 3208, rfl⟩
abbrev main_call152_c_2 : Ref sig .tc := ⟨.hbm, 3209, rfl⟩
abbrev main_call152_v6 : Ref sig .tc := ⟨.hbm, 3210, rfl⟩
abbrev main_call152_v7 : Ref sig .tc := ⟨.hbm, 3211, rfl⟩
abbrev main_call152_v8 : Ref sig .tc := ⟨.hbm, 3212, rfl⟩
abbrev main_call152_v9 : Ref sig .tc := ⟨.hbm, 3213, rfl⟩
abbrev main_call152_v10 : Ref sig .tc := ⟨.hbm, 3214, rfl⟩
abbrev main_call152_v11 : Ref sig .tc := ⟨.hbm, 3215, rfl⟩
abbrev main_call152_c_3 : Ref sig .tc := ⟨.hbm, 3216, rfl⟩
abbrev main_call152_v12 : Ref sig .tc := ⟨.hbm, 3217, rfl⟩
abbrev main_call152_v13 : Ref sig .tc := ⟨.hbm, 3218, rfl⟩
abbrev main_call152_v14 : Ref sig .tc := ⟨.hbm, 3219, rfl⟩
abbrev main_call152_cst : Ref sig .tc := ⟨.hbm, 3220, rfl⟩
abbrev main_call152_v15 : Ref sig .tc := ⟨.hbm, 3221, rfl⟩
abbrev main_v1380 : Ref sig .tc := ⟨.hbm, 3222, rfl⟩
abbrev main_v1381 : Ref sig .tc := ⟨.hbm, 3223, rfl⟩
abbrev main_v1382 : Ref sig .tc := ⟨.hbm, 3224, rfl⟩
abbrev main_cst_253 : Ref sig .tc := ⟨.hbm, 3225, rfl⟩
abbrev main_v1383 : Ref sig .tc := ⟨.hbm, 3226, rfl⟩
abbrev main_v1384 : Ref sig .tc := ⟨.hbm, 3227, rfl⟩
abbrev main_v1385 : Ref sig .tc := ⟨.hbm, 3228, rfl⟩
abbrev main_cst_254 : Ref sig .tc := ⟨.hbm, 3229, rfl⟩
abbrev main_call153_v0 : Ref sig .tc := ⟨.hbm, 3230, rfl⟩
abbrev main_call153_v1 : Ref sig .tc := ⟨.hbm, 3231, rfl⟩
abbrev main_v1386 : Ref sig .tc := ⟨.hbm, 3232, rfl⟩
abbrev main_v1387 : Ref sig .tc := ⟨.hbm, 3233, rfl⟩
abbrev main_v1388 : Ref sig .tc := ⟨.hbm, 3234, rfl⟩
abbrev main_v1389 : Ref sig .tc := ⟨.hbm, 3235, rfl⟩
abbrev main_call154_c : Ref sig .tc := ⟨.hbm, 3236, rfl⟩
abbrev main_call154_v0 : Ref sig .tc := ⟨.hbm, 3237, rfl⟩
abbrev main_call154_v1 : Ref sig .tc := ⟨.hbm, 3238, rfl⟩
abbrev main_call154_c_0 : Ref sig .tc := ⟨.hbm, 3239, rfl⟩
abbrev main_call154_v2 : Ref sig .tc := ⟨.hbm, 3240, rfl⟩
abbrev main_call154_v3 : Ref sig .tc := ⟨.hbm, 3241, rfl⟩
abbrev main_call154_v4 : Ref sig .tc := ⟨.hbm, 3242, rfl⟩
abbrev main_call154_v5 : Ref sig .tc := ⟨.hbm, 3243, rfl⟩
abbrev main_call154_c_1 : Ref sig .tc := ⟨.hbm, 3244, rfl⟩
abbrev main_call154_c_2 : Ref sig .tc := ⟨.hbm, 3245, rfl⟩
abbrev main_call154_v6 : Ref sig .tc := ⟨.hbm, 3246, rfl⟩
abbrev main_call154_v7 : Ref sig .tc := ⟨.hbm, 3247, rfl⟩
abbrev main_call154_v8 : Ref sig .tc := ⟨.hbm, 3248, rfl⟩
abbrev main_call154_v9 : Ref sig .tc := ⟨.hbm, 3249, rfl⟩
abbrev main_call154_v10 : Ref sig .tc := ⟨.hbm, 3250, rfl⟩
abbrev main_call154_v11 : Ref sig .tc := ⟨.hbm, 3251, rfl⟩
abbrev main_call154_c_3 : Ref sig .tc := ⟨.hbm, 3252, rfl⟩
abbrev main_call154_v12 : Ref sig .tc := ⟨.hbm, 3253, rfl⟩
abbrev main_call154_v13 : Ref sig .tc := ⟨.hbm, 3254, rfl⟩
abbrev main_call154_v14 : Ref sig .tc := ⟨.hbm, 3255, rfl⟩
abbrev main_call154_cst : Ref sig .tc := ⟨.hbm, 3256, rfl⟩
abbrev main_call154_v15 : Ref sig .tc := ⟨.hbm, 3257, rfl⟩
abbrev main_v1390 : Ref sig .tc := ⟨.hbm, 3258, rfl⟩
abbrev main_v1391 : Ref sig .tc := ⟨.hbm, 3259, rfl⟩
abbrev main_v1392 : Ref sig .tc := ⟨.hbm, 3260, rfl⟩
abbrev main_cst_255 : Ref sig .tc := ⟨.hbm, 3261, rfl⟩
abbrev main_v1393 : Ref sig .tc := ⟨.hbm, 3262, rfl⟩
abbrev main_v1394 : Ref sig .tc := ⟨.hbm, 3263, rfl⟩
abbrev main_v1395 : Ref sig .tc := ⟨.hbm, 3264, rfl⟩
abbrev main_cst_256 : Ref sig .tc := ⟨.hbm, 3265, rfl⟩
abbrev main_call155_v0 : Ref sig .tc := ⟨.hbm, 3266, rfl⟩
abbrev main_call155_v1 : Ref sig .tc := ⟨.hbm, 3267, rfl⟩
abbrev main_v1396 : Ref sig .tc := ⟨.hbm, 3268, rfl⟩
abbrev main_v1397 : Ref sig .tc := ⟨.hbm, 3269, rfl⟩
abbrev main_v1398 : Ref sig .tc := ⟨.hbm, 3270, rfl⟩
abbrev main_v1399 : Ref sig .tc := ⟨.hbm, 3271, rfl⟩
abbrev main_v1400 : Ref sig .tc := ⟨.hbm, 3272, rfl⟩
abbrev main_v1401 : Ref sig .tc := ⟨.hbm, 3273, rfl⟩
abbrev main_v1402 : Ref sig .tc := ⟨.hbm, 3274, rfl⟩
abbrev main_v1403 : Ref sig .tc := ⟨.hbm, 3275, rfl⟩
abbrev main_v1404 : Ref sig .tc := ⟨.hbm, 3276, rfl⟩
abbrev main_v1405 : Ref sig .tc := ⟨.hbm, 3277, rfl⟩
abbrev main_v1406 : Ref sig .tc := ⟨.hbm, 3278, rfl⟩
abbrev main_v1407 : Ref sig .tc := ⟨.hbm, 3279, rfl⟩
abbrev main_v1408 : Ref sig .tc := ⟨.hbm, 3280, rfl⟩
abbrev main_v1409 : Ref sig .tc := ⟨.hbm, 3281, rfl⟩
abbrev main_v1410 : Ref sig .tc := ⟨.hbm, 3282, rfl⟩
abbrev main_v1411 : Ref sig .tc := ⟨.hbm, 3283, rfl⟩
abbrev main_v1412 : Ref sig .tc := ⟨.hbm, 3284, rfl⟩
abbrev main_v1413 : Ref sig .tc := ⟨.hbm, 3285, rfl⟩
abbrev main_v1414 : Ref sig .tc := ⟨.hbm, 3286, rfl⟩
abbrev main_v1415 : Ref sig .tc := ⟨.hbm, 3287, rfl⟩
abbrev main_v1416 : Ref sig .tc := ⟨.hbm, 3288, rfl⟩
abbrev main_v1417 : Ref sig .tc := ⟨.hbm, 3289, rfl⟩
abbrev main_v1418 : Ref sig .tc := ⟨.hbm, 3290, rfl⟩
abbrev main_v1419 : Ref sig .tc := ⟨.hbm, 3291, rfl⟩
abbrev main_v1420 : Ref sig .tc := ⟨.hbm, 3292, rfl⟩
abbrev main_v1421 : Ref sig .tc := ⟨.hbm, 3293, rfl⟩
abbrev main_v1422 : Ref sig .tc := ⟨.hbm, 3294, rfl⟩
abbrev main_v1423 : Ref sig .tc := ⟨.hbm, 3295, rfl⟩
abbrev main_v1424 : Ref sig .tc := ⟨.hbm, 3296, rfl⟩
abbrev main_v1425 : Ref sig .tc := ⟨.hbm, 3297, rfl⟩
abbrev main_v1426 : Ref sig .tc := ⟨.hbm, 3298, rfl⟩
abbrev main_v1427 : Ref sig .tc := ⟨.hbm, 3299, rfl⟩
abbrev main_cst_257 : Ref sig .tc := ⟨.hbm, 3300, rfl⟩
abbrev main_v1428 : Ref sig .tc := ⟨.hbm, 3301, rfl⟩
abbrev main_v1429 : Ref sig .tc := ⟨.hbm, 3302, rfl⟩
abbrev main_cst_258 : Ref sig .tc := ⟨.hbm, 3303, rfl⟩
abbrev main_v1430 : Ref sig .tc := ⟨.hbm, 3304, rfl⟩
abbrev main_cst_259 : Ref sig .tc := ⟨.hbm, 3305, rfl⟩
abbrev main_v1431 : Ref sig .tc := ⟨.hbm, 3306, rfl⟩
abbrev main_v1432 : Ref sig .tc := ⟨.hbm, 3307, rfl⟩
abbrev main_v1433 : Ref sig .tc := ⟨.hbm, 3308, rfl⟩
abbrev main_v1434 : Ref sig .tc := ⟨.hbm, 3309, rfl⟩
abbrev main_v1435 : Ref sig .tc := ⟨.hbm, 3310, rfl⟩
abbrev main_v1436 : Ref sig .tc := ⟨.hbm, 3311, rfl⟩
abbrev main_cst_260 : Ref sig .tc := ⟨.hbm, 3312, rfl⟩
abbrev main_v1437 : Ref sig .tc := ⟨.hbm, 3313, rfl⟩
abbrev main_v1438 : Ref sig .tc := ⟨.hbm, 3314, rfl⟩
abbrev main_v1439 : Ref sig .tc := ⟨.hbm, 3315, rfl⟩
abbrev main_v1440 : Ref sig .tc := ⟨.hbm, 3316, rfl⟩
abbrev main_v1441 : Ref sig .tc := ⟨.hbm, 3317, rfl⟩
abbrev main_v1442 : Ref sig .tc := ⟨.hbm, 3318, rfl⟩
abbrev main_v1443 : Ref sig .tc := ⟨.hbm, 3319, rfl⟩
abbrev main_v1444 : Ref sig .tc := ⟨.hbm, 3320, rfl⟩
abbrev main_c_261 : Ref sig .tc := ⟨.hbm, 3321, rfl⟩
abbrev main_call156_v0 : Ref sig .tc := ⟨.hbm, 3322, rfl⟩
abbrev main_call156_v1 : Ref sig .tc := ⟨.hbm, 3323, rfl⟩
abbrev main_call156_v2 : Ref sig .tc := ⟨.hbm, 3324, rfl⟩
abbrev main_call156_v3 : Ref sig .tc := ⟨.hbm, 3325, rfl⟩
abbrev main_call156_v4 : Ref sig .tc := ⟨.hbm, 3326, rfl⟩
abbrev main_call156_v5 : Ref sig .tc := ⟨.hbm, 3327, rfl⟩
abbrev main_call156_v6 : Ref sig .tc := ⟨.hbm, 3328, rfl⟩
abbrev main_call156_v7 : Ref sig .tc := ⟨.hbm, 3329, rfl⟩
abbrev main_call156_v8 : Ref sig .tc := ⟨.hbm, 3330, rfl⟩
abbrev main_call156_c : Ref sig .tc := ⟨.hbm, 3331, rfl⟩
abbrev main_call156_v9 : Ref sig .tc := ⟨.hbm, 3332, rfl⟩
abbrev main_call156_v10 : Ref sig .tc := ⟨.hbm, 3333, rfl⟩
abbrev main_call156_v11 : Ref sig .tc := ⟨.hbm, 3334, rfl⟩
abbrev main_call156_c_0 : Ref sig .tc := ⟨.hbm, 3335, rfl⟩
abbrev main_call156_v12 : Ref sig .tc := ⟨.hbm, 3336, rfl⟩
abbrev main_call156_v13 : Ref sig .tc := ⟨.hbm, 3337, rfl⟩
abbrev main_v1445 : Ref sig .tc := ⟨.hbm, 3338, rfl⟩
abbrev main_c_262 : Ref sig .tc := ⟨.hbm, 3339, rfl⟩
abbrev main_call157_v0 : Ref sig .tc := ⟨.hbm, 3340, rfl⟩
abbrev main_call157_v1 : Ref sig .tc := ⟨.hbm, 3341, rfl⟩
abbrev main_call157_v2 : Ref sig .tc := ⟨.hbm, 3342, rfl⟩
abbrev main_call157_v3 : Ref sig .tc := ⟨.hbm, 3343, rfl⟩
abbrev main_call157_v4 : Ref sig .tc := ⟨.hbm, 3344, rfl⟩
abbrev main_call157_v5 : Ref sig .tc := ⟨.hbm, 3345, rfl⟩
abbrev main_call157_v6 : Ref sig .tc := ⟨.hbm, 3346, rfl⟩
abbrev main_call157_v7 : Ref sig .tc := ⟨.hbm, 3347, rfl⟩
abbrev main_call157_v8 : Ref sig .tc := ⟨.hbm, 3348, rfl⟩
abbrev main_call157_c : Ref sig .tc := ⟨.hbm, 3349, rfl⟩
abbrev main_call157_v9 : Ref sig .tc := ⟨.hbm, 3350, rfl⟩
abbrev main_call157_v10 : Ref sig .tc := ⟨.hbm, 3351, rfl⟩
abbrev main_call157_v11 : Ref sig .tc := ⟨.hbm, 3352, rfl⟩
abbrev main_call157_c_0 : Ref sig .tc := ⟨.hbm, 3353, rfl⟩
abbrev main_call157_v12 : Ref sig .tc := ⟨.hbm, 3354, rfl⟩
abbrev main_call157_v13 : Ref sig .tc := ⟨.hbm, 3355, rfl⟩
abbrev main_v1446 : Ref sig .tc := ⟨.hbm, 3356, rfl⟩
abbrev main_c_263 : Ref sig .tc := ⟨.hbm, 3357, rfl⟩
abbrev main_call158_v0 : Ref sig .tc := ⟨.hbm, 3358, rfl⟩
abbrev main_call158_c : Ref sig .tc := ⟨.hbm, 3359, rfl⟩
abbrev main_call158_v1 : Ref sig .tc := ⟨.hbm, 3360, rfl⟩
abbrev main_call158_c_0 : Ref sig .tc := ⟨.hbm, 3361, rfl⟩
abbrev main_call158_v2 : Ref sig .tc := ⟨.hbm, 3362, rfl⟩
abbrev main_call158_v3 : Ref sig .tc := ⟨.hbm, 3363, rfl⟩
abbrev main_call158_v4 : Ref sig .tc := ⟨.hbm, 3364, rfl⟩
abbrev main_call158_c_1 : Ref sig .tc := ⟨.hbm, 3365, rfl⟩
abbrev main_call158_v5 : Ref sig .tc := ⟨.hbm, 3366, rfl⟩
abbrev main_call158_v6 : Ref sig .tc := ⟨.hbm, 3367, rfl⟩
abbrev main_call158_c_2 : Ref sig .tc := ⟨.hbm, 3368, rfl⟩
abbrev main_call158_v7 : Ref sig .tc := ⟨.hbm, 3369, rfl⟩
abbrev main_call158_v8 : Ref sig .tc := ⟨.hbm, 3370, rfl⟩
abbrev main_call158_c_3 : Ref sig .tc := ⟨.hbm, 3371, rfl⟩
abbrev main_call158_v9 : Ref sig .tc := ⟨.hbm, 3372, rfl⟩
abbrev main_call158_v10 : Ref sig .tc := ⟨.hbm, 3373, rfl⟩
abbrev main_call158_v11 : Ref sig .tc := ⟨.hbm, 3374, rfl⟩
abbrev main_call158_v12 : Ref sig .tc := ⟨.hbm, 3375, rfl⟩
abbrev main_call158_v13 : Ref sig .tc := ⟨.hbm, 3376, rfl⟩
abbrev main_call158_v14 : Ref sig .tc := ⟨.hbm, 3377, rfl⟩
abbrev main_v1447 : Ref sig .tc := ⟨.hbm, 3378, rfl⟩
abbrev main_c_264 : Ref sig .tc := ⟨.hbm, 3379, rfl⟩
abbrev main_call159_v0 : Ref sig .tc := ⟨.hbm, 3380, rfl⟩
abbrev main_call159_c : Ref sig .tc := ⟨.hbm, 3381, rfl⟩
abbrev main_call159_v1 : Ref sig .tc := ⟨.hbm, 3382, rfl⟩
abbrev main_call159_c_0 : Ref sig .tc := ⟨.hbm, 3383, rfl⟩
abbrev main_call159_v2 : Ref sig .tc := ⟨.hbm, 3384, rfl⟩
abbrev main_call159_v3 : Ref sig .tc := ⟨.hbm, 3385, rfl⟩
abbrev main_call159_v4 : Ref sig .tc := ⟨.hbm, 3386, rfl⟩
abbrev main_call159_c_1 : Ref sig .tc := ⟨.hbm, 3387, rfl⟩
abbrev main_call159_v5 : Ref sig .tc := ⟨.hbm, 3388, rfl⟩
abbrev main_call159_v6 : Ref sig .tc := ⟨.hbm, 3389, rfl⟩
abbrev main_call159_c_2 : Ref sig .tc := ⟨.hbm, 3390, rfl⟩
abbrev main_call159_v7 : Ref sig .tc := ⟨.hbm, 3391, rfl⟩
abbrev main_call159_v8 : Ref sig .tc := ⟨.hbm, 3392, rfl⟩
abbrev main_call159_c_3 : Ref sig .tc := ⟨.hbm, 3393, rfl⟩
abbrev main_call159_v9 : Ref sig .tc := ⟨.hbm, 3394, rfl⟩
abbrev main_call159_v10 : Ref sig .tc := ⟨.hbm, 3395, rfl⟩
abbrev main_call159_v11 : Ref sig .tc := ⟨.hbm, 3396, rfl⟩
abbrev main_call159_v12 : Ref sig .tc := ⟨.hbm, 3397, rfl⟩
abbrev main_call159_v13 : Ref sig .tc := ⟨.hbm, 3398, rfl⟩
abbrev main_call159_v14 : Ref sig .tc := ⟨.hbm, 3399, rfl⟩
abbrev main_v1448 : Ref sig .tc := ⟨.hbm, 3400, rfl⟩
abbrev main_v1449 : Ref sig .tc := ⟨.hbm, 3401, rfl⟩
abbrev main_v1450 : Ref sig .tc := ⟨.hbm, 3402, rfl⟩
abbrev main_v1451 : Ref sig .tc := ⟨.hbm, 3403, rfl⟩
abbrev main_v1452 : Ref sig .tc := ⟨.hbm, 3404, rfl⟩
abbrev main_v1453 : Ref sig .tc := ⟨.hbm, 3405, rfl⟩
abbrev main_v1454 : Ref sig .tc := ⟨.hbm, 3406, rfl⟩
abbrev main_v1455 : Ref sig .tc := ⟨.hbm, 3407, rfl⟩
abbrev main_v1456 : Ref sig .tc := ⟨.hbm, 3408, rfl⟩
abbrev main_v1457 : Ref sig .tc := ⟨.hbm, 3409, rfl⟩
abbrev main_v1458 : Ref sig .tc := ⟨.hbm, 3410, rfl⟩
abbrev main_v1459 : Ref sig .tc := ⟨.hbm, 3411, rfl⟩
abbrev main_v1460 : Ref sig .tc := ⟨.hbm, 3412, rfl⟩
abbrev main_v1461 : Ref sig .tc := ⟨.hbm, 3413, rfl⟩
abbrev main_v1462 : Ref sig .tc := ⟨.hbm, 3414, rfl⟩
abbrev main_v1463 : Ref sig .tc := ⟨.hbm, 3415, rfl⟩
abbrev main_c_265 : Ref sig .tc := ⟨.hbm, 3416, rfl⟩
abbrev main_v1464 : Ref sig .tc := ⟨.hbm, 3417, rfl⟩
abbrev main_v1465 : Ref sig .tc := ⟨.hbm, 3418, rfl⟩
abbrev main_c_266 : Ref sig .tc := ⟨.hbm, 3419, rfl⟩
abbrev main_v1466 : Ref sig .tc := ⟨.hbm, 3420, rfl⟩
abbrev main_v1467 : Ref sig .tc := ⟨.hbm, 3421, rfl⟩
abbrev main_v1468 : Ref sig .tc := ⟨.hbm, 3422, rfl⟩
abbrev main_c_267 : Ref sig .tc := ⟨.hbm, 3423, rfl⟩
abbrev main_v1469 : Ref sig .tc := ⟨.hbm, 3424, rfl⟩
abbrev main_v1470 : Ref sig .tc := ⟨.hbm, 3425, rfl⟩
abbrev main_v1471 : Ref sig .tc := ⟨.hbm, 3426, rfl⟩
abbrev main_c_268 : Ref sig .tc := ⟨.hbm, 3427, rfl⟩
abbrev main_v1472 : Ref sig .tc := ⟨.hbm, 3428, rfl⟩
abbrev main_v1473 : Ref sig .tc := ⟨.hbm, 3429, rfl⟩
abbrev main_v1474 : Ref sig .tc := ⟨.hbm, 3430, rfl⟩
abbrev main_c_269 : Ref sig .tc := ⟨.hbm, 3431, rfl⟩
abbrev main_v1475 : Ref sig .tc := ⟨.hbm, 3432, rfl⟩
abbrev main_v1476 : Ref sig .tc := ⟨.hbm, 3433, rfl⟩
abbrev main_v1477 : Ref sig .tc := ⟨.hbm, 3434, rfl⟩
abbrev main_c_270 : Ref sig .tc := ⟨.hbm, 3435, rfl⟩
abbrev main_v1478 : Ref sig .tc := ⟨.hbm, 3436, rfl⟩
abbrev main_v1479 : Ref sig .tc := ⟨.hbm, 3437, rfl⟩
abbrev main_v1480 : Ref sig .tc := ⟨.hbm, 3438, rfl⟩
abbrev main_c_271 : Ref sig .tc := ⟨.hbm, 3439, rfl⟩
abbrev main_c_272 : Ref sig .tc := ⟨.hbm, 3440, rfl⟩
abbrev main_call160_v0 : Ref sig .tc := ⟨.hbm, 3441, rfl⟩
abbrev main_call160_v1 : Ref sig .tc := ⟨.hbm, 3442, rfl⟩
abbrev main_call160_v2 : Ref sig .tc := ⟨.hbm, 3443, rfl⟩
abbrev main_call160_v3 : Ref sig .tc := ⟨.hbm, 3444, rfl⟩
abbrev main_call160_v4 : Ref sig .tc := ⟨.hbm, 3445, rfl⟩
abbrev main_v1481 : Ref sig .tc := ⟨.hbm, 3446, rfl⟩
abbrev main_c_273 : Ref sig .tc := ⟨.hbm, 3447, rfl⟩
abbrev main_v1482 : Ref sig .tc := ⟨.hbm, 3448, rfl⟩
abbrev main_v1483 : Ref sig .tc := ⟨.hbm, 3449, rfl⟩
abbrev main_c_274 : Ref sig .tc := ⟨.hbm, 3450, rfl⟩
abbrev main_c_275 : Ref sig .tc := ⟨.hbm, 3451, rfl⟩
abbrev main_call161_v0 : Ref sig .tc := ⟨.hbm, 3452, rfl⟩
abbrev main_call161_v1 : Ref sig .tc := ⟨.hbm, 3453, rfl⟩
abbrev main_call161_v2 : Ref sig .tc := ⟨.hbm, 3454, rfl⟩
abbrev main_call161_v3 : Ref sig .tc := ⟨.hbm, 3455, rfl⟩
abbrev main_call161_v4 : Ref sig .tc := ⟨.hbm, 3456, rfl⟩
abbrev main_v1484 : Ref sig .tc := ⟨.hbm, 3457, rfl⟩
abbrev main_v1485 : Ref sig .tc := ⟨.hbm, 3458, rfl⟩
abbrev main_c_276 : Ref sig .tc := ⟨.hbm, 3459, rfl⟩
abbrev main_v1486 : Ref sig .tc := ⟨.hbm, 3460, rfl⟩
abbrev main_v1487 : Ref sig .tc := ⟨.hbm, 3461, rfl⟩
abbrev main_c_277 : Ref sig .tc := ⟨.hbm, 3462, rfl⟩
abbrev main_c_278 : Ref sig .tc := ⟨.hbm, 3463, rfl⟩
abbrev main_call162_v0 : Ref sig .tc := ⟨.hbm, 3464, rfl⟩
abbrev main_call162_v1 : Ref sig .tc := ⟨.hbm, 3465, rfl⟩
abbrev main_call162_v2 : Ref sig .tc := ⟨.hbm, 3466, rfl⟩
abbrev main_call162_v3 : Ref sig .tc := ⟨.hbm, 3467, rfl⟩
abbrev main_call162_v4 : Ref sig .tc := ⟨.hbm, 3468, rfl⟩
abbrev main_v1488 : Ref sig .tc := ⟨.hbm, 3469, rfl⟩
abbrev main_v1489 : Ref sig .tc := ⟨.hbm, 3470, rfl⟩
abbrev main_v1490 : Ref sig .tc := ⟨.hbm, 3471, rfl⟩
abbrev main_v1491 : Ref sig .tc := ⟨.hbm, 3472, rfl⟩
abbrev main_c_279 : Ref sig .tc := ⟨.hbm, 3473, rfl⟩
abbrev main_v1492 : Ref sig .tc := ⟨.hbm, 3474, rfl⟩
abbrev main_v1493 : Ref sig .tc := ⟨.hbm, 3475, rfl⟩
abbrev main_cst_280 : Ref sig .tc := ⟨.hbm, 3476, rfl⟩
abbrev main_v1494 : Ref sig .tc := ⟨.hbm, 3477, rfl⟩
abbrev main_cst_281 : Ref sig .tc := ⟨.hbm, 3478, rfl⟩
abbrev main_v1495 : Ref sig .tc := ⟨.hbm, 3479, rfl⟩
abbrev main_v1496 : Ref sig .tc := ⟨.hbm, 3480, rfl⟩
abbrev main_v1497 : Ref sig .tc := ⟨.hbm, 3481, rfl⟩
abbrev main_v1498 : Ref sig .tc := ⟨.hbm, 3482, rfl⟩
abbrev main_v1499 : Ref sig .tc := ⟨.hbm, 3483, rfl⟩
abbrev main_cst_282 : Ref sig .tc := ⟨.hbm, 3484, rfl⟩
abbrev main_call163_v0 : Ref sig .tc := ⟨.hbm, 3485, rfl⟩
abbrev main_call163_v1 : Ref sig .tc := ⟨.hbm, 3486, rfl⟩
abbrev main_v1500 : Ref sig .tc := ⟨.hbm, 3487, rfl⟩
abbrev main_v1501 : Ref sig .tc := ⟨.hbm, 3488, rfl⟩
abbrev main_v1502 : Ref sig .tc := ⟨.hbm, 3489, rfl⟩
abbrev main_v1503 : Ref sig .tc := ⟨.hbm, 3490, rfl⟩
abbrev main_v1504 : Ref sig .tc := ⟨.hbm, 3491, rfl⟩
abbrev main_v1505 : Ref sig .tc := ⟨.hbm, 3492, rfl⟩
abbrev main_v1506 : Ref sig .tc := ⟨.hbm, 3493, rfl⟩
abbrev main_v1507 : Ref sig .tc := ⟨.hbm, 3494, rfl⟩
abbrev main_v1508 : Ref sig .tc := ⟨.hbm, 3495, rfl⟩
abbrev main_v1509 : Ref sig .tc := ⟨.hbm, 3496, rfl⟩
abbrev main_cst_283 : Ref sig .tc := ⟨.hbm, 3497, rfl⟩
abbrev main_v1510 : Ref sig .tc := ⟨.hbm, 3498, rfl⟩
abbrev main_v1511 : Ref sig .tc := ⟨.hbm, 3499, rfl⟩
abbrev main_v1512 : Ref sig .tc := ⟨.hbm, 3500, rfl⟩
abbrev main_v1513 : Ref sig .tc := ⟨.hbm, 3501, rfl⟩
abbrev main_v1514 : Ref sig .tc := ⟨.hbm, 3502, rfl⟩
abbrev main_cst_284 : Ref sig .tc := ⟨.hbm, 3503, rfl⟩
abbrev main_v1515 : Ref sig .tc := ⟨.hbm, 3504, rfl⟩
abbrev main_v1516 : Ref sig .tc := ⟨.hbm, 3505, rfl⟩
abbrev main_v1517 : Ref sig .tc := ⟨.hbm, 3506, rfl⟩
abbrev main_v1518 : Ref sig .tc := ⟨.hbm, 3507, rfl⟩
abbrev main_v1519 : Ref sig .tc := ⟨.hbm, 3508, rfl⟩
abbrev main_v1520 : Ref sig .tc := ⟨.hbm, 3509, rfl⟩
abbrev main_v1521 : Ref sig .tc := ⟨.hbm, 3510, rfl⟩
abbrev main_v1522 : Ref sig .tc := ⟨.hbm, 3511, rfl⟩
abbrev main_cst_285 : Ref sig .tc := ⟨.hbm, 3512, rfl⟩
abbrev main_call164_v0 : Ref sig .tc := ⟨.hbm, 3513, rfl⟩
abbrev main_call164_v1 : Ref sig .tc := ⟨.hbm, 3514, rfl⟩
abbrev main_v1523 : Ref sig .tc := ⟨.hbm, 3515, rfl⟩
abbrev main_v1524 : Ref sig .tc := ⟨.hbm, 3516, rfl⟩
abbrev main_v1525 : Ref sig .tc := ⟨.hbm, 3517, rfl⟩
abbrev main_v1526 : Ref sig .tc := ⟨.hbm, 3518, rfl⟩
abbrev main_v1527 : Ref sig .tc := ⟨.hbm, 3519, rfl⟩
abbrev main_v1528 : Ref sig .tc := ⟨.hbm, 3520, rfl⟩
abbrev main_v1529 : Ref sig .tc := ⟨.hbm, 3521, rfl⟩
abbrev main_v1530 : Ref sig .tc := ⟨.hbm, 3522, rfl⟩
abbrev main_v1531 : Ref sig .tc := ⟨.hbm, 3523, rfl⟩
abbrev main_v1532 : Ref sig .tc := ⟨.hbm, 3524, rfl⟩
abbrev main_cst_286 : Ref sig .tc := ⟨.hbm, 3525, rfl⟩
abbrev main_v1533 : Ref sig .tc := ⟨.hbm, 3526, rfl⟩
abbrev main_v1534 : Ref sig .tc := ⟨.hbm, 3527, rfl⟩
abbrev main_v1535 : Ref sig .tc := ⟨.hbm, 3528, rfl⟩
abbrev main_v1536 : Ref sig .tc := ⟨.hbm, 3529, rfl⟩
abbrev main_v1537 : Ref sig .tc := ⟨.hbm, 3530, rfl⟩
abbrev main_cst_287 : Ref sig .tc := ⟨.hbm, 3531, rfl⟩
abbrev main_v1538 : Ref sig .tc := ⟨.hbm, 3532, rfl⟩
abbrev main_v1539 : Ref sig .tc := ⟨.hbm, 3533, rfl⟩
abbrev main_v1540 : Ref sig .tc := ⟨.hbm, 3534, rfl⟩
abbrev main_v1541 : Ref sig .tc := ⟨.hbm, 3535, rfl⟩
abbrev main_v1542 : Ref sig .tc := ⟨.hbm, 3536, rfl⟩
abbrev main_v1543 : Ref sig .tc := ⟨.hbm, 3537, rfl⟩
abbrev main_v1544 : Ref sig .tc := ⟨.hbm, 3538, rfl⟩
abbrev main_v1545 : Ref sig .tc := ⟨.hbm, 3539, rfl⟩
abbrev main_cst_288 : Ref sig .tc := ⟨.hbm, 3540, rfl⟩
abbrev main_call165_v0 : Ref sig .tc := ⟨.hbm, 3541, rfl⟩
abbrev main_call165_v1 : Ref sig .tc := ⟨.hbm, 3542, rfl⟩
abbrev main_v1546 : Ref sig .tc := ⟨.hbm, 3543, rfl⟩
abbrev main_v1547 : Ref sig .tc := ⟨.hbm, 3544, rfl⟩
abbrev main_v1548 : Ref sig .tc := ⟨.hbm, 3545, rfl⟩
abbrev main_v1549 : Ref sig .tc := ⟨.hbm, 3546, rfl⟩
abbrev main_v1550 : Ref sig .tc := ⟨.hbm, 3547, rfl⟩
abbrev main_v1551 : Ref sig .tc := ⟨.hbm, 3548, rfl⟩
abbrev main_v1552 : Ref sig .tc := ⟨.hbm, 3549, rfl⟩
abbrev main_v1553 : Ref sig .tc := ⟨.hbm, 3550, rfl⟩
abbrev main_v1554 : Ref sig .tc := ⟨.hbm, 3551, rfl⟩
abbrev main_v1555 : Ref sig .tc := ⟨.hbm, 3552, rfl⟩
abbrev main_cst_289 : Ref sig .tc := ⟨.hbm, 3553, rfl⟩
abbrev main_v1556 : Ref sig .tc := ⟨.hbm, 3554, rfl⟩
abbrev main_v1557 : Ref sig .tc := ⟨.hbm, 3555, rfl⟩
abbrev main_v1558 : Ref sig .tc := ⟨.hbm, 3556, rfl⟩
abbrev main_v1559 : Ref sig .tc := ⟨.hbm, 3557, rfl⟩
abbrev main_v1560 : Ref sig .tc := ⟨.hbm, 3558, rfl⟩
abbrev main_cst_290 : Ref sig .tc := ⟨.hbm, 3559, rfl⟩
abbrev main_v1561 : Ref sig .tc := ⟨.hbm, 3560, rfl⟩
abbrev main_v1562 : Ref sig .tc := ⟨.hbm, 3561, rfl⟩
abbrev main_v1563 : Ref sig .tc := ⟨.hbm, 3562, rfl⟩
abbrev main_v1564 : Ref sig .tc := ⟨.hbm, 3563, rfl⟩
abbrev main_v1565 : Ref sig .tc := ⟨.hbm, 3564, rfl⟩
abbrev main_v1566 : Ref sig .tc := ⟨.hbm, 3565, rfl⟩
abbrev main_v1567 : Ref sig .tc := ⟨.hbm, 3566, rfl⟩
abbrev main_v1568 : Ref sig .tc := ⟨.hbm, 3567, rfl⟩
abbrev main_cst_291 : Ref sig .tc := ⟨.hbm, 3568, rfl⟩
abbrev main_call166_v0 : Ref sig .tc := ⟨.hbm, 3569, rfl⟩
abbrev main_call166_v1 : Ref sig .tc := ⟨.hbm, 3570, rfl⟩
abbrev main_v1569 : Ref sig .tc := ⟨.hbm, 3571, rfl⟩
abbrev main_v1570 : Ref sig .tc := ⟨.hbm, 3572, rfl⟩
abbrev main_v1571 : Ref sig .tc := ⟨.hbm, 3573, rfl⟩
abbrev main_v1572 : Ref sig .tc := ⟨.hbm, 3574, rfl⟩
abbrev main_v1573 : Ref sig .tc := ⟨.hbm, 3575, rfl⟩
abbrev main_v1574 : Ref sig .tc := ⟨.hbm, 3576, rfl⟩
abbrev main_v1575 : Ref sig .tc := ⟨.hbm, 3577, rfl⟩
abbrev main_v1576 : Ref sig .tc := ⟨.hbm, 3578, rfl⟩
abbrev main_v1577 : Ref sig .tc := ⟨.hbm, 3579, rfl⟩
abbrev main_v1578 : Ref sig .tc := ⟨.hbm, 3580, rfl⟩
abbrev main_cst_292 : Ref sig .tc := ⟨.hbm, 3581, rfl⟩
abbrev main_v1579 : Ref sig .tc := ⟨.hbm, 3582, rfl⟩
abbrev main_v1580 : Ref sig .tc := ⟨.hbm, 3583, rfl⟩
abbrev main_v1581 : Ref sig .tc := ⟨.hbm, 3584, rfl⟩
abbrev main_v1582 : Ref sig .tc := ⟨.hbm, 3585, rfl⟩
abbrev main_v1583 : Ref sig .tc := ⟨.hbm, 3586, rfl⟩
abbrev main_cst_293 : Ref sig .tc := ⟨.hbm, 3587, rfl⟩
abbrev main_v1584 : Ref sig .tc := ⟨.hbm, 3588, rfl⟩
abbrev main_v1585 : Ref sig .tc := ⟨.hbm, 3589, rfl⟩
abbrev main_v1586 : Ref sig .tc := ⟨.hbm, 3590, rfl⟩
abbrev main_v1587 : Ref sig .tc := ⟨.hbm, 3591, rfl⟩
abbrev main_v1588 : Ref sig .tc := ⟨.hbm, 3592, rfl⟩
abbrev main_v1589 : Ref sig .tc := ⟨.hbm, 3593, rfl⟩
abbrev main_v1590 : Ref sig .tc := ⟨.hbm, 3594, rfl⟩
abbrev main_v1591 : Ref sig .tc := ⟨.hbm, 3595, rfl⟩
abbrev main_cst_294 : Ref sig .tc := ⟨.hbm, 3596, rfl⟩
abbrev main_call167_v0 : Ref sig .tc := ⟨.hbm, 3597, rfl⟩
abbrev main_call167_v1 : Ref sig .tc := ⟨.hbm, 3598, rfl⟩
abbrev main_v1592 : Ref sig .tc := ⟨.hbm, 3599, rfl⟩
abbrev main_v1593 : Ref sig .tc := ⟨.hbm, 3600, rfl⟩
abbrev main_v1594 : Ref sig .tc := ⟨.hbm, 3601, rfl⟩
abbrev main_v1595 : Ref sig .tc := ⟨.hbm, 3602, rfl⟩
abbrev main_v1596 : Ref sig .tc := ⟨.hbm, 3603, rfl⟩
abbrev main_v1597 : Ref sig .tc := ⟨.hbm, 3604, rfl⟩
abbrev main_v1598 : Ref sig .tc := ⟨.hbm, 3605, rfl⟩
abbrev main_v1599 : Ref sig .tc := ⟨.hbm, 3606, rfl⟩
abbrev main_v1600 : Ref sig .tc := ⟨.hbm, 3607, rfl⟩
abbrev main_v1601 : Ref sig .tc := ⟨.hbm, 3608, rfl⟩
abbrev main_cst_295 : Ref sig .tc := ⟨.hbm, 3609, rfl⟩
abbrev main_v1602 : Ref sig .tc := ⟨.hbm, 3610, rfl⟩
abbrev main_v1603 : Ref sig .tc := ⟨.hbm, 3611, rfl⟩
abbrev main_v1604 : Ref sig .tc := ⟨.hbm, 3612, rfl⟩
abbrev main_v1605 : Ref sig .tc := ⟨.hbm, 3613, rfl⟩
abbrev main_v1606 : Ref sig .tc := ⟨.hbm, 3614, rfl⟩
abbrev main_cst_296 : Ref sig .tc := ⟨.hbm, 3615, rfl⟩
abbrev main_v1607 : Ref sig .tc := ⟨.hbm, 3616, rfl⟩
abbrev main_v1608 : Ref sig .tc := ⟨.hbm, 3617, rfl⟩
abbrev main_v1609 : Ref sig .tc := ⟨.hbm, 3618, rfl⟩
abbrev main_v1610 : Ref sig .tc := ⟨.hbm, 3619, rfl⟩
abbrev main_v1611 : Ref sig .tc := ⟨.hbm, 3620, rfl⟩
abbrev main_v1612 : Ref sig .tc := ⟨.hbm, 3621, rfl⟩
abbrev main_v1613 : Ref sig .tc := ⟨.hbm, 3622, rfl⟩
abbrev main_v1614 : Ref sig .tc := ⟨.hbm, 3623, rfl⟩
abbrev main_cst_297 : Ref sig .tc := ⟨.hbm, 3624, rfl⟩
abbrev main_call168_v0 : Ref sig .tc := ⟨.hbm, 3625, rfl⟩
abbrev main_call168_v1 : Ref sig .tc := ⟨.hbm, 3626, rfl⟩
abbrev main_v1615 : Ref sig .tc := ⟨.hbm, 3627, rfl⟩
abbrev main_v1616 : Ref sig .tc := ⟨.hbm, 3628, rfl⟩
abbrev main_v1617 : Ref sig .tc := ⟨.hbm, 3629, rfl⟩
abbrev main_v1618 : Ref sig .tc := ⟨.hbm, 3630, rfl⟩
abbrev main_v1619 : Ref sig .tc := ⟨.hbm, 3631, rfl⟩
abbrev main_v1620 : Ref sig .tc := ⟨.hbm, 3632, rfl⟩
abbrev main_v1621 : Ref sig .tc := ⟨.hbm, 3633, rfl⟩
abbrev main_v1622 : Ref sig .tc := ⟨.hbm, 3634, rfl⟩
abbrev main_v1623 : Ref sig .tc := ⟨.hbm, 3635, rfl⟩
abbrev main_v1624 : Ref sig .tc := ⟨.hbm, 3636, rfl⟩
abbrev main_cst_298 : Ref sig .tc := ⟨.hbm, 3637, rfl⟩
abbrev main_v1625 : Ref sig .tc := ⟨.hbm, 3638, rfl⟩
abbrev main_v1626 : Ref sig .tc := ⟨.hbm, 3639, rfl⟩
abbrev main_v1627 : Ref sig .tc := ⟨.hbm, 3640, rfl⟩
abbrev main_v1628 : Ref sig .tc := ⟨.hbm, 3641, rfl⟩
abbrev main_v1629 : Ref sig .tc := ⟨.hbm, 3642, rfl⟩
abbrev main_cst_299 : Ref sig .tc := ⟨.hbm, 3643, rfl⟩
abbrev main_v1630 : Ref sig .tc := ⟨.hbm, 3644, rfl⟩
abbrev main_v1631 : Ref sig .tc := ⟨.hbm, 3645, rfl⟩
abbrev main_v1632 : Ref sig .tc := ⟨.hbm, 3646, rfl⟩
abbrev main_v1633 : Ref sig .tc := ⟨.hbm, 3647, rfl⟩
abbrev main_v1634 : Ref sig .tc := ⟨.hbm, 3648, rfl⟩
abbrev main_v1635 : Ref sig .tc := ⟨.hbm, 3649, rfl⟩
abbrev main_v1636 : Ref sig .tc := ⟨.hbm, 3650, rfl⟩
abbrev main_v1637 : Ref sig .tc := ⟨.hbm, 3651, rfl⟩
abbrev main_cst_300 : Ref sig .tc := ⟨.hbm, 3652, rfl⟩
abbrev main_call169_v0 : Ref sig .tc := ⟨.hbm, 3653, rfl⟩
abbrev main_call169_v1 : Ref sig .tc := ⟨.hbm, 3654, rfl⟩
abbrev main_v1638 : Ref sig .tc := ⟨.hbm, 3655, rfl⟩
abbrev main_v1639 : Ref sig .tc := ⟨.hbm, 3656, rfl⟩
abbrev main_v1640 : Ref sig .tc := ⟨.hbm, 3657, rfl⟩
abbrev main_v1641 : Ref sig .tc := ⟨.hbm, 3658, rfl⟩
abbrev main_v1642 : Ref sig .tc := ⟨.hbm, 3659, rfl⟩
abbrev main_v1643 : Ref sig .tc := ⟨.hbm, 3660, rfl⟩
abbrev main_v1644 : Ref sig .tc := ⟨.hbm, 3661, rfl⟩
abbrev main_v1645 : Ref sig .tc := ⟨.hbm, 3662, rfl⟩
abbrev main_v1646 : Ref sig .tc := ⟨.hbm, 3663, rfl⟩
abbrev main_v1647 : Ref sig .tc := ⟨.hbm, 3664, rfl⟩
abbrev main_cst_301 : Ref sig .tc := ⟨.hbm, 3665, rfl⟩
abbrev main_v1648 : Ref sig .tc := ⟨.hbm, 3666, rfl⟩
abbrev main_v1649 : Ref sig .tc := ⟨.hbm, 3667, rfl⟩
abbrev main_v1650 : Ref sig .tc := ⟨.hbm, 3668, rfl⟩
abbrev main_v1651 : Ref sig .tc := ⟨.hbm, 3669, rfl⟩
abbrev main_v1652 : Ref sig .tc := ⟨.hbm, 3670, rfl⟩
abbrev main_cst_302 : Ref sig .tc := ⟨.hbm, 3671, rfl⟩
abbrev main_v1653 : Ref sig .tc := ⟨.hbm, 3672, rfl⟩
abbrev main_v1654 : Ref sig .tc := ⟨.hbm, 3673, rfl⟩
abbrev main_v1655 : Ref sig .tc := ⟨.hbm, 3674, rfl⟩
abbrev main_v1656 : Ref sig .tc := ⟨.hbm, 3675, rfl⟩
abbrev main_v1657 : Ref sig .tc := ⟨.hbm, 3676, rfl⟩
abbrev main_v1658 : Ref sig .tc := ⟨.hbm, 3677, rfl⟩
abbrev main_v1659 : Ref sig .tc := ⟨.hbm, 3678, rfl⟩
abbrev main_v1660 : Ref sig .tc := ⟨.hbm, 3679, rfl⟩
abbrev main_cst_303 : Ref sig .tc := ⟨.hbm, 3680, rfl⟩
abbrev main_call170_v0 : Ref sig .tc := ⟨.hbm, 3681, rfl⟩
abbrev main_call170_v1 : Ref sig .tc := ⟨.hbm, 3682, rfl⟩
abbrev main_v1661 : Ref sig .tc := ⟨.hbm, 3683, rfl⟩
abbrev main_v1662 : Ref sig .tc := ⟨.hbm, 3684, rfl⟩
abbrev main_v1663 : Ref sig .tc := ⟨.hbm, 3685, rfl⟩
abbrev main_v1664 : Ref sig .tc := ⟨.hbm, 3686, rfl⟩
abbrev main_v1665 : Ref sig .tc := ⟨.hbm, 3687, rfl⟩
abbrev main_v1666 : Ref sig .tc := ⟨.hbm, 3688, rfl⟩
abbrev main_v1667 : Ref sig .tc := ⟨.hbm, 3689, rfl⟩
abbrev main_v1668 : Ref sig .tc := ⟨.hbm, 3690, rfl⟩
abbrev main_v1669 : Ref sig .tc := ⟨.hbm, 3691, rfl⟩
abbrev main_v1670 : Ref sig .tc := ⟨.hbm, 3692, rfl⟩
abbrev main_cst_304 : Ref sig .tc := ⟨.hbm, 3693, rfl⟩
abbrev main_v1671 : Ref sig .tc := ⟨.hbm, 3694, rfl⟩
abbrev main_v1672 : Ref sig .tc := ⟨.hbm, 3695, rfl⟩
abbrev main_v1673 : Ref sig .tc := ⟨.hbm, 3696, rfl⟩
abbrev main_v1674 : Ref sig .tc := ⟨.hbm, 3697, rfl⟩
abbrev main_v1675 : Ref sig .tc := ⟨.hbm, 3698, rfl⟩
abbrev main_cst_305 : Ref sig .tc := ⟨.hbm, 3699, rfl⟩
abbrev main_v1676 : Ref sig .tc := ⟨.hbm, 3700, rfl⟩
abbrev main_v1677 : Ref sig .tc := ⟨.hbm, 3701, rfl⟩
abbrev main_v1678 : Ref sig .tc := ⟨.hbm, 3702, rfl⟩
abbrev main_v1679 : Ref sig .tc := ⟨.hbm, 3703, rfl⟩
abbrev main_v1680 : Ref sig .tc := ⟨.hbm, 3704, rfl⟩
abbrev main_v1681 : Ref sig .tc := ⟨.hbm, 3705, rfl⟩
abbrev main_v1682 : Ref sig .tc := ⟨.hbm, 3706, rfl⟩
abbrev main_v1683 : Ref sig .tc := ⟨.hbm, 3707, rfl⟩
abbrev main_cst_306 : Ref sig .tc := ⟨.hbm, 3708, rfl⟩
abbrev main_call171_v0 : Ref sig .tc := ⟨.hbm, 3709, rfl⟩
abbrev main_call171_v1 : Ref sig .tc := ⟨.hbm, 3710, rfl⟩
abbrev main_v1684 : Ref sig .tc := ⟨.hbm, 3711, rfl⟩
abbrev main_v1685 : Ref sig .tc := ⟨.hbm, 3712, rfl⟩
abbrev main_v1686 : Ref sig .tc := ⟨.hbm, 3713, rfl⟩
abbrev main_v1687 : Ref sig .tc := ⟨.hbm, 3714, rfl⟩
abbrev main_v1688 : Ref sig .tc := ⟨.hbm, 3715, rfl⟩
abbrev main_v1689 : Ref sig .tc := ⟨.hbm, 3716, rfl⟩
abbrev main_v1690 : Ref sig .tc := ⟨.hbm, 3717, rfl⟩
abbrev main_v1691 : Ref sig .tc := ⟨.hbm, 3718, rfl⟩
abbrev main_v1692 : Ref sig .tc := ⟨.hbm, 3719, rfl⟩
abbrev main_v1693 : Ref sig .tc := ⟨.hbm, 3720, rfl⟩
abbrev main_cst_307 : Ref sig .tc := ⟨.hbm, 3721, rfl⟩
abbrev main_v1694 : Ref sig .tc := ⟨.hbm, 3722, rfl⟩
abbrev main_v1695 : Ref sig .tc := ⟨.hbm, 3723, rfl⟩
abbrev main_v1696 : Ref sig .tc := ⟨.hbm, 3724, rfl⟩
abbrev main_v1697 : Ref sig .tc := ⟨.hbm, 3725, rfl⟩
abbrev main_v1698 : Ref sig .tc := ⟨.hbm, 3726, rfl⟩
abbrev main_cst_308 : Ref sig .tc := ⟨.hbm, 3727, rfl⟩
abbrev main_v1699 : Ref sig .tc := ⟨.hbm, 3728, rfl⟩
abbrev main_v1700 : Ref sig .tc := ⟨.hbm, 3729, rfl⟩
abbrev main_v1701 : Ref sig .tc := ⟨.hbm, 3730, rfl⟩
abbrev main_v1702 : Ref sig .tc := ⟨.hbm, 3731, rfl⟩
abbrev main_v1703 : Ref sig .tc := ⟨.hbm, 3732, rfl⟩
abbrev main_v1704 : Ref sig .tc := ⟨.hbm, 3733, rfl⟩
abbrev main_v1705 : Ref sig .tc := ⟨.hbm, 3734, rfl⟩
abbrev main_v1706 : Ref sig .tc := ⟨.hbm, 3735, rfl⟩
abbrev main_cst_309 : Ref sig .tc := ⟨.hbm, 3736, rfl⟩
abbrev main_call172_v0 : Ref sig .tc := ⟨.hbm, 3737, rfl⟩
abbrev main_call172_v1 : Ref sig .tc := ⟨.hbm, 3738, rfl⟩
abbrev main_v1707 : Ref sig .tc := ⟨.hbm, 3739, rfl⟩
abbrev main_v1708 : Ref sig .tc := ⟨.hbm, 3740, rfl⟩
abbrev main_v1709 : Ref sig .tc := ⟨.hbm, 3741, rfl⟩
abbrev main_v1710 : Ref sig .tc := ⟨.hbm, 3742, rfl⟩
abbrev main_v1711 : Ref sig .tc := ⟨.hbm, 3743, rfl⟩
abbrev main_v1712 : Ref sig .tc := ⟨.hbm, 3744, rfl⟩
abbrev main_v1713 : Ref sig .tc := ⟨.hbm, 3745, rfl⟩
abbrev main_v1714 : Ref sig .tc := ⟨.hbm, 3746, rfl⟩
abbrev main_v1715 : Ref sig .tc := ⟨.hbm, 3747, rfl⟩
abbrev main_v1716 : Ref sig .tc := ⟨.hbm, 3748, rfl⟩
abbrev main_cst_310 : Ref sig .tc := ⟨.hbm, 3749, rfl⟩
abbrev main_v1717 : Ref sig .tc := ⟨.hbm, 3750, rfl⟩
abbrev main_v1718 : Ref sig .tc := ⟨.hbm, 3751, rfl⟩
abbrev main_v1719 : Ref sig .tc := ⟨.hbm, 3752, rfl⟩
abbrev main_v1720 : Ref sig .tc := ⟨.hbm, 3753, rfl⟩
abbrev main_v1721 : Ref sig .tc := ⟨.hbm, 3754, rfl⟩
abbrev main_cst_311 : Ref sig .tc := ⟨.hbm, 3755, rfl⟩
abbrev main_v1722 : Ref sig .tc := ⟨.hbm, 3756, rfl⟩
abbrev main_v1723 : Ref sig .tc := ⟨.hbm, 3757, rfl⟩
abbrev main_v1724 : Ref sig .tc := ⟨.hbm, 3758, rfl⟩
abbrev main_v1725 : Ref sig .tc := ⟨.hbm, 3759, rfl⟩
abbrev main_v1726 : Ref sig .tc := ⟨.hbm, 3760, rfl⟩
abbrev main_v1727 : Ref sig .tc := ⟨.hbm, 3761, rfl⟩
abbrev main_v1728 : Ref sig .tc := ⟨.hbm, 3762, rfl⟩
abbrev main_v1729 : Ref sig .tc := ⟨.hbm, 3763, rfl⟩
abbrev main_cst_312 : Ref sig .tc := ⟨.hbm, 3764, rfl⟩
abbrev main_call173_v0 : Ref sig .tc := ⟨.hbm, 3765, rfl⟩
abbrev main_call173_v1 : Ref sig .tc := ⟨.hbm, 3766, rfl⟩
abbrev main_v1730 : Ref sig .tc := ⟨.hbm, 3767, rfl⟩
abbrev main_v1731 : Ref sig .tc := ⟨.hbm, 3768, rfl⟩
abbrev main_v1732 : Ref sig .tc := ⟨.hbm, 3769, rfl⟩
abbrev main_v1733 : Ref sig .tc := ⟨.hbm, 3770, rfl⟩
abbrev main_v1734 : Ref sig .tc := ⟨.hbm, 3771, rfl⟩
abbrev main_v1735 : Ref sig .tc := ⟨.hbm, 3772, rfl⟩
abbrev main_v1736 : Ref sig .tc := ⟨.hbm, 3773, rfl⟩
abbrev main_v1737 : Ref sig .tc := ⟨.hbm, 3774, rfl⟩
abbrev main_v1738 : Ref sig .tc := ⟨.hbm, 3775, rfl⟩
abbrev main_v1739 : Ref sig .tc := ⟨.hbm, 3776, rfl⟩
abbrev main_cst_313 : Ref sig .tc := ⟨.hbm, 3777, rfl⟩
abbrev main_v1740 : Ref sig .tc := ⟨.hbm, 3778, rfl⟩
abbrev main_v1741 : Ref sig .tc := ⟨.hbm, 3779, rfl⟩
abbrev main_v1742 : Ref sig .tc := ⟨.hbm, 3780, rfl⟩
abbrev main_v1743 : Ref sig .tc := ⟨.hbm, 3781, rfl⟩
abbrev main_v1744 : Ref sig .tc := ⟨.hbm, 3782, rfl⟩
abbrev main_cst_314 : Ref sig .tc := ⟨.hbm, 3783, rfl⟩
abbrev main_v1745 : Ref sig .tc := ⟨.hbm, 3784, rfl⟩
abbrev main_v1746 : Ref sig .tc := ⟨.hbm, 3785, rfl⟩
abbrev main_v1747 : Ref sig .tc := ⟨.hbm, 3786, rfl⟩
abbrev main_v1748 : Ref sig .tc := ⟨.hbm, 3787, rfl⟩
abbrev main_v1749 : Ref sig .tc := ⟨.hbm, 3788, rfl⟩
abbrev main_v1750 : Ref sig .tc := ⟨.hbm, 3789, rfl⟩
abbrev main_v1751 : Ref sig .tc := ⟨.hbm, 3790, rfl⟩
abbrev main_v1752 : Ref sig .tc := ⟨.hbm, 3791, rfl⟩
abbrev main_cst_315 : Ref sig .tc := ⟨.hbm, 3792, rfl⟩
abbrev main_call174_v0 : Ref sig .tc := ⟨.hbm, 3793, rfl⟩
abbrev main_call174_v1 : Ref sig .tc := ⟨.hbm, 3794, rfl⟩
abbrev main_v1753 : Ref sig .tc := ⟨.hbm, 3795, rfl⟩
abbrev main_v1754 : Ref sig .tc := ⟨.hbm, 3796, rfl⟩
abbrev main_v1755 : Ref sig .tc := ⟨.hbm, 3797, rfl⟩
abbrev main_v1756 : Ref sig .tc := ⟨.hbm, 3798, rfl⟩
abbrev main_v1757 : Ref sig .tc := ⟨.hbm, 3799, rfl⟩
abbrev main_v1758 : Ref sig .tc := ⟨.hbm, 3800, rfl⟩
abbrev main_v1759 : Ref sig .tc := ⟨.hbm, 3801, rfl⟩
abbrev main_v1760 : Ref sig .tc := ⟨.hbm, 3802, rfl⟩
abbrev main_v1761 : Ref sig .tc := ⟨.hbm, 3803, rfl⟩
abbrev main_v1762 : Ref sig .tc := ⟨.hbm, 3804, rfl⟩
abbrev main_cst_316 : Ref sig .tc := ⟨.hbm, 3805, rfl⟩
abbrev main_v1763 : Ref sig .tc := ⟨.hbm, 3806, rfl⟩
abbrev main_v1764 : Ref sig .tc := ⟨.hbm, 3807, rfl⟩
abbrev main_v1765 : Ref sig .tc := ⟨.hbm, 3808, rfl⟩
abbrev main_v1766 : Ref sig .tc := ⟨.hbm, 3809, rfl⟩
abbrev main_v1767 : Ref sig .tc := ⟨.hbm, 3810, rfl⟩
abbrev main_cst_317 : Ref sig .tc := ⟨.hbm, 3811, rfl⟩
abbrev main_v1768 : Ref sig .tc := ⟨.hbm, 3812, rfl⟩
abbrev main_v1769 : Ref sig .tc := ⟨.hbm, 3813, rfl⟩
abbrev main_v1770 : Ref sig .tc := ⟨.hbm, 3814, rfl⟩
abbrev main_v1771 : Ref sig .tc := ⟨.hbm, 3815, rfl⟩
abbrev main_v1772 : Ref sig .tc := ⟨.hbm, 3816, rfl⟩
abbrev main_v1773 : Ref sig .tc := ⟨.hbm, 3817, rfl⟩
abbrev main_v1774 : Ref sig .tc := ⟨.hbm, 3818, rfl⟩
abbrev main_v1775 : Ref sig .tc := ⟨.hbm, 3819, rfl⟩
abbrev main_cst_318 : Ref sig .tc := ⟨.hbm, 3820, rfl⟩
abbrev main_call175_v0 : Ref sig .tc := ⟨.hbm, 3821, rfl⟩
abbrev main_call175_v1 : Ref sig .tc := ⟨.hbm, 3822, rfl⟩
abbrev main_v1776 : Ref sig .tc := ⟨.hbm, 3823, rfl⟩
abbrev main_v1777 : Ref sig .tc := ⟨.hbm, 3824, rfl⟩
abbrev main_v1778 : Ref sig .tc := ⟨.hbm, 3825, rfl⟩
abbrev main_v1779 : Ref sig .tc := ⟨.hbm, 3826, rfl⟩
abbrev main_v1780 : Ref sig .tc := ⟨.hbm, 3827, rfl⟩
abbrev main_v1781 : Ref sig .tc := ⟨.hbm, 3828, rfl⟩
abbrev main_v1782 : Ref sig .tc := ⟨.hbm, 3829, rfl⟩
abbrev main_v1783 : Ref sig .tc := ⟨.hbm, 3830, rfl⟩
abbrev main_v1784 : Ref sig .tc := ⟨.hbm, 3831, rfl⟩
abbrev main_v1785 : Ref sig .tc := ⟨.hbm, 3832, rfl⟩
abbrev main_cst_319 : Ref sig .tc := ⟨.hbm, 3833, rfl⟩
abbrev main_v1786 : Ref sig .tc := ⟨.hbm, 3834, rfl⟩
abbrev main_v1787 : Ref sig .tc := ⟨.hbm, 3835, rfl⟩
abbrev main_v1788 : Ref sig .tc := ⟨.hbm, 3836, rfl⟩
abbrev main_v1789 : Ref sig .tc := ⟨.hbm, 3837, rfl⟩
abbrev main_v1790 : Ref sig .tc := ⟨.hbm, 3838, rfl⟩
abbrev main_cst_320 : Ref sig .tc := ⟨.hbm, 3839, rfl⟩
abbrev main_v1791 : Ref sig .tc := ⟨.hbm, 3840, rfl⟩
abbrev main_v1792 : Ref sig .tc := ⟨.hbm, 3841, rfl⟩
abbrev main_v1793 : Ref sig .tc := ⟨.hbm, 3842, rfl⟩
abbrev main_v1794 : Ref sig .tc := ⟨.hbm, 3843, rfl⟩
abbrev main_v1795 : Ref sig .tc := ⟨.hbm, 3844, rfl⟩
abbrev main_v1796 : Ref sig .tc := ⟨.hbm, 3845, rfl⟩
abbrev main_v1797 : Ref sig .tc := ⟨.hbm, 3846, rfl⟩
abbrev main_v1798 : Ref sig .tc := ⟨.hbm, 3847, rfl⟩
abbrev main_cst_321 : Ref sig .tc := ⟨.hbm, 3848, rfl⟩
abbrev main_call176_v0 : Ref sig .tc := ⟨.hbm, 3849, rfl⟩
abbrev main_call176_v1 : Ref sig .tc := ⟨.hbm, 3850, rfl⟩
abbrev main_v1799 : Ref sig .tc := ⟨.hbm, 3851, rfl⟩
abbrev main_v1800 : Ref sig .tc := ⟨.hbm, 3852, rfl⟩
abbrev main_v1801 : Ref sig .tc := ⟨.hbm, 3853, rfl⟩
abbrev main_v1802 : Ref sig .tc := ⟨.hbm, 3854, rfl⟩
abbrev main_v1803 : Ref sig .tc := ⟨.hbm, 3855, rfl⟩
abbrev main_v1804 : Ref sig .tc := ⟨.hbm, 3856, rfl⟩
abbrev main_v1805 : Ref sig .tc := ⟨.hbm, 3857, rfl⟩
abbrev main_v1806 : Ref sig .tc := ⟨.hbm, 3858, rfl⟩
abbrev main_v1807 : Ref sig .tc := ⟨.hbm, 3859, rfl⟩
abbrev main_v1808 : Ref sig .tc := ⟨.hbm, 3860, rfl⟩
abbrev main_cst_322 : Ref sig .tc := ⟨.hbm, 3861, rfl⟩
abbrev main_v1809 : Ref sig .tc := ⟨.hbm, 3862, rfl⟩
abbrev main_v1810 : Ref sig .tc := ⟨.hbm, 3863, rfl⟩
abbrev main_v1811 : Ref sig .tc := ⟨.hbm, 3864, rfl⟩
abbrev main_v1812 : Ref sig .tc := ⟨.hbm, 3865, rfl⟩
abbrev main_v1813 : Ref sig .tc := ⟨.hbm, 3866, rfl⟩
abbrev main_cst_323 : Ref sig .tc := ⟨.hbm, 3867, rfl⟩
abbrev main_v1814 : Ref sig .tc := ⟨.hbm, 3868, rfl⟩
abbrev main_v1815 : Ref sig .tc := ⟨.hbm, 3869, rfl⟩
abbrev main_v1816 : Ref sig .tc := ⟨.hbm, 3870, rfl⟩
abbrev main_v1817 : Ref sig .tc := ⟨.hbm, 3871, rfl⟩
abbrev main_v1818 : Ref sig .tc := ⟨.hbm, 3872, rfl⟩
abbrev main_v1819 : Ref sig .tc := ⟨.hbm, 3873, rfl⟩
abbrev main_v1820 : Ref sig .tc := ⟨.hbm, 3874, rfl⟩
abbrev main_v1821 : Ref sig .tc := ⟨.hbm, 3875, rfl⟩
abbrev main_cst_324 : Ref sig .tc := ⟨.hbm, 3876, rfl⟩
abbrev main_call177_v0 : Ref sig .tc := ⟨.hbm, 3877, rfl⟩
abbrev main_call177_v1 : Ref sig .tc := ⟨.hbm, 3878, rfl⟩
abbrev main_v1822 : Ref sig .tc := ⟨.hbm, 3879, rfl⟩
abbrev main_v1823 : Ref sig .tc := ⟨.hbm, 3880, rfl⟩
abbrev main_v1824 : Ref sig .tc := ⟨.hbm, 3881, rfl⟩
abbrev main_v1825 : Ref sig .tc := ⟨.hbm, 3882, rfl⟩
abbrev main_v1826 : Ref sig .tc := ⟨.hbm, 3883, rfl⟩
abbrev main_v1827 : Ref sig .tc := ⟨.hbm, 3884, rfl⟩
abbrev main_v1828 : Ref sig .tc := ⟨.hbm, 3885, rfl⟩
abbrev main_v1829 : Ref sig .tc := ⟨.hbm, 3886, rfl⟩
abbrev main_v1830 : Ref sig .tc := ⟨.hbm, 3887, rfl⟩
abbrev main_v1831 : Ref sig .tc := ⟨.hbm, 3888, rfl⟩
abbrev main_cst_325 : Ref sig .tc := ⟨.hbm, 3889, rfl⟩
abbrev main_v1832 : Ref sig .tc := ⟨.hbm, 3890, rfl⟩
abbrev main_v1833 : Ref sig .tc := ⟨.hbm, 3891, rfl⟩
abbrev main_v1834 : Ref sig .tc := ⟨.hbm, 3892, rfl⟩
abbrev main_v1835 : Ref sig .tc := ⟨.hbm, 3893, rfl⟩
abbrev main_v1836 : Ref sig .tc := ⟨.hbm, 3894, rfl⟩
abbrev main_cst_326 : Ref sig .tc := ⟨.hbm, 3895, rfl⟩
abbrev main_v1837 : Ref sig .tc := ⟨.hbm, 3896, rfl⟩
abbrev main_v1838 : Ref sig .tc := ⟨.hbm, 3897, rfl⟩
abbrev main_v1839 : Ref sig .tc := ⟨.hbm, 3898, rfl⟩
abbrev main_v1840 : Ref sig .tc := ⟨.hbm, 3899, rfl⟩
abbrev main_v1841 : Ref sig .tc := ⟨.hbm, 3900, rfl⟩
abbrev main_v1842 : Ref sig .tc := ⟨.hbm, 3901, rfl⟩
abbrev main_v1843 : Ref sig .tc := ⟨.hbm, 3902, rfl⟩
abbrev main_v1844 : Ref sig .tc := ⟨.hbm, 3903, rfl⟩
abbrev main_cst_327 : Ref sig .tc := ⟨.hbm, 3904, rfl⟩
abbrev main_call178_v0 : Ref sig .tc := ⟨.hbm, 3905, rfl⟩
abbrev main_call178_v1 : Ref sig .tc := ⟨.hbm, 3906, rfl⟩
abbrev main_v1845 : Ref sig .tc := ⟨.hbm, 3907, rfl⟩
abbrev main_v1846 : Ref sig .tc := ⟨.hbm, 3908, rfl⟩
abbrev main_v1847 : Ref sig .tc := ⟨.hbm, 3909, rfl⟩
abbrev main_v1848 : Ref sig .tc := ⟨.hbm, 3910, rfl⟩
abbrev main_v1849 : Ref sig .tc := ⟨.hbm, 3911, rfl⟩
abbrev main_v1850 : Ref sig .tc := ⟨.hbm, 3912, rfl⟩
abbrev main_v1851 : Ref sig .tc := ⟨.hbm, 3913, rfl⟩
abbrev main_v1852 : Ref sig .tc := ⟨.hbm, 3914, rfl⟩
abbrev main_v1853 : Ref sig .tc := ⟨.hbm, 3915, rfl⟩
abbrev main_v1854 : Ref sig .tc := ⟨.hbm, 3916, rfl⟩
abbrev main_cst_328 : Ref sig .tc := ⟨.hbm, 3917, rfl⟩
abbrev main_v1855 : Ref sig .tc := ⟨.hbm, 3918, rfl⟩
abbrev main_v1856 : Ref sig .tc := ⟨.hbm, 3919, rfl⟩
abbrev main_v1857 : Ref sig .tc := ⟨.hbm, 3920, rfl⟩
abbrev main_v1858 : Ref sig .tc := ⟨.hbm, 3921, rfl⟩
abbrev main_v1859 : Ref sig .tc := ⟨.hbm, 3922, rfl⟩
abbrev main_cst_329 : Ref sig .tc := ⟨.hbm, 3923, rfl⟩
abbrev main_v1860 : Ref sig .tc := ⟨.hbm, 3924, rfl⟩
abbrev main_v1861 : Ref sig .tc := ⟨.hbm, 3925, rfl⟩
abbrev main_v1862 : Ref sig .tc := ⟨.hbm, 3926, rfl⟩
abbrev main_v1863 : Ref sig .tc := ⟨.hbm, 3927, rfl⟩
abbrev main_v1864 : Ref sig .tc := ⟨.hbm, 3928, rfl⟩
abbrev main_v1865 : Ref sig .tc := ⟨.hbm, 3929, rfl⟩
abbrev main_v1866 : Ref sig .tc := ⟨.hbm, 3930, rfl⟩
abbrev main_v1867 : Ref sig .tc := ⟨.hbm, 3931, rfl⟩
abbrev main_cst_330 : Ref sig .tc := ⟨.hbm, 3932, rfl⟩
abbrev main_call179_v0 : Ref sig .tc := ⟨.hbm, 3933, rfl⟩
abbrev main_call179_v1 : Ref sig .tc := ⟨.hbm, 3934, rfl⟩
abbrev main_v1868 : Ref sig .tc := ⟨.hbm, 3935, rfl⟩
abbrev main_v1869 : Ref sig .tc := ⟨.hbm, 3936, rfl⟩
abbrev main_v1870 : Ref sig .tc := ⟨.hbm, 3937, rfl⟩
abbrev main_v1871 : Ref sig .tc := ⟨.hbm, 3938, rfl⟩
abbrev main_v1872 : Ref sig .tc := ⟨.hbm, 3939, rfl⟩
abbrev main_v1873 : Ref sig .tc := ⟨.hbm, 3940, rfl⟩
abbrev main_v1874 : Ref sig .tc := ⟨.hbm, 3941, rfl⟩
abbrev main_v1875 : Ref sig .tc := ⟨.hbm, 3942, rfl⟩
abbrev main_v1876 : Ref sig .tc := ⟨.hbm, 3943, rfl⟩
abbrev main_v1877 : Ref sig .tc := ⟨.hbm, 3944, rfl⟩
abbrev main_cst_331 : Ref sig .tc := ⟨.hbm, 3945, rfl⟩
abbrev main_v1878 : Ref sig .tc := ⟨.hbm, 3946, rfl⟩
abbrev main_v1879 : Ref sig .tc := ⟨.hbm, 3947, rfl⟩
abbrev main_v1880 : Ref sig .tc := ⟨.hbm, 3948, rfl⟩
abbrev main_v1881 : Ref sig .tc := ⟨.hbm, 3949, rfl⟩
abbrev main_v1882 : Ref sig .tc := ⟨.hbm, 3950, rfl⟩
abbrev main_cst_332 : Ref sig .tc := ⟨.hbm, 3951, rfl⟩
abbrev main_v1883 : Ref sig .tc := ⟨.hbm, 3952, rfl⟩
abbrev main_v1884 : Ref sig .tc := ⟨.hbm, 3953, rfl⟩
abbrev main_v1885 : Ref sig .tc := ⟨.hbm, 3954, rfl⟩
abbrev main_v1886 : Ref sig .tc := ⟨.hbm, 3955, rfl⟩
abbrev main_v1887 : Ref sig .tc := ⟨.hbm, 3956, rfl⟩
abbrev main_v1888 : Ref sig .tc := ⟨.hbm, 3957, rfl⟩
abbrev main_v1889 : Ref sig .tc := ⟨.hbm, 3958, rfl⟩
abbrev main_v1890 : Ref sig .tc := ⟨.hbm, 3959, rfl⟩
abbrev main_cst_333 : Ref sig .tc := ⟨.hbm, 3960, rfl⟩
abbrev main_call180_v0 : Ref sig .tc := ⟨.hbm, 3961, rfl⟩
abbrev main_call180_v1 : Ref sig .tc := ⟨.hbm, 3962, rfl⟩
abbrev main_v1891 : Ref sig .tc := ⟨.hbm, 3963, rfl⟩
abbrev main_v1892 : Ref sig .tc := ⟨.hbm, 3964, rfl⟩
abbrev main_v1893 : Ref sig .tc := ⟨.hbm, 3965, rfl⟩
abbrev main_v1894 : Ref sig .tc := ⟨.hbm, 3966, rfl⟩
abbrev main_v1895 : Ref sig .tc := ⟨.hbm, 3967, rfl⟩
abbrev main_v1896 : Ref sig .tc := ⟨.hbm, 3968, rfl⟩
abbrev main_v1897 : Ref sig .tc := ⟨.hbm, 3969, rfl⟩
abbrev main_v1898 : Ref sig .tc := ⟨.hbm, 3970, rfl⟩
abbrev main_v1899 : Ref sig .tc := ⟨.hbm, 3971, rfl⟩
abbrev main_v1900 : Ref sig .tc := ⟨.hbm, 3972, rfl⟩
abbrev main_cst_334 : Ref sig .tc := ⟨.hbm, 3973, rfl⟩
abbrev main_v1901 : Ref sig .tc := ⟨.hbm, 3974, rfl⟩
abbrev main_v1902 : Ref sig .tc := ⟨.hbm, 3975, rfl⟩
abbrev main_v1903 : Ref sig .tc := ⟨.hbm, 3976, rfl⟩
abbrev main_v1904 : Ref sig .tc := ⟨.hbm, 3977, rfl⟩
abbrev main_v1905 : Ref sig .tc := ⟨.hbm, 3978, rfl⟩
abbrev main_cst_335 : Ref sig .tc := ⟨.hbm, 3979, rfl⟩
abbrev main_v1906 : Ref sig .tc := ⟨.hbm, 3980, rfl⟩
abbrev main_v1907 : Ref sig .tc := ⟨.hbm, 3981, rfl⟩
abbrev main_v1908 : Ref sig .tc := ⟨.hbm, 3982, rfl⟩
abbrev main_v1909 : Ref sig .tc := ⟨.hbm, 3983, rfl⟩
abbrev main_v1910 : Ref sig .tc := ⟨.hbm, 3984, rfl⟩
abbrev main_v1911 : Ref sig .tc := ⟨.hbm, 3985, rfl⟩
abbrev main_v1912 : Ref sig .tc := ⟨.hbm, 3986, rfl⟩
abbrev main_v1913 : Ref sig .tc := ⟨.hbm, 3987, rfl⟩
abbrev main_cst_336 : Ref sig .tc := ⟨.hbm, 3988, rfl⟩
abbrev main_call181_v0 : Ref sig .tc := ⟨.hbm, 3989, rfl⟩
abbrev main_call181_v1 : Ref sig .tc := ⟨.hbm, 3990, rfl⟩
abbrev main_v1914 : Ref sig .tc := ⟨.hbm, 3991, rfl⟩
abbrev main_v1915 : Ref sig .tc := ⟨.hbm, 3992, rfl⟩
abbrev main_v1916 : Ref sig .tc := ⟨.hbm, 3993, rfl⟩
abbrev main_v1917 : Ref sig .tc := ⟨.hbm, 3994, rfl⟩
abbrev main_v1918 : Ref sig .tc := ⟨.hbm, 3995, rfl⟩
abbrev main_v1919 : Ref sig .tc := ⟨.hbm, 3996, rfl⟩
abbrev main_v1920 : Ref sig .tc := ⟨.hbm, 3997, rfl⟩
abbrev main_v1921 : Ref sig .tc := ⟨.hbm, 3998, rfl⟩
abbrev main_v1922 : Ref sig .tc := ⟨.hbm, 3999, rfl⟩
abbrev main_v1923 : Ref sig .tc := ⟨.hbm, 4000, rfl⟩
abbrev main_cst_337 : Ref sig .tc := ⟨.hbm, 4001, rfl⟩
abbrev main_v1924 : Ref sig .tc := ⟨.hbm, 4002, rfl⟩
abbrev main_v1925 : Ref sig .tc := ⟨.hbm, 4003, rfl⟩
abbrev main_v1926 : Ref sig .tc := ⟨.hbm, 4004, rfl⟩
abbrev main_v1927 : Ref sig .tc := ⟨.hbm, 4005, rfl⟩
abbrev main_v1928 : Ref sig .tc := ⟨.hbm, 4006, rfl⟩
abbrev main_cst_338 : Ref sig .tc := ⟨.hbm, 4007, rfl⟩
abbrev main_v1929 : Ref sig .tc := ⟨.hbm, 4008, rfl⟩
abbrev main_v1930 : Ref sig .tc := ⟨.hbm, 4009, rfl⟩
abbrev main_v1931 : Ref sig .tc := ⟨.hbm, 4010, rfl⟩
abbrev main_v1932 : Ref sig .tc := ⟨.hbm, 4011, rfl⟩
abbrev main_v1933 : Ref sig .tc := ⟨.hbm, 4012, rfl⟩
abbrev main_v1934 : Ref sig .tc := ⟨.hbm, 4013, rfl⟩
abbrev main_v1935 : Ref sig .tc := ⟨.hbm, 4014, rfl⟩
abbrev main_v1936 : Ref sig .tc := ⟨.hbm, 4015, rfl⟩
abbrev main_cst_339 : Ref sig .tc := ⟨.hbm, 4016, rfl⟩
abbrev main_call182_v0 : Ref sig .tc := ⟨.hbm, 4017, rfl⟩
abbrev main_call182_v1 : Ref sig .tc := ⟨.hbm, 4018, rfl⟩
abbrev main_v1937 : Ref sig .tc := ⟨.hbm, 4019, rfl⟩
abbrev main_v1938 : Ref sig .tc := ⟨.hbm, 4020, rfl⟩
abbrev main_v1939 : Ref sig .tc := ⟨.hbm, 4021, rfl⟩
abbrev main_v1940 : Ref sig .tc := ⟨.hbm, 4022, rfl⟩
abbrev main_v1941 : Ref sig .tc := ⟨.hbm, 4023, rfl⟩
abbrev main_v1942 : Ref sig .tc := ⟨.hbm, 4024, rfl⟩
abbrev main_v1943 : Ref sig .tc := ⟨.hbm, 4025, rfl⟩
abbrev main_v1944 : Ref sig .tc := ⟨.hbm, 4026, rfl⟩
abbrev main_v1945 : Ref sig .tc := ⟨.hbm, 4027, rfl⟩
abbrev main_v1946 : Ref sig .tc := ⟨.hbm, 4028, rfl⟩
abbrev main_cst_340 : Ref sig .tc := ⟨.hbm, 4029, rfl⟩
abbrev main_v1947 : Ref sig .tc := ⟨.hbm, 4030, rfl⟩
abbrev main_v1948 : Ref sig .tc := ⟨.hbm, 4031, rfl⟩
abbrev main_v1949 : Ref sig .tc := ⟨.hbm, 4032, rfl⟩
abbrev main_v1950 : Ref sig .tc := ⟨.hbm, 4033, rfl⟩
abbrev main_v1951 : Ref sig .tc := ⟨.hbm, 4034, rfl⟩
abbrev main_cst_341 : Ref sig .tc := ⟨.hbm, 4035, rfl⟩
abbrev main_v1952 : Ref sig .tc := ⟨.hbm, 4036, rfl⟩
abbrev main_v1953 : Ref sig .tc := ⟨.hbm, 4037, rfl⟩
abbrev main_v1954 : Ref sig .tc := ⟨.hbm, 4038, rfl⟩
abbrev main_v1955 : Ref sig .tc := ⟨.hbm, 4039, rfl⟩
abbrev main_v1956 : Ref sig .tc := ⟨.hbm, 4040, rfl⟩
abbrev main_v1957 : Ref sig .tc := ⟨.hbm, 4041, rfl⟩
abbrev main_v1958 : Ref sig .tc := ⟨.hbm, 4042, rfl⟩
abbrev main_v1959 : Ref sig .tc := ⟨.hbm, 4043, rfl⟩
abbrev main_cst_342 : Ref sig .tc := ⟨.hbm, 4044, rfl⟩
abbrev main_call183_v0 : Ref sig .tc := ⟨.hbm, 4045, rfl⟩
abbrev main_call183_v1 : Ref sig .tc := ⟨.hbm, 4046, rfl⟩
abbrev main_v1960 : Ref sig .tc := ⟨.hbm, 4047, rfl⟩
abbrev main_v1961 : Ref sig .tc := ⟨.hbm, 4048, rfl⟩
abbrev main_v1962 : Ref sig .tc := ⟨.hbm, 4049, rfl⟩
abbrev main_v1963 : Ref sig .tc := ⟨.hbm, 4050, rfl⟩
abbrev main_v1964 : Ref sig .tc := ⟨.hbm, 4051, rfl⟩
abbrev main_v1965 : Ref sig .tc := ⟨.hbm, 4052, rfl⟩
abbrev main_v1966 : Ref sig .tc := ⟨.hbm, 4053, rfl⟩
abbrev main_v1967 : Ref sig .tc := ⟨.hbm, 4054, rfl⟩
abbrev main_v1968 : Ref sig .tc := ⟨.hbm, 4055, rfl⟩
abbrev main_v1969 : Ref sig .tc := ⟨.hbm, 4056, rfl⟩
abbrev main_cst_343 : Ref sig .tc := ⟨.hbm, 4057, rfl⟩
abbrev main_v1970 : Ref sig .tc := ⟨.hbm, 4058, rfl⟩
abbrev main_v1971 : Ref sig .tc := ⟨.hbm, 4059, rfl⟩
abbrev main_v1972 : Ref sig .tc := ⟨.hbm, 4060, rfl⟩
abbrev main_v1973 : Ref sig .tc := ⟨.hbm, 4061, rfl⟩
abbrev main_v1974 : Ref sig .tc := ⟨.hbm, 4062, rfl⟩
abbrev main_cst_344 : Ref sig .tc := ⟨.hbm, 4063, rfl⟩
abbrev main_v1975 : Ref sig .tc := ⟨.hbm, 4064, rfl⟩
abbrev main_v1976 : Ref sig .tc := ⟨.hbm, 4065, rfl⟩
abbrev main_v1977 : Ref sig .tc := ⟨.hbm, 4066, rfl⟩
abbrev main_v1978 : Ref sig .tc := ⟨.hbm, 4067, rfl⟩
abbrev main_v1979 : Ref sig .tc := ⟨.hbm, 4068, rfl⟩
abbrev main_v1980 : Ref sig .tc := ⟨.hbm, 4069, rfl⟩
abbrev main_v1981 : Ref sig .tc := ⟨.hbm, 4070, rfl⟩
abbrev main_v1982 : Ref sig .tc := ⟨.hbm, 4071, rfl⟩
abbrev main_cst_345 : Ref sig .tc := ⟨.hbm, 4072, rfl⟩
abbrev main_call184_v0 : Ref sig .tc := ⟨.hbm, 4073, rfl⟩
abbrev main_call184_v1 : Ref sig .tc := ⟨.hbm, 4074, rfl⟩
abbrev main_v1983 : Ref sig .tc := ⟨.hbm, 4075, rfl⟩
abbrev main_v1984 : Ref sig .tc := ⟨.hbm, 4076, rfl⟩
abbrev main_v1985 : Ref sig .tc := ⟨.hbm, 4077, rfl⟩
abbrev main_v1986 : Ref sig .tc := ⟨.hbm, 4078, rfl⟩
abbrev main_v1987 : Ref sig .tc := ⟨.hbm, 4079, rfl⟩
abbrev main_v1988 : Ref sig .tc := ⟨.hbm, 4080, rfl⟩
abbrev main_v1989 : Ref sig .tc := ⟨.hbm, 4081, rfl⟩
abbrev main_v1990 : Ref sig .tc := ⟨.hbm, 4082, rfl⟩
abbrev main_v1991 : Ref sig .tc := ⟨.hbm, 4083, rfl⟩
abbrev main_v1992 : Ref sig .tc := ⟨.hbm, 4084, rfl⟩
abbrev main_cst_346 : Ref sig .tc := ⟨.hbm, 4085, rfl⟩
abbrev main_v1993 : Ref sig .tc := ⟨.hbm, 4086, rfl⟩
abbrev main_v1994 : Ref sig .tc := ⟨.hbm, 4087, rfl⟩
abbrev main_v1995 : Ref sig .tc := ⟨.hbm, 4088, rfl⟩
abbrev main_v1996 : Ref sig .tc := ⟨.hbm, 4089, rfl⟩
abbrev main_v1997 : Ref sig .tc := ⟨.hbm, 4090, rfl⟩
abbrev main_cst_347 : Ref sig .tc := ⟨.hbm, 4091, rfl⟩
abbrev main_v1998 : Ref sig .tc := ⟨.hbm, 4092, rfl⟩
abbrev main_v1999 : Ref sig .tc := ⟨.hbm, 4093, rfl⟩
abbrev main_v2000 : Ref sig .tc := ⟨.hbm, 4094, rfl⟩
abbrev main_v2001 : Ref sig .tc := ⟨.hbm, 4095, rfl⟩
abbrev main_v2002 : Ref sig .tc := ⟨.hbm, 4096, rfl⟩
abbrev main_v2003 : Ref sig .tc := ⟨.hbm, 4097, rfl⟩
abbrev main_v2004 : Ref sig .tc := ⟨.hbm, 4098, rfl⟩
abbrev main_v2005 : Ref sig .tc := ⟨.hbm, 4099, rfl⟩
abbrev main_cst_348 : Ref sig .tc := ⟨.hbm, 4100, rfl⟩
abbrev main_call185_v0 : Ref sig .tc := ⟨.hbm, 4101, rfl⟩
abbrev main_call185_v1 : Ref sig .tc := ⟨.hbm, 4102, rfl⟩
abbrev main_v2006 : Ref sig .tc := ⟨.hbm, 4103, rfl⟩
abbrev main_v2007 : Ref sig .tc := ⟨.hbm, 4104, rfl⟩
abbrev main_v2008 : Ref sig .tc := ⟨.hbm, 4105, rfl⟩
abbrev main_v2009 : Ref sig .tc := ⟨.hbm, 4106, rfl⟩
abbrev main_v2010 : Ref sig .tc := ⟨.hbm, 4107, rfl⟩
abbrev main_v2011 : Ref sig .tc := ⟨.hbm, 4108, rfl⟩
abbrev main_v2012 : Ref sig .tc := ⟨.hbm, 4109, rfl⟩
abbrev main_v2013 : Ref sig .tc := ⟨.hbm, 4110, rfl⟩
abbrev main_v2014 : Ref sig .tc := ⟨.hbm, 4111, rfl⟩
abbrev main_v2015 : Ref sig .tc := ⟨.hbm, 4112, rfl⟩
abbrev main_cst_349 : Ref sig .tc := ⟨.hbm, 4113, rfl⟩
abbrev main_v2016 : Ref sig .tc := ⟨.hbm, 4114, rfl⟩
abbrev main_v2017 : Ref sig .tc := ⟨.hbm, 4115, rfl⟩
abbrev main_v2018 : Ref sig .tc := ⟨.hbm, 4116, rfl⟩
abbrev main_v2019 : Ref sig .tc := ⟨.hbm, 4117, rfl⟩
abbrev main_v2020 : Ref sig .tc := ⟨.hbm, 4118, rfl⟩
abbrev main_cst_350 : Ref sig .tc := ⟨.hbm, 4119, rfl⟩
abbrev main_v2021 : Ref sig .tc := ⟨.hbm, 4120, rfl⟩
abbrev main_v2022 : Ref sig .tc := ⟨.hbm, 4121, rfl⟩
abbrev main_v2023 : Ref sig .tc := ⟨.hbm, 4122, rfl⟩
abbrev main_v2024 : Ref sig .tc := ⟨.hbm, 4123, rfl⟩
abbrev main_v2025 : Ref sig .tc := ⟨.hbm, 4124, rfl⟩
abbrev main_v2026 : Ref sig .tc := ⟨.hbm, 4125, rfl⟩
abbrev main_v2027 : Ref sig .tc := ⟨.hbm, 4126, rfl⟩
abbrev main_v2028 : Ref sig .tc := ⟨.hbm, 4127, rfl⟩
abbrev main_cst_351 : Ref sig .tc := ⟨.hbm, 4128, rfl⟩
abbrev main_call186_v0 : Ref sig .tc := ⟨.hbm, 4129, rfl⟩
abbrev main_call186_v1 : Ref sig .tc := ⟨.hbm, 4130, rfl⟩
abbrev main_v2029 : Ref sig .tc := ⟨.hbm, 4131, rfl⟩
abbrev main_v2030 : Ref sig .tc := ⟨.hbm, 4132, rfl⟩
abbrev main_v2031 : Ref sig .tc := ⟨.hbm, 4133, rfl⟩
abbrev main_v2032 : Ref sig .tc := ⟨.hbm, 4134, rfl⟩
abbrev main_v2033 : Ref sig .tc := ⟨.hbm, 4135, rfl⟩
abbrev main_v2034 : Ref sig .tc := ⟨.hbm, 4136, rfl⟩
abbrev main_v2035 : Ref sig .tc := ⟨.hbm, 4137, rfl⟩
abbrev main_v2036 : Ref sig .tc := ⟨.hbm, 4138, rfl⟩
abbrev main_v2037 : Ref sig .tc := ⟨.hbm, 4139, rfl⟩
abbrev main_v2038 : Ref sig .tc := ⟨.hbm, 4140, rfl⟩
abbrev main_cst_352 : Ref sig .tc := ⟨.hbm, 4141, rfl⟩
abbrev main_v2039 : Ref sig .tc := ⟨.hbm, 4142, rfl⟩
abbrev main_v2040 : Ref sig .tc := ⟨.hbm, 4143, rfl⟩
abbrev main_v2041 : Ref sig .tc := ⟨.hbm, 4144, rfl⟩
abbrev main_v2042 : Ref sig .tc := ⟨.hbm, 4145, rfl⟩
abbrev main_v2043 : Ref sig .tc := ⟨.hbm, 4146, rfl⟩
abbrev main_cst_353 : Ref sig .tc := ⟨.hbm, 4147, rfl⟩
abbrev main_v2044 : Ref sig .tc := ⟨.hbm, 4148, rfl⟩
abbrev main_v2045 : Ref sig .tc := ⟨.hbm, 4149, rfl⟩
abbrev main_v2046 : Ref sig .tc := ⟨.hbm, 4150, rfl⟩
abbrev main_v2047 : Ref sig .tc := ⟨.hbm, 4151, rfl⟩
abbrev main_v2048 : Ref sig .tc := ⟨.hbm, 4152, rfl⟩
abbrev main_v2049 : Ref sig .tc := ⟨.hbm, 4153, rfl⟩
abbrev main_v2050 : Ref sig .tc := ⟨.hbm, 4154, rfl⟩
abbrev main_v2051 : Ref sig .tc := ⟨.hbm, 4155, rfl⟩
abbrev main_cst_354 : Ref sig .tc := ⟨.hbm, 4156, rfl⟩
abbrev main_call187_v0 : Ref sig .tc := ⟨.hbm, 4157, rfl⟩
abbrev main_call187_v1 : Ref sig .tc := ⟨.hbm, 4158, rfl⟩
abbrev main_v2052 : Ref sig .tc := ⟨.hbm, 4159, rfl⟩
abbrev main_v2053 : Ref sig .tc := ⟨.hbm, 4160, rfl⟩
abbrev main_v2054 : Ref sig .tc := ⟨.hbm, 4161, rfl⟩
abbrev main_v2055 : Ref sig .tc := ⟨.hbm, 4162, rfl⟩
abbrev main_v2056 : Ref sig .tc := ⟨.hbm, 4163, rfl⟩
abbrev main_v2057 : Ref sig .tc := ⟨.hbm, 4164, rfl⟩
abbrev main_v2058 : Ref sig .tc := ⟨.hbm, 4165, rfl⟩
abbrev main_v2059 : Ref sig .tc := ⟨.hbm, 4166, rfl⟩
abbrev main_v2060 : Ref sig .tc := ⟨.hbm, 4167, rfl⟩
abbrev main_v2061 : Ref sig .tc := ⟨.hbm, 4168, rfl⟩
abbrev main_cst_355 : Ref sig .tc := ⟨.hbm, 4169, rfl⟩
abbrev main_v2062 : Ref sig .tc := ⟨.hbm, 4170, rfl⟩
abbrev main_v2063 : Ref sig .tc := ⟨.hbm, 4171, rfl⟩
abbrev main_v2064 : Ref sig .tc := ⟨.hbm, 4172, rfl⟩
abbrev main_v2065 : Ref sig .tc := ⟨.hbm, 4173, rfl⟩
abbrev main_v2066 : Ref sig .tc := ⟨.hbm, 4174, rfl⟩
abbrev main_cst_356 : Ref sig .tc := ⟨.hbm, 4175, rfl⟩
abbrev main_v2067 : Ref sig .tc := ⟨.hbm, 4176, rfl⟩
abbrev main_v2068 : Ref sig .tc := ⟨.hbm, 4177, rfl⟩
abbrev main_v2069 : Ref sig .tc := ⟨.hbm, 4178, rfl⟩
abbrev main_v2070 : Ref sig .tc := ⟨.hbm, 4179, rfl⟩
abbrev main_v2071 : Ref sig .tc := ⟨.hbm, 4180, rfl⟩
abbrev main_v2072 : Ref sig .tc := ⟨.hbm, 4181, rfl⟩
abbrev main_v2073 : Ref sig .tc := ⟨.hbm, 4182, rfl⟩
abbrev main_v2074 : Ref sig .tc := ⟨.hbm, 4183, rfl⟩
abbrev main_cst_357 : Ref sig .tc := ⟨.hbm, 4184, rfl⟩
abbrev main_call188_v0 : Ref sig .tc := ⟨.hbm, 4185, rfl⟩
abbrev main_call188_v1 : Ref sig .tc := ⟨.hbm, 4186, rfl⟩
abbrev main_v2075 : Ref sig .tc := ⟨.hbm, 4187, rfl⟩
abbrev main_v2076 : Ref sig .tc := ⟨.hbm, 4188, rfl⟩
abbrev main_v2077 : Ref sig .tc := ⟨.hbm, 4189, rfl⟩
abbrev main_v2078 : Ref sig .tc := ⟨.hbm, 4190, rfl⟩
abbrev main_v2079 : Ref sig .tc := ⟨.hbm, 4191, rfl⟩
abbrev main_v2080 : Ref sig .tc := ⟨.hbm, 4192, rfl⟩
abbrev main_v2081 : Ref sig .tc := ⟨.hbm, 4193, rfl⟩
abbrev main_v2082 : Ref sig .tc := ⟨.hbm, 4194, rfl⟩
abbrev main_v2083 : Ref sig .tc := ⟨.hbm, 4195, rfl⟩
abbrev main_v2084 : Ref sig .tc := ⟨.hbm, 4196, rfl⟩
abbrev main_cst_358 : Ref sig .tc := ⟨.hbm, 4197, rfl⟩
abbrev main_v2085 : Ref sig .tc := ⟨.hbm, 4198, rfl⟩
abbrev main_v2086 : Ref sig .tc := ⟨.hbm, 4199, rfl⟩
abbrev main_v2087 : Ref sig .tc := ⟨.hbm, 4200, rfl⟩
abbrev main_v2088 : Ref sig .tc := ⟨.hbm, 4201, rfl⟩
abbrev main_v2089 : Ref sig .tc := ⟨.hbm, 4202, rfl⟩
abbrev main_cst_359 : Ref sig .tc := ⟨.hbm, 4203, rfl⟩
abbrev main_v2090 : Ref sig .tc := ⟨.hbm, 4204, rfl⟩
abbrev main_v2091 : Ref sig .tc := ⟨.hbm, 4205, rfl⟩
abbrev main_v2092 : Ref sig .tc := ⟨.hbm, 4206, rfl⟩
abbrev main_v2093 : Ref sig .tc := ⟨.hbm, 4207, rfl⟩
abbrev main_v2094 : Ref sig .tc := ⟨.hbm, 4208, rfl⟩
abbrev main_v2095 : Ref sig .tc := ⟨.hbm, 4209, rfl⟩
abbrev main_v2096 : Ref sig .tc := ⟨.hbm, 4210, rfl⟩
abbrev main_v2097 : Ref sig .tc := ⟨.hbm, 4211, rfl⟩
abbrev main_cst_360 : Ref sig .tc := ⟨.hbm, 4212, rfl⟩
abbrev main_call189_v0 : Ref sig .tc := ⟨.hbm, 4213, rfl⟩
abbrev main_call189_v1 : Ref sig .tc := ⟨.hbm, 4214, rfl⟩
abbrev main_v2098 : Ref sig .tc := ⟨.hbm, 4215, rfl⟩
abbrev main_v2099 : Ref sig .tc := ⟨.hbm, 4216, rfl⟩
abbrev main_v2100 : Ref sig .tc := ⟨.hbm, 4217, rfl⟩
abbrev main_v2101 : Ref sig .tc := ⟨.hbm, 4218, rfl⟩
abbrev main_v2102 : Ref sig .tc := ⟨.hbm, 4219, rfl⟩
abbrev main_v2103 : Ref sig .tc := ⟨.hbm, 4220, rfl⟩
abbrev main_v2104 : Ref sig .tc := ⟨.hbm, 4221, rfl⟩
abbrev main_v2105 : Ref sig .tc := ⟨.hbm, 4222, rfl⟩
abbrev main_v2106 : Ref sig .tc := ⟨.hbm, 4223, rfl⟩
abbrev main_v2107 : Ref sig .tc := ⟨.hbm, 4224, rfl⟩
abbrev main_cst_361 : Ref sig .tc := ⟨.hbm, 4225, rfl⟩
abbrev main_v2108 : Ref sig .tc := ⟨.hbm, 4226, rfl⟩
abbrev main_v2109 : Ref sig .tc := ⟨.hbm, 4227, rfl⟩
abbrev main_v2110 : Ref sig .tc := ⟨.hbm, 4228, rfl⟩
abbrev main_v2111 : Ref sig .tc := ⟨.hbm, 4229, rfl⟩
abbrev main_v2112 : Ref sig .tc := ⟨.hbm, 4230, rfl⟩
abbrev main_cst_362 : Ref sig .tc := ⟨.hbm, 4231, rfl⟩
abbrev main_v2113 : Ref sig .tc := ⟨.hbm, 4232, rfl⟩
abbrev main_v2114 : Ref sig .tc := ⟨.hbm, 4233, rfl⟩
abbrev main_v2115 : Ref sig .tc := ⟨.hbm, 4234, rfl⟩
abbrev main_v2116 : Ref sig .tc := ⟨.hbm, 4235, rfl⟩
abbrev main_cst_363 : Ref sig .tc := ⟨.hbm, 4236, rfl⟩
abbrev main_v2117 : Ref sig .tc := ⟨.hbm, 4237, rfl⟩
abbrev main_v2118 : Ref sig .tc := ⟨.hbm, 4238, rfl⟩
abbrev main_v2119 : Ref sig .tc := ⟨.hbm, 4239, rfl⟩
abbrev main_v2120 : Ref sig .tc := ⟨.hbm, 4240, rfl⟩
abbrev main_v2121 : Ref sig .tc := ⟨.hbm, 4241, rfl⟩
abbrev main_v2122 : Ref sig .tc := ⟨.hbm, 4242, rfl⟩
abbrev main_v2123 : Ref sig .tc := ⟨.hbm, 4243, rfl⟩
abbrev main_v2124 : Ref sig .tc := ⟨.hbm, 4244, rfl⟩
abbrev main_v2125 : Ref sig .tc := ⟨.hbm, 4245, rfl⟩
abbrev main_v2126 : Ref sig .tc := ⟨.hbm, 4246, rfl⟩
abbrev main_v2127 : Ref sig .tc := ⟨.hbm, 4247, rfl⟩
abbrev main_v2128 : Ref sig .tc := ⟨.hbm, 4248, rfl⟩
abbrev main_c_364 : Ref sig .tc := ⟨.hbm, 4249, rfl⟩
abbrev main_call190_v0 : Ref sig .tc := ⟨.hbm, 4250, rfl⟩
abbrev main_call190_v1 : Ref sig .tc := ⟨.hbm, 4251, rfl⟩
abbrev main_call190_v2 : Ref sig .tc := ⟨.hbm, 4252, rfl⟩
abbrev main_call190_v3 : Ref sig .tc := ⟨.hbm, 4253, rfl⟩
abbrev main_call190_v4 : Ref sig .tc := ⟨.hbm, 4254, rfl⟩
abbrev main_call190_v5 : Ref sig .tc := ⟨.hbm, 4255, rfl⟩
abbrev main_call190_v6 : Ref sig .tc := ⟨.hbm, 4256, rfl⟩
abbrev main_call190_v7 : Ref sig .tc := ⟨.hbm, 4257, rfl⟩
abbrev main_call190_v8 : Ref sig .tc := ⟨.hbm, 4258, rfl⟩
abbrev main_call190_c : Ref sig .tc := ⟨.hbm, 4259, rfl⟩
abbrev main_call190_v9 : Ref sig .tc := ⟨.hbm, 4260, rfl⟩
abbrev main_call190_v10 : Ref sig .tc := ⟨.hbm, 4261, rfl⟩
abbrev main_call190_v11 : Ref sig .tc := ⟨.hbm, 4262, rfl⟩
abbrev main_call190_c_0 : Ref sig .tc := ⟨.hbm, 4263, rfl⟩
abbrev main_call190_v12 : Ref sig .tc := ⟨.hbm, 4264, rfl⟩
abbrev main_call190_v13 : Ref sig .tc := ⟨.hbm, 4265, rfl⟩
abbrev main_v2129 : Ref sig .tc := ⟨.hbm, 4266, rfl⟩
abbrev main_c_365 : Ref sig .tc := ⟨.hbm, 4267, rfl⟩
abbrev main_call191_v0 : Ref sig .tc := ⟨.hbm, 4268, rfl⟩
abbrev main_call191_v1 : Ref sig .tc := ⟨.hbm, 4269, rfl⟩
abbrev main_call191_v2 : Ref sig .tc := ⟨.hbm, 4270, rfl⟩
abbrev main_call191_v3 : Ref sig .tc := ⟨.hbm, 4271, rfl⟩
abbrev main_call191_v4 : Ref sig .tc := ⟨.hbm, 4272, rfl⟩
abbrev main_call191_v5 : Ref sig .tc := ⟨.hbm, 4273, rfl⟩
abbrev main_call191_v6 : Ref sig .tc := ⟨.hbm, 4274, rfl⟩
abbrev main_call191_v7 : Ref sig .tc := ⟨.hbm, 4275, rfl⟩
abbrev main_call191_v8 : Ref sig .tc := ⟨.hbm, 4276, rfl⟩
abbrev main_call191_c : Ref sig .tc := ⟨.hbm, 4277, rfl⟩
abbrev main_call191_v9 : Ref sig .tc := ⟨.hbm, 4278, rfl⟩
abbrev main_call191_v10 : Ref sig .tc := ⟨.hbm, 4279, rfl⟩
abbrev main_call191_v11 : Ref sig .tc := ⟨.hbm, 4280, rfl⟩
abbrev main_call191_c_0 : Ref sig .tc := ⟨.hbm, 4281, rfl⟩
abbrev main_call191_v12 : Ref sig .tc := ⟨.hbm, 4282, rfl⟩
abbrev main_call191_v13 : Ref sig .tc := ⟨.hbm, 4283, rfl⟩
abbrev main_v2130 : Ref sig .tc := ⟨.hbm, 4284, rfl⟩
abbrev main_c_366 : Ref sig .tc := ⟨.hbm, 4285, rfl⟩
abbrev main_call192_v0 : Ref sig .tc := ⟨.hbm, 4286, rfl⟩
abbrev main_call192_c : Ref sig .tc := ⟨.hbm, 4287, rfl⟩
abbrev main_call192_v1 : Ref sig .tc := ⟨.hbm, 4288, rfl⟩
abbrev main_call192_c_0 : Ref sig .tc := ⟨.hbm, 4289, rfl⟩
abbrev main_call192_v2 : Ref sig .tc := ⟨.hbm, 4290, rfl⟩
abbrev main_call192_v3 : Ref sig .tc := ⟨.hbm, 4291, rfl⟩
abbrev main_call192_v4 : Ref sig .tc := ⟨.hbm, 4292, rfl⟩
abbrev main_call192_c_1 : Ref sig .tc := ⟨.hbm, 4293, rfl⟩
abbrev main_call192_v5 : Ref sig .tc := ⟨.hbm, 4294, rfl⟩
abbrev main_call192_v6 : Ref sig .tc := ⟨.hbm, 4295, rfl⟩
abbrev main_call192_c_2 : Ref sig .tc := ⟨.hbm, 4296, rfl⟩
abbrev main_call192_v7 : Ref sig .tc := ⟨.hbm, 4297, rfl⟩
abbrev main_call192_v8 : Ref sig .tc := ⟨.hbm, 4298, rfl⟩
abbrev main_call192_c_3 : Ref sig .tc := ⟨.hbm, 4299, rfl⟩
abbrev main_call192_v9 : Ref sig .tc := ⟨.hbm, 4300, rfl⟩
abbrev main_call192_v10 : Ref sig .tc := ⟨.hbm, 4301, rfl⟩
abbrev main_call192_v11 : Ref sig .tc := ⟨.hbm, 4302, rfl⟩
abbrev main_call192_v12 : Ref sig .tc := ⟨.hbm, 4303, rfl⟩
abbrev main_call192_v13 : Ref sig .tc := ⟨.hbm, 4304, rfl⟩
abbrev main_call192_v14 : Ref sig .tc := ⟨.hbm, 4305, rfl⟩
abbrev main_v2131 : Ref sig .tc := ⟨.hbm, 4306, rfl⟩
abbrev main_c_367 : Ref sig .tc := ⟨.hbm, 4307, rfl⟩
abbrev main_call193_v0 : Ref sig .tc := ⟨.hbm, 4308, rfl⟩
abbrev main_call193_c : Ref sig .tc := ⟨.hbm, 4309, rfl⟩
abbrev main_call193_v1 : Ref sig .tc := ⟨.hbm, 4310, rfl⟩
abbrev main_call193_c_0 : Ref sig .tc := ⟨.hbm, 4311, rfl⟩
abbrev main_call193_v2 : Ref sig .tc := ⟨.hbm, 4312, rfl⟩
abbrev main_call193_v3 : Ref sig .tc := ⟨.hbm, 4313, rfl⟩
abbrev main_call193_v4 : Ref sig .tc := ⟨.hbm, 4314, rfl⟩
abbrev main_call193_c_1 : Ref sig .tc := ⟨.hbm, 4315, rfl⟩
abbrev main_call193_v5 : Ref sig .tc := ⟨.hbm, 4316, rfl⟩
abbrev main_call193_v6 : Ref sig .tc := ⟨.hbm, 4317, rfl⟩
abbrev main_call193_c_2 : Ref sig .tc := ⟨.hbm, 4318, rfl⟩
abbrev main_call193_v7 : Ref sig .tc := ⟨.hbm, 4319, rfl⟩
abbrev main_call193_v8 : Ref sig .tc := ⟨.hbm, 4320, rfl⟩
abbrev main_call193_c_3 : Ref sig .tc := ⟨.hbm, 4321, rfl⟩
abbrev main_call193_v9 : Ref sig .tc := ⟨.hbm, 4322, rfl⟩
abbrev main_call193_v10 : Ref sig .tc := ⟨.hbm, 4323, rfl⟩
abbrev main_call193_v11 : Ref sig .tc := ⟨.hbm, 4324, rfl⟩
abbrev main_call193_v12 : Ref sig .tc := ⟨.hbm, 4325, rfl⟩
abbrev main_call193_v13 : Ref sig .tc := ⟨.hbm, 4326, rfl⟩
abbrev main_call193_v14 : Ref sig .tc := ⟨.hbm, 4327, rfl⟩
abbrev main_v2132 : Ref sig .tc := ⟨.hbm, 4328, rfl⟩
abbrev main_v2133 : Ref sig .tc := ⟨.hbm, 4329, rfl⟩
abbrev main_v2134 : Ref sig .tc := ⟨.hbm, 4330, rfl⟩
abbrev main_v2135 : Ref sig .tc := ⟨.hbm, 4331, rfl⟩
abbrev main_v2136 : Ref sig .tc := ⟨.hbm, 4332, rfl⟩
abbrev main_v2137 : Ref sig .tc := ⟨.hbm, 4333, rfl⟩
abbrev main_v2138 : Ref sig .tc := ⟨.hbm, 4334, rfl⟩
abbrev main_v2139 : Ref sig .tc := ⟨.hbm, 4335, rfl⟩
abbrev main_v2140 : Ref sig .tc := ⟨.hbm, 4336, rfl⟩
abbrev main_v2141 : Ref sig .tc := ⟨.hbm, 4337, rfl⟩
abbrev main_v2142 : Ref sig .tc := ⟨.hbm, 4338, rfl⟩
abbrev main_v2143 : Ref sig .tc := ⟨.hbm, 4339, rfl⟩
abbrev main_v2144 : Ref sig .tc := ⟨.hbm, 4340, rfl⟩
abbrev main_v2145 : Ref sig .tc := ⟨.hbm, 4341, rfl⟩
abbrev main_v2146 : Ref sig .tc := ⟨.hbm, 4342, rfl⟩
abbrev main_v2147 : Ref sig .tc := ⟨.hbm, 4343, rfl⟩
abbrev main_c_368 : Ref sig .tc := ⟨.hbm, 4344, rfl⟩
abbrev main_v2148 : Ref sig .tc := ⟨.hbm, 4345, rfl⟩
abbrev main_v2149 : Ref sig .tc := ⟨.hbm, 4346, rfl⟩
abbrev main_c_369 : Ref sig .tc := ⟨.hbm, 4347, rfl⟩
abbrev main_v2150 : Ref sig .tc := ⟨.hbm, 4348, rfl⟩
abbrev main_v2151 : Ref sig .tc := ⟨.hbm, 4349, rfl⟩
abbrev main_v2152 : Ref sig .tc := ⟨.hbm, 4350, rfl⟩
abbrev main_c_370 : Ref sig .tc := ⟨.hbm, 4351, rfl⟩
abbrev main_v2153 : Ref sig .tc := ⟨.hbm, 4352, rfl⟩
abbrev main_v2154 : Ref sig .tc := ⟨.hbm, 4353, rfl⟩
abbrev main_v2155 : Ref sig .tc := ⟨.hbm, 4354, rfl⟩
abbrev main_c_371 : Ref sig .tc := ⟨.hbm, 4355, rfl⟩
abbrev main_v2156 : Ref sig .tc := ⟨.hbm, 4356, rfl⟩
abbrev main_v2157 : Ref sig .tc := ⟨.hbm, 4357, rfl⟩
abbrev main_v2158 : Ref sig .tc := ⟨.hbm, 4358, rfl⟩
abbrev main_c_372 : Ref sig .tc := ⟨.hbm, 4359, rfl⟩
abbrev main_v2159 : Ref sig .tc := ⟨.hbm, 4360, rfl⟩
abbrev main_v2160 : Ref sig .tc := ⟨.hbm, 4361, rfl⟩
abbrev main_v2161 : Ref sig .tc := ⟨.hbm, 4362, rfl⟩
abbrev main_c_373 : Ref sig .tc := ⟨.hbm, 4363, rfl⟩
abbrev main_v2162 : Ref sig .tc := ⟨.hbm, 4364, rfl⟩
abbrev main_v2163 : Ref sig .tc := ⟨.hbm, 4365, rfl⟩
abbrev main_v2164 : Ref sig .tc := ⟨.hbm, 4366, rfl⟩
abbrev main_c_374 : Ref sig .tc := ⟨.hbm, 4367, rfl⟩
abbrev main_c_375 : Ref sig .tc := ⟨.hbm, 4368, rfl⟩
abbrev main_call194_v0 : Ref sig .tc := ⟨.hbm, 4369, rfl⟩
abbrev main_call194_v1 : Ref sig .tc := ⟨.hbm, 4370, rfl⟩
abbrev main_call194_v2 : Ref sig .tc := ⟨.hbm, 4371, rfl⟩
abbrev main_call194_v3 : Ref sig .tc := ⟨.hbm, 4372, rfl⟩
abbrev main_call194_v4 : Ref sig .tc := ⟨.hbm, 4373, rfl⟩
abbrev main_v2165 : Ref sig .tc := ⟨.hbm, 4374, rfl⟩
abbrev main_c_376 : Ref sig .tc := ⟨.hbm, 4375, rfl⟩
abbrev main_v2166 : Ref sig .tc := ⟨.hbm, 4376, rfl⟩
abbrev main_v2167 : Ref sig .tc := ⟨.hbm, 4377, rfl⟩
abbrev main_c_377 : Ref sig .tc := ⟨.hbm, 4378, rfl⟩
abbrev main_c_378 : Ref sig .tc := ⟨.hbm, 4379, rfl⟩
abbrev main_call195_v0 : Ref sig .tc := ⟨.hbm, 4380, rfl⟩
abbrev main_call195_v1 : Ref sig .tc := ⟨.hbm, 4381, rfl⟩
abbrev main_call195_v2 : Ref sig .tc := ⟨.hbm, 4382, rfl⟩
abbrev main_call195_v3 : Ref sig .tc := ⟨.hbm, 4383, rfl⟩
abbrev main_call195_v4 : Ref sig .tc := ⟨.hbm, 4384, rfl⟩
abbrev main_v2168 : Ref sig .tc := ⟨.hbm, 4385, rfl⟩
abbrev main_v2169 : Ref sig .tc := ⟨.hbm, 4386, rfl⟩
abbrev main_c_379 : Ref sig .tc := ⟨.hbm, 4387, rfl⟩
abbrev main_v2170 : Ref sig .tc := ⟨.hbm, 4388, rfl⟩
abbrev main_v2171 : Ref sig .tc := ⟨.hbm, 4389, rfl⟩
abbrev main_c_380 : Ref sig .tc := ⟨.hbm, 4390, rfl⟩
abbrev main_c_381 : Ref sig .tc := ⟨.hbm, 4391, rfl⟩
abbrev main_call196_v0 : Ref sig .tc := ⟨.hbm, 4392, rfl⟩
abbrev main_call196_v1 : Ref sig .tc := ⟨.hbm, 4393, rfl⟩
abbrev main_call196_v2 : Ref sig .tc := ⟨.hbm, 4394, rfl⟩
abbrev main_call196_v3 : Ref sig .tc := ⟨.hbm, 4395, rfl⟩
abbrev main_call196_v4 : Ref sig .tc := ⟨.hbm, 4396, rfl⟩
abbrev main_v2172 : Ref sig .tc := ⟨.hbm, 4397, rfl⟩
abbrev main_v2173 : Ref sig .tc := ⟨.hbm, 4398, rfl⟩
abbrev main_v2174 : Ref sig .tc := ⟨.hbm, 4399, rfl⟩
abbrev main_v2175 : Ref sig .tc := ⟨.hbm, 4400, rfl⟩
abbrev main_v2176 : Ref sig .tc := ⟨.hbm, 4401, rfl⟩
abbrev main_call197_c : Ref sig .tc := ⟨.hbm, 4402, rfl⟩
abbrev main_call197_v0 : Ref sig .tc := ⟨.hbm, 4403, rfl⟩
abbrev main_call197_v1 : Ref sig .tc := ⟨.hbm, 4404, rfl⟩
abbrev main_call197_c_0 : Ref sig .tc := ⟨.hbm, 4405, rfl⟩
abbrev main_call197_v2 : Ref sig .tc := ⟨.hbm, 4406, rfl⟩
abbrev main_call197_v3 : Ref sig .tc := ⟨.hbm, 4407, rfl⟩
abbrev main_call197_v4 : Ref sig .tc := ⟨.hbm, 4408, rfl⟩
abbrev main_call197_v5 : Ref sig .tc := ⟨.hbm, 4409, rfl⟩
abbrev main_call197_c_1 : Ref sig .tc := ⟨.hbm, 4410, rfl⟩
abbrev main_call197_c_2 : Ref sig .tc := ⟨.hbm, 4411, rfl⟩
abbrev main_call197_v6 : Ref sig .tc := ⟨.hbm, 4412, rfl⟩
abbrev main_call197_v7 : Ref sig .tc := ⟨.hbm, 4413, rfl⟩
abbrev main_call197_v8 : Ref sig .tc := ⟨.hbm, 4414, rfl⟩
abbrev main_call197_v9 : Ref sig .tc := ⟨.hbm, 4415, rfl⟩
abbrev main_call197_v10 : Ref sig .tc := ⟨.hbm, 4416, rfl⟩
abbrev main_call197_v11 : Ref sig .tc := ⟨.hbm, 4417, rfl⟩
abbrev main_call197_c_3 : Ref sig .tc := ⟨.hbm, 4418, rfl⟩
abbrev main_call197_v12 : Ref sig .tc := ⟨.hbm, 4419, rfl⟩
abbrev main_call197_v13 : Ref sig .tc := ⟨.hbm, 4420, rfl⟩
abbrev main_call197_v14 : Ref sig .tc := ⟨.hbm, 4421, rfl⟩
abbrev main_call197_cst : Ref sig .tc := ⟨.hbm, 4422, rfl⟩
abbrev main_call197_v15 : Ref sig .tc := ⟨.hbm, 4423, rfl⟩
abbrev main_v2177 : Ref sig .tc := ⟨.hbm, 4424, rfl⟩
abbrev main_v2178 : Ref sig .tc := ⟨.hbm, 4425, rfl⟩
abbrev main_v2179 : Ref sig .tc := ⟨.hbm, 4426, rfl⟩
abbrev main_cst_382 : Ref sig .tc := ⟨.hbm, 4427, rfl⟩
abbrev main_v2180 : Ref sig .tc := ⟨.hbm, 4428, rfl⟩
abbrev main_v2181 : Ref sig .tc := ⟨.hbm, 4429, rfl⟩
abbrev main_v2182 : Ref sig .tc := ⟨.hbm, 4430, rfl⟩
abbrev main_cst_383 : Ref sig .tc := ⟨.hbm, 4431, rfl⟩
abbrev main_call198_v0 : Ref sig .tc := ⟨.hbm, 4432, rfl⟩
abbrev main_call198_v1 : Ref sig .tc := ⟨.hbm, 4433, rfl⟩
abbrev main_v2183 : Ref sig .tc := ⟨.hbm, 4434, rfl⟩
abbrev main_v2184 : Ref sig .tc := ⟨.hbm, 4435, rfl⟩
abbrev main_v2185 : Ref sig .tc := ⟨.hbm, 4436, rfl⟩
abbrev main_v2186 : Ref sig .tc := ⟨.hbm, 4437, rfl⟩
abbrev main_call199_c : Ref sig .tc := ⟨.hbm, 4438, rfl⟩
abbrev main_call199_v0 : Ref sig .tc := ⟨.hbm, 4439, rfl⟩
abbrev main_call199_v1 : Ref sig .tc := ⟨.hbm, 4440, rfl⟩
abbrev main_call199_c_0 : Ref sig .tc := ⟨.hbm, 4441, rfl⟩
abbrev main_call199_v2 : Ref sig .tc := ⟨.hbm, 4442, rfl⟩
abbrev main_call199_v3 : Ref sig .tc := ⟨.hbm, 4443, rfl⟩
abbrev main_call199_v4 : Ref sig .tc := ⟨.hbm, 4444, rfl⟩
abbrev main_call199_v5 : Ref sig .tc := ⟨.hbm, 4445, rfl⟩
abbrev main_call199_c_1 : Ref sig .tc := ⟨.hbm, 4446, rfl⟩
abbrev main_call199_c_2 : Ref sig .tc := ⟨.hbm, 4447, rfl⟩
abbrev main_call199_v6 : Ref sig .tc := ⟨.hbm, 4448, rfl⟩
abbrev main_call199_v7 : Ref sig .tc := ⟨.hbm, 4449, rfl⟩
abbrev main_call199_v8 : Ref sig .tc := ⟨.hbm, 4450, rfl⟩
abbrev main_call199_v9 : Ref sig .tc := ⟨.hbm, 4451, rfl⟩
abbrev main_call199_v10 : Ref sig .tc := ⟨.hbm, 4452, rfl⟩
abbrev main_call199_v11 : Ref sig .tc := ⟨.hbm, 4453, rfl⟩
abbrev main_call199_c_3 : Ref sig .tc := ⟨.hbm, 4454, rfl⟩
abbrev main_call199_v12 : Ref sig .tc := ⟨.hbm, 4455, rfl⟩
abbrev main_call199_v13 : Ref sig .tc := ⟨.hbm, 4456, rfl⟩
abbrev main_call199_v14 : Ref sig .tc := ⟨.hbm, 4457, rfl⟩
abbrev main_call199_cst : Ref sig .tc := ⟨.hbm, 4458, rfl⟩
abbrev main_call199_v15 : Ref sig .tc := ⟨.hbm, 4459, rfl⟩
abbrev main_v2187 : Ref sig .tc := ⟨.hbm, 4460, rfl⟩
abbrev main_v2188 : Ref sig .tc := ⟨.hbm, 4461, rfl⟩
abbrev main_v2189 : Ref sig .tc := ⟨.hbm, 4462, rfl⟩
abbrev main_cst_384 : Ref sig .tc := ⟨.hbm, 4463, rfl⟩
abbrev main_v2190 : Ref sig .tc := ⟨.hbm, 4464, rfl⟩
abbrev main_v2191 : Ref sig .tc := ⟨.hbm, 4465, rfl⟩
abbrev main_v2192 : Ref sig .tc := ⟨.hbm, 4466, rfl⟩
abbrev main_cst_385 : Ref sig .tc := ⟨.hbm, 4467, rfl⟩
abbrev main_call200_v0 : Ref sig .tc := ⟨.hbm, 4468, rfl⟩
abbrev main_call200_v1 : Ref sig .tc := ⟨.hbm, 4469, rfl⟩
abbrev main_v2193 : Ref sig .tc := ⟨.hbm, 4470, rfl⟩
abbrev main_v2194 : Ref sig .tc := ⟨.hbm, 4471, rfl⟩
abbrev main_v2195 : Ref sig .tc := ⟨.hbm, 4472, rfl⟩
abbrev main_v2196 : Ref sig .tc := ⟨.hbm, 4473, rfl⟩
abbrev main_call201_c : Ref sig .tc := ⟨.hbm, 4474, rfl⟩
abbrev main_call201_v0 : Ref sig .tc := ⟨.hbm, 4475, rfl⟩
abbrev main_call201_v1 : Ref sig .tc := ⟨.hbm, 4476, rfl⟩
abbrev main_call201_c_0 : Ref sig .tc := ⟨.hbm, 4477, rfl⟩
abbrev main_call201_v2 : Ref sig .tc := ⟨.hbm, 4478, rfl⟩
abbrev main_call201_v3 : Ref sig .tc := ⟨.hbm, 4479, rfl⟩
abbrev main_call201_v4 : Ref sig .tc := ⟨.hbm, 4480, rfl⟩
abbrev main_call201_v5 : Ref sig .tc := ⟨.hbm, 4481, rfl⟩
abbrev main_call201_c_1 : Ref sig .tc := ⟨.hbm, 4482, rfl⟩
abbrev main_call201_c_2 : Ref sig .tc := ⟨.hbm, 4483, rfl⟩
abbrev main_call201_v6 : Ref sig .tc := ⟨.hbm, 4484, rfl⟩
abbrev main_call201_v7 : Ref sig .tc := ⟨.hbm, 4485, rfl⟩
abbrev main_call201_v8 : Ref sig .tc := ⟨.hbm, 4486, rfl⟩
abbrev main_call201_v9 : Ref sig .tc := ⟨.hbm, 4487, rfl⟩
abbrev main_call201_v10 : Ref sig .tc := ⟨.hbm, 4488, rfl⟩
abbrev main_call201_v11 : Ref sig .tc := ⟨.hbm, 4489, rfl⟩
abbrev main_call201_c_3 : Ref sig .tc := ⟨.hbm, 4490, rfl⟩
abbrev main_call201_v12 : Ref sig .tc := ⟨.hbm, 4491, rfl⟩
abbrev main_call201_v13 : Ref sig .tc := ⟨.hbm, 4492, rfl⟩
abbrev main_call201_v14 : Ref sig .tc := ⟨.hbm, 4493, rfl⟩
abbrev main_call201_cst : Ref sig .tc := ⟨.hbm, 4494, rfl⟩
abbrev main_call201_v15 : Ref sig .tc := ⟨.hbm, 4495, rfl⟩
abbrev main_v2197 : Ref sig .tc := ⟨.hbm, 4496, rfl⟩
abbrev main_v2198 : Ref sig .tc := ⟨.hbm, 4497, rfl⟩
abbrev main_v2199 : Ref sig .tc := ⟨.hbm, 4498, rfl⟩
abbrev main_cst_386 : Ref sig .tc := ⟨.hbm, 4499, rfl⟩
abbrev main_v2200 : Ref sig .tc := ⟨.hbm, 4500, rfl⟩
abbrev main_v2201 : Ref sig .tc := ⟨.hbm, 4501, rfl⟩
abbrev main_v2202 : Ref sig .tc := ⟨.hbm, 4502, rfl⟩
abbrev main_cst_387 : Ref sig .tc := ⟨.hbm, 4503, rfl⟩
abbrev main_call202_v0 : Ref sig .tc := ⟨.hbm, 4504, rfl⟩
abbrev main_call202_v1 : Ref sig .tc := ⟨.hbm, 4505, rfl⟩
abbrev main_v2203 : Ref sig .tc := ⟨.hbm, 4506, rfl⟩
abbrev main_v2204 : Ref sig .tc := ⟨.hbm, 4507, rfl⟩
abbrev main_v2205 : Ref sig .tc := ⟨.hbm, 4508, rfl⟩
abbrev main_v2206 : Ref sig .tc := ⟨.hbm, 4509, rfl⟩
abbrev main_call203_c : Ref sig .tc := ⟨.hbm, 4510, rfl⟩
abbrev main_call203_v0 : Ref sig .tc := ⟨.hbm, 4511, rfl⟩
abbrev main_call203_v1 : Ref sig .tc := ⟨.hbm, 4512, rfl⟩
abbrev main_call203_c_0 : Ref sig .tc := ⟨.hbm, 4513, rfl⟩
abbrev main_call203_v2 : Ref sig .tc := ⟨.hbm, 4514, rfl⟩
abbrev main_call203_v3 : Ref sig .tc := ⟨.hbm, 4515, rfl⟩
abbrev main_call203_v4 : Ref sig .tc := ⟨.hbm, 4516, rfl⟩
abbrev main_call203_v5 : Ref sig .tc := ⟨.hbm, 4517, rfl⟩
abbrev main_call203_c_1 : Ref sig .tc := ⟨.hbm, 4518, rfl⟩
abbrev main_call203_c_2 : Ref sig .tc := ⟨.hbm, 4519, rfl⟩
abbrev main_call203_v6 : Ref sig .tc := ⟨.hbm, 4520, rfl⟩
abbrev main_call203_v7 : Ref sig .tc := ⟨.hbm, 4521, rfl⟩
abbrev main_call203_v8 : Ref sig .tc := ⟨.hbm, 4522, rfl⟩
abbrev main_call203_v9 : Ref sig .tc := ⟨.hbm, 4523, rfl⟩
abbrev main_call203_v10 : Ref sig .tc := ⟨.hbm, 4524, rfl⟩
abbrev main_call203_v11 : Ref sig .tc := ⟨.hbm, 4525, rfl⟩
abbrev main_call203_c_3 : Ref sig .tc := ⟨.hbm, 4526, rfl⟩
abbrev main_call203_v12 : Ref sig .tc := ⟨.hbm, 4527, rfl⟩
abbrev main_call203_v13 : Ref sig .tc := ⟨.hbm, 4528, rfl⟩
abbrev main_call203_v14 : Ref sig .tc := ⟨.hbm, 4529, rfl⟩
abbrev main_call203_cst : Ref sig .tc := ⟨.hbm, 4530, rfl⟩
abbrev main_call203_v15 : Ref sig .tc := ⟨.hbm, 4531, rfl⟩
abbrev main_v2207 : Ref sig .tc := ⟨.hbm, 4532, rfl⟩
abbrev main_v2208 : Ref sig .tc := ⟨.hbm, 4533, rfl⟩
abbrev main_v2209 : Ref sig .tc := ⟨.hbm, 4534, rfl⟩
abbrev main_cst_388 : Ref sig .tc := ⟨.hbm, 4535, rfl⟩
abbrev main_v2210 : Ref sig .tc := ⟨.hbm, 4536, rfl⟩
abbrev main_v2211 : Ref sig .tc := ⟨.hbm, 4537, rfl⟩
abbrev main_v2212 : Ref sig .tc := ⟨.hbm, 4538, rfl⟩
abbrev main_cst_389 : Ref sig .tc := ⟨.hbm, 4539, rfl⟩
abbrev main_call204_v0 : Ref sig .tc := ⟨.hbm, 4540, rfl⟩
abbrev main_call204_v1 : Ref sig .tc := ⟨.hbm, 4541, rfl⟩
abbrev main_v2213 : Ref sig .tc := ⟨.hbm, 4542, rfl⟩
abbrev main_v2214 : Ref sig .tc := ⟨.hbm, 4543, rfl⟩
abbrev main_v2215 : Ref sig .tc := ⟨.hbm, 4544, rfl⟩
abbrev main_v2216 : Ref sig .tc := ⟨.hbm, 4545, rfl⟩
abbrev main_call205_c : Ref sig .tc := ⟨.hbm, 4546, rfl⟩
abbrev main_call205_v0 : Ref sig .tc := ⟨.hbm, 4547, rfl⟩
abbrev main_call205_v1 : Ref sig .tc := ⟨.hbm, 4548, rfl⟩
abbrev main_call205_c_0 : Ref sig .tc := ⟨.hbm, 4549, rfl⟩
abbrev main_call205_v2 : Ref sig .tc := ⟨.hbm, 4550, rfl⟩
abbrev main_call205_v3 : Ref sig .tc := ⟨.hbm, 4551, rfl⟩
abbrev main_call205_v4 : Ref sig .tc := ⟨.hbm, 4552, rfl⟩
abbrev main_call205_v5 : Ref sig .tc := ⟨.hbm, 4553, rfl⟩
abbrev main_call205_c_1 : Ref sig .tc := ⟨.hbm, 4554, rfl⟩
abbrev main_call205_c_2 : Ref sig .tc := ⟨.hbm, 4555, rfl⟩
abbrev main_call205_v6 : Ref sig .tc := ⟨.hbm, 4556, rfl⟩
abbrev main_call205_v7 : Ref sig .tc := ⟨.hbm, 4557, rfl⟩
abbrev main_call205_v8 : Ref sig .tc := ⟨.hbm, 4558, rfl⟩
abbrev main_call205_v9 : Ref sig .tc := ⟨.hbm, 4559, rfl⟩
abbrev main_call205_v10 : Ref sig .tc := ⟨.hbm, 4560, rfl⟩
abbrev main_call205_v11 : Ref sig .tc := ⟨.hbm, 4561, rfl⟩
abbrev main_call205_c_3 : Ref sig .tc := ⟨.hbm, 4562, rfl⟩
abbrev main_call205_v12 : Ref sig .tc := ⟨.hbm, 4563, rfl⟩
abbrev main_call205_v13 : Ref sig .tc := ⟨.hbm, 4564, rfl⟩
abbrev main_call205_v14 : Ref sig .tc := ⟨.hbm, 4565, rfl⟩
abbrev main_call205_cst : Ref sig .tc := ⟨.hbm, 4566, rfl⟩
abbrev main_call205_v15 : Ref sig .tc := ⟨.hbm, 4567, rfl⟩
abbrev main_v2217 : Ref sig .tc := ⟨.hbm, 4568, rfl⟩
abbrev main_v2218 : Ref sig .tc := ⟨.hbm, 4569, rfl⟩
abbrev main_v2219 : Ref sig .tc := ⟨.hbm, 4570, rfl⟩
abbrev main_cst_390 : Ref sig .tc := ⟨.hbm, 4571, rfl⟩
abbrev main_v2220 : Ref sig .tc := ⟨.hbm, 4572, rfl⟩
abbrev main_v2221 : Ref sig .tc := ⟨.hbm, 4573, rfl⟩
abbrev main_v2222 : Ref sig .tc := ⟨.hbm, 4574, rfl⟩
abbrev main_cst_391 : Ref sig .tc := ⟨.hbm, 4575, rfl⟩
abbrev main_call206_v0 : Ref sig .tc := ⟨.hbm, 4576, rfl⟩
abbrev main_call206_v1 : Ref sig .tc := ⟨.hbm, 4577, rfl⟩
abbrev main_v2223 : Ref sig .tc := ⟨.hbm, 4578, rfl⟩
abbrev main_v2224 : Ref sig .tc := ⟨.hbm, 4579, rfl⟩
abbrev main_v2225 : Ref sig .tc := ⟨.hbm, 4580, rfl⟩
abbrev main_v2226 : Ref sig .tc := ⟨.hbm, 4581, rfl⟩
abbrev main_call207_c : Ref sig .tc := ⟨.hbm, 4582, rfl⟩
abbrev main_call207_v0 : Ref sig .tc := ⟨.hbm, 4583, rfl⟩
abbrev main_call207_v1 : Ref sig .tc := ⟨.hbm, 4584, rfl⟩
abbrev main_call207_c_0 : Ref sig .tc := ⟨.hbm, 4585, rfl⟩
abbrev main_call207_v2 : Ref sig .tc := ⟨.hbm, 4586, rfl⟩
abbrev main_call207_v3 : Ref sig .tc := ⟨.hbm, 4587, rfl⟩
abbrev main_call207_v4 : Ref sig .tc := ⟨.hbm, 4588, rfl⟩
abbrev main_call207_v5 : Ref sig .tc := ⟨.hbm, 4589, rfl⟩
abbrev main_call207_c_1 : Ref sig .tc := ⟨.hbm, 4590, rfl⟩
abbrev main_call207_c_2 : Ref sig .tc := ⟨.hbm, 4591, rfl⟩
abbrev main_call207_v6 : Ref sig .tc := ⟨.hbm, 4592, rfl⟩
abbrev main_call207_v7 : Ref sig .tc := ⟨.hbm, 4593, rfl⟩
abbrev main_call207_v8 : Ref sig .tc := ⟨.hbm, 4594, rfl⟩
abbrev main_call207_v9 : Ref sig .tc := ⟨.hbm, 4595, rfl⟩
abbrev main_call207_v10 : Ref sig .tc := ⟨.hbm, 4596, rfl⟩
abbrev main_call207_v11 : Ref sig .tc := ⟨.hbm, 4597, rfl⟩
abbrev main_call207_c_3 : Ref sig .tc := ⟨.hbm, 4598, rfl⟩
abbrev main_call207_v12 : Ref sig .tc := ⟨.hbm, 4599, rfl⟩
abbrev main_call207_v13 : Ref sig .tc := ⟨.hbm, 4600, rfl⟩
abbrev main_call207_v14 : Ref sig .tc := ⟨.hbm, 4601, rfl⟩
abbrev main_call207_cst : Ref sig .tc := ⟨.hbm, 4602, rfl⟩
abbrev main_call207_v15 : Ref sig .tc := ⟨.hbm, 4603, rfl⟩
abbrev main_v2227 : Ref sig .tc := ⟨.hbm, 4604, rfl⟩
abbrev main_v2228 : Ref sig .tc := ⟨.hbm, 4605, rfl⟩
abbrev main_v2229 : Ref sig .tc := ⟨.hbm, 4606, rfl⟩
abbrev main_cst_392 : Ref sig .tc := ⟨.hbm, 4607, rfl⟩
abbrev main_v2230 : Ref sig .tc := ⟨.hbm, 4608, rfl⟩
abbrev main_v2231 : Ref sig .tc := ⟨.hbm, 4609, rfl⟩
abbrev main_v2232 : Ref sig .tc := ⟨.hbm, 4610, rfl⟩
abbrev main_cst_393 : Ref sig .tc := ⟨.hbm, 4611, rfl⟩
abbrev main_call208_v0 : Ref sig .tc := ⟨.hbm, 4612, rfl⟩
abbrev main_call208_v1 : Ref sig .tc := ⟨.hbm, 4613, rfl⟩
abbrev main_v2233 : Ref sig .tc := ⟨.hbm, 4614, rfl⟩
abbrev main_v2234 : Ref sig .tc := ⟨.hbm, 4615, rfl⟩
abbrev main_v2235 : Ref sig .tc := ⟨.hbm, 4616, rfl⟩
abbrev main_v2236 : Ref sig .tc := ⟨.hbm, 4617, rfl⟩
abbrev main_call209_c : Ref sig .tc := ⟨.hbm, 4618, rfl⟩
abbrev main_call209_v0 : Ref sig .tc := ⟨.hbm, 4619, rfl⟩
abbrev main_call209_v1 : Ref sig .tc := ⟨.hbm, 4620, rfl⟩
abbrev main_call209_c_0 : Ref sig .tc := ⟨.hbm, 4621, rfl⟩
abbrev main_call209_v2 : Ref sig .tc := ⟨.hbm, 4622, rfl⟩
abbrev main_call209_v3 : Ref sig .tc := ⟨.hbm, 4623, rfl⟩
abbrev main_call209_v4 : Ref sig .tc := ⟨.hbm, 4624, rfl⟩
abbrev main_call209_v5 : Ref sig .tc := ⟨.hbm, 4625, rfl⟩
abbrev main_call209_c_1 : Ref sig .tc := ⟨.hbm, 4626, rfl⟩
abbrev main_call209_c_2 : Ref sig .tc := ⟨.hbm, 4627, rfl⟩
abbrev main_call209_v6 : Ref sig .tc := ⟨.hbm, 4628, rfl⟩
abbrev main_call209_v7 : Ref sig .tc := ⟨.hbm, 4629, rfl⟩
abbrev main_call209_v8 : Ref sig .tc := ⟨.hbm, 4630, rfl⟩
abbrev main_call209_v9 : Ref sig .tc := ⟨.hbm, 4631, rfl⟩
abbrev main_call209_v10 : Ref sig .tc := ⟨.hbm, 4632, rfl⟩
abbrev main_call209_v11 : Ref sig .tc := ⟨.hbm, 4633, rfl⟩
abbrev main_call209_c_3 : Ref sig .tc := ⟨.hbm, 4634, rfl⟩
abbrev main_call209_v12 : Ref sig .tc := ⟨.hbm, 4635, rfl⟩
abbrev main_call209_v13 : Ref sig .tc := ⟨.hbm, 4636, rfl⟩
abbrev main_call209_v14 : Ref sig .tc := ⟨.hbm, 4637, rfl⟩
abbrev main_call209_cst : Ref sig .tc := ⟨.hbm, 4638, rfl⟩
abbrev main_call209_v15 : Ref sig .tc := ⟨.hbm, 4639, rfl⟩
abbrev main_v2237 : Ref sig .tc := ⟨.hbm, 4640, rfl⟩
abbrev main_v2238 : Ref sig .tc := ⟨.hbm, 4641, rfl⟩
abbrev main_v2239 : Ref sig .tc := ⟨.hbm, 4642, rfl⟩
abbrev main_cst_394 : Ref sig .tc := ⟨.hbm, 4643, rfl⟩
abbrev main_v2240 : Ref sig .tc := ⟨.hbm, 4644, rfl⟩
abbrev main_v2241 : Ref sig .tc := ⟨.hbm, 4645, rfl⟩
abbrev main_v2242 : Ref sig .tc := ⟨.hbm, 4646, rfl⟩
abbrev main_cst_395 : Ref sig .tc := ⟨.hbm, 4647, rfl⟩
abbrev main_call210_v0 : Ref sig .tc := ⟨.hbm, 4648, rfl⟩
abbrev main_call210_v1 : Ref sig .tc := ⟨.hbm, 4649, rfl⟩
abbrev main_v2243 : Ref sig .tc := ⟨.hbm, 4650, rfl⟩
abbrev main_v2244 : Ref sig .tc := ⟨.hbm, 4651, rfl⟩
abbrev main_v2245 : Ref sig .tc := ⟨.hbm, 4652, rfl⟩
abbrev main_v2246 : Ref sig .tc := ⟨.hbm, 4653, rfl⟩
abbrev main_call211_c : Ref sig .tc := ⟨.hbm, 4654, rfl⟩
abbrev main_call211_v0 : Ref sig .tc := ⟨.hbm, 4655, rfl⟩
abbrev main_call211_v1 : Ref sig .tc := ⟨.hbm, 4656, rfl⟩
abbrev main_call211_c_0 : Ref sig .tc := ⟨.hbm, 4657, rfl⟩
abbrev main_call211_v2 : Ref sig .tc := ⟨.hbm, 4658, rfl⟩
abbrev main_call211_v3 : Ref sig .tc := ⟨.hbm, 4659, rfl⟩
abbrev main_call211_v4 : Ref sig .tc := ⟨.hbm, 4660, rfl⟩
abbrev main_call211_v5 : Ref sig .tc := ⟨.hbm, 4661, rfl⟩
abbrev main_call211_c_1 : Ref sig .tc := ⟨.hbm, 4662, rfl⟩
abbrev main_call211_c_2 : Ref sig .tc := ⟨.hbm, 4663, rfl⟩
abbrev main_call211_v6 : Ref sig .tc := ⟨.hbm, 4664, rfl⟩
abbrev main_call211_v7 : Ref sig .tc := ⟨.hbm, 4665, rfl⟩
abbrev main_call211_v8 : Ref sig .tc := ⟨.hbm, 4666, rfl⟩
abbrev main_call211_v9 : Ref sig .tc := ⟨.hbm, 4667, rfl⟩
abbrev main_call211_v10 : Ref sig .tc := ⟨.hbm, 4668, rfl⟩
abbrev main_call211_v11 : Ref sig .tc := ⟨.hbm, 4669, rfl⟩
abbrev main_call211_c_3 : Ref sig .tc := ⟨.hbm, 4670, rfl⟩
abbrev main_call211_v12 : Ref sig .tc := ⟨.hbm, 4671, rfl⟩
abbrev main_call211_v13 : Ref sig .tc := ⟨.hbm, 4672, rfl⟩
abbrev main_call211_v14 : Ref sig .tc := ⟨.hbm, 4673, rfl⟩
abbrev main_call211_cst : Ref sig .tc := ⟨.hbm, 4674, rfl⟩
abbrev main_call211_v15 : Ref sig .tc := ⟨.hbm, 4675, rfl⟩
abbrev main_v2247 : Ref sig .tc := ⟨.hbm, 4676, rfl⟩
abbrev main_v2248 : Ref sig .tc := ⟨.hbm, 4677, rfl⟩
abbrev main_v2249 : Ref sig .tc := ⟨.hbm, 4678, rfl⟩
abbrev main_cst_396 : Ref sig .tc := ⟨.hbm, 4679, rfl⟩
abbrev main_v2250 : Ref sig .tc := ⟨.hbm, 4680, rfl⟩
abbrev main_v2251 : Ref sig .tc := ⟨.hbm, 4681, rfl⟩
abbrev main_v2252 : Ref sig .tc := ⟨.hbm, 4682, rfl⟩
abbrev main_cst_397 : Ref sig .tc := ⟨.hbm, 4683, rfl⟩
abbrev main_call212_v0 : Ref sig .tc := ⟨.hbm, 4684, rfl⟩
abbrev main_call212_v1 : Ref sig .tc := ⟨.hbm, 4685, rfl⟩
abbrev main_v2253 : Ref sig .tc := ⟨.hbm, 4686, rfl⟩
abbrev main_v2254 : Ref sig .tc := ⟨.hbm, 4687, rfl⟩
abbrev main_v2255 : Ref sig .tc := ⟨.hbm, 4688, rfl⟩
abbrev main_v2256 : Ref sig .tc := ⟨.hbm, 4689, rfl⟩
abbrev main_call213_c : Ref sig .tc := ⟨.hbm, 4690, rfl⟩
abbrev main_call213_v0 : Ref sig .tc := ⟨.hbm, 4691, rfl⟩
abbrev main_call213_v1 : Ref sig .tc := ⟨.hbm, 4692, rfl⟩
abbrev main_call213_c_0 : Ref sig .tc := ⟨.hbm, 4693, rfl⟩
abbrev main_call213_v2 : Ref sig .tc := ⟨.hbm, 4694, rfl⟩
abbrev main_call213_v3 : Ref sig .tc := ⟨.hbm, 4695, rfl⟩
abbrev main_call213_v4 : Ref sig .tc := ⟨.hbm, 4696, rfl⟩
abbrev main_call213_v5 : Ref sig .tc := ⟨.hbm, 4697, rfl⟩
abbrev main_call213_c_1 : Ref sig .tc := ⟨.hbm, 4698, rfl⟩
abbrev main_call213_c_2 : Ref sig .tc := ⟨.hbm, 4699, rfl⟩
abbrev main_call213_v6 : Ref sig .tc := ⟨.hbm, 4700, rfl⟩
abbrev main_call213_v7 : Ref sig .tc := ⟨.hbm, 4701, rfl⟩
abbrev main_call213_v8 : Ref sig .tc := ⟨.hbm, 4702, rfl⟩
abbrev main_call213_v9 : Ref sig .tc := ⟨.hbm, 4703, rfl⟩
abbrev main_call213_v10 : Ref sig .tc := ⟨.hbm, 4704, rfl⟩
abbrev main_call213_v11 : Ref sig .tc := ⟨.hbm, 4705, rfl⟩
abbrev main_call213_c_3 : Ref sig .tc := ⟨.hbm, 4706, rfl⟩
abbrev main_call213_v12 : Ref sig .tc := ⟨.hbm, 4707, rfl⟩
abbrev main_call213_v13 : Ref sig .tc := ⟨.hbm, 4708, rfl⟩
abbrev main_call213_v14 : Ref sig .tc := ⟨.hbm, 4709, rfl⟩
abbrev main_call213_cst : Ref sig .tc := ⟨.hbm, 4710, rfl⟩
abbrev main_call213_v15 : Ref sig .tc := ⟨.hbm, 4711, rfl⟩
abbrev main_v2257 : Ref sig .tc := ⟨.hbm, 4712, rfl⟩
abbrev main_v2258 : Ref sig .tc := ⟨.hbm, 4713, rfl⟩
abbrev main_v2259 : Ref sig .tc := ⟨.hbm, 4714, rfl⟩
abbrev main_cst_398 : Ref sig .tc := ⟨.hbm, 4715, rfl⟩
abbrev main_v2260 : Ref sig .tc := ⟨.hbm, 4716, rfl⟩
abbrev main_v2261 : Ref sig .tc := ⟨.hbm, 4717, rfl⟩
abbrev main_v2262 : Ref sig .tc := ⟨.hbm, 4718, rfl⟩
abbrev main_cst_399 : Ref sig .tc := ⟨.hbm, 4719, rfl⟩
abbrev main_call214_v0 : Ref sig .tc := ⟨.hbm, 4720, rfl⟩
abbrev main_call214_v1 : Ref sig .tc := ⟨.hbm, 4721, rfl⟩
abbrev main_v2263 : Ref sig .tc := ⟨.hbm, 4722, rfl⟩
abbrev main_v2264 : Ref sig .tc := ⟨.hbm, 4723, rfl⟩
abbrev main_v2265 : Ref sig .tc := ⟨.hbm, 4724, rfl⟩
abbrev main_v2266 : Ref sig .tc := ⟨.hbm, 4725, rfl⟩
abbrev main_call215_c : Ref sig .tc := ⟨.hbm, 4726, rfl⟩
abbrev main_call215_v0 : Ref sig .tc := ⟨.hbm, 4727, rfl⟩
abbrev main_call215_v1 : Ref sig .tc := ⟨.hbm, 4728, rfl⟩
abbrev main_call215_c_0 : Ref sig .tc := ⟨.hbm, 4729, rfl⟩
abbrev main_call215_v2 : Ref sig .tc := ⟨.hbm, 4730, rfl⟩
abbrev main_call215_v3 : Ref sig .tc := ⟨.hbm, 4731, rfl⟩
abbrev main_call215_v4 : Ref sig .tc := ⟨.hbm, 4732, rfl⟩
abbrev main_call215_v5 : Ref sig .tc := ⟨.hbm, 4733, rfl⟩
abbrev main_call215_c_1 : Ref sig .tc := ⟨.hbm, 4734, rfl⟩
abbrev main_call215_c_2 : Ref sig .tc := ⟨.hbm, 4735, rfl⟩
abbrev main_call215_v6 : Ref sig .tc := ⟨.hbm, 4736, rfl⟩
abbrev main_call215_v7 : Ref sig .tc := ⟨.hbm, 4737, rfl⟩
abbrev main_call215_v8 : Ref sig .tc := ⟨.hbm, 4738, rfl⟩
abbrev main_call215_v9 : Ref sig .tc := ⟨.hbm, 4739, rfl⟩
abbrev main_call215_v10 : Ref sig .tc := ⟨.hbm, 4740, rfl⟩
abbrev main_call215_v11 : Ref sig .tc := ⟨.hbm, 4741, rfl⟩
abbrev main_call215_c_3 : Ref sig .tc := ⟨.hbm, 4742, rfl⟩
abbrev main_call215_v12 : Ref sig .tc := ⟨.hbm, 4743, rfl⟩
abbrev main_call215_v13 : Ref sig .tc := ⟨.hbm, 4744, rfl⟩
abbrev main_call215_v14 : Ref sig .tc := ⟨.hbm, 4745, rfl⟩
abbrev main_call215_cst : Ref sig .tc := ⟨.hbm, 4746, rfl⟩
abbrev main_call215_v15 : Ref sig .tc := ⟨.hbm, 4747, rfl⟩
abbrev main_v2267 : Ref sig .tc := ⟨.hbm, 4748, rfl⟩
abbrev main_v2268 : Ref sig .tc := ⟨.hbm, 4749, rfl⟩
abbrev main_v2269 : Ref sig .tc := ⟨.hbm, 4750, rfl⟩
abbrev main_cst_400 : Ref sig .tc := ⟨.hbm, 4751, rfl⟩
abbrev main_v2270 : Ref sig .tc := ⟨.hbm, 4752, rfl⟩
abbrev main_v2271 : Ref sig .tc := ⟨.hbm, 4753, rfl⟩
abbrev main_v2272 : Ref sig .tc := ⟨.hbm, 4754, rfl⟩
abbrev main_cst_401 : Ref sig .tc := ⟨.hbm, 4755, rfl⟩
abbrev main_call216_v0 : Ref sig .tc := ⟨.hbm, 4756, rfl⟩
abbrev main_call216_v1 : Ref sig .tc := ⟨.hbm, 4757, rfl⟩
abbrev main_v2273 : Ref sig .tc := ⟨.hbm, 4758, rfl⟩
abbrev main_v2274 : Ref sig .tc := ⟨.hbm, 4759, rfl⟩
abbrev main_v2275 : Ref sig .tc := ⟨.hbm, 4760, rfl⟩
abbrev main_v2276 : Ref sig .tc := ⟨.hbm, 4761, rfl⟩
abbrev main_call217_c : Ref sig .tc := ⟨.hbm, 4762, rfl⟩
abbrev main_call217_v0 : Ref sig .tc := ⟨.hbm, 4763, rfl⟩
abbrev main_call217_v1 : Ref sig .tc := ⟨.hbm, 4764, rfl⟩
abbrev main_call217_c_0 : Ref sig .tc := ⟨.hbm, 4765, rfl⟩
abbrev main_call217_v2 : Ref sig .tc := ⟨.hbm, 4766, rfl⟩
abbrev main_call217_v3 : Ref sig .tc := ⟨.hbm, 4767, rfl⟩
abbrev main_call217_v4 : Ref sig .tc := ⟨.hbm, 4768, rfl⟩
abbrev main_call217_v5 : Ref sig .tc := ⟨.hbm, 4769, rfl⟩
abbrev main_call217_c_1 : Ref sig .tc := ⟨.hbm, 4770, rfl⟩
abbrev main_call217_c_2 : Ref sig .tc := ⟨.hbm, 4771, rfl⟩
abbrev main_call217_v6 : Ref sig .tc := ⟨.hbm, 4772, rfl⟩
abbrev main_call217_v7 : Ref sig .tc := ⟨.hbm, 4773, rfl⟩
abbrev main_call217_v8 : Ref sig .tc := ⟨.hbm, 4774, rfl⟩
abbrev main_call217_v9 : Ref sig .tc := ⟨.hbm, 4775, rfl⟩
abbrev main_call217_v10 : Ref sig .tc := ⟨.hbm, 4776, rfl⟩
abbrev main_call217_v11 : Ref sig .tc := ⟨.hbm, 4777, rfl⟩
abbrev main_call217_c_3 : Ref sig .tc := ⟨.hbm, 4778, rfl⟩
abbrev main_call217_v12 : Ref sig .tc := ⟨.hbm, 4779, rfl⟩
abbrev main_call217_v13 : Ref sig .tc := ⟨.hbm, 4780, rfl⟩
abbrev main_call217_v14 : Ref sig .tc := ⟨.hbm, 4781, rfl⟩
abbrev main_call217_cst : Ref sig .tc := ⟨.hbm, 4782, rfl⟩
abbrev main_call217_v15 : Ref sig .tc := ⟨.hbm, 4783, rfl⟩
abbrev main_v2277 : Ref sig .tc := ⟨.hbm, 4784, rfl⟩
abbrev main_v2278 : Ref sig .tc := ⟨.hbm, 4785, rfl⟩
abbrev main_v2279 : Ref sig .tc := ⟨.hbm, 4786, rfl⟩
abbrev main_cst_402 : Ref sig .tc := ⟨.hbm, 4787, rfl⟩
abbrev main_v2280 : Ref sig .tc := ⟨.hbm, 4788, rfl⟩
abbrev main_v2281 : Ref sig .tc := ⟨.hbm, 4789, rfl⟩
abbrev main_v2282 : Ref sig .tc := ⟨.hbm, 4790, rfl⟩
abbrev main_cst_403 : Ref sig .tc := ⟨.hbm, 4791, rfl⟩
abbrev main_call218_v0 : Ref sig .tc := ⟨.hbm, 4792, rfl⟩
abbrev main_call218_v1 : Ref sig .tc := ⟨.hbm, 4793, rfl⟩
abbrev main_v2283 : Ref sig .tc := ⟨.hbm, 4794, rfl⟩
abbrev main_v2284 : Ref sig .tc := ⟨.hbm, 4795, rfl⟩
abbrev main_v2285 : Ref sig .tc := ⟨.hbm, 4796, rfl⟩
abbrev main_v2286 : Ref sig .tc := ⟨.hbm, 4797, rfl⟩
abbrev main_call219_c : Ref sig .tc := ⟨.hbm, 4798, rfl⟩
abbrev main_call219_v0 : Ref sig .tc := ⟨.hbm, 4799, rfl⟩
abbrev main_call219_v1 : Ref sig .tc := ⟨.hbm, 4800, rfl⟩
abbrev main_call219_c_0 : Ref sig .tc := ⟨.hbm, 4801, rfl⟩
abbrev main_call219_v2 : Ref sig .tc := ⟨.hbm, 4802, rfl⟩
abbrev main_call219_v3 : Ref sig .tc := ⟨.hbm, 4803, rfl⟩
abbrev main_call219_v4 : Ref sig .tc := ⟨.hbm, 4804, rfl⟩
abbrev main_call219_v5 : Ref sig .tc := ⟨.hbm, 4805, rfl⟩
abbrev main_call219_c_1 : Ref sig .tc := ⟨.hbm, 4806, rfl⟩
abbrev main_call219_c_2 : Ref sig .tc := ⟨.hbm, 4807, rfl⟩
abbrev main_call219_v6 : Ref sig .tc := ⟨.hbm, 4808, rfl⟩
abbrev main_call219_v7 : Ref sig .tc := ⟨.hbm, 4809, rfl⟩
abbrev main_call219_v8 : Ref sig .tc := ⟨.hbm, 4810, rfl⟩
abbrev main_call219_v9 : Ref sig .tc := ⟨.hbm, 4811, rfl⟩
abbrev main_call219_v10 : Ref sig .tc := ⟨.hbm, 4812, rfl⟩
abbrev main_call219_v11 : Ref sig .tc := ⟨.hbm, 4813, rfl⟩
abbrev main_call219_c_3 : Ref sig .tc := ⟨.hbm, 4814, rfl⟩
abbrev main_call219_v12 : Ref sig .tc := ⟨.hbm, 4815, rfl⟩
abbrev main_call219_v13 : Ref sig .tc := ⟨.hbm, 4816, rfl⟩
abbrev main_call219_v14 : Ref sig .tc := ⟨.hbm, 4817, rfl⟩
abbrev main_call219_cst : Ref sig .tc := ⟨.hbm, 4818, rfl⟩
abbrev main_call219_v15 : Ref sig .tc := ⟨.hbm, 4819, rfl⟩
abbrev main_v2287 : Ref sig .tc := ⟨.hbm, 4820, rfl⟩
abbrev main_v2288 : Ref sig .tc := ⟨.hbm, 4821, rfl⟩
abbrev main_v2289 : Ref sig .tc := ⟨.hbm, 4822, rfl⟩
abbrev main_cst_404 : Ref sig .tc := ⟨.hbm, 4823, rfl⟩
abbrev main_v2290 : Ref sig .tc := ⟨.hbm, 4824, rfl⟩
abbrev main_v2291 : Ref sig .tc := ⟨.hbm, 4825, rfl⟩
abbrev main_v2292 : Ref sig .tc := ⟨.hbm, 4826, rfl⟩
abbrev main_cst_405 : Ref sig .tc := ⟨.hbm, 4827, rfl⟩
abbrev main_call220_v0 : Ref sig .tc := ⟨.hbm, 4828, rfl⟩
abbrev main_call220_v1 : Ref sig .tc := ⟨.hbm, 4829, rfl⟩
abbrev main_v2293 : Ref sig .tc := ⟨.hbm, 4830, rfl⟩
abbrev main_v2294 : Ref sig .tc := ⟨.hbm, 4831, rfl⟩
abbrev main_v2295 : Ref sig .tc := ⟨.hbm, 4832, rfl⟩
abbrev main_v2296 : Ref sig .tc := ⟨.hbm, 4833, rfl⟩
abbrev main_call221_c : Ref sig .tc := ⟨.hbm, 4834, rfl⟩
abbrev main_call221_v0 : Ref sig .tc := ⟨.hbm, 4835, rfl⟩
abbrev main_call221_v1 : Ref sig .tc := ⟨.hbm, 4836, rfl⟩
abbrev main_call221_c_0 : Ref sig .tc := ⟨.hbm, 4837, rfl⟩
abbrev main_call221_v2 : Ref sig .tc := ⟨.hbm, 4838, rfl⟩
abbrev main_call221_v3 : Ref sig .tc := ⟨.hbm, 4839, rfl⟩
abbrev main_call221_v4 : Ref sig .tc := ⟨.hbm, 4840, rfl⟩
abbrev main_call221_v5 : Ref sig .tc := ⟨.hbm, 4841, rfl⟩
abbrev main_call221_c_1 : Ref sig .tc := ⟨.hbm, 4842, rfl⟩
abbrev main_call221_c_2 : Ref sig .tc := ⟨.hbm, 4843, rfl⟩
abbrev main_call221_v6 : Ref sig .tc := ⟨.hbm, 4844, rfl⟩
abbrev main_call221_v7 : Ref sig .tc := ⟨.hbm, 4845, rfl⟩
abbrev main_call221_v8 : Ref sig .tc := ⟨.hbm, 4846, rfl⟩
abbrev main_call221_v9 : Ref sig .tc := ⟨.hbm, 4847, rfl⟩
abbrev main_call221_v10 : Ref sig .tc := ⟨.hbm, 4848, rfl⟩
abbrev main_call221_v11 : Ref sig .tc := ⟨.hbm, 4849, rfl⟩
abbrev main_call221_c_3 : Ref sig .tc := ⟨.hbm, 4850, rfl⟩
abbrev main_call221_v12 : Ref sig .tc := ⟨.hbm, 4851, rfl⟩
abbrev main_call221_v13 : Ref sig .tc := ⟨.hbm, 4852, rfl⟩
abbrev main_call221_v14 : Ref sig .tc := ⟨.hbm, 4853, rfl⟩
abbrev main_call221_cst : Ref sig .tc := ⟨.hbm, 4854, rfl⟩
abbrev main_call221_v15 : Ref sig .tc := ⟨.hbm, 4855, rfl⟩
abbrev main_v2297 : Ref sig .tc := ⟨.hbm, 4856, rfl⟩
abbrev main_v2298 : Ref sig .tc := ⟨.hbm, 4857, rfl⟩
abbrev main_v2299 : Ref sig .tc := ⟨.hbm, 4858, rfl⟩
abbrev main_cst_406 : Ref sig .tc := ⟨.hbm, 4859, rfl⟩
abbrev main_v2300 : Ref sig .tc := ⟨.hbm, 4860, rfl⟩
abbrev main_v2301 : Ref sig .tc := ⟨.hbm, 4861, rfl⟩
abbrev main_v2302 : Ref sig .tc := ⟨.hbm, 4862, rfl⟩
abbrev main_cst_407 : Ref sig .tc := ⟨.hbm, 4863, rfl⟩
abbrev main_call222_v0 : Ref sig .tc := ⟨.hbm, 4864, rfl⟩
abbrev main_call222_v1 : Ref sig .tc := ⟨.hbm, 4865, rfl⟩
abbrev main_v2303 : Ref sig .tc := ⟨.hbm, 4866, rfl⟩
abbrev main_v2304 : Ref sig .tc := ⟨.hbm, 4867, rfl⟩
abbrev main_v2305 : Ref sig .tc := ⟨.hbm, 4868, rfl⟩
abbrev main_v2306 : Ref sig .tc := ⟨.hbm, 4869, rfl⟩
abbrev main_call223_c : Ref sig .tc := ⟨.hbm, 4870, rfl⟩
abbrev main_call223_v0 : Ref sig .tc := ⟨.hbm, 4871, rfl⟩
abbrev main_call223_v1 : Ref sig .tc := ⟨.hbm, 4872, rfl⟩
abbrev main_call223_c_0 : Ref sig .tc := ⟨.hbm, 4873, rfl⟩
abbrev main_call223_v2 : Ref sig .tc := ⟨.hbm, 4874, rfl⟩
abbrev main_call223_v3 : Ref sig .tc := ⟨.hbm, 4875, rfl⟩
abbrev main_call223_v4 : Ref sig .tc := ⟨.hbm, 4876, rfl⟩
abbrev main_call223_v5 : Ref sig .tc := ⟨.hbm, 4877, rfl⟩
abbrev main_call223_c_1 : Ref sig .tc := ⟨.hbm, 4878, rfl⟩
abbrev main_call223_c_2 : Ref sig .tc := ⟨.hbm, 4879, rfl⟩
abbrev main_call223_v6 : Ref sig .tc := ⟨.hbm, 4880, rfl⟩
abbrev main_call223_v7 : Ref sig .tc := ⟨.hbm, 4881, rfl⟩
abbrev main_call223_v8 : Ref sig .tc := ⟨.hbm, 4882, rfl⟩
abbrev main_call223_v9 : Ref sig .tc := ⟨.hbm, 4883, rfl⟩
abbrev main_call223_v10 : Ref sig .tc := ⟨.hbm, 4884, rfl⟩
abbrev main_call223_v11 : Ref sig .tc := ⟨.hbm, 4885, rfl⟩
abbrev main_call223_c_3 : Ref sig .tc := ⟨.hbm, 4886, rfl⟩
abbrev main_call223_v12 : Ref sig .tc := ⟨.hbm, 4887, rfl⟩
abbrev main_call223_v13 : Ref sig .tc := ⟨.hbm, 4888, rfl⟩
abbrev main_call223_v14 : Ref sig .tc := ⟨.hbm, 4889, rfl⟩
abbrev main_call223_cst : Ref sig .tc := ⟨.hbm, 4890, rfl⟩
abbrev main_call223_v15 : Ref sig .tc := ⟨.hbm, 4891, rfl⟩
abbrev main_v2307 : Ref sig .tc := ⟨.hbm, 4892, rfl⟩
abbrev main_v2308 : Ref sig .tc := ⟨.hbm, 4893, rfl⟩
abbrev main_v2309 : Ref sig .tc := ⟨.hbm, 4894, rfl⟩
abbrev main_cst_408 : Ref sig .tc := ⟨.hbm, 4895, rfl⟩
abbrev main_v2310 : Ref sig .tc := ⟨.hbm, 4896, rfl⟩
abbrev main_v2311 : Ref sig .tc := ⟨.hbm, 4897, rfl⟩
abbrev main_v2312 : Ref sig .tc := ⟨.hbm, 4898, rfl⟩
abbrev main_cst_409 : Ref sig .tc := ⟨.hbm, 4899, rfl⟩
abbrev main_call224_v0 : Ref sig .tc := ⟨.hbm, 4900, rfl⟩
abbrev main_call224_v1 : Ref sig .tc := ⟨.hbm, 4901, rfl⟩
abbrev main_v2313 : Ref sig .tc := ⟨.hbm, 4902, rfl⟩
abbrev main_v2314 : Ref sig .tc := ⟨.hbm, 4903, rfl⟩
abbrev main_v2315 : Ref sig .tc := ⟨.hbm, 4904, rfl⟩
abbrev main_v2316 : Ref sig .tc := ⟨.hbm, 4905, rfl⟩
abbrev main_call225_c : Ref sig .tc := ⟨.hbm, 4906, rfl⟩
abbrev main_call225_v0 : Ref sig .tc := ⟨.hbm, 4907, rfl⟩
abbrev main_call225_v1 : Ref sig .tc := ⟨.hbm, 4908, rfl⟩
abbrev main_call225_c_0 : Ref sig .tc := ⟨.hbm, 4909, rfl⟩
abbrev main_call225_v2 : Ref sig .tc := ⟨.hbm, 4910, rfl⟩
abbrev main_call225_v3 : Ref sig .tc := ⟨.hbm, 4911, rfl⟩
abbrev main_call225_v4 : Ref sig .tc := ⟨.hbm, 4912, rfl⟩
abbrev main_call225_v5 : Ref sig .tc := ⟨.hbm, 4913, rfl⟩
abbrev main_call225_c_1 : Ref sig .tc := ⟨.hbm, 4914, rfl⟩
abbrev main_call225_c_2 : Ref sig .tc := ⟨.hbm, 4915, rfl⟩
abbrev main_call225_v6 : Ref sig .tc := ⟨.hbm, 4916, rfl⟩
abbrev main_call225_v7 : Ref sig .tc := ⟨.hbm, 4917, rfl⟩
abbrev main_call225_v8 : Ref sig .tc := ⟨.hbm, 4918, rfl⟩
abbrev main_call225_v9 : Ref sig .tc := ⟨.hbm, 4919, rfl⟩
abbrev main_call225_v10 : Ref sig .tc := ⟨.hbm, 4920, rfl⟩
abbrev main_call225_v11 : Ref sig .tc := ⟨.hbm, 4921, rfl⟩
abbrev main_call225_c_3 : Ref sig .tc := ⟨.hbm, 4922, rfl⟩
abbrev main_call225_v12 : Ref sig .tc := ⟨.hbm, 4923, rfl⟩
abbrev main_call225_v13 : Ref sig .tc := ⟨.hbm, 4924, rfl⟩
abbrev main_call225_v14 : Ref sig .tc := ⟨.hbm, 4925, rfl⟩
abbrev main_call225_cst : Ref sig .tc := ⟨.hbm, 4926, rfl⟩
abbrev main_call225_v15 : Ref sig .tc := ⟨.hbm, 4927, rfl⟩
abbrev main_v2317 : Ref sig .tc := ⟨.hbm, 4928, rfl⟩
abbrev main_v2318 : Ref sig .tc := ⟨.hbm, 4929, rfl⟩
abbrev main_v2319 : Ref sig .tc := ⟨.hbm, 4930, rfl⟩
abbrev main_cst_410 : Ref sig .tc := ⟨.hbm, 4931, rfl⟩
abbrev main_v2320 : Ref sig .tc := ⟨.hbm, 4932, rfl⟩
abbrev main_v2321 : Ref sig .tc := ⟨.hbm, 4933, rfl⟩
abbrev main_v2322 : Ref sig .tc := ⟨.hbm, 4934, rfl⟩
abbrev main_cst_411 : Ref sig .tc := ⟨.hbm, 4935, rfl⟩
abbrev main_call226_v0 : Ref sig .tc := ⟨.hbm, 4936, rfl⟩
abbrev main_call226_v1 : Ref sig .tc := ⟨.hbm, 4937, rfl⟩
abbrev main_v2323 : Ref sig .tc := ⟨.hbm, 4938, rfl⟩
abbrev main_v2324 : Ref sig .tc := ⟨.hbm, 4939, rfl⟩
abbrev main_v2325 : Ref sig .tc := ⟨.hbm, 4940, rfl⟩
abbrev main_v2326 : Ref sig .tc := ⟨.hbm, 4941, rfl⟩
abbrev main_call227_c : Ref sig .tc := ⟨.hbm, 4942, rfl⟩
abbrev main_call227_v0 : Ref sig .tc := ⟨.hbm, 4943, rfl⟩
abbrev main_call227_v1 : Ref sig .tc := ⟨.hbm, 4944, rfl⟩
abbrev main_call227_c_0 : Ref sig .tc := ⟨.hbm, 4945, rfl⟩
abbrev main_call227_v2 : Ref sig .tc := ⟨.hbm, 4946, rfl⟩
abbrev main_call227_v3 : Ref sig .tc := ⟨.hbm, 4947, rfl⟩
abbrev main_call227_v4 : Ref sig .tc := ⟨.hbm, 4948, rfl⟩
abbrev main_call227_v5 : Ref sig .tc := ⟨.hbm, 4949, rfl⟩
abbrev main_call227_c_1 : Ref sig .tc := ⟨.hbm, 4950, rfl⟩
abbrev main_call227_c_2 : Ref sig .tc := ⟨.hbm, 4951, rfl⟩
abbrev main_call227_v6 : Ref sig .tc := ⟨.hbm, 4952, rfl⟩
abbrev main_call227_v7 : Ref sig .tc := ⟨.hbm, 4953, rfl⟩
abbrev main_call227_v8 : Ref sig .tc := ⟨.hbm, 4954, rfl⟩
abbrev main_call227_v9 : Ref sig .tc := ⟨.hbm, 4955, rfl⟩
abbrev main_call227_v10 : Ref sig .tc := ⟨.hbm, 4956, rfl⟩
abbrev main_call227_v11 : Ref sig .tc := ⟨.hbm, 4957, rfl⟩
abbrev main_call227_c_3 : Ref sig .tc := ⟨.hbm, 4958, rfl⟩
abbrev main_call227_v12 : Ref sig .tc := ⟨.hbm, 4959, rfl⟩
abbrev main_call227_v13 : Ref sig .tc := ⟨.hbm, 4960, rfl⟩
abbrev main_call227_v14 : Ref sig .tc := ⟨.hbm, 4961, rfl⟩
abbrev main_call227_cst : Ref sig .tc := ⟨.hbm, 4962, rfl⟩
abbrev main_call227_v15 : Ref sig .tc := ⟨.hbm, 4963, rfl⟩
abbrev main_v2327 : Ref sig .tc := ⟨.hbm, 4964, rfl⟩
abbrev main_v2328 : Ref sig .tc := ⟨.hbm, 4965, rfl⟩
abbrev main_v2329 : Ref sig .tc := ⟨.hbm, 4966, rfl⟩
abbrev main_cst_412 : Ref sig .tc := ⟨.hbm, 4967, rfl⟩
abbrev main_v2330 : Ref sig .tc := ⟨.hbm, 4968, rfl⟩
abbrev main_v2331 : Ref sig .tc := ⟨.hbm, 4969, rfl⟩
abbrev main_v2332 : Ref sig .tc := ⟨.hbm, 4970, rfl⟩
abbrev main_cst_413 : Ref sig .tc := ⟨.hbm, 4971, rfl⟩
abbrev main_call228_v0 : Ref sig .tc := ⟨.hbm, 4972, rfl⟩
abbrev main_call228_v1 : Ref sig .tc := ⟨.hbm, 4973, rfl⟩
abbrev main_v2333 : Ref sig .tc := ⟨.hbm, 4974, rfl⟩
abbrev main_v2334 : Ref sig .tc := ⟨.hbm, 4975, rfl⟩
abbrev main_v2335 : Ref sig .tc := ⟨.hbm, 4976, rfl⟩
abbrev main_v2336 : Ref sig .tc := ⟨.hbm, 4977, rfl⟩
abbrev main_call229_c : Ref sig .tc := ⟨.hbm, 4978, rfl⟩
abbrev main_call229_v0 : Ref sig .tc := ⟨.hbm, 4979, rfl⟩
abbrev main_call229_v1 : Ref sig .tc := ⟨.hbm, 4980, rfl⟩
abbrev main_call229_c_0 : Ref sig .tc := ⟨.hbm, 4981, rfl⟩
abbrev main_call229_v2 : Ref sig .tc := ⟨.hbm, 4982, rfl⟩
abbrev main_call229_v3 : Ref sig .tc := ⟨.hbm, 4983, rfl⟩
abbrev main_call229_v4 : Ref sig .tc := ⟨.hbm, 4984, rfl⟩
abbrev main_call229_v5 : Ref sig .tc := ⟨.hbm, 4985, rfl⟩
abbrev main_call229_c_1 : Ref sig .tc := ⟨.hbm, 4986, rfl⟩
abbrev main_call229_c_2 : Ref sig .tc := ⟨.hbm, 4987, rfl⟩
abbrev main_call229_v6 : Ref sig .tc := ⟨.hbm, 4988, rfl⟩
abbrev main_call229_v7 : Ref sig .tc := ⟨.hbm, 4989, rfl⟩
abbrev main_call229_v8 : Ref sig .tc := ⟨.hbm, 4990, rfl⟩
abbrev main_call229_v9 : Ref sig .tc := ⟨.hbm, 4991, rfl⟩
abbrev main_call229_v10 : Ref sig .tc := ⟨.hbm, 4992, rfl⟩
abbrev main_call229_v11 : Ref sig .tc := ⟨.hbm, 4993, rfl⟩
abbrev main_call229_c_3 : Ref sig .tc := ⟨.hbm, 4994, rfl⟩
abbrev main_call229_v12 : Ref sig .tc := ⟨.hbm, 4995, rfl⟩
abbrev main_call229_v13 : Ref sig .tc := ⟨.hbm, 4996, rfl⟩
abbrev main_call229_v14 : Ref sig .tc := ⟨.hbm, 4997, rfl⟩
abbrev main_call229_cst : Ref sig .tc := ⟨.hbm, 4998, rfl⟩
abbrev main_call229_v15 : Ref sig .tc := ⟨.hbm, 4999, rfl⟩
abbrev main_v2337 : Ref sig .tc := ⟨.hbm, 5000, rfl⟩
abbrev main_v2338 : Ref sig .tc := ⟨.hbm, 5001, rfl⟩
abbrev main_v2339 : Ref sig .tc := ⟨.hbm, 5002, rfl⟩
abbrev main_cst_414 : Ref sig .tc := ⟨.hbm, 5003, rfl⟩
abbrev main_v2340 : Ref sig .tc := ⟨.hbm, 5004, rfl⟩
abbrev main_v2341 : Ref sig .tc := ⟨.hbm, 5005, rfl⟩
abbrev main_v2342 : Ref sig .tc := ⟨.hbm, 5006, rfl⟩
abbrev main_cst_415 : Ref sig .tc := ⟨.hbm, 5007, rfl⟩
abbrev main_call230_v0 : Ref sig .tc := ⟨.hbm, 5008, rfl⟩
abbrev main_call230_v1 : Ref sig .tc := ⟨.hbm, 5009, rfl⟩
abbrev main_v2343 : Ref sig .tc := ⟨.hbm, 5010, rfl⟩
abbrev main_v2344 : Ref sig .tc := ⟨.hbm, 5011, rfl⟩
abbrev main_v2345 : Ref sig .tc := ⟨.hbm, 5012, rfl⟩
abbrev main_v2346 : Ref sig .tc := ⟨.hbm, 5013, rfl⟩
abbrev main_call231_c : Ref sig .tc := ⟨.hbm, 5014, rfl⟩
abbrev main_call231_v0 : Ref sig .tc := ⟨.hbm, 5015, rfl⟩
abbrev main_call231_v1 : Ref sig .tc := ⟨.hbm, 5016, rfl⟩
abbrev main_call231_c_0 : Ref sig .tc := ⟨.hbm, 5017, rfl⟩
abbrev main_call231_v2 : Ref sig .tc := ⟨.hbm, 5018, rfl⟩
abbrev main_call231_v3 : Ref sig .tc := ⟨.hbm, 5019, rfl⟩
abbrev main_call231_v4 : Ref sig .tc := ⟨.hbm, 5020, rfl⟩
abbrev main_call231_v5 : Ref sig .tc := ⟨.hbm, 5021, rfl⟩
abbrev main_call231_c_1 : Ref sig .tc := ⟨.hbm, 5022, rfl⟩
abbrev main_call231_c_2 : Ref sig .tc := ⟨.hbm, 5023, rfl⟩
abbrev main_call231_v6 : Ref sig .tc := ⟨.hbm, 5024, rfl⟩
abbrev main_call231_v7 : Ref sig .tc := ⟨.hbm, 5025, rfl⟩
abbrev main_call231_v8 : Ref sig .tc := ⟨.hbm, 5026, rfl⟩
abbrev main_call231_v9 : Ref sig .tc := ⟨.hbm, 5027, rfl⟩
abbrev main_call231_v10 : Ref sig .tc := ⟨.hbm, 5028, rfl⟩
abbrev main_call231_v11 : Ref sig .tc := ⟨.hbm, 5029, rfl⟩
abbrev main_call231_c_3 : Ref sig .tc := ⟨.hbm, 5030, rfl⟩
abbrev main_call231_v12 : Ref sig .tc := ⟨.hbm, 5031, rfl⟩
abbrev main_call231_v13 : Ref sig .tc := ⟨.hbm, 5032, rfl⟩
abbrev main_call231_v14 : Ref sig .tc := ⟨.hbm, 5033, rfl⟩
abbrev main_call231_cst : Ref sig .tc := ⟨.hbm, 5034, rfl⟩
abbrev main_call231_v15 : Ref sig .tc := ⟨.hbm, 5035, rfl⟩
abbrev main_v2347 : Ref sig .tc := ⟨.hbm, 5036, rfl⟩
abbrev main_v2348 : Ref sig .tc := ⟨.hbm, 5037, rfl⟩
abbrev main_v2349 : Ref sig .tc := ⟨.hbm, 5038, rfl⟩
abbrev main_cst_416 : Ref sig .tc := ⟨.hbm, 5039, rfl⟩
abbrev main_v2350 : Ref sig .tc := ⟨.hbm, 5040, rfl⟩
abbrev main_v2351 : Ref sig .tc := ⟨.hbm, 5041, rfl⟩
abbrev main_v2352 : Ref sig .tc := ⟨.hbm, 5042, rfl⟩
abbrev main_cst_417 : Ref sig .tc := ⟨.hbm, 5043, rfl⟩
abbrev main_call232_v0 : Ref sig .tc := ⟨.hbm, 5044, rfl⟩
abbrev main_call232_v1 : Ref sig .tc := ⟨.hbm, 5045, rfl⟩
abbrev main_v2353 : Ref sig .tc := ⟨.hbm, 5046, rfl⟩
abbrev main_v2354 : Ref sig .tc := ⟨.hbm, 5047, rfl⟩
abbrev main_v2355 : Ref sig .tc := ⟨.hbm, 5048, rfl⟩
abbrev main_v2356 : Ref sig .tc := ⟨.hbm, 5049, rfl⟩
abbrev main_call233_c : Ref sig .tc := ⟨.hbm, 5050, rfl⟩
abbrev main_call233_v0 : Ref sig .tc := ⟨.hbm, 5051, rfl⟩
abbrev main_call233_v1 : Ref sig .tc := ⟨.hbm, 5052, rfl⟩
abbrev main_call233_c_0 : Ref sig .tc := ⟨.hbm, 5053, rfl⟩
abbrev main_call233_v2 : Ref sig .tc := ⟨.hbm, 5054, rfl⟩
abbrev main_call233_v3 : Ref sig .tc := ⟨.hbm, 5055, rfl⟩
abbrev main_call233_v4 : Ref sig .tc := ⟨.hbm, 5056, rfl⟩
abbrev main_call233_v5 : Ref sig .tc := ⟨.hbm, 5057, rfl⟩
abbrev main_call233_c_1 : Ref sig .tc := ⟨.hbm, 5058, rfl⟩
abbrev main_call233_c_2 : Ref sig .tc := ⟨.hbm, 5059, rfl⟩
abbrev main_call233_v6 : Ref sig .tc := ⟨.hbm, 5060, rfl⟩
abbrev main_call233_v7 : Ref sig .tc := ⟨.hbm, 5061, rfl⟩
abbrev main_call233_v8 : Ref sig .tc := ⟨.hbm, 5062, rfl⟩
abbrev main_call233_v9 : Ref sig .tc := ⟨.hbm, 5063, rfl⟩
abbrev main_call233_v10 : Ref sig .tc := ⟨.hbm, 5064, rfl⟩
abbrev main_call233_v11 : Ref sig .tc := ⟨.hbm, 5065, rfl⟩
abbrev main_call233_c_3 : Ref sig .tc := ⟨.hbm, 5066, rfl⟩
abbrev main_call233_v12 : Ref sig .tc := ⟨.hbm, 5067, rfl⟩
abbrev main_call233_v13 : Ref sig .tc := ⟨.hbm, 5068, rfl⟩
abbrev main_call233_v14 : Ref sig .tc := ⟨.hbm, 5069, rfl⟩
abbrev main_call233_cst : Ref sig .tc := ⟨.hbm, 5070, rfl⟩
abbrev main_call233_v15 : Ref sig .tc := ⟨.hbm, 5071, rfl⟩
abbrev main_v2357 : Ref sig .tc := ⟨.hbm, 5072, rfl⟩
abbrev main_v2358 : Ref sig .tc := ⟨.hbm, 5073, rfl⟩
abbrev main_v2359 : Ref sig .tc := ⟨.hbm, 5074, rfl⟩
abbrev main_cst_418 : Ref sig .tc := ⟨.hbm, 5075, rfl⟩
abbrev main_v2360 : Ref sig .tc := ⟨.hbm, 5076, rfl⟩
abbrev main_v2361 : Ref sig .tc := ⟨.hbm, 5077, rfl⟩
abbrev main_v2362 : Ref sig .tc := ⟨.hbm, 5078, rfl⟩
abbrev main_cst_419 : Ref sig .tc := ⟨.hbm, 5079, rfl⟩
abbrev main_call234_v0 : Ref sig .tc := ⟨.hbm, 5080, rfl⟩
abbrev main_call234_v1 : Ref sig .tc := ⟨.hbm, 5081, rfl⟩
abbrev main_v2363 : Ref sig .tc := ⟨.hbm, 5082, rfl⟩
abbrev main_v2364 : Ref sig .tc := ⟨.hbm, 5083, rfl⟩
abbrev main_v2365 : Ref sig .tc := ⟨.hbm, 5084, rfl⟩
abbrev main_v2366 : Ref sig .tc := ⟨.hbm, 5085, rfl⟩
abbrev main_call235_c : Ref sig .tc := ⟨.hbm, 5086, rfl⟩
abbrev main_call235_v0 : Ref sig .tc := ⟨.hbm, 5087, rfl⟩
abbrev main_call235_v1 : Ref sig .tc := ⟨.hbm, 5088, rfl⟩
abbrev main_call235_c_0 : Ref sig .tc := ⟨.hbm, 5089, rfl⟩
abbrev main_call235_v2 : Ref sig .tc := ⟨.hbm, 5090, rfl⟩
abbrev main_call235_v3 : Ref sig .tc := ⟨.hbm, 5091, rfl⟩
abbrev main_call235_v4 : Ref sig .tc := ⟨.hbm, 5092, rfl⟩
abbrev main_call235_v5 : Ref sig .tc := ⟨.hbm, 5093, rfl⟩
abbrev main_call235_c_1 : Ref sig .tc := ⟨.hbm, 5094, rfl⟩
abbrev main_call235_c_2 : Ref sig .tc := ⟨.hbm, 5095, rfl⟩
abbrev main_call235_v6 : Ref sig .tc := ⟨.hbm, 5096, rfl⟩
abbrev main_call235_v7 : Ref sig .tc := ⟨.hbm, 5097, rfl⟩
abbrev main_call235_v8 : Ref sig .tc := ⟨.hbm, 5098, rfl⟩
abbrev main_call235_v9 : Ref sig .tc := ⟨.hbm, 5099, rfl⟩
abbrev main_call235_v10 : Ref sig .tc := ⟨.hbm, 5100, rfl⟩
abbrev main_call235_v11 : Ref sig .tc := ⟨.hbm, 5101, rfl⟩
abbrev main_call235_c_3 : Ref sig .tc := ⟨.hbm, 5102, rfl⟩
abbrev main_call235_v12 : Ref sig .tc := ⟨.hbm, 5103, rfl⟩
abbrev main_call235_v13 : Ref sig .tc := ⟨.hbm, 5104, rfl⟩
abbrev main_call235_v14 : Ref sig .tc := ⟨.hbm, 5105, rfl⟩
abbrev main_call235_cst : Ref sig .tc := ⟨.hbm, 5106, rfl⟩
abbrev main_call235_v15 : Ref sig .tc := ⟨.hbm, 5107, rfl⟩
abbrev main_v2367 : Ref sig .tc := ⟨.hbm, 5108, rfl⟩
abbrev main_v2368 : Ref sig .tc := ⟨.hbm, 5109, rfl⟩
abbrev main_v2369 : Ref sig .tc := ⟨.hbm, 5110, rfl⟩
abbrev main_cst_420 : Ref sig .tc := ⟨.hbm, 5111, rfl⟩
abbrev main_v2370 : Ref sig .tc := ⟨.hbm, 5112, rfl⟩
abbrev main_v2371 : Ref sig .tc := ⟨.hbm, 5113, rfl⟩
abbrev main_v2372 : Ref sig .tc := ⟨.hbm, 5114, rfl⟩
abbrev main_cst_421 : Ref sig .tc := ⟨.hbm, 5115, rfl⟩
abbrev main_call236_v0 : Ref sig .tc := ⟨.hbm, 5116, rfl⟩
abbrev main_call236_v1 : Ref sig .tc := ⟨.hbm, 5117, rfl⟩
abbrev main_v2373 : Ref sig .tc := ⟨.hbm, 5118, rfl⟩
abbrev main_v2374 : Ref sig .tc := ⟨.hbm, 5119, rfl⟩
abbrev main_v2375 : Ref sig .tc := ⟨.hbm, 5120, rfl⟩
abbrev main_v2376 : Ref sig .tc := ⟨.hbm, 5121, rfl⟩
abbrev main_call237_c : Ref sig .tc := ⟨.hbm, 5122, rfl⟩
abbrev main_call237_v0 : Ref sig .tc := ⟨.hbm, 5123, rfl⟩
abbrev main_call237_v1 : Ref sig .tc := ⟨.hbm, 5124, rfl⟩
abbrev main_call237_c_0 : Ref sig .tc := ⟨.hbm, 5125, rfl⟩
abbrev main_call237_v2 : Ref sig .tc := ⟨.hbm, 5126, rfl⟩
abbrev main_call237_v3 : Ref sig .tc := ⟨.hbm, 5127, rfl⟩
abbrev main_call237_v4 : Ref sig .tc := ⟨.hbm, 5128, rfl⟩
abbrev main_call237_v5 : Ref sig .tc := ⟨.hbm, 5129, rfl⟩
abbrev main_call237_c_1 : Ref sig .tc := ⟨.hbm, 5130, rfl⟩
abbrev main_call237_c_2 : Ref sig .tc := ⟨.hbm, 5131, rfl⟩
abbrev main_call237_v6 : Ref sig .tc := ⟨.hbm, 5132, rfl⟩
abbrev main_call237_v7 : Ref sig .tc := ⟨.hbm, 5133, rfl⟩
abbrev main_call237_v8 : Ref sig .tc := ⟨.hbm, 5134, rfl⟩
abbrev main_call237_v9 : Ref sig .tc := ⟨.hbm, 5135, rfl⟩
abbrev main_call237_v10 : Ref sig .tc := ⟨.hbm, 5136, rfl⟩
abbrev main_call237_v11 : Ref sig .tc := ⟨.hbm, 5137, rfl⟩
abbrev main_call237_c_3 : Ref sig .tc := ⟨.hbm, 5138, rfl⟩
abbrev main_call237_v12 : Ref sig .tc := ⟨.hbm, 5139, rfl⟩
abbrev main_call237_v13 : Ref sig .tc := ⟨.hbm, 5140, rfl⟩
abbrev main_call237_v14 : Ref sig .tc := ⟨.hbm, 5141, rfl⟩
abbrev main_call237_cst : Ref sig .tc := ⟨.hbm, 5142, rfl⟩
abbrev main_call237_v15 : Ref sig .tc := ⟨.hbm, 5143, rfl⟩
abbrev main_v2377 : Ref sig .tc := ⟨.hbm, 5144, rfl⟩
abbrev main_v2378 : Ref sig .tc := ⟨.hbm, 5145, rfl⟩
abbrev main_v2379 : Ref sig .tc := ⟨.hbm, 5146, rfl⟩
abbrev main_cst_422 : Ref sig .tc := ⟨.hbm, 5147, rfl⟩
abbrev main_v2380 : Ref sig .tc := ⟨.hbm, 5148, rfl⟩
abbrev main_v2381 : Ref sig .tc := ⟨.hbm, 5149, rfl⟩
abbrev main_v2382 : Ref sig .tc := ⟨.hbm, 5150, rfl⟩
abbrev main_cst_423 : Ref sig .tc := ⟨.hbm, 5151, rfl⟩
abbrev main_call238_v0 : Ref sig .tc := ⟨.hbm, 5152, rfl⟩
abbrev main_call238_v1 : Ref sig .tc := ⟨.hbm, 5153, rfl⟩
abbrev main_v2383 : Ref sig .tc := ⟨.hbm, 5154, rfl⟩
abbrev main_v2384 : Ref sig .tc := ⟨.hbm, 5155, rfl⟩
abbrev main_v2385 : Ref sig .tc := ⟨.hbm, 5156, rfl⟩
abbrev main_v2386 : Ref sig .tc := ⟨.hbm, 5157, rfl⟩
abbrev main_call239_c : Ref sig .tc := ⟨.hbm, 5158, rfl⟩
abbrev main_call239_v0 : Ref sig .tc := ⟨.hbm, 5159, rfl⟩
abbrev main_call239_v1 : Ref sig .tc := ⟨.hbm, 5160, rfl⟩
abbrev main_call239_c_0 : Ref sig .tc := ⟨.hbm, 5161, rfl⟩
abbrev main_call239_v2 : Ref sig .tc := ⟨.hbm, 5162, rfl⟩
abbrev main_call239_v3 : Ref sig .tc := ⟨.hbm, 5163, rfl⟩
abbrev main_call239_v4 : Ref sig .tc := ⟨.hbm, 5164, rfl⟩
abbrev main_call239_v5 : Ref sig .tc := ⟨.hbm, 5165, rfl⟩
abbrev main_call239_c_1 : Ref sig .tc := ⟨.hbm, 5166, rfl⟩
abbrev main_call239_c_2 : Ref sig .tc := ⟨.hbm, 5167, rfl⟩
abbrev main_call239_v6 : Ref sig .tc := ⟨.hbm, 5168, rfl⟩
abbrev main_call239_v7 : Ref sig .tc := ⟨.hbm, 5169, rfl⟩
abbrev main_call239_v8 : Ref sig .tc := ⟨.hbm, 5170, rfl⟩
abbrev main_call239_v9 : Ref sig .tc := ⟨.hbm, 5171, rfl⟩
abbrev main_call239_v10 : Ref sig .tc := ⟨.hbm, 5172, rfl⟩
abbrev main_call239_v11 : Ref sig .tc := ⟨.hbm, 5173, rfl⟩
abbrev main_call239_c_3 : Ref sig .tc := ⟨.hbm, 5174, rfl⟩
abbrev main_call239_v12 : Ref sig .tc := ⟨.hbm, 5175, rfl⟩
abbrev main_call239_v13 : Ref sig .tc := ⟨.hbm, 5176, rfl⟩
abbrev main_call239_v14 : Ref sig .tc := ⟨.hbm, 5177, rfl⟩
abbrev main_call239_cst : Ref sig .tc := ⟨.hbm, 5178, rfl⟩
abbrev main_call239_v15 : Ref sig .tc := ⟨.hbm, 5179, rfl⟩
abbrev main_v2387 : Ref sig .tc := ⟨.hbm, 5180, rfl⟩
abbrev main_v2388 : Ref sig .tc := ⟨.hbm, 5181, rfl⟩
abbrev main_v2389 : Ref sig .tc := ⟨.hbm, 5182, rfl⟩
abbrev main_cst_424 : Ref sig .tc := ⟨.hbm, 5183, rfl⟩
abbrev main_v2390 : Ref sig .tc := ⟨.hbm, 5184, rfl⟩
abbrev main_v2391 : Ref sig .tc := ⟨.hbm, 5185, rfl⟩
abbrev main_v2392 : Ref sig .tc := ⟨.hbm, 5186, rfl⟩
abbrev main_cst_425 : Ref sig .tc := ⟨.hbm, 5187, rfl⟩
abbrev main_call240_v0 : Ref sig .tc := ⟨.hbm, 5188, rfl⟩
abbrev main_call240_v1 : Ref sig .tc := ⟨.hbm, 5189, rfl⟩
abbrev main_v2393 : Ref sig .tc := ⟨.hbm, 5190, rfl⟩
abbrev main_v2394 : Ref sig .tc := ⟨.hbm, 5191, rfl⟩
abbrev main_v2395 : Ref sig .tc := ⟨.hbm, 5192, rfl⟩
abbrev main_v2396 : Ref sig .tc := ⟨.hbm, 5193, rfl⟩
abbrev main_call241_c : Ref sig .tc := ⟨.hbm, 5194, rfl⟩
abbrev main_call241_v0 : Ref sig .tc := ⟨.hbm, 5195, rfl⟩
abbrev main_call241_v1 : Ref sig .tc := ⟨.hbm, 5196, rfl⟩
abbrev main_call241_c_0 : Ref sig .tc := ⟨.hbm, 5197, rfl⟩
abbrev main_call241_v2 : Ref sig .tc := ⟨.hbm, 5198, rfl⟩
abbrev main_call241_v3 : Ref sig .tc := ⟨.hbm, 5199, rfl⟩
abbrev main_call241_v4 : Ref sig .tc := ⟨.hbm, 5200, rfl⟩
abbrev main_call241_v5 : Ref sig .tc := ⟨.hbm, 5201, rfl⟩
abbrev main_call241_c_1 : Ref sig .tc := ⟨.hbm, 5202, rfl⟩
abbrev main_call241_c_2 : Ref sig .tc := ⟨.hbm, 5203, rfl⟩
abbrev main_call241_v6 : Ref sig .tc := ⟨.hbm, 5204, rfl⟩
abbrev main_call241_v7 : Ref sig .tc := ⟨.hbm, 5205, rfl⟩
abbrev main_call241_v8 : Ref sig .tc := ⟨.hbm, 5206, rfl⟩
abbrev main_call241_v9 : Ref sig .tc := ⟨.hbm, 5207, rfl⟩
abbrev main_call241_v10 : Ref sig .tc := ⟨.hbm, 5208, rfl⟩
abbrev main_call241_v11 : Ref sig .tc := ⟨.hbm, 5209, rfl⟩
abbrev main_call241_c_3 : Ref sig .tc := ⟨.hbm, 5210, rfl⟩
abbrev main_call241_v12 : Ref sig .tc := ⟨.hbm, 5211, rfl⟩
abbrev main_call241_v13 : Ref sig .tc := ⟨.hbm, 5212, rfl⟩
abbrev main_call241_v14 : Ref sig .tc := ⟨.hbm, 5213, rfl⟩
abbrev main_call241_cst : Ref sig .tc := ⟨.hbm, 5214, rfl⟩
abbrev main_call241_v15 : Ref sig .tc := ⟨.hbm, 5215, rfl⟩
abbrev main_v2397 : Ref sig .tc := ⟨.hbm, 5216, rfl⟩
abbrev main_v2398 : Ref sig .tc := ⟨.hbm, 5217, rfl⟩
abbrev main_v2399 : Ref sig .tc := ⟨.hbm, 5218, rfl⟩
abbrev main_cst_426 : Ref sig .tc := ⟨.hbm, 5219, rfl⟩
abbrev main_v2400 : Ref sig .tc := ⟨.hbm, 5220, rfl⟩
abbrev main_v2401 : Ref sig .tc := ⟨.hbm, 5221, rfl⟩
abbrev main_v2402 : Ref sig .tc := ⟨.hbm, 5222, rfl⟩
abbrev main_cst_427 : Ref sig .tc := ⟨.hbm, 5223, rfl⟩
abbrev main_call242_v0 : Ref sig .tc := ⟨.hbm, 5224, rfl⟩
abbrev main_call242_v1 : Ref sig .tc := ⟨.hbm, 5225, rfl⟩
abbrev main_v2403 : Ref sig .tc := ⟨.hbm, 5226, rfl⟩
abbrev main_v2404 : Ref sig .tc := ⟨.hbm, 5227, rfl⟩
abbrev main_v2405 : Ref sig .tc := ⟨.hbm, 5228, rfl⟩
abbrev main_v2406 : Ref sig .tc := ⟨.hbm, 5229, rfl⟩
abbrev main_call243_c : Ref sig .tc := ⟨.hbm, 5230, rfl⟩
abbrev main_call243_v0 : Ref sig .tc := ⟨.hbm, 5231, rfl⟩
abbrev main_call243_v1 : Ref sig .tc := ⟨.hbm, 5232, rfl⟩
abbrev main_call243_c_0 : Ref sig .tc := ⟨.hbm, 5233, rfl⟩
abbrev main_call243_v2 : Ref sig .tc := ⟨.hbm, 5234, rfl⟩
abbrev main_call243_v3 : Ref sig .tc := ⟨.hbm, 5235, rfl⟩
abbrev main_call243_v4 : Ref sig .tc := ⟨.hbm, 5236, rfl⟩
abbrev main_call243_v5 : Ref sig .tc := ⟨.hbm, 5237, rfl⟩
abbrev main_call243_c_1 : Ref sig .tc := ⟨.hbm, 5238, rfl⟩
abbrev main_call243_c_2 : Ref sig .tc := ⟨.hbm, 5239, rfl⟩
abbrev main_call243_v6 : Ref sig .tc := ⟨.hbm, 5240, rfl⟩
abbrev main_call243_v7 : Ref sig .tc := ⟨.hbm, 5241, rfl⟩
abbrev main_call243_v8 : Ref sig .tc := ⟨.hbm, 5242, rfl⟩
abbrev main_call243_v9 : Ref sig .tc := ⟨.hbm, 5243, rfl⟩
abbrev main_call243_v10 : Ref sig .tc := ⟨.hbm, 5244, rfl⟩
abbrev main_call243_v11 : Ref sig .tc := ⟨.hbm, 5245, rfl⟩
abbrev main_call243_c_3 : Ref sig .tc := ⟨.hbm, 5246, rfl⟩
abbrev main_call243_v12 : Ref sig .tc := ⟨.hbm, 5247, rfl⟩
abbrev main_call243_v13 : Ref sig .tc := ⟨.hbm, 5248, rfl⟩
abbrev main_call243_v14 : Ref sig .tc := ⟨.hbm, 5249, rfl⟩
abbrev main_call243_cst : Ref sig .tc := ⟨.hbm, 5250, rfl⟩
abbrev main_call243_v15 : Ref sig .tc := ⟨.hbm, 5251, rfl⟩
abbrev main_v2407 : Ref sig .tc := ⟨.hbm, 5252, rfl⟩
abbrev main_v2408 : Ref sig .tc := ⟨.hbm, 5253, rfl⟩
abbrev main_v2409 : Ref sig .tc := ⟨.hbm, 5254, rfl⟩
abbrev main_cst_428 : Ref sig .tc := ⟨.hbm, 5255, rfl⟩
abbrev main_v2410 : Ref sig .tc := ⟨.hbm, 5256, rfl⟩
abbrev main_v2411 : Ref sig .tc := ⟨.hbm, 5257, rfl⟩
abbrev main_v2412 : Ref sig .tc := ⟨.hbm, 5258, rfl⟩
abbrev main_cst_429 : Ref sig .tc := ⟨.hbm, 5259, rfl⟩
abbrev main_call244_v0 : Ref sig .tc := ⟨.hbm, 5260, rfl⟩
abbrev main_call244_v1 : Ref sig .tc := ⟨.hbm, 5261, rfl⟩
abbrev main_v2413 : Ref sig .tc := ⟨.hbm, 5262, rfl⟩
abbrev main_v2414 : Ref sig .tc := ⟨.hbm, 5263, rfl⟩
abbrev main_v2415 : Ref sig .tc := ⟨.hbm, 5264, rfl⟩
abbrev main_v2416 : Ref sig .tc := ⟨.hbm, 5265, rfl⟩
abbrev main_call245_c : Ref sig .tc := ⟨.hbm, 5266, rfl⟩
abbrev main_call245_v0 : Ref sig .tc := ⟨.hbm, 5267, rfl⟩
abbrev main_call245_v1 : Ref sig .tc := ⟨.hbm, 5268, rfl⟩
abbrev main_call245_c_0 : Ref sig .tc := ⟨.hbm, 5269, rfl⟩
abbrev main_call245_v2 : Ref sig .tc := ⟨.hbm, 5270, rfl⟩
abbrev main_call245_v3 : Ref sig .tc := ⟨.hbm, 5271, rfl⟩
abbrev main_call245_v4 : Ref sig .tc := ⟨.hbm, 5272, rfl⟩
abbrev main_call245_v5 : Ref sig .tc := ⟨.hbm, 5273, rfl⟩
abbrev main_call245_c_1 : Ref sig .tc := ⟨.hbm, 5274, rfl⟩
abbrev main_call245_c_2 : Ref sig .tc := ⟨.hbm, 5275, rfl⟩
abbrev main_call245_v6 : Ref sig .tc := ⟨.hbm, 5276, rfl⟩
abbrev main_call245_v7 : Ref sig .tc := ⟨.hbm, 5277, rfl⟩
abbrev main_call245_v8 : Ref sig .tc := ⟨.hbm, 5278, rfl⟩
abbrev main_call245_v9 : Ref sig .tc := ⟨.hbm, 5279, rfl⟩
abbrev main_call245_v10 : Ref sig .tc := ⟨.hbm, 5280, rfl⟩
abbrev main_call245_v11 : Ref sig .tc := ⟨.hbm, 5281, rfl⟩
abbrev main_call245_c_3 : Ref sig .tc := ⟨.hbm, 5282, rfl⟩
abbrev main_call245_v12 : Ref sig .tc := ⟨.hbm, 5283, rfl⟩
abbrev main_call245_v13 : Ref sig .tc := ⟨.hbm, 5284, rfl⟩
abbrev main_call245_v14 : Ref sig .tc := ⟨.hbm, 5285, rfl⟩
abbrev main_call245_cst : Ref sig .tc := ⟨.hbm, 5286, rfl⟩
abbrev main_call245_v15 : Ref sig .tc := ⟨.hbm, 5287, rfl⟩
abbrev main_v2417 : Ref sig .tc := ⟨.hbm, 5288, rfl⟩
abbrev main_v2418 : Ref sig .tc := ⟨.hbm, 5289, rfl⟩
abbrev main_v2419 : Ref sig .tc := ⟨.hbm, 5290, rfl⟩
abbrev main_cst_430 : Ref sig .tc := ⟨.hbm, 5291, rfl⟩
abbrev main_v2420 : Ref sig .tc := ⟨.hbm, 5292, rfl⟩
abbrev main_v2421 : Ref sig .tc := ⟨.hbm, 5293, rfl⟩
abbrev main_v2422 : Ref sig .tc := ⟨.hbm, 5294, rfl⟩
abbrev main_cst_431 : Ref sig .tc := ⟨.hbm, 5295, rfl⟩
abbrev main_call246_v0 : Ref sig .tc := ⟨.hbm, 5296, rfl⟩
abbrev main_call246_v1 : Ref sig .tc := ⟨.hbm, 5297, rfl⟩
abbrev main_v2423 : Ref sig .tc := ⟨.hbm, 5298, rfl⟩
abbrev main_v2424 : Ref sig .tc := ⟨.hbm, 5299, rfl⟩
abbrev main_v2425 : Ref sig .tc := ⟨.hbm, 5300, rfl⟩
abbrev main_v2426 : Ref sig .tc := ⟨.hbm, 5301, rfl⟩
abbrev main_call247_c : Ref sig .tc := ⟨.hbm, 5302, rfl⟩
abbrev main_call247_v0 : Ref sig .tc := ⟨.hbm, 5303, rfl⟩
abbrev main_call247_v1 : Ref sig .tc := ⟨.hbm, 5304, rfl⟩
abbrev main_call247_c_0 : Ref sig .tc := ⟨.hbm, 5305, rfl⟩
abbrev main_call247_v2 : Ref sig .tc := ⟨.hbm, 5306, rfl⟩
abbrev main_call247_v3 : Ref sig .tc := ⟨.hbm, 5307, rfl⟩
abbrev main_call247_v4 : Ref sig .tc := ⟨.hbm, 5308, rfl⟩
abbrev main_call247_v5 : Ref sig .tc := ⟨.hbm, 5309, rfl⟩
abbrev main_call247_c_1 : Ref sig .tc := ⟨.hbm, 5310, rfl⟩
abbrev main_call247_c_2 : Ref sig .tc := ⟨.hbm, 5311, rfl⟩
abbrev main_call247_v6 : Ref sig .tc := ⟨.hbm, 5312, rfl⟩
abbrev main_call247_v7 : Ref sig .tc := ⟨.hbm, 5313, rfl⟩
abbrev main_call247_v8 : Ref sig .tc := ⟨.hbm, 5314, rfl⟩
abbrev main_call247_v9 : Ref sig .tc := ⟨.hbm, 5315, rfl⟩
abbrev main_call247_v10 : Ref sig .tc := ⟨.hbm, 5316, rfl⟩
abbrev main_call247_v11 : Ref sig .tc := ⟨.hbm, 5317, rfl⟩
abbrev main_call247_c_3 : Ref sig .tc := ⟨.hbm, 5318, rfl⟩
abbrev main_call247_v12 : Ref sig .tc := ⟨.hbm, 5319, rfl⟩
abbrev main_call247_v13 : Ref sig .tc := ⟨.hbm, 5320, rfl⟩
abbrev main_call247_v14 : Ref sig .tc := ⟨.hbm, 5321, rfl⟩
abbrev main_call247_cst : Ref sig .tc := ⟨.hbm, 5322, rfl⟩
abbrev main_call247_v15 : Ref sig .tc := ⟨.hbm, 5323, rfl⟩
abbrev main_v2427 : Ref sig .tc := ⟨.hbm, 5324, rfl⟩
abbrev main_v2428 : Ref sig .tc := ⟨.hbm, 5325, rfl⟩
abbrev main_v2429 : Ref sig .tc := ⟨.hbm, 5326, rfl⟩
abbrev main_cst_432 : Ref sig .tc := ⟨.hbm, 5327, rfl⟩
abbrev main_v2430 : Ref sig .tc := ⟨.hbm, 5328, rfl⟩
abbrev main_v2431 : Ref sig .tc := ⟨.hbm, 5329, rfl⟩
abbrev main_v2432 : Ref sig .tc := ⟨.hbm, 5330, rfl⟩
abbrev main_cst_433 : Ref sig .tc := ⟨.hbm, 5331, rfl⟩
abbrev main_call248_v0 : Ref sig .tc := ⟨.hbm, 5332, rfl⟩
abbrev main_call248_v1 : Ref sig .tc := ⟨.hbm, 5333, rfl⟩
abbrev main_v2433 : Ref sig .tc := ⟨.hbm, 5334, rfl⟩
abbrev main_v2434 : Ref sig .tc := ⟨.hbm, 5335, rfl⟩
abbrev main_v2435 : Ref sig .tc := ⟨.hbm, 5336, rfl⟩
abbrev main_v2436 : Ref sig .tc := ⟨.hbm, 5337, rfl⟩
abbrev main_call249_c : Ref sig .tc := ⟨.hbm, 5338, rfl⟩
abbrev main_call249_v0 : Ref sig .tc := ⟨.hbm, 5339, rfl⟩
abbrev main_call249_v1 : Ref sig .tc := ⟨.hbm, 5340, rfl⟩
abbrev main_call249_c_0 : Ref sig .tc := ⟨.hbm, 5341, rfl⟩
abbrev main_call249_v2 : Ref sig .tc := ⟨.hbm, 5342, rfl⟩
abbrev main_call249_v3 : Ref sig .tc := ⟨.hbm, 5343, rfl⟩
abbrev main_call249_v4 : Ref sig .tc := ⟨.hbm, 5344, rfl⟩
abbrev main_call249_v5 : Ref sig .tc := ⟨.hbm, 5345, rfl⟩
abbrev main_call249_c_1 : Ref sig .tc := ⟨.hbm, 5346, rfl⟩
abbrev main_call249_c_2 : Ref sig .tc := ⟨.hbm, 5347, rfl⟩
abbrev main_call249_v6 : Ref sig .tc := ⟨.hbm, 5348, rfl⟩
abbrev main_call249_v7 : Ref sig .tc := ⟨.hbm, 5349, rfl⟩
abbrev main_call249_v8 : Ref sig .tc := ⟨.hbm, 5350, rfl⟩
abbrev main_call249_v9 : Ref sig .tc := ⟨.hbm, 5351, rfl⟩
abbrev main_call249_v10 : Ref sig .tc := ⟨.hbm, 5352, rfl⟩
abbrev main_call249_v11 : Ref sig .tc := ⟨.hbm, 5353, rfl⟩
abbrev main_call249_c_3 : Ref sig .tc := ⟨.hbm, 5354, rfl⟩
abbrev main_call249_v12 : Ref sig .tc := ⟨.hbm, 5355, rfl⟩
abbrev main_call249_v13 : Ref sig .tc := ⟨.hbm, 5356, rfl⟩
abbrev main_call249_v14 : Ref sig .tc := ⟨.hbm, 5357, rfl⟩
abbrev main_call249_cst : Ref sig .tc := ⟨.hbm, 5358, rfl⟩
abbrev main_call249_v15 : Ref sig .tc := ⟨.hbm, 5359, rfl⟩
abbrev main_v2437 : Ref sig .tc := ⟨.hbm, 5360, rfl⟩
abbrev main_v2438 : Ref sig .tc := ⟨.hbm, 5361, rfl⟩
abbrev main_v2439 : Ref sig .tc := ⟨.hbm, 5362, rfl⟩
abbrev main_cst_434 : Ref sig .tc := ⟨.hbm, 5363, rfl⟩
abbrev main_v2440 : Ref sig .tc := ⟨.hbm, 5364, rfl⟩
abbrev main_v2441 : Ref sig .tc := ⟨.hbm, 5365, rfl⟩
abbrev main_v2442 : Ref sig .tc := ⟨.hbm, 5366, rfl⟩
abbrev main_cst_435 : Ref sig .tc := ⟨.hbm, 5367, rfl⟩
abbrev main_call250_v0 : Ref sig .tc := ⟨.hbm, 5368, rfl⟩
abbrev main_call250_v1 : Ref sig .tc := ⟨.hbm, 5369, rfl⟩
abbrev main_v2443 : Ref sig .tc := ⟨.hbm, 5370, rfl⟩
abbrev main_v2444 : Ref sig .tc := ⟨.hbm, 5371, rfl⟩
abbrev main_v2445 : Ref sig .tc := ⟨.hbm, 5372, rfl⟩
abbrev main_v2446 : Ref sig .tc := ⟨.hbm, 5373, rfl⟩
abbrev main_v2447 : Ref sig .tc := ⟨.hbm, 5374, rfl⟩
abbrev main_v2448 : Ref sig .tc := ⟨.hbm, 5375, rfl⟩
abbrev main_v2449 : Ref sig .tc := ⟨.hbm, 5376, rfl⟩
abbrev main_v2450 : Ref sig .tc := ⟨.hbm, 5377, rfl⟩
abbrev main_v2451 : Ref sig .tc := ⟨.hbm, 5378, rfl⟩
abbrev main_v2452 : Ref sig .tc := ⟨.hbm, 5379, rfl⟩
abbrev main_v2453 : Ref sig .tc := ⟨.hbm, 5380, rfl⟩
abbrev main_v2454 : Ref sig .tc := ⟨.hbm, 5381, rfl⟩
abbrev main_v2455 : Ref sig .tc := ⟨.hbm, 5382, rfl⟩
abbrev main_v2456 : Ref sig .tc := ⟨.hbm, 5383, rfl⟩
abbrev main_v2457 : Ref sig .tc := ⟨.hbm, 5384, rfl⟩
abbrev main_v2458 : Ref sig .tc := ⟨.hbm, 5385, rfl⟩
abbrev main_v2459 : Ref sig .tc := ⟨.hbm, 5386, rfl⟩
abbrev main_v2460 : Ref sig .tc := ⟨.hbm, 5387, rfl⟩
abbrev main_v2461 : Ref sig .tc := ⟨.hbm, 5388, rfl⟩
abbrev main_v2462 : Ref sig .tc := ⟨.hbm, 5389, rfl⟩
abbrev main_v2463 : Ref sig .tc := ⟨.hbm, 5390, rfl⟩
abbrev main_v2464 : Ref sig .tc := ⟨.hbm, 5391, rfl⟩
abbrev main_v2465 : Ref sig .tc := ⟨.hbm, 5392, rfl⟩
abbrev main_v2466 : Ref sig .tc := ⟨.hbm, 5393, rfl⟩
abbrev main_v2467 : Ref sig .tc := ⟨.hbm, 5394, rfl⟩
abbrev main_v2468 : Ref sig .tc := ⟨.hbm, 5395, rfl⟩
abbrev main_v2469 : Ref sig .tc := ⟨.hbm, 5396, rfl⟩
abbrev main_v2470 : Ref sig .tc := ⟨.hbm, 5397, rfl⟩
abbrev main_v2471 : Ref sig .tc := ⟨.hbm, 5398, rfl⟩
abbrev main_v2472 : Ref sig .tc := ⟨.hbm, 5399, rfl⟩
abbrev main_v2473 : Ref sig .tc := ⟨.hbm, 5400, rfl⟩
abbrev main_v2474 : Ref sig .tc := ⟨.hbm, 5401, rfl⟩
abbrev main_cst_436 : Ref sig .tc := ⟨.hbm, 5402, rfl⟩
abbrev main_v2475 : Ref sig .tc := ⟨.hbm, 5403, rfl⟩
abbrev main_v2476 : Ref sig .tc := ⟨.hbm, 5404, rfl⟩
abbrev main_cst_437 : Ref sig .tc := ⟨.hbm, 5405, rfl⟩
abbrev main_v2477 : Ref sig .tc := ⟨.hbm, 5406, rfl⟩
abbrev main_cst_438 : Ref sig .tc := ⟨.hbm, 5407, rfl⟩
abbrev main_v2478 : Ref sig .tc := ⟨.hbm, 5408, rfl⟩
abbrev main_v2479 : Ref sig .tc := ⟨.hbm, 5409, rfl⟩
abbrev main_v2480 : Ref sig .tc := ⟨.hbm, 5410, rfl⟩
abbrev main_v2481 : Ref sig .tc := ⟨.hbm, 5411, rfl⟩
abbrev main_v2482 : Ref sig .tc := ⟨.hbm, 5412, rfl⟩
abbrev main_v2483 : Ref sig .tc := ⟨.hbm, 5413, rfl⟩
abbrev main_cst_439 : Ref sig .tc := ⟨.hbm, 5414, rfl⟩
abbrev main_v2484 : Ref sig .tc := ⟨.hbm, 5415, rfl⟩
abbrev main_v2485 : Ref sig .tc := ⟨.hbm, 5416, rfl⟩
abbrev main_v2486 : Ref sig .tc := ⟨.hbm, 5417, rfl⟩
abbrev main_v2487 : Ref sig .tc := ⟨.hbm, 5418, rfl⟩
abbrev main_v2488 : Ref sig .tc := ⟨.hbm, 5419, rfl⟩
abbrev main_call251_v0 : Ref sig .tc := ⟨.hbm, 5420, rfl⟩
abbrev main_call251_cst : Ref sig .tc := ⟨.hbm, 5421, rfl⟩
abbrev main_call251_c : Ref sig .tc := ⟨.hbm, 5422, rfl⟩
abbrev main_call251_v1_0 : Ref sig .tc := ⟨.hbm, 5423, rfl⟩
abbrev main_v2489 : Ref sig .tc := ⟨.hbm, 5424, rfl⟩
abbrev main_v2490 : Ref sig .tc := ⟨.hbm, 5425, rfl⟩
abbrev main_c_440 : Ref sig .tc := ⟨.hbm, 5426, rfl⟩
abbrev main_call252_v0 : Ref sig .tc := ⟨.hbm, 5427, rfl⟩
abbrev main_call252_v1 : Ref sig .tc := ⟨.hbm, 5428, rfl⟩
abbrev main_call252_v2 : Ref sig .tc := ⟨.hbm, 5429, rfl⟩
abbrev main_call252_v3 : Ref sig .tc := ⟨.hbm, 5430, rfl⟩
abbrev main_call252_v4 : Ref sig .tc := ⟨.hbm, 5431, rfl⟩
abbrev main_call252_v5 : Ref sig .tc := ⟨.hbm, 5432, rfl⟩
abbrev main_call252_v6 : Ref sig .tc := ⟨.hbm, 5433, rfl⟩
abbrev main_call252_v7 : Ref sig .tc := ⟨.hbm, 5434, rfl⟩
abbrev main_call252_v8 : Ref sig .tc := ⟨.hbm, 5435, rfl⟩
abbrev main_call252_c : Ref sig .tc := ⟨.hbm, 5436, rfl⟩
abbrev main_call252_v9 : Ref sig .tc := ⟨.hbm, 5437, rfl⟩
abbrev main_call252_v10 : Ref sig .tc := ⟨.hbm, 5438, rfl⟩
abbrev main_call252_v11 : Ref sig .tc := ⟨.hbm, 5439, rfl⟩
abbrev main_call252_c_0 : Ref sig .tc := ⟨.hbm, 5440, rfl⟩
abbrev main_call252_v12 : Ref sig .tc := ⟨.hbm, 5441, rfl⟩
abbrev main_call252_v13 : Ref sig .tc := ⟨.hbm, 5442, rfl⟩
abbrev main_v2491 : Ref sig .tc := ⟨.hbm, 5443, rfl⟩
abbrev main_c_441 : Ref sig .tc := ⟨.hbm, 5444, rfl⟩
abbrev main_call253_v0 : Ref sig .tc := ⟨.hbm, 5445, rfl⟩
abbrev main_call253_v1 : Ref sig .tc := ⟨.hbm, 5446, rfl⟩
abbrev main_call253_v2 : Ref sig .tc := ⟨.hbm, 5447, rfl⟩
abbrev main_call253_v3 : Ref sig .tc := ⟨.hbm, 5448, rfl⟩
abbrev main_call253_v4 : Ref sig .tc := ⟨.hbm, 5449, rfl⟩
abbrev main_call253_v5 : Ref sig .tc := ⟨.hbm, 5450, rfl⟩
abbrev main_call253_v6 : Ref sig .tc := ⟨.hbm, 5451, rfl⟩
abbrev main_call253_v7 : Ref sig .tc := ⟨.hbm, 5452, rfl⟩
abbrev main_call253_v8 : Ref sig .tc := ⟨.hbm, 5453, rfl⟩
abbrev main_call253_c : Ref sig .tc := ⟨.hbm, 5454, rfl⟩
abbrev main_call253_v9 : Ref sig .tc := ⟨.hbm, 5455, rfl⟩
abbrev main_call253_v10 : Ref sig .tc := ⟨.hbm, 5456, rfl⟩
abbrev main_call253_v11 : Ref sig .tc := ⟨.hbm, 5457, rfl⟩
abbrev main_call253_c_0 : Ref sig .tc := ⟨.hbm, 5458, rfl⟩
abbrev main_call253_v12 : Ref sig .tc := ⟨.hbm, 5459, rfl⟩
abbrev main_call253_v13 : Ref sig .tc := ⟨.hbm, 5460, rfl⟩
abbrev main_v2492 : Ref sig .tc := ⟨.hbm, 5461, rfl⟩
abbrev main_c_442 : Ref sig .tc := ⟨.hbm, 5462, rfl⟩
abbrev main_call254_v0 : Ref sig .tc := ⟨.hbm, 5463, rfl⟩
abbrev main_call254_c : Ref sig .tc := ⟨.hbm, 5464, rfl⟩
abbrev main_call254_v1 : Ref sig .tc := ⟨.hbm, 5465, rfl⟩
abbrev main_call254_c_0 : Ref sig .tc := ⟨.hbm, 5466, rfl⟩
abbrev main_call254_v2 : Ref sig .tc := ⟨.hbm, 5467, rfl⟩
abbrev main_call254_v3 : Ref sig .tc := ⟨.hbm, 5468, rfl⟩
abbrev main_call254_v4 : Ref sig .tc := ⟨.hbm, 5469, rfl⟩
abbrev main_call254_c_1 : Ref sig .tc := ⟨.hbm, 5470, rfl⟩
abbrev main_call254_v5 : Ref sig .tc := ⟨.hbm, 5471, rfl⟩
abbrev main_call254_v6 : Ref sig .tc := ⟨.hbm, 5472, rfl⟩
abbrev main_call254_c_2 : Ref sig .tc := ⟨.hbm, 5473, rfl⟩
abbrev main_call254_v7 : Ref sig .tc := ⟨.hbm, 5474, rfl⟩
abbrev main_call254_v8 : Ref sig .tc := ⟨.hbm, 5475, rfl⟩
abbrev main_call254_c_3 : Ref sig .tc := ⟨.hbm, 5476, rfl⟩
abbrev main_call254_v9 : Ref sig .tc := ⟨.hbm, 5477, rfl⟩
abbrev main_call254_v10 : Ref sig .tc := ⟨.hbm, 5478, rfl⟩
abbrev main_call254_v11 : Ref sig .tc := ⟨.hbm, 5479, rfl⟩
abbrev main_call254_v12 : Ref sig .tc := ⟨.hbm, 5480, rfl⟩
abbrev main_call254_v13 : Ref sig .tc := ⟨.hbm, 5481, rfl⟩
abbrev main_call254_v14 : Ref sig .tc := ⟨.hbm, 5482, rfl⟩
abbrev main_v2493 : Ref sig .tc := ⟨.hbm, 5483, rfl⟩
abbrev main_c_443 : Ref sig .tc := ⟨.hbm, 5484, rfl⟩
abbrev main_call255_v0 : Ref sig .tc := ⟨.hbm, 5485, rfl⟩
abbrev main_call255_c : Ref sig .tc := ⟨.hbm, 5486, rfl⟩
abbrev main_call255_v1 : Ref sig .tc := ⟨.hbm, 5487, rfl⟩
abbrev main_call255_c_0 : Ref sig .tc := ⟨.hbm, 5488, rfl⟩
abbrev main_call255_v2 : Ref sig .tc := ⟨.hbm, 5489, rfl⟩
abbrev main_call255_v3 : Ref sig .tc := ⟨.hbm, 5490, rfl⟩
abbrev main_call255_v4 : Ref sig .tc := ⟨.hbm, 5491, rfl⟩
abbrev main_call255_c_1 : Ref sig .tc := ⟨.hbm, 5492, rfl⟩
abbrev main_call255_v5 : Ref sig .tc := ⟨.hbm, 5493, rfl⟩
abbrev main_call255_v6 : Ref sig .tc := ⟨.hbm, 5494, rfl⟩
abbrev main_call255_c_2 : Ref sig .tc := ⟨.hbm, 5495, rfl⟩
abbrev main_call255_v7 : Ref sig .tc := ⟨.hbm, 5496, rfl⟩
abbrev main_call255_v8 : Ref sig .tc := ⟨.hbm, 5497, rfl⟩
abbrev main_call255_c_3 : Ref sig .tc := ⟨.hbm, 5498, rfl⟩
abbrev main_call255_v9 : Ref sig .tc := ⟨.hbm, 5499, rfl⟩
abbrev main_call255_v10 : Ref sig .tc := ⟨.hbm, 5500, rfl⟩
abbrev main_call255_v11 : Ref sig .tc := ⟨.hbm, 5501, rfl⟩
abbrev main_call255_v12 : Ref sig .tc := ⟨.hbm, 5502, rfl⟩
abbrev main_call255_v13 : Ref sig .tc := ⟨.hbm, 5503, rfl⟩
abbrev main_call255_v14 : Ref sig .tc := ⟨.hbm, 5504, rfl⟩
abbrev main_v2494 : Ref sig .tc := ⟨.hbm, 5505, rfl⟩
abbrev main_v2495 : Ref sig .tc := ⟨.hbm, 5506, rfl⟩
abbrev main_v2496 : Ref sig .tc := ⟨.hbm, 5507, rfl⟩
abbrev main_v2497 : Ref sig .tc := ⟨.hbm, 5508, rfl⟩
abbrev main_v2498 : Ref sig .tc := ⟨.hbm, 5509, rfl⟩
abbrev main_v2499 : Ref sig .tc := ⟨.hbm, 5510, rfl⟩
abbrev main_v2500 : Ref sig .tc := ⟨.hbm, 5511, rfl⟩
abbrev main_v2501 : Ref sig .tc := ⟨.hbm, 5512, rfl⟩
abbrev main_v2502 : Ref sig .tc := ⟨.hbm, 5513, rfl⟩
abbrev main_v2503 : Ref sig .tc := ⟨.hbm, 5514, rfl⟩
abbrev main_v2504 : Ref sig .tc := ⟨.hbm, 5515, rfl⟩
abbrev main_v2505 : Ref sig .tc := ⟨.hbm, 5516, rfl⟩
abbrev main_v2506 : Ref sig .tc := ⟨.hbm, 5517, rfl⟩
abbrev main_v2507 : Ref sig .tc := ⟨.hbm, 5518, rfl⟩
abbrev main_v2508 : Ref sig .tc := ⟨.hbm, 5519, rfl⟩
abbrev main_v2509 : Ref sig .tc := ⟨.hbm, 5520, rfl⟩
abbrev main_c_444 : Ref sig .tc := ⟨.hbm, 5521, rfl⟩
abbrev main_v2510 : Ref sig .tc := ⟨.hbm, 5522, rfl⟩
abbrev main_v2511 : Ref sig .tc := ⟨.hbm, 5523, rfl⟩
abbrev main_c_445 : Ref sig .tc := ⟨.hbm, 5524, rfl⟩
abbrev main_v2512 : Ref sig .tc := ⟨.hbm, 5525, rfl⟩
abbrev main_v2513 : Ref sig .tc := ⟨.hbm, 5526, rfl⟩
abbrev main_v2514 : Ref sig .tc := ⟨.hbm, 5527, rfl⟩
abbrev main_c_446 : Ref sig .tc := ⟨.hbm, 5528, rfl⟩
abbrev main_v2515 : Ref sig .tc := ⟨.hbm, 5529, rfl⟩
abbrev main_v2516 : Ref sig .tc := ⟨.hbm, 5530, rfl⟩
abbrev main_v2517 : Ref sig .tc := ⟨.hbm, 5531, rfl⟩
abbrev main_c_447 : Ref sig .tc := ⟨.hbm, 5532, rfl⟩
abbrev main_v2518 : Ref sig .tc := ⟨.hbm, 5533, rfl⟩
abbrev main_v2519 : Ref sig .tc := ⟨.hbm, 5534, rfl⟩
abbrev main_v2520 : Ref sig .tc := ⟨.hbm, 5535, rfl⟩
abbrev main_c_448 : Ref sig .tc := ⟨.hbm, 5536, rfl⟩
abbrev main_v2521 : Ref sig .tc := ⟨.hbm, 5537, rfl⟩
abbrev main_v2522 : Ref sig .tc := ⟨.hbm, 5538, rfl⟩
abbrev main_v2523 : Ref sig .tc := ⟨.hbm, 5539, rfl⟩
abbrev main_c_449 : Ref sig .tc := ⟨.hbm, 5540, rfl⟩
abbrev main_v2524 : Ref sig .tc := ⟨.hbm, 5541, rfl⟩
abbrev main_v2525 : Ref sig .tc := ⟨.hbm, 5542, rfl⟩
abbrev main_v2526 : Ref sig .tc := ⟨.hbm, 5543, rfl⟩
abbrev main_c_450 : Ref sig .tc := ⟨.hbm, 5544, rfl⟩
abbrev main_c_451 : Ref sig .tc := ⟨.hbm, 5545, rfl⟩
abbrev main_call256_v0 : Ref sig .tc := ⟨.hbm, 5546, rfl⟩
abbrev main_call256_v1 : Ref sig .tc := ⟨.hbm, 5547, rfl⟩
abbrev main_call256_v2 : Ref sig .tc := ⟨.hbm, 5548, rfl⟩
abbrev main_call256_v3 : Ref sig .tc := ⟨.hbm, 5549, rfl⟩
abbrev main_call256_v4 : Ref sig .tc := ⟨.hbm, 5550, rfl⟩
abbrev main_v2527 : Ref sig .tc := ⟨.hbm, 5551, rfl⟩
abbrev main_c_452 : Ref sig .tc := ⟨.hbm, 5552, rfl⟩
abbrev main_v2528 : Ref sig .tc := ⟨.hbm, 5553, rfl⟩
abbrev main_v2529 : Ref sig .tc := ⟨.hbm, 5554, rfl⟩
abbrev main_c_453 : Ref sig .tc := ⟨.hbm, 5555, rfl⟩
abbrev main_c_454 : Ref sig .tc := ⟨.hbm, 5556, rfl⟩
abbrev main_call257_v0 : Ref sig .tc := ⟨.hbm, 5557, rfl⟩
abbrev main_call257_v1 : Ref sig .tc := ⟨.hbm, 5558, rfl⟩
abbrev main_call257_v2 : Ref sig .tc := ⟨.hbm, 5559, rfl⟩
abbrev main_call257_v3 : Ref sig .tc := ⟨.hbm, 5560, rfl⟩
abbrev main_call257_v4 : Ref sig .tc := ⟨.hbm, 5561, rfl⟩
abbrev main_v2530 : Ref sig .tc := ⟨.hbm, 5562, rfl⟩
abbrev main_v2531 : Ref sig .tc := ⟨.hbm, 5563, rfl⟩
abbrev main_c_455 : Ref sig .tc := ⟨.hbm, 5564, rfl⟩
abbrev main_v2532 : Ref sig .tc := ⟨.hbm, 5565, rfl⟩
abbrev main_v2533 : Ref sig .tc := ⟨.hbm, 5566, rfl⟩
abbrev main_c_456 : Ref sig .tc := ⟨.hbm, 5567, rfl⟩
abbrev main_c_457 : Ref sig .tc := ⟨.hbm, 5568, rfl⟩
abbrev main_call258_v0 : Ref sig .tc := ⟨.hbm, 5569, rfl⟩
abbrev main_call258_v1 : Ref sig .tc := ⟨.hbm, 5570, rfl⟩
abbrev main_call258_v2 : Ref sig .tc := ⟨.hbm, 5571, rfl⟩
abbrev main_call258_v3 : Ref sig .tc := ⟨.hbm, 5572, rfl⟩
abbrev main_call258_v4 : Ref sig .tc := ⟨.hbm, 5573, rfl⟩
abbrev main_v2534 : Ref sig .tc := ⟨.hbm, 5574, rfl⟩
abbrev main_v2535 : Ref sig .tc := ⟨.hbm, 5575, rfl⟩
abbrev main_v2536 : Ref sig .tc := ⟨.hbm, 5576, rfl⟩
abbrev main_call259_c : Ref sig .tc := ⟨.hbm, 5577, rfl⟩
abbrev main_call259_v0 : Ref sig .tc := ⟨.hbm, 5578, rfl⟩
abbrev main_call259_v1 : Ref sig .tc := ⟨.hbm, 5579, rfl⟩
abbrev main_call259_c_0 : Ref sig .tc := ⟨.hbm, 5580, rfl⟩
abbrev main_call259_v2 : Ref sig .tc := ⟨.hbm, 5581, rfl⟩
abbrev main_call259_v3 : Ref sig .tc := ⟨.hbm, 5582, rfl⟩
abbrev main_call259_v4 : Ref sig .tc := ⟨.hbm, 5583, rfl⟩
abbrev main_call259_v5 : Ref sig .tc := ⟨.hbm, 5584, rfl⟩
abbrev main_call259_c_1 : Ref sig .tc := ⟨.hbm, 5585, rfl⟩
abbrev main_call259_c_2 : Ref sig .tc := ⟨.hbm, 5586, rfl⟩
abbrev main_call259_v6 : Ref sig .tc := ⟨.hbm, 5587, rfl⟩
abbrev main_call259_v7 : Ref sig .tc := ⟨.hbm, 5588, rfl⟩
abbrev main_call259_v8 : Ref sig .tc := ⟨.hbm, 5589, rfl⟩
abbrev main_call259_v9 : Ref sig .tc := ⟨.hbm, 5590, rfl⟩
abbrev main_call259_v10 : Ref sig .tc := ⟨.hbm, 5591, rfl⟩
abbrev main_call259_v11 : Ref sig .tc := ⟨.hbm, 5592, rfl⟩
abbrev main_call259_c_3 : Ref sig .tc := ⟨.hbm, 5593, rfl⟩
abbrev main_call259_v12 : Ref sig .tc := ⟨.hbm, 5594, rfl⟩
abbrev main_call259_v13 : Ref sig .tc := ⟨.hbm, 5595, rfl⟩
abbrev main_call259_v14 : Ref sig .tc := ⟨.hbm, 5596, rfl⟩
abbrev main_call259_c_4 : Ref sig .tc := ⟨.hbm, 5597, rfl⟩
abbrev main_call259_v15 : Ref sig .tc := ⟨.hbm, 5598, rfl⟩
abbrev main_v2537 : Ref sig .tc := ⟨.hbm, 5599, rfl⟩
abbrev main_v2538 : Ref sig .tc := ⟨.hbm, 5600, rfl⟩
abbrev main_v2539 : Ref sig .tc := ⟨.hbm, 5601, rfl⟩

abbrev nD : Nat := 1
abbrev τ : Topo := Topo.v7x

variable {F : FTy → Type} [FloatOps F]
-- ==== Proof.Plain.lean ====
/-
  What a run needs to know of the host operations after a pallas_call: each touches tensor values only, determines what it writes,
  and writes none of the first buffers. One lemma per builder of operations.
-/
module

public import Idealize.ShloMosaic.Lib.StableHlo.Run
public import Idealize.ShloMosaic.Lib.StableHlo.RunHlo

@[expose] public section

noncomputable section

namespace Cert.Proof.Plain

open Idealize.ShloMosaic Idealize.ShloMosaic.StableHlo Idealize.SL.Sem

variable {τ : Topo} {sig : RefSig} {Val : EltTy → Type}

/-- The operation touches tensor values only, determines what it writes, and writes no buffer numbered below 8. -/
structure Plain (op : HloOp τ sig Val) : Prop where
  bufs : op.bufs ⊆ tcRefs τ sig
  fresh : op.fresh = ∅
  keeps : ∀ r : Ref sig .tc, r.idx.val < 8 → Proc.devRef .tc r ∉ op.writes

/-- A buffer numbered below 8 is not the buffer `y`, numbered 8 or more. -/
theorem not_written {y : Ref sig .tc} (h : Nat.ble 8 y.idx.val = true) (r : Ref sig .tc) (hr : r.idx.val < 8) :
    Proc.devRef (τ := τ) .tc r ∉ ({Proc.devRef .tc y} : Finset (DevRef τ sig)) := by
  rw [Finset.mem_singleton]
  refine devRef_ne_of_ne fun e => ?_
  have := Nat.le_of_ble_eq_true h
  rw [e] at hr
  omega

/-- A constant. -/
theorem Plain.nullary {y : Ref sig .tc} {v : y.ty.Contents Val} {hy} (h : Nat.ble 8 y.idx.val = true) :
    Plain (StableHlo.nullary (τ := τ) y v hy) :=
  ⟨nullary_bufs_sub .., rfl, not_written h⟩

/-- A function of one value. -/
theorem Plain.unary {x y : Ref sig .tc} {f : x.ty.Contents Val → y.ty.Contents Val} {hx hy} (h : Nat.ble 8 y.idx.val = true) :
    Plain (StableHlo.unary (τ := τ) x y f hx hy) :=
  ⟨unary_bufs_sub .., rfl, not_written h⟩

/-- A function of two values. -/
theorem Plain.binary {a b y : Ref sig .tc} {f : a.ty.Contents Val → b.ty.Contents Val → y.ty.Contents Val} {ha hb hy}
    (h : Nat.ble 8 y.idx.val = true) : Plain (StableHlo.binary (τ := τ) a b y f ha hb hy) :=
  ⟨binary_bufs_sub .., rfl, not_written h⟩

/-- A function of three values. -/
theorem Plain.ternary {a b c y : Ref sig .tc} {f : a.ty.Contents Val → b.ty.Contents Val → c.ty.Contents Val → y.ty.Contents Val}
    {ha hb hc hy} (h : Nat.ble 8 y.idx.val = true) : Plain (StableHlo.ternary (τ := τ) a b c y f ha hb hc hy) :=
  ⟨ternary_bufs_sub .., rfl, not_written h⟩

/-- A function of four values. -/
theorem Plain.quaternary {a b c d y : Ref sig .tc}
    {f : a.ty.Contents Val → b.ty.Contents Val → c.ty.Contents Val → d.ty.Contents Val → y.ty.Contents Val} {ha hb hc hd hy}
    (h : Nat.ble 8 y.idx.val = true) : Plain (StableHlo.quaternary (τ := τ) a b c d y f ha hb hc hd hy) :=
  ⟨quaternary_bufs_sub .., rfl, not_written h⟩

/-- A function of a family of values. -/
theorem Plain.nary {n : Nat} {xs : Fin n → Ref sig .tc} {y : Ref sig .tc} {f : ((k : Fin n) → (xs k).ty.Contents Val) → y.ty.Contents Val}
    {hxs hy} (h : Nat.ble 8 y.idx.val = true) : Plain (StableHlo.nary (τ := τ) xs y f hxs hy) :=
  ⟨nary_bufs_sub .., rfl, not_written h⟩

/-- A value read in row-major order at another shape. -/
theorem Plain.reshape {x y : Ref sig .tc} {he hm hx hy} (h : Nat.ble 8 y.idx.val = true) :
    Plain (StableHlo.reshape (τ := τ) (Val := Val) x y he hm hx hy) :=
  ⟨reshape_bufs_sub .., rfl, not_written h⟩

/-- Every operation of every list is plain. -/
def AllPlain : List (List (HloOp τ sig Val)) → Prop
  | [] => True
  | [] :: ls => AllPlain ls
  | (op :: l) :: ls => Plain op ∧ AllPlain (l :: ls)
termination_by ls => (ls.length, (ls.headD []).length)

/-- No lists. -/
theorem AllPlain.done : AllPlain ([] : List (List (HloOp τ sig Val))) := by
  unfold AllPlain; trivial

/-- An empty list before others. -/
theorem AllPlain.nil {ls : List (List (HloOp τ sig Val))} (h : AllPlain ls) : AllPlain ([] :: ls) := by
  unfold AllPlain; exact h

/-- A plain operation before others. -/
theorem AllPlain.cons {op : HloOp τ sig Val} {l : List (HloOp τ sig Val)} {ls : List (List (HloOp τ sig Val))} (h : Plain op)
    (hl : AllPlain (l :: ls)) : AllPlain ((op :: l) :: ls) := by
  unfold AllPlain; exact ⟨h, hl⟩

/-- Each operation of lists of plain operations is plain. -/
theorem AllPlain.mem : ∀ {ls : List (List (HloOp τ sig Val))}, AllPlain ls → ∀ l ∈ ls, ∀ op ∈ l, Plain op
  | [], _, _, hl, _, _ => absurd hl List.not_mem_nil
  | [] :: ls, h, l, hl, op, hop => by
    unfold AllPlain at h
    rcases List.mem_cons.mp hl with rfl | hl
    · exact absurd hop List.not_mem_nil
    · exact AllPlain.mem h l hl op hop
  | (o :: l') :: ls, h, l, hl, op, hop => by
    unfold AllPlain at h
    rcases List.mem_cons.mp hl with rfl | hl
    · rcases List.mem_cons.mp hop with rfl | hop
      · exact h.1
      · exact AllPlain.mem h.2 l' (List.mem_cons_self ..) op hop
    · exact AllPlain.mem h.2 l (List.mem_cons_of_mem _ hl) op hop
termination_by ls => (ls.length, (ls.headD []).length)

end Cert.Proof.Plain

end
-- ==== Proof.Twin.lean ====
/-
  Two straight lines of host operations over two different sets of buffers, read against each other.

  The kernel's host code after its `pallas_call` and the reference's code after its feature array are the
  same operations over differently numbered buffers. `Agree n V V'` says that the contents `V` of the one
  program's buffers and `V'` of the other's hold the same values at every pair of buffers that stand for
  one value, as far as the values numbered below `n` go. `Step n op op'` says that running `op` on the one
  side and `op'` on the other carries `Agree n` to `Agree (n + 1)`; there is one lemma per builder of
  operations. `Sim n N ls ps` says it of a whole rest of the two programs: the lists `ls` of operations on
  the one side, the programs `ps` run one after another on the other.
-/
module

public import Idealize.ShloMosaic.Lib.StableHlo.Run
public import Idealize.ShloMosaic.Lib.StableHlo.RunHlo

@[expose] public section

noncomputable section

namespace Cert.Proof.Twin

open Idealize.ShloMosaic Idealize.ShloMosaic.StableHlo Idealize.SL.Sem

/-- The value numbered `i` on the first side, below `n`, stands for the one numbered `j` on the second. From 22 on
    the two sides number alike. Below that the values still read later are: the second argument (1 on both sides),
    the three constants (2, 3, 4 and 3, 4, 5), the feature array (9 and 17), its pixels as rows (12 and 20) and
    the pixels' superpixels in a line (21 on both sides). -/
def paired (n i j : Nat) : Bool :=
  Nat.blt i n && cond (Nat.ble 22 i) (Nat.beq j i)
    ([(1, 1), (2, 3), (3, 4), (4, 5), (9, 17), (12, 20), (21, 21)].contains (i, j))

section

variable {τ τ' : Topo} {sig sig' : RefSig} {Val : EltTy → Type} {nD : Nat} {Λ : Labels}

/-- The buffers `a` and `b`, both of shape `S` and element type `e`, stand for one value, numbered below `n`. -/
structure Twin (n : Nat) (a : Ref sig .tc) (b : Ref sig' .tc) (S : Shape) (e : EltTy) : Prop where
  space : a.space = .hbm
  space' : b.space = .hbm
  idx : paired n a.idx.val b.idx.val = true
  ty : a.ty = ⟨S, e⟩
  ty' : b.ty = ⟨S, e⟩

/-- The buffers `y` and `y'`, both of shape `S` and element type `e`, stand for the value numbered `n`. -/
structure Next (n : Nat) (y : Ref sig .tc) (y' : Ref sig' .tc) (S : Shape) (e : EltTy) : Prop where
  space : y.space = .hbm
  space' : y'.space = .hbm
  idx : Nat.beq y.idx.val n = true
  idx' : Nat.beq y'.idx.val n = true
  low : Nat.ble 22 n = true
  ty : y.ty = ⟨S, e⟩
  ty' : y'.ty = ⟨S, e⟩

/-- The two sides hold the same values at every pair of buffers standing for one value numbered below `n`. -/
def Agree (n : Nat) (V : Valuation τ sig Val) (V' : Valuation τ' sig' Val) : Prop :=
  ∀ (a : Ref sig .tc) (b : Ref sig' .tc) (S : Shape) (e : EltTy), Twin n a b S e → HEq (V (Proc.devRef .tc a)) (V' (Proc.devRef .tc b))

/-- A reference to a tensor value is decided by its space and its number. -/
theorem ref_ext {a b : Ref sig .tc} (hs : a.space = b.space) (hi : a.idx.val = b.idx.val) : a = b := by
  obtain ⟨sa, ia, ha⟩ := a
  obtain ⟨sb, ib, hb⟩ := b
  dsimp only at hs
  subst hs
  obtain rfl : ia = ib := Fin.ext hi
  rfl

/-- A value numbered below 22 that stands for one on the second side is below 22 there too, and one from 22 on
    has the same number there. -/
theorem paired_cases {n i j : Nat} (h : paired n i j = true) : i < n ∧ (i < 22 ∧ j < 22 ∨ 22 ≤ i ∧ j = i) := by
  simp only [paired, Bool.and_eq_true] at h
  refine ⟨Nat.le_of_ble_eq_true h.1, ?_⟩
  cases h22 : Nat.ble 22 i with
  | true =>
    rw [h22] at h
    exact .inr ⟨Nat.le_of_ble_eq_true h22, Nat.eq_of_beq_eq_true h.2⟩
  | false =>
    rw [h22] at h
    have hm : (i, j) ∈ [(1, 1), (2, 3), (3, 4), (4, 5), (9, 17), (12, 20), (21, 21)] := List.contains_iff_mem.mp h.2
    simp only [List.mem_cons, Prod.mk.injEq, List.not_mem_nil, or_false] at hm
    left
    omega

/-- Pairs of values below `n + 1` that are not the value `n` are pairs below `n`. -/
theorem paired_lower {n i j : Nat} (h : paired (n + 1) i j = true) (hi : i ≠ n) : paired n i j = true := by
  have := (paired_cases h).1
  simp only [paired, Bool.and_eq_true] at h ⊢
  exact ⟨Nat.ble_eq_true_of_le (by omega : i + 1 ≤ n), h.2⟩

/-- Contents that agree below `n` agree below `n + 1` once the value numbered `n` is written, the same on both
    sides, and nothing else has changed. -/
theorem agree_succ {n : Nat} {y : Ref sig .tc} {y' : Ref sig' .tc} {S : Shape} {e : EltTy} (hn : Next n y y' S e)
    {V W : Valuation τ sig Val} {V' W' : Valuation τ' sig' Val} (h : Agree n V V')
    (hy : HEq (W (Proc.devRef .tc y)) (W' (Proc.devRef .tc y')))
    (hne : ∀ r : Ref sig .tc, r ≠ y → W (Proc.devRef .tc r) = V (Proc.devRef .tc r))
    (hne' : ∀ r : Ref sig' .tc, r ≠ y' → W' (Proc.devRef .tc r) = V' (Proc.devRef .tc r)) :
    Agree (n + 1) W W' := by
  intro a b T f hab
  have hp := paired_cases hab.idx
  have hy1 := Nat.eq_of_beq_eq_true hn.idx
  have hy2 := Nat.eq_of_beq_eq_true hn.idx'
  have hl := Nat.le_of_ble_eq_true hn.low
  by_cases hlast : a.idx.val = n
  · obtain rfl : a = y := ref_ext (hab.space.trans hn.space.symm) (hlast.trans hy1.symm)
    obtain rfl : b = y' := ref_ext (hab.space'.trans hn.space'.symm) (by omega)
    exact hy
  · have ha' : a ≠ y := fun e => hlast (by rw [e]; exact hy1)
    have hb' : b ≠ y' := by
      intro e
      rw [e] at hp
      omega
    rw [hne a ha', hne' b hb']
    exact h a b T f ⟨hab.space, hab.space', paired_lower hab.idx hlast, hab.ty, hab.ty'⟩

/-- One operation on each side: the second touches tensor values only, determines what it writes, writes none of
    the values numbered below 22, and together they carry agreement below `n` to agreement below `n + 1`. -/
structure Step (n : Nat) (op : HloOp τ sig Val) (op' : HloOp τ' sig' Val) : Prop where
  bufs : op'.bufs ⊆ tcRefs τ' sig'
  fresh : op'.fresh = ∅
  keeps : ∀ r : Ref sig' .tc, r.idx.val < 22 → Proc.devRef .tc r ∉ op'.writes
  agree : ∀ (V : Valuation τ sig Val) (V' : Valuation τ' sig' Val), Agree n V V' → Agree (n + 1) (op.result V) (op'.result V')

/-- A value numbered below 22 is not the buffer the second side writes next. -/
theorem Next.keeps {n : Nat} {y : Ref sig .tc} {y' : Ref sig' .tc} {S : Shape} {e : EltTy} (hn : Next n y y' S e) (r : Ref sig' .tc)
    (hr : r.idx.val < 22) : Proc.devRef (τ := τ') .tc r ∉ ({Proc.devRef .tc y'} : Finset (DevRef τ' sig')) := by
  rw [Finset.mem_singleton]
  refine devRef_ne_of_ne fun e => ?_
  have := Nat.eq_of_beq_eq_true hn.idx'
  have := Nat.le_of_ble_eq_true hn.low
  rw [e] at hr
  omega

/-- Equal functions at equal arguments, the types told equal rather than the same. -/
theorem heq_app {A A' B B' : BufTy} (hA : A = A') (hB : B = B') {f : A.Contents Val → B.Contents Val}
    {f' : A'.Contents Val → B'.Contents Val} (hf : HEq f f') {u : A.Contents Val} {u' : A'.Contents Val} (hu : HEq u u') :
    HEq (f u) (f' u') := by
  subst hA hB
  rw [eq_of_heq hf, eq_of_heq hu]

/-- Equal functions of two arguments at equal arguments. -/
theorem heq_app₂ {A A' B B' C C' : BufTy} (hA : A = A') (hB : B = B') (hC : C = C')
    {f : A.Contents Val → B.Contents Val → C.Contents Val} {f' : A'.Contents Val → B'.Contents Val → C'.Contents Val}
    (hf : HEq f f') {u : A.Contents Val} {u' : A'.Contents Val} (hu : HEq u u') {v : B.Contents Val} {v' : B'.Contents Val}
    (hv : HEq v v') : HEq (f u v) (f' u' v') := by
  subst hA hB hC
  rw [eq_of_heq hf, eq_of_heq hu, eq_of_heq hv]

/-- Equal functions of three arguments at equal arguments. -/
theorem heq_app₃ {A A' B B' C C' D D' : BufTy} (hA : A = A') (hB : B = B') (hC : C = C') (hD : D = D')
    {f : A.Contents Val → B.Contents Val → C.Contents Val → D.Contents Val}
    {f' : A'.Contents Val → B'.Contents Val → C'.Contents Val → D'.Contents Val}
    (hf : HEq f f') {u : A.Contents Val} {u' : A'.Contents Val} (hu : HEq u u') {v : B.Contents Val} {v' : B'.Contents Val}
    (hv : HEq v v') {w : C.Contents Val} {w' : C'.Contents Val} (hw : HEq w w') : HEq (f u v w) (f' u' v' w') := by
  subst hA hB hC hD
  rw [eq_of_heq hf, eq_of_heq hu, eq_of_heq hv, eq_of_heq hw]

/-- Equal functions of four arguments at equal arguments. -/
theorem heq_app₄ {A A' B B' C C' D D' E E' : BufTy} (hA : A = A') (hB : B = B') (hC : C = C') (hD : D = D') (hE : E = E')
    {f : A.Contents Val → B.Contents Val → C.Contents Val → D.Contents Val → E.Contents Val}
    {f' : A'.Contents Val → B'.Contents Val → C'.Contents Val → D'.Contents Val → E'.Contents Val}
    (hf : HEq f f') {u : A.Contents Val} {u' : A'.Contents Val} (hu : HEq u u') {v : B.Contents Val} {v' : B'.Contents Val}
    (hv : HEq v v') {w : C.Contents Val} {w' : C'.Contents Val} (hw : HEq w w') {z : D.Contents Val} {z' : D'.Contents Val}
    (hz : HEq z z') : HEq (f u v w z) (f' u' v' w' z') := by
  subst hA hB hC hD hE
  rw [eq_of_heq hf, eq_of_heq hu, eq_of_heq hv, eq_of_heq hw, eq_of_heq hz]

/-- Equal contents read in row-major order at equal shapes. -/
theorem heq_reshape {A A' B B' : BufTy} (hA : A = A') (hB : B = B') (he : A.elt = B.elt) (he' : A'.elt = B'.elt)
    (hn : A.shape.ShapeCasts B.shape) (hn' : A'.shape.ShapeCasts B'.shape) {u : A.Contents Val} {u' : A'.Contents Val}
    (hu : HEq u u') :
    HEq (fun i => he ▸ shapeCast B.shape u hn i : B.Contents Val) (fun i => he' ▸ shapeCast B'.shape u' hn' i : B'.Contents Val) := by
  subst hA hB
  rw [eq_of_heq hu]

variable {n : Nat} {A B C D E : Shape} {eA eB eC eD eE : EltTy}

/-- The two sides write one constant. -/
theorem Step.nullary {y : Ref sig .tc} {y' : Ref sig' .tc} {v : y.ty.Contents Val} {v' : y'.ty.Contents Val} {hy hy'}
    {w : (⟨A, eA⟩ : BufTy).Contents Val} (hn : Next n y y' A eA) (hv : HEq v w) (hv' : HEq v' w) :
    Step n (StableHlo.nullary (τ := τ) y v hy) (StableHlo.nullary (τ := τ') y' v' hy') where
  bufs := nullary_bufs_sub ..
  fresh := rfl
  keeps r hr := hn.keeps r hr
  agree V V' h := agree_succ hn h (by rw [nullary_result, nullary_result]; exact hv.trans hv'.symm)
    (fun r hr => nullary_result_ne _ _ _ _ hr) (fun r hr => nullary_result_ne _ _ _ _ hr)

/-- The two sides apply one function to one value. -/
theorem Step.unary {x y : Ref sig .tc} {x' y' : Ref sig' .tc} {f : x.ty.Contents Val → y.ty.Contents Val}
    {f' : x'.ty.Contents Val → y'.ty.Contents Val} {hx hy hx' hy'}
    {g : (⟨A, eA⟩ : BufTy).Contents Val → (⟨B, eB⟩ : BufTy).Contents Val}
    (tx : Twin n x x' A eA) (hn : Next n y y' B eB) (hf : HEq f g) (hf' : HEq f' g) :
    Step n (StableHlo.unary (τ := τ) x y f hx hy) (StableHlo.unary (τ := τ') x' y' f' hx' hy') where
  bufs := unary_bufs_sub ..
  fresh := rfl
  keeps r hr := hn.keeps r hr
  agree V V' h := agree_succ hn h
    (by
      rw [unary_result, unary_result]
      exact heq_app (tx.ty.trans tx.ty'.symm) (hn.ty.trans hn.ty'.symm) (hf.trans hf'.symm) (h _ _ _ _ tx))
    (fun r hr => unary_result_ne _ _ _ _ _ _ hr) (fun r hr => unary_result_ne _ _ _ _ _ _ hr)

/-- The two sides apply one function to two values. -/
theorem Step.binary {a b y : Ref sig .tc} {a' b' y' : Ref sig' .tc}
    {f : a.ty.Contents Val → b.ty.Contents Val → y.ty.Contents Val}
    {f' : a'.ty.Contents Val → b'.ty.Contents Val → y'.ty.Contents Val} {ha hb hy ha' hb' hy'}
    {g : (⟨A, eA⟩ : BufTy).Contents Val → (⟨B, eB⟩ : BufTy).Contents Val → (⟨C, eC⟩ : BufTy).Contents Val}
    (ta : Twin n a a' A eA) (tb : Twin n b b' B eB) (hn : Next n y y' C eC) (hf : HEq f g) (hf' : HEq f' g) :
    Step n (StableHlo.binary (τ := τ) a b y f ha hb hy) (StableHlo.binary (τ := τ') a' b' y' f' ha' hb' hy') where
  bufs := binary_bufs_sub ..
  fresh := rfl
  keeps r hr := hn.keeps r hr
  agree V V' h := agree_succ hn h
    (by
      rw [binary_result, binary_result]
      exact heq_app₂ (ta.ty.trans ta.ty'.symm) (tb.ty.trans tb.ty'.symm) (hn.ty.trans hn.ty'.symm) (hf.trans hf'.symm)
        (h _ _ _ _ ta) (h _ _ _ _ tb))
    (fun r hr => binary_result_ne _ _ _ _ _ _ _ _ hr) (fun r hr => binary_result_ne _ _ _ _ _ _ _ _ hr)

/-- The two sides apply one function to three values. -/
theorem Step.ternary {a b c y : Ref sig .tc} {a' b' c' y' : Ref sig' .tc}
    {f : a.ty.Contents Val → b.ty.Contents Val → c.ty.Contents Val → y.ty.Contents Val}
    {f' : a'.ty.Contents Val → b'.ty.Contents Val → c'.ty.Contents Val → y'.ty.Contents Val} {ha hb hc hy ha' hb' hc' hy'}
    {g : (⟨A, eA⟩ : BufTy).Contents Val → (⟨B, eB⟩ : BufTy).Contents Val → (⟨C, eC⟩ : BufTy).Contents Val → (⟨D, eD⟩ : BufTy).Contents Val}
    (ta : Twin n a a' A eA) (tb : Twin n b b' B eB) (tc : Twin n c c' C eC) (hn : Next n y y' D eD)
    (hf : HEq f g) (hf' : HEq f' g) :
    Step n (StableHlo.ternary (τ := τ) a b c y f ha hb hc hy) (StableHlo.ternary (τ := τ') a' b' c' y' f' ha' hb' hc' hy') where
  bufs := ternary_bufs_sub ..
  fresh := rfl
  keeps r hr := hn.keeps r hr
  agree V V' h := agree_succ hn h
    (by
      rw [ternary_result, ternary_result]
      exact heq_app₃ (ta.ty.trans ta.ty'.symm) (tb.ty.trans tb.ty'.symm) (tc.ty.trans tc.ty'.symm) (hn.ty.trans hn.ty'.symm)
        (hf.trans hf'.symm) (h _ _ _ _ ta) (h _ _ _ _ tb) (h _ _ _ _ tc))
    (fun r hr => ternary_result_ne _ _ _ _ _ _ _ _ _ _ hr) (fun r hr => ternary_result_ne _ _ _ _ _ _ _ _ _ _ hr)

/-- The two sides apply one function to four values. -/
theorem Step.quaternary {a b c d y : Ref sig .tc} {a' b' c' d' y' : Ref sig' .tc}
    {f : a.ty.Contents Val → b.ty.Contents Val → c.ty.Contents Val → d.ty.Contents Val → y.ty.Contents Val}
    {f' : a'.ty.Contents Val → b'.ty.Contents Val → c'.ty.Contents Val → d'.ty.Contents Val → y'.ty.Contents Val}
    {ha hb hc hd hy ha' hb' hc' hd' hy'}
    {g : (⟨A, eA⟩ : BufTy).Contents Val → (⟨B, eB⟩ : BufTy).Contents Val → (⟨C, eC⟩ : BufTy).Contents Val → (⟨D, eD⟩ : BufTy).Contents Val →
      (⟨E, eE⟩ : BufTy).Contents Val}
    (ta : Twin n a a' A eA) (tb : Twin n b b' B eB) (tc : Twin n c c' C eC) (td : Twin n d d' D eD) (hn : Next n y y' E eE)
    (hf : HEq f g) (hf' : HEq f' g) :
    Step n (StableHlo.quaternary (τ := τ) a b c d y f ha hb hc hd hy)
      (StableHlo.quaternary (τ := τ') a' b' c' d' y' f' ha' hb' hc' hd' hy') where
  bufs := quaternary_bufs_sub ..
  fresh := rfl
  keeps r hr := hn.keeps r hr
  agree V V' h := agree_succ hn h
    (by
      rw [quaternary_result, quaternary_result]
      exact heq_app₄ (ta.ty.trans ta.ty'.symm) (tb.ty.trans tb.ty'.symm) (tc.ty.trans tc.ty'.symm) (td.ty.trans td.ty'.symm)
        (hn.ty.trans hn.ty'.symm) (hf.trans hf'.symm) (h _ _ _ _ ta) (h _ _ _ _ tb) (h _ _ _ _ tc) (h _ _ _ _ td))
    (fun r hr => quaternary_result_ne (h := hr) ..) (fun r hr => quaternary_result_ne (h := hr) ..)

/-- Contents of a buffer known to have shape `A` and element type `eA`, as such. -/
def typed {x : Ref sig .tc} (h : x.ty = ⟨A, eA⟩) (u : x.ty.Contents Val) : (⟨A, eA⟩ : BufTy).Contents Val :=
  cast (congrArg (BufTy.Contents Val) h) u

/-- Contents of a buffer, read at its shape and element type, are the same contents. -/
theorem typed_heq {x : Ref sig .tc} (h : x.ty = ⟨A, eA⟩) (u : x.ty.Contents Val) : HEq (typed h u) u :=
  cast_heq _ _

/-- The pieces of one shape that a concatenation joins. -/
def pieces {m : Nat} (A : Shape) (v : Fin m → (⟨A, eA⟩ : BufTy).Contents Val) : List ((s : Shape) × (s.Idx → Val eA)) :=
  List.ofFn fun k => ⟨A, v k⟩

/-- The two sides join values of one shape along their second axis. -/
theorem Step.concat {m : Nat} {xs : Fin m → Ref sig .tc} {xs' : Fin m → Ref sig' .tc} {y : Ref sig .tc} {y' : Ref sig' .tc}
    {f : ((k : Fin m) → (xs k).ty.Contents Val) → y.ty.Contents Val}
    {f' : ((k : Fin m) → (xs' k).ty.Contents Val) → y'.ty.Contents Val} {hxs hy hxs' hy'}
    (tx : ∀ k, Twin n (xs k) (xs' k) A eA) (hn : Next n y y' B eA) (ha : 1 < B.rank)
    (hf : ∀ u, ∃ h, HEq (f u) (concatenate B ⟨1, ha⟩ (pieces A fun k => typed (tx k).ty (u k)) h))
    (hf' : ∀ u, ∃ h, HEq (f' u) (concatenate B ⟨1, ha⟩ (pieces A fun k => typed (tx k).ty' (u k)) h)) :
    Step n (StableHlo.nary (τ := τ) xs y f hxs hy) (StableHlo.nary (τ := τ') xs' y' f' hxs' hy') where
  bufs := nary_bufs_sub ..
  fresh := rfl
  keeps r hr := hn.keeps r hr
  agree V V' h := agree_succ hn h
    (by
      rw [nary_result, nary_result]
      obtain ⟨h₁, e₁⟩ := hf fun k => V (Proc.devRef .tc (xs k))
      obtain ⟨h₂, e₂⟩ := hf' fun k => V' (Proc.devRef .tc (xs' k))
      refine e₁.trans (HEq.trans ?_ e₂.symm)
      have e : (fun k => typed (tx k).ty (V (Proc.devRef .tc (xs k)))) = fun k => typed (tx k).ty' (V' (Proc.devRef .tc (xs' k))) :=
        funext fun k => eq_of_heq ((typed_heq ..).trans ((h _ _ _ _ (tx k)).trans (typed_heq ..).symm))
      revert h₁
      rw [e]
      exact fun _ _ => HEq.rfl)
    (fun r hr => nary_result_ne (h := hr) ..) (fun r hr => nary_result_ne (h := hr) ..)

/-- The two sides read one value in row-major order at one shape. -/
theorem Step.reshape {x y : Ref sig .tc} {x' y' : Ref sig' .tc} {he hm hx hy he' hm' hx' hy'}
    (tx : Twin n x x' A eA) (hn : Next n y y' B eB) :
    Step n (StableHlo.reshape (τ := τ) (Val := Val) x y he hm hx hy) (StableHlo.reshape (τ := τ') x' y' he' hm' hx' hy') where
  bufs := reshape_bufs_sub ..
  fresh := rfl
  keeps r hr := hn.keeps r hr
  agree V V' h := agree_succ hn h
    (by
      rw [reshape_result, reshape_result]
      exact heq_reshape (tx.ty.trans tx.ty'.symm) (hn.ty.trans hn.ty'.symm) he he' hm hm' (h _ _ _ _ tx))
    (fun r hr => reshape_result_ne (h := hr) ..) (fun r hr => reshape_result_ne (h := hr) ..)

/-- Programs run one after another. -/
def run : List (Prog (TpuEff nD τ' sig' Val Λ .tc) PUnit) → Prog (TpuEff nD τ' sig' Val Λ .tc) PUnit
  | [] => pure ⟨⟩
  | p :: ps => p >>= fun _ => run ps

/-- The programs `ps`, run one after another, are a straight line of host operations, none of which writes a value
    numbered below 22, and that line on the one side and the lists `ls` on the other carry contents that agree below
    `n` to contents that agree below `N`. -/
def Sim (n N : Nat) (ls : List (List (HloOp τ sig Val))) (ps : List (Prog (TpuEff nD τ' sig' Val Λ .tc) PUnit)) : Prop :=
  ∃ ops : List (HloOp τ' sig' Val), IsSeq (run ps) ops
    ∧ (∀ op ∈ ops, op.bufs ⊆ tcRefs τ' sig' ∧ op.fresh = ∅ ∧ ∀ r : Ref sig' .tc, r.idx.val < 22 → Proc.devRef .tc r ∉ op.writes)
    ∧ ∀ (V : Valuation τ sig Val) (V' : Valuation τ' sig' Val), Agree n V V' → Agree N (after ls.flatten V) (after ops V')

variable {N : Nat} {ls : List (List (HloOp τ sig Val))} {ps : List (Prog (TpuEff nD τ' sig' Val Λ .tc) PUnit)}
  {op : HloOp τ sig Val} {op' : HloOp τ' sig' Val} {l : List (HloOp τ sig Val)}
  {p q : Prog (TpuEff nD τ' sig' Val Λ .tc) PUnit}

/-- Nothing is left on either side. -/
theorem Sim.done : Sim N N ([] : List (List (HloOp τ sig Val))) ([] : List (Prog (TpuEff nD τ' sig' Val Λ .tc) PUnit)) :=
  ⟨[], rfl, fun _ h => absurd h List.not_mem_nil, fun _ _ h => h⟩

/-- A list that has run out is left. -/
theorem Sim.nil (h : Sim n N ls ps) : Sim n N ([] :: ls) ps := h

/-- A program that has returned is left. -/
theorem Sim.ret (h : Sim n N ls ps) : Sim n N ls (pure ⟨⟩ :: ps) := h

/-- A program in two parts is its parts, one after the other. -/
theorem Sim.bind (h : Sim n N ls (p :: q :: ps)) : Sim n N ls ((p >>= fun _ => q) :: ps) := by
  obtain ⟨ops, hs, h⟩ := h
  refine ⟨ops, ?_, h⟩
  unfold IsSeq run at hs ⊢
  rw [bind_assoc]
  exact hs

/-- An operation on each side, then the rest. -/
theorem Sim.cons (hop : Step n op op') (h : Sim (n + 1) N (l :: ls) ps) :
    Sim n N ((op :: l) :: ls) ((hlo rfl op' fun _ => .ret (⟨⟩ : PUnit)) :: ps) := by
  obtain ⟨ops, hs, hb, ha⟩ := h
  refine ⟨op' :: ops, IsSeq.cons hs, fun o ho => ?_, fun V V' hV => ?_⟩
  · rcases List.mem_cons.mp ho with rfl | ho
    · exact ⟨hop.bufs, hop.fresh, hop.keeps⟩
    · exact hb o ho
  · exact ha _ _ (hop.agree V V' hV)

/-- The programs `ps` are the operations `pre` and then a straight line as in `Sim`. -/
def Lead (pre : List (HloOp τ' sig' Val)) (n N : Nat) (ls : List (List (HloOp τ sig Val)))
    (ps : List (Prog (TpuEff nD τ' sig' Val Λ .tc) PUnit)) : Prop :=
  ∃ ops : List (HloOp τ' sig' Val), IsSeq (run ps) (pre ++ ops)
    ∧ (∀ op ∈ ops, op.bufs ⊆ tcRefs τ' sig' ∧ op.fresh = ∅ ∧ ∀ r : Ref sig' .tc, r.idx.val < 22 → Proc.devRef .tc r ∉ op.writes)
    ∧ ∀ (V : Valuation τ sig Val) (V' : Valuation τ' sig' Val), Agree n V V' → Agree N (after ls.flatten V) (after ops V')

variable {pre : List (HloOp τ' sig' Val)}

/-- Nothing comes first. -/
theorem Lead.nil (h : Sim n N ls ps) : Lead [] n N ls ps := h

/-- A program in two parts is its parts, one after the other. -/
theorem Lead.bind (h : Lead pre n N ls (p :: q :: ps)) : Lead pre n N ls ((p >>= fun _ => q) :: ps) := by
  obtain ⟨ops, hs, h⟩ := h
  refine ⟨ops, ?_, h⟩
  unfold IsSeq run at hs ⊢
  rw [bind_assoc]
  exact hs

/-- One operation comes first. -/
theorem Lead.cons (h : Lead pre n N ls ps) : Lead (op' :: pre) n N ls ((hlo rfl op' fun _ => .ret (⟨⟩ : PUnit)) :: ps) := by
  obtain ⟨ops, hs, h⟩ := h
  exact ⟨ops, IsSeq.cons hs, h⟩

end

end Cert.Proof.Twin

end
-- ==== Proof.Sides.lean ====
/-
  The two sides whose host code is read against each other: the operations of the kernel's program and the
  programs of the reference's, both at `Ideal`.
-/
module

public import proofs.«01_k».proof.Proof.Twin
public import proofs.«01_k».proof.Proof.Gen.ReferenceIdeal
public import proofs.«01_k».proof.KernelIdeal
public import proofs.«01_k».proof.ReferenceIdeal
public import Idealize.ShloMosaic.PureOps.Ideal

@[expose] public section

noncomputable section

namespace Cert.Proof

open Idealize.ShloMosaic Idealize.SL.Sem

/-- A host operation of the kernel's program. -/
abbrev KOp := HloOp KernelIdeal.τ KernelIdeal.sig (Elt Ideal)

/-- A host operation of the reference's program. -/
abbrev ROp := HloOp ReferenceIdeal.τ ReferenceIdeal.sig (Elt Ideal)

/-- A program of the reference's, with the label table its definitions have. -/
abbrev RProg :=
  Prog (TpuEff ReferenceIdeal.nD ReferenceIdeal.τ ReferenceIdeal.sig (Elt Ideal)
    (Pipeline.Sig ReferenceIdeal.Λ₀ (Fin 0) fun p => (ReferenceIdeal.pcfgs (F := Ideal) p).Adm) .tc) PUnit

end Cert.Proof

end
-- ==== Proof.Head.lean ====
/-
  The reference's code up to the pixels' superpixel line: the feature array and what is read off it, as values of the arguments.
-/
module

public import proofs.«01_k».proof.Proof.Sides
public import Idealize.ShloMosaic.Lib.Pointwise
public import Idealize.ShloMosaic.Lib.StableHlo.ReadAt

@[expose] public section

noncomputable section

namespace Cert.Proof

open Idealize.ShloMosaic Idealize.ShloMosaic.StableHlo Idealize.SL.Sem Cert.ReferenceIdeal Cert.ReferenceIdeal.Facts₀

/-- The reference's first twenty operations: its literals, the coordinates, the features, and the lines read off them. -/
def headOps {F : FTy → Type} [FloatOps F] : List (HloOp τ sig (Elt F)) :=
  [ StableHlo.nullary main_cst (fun i => FloatOps.ofBits .f32 (lit0 (S1x6x1x1x1.rowMajor i))),
    StableHlo.nullary main_c (fun i => lit1 (S27.rowMajor i)),
    StableHlo.nullary main_c_0 (fun i => lit2 (S27.rowMajor i)),
    StableHlo.nullary main_c_1 (fun i => lit3 (S27.rowMajor i)),
    StableHlo.nullary main_v0 (sitofp .f32 (iotaInDim S8 32 0)),
    StableHlo.reshape main_v0 main_v1 (rfl : (.f32 : EltTy) = .f32) shapeCasts_S8_S1x1x8x1x1,
    StableHlo.unary main_v1 main_v2 (broadcastInDim S1x1x8x256x320 ![0, 1, 2, 3, 4] bcast_S1x1x8x1x1_S1x1x8x256x320_0_1_2_3_4 : (⟨S1x1x8x1x1, .f32⟩ : BufTy).Contents (Elt F) → (⟨S1x1x8x256x320, .f32⟩ : BufTy).Contents (Elt F)),
    StableHlo.nullary main_v3 (sitofp .f32 (iotaInDim S256 32 0)),
    StableHlo.reshape main_v3 main_v4 (rfl : (.f32 : EltTy) = .f32) shapeCasts_S256_S1x1x1x256x1,
    StableHlo.unary main_v4 main_v5 (broadcastInDim S1x1x8x256x320 ![0, 1, 2, 3, 4] bcast_S1x1x1x256x1_S1x1x8x256x320_0_1_2_3_4 : (⟨S1x1x1x256x1, .f32⟩ : BufTy).Contents (Elt F) → (⟨S1x1x8x256x320, .f32⟩ : BufTy).Contents (Elt F)),
    StableHlo.nullary main_v6 (sitofp .f32 (iotaInDim S320 32 0)),
    StableHlo.reshape main_v6 main_v7 (rfl : (.f32 : EltTy) = .f32) shapeCasts_S320_S1x1x1x1x320,
    StableHlo.unary main_v7 main_v8 (broadcastInDim S1x1x8x256x320 ![0, 1, 2, 3, 4] bcast_S1x1x1x1x320_S1x1x8x256x320_0_1_2_3_4 : (⟨S1x1x1x1x320, .f32⟩ : BufTy).Contents (Elt F) → (⟨S1x1x8x256x320, .f32⟩ : BufTy).Contents (Elt F)),
    StableHlo.nary ![main_v2, main_v5, main_v8, main_arg0] main_v9 (fun u => (concatenate S1x6x8x256x320 1 [⟨S1x1x8x256x320, (u 0 : (⟨S1x1x8x256x320, .f32⟩ : BufTy).Contents (Elt F))⟩, ⟨S1x1x8x256x320, (u 1 : (⟨S1x1x8x256x320, .f32⟩ : BufTy).Contents (Elt F))⟩, ⟨S1x1x8x256x320, (u 2 : (⟨S1x1x8x256x320, .f32⟩ : BufTy).Contents (Elt F))⟩, ⟨S1x3x8x256x320, (u 3 : (⟨S1x3x8x256x320, .f32⟩ : BufTy).Contents (Elt F))⟩] concatenates_S1x1x8x256x320_S1x1x8x256x320_S1x1x8x256x320_S1x3x8x256x320_S1x6x8x256x320_d1 : (⟨S1x6x8x256x320, .f32⟩ : BufTy).Contents (Elt F))),
    StableHlo.unary main_cst main_v10 (broadcastInDim S1x6x8x256x320 ![0, 1, 2, 3, 4] bcast_S1x6x1x1x1_S1x6x8x256x320_0_1_2_3_4 : (⟨S1x6x1x1x1, .f32⟩ : BufTy).Contents (Elt F) → (⟨S1x6x8x256x320, .f32⟩ : BufTy).Contents (Elt F)),
    StableHlo.binary main_v10 main_v9 main_v11 (mulf : (⟨S1x6x8x256x320, .f32⟩ : BufTy).Contents (Elt F) → (⟨S1x6x8x256x320, .f32⟩ : BufTy).Contents (Elt F) → (⟨S1x6x8x256x320, .f32⟩ : BufTy).Contents (Elt F)),
    StableHlo.reshape main_v11 main_v12 (rfl : (.f32 : EltTy) = .f32) shapeCasts_S1x6x8x256x320_S1x6x655360,
    StableHlo.unary main_v12 main_v13 ((transpose S1x655360x6 [0, 2, 1] · transposes_S1x6x655360_S1x655360x6_0_2_1) : (⟨S1x6x655360, .f32⟩ : BufTy).Contents (Elt F) → (⟨S1x655360x6, .f32⟩ : BufTy).Contents (Elt F)),
    StableHlo.reshape main_v13 main_v14 (rfl : (.f32 : EltTy) = .f32) shapeCasts_S1x655360x6_S655360x6,
    StableHlo.reshape main_arg1 main_v15 (rfl : (.i32 : EltTy) = .i32) shapeCasts_S1x1x8x256x320_S655360 ]

/-- The coordinates and the Lab values joined along the channels, each channel times its scale. -/
def refFeat (x : FVec Ideal S1x3x8x256x320 .f32) : FVec Ideal S1x6x8x256x320 .f32 :=
  mulf (broadcastInDim S1x6x8x256x320 ![0, 1, 2, 3, 4] bcast_S1x6x1x1x1_S1x6x8x256x320_0_1_2_3_4
      fun i => FloatOps.ofBits .f32 (lit0 (S1x6x1x1x1.rowMajor i)))
    (concatenate S1x6x8x256x320 1
      [⟨S1x1x8x256x320, broadcastInDim S1x1x8x256x320 ![0, 1, 2, 3, 4] bcast_S1x1x8x1x1_S1x1x8x256x320_0_1_2_3_4
          (shapeCast S1x1x8x1x1 (sitofp (F := Ideal) .f32 (iotaInDim S8 32 0)) shapeCasts_S8_S1x1x8x1x1)⟩,
        ⟨S1x1x8x256x320, broadcastInDim S1x1x8x256x320 ![0, 1, 2, 3, 4] bcast_S1x1x1x256x1_S1x1x8x256x320_0_1_2_3_4
          (shapeCast S1x1x1x256x1 (sitofp (F := Ideal) .f32 (iotaInDim S256 32 0)) shapeCasts_S256_S1x1x1x256x1)⟩,
        ⟨S1x1x8x256x320, broadcastInDim S1x1x8x256x320 ![0, 1, 2, 3, 4] bcast_S1x1x1x1x320_S1x1x8x256x320_0_1_2_3_4
          (shapeCast S1x1x1x1x320 (sitofp (F := Ideal) .f32 (iotaInDim S320 32 0)) shapeCasts_S320_S1x1x1x1x320)⟩,
        ⟨S1x3x8x256x320, x⟩] concatenates_S1x1x8x256x320_S1x1x8x256x320_S1x1x8x256x320_S1x3x8x256x320_S1x6x8x256x320_d1)

/-- The reference's feature array after its first operations. -/
theorem head_feat (V : Valuation τ sig (Elt Ideal)) :
    after (headOps (F := Ideal)) V (Proc.devRef .tc main_v11) = refFeat (V (Proc.devRef .tc main_arg0)) := by
  unfold headOps
  after_results_simp
  rfl

/-- The pixels' features as rows. -/
theorem head_rows (V : Valuation τ sig (Elt Ideal)) :
    after (headOps (F := Ideal)) V (Proc.devRef .tc main_v14)
      = shapeCast S655360x6 (transpose S1x655360x6 [0, 2, 1]
          (shapeCast S1x6x655360 (refFeat (V (Proc.devRef .tc main_arg0))) shapeCasts_S1x6x8x256x320_S1x6x655360)
          transposes_S1x6x655360_S1x655360x6_0_2_1) shapeCasts_S1x655360x6_S655360x6 := by
  unfold headOps
  after_results_simp
  rfl

/-- The pixels' superpixels in a line. -/
theorem head_flat (V : Valuation τ sig (Elt Ideal)) :
    after (headOps (F := Ideal)) V (Proc.devRef .tc main_v15)
      = shapeCast S655360 (V (Proc.devRef .tc main_arg1)) shapeCasts_S1x1x8x256x320_S655360 := by
  unfold headOps
  after_results_simp
  rfl

/-- The three constants, and the two arguments kept. -/
theorem head_consts (V : Valuation τ sig (Elt Ideal)) :
    after (headOps (F := Ideal)) V (Proc.devRef .tc main_c) = (fun i : S27.Idx => lit1 (S27.rowMajor i))
      ∧ after (headOps (F := Ideal)) V (Proc.devRef .tc main_c_0) = (fun i : S27.Idx => lit2 (S27.rowMajor i))
      ∧ after (headOps (F := Ideal)) V (Proc.devRef .tc main_c_1) = (fun i : S27.Idx => lit3 (S27.rowMajor i))
      ∧ after (headOps (F := Ideal)) V (Proc.devRef .tc main_arg0) = V (Proc.devRef .tc main_arg0)
      ∧ after (headOps (F := Ideal)) V (Proc.devRef .tc main_arg1) = V (Proc.devRef .tc main_arg1) := by
  refine ⟨?_, ?_, ?_, ?_, ?_⟩ <;> (unfold headOps; after_results_simp; try rfl)

/-- The feature array's element at `(0, c, l, y, x)`: the frame `l`, the row `y` and the column `x` in the first three channels,
    the Lab values in the other three, each times its channel's scale. -/
def feat (v : FVec Ideal S1x3x8x256x320 .f32) (j : S1x6x8x256x320.Idx) : EReal :=
  if (j 1).val < 1 then Ideal.ofBits .f32 0x3FA00000#32 * FloatOps.sitofp (F := Ideal) .f32 (BitVec.ofNat 32 (j 2).val)
  else if (j 1).val < 2 then Ideal.ofBits .f32 0x3DD00000#32 * FloatOps.sitofp (F := Ideal) .f32 (BitVec.ofNat 32 (j 3).val)
  else if h : (j 1).val < 3 then Ideal.ofBits .f32 0x3DD00000#32 * FloatOps.sitofp (F := Ideal) .f32 (BitVec.ofNat 32 (j 4).val)
  else Ideal.ofBits .f32 0x3E851EB8#32
    * v (ix5 0 ⟨(j 1).val - 3, by have h6 : (j 1).val < 6 := (j 1).isLt; omega⟩ (j 2) (j 3) (j 4))

/-- The scale of the channel `c`, read off the array of scales. -/
theorem scale_at (c : Fin 6) : lit0 (S1x6x1x1x1.rowMajor (ix5 0 c 0 0 0))
    = if c.val < 1 then 0x3FA00000#32 else if c.val < 3 then 0x3DD00000#32 else 0x3E851EB8#32 := by
  revert c
  decide

/-- The reference's feature array is `feat`. -/
theorem refFeat_eq (v : FVec Ideal S1x3x8x256x320 .f32) : refFeat v = feat v := by
  funext j
  unfold refFeat
  pointwise
  rw [scale_at (j 1)]
  unfold feat
  by_cases h1 : (j 1).val < 1
  · rw [dif_pos h1, if_pos h1, if_pos h1]
  · by_cases h2 : (j 1).val < 2
    · rw [dif_neg h1, if_neg h1, if_neg h1, dif_pos (by omega), if_pos (by omega), if_pos h2]
    · by_cases h3 : (j 1).val < 3
      · rw [dif_neg h1, if_neg h1, if_neg h1, dif_neg (by omega), dif_pos (by omega), if_pos h3, if_neg h2, dif_pos h3]
      · rw [dif_neg h1, if_neg h1, if_neg h1, dif_neg (by omega), dif_neg (by omega), if_neg h3, if_neg h2, dif_neg h3]
        rfl

end Cert.Proof

end
-- ==== Proof.Payload.lean ====
/-
  What the kernel's body stores in one block, channel by channel, and the block as the features of one frame.
-/
module

public import proofs.«01_k».proof.Proof.Head
public import proofs.«01_k».proof.Proof.Gen.KernelIdeal.Skeleton
public import Idealize.ShloMosaic.Lib.Pipeline.ValueKit

@[expose] public section

noncomputable section

namespace Cert.Proof

open Idealize.ShloMosaic Idealize.SL.Sem Cert.KernelIdeal Cert.KernelIdeal.Gen

/-- The first channel's block is the frame times its scale. -/
theorem frame_payload (i : grid0.Coords) (x : S1x1x256x320.Idx) :
    k0_pay3 (F := Ideal) i x = Ideal.ofBits .f32 0x3FA00000#32 * FloatOps.sitofp (F := Ideal) .f32 (BitVec.ofNat 32 (i 0).val) := by
  unfold k0_pay3
  pointwise
  rfl

/-- The second channel's block is the row times its scale. -/
theorem row_payload (x : S1x1x256x320.Idx) :
    k0_pay4 (F := Ideal) x = Ideal.ofBits .f32 0x3DD00000#32 * FloatOps.sitofp (F := Ideal) .f32 (BitVec.ofNat 32 (x 2).val) := by
  unfold k0_pay4
  pointwise

/-- The third channel's block is the column times its scale. -/
theorem column_payload (x : S1x1x256x320.Idx) :
    k0_pay5 (F := Ideal) x = Ideal.ofBits .f32 0x3DD00000#32 * FloatOps.sitofp (F := Ideal) .f32 (BitVec.ofNat 32 (x 3).val) := by
  unfold k0_pay5
  pointwise

/-- Each of the other three channels' blocks is that channel's Lab values times their scale. -/
theorem lab_payload (u : Vec Ideal S1x1x256x320 .f32) (x : S1x1x256x320.Idx) :
    k0_pay6 (F := Ideal) u x = Ideal.ofBits .f32 0x3E851EB8#32 * u x
      ∧ k0_pay1 (F := Ideal) u x = Ideal.ofBits .f32 0x3E851EB8#32 * u x
      ∧ k0_pay2 (F := Ideal) u x = Ideal.ofBits .f32 0x3E851EB8#32 * u x := by
  unfold k0_pay6 k0_pay1 k0_pay2
  pointwise

/-- The rectangle of channel `c` in an output block. -/
abbrev chan (c : Fin 4 → Nat) (h : ∀ a, c a + S1x1x256x320.size a ≤ S1x6x256x320.size a) : Rect S1x6x256x320 :=
  Rect.unit (s := S1x6x256x320) c S1x1x256x320.size h

/-- The rectangle of a channel in an input block. -/
abbrev labChan (c : Fin 4 → Nat) (h : ∀ a, c a + S1x1x256x320.size a ≤ S1x3x256x320.size a) : Rect S1x3x256x320 :=
  Rect.unit (s := S1x3x256x320) c S1x1x256x320.size h

/-- The features of the frame that the grid point `i` works on. -/
def frameFeat (v : FVec Ideal ReferenceIdeal.S1x3x8x256x320 .f32) (l : Fin 8) (y : S1x6x256x320.Idx) : EReal :=
  feat v (ix5 0 (y 1) l (y 2) (y 3))

/-- The features of one frame in the first channel. -/
theorem frameFeat_frame (v : FVec Ideal ReferenceIdeal.S1x3x8x256x320 .f32) (l : Fin 8) (y : S1x6x256x320.Idx) (h : (y 1).val = 0) :
    frameFeat v l y = Ideal.ofBits .f32 0x3FA00000#32 * FloatOps.sitofp (F := Ideal) .f32 (BitVec.ofNat 32 l.val) :=
  if_pos (show (y 1).val < 1 by omega)

/-- The features of one frame in the second channel. -/
theorem frameFeat_row (v : FVec Ideal ReferenceIdeal.S1x3x8x256x320 .f32) (l : Fin 8) (y : S1x6x256x320.Idx) (h : (y 1).val = 1) :
    frameFeat v l y = Ideal.ofBits .f32 0x3DD00000#32 * FloatOps.sitofp (F := Ideal) .f32 (BitVec.ofNat 32 (y 2).val) :=
  (if_neg (show ¬(y 1).val < 1 by omega)).trans (if_pos (show (y 1).val < 2 by omega))

/-- The features of one frame in the third channel. -/
theorem frameFeat_column (v : FVec Ideal ReferenceIdeal.S1x3x8x256x320 .f32) (l : Fin 8) (y : S1x6x256x320.Idx) (h : (y 1).val = 2) :
    frameFeat v l y = Ideal.ofBits .f32 0x3DD00000#32 * FloatOps.sitofp (F := Ideal) .f32 (BitVec.ofNat 32 (y 3).val) :=
  (if_neg (show ¬(y 1).val < 1 by omega)).trans
    ((if_neg (show ¬(y 1).val < 2 by omega)).trans (dif_pos (show (y 1).val < 3 by omega)))

/-- The features of one frame in a Lab channel. -/
theorem frameFeat_lab (v : FVec Ideal ReferenceIdeal.S1x3x8x256x320 .f32) (l : Fin 8) (y : S1x6x256x320.Idx) (k : Fin 3)
    (h : (y 1).val = 3 + k.val) :
    frameFeat v l y = Ideal.ofBits .f32 0x3E851EB8#32 * v (ix5 0 k l (y 2) (y 3)) := by
  refine (if_neg (show ¬(y 1).val < 1 by omega)).trans
    ((if_neg (show ¬(y 1).val < 2 by omega)).trans ((dif_neg (show ¬(y 1).val < 3 by omega)).trans ?_))
  have e : (⟨(y 1).val - 3, by omega⟩ : Fin 3) = k := Fin.ext (by show (y 1).val - 3 = k.val; omega)
  exact congrArg (fun c => Ideal.ofBits .f32 0x3E851EB8#32 * v (ix5 0 c l (y 2) (y 3))) e

/-- An index of a channel's block, placed in the output block: the channel is the first offset but one, row and column stay. -/
theorem chan_emb (k : Nat) (h) (x : (chan ![0, k, 0, 0] h).shape.Idx) :
    ((chan ![0, k, 0, 0] h).emb x 1).val = k ∧ (chan ![0, k, 0, 0] h).emb x 2 = x 2 ∧ (chan ![0, k, 0, 0] h).emb x 3 = x 3 := by
  refine ⟨?_, Fin.ext ?_, Fin.ext ?_⟩
  · have h1 : (x 1).val < 1 := (x 1).isLt
    refine (ValueKit.rect_emb_unit_val _ _ h x 1).trans ?_
    show k + (x 1).val = k
    omega
  · refine (ValueKit.rect_emb_unit_val _ _ h x 2).trans ?_
    show 0 + (x 2).val = (x 2).val
    omega
  · refine (ValueKit.rect_emb_unit_val _ _ h x 3).trans ?_
    show 0 + (x 3).val = (x 3).val
    omega

/-- A channel read out of an input block. -/
theorem labChan_ld (u : Vec Ideal S1x3x256x320 .f32) (k : Fin 3) (g) (x : (labChan ![0, k.val, 0, 0] g).shape.Idx) :
    View.ld (Val := Elt Ideal) (e' := .f32) u (labChan ![0, k.val, 0, 0] g) x = u (ix4 0 k (x 2) (x 3)) := by
  refine View.ld_unit_apply_of (Val := Elt Ideal) u _ _ g x _ fun a => ?_
  have h0 : (x 0).val < 1 := (x 0).isLt
  have h1 : (x 1).val < 1 := (x 1).isLt
  match a with
  | 0 => show 0 = 0 + (x 0).val; omega
  | 1 => show k.val = k.val + (x 1).val; omega
  | 2 => show (x 2).val = 0 + (x 2).val; omega
  | 3 => show (x 3).val = 0 + (x 3).val; omega

/-- What the body stores into a Lab channel is the features there. -/
theorem lab_piece (v : FVec Ideal ReferenceIdeal.S1x3x8x256x320 .f32) (u : Vec Ideal S1x3x256x320 .f32)
    (l : Fin 8) (hu : ∀ z, u z = v (ix5 0 (z 1) l (z 2) (z 3))) (k : Fin 3) (g) (h) (x : S1x1x256x320.Idx) :
    Ideal.ofBits .f32 0x3E851EB8#32 * View.ld (Val := Elt Ideal) (e' := .f32) u (labChan ![0, k.val, 0, 0] g) x
      = frameFeat v l ((chan ![0, 3 + k.val, 0, 0] h).emb x) := by
  obtain ⟨e1, e2, e3⟩ := chan_emb (3 + k.val) h x
  rw [frameFeat_lab v l _ k e1, e2, e3, labChan_ld u k g x, hu]
  rfl

/-- Where the input block is frame `l` of the Lab video, every store of the body stores that frame's features. -/
theorem block_pieces (i : grid0.Coords) (v : FVec Ideal ReferenceIdeal.S1x3x8x256x320 .f32) (u : Vec Ideal S1x3x256x320 .f32)
    (l : Fin 8) (hl : (i 0).val = l.val) (hu : ∀ z, u z = v (ix5 0 (z 1) l (z 2) (z 3))) (h0 h1 h2 h3 h4 h5 g0 g1 g2) :
    ∀ p ∈ ([⟨chan ![0, 5, 0, 0] h5, k0_pay2 (F := Ideal) (View.ld u (labChan ![0, 2, 0, 0] g2))⟩,
        ⟨chan ![0, 4, 0, 0] h4, k0_pay1 (F := Ideal) (View.ld u (labChan ![0, 1, 0, 0] g1))⟩,
        ⟨chan ![0, 3, 0, 0] h3, k0_pay6 (F := Ideal) (View.ld u (labChan ![0, 0, 0, 0] g0))⟩,
        ⟨chan ![0, 2, 0, 0] h2, k0_pay5 (F := Ideal)⟩,
        ⟨chan ![0, 1, 0, 0] h1, k0_pay4 (F := Ideal)⟩,
        ⟨chan ![0, 0, 0, 0] h0, k0_pay3 (F := Ideal) i⟩] : List (View.Piece (Elt Ideal) S1x6x256x320 .f32)),
      ∀ x : p.1.shape.Idx, p.2 x = frameFeat v l (p.1.emb x) := by
  intro p hp
  simp only [List.mem_cons, List.not_mem_nil, or_false] at hp
  rcases hp with rfl | rfl | rfl | rfl | rfl | rfl
  · exact fun x => (lab_payload _ x).2.2.trans (lab_piece v u l hu 2 g2 h5 x)
  · exact fun x => (lab_payload _ x).2.1.trans (lab_piece v u l hu 1 g1 h4 x)
  · exact fun x => (lab_payload _ x).1.trans (lab_piece v u l hu 0 g0 h3 x)
  · intro x
    obtain ⟨e1, e2, e3⟩ := chan_emb 2 h2 x
    refine (column_payload x).trans ?_
    rw [frameFeat_column v l _ e1, e3]
  · intro x
    obtain ⟨e1, e2, e3⟩ := chan_emb 1 h1 x
    refine (row_payload x).trans ?_
    rw [frameFeat_row v l _ e1, e2]
  · intro x
    obtain ⟨e1, e2, e3⟩ := chan_emb 0 h0 x
    refine (frame_payload i x).trans ?_
    rw [frameFeat_frame v l _ e1, hl]

end Cert.Proof

end
-- ==== Proof.Parts00.lean ====
/-
  Parts 0 to 3 of the reference's program: its first operations, then one operation at a time beside the kernel's operations after
  its pallas_call.
-/
module

public import proofs.«01_k».proof.Proof.Head
public import proofs.«01_k».proof.Proof.Gen.KernelIdeal.Launch

@[expose] public section

set_option maxRecDepth 20000
set_option maxHeartbeats 20000000

noncomputable section

namespace Cert.Proof

open Idealize.ShloMosaic Idealize.SL.Sem Cert.Proof.Twin Cert.KernelIdeal.Gen

attribute [local irreducible] StableHlo.nullary StableHlo.unary StableHlo.binary StableHlo.ternary StableHlo.quaternary
  StableHlo.nary StableHlo.reshape

/-- Parts 0 to 3 of the reference are its first twenty operations and then operations that carry, with the kernel's beside them, contents
    that agree to contents that agree. -/
theorem parts0 (d : Dev ReferenceIdeal.nD) {N : Nat} {rest : List (List KOp)} {ps : List RProg}
    (h : Sim 593 N (hostOps1_58.drop 2 :: rest) ps) :
    Lead headOps 22 N
      (hostOps1.drop 14 :: hostOps1_1 :: hostOps1_2 :: hostOps1_3 :: hostOps1_4 :: hostOps1_5 :: hostOps1_6 :: hostOps1_7 :: hostOps1_8 ::
        hostOps1_9 :: hostOps1_10 :: hostOps1_11 :: hostOps1_12 :: hostOps1_13 :: hostOps1_14 :: hostOps1_15 :: hostOps1_16 :: hostOps1_17 ::
        hostOps1_18 :: hostOps1_19 :: hostOps1_20 :: hostOps1_21 :: hostOps1_22 :: hostOps1_23 :: hostOps1_24 :: hostOps1_25 :: hostOps1_26 ::
        hostOps1_27 :: hostOps1_28 :: hostOps1_29 :: hostOps1_30 :: hostOps1_31 :: hostOps1_32 :: hostOps1_33 :: hostOps1_34 :: hostOps1_35 ::
        hostOps1_36 :: hostOps1_37 :: hostOps1_38 :: hostOps1_39 :: hostOps1_40 :: hostOps1_41 :: hostOps1_42 :: hostOps1_43 :: hostOps1_44 ::
        hostOps1_45 :: hostOps1_46 :: hostOps1_47 :: hostOps1_48 :: hostOps1_49 :: hostOps1_50 :: hostOps1_51 :: hostOps1_52 :: hostOps1_53 ::
        hostOps1_54 :: hostOps1_55 :: hostOps1_56 :: hostOps1_57 :: hostOps1_58 :: rest)
      (ReferenceIdeal.main_part0 d :: ReferenceIdeal.main_part1 d :: ReferenceIdeal.main_part2 d :: ReferenceIdeal.main_part3 d :: ps) := by
  unfold headOps
  apply Lead.bind
  iterate 19 with_reducible refine Lead.cons (Lead.bind ?_)
  refine Lead.cons (Lead.nil ?_)
  apply (id : Sim _ _ ((_ :: _) :: _) _ → _)
  repeat' first
    | with_reducible refine Sim.cons ?_ ?_
    | exact Step.unary ⟨rfl, rfl, rfl, rfl, rfl⟩ ⟨rfl, rfl, rfl, rfl, rfl, rfl, rfl⟩ HEq.rfl HEq.rfl
    | exact Step.binary ⟨rfl, rfl, rfl, rfl, rfl⟩ ⟨rfl, rfl, rfl, rfl, rfl⟩ ⟨rfl, rfl, rfl, rfl, rfl, rfl, rfl⟩ HEq.rfl HEq.rfl
    | exact Step.nullary ⟨rfl, rfl, rfl, rfl, rfl, rfl, rfl⟩ HEq.rfl HEq.rfl
    | exact Step.reshape ⟨rfl, rfl, rfl, rfl, rfl⟩ ⟨rfl, rfl, rfl, rfl, rfl, rfl, rfl⟩
    | exact Step.ternary ⟨rfl, rfl, rfl, rfl, rfl⟩ ⟨rfl, rfl, rfl, rfl, rfl⟩ ⟨rfl, rfl, rfl, rfl, rfl⟩
        ⟨rfl, rfl, rfl, rfl, rfl, rfl, rfl⟩ HEq.rfl HEq.rfl
    | refine Step.concat (A := KernelIdeal.S1x1x655360) ?_ ⟨rfl, rfl, rfl, rfl, rfl, rfl, rfl⟩ (Nat.le.step Nat.le.refl) ?_ ?_
    | exact fun _ => ⟨_, HEq.rfl⟩
    | (intro k; fin_cases k <;> exact ⟨rfl, rfl, rfl, rfl, rfl⟩)
    | with_reducible apply Sim.bind
    | with_reducible apply Sim.nil
    | with_reducible apply Sim.ret
    | exact h
    | apply Sim.bind

end Cert.Proof

end
-- ==== Proof.Parts04.lean ====
/-
  Parts 4 to 6 of the reference's program, one operation at a time beside the kernel's operations after its pallas_call.
-/
module

public import proofs.«01_k».proof.Proof.Sides
public import proofs.«01_k».proof.Proof.Gen.KernelIdeal.Launch

@[expose] public section

set_option maxRecDepth 20000
set_option maxHeartbeats 20000000

noncomputable section

namespace Cert.Proof

open Idealize.ShloMosaic Idealize.SL.Sem Cert.Proof.Twin Cert.KernelIdeal.Gen

attribute [local irreducible] StableHlo.nullary StableHlo.unary StableHlo.binary StableHlo.ternary StableHlo.quaternary
  StableHlo.nary StableHlo.reshape

/-- Parts 4 to 6 of the reference and the kernel's operations beside them carry contents that agree to contents that agree. -/
theorem parts4 (d : Dev ReferenceIdeal.nD) {N : Nat} {rest : List (List KOp)} {ps : List RProg}
    (h : Sim 1133 N (hostOps1_118.drop 2 :: rest) ps) :
    Sim 593 N
      (hostOps1_58.drop 2 :: hostOps1_59 :: hostOps1_60 :: hostOps1_61 :: hostOps1_62 :: hostOps1_63 :: hostOps1_64 :: hostOps1_65 :: hostOps1_66 ::
        hostOps1_67 :: hostOps1_68 :: hostOps1_69 :: hostOps1_70 :: hostOps1_71 :: hostOps1_72 :: hostOps1_73 :: hostOps1_74 :: hostOps1_75 ::
        hostOps1_76 :: hostOps1_77 :: hostOps1_78 :: hostOps1_79 :: hostOps1_80 :: hostOps1_81 :: hostOps1_82 :: hostOps1_83 :: hostOps1_84 ::
        hostOps1_85 :: hostOps1_86 :: hostOps1_87 :: hostOps1_88 :: hostOps1_89 :: hostOps1_90 :: hostOps1_91 :: hostOps1_92 :: hostOps1_93 ::
        hostOps1_94 :: hostOps1_95 :: hostOps1_96 :: hostOps1_97 :: hostOps1_98 :: hostOps1_99 :: hostOps1_100 :: hostOps1_101 :: hostOps1_102 ::
        hostOps1_103 :: hostOps1_104 :: hostOps1_105 :: hostOps1_106 :: hostOps1_107 :: hostOps1_108 :: hostOps1_109 :: hostOps1_110 ::
        hostOps1_111 :: hostOps1_112 :: hostOps1_113 :: hostOps1_114 :: hostOps1_115 :: hostOps1_116 :: hostOps1_117 :: hostOps1_118 :: rest)
      (ReferenceIdeal.main_part4 d :: ReferenceIdeal.main_part5 d :: ReferenceIdeal.main_part6 d :: ps) := by
  apply (id : Sim _ _ ((_ :: _) :: _) _ → _)
  repeat' first
    | with_reducible refine Sim.cons ?_ ?_
    | exact Step.unary ⟨rfl, rfl, rfl, rfl, rfl⟩ ⟨rfl, rfl, rfl, rfl, rfl, rfl, rfl⟩ HEq.rfl HEq.rfl
    | exact Step.binary ⟨rfl, rfl, rfl, rfl, rfl⟩ ⟨rfl, rfl, rfl, rfl, rfl⟩ ⟨rfl, rfl, rfl, rfl, rfl, rfl, rfl⟩ HEq.rfl HEq.rfl
    | exact Step.nullary ⟨rfl, rfl, rfl, rfl, rfl, rfl, rfl⟩ HEq.rfl HEq.rfl
    | exact Step.reshape ⟨rfl, rfl, rfl, rfl, rfl⟩ ⟨rfl, rfl, rfl, rfl, rfl, rfl, rfl⟩
    | exact Step.ternary ⟨rfl, rfl, rfl, rfl, rfl⟩ ⟨rfl, rfl, rfl, rfl, rfl⟩ ⟨rfl, rfl, rfl, rfl, rfl⟩
        ⟨rfl, rfl, rfl, rfl, rfl, rfl, rfl⟩ HEq.rfl HEq.rfl
    | refine Step.concat (A := KernelIdeal.S1x1x655360) ?_ ⟨rfl, rfl, rfl, rfl, rfl, rfl, rfl⟩ (Nat.le.step Nat.le.refl) ?_ ?_
    | exact fun _ => ⟨_, HEq.rfl⟩
    | (intro k; fin_cases k <;> exact ⟨rfl, rfl, rfl, rfl, rfl⟩)
    | with_reducible apply Sim.bind
    | with_reducible apply Sim.nil
    | with_reducible apply Sim.ret
    | exact h
    | apply Sim.bind

end Cert.Proof

end
-- ==== Proof.Parts07.lean ====
/-
  Parts 7 to 13 of the reference's program, one operation at a time beside the kernel's operations after its pallas_call.
-/
module

public import proofs.«01_k».proof.Proof.Sides
public import proofs.«01_k».proof.Proof.Gen.KernelIdeal.Launch

@[expose] public section

set_option maxRecDepth 20000
set_option maxHeartbeats 20000000

noncomputable section

namespace Cert.Proof

open Idealize.ShloMosaic Idealize.SL.Sem Cert.Proof.Twin Cert.KernelIdeal.Gen

attribute [local irreducible] StableHlo.nullary StableHlo.unary StableHlo.binary StableHlo.ternary StableHlo.quaternary
  StableHlo.nary StableHlo.reshape

/-- Parts 7 to 13 of the reference and the kernel's operations beside them carry contents that agree to contents that agree. -/
theorem parts7 (d : Dev ReferenceIdeal.nD) {N : Nat} {rest : List (List KOp)} {ps : List RProg}
    (h : Sim 1686 N (hostOps1_158.drop 20 :: rest) ps) :
    Sim 1133 N
      (hostOps1_118.drop 2 :: hostOps1_119 :: hostOps1_120 :: hostOps1_121 :: hostOps1_122 :: hostOps1_123 :: hostOps1_124 :: hostOps1_125 ::
        hostOps1_126 :: hostOps1_127 :: hostOps1_128 :: hostOps1_129 :: hostOps1_130 :: hostOps1_131 :: hostOps1_132 :: hostOps1_133 ::
        hostOps1_134 :: hostOps1_135 :: hostOps1_136 :: hostOps1_137 :: hostOps1_138 :: hostOps1_139 :: hostOps1_140 :: hostOps1_141 ::
        hostOps1_142 :: hostOps1_143 :: hostOps1_144 :: hostOps1_145 :: hostOps1_146 :: hostOps1_147 :: hostOps1_148 :: hostOps1_149 ::
        hostOps1_150 :: hostOps1_151 :: hostOps1_152 :: hostOps1_153 :: hostOps1_154 :: hostOps1_155 :: hostOps1_156 :: hostOps1_157 ::
        hostOps1_158 :: rest)
      (ReferenceIdeal.main_part7 d :: ReferenceIdeal.main_part8 d :: ReferenceIdeal.main_part9 d :: ReferenceIdeal.main_part10 d ::
        ReferenceIdeal.main_part11 d :: ReferenceIdeal.main_part12 d :: ReferenceIdeal.main_part13 d :: ps) := by
  apply (id : Sim _ _ ((_ :: _) :: _) _ → _)
  repeat' first
    | with_reducible refine Sim.cons ?_ ?_
    | exact Step.unary ⟨rfl, rfl, rfl, rfl, rfl⟩ ⟨rfl, rfl, rfl, rfl, rfl, rfl, rfl⟩ HEq.rfl HEq.rfl
    | exact Step.binary ⟨rfl, rfl, rfl, rfl, rfl⟩ ⟨rfl, rfl, rfl, rfl, rfl⟩ ⟨rfl, rfl, rfl, rfl, rfl, rfl, rfl⟩ HEq.rfl HEq.rfl
    | exact Step.nullary ⟨rfl, rfl, rfl, rfl, rfl, rfl, rfl⟩ HEq.rfl HEq.rfl
    | exact Step.reshape ⟨rfl, rfl, rfl, rfl, rfl⟩ ⟨rfl, rfl, rfl, rfl, rfl, rfl, rfl⟩
    | exact Step.ternary ⟨rfl, rfl, rfl, rfl, rfl⟩ ⟨rfl, rfl, rfl, rfl, rfl⟩ ⟨rfl, rfl, rfl, rfl, rfl⟩
        ⟨rfl, rfl, rfl, rfl, rfl, rfl, rfl⟩ HEq.rfl HEq.rfl
    | refine Step.concat (A := KernelIdeal.S1x1x655360) ?_ ⟨rfl, rfl, rfl, rfl, rfl, rfl, rfl⟩ (Nat.le.step Nat.le.refl) ?_ ?_
    | exact fun _ => ⟨_, HEq.rfl⟩
    | (intro k; fin_cases k <;> exact ⟨rfl, rfl, rfl, rfl, rfl⟩)
    | with_reducible apply Sim.bind
    | with_reducible apply Sim.nil
    | with_reducible apply Sim.ret
    | exact h
    | apply Sim.bind

end Cert.Proof

end
-- ==== Proof.Parts14.lean ====
/-
  Parts 14 to 21 of the reference's program, one operation at a time beside the kernel's operations after its pallas_call.
-/
module

public import proofs.«01_k».proof.Proof.Sides
public import proofs.«01_k».proof.Proof.Gen.KernelIdeal.Launch

@[expose] public section

set_option maxRecDepth 20000
set_option maxHeartbeats 20000000

noncomputable section

namespace Cert.Proof

open Idealize.ShloMosaic Idealize.SL.Sem Cert.Proof.Twin Cert.KernelIdeal.Gen

attribute [local irreducible] StableHlo.nullary StableHlo.unary StableHlo.binary StableHlo.ternary StableHlo.quaternary
  StableHlo.nary StableHlo.reshape

/-- Parts 14 to 21 of the reference and the kernel's operations beside them carry contents that agree to contents that agree. -/
theorem parts14 (d : Dev ReferenceIdeal.nD) {N : Nat} {rest : List (List KOp)} {ps : List RProg}
    (h : Sim 2275 N (hostOps1_200.drop 2 :: rest) ps) :
    Sim 1686 N
      (hostOps1_158.drop 20 :: hostOps1_159 :: hostOps1_160 :: hostOps1_161 :: hostOps1_162 :: hostOps1_163 :: hostOps1_164 :: hostOps1_165 ::
        hostOps1_166 :: hostOps1_167 :: hostOps1_168 :: hostOps1_169 :: hostOps1_170 :: hostOps1_171 :: hostOps1_172 :: hostOps1_173 ::
        hostOps1_174 :: hostOps1_175 :: hostOps1_176 :: hostOps1_177 :: hostOps1_178 :: hostOps1_179 :: hostOps1_180 :: hostOps1_181 ::
        hostOps1_182 :: hostOps1_183 :: hostOps1_184 :: hostOps1_185 :: hostOps1_186 :: hostOps1_187 :: hostOps1_188 :: hostOps1_189 ::
        hostOps1_190 :: hostOps1_191 :: hostOps1_192 :: hostOps1_193 :: hostOps1_194 :: hostOps1_195 :: hostOps1_196 :: hostOps1_197 ::
        hostOps1_198 :: hostOps1_199 :: hostOps1_200 :: rest)
      (ReferenceIdeal.main_part14 d :: ReferenceIdeal.main_part15 d :: ReferenceIdeal.main_part16 d :: ReferenceIdeal.main_part17 d ::
        ReferenceIdeal.main_part18 d :: ReferenceIdeal.main_part19 d :: ReferenceIdeal.main_part20 d :: ReferenceIdeal.main_part21 d :: ps) := by
  apply (id : Sim _ _ ((_ :: _) :: _) _ → _)
  repeat' first
    | with_reducible refine Sim.cons ?_ ?_
    | exact Step.unary ⟨rfl, rfl, rfl, rfl, rfl⟩ ⟨rfl, rfl, rfl, rfl, rfl, rfl, rfl⟩ HEq.rfl HEq.rfl
    | exact Step.binary ⟨rfl, rfl, rfl, rfl, rfl⟩ ⟨rfl, rfl, rfl, rfl, rfl⟩ ⟨rfl, rfl, rfl, rfl, rfl, rfl, rfl⟩ HEq.rfl HEq.rfl
    | exact Step.nullary ⟨rfl, rfl, rfl, rfl, rfl, rfl, rfl⟩ HEq.rfl HEq.rfl
    | exact Step.reshape ⟨rfl, rfl, rfl, rfl, rfl⟩ ⟨rfl, rfl, rfl, rfl, rfl, rfl, rfl⟩
    | exact Step.ternary ⟨rfl, rfl, rfl, rfl, rfl⟩ ⟨rfl, rfl, rfl, rfl, rfl⟩ ⟨rfl, rfl, rfl, rfl, rfl⟩
        ⟨rfl, rfl, rfl, rfl, rfl, rfl, rfl⟩ HEq.rfl HEq.rfl
    | refine Step.concat (A := KernelIdeal.S1x1x655360) ?_ ⟨rfl, rfl, rfl, rfl, rfl, rfl, rfl⟩ (Nat.le.step Nat.le.refl) ?_ ?_
    | exact fun _ => ⟨_, HEq.rfl⟩
    | (intro k; fin_cases k <;> exact ⟨rfl, rfl, rfl, rfl, rfl⟩)
    | with_reducible apply Sim.bind
    | with_reducible apply Sim.nil
    | with_reducible apply Sim.ret
    | exact h
    | apply Sim.bind

end Cert.Proof

end
-- ==== Proof.Parts22.lean ====
/-
  Parts 22 to 24 of the reference's program, one operation at a time beside the kernel's operations after its pallas_call.
-/
module

public import proofs.«01_k».proof.Proof.Sides
public import proofs.«01_k».proof.Proof.Gen.KernelIdeal.Launch

@[expose] public section

set_option maxRecDepth 20000
set_option maxHeartbeats 20000000

noncomputable section

namespace Cert.Proof

open Idealize.ShloMosaic Idealize.SL.Sem Cert.Proof.Twin Cert.KernelIdeal.Gen

attribute [local irreducible] StableHlo.nullary StableHlo.unary StableHlo.binary StableHlo.ternary StableHlo.quaternary
  StableHlo.nary StableHlo.reshape

/-- Parts 22 to 24 of the reference and the kernel's operations beside them carry contents that agree to contents that agree. -/
theorem parts22 (d : Dev ReferenceIdeal.nD) {N : Nat} {rest : List (List KOp)} {ps : List RProg}
    (h : Sim 2801 N (rest) ps) :
    Sim 2275 N
      (hostOps1_200.drop 2 :: hostOps1_201 :: hostOps1_202 :: hostOps1_203 :: hostOps1_204 :: hostOps1_205 :: hostOps1_206 :: hostOps1_207 ::
        hostOps1_208 :: hostOps1_209 :: hostOps1_210 :: hostOps1_211 :: hostOps1_212 :: hostOps1_213 :: hostOps1_214 :: hostOps1_215 ::
        hostOps1_216 :: hostOps1_217 :: hostOps1_218 :: hostOps1_219 :: hostOps1_220 :: hostOps1_221 :: hostOps1_222 :: hostOps1_223 ::
        hostOps1_224 :: hostOps1_225 :: hostOps1_226 :: hostOps1_227 :: hostOps1_228 :: hostOps1_229 :: hostOps1_230 :: hostOps1_231 ::
        hostOps1_232 :: hostOps1_233 :: hostOps1_234 :: hostOps1_235 :: hostOps1_236 :: hostOps1_237 :: hostOps1_238 :: hostOps1_239 ::
        hostOps1_240 :: hostOps1_241 :: hostOps1_242 :: hostOps1_243 :: hostOps1_244 :: hostOps1_245 :: hostOps1_246 :: hostOps1_247 ::
        hostOps1_248 :: hostOps1_249 :: hostOps1_250 :: hostOps1_251 :: hostOps1_252 :: hostOps1_253 :: hostOps1_254 :: hostOps1_255 ::
        hostOps1_256 :: hostOps1_257 :: hostOps1_258 :: hostOps1_259 :: rest)
      (ReferenceIdeal.main_part22 d :: ReferenceIdeal.main_part23 d :: ReferenceIdeal.main_part24 d :: ps) := by
  apply (id : Sim _ _ ((_ :: _) :: _) _ → _)
  repeat' first
    | with_reducible refine Sim.cons ?_ ?_
    | exact Step.unary ⟨rfl, rfl, rfl, rfl, rfl⟩ ⟨rfl, rfl, rfl, rfl, rfl, rfl, rfl⟩ HEq.rfl HEq.rfl
    | exact Step.binary ⟨rfl, rfl, rfl, rfl, rfl⟩ ⟨rfl, rfl, rfl, rfl, rfl⟩ ⟨rfl, rfl, rfl, rfl, rfl, rfl, rfl⟩ HEq.rfl HEq.rfl
    | exact Step.nullary ⟨rfl, rfl, rfl, rfl, rfl, rfl, rfl⟩ HEq.rfl HEq.rfl
    | exact Step.reshape ⟨rfl, rfl, rfl, rfl, rfl⟩ ⟨rfl, rfl, rfl, rfl, rfl, rfl, rfl⟩
    | exact Step.ternary ⟨rfl, rfl, rfl, rfl, rfl⟩ ⟨rfl, rfl, rfl, rfl, rfl⟩ ⟨rfl, rfl, rfl, rfl, rfl⟩
        ⟨rfl, rfl, rfl, rfl, rfl, rfl, rfl⟩ HEq.rfl HEq.rfl
    | refine Step.concat (A := KernelIdeal.S1x1x655360) ?_ ⟨rfl, rfl, rfl, rfl, rfl, rfl, rfl⟩ (Nat.le.step Nat.le.refl) ?_ ?_
    | exact fun _ => ⟨_, HEq.rfl⟩
    | (intro k; fin_cases k <;> exact ⟨rfl, rfl, rfl, rfl, rfl⟩)
    | with_reducible apply Sim.bind
    | with_reducible apply Sim.nil
    | with_reducible apply Sim.ret
    | exact h
    | apply Sim.bind

end Cert.Proof

end
-- ==== Proof.Parts25.lean ====
/-
  Parts 25 to 27 of the reference's program, one operation at a time beside the kernel's operations after its pallas_call.
-/
module

public import proofs.«01_k».proof.Proof.Sides
public import proofs.«01_k».proof.Proof.Gen.KernelIdeal.Launch

@[expose] public section

set_option maxRecDepth 20000
set_option maxHeartbeats 20000000

noncomputable section

namespace Cert.Proof

open Idealize.ShloMosaic Idealize.SL.Sem Cert.Proof.Twin Cert.KernelIdeal.Gen

attribute [local irreducible] StableHlo.nullary StableHlo.unary StableHlo.binary StableHlo.ternary StableHlo.quaternary
  StableHlo.nary StableHlo.reshape

/-- Parts 25 to 27 of the reference and the kernel's operations beside them carry contents that agree to contents that agree. -/
theorem parts25 (d : Dev ReferenceIdeal.nD) {N : Nat} {rest : List (List KOp)} {ps : List RProg}
    (h : Sim 3293 N (hostOps1_312.drop 24 :: rest) ps) :
    Sim 2801 N
      (hostOps1_260 :: hostOps1_261 :: hostOps1_262 :: hostOps1_263 :: hostOps1_264 :: hostOps1_265 :: hostOps1_266 :: hostOps1_267 ::
        hostOps1_268 :: hostOps1_269 :: hostOps1_270 :: hostOps1_271 :: hostOps1_272 :: hostOps1_273 :: hostOps1_274 :: hostOps1_275 ::
        hostOps1_276 :: hostOps1_277 :: hostOps1_278 :: hostOps1_279 :: hostOps1_280 :: hostOps1_281 :: hostOps1_282 :: hostOps1_283 ::
        hostOps1_284 :: hostOps1_285 :: hostOps1_286 :: hostOps1_287 :: hostOps1_288 :: hostOps1_289 :: hostOps1_290 :: hostOps1_291 ::
        hostOps1_292 :: hostOps1_293 :: hostOps1_294 :: hostOps1_295 :: hostOps1_296 :: hostOps1_297 :: hostOps1_298 :: hostOps1_299 ::
        hostOps1_300 :: hostOps1_301 :: hostOps1_302 :: hostOps1_303 :: hostOps1_304 :: hostOps1_305 :: hostOps1_306 :: hostOps1_307 ::
        hostOps1_308 :: hostOps1_309 :: hostOps1_310 :: hostOps1_311 :: hostOps1_312 :: rest)
      (ReferenceIdeal.main_part25 d :: ReferenceIdeal.main_part26 d :: ReferenceIdeal.main_part27 d :: ps) := by
  repeat' first
    | with_reducible refine Sim.cons ?_ ?_
    | exact Step.unary ⟨rfl, rfl, rfl, rfl, rfl⟩ ⟨rfl, rfl, rfl, rfl, rfl, rfl, rfl⟩ HEq.rfl HEq.rfl
    | exact Step.binary ⟨rfl, rfl, rfl, rfl, rfl⟩ ⟨rfl, rfl, rfl, rfl, rfl⟩ ⟨rfl, rfl, rfl, rfl, rfl, rfl, rfl⟩ HEq.rfl HEq.rfl
    | exact Step.nullary ⟨rfl, rfl, rfl, rfl, rfl, rfl, rfl⟩ HEq.rfl HEq.rfl
    | exact Step.reshape ⟨rfl, rfl, rfl, rfl, rfl⟩ ⟨rfl, rfl, rfl, rfl, rfl, rfl, rfl⟩
    | exact Step.ternary ⟨rfl, rfl, rfl, rfl, rfl⟩ ⟨rfl, rfl, rfl, rfl, rfl⟩ ⟨rfl, rfl, rfl, rfl, rfl⟩
        ⟨rfl, rfl, rfl, rfl, rfl, rfl, rfl⟩ HEq.rfl HEq.rfl
    | refine Step.concat (A := KernelIdeal.S1x1x655360) ?_ ⟨rfl, rfl, rfl, rfl, rfl, rfl, rfl⟩ (Nat.le.step Nat.le.refl) ?_ ?_
    | exact fun _ => ⟨_, HEq.rfl⟩
    | (intro k; fin_cases k <;> exact ⟨rfl, rfl, rfl, rfl, rfl⟩)
    | with_reducible apply Sim.bind
    | with_reducible apply Sim.nil
    | with_reducible apply Sim.ret
    | exact h
    | apply Sim.bind

end Cert.Proof

end
-- ==== Proof.Parts28.lean ====
/-
  Parts 28 to 34 of the reference's program, one operation at a time beside the kernel's operations after its pallas_call.
-/
module

public import proofs.«01_k».proof.Proof.Sides
public import proofs.«01_k».proof.Proof.Gen.KernelIdeal.Launch

@[expose] public section

set_option maxRecDepth 20000
set_option maxHeartbeats 20000000

noncomputable section

namespace Cert.Proof

open Idealize.ShloMosaic Idealize.SL.Sem Cert.Proof.Twin Cert.KernelIdeal.Gen

attribute [local irreducible] StableHlo.nullary StableHlo.unary StableHlo.binary StableHlo.ternary StableHlo.quaternary
  StableHlo.nary StableHlo.reshape

/-- Parts 28 to 34 of the reference and the kernel's operations beside them carry contents that agree to contents that agree. -/
theorem parts28 (d : Dev ReferenceIdeal.nD) {N : Nat} {rest : List (List KOp)} {ps : List RProg}
    (h : Sim 3826 N (hostOps1_352.drop 2 :: rest) ps) :
    Sim 3293 N
      (hostOps1_312.drop 24 :: hostOps1_313 :: hostOps1_314 :: hostOps1_315 :: hostOps1_316 :: hostOps1_317 :: hostOps1_318 :: hostOps1_319 ::
        hostOps1_320 :: hostOps1_321 :: hostOps1_322 :: hostOps1_323 :: hostOps1_324 :: hostOps1_325 :: hostOps1_326 :: hostOps1_327 ::
        hostOps1_328 :: hostOps1_329 :: hostOps1_330 :: hostOps1_331 :: hostOps1_332 :: hostOps1_333 :: hostOps1_334 :: hostOps1_335 ::
        hostOps1_336 :: hostOps1_337 :: hostOps1_338 :: hostOps1_339 :: hostOps1_340 :: hostOps1_341 :: hostOps1_342 :: hostOps1_343 ::
        hostOps1_344 :: hostOps1_345 :: hostOps1_346 :: hostOps1_347 :: hostOps1_348 :: hostOps1_349 :: hostOps1_350 :: hostOps1_351 ::
        hostOps1_352 :: rest)
      (ReferenceIdeal.main_part28 d :: ReferenceIdeal.main_part29 d :: ReferenceIdeal.main_part30 d :: ReferenceIdeal.main_part31 d ::
        ReferenceIdeal.main_part32 d :: ReferenceIdeal.main_part33 d :: ReferenceIdeal.main_part34 d :: ps) := by
  apply (id : Sim _ _ ((_ :: _) :: _) _ → _)
  repeat' first
    | with_reducible refine Sim.cons ?_ ?_
    | exact Step.unary ⟨rfl, rfl, rfl, rfl, rfl⟩ ⟨rfl, rfl, rfl, rfl, rfl, rfl, rfl⟩ HEq.rfl HEq.rfl
    | exact Step.binary ⟨rfl, rfl, rfl, rfl, rfl⟩ ⟨rfl, rfl, rfl, rfl, rfl⟩ ⟨rfl, rfl, rfl, rfl, rfl, rfl, rfl⟩ HEq.rfl HEq.rfl
    | exact Step.nullary ⟨rfl, rfl, rfl, rfl, rfl, rfl, rfl⟩ HEq.rfl HEq.rfl
    | exact Step.reshape ⟨rfl, rfl, rfl, rfl, rfl⟩ ⟨rfl, rfl, rfl, rfl, rfl, rfl, rfl⟩
    | exact Step.ternary ⟨rfl, rfl, rfl, rfl, rfl⟩ ⟨rfl, rfl, rfl, rfl, rfl⟩ ⟨rfl, rfl, rfl, rfl, rfl⟩
        ⟨rfl, rfl, rfl, rfl, rfl, rfl, rfl⟩ HEq.rfl HEq.rfl
    | refine Step.concat (A := KernelIdeal.S1x1x655360) ?_ ⟨rfl, rfl, rfl, rfl, rfl, rfl, rfl⟩ (Nat.le.step Nat.le.refl) ?_ ?_
    | exact fun _ => ⟨_, HEq.rfl⟩
    | (intro k; fin_cases k <;> exact ⟨rfl, rfl, rfl, rfl, rfl⟩)
    | with_reducible apply Sim.bind
    | with_reducible apply Sim.nil
    | with_reducible apply Sim.ret
    | exact h
    | apply Sim.bind

end Cert.Proof

end
-- ==== Proof.Parts35.lean ====
/-
  Parts 35 to 41 of the reference's program, one operation at a time beside the kernel's operations after its pallas_call.
-/
module

public import proofs.«01_k».proof.Proof.Sides
public import proofs.«01_k».proof.Proof.Gen.KernelIdeal.Launch

@[expose] public section

set_option maxRecDepth 20000
set_option maxHeartbeats 20000000

noncomputable section

namespace Cert.Proof

open Idealize.ShloMosaic Idealize.SL.Sem Cert.Proof.Twin Cert.KernelIdeal.Gen

attribute [local irreducible] StableHlo.nullary StableHlo.unary StableHlo.binary StableHlo.ternary StableHlo.quaternary
  StableHlo.nary StableHlo.reshape

/-- Parts 35 to 41 of the reference and the kernel's operations beside them carry contents that agree to contents that agree. -/
theorem parts35 (d : Dev ReferenceIdeal.nD) {N : Nat} {rest : List (List KOp)} {ps : List RProg}
    (h : Sim 4346 N (hostOps1_388.drop 17 :: rest) ps) :
    Sim 3826 N
      (hostOps1_352.drop 2 :: hostOps1_353 :: hostOps1_354 :: hostOps1_355 :: hostOps1_356 :: hostOps1_357 :: hostOps1_358 :: hostOps1_359 ::
        hostOps1_360 :: hostOps1_361 :: hostOps1_362 :: hostOps1_363 :: hostOps1_364 :: hostOps1_365 :: hostOps1_366 :: hostOps1_367 ::
        hostOps1_368 :: hostOps1_369 :: hostOps1_370 :: hostOps1_371 :: hostOps1_372 :: hostOps1_373 :: hostOps1_374 :: hostOps1_375 ::
        hostOps1_376 :: hostOps1_377 :: hostOps1_378 :: hostOps1_379 :: hostOps1_380 :: hostOps1_381 :: hostOps1_382 :: hostOps1_383 ::
        hostOps1_384 :: hostOps1_385 :: hostOps1_386 :: hostOps1_387 :: hostOps1_388 :: rest)
      (ReferenceIdeal.main_part35 d :: ReferenceIdeal.main_part36 d :: ReferenceIdeal.main_part37 d :: ReferenceIdeal.main_part38 d ::
        ReferenceIdeal.main_part39 d :: ReferenceIdeal.main_part40 d :: ReferenceIdeal.main_part41 d :: ps) := by
  apply (id : Sim _ _ ((_ :: _) :: _) _ → _)
  repeat' first
    | with_reducible refine Sim.cons ?_ ?_
    | exact Step.unary ⟨rfl, rfl, rfl, rfl, rfl⟩ ⟨rfl, rfl, rfl, rfl, rfl, rfl, rfl⟩ HEq.rfl HEq.rfl
    | exact Step.binary ⟨rfl, rfl, rfl, rfl, rfl⟩ ⟨rfl, rfl, rfl, rfl, rfl⟩ ⟨rfl, rfl, rfl, rfl, rfl, rfl, rfl⟩ HEq.rfl HEq.rfl
    | exact Step.nullary ⟨rfl, rfl, rfl, rfl, rfl, rfl, rfl⟩ HEq.rfl HEq.rfl
    | exact Step.reshape ⟨rfl, rfl, rfl, rfl, rfl⟩ ⟨rfl, rfl, rfl, rfl, rfl, rfl, rfl⟩
    | exact Step.ternary ⟨rfl, rfl, rfl, rfl, rfl⟩ ⟨rfl, rfl, rfl, rfl, rfl⟩ ⟨rfl, rfl, rfl, rfl, rfl⟩
        ⟨rfl, rfl, rfl, rfl, rfl, rfl, rfl⟩ HEq.rfl HEq.rfl
    | refine Step.concat (A := KernelIdeal.S1x1x655360) ?_ ⟨rfl, rfl, rfl, rfl, rfl, rfl, rfl⟩ (Nat.le.step Nat.le.refl) ?_ ?_
    | exact fun _ => ⟨_, HEq.rfl⟩
    | (intro k; fin_cases k <;> exact ⟨rfl, rfl, rfl, rfl, rfl⟩)
    | with_reducible apply Sim.bind
    | with_reducible apply Sim.nil
    | with_reducible apply Sim.ret
    | exact h
    | apply Sim.bind

end Cert.Proof

end
-- ==== Proof.Parts42.lean ====
/-
  Parts 42 to 44 of the reference's program, one operation at a time beside the kernel's operations after its pallas_call.
-/
module

public import proofs.«01_k».proof.Proof.Sides
public import proofs.«01_k».proof.Proof.Gen.KernelIdeal.Launch

@[expose] public section

set_option maxRecDepth 20000
set_option maxHeartbeats 20000000

noncomputable section

namespace Cert.Proof

open Idealize.ShloMosaic Idealize.SL.Sem Cert.Proof.Twin Cert.KernelIdeal.Gen

attribute [local irreducible] StableHlo.nullary StableHlo.unary StableHlo.binary StableHlo.ternary StableHlo.quaternary
  StableHlo.nary StableHlo.reshape

/-- Parts 42 to 44 of the reference and the kernel's operations beside them carry contents that agree to contents that agree. -/
theorem parts42 (d : Dev ReferenceIdeal.nD) {N : Nat} {rest : List (List KOp)} {ps : List RProg}
    (h : Sim 4827 N (hostOps1_440.drop 6 :: rest) ps) :
    Sim 4346 N
      (hostOps1_388.drop 17 :: hostOps1_389 :: hostOps1_390 :: hostOps1_391 :: hostOps1_392 :: hostOps1_393 :: hostOps1_394 :: hostOps1_395 ::
        hostOps1_396 :: hostOps1_397 :: hostOps1_398 :: hostOps1_399 :: hostOps1_400 :: hostOps1_401 :: hostOps1_402 :: hostOps1_403 ::
        hostOps1_404 :: hostOps1_405 :: hostOps1_406 :: hostOps1_407 :: hostOps1_408 :: hostOps1_409 :: hostOps1_410 :: hostOps1_411 ::
        hostOps1_412 :: hostOps1_413 :: hostOps1_414 :: hostOps1_415 :: hostOps1_416 :: hostOps1_417 :: hostOps1_418 :: hostOps1_419 ::
        hostOps1_420 :: hostOps1_421 :: hostOps1_422 :: hostOps1_423 :: hostOps1_424 :: hostOps1_425 :: hostOps1_426 :: hostOps1_427 ::
        hostOps1_428 :: hostOps1_429 :: hostOps1_430 :: hostOps1_431 :: hostOps1_432 :: hostOps1_433 :: hostOps1_434 :: hostOps1_435 ::
        hostOps1_436 :: hostOps1_437 :: hostOps1_438 :: hostOps1_439 :: hostOps1_440 :: rest)
      (ReferenceIdeal.main_part42 d :: ReferenceIdeal.main_part43 d :: ReferenceIdeal.main_part44 d :: ps) := by
  apply (id : Sim _ _ ((_ :: _) :: _) _ → _)
  repeat' first
    | with_reducible refine Sim.cons ?_ ?_
    | exact Step.unary ⟨rfl, rfl, rfl, rfl, rfl⟩ ⟨rfl, rfl, rfl, rfl, rfl, rfl, rfl⟩ HEq.rfl HEq.rfl
    | exact Step.binary ⟨rfl, rfl, rfl, rfl, rfl⟩ ⟨rfl, rfl, rfl, rfl, rfl⟩ ⟨rfl, rfl, rfl, rfl, rfl, rfl, rfl⟩ HEq.rfl HEq.rfl
    | exact Step.nullary ⟨rfl, rfl, rfl, rfl, rfl, rfl, rfl⟩ HEq.rfl HEq.rfl
    | exact Step.reshape ⟨rfl, rfl, rfl, rfl, rfl⟩ ⟨rfl, rfl, rfl, rfl, rfl, rfl, rfl⟩
    | exact Step.ternary ⟨rfl, rfl, rfl, rfl, rfl⟩ ⟨rfl, rfl, rfl, rfl, rfl⟩ ⟨rfl, rfl, rfl, rfl, rfl⟩
        ⟨rfl, rfl, rfl, rfl, rfl, rfl, rfl⟩ HEq.rfl HEq.rfl
    | refine Step.concat (A := KernelIdeal.S1x1x655360) ?_ ⟨rfl, rfl, rfl, rfl, rfl, rfl, rfl⟩ (Nat.le.step Nat.le.refl) ?_ ?_
    | exact fun _ => ⟨_, HEq.rfl⟩
    | (intro k; fin_cases k <;> exact ⟨rfl, rfl, rfl, rfl, rfl⟩)
    | with_reducible apply Sim.bind
    | with_reducible apply Sim.nil
    | with_reducible apply Sim.ret
    | exact h
    | apply Sim.bind

end Cert.Proof

end
-- ==== Proof.Parts45.lean ====
/-
  Parts 45 to 47 of the reference's program, one operation at a time beside the kernel's operations after its pallas_call.
-/
module

public import proofs.«01_k».proof.Proof.Sides
public import proofs.«01_k».proof.Proof.Gen.KernelIdeal.Launch

@[expose] public section

set_option maxRecDepth 20000
set_option maxHeartbeats 20000000

noncomputable section

namespace Cert.Proof

open Idealize.ShloMosaic Idealize.SL.Sem Cert.Proof.Twin Cert.KernelIdeal.Gen

attribute [local irreducible] StableHlo.nullary StableHlo.unary StableHlo.binary StableHlo.ternary StableHlo.quaternary
  StableHlo.nary StableHlo.reshape

/-- Parts 45 to 47 of the reference and the kernel's operations beside them carry contents that agree to contents that agree. -/
theorem parts45 (d : Dev ReferenceIdeal.nD) {N : Nat} {rest : List (List KOp)} {ps : List RProg}
    (h : Sim 5367 N (hostOps1_500.drop 6 :: rest) ps) :
    Sim 4827 N
      (hostOps1_440.drop 6 :: hostOps1_441 :: hostOps1_442 :: hostOps1_443 :: hostOps1_444 :: hostOps1_445 :: hostOps1_446 :: hostOps1_447 ::
        hostOps1_448 :: hostOps1_449 :: hostOps1_450 :: hostOps1_451 :: hostOps1_452 :: hostOps1_453 :: hostOps1_454 :: hostOps1_455 ::
        hostOps1_456 :: hostOps1_457 :: hostOps1_458 :: hostOps1_459 :: hostOps1_460 :: hostOps1_461 :: hostOps1_462 :: hostOps1_463 ::
        hostOps1_464 :: hostOps1_465 :: hostOps1_466 :: hostOps1_467 :: hostOps1_468 :: hostOps1_469 :: hostOps1_470 :: hostOps1_471 ::
        hostOps1_472 :: hostOps1_473 :: hostOps1_474 :: hostOps1_475 :: hostOps1_476 :: hostOps1_477 :: hostOps1_478 :: hostOps1_479 ::
        hostOps1_480 :: hostOps1_481 :: hostOps1_482 :: hostOps1_483 :: hostOps1_484 :: hostOps1_485 :: hostOps1_486 :: hostOps1_487 ::
        hostOps1_488 :: hostOps1_489 :: hostOps1_490 :: hostOps1_491 :: hostOps1_492 :: hostOps1_493 :: hostOps1_494 :: hostOps1_495 ::
        hostOps1_496 :: hostOps1_497 :: hostOps1_498 :: hostOps1_499 :: hostOps1_500 :: rest)
      (ReferenceIdeal.main_part45 d :: ReferenceIdeal.main_part46 d :: ReferenceIdeal.main_part47 d :: ps) := by
  apply (id : Sim _ _ ((_ :: _) :: _) _ → _)
  repeat' first
    | with_reducible refine Sim.cons ?_ ?_
    | exact Step.unary ⟨rfl, rfl, rfl, rfl, rfl⟩ ⟨rfl, rfl, rfl, rfl, rfl, rfl, rfl⟩ HEq.rfl HEq.rfl
    | exact Step.binary ⟨rfl, rfl, rfl, rfl, rfl⟩ ⟨rfl, rfl, rfl, rfl, rfl⟩ ⟨rfl, rfl, rfl, rfl, rfl, rfl, rfl⟩ HEq.rfl HEq.rfl
    | exact Step.nullary ⟨rfl, rfl, rfl, rfl, rfl, rfl, rfl⟩ HEq.rfl HEq.rfl
    | exact Step.reshape ⟨rfl, rfl, rfl, rfl, rfl⟩ ⟨rfl, rfl, rfl, rfl, rfl, rfl, rfl⟩
    | exact Step.ternary ⟨rfl, rfl, rfl, rfl, rfl⟩ ⟨rfl, rfl, rfl, rfl, rfl⟩ ⟨rfl, rfl, rfl, rfl, rfl⟩
        ⟨rfl, rfl, rfl, rfl, rfl, rfl, rfl⟩ HEq.rfl HEq.rfl
    | refine Step.concat (A := KernelIdeal.S1x1x655360) ?_ ⟨rfl, rfl, rfl, rfl, rfl, rfl, rfl⟩ (Nat.le.step Nat.le.refl) ?_ ?_
    | exact fun _ => ⟨_, HEq.rfl⟩
    | (intro k; fin_cases k <;> exact ⟨rfl, rfl, rfl, rfl, rfl⟩)
    | with_reducible apply Sim.bind
    | with_reducible apply Sim.nil
    | with_reducible apply Sim.ret
    | exact h
    | apply Sim.bind

end Cert.Proof

end
-- ==== Proof.Parts48.lean ====
/-
  Parts 48 to 50 of the reference's program, one operation at a time beside the kernel's operations after its pallas_call.
-/
module

public import proofs.«01_k».proof.Proof.Sides
public import proofs.«01_k».proof.Proof.Gen.KernelIdeal.Launch

@[expose] public section

set_option maxRecDepth 20000
set_option maxHeartbeats 20000000

noncomputable section

namespace Cert.Proof

open Idealize.ShloMosaic Idealize.SL.Sem Cert.Proof.Twin Cert.KernelIdeal.Gen

attribute [local irreducible] StableHlo.nullary StableHlo.unary StableHlo.binary StableHlo.ternary StableHlo.quaternary
  StableHlo.nary StableHlo.reshape

/-- Parts 48 to 50 of the reference and the kernel's operations beside them carry contents that agree to contents that agree. -/
theorem parts48 (d : Dev ReferenceIdeal.nD) {N : Nat} {rest : List (List KOp)} {ps : List RProg}
    (h : Sim 5602 N (rest) ps) :
    Sim 5367 N
      (hostOps1_500.drop 6 :: hostOps1_501 :: hostOps1_502 :: hostOps1_503 :: hostOps1_504 :: hostOps1_505 :: hostOps1_506 :: hostOps1_507 ::
        hostOps1_508 :: hostOps1_509 :: hostOps1_510 :: hostOps1_511 :: hostOps1_512 :: hostOps1_513 :: hostOps1_514 :: hostOps1_515 ::
        hostOps1_516 :: hostOps1_517 :: hostOps1_518 :: hostOps1_519 :: hostOps1_520 :: rest)
      (ReferenceIdeal.main_part48 d :: ReferenceIdeal.main_part49 d :: ReferenceIdeal.main_part50 d :: ps) := by
  apply (id : Sim _ _ ((_ :: _) :: _) _ → _)
  repeat' first
    | with_reducible refine Sim.cons ?_ ?_
    | exact Step.unary ⟨rfl, rfl, rfl, rfl, rfl⟩ ⟨rfl, rfl, rfl, rfl, rfl, rfl, rfl⟩ HEq.rfl HEq.rfl
    | exact Step.binary ⟨rfl, rfl, rfl, rfl, rfl⟩ ⟨rfl, rfl, rfl, rfl, rfl⟩ ⟨rfl, rfl, rfl, rfl, rfl, rfl, rfl⟩ HEq.rfl HEq.rfl
    | exact Step.nullary ⟨rfl, rfl, rfl, rfl, rfl, rfl, rfl⟩ HEq.rfl HEq.rfl
    | exact Step.reshape ⟨rfl, rfl, rfl, rfl, rfl⟩ ⟨rfl, rfl, rfl, rfl, rfl, rfl, rfl⟩
    | exact Step.ternary ⟨rfl, rfl, rfl, rfl, rfl⟩ ⟨rfl, rfl, rfl, rfl, rfl⟩ ⟨rfl, rfl, rfl, rfl, rfl⟩
        ⟨rfl, rfl, rfl, rfl, rfl, rfl, rfl⟩ HEq.rfl HEq.rfl
    | exact Step.quaternary ⟨rfl, rfl, rfl, rfl, rfl⟩ ⟨rfl, rfl, rfl, rfl, rfl⟩ ⟨rfl, rfl, rfl, rfl, rfl⟩ ⟨rfl, rfl, rfl, rfl, rfl⟩
        ⟨rfl, rfl, rfl, rfl, rfl, rfl, rfl⟩ HEq.rfl HEq.rfl
    | refine Step.concat (A := KernelIdeal.S1x1x655360) ?_ ⟨rfl, rfl, rfl, rfl, rfl, rfl, rfl⟩ (Nat.le.step Nat.le.refl) ?_ ?_
    | exact fun _ => ⟨_, HEq.rfl⟩
    | (intro k; fin_cases k <;> exact ⟨rfl, rfl, rfl, rfl, rfl⟩)
    | with_reducible apply Sim.bind
    | with_reducible apply Sim.nil
    | with_reducible apply Sim.ret
    | exact h
    | apply Sim.bind

end Cert.Proof

end
-- ==== Proof.Tail.lean ====
/-
  The kernel's code from its pallas_call up to the pixels' superpixel line, and that what it leaves agrees with what the
  reference's first operations leave.
-/
module

public import proofs.«01_k».proof.Proof.Head
public import proofs.«01_k».proof.Proof.Gen.KernelIdeal.Launch

@[expose] public section

set_option maxRecDepth 16384

noncomputable section

namespace Cert.Proof

open Idealize.ShloMosaic Idealize.ShloMosaic.StableHlo Idealize.SL.Sem Cert.KernelIdeal Cert.KernelIdeal.Gen

/-- The features of a Lab video, the frames first. -/
def framesFirst (v : FVec Ideal ReferenceIdeal.S1x3x8x256x320 .f32) (i : S8x6x256x320.Idx) : EReal :=
  feat v (ix5 0 (i 1) (i 0) (i 2) (i 3))

/-- The kernel's first fourteen operations after its pallas_call: the features with the channels first, the lines read off them, and
    the superpixels in a line. -/
abbrev tailOps : List KOp := hostOps1.take 14

/-- An array of features with the frames first, turned to have the channels first, under a batch axis. -/
theorem channels_first (u : FVec Ideal S8x6x256x320 .f32) (h h') (j : S1x6x8x256x320.Idx) :
    broadcastInDim S1x6x8x256x320 ![1, 2, 3, 4] h (transpose S6x8x256x320 [1, 0, 2, 3] u h') j = u (ix4 (j 2) (j 1) (j 3) (j 4)) := by
  pointwise

/-- Turned to have the channels first, the frames' features are the feature array. -/
theorem channels_first_feat (v : FVec Ideal ReferenceIdeal.S1x3x8x256x320 .f32) (h h') :
    broadcastInDim S1x6x8x256x320 ![1, 2, 3, 4] h (transpose S6x8x256x320 [1, 0, 2, 3] (framesFirst v : FVec Ideal S8x6x256x320 .f32) h')
      = feat v := by
  funext j
  refine (channels_first _ h h' j).trans (congrArg (feat v) ?_)
  funext a
  match a with
  | 0 => exact Subsingleton.elim (α := Fin 1) _ _
  | 1 | 2 | 3 | 4 => rfl

/-- The feature array that the kernel's program keeps. -/
theorem tail_feat (V : Valuation τ sig (Elt Ideal)) (v : FVec Ideal ReferenceIdeal.S1x3x8x256x320 .f32)
    (hv : V (Proc.devRef .tc main_v2) = framesFirst v) : after tailOps V (Proc.devRef .tc main_v4) = feat v := by
  simp only [tailOps, hostOps1, List.take_succ_cons, List.take_zero]
  after_results_simp
  rw [hv]
  exact channels_first_feat v _ _

/-- The pixels' features as rows, in the kernel's program. -/
theorem tail_rows (V : Valuation τ sig (Elt Ideal)) (v : FVec Ideal ReferenceIdeal.S1x3x8x256x320 .f32)
    (hv : V (Proc.devRef .tc main_v2) = framesFirst v) :
    after tailOps V (Proc.devRef .tc main_v7) = shapeCast S655360x6 (transpose S1x655360x6 [0, 2, 1]
          (shapeCast S1x6x655360 (feat v : FVec Ideal S1x6x8x256x320 .f32) shapeCasts_S1x6x8x256x320_S1x6x655360)
          transposes_S1x6x655360_S1x655360x6_0_2_1) shapeCasts_S1x655360x6_S655360x6 := by
  rw [← channels_first_feat v bcast_S6x8x256x320_S1x6x8x256x320_1_2_3_4 transposes_S8x6x256x320_S6x8x256x320_1_0_2_3]
  simp only [tailOps, hostOps1, List.take_succ_cons, List.take_zero]
  after_results_simp
  rw [hv]
  rfl

/-- The pixels' superpixels, each plus 520 times the number of its batch, which is 0, are the pixels' superpixels. -/
theorem offset_line (s : IVec S1x1x8x256x320 32) (h : S1x1x8x256x320.ShapeCasts S655360) :
    shapeCast S655360 (addi (shapeCast S1x655360 s shapeCasts_S1x1x8x256x320_S1x655360)
      (broadcastInDim S1x655360 ![0, 1] bcast_S1x1_S1x655360_0_1
        (muli (broadcastInDim S1x1 ![0] bcast_S1_S1x1_0 (iotaInDim S1 32 0))
          (broadcastInDim S1x1 ![] bcast_S_S1x1 (constantI S_ 32 520#32))))) shapeCasts_S1x655360_S655360
      = shapeCast S655360 s h := by
  have e : broadcastInDim S1x655360 ![0, 1] bcast_S1x1_S1x655360_0_1
        (muli (broadcastInDim S1x1 ![0] bcast_S1_S1x1_0 (iotaInDim S1 32 0))
          (broadcastInDim S1x1 ![] bcast_S_S1x1 (constantI S_ 32 520#32))) = fun _ => 0#32 := by
    funext i
    pointwise
    rfl
  rw [e]
  have e' : addi (shapeCast S1x655360 s shapeCasts_S1x1x8x256x320_S1x655360) (fun _ => 0#32)
      = shapeCast S1x655360 s shapeCasts_S1x1x8x256x320_S1x655360 := funext fun i => BitVec.add_zero _
  rw [e']
  funext i
  exact congrArg s (Shape.reshapeEquiv_reshapeEquiv _ _ i)

/-- The pixels' superpixels in a line, in the kernel's program. -/
theorem tail_flat (V : Valuation τ sig (Elt Ideal)) (h : S1x1x8x256x320.ShapeCasts S655360) :
    after tailOps V (Proc.devRef .tc main_v15) = shapeCast S655360 (V (Proc.devRef .tc main_arg1) : IVec S1x1x8x256x320 32) h := by
  simp only [tailOps, hostOps1, List.take_succ_cons, List.take_zero]
  after_results_simp
  exact offset_line _ h

/-- The kernel's program keeps its second argument and its three constants. -/
theorem tail_kept (V : Valuation τ sig (Elt Ideal)) :
    after tailOps V (Proc.devRef .tc main_arg1) = V (Proc.devRef .tc main_arg1)
      ∧ after tailOps V (Proc.devRef .tc main_c) = V (Proc.devRef .tc main_c)
      ∧ after tailOps V (Proc.devRef .tc main_c_0) = V (Proc.devRef .tc main_c_0)
      ∧ after tailOps V (Proc.devRef .tc main_c_1) = V (Proc.devRef .tc main_c_1) := by
  simp only [tailOps, hostOps1, List.take_succ_cons, List.take_zero]
  refine ⟨?_, ?_, ?_, ?_⟩ <;> after_results_simp

/-- The two programs' three constants are the same. -/
theorem consts_eq : (fun i : S27.Idx => lit0 (S27.rowMajor i)) = (fun i : ReferenceIdeal.S27.Idx => ReferenceIdeal.lit1 (ReferenceIdeal.S27.rowMajor i))
    ∧ (fun i : S27.Idx => lit1 (S27.rowMajor i)) = (fun i : ReferenceIdeal.S27.Idx => ReferenceIdeal.lit2 (ReferenceIdeal.S27.rowMajor i))
    ∧ (fun i : S27.Idx => lit2 (S27.rowMajor i)) = (fun i : ReferenceIdeal.S27.Idx => ReferenceIdeal.lit3 (ReferenceIdeal.S27.rowMajor i)) :=
  ⟨rfl, rfl, rfl⟩

/-- Where the pallas_call has left the features of the reference's Lab video, the superpixels are the reference's and the constants are
    in place, what the kernel's next operations leave agrees with what the reference's first operations leave. -/
theorem agree_start (V : Valuation τ sig (Elt Ideal)) (V' : Valuation ReferenceIdeal.τ ReferenceIdeal.sig (Elt Ideal))
    (hv : V (Proc.devRef .tc main_v2) = framesFirst (V' (Proc.devRef .tc ReferenceIdeal.main_arg0)))
    (hs : V (Proc.devRef .tc main_arg1) = V' (Proc.devRef .tc ReferenceIdeal.main_arg1))
    (h0 : V (Proc.devRef .tc main_c) = fun i : S27.Idx => lit0 (S27.rowMajor i))
    (h1 : V (Proc.devRef .tc main_c_0) = fun i : S27.Idx => lit1 (S27.rowMajor i))
    (h2 : V (Proc.devRef .tc main_c_1) = fun i : S27.Idx => lit2 (S27.rowMajor i)) :
    Twin.Agree 22 (after tailOps V) (after (headOps (F := Ideal)) V') := by
  obtain ⟨k1, k2, k3, k4⟩ := tail_kept V
  obtain ⟨r1, r2, r3, -, r5⟩ := head_consts V'
  intro a b S e hab
  have hp := hab.idx
  have hlt := (Twin.paired_cases hp).1
  have hm : (a.idx.val, b.idx.val) ∈ [(1, 1), (2, 3), (3, 4), (4, 5), (9, 17), (12, 20), (21, 21)] := by
    have h22 : Nat.ble 22 a.idx.val = false := by
      cases h : Nat.ble 22 a.idx.val with
      | true => exact absurd (Nat.le_of_ble_eq_true h) (by omega)
      | false => rfl
    simp only [Twin.paired, Bool.and_eq_true, h22] at hp
    exact List.contains_iff_mem.mp hp.2
  have hA : ∀ r : Ref sig .tc, r.space = .hbm → a.idx.val = r.idx.val → a = r := fun r hr h => Twin.ref_ext (hab.space.trans hr.symm) h
  have hB : ∀ r : Ref ReferenceIdeal.sig .tc, r.space = .hbm → b.idx.val = r.idx.val → b = r := fun r hr h =>
    Twin.ref_ext (hab.space'.trans hr.symm) h
  simp only [List.mem_cons, Prod.mk.injEq, List.not_mem_nil, or_false] at hm
  rcases hm with ⟨ha, hb⟩ | ⟨ha, hb⟩ | ⟨ha, hb⟩ | ⟨ha, hb⟩ | ⟨ha, hb⟩ | ⟨ha, hb⟩ | ⟨ha, hb⟩
  · rw [hA main_arg1 rfl ha, hB ReferenceIdeal.main_arg1 rfl hb, k1, r5, hs]
  · rw [hA main_c rfl ha, hB ReferenceIdeal.main_c rfl hb, k2, r1, h0]
    exact heq_of_eq consts_eq.1
  · rw [hA main_c_0 rfl ha, hB ReferenceIdeal.main_c_0 rfl hb, k3, r2, h1]
    exact heq_of_eq consts_eq.2.1
  · rw [hA main_c_1 rfl ha, hB ReferenceIdeal.main_c_1 rfl hb, k4, r3, h2]
    exact heq_of_eq consts_eq.2.2
  · rw [hA main_v4 rfl ha, hB ReferenceIdeal.main_v11 rfl hb, tail_feat V _ hv, head_feat, refFeat_eq]
  · rw [hA main_v7 rfl ha, hB ReferenceIdeal.main_v14 rfl hb, tail_rows V _ hv, head_rows, refFeat_eq]
  · rw [hA main_v15 rfl ha, hB ReferenceIdeal.main_v15 rfl hb, tail_flat V ReferenceIdeal.Gen.shapeCasts_S1x1x8x256x320_S655360, head_flat, hs]

end Cert.Proof

end
-- ==== Proof.KernelIdealTail.lean ====
/-
  The host operations after the pallas_call of the kernel at ideal arithmetic: each touches tensor values only, determines what it writes, and writes
  none of the first buffers.
-/
module

public import proofs.«01_k».proof.Proof.Plain
public import proofs.«01_k».proof.Proof.Gen.KernelIdeal.Launch

@[expose] public section

set_option maxRecDepth 20000
set_option maxHeartbeats 20000000

noncomputable section

namespace Cert.Proof.KernelIdealRun

open Idealize.ShloMosaic Idealize.SL.Sem Cert.Proof.Plain Cert.KernelIdeal Cert.KernelIdeal.Gen

variable {F : FTy → Type} [FloatOps F]

/-- The lists of operations after the pallas_call but the first. -/
def laterOps : List (List (HloOp τ sig (Elt F))) :=
  [
    hostOps1_1, hostOps1_2, hostOps1_3, hostOps1_4, hostOps1_5, hostOps1_6, hostOps1_7, hostOps1_8, hostOps1_9, hostOps1_10, hostOps1_11,
    hostOps1_12, hostOps1_13, hostOps1_14, hostOps1_15, hostOps1_16, hostOps1_17, hostOps1_18, hostOps1_19, hostOps1_20, hostOps1_21,
    hostOps1_22, hostOps1_23, hostOps1_24, hostOps1_25, hostOps1_26, hostOps1_27, hostOps1_28, hostOps1_29, hostOps1_30, hostOps1_31,
    hostOps1_32, hostOps1_33, hostOps1_34, hostOps1_35, hostOps1_36, hostOps1_37, hostOps1_38, hostOps1_39, hostOps1_40, hostOps1_41,
    hostOps1_42, hostOps1_43, hostOps1_44, hostOps1_45, hostOps1_46, hostOps1_47, hostOps1_48, hostOps1_49, hostOps1_50, hostOps1_51,
    hostOps1_52, hostOps1_53, hostOps1_54, hostOps1_55, hostOps1_56, hostOps1_57, hostOps1_58, hostOps1_59, hostOps1_60, hostOps1_61,
    hostOps1_62, hostOps1_63, hostOps1_64, hostOps1_65, hostOps1_66, hostOps1_67, hostOps1_68, hostOps1_69, hostOps1_70, hostOps1_71,
    hostOps1_72, hostOps1_73, hostOps1_74, hostOps1_75, hostOps1_76, hostOps1_77, hostOps1_78, hostOps1_79, hostOps1_80, hostOps1_81,
    hostOps1_82, hostOps1_83, hostOps1_84, hostOps1_85, hostOps1_86, hostOps1_87, hostOps1_88, hostOps1_89, hostOps1_90, hostOps1_91,
    hostOps1_92, hostOps1_93, hostOps1_94, hostOps1_95, hostOps1_96, hostOps1_97, hostOps1_98, hostOps1_99, hostOps1_100, hostOps1_101,
    hostOps1_102, hostOps1_103, hostOps1_104, hostOps1_105, hostOps1_106, hostOps1_107, hostOps1_108, hostOps1_109, hostOps1_110,
    hostOps1_111, hostOps1_112, hostOps1_113, hostOps1_114, hostOps1_115, hostOps1_116, hostOps1_117, hostOps1_118, hostOps1_119,
    hostOps1_120, hostOps1_121, hostOps1_122, hostOps1_123, hostOps1_124, hostOps1_125, hostOps1_126, hostOps1_127, hostOps1_128,
    hostOps1_129, hostOps1_130, hostOps1_131, hostOps1_132, hostOps1_133, hostOps1_134, hostOps1_135, hostOps1_136, hostOps1_137,
    hostOps1_138, hostOps1_139, hostOps1_140, hostOps1_141, hostOps1_142, hostOps1_143, hostOps1_144, hostOps1_145, hostOps1_146,
    hostOps1_147, hostOps1_148, hostOps1_149, hostOps1_150, hostOps1_151, hostOps1_152, hostOps1_153, hostOps1_154, hostOps1_155,
    hostOps1_156, hostOps1_157, hostOps1_158, hostOps1_159, hostOps1_160, hostOps1_161, hostOps1_162, hostOps1_163, hostOps1_164,
    hostOps1_165, hostOps1_166, hostOps1_167, hostOps1_168, hostOps1_169, hostOps1_170, hostOps1_171, hostOps1_172, hostOps1_173,
    hostOps1_174, hostOps1_175, hostOps1_176, hostOps1_177, hostOps1_178, hostOps1_179, hostOps1_180, hostOps1_181, hostOps1_182,
    hostOps1_183, hostOps1_184, hostOps1_185, hostOps1_186, hostOps1_187, hostOps1_188, hostOps1_189, hostOps1_190, hostOps1_191,
    hostOps1_192, hostOps1_193, hostOps1_194, hostOps1_195, hostOps1_196, hostOps1_197, hostOps1_198, hostOps1_199, hostOps1_200,
    hostOps1_201, hostOps1_202, hostOps1_203, hostOps1_204, hostOps1_205, hostOps1_206, hostOps1_207, hostOps1_208, hostOps1_209,
    hostOps1_210, hostOps1_211, hostOps1_212, hostOps1_213, hostOps1_214, hostOps1_215, hostOps1_216, hostOps1_217, hostOps1_218,
    hostOps1_219, hostOps1_220, hostOps1_221, hostOps1_222, hostOps1_223, hostOps1_224, hostOps1_225, hostOps1_226, hostOps1_227,
    hostOps1_228, hostOps1_229, hostOps1_230, hostOps1_231, hostOps1_232, hostOps1_233, hostOps1_234, hostOps1_235, hostOps1_236,
    hostOps1_237, hostOps1_238, hostOps1_239, hostOps1_240, hostOps1_241, hostOps1_242, hostOps1_243, hostOps1_244, hostOps1_245,
    hostOps1_246, hostOps1_247, hostOps1_248, hostOps1_249, hostOps1_250, hostOps1_251, hostOps1_252, hostOps1_253, hostOps1_254,
    hostOps1_255, hostOps1_256, hostOps1_257, hostOps1_258, hostOps1_259, hostOps1_260, hostOps1_261, hostOps1_262, hostOps1_263,
    hostOps1_264, hostOps1_265, hostOps1_266, hostOps1_267, hostOps1_268, hostOps1_269, hostOps1_270, hostOps1_271, hostOps1_272,
    hostOps1_273, hostOps1_274, hostOps1_275, hostOps1_276, hostOps1_277, hostOps1_278, hostOps1_279, hostOps1_280, hostOps1_281,
    hostOps1_282, hostOps1_283, hostOps1_284, hostOps1_285, hostOps1_286, hostOps1_287, hostOps1_288, hostOps1_289, hostOps1_290,
    hostOps1_291, hostOps1_292, hostOps1_293, hostOps1_294, hostOps1_295, hostOps1_296, hostOps1_297, hostOps1_298, hostOps1_299,
    hostOps1_300, hostOps1_301, hostOps1_302, hostOps1_303, hostOps1_304, hostOps1_305, hostOps1_306, hostOps1_307, hostOps1_308,
    hostOps1_309, hostOps1_310, hostOps1_311, hostOps1_312, hostOps1_313, hostOps1_314, hostOps1_315, hostOps1_316, hostOps1_317,
    hostOps1_318, hostOps1_319, hostOps1_320, hostOps1_321, hostOps1_322, hostOps1_323, hostOps1_324, hostOps1_325, hostOps1_326,
    hostOps1_327, hostOps1_328, hostOps1_329, hostOps1_330, hostOps1_331, hostOps1_332, hostOps1_333, hostOps1_334, hostOps1_335,
    hostOps1_336, hostOps1_337, hostOps1_338, hostOps1_339, hostOps1_340, hostOps1_341, hostOps1_342, hostOps1_343, hostOps1_344,
    hostOps1_345, hostOps1_346, hostOps1_347, hostOps1_348, hostOps1_349, hostOps1_350, hostOps1_351, hostOps1_352, hostOps1_353,
    hostOps1_354, hostOps1_355, hostOps1_356, hostOps1_357, hostOps1_358, hostOps1_359, hostOps1_360, hostOps1_361, hostOps1_362,
    hostOps1_363, hostOps1_364, hostOps1_365, hostOps1_366, hostOps1_367, hostOps1_368, hostOps1_369, hostOps1_370, hostOps1_371,
    hostOps1_372, hostOps1_373, hostOps1_374, hostOps1_375, hostOps1_376, hostOps1_377, hostOps1_378, hostOps1_379, hostOps1_380,
    hostOps1_381, hostOps1_382, hostOps1_383, hostOps1_384, hostOps1_385, hostOps1_386, hostOps1_387, hostOps1_388, hostOps1_389,
    hostOps1_390, hostOps1_391, hostOps1_392, hostOps1_393, hostOps1_394, hostOps1_395, hostOps1_396, hostOps1_397, hostOps1_398,
    hostOps1_399, hostOps1_400, hostOps1_401, hostOps1_402, hostOps1_403, hostOps1_404, hostOps1_405, hostOps1_406, hostOps1_407,
    hostOps1_408, hostOps1_409, hostOps1_410, hostOps1_411, hostOps1_412, hostOps1_413, hostOps1_414, hostOps1_415, hostOps1_416,
    hostOps1_417, hostOps1_418, hostOps1_419, hostOps1_420, hostOps1_421, hostOps1_422, hostOps1_423, hostOps1_424, hostOps1_425,
    hostOps1_426, hostOps1_427, hostOps1_428, hostOps1_429, hostOps1_430, hostOps1_431, hostOps1_432, hostOps1_433, hostOps1_434,
    hostOps1_435, hostOps1_436, hostOps1_437, hostOps1_438, hostOps1_439, hostOps1_440, hostOps1_441, hostOps1_442, hostOps1_443,
    hostOps1_444, hostOps1_445, hostOps1_446, hostOps1_447, hostOps1_448, hostOps1_449, hostOps1_450, hostOps1_451, hostOps1_452,
    hostOps1_453, hostOps1_454, hostOps1_455, hostOps1_456, hostOps1_457, hostOps1_458, hostOps1_459, hostOps1_460, hostOps1_461,
    hostOps1_462, hostOps1_463, hostOps1_464, hostOps1_465, hostOps1_466, hostOps1_467, hostOps1_468, hostOps1_469, hostOps1_470,
    hostOps1_471, hostOps1_472, hostOps1_473, hostOps1_474, hostOps1_475, hostOps1_476, hostOps1_477, hostOps1_478, hostOps1_479,
    hostOps1_480, hostOps1_481, hostOps1_482, hostOps1_483, hostOps1_484, hostOps1_485, hostOps1_486, hostOps1_487, hostOps1_488,
    hostOps1_489, hostOps1_490, hostOps1_491, hostOps1_492, hostOps1_493, hostOps1_494, hostOps1_495, hostOps1_496, hostOps1_497,
    hostOps1_498, hostOps1_499, hostOps1_500, hostOps1_501, hostOps1_502, hostOps1_503, hostOps1_504, hostOps1_505, hostOps1_506,
    hostOps1_507, hostOps1_508, hostOps1_509, hostOps1_510, hostOps1_511, hostOps1_512, hostOps1_513, hostOps1_514, hostOps1_515,
    hostOps1_516, hostOps1_517, hostOps1_518, hostOps1_519, hostOps1_520
  ]

attribute [local irreducible] StableHlo.nullary StableHlo.unary StableHlo.binary StableHlo.ternary StableHlo.quaternary
  StableHlo.nary StableHlo.reshape

/-- All operations after the pallas_call are plain. -/
theorem tail_plain : AllPlain (hostOps1 :: laterOps : List (List (HloOp τ sig (Elt F)))) := by
  unfold laterOps
  repeat' first
    | with_reducible refine AllPlain.cons ?_ ?_
    | exact Plain.unary rfl
    | exact Plain.binary rfl
    | exact Plain.nullary rfl
    | exact Plain.reshape rfl
    | exact Plain.ternary rfl
    | exact Plain.nary rfl
    | exact Plain.quaternary rfl
    | with_reducible apply AllPlain.nil
    | exact AllPlain.done

end Cert.Proof.KernelIdealRun

end
-- ==== Proof.Whole.lean ====
/-
  The whole of the reference's program as operations, beside the kernel's operations after its pallas_call; the reference's run.
-/
module

public import proofs.«01_k».proof.Proof.Parts00
public import proofs.«01_k».proof.Proof.Parts04
public import proofs.«01_k».proof.Proof.Parts07
public import proofs.«01_k».proof.Proof.Parts14
public import proofs.«01_k».proof.Proof.Parts22
public import proofs.«01_k».proof.Proof.Parts25
public import proofs.«01_k».proof.Proof.Parts28
public import proofs.«01_k».proof.Proof.Parts35
public import proofs.«01_k».proof.Proof.Parts42
public import proofs.«01_k».proof.Proof.Parts45
public import proofs.«01_k».proof.Proof.Parts48
public import proofs.«01_k».proof.Proof.Tail
public import proofs.«01_k».proof.Proof.KernelIdealTail
public import Idealize.ShloMosaic.Lib.Claim

@[expose] public section

set_option maxRecDepth 20000

noncomputable section

namespace Cert.Proof

open Idealize.ShloMosaic Idealize.ShloMosaic.StableHlo Idealize.SL.Sem Cert.Proof.Twin Cert.KernelIdeal.Gen Cert.Proof.KernelIdealRun

/-- The parts of the reference's program, in order. -/
abbrev refParts (d : Dev ReferenceIdeal.nD) : List RProg :=
  [
    ReferenceIdeal.main_part0 d, ReferenceIdeal.main_part1 d, ReferenceIdeal.main_part2 d, ReferenceIdeal.main_part3 d,
    ReferenceIdeal.main_part4 d, ReferenceIdeal.main_part5 d, ReferenceIdeal.main_part6 d, ReferenceIdeal.main_part7 d,
    ReferenceIdeal.main_part8 d, ReferenceIdeal.main_part9 d, ReferenceIdeal.main_part10 d, ReferenceIdeal.main_part11 d,
    ReferenceIdeal.main_part12 d, ReferenceIdeal.main_part13 d, ReferenceIdeal.main_part14 d, ReferenceIdeal.main_part15 d,
    ReferenceIdeal.main_part16 d, ReferenceIdeal.main_part17 d, ReferenceIdeal.main_part18 d, ReferenceIdeal.main_part19 d,
    ReferenceIdeal.main_part20 d, ReferenceIdeal.main_part21 d, ReferenceIdeal.main_part22 d, ReferenceIdeal.main_part23 d,
    ReferenceIdeal.main_part24 d, ReferenceIdeal.main_part25 d, ReferenceIdeal.main_part26 d, ReferenceIdeal.main_part27 d,
    ReferenceIdeal.main_part28 d, ReferenceIdeal.main_part29 d, ReferenceIdeal.main_part30 d, ReferenceIdeal.main_part31 d,
    ReferenceIdeal.main_part32 d, ReferenceIdeal.main_part33 d, ReferenceIdeal.main_part34 d, ReferenceIdeal.main_part35 d,
    ReferenceIdeal.main_part36 d, ReferenceIdeal.main_part37 d, ReferenceIdeal.main_part38 d, ReferenceIdeal.main_part39 d,
    ReferenceIdeal.main_part40 d, ReferenceIdeal.main_part41 d, ReferenceIdeal.main_part42 d, ReferenceIdeal.main_part43 d,
    ReferenceIdeal.main_part44 d, ReferenceIdeal.main_part45 d, ReferenceIdeal.main_part46 d, ReferenceIdeal.main_part47 d,
    ReferenceIdeal.main_part48 d, ReferenceIdeal.main_part49 d, ReferenceIdeal.main_part50 d
  ]

/-- The reference's parts are its first operations and then operations which, beside the kernel's from the fifteenth after the
    pallas_call on, carry contents that agree on the values of those to contents that agree on all values. -/
theorem parts_all (d : Dev ReferenceIdeal.nD) : Lead headOps 22 5602 (hostOps1.drop 14 :: laterOps) (refParts d) :=
  parts0 d (parts4 d (parts7 d (parts14 d (parts22 d (parts25 d (parts28 d (parts35 d (parts42 d (parts45 d (parts48 d Sim.done))))))))))

/-- The reference's program is its parts, run one after another. -/
theorem main_parts (d : Dev ReferenceIdeal.nD) : ReferenceIdeal.main (F := Ideal) d = run (refParts d) := by
  unfold ReferenceIdeal.main refParts
  simp only [run, bind_pure_unit]

/-- The reference's program is its first operations and then operations that touch tensor values only, determine what they write and
    write none of the arguments, and that carry agreement on the values of its first operations to agreement on all values. -/
theorem ref_ops (d : Dev ReferenceIdeal.nD) : ∃ ops : List ROp, ReferenceIdeal.main (F := Ideal) d = seq (headOps ++ ops)
    ∧ (∀ op ∈ ops, op.bufs ⊆ tcRefs ReferenceIdeal.τ ReferenceIdeal.sig ∧ op.fresh = ∅
        ∧ ∀ r : Ref ReferenceIdeal.sig .tc, r.idx.val < 22 → Proc.devRef .tc r ∉ op.writes)
    ∧ ∀ (V : Valuation KernelIdeal.τ KernelIdeal.sig (Elt Ideal)) (V' : Valuation ReferenceIdeal.τ ReferenceIdeal.sig (Elt Ideal)),
      Agree 22 V V' → Agree 5602 (after (hostOps1.drop 14 :: laterOps).flatten V) (after ops V') := by
  obtain ⟨ops, hs, h⟩ := parts_all d
  exact ⟨ops, (main_parts d).trans hs, h⟩

/-- The reference's first operations touch tensor values only. -/
theorem headOps_bufs : (headOps (F := Ideal)).Forall fun op => op.bufs ⊆ tcRefs ReferenceIdeal.τ ReferenceIdeal.sig := by
  unfold headOps
  exact ⟨nullary_bufs_sub .., nullary_bufs_sub .., nullary_bufs_sub .., nullary_bufs_sub .., nullary_bufs_sub .., reshape_bufs_sub ..,
    unary_bufs_sub .., nullary_bufs_sub .., reshape_bufs_sub .., unary_bufs_sub .., nullary_bufs_sub .., reshape_bufs_sub ..,
    unary_bufs_sub .., nary_bufs_sub .., unary_bufs_sub .., binary_bufs_sub .., reshape_bufs_sub .., unary_bufs_sub ..,
    reshape_bufs_sub .., reshape_bufs_sub ..⟩

/-- The reference's first operations determine what they write. -/
theorem headOps_fresh : (headOps (F := Ideal)).Forall fun op => op.fresh = ∅ := by
  unfold headOps
  exact ⟨rfl, rfl, rfl, rfl, rfl, rfl, rfl, rfl, rfl, rfl, rfl, rfl, rfl, rfl, rfl, rfl, rfl, rfl, rfl, rfl⟩

/-- The reference runs to contents that agree with what the kernel's operations after the pallas_call leave, wherever the first of
    those leave contents that agree with what the reference's first operations leave; its arguments end as they were, and every
    semaphore counter at zero. -/
theorem ref_run (m' : (ℓ : Loc ReferenceIdeal.nD ReferenceIdeal.τ ReferenceIdeal.sig) → Buf (Elt Ideal) ℓ)
    (g' : Dev ReferenceIdeal.nD → PrngReg) :
    θ_run (ReferenceIdeal.defs (F := Ideal)) (onTc (τ := ReferenceIdeal.τ) (ReferenceIdeal.main (F := Ideal))) ⟨m', fun _ => 0, g'⟩ fun r =>
      (∀ d : Dev ReferenceIdeal.nD,
        (∀ V : Valuation KernelIdeal.τ KernelIdeal.sig (Elt Ideal), Agree 22 V (after (headOps (F := Ideal)) (launchContents m' d)) →
          Agree 5602 (after (hostOps1.drop 14 :: laterOps).flatten V) fun b => r.2.mem (d, b))
        ∧ r.2.mem ((d.tc : Thread ReferenceIdeal.nD ReferenceIdeal.τ).loc ReferenceIdeal.main_arg0)
            = m' ((d.tc : Thread ReferenceIdeal.nD ReferenceIdeal.τ).loc ReferenceIdeal.main_arg0)
        ∧ r.2.mem ((d.tc : Thread ReferenceIdeal.nD ReferenceIdeal.τ).loc ReferenceIdeal.main_arg1)
            = m' ((d.tc : Thread ReferenceIdeal.nD ReferenceIdeal.τ).loc ReferenceIdeal.main_arg1))
      ∧ r.2.sem = fun _ => 0 := by
  choose ops hmain hops hagree using ref_ops
  refine (θ_run _ _ _).mono (fun r hr => ⟨fun d => ?_, sem_eq_zero_of_no_sems (by decide) r.2⟩)
    (run_seq (by decide) (by decide) _ _ (fun d => headOps ++ ops d) hmain
      (fun d => List.forall_iff_forall_mem.mpr fun op hop => ?_) m' g' fun d op hop => ?_)
  · have hk : ∀ r : Ref ReferenceIdeal.sig .tc, r.idx.val < 22 → ∀ V : Valuation ReferenceIdeal.τ ReferenceIdeal.sig (Elt Ideal),
        after (ops d) V (Proc.devRef .tc r) = V (Proc.devRef .tc r) :=
      fun r h V => after_of_forall_not_mem _ _ fun op hop => (hops d op hop).2.2 r h
    refine ⟨fun V hV a b S e hab => ?_, ?_, ?_⟩
    · refine (hagree d V _ hV a b S e hab).trans (heq_of_eq ?_)
      exact (hr d b).trans (congrFun (after_append _ _ _) _) |>.symm
    · rw [hr d, after_append, hk _ (by decide)]
      exact (head_consts _).2.2.2.1
    · rw [hr d, after_append, hk _ (by decide)]
      exact (head_consts _).2.2.2.2
  · rcases List.mem_append.mp hop with h | h
    · exact List.forall_iff_forall_mem.mp headOps_bufs op h
    · exact (hops d op h).1
  · rcases List.mem_append.mp hop with h | h
    · exact List.forall_iff_forall_mem.mp headOps_fresh op h
    · exact (hops d op h).2.1

end Cert.Proof

end
-- ==== Proof.KernelIdealRun.lean ====
/-
  The run of the kernel at ideal arithmetic: its pallas_call's body on every block, the pallas_call between the host operations, and
  what the run leaves.
-/
module

public import proofs.«01_k».proof.Proof.KernelIdealTail
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.WordCmp

@[expose] public section

set_option maxRecDepth 20000

noncomputable section

namespace Cert.Proof.KernelIdealRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Plain Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the pallas_call finds -/

/-- The contents of a core's buffers where the pallas_call begins. -/
abbrev V0 (c : Dev nD) : Valuation τ sig (Elt F) := StableHlo.after (List.flatten [hostOps0]) (fun b => m (c, b))

/-- The same, at a named buffer. -/
abbrev V (c : Dev nD) (b : Ref sig .tc) : Buf (Elt F) ((c : Thread nD τ).loc b) := V0 m c (Proc.devRef .tc b)

/-- The block of the window `w` at the grid point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The operations before the pallas_call write neither argument. -/
theorem args_before (c : Dev nD) :
    V m c main_arg0 = m ((c : Thread nD τ).loc main_arg0) ∧ V m c main_arg1 = m ((c : Thread nD τ).loc main_arg1) := by
  unfold V V0
  simp only [List.flatten_cons, List.flatten_nil, List.append_nil]
  refine ⟨?_, ?_⟩ <;> (after_results_simp; try rfl)

/-! ## The body -/

/-- The plane of channel 0 in an output block. -/
abbrev plane0 : Rect S1x6x256x320 := Rect.unit (s := S1x6x256x320) ![0, 0, 0, 0] S1x1x256x320.size inb_S1x6x256x320_S1x1x256x320_0_0_0_0
/-- The plane of channel 1 in an output block. -/
abbrev plane1 : Rect S1x6x256x320 := Rect.unit (s := S1x6x256x320) ![0, 1, 0, 0] S1x1x256x320.size inb_S1x6x256x320_S1x1x256x320_0_1_0_0
/-- The plane of channel 2 in an output block. -/
abbrev plane2 : Rect S1x6x256x320 := Rect.unit (s := S1x6x256x320) ![0, 2, 0, 0] S1x1x256x320.size inb_S1x6x256x320_S1x1x256x320_0_2_0_0
/-- The plane of channel 3 in an output block. -/
abbrev plane3 : Rect S1x6x256x320 := Rect.unit (s := S1x6x256x320) ![0, 3, 0, 0] S1x1x256x320.size inb_S1x6x256x320_S1x1x256x320_0_3_0_0
/-- The plane of channel 4 in an output block. -/
abbrev plane4 : Rect S1x6x256x320 := Rect.unit (s := S1x6x256x320) ![0, 4, 0, 0] S1x1x256x320.size inb_S1x6x256x320_S1x1x256x320_0_4_0_0
/-- The plane of channel 5 in an output block. -/
abbrev plane5 : Rect S1x6x256x320 := Rect.unit (s := S1x6x256x320) ![0, 5, 0, 0] S1x1x256x320.size inb_S1x6x256x320_S1x1x256x320_0_5_0_0

/-- The plane of channel 0 in an input block. -/
abbrev lab0 : Rect S1x3x256x320 := Rect.unit (s := S1x3x256x320) ![0, 0, 0, 0] S1x1x256x320.size inb_S1x3x256x320_S1x1x256x320_0_0_0_0
/-- The plane of channel 1 in an input block. -/
abbrev lab1 : Rect S1x3x256x320 := Rect.unit (s := S1x3x256x320) ![0, 1, 0, 0] S1x1x256x320.size inb_S1x3x256x320_S1x1x256x320_0_1_0_0
/-- The plane of channel 2 in an input block. -/
abbrev lab2 : Rect S1x3x256x320 := Rect.unit (s := S1x3x256x320) ![0, 2, 0, 0] S1x1x256x320.size inb_S1x3x256x320_S1x1x256x320_0_2_0_0

/-- The output block that the body writes at the grid point `i` from the input block `x`: one plane a store, the last first. -/
def outBlock (i : grid0.Coords) (x : Vec F S1x3x256x320 .f32) : Vec F S1x6x256x320 .f32 :=
  View.canon [⟨plane5, k0_pay2 (View.ld x lab2)⟩, ⟨plane4, k0_pay1 (View.ld x lab1)⟩, ⟨plane3, k0_pay6 (View.ld x lab0)⟩,
    ⟨plane2, k0_pay5 (F := F)⟩, ⟨plane1, k0_pay4 (F := F)⟩, ⟨plane0, k0_pay3 (F := F) i⟩]

/-- The six planes cover an output block. -/
theorem planes_cover (p0 p1 p2 p3 p4 p5 : Vec F S1x1x256x320 .f32) (y : S1x6x256x320.Idx) :
    ∃ pc ∈ ([⟨plane5, p0⟩, ⟨plane4, p1⟩, ⟨plane3, p2⟩, ⟨plane2, p3⟩, ⟨plane1, p4⟩, ⟨plane0, p5⟩] :
      List (View.Piece (Elt F) S1x6x256x320 .f32)), y ∈ pc.1.set :=
  View.cover_of_tiled [⟨plane5, p0⟩, ⟨plane4, p1⟩, ⟨plane3, p2⟩, ⟨plane2, p3⟩, ⟨plane1, p4⟩, ⟨plane0, p5⟩] S1x1x256x320.size (by rfl) y

set_option maxHeartbeats 1000000 in
/-- The body leaves the input block as it was and writes the output block. -/
theorem body_run (c : Dev nD) (E : Set ℕ) (i : grid0.Coords) (a : Memref sig .tc .vmem S1x3x256x320 .f32) (ha : a.IsWhole)
    (o : Memref sig .tc .vmem S1x6x256x320 .f32) (ho : o.IsWhole) (x : Vec F S1x3x256x320 .f32) (K : PUnit → sProp 𝕄) :
    iprop(owns (c : Thread nD τ) a fullShare x ∗ (∃ d, owns (c : Thread nD τ) o fullShare d)
        ∗ (iprop(owns (c : Thread nD τ) a fullShare x ∗ owns (c : Thread nD τ) o fullShare (outBlock i x)) -∗ K ⟨⟩))
      ⊢ wp frame (wpE (defs₀ (F := F)) Variants.none c none) E (cc0__pfeat_body i a ha o ho) K := by
  simp only [cc0__pfeat_body_eq_skeleton]
  unfold cc0__pfeat_body_skel
  simp only [k0_part1_eq_skeleton]
  unfold owns
  iintro ⟨⟨%u, %hu, HI⟩, ⟨%d, %v, -, HO⟩, Hk⟩
  subst hu
  sl_exec
  sl_step
  iapply Hk
  isplitl [HI]
  · iexists u
    isplitr
    · ipureintro; rfl
    iexact HI
  iexists _
  isplitr
  swap
  · iexact HO
  ipureintro
  exact View.read_writes_eq_canon _ _ _ (planes_cover _ _ _ _ _ _)

/-- What the run of the pallas_call goes through on a core: the arrays as it finds them, and after each grid point the input's block
    in place and the output's block written. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outBlock (grid0.coords t) (iblk m c 0 t)
  Φ _ := Pipeline.ΦA spec0 c
  q _ := fullShare
  owed _ := 0

/-- The arrays are what the pallas_call finds. -/
theorem dats_array (c : Dev nD) (w : Fin cfg0.W) : (dats m 0 c).A w = V m c (Pipeline.arrRef spec0 w) := by
  dsimp only [dats]

/-- After a grid point the input's buffer holds its block. -/
theorem after_in (c : Dev nD) (t : Fin cfg0.N) : (dats m 0 c).after 0 t = iblk m c 0 t := by
  dsimp only [dats]

/-- After a grid point the output's buffer holds the block written. -/
theorem after_out (c : Dev nD) (t : Fin cfg0.N) : (dats m 0 c).after 1 t = outBlock (grid0.coords t) (iblk m c 0 t) := by
  dsimp only [dats]

/-- Before a grid point the input's buffer holds its block. -/
theorem before_in (c : Dev nD) (t : Fin cfg0.N) (d) : (dats m 0 c).before 0 t d = iblk m c 0 t :=
  ((dats m 0 c).before_in_eq_fetched 0 rfl (fun _ => rfl) (fun _ _ _ => rfl)
    (fun t => by rw [after_in]; unfold Dat.blockOf iblk; rw [dats_array]; try rfl) t d).trans
    (by unfold Dat.fetched Dat.blockOf iblk; rw [dats_array]; try rfl)

/-- What the body is called with at a grid point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- What the body returns there. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any grid point. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).Φ t.succ = (dats m 0 c).Φ t.castSucc from rfl,
    show (dats m 0 c).owesAt () t.succ = (dats m 0 c).owesAt () t.castSucc from rfl, after_in, after_out]
  iintro ⟨HΦ, Hw, ⟨%d0, HI⟩, ⟨%d1, HO⟩⟩
  iapply (body_run c Set.univ (grid0.coords t) _ _ _ _ (iblk m c 0 t) _)
  isplitl [HI]
  · iexact HI
  isplitl [HO]
  · iexists _; iexact HO
  iintro ⟨HI, HO⟩
  isplitl [HΦ]
  · iexact HΦ
  isplitl [Hw]
  · iexact Hw
  isplitl [HI]
  · iexact HI
  iexact HO

/-- The body that the pallas_call calls at a grid point is the kernel's. -/
theorem body_row (t : Fin cfg0.N) : defs₀ (F := F) .tc cfg0.body (cfg0.bodyArgs t (cfg0.slots t)) = bodyAt0 t := by
  unfold defs₀
  rw [Defs.onTc_tc]

/-- The body does what the run of the pallas_call asks of it. -/
theorem body_obligation (c : Dev nD) : BodyObligation (dats (F := F) m 0 c) (defs₀ (F := F)) Variants.none () Set.univ := fun t => by
  rw [bigSep_W0, bigSep_W0, body_row]
  exact triple_restated (body_at m c t) rfl .rfl fun _ => .rfl

/-! ## The run -/

/-- The operations before the pallas_call determine what they write. -/
theorem first_fresh : (hostOps0 : List (HloOp τ sig (Elt F))).Forall fun op => op.fresh = ∅ :=
  ⟨rfl, rfl, rfl, rfl, rfl⟩

/-- The program is the operations before the pallas_call, the pallas_call, and the operations after it. -/
theorem main_chain_lists (c : Dev nD) : main (F := F) c = Pipeline.chain ([hostOps0].map StableHlo.seq
    ++ [Prog.lift (.customCall (Pipeline.entry 0) ())] ++ (hostOps1 :: laterOps).map StableHlo.seq) := by
  unfold laterOps
  exact main_chain c

/-- The program reaches the pallas_call and goes on with the operations after it. -/
theorem main_around (𝒱₀ : Variants) : Pipeline.HMainK (Ix := Unit) (Name := ℕ) (U := UR sig nD τ) (Lvl := ℕ) cfgs 0 defs₀ 𝒱₀ m
    (main (F := F)) (V m) (fun _ => Pipeline.chain ((hostOps1 :: laterOps).map StableHlo.seq)) :=
  Pipeline.hmain_around cfgs 0 defs₀ 𝒱₀ m main [hostOps0] (hostOps1 :: laterOps) (by simp only [List.Forall]; exact hostOps0_sub)
    (by simp only [List.Forall]; exact first_fresh) main_chain_lists

/-- The arrays of the pallas_call are among the first eight buffers. -/
theorem arrays_low : ∀ w, (Pipeline.arrRef spec0 w).idx.val < 8 := by decide

set_option backward.isDefEq.respectTransparency.types false in
set_option maxHeartbeats 800000 in
/-- Every run ends: with each array of the pallas_call at what its blocks make of it, each other array at what the operations after
    the pallas_call leave, and every semaphore counter at zero. -/
theorem run_all : θ_run defs (onTc (τ := τ) (main (F := F))) (s₀ m ρ) (fun r =>
    (Pipeline.FramePost cfgs (dats m) 0 (Pipeline.afterTail₀ cfgs (dats m) 0 (V0 m) (hostOps1 :: laterOps))) r
      ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := hostOps1 :: laterOps)
    (hsub := by
      rw [Pipeline.tailRefs_none spec0 launch0.win.arr_unscoped]
      exact fun l hl op hop => Pipeline.sub_ucRefs op (tail_plain.mem l hl op hop).bufs)
    (hfresh := fun l hl op hop => (tail_plain.mem l hl op hop).fresh)
    (hkeep := fun l hl op hop w => (tail_plain.mem l hl op hop).keeps _ (arrays_low w))
    (hmain := main_around m Variants.none) (hA := dats_array m) (hΦ := fun _ _ => rfl)

/-- An argument that the pallas_call and the operations before it leave alone ends as launched. -/
theorem arg_after (c : Dev nD) (b : Ref sig .tc) (hb : b.idx.val < 8) (hw : ∀ w, Pipeline.arrRef spec0 w ≠ b) :
    Pipeline.afterTail₀ cfgs (dats m) 0 (V0 m) (hostOps1 :: laterOps) c b = V m c b := by
  unfold Pipeline.afterTail₀
  rw [StableHlo.after_of_forall_not_mem (b := Proc.devRef .tc b) _ _ fun op hop => by
    obtain ⟨l, hl, hop⟩ := List.mem_flatten.mp hop
    exact (tail_plain.mem l hl op hop).keeps b hb]
  exact Pipeline.withArrays_of_ne _ c (V0 m c) _ b hw

/-- Every run ends with the arguments as launched and every semaphore counter at zero. -/
theorem args_kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨((h.1 c).2 main_arg0 (Pipeline.mem_restRefs_of main_arg0 (by decide) (by decide))).trans
        ((arg_after m c main_arg0 (by decide) (by decide)).trans (args_before m c).1),
      ((h.1 c).2 main_arg1 (Pipeline.mem_restRefs_of main_arg1 (by decide) (by decide))).trans
        ((arg_after m c main_arg1 (by decide) (by decide)).trans (args_before m c).2)⟩, h.2⟩) (run_all m ρ)

end Cert.Proof.KernelIdealRun

end
-- ==== Proof.Region.lean ====
/-
  What the kernel's run leaves: its pallas_call's output array, and the run's result arrays against the reference's.
-/
module

public import proofs.«01_k».proof.Proof.Payload
public import proofs.«01_k».proof.Proof.Whole
public import proofs.«01_k».proof.Proof.KernelIdealRun

@[expose] public section

set_option maxRecDepth 16384

noncomputable section

namespace Cert.Proof

open Idealize.ShloMosaic Idealize.ShloMosaic.StableHlo Idealize.SL.Sem Cert.KernelIdeal Cert.KernelIdeal.Gen KernelIdealRun

variable (m : (ℓ : Loc nD τ sig) → Buf (Elt Ideal) ℓ)

/-- The Lab video as the run finds it. -/
abbrev lab (c : Dev nD) : FVec Ideal ReferenceIdeal.S1x3x8x256x320 .f32 := m ((c.tc : Thread nD τ).loc main_arg0)

/-- Each window's block at the grid point `t` is the one numbered by `t`'s coordinate. -/
theorem window_index : ∀ t, win0_0.index t = ![(grid0.coords t 0).val, 0, 0, 0] ∧ win0_1.index t = ![(grid0.coords t 0).val, 0, 0, 0] := by
  decide +kernel

/-- A video with its batch axis dropped and the frames first, at an index. -/
theorem frames_first_at (v : FVec Ideal S1x3x8x256x320 .f32) (h h') (j : S8x3x256x320.Idx) :
    transpose S8x3x256x320 [1, 0, 2, 3] (shapeCast S3x8x256x320 v h) h' j = v (ix5 0 (j 1) (j 0) (j 2) (j 3)) := by
  pointwise

/-- The pallas_call's input array is the Lab video with the frames first. -/
theorem input_at (c : Dev nD) (j : S8x3x256x320.Idx) :
    V m c main_v1 j = lab m c (ix5 0 (j 1) (j 0) (j 2) (j 3)) := by
  have e : V m c main_v1 = transpose S8x3x256x320 [1, 0, 2, 3]
      (shapeCast S3x8x256x320 (m ((c.tc : Thread nD τ).loc main_arg0)) Facts₀.shapeCasts_S1x3x8x256x320_S3x8x256x320)
        Facts₀.transposes_S3x8x256x320_S8x3x256x320_1_0_2_3 := by
    unfold V V0
    simp only [List.flatten_cons, List.flatten_nil, List.append_nil]
    after_results_simp
    rfl
  rw [e]
  exact frames_first_at _ _ _ j

/-- The block that the grid point `t` reads is its frame of the Lab video. -/
theorem input_block (c : Dev nD) (t : Fin cfg0.N) (z : S1x3x256x320.Idx) :
    iblk m c 0 t z = lab m c (ix5 0 (z 1) (grid0.coords t 0) (z 2) (z 3)) := by
  have e := (window_index t).1
  unfold iblk
  blk_simp [e]
  rw [input_at]
  refine congrArg (lab m c) ?_
  blk_ext [e]

/-- The pallas_call leaves the features of every frame. -/
theorem region_value (c : Dev nD) : (dats m 0 c).arrAt 1 cfg0.N = framesFirst (lab m c) := by
  refine (dats m 0 c).arrAt_eq_of_covers 1 _ (by decide +kernel) fun t hf y => ?_
  blk_simp
  rw [after_out]
  have e := (window_index t).2
  refine (View.canon_apply_of_pieces (frameFeat (lab m c) (grid0.coords t 0)) _
    (block_pieces (grid0.coords t) (lab m c) (iblk m c 0 t) (grid0.coords t 0) rfl (input_block m c t) _ _ _ _ _ _ _ _ _) y
    (planes_cover _ _ _ _ _ _ y)).trans ?_
  unfold framesFirst frameFeat
  refine congrArg (feat (lab m c)) ?_
  blk_ext [e]

/-- The contents of the arrays after the region, with everything else as the region found it. -/
abbrev afterRegion (c : Dev nD) : Valuation τ sig (Elt Ideal) :=
  Pipeline.withArrays spec0 c (V0 m c) fun w => (dats m 0 c).arrAt w cfg0.N

/-- After the region its output array holds the features of every frame. -/
theorem afterRegion_out (c : Dev nD) : afterRegion m c (Proc.devRef .tc main_v2) = framesFirst (lab m c) :=
  (Pipeline.withArrays_arr spec0 (by decide) c (V0 m c) (fun w => (dats m 0 c).arrAt w cfg0.N) 1).trans (region_value m c)

/-- After the region the superpixels are as launched and the three constants are in place. -/
theorem afterRegion_kept (c : Dev nD) :
    afterRegion m c (Proc.devRef .tc main_arg1) = m ((c.tc : Thread nD τ).loc main_arg1)
      ∧ afterRegion m c (Proc.devRef .tc main_c) = (fun i : S27.Idx => lit0 (S27.rowMajor i))
      ∧ afterRegion m c (Proc.devRef .tc main_c_0) = (fun i : S27.Idx => lit1 (S27.rowMajor i))
      ∧ afterRegion m c (Proc.devRef .tc main_c_1) = (fun i : S27.Idx => lit2 (S27.rowMajor i)) := by
  unfold afterRegion
  rw [Pipeline.withArrays_of_ne _ c (V0 m c) _ main_arg1 (by exact (by decide : ∀ w, Pipeline.arrRef spec0 w ≠ main_arg1)),
    Pipeline.withArrays_of_ne _ c (V0 m c) _ main_c (by exact (by decide : ∀ w, Pipeline.arrRef spec0 w ≠ main_c)),
    Pipeline.withArrays_of_ne _ c (V0 m c) _ main_c_0 (by exact (by decide : ∀ w, Pipeline.arrRef spec0 w ≠ main_c_0)),
    Pipeline.withArrays_of_ne _ c (V0 m c) _ main_c_1 (by exact (by decide : ∀ w, Pipeline.arrRef spec0 w ≠ main_c_1))]
  simp only [V0, List.flatten_cons, List.flatten_nil, List.append_nil]
  refine ⟨?_, ?_, ?_, ?_⟩ <;> (after_results_simp; try rfl)

/-- What the kernel's operations after its pallas_call leave. -/
abbrev final (c : Dev nD) : Valuation τ sig (Elt Ideal) := after (hostOps1 :: laterOps).flatten (afterRegion m c)

/-- A list of operations and further lists are the list's first operations, then its others and the further lists. -/
theorem after_split (k : Nat) (l : List KOp) (ls : List (List KOp)) (V : Valuation τ sig (Elt Ideal)) :
    after (l :: ls).flatten V = after (l.drop k :: ls).flatten (after (l.take k) V) := by
  rw [← after_append, List.flatten_cons, List.flatten_cons, ← List.append_assoc, List.take_append_drop]

/-- The kernel's operations after its pallas_call are its first fourteen and the others. -/
theorem final_eq (c : Dev nD) : final m c = after (hostOps1.drop 14 :: laterOps).flatten (after tailOps (afterRegion m c)) :=
  after_split 14 hostOps1 laterOps (afterRegion m c)

end Cert.Proof

end
-- ==== Proof.Results.lean ====
/-
  The claims about the kernel's and the reference's runs at ideal arithmetic.
-/
module

public import proofs.«01_k».proof.Defs
public import proofs.«01_k».proof.Proof.Region

@[expose] public section

set_option maxRecDepth 16384

noncomputable section

namespace Cert.Proof

open Idealize.ShloMosaic Idealize.ShloMosaic.StableHlo Idealize.SL.Sem KernelIdealRun

/-- The reference runs, its arguments end unchanged, and every semaphore counter ends at zero. -/
theorem quiescent_reference : Cert.quiescent_ReferenceIdeal (hReferenceIdeal := Cert.ReferenceIdeal.Gen.facts) := fun m g _ =>
  (θ_run _ _ _).mono (fun _ h => ⟨fun c => (h.1 c).2, h.2⟩) (ref_run m g)

/-- An array that no window of the pallas_call stages ends at what the kernel's operations after the pallas_call leave. -/
theorem kernel_run (m : (ℓ : Loc KernelIdeal.nD KernelIdeal.τ KernelIdeal.sig) → Buf (Elt Ideal) ℓ) (g : Dev KernelIdeal.nD → PrngReg) :
    θ_run (KernelIdeal.defs (F := Ideal)) (onTc (τ := KernelIdeal.τ) (KernelIdeal.main (F := Ideal))) ⟨m, fun _ => 0, g⟩ fun r =>
      ∀ c : Dev KernelIdeal.nD, ∀ b ∈ Pipeline.restRefs KernelIdeal.sig (KernelIdeal.cfgs 0).spec,
        r.2.mem ((c.tc : Thread KernelIdeal.nD KernelIdeal.τ).loc b) = final m c (Proc.devRef .tc b) :=
  (θ_run _ _ _).mono (fun _ h c => (h.1 c).2) (KernelIdealRun.run_all m g)

/-- From memories that agree on the arguments, what the kernel's operations after its pallas_call leave agrees with what the reference's
    run leaves, on all four results. -/
theorem results_agree (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h0 : m' ((c.tc : Thread ReferenceIdeal.nD ReferenceIdeal.τ).loc ReferenceIdeal.main_arg0)
      = m ((c.tc : Thread KernelIdeal.nD KernelIdeal.τ).loc KernelIdeal.main_arg0))
    (h1 : m' ((c.tc : Thread ReferenceIdeal.nD ReferenceIdeal.τ).loc ReferenceIdeal.main_arg1)
      = m ((c.tc : Thread KernelIdeal.nD KernelIdeal.τ).loc KernelIdeal.main_arg1)) :
    Twin.Agree 22 (after tailOps (afterRegion m c)) (after (headOps (F := Ideal)) (launchContents m' c)) := by
  obtain ⟨k0, k1, k2, k3⟩ := afterRegion_kept m c
  refine agree_start (afterRegion m c) (launchContents m' c) ?_ (k0.trans h1.symm) k1 k2 k3
  rw [afterRegion_out]
  exact congrArg framesFirst h0.symm

/-- From memories that agree on the arguments the kernel and the reference run, end with equal results and leave their arguments. -/
theorem algebraic : Cert.algebraic_KernelIdeal_ReferenceIdeal (hKernelIdeal := Cert.KernelIdeal.Gen.facts)
    (hReferenceIdeal := Cert.ReferenceIdeal.Gen.facts) := fun m g m' g' _ hm =>
  ⟨fun c => final m c (Proc.devRef .tc KernelIdeal.main_v4), fun c => final m c (Proc.devRef .tc KernelIdeal.main_v2123),
    fun c => final m c (Proc.devRef .tc KernelIdeal.main_v2487), fun c => final m c (Proc.devRef .tc KernelIdeal.main_v2539),
    (θ_run _ _ _).mono (fun _ h c =>
      ⟨h.1 c _ (Pipeline.mem_restRefs_of _ (by decide) (by decide)), h.1 c _ (Pipeline.mem_restRefs_of _ (by decide) (by decide)),
        h.1 c _ (Pipeline.mem_restRefs_of _ (by decide) (by decide)), h.1 c _ (Pipeline.mem_restRefs_of _ (by decide) (by decide)),
        h.2.1 c⟩) (θ_run_and (kernel_run m g) (KernelIdealRun.args_kept m g)),
    (θ_run _ _ _).mono (fun r h c => by
      have hA := (h.1 c).1 _ (results_agree m m' c (hm c).1 (hm c).2)
      rw [← final_eq] at hA
      exact ⟨(eq_of_heq (hA KernelIdeal.main_v4 ReferenceIdeal.main_v11 _ _ ⟨rfl, rfl, rfl, rfl, rfl⟩)).symm,
        (eq_of_heq (hA KernelIdeal.main_v2123 ReferenceIdeal.main_v2123 _ _ ⟨rfl, rfl, rfl, rfl, rfl⟩)).symm,
        (eq_of_heq (hA KernelIdeal.main_v2487 ReferenceIdeal.main_v2487 _ _ ⟨rfl, rfl, rfl, rfl, rfl⟩)).symm,
        (eq_of_heq (hA KernelIdeal.main_v2539 ReferenceIdeal.main_v2539 _ _ ⟨rfl, rfl, rfl, rfl, rfl⟩)).symm,
        (h.1 c).2⟩) (ref_run m' g')⟩

end Cert.Proof

end
-- ==== Proof.lean ====
/-
  The five claims: the kernel as compiled, the kernel at ideal arithmetic and the reference each run, end with their arguments as
  launched and every semaphore counter at zero; the kernel at ideal arithmetic is the kernel's own program; and at ideal arithmetic the
  kernel and the reference end with equal results.
-/
module

public import proofs.«01_k».proof.Defs
public import proofs.«01_k».proof.Proof.KernelRun
public import proofs.«01_k».proof.Proof.Results

@[expose] public section

noncomputable section

namespace Cert.Proof

open Idealize.ShloMosaic Idealize.SL.Sem

/-- All the claims. -/
theorem claim : Cert.Claim :=
  ⟨Cert.Kernel.Gen.facts, Cert.KernelIdeal.Gen.facts, Cert.ReferenceIdeal.Gen.facts, fun m ρ _ => KernelRun.args_kept m ρ,
    fun m ρ _ => KernelIdealRun.args_kept m ρ, quiescent_reference, trivial, algebraic⟩

end Cert.Proof

end
